-- ==== Defs.lean ====
def Pre_KernelIdeal [hPre_lengths_in_range : Cert.Pre_lengths_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_in_range [hPre_lengths_in_range : Cert.Pre_lengths_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_KernelIdeal [hKernelIdeal : Cert.KernelIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_lengths_in_range [hReferenceIdeal : Cert.ReferenceIdeal.Facts] [hPre_lengths_in_range : Cert.Pre_lengths_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal [hKernelIdeal : Cert.KernelIdeal.Facts] [hReferenceIdeal : Cert.ReferenceIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts) (hPre_lengths_in_range : Cert.Pre_lengths_in_range.Facts),
    quiescent_KernelIdeal (hKernelIdeal := hKernelIdeal) (hPre_lengths_in_range := hPre_lengths_in_range)
    ∧ quiescent_ReferenceIdeal (hReferenceIdeal := hReferenceIdeal)
    ∧ quiescent_ReferenceIdeal_pre_lengths_in_range (hReferenceIdeal := hReferenceIdeal) (hPre_lengths_in_range := hPre_lengths_in_range)
    ∧ algebraic_KernelIdeal_ReferenceIdeal (hKernelIdeal := hKernelIdeal) (hReferenceIdeal := hReferenceIdeal) (hPre_lengths_in_range := hPre_lengths_in_range)
-- ==== Pre_lengths_in_range.lean ====
abbrev S2048x16x512 : Shape := ⟨3, ![2048, 16, 512]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S2048x16x512 .f32) (main_arg1 : FVec F S2048x16x512 .f32) (main_arg2 : IVec S16 32) : IVec S_ 1 :=
  let main_c : IVec S_ 32 := constantI S_ 32 1#32
  let main_v0 : IVec S16 32 := broadcastInDim S16 ![] bcast_S_S16 main_c
  let main_v1 : IVec S16 1 := cmpi .sge main_arg2 main_v0
  let main_c_0 : IVec S_ 32 := constantI S_ 32 2048#32
  let main_v2 : IVec S16 32 := broadcastInDim S16 ![] bcast_S_S16 main_c_0
  let main_v3 : IVec S16 1 := cmpi .sle main_arg2 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  main_v5
-- ==== KernelIdeal.lean ====
abbrev S2048x16x512 : Shape := ⟨3, ![2048, 16, 512]⟩
abbrev S16 : Shape := ⟨1, ![16]⟩
abbrev S_ : Shape := ⟨0, ![]⟩
abbrev S32x16 : Shape := ⟨2, ![32, 16]⟩
abbrev S32 : Shape := ⟨1, ![32]⟩
abbrev S96x1x512 : Shape := ⟨3, ![96, 1, 512]⟩
abbrev S3 : Shape := ⟨1, ![3]⟩
abbrev S1 : Shape := ⟨1, ![1]⟩
abbrev S32x1x512 : Shape := ⟨3, ![32, 1, 512]⟩
abbrev S1x1x16 : Shape := ⟨3, ![1, 1, 16]⟩
abbrev S1x16 : Shape := ⟨2, ![1, 16]⟩
abbrev S16x512 : Shape := ⟨2, ![16, 512]⟩
abbrev S128x16x512 : Shape := ⟨3, ![128, 16, 512]⟩
abbrev S128x16x1 : Shape := ⟨3, ![128, 16, 1]⟩
abbrev S1x16x1 : Shape := ⟨3, ![1, 16, 1]⟩

abbrev nBuf : Table → Nat
  | .hbm => 21
  | .local .tc .vmem => 6
  | .local .scVector .vmem => 5
  | _ => 0

abbrev bufTy : (tb : Table) → Fin (nBuf tb) → BufTy
  | .hbm, ⟨0, _⟩ => ⟨S2048x16x512, .f32⟩
  | .hbm, ⟨1, _⟩ => ⟨S2048x16x512, .f32⟩
  | .hbm, ⟨2, _⟩ => ⟨S16, .i32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S32x16, .f32⟩
  | .hbm, ⟨11, _⟩ => ⟨S1x16, .i32⟩
  | .hbm, ⟨12, _⟩ => ⟨S16x512, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S_, .f32⟩
  | .hbm, ⟨20, _⟩ => ⟨S_, .f32⟩
  | .local .tc .vmem, ⟨0, _⟩ => ⟨S1x16, .i32⟩
  | .local .tc .vmem, ⟨1, _⟩ => ⟨S128x16x512, .f32⟩
  | .local .tc .vmem, ⟨2, _⟩ => ⟨S128x16x512, .f32⟩
  | .local .tc .vmem, ⟨3, _⟩ => ⟨S128x16x512, .f32⟩
  | .local .tc .vmem, ⟨4, _⟩ => ⟨S128x16x512, .f32⟩
  | .local .tc .vmem, ⟨5, _⟩ => ⟨S16x512, .f32⟩
  | .local .scVector .vmem, ⟨0, _⟩ => ⟨S32, .i32⟩
  | .local .scVector .vmem, ⟨1, _⟩ => ⟨S32, .f32⟩
  | .local .scVector .vmem, ⟨2, _⟩ => ⟨S96x1x512, .f32⟩
  | .local .scVector .vmem, ⟨3, _⟩ => ⟨S96x1x512, .f32⟩
  | .local .scVector .vmem, ⟨4, _⟩ => ⟨S16, .f32⟩
  | _, _ => ⟨S2048x16x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v4_scv : Ref sig .scVector := ⟨.hbm, 9, rfl⟩
abbrev main_v5_scv : Ref sig .scVector := ⟨.hbm, 10, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_370 : BitVec 32 := 0#32
  let c32_i32_371 : BitVec 32 := 32#32
  let v910 : BitVec 32 := Scalar.muli c0_i32_370 c32_i32_371
  let c0_i32_373 : BitVec 32 := 0#32
  let c0_i32_374 : BitVec 32 := 0#32
  ![v910.toNat, 0, 0]
def k0_off2 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c0_i32_368 : BitVec 32 := 0#32
  let c32_i32_369 : BitVec 32 := 32#32
  let v907 : BitVec 32 := Scalar.muli c0_i32_368 c32_i32_369
  let v908 : BitVec 32 := Scalar.addi v156 v907
  let c2016_i32 : BitVec 32 := 2016#32
  let v909 : BitVec 32 := Scalar.minsi v908 c2016_i32
  let c0_i32_375 : BitVec 32 := 0#32
  let c0_i32_376 : BitVec 32 := 0#32
  ![v909.toNat, 0, 0]
def k0_cond1 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let c0_i32_57 : BitVec 32 := 0#32
  let v178 : BitVec 1 := Scalar.cmpi .sgt v177 c0_i32_57
  let v179 : BitVec 32 := Scalar.extui v178
  let c0_i32_58 : BitVec 32 := 0#32
  let v180 : BitVec 1 := Scalar.cmpi .ne v179 c0_i32_58
  v180

def k0_off3 : Fin 3 → Nat :=
  let c1_i32_370 : BitVec 32 := 1#32
  let c32_i32_371 : BitVec 32 := 32#32
  let v910 : BitVec 32 := Scalar.muli c1_i32_370 c32_i32_371
  let c0_i32_373 : BitVec 32 := 0#32
  let c0_i32_374 : BitVec 32 := 0#32
  ![v910.toNat, 0, 0]
def k0_off4 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c1_i32_368 : BitVec 32 := 1#32
  let c32_i32_369 : BitVec 32 := 32#32
  let v907 : BitVec 32 := Scalar.muli c1_i32_368 c32_i32_369
  let v908 : BitVec 32 := Scalar.addi v156 v907
  let c2016_i32 : BitVec 32 := 2016#32
  let v909 : BitVec 32 := Scalar.minsi v908 c2016_i32
  let c0_i32_375 : BitVec 32 := 0#32
  let c0_i32_376 : BitVec 32 := 0#32
  ![v909.toNat, 0, 0]
def k0_cond2 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let c1_i32_59 : BitVec 32 := 1#32
  let v181 : BitVec 1 := Scalar.cmpi .sgt v177 c1_i32_59
  let v182 : BitVec 32 := Scalar.extui v181
  let c0_i32_60 : BitVec 32 := 0#32
  let v183 : BitVec 1 := Scalar.cmpi .ne v182 c0_i32_60
  v183

@[reducible] def k0_t1_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_64 : BitVec 32 := 1#32
  ⟨c0_i32_62, v189, c1_i32_64⟩
def k0_off5 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) : Fin 3 → Nat :=
  let c0_i32_62 : BitVec 32 := 0#32
  let c1_i32_64 : BitVec 32 := 1#32
  let arg14 : BitVec 32 := Scf.iv c0_i32_62 c1_i32_64 k0_t1
  let c2_i32_407 : BitVec 32 := 2#32
  let v963 : BitVec 32 := Scalar.addi arg14 c2_i32_407
  let c3_i32_408 : BitVec 32 := 3#32
  let v964 : BitVec 32 := Scalar.remsi v963 c3_i32_408
  let c32_i32_411 : BitVec 32 := 32#32
  let v968 : BitVec 32 := Scalar.muli v964 c32_i32_411
  let c0_i32_412 : BitVec 32 := 0#32
  let c0_i32_413 : BitVec 32 := 0#32
  ![v968.toNat, 0, 0]
def k0_cond3 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) : BitVec 1 :=
  let c0_i32_62 : BitVec 32 := 0#32
  let c1_i32_64 : BitVec 32 := 1#32
  let arg14 : BitVec 32 := Scf.iv c0_i32_62 c1_i32_64 k0_t1
  let c2_i32_376 : BitVec 32 := 2#32
  let v927 : BitVec 32 := Scalar.addi arg14 c2_i32_376
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v908 : BitVec 32 := Scalar.subi v158 v156
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off6 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) : Fin 3 → Nat :=
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c0_i32_62 : BitVec 32 := 0#32
  let c1_i32_64 : BitVec 32 := 1#32
  let arg14 : BitVec 32 := Scf.iv c0_i32_62 c1_i32_64 k0_t1
  let c2_i32_406 : BitVec 32 := 2#32
  let v962 : BitVec 32 := Scalar.addi arg14 c2_i32_406
  let c32_i32_409 : BitVec 32 := 32#32
  let v965 : BitVec 32 := Scalar.muli v962 c32_i32_409
  let v966 : BitVec 32 := Scalar.addi v156 v965
  let c2016_i32_410 : BitVec 32 := 2016#32
  let v967 : BitVec 32 := Scalar.minsi v966 c2016_i32_410
  let c0_i32_414 : BitVec 32 := 0#32
  let c0_i32_415 : BitVec 32 := 0#32
  ![v967.toNat, 0, 0]
def k0_off7 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) : Fin 1 → Nat :=
  let c0_i32_62 : BitVec 32 := 0#32
  let c1_i32_64 : BitVec 32 := 1#32
  let arg14 : BitVec 32 := Scf.iv c0_i32_62 c1_i32_64 k0_t1
  let c2_i32_407 : BitVec 32 := 2#32
  let v963 : BitVec 32 := Scalar.addi arg14 c2_i32_407
  let c3_i32_408 : BitVec 32 := 3#32
  let v964 : BitVec 32 := Scalar.remsi v963 c3_i32_408
  ![v964.toNat]
def k0_off8 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off9 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) : Fin 1 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  ![v907.toNat]
@[reducible] def k0_t2_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) : Scf.Loop 32 :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_404 : BitVec 32 := 1#32
  ⟨v950, v959, c1_i32_404⟩
def k0_off10 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v962 : Index := Scalar.indexCast arg16
  let c0_i32_406 : BitVec 32 := 0#32
  let v963 : Index := Scalar.indexCast c0_i32_406
  let c0_407 : Index := 0#32
  ![v962.toNat, 0, 0]
def k0_off11 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v973 : Index := Scalar.indexCast arg16
  let c0_i32_410 : BitVec 32 := 0#32
  let v974 : Index := Scalar.indexCast c0_i32_410
  let c16 : Index := 16#32
  ![v973.toNat, 0, 16]
def k0_off12 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v984 : Index := Scalar.indexCast arg16
  let c0_i32_413 : BitVec 32 := 0#32
  let v985 : Index := Scalar.indexCast c0_i32_413
  let c32 : Index := 32#32
  ![v984.toNat, 0, 32]
def k0_off13 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v995 : Index := Scalar.indexCast arg16
  let c0_i32_416 : BitVec 32 := 0#32
  let v996 : Index := Scalar.indexCast c0_i32_416
  let c48 : Index := 48#32
  ![v995.toNat, 0, 48]
def k0_off14 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1006 : Index := Scalar.indexCast arg16
  let c0_i32_419 : BitVec 32 := 0#32
  let v1007 : Index := Scalar.indexCast c0_i32_419
  let c64 : Index := 64#32
  ![v1006.toNat, 0, 64]
def k0_off15 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1017 : Index := Scalar.indexCast arg16
  let c0_i32_422 : BitVec 32 := 0#32
  let v1018 : Index := Scalar.indexCast c0_i32_422
  let c80 : Index := 80#32
  ![v1017.toNat, 0, 80]
def k0_off16 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1028 : Index := Scalar.indexCast arg16
  let c0_i32_425 : BitVec 32 := 0#32
  let v1029 : Index := Scalar.indexCast c0_i32_425
  let c96 : Index := 96#32
  ![v1028.toNat, 0, 96]
def k0_off17 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1039 : Index := Scalar.indexCast arg16
  let c0_i32_428 : BitVec 32 := 0#32
  let v1040 : Index := Scalar.indexCast c0_i32_428
  let c112 : Index := 112#32
  ![v1039.toNat, 0, 112]
def k0_off18 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1050 : Index := Scalar.indexCast arg16
  let c0_i32_431 : BitVec 32 := 0#32
  let v1051 : Index := Scalar.indexCast c0_i32_431
  let c128 : Index := 128#32
  ![v1050.toNat, 0, 128]
def k0_off19 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1061 : Index := Scalar.indexCast arg16
  let c0_i32_434 : BitVec 32 := 0#32
  let v1062 : Index := Scalar.indexCast c0_i32_434
  let c144 : Index := 144#32
  ![v1061.toNat, 0, 144]
def k0_off20 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1072 : Index := Scalar.indexCast arg16
  let c0_i32_437 : BitVec 32 := 0#32
  let v1073 : Index := Scalar.indexCast c0_i32_437
  let c160 : Index := 160#32
  ![v1072.toNat, 0, 160]
def k0_off21 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1083 : Index := Scalar.indexCast arg16
  let c0_i32_440 : BitVec 32 := 0#32
  let v1084 : Index := Scalar.indexCast c0_i32_440
  let c176 : Index := 176#32
  ![v1083.toNat, 0, 176]
def k0_off22 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1094 : Index := Scalar.indexCast arg16
  let c0_i32_443 : BitVec 32 := 0#32
  let v1095 : Index := Scalar.indexCast c0_i32_443
  let c192 : Index := 192#32
  ![v1094.toNat, 0, 192]
def k0_off23 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1105 : Index := Scalar.indexCast arg16
  let c0_i32_446 : BitVec 32 := 0#32
  let v1106 : Index := Scalar.indexCast c0_i32_446
  let c208 : Index := 208#32
  ![v1105.toNat, 0, 208]
def k0_off24 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1116 : Index := Scalar.indexCast arg16
  let c0_i32_449 : BitVec 32 := 0#32
  let v1117 : Index := Scalar.indexCast c0_i32_449
  let c224 : Index := 224#32
  ![v1116.toNat, 0, 224]
def k0_off25 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1127 : Index := Scalar.indexCast arg16
  let c0_i32_452 : BitVec 32 := 0#32
  let v1128 : Index := Scalar.indexCast c0_i32_452
  let c240 : Index := 240#32
  ![v1127.toNat, 0, 240]
def k0_off26 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1138 : Index := Scalar.indexCast arg16
  let c0_i32_455 : BitVec 32 := 0#32
  let v1139 : Index := Scalar.indexCast c0_i32_455
  let c256 : Index := 256#32
  ![v1138.toNat, 0, 256]
def k0_off27 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1149 : Index := Scalar.indexCast arg16
  let c0_i32_458 : BitVec 32 := 0#32
  let v1150 : Index := Scalar.indexCast c0_i32_458
  let c272 : Index := 272#32
  ![v1149.toNat, 0, 272]
def k0_off28 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1160 : Index := Scalar.indexCast arg16
  let c0_i32_461 : BitVec 32 := 0#32
  let v1161 : Index := Scalar.indexCast c0_i32_461
  let c288 : Index := 288#32
  ![v1160.toNat, 0, 288]
def k0_off29 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1171 : Index := Scalar.indexCast arg16
  let c0_i32_464 : BitVec 32 := 0#32
  let v1172 : Index := Scalar.indexCast c0_i32_464
  let c304 : Index := 304#32
  ![v1171.toNat, 0, 304]
def k0_off30 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1182 : Index := Scalar.indexCast arg16
  let c0_i32_467 : BitVec 32 := 0#32
  let v1183 : Index := Scalar.indexCast c0_i32_467
  let c320 : Index := 320#32
  ![v1182.toNat, 0, 320]
def k0_off31 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1193 : Index := Scalar.indexCast arg16
  let c0_i32_470 : BitVec 32 := 0#32
  let v1194 : Index := Scalar.indexCast c0_i32_470
  let c336 : Index := 336#32
  ![v1193.toNat, 0, 336]
def k0_off32 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1204 : Index := Scalar.indexCast arg16
  let c0_i32_473 : BitVec 32 := 0#32
  let v1205 : Index := Scalar.indexCast c0_i32_473
  let c352 : Index := 352#32
  ![v1204.toNat, 0, 352]
def k0_off33 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1215 : Index := Scalar.indexCast arg16
  let c0_i32_476 : BitVec 32 := 0#32
  let v1216 : Index := Scalar.indexCast c0_i32_476
  let c368 : Index := 368#32
  ![v1215.toNat, 0, 368]
def k0_off34 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1226 : Index := Scalar.indexCast arg16
  let c0_i32_479 : BitVec 32 := 0#32
  let v1227 : Index := Scalar.indexCast c0_i32_479
  let c384 : Index := 384#32
  ![v1226.toNat, 0, 384]
def k0_off35 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1237 : Index := Scalar.indexCast arg16
  let c0_i32_482 : BitVec 32 := 0#32
  let v1238 : Index := Scalar.indexCast c0_i32_482
  let c400 : Index := 400#32
  ![v1237.toNat, 0, 400]
def k0_off36 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1248 : Index := Scalar.indexCast arg16
  let c0_i32_485 : BitVec 32 := 0#32
  let v1249 : Index := Scalar.indexCast c0_i32_485
  let c416 : Index := 416#32
  ![v1248.toNat, 0, 416]
def k0_off37 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1259 : Index := Scalar.indexCast arg16
  let c0_i32_488 : BitVec 32 := 0#32
  let v1260 : Index := Scalar.indexCast c0_i32_488
  let c432 : Index := 432#32
  ![v1259.toNat, 0, 432]
def k0_off38 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1270 : Index := Scalar.indexCast arg16
  let c0_i32_491 : BitVec 32 := 0#32
  let v1271 : Index := Scalar.indexCast c0_i32_491
  let c448 : Index := 448#32
  ![v1270.toNat, 0, 448]
def k0_off39 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1281 : Index := Scalar.indexCast arg16
  let c0_i32_494 : BitVec 32 := 0#32
  let v1282 : Index := Scalar.indexCast c0_i32_494
  let c464 : Index := 464#32
  ![v1281.toNat, 0, 464]
def k0_off40 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1292 : Index := Scalar.indexCast arg16
  let c0_i32_497 : BitVec 32 := 0#32
  let v1293 : Index := Scalar.indexCast c0_i32_497
  let c480 : Index := 480#32
  ![v1292.toNat, 0, 480]
def k0_off41 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t2
  let v1303 : Index := Scalar.indexCast arg16
  let c0_i32_500 : BitVec 32 := 0#32
  let v1304 : Index := Scalar.indexCast c0_i32_500
  let c496 : Index := 496#32
  ![v1303.toNat, 0, 496]
@[reducible] def k0_t3_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) : Scf.Loop 32 :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let v956 : BitVec 32 := Scalar.addi v950 v955
  let c1_i32_405 : BitVec 32 := 1#32
  ⟨v959, v956, c1_i32_405⟩
def k0_off42 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v962 : Index := Scalar.indexCast arg16
  let c0_i32_406 : BitVec 32 := 0#32
  let v963 : Index := Scalar.indexCast c0_i32_406
  let c0_407 : Index := 0#32
  ![v962.toNat, 0, 0]
def k0_off43 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v973 : Index := Scalar.indexCast arg16
  let c0_i32_410 : BitVec 32 := 0#32
  let v974 : Index := Scalar.indexCast c0_i32_410
  let c16 : Index := 16#32
  ![v973.toNat, 0, 16]
def k0_off44 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v984 : Index := Scalar.indexCast arg16
  let c0_i32_413 : BitVec 32 := 0#32
  let v985 : Index := Scalar.indexCast c0_i32_413
  let c32 : Index := 32#32
  ![v984.toNat, 0, 32]
def k0_off45 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v995 : Index := Scalar.indexCast arg16
  let c0_i32_416 : BitVec 32 := 0#32
  let v996 : Index := Scalar.indexCast c0_i32_416
  let c48 : Index := 48#32
  ![v995.toNat, 0, 48]
def k0_off46 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1006 : Index := Scalar.indexCast arg16
  let c0_i32_419 : BitVec 32 := 0#32
  let v1007 : Index := Scalar.indexCast c0_i32_419
  let c64 : Index := 64#32
  ![v1006.toNat, 0, 64]
def k0_off47 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1017 : Index := Scalar.indexCast arg16
  let c0_i32_422 : BitVec 32 := 0#32
  let v1018 : Index := Scalar.indexCast c0_i32_422
  let c80 : Index := 80#32
  ![v1017.toNat, 0, 80]
def k0_off48 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1028 : Index := Scalar.indexCast arg16
  let c0_i32_425 : BitVec 32 := 0#32
  let v1029 : Index := Scalar.indexCast c0_i32_425
  let c96 : Index := 96#32
  ![v1028.toNat, 0, 96]
def k0_off49 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1039 : Index := Scalar.indexCast arg16
  let c0_i32_428 : BitVec 32 := 0#32
  let v1040 : Index := Scalar.indexCast c0_i32_428
  let c112 : Index := 112#32
  ![v1039.toNat, 0, 112]
def k0_off50 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1050 : Index := Scalar.indexCast arg16
  let c0_i32_431 : BitVec 32 := 0#32
  let v1051 : Index := Scalar.indexCast c0_i32_431
  let c128 : Index := 128#32
  ![v1050.toNat, 0, 128]
def k0_off51 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1061 : Index := Scalar.indexCast arg16
  let c0_i32_434 : BitVec 32 := 0#32
  let v1062 : Index := Scalar.indexCast c0_i32_434
  let c144 : Index := 144#32
  ![v1061.toNat, 0, 144]
def k0_off52 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1072 : Index := Scalar.indexCast arg16
  let c0_i32_437 : BitVec 32 := 0#32
  let v1073 : Index := Scalar.indexCast c0_i32_437
  let c160 : Index := 160#32
  ![v1072.toNat, 0, 160]
def k0_off53 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1083 : Index := Scalar.indexCast arg16
  let c0_i32_440 : BitVec 32 := 0#32
  let v1084 : Index := Scalar.indexCast c0_i32_440
  let c176 : Index := 176#32
  ![v1083.toNat, 0, 176]
def k0_off54 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1094 : Index := Scalar.indexCast arg16
  let c0_i32_443 : BitVec 32 := 0#32
  let v1095 : Index := Scalar.indexCast c0_i32_443
  let c192 : Index := 192#32
  ![v1094.toNat, 0, 192]
def k0_off55 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1105 : Index := Scalar.indexCast arg16
  let c0_i32_446 : BitVec 32 := 0#32
  let v1106 : Index := Scalar.indexCast c0_i32_446
  let c208 : Index := 208#32
  ![v1105.toNat, 0, 208]
def k0_off56 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1116 : Index := Scalar.indexCast arg16
  let c0_i32_449 : BitVec 32 := 0#32
  let v1117 : Index := Scalar.indexCast c0_i32_449
  let c224 : Index := 224#32
  ![v1116.toNat, 0, 224]
def k0_off57 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1127 : Index := Scalar.indexCast arg16
  let c0_i32_452 : BitVec 32 := 0#32
  let v1128 : Index := Scalar.indexCast c0_i32_452
  let c240 : Index := 240#32
  ![v1127.toNat, 0, 240]
def k0_off58 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1138 : Index := Scalar.indexCast arg16
  let c0_i32_455 : BitVec 32 := 0#32
  let v1139 : Index := Scalar.indexCast c0_i32_455
  let c256 : Index := 256#32
  ![v1138.toNat, 0, 256]
def k0_off59 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1149 : Index := Scalar.indexCast arg16
  let c0_i32_458 : BitVec 32 := 0#32
  let v1150 : Index := Scalar.indexCast c0_i32_458
  let c272 : Index := 272#32
  ![v1149.toNat, 0, 272]
def k0_off60 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1160 : Index := Scalar.indexCast arg16
  let c0_i32_461 : BitVec 32 := 0#32
  let v1161 : Index := Scalar.indexCast c0_i32_461
  let c288 : Index := 288#32
  ![v1160.toNat, 0, 288]
def k0_off61 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1171 : Index := Scalar.indexCast arg16
  let c0_i32_464 : BitVec 32 := 0#32
  let v1172 : Index := Scalar.indexCast c0_i32_464
  let c304 : Index := 304#32
  ![v1171.toNat, 0, 304]
def k0_off62 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1182 : Index := Scalar.indexCast arg16
  let c0_i32_467 : BitVec 32 := 0#32
  let v1183 : Index := Scalar.indexCast c0_i32_467
  let c320 : Index := 320#32
  ![v1182.toNat, 0, 320]
def k0_off63 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1193 : Index := Scalar.indexCast arg16
  let c0_i32_470 : BitVec 32 := 0#32
  let v1194 : Index := Scalar.indexCast c0_i32_470
  let c336 : Index := 336#32
  ![v1193.toNat, 0, 336]
def k0_off64 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1204 : Index := Scalar.indexCast arg16
  let c0_i32_473 : BitVec 32 := 0#32
  let v1205 : Index := Scalar.indexCast c0_i32_473
  let c352 : Index := 352#32
  ![v1204.toNat, 0, 352]
def k0_off65 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1215 : Index := Scalar.indexCast arg16
  let c0_i32_476 : BitVec 32 := 0#32
  let v1216 : Index := Scalar.indexCast c0_i32_476
  let c368 : Index := 368#32
  ![v1215.toNat, 0, 368]
def k0_off66 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1226 : Index := Scalar.indexCast arg16
  let c0_i32_479 : BitVec 32 := 0#32
  let v1227 : Index := Scalar.indexCast c0_i32_479
  let c384 : Index := 384#32
  ![v1226.toNat, 0, 384]
def k0_off67 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1237 : Index := Scalar.indexCast arg16
  let c0_i32_482 : BitVec 32 := 0#32
  let v1238 : Index := Scalar.indexCast c0_i32_482
  let c400 : Index := 400#32
  ![v1237.toNat, 0, 400]
def k0_off68 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1248 : Index := Scalar.indexCast arg16
  let c0_i32_485 : BitVec 32 := 0#32
  let v1249 : Index := Scalar.indexCast c0_i32_485
  let c416 : Index := 416#32
  ![v1248.toNat, 0, 416]
def k0_off69 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1259 : Index := Scalar.indexCast arg16
  let c0_i32_488 : BitVec 32 := 0#32
  let v1260 : Index := Scalar.indexCast c0_i32_488
  let c432 : Index := 432#32
  ![v1259.toNat, 0, 432]
def k0_off70 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1270 : Index := Scalar.indexCast arg16
  let c0_i32_491 : BitVec 32 := 0#32
  let v1271 : Index := Scalar.indexCast c0_i32_491
  let c448 : Index := 448#32
  ![v1270.toNat, 0, 448]
def k0_off71 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1281 : Index := Scalar.indexCast arg16
  let c0_i32_494 : BitVec 32 := 0#32
  let v1282 : Index := Scalar.indexCast c0_i32_494
  let c464 : Index := 464#32
  ![v1281.toNat, 0, 464]
def k0_off72 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1292 : Index := Scalar.indexCast arg16
  let c0_i32_497 : BitVec 32 := 0#32
  let v1293 : Index := Scalar.indexCast c0_i32_497
  let c480 : Index := 480#32
  ![v1292.toNat, 0, 480]
def k0_off73 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips) : Fin 3 → Nat :=
  let c0_i32_62 : BitVec 32 := 0#32
  let c1_i32_64 : BitVec 32 := 1#32
  let arg14 : BitVec 32 := Scf.iv c0_i32_62 c1_i32_64 k0_t1
  let c3_i32 : BitVec 32 := 3#32
  let v907 : BitVec 32 := Scalar.remsi arg14 c3_i32
  let c32_i32_401 : BitVec 32 := 32#32
  let v948 : BitVec 32 := Scalar.muli v907 c32_i32_401
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t3
  let v1303 : Index := Scalar.indexCast arg16
  let c0_i32_500 : BitVec 32 := 0#32
  let v1304 : Index := Scalar.indexCast c0_i32_500
  let c496 : Index := 496#32
  ![v1303.toNat, 0, 496]
@[reducible] def k0_t4_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let v186 : BitVec 32 := Scalar.addi c0_i32_62 v185
  let c1_i32_65 : BitVec 32 := 1#32
  ⟨v189, v186, c1_i32_65⟩
def k0_off74 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c2_i32_407 : BitVec 32 := 2#32
  let v963 : BitVec 32 := Scalar.addi arg14 c2_i32_407
  let c3_i32_408 : BitVec 32 := 3#32
  let v964 : BitVec 32 := Scalar.remsi v963 c3_i32_408
  let c32_i32_411 : BitVec 32 := 32#32
  let v968 : BitVec 32 := Scalar.muli v964 c32_i32_411
  let c0_i32_412 : BitVec 32 := 0#32
  let c0_i32_413 : BitVec 32 := 0#32
  ![v968.toNat, 0, 0]
def k0_cond4 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) : BitVec 1 :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c2_i32_376 : BitVec 32 := 2#32
  let v927 : BitVec 32 := Scalar.addi arg14 c2_i32_376
  let v908 : BitVec 32 := Scalar.subi v158 v156
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off75 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) : Fin 3 → Nat :=
  let c1024_i32_47 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let c0_i32_62 : BitVec 32 := 0#32
  let c1024_i32_49 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c2_i32_406 : BitVec 32 := 2#32
  let v962 : BitVec 32 := Scalar.addi arg14 c2_i32_406
  let c32_i32_409 : BitVec 32 := 32#32
  let v965 : BitVec 32 := Scalar.muli v962 c32_i32_409
  let v966 : BitVec 32 := Scalar.addi v156 v965
  let c2016_i32_410 : BitVec 32 := 2016#32
  let v967 : BitVec 32 := Scalar.minsi v966 c2016_i32_410
  let c0_i32_414 : BitVec 32 := 0#32
  let c0_i32_415 : BitVec 32 := 0#32
  ![v967.toNat, 0, 0]
def k0_off76 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) : Fin 1 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c2_i32_407 : BitVec 32 := 2#32
  let v963 : BitVec 32 := Scalar.addi arg14 c2_i32_407
  let c3_i32_408 : BitVec 32 := 3#32
  let v964 : BitVec 32 := Scalar.remsi v963 c3_i32_408
  ![v964.toNat]
def k0_off77 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off78 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) : Fin 1 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  ![v907.toNat]
@[reducible] def k0_t5_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) : Scf.Loop 32 :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_404 : BitVec 32 := 1#32
  ⟨v950, v959, c1_i32_404⟩
def k0_off79 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v962 : Index := Scalar.indexCast arg16
  let c0_i32_406 : BitVec 32 := 0#32
  let v963 : Index := Scalar.indexCast c0_i32_406
  let c0_407 : Index := 0#32
  ![v962.toNat, 0, 0]
def k0_off80 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v973 : Index := Scalar.indexCast arg16
  let c0_i32_410 : BitVec 32 := 0#32
  let v974 : Index := Scalar.indexCast c0_i32_410
  let c16 : Index := 16#32
  ![v973.toNat, 0, 16]
def k0_off81 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v984 : Index := Scalar.indexCast arg16
  let c0_i32_413 : BitVec 32 := 0#32
  let v985 : Index := Scalar.indexCast c0_i32_413
  let c32 : Index := 32#32
  ![v984.toNat, 0, 32]
def k0_off82 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v995 : Index := Scalar.indexCast arg16
  let c0_i32_416 : BitVec 32 := 0#32
  let v996 : Index := Scalar.indexCast c0_i32_416
  let c48 : Index := 48#32
  ![v995.toNat, 0, 48]
def k0_off83 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1006 : Index := Scalar.indexCast arg16
  let c0_i32_419 : BitVec 32 := 0#32
  let v1007 : Index := Scalar.indexCast c0_i32_419
  let c64 : Index := 64#32
  ![v1006.toNat, 0, 64]
def k0_off84 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1017 : Index := Scalar.indexCast arg16
  let c0_i32_422 : BitVec 32 := 0#32
  let v1018 : Index := Scalar.indexCast c0_i32_422
  let c80 : Index := 80#32
  ![v1017.toNat, 0, 80]
def k0_off85 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1028 : Index := Scalar.indexCast arg16
  let c0_i32_425 : BitVec 32 := 0#32
  let v1029 : Index := Scalar.indexCast c0_i32_425
  let c96 : Index := 96#32
  ![v1028.toNat, 0, 96]
def k0_off86 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1039 : Index := Scalar.indexCast arg16
  let c0_i32_428 : BitVec 32 := 0#32
  let v1040 : Index := Scalar.indexCast c0_i32_428
  let c112 : Index := 112#32
  ![v1039.toNat, 0, 112]
def k0_off87 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1050 : Index := Scalar.indexCast arg16
  let c0_i32_431 : BitVec 32 := 0#32
  let v1051 : Index := Scalar.indexCast c0_i32_431
  let c128 : Index := 128#32
  ![v1050.toNat, 0, 128]
def k0_off88 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1061 : Index := Scalar.indexCast arg16
  let c0_i32_434 : BitVec 32 := 0#32
  let v1062 : Index := Scalar.indexCast c0_i32_434
  let c144 : Index := 144#32
  ![v1061.toNat, 0, 144]
def k0_off89 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1072 : Index := Scalar.indexCast arg16
  let c0_i32_437 : BitVec 32 := 0#32
  let v1073 : Index := Scalar.indexCast c0_i32_437
  let c160 : Index := 160#32
  ![v1072.toNat, 0, 160]
def k0_off90 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1083 : Index := Scalar.indexCast arg16
  let c0_i32_440 : BitVec 32 := 0#32
  let v1084 : Index := Scalar.indexCast c0_i32_440
  let c176 : Index := 176#32
  ![v1083.toNat, 0, 176]
def k0_off91 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1094 : Index := Scalar.indexCast arg16
  let c0_i32_443 : BitVec 32 := 0#32
  let v1095 : Index := Scalar.indexCast c0_i32_443
  let c192 : Index := 192#32
  ![v1094.toNat, 0, 192]
def k0_off92 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1105 : Index := Scalar.indexCast arg16
  let c0_i32_446 : BitVec 32 := 0#32
  let v1106 : Index := Scalar.indexCast c0_i32_446
  let c208 : Index := 208#32
  ![v1105.toNat, 0, 208]
def k0_off93 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1116 : Index := Scalar.indexCast arg16
  let c0_i32_449 : BitVec 32 := 0#32
  let v1117 : Index := Scalar.indexCast c0_i32_449
  let c224 : Index := 224#32
  ![v1116.toNat, 0, 224]
def k0_off94 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1127 : Index := Scalar.indexCast arg16
  let c0_i32_452 : BitVec 32 := 0#32
  let v1128 : Index := Scalar.indexCast c0_i32_452
  let c240 : Index := 240#32
  ![v1127.toNat, 0, 240]
def k0_off95 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1138 : Index := Scalar.indexCast arg16
  let c0_i32_455 : BitVec 32 := 0#32
  let v1139 : Index := Scalar.indexCast c0_i32_455
  let c256 : Index := 256#32
  ![v1138.toNat, 0, 256]
def k0_off96 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1149 : Index := Scalar.indexCast arg16
  let c0_i32_458 : BitVec 32 := 0#32
  let v1150 : Index := Scalar.indexCast c0_i32_458
  let c272 : Index := 272#32
  ![v1149.toNat, 0, 272]
def k0_off97 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1160 : Index := Scalar.indexCast arg16
  let c0_i32_461 : BitVec 32 := 0#32
  let v1161 : Index := Scalar.indexCast c0_i32_461
  let c288 : Index := 288#32
  ![v1160.toNat, 0, 288]
def k0_off98 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1171 : Index := Scalar.indexCast arg16
  let c0_i32_464 : BitVec 32 := 0#32
  let v1172 : Index := Scalar.indexCast c0_i32_464
  let c304 : Index := 304#32
  ![v1171.toNat, 0, 304]
def k0_off99 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1182 : Index := Scalar.indexCast arg16
  let c0_i32_467 : BitVec 32 := 0#32
  let v1183 : Index := Scalar.indexCast c0_i32_467
  let c320 : Index := 320#32
  ![v1182.toNat, 0, 320]
def k0_off100 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1193 : Index := Scalar.indexCast arg16
  let c0_i32_470 : BitVec 32 := 0#32
  let v1194 : Index := Scalar.indexCast c0_i32_470
  let c336 : Index := 336#32
  ![v1193.toNat, 0, 336]
def k0_off101 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1204 : Index := Scalar.indexCast arg16
  let c0_i32_473 : BitVec 32 := 0#32
  let v1205 : Index := Scalar.indexCast c0_i32_473
  let c352 : Index := 352#32
  ![v1204.toNat, 0, 352]
def k0_off102 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1215 : Index := Scalar.indexCast arg16
  let c0_i32_476 : BitVec 32 := 0#32
  let v1216 : Index := Scalar.indexCast c0_i32_476
  let c368 : Index := 368#32
  ![v1215.toNat, 0, 368]
def k0_off103 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1226 : Index := Scalar.indexCast arg16
  let c0_i32_479 : BitVec 32 := 0#32
  let v1227 : Index := Scalar.indexCast c0_i32_479
  let c384 : Index := 384#32
  ![v1226.toNat, 0, 384]
def k0_off104 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1237 : Index := Scalar.indexCast arg16
  let c0_i32_482 : BitVec 32 := 0#32
  let v1238 : Index := Scalar.indexCast c0_i32_482
  let c400 : Index := 400#32
  ![v1237.toNat, 0, 400]
def k0_off105 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1248 : Index := Scalar.indexCast arg16
  let c0_i32_485 : BitVec 32 := 0#32
  let v1249 : Index := Scalar.indexCast c0_i32_485
  let c416 : Index := 416#32
  ![v1248.toNat, 0, 416]
def k0_off106 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1259 : Index := Scalar.indexCast arg16
  let c0_i32_488 : BitVec 32 := 0#32
  let v1260 : Index := Scalar.indexCast c0_i32_488
  let c432 : Index := 432#32
  ![v1259.toNat, 0, 432]
def k0_off107 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1270 : Index := Scalar.indexCast arg16
  let c0_i32_491 : BitVec 32 := 0#32
  let v1271 : Index := Scalar.indexCast c0_i32_491
  let c448 : Index := 448#32
  ![v1270.toNat, 0, 448]
def k0_off108 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1281 : Index := Scalar.indexCast arg16
  let c0_i32_494 : BitVec 32 := 0#32
  let v1282 : Index := Scalar.indexCast c0_i32_494
  let c464 : Index := 464#32
  ![v1281.toNat, 0, 464]
def k0_off109 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1292 : Index := Scalar.indexCast arg16
  let c0_i32_497 : BitVec 32 := 0#32
  let v1293 : Index := Scalar.indexCast c0_i32_497
  let c480 : Index := 480#32
  ![v1292.toNat, 0, 480]
def k0_off110 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t5
  let v1303 : Index := Scalar.indexCast arg16
  let c0_i32_500 : BitVec 32 := 0#32
  let v1304 : Index := Scalar.indexCast c0_i32_500
  let c496 : Index := 496#32
  ![v1303.toNat, 0, 496]
@[reducible] def k0_t6_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) : Scf.Loop 32 :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let v956 : BitVec 32 := Scalar.addi v950 v955
  let c1_i32_405 : BitVec 32 := 1#32
  ⟨v959, v956, c1_i32_405⟩
def k0_off111 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v962 : Index := Scalar.indexCast arg16
  let c0_i32_406 : BitVec 32 := 0#32
  let v963 : Index := Scalar.indexCast c0_i32_406
  let c0_407 : Index := 0#32
  ![v962.toNat, 0, 0]
def k0_off112 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v973 : Index := Scalar.indexCast arg16
  let c0_i32_410 : BitVec 32 := 0#32
  let v974 : Index := Scalar.indexCast c0_i32_410
  let c16 : Index := 16#32
  ![v973.toNat, 0, 16]
def k0_off113 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v984 : Index := Scalar.indexCast arg16
  let c0_i32_413 : BitVec 32 := 0#32
  let v985 : Index := Scalar.indexCast c0_i32_413
  let c32 : Index := 32#32
  ![v984.toNat, 0, 32]
def k0_off114 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v995 : Index := Scalar.indexCast arg16
  let c0_i32_416 : BitVec 32 := 0#32
  let v996 : Index := Scalar.indexCast c0_i32_416
  let c48 : Index := 48#32
  ![v995.toNat, 0, 48]
def k0_off115 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1006 : Index := Scalar.indexCast arg16
  let c0_i32_419 : BitVec 32 := 0#32
  let v1007 : Index := Scalar.indexCast c0_i32_419
  let c64 : Index := 64#32
  ![v1006.toNat, 0, 64]
def k0_off116 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1017 : Index := Scalar.indexCast arg16
  let c0_i32_422 : BitVec 32 := 0#32
  let v1018 : Index := Scalar.indexCast c0_i32_422
  let c80 : Index := 80#32
  ![v1017.toNat, 0, 80]
def k0_off117 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1028 : Index := Scalar.indexCast arg16
  let c0_i32_425 : BitVec 32 := 0#32
  let v1029 : Index := Scalar.indexCast c0_i32_425
  let c96 : Index := 96#32
  ![v1028.toNat, 0, 96]
def k0_off118 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1039 : Index := Scalar.indexCast arg16
  let c0_i32_428 : BitVec 32 := 0#32
  let v1040 : Index := Scalar.indexCast c0_i32_428
  let c112 : Index := 112#32
  ![v1039.toNat, 0, 112]
def k0_off119 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1050 : Index := Scalar.indexCast arg16
  let c0_i32_431 : BitVec 32 := 0#32
  let v1051 : Index := Scalar.indexCast c0_i32_431
  let c128 : Index := 128#32
  ![v1050.toNat, 0, 128]
def k0_off120 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1061 : Index := Scalar.indexCast arg16
  let c0_i32_434 : BitVec 32 := 0#32
  let v1062 : Index := Scalar.indexCast c0_i32_434
  let c144 : Index := 144#32
  ![v1061.toNat, 0, 144]
def k0_off121 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1072 : Index := Scalar.indexCast arg16
  let c0_i32_437 : BitVec 32 := 0#32
  let v1073 : Index := Scalar.indexCast c0_i32_437
  let c160 : Index := 160#32
  ![v1072.toNat, 0, 160]
def k0_off122 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1083 : Index := Scalar.indexCast arg16
  let c0_i32_440 : BitVec 32 := 0#32
  let v1084 : Index := Scalar.indexCast c0_i32_440
  let c176 : Index := 176#32
  ![v1083.toNat, 0, 176]
def k0_off123 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1094 : Index := Scalar.indexCast arg16
  let c0_i32_443 : BitVec 32 := 0#32
  let v1095 : Index := Scalar.indexCast c0_i32_443
  let c192 : Index := 192#32
  ![v1094.toNat, 0, 192]
def k0_off124 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1105 : Index := Scalar.indexCast arg16
  let c0_i32_446 : BitVec 32 := 0#32
  let v1106 : Index := Scalar.indexCast c0_i32_446
  let c208 : Index := 208#32
  ![v1105.toNat, 0, 208]
def k0_off125 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1116 : Index := Scalar.indexCast arg16
  let c0_i32_449 : BitVec 32 := 0#32
  let v1117 : Index := Scalar.indexCast c0_i32_449
  let c224 : Index := 224#32
  ![v1116.toNat, 0, 224]
def k0_off126 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1127 : Index := Scalar.indexCast arg16
  let c0_i32_452 : BitVec 32 := 0#32
  let v1128 : Index := Scalar.indexCast c0_i32_452
  let c240 : Index := 240#32
  ![v1127.toNat, 0, 240]
def k0_off127 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1138 : Index := Scalar.indexCast arg16
  let c0_i32_455 : BitVec 32 := 0#32
  let v1139 : Index := Scalar.indexCast c0_i32_455
  let c256 : Index := 256#32
  ![v1138.toNat, 0, 256]
def k0_off128 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1149 : Index := Scalar.indexCast arg16
  let c0_i32_458 : BitVec 32 := 0#32
  let v1150 : Index := Scalar.indexCast c0_i32_458
  let c272 : Index := 272#32
  ![v1149.toNat, 0, 272]
def k0_off129 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1160 : Index := Scalar.indexCast arg16
  let c0_i32_461 : BitVec 32 := 0#32
  let v1161 : Index := Scalar.indexCast c0_i32_461
  let c288 : Index := 288#32
  ![v1160.toNat, 0, 288]
def k0_off130 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1171 : Index := Scalar.indexCast arg16
  let c0_i32_464 : BitVec 32 := 0#32
  let v1172 : Index := Scalar.indexCast c0_i32_464
  let c304 : Index := 304#32
  ![v1171.toNat, 0, 304]
def k0_off131 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1182 : Index := Scalar.indexCast arg16
  let c0_i32_467 : BitVec 32 := 0#32
  let v1183 : Index := Scalar.indexCast c0_i32_467
  let c320 : Index := 320#32
  ![v1182.toNat, 0, 320]
def k0_off132 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1193 : Index := Scalar.indexCast arg16
  let c0_i32_470 : BitVec 32 := 0#32
  let v1194 : Index := Scalar.indexCast c0_i32_470
  let c336 : Index := 336#32
  ![v1193.toNat, 0, 336]
def k0_off133 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1204 : Index := Scalar.indexCast arg16
  let c0_i32_473 : BitVec 32 := 0#32
  let v1205 : Index := Scalar.indexCast c0_i32_473
  let c352 : Index := 352#32
  ![v1204.toNat, 0, 352]
def k0_off134 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1215 : Index := Scalar.indexCast arg16
  let c0_i32_476 : BitVec 32 := 0#32
  let v1216 : Index := Scalar.indexCast c0_i32_476
  let c368 : Index := 368#32
  ![v1215.toNat, 0, 368]
def k0_off135 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1226 : Index := Scalar.indexCast arg16
  let c0_i32_479 : BitVec 32 := 0#32
  let v1227 : Index := Scalar.indexCast c0_i32_479
  let c384 : Index := 384#32
  ![v1226.toNat, 0, 384]
def k0_off136 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1237 : Index := Scalar.indexCast arg16
  let c0_i32_482 : BitVec 32 := 0#32
  let v1238 : Index := Scalar.indexCast c0_i32_482
  let c400 : Index := 400#32
  ![v1237.toNat, 0, 400]
def k0_off137 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1248 : Index := Scalar.indexCast arg16
  let c0_i32_485 : BitVec 32 := 0#32
  let v1249 : Index := Scalar.indexCast c0_i32_485
  let c416 : Index := 416#32
  ![v1248.toNat, 0, 416]
def k0_off138 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1259 : Index := Scalar.indexCast arg16
  let c0_i32_488 : BitVec 32 := 0#32
  let v1260 : Index := Scalar.indexCast c0_i32_488
  let c432 : Index := 432#32
  ![v1259.toNat, 0, 432]
def k0_off139 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1270 : Index := Scalar.indexCast arg16
  let c0_i32_491 : BitVec 32 := 0#32
  let v1271 : Index := Scalar.indexCast c0_i32_491
  let c448 : Index := 448#32
  ![v1270.toNat, 0, 448]
def k0_off140 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1281 : Index := Scalar.indexCast arg16
  let c0_i32_494 : BitVec 32 := 0#32
  let v1282 : Index := Scalar.indexCast c0_i32_494
  let c464 : Index := 464#32
  ![v1281.toNat, 0, 464]
def k0_off141 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1292 : Index := Scalar.indexCast arg16
  let c0_i32_497 : BitVec 32 := 0#32
  let v1293 : Index := Scalar.indexCast c0_i32_497
  let c480 : Index := 480#32
  ![v1292.toNat, 0, 480]
def k0_off142 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips) : Fin 3 → Nat :=
  let c0_i32_62 : BitVec 32 := 0#32
  let c1024_i32_49 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let c0_i32_45 : BitVec 32 := 0#32
  let v153 : BitVec 32 := Scalar.addi c0_i32_45 v67
  let v154 : BitVec 32 := Scalar.minsi v150 v153
  let c0_i32_48 : BitVec 32 := 0#32
  let v157 : BitVec 32 := Scalar.subi v154 c0_i32_48
  let v158 : BitVec 32 := Scalar.addi c1024_i32_49 v157
  let c1024_i32_47 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let c0_i32_44 : BitVec 32 := 0#32
  let v152 : BitVec 32 := Scalar.maxsi v131 c0_i32_44
  let c0_i32_46 : BitVec 32 := 0#32
  let v155 : BitVec 32 := Scalar.subi v152 c0_i32_46
  let v156 : BitVec 32 := Scalar.addi c1024_i32_47 v155
  let v159 : BitVec 32 := Scalar.subi v158 v156
  let c31_i32 : BitVec 32 := 31#32
  let v160 : BitVec 32 := Scalar.addi v159 c31_i32
  let c0_i32_51 : BitVec 32 := 0#32
  let v162 : BitVec 1 := Scalar.cmpi .sgt v160 c0_i32_51
  let v163 : BitVec 32 := Scalar.extui v162
  let c0_i32_52 : BitVec 32 := 0#32
  let v164 : BitVec 1 := Scalar.cmpi .slt v160 c0_i32_52
  let v165 : BitVec 32 := Scalar.extui v164
  let v166 : BitVec 32 := Scalar.subi v163 v165
  let c32_i32_50 : BitVec 32 := 32#32
  let c0_i32_53 : BitVec 32 := 0#32
  let v167 : BitVec 1 := Scalar.cmpi .sgt c32_i32_50 c0_i32_53
  let v168 : BitVec 32 := Scalar.extui v167
  let c0_i32_54 : BitVec 32 := 0#32
  let v169 : BitVec 1 := Scalar.cmpi .slt c32_i32_50 c0_i32_54
  let v170 : BitVec 32 := Scalar.extui v169
  let v171 : BitVec 32 := Scalar.subi v168 v170
  let v172 : BitVec 1 := Scalar.cmpi .ne v166 v171
  let v173 : BitVec 32 := Scalar.remsi v160 c32_i32_50
  let c0_i32_55 : BitVec 32 := 0#32
  let v174 : BitVec 1 := Scalar.cmpi .ne v173 c0_i32_55
  let v175 : BitVec 1 := Scalar.andi v172 v174
  let v161 : BitVec 32 := Scalar.divsi v160 c32_i32_50
  let c1_i32_56 : BitVec 32 := 1#32
  let v176 : BitVec 32 := Scalar.subi v161 c1_i32_56
  let v177 : BitVec 32 := Scalar.select v175 v176 v161
  let v185 : BitVec 32 := Scalar.subi v177 c0_i32_62
  let c1_i32_63 : BitVec 32 := 1#32
  let v187 : BitVec 32 := Scalar.divsi v185 c1_i32_63
  let v188 : BitVec 32 := Scalar.muli v187 c1_i32_63
  let v189 : BitVec 32 := Scalar.addi c0_i32_62 v188
  let c1_i32_65 : BitVec 32 := 1#32
  let arg14 : BitVec 32 := Scf.iv v189 c1_i32_65 k0_t4
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v156 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v158 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t6
  let v1303 : Index := Scalar.indexCast arg16
  let c0_i32_500 : BitVec 32 := 0#32
  let v1304 : Index := Scalar.indexCast c0_i32_500
  let c496 : Index := 496#32
  ![v1303.toNat, 0, 496]
def k0_off143 : Fin 3 → Nat :=
  let c0_i32_370 : BitVec 32 := 0#32
  let c32_i32_371 : BitVec 32 := 32#32
  let v910 : BitVec 32 := Scalar.muli c0_i32_370 c32_i32_371
  let c0_i32_373 : BitVec 32 := 0#32
  let c0_i32_374 : BitVec 32 := 0#32
  ![v910.toNat, 0, 0]
def k0_off144 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c0_i32_368 : BitVec 32 := 0#32
  let c32_i32_369 : BitVec 32 := 32#32
  let v907 : BitVec 32 := Scalar.muli c0_i32_368 c32_i32_369
  let v908 : BitVec 32 := Scalar.addi v203 v907
  let c2016_i32 : BitVec 32 := 2016#32
  let v909 : BitVec 32 := Scalar.minsi v908 c2016_i32
  let c1_i32_375 : BitVec 32 := 1#32
  let c0_i32_376 : BitVec 32 := 0#32
  ![v909.toNat, 1, 0]
def k0_cond5 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let c0_i32_77 : BitVec 32 := 0#32
  let v225 : BitVec 1 := Scalar.cmpi .sgt v224 c0_i32_77
  let v226 : BitVec 32 := Scalar.extui v225
  let c0_i32_78 : BitVec 32 := 0#32
  let v227 : BitVec 1 := Scalar.cmpi .ne v226 c0_i32_78
  v227

def k0_off145 : Fin 3 → Nat :=
  let c1_i32_370 : BitVec 32 := 1#32
  let c32_i32_371 : BitVec 32 := 32#32
  let v910 : BitVec 32 := Scalar.muli c1_i32_370 c32_i32_371
  let c0_i32_373 : BitVec 32 := 0#32
  let c0_i32_374 : BitVec 32 := 0#32
  ![v910.toNat, 0, 0]
def k0_off146 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c1_i32_368 : BitVec 32 := 1#32
  let c32_i32_369 : BitVec 32 := 32#32
  let v907 : BitVec 32 := Scalar.muli c1_i32_368 c32_i32_369
  let v908 : BitVec 32 := Scalar.addi v203 v907
  let c2016_i32 : BitVec 32 := 2016#32
  let v909 : BitVec 32 := Scalar.minsi v908 c2016_i32
  let c1_i32_375 : BitVec 32 := 1#32
  let c0_i32_376 : BitVec 32 := 0#32
  ![v909.toNat, 1, 0]
def k0_cond6 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let c1_i32_79 : BitVec 32 := 1#32
  let v228 : BitVec 1 := Scalar.cmpi .sgt v224 c1_i32_79
  let v229 : BitVec 32 := Scalar.extui v228
  let c0_i32_80 : BitVec 32 := 0#32
  let v230 : BitVec 1 := Scalar.cmpi .ne v229 c0_i32_80
  v230

@[reducible] def k0_t7_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_84 : BitVec 32 := 1#32
  ⟨c0_i32_82, v236, c1_i32_84⟩
def k0_off147 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) : Fin 3 → Nat :=
  let c0_i32_82 : BitVec 32 := 0#32
  let c1_i32_84 : BitVec 32 := 1#32
  let arg14 : BitVec 32 := Scf.iv c0_i32_82 c1_i32_84 k0_t7
  let c2_i32_407 : BitVec 32 := 2#32
  let v963 : BitVec 32 := Scalar.addi arg14 c2_i32_407
  let c3_i32_408 : BitVec 32 := 3#32
  let v964 : BitVec 32 := Scalar.remsi v963 c3_i32_408
  let c32_i32_411 : BitVec 32 := 32#32
  let v968 : BitVec 32 := Scalar.muli v964 c32_i32_411
  let c0_i32_412 : BitVec 32 := 0#32
  let c0_i32_413 : BitVec 32 := 0#32
  ![v968.toNat, 0, 0]
def k0_cond7 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) : BitVec 1 :=
  let c0_i32_82 : BitVec 32 := 0#32
  let c1_i32_84 : BitVec 32 := 1#32
  let arg14 : BitVec 32 := Scf.iv c0_i32_82 c1_i32_84 k0_t7
  let c2_i32_376 : BitVec 32 := 2#32
  let v927 : BitVec 32 := Scalar.addi arg14 c2_i32_376
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v908 : BitVec 32 := Scalar.subi v205 v203
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off148 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) : Fin 3 → Nat :=
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c0_i32_82 : BitVec 32 := 0#32
  let c1_i32_84 : BitVec 32 := 1#32
  let arg14 : BitVec 32 := Scf.iv c0_i32_82 c1_i32_84 k0_t7
  let c2_i32_406 : BitVec 32 := 2#32
  let v962 : BitVec 32 := Scalar.addi arg14 c2_i32_406
  let c32_i32_409 : BitVec 32 := 32#32
  let v965 : BitVec 32 := Scalar.muli v962 c32_i32_409
  let v966 : BitVec 32 := Scalar.addi v203 v965
  let c2016_i32_410 : BitVec 32 := 2016#32
  let v967 : BitVec 32 := Scalar.minsi v966 c2016_i32_410
  let c1_i32_414 : BitVec 32 := 1#32
  let c0_i32_415 : BitVec 32 := 0#32
  ![v967.toNat, 1, 0]
def k0_off149 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) : Fin 1 → Nat :=
  let c0_i32_82 : BitVec 32 := 0#32
  let c1_i32_84 : BitVec 32 := 1#32
  let arg14 : BitVec 32 := Scf.iv c0_i32_82 c1_i32_84 k0_t7
  let c2_i32_407 : BitVec 32 := 2#32
  let v963 : BitVec 32 := Scalar.addi arg14 c2_i32_407
  let c3_i32_408 : BitVec 32 := 3#32
  let v964 : BitVec 32 := Scalar.remsi v963 c3_i32_408
  ![v964.toNat]
def k0_off150 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off151 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) : Fin 1 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  ![v907.toNat]
@[reducible] def k0_t8_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) : Scf.Loop 32 :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_404 : BitVec 32 := 1#32
  ⟨v950, v959, c1_i32_404⟩
def k0_off152 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v962 : Index := Scalar.indexCast arg16
  let c0_i32_406 : BitVec 32 := 0#32
  let v963 : Index := Scalar.indexCast c0_i32_406
  let c0_407 : Index := 0#32
  ![v962.toNat, 0, 0]
def k0_off153 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v973 : Index := Scalar.indexCast arg16
  let c0_i32_410 : BitVec 32 := 0#32
  let v974 : Index := Scalar.indexCast c0_i32_410
  let c16 : Index := 16#32
  ![v973.toNat, 0, 16]
def k0_off154 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v984 : Index := Scalar.indexCast arg16
  let c0_i32_413 : BitVec 32 := 0#32
  let v985 : Index := Scalar.indexCast c0_i32_413
  let c32 : Index := 32#32
  ![v984.toNat, 0, 32]
def k0_off155 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v995 : Index := Scalar.indexCast arg16
  let c0_i32_416 : BitVec 32 := 0#32
  let v996 : Index := Scalar.indexCast c0_i32_416
  let c48 : Index := 48#32
  ![v995.toNat, 0, 48]
def k0_off156 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1006 : Index := Scalar.indexCast arg16
  let c0_i32_419 : BitVec 32 := 0#32
  let v1007 : Index := Scalar.indexCast c0_i32_419
  let c64 : Index := 64#32
  ![v1006.toNat, 0, 64]
def k0_off157 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1017 : Index := Scalar.indexCast arg16
  let c0_i32_422 : BitVec 32 := 0#32
  let v1018 : Index := Scalar.indexCast c0_i32_422
  let c80 : Index := 80#32
  ![v1017.toNat, 0, 80]
def k0_off158 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1028 : Index := Scalar.indexCast arg16
  let c0_i32_425 : BitVec 32 := 0#32
  let v1029 : Index := Scalar.indexCast c0_i32_425
  let c96 : Index := 96#32
  ![v1028.toNat, 0, 96]
def k0_off159 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1039 : Index := Scalar.indexCast arg16
  let c0_i32_428 : BitVec 32 := 0#32
  let v1040 : Index := Scalar.indexCast c0_i32_428
  let c112 : Index := 112#32
  ![v1039.toNat, 0, 112]
def k0_off160 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1050 : Index := Scalar.indexCast arg16
  let c0_i32_431 : BitVec 32 := 0#32
  let v1051 : Index := Scalar.indexCast c0_i32_431
  let c128 : Index := 128#32
  ![v1050.toNat, 0, 128]
def k0_off161 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1061 : Index := Scalar.indexCast arg16
  let c0_i32_434 : BitVec 32 := 0#32
  let v1062 : Index := Scalar.indexCast c0_i32_434
  let c144 : Index := 144#32
  ![v1061.toNat, 0, 144]
def k0_off162 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1072 : Index := Scalar.indexCast arg16
  let c0_i32_437 : BitVec 32 := 0#32
  let v1073 : Index := Scalar.indexCast c0_i32_437
  let c160 : Index := 160#32
  ![v1072.toNat, 0, 160]
def k0_off163 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1083 : Index := Scalar.indexCast arg16
  let c0_i32_440 : BitVec 32 := 0#32
  let v1084 : Index := Scalar.indexCast c0_i32_440
  let c176 : Index := 176#32
  ![v1083.toNat, 0, 176]
def k0_off164 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1094 : Index := Scalar.indexCast arg16
  let c0_i32_443 : BitVec 32 := 0#32
  let v1095 : Index := Scalar.indexCast c0_i32_443
  let c192 : Index := 192#32
  ![v1094.toNat, 0, 192]
def k0_off165 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1105 : Index := Scalar.indexCast arg16
  let c0_i32_446 : BitVec 32 := 0#32
  let v1106 : Index := Scalar.indexCast c0_i32_446
  let c208 : Index := 208#32
  ![v1105.toNat, 0, 208]
def k0_off166 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1116 : Index := Scalar.indexCast arg16
  let c0_i32_449 : BitVec 32 := 0#32
  let v1117 : Index := Scalar.indexCast c0_i32_449
  let c224 : Index := 224#32
  ![v1116.toNat, 0, 224]
def k0_off167 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1127 : Index := Scalar.indexCast arg16
  let c0_i32_452 : BitVec 32 := 0#32
  let v1128 : Index := Scalar.indexCast c0_i32_452
  let c240 : Index := 240#32
  ![v1127.toNat, 0, 240]
def k0_off168 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1138 : Index := Scalar.indexCast arg16
  let c0_i32_455 : BitVec 32 := 0#32
  let v1139 : Index := Scalar.indexCast c0_i32_455
  let c256 : Index := 256#32
  ![v1138.toNat, 0, 256]
def k0_off169 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1149 : Index := Scalar.indexCast arg16
  let c0_i32_458 : BitVec 32 := 0#32
  let v1150 : Index := Scalar.indexCast c0_i32_458
  let c272 : Index := 272#32
  ![v1149.toNat, 0, 272]
def k0_off170 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1160 : Index := Scalar.indexCast arg16
  let c0_i32_461 : BitVec 32 := 0#32
  let v1161 : Index := Scalar.indexCast c0_i32_461
  let c288 : Index := 288#32
  ![v1160.toNat, 0, 288]
def k0_off171 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1171 : Index := Scalar.indexCast arg16
  let c0_i32_464 : BitVec 32 := 0#32
  let v1172 : Index := Scalar.indexCast c0_i32_464
  let c304 : Index := 304#32
  ![v1171.toNat, 0, 304]
def k0_off172 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1182 : Index := Scalar.indexCast arg16
  let c0_i32_467 : BitVec 32 := 0#32
  let v1183 : Index := Scalar.indexCast c0_i32_467
  let c320 : Index := 320#32
  ![v1182.toNat, 0, 320]
def k0_off173 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1193 : Index := Scalar.indexCast arg16
  let c0_i32_470 : BitVec 32 := 0#32
  let v1194 : Index := Scalar.indexCast c0_i32_470
  let c336 : Index := 336#32
  ![v1193.toNat, 0, 336]
def k0_off174 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1204 : Index := Scalar.indexCast arg16
  let c0_i32_473 : BitVec 32 := 0#32
  let v1205 : Index := Scalar.indexCast c0_i32_473
  let c352 : Index := 352#32
  ![v1204.toNat, 0, 352]
def k0_off175 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1215 : Index := Scalar.indexCast arg16
  let c0_i32_476 : BitVec 32 := 0#32
  let v1216 : Index := Scalar.indexCast c0_i32_476
  let c368 : Index := 368#32
  ![v1215.toNat, 0, 368]
def k0_off176 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1226 : Index := Scalar.indexCast arg16
  let c0_i32_479 : BitVec 32 := 0#32
  let v1227 : Index := Scalar.indexCast c0_i32_479
  let c384 : Index := 384#32
  ![v1226.toNat, 0, 384]
def k0_off177 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1237 : Index := Scalar.indexCast arg16
  let c0_i32_482 : BitVec 32 := 0#32
  let v1238 : Index := Scalar.indexCast c0_i32_482
  let c400 : Index := 400#32
  ![v1237.toNat, 0, 400]
def k0_off178 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1248 : Index := Scalar.indexCast arg16
  let c0_i32_485 : BitVec 32 := 0#32
  let v1249 : Index := Scalar.indexCast c0_i32_485
  let c416 : Index := 416#32
  ![v1248.toNat, 0, 416]
def k0_off179 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1259 : Index := Scalar.indexCast arg16
  let c0_i32_488 : BitVec 32 := 0#32
  let v1260 : Index := Scalar.indexCast c0_i32_488
  let c432 : Index := 432#32
  ![v1259.toNat, 0, 432]
def k0_off180 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1270 : Index := Scalar.indexCast arg16
  let c0_i32_491 : BitVec 32 := 0#32
  let v1271 : Index := Scalar.indexCast c0_i32_491
  let c448 : Index := 448#32
  ![v1270.toNat, 0, 448]
def k0_off181 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1281 : Index := Scalar.indexCast arg16
  let c0_i32_494 : BitVec 32 := 0#32
  let v1282 : Index := Scalar.indexCast c0_i32_494
  let c464 : Index := 464#32
  ![v1281.toNat, 0, 464]
def k0_off182 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1292 : Index := Scalar.indexCast arg16
  let c0_i32_497 : BitVec 32 := 0#32
  let v1293 : Index := Scalar.indexCast c0_i32_497
  let c480 : Index := 480#32
  ![v1292.toNat, 0, 480]
def k0_off183 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t8
  let v1303 : Index := Scalar.indexCast arg16
  let c0_i32_500 : BitVec 32 := 0#32
  let v1304 : Index := Scalar.indexCast c0_i32_500
  let c496 : Index := 496#32
  ![v1303.toNat, 0, 496]
@[reducible] def k0_t9_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) : Scf.Loop 32 :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let v956 : BitVec 32 := Scalar.addi v950 v955
  let c1_i32_405 : BitVec 32 := 1#32
  ⟨v959, v956, c1_i32_405⟩
def k0_off184 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v962 : Index := Scalar.indexCast arg16
  let c0_i32_406 : BitVec 32 := 0#32
  let v963 : Index := Scalar.indexCast c0_i32_406
  let c0_407 : Index := 0#32
  ![v962.toNat, 0, 0]
def k0_off185 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v973 : Index := Scalar.indexCast arg16
  let c0_i32_410 : BitVec 32 := 0#32
  let v974 : Index := Scalar.indexCast c0_i32_410
  let c16 : Index := 16#32
  ![v973.toNat, 0, 16]
def k0_off186 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v984 : Index := Scalar.indexCast arg16
  let c0_i32_413 : BitVec 32 := 0#32
  let v985 : Index := Scalar.indexCast c0_i32_413
  let c32 : Index := 32#32
  ![v984.toNat, 0, 32]
def k0_off187 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v995 : Index := Scalar.indexCast arg16
  let c0_i32_416 : BitVec 32 := 0#32
  let v996 : Index := Scalar.indexCast c0_i32_416
  let c48 : Index := 48#32
  ![v995.toNat, 0, 48]
def k0_off188 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1006 : Index := Scalar.indexCast arg16
  let c0_i32_419 : BitVec 32 := 0#32
  let v1007 : Index := Scalar.indexCast c0_i32_419
  let c64 : Index := 64#32
  ![v1006.toNat, 0, 64]
def k0_off189 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1017 : Index := Scalar.indexCast arg16
  let c0_i32_422 : BitVec 32 := 0#32
  let v1018 : Index := Scalar.indexCast c0_i32_422
  let c80 : Index := 80#32
  ![v1017.toNat, 0, 80]
def k0_off190 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1028 : Index := Scalar.indexCast arg16
  let c0_i32_425 : BitVec 32 := 0#32
  let v1029 : Index := Scalar.indexCast c0_i32_425
  let c96 : Index := 96#32
  ![v1028.toNat, 0, 96]
def k0_off191 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1039 : Index := Scalar.indexCast arg16
  let c0_i32_428 : BitVec 32 := 0#32
  let v1040 : Index := Scalar.indexCast c0_i32_428
  let c112 : Index := 112#32
  ![v1039.toNat, 0, 112]
def k0_off192 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1050 : Index := Scalar.indexCast arg16
  let c0_i32_431 : BitVec 32 := 0#32
  let v1051 : Index := Scalar.indexCast c0_i32_431
  let c128 : Index := 128#32
  ![v1050.toNat, 0, 128]
def k0_off193 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1061 : Index := Scalar.indexCast arg16
  let c0_i32_434 : BitVec 32 := 0#32
  let v1062 : Index := Scalar.indexCast c0_i32_434
  let c144 : Index := 144#32
  ![v1061.toNat, 0, 144]
def k0_off194 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1072 : Index := Scalar.indexCast arg16
  let c0_i32_437 : BitVec 32 := 0#32
  let v1073 : Index := Scalar.indexCast c0_i32_437
  let c160 : Index := 160#32
  ![v1072.toNat, 0, 160]
def k0_off195 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1083 : Index := Scalar.indexCast arg16
  let c0_i32_440 : BitVec 32 := 0#32
  let v1084 : Index := Scalar.indexCast c0_i32_440
  let c176 : Index := 176#32
  ![v1083.toNat, 0, 176]
def k0_off196 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1094 : Index := Scalar.indexCast arg16
  let c0_i32_443 : BitVec 32 := 0#32
  let v1095 : Index := Scalar.indexCast c0_i32_443
  let c192 : Index := 192#32
  ![v1094.toNat, 0, 192]
def k0_off197 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1105 : Index := Scalar.indexCast arg16
  let c0_i32_446 : BitVec 32 := 0#32
  let v1106 : Index := Scalar.indexCast c0_i32_446
  let c208 : Index := 208#32
  ![v1105.toNat, 0, 208]
def k0_off198 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1116 : Index := Scalar.indexCast arg16
  let c0_i32_449 : BitVec 32 := 0#32
  let v1117 : Index := Scalar.indexCast c0_i32_449
  let c224 : Index := 224#32
  ![v1116.toNat, 0, 224]
def k0_off199 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1127 : Index := Scalar.indexCast arg16
  let c0_i32_452 : BitVec 32 := 0#32
  let v1128 : Index := Scalar.indexCast c0_i32_452
  let c240 : Index := 240#32
  ![v1127.toNat, 0, 240]
def k0_off200 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1138 : Index := Scalar.indexCast arg16
  let c0_i32_455 : BitVec 32 := 0#32
  let v1139 : Index := Scalar.indexCast c0_i32_455
  let c256 : Index := 256#32
  ![v1138.toNat, 0, 256]
def k0_off201 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1149 : Index := Scalar.indexCast arg16
  let c0_i32_458 : BitVec 32 := 0#32
  let v1150 : Index := Scalar.indexCast c0_i32_458
  let c272 : Index := 272#32
  ![v1149.toNat, 0, 272]
def k0_off202 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1160 : Index := Scalar.indexCast arg16
  let c0_i32_461 : BitVec 32 := 0#32
  let v1161 : Index := Scalar.indexCast c0_i32_461
  let c288 : Index := 288#32
  ![v1160.toNat, 0, 288]
def k0_off203 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1171 : Index := Scalar.indexCast arg16
  let c0_i32_464 : BitVec 32 := 0#32
  let v1172 : Index := Scalar.indexCast c0_i32_464
  let c304 : Index := 304#32
  ![v1171.toNat, 0, 304]
def k0_off204 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1182 : Index := Scalar.indexCast arg16
  let c0_i32_467 : BitVec 32 := 0#32
  let v1183 : Index := Scalar.indexCast c0_i32_467
  let c320 : Index := 320#32
  ![v1182.toNat, 0, 320]
def k0_off205 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1193 : Index := Scalar.indexCast arg16
  let c0_i32_470 : BitVec 32 := 0#32
  let v1194 : Index := Scalar.indexCast c0_i32_470
  let c336 : Index := 336#32
  ![v1193.toNat, 0, 336]
def k0_off206 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1204 : Index := Scalar.indexCast arg16
  let c0_i32_473 : BitVec 32 := 0#32
  let v1205 : Index := Scalar.indexCast c0_i32_473
  let c352 : Index := 352#32
  ![v1204.toNat, 0, 352]
def k0_off207 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1215 : Index := Scalar.indexCast arg16
  let c0_i32_476 : BitVec 32 := 0#32
  let v1216 : Index := Scalar.indexCast c0_i32_476
  let c368 : Index := 368#32
  ![v1215.toNat, 0, 368]
def k0_off208 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1226 : Index := Scalar.indexCast arg16
  let c0_i32_479 : BitVec 32 := 0#32
  let v1227 : Index := Scalar.indexCast c0_i32_479
  let c384 : Index := 384#32
  ![v1226.toNat, 0, 384]
def k0_off209 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1237 : Index := Scalar.indexCast arg16
  let c0_i32_482 : BitVec 32 := 0#32
  let v1238 : Index := Scalar.indexCast c0_i32_482
  let c400 : Index := 400#32
  ![v1237.toNat, 0, 400]
def k0_off210 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1248 : Index := Scalar.indexCast arg16
  let c0_i32_485 : BitVec 32 := 0#32
  let v1249 : Index := Scalar.indexCast c0_i32_485
  let c416 : Index := 416#32
  ![v1248.toNat, 0, 416]
def k0_off211 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1259 : Index := Scalar.indexCast arg16
  let c0_i32_488 : BitVec 32 := 0#32
  let v1260 : Index := Scalar.indexCast c0_i32_488
  let c432 : Index := 432#32
  ![v1259.toNat, 0, 432]
def k0_off212 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1270 : Index := Scalar.indexCast arg16
  let c0_i32_491 : BitVec 32 := 0#32
  let v1271 : Index := Scalar.indexCast c0_i32_491
  let c448 : Index := 448#32
  ![v1270.toNat, 0, 448]
def k0_off213 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1281 : Index := Scalar.indexCast arg16
  let c0_i32_494 : BitVec 32 := 0#32
  let v1282 : Index := Scalar.indexCast c0_i32_494
  let c464 : Index := 464#32
  ![v1281.toNat, 0, 464]
def k0_off214 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1292 : Index := Scalar.indexCast arg16
  let c0_i32_497 : BitVec 32 := 0#32
  let v1293 : Index := Scalar.indexCast c0_i32_497
  let c480 : Index := 480#32
  ![v1292.toNat, 0, 480]
def k0_off215 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips) : Fin 3 → Nat :=
  let c0_i32_82 : BitVec 32 := 0#32
  let c1_i32_84 : BitVec 32 := 1#32
  let arg14 : BitVec 32 := Scf.iv c0_i32_82 c1_i32_84 k0_t7
  let c3_i32 : BitVec 32 := 3#32
  let v907 : BitVec 32 := Scalar.remsi arg14 c3_i32
  let c32_i32_401 : BitVec 32 := 32#32
  let v948 : BitVec 32 := Scalar.muli v907 c32_i32_401
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t9
  let v1303 : Index := Scalar.indexCast arg16
  let c0_i32_500 : BitVec 32 := 0#32
  let v1304 : Index := Scalar.indexCast c0_i32_500
  let c496 : Index := 496#32
  ![v1303.toNat, 0, 496]
@[reducible] def k0_t10_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let v233 : BitVec 32 := Scalar.addi c0_i32_82 v232
  let c1_i32_85 : BitVec 32 := 1#32
  ⟨v236, v233, c1_i32_85⟩
def k0_off216 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c2_i32_407 : BitVec 32 := 2#32
  let v963 : BitVec 32 := Scalar.addi arg14 c2_i32_407
  let c3_i32_408 : BitVec 32 := 3#32
  let v964 : BitVec 32 := Scalar.remsi v963 c3_i32_408
  let c32_i32_411 : BitVec 32 := 32#32
  let v968 : BitVec 32 := Scalar.muli v964 c32_i32_411
  let c0_i32_412 : BitVec 32 := 0#32
  let c0_i32_413 : BitVec 32 := 0#32
  ![v968.toNat, 0, 0]
def k0_cond8 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) : BitVec 1 :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c2_i32_376 : BitVec 32 := 2#32
  let v927 : BitVec 32 := Scalar.addi arg14 c2_i32_376
  let v908 : BitVec 32 := Scalar.subi v205 v203
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off217 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) : Fin 3 → Nat :=
  let c1024_i32_67 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let c0_i32_82 : BitVec 32 := 0#32
  let c1024_i32_68 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c2_i32_406 : BitVec 32 := 2#32
  let v962 : BitVec 32 := Scalar.addi arg14 c2_i32_406
  let c32_i32_409 : BitVec 32 := 32#32
  let v965 : BitVec 32 := Scalar.muli v962 c32_i32_409
  let v966 : BitVec 32 := Scalar.addi v203 v965
  let c2016_i32_410 : BitVec 32 := 2016#32
  let v967 : BitVec 32 := Scalar.minsi v966 c2016_i32_410
  let c1_i32_414 : BitVec 32 := 1#32
  let c0_i32_415 : BitVec 32 := 0#32
  ![v967.toNat, 1, 0]
def k0_off218 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) : Fin 1 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c2_i32_407 : BitVec 32 := 2#32
  let v963 : BitVec 32 := Scalar.addi arg14 c2_i32_407
  let c3_i32_408 : BitVec 32 := 3#32
  let v964 : BitVec 32 := Scalar.remsi v963 c3_i32_408
  ![v964.toNat]
def k0_off219 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off220 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) : Fin 1 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  ![v907.toNat]
@[reducible] def k0_t11_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) : Scf.Loop 32 :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_404 : BitVec 32 := 1#32
  ⟨v950, v959, c1_i32_404⟩
def k0_off221 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v962 : Index := Scalar.indexCast arg16
  let c0_i32_406 : BitVec 32 := 0#32
  let v963 : Index := Scalar.indexCast c0_i32_406
  let c0_407 : Index := 0#32
  ![v962.toNat, 0, 0]
def k0_off222 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v973 : Index := Scalar.indexCast arg16
  let c0_i32_410 : BitVec 32 := 0#32
  let v974 : Index := Scalar.indexCast c0_i32_410
  let c16 : Index := 16#32
  ![v973.toNat, 0, 16]
def k0_off223 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v984 : Index := Scalar.indexCast arg16
  let c0_i32_413 : BitVec 32 := 0#32
  let v985 : Index := Scalar.indexCast c0_i32_413
  let c32 : Index := 32#32
  ![v984.toNat, 0, 32]

variable {F : FTy → Type} [FloatOps F]

def k0_off224 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v995 : Index := Scalar.indexCast arg16
  let c0_i32_416 : BitVec 32 := 0#32
  let v996 : Index := Scalar.indexCast c0_i32_416
  let c48 : Index := 48#32
  ![v995.toNat, 0, 48]
def k0_off225 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1006 : Index := Scalar.indexCast arg16
  let c0_i32_419 : BitVec 32 := 0#32
  let v1007 : Index := Scalar.indexCast c0_i32_419
  let c64 : Index := 64#32
  ![v1006.toNat, 0, 64]
def k0_off226 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1017 : Index := Scalar.indexCast arg16
  let c0_i32_422 : BitVec 32 := 0#32
  let v1018 : Index := Scalar.indexCast c0_i32_422
  let c80 : Index := 80#32
  ![v1017.toNat, 0, 80]
def k0_off227 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1028 : Index := Scalar.indexCast arg16
  let c0_i32_425 : BitVec 32 := 0#32
  let v1029 : Index := Scalar.indexCast c0_i32_425
  let c96 : Index := 96#32
  ![v1028.toNat, 0, 96]
def k0_off228 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1039 : Index := Scalar.indexCast arg16
  let c0_i32_428 : BitVec 32 := 0#32
  let v1040 : Index := Scalar.indexCast c0_i32_428
  let c112 : Index := 112#32
  ![v1039.toNat, 0, 112]
def k0_off229 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1050 : Index := Scalar.indexCast arg16
  let c0_i32_431 : BitVec 32 := 0#32
  let v1051 : Index := Scalar.indexCast c0_i32_431
  let c128 : Index := 128#32
  ![v1050.toNat, 0, 128]
def k0_off230 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1061 : Index := Scalar.indexCast arg16
  let c0_i32_434 : BitVec 32 := 0#32
  let v1062 : Index := Scalar.indexCast c0_i32_434
  let c144 : Index := 144#32
  ![v1061.toNat, 0, 144]
def k0_off231 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1072 : Index := Scalar.indexCast arg16
  let c0_i32_437 : BitVec 32 := 0#32
  let v1073 : Index := Scalar.indexCast c0_i32_437
  let c160 : Index := 160#32
  ![v1072.toNat, 0, 160]
def k0_off232 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1083 : Index := Scalar.indexCast arg16
  let c0_i32_440 : BitVec 32 := 0#32
  let v1084 : Index := Scalar.indexCast c0_i32_440
  let c176 : Index := 176#32
  ![v1083.toNat, 0, 176]
def k0_off233 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1094 : Index := Scalar.indexCast arg16
  let c0_i32_443 : BitVec 32 := 0#32
  let v1095 : Index := Scalar.indexCast c0_i32_443
  let c192 : Index := 192#32
  ![v1094.toNat, 0, 192]
def k0_off234 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1105 : Index := Scalar.indexCast arg16
  let c0_i32_446 : BitVec 32 := 0#32
  let v1106 : Index := Scalar.indexCast c0_i32_446
  let c208 : Index := 208#32
  ![v1105.toNat, 0, 208]
def k0_off235 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1116 : Index := Scalar.indexCast arg16
  let c0_i32_449 : BitVec 32 := 0#32
  let v1117 : Index := Scalar.indexCast c0_i32_449
  let c224 : Index := 224#32
  ![v1116.toNat, 0, 224]
def k0_off236 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1127 : Index := Scalar.indexCast arg16
  let c0_i32_452 : BitVec 32 := 0#32
  let v1128 : Index := Scalar.indexCast c0_i32_452
  let c240 : Index := 240#32
  ![v1127.toNat, 0, 240]
def k0_off237 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1138 : Index := Scalar.indexCast arg16
  let c0_i32_455 : BitVec 32 := 0#32
  let v1139 : Index := Scalar.indexCast c0_i32_455
  let c256 : Index := 256#32
  ![v1138.toNat, 0, 256]
def k0_off238 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1149 : Index := Scalar.indexCast arg16
  let c0_i32_458 : BitVec 32 := 0#32
  let v1150 : Index := Scalar.indexCast c0_i32_458
  let c272 : Index := 272#32
  ![v1149.toNat, 0, 272]
def k0_off239 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1160 : Index := Scalar.indexCast arg16
  let c0_i32_461 : BitVec 32 := 0#32
  let v1161 : Index := Scalar.indexCast c0_i32_461
  let c288 : Index := 288#32
  ![v1160.toNat, 0, 288]
def k0_off240 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1171 : Index := Scalar.indexCast arg16
  let c0_i32_464 : BitVec 32 := 0#32
  let v1172 : Index := Scalar.indexCast c0_i32_464
  let c304 : Index := 304#32
  ![v1171.toNat, 0, 304]
def k0_off241 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1182 : Index := Scalar.indexCast arg16
  let c0_i32_467 : BitVec 32 := 0#32
  let v1183 : Index := Scalar.indexCast c0_i32_467
  let c320 : Index := 320#32
  ![v1182.toNat, 0, 320]
def k0_off242 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1193 : Index := Scalar.indexCast arg16
  let c0_i32_470 : BitVec 32 := 0#32
  let v1194 : Index := Scalar.indexCast c0_i32_470
  let c336 : Index := 336#32
  ![v1193.toNat, 0, 336]
def k0_off243 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1204 : Index := Scalar.indexCast arg16
  let c0_i32_473 : BitVec 32 := 0#32
  let v1205 : Index := Scalar.indexCast c0_i32_473
  let c352 : Index := 352#32
  ![v1204.toNat, 0, 352]
def k0_off244 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1215 : Index := Scalar.indexCast arg16
  let c0_i32_476 : BitVec 32 := 0#32
  let v1216 : Index := Scalar.indexCast c0_i32_476
  let c368 : Index := 368#32
  ![v1215.toNat, 0, 368]
def k0_off245 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1226 : Index := Scalar.indexCast arg16
  let c0_i32_479 : BitVec 32 := 0#32
  let v1227 : Index := Scalar.indexCast c0_i32_479
  let c384 : Index := 384#32
  ![v1226.toNat, 0, 384]
def k0_off246 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1237 : Index := Scalar.indexCast arg16
  let c0_i32_482 : BitVec 32 := 0#32
  let v1238 : Index := Scalar.indexCast c0_i32_482
  let c400 : Index := 400#32
  ![v1237.toNat, 0, 400]
def k0_off247 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1248 : Index := Scalar.indexCast arg16
  let c0_i32_485 : BitVec 32 := 0#32
  let v1249 : Index := Scalar.indexCast c0_i32_485
  let c416 : Index := 416#32
  ![v1248.toNat, 0, 416]
def k0_off248 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1259 : Index := Scalar.indexCast arg16
  let c0_i32_488 : BitVec 32 := 0#32
  let v1260 : Index := Scalar.indexCast c0_i32_488
  let c432 : Index := 432#32
  ![v1259.toNat, 0, 432]
def k0_off249 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1270 : Index := Scalar.indexCast arg16
  let c0_i32_491 : BitVec 32 := 0#32
  let v1271 : Index := Scalar.indexCast c0_i32_491
  let c448 : Index := 448#32
  ![v1270.toNat, 0, 448]
def k0_off250 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1281 : Index := Scalar.indexCast arg16
  let c0_i32_494 : BitVec 32 := 0#32
  let v1282 : Index := Scalar.indexCast c0_i32_494
  let c464 : Index := 464#32
  ![v1281.toNat, 0, 464]
def k0_off251 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1292 : Index := Scalar.indexCast arg16
  let c0_i32_497 : BitVec 32 := 0#32
  let v1293 : Index := Scalar.indexCast c0_i32_497
  let c480 : Index := 480#32
  ![v1292.toNat, 0, 480]
def k0_off252 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t11
  let v1303 : Index := Scalar.indexCast arg16
  let c0_i32_500 : BitVec 32 := 0#32
  let v1304 : Index := Scalar.indexCast c0_i32_500
  let c496 : Index := 496#32
  ![v1303.toNat, 0, 496]
@[reducible] def k0_t12_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) : Scf.Loop 32 :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let v956 : BitVec 32 := Scalar.addi v950 v955
  let c1_i32_405 : BitVec 32 := 1#32
  ⟨v959, v956, c1_i32_405⟩
def k0_off253 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v962 : Index := Scalar.indexCast arg16
  let c0_i32_406 : BitVec 32 := 0#32
  let v963 : Index := Scalar.indexCast c0_i32_406
  let c0_407 : Index := 0#32
  ![v962.toNat, 0, 0]
def k0_off254 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v973 : Index := Scalar.indexCast arg16
  let c0_i32_410 : BitVec 32 := 0#32
  let v974 : Index := Scalar.indexCast c0_i32_410
  let c16 : Index := 16#32
  ![v973.toNat, 0, 16]
def k0_off255 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v984 : Index := Scalar.indexCast arg16
  let c0_i32_413 : BitVec 32 := 0#32
  let v985 : Index := Scalar.indexCast c0_i32_413
  let c32 : Index := 32#32
  ![v984.toNat, 0, 32]
def k0_off256 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v995 : Index := Scalar.indexCast arg16
  let c0_i32_416 : BitVec 32 := 0#32
  let v996 : Index := Scalar.indexCast c0_i32_416
  let c48 : Index := 48#32
  ![v995.toNat, 0, 48]
def k0_off257 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1006 : Index := Scalar.indexCast arg16
  let c0_i32_419 : BitVec 32 := 0#32
  let v1007 : Index := Scalar.indexCast c0_i32_419
  let c64 : Index := 64#32
  ![v1006.toNat, 0, 64]
def k0_off258 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1017 : Index := Scalar.indexCast arg16
  let c0_i32_422 : BitVec 32 := 0#32
  let v1018 : Index := Scalar.indexCast c0_i32_422
  let c80 : Index := 80#32
  ![v1017.toNat, 0, 80]
def k0_off259 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1028 : Index := Scalar.indexCast arg16
  let c0_i32_425 : BitVec 32 := 0#32
  let v1029 : Index := Scalar.indexCast c0_i32_425
  let c96 : Index := 96#32
  ![v1028.toNat, 0, 96]
def k0_off260 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1039 : Index := Scalar.indexCast arg16
  let c0_i32_428 : BitVec 32 := 0#32
  let v1040 : Index := Scalar.indexCast c0_i32_428
  let c112 : Index := 112#32
  ![v1039.toNat, 0, 112]
def k0_off261 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1050 : Index := Scalar.indexCast arg16
  let c0_i32_431 : BitVec 32 := 0#32
  let v1051 : Index := Scalar.indexCast c0_i32_431
  let c128 : Index := 128#32
  ![v1050.toNat, 0, 128]
def k0_off262 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1061 : Index := Scalar.indexCast arg16
  let c0_i32_434 : BitVec 32 := 0#32
  let v1062 : Index := Scalar.indexCast c0_i32_434
  let c144 : Index := 144#32
  ![v1061.toNat, 0, 144]
def k0_off263 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1072 : Index := Scalar.indexCast arg16
  let c0_i32_437 : BitVec 32 := 0#32
  let v1073 : Index := Scalar.indexCast c0_i32_437
  let c160 : Index := 160#32
  ![v1072.toNat, 0, 160]
def k0_off264 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1083 : Index := Scalar.indexCast arg16
  let c0_i32_440 : BitVec 32 := 0#32
  let v1084 : Index := Scalar.indexCast c0_i32_440
  let c176 : Index := 176#32
  ![v1083.toNat, 0, 176]
def k0_off265 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1094 : Index := Scalar.indexCast arg16
  let c0_i32_443 : BitVec 32 := 0#32
  let v1095 : Index := Scalar.indexCast c0_i32_443
  let c192 : Index := 192#32
  ![v1094.toNat, 0, 192]
def k0_off266 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1105 : Index := Scalar.indexCast arg16
  let c0_i32_446 : BitVec 32 := 0#32
  let v1106 : Index := Scalar.indexCast c0_i32_446
  let c208 : Index := 208#32
  ![v1105.toNat, 0, 208]
def k0_off267 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1116 : Index := Scalar.indexCast arg16
  let c0_i32_449 : BitVec 32 := 0#32
  let v1117 : Index := Scalar.indexCast c0_i32_449
  let c224 : Index := 224#32
  ![v1116.toNat, 0, 224]
def k0_off268 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1127 : Index := Scalar.indexCast arg16
  let c0_i32_452 : BitVec 32 := 0#32
  let v1128 : Index := Scalar.indexCast c0_i32_452
  let c240 : Index := 240#32
  ![v1127.toNat, 0, 240]
def k0_off269 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1138 : Index := Scalar.indexCast arg16
  let c0_i32_455 : BitVec 32 := 0#32
  let v1139 : Index := Scalar.indexCast c0_i32_455
  let c256 : Index := 256#32
  ![v1138.toNat, 0, 256]
def k0_off270 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1149 : Index := Scalar.indexCast arg16
  let c0_i32_458 : BitVec 32 := 0#32
  let v1150 : Index := Scalar.indexCast c0_i32_458
  let c272 : Index := 272#32
  ![v1149.toNat, 0, 272]
def k0_off271 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1160 : Index := Scalar.indexCast arg16
  let c0_i32_461 : BitVec 32 := 0#32
  let v1161 : Index := Scalar.indexCast c0_i32_461
  let c288 : Index := 288#32
  ![v1160.toNat, 0, 288]
def k0_off272 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1171 : Index := Scalar.indexCast arg16
  let c0_i32_464 : BitVec 32 := 0#32
  let v1172 : Index := Scalar.indexCast c0_i32_464
  let c304 : Index := 304#32
  ![v1171.toNat, 0, 304]
def k0_off273 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1182 : Index := Scalar.indexCast arg16
  let c0_i32_467 : BitVec 32 := 0#32
  let v1183 : Index := Scalar.indexCast c0_i32_467
  let c320 : Index := 320#32
  ![v1182.toNat, 0, 320]
def k0_off274 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1193 : Index := Scalar.indexCast arg16
  let c0_i32_470 : BitVec 32 := 0#32
  let v1194 : Index := Scalar.indexCast c0_i32_470
  let c336 : Index := 336#32
  ![v1193.toNat, 0, 336]
def k0_off275 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1204 : Index := Scalar.indexCast arg16
  let c0_i32_473 : BitVec 32 := 0#32
  let v1205 : Index := Scalar.indexCast c0_i32_473
  let c352 : Index := 352#32
  ![v1204.toNat, 0, 352]
def k0_off276 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1215 : Index := Scalar.indexCast arg16
  let c0_i32_476 : BitVec 32 := 0#32
  let v1216 : Index := Scalar.indexCast c0_i32_476
  let c368 : Index := 368#32
  ![v1215.toNat, 0, 368]
def k0_off277 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1226 : Index := Scalar.indexCast arg16
  let c0_i32_479 : BitVec 32 := 0#32
  let v1227 : Index := Scalar.indexCast c0_i32_479
  let c384 : Index := 384#32
  ![v1226.toNat, 0, 384]
def k0_off278 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1237 : Index := Scalar.indexCast arg16
  let c0_i32_482 : BitVec 32 := 0#32
  let v1238 : Index := Scalar.indexCast c0_i32_482
  let c400 : Index := 400#32
  ![v1237.toNat, 0, 400]
def k0_off279 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1248 : Index := Scalar.indexCast arg16
  let c0_i32_485 : BitVec 32 := 0#32
  let v1249 : Index := Scalar.indexCast c0_i32_485
  let c416 : Index := 416#32
  ![v1248.toNat, 0, 416]
def k0_off280 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1259 : Index := Scalar.indexCast arg16
  let c0_i32_488 : BitVec 32 := 0#32
  let v1260 : Index := Scalar.indexCast c0_i32_488
  let c432 : Index := 432#32
  ![v1259.toNat, 0, 432]
def k0_off281 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1270 : Index := Scalar.indexCast arg16
  let c0_i32_491 : BitVec 32 := 0#32
  let v1271 : Index := Scalar.indexCast c0_i32_491
  let c448 : Index := 448#32
  ![v1270.toNat, 0, 448]
def k0_off282 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1281 : Index := Scalar.indexCast arg16
  let c0_i32_494 : BitVec 32 := 0#32
  let v1282 : Index := Scalar.indexCast c0_i32_494
  let c464 : Index := 464#32
  ![v1281.toNat, 0, 464]
def k0_off283 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1292 : Index := Scalar.indexCast arg16
  let c0_i32_497 : BitVec 32 := 0#32
  let v1293 : Index := Scalar.indexCast c0_i32_497
  let c480 : Index := 480#32
  ![v1292.toNat, 0, 480]
def k0_off284 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips) : Fin 3 → Nat :=
  let c0_i32_82 : BitVec 32 := 0#32
  let c1024_i32_68 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v200 : BitVec 32 := Scalar.addi v98 v69
  let v201 : BitVec 32 := Scalar.minsi v150 v200
  let v204 : BitVec 32 := Scalar.subi v201 v98
  let v205 : BitVec 32 := Scalar.addi c1024_i32_68 v204
  let c1024_i32_67 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v199 : BitVec 32 := Scalar.maxsi v131 v98
  let v202 : BitVec 32 := Scalar.subi v199 v98
  let v203 : BitVec 32 := Scalar.addi c1024_i32_67 v202
  let v206 : BitVec 32 := Scalar.subi v205 v203
  let c31_i32_69 : BitVec 32 := 31#32
  let v207 : BitVec 32 := Scalar.addi v206 c31_i32_69
  let c0_i32_71 : BitVec 32 := 0#32
  let v209 : BitVec 1 := Scalar.cmpi .sgt v207 c0_i32_71
  let v210 : BitVec 32 := Scalar.extui v209
  let c0_i32_72 : BitVec 32 := 0#32
  let v211 : BitVec 1 := Scalar.cmpi .slt v207 c0_i32_72
  let v212 : BitVec 32 := Scalar.extui v211
  let v213 : BitVec 32 := Scalar.subi v210 v212
  let c32_i32_70 : BitVec 32 := 32#32
  let c0_i32_73 : BitVec 32 := 0#32
  let v214 : BitVec 1 := Scalar.cmpi .sgt c32_i32_70 c0_i32_73
  let v215 : BitVec 32 := Scalar.extui v214
  let c0_i32_74 : BitVec 32 := 0#32
  let v216 : BitVec 1 := Scalar.cmpi .slt c32_i32_70 c0_i32_74
  let v217 : BitVec 32 := Scalar.extui v216
  let v218 : BitVec 32 := Scalar.subi v215 v217
  let v219 : BitVec 1 := Scalar.cmpi .ne v213 v218
  let v220 : BitVec 32 := Scalar.remsi v207 c32_i32_70
  let c0_i32_75 : BitVec 32 := 0#32
  let v221 : BitVec 1 := Scalar.cmpi .ne v220 c0_i32_75
  let v222 : BitVec 1 := Scalar.andi v219 v221
  let v208 : BitVec 32 := Scalar.divsi v207 c32_i32_70
  let c1_i32_76 : BitVec 32 := 1#32
  let v223 : BitVec 32 := Scalar.subi v208 c1_i32_76
  let v224 : BitVec 32 := Scalar.select v222 v223 v208
  let v232 : BitVec 32 := Scalar.subi v224 c0_i32_82
  let c1_i32_83 : BitVec 32 := 1#32
  let v234 : BitVec 32 := Scalar.divsi v232 c1_i32_83
  let v235 : BitVec 32 := Scalar.muli v234 c1_i32_83
  let v236 : BitVec 32 := Scalar.addi c0_i32_82 v235
  let c1_i32_85 : BitVec 32 := 1#32
  let arg14 : BitVec 32 := Scf.iv v236 c1_i32_85 k0_t10
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v203 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v205 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t12
  let v1303 : Index := Scalar.indexCast arg16
  let c0_i32_500 : BitVec 32 := 0#32
  let v1304 : Index := Scalar.indexCast c0_i32_500
  let c496 : Index := 496#32
  ![v1303.toNat, 0, 496]
def k0_off285 : Fin 3 → Nat :=
  let c0_i32_370 : BitVec 32 := 0#32
  let c32_i32_371 : BitVec 32 := 32#32
  let v910 : BitVec 32 := Scalar.muli c0_i32_370 c32_i32_371
  let c0_i32_373 : BitVec 32 := 0#32
  let c0_i32_374 : BitVec 32 := 0#32
  ![v910.toNat, 0, 0]
def k0_off286 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c0_i32_368 : BitVec 32 := 0#32
  let c32_i32_369 : BitVec 32 := 32#32
  let v907 : BitVec 32 := Scalar.muli c0_i32_368 c32_i32_369
  let v908 : BitVec 32 := Scalar.addi v250 v907
  let c2016_i32 : BitVec 32 := 2016#32
  let v909 : BitVec 32 := Scalar.minsi v908 c2016_i32
  let c2_i32_375 : BitVec 32 := 2#32
  let c0_i32_376 : BitVec 32 := 0#32
  ![v909.toNat, 2, 0]
def k0_cond9 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let c0_i32_97 : BitVec 32 := 0#32
  let v272 : BitVec 1 := Scalar.cmpi .sgt v271 c0_i32_97
  let v273 : BitVec 32 := Scalar.extui v272
  let c0_i32_98 : BitVec 32 := 0#32
  let v274 : BitVec 1 := Scalar.cmpi .ne v273 c0_i32_98
  v274

def k0_off287 : Fin 3 → Nat :=
  let c1_i32_370 : BitVec 32 := 1#32
  let c32_i32_371 : BitVec 32 := 32#32
  let v910 : BitVec 32 := Scalar.muli c1_i32_370 c32_i32_371
  let c0_i32_373 : BitVec 32 := 0#32
  let c0_i32_374 : BitVec 32 := 0#32
  ![v910.toNat, 0, 0]
def k0_off288 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c1_i32_368 : BitVec 32 := 1#32
  let c32_i32_369 : BitVec 32 := 32#32
  let v907 : BitVec 32 := Scalar.muli c1_i32_368 c32_i32_369
  let v908 : BitVec 32 := Scalar.addi v250 v907
  let c2016_i32 : BitVec 32 := 2016#32
  let v909 : BitVec 32 := Scalar.minsi v908 c2016_i32
  let c2_i32_375 : BitVec 32 := 2#32
  let c0_i32_376 : BitVec 32 := 0#32
  ![v909.toNat, 2, 0]
def k0_cond10 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let c1_i32_99 : BitVec 32 := 1#32
  let v275 : BitVec 1 := Scalar.cmpi .sgt v271 c1_i32_99
  let v276 : BitVec 32 := Scalar.extui v275
  let c0_i32_100 : BitVec 32 := 0#32
  let v277 : BitVec 1 := Scalar.cmpi .ne v276 c0_i32_100
  v277

@[reducible] def k0_t13_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_104 : BitVec 32 := 1#32
  ⟨c0_i32_102, v283, c1_i32_104⟩
def k0_off289 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) : Fin 3 → Nat :=
  let c0_i32_102 : BitVec 32 := 0#32
  let c1_i32_104 : BitVec 32 := 1#32
  let arg14 : BitVec 32 := Scf.iv c0_i32_102 c1_i32_104 k0_t13
  let c2_i32_407 : BitVec 32 := 2#32
  let v963 : BitVec 32 := Scalar.addi arg14 c2_i32_407
  let c3_i32_408 : BitVec 32 := 3#32
  let v964 : BitVec 32 := Scalar.remsi v963 c3_i32_408
  let c32_i32_411 : BitVec 32 := 32#32
  let v968 : BitVec 32 := Scalar.muli v964 c32_i32_411
  let c0_i32_412 : BitVec 32 := 0#32
  let c0_i32_413 : BitVec 32 := 0#32
  ![v968.toNat, 0, 0]
def k0_cond11 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) : BitVec 1 :=
  let c0_i32_102 : BitVec 32 := 0#32
  let c1_i32_104 : BitVec 32 := 1#32
  let arg14 : BitVec 32 := Scf.iv c0_i32_102 c1_i32_104 k0_t13
  let c2_i32_376 : BitVec 32 := 2#32
  let v927 : BitVec 32 := Scalar.addi arg14 c2_i32_376
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v908 : BitVec 32 := Scalar.subi v252 v250
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off290 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) : Fin 3 → Nat :=
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c0_i32_102 : BitVec 32 := 0#32
  let c1_i32_104 : BitVec 32 := 1#32
  let arg14 : BitVec 32 := Scf.iv c0_i32_102 c1_i32_104 k0_t13
  let c2_i32_406 : BitVec 32 := 2#32
  let v962 : BitVec 32 := Scalar.addi arg14 c2_i32_406
  let c32_i32_409 : BitVec 32 := 32#32
  let v965 : BitVec 32 := Scalar.muli v962 c32_i32_409
  let v966 : BitVec 32 := Scalar.addi v250 v965
  let c2016_i32_410 : BitVec 32 := 2016#32
  let v967 : BitVec 32 := Scalar.minsi v966 c2016_i32_410
  let c2_i32_414 : BitVec 32 := 2#32
  let c0_i32_415 : BitVec 32 := 0#32
  ![v967.toNat, 2, 0]
def k0_off291 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) : Fin 1 → Nat :=
  let c0_i32_102 : BitVec 32 := 0#32
  let c1_i32_104 : BitVec 32 := 1#32
  let arg14 : BitVec 32 := Scf.iv c0_i32_102 c1_i32_104 k0_t13
  let c2_i32_407 : BitVec 32 := 2#32
  let v963 : BitVec 32 := Scalar.addi arg14 c2_i32_407
  let c3_i32_408 : BitVec 32 := 3#32
  let v964 : BitVec 32 := Scalar.remsi v963 c3_i32_408
  ![v964.toNat]
def k0_off292 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off293 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) : Fin 1 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  ![v907.toNat]
@[reducible] def k0_t14_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) : Scf.Loop 32 :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_404 : BitVec 32 := 1#32
  ⟨v950, v959, c1_i32_404⟩
def k0_off294 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v962 : Index := Scalar.indexCast arg16
  let c0_i32_406 : BitVec 32 := 0#32
  let v963 : Index := Scalar.indexCast c0_i32_406
  let c0_407 : Index := 0#32
  ![v962.toNat, 0, 0]
def k0_off295 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v973 : Index := Scalar.indexCast arg16
  let c0_i32_410 : BitVec 32 := 0#32
  let v974 : Index := Scalar.indexCast c0_i32_410
  let c16 : Index := 16#32
  ![v973.toNat, 0, 16]
def k0_off296 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v984 : Index := Scalar.indexCast arg16
  let c0_i32_413 : BitVec 32 := 0#32
  let v985 : Index := Scalar.indexCast c0_i32_413
  let c32 : Index := 32#32
  ![v984.toNat, 0, 32]
def k0_off297 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v995 : Index := Scalar.indexCast arg16
  let c0_i32_416 : BitVec 32 := 0#32
  let v996 : Index := Scalar.indexCast c0_i32_416
  let c48 : Index := 48#32
  ![v995.toNat, 0, 48]
def k0_off298 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1006 : Index := Scalar.indexCast arg16
  let c0_i32_419 : BitVec 32 := 0#32
  let v1007 : Index := Scalar.indexCast c0_i32_419
  let c64 : Index := 64#32
  ![v1006.toNat, 0, 64]
def k0_off299 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1017 : Index := Scalar.indexCast arg16
  let c0_i32_422 : BitVec 32 := 0#32
  let v1018 : Index := Scalar.indexCast c0_i32_422
  let c80 : Index := 80#32
  ![v1017.toNat, 0, 80]
def k0_off300 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1028 : Index := Scalar.indexCast arg16
  let c0_i32_425 : BitVec 32 := 0#32
  let v1029 : Index := Scalar.indexCast c0_i32_425
  let c96 : Index := 96#32
  ![v1028.toNat, 0, 96]
def k0_off301 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1039 : Index := Scalar.indexCast arg16
  let c0_i32_428 : BitVec 32 := 0#32
  let v1040 : Index := Scalar.indexCast c0_i32_428
  let c112 : Index := 112#32
  ![v1039.toNat, 0, 112]
def k0_off302 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1050 : Index := Scalar.indexCast arg16
  let c0_i32_431 : BitVec 32 := 0#32
  let v1051 : Index := Scalar.indexCast c0_i32_431
  let c128 : Index := 128#32
  ![v1050.toNat, 0, 128]
def k0_off303 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1061 : Index := Scalar.indexCast arg16
  let c0_i32_434 : BitVec 32 := 0#32
  let v1062 : Index := Scalar.indexCast c0_i32_434
  let c144 : Index := 144#32
  ![v1061.toNat, 0, 144]
def k0_off304 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1072 : Index := Scalar.indexCast arg16
  let c0_i32_437 : BitVec 32 := 0#32
  let v1073 : Index := Scalar.indexCast c0_i32_437
  let c160 : Index := 160#32
  ![v1072.toNat, 0, 160]
def k0_off305 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1083 : Index := Scalar.indexCast arg16
  let c0_i32_440 : BitVec 32 := 0#32
  let v1084 : Index := Scalar.indexCast c0_i32_440
  let c176 : Index := 176#32
  ![v1083.toNat, 0, 176]
def k0_off306 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1094 : Index := Scalar.indexCast arg16
  let c0_i32_443 : BitVec 32 := 0#32
  let v1095 : Index := Scalar.indexCast c0_i32_443
  let c192 : Index := 192#32
  ![v1094.toNat, 0, 192]
def k0_off307 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1105 : Index := Scalar.indexCast arg16
  let c0_i32_446 : BitVec 32 := 0#32
  let v1106 : Index := Scalar.indexCast c0_i32_446
  let c208 : Index := 208#32
  ![v1105.toNat, 0, 208]
def k0_off308 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1116 : Index := Scalar.indexCast arg16
  let c0_i32_449 : BitVec 32 := 0#32
  let v1117 : Index := Scalar.indexCast c0_i32_449
  let c224 : Index := 224#32
  ![v1116.toNat, 0, 224]
def k0_off309 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1127 : Index := Scalar.indexCast arg16
  let c0_i32_452 : BitVec 32 := 0#32
  let v1128 : Index := Scalar.indexCast c0_i32_452
  let c240 : Index := 240#32
  ![v1127.toNat, 0, 240]
def k0_off310 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1138 : Index := Scalar.indexCast arg16
  let c0_i32_455 : BitVec 32 := 0#32
  let v1139 : Index := Scalar.indexCast c0_i32_455
  let c256 : Index := 256#32
  ![v1138.toNat, 0, 256]
def k0_off311 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1149 : Index := Scalar.indexCast arg16
  let c0_i32_458 : BitVec 32 := 0#32
  let v1150 : Index := Scalar.indexCast c0_i32_458
  let c272 : Index := 272#32
  ![v1149.toNat, 0, 272]
def k0_off312 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1160 : Index := Scalar.indexCast arg16
  let c0_i32_461 : BitVec 32 := 0#32
  let v1161 : Index := Scalar.indexCast c0_i32_461
  let c288 : Index := 288#32
  ![v1160.toNat, 0, 288]
def k0_off313 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1171 : Index := Scalar.indexCast arg16
  let c0_i32_464 : BitVec 32 := 0#32
  let v1172 : Index := Scalar.indexCast c0_i32_464
  let c304 : Index := 304#32
  ![v1171.toNat, 0, 304]
def k0_off314 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1182 : Index := Scalar.indexCast arg16
  let c0_i32_467 : BitVec 32 := 0#32
  let v1183 : Index := Scalar.indexCast c0_i32_467
  let c320 : Index := 320#32
  ![v1182.toNat, 0, 320]
def k0_off315 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1193 : Index := Scalar.indexCast arg16
  let c0_i32_470 : BitVec 32 := 0#32
  let v1194 : Index := Scalar.indexCast c0_i32_470
  let c336 : Index := 336#32
  ![v1193.toNat, 0, 336]
def k0_off316 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1204 : Index := Scalar.indexCast arg16
  let c0_i32_473 : BitVec 32 := 0#32
  let v1205 : Index := Scalar.indexCast c0_i32_473
  let c352 : Index := 352#32
  ![v1204.toNat, 0, 352]
def k0_off317 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1215 : Index := Scalar.indexCast arg16
  let c0_i32_476 : BitVec 32 := 0#32
  let v1216 : Index := Scalar.indexCast c0_i32_476
  let c368 : Index := 368#32
  ![v1215.toNat, 0, 368]
def k0_off318 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1226 : Index := Scalar.indexCast arg16
  let c0_i32_479 : BitVec 32 := 0#32
  let v1227 : Index := Scalar.indexCast c0_i32_479
  let c384 : Index := 384#32
  ![v1226.toNat, 0, 384]
def k0_off319 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1237 : Index := Scalar.indexCast arg16
  let c0_i32_482 : BitVec 32 := 0#32
  let v1238 : Index := Scalar.indexCast c0_i32_482
  let c400 : Index := 400#32
  ![v1237.toNat, 0, 400]
def k0_off320 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1248 : Index := Scalar.indexCast arg16
  let c0_i32_485 : BitVec 32 := 0#32
  let v1249 : Index := Scalar.indexCast c0_i32_485
  let c416 : Index := 416#32
  ![v1248.toNat, 0, 416]
def k0_off321 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1259 : Index := Scalar.indexCast arg16
  let c0_i32_488 : BitVec 32 := 0#32
  let v1260 : Index := Scalar.indexCast c0_i32_488
  let c432 : Index := 432#32
  ![v1259.toNat, 0, 432]
def k0_off322 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1270 : Index := Scalar.indexCast arg16
  let c0_i32_491 : BitVec 32 := 0#32
  let v1271 : Index := Scalar.indexCast c0_i32_491
  let c448 : Index := 448#32
  ![v1270.toNat, 0, 448]
def k0_off323 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1281 : Index := Scalar.indexCast arg16
  let c0_i32_494 : BitVec 32 := 0#32
  let v1282 : Index := Scalar.indexCast c0_i32_494
  let c464 : Index := 464#32
  ![v1281.toNat, 0, 464]
def k0_off324 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1292 : Index := Scalar.indexCast arg16
  let c0_i32_497 : BitVec 32 := 0#32
  let v1293 : Index := Scalar.indexCast c0_i32_497
  let c480 : Index := 480#32
  ![v1292.toNat, 0, 480]
def k0_off325 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t14
  let v1303 : Index := Scalar.indexCast arg16
  let c0_i32_500 : BitVec 32 := 0#32
  let v1304 : Index := Scalar.indexCast c0_i32_500
  let c496 : Index := 496#32
  ![v1303.toNat, 0, 496]
@[reducible] def k0_t15_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) : Scf.Loop 32 :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let v956 : BitVec 32 := Scalar.addi v950 v955
  let c1_i32_405 : BitVec 32 := 1#32
  ⟨v959, v956, c1_i32_405⟩
def k0_off326 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v962 : Index := Scalar.indexCast arg16
  let c0_i32_406 : BitVec 32 := 0#32
  let v963 : Index := Scalar.indexCast c0_i32_406
  let c0_407 : Index := 0#32
  ![v962.toNat, 0, 0]
def k0_off327 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v973 : Index := Scalar.indexCast arg16
  let c0_i32_410 : BitVec 32 := 0#32
  let v974 : Index := Scalar.indexCast c0_i32_410
  let c16 : Index := 16#32
  ![v973.toNat, 0, 16]
def k0_off328 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v984 : Index := Scalar.indexCast arg16
  let c0_i32_413 : BitVec 32 := 0#32
  let v985 : Index := Scalar.indexCast c0_i32_413
  let c32 : Index := 32#32
  ![v984.toNat, 0, 32]
def k0_off329 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v995 : Index := Scalar.indexCast arg16
  let c0_i32_416 : BitVec 32 := 0#32
  let v996 : Index := Scalar.indexCast c0_i32_416
  let c48 : Index := 48#32
  ![v995.toNat, 0, 48]
def k0_off330 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1006 : Index := Scalar.indexCast arg16
  let c0_i32_419 : BitVec 32 := 0#32
  let v1007 : Index := Scalar.indexCast c0_i32_419
  let c64 : Index := 64#32
  ![v1006.toNat, 0, 64]
def k0_off331 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1017 : Index := Scalar.indexCast arg16
  let c0_i32_422 : BitVec 32 := 0#32
  let v1018 : Index := Scalar.indexCast c0_i32_422
  let c80 : Index := 80#32
  ![v1017.toNat, 0, 80]
def k0_off332 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1028 : Index := Scalar.indexCast arg16
  let c0_i32_425 : BitVec 32 := 0#32
  let v1029 : Index := Scalar.indexCast c0_i32_425
  let c96 : Index := 96#32
  ![v1028.toNat, 0, 96]
def k0_off333 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1039 : Index := Scalar.indexCast arg16
  let c0_i32_428 : BitVec 32 := 0#32
  let v1040 : Index := Scalar.indexCast c0_i32_428
  let c112 : Index := 112#32
  ![v1039.toNat, 0, 112]
def k0_off334 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1050 : Index := Scalar.indexCast arg16
  let c0_i32_431 : BitVec 32 := 0#32
  let v1051 : Index := Scalar.indexCast c0_i32_431
  let c128 : Index := 128#32
  ![v1050.toNat, 0, 128]
def k0_off335 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1061 : Index := Scalar.indexCast arg16
  let c0_i32_434 : BitVec 32 := 0#32
  let v1062 : Index := Scalar.indexCast c0_i32_434
  let c144 : Index := 144#32
  ![v1061.toNat, 0, 144]
def k0_off336 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1072 : Index := Scalar.indexCast arg16
  let c0_i32_437 : BitVec 32 := 0#32
  let v1073 : Index := Scalar.indexCast c0_i32_437
  let c160 : Index := 160#32
  ![v1072.toNat, 0, 160]
def k0_off337 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1083 : Index := Scalar.indexCast arg16
  let c0_i32_440 : BitVec 32 := 0#32
  let v1084 : Index := Scalar.indexCast c0_i32_440
  let c176 : Index := 176#32
  ![v1083.toNat, 0, 176]
def k0_off338 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1094 : Index := Scalar.indexCast arg16
  let c0_i32_443 : BitVec 32 := 0#32
  let v1095 : Index := Scalar.indexCast c0_i32_443
  let c192 : Index := 192#32
  ![v1094.toNat, 0, 192]
def k0_off339 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1105 : Index := Scalar.indexCast arg16
  let c0_i32_446 : BitVec 32 := 0#32
  let v1106 : Index := Scalar.indexCast c0_i32_446
  let c208 : Index := 208#32
  ![v1105.toNat, 0, 208]
def k0_off340 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1116 : Index := Scalar.indexCast arg16
  let c0_i32_449 : BitVec 32 := 0#32
  let v1117 : Index := Scalar.indexCast c0_i32_449
  let c224 : Index := 224#32
  ![v1116.toNat, 0, 224]
def k0_off341 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1127 : Index := Scalar.indexCast arg16
  let c0_i32_452 : BitVec 32 := 0#32
  let v1128 : Index := Scalar.indexCast c0_i32_452
  let c240 : Index := 240#32
  ![v1127.toNat, 0, 240]
def k0_off342 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1138 : Index := Scalar.indexCast arg16
  let c0_i32_455 : BitVec 32 := 0#32
  let v1139 : Index := Scalar.indexCast c0_i32_455
  let c256 : Index := 256#32
  ![v1138.toNat, 0, 256]
def k0_off343 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1149 : Index := Scalar.indexCast arg16
  let c0_i32_458 : BitVec 32 := 0#32
  let v1150 : Index := Scalar.indexCast c0_i32_458
  let c272 : Index := 272#32
  ![v1149.toNat, 0, 272]
def k0_off344 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1160 : Index := Scalar.indexCast arg16
  let c0_i32_461 : BitVec 32 := 0#32
  let v1161 : Index := Scalar.indexCast c0_i32_461
  let c288 : Index := 288#32
  ![v1160.toNat, 0, 288]
def k0_off345 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1171 : Index := Scalar.indexCast arg16
  let c0_i32_464 : BitVec 32 := 0#32
  let v1172 : Index := Scalar.indexCast c0_i32_464
  let c304 : Index := 304#32
  ![v1171.toNat, 0, 304]
def k0_off346 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1182 : Index := Scalar.indexCast arg16
  let c0_i32_467 : BitVec 32 := 0#32
  let v1183 : Index := Scalar.indexCast c0_i32_467
  let c320 : Index := 320#32
  ![v1182.toNat, 0, 320]
def k0_off347 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1193 : Index := Scalar.indexCast arg16
  let c0_i32_470 : BitVec 32 := 0#32
  let v1194 : Index := Scalar.indexCast c0_i32_470
  let c336 : Index := 336#32
  ![v1193.toNat, 0, 336]
def k0_off348 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1204 : Index := Scalar.indexCast arg16
  let c0_i32_473 : BitVec 32 := 0#32
  let v1205 : Index := Scalar.indexCast c0_i32_473
  let c352 : Index := 352#32
  ![v1204.toNat, 0, 352]
def k0_off349 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1215 : Index := Scalar.indexCast arg16
  let c0_i32_476 : BitVec 32 := 0#32
  let v1216 : Index := Scalar.indexCast c0_i32_476
  let c368 : Index := 368#32
  ![v1215.toNat, 0, 368]
def k0_off350 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1226 : Index := Scalar.indexCast arg16
  let c0_i32_479 : BitVec 32 := 0#32
  let v1227 : Index := Scalar.indexCast c0_i32_479
  let c384 : Index := 384#32
  ![v1226.toNat, 0, 384]
def k0_off351 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1237 : Index := Scalar.indexCast arg16
  let c0_i32_482 : BitVec 32 := 0#32
  let v1238 : Index := Scalar.indexCast c0_i32_482
  let c400 : Index := 400#32
  ![v1237.toNat, 0, 400]
def k0_off352 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1248 : Index := Scalar.indexCast arg16
  let c0_i32_485 : BitVec 32 := 0#32
  let v1249 : Index := Scalar.indexCast c0_i32_485
  let c416 : Index := 416#32
  ![v1248.toNat, 0, 416]
def k0_off353 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1259 : Index := Scalar.indexCast arg16
  let c0_i32_488 : BitVec 32 := 0#32
  let v1260 : Index := Scalar.indexCast c0_i32_488
  let c432 : Index := 432#32
  ![v1259.toNat, 0, 432]
def k0_off354 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1270 : Index := Scalar.indexCast arg16
  let c0_i32_491 : BitVec 32 := 0#32
  let v1271 : Index := Scalar.indexCast c0_i32_491
  let c448 : Index := 448#32
  ![v1270.toNat, 0, 448]
def k0_off355 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1281 : Index := Scalar.indexCast arg16
  let c0_i32_494 : BitVec 32 := 0#32
  let v1282 : Index := Scalar.indexCast c0_i32_494
  let c464 : Index := 464#32
  ![v1281.toNat, 0, 464]
def k0_off356 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1292 : Index := Scalar.indexCast arg16
  let c0_i32_497 : BitVec 32 := 0#32
  let v1293 : Index := Scalar.indexCast c0_i32_497
  let c480 : Index := 480#32
  ![v1292.toNat, 0, 480]
def k0_off357 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips) : Fin 3 → Nat :=
  let c0_i32_102 : BitVec 32 := 0#32
  let c1_i32_104 : BitVec 32 := 1#32
  let arg14 : BitVec 32 := Scf.iv c0_i32_102 c1_i32_104 k0_t13
  let c3_i32 : BitVec 32 := 3#32
  let v907 : BitVec 32 := Scalar.remsi arg14 c3_i32
  let c32_i32_401 : BitVec 32 := 32#32
  let v948 : BitVec 32 := Scalar.muli v907 c32_i32_401
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t15
  let v1303 : Index := Scalar.indexCast arg16
  let c0_i32_500 : BitVec 32 := 0#32
  let v1304 : Index := Scalar.indexCast c0_i32_500
  let c496 : Index := 496#32
  ![v1303.toNat, 0, 496]
@[reducible] def k0_t16_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let v280 : BitVec 32 := Scalar.addi c0_i32_102 v279
  let c1_i32_105 : BitVec 32 := 1#32
  ⟨v283, v280, c1_i32_105⟩
def k0_off358 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c2_i32_407 : BitVec 32 := 2#32
  let v963 : BitVec 32 := Scalar.addi arg14 c2_i32_407
  let c3_i32_408 : BitVec 32 := 3#32
  let v964 : BitVec 32 := Scalar.remsi v963 c3_i32_408
  let c32_i32_411 : BitVec 32 := 32#32
  let v968 : BitVec 32 := Scalar.muli v964 c32_i32_411
  let c0_i32_412 : BitVec 32 := 0#32
  let c0_i32_413 : BitVec 32 := 0#32
  ![v968.toNat, 0, 0]
def k0_cond12 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) : BitVec 1 :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c2_i32_376 : BitVec 32 := 2#32
  let v927 : BitVec 32 := Scalar.addi arg14 c2_i32_376
  let v908 : BitVec 32 := Scalar.subi v252 v250
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off359 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) : Fin 3 → Nat :=
  let c1024_i32_87 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let c0_i32_102 : BitVec 32 := 0#32
  let c1024_i32_88 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c2_i32_406 : BitVec 32 := 2#32
  let v962 : BitVec 32 := Scalar.addi arg14 c2_i32_406
  let c32_i32_409 : BitVec 32 := 32#32
  let v965 : BitVec 32 := Scalar.muli v962 c32_i32_409
  let v966 : BitVec 32 := Scalar.addi v250 v965
  let c2016_i32_410 : BitVec 32 := 2016#32
  let v967 : BitVec 32 := Scalar.minsi v966 c2016_i32_410
  let c2_i32_414 : BitVec 32 := 2#32
  let c0_i32_415 : BitVec 32 := 0#32
  ![v967.toNat, 2, 0]
def k0_off360 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) : Fin 1 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c2_i32_407 : BitVec 32 := 2#32
  let v963 : BitVec 32 := Scalar.addi arg14 c2_i32_407
  let c3_i32_408 : BitVec 32 := 3#32
  let v964 : BitVec 32 := Scalar.remsi v963 c3_i32_408
  ![v964.toNat]
def k0_off361 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off362 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) : Fin 1 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  ![v907.toNat]
@[reducible] def k0_t17_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) : Scf.Loop 32 :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_404 : BitVec 32 := 1#32
  ⟨v950, v959, c1_i32_404⟩
def k0_off363 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v962 : Index := Scalar.indexCast arg16
  let c0_i32_406 : BitVec 32 := 0#32
  let v963 : Index := Scalar.indexCast c0_i32_406
  let c0_407 : Index := 0#32
  ![v962.toNat, 0, 0]
def k0_off364 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v973 : Index := Scalar.indexCast arg16
  let c0_i32_410 : BitVec 32 := 0#32
  let v974 : Index := Scalar.indexCast c0_i32_410
  let c16 : Index := 16#32
  ![v973.toNat, 0, 16]
def k0_off365 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v984 : Index := Scalar.indexCast arg16
  let c0_i32_413 : BitVec 32 := 0#32
  let v985 : Index := Scalar.indexCast c0_i32_413
  let c32 : Index := 32#32
  ![v984.toNat, 0, 32]
def k0_off366 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v995 : Index := Scalar.indexCast arg16
  let c0_i32_416 : BitVec 32 := 0#32
  let v996 : Index := Scalar.indexCast c0_i32_416
  let c48 : Index := 48#32
  ![v995.toNat, 0, 48]
def k0_off367 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1006 : Index := Scalar.indexCast arg16
  let c0_i32_419 : BitVec 32 := 0#32
  let v1007 : Index := Scalar.indexCast c0_i32_419
  let c64 : Index := 64#32
  ![v1006.toNat, 0, 64]
def k0_off368 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1017 : Index := Scalar.indexCast arg16
  let c0_i32_422 : BitVec 32 := 0#32
  let v1018 : Index := Scalar.indexCast c0_i32_422
  let c80 : Index := 80#32
  ![v1017.toNat, 0, 80]
def k0_off369 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1028 : Index := Scalar.indexCast arg16
  let c0_i32_425 : BitVec 32 := 0#32
  let v1029 : Index := Scalar.indexCast c0_i32_425
  let c96 : Index := 96#32
  ![v1028.toNat, 0, 96]
def k0_off370 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1039 : Index := Scalar.indexCast arg16
  let c0_i32_428 : BitVec 32 := 0#32
  let v1040 : Index := Scalar.indexCast c0_i32_428
  let c112 : Index := 112#32
  ![v1039.toNat, 0, 112]
def k0_off371 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1050 : Index := Scalar.indexCast arg16
  let c0_i32_431 : BitVec 32 := 0#32
  let v1051 : Index := Scalar.indexCast c0_i32_431
  let c128 : Index := 128#32
  ![v1050.toNat, 0, 128]
def k0_off372 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1061 : Index := Scalar.indexCast arg16
  let c0_i32_434 : BitVec 32 := 0#32
  let v1062 : Index := Scalar.indexCast c0_i32_434
  let c144 : Index := 144#32
  ![v1061.toNat, 0, 144]
def k0_off373 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1072 : Index := Scalar.indexCast arg16
  let c0_i32_437 : BitVec 32 := 0#32
  let v1073 : Index := Scalar.indexCast c0_i32_437
  let c160 : Index := 160#32
  ![v1072.toNat, 0, 160]
def k0_off374 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1083 : Index := Scalar.indexCast arg16
  let c0_i32_440 : BitVec 32 := 0#32
  let v1084 : Index := Scalar.indexCast c0_i32_440
  let c176 : Index := 176#32
  ![v1083.toNat, 0, 176]
def k0_off375 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1094 : Index := Scalar.indexCast arg16
  let c0_i32_443 : BitVec 32 := 0#32
  let v1095 : Index := Scalar.indexCast c0_i32_443
  let c192 : Index := 192#32
  ![v1094.toNat, 0, 192]
def k0_off376 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1105 : Index := Scalar.indexCast arg16
  let c0_i32_446 : BitVec 32 := 0#32
  let v1106 : Index := Scalar.indexCast c0_i32_446
  let c208 : Index := 208#32
  ![v1105.toNat, 0, 208]
def k0_off377 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1116 : Index := Scalar.indexCast arg16
  let c0_i32_449 : BitVec 32 := 0#32
  let v1117 : Index := Scalar.indexCast c0_i32_449
  let c224 : Index := 224#32
  ![v1116.toNat, 0, 224]
def k0_off378 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1127 : Index := Scalar.indexCast arg16
  let c0_i32_452 : BitVec 32 := 0#32
  let v1128 : Index := Scalar.indexCast c0_i32_452
  let c240 : Index := 240#32
  ![v1127.toNat, 0, 240]
def k0_off379 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1138 : Index := Scalar.indexCast arg16
  let c0_i32_455 : BitVec 32 := 0#32
  let v1139 : Index := Scalar.indexCast c0_i32_455
  let c256 : Index := 256#32
  ![v1138.toNat, 0, 256]
def k0_off380 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1149 : Index := Scalar.indexCast arg16
  let c0_i32_458 : BitVec 32 := 0#32
  let v1150 : Index := Scalar.indexCast c0_i32_458
  let c272 : Index := 272#32
  ![v1149.toNat, 0, 272]
def k0_off381 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1160 : Index := Scalar.indexCast arg16
  let c0_i32_461 : BitVec 32 := 0#32
  let v1161 : Index := Scalar.indexCast c0_i32_461
  let c288 : Index := 288#32
  ![v1160.toNat, 0, 288]
def k0_off382 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1171 : Index := Scalar.indexCast arg16
  let c0_i32_464 : BitVec 32 := 0#32
  let v1172 : Index := Scalar.indexCast c0_i32_464
  let c304 : Index := 304#32
  ![v1171.toNat, 0, 304]
def k0_off383 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1182 : Index := Scalar.indexCast arg16
  let c0_i32_467 : BitVec 32 := 0#32
  let v1183 : Index := Scalar.indexCast c0_i32_467
  let c320 : Index := 320#32
  ![v1182.toNat, 0, 320]
def k0_off384 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1193 : Index := Scalar.indexCast arg16
  let c0_i32_470 : BitVec 32 := 0#32
  let v1194 : Index := Scalar.indexCast c0_i32_470
  let c336 : Index := 336#32
  ![v1193.toNat, 0, 336]
def k0_off385 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1204 : Index := Scalar.indexCast arg16
  let c0_i32_473 : BitVec 32 := 0#32
  let v1205 : Index := Scalar.indexCast c0_i32_473
  let c352 : Index := 352#32
  ![v1204.toNat, 0, 352]
def k0_off386 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1215 : Index := Scalar.indexCast arg16
  let c0_i32_476 : BitVec 32 := 0#32
  let v1216 : Index := Scalar.indexCast c0_i32_476
  let c368 : Index := 368#32
  ![v1215.toNat, 0, 368]
def k0_off387 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1226 : Index := Scalar.indexCast arg16
  let c0_i32_479 : BitVec 32 := 0#32
  let v1227 : Index := Scalar.indexCast c0_i32_479
  let c384 : Index := 384#32
  ![v1226.toNat, 0, 384]
def k0_off388 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1237 : Index := Scalar.indexCast arg16
  let c0_i32_482 : BitVec 32 := 0#32
  let v1238 : Index := Scalar.indexCast c0_i32_482
  let c400 : Index := 400#32
  ![v1237.toNat, 0, 400]
def k0_off389 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1248 : Index := Scalar.indexCast arg16
  let c0_i32_485 : BitVec 32 := 0#32
  let v1249 : Index := Scalar.indexCast c0_i32_485
  let c416 : Index := 416#32
  ![v1248.toNat, 0, 416]
def k0_off390 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1259 : Index := Scalar.indexCast arg16
  let c0_i32_488 : BitVec 32 := 0#32
  let v1260 : Index := Scalar.indexCast c0_i32_488
  let c432 : Index := 432#32
  ![v1259.toNat, 0, 432]
def k0_off391 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1270 : Index := Scalar.indexCast arg16
  let c0_i32_491 : BitVec 32 := 0#32
  let v1271 : Index := Scalar.indexCast c0_i32_491
  let c448 : Index := 448#32
  ![v1270.toNat, 0, 448]
def k0_off392 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1281 : Index := Scalar.indexCast arg16
  let c0_i32_494 : BitVec 32 := 0#32
  let v1282 : Index := Scalar.indexCast c0_i32_494
  let c464 : Index := 464#32
  ![v1281.toNat, 0, 464]
def k0_off393 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1292 : Index := Scalar.indexCast arg16
  let c0_i32_497 : BitVec 32 := 0#32
  let v1293 : Index := Scalar.indexCast c0_i32_497
  let c480 : Index := 480#32
  ![v1292.toNat, 0, 480]
def k0_off394 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t17
  let v1303 : Index := Scalar.indexCast arg16
  let c0_i32_500 : BitVec 32 := 0#32
  let v1304 : Index := Scalar.indexCast c0_i32_500
  let c496 : Index := 496#32
  ![v1303.toNat, 0, 496]
@[reducible] def k0_t18_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) : Scf.Loop 32 :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let v956 : BitVec 32 := Scalar.addi v950 v955
  let c1_i32_405 : BitVec 32 := 1#32
  ⟨v959, v956, c1_i32_405⟩
def k0_off395 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v962 : Index := Scalar.indexCast arg16
  let c0_i32_406 : BitVec 32 := 0#32
  let v963 : Index := Scalar.indexCast c0_i32_406
  let c0_407 : Index := 0#32
  ![v962.toNat, 0, 0]
def k0_off396 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v973 : Index := Scalar.indexCast arg16
  let c0_i32_410 : BitVec 32 := 0#32
  let v974 : Index := Scalar.indexCast c0_i32_410
  let c16 : Index := 16#32
  ![v973.toNat, 0, 16]
def k0_off397 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v984 : Index := Scalar.indexCast arg16
  let c0_i32_413 : BitVec 32 := 0#32
  let v985 : Index := Scalar.indexCast c0_i32_413
  let c32 : Index := 32#32
  ![v984.toNat, 0, 32]
def k0_off398 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v995 : Index := Scalar.indexCast arg16
  let c0_i32_416 : BitVec 32 := 0#32
  let v996 : Index := Scalar.indexCast c0_i32_416
  let c48 : Index := 48#32
  ![v995.toNat, 0, 48]
def k0_off399 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1006 : Index := Scalar.indexCast arg16
  let c0_i32_419 : BitVec 32 := 0#32
  let v1007 : Index := Scalar.indexCast c0_i32_419
  let c64 : Index := 64#32
  ![v1006.toNat, 0, 64]
def k0_off400 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1017 : Index := Scalar.indexCast arg16
  let c0_i32_422 : BitVec 32 := 0#32
  let v1018 : Index := Scalar.indexCast c0_i32_422
  let c80 : Index := 80#32
  ![v1017.toNat, 0, 80]
def k0_off401 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1028 : Index := Scalar.indexCast arg16
  let c0_i32_425 : BitVec 32 := 0#32
  let v1029 : Index := Scalar.indexCast c0_i32_425
  let c96 : Index := 96#32
  ![v1028.toNat, 0, 96]
def k0_off402 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1039 : Index := Scalar.indexCast arg16
  let c0_i32_428 : BitVec 32 := 0#32
  let v1040 : Index := Scalar.indexCast c0_i32_428
  let c112 : Index := 112#32
  ![v1039.toNat, 0, 112]
def k0_off403 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1050 : Index := Scalar.indexCast arg16
  let c0_i32_431 : BitVec 32 := 0#32
  let v1051 : Index := Scalar.indexCast c0_i32_431
  let c128 : Index := 128#32
  ![v1050.toNat, 0, 128]
def k0_off404 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1061 : Index := Scalar.indexCast arg16
  let c0_i32_434 : BitVec 32 := 0#32
  let v1062 : Index := Scalar.indexCast c0_i32_434
  let c144 : Index := 144#32
  ![v1061.toNat, 0, 144]
def k0_off405 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1072 : Index := Scalar.indexCast arg16
  let c0_i32_437 : BitVec 32 := 0#32
  let v1073 : Index := Scalar.indexCast c0_i32_437
  let c160 : Index := 160#32
  ![v1072.toNat, 0, 160]
def k0_off406 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1083 : Index := Scalar.indexCast arg16
  let c0_i32_440 : BitVec 32 := 0#32
  let v1084 : Index := Scalar.indexCast c0_i32_440
  let c176 : Index := 176#32
  ![v1083.toNat, 0, 176]
def k0_off407 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1094 : Index := Scalar.indexCast arg16
  let c0_i32_443 : BitVec 32 := 0#32
  let v1095 : Index := Scalar.indexCast c0_i32_443
  let c192 : Index := 192#32
  ![v1094.toNat, 0, 192]
def k0_off408 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1105 : Index := Scalar.indexCast arg16
  let c0_i32_446 : BitVec 32 := 0#32
  let v1106 : Index := Scalar.indexCast c0_i32_446
  let c208 : Index := 208#32
  ![v1105.toNat, 0, 208]
def k0_off409 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1116 : Index := Scalar.indexCast arg16
  let c0_i32_449 : BitVec 32 := 0#32
  let v1117 : Index := Scalar.indexCast c0_i32_449
  let c224 : Index := 224#32
  ![v1116.toNat, 0, 224]
def k0_off410 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1127 : Index := Scalar.indexCast arg16
  let c0_i32_452 : BitVec 32 := 0#32
  let v1128 : Index := Scalar.indexCast c0_i32_452
  let c240 : Index := 240#32
  ![v1127.toNat, 0, 240]
def k0_off411 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1138 : Index := Scalar.indexCast arg16
  let c0_i32_455 : BitVec 32 := 0#32
  let v1139 : Index := Scalar.indexCast c0_i32_455
  let c256 : Index := 256#32
  ![v1138.toNat, 0, 256]
def k0_off412 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1149 : Index := Scalar.indexCast arg16
  let c0_i32_458 : BitVec 32 := 0#32
  let v1150 : Index := Scalar.indexCast c0_i32_458
  let c272 : Index := 272#32
  ![v1149.toNat, 0, 272]
def k0_off413 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1160 : Index := Scalar.indexCast arg16
  let c0_i32_461 : BitVec 32 := 0#32
  let v1161 : Index := Scalar.indexCast c0_i32_461
  let c288 : Index := 288#32
  ![v1160.toNat, 0, 288]
def k0_off414 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1171 : Index := Scalar.indexCast arg16
  let c0_i32_464 : BitVec 32 := 0#32
  let v1172 : Index := Scalar.indexCast c0_i32_464
  let c304 : Index := 304#32
  ![v1171.toNat, 0, 304]
def k0_off415 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1182 : Index := Scalar.indexCast arg16
  let c0_i32_467 : BitVec 32 := 0#32
  let v1183 : Index := Scalar.indexCast c0_i32_467
  let c320 : Index := 320#32
  ![v1182.toNat, 0, 320]
def k0_off416 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1193 : Index := Scalar.indexCast arg16
  let c0_i32_470 : BitVec 32 := 0#32
  let v1194 : Index := Scalar.indexCast c0_i32_470
  let c336 : Index := 336#32
  ![v1193.toNat, 0, 336]
def k0_off417 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1204 : Index := Scalar.indexCast arg16
  let c0_i32_473 : BitVec 32 := 0#32
  let v1205 : Index := Scalar.indexCast c0_i32_473
  let c352 : Index := 352#32
  ![v1204.toNat, 0, 352]
def k0_off418 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1215 : Index := Scalar.indexCast arg16
  let c0_i32_476 : BitVec 32 := 0#32
  let v1216 : Index := Scalar.indexCast c0_i32_476
  let c368 : Index := 368#32
  ![v1215.toNat, 0, 368]
def k0_off419 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1226 : Index := Scalar.indexCast arg16
  let c0_i32_479 : BitVec 32 := 0#32
  let v1227 : Index := Scalar.indexCast c0_i32_479
  let c384 : Index := 384#32
  ![v1226.toNat, 0, 384]
def k0_off420 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1237 : Index := Scalar.indexCast arg16
  let c0_i32_482 : BitVec 32 := 0#32
  let v1238 : Index := Scalar.indexCast c0_i32_482
  let c400 : Index := 400#32
  ![v1237.toNat, 0, 400]
def k0_off421 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1248 : Index := Scalar.indexCast arg16
  let c0_i32_485 : BitVec 32 := 0#32
  let v1249 : Index := Scalar.indexCast c0_i32_485
  let c416 : Index := 416#32
  ![v1248.toNat, 0, 416]
def k0_off422 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1259 : Index := Scalar.indexCast arg16
  let c0_i32_488 : BitVec 32 := 0#32
  let v1260 : Index := Scalar.indexCast c0_i32_488
  let c432 : Index := 432#32
  ![v1259.toNat, 0, 432]
def k0_off423 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1270 : Index := Scalar.indexCast arg16
  let c0_i32_491 : BitVec 32 := 0#32
  let v1271 : Index := Scalar.indexCast c0_i32_491
  let c448 : Index := 448#32
  ![v1270.toNat, 0, 448]
def k0_off424 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1281 : Index := Scalar.indexCast arg16
  let c0_i32_494 : BitVec 32 := 0#32
  let v1282 : Index := Scalar.indexCast c0_i32_494
  let c464 : Index := 464#32
  ![v1281.toNat, 0, 464]
def k0_off425 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1292 : Index := Scalar.indexCast arg16
  let c0_i32_497 : BitVec 32 := 0#32
  let v1293 : Index := Scalar.indexCast c0_i32_497
  let c480 : Index := 480#32
  ![v1292.toNat, 0, 480]
def k0_off426 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips) : Fin 3 → Nat :=
  let c0_i32_102 : BitVec 32 := 0#32
  let c1024_i32_88 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v247 : BitVec 32 := Scalar.addi v99 v71
  let v248 : BitVec 32 := Scalar.minsi v150 v247
  let v251 : BitVec 32 := Scalar.subi v248 v99
  let v252 : BitVec 32 := Scalar.addi c1024_i32_88 v251
  let c1024_i32_87 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v246 : BitVec 32 := Scalar.maxsi v131 v99
  let v249 : BitVec 32 := Scalar.subi v246 v99
  let v250 : BitVec 32 := Scalar.addi c1024_i32_87 v249
  let v253 : BitVec 32 := Scalar.subi v252 v250
  let c31_i32_89 : BitVec 32 := 31#32
  let v254 : BitVec 32 := Scalar.addi v253 c31_i32_89
  let c0_i32_91 : BitVec 32 := 0#32
  let v256 : BitVec 1 := Scalar.cmpi .sgt v254 c0_i32_91
  let v257 : BitVec 32 := Scalar.extui v256
  let c0_i32_92 : BitVec 32 := 0#32
  let v258 : BitVec 1 := Scalar.cmpi .slt v254 c0_i32_92
  let v259 : BitVec 32 := Scalar.extui v258
  let v260 : BitVec 32 := Scalar.subi v257 v259
  let c32_i32_90 : BitVec 32 := 32#32
  let c0_i32_93 : BitVec 32 := 0#32
  let v261 : BitVec 1 := Scalar.cmpi .sgt c32_i32_90 c0_i32_93
  let v262 : BitVec 32 := Scalar.extui v261
  let c0_i32_94 : BitVec 32 := 0#32
  let v263 : BitVec 1 := Scalar.cmpi .slt c32_i32_90 c0_i32_94
  let v264 : BitVec 32 := Scalar.extui v263
  let v265 : BitVec 32 := Scalar.subi v262 v264
  let v266 : BitVec 1 := Scalar.cmpi .ne v260 v265
  let v267 : BitVec 32 := Scalar.remsi v254 c32_i32_90
  let c0_i32_95 : BitVec 32 := 0#32
  let v268 : BitVec 1 := Scalar.cmpi .ne v267 c0_i32_95
  let v269 : BitVec 1 := Scalar.andi v266 v268
  let v255 : BitVec 32 := Scalar.divsi v254 c32_i32_90
  let c1_i32_96 : BitVec 32 := 1#32
  let v270 : BitVec 32 := Scalar.subi v255 c1_i32_96
  let v271 : BitVec 32 := Scalar.select v269 v270 v255
  let v279 : BitVec 32 := Scalar.subi v271 c0_i32_102
  let c1_i32_103 : BitVec 32 := 1#32
  let v281 : BitVec 32 := Scalar.divsi v279 c1_i32_103
  let v282 : BitVec 32 := Scalar.muli v281 c1_i32_103
  let v283 : BitVec 32 := Scalar.addi c0_i32_102 v282
  let c1_i32_105 : BitVec 32 := 1#32
  let arg14 : BitVec 32 := Scf.iv v283 c1_i32_105 k0_t16
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v250 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v252 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t18
  let v1303 : Index := Scalar.indexCast arg16
  let c0_i32_500 : BitVec 32 := 0#32
  let v1304 : Index := Scalar.indexCast c0_i32_500
  let c496 : Index := 496#32
  ![v1303.toNat, 0, 496]
def k0_off427 : Fin 3 → Nat :=
  let c0_i32_370 : BitVec 32 := 0#32
  let c32_i32_371 : BitVec 32 := 32#32
  let v910 : BitVec 32 := Scalar.muli c0_i32_370 c32_i32_371
  let c0_i32_373 : BitVec 32 := 0#32
  let c0_i32_374 : BitVec 32 := 0#32
  ![v910.toNat, 0, 0]
def k0_off428 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c0_i32_368 : BitVec 32 := 0#32
  let c32_i32_369 : BitVec 32 := 32#32
  let v907 : BitVec 32 := Scalar.muli c0_i32_368 c32_i32_369
  let v908 : BitVec 32 := Scalar.addi v297 v907
  let c2016_i32 : BitVec 32 := 2016#32
  let v909 : BitVec 32 := Scalar.minsi v908 c2016_i32
  let c3_i32 : BitVec 32 := 3#32
  let c0_i32_375 : BitVec 32 := 0#32
  ![v909.toNat, 3, 0]
def k0_cond13 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let c0_i32_117 : BitVec 32 := 0#32
  let v319 : BitVec 1 := Scalar.cmpi .sgt v318 c0_i32_117
  let v320 : BitVec 32 := Scalar.extui v319
  let c0_i32_118 : BitVec 32 := 0#32
  let v321 : BitVec 1 := Scalar.cmpi .ne v320 c0_i32_118
  v321

def k0_off429 : Fin 3 → Nat :=
  let c1_i32_370 : BitVec 32 := 1#32
  let c32_i32_371 : BitVec 32 := 32#32
  let v910 : BitVec 32 := Scalar.muli c1_i32_370 c32_i32_371
  let c0_i32_373 : BitVec 32 := 0#32
  let c0_i32_374 : BitVec 32 := 0#32
  ![v910.toNat, 0, 0]
def k0_off430 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c1_i32_368 : BitVec 32 := 1#32
  let c32_i32_369 : BitVec 32 := 32#32
  let v907 : BitVec 32 := Scalar.muli c1_i32_368 c32_i32_369
  let v908 : BitVec 32 := Scalar.addi v297 v907
  let c2016_i32 : BitVec 32 := 2016#32
  let v909 : BitVec 32 := Scalar.minsi v908 c2016_i32
  let c3_i32 : BitVec 32 := 3#32
  let c0_i32_375 : BitVec 32 := 0#32
  ![v909.toNat, 3, 0]
def k0_cond14 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let c1_i32_119 : BitVec 32 := 1#32
  let v322 : BitVec 1 := Scalar.cmpi .sgt v318 c1_i32_119
  let v323 : BitVec 32 := Scalar.extui v322
  let c0_i32_120 : BitVec 32 := 0#32
  let v324 : BitVec 1 := Scalar.cmpi .ne v323 c0_i32_120
  v324

@[reducible] def k0_t19_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_124 : BitVec 32 := 1#32
  ⟨c0_i32_122, v330, c1_i32_124⟩
def k0_off431 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) : Fin 3 → Nat :=
  let c0_i32_122 : BitVec 32 := 0#32
  let c1_i32_124 : BitVec 32 := 1#32
  let arg14 : BitVec 32 := Scf.iv c0_i32_122 c1_i32_124 k0_t19
  let c2_i32_407 : BitVec 32 := 2#32
  let v963 : BitVec 32 := Scalar.addi arg14 c2_i32_407
  let c3_i32_408 : BitVec 32 := 3#32
  let v964 : BitVec 32 := Scalar.remsi v963 c3_i32_408
  let c32_i32_411 : BitVec 32 := 32#32
  let v968 : BitVec 32 := Scalar.muli v964 c32_i32_411
  let c0_i32_412 : BitVec 32 := 0#32
  let c0_i32_413 : BitVec 32 := 0#32
  ![v968.toNat, 0, 0]
def k0_cond15 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) : BitVec 1 :=
  let c0_i32_122 : BitVec 32 := 0#32
  let c1_i32_124 : BitVec 32 := 1#32
  let arg14 : BitVec 32 := Scf.iv c0_i32_122 c1_i32_124 k0_t19
  let c2_i32_376 : BitVec 32 := 2#32
  let v927 : BitVec 32 := Scalar.addi arg14 c2_i32_376
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v908 : BitVec 32 := Scalar.subi v299 v297
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off432 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) : Fin 3 → Nat :=
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c0_i32_122 : BitVec 32 := 0#32
  let c1_i32_124 : BitVec 32 := 1#32
  let arg14 : BitVec 32 := Scf.iv c0_i32_122 c1_i32_124 k0_t19
  let c2_i32_406 : BitVec 32 := 2#32
  let v962 : BitVec 32 := Scalar.addi arg14 c2_i32_406
  let c32_i32_409 : BitVec 32 := 32#32
  let v965 : BitVec 32 := Scalar.muli v962 c32_i32_409
  let v966 : BitVec 32 := Scalar.addi v297 v965
  let c2016_i32_410 : BitVec 32 := 2016#32
  let v967 : BitVec 32 := Scalar.minsi v966 c2016_i32_410
  let c3_i32_414 : BitVec 32 := 3#32
  let c0_i32_415 : BitVec 32 := 0#32
  ![v967.toNat, 3, 0]
def k0_off433 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) : Fin 1 → Nat :=
  let c0_i32_122 : BitVec 32 := 0#32
  let c1_i32_124 : BitVec 32 := 1#32
  let arg14 : BitVec 32 := Scf.iv c0_i32_122 c1_i32_124 k0_t19
  let c2_i32_407 : BitVec 32 := 2#32
  let v963 : BitVec 32 := Scalar.addi arg14 c2_i32_407
  let c3_i32_408 : BitVec 32 := 3#32
  let v964 : BitVec 32 := Scalar.remsi v963 c3_i32_408
  ![v964.toNat]
def k0_off434 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off435 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) : Fin 1 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  ![v907.toNat]
@[reducible] def k0_t20_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) : Scf.Loop 32 :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_404 : BitVec 32 := 1#32
  ⟨v950, v959, c1_i32_404⟩
def k0_off436 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v962 : Index := Scalar.indexCast arg16
  let c0_i32_406 : BitVec 32 := 0#32
  let v963 : Index := Scalar.indexCast c0_i32_406
  let c0_407 : Index := 0#32
  ![v962.toNat, 0, 0]
def k0_off437 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v973 : Index := Scalar.indexCast arg16
  let c0_i32_410 : BitVec 32 := 0#32
  let v974 : Index := Scalar.indexCast c0_i32_410
  let c16 : Index := 16#32
  ![v973.toNat, 0, 16]
def k0_off438 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v984 : Index := Scalar.indexCast arg16
  let c0_i32_413 : BitVec 32 := 0#32
  let v985 : Index := Scalar.indexCast c0_i32_413
  let c32 : Index := 32#32
  ![v984.toNat, 0, 32]
def k0_off439 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v995 : Index := Scalar.indexCast arg16
  let c0_i32_416 : BitVec 32 := 0#32
  let v996 : Index := Scalar.indexCast c0_i32_416
  let c48 : Index := 48#32
  ![v995.toNat, 0, 48]
def k0_off440 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1006 : Index := Scalar.indexCast arg16
  let c0_i32_419 : BitVec 32 := 0#32
  let v1007 : Index := Scalar.indexCast c0_i32_419
  let c64 : Index := 64#32
  ![v1006.toNat, 0, 64]

variable {F : FTy → Type} [FloatOps F]

def k0_off441 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1017 : Index := Scalar.indexCast arg16
  let c0_i32_422 : BitVec 32 := 0#32
  let v1018 : Index := Scalar.indexCast c0_i32_422
  let c80 : Index := 80#32
  ![v1017.toNat, 0, 80]
def k0_off442 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1028 : Index := Scalar.indexCast arg16
  let c0_i32_425 : BitVec 32 := 0#32
  let v1029 : Index := Scalar.indexCast c0_i32_425
  let c96 : Index := 96#32
  ![v1028.toNat, 0, 96]
def k0_off443 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1039 : Index := Scalar.indexCast arg16
  let c0_i32_428 : BitVec 32 := 0#32
  let v1040 : Index := Scalar.indexCast c0_i32_428
  let c112 : Index := 112#32
  ![v1039.toNat, 0, 112]
def k0_off444 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1050 : Index := Scalar.indexCast arg16
  let c0_i32_431 : BitVec 32 := 0#32
  let v1051 : Index := Scalar.indexCast c0_i32_431
  let c128 : Index := 128#32
  ![v1050.toNat, 0, 128]
def k0_off445 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1061 : Index := Scalar.indexCast arg16
  let c0_i32_434 : BitVec 32 := 0#32
  let v1062 : Index := Scalar.indexCast c0_i32_434
  let c144 : Index := 144#32
  ![v1061.toNat, 0, 144]
def k0_off446 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1072 : Index := Scalar.indexCast arg16
  let c0_i32_437 : BitVec 32 := 0#32
  let v1073 : Index := Scalar.indexCast c0_i32_437
  let c160 : Index := 160#32
  ![v1072.toNat, 0, 160]
def k0_off447 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1083 : Index := Scalar.indexCast arg16
  let c0_i32_440 : BitVec 32 := 0#32
  let v1084 : Index := Scalar.indexCast c0_i32_440
  let c176 : Index := 176#32
  ![v1083.toNat, 0, 176]
def k0_off448 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1094 : Index := Scalar.indexCast arg16
  let c0_i32_443 : BitVec 32 := 0#32
  let v1095 : Index := Scalar.indexCast c0_i32_443
  let c192 : Index := 192#32
  ![v1094.toNat, 0, 192]
def k0_off449 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1105 : Index := Scalar.indexCast arg16
  let c0_i32_446 : BitVec 32 := 0#32
  let v1106 : Index := Scalar.indexCast c0_i32_446
  let c208 : Index := 208#32
  ![v1105.toNat, 0, 208]
def k0_off450 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1116 : Index := Scalar.indexCast arg16
  let c0_i32_449 : BitVec 32 := 0#32
  let v1117 : Index := Scalar.indexCast c0_i32_449
  let c224 : Index := 224#32
  ![v1116.toNat, 0, 224]
def k0_off451 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1127 : Index := Scalar.indexCast arg16
  let c0_i32_452 : BitVec 32 := 0#32
  let v1128 : Index := Scalar.indexCast c0_i32_452
  let c240 : Index := 240#32
  ![v1127.toNat, 0, 240]
def k0_off452 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1138 : Index := Scalar.indexCast arg16
  let c0_i32_455 : BitVec 32 := 0#32
  let v1139 : Index := Scalar.indexCast c0_i32_455
  let c256 : Index := 256#32
  ![v1138.toNat, 0, 256]
def k0_off453 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1149 : Index := Scalar.indexCast arg16
  let c0_i32_458 : BitVec 32 := 0#32
  let v1150 : Index := Scalar.indexCast c0_i32_458
  let c272 : Index := 272#32
  ![v1149.toNat, 0, 272]
def k0_off454 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1160 : Index := Scalar.indexCast arg16
  let c0_i32_461 : BitVec 32 := 0#32
  let v1161 : Index := Scalar.indexCast c0_i32_461
  let c288 : Index := 288#32
  ![v1160.toNat, 0, 288]
def k0_off455 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1171 : Index := Scalar.indexCast arg16
  let c0_i32_464 : BitVec 32 := 0#32
  let v1172 : Index := Scalar.indexCast c0_i32_464
  let c304 : Index := 304#32
  ![v1171.toNat, 0, 304]
def k0_off456 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1182 : Index := Scalar.indexCast arg16
  let c0_i32_467 : BitVec 32 := 0#32
  let v1183 : Index := Scalar.indexCast c0_i32_467
  let c320 : Index := 320#32
  ![v1182.toNat, 0, 320]
def k0_off457 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1193 : Index := Scalar.indexCast arg16
  let c0_i32_470 : BitVec 32 := 0#32
  let v1194 : Index := Scalar.indexCast c0_i32_470
  let c336 : Index := 336#32
  ![v1193.toNat, 0, 336]
def k0_off458 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1204 : Index := Scalar.indexCast arg16
  let c0_i32_473 : BitVec 32 := 0#32
  let v1205 : Index := Scalar.indexCast c0_i32_473
  let c352 : Index := 352#32
  ![v1204.toNat, 0, 352]
def k0_off459 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1215 : Index := Scalar.indexCast arg16
  let c0_i32_476 : BitVec 32 := 0#32
  let v1216 : Index := Scalar.indexCast c0_i32_476
  let c368 : Index := 368#32
  ![v1215.toNat, 0, 368]
def k0_off460 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1226 : Index := Scalar.indexCast arg16
  let c0_i32_479 : BitVec 32 := 0#32
  let v1227 : Index := Scalar.indexCast c0_i32_479
  let c384 : Index := 384#32
  ![v1226.toNat, 0, 384]
def k0_off461 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1237 : Index := Scalar.indexCast arg16
  let c0_i32_482 : BitVec 32 := 0#32
  let v1238 : Index := Scalar.indexCast c0_i32_482
  let c400 : Index := 400#32
  ![v1237.toNat, 0, 400]
def k0_off462 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1248 : Index := Scalar.indexCast arg16
  let c0_i32_485 : BitVec 32 := 0#32
  let v1249 : Index := Scalar.indexCast c0_i32_485
  let c416 : Index := 416#32
  ![v1248.toNat, 0, 416]
def k0_off463 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1259 : Index := Scalar.indexCast arg16
  let c0_i32_488 : BitVec 32 := 0#32
  let v1260 : Index := Scalar.indexCast c0_i32_488
  let c432 : Index := 432#32
  ![v1259.toNat, 0, 432]
def k0_off464 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1270 : Index := Scalar.indexCast arg16
  let c0_i32_491 : BitVec 32 := 0#32
  let v1271 : Index := Scalar.indexCast c0_i32_491
  let c448 : Index := 448#32
  ![v1270.toNat, 0, 448]
def k0_off465 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1281 : Index := Scalar.indexCast arg16
  let c0_i32_494 : BitVec 32 := 0#32
  let v1282 : Index := Scalar.indexCast c0_i32_494
  let c464 : Index := 464#32
  ![v1281.toNat, 0, 464]
def k0_off466 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1292 : Index := Scalar.indexCast arg16
  let c0_i32_497 : BitVec 32 := 0#32
  let v1293 : Index := Scalar.indexCast c0_i32_497
  let c480 : Index := 480#32
  ![v1292.toNat, 0, 480]
def k0_off467 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t20
  let v1303 : Index := Scalar.indexCast arg16
  let c0_i32_500 : BitVec 32 := 0#32
  let v1304 : Index := Scalar.indexCast c0_i32_500
  let c496 : Index := 496#32
  ![v1303.toNat, 0, 496]
@[reducible] def k0_t21_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) : Scf.Loop 32 :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let v956 : BitVec 32 := Scalar.addi v950 v955
  let c1_i32_405 : BitVec 32 := 1#32
  ⟨v959, v956, c1_i32_405⟩
def k0_off468 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v962 : Index := Scalar.indexCast arg16
  let c0_i32_406 : BitVec 32 := 0#32
  let v963 : Index := Scalar.indexCast c0_i32_406
  let c0_407 : Index := 0#32
  ![v962.toNat, 0, 0]
def k0_off469 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v973 : Index := Scalar.indexCast arg16
  let c0_i32_410 : BitVec 32 := 0#32
  let v974 : Index := Scalar.indexCast c0_i32_410
  let c16 : Index := 16#32
  ![v973.toNat, 0, 16]
def k0_off470 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v984 : Index := Scalar.indexCast arg16
  let c0_i32_413 : BitVec 32 := 0#32
  let v985 : Index := Scalar.indexCast c0_i32_413
  let c32 : Index := 32#32
  ![v984.toNat, 0, 32]
def k0_off471 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v995 : Index := Scalar.indexCast arg16
  let c0_i32_416 : BitVec 32 := 0#32
  let v996 : Index := Scalar.indexCast c0_i32_416
  let c48 : Index := 48#32
  ![v995.toNat, 0, 48]
def k0_off472 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1006 : Index := Scalar.indexCast arg16
  let c0_i32_419 : BitVec 32 := 0#32
  let v1007 : Index := Scalar.indexCast c0_i32_419
  let c64 : Index := 64#32
  ![v1006.toNat, 0, 64]
def k0_off473 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1017 : Index := Scalar.indexCast arg16
  let c0_i32_422 : BitVec 32 := 0#32
  let v1018 : Index := Scalar.indexCast c0_i32_422
  let c80 : Index := 80#32
  ![v1017.toNat, 0, 80]
def k0_off474 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1028 : Index := Scalar.indexCast arg16
  let c0_i32_425 : BitVec 32 := 0#32
  let v1029 : Index := Scalar.indexCast c0_i32_425
  let c96 : Index := 96#32
  ![v1028.toNat, 0, 96]
def k0_off475 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1039 : Index := Scalar.indexCast arg16
  let c0_i32_428 : BitVec 32 := 0#32
  let v1040 : Index := Scalar.indexCast c0_i32_428
  let c112 : Index := 112#32
  ![v1039.toNat, 0, 112]
def k0_off476 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1050 : Index := Scalar.indexCast arg16
  let c0_i32_431 : BitVec 32 := 0#32
  let v1051 : Index := Scalar.indexCast c0_i32_431
  let c128 : Index := 128#32
  ![v1050.toNat, 0, 128]
def k0_off477 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1061 : Index := Scalar.indexCast arg16
  let c0_i32_434 : BitVec 32 := 0#32
  let v1062 : Index := Scalar.indexCast c0_i32_434
  let c144 : Index := 144#32
  ![v1061.toNat, 0, 144]
def k0_off478 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1072 : Index := Scalar.indexCast arg16
  let c0_i32_437 : BitVec 32 := 0#32
  let v1073 : Index := Scalar.indexCast c0_i32_437
  let c160 : Index := 160#32
  ![v1072.toNat, 0, 160]
def k0_off479 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1083 : Index := Scalar.indexCast arg16
  let c0_i32_440 : BitVec 32 := 0#32
  let v1084 : Index := Scalar.indexCast c0_i32_440
  let c176 : Index := 176#32
  ![v1083.toNat, 0, 176]
def k0_off480 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1094 : Index := Scalar.indexCast arg16
  let c0_i32_443 : BitVec 32 := 0#32
  let v1095 : Index := Scalar.indexCast c0_i32_443
  let c192 : Index := 192#32
  ![v1094.toNat, 0, 192]
def k0_off481 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1105 : Index := Scalar.indexCast arg16
  let c0_i32_446 : BitVec 32 := 0#32
  let v1106 : Index := Scalar.indexCast c0_i32_446
  let c208 : Index := 208#32
  ![v1105.toNat, 0, 208]
def k0_off482 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1116 : Index := Scalar.indexCast arg16
  let c0_i32_449 : BitVec 32 := 0#32
  let v1117 : Index := Scalar.indexCast c0_i32_449
  let c224 : Index := 224#32
  ![v1116.toNat, 0, 224]
def k0_off483 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1127 : Index := Scalar.indexCast arg16
  let c0_i32_452 : BitVec 32 := 0#32
  let v1128 : Index := Scalar.indexCast c0_i32_452
  let c240 : Index := 240#32
  ![v1127.toNat, 0, 240]
def k0_off484 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1138 : Index := Scalar.indexCast arg16
  let c0_i32_455 : BitVec 32 := 0#32
  let v1139 : Index := Scalar.indexCast c0_i32_455
  let c256 : Index := 256#32
  ![v1138.toNat, 0, 256]
def k0_off485 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1149 : Index := Scalar.indexCast arg16
  let c0_i32_458 : BitVec 32 := 0#32
  let v1150 : Index := Scalar.indexCast c0_i32_458
  let c272 : Index := 272#32
  ![v1149.toNat, 0, 272]
def k0_off486 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1160 : Index := Scalar.indexCast arg16
  let c0_i32_461 : BitVec 32 := 0#32
  let v1161 : Index := Scalar.indexCast c0_i32_461
  let c288 : Index := 288#32
  ![v1160.toNat, 0, 288]
def k0_off487 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1171 : Index := Scalar.indexCast arg16
  let c0_i32_464 : BitVec 32 := 0#32
  let v1172 : Index := Scalar.indexCast c0_i32_464
  let c304 : Index := 304#32
  ![v1171.toNat, 0, 304]
def k0_off488 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1182 : Index := Scalar.indexCast arg16
  let c0_i32_467 : BitVec 32 := 0#32
  let v1183 : Index := Scalar.indexCast c0_i32_467
  let c320 : Index := 320#32
  ![v1182.toNat, 0, 320]
def k0_off489 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1193 : Index := Scalar.indexCast arg16
  let c0_i32_470 : BitVec 32 := 0#32
  let v1194 : Index := Scalar.indexCast c0_i32_470
  let c336 : Index := 336#32
  ![v1193.toNat, 0, 336]
def k0_off490 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1204 : Index := Scalar.indexCast arg16
  let c0_i32_473 : BitVec 32 := 0#32
  let v1205 : Index := Scalar.indexCast c0_i32_473
  let c352 : Index := 352#32
  ![v1204.toNat, 0, 352]
def k0_off491 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1215 : Index := Scalar.indexCast arg16
  let c0_i32_476 : BitVec 32 := 0#32
  let v1216 : Index := Scalar.indexCast c0_i32_476
  let c368 : Index := 368#32
  ![v1215.toNat, 0, 368]
def k0_off492 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1226 : Index := Scalar.indexCast arg16
  let c0_i32_479 : BitVec 32 := 0#32
  let v1227 : Index := Scalar.indexCast c0_i32_479
  let c384 : Index := 384#32
  ![v1226.toNat, 0, 384]
def k0_off493 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1237 : Index := Scalar.indexCast arg16
  let c0_i32_482 : BitVec 32 := 0#32
  let v1238 : Index := Scalar.indexCast c0_i32_482
  let c400 : Index := 400#32
  ![v1237.toNat, 0, 400]
def k0_off494 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1248 : Index := Scalar.indexCast arg16
  let c0_i32_485 : BitVec 32 := 0#32
  let v1249 : Index := Scalar.indexCast c0_i32_485
  let c416 : Index := 416#32
  ![v1248.toNat, 0, 416]
def k0_off495 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1259 : Index := Scalar.indexCast arg16
  let c0_i32_488 : BitVec 32 := 0#32
  let v1260 : Index := Scalar.indexCast c0_i32_488
  let c432 : Index := 432#32
  ![v1259.toNat, 0, 432]
def k0_off496 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1270 : Index := Scalar.indexCast arg16
  let c0_i32_491 : BitVec 32 := 0#32
  let v1271 : Index := Scalar.indexCast c0_i32_491
  let c448 : Index := 448#32
  ![v1270.toNat, 0, 448]
def k0_off497 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1281 : Index := Scalar.indexCast arg16
  let c0_i32_494 : BitVec 32 := 0#32
  let v1282 : Index := Scalar.indexCast c0_i32_494
  let c464 : Index := 464#32
  ![v1281.toNat, 0, 464]
def k0_off498 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1292 : Index := Scalar.indexCast arg16
  let c0_i32_497 : BitVec 32 := 0#32
  let v1293 : Index := Scalar.indexCast c0_i32_497
  let c480 : Index := 480#32
  ![v1292.toNat, 0, 480]
def k0_off499 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips) : Fin 3 → Nat :=
  let c0_i32_122 : BitVec 32 := 0#32
  let c1_i32_124 : BitVec 32 := 1#32
  let arg14 : BitVec 32 := Scf.iv c0_i32_122 c1_i32_124 k0_t19
  let c3_i32 : BitVec 32 := 3#32
  let v907 : BitVec 32 := Scalar.remsi arg14 c3_i32
  let c32_i32_401 : BitVec 32 := 32#32
  let v948 : BitVec 32 := Scalar.muli v907 c32_i32_401
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t21
  let v1303 : Index := Scalar.indexCast arg16
  let c0_i32_500 : BitVec 32 := 0#32
  let v1304 : Index := Scalar.indexCast c0_i32_500
  let c496 : Index := 496#32
  ![v1303.toNat, 0, 496]
@[reducible] def k0_t22_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let v327 : BitVec 32 := Scalar.addi c0_i32_122 v326
  let c1_i32_125 : BitVec 32 := 1#32
  ⟨v330, v327, c1_i32_125⟩
def k0_off500 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c2_i32_407 : BitVec 32 := 2#32
  let v963 : BitVec 32 := Scalar.addi arg14 c2_i32_407
  let c3_i32_408 : BitVec 32 := 3#32
  let v964 : BitVec 32 := Scalar.remsi v963 c3_i32_408
  let c32_i32_411 : BitVec 32 := 32#32
  let v968 : BitVec 32 := Scalar.muli v964 c32_i32_411
  let c0_i32_412 : BitVec 32 := 0#32
  let c0_i32_413 : BitVec 32 := 0#32
  ![v968.toNat, 0, 0]
def k0_cond16 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) : BitVec 1 :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c2_i32_376 : BitVec 32 := 2#32
  let v927 : BitVec 32 := Scalar.addi arg14 c2_i32_376
  let v908 : BitVec 32 := Scalar.subi v299 v297
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off501 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) : Fin 3 → Nat :=
  let c1024_i32_107 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let c0_i32_122 : BitVec 32 := 0#32
  let c1024_i32_108 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c2_i32_406 : BitVec 32 := 2#32
  let v962 : BitVec 32 := Scalar.addi arg14 c2_i32_406
  let c32_i32_409 : BitVec 32 := 32#32
  let v965 : BitVec 32 := Scalar.muli v962 c32_i32_409
  let v966 : BitVec 32 := Scalar.addi v297 v965
  let c2016_i32_410 : BitVec 32 := 2016#32
  let v967 : BitVec 32 := Scalar.minsi v966 c2016_i32_410
  let c3_i32_414 : BitVec 32 := 3#32
  let c0_i32_415 : BitVec 32 := 0#32
  ![v967.toNat, 3, 0]
def k0_off502 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) : Fin 1 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c2_i32_407 : BitVec 32 := 2#32
  let v963 : BitVec 32 := Scalar.addi arg14 c2_i32_407
  let c3_i32_408 : BitVec 32 := 3#32
  let v964 : BitVec 32 := Scalar.remsi v963 c3_i32_408
  ![v964.toNat]
def k0_off503 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off504 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) : Fin 1 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  ![v907.toNat]
@[reducible] def k0_t23_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) : Scf.Loop 32 :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_404 : BitVec 32 := 1#32
  ⟨v950, v959, c1_i32_404⟩
def k0_off505 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v962 : Index := Scalar.indexCast arg16
  let c0_i32_406 : BitVec 32 := 0#32
  let v963 : Index := Scalar.indexCast c0_i32_406
  let c0_407 : Index := 0#32
  ![v962.toNat, 0, 0]
def k0_off506 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v973 : Index := Scalar.indexCast arg16
  let c0_i32_410 : BitVec 32 := 0#32
  let v974 : Index := Scalar.indexCast c0_i32_410
  let c16 : Index := 16#32
  ![v973.toNat, 0, 16]
def k0_off507 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v984 : Index := Scalar.indexCast arg16
  let c0_i32_413 : BitVec 32 := 0#32
  let v985 : Index := Scalar.indexCast c0_i32_413
  let c32 : Index := 32#32
  ![v984.toNat, 0, 32]
def k0_off508 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v995 : Index := Scalar.indexCast arg16
  let c0_i32_416 : BitVec 32 := 0#32
  let v996 : Index := Scalar.indexCast c0_i32_416
  let c48 : Index := 48#32
  ![v995.toNat, 0, 48]
def k0_off509 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1006 : Index := Scalar.indexCast arg16
  let c0_i32_419 : BitVec 32 := 0#32
  let v1007 : Index := Scalar.indexCast c0_i32_419
  let c64 : Index := 64#32
  ![v1006.toNat, 0, 64]
def k0_off510 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1017 : Index := Scalar.indexCast arg16
  let c0_i32_422 : BitVec 32 := 0#32
  let v1018 : Index := Scalar.indexCast c0_i32_422
  let c80 : Index := 80#32
  ![v1017.toNat, 0, 80]
def k0_off511 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1028 : Index := Scalar.indexCast arg16
  let c0_i32_425 : BitVec 32 := 0#32
  let v1029 : Index := Scalar.indexCast c0_i32_425
  let c96 : Index := 96#32
  ![v1028.toNat, 0, 96]
def k0_off512 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1039 : Index := Scalar.indexCast arg16
  let c0_i32_428 : BitVec 32 := 0#32
  let v1040 : Index := Scalar.indexCast c0_i32_428
  let c112 : Index := 112#32
  ![v1039.toNat, 0, 112]
def k0_off513 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1050 : Index := Scalar.indexCast arg16
  let c0_i32_431 : BitVec 32 := 0#32
  let v1051 : Index := Scalar.indexCast c0_i32_431
  let c128 : Index := 128#32
  ![v1050.toNat, 0, 128]
def k0_off514 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1061 : Index := Scalar.indexCast arg16
  let c0_i32_434 : BitVec 32 := 0#32
  let v1062 : Index := Scalar.indexCast c0_i32_434
  let c144 : Index := 144#32
  ![v1061.toNat, 0, 144]
def k0_off515 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1072 : Index := Scalar.indexCast arg16
  let c0_i32_437 : BitVec 32 := 0#32
  let v1073 : Index := Scalar.indexCast c0_i32_437
  let c160 : Index := 160#32
  ![v1072.toNat, 0, 160]
def k0_off516 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1083 : Index := Scalar.indexCast arg16
  let c0_i32_440 : BitVec 32 := 0#32
  let v1084 : Index := Scalar.indexCast c0_i32_440
  let c176 : Index := 176#32
  ![v1083.toNat, 0, 176]
def k0_off517 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1094 : Index := Scalar.indexCast arg16
  let c0_i32_443 : BitVec 32 := 0#32
  let v1095 : Index := Scalar.indexCast c0_i32_443
  let c192 : Index := 192#32
  ![v1094.toNat, 0, 192]
def k0_off518 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1105 : Index := Scalar.indexCast arg16
  let c0_i32_446 : BitVec 32 := 0#32
  let v1106 : Index := Scalar.indexCast c0_i32_446
  let c208 : Index := 208#32
  ![v1105.toNat, 0, 208]
def k0_off519 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1116 : Index := Scalar.indexCast arg16
  let c0_i32_449 : BitVec 32 := 0#32
  let v1117 : Index := Scalar.indexCast c0_i32_449
  let c224 : Index := 224#32
  ![v1116.toNat, 0, 224]
def k0_off520 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1127 : Index := Scalar.indexCast arg16
  let c0_i32_452 : BitVec 32 := 0#32
  let v1128 : Index := Scalar.indexCast c0_i32_452
  let c240 : Index := 240#32
  ![v1127.toNat, 0, 240]
def k0_off521 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1138 : Index := Scalar.indexCast arg16
  let c0_i32_455 : BitVec 32 := 0#32
  let v1139 : Index := Scalar.indexCast c0_i32_455
  let c256 : Index := 256#32
  ![v1138.toNat, 0, 256]
def k0_off522 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1149 : Index := Scalar.indexCast arg16
  let c0_i32_458 : BitVec 32 := 0#32
  let v1150 : Index := Scalar.indexCast c0_i32_458
  let c272 : Index := 272#32
  ![v1149.toNat, 0, 272]
def k0_off523 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1160 : Index := Scalar.indexCast arg16
  let c0_i32_461 : BitVec 32 := 0#32
  let v1161 : Index := Scalar.indexCast c0_i32_461
  let c288 : Index := 288#32
  ![v1160.toNat, 0, 288]
def k0_off524 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1171 : Index := Scalar.indexCast arg16
  let c0_i32_464 : BitVec 32 := 0#32
  let v1172 : Index := Scalar.indexCast c0_i32_464
  let c304 : Index := 304#32
  ![v1171.toNat, 0, 304]
def k0_off525 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1182 : Index := Scalar.indexCast arg16
  let c0_i32_467 : BitVec 32 := 0#32
  let v1183 : Index := Scalar.indexCast c0_i32_467
  let c320 : Index := 320#32
  ![v1182.toNat, 0, 320]
def k0_off526 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1193 : Index := Scalar.indexCast arg16
  let c0_i32_470 : BitVec 32 := 0#32
  let v1194 : Index := Scalar.indexCast c0_i32_470
  let c336 : Index := 336#32
  ![v1193.toNat, 0, 336]
def k0_off527 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1204 : Index := Scalar.indexCast arg16
  let c0_i32_473 : BitVec 32 := 0#32
  let v1205 : Index := Scalar.indexCast c0_i32_473
  let c352 : Index := 352#32
  ![v1204.toNat, 0, 352]
def k0_off528 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1215 : Index := Scalar.indexCast arg16
  let c0_i32_476 : BitVec 32 := 0#32
  let v1216 : Index := Scalar.indexCast c0_i32_476
  let c368 : Index := 368#32
  ![v1215.toNat, 0, 368]
def k0_off529 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1226 : Index := Scalar.indexCast arg16
  let c0_i32_479 : BitVec 32 := 0#32
  let v1227 : Index := Scalar.indexCast c0_i32_479
  let c384 : Index := 384#32
  ![v1226.toNat, 0, 384]
def k0_off530 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1237 : Index := Scalar.indexCast arg16
  let c0_i32_482 : BitVec 32 := 0#32
  let v1238 : Index := Scalar.indexCast c0_i32_482
  let c400 : Index := 400#32
  ![v1237.toNat, 0, 400]
def k0_off531 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1248 : Index := Scalar.indexCast arg16
  let c0_i32_485 : BitVec 32 := 0#32
  let v1249 : Index := Scalar.indexCast c0_i32_485
  let c416 : Index := 416#32
  ![v1248.toNat, 0, 416]
def k0_off532 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1259 : Index := Scalar.indexCast arg16
  let c0_i32_488 : BitVec 32 := 0#32
  let v1260 : Index := Scalar.indexCast c0_i32_488
  let c432 : Index := 432#32
  ![v1259.toNat, 0, 432]
def k0_off533 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1270 : Index := Scalar.indexCast arg16
  let c0_i32_491 : BitVec 32 := 0#32
  let v1271 : Index := Scalar.indexCast c0_i32_491
  let c448 : Index := 448#32
  ![v1270.toNat, 0, 448]
def k0_off534 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1281 : Index := Scalar.indexCast arg16
  let c0_i32_494 : BitVec 32 := 0#32
  let v1282 : Index := Scalar.indexCast c0_i32_494
  let c464 : Index := 464#32
  ![v1281.toNat, 0, 464]
def k0_off535 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1292 : Index := Scalar.indexCast arg16
  let c0_i32_497 : BitVec 32 := 0#32
  let v1293 : Index := Scalar.indexCast c0_i32_497
  let c480 : Index := 480#32
  ![v1292.toNat, 0, 480]
def k0_off536 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c1_i32_404 : BitVec 32 := 1#32
  let arg16 : BitVec 32 := Scf.iv v950 c1_i32_404 k0_t23
  let v1303 : Index := Scalar.indexCast arg16
  let c0_i32_500 : BitVec 32 := 0#32
  let v1304 : Index := Scalar.indexCast c0_i32_500
  let c496 : Index := 496#32
  ![v1303.toNat, 0, 496]
@[reducible] def k0_t24_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) : Scf.Loop 32 :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let v956 : BitVec 32 := Scalar.addi v950 v955
  let c1_i32_405 : BitVec 32 := 1#32
  ⟨v959, v956, c1_i32_405⟩
def k0_off537 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v962 : Index := Scalar.indexCast arg16
  let c0_i32_406 : BitVec 32 := 0#32
  let v963 : Index := Scalar.indexCast c0_i32_406
  let c0_407 : Index := 0#32
  ![v962.toNat, 0, 0]
def k0_off538 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v973 : Index := Scalar.indexCast arg16
  let c0_i32_410 : BitVec 32 := 0#32
  let v974 : Index := Scalar.indexCast c0_i32_410
  let c16 : Index := 16#32
  ![v973.toNat, 0, 16]
def k0_off539 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v984 : Index := Scalar.indexCast arg16
  let c0_i32_413 : BitVec 32 := 0#32
  let v985 : Index := Scalar.indexCast c0_i32_413
  let c32 : Index := 32#32
  ![v984.toNat, 0, 32]
def k0_off540 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v995 : Index := Scalar.indexCast arg16
  let c0_i32_416 : BitVec 32 := 0#32
  let v996 : Index := Scalar.indexCast c0_i32_416
  let c48 : Index := 48#32
  ![v995.toNat, 0, 48]
def k0_off541 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1006 : Index := Scalar.indexCast arg16
  let c0_i32_419 : BitVec 32 := 0#32
  let v1007 : Index := Scalar.indexCast c0_i32_419
  let c64 : Index := 64#32
  ![v1006.toNat, 0, 64]
def k0_off542 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1017 : Index := Scalar.indexCast arg16
  let c0_i32_422 : BitVec 32 := 0#32
  let v1018 : Index := Scalar.indexCast c0_i32_422
  let c80 : Index := 80#32
  ![v1017.toNat, 0, 80]
def k0_off543 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1028 : Index := Scalar.indexCast arg16
  let c0_i32_425 : BitVec 32 := 0#32
  let v1029 : Index := Scalar.indexCast c0_i32_425
  let c96 : Index := 96#32
  ![v1028.toNat, 0, 96]
def k0_off544 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1039 : Index := Scalar.indexCast arg16
  let c0_i32_428 : BitVec 32 := 0#32
  let v1040 : Index := Scalar.indexCast c0_i32_428
  let c112 : Index := 112#32
  ![v1039.toNat, 0, 112]
def k0_off545 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1050 : Index := Scalar.indexCast arg16
  let c0_i32_431 : BitVec 32 := 0#32
  let v1051 : Index := Scalar.indexCast c0_i32_431
  let c128 : Index := 128#32
  ![v1050.toNat, 0, 128]
def k0_off546 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1061 : Index := Scalar.indexCast arg16
  let c0_i32_434 : BitVec 32 := 0#32
  let v1062 : Index := Scalar.indexCast c0_i32_434
  let c144 : Index := 144#32
  ![v1061.toNat, 0, 144]
def k0_off547 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1072 : Index := Scalar.indexCast arg16
  let c0_i32_437 : BitVec 32 := 0#32
  let v1073 : Index := Scalar.indexCast c0_i32_437
  let c160 : Index := 160#32
  ![v1072.toNat, 0, 160]
def k0_off548 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1083 : Index := Scalar.indexCast arg16
  let c0_i32_440 : BitVec 32 := 0#32
  let v1084 : Index := Scalar.indexCast c0_i32_440
  let c176 : Index := 176#32
  ![v1083.toNat, 0, 176]
def k0_off549 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1094 : Index := Scalar.indexCast arg16
  let c0_i32_443 : BitVec 32 := 0#32
  let v1095 : Index := Scalar.indexCast c0_i32_443
  let c192 : Index := 192#32
  ![v1094.toNat, 0, 192]
def k0_off550 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1105 : Index := Scalar.indexCast arg16
  let c0_i32_446 : BitVec 32 := 0#32
  let v1106 : Index := Scalar.indexCast c0_i32_446
  let c208 : Index := 208#32
  ![v1105.toNat, 0, 208]
def k0_off551 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1116 : Index := Scalar.indexCast arg16
  let c0_i32_449 : BitVec 32 := 0#32
  let v1117 : Index := Scalar.indexCast c0_i32_449
  let c224 : Index := 224#32
  ![v1116.toNat, 0, 224]
def k0_off552 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1127 : Index := Scalar.indexCast arg16
  let c0_i32_452 : BitVec 32 := 0#32
  let v1128 : Index := Scalar.indexCast c0_i32_452
  let c240 : Index := 240#32
  ![v1127.toNat, 0, 240]
def k0_off553 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1138 : Index := Scalar.indexCast arg16
  let c0_i32_455 : BitVec 32 := 0#32
  let v1139 : Index := Scalar.indexCast c0_i32_455
  let c256 : Index := 256#32
  ![v1138.toNat, 0, 256]
def k0_off554 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1149 : Index := Scalar.indexCast arg16
  let c0_i32_458 : BitVec 32 := 0#32
  let v1150 : Index := Scalar.indexCast c0_i32_458
  let c272 : Index := 272#32
  ![v1149.toNat, 0, 272]
def k0_off555 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1160 : Index := Scalar.indexCast arg16
  let c0_i32_461 : BitVec 32 := 0#32
  let v1161 : Index := Scalar.indexCast c0_i32_461
  let c288 : Index := 288#32
  ![v1160.toNat, 0, 288]
def k0_off556 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1171 : Index := Scalar.indexCast arg16
  let c0_i32_464 : BitVec 32 := 0#32
  let v1172 : Index := Scalar.indexCast c0_i32_464
  let c304 : Index := 304#32
  ![v1171.toNat, 0, 304]
def k0_off557 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1182 : Index := Scalar.indexCast arg16
  let c0_i32_467 : BitVec 32 := 0#32
  let v1183 : Index := Scalar.indexCast c0_i32_467
  let c320 : Index := 320#32
  ![v1182.toNat, 0, 320]
def k0_off558 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1193 : Index := Scalar.indexCast arg16
  let c0_i32_470 : BitVec 32 := 0#32
  let v1194 : Index := Scalar.indexCast c0_i32_470
  let c336 : Index := 336#32
  ![v1193.toNat, 0, 336]
def k0_off559 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1204 : Index := Scalar.indexCast arg16
  let c0_i32_473 : BitVec 32 := 0#32
  let v1205 : Index := Scalar.indexCast c0_i32_473
  let c352 : Index := 352#32
  ![v1204.toNat, 0, 352]
def k0_off560 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1215 : Index := Scalar.indexCast arg16
  let c0_i32_476 : BitVec 32 := 0#32
  let v1216 : Index := Scalar.indexCast c0_i32_476
  let c368 : Index := 368#32
  ![v1215.toNat, 0, 368]
def k0_off561 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1226 : Index := Scalar.indexCast arg16
  let c0_i32_479 : BitVec 32 := 0#32
  let v1227 : Index := Scalar.indexCast c0_i32_479
  let c384 : Index := 384#32
  ![v1226.toNat, 0, 384]
def k0_off562 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1237 : Index := Scalar.indexCast arg16
  let c0_i32_482 : BitVec 32 := 0#32
  let v1238 : Index := Scalar.indexCast c0_i32_482
  let c400 : Index := 400#32
  ![v1237.toNat, 0, 400]
def k0_off563 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1248 : Index := Scalar.indexCast arg16
  let c0_i32_485 : BitVec 32 := 0#32
  let v1249 : Index := Scalar.indexCast c0_i32_485
  let c416 : Index := 416#32
  ![v1248.toNat, 0, 416]
def k0_off564 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1259 : Index := Scalar.indexCast arg16
  let c0_i32_488 : BitVec 32 := 0#32
  let v1260 : Index := Scalar.indexCast c0_i32_488
  let c432 : Index := 432#32
  ![v1259.toNat, 0, 432]
def k0_off565 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1270 : Index := Scalar.indexCast arg16
  let c0_i32_491 : BitVec 32 := 0#32
  let v1271 : Index := Scalar.indexCast c0_i32_491
  let c448 : Index := 448#32
  ![v1270.toNat, 0, 448]
def k0_off566 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1281 : Index := Scalar.indexCast arg16
  let c0_i32_494 : BitVec 32 := 0#32
  let v1282 : Index := Scalar.indexCast c0_i32_494
  let c464 : Index := 464#32
  ![v1281.toNat, 0, 464]
def k0_off567 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1292 : Index := Scalar.indexCast arg16
  let c0_i32_497 : BitVec 32 := 0#32
  let v1293 : Index := Scalar.indexCast c0_i32_497
  let c480 : Index := 480#32
  ![v1292.toNat, 0, 480]
def k0_off568 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips) : Fin 3 → Nat :=
  let c0_i32_122 : BitVec 32 := 0#32
  let c1024_i32_108 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v294 : BitVec 32 := Scalar.addi v100 v73
  let v295 : BitVec 32 := Scalar.minsi v150 v294
  let v298 : BitVec 32 := Scalar.subi v295 v100
  let v299 : BitVec 32 := Scalar.addi c1024_i32_108 v298
  let c1024_i32_107 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v293 : BitVec 32 := Scalar.maxsi v131 v100
  let v296 : BitVec 32 := Scalar.subi v293 v100
  let v297 : BitVec 32 := Scalar.addi c1024_i32_107 v296
  let v300 : BitVec 32 := Scalar.subi v299 v297
  let c31_i32_109 : BitVec 32 := 31#32
  let v301 : BitVec 32 := Scalar.addi v300 c31_i32_109
  let c0_i32_111 : BitVec 32 := 0#32
  let v303 : BitVec 1 := Scalar.cmpi .sgt v301 c0_i32_111
  let v304 : BitVec 32 := Scalar.extui v303
  let c0_i32_112 : BitVec 32 := 0#32
  let v305 : BitVec 1 := Scalar.cmpi .slt v301 c0_i32_112
  let v306 : BitVec 32 := Scalar.extui v305
  let v307 : BitVec 32 := Scalar.subi v304 v306
  let c32_i32_110 : BitVec 32 := 32#32
  let c0_i32_113 : BitVec 32 := 0#32
  let v308 : BitVec 1 := Scalar.cmpi .sgt c32_i32_110 c0_i32_113
  let v309 : BitVec 32 := Scalar.extui v308
  let c0_i32_114 : BitVec 32 := 0#32
  let v310 : BitVec 1 := Scalar.cmpi .slt c32_i32_110 c0_i32_114
  let v311 : BitVec 32 := Scalar.extui v310
  let v312 : BitVec 32 := Scalar.subi v309 v311
  let v313 : BitVec 1 := Scalar.cmpi .ne v307 v312
  let v314 : BitVec 32 := Scalar.remsi v301 c32_i32_110
  let c0_i32_115 : BitVec 32 := 0#32
  let v315 : BitVec 1 := Scalar.cmpi .ne v314 c0_i32_115
  let v316 : BitVec 1 := Scalar.andi v313 v315
  let v302 : BitVec 32 := Scalar.divsi v301 c32_i32_110
  let c1_i32_116 : BitVec 32 := 1#32
  let v317 : BitVec 32 := Scalar.subi v302 c1_i32_116
  let v318 : BitVec 32 := Scalar.select v316 v317 v302
  let v326 : BitVec 32 := Scalar.subi v318 c0_i32_122
  let c1_i32_123 : BitVec 32 := 1#32
  let v328 : BitVec 32 := Scalar.divsi v326 c1_i32_123
  let v329 : BitVec 32 := Scalar.muli v328 c1_i32_123
  let v330 : BitVec 32 := Scalar.addi c0_i32_122 v329
  let c1_i32_125 : BitVec 32 := 1#32
  let arg14 : BitVec 32 := Scf.iv v330 c1_i32_125 k0_t22
  let c3_i32 : BitVec 32 := 3#32
  let v907 : BitVec 32 := Scalar.remsi arg14 c3_i32
  let c32_i32_401 : BitVec 32 := 32#32
  let v948 : BitVec 32 := Scalar.muli v907 c32_i32_401
  let c32_i32_400 : BitVec 32 := 32#32
  let v945 : BitVec 32 := Scalar.muli arg14 c32_i32_400
  let v946 : BitVec 32 := Scalar.addi v297 v945
  let c2016_i32 : BitVec 32 := 2016#32
  let v947 : BitVec 32 := Scalar.minsi v946 c2016_i32
  let v949 : BitVec 32 := Scalar.subi v946 v947
  let v950 : BitVec 32 := Scalar.addi v948 v949
  let c32_i32_402 : BitVec 32 := 32#32
  let v951 : BitVec 32 := Scalar.addi v946 c32_i32_402
  let v952 : BitVec 32 := Scalar.minsi v299 v951
  let v953 : BitVec 32 := Scalar.subi v952 v947
  let v954 : BitVec 32 := Scalar.addi v948 v953
  let v955 : BitVec 32 := Scalar.subi v954 v950
  let c1_i32_403 : BitVec 32 := 1#32
  let v957 : BitVec 32 := Scalar.divsi v955 c1_i32_403
  let v958 : BitVec 32 := Scalar.muli v957 c1_i32_403
  let v959 : BitVec 32 := Scalar.addi v950 v958
  let c1_i32_405 : BitVec 32 := 1#32
  let arg16 : BitVec 32 := Scf.iv v959 c1_i32_405 k0_t24
  let v1303 : Index := Scalar.indexCast arg16
  let c0_i32_500 : BitVec 32 := 0#32
  let v1304 : Index := Scalar.indexCast c0_i32_500
  let c496 : Index := 496#32
  ![v1303.toNat, 0, 496]
def k0_off569 : Fin 3 → Nat :=
  let c0_i32_370 : BitVec 32 := 0#32
  let c32_i32_371 : BitVec 32 := 32#32
  let v910 : BitVec 32 := Scalar.muli c0_i32_370 c32_i32_371
  let c0_i32_373 : BitVec 32 := 0#32
  let c0_i32_374 : BitVec 32 := 0#32
  ![v910.toNat, 0, 0]
def k0_off570 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c0_i32_368 : BitVec 32 := 0#32
  let c32_i32_369 : BitVec 32 := 32#32
  let v907 : BitVec 32 := Scalar.muli c0_i32_368 c32_i32_369
  let v908 : BitVec 32 := Scalar.addi v344 v907
  let c2016_i32 : BitVec 32 := 2016#32
  let v909 : BitVec 32 := Scalar.minsi v908 c2016_i32
  let c4_i32 : BitVec 32 := 4#32
  let c0_i32_375 : BitVec 32 := 0#32
  ![v909.toNat, 4, 0]
def k0_cond17 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let c0_i32_137 : BitVec 32 := 0#32
  let v366 : BitVec 1 := Scalar.cmpi .sgt v365 c0_i32_137
  let v367 : BitVec 32 := Scalar.extui v366
  let c0_i32_138 : BitVec 32 := 0#32
  let v368 : BitVec 1 := Scalar.cmpi .ne v367 c0_i32_138
  v368

def k0_off571 : Fin 3 → Nat :=
  let c1_i32_370 : BitVec 32 := 1#32
  let c32_i32_371 : BitVec 32 := 32#32
  let v910 : BitVec 32 := Scalar.muli c1_i32_370 c32_i32_371
  let c0_i32_373 : BitVec 32 := 0#32
  let c0_i32_374 : BitVec 32 := 0#32
  ![v910.toNat, 0, 0]
def k0_off572 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c1_i32_368 : BitVec 32 := 1#32
  let c32_i32_369 : BitVec 32 := 32#32
  let v907 : BitVec 32 := Scalar.muli c1_i32_368 c32_i32_369
  let v908 : BitVec 32 := Scalar.addi v344 v907
  let c2016_i32 : BitVec 32 := 2016#32
  let v909 : BitVec 32 := Scalar.minsi v908 c2016_i32
  let c4_i32 : BitVec 32 := 4#32
  let c0_i32_375 : BitVec 32 := 0#32
  ![v909.toNat, 4, 0]
def k0_cond18 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let c1_i32_139 : BitVec 32 := 1#32
  let v369 : BitVec 1 := Scalar.cmpi .sgt v365 c1_i32_139
  let v370 : BitVec 32 := Scalar.extui v369
  let c0_i32_140 : BitVec 32 := 0#32
  let v371 : BitVec 1 := Scalar.cmpi .ne v370 c0_i32_140
  v371

@[reducible] def k0_t25_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_144 : BitVec 32 := 1#32
  ⟨c0_i32_142, v377, c1_i32_144⟩
def k0_off573 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) : Fin 3 → Nat :=
  let c0_i32_142 : BitVec 32 := 0#32
  let c1_i32_144 : BitVec 32 := 1#32
  let arg14 : BitVec 32 := Scf.iv c0_i32_142 c1_i32_144 k0_t25
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond19 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) : BitVec 1 :=
  let c0_i32_142 : BitVec 32 := 0#32
  let c1_i32_144 : BitVec 32 := 1#32
  let arg14 : BitVec 32 := Scf.iv c0_i32_142 c1_i32_144 k0_t25
  let c2_i32_376 : BitVec 32 := 2#32
  let v927 : BitVec 32 := Scalar.addi arg14 c2_i32_376
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v908 : BitVec 32 := Scalar.subi v346 v344
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off574 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) : Fin 3 → Nat :=
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c0_i32_142 : BitVec 32 := 0#32
  let c1_i32_144 : BitVec 32 := 1#32
  let arg14 : BitVec 32 := Scf.iv c0_i32_142 c1_i32_144 k0_t25
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v344 v965
  let c2016_i32_409 : BitVec 32 := 2016#32
  let v967 : BitVec 32 := Scalar.minsi v966 c2016_i32_409
  let c4_i32_413 : BitVec 32 := 4#32
  let c0_i32_414 : BitVec 32 := 0#32
  ![v967.toNat, 4, 0]
def k0_off575 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) : Fin 1 → Nat :=
  let c0_i32_142 : BitVec 32 := 0#32
  let c1_i32_144 : BitVec 32 := 1#32
  let arg14 : BitVec 32 := Scf.iv c0_i32_142 c1_i32_144 k0_t25
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off576 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off577 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) : Fin 1 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  ![v907.toNat]
@[reducible] def k0_t26_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) : Scf.Loop 32 :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off578 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v962 : Index := Scalar.indexCast arg16
  let c0_i32_405 : BitVec 32 := 0#32
  let v963 : Index := Scalar.indexCast c0_i32_405
  let c0_406 : Index := 0#32
  ![v962.toNat, 0, 0]
def k0_off579 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v973 : Index := Scalar.indexCast arg16
  let c0_i32_409 : BitVec 32 := 0#32
  let v974 : Index := Scalar.indexCast c0_i32_409
  let c16 : Index := 16#32
  ![v973.toNat, 0, 16]
def k0_off580 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v984 : Index := Scalar.indexCast arg16
  let c0_i32_412 : BitVec 32 := 0#32
  let v985 : Index := Scalar.indexCast c0_i32_412
  let c32 : Index := 32#32
  ![v984.toNat, 0, 32]
def k0_off581 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v995 : Index := Scalar.indexCast arg16
  let c0_i32_415 : BitVec 32 := 0#32
  let v996 : Index := Scalar.indexCast c0_i32_415
  let c48 : Index := 48#32
  ![v995.toNat, 0, 48]
def k0_off582 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1006 : Index := Scalar.indexCast arg16
  let c0_i32_418 : BitVec 32 := 0#32
  let v1007 : Index := Scalar.indexCast c0_i32_418
  let c64 : Index := 64#32
  ![v1006.toNat, 0, 64]
def k0_off583 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1017 : Index := Scalar.indexCast arg16
  let c0_i32_421 : BitVec 32 := 0#32
  let v1018 : Index := Scalar.indexCast c0_i32_421
  let c80 : Index := 80#32
  ![v1017.toNat, 0, 80]
def k0_off584 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1028 : Index := Scalar.indexCast arg16
  let c0_i32_424 : BitVec 32 := 0#32
  let v1029 : Index := Scalar.indexCast c0_i32_424
  let c96 : Index := 96#32
  ![v1028.toNat, 0, 96]
def k0_off585 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1039 : Index := Scalar.indexCast arg16
  let c0_i32_427 : BitVec 32 := 0#32
  let v1040 : Index := Scalar.indexCast c0_i32_427
  let c112 : Index := 112#32
  ![v1039.toNat, 0, 112]
def k0_off586 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1050 : Index := Scalar.indexCast arg16
  let c0_i32_430 : BitVec 32 := 0#32
  let v1051 : Index := Scalar.indexCast c0_i32_430
  let c128 : Index := 128#32
  ![v1050.toNat, 0, 128]
def k0_off587 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1061 : Index := Scalar.indexCast arg16
  let c0_i32_433 : BitVec 32 := 0#32
  let v1062 : Index := Scalar.indexCast c0_i32_433
  let c144 : Index := 144#32
  ![v1061.toNat, 0, 144]
def k0_off588 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1072 : Index := Scalar.indexCast arg16
  let c0_i32_436 : BitVec 32 := 0#32
  let v1073 : Index := Scalar.indexCast c0_i32_436
  let c160 : Index := 160#32
  ![v1072.toNat, 0, 160]
def k0_off589 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1083 : Index := Scalar.indexCast arg16
  let c0_i32_439 : BitVec 32 := 0#32
  let v1084 : Index := Scalar.indexCast c0_i32_439
  let c176 : Index := 176#32
  ![v1083.toNat, 0, 176]
def k0_off590 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1094 : Index := Scalar.indexCast arg16
  let c0_i32_442 : BitVec 32 := 0#32
  let v1095 : Index := Scalar.indexCast c0_i32_442
  let c192 : Index := 192#32
  ![v1094.toNat, 0, 192]
def k0_off591 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1105 : Index := Scalar.indexCast arg16
  let c0_i32_445 : BitVec 32 := 0#32
  let v1106 : Index := Scalar.indexCast c0_i32_445
  let c208 : Index := 208#32
  ![v1105.toNat, 0, 208]
def k0_off592 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1116 : Index := Scalar.indexCast arg16
  let c0_i32_448 : BitVec 32 := 0#32
  let v1117 : Index := Scalar.indexCast c0_i32_448
  let c224 : Index := 224#32
  ![v1116.toNat, 0, 224]
def k0_off593 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1127 : Index := Scalar.indexCast arg16
  let c0_i32_451 : BitVec 32 := 0#32
  let v1128 : Index := Scalar.indexCast c0_i32_451
  let c240 : Index := 240#32
  ![v1127.toNat, 0, 240]
def k0_off594 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1138 : Index := Scalar.indexCast arg16
  let c0_i32_454 : BitVec 32 := 0#32
  let v1139 : Index := Scalar.indexCast c0_i32_454
  let c256 : Index := 256#32
  ![v1138.toNat, 0, 256]
def k0_off595 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1149 : Index := Scalar.indexCast arg16
  let c0_i32_457 : BitVec 32 := 0#32
  let v1150 : Index := Scalar.indexCast c0_i32_457
  let c272 : Index := 272#32
  ![v1149.toNat, 0, 272]
def k0_off596 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1160 : Index := Scalar.indexCast arg16
  let c0_i32_460 : BitVec 32 := 0#32
  let v1161 : Index := Scalar.indexCast c0_i32_460
  let c288 : Index := 288#32
  ![v1160.toNat, 0, 288]
def k0_off597 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1171 : Index := Scalar.indexCast arg16
  let c0_i32_463 : BitVec 32 := 0#32
  let v1172 : Index := Scalar.indexCast c0_i32_463
  let c304 : Index := 304#32
  ![v1171.toNat, 0, 304]
def k0_off598 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1182 : Index := Scalar.indexCast arg16
  let c0_i32_466 : BitVec 32 := 0#32
  let v1183 : Index := Scalar.indexCast c0_i32_466
  let c320 : Index := 320#32
  ![v1182.toNat, 0, 320]
def k0_off599 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1193 : Index := Scalar.indexCast arg16
  let c0_i32_469 : BitVec 32 := 0#32
  let v1194 : Index := Scalar.indexCast c0_i32_469
  let c336 : Index := 336#32
  ![v1193.toNat, 0, 336]
def k0_off600 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1204 : Index := Scalar.indexCast arg16
  let c0_i32_472 : BitVec 32 := 0#32
  let v1205 : Index := Scalar.indexCast c0_i32_472
  let c352 : Index := 352#32
  ![v1204.toNat, 0, 352]
def k0_off601 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1215 : Index := Scalar.indexCast arg16
  let c0_i32_475 : BitVec 32 := 0#32
  let v1216 : Index := Scalar.indexCast c0_i32_475
  let c368 : Index := 368#32
  ![v1215.toNat, 0, 368]
def k0_off602 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1226 : Index := Scalar.indexCast arg16
  let c0_i32_478 : BitVec 32 := 0#32
  let v1227 : Index := Scalar.indexCast c0_i32_478
  let c384 : Index := 384#32
  ![v1226.toNat, 0, 384]
def k0_off603 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1237 : Index := Scalar.indexCast arg16
  let c0_i32_481 : BitVec 32 := 0#32
  let v1238 : Index := Scalar.indexCast c0_i32_481
  let c400 : Index := 400#32
  ![v1237.toNat, 0, 400]
def k0_off604 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1248 : Index := Scalar.indexCast arg16
  let c0_i32_484 : BitVec 32 := 0#32
  let v1249 : Index := Scalar.indexCast c0_i32_484
  let c416 : Index := 416#32
  ![v1248.toNat, 0, 416]
def k0_off605 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1259 : Index := Scalar.indexCast arg16
  let c0_i32_487 : BitVec 32 := 0#32
  let v1260 : Index := Scalar.indexCast c0_i32_487
  let c432 : Index := 432#32
  ![v1259.toNat, 0, 432]
def k0_off606 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1270 : Index := Scalar.indexCast arg16
  let c0_i32_490 : BitVec 32 := 0#32
  let v1271 : Index := Scalar.indexCast c0_i32_490
  let c448 : Index := 448#32
  ![v1270.toNat, 0, 448]
def k0_off607 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1281 : Index := Scalar.indexCast arg16
  let c0_i32_493 : BitVec 32 := 0#32
  let v1282 : Index := Scalar.indexCast c0_i32_493
  let c464 : Index := 464#32
  ![v1281.toNat, 0, 464]
def k0_off608 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1292 : Index := Scalar.indexCast arg16
  let c0_i32_496 : BitVec 32 := 0#32
  let v1293 : Index := Scalar.indexCast c0_i32_496
  let c480 : Index := 480#32
  ![v1292.toNat, 0, 480]
def k0_off609 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t26
  let v1303 : Index := Scalar.indexCast arg16
  let c0_i32_499 : BitVec 32 := 0#32
  let v1304 : Index := Scalar.indexCast c0_i32_499
  let c496 : Index := 496#32
  ![v1303.toNat, 0, 496]
@[reducible] def k0_t27_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) : Scf.Loop 32 :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off610 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v962 : Index := Scalar.indexCast arg16
  let c0_i32_405 : BitVec 32 := 0#32
  let v963 : Index := Scalar.indexCast c0_i32_405
  let c0_406 : Index := 0#32
  ![v962.toNat, 0, 0]
def k0_off611 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v973 : Index := Scalar.indexCast arg16
  let c0_i32_409 : BitVec 32 := 0#32
  let v974 : Index := Scalar.indexCast c0_i32_409
  let c16 : Index := 16#32
  ![v973.toNat, 0, 16]
def k0_off612 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v984 : Index := Scalar.indexCast arg16
  let c0_i32_412 : BitVec 32 := 0#32
  let v985 : Index := Scalar.indexCast c0_i32_412
  let c32 : Index := 32#32
  ![v984.toNat, 0, 32]
def k0_off613 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v995 : Index := Scalar.indexCast arg16
  let c0_i32_415 : BitVec 32 := 0#32
  let v996 : Index := Scalar.indexCast c0_i32_415
  let c48 : Index := 48#32
  ![v995.toNat, 0, 48]
def k0_off614 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1006 : Index := Scalar.indexCast arg16
  let c0_i32_418 : BitVec 32 := 0#32
  let v1007 : Index := Scalar.indexCast c0_i32_418
  let c64 : Index := 64#32
  ![v1006.toNat, 0, 64]
def k0_off615 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1017 : Index := Scalar.indexCast arg16
  let c0_i32_421 : BitVec 32 := 0#32
  let v1018 : Index := Scalar.indexCast c0_i32_421
  let c80 : Index := 80#32
  ![v1017.toNat, 0, 80]
def k0_off616 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1028 : Index := Scalar.indexCast arg16
  let c0_i32_424 : BitVec 32 := 0#32
  let v1029 : Index := Scalar.indexCast c0_i32_424
  let c96 : Index := 96#32
  ![v1028.toNat, 0, 96]
def k0_off617 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1039 : Index := Scalar.indexCast arg16
  let c0_i32_427 : BitVec 32 := 0#32
  let v1040 : Index := Scalar.indexCast c0_i32_427
  let c112 : Index := 112#32
  ![v1039.toNat, 0, 112]
def k0_off618 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1050 : Index := Scalar.indexCast arg16
  let c0_i32_430 : BitVec 32 := 0#32
  let v1051 : Index := Scalar.indexCast c0_i32_430
  let c128 : Index := 128#32
  ![v1050.toNat, 0, 128]
def k0_off619 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1061 : Index := Scalar.indexCast arg16
  let c0_i32_433 : BitVec 32 := 0#32
  let v1062 : Index := Scalar.indexCast c0_i32_433
  let c144 : Index := 144#32
  ![v1061.toNat, 0, 144]
def k0_off620 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1072 : Index := Scalar.indexCast arg16
  let c0_i32_436 : BitVec 32 := 0#32
  let v1073 : Index := Scalar.indexCast c0_i32_436
  let c160 : Index := 160#32
  ![v1072.toNat, 0, 160]
def k0_off621 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1083 : Index := Scalar.indexCast arg16
  let c0_i32_439 : BitVec 32 := 0#32
  let v1084 : Index := Scalar.indexCast c0_i32_439
  let c176 : Index := 176#32
  ![v1083.toNat, 0, 176]
def k0_off622 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1094 : Index := Scalar.indexCast arg16
  let c0_i32_442 : BitVec 32 := 0#32
  let v1095 : Index := Scalar.indexCast c0_i32_442
  let c192 : Index := 192#32
  ![v1094.toNat, 0, 192]
def k0_off623 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1105 : Index := Scalar.indexCast arg16
  let c0_i32_445 : BitVec 32 := 0#32
  let v1106 : Index := Scalar.indexCast c0_i32_445
  let c208 : Index := 208#32
  ![v1105.toNat, 0, 208]
def k0_off624 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1116 : Index := Scalar.indexCast arg16
  let c0_i32_448 : BitVec 32 := 0#32
  let v1117 : Index := Scalar.indexCast c0_i32_448
  let c224 : Index := 224#32
  ![v1116.toNat, 0, 224]
def k0_off625 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1127 : Index := Scalar.indexCast arg16
  let c0_i32_451 : BitVec 32 := 0#32
  let v1128 : Index := Scalar.indexCast c0_i32_451
  let c240 : Index := 240#32
  ![v1127.toNat, 0, 240]
def k0_off626 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1138 : Index := Scalar.indexCast arg16
  let c0_i32_454 : BitVec 32 := 0#32
  let v1139 : Index := Scalar.indexCast c0_i32_454
  let c256 : Index := 256#32
  ![v1138.toNat, 0, 256]
def k0_off627 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1149 : Index := Scalar.indexCast arg16
  let c0_i32_457 : BitVec 32 := 0#32
  let v1150 : Index := Scalar.indexCast c0_i32_457
  let c272 : Index := 272#32
  ![v1149.toNat, 0, 272]
def k0_off628 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1160 : Index := Scalar.indexCast arg16
  let c0_i32_460 : BitVec 32 := 0#32
  let v1161 : Index := Scalar.indexCast c0_i32_460
  let c288 : Index := 288#32
  ![v1160.toNat, 0, 288]
def k0_off629 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1171 : Index := Scalar.indexCast arg16
  let c0_i32_463 : BitVec 32 := 0#32
  let v1172 : Index := Scalar.indexCast c0_i32_463
  let c304 : Index := 304#32
  ![v1171.toNat, 0, 304]
def k0_off630 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1182 : Index := Scalar.indexCast arg16
  let c0_i32_466 : BitVec 32 := 0#32
  let v1183 : Index := Scalar.indexCast c0_i32_466
  let c320 : Index := 320#32
  ![v1182.toNat, 0, 320]
def k0_off631 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1193 : Index := Scalar.indexCast arg16
  let c0_i32_469 : BitVec 32 := 0#32
  let v1194 : Index := Scalar.indexCast c0_i32_469
  let c336 : Index := 336#32
  ![v1193.toNat, 0, 336]
def k0_off632 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1204 : Index := Scalar.indexCast arg16
  let c0_i32_472 : BitVec 32 := 0#32
  let v1205 : Index := Scalar.indexCast c0_i32_472
  let c352 : Index := 352#32
  ![v1204.toNat, 0, 352]
def k0_off633 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1215 : Index := Scalar.indexCast arg16
  let c0_i32_475 : BitVec 32 := 0#32
  let v1216 : Index := Scalar.indexCast c0_i32_475
  let c368 : Index := 368#32
  ![v1215.toNat, 0, 368]
def k0_off634 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1226 : Index := Scalar.indexCast arg16
  let c0_i32_478 : BitVec 32 := 0#32
  let v1227 : Index := Scalar.indexCast c0_i32_478
  let c384 : Index := 384#32
  ![v1226.toNat, 0, 384]
def k0_off635 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1237 : Index := Scalar.indexCast arg16
  let c0_i32_481 : BitVec 32 := 0#32
  let v1238 : Index := Scalar.indexCast c0_i32_481
  let c400 : Index := 400#32
  ![v1237.toNat, 0, 400]
def k0_off636 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1248 : Index := Scalar.indexCast arg16
  let c0_i32_484 : BitVec 32 := 0#32
  let v1249 : Index := Scalar.indexCast c0_i32_484
  let c416 : Index := 416#32
  ![v1248.toNat, 0, 416]
def k0_off637 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1259 : Index := Scalar.indexCast arg16
  let c0_i32_487 : BitVec 32 := 0#32
  let v1260 : Index := Scalar.indexCast c0_i32_487
  let c432 : Index := 432#32
  ![v1259.toNat, 0, 432]
def k0_off638 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1270 : Index := Scalar.indexCast arg16
  let c0_i32_490 : BitVec 32 := 0#32
  let v1271 : Index := Scalar.indexCast c0_i32_490
  let c448 : Index := 448#32
  ![v1270.toNat, 0, 448]
def k0_off639 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1281 : Index := Scalar.indexCast arg16
  let c0_i32_493 : BitVec 32 := 0#32
  let v1282 : Index := Scalar.indexCast c0_i32_493
  let c464 : Index := 464#32
  ![v1281.toNat, 0, 464]
def k0_off640 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1292 : Index := Scalar.indexCast arg16
  let c0_i32_496 : BitVec 32 := 0#32
  let v1293 : Index := Scalar.indexCast c0_i32_496
  let c480 : Index := 480#32
  ![v1292.toNat, 0, 480]
def k0_off641 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips) : Fin 3 → Nat :=
  let c0_i32_142 : BitVec 32 := 0#32
  let c1_i32_144 : BitVec 32 := 1#32
  let arg14 : BitVec 32 := Scf.iv c0_i32_142 c1_i32_144 k0_t25
  let c3_i32 : BitVec 32 := 3#32
  let v907 : BitVec 32 := Scalar.remsi arg14 c3_i32
  let c32_i32_400 : BitVec 32 := 32#32
  let v948 : BitVec 32 := Scalar.muli v907 c32_i32_400
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t27
  let v1303 : Index := Scalar.indexCast arg16
  let c0_i32_499 : BitVec 32 := 0#32
  let v1304 : Index := Scalar.indexCast c0_i32_499
  let c496 : Index := 496#32
  ![v1303.toNat, 0, 496]
@[reducible] def k0_t28_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let v374 : BitVec 32 := Scalar.addi c0_i32_142 v373
  let c1_i32_145 : BitVec 32 := 1#32
  ⟨v377, v374, c1_i32_145⟩
def k0_off642 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond20 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) : BitVec 1 :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c2_i32_376 : BitVec 32 := 2#32
  let v927 : BitVec 32 := Scalar.addi arg14 c2_i32_376
  let v908 : BitVec 32 := Scalar.subi v346 v344
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off643 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) : Fin 3 → Nat :=
  let c1024_i32_127 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let c0_i32_142 : BitVec 32 := 0#32
  let c1024_i32_128 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v344 v965
  let c2016_i32_409 : BitVec 32 := 2016#32
  let v967 : BitVec 32 := Scalar.minsi v966 c2016_i32_409
  let c4_i32_413 : BitVec 32 := 4#32
  let c0_i32_414 : BitVec 32 := 0#32
  ![v967.toNat, 4, 0]
def k0_off644 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) : Fin 1 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off645 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off646 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) : Fin 1 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  ![v907.toNat]
@[reducible] def k0_t29_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) : Scf.Loop 32 :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off647 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v962 : Index := Scalar.indexCast arg16
  let c0_i32_405 : BitVec 32 := 0#32
  let v963 : Index := Scalar.indexCast c0_i32_405
  let c0_406 : Index := 0#32
  ![v962.toNat, 0, 0]
def k0_off648 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v973 : Index := Scalar.indexCast arg16
  let c0_i32_409 : BitVec 32 := 0#32
  let v974 : Index := Scalar.indexCast c0_i32_409
  let c16 : Index := 16#32
  ![v973.toNat, 0, 16]
def k0_off649 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v984 : Index := Scalar.indexCast arg16
  let c0_i32_412 : BitVec 32 := 0#32
  let v985 : Index := Scalar.indexCast c0_i32_412
  let c32 : Index := 32#32
  ![v984.toNat, 0, 32]
def k0_off650 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v995 : Index := Scalar.indexCast arg16
  let c0_i32_415 : BitVec 32 := 0#32
  let v996 : Index := Scalar.indexCast c0_i32_415
  let c48 : Index := 48#32
  ![v995.toNat, 0, 48]
def k0_off651 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1006 : Index := Scalar.indexCast arg16
  let c0_i32_418 : BitVec 32 := 0#32
  let v1007 : Index := Scalar.indexCast c0_i32_418
  let c64 : Index := 64#32
  ![v1006.toNat, 0, 64]
def k0_off652 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1017 : Index := Scalar.indexCast arg16
  let c0_i32_421 : BitVec 32 := 0#32
  let v1018 : Index := Scalar.indexCast c0_i32_421
  let c80 : Index := 80#32
  ![v1017.toNat, 0, 80]
def k0_off653 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1028 : Index := Scalar.indexCast arg16
  let c0_i32_424 : BitVec 32 := 0#32
  let v1029 : Index := Scalar.indexCast c0_i32_424
  let c96 : Index := 96#32
  ![v1028.toNat, 0, 96]
def k0_off654 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1039 : Index := Scalar.indexCast arg16
  let c0_i32_427 : BitVec 32 := 0#32
  let v1040 : Index := Scalar.indexCast c0_i32_427
  let c112 : Index := 112#32
  ![v1039.toNat, 0, 112]
def k0_off655 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1050 : Index := Scalar.indexCast arg16
  let c0_i32_430 : BitVec 32 := 0#32
  let v1051 : Index := Scalar.indexCast c0_i32_430
  let c128 : Index := 128#32
  ![v1050.toNat, 0, 128]
def k0_off656 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1061 : Index := Scalar.indexCast arg16
  let c0_i32_433 : BitVec 32 := 0#32
  let v1062 : Index := Scalar.indexCast c0_i32_433
  let c144 : Index := 144#32
  ![v1061.toNat, 0, 144]
def k0_off657 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1072 : Index := Scalar.indexCast arg16
  let c0_i32_436 : BitVec 32 := 0#32
  let v1073 : Index := Scalar.indexCast c0_i32_436
  let c160 : Index := 160#32
  ![v1072.toNat, 0, 160]
def k0_off658 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1083 : Index := Scalar.indexCast arg16
  let c0_i32_439 : BitVec 32 := 0#32
  let v1084 : Index := Scalar.indexCast c0_i32_439
  let c176 : Index := 176#32
  ![v1083.toNat, 0, 176]
def k0_off659 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1094 : Index := Scalar.indexCast arg16
  let c0_i32_442 : BitVec 32 := 0#32
  let v1095 : Index := Scalar.indexCast c0_i32_442
  let c192 : Index := 192#32
  ![v1094.toNat, 0, 192]
def k0_off660 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1105 : Index := Scalar.indexCast arg16
  let c0_i32_445 : BitVec 32 := 0#32
  let v1106 : Index := Scalar.indexCast c0_i32_445
  let c208 : Index := 208#32
  ![v1105.toNat, 0, 208]
def k0_off661 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1116 : Index := Scalar.indexCast arg16
  let c0_i32_448 : BitVec 32 := 0#32
  let v1117 : Index := Scalar.indexCast c0_i32_448
  let c224 : Index := 224#32
  ![v1116.toNat, 0, 224]
def k0_off662 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1127 : Index := Scalar.indexCast arg16
  let c0_i32_451 : BitVec 32 := 0#32
  let v1128 : Index := Scalar.indexCast c0_i32_451
  let c240 : Index := 240#32
  ![v1127.toNat, 0, 240]
def k0_off663 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1138 : Index := Scalar.indexCast arg16
  let c0_i32_454 : BitVec 32 := 0#32
  let v1139 : Index := Scalar.indexCast c0_i32_454
  let c256 : Index := 256#32
  ![v1138.toNat, 0, 256]
def k0_off664 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1149 : Index := Scalar.indexCast arg16
  let c0_i32_457 : BitVec 32 := 0#32
  let v1150 : Index := Scalar.indexCast c0_i32_457
  let c272 : Index := 272#32
  ![v1149.toNat, 0, 272]

variable {F : FTy → Type} [FloatOps F]

def k0_off665 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1160 : Index := Scalar.indexCast arg16
  let c0_i32_460 : BitVec 32 := 0#32
  let v1161 : Index := Scalar.indexCast c0_i32_460
  let c288 : Index := 288#32
  ![v1160.toNat, 0, 288]
def k0_off666 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1171 : Index := Scalar.indexCast arg16
  let c0_i32_463 : BitVec 32 := 0#32
  let v1172 : Index := Scalar.indexCast c0_i32_463
  let c304 : Index := 304#32
  ![v1171.toNat, 0, 304]
def k0_off667 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1182 : Index := Scalar.indexCast arg16
  let c0_i32_466 : BitVec 32 := 0#32
  let v1183 : Index := Scalar.indexCast c0_i32_466
  let c320 : Index := 320#32
  ![v1182.toNat, 0, 320]
def k0_off668 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1193 : Index := Scalar.indexCast arg16
  let c0_i32_469 : BitVec 32 := 0#32
  let v1194 : Index := Scalar.indexCast c0_i32_469
  let c336 : Index := 336#32
  ![v1193.toNat, 0, 336]
def k0_off669 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1204 : Index := Scalar.indexCast arg16
  let c0_i32_472 : BitVec 32 := 0#32
  let v1205 : Index := Scalar.indexCast c0_i32_472
  let c352 : Index := 352#32
  ![v1204.toNat, 0, 352]
def k0_off670 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1215 : Index := Scalar.indexCast arg16
  let c0_i32_475 : BitVec 32 := 0#32
  let v1216 : Index := Scalar.indexCast c0_i32_475
  let c368 : Index := 368#32
  ![v1215.toNat, 0, 368]
def k0_off671 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1226 : Index := Scalar.indexCast arg16
  let c0_i32_478 : BitVec 32 := 0#32
  let v1227 : Index := Scalar.indexCast c0_i32_478
  let c384 : Index := 384#32
  ![v1226.toNat, 0, 384]
def k0_off672 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1237 : Index := Scalar.indexCast arg16
  let c0_i32_481 : BitVec 32 := 0#32
  let v1238 : Index := Scalar.indexCast c0_i32_481
  let c400 : Index := 400#32
  ![v1237.toNat, 0, 400]
def k0_off673 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1248 : Index := Scalar.indexCast arg16
  let c0_i32_484 : BitVec 32 := 0#32
  let v1249 : Index := Scalar.indexCast c0_i32_484
  let c416 : Index := 416#32
  ![v1248.toNat, 0, 416]
def k0_off674 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1259 : Index := Scalar.indexCast arg16
  let c0_i32_487 : BitVec 32 := 0#32
  let v1260 : Index := Scalar.indexCast c0_i32_487
  let c432 : Index := 432#32
  ![v1259.toNat, 0, 432]
def k0_off675 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1270 : Index := Scalar.indexCast arg16
  let c0_i32_490 : BitVec 32 := 0#32
  let v1271 : Index := Scalar.indexCast c0_i32_490
  let c448 : Index := 448#32
  ![v1270.toNat, 0, 448]
def k0_off676 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1281 : Index := Scalar.indexCast arg16
  let c0_i32_493 : BitVec 32 := 0#32
  let v1282 : Index := Scalar.indexCast c0_i32_493
  let c464 : Index := 464#32
  ![v1281.toNat, 0, 464]
def k0_off677 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1292 : Index := Scalar.indexCast arg16
  let c0_i32_496 : BitVec 32 := 0#32
  let v1293 : Index := Scalar.indexCast c0_i32_496
  let c480 : Index := 480#32
  ![v1292.toNat, 0, 480]
def k0_off678 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t29
  let v1303 : Index := Scalar.indexCast arg16
  let c0_i32_499 : BitVec 32 := 0#32
  let v1304 : Index := Scalar.indexCast c0_i32_499
  let c496 : Index := 496#32
  ![v1303.toNat, 0, 496]
@[reducible] def k0_t30_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) : Scf.Loop 32 :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off679 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v962 : Index := Scalar.indexCast arg16
  let c0_i32_405 : BitVec 32 := 0#32
  let v963 : Index := Scalar.indexCast c0_i32_405
  let c0_406 : Index := 0#32
  ![v962.toNat, 0, 0]
def k0_off680 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v973 : Index := Scalar.indexCast arg16
  let c0_i32_409 : BitVec 32 := 0#32
  let v974 : Index := Scalar.indexCast c0_i32_409
  let c16 : Index := 16#32
  ![v973.toNat, 0, 16]
def k0_off681 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v984 : Index := Scalar.indexCast arg16
  let c0_i32_412 : BitVec 32 := 0#32
  let v985 : Index := Scalar.indexCast c0_i32_412
  let c32 : Index := 32#32
  ![v984.toNat, 0, 32]
def k0_off682 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v995 : Index := Scalar.indexCast arg16
  let c0_i32_415 : BitVec 32 := 0#32
  let v996 : Index := Scalar.indexCast c0_i32_415
  let c48 : Index := 48#32
  ![v995.toNat, 0, 48]
def k0_off683 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1006 : Index := Scalar.indexCast arg16
  let c0_i32_418 : BitVec 32 := 0#32
  let v1007 : Index := Scalar.indexCast c0_i32_418
  let c64 : Index := 64#32
  ![v1006.toNat, 0, 64]
def k0_off684 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1017 : Index := Scalar.indexCast arg16
  let c0_i32_421 : BitVec 32 := 0#32
  let v1018 : Index := Scalar.indexCast c0_i32_421
  let c80 : Index := 80#32
  ![v1017.toNat, 0, 80]
def k0_off685 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1028 : Index := Scalar.indexCast arg16
  let c0_i32_424 : BitVec 32 := 0#32
  let v1029 : Index := Scalar.indexCast c0_i32_424
  let c96 : Index := 96#32
  ![v1028.toNat, 0, 96]
def k0_off686 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1039 : Index := Scalar.indexCast arg16
  let c0_i32_427 : BitVec 32 := 0#32
  let v1040 : Index := Scalar.indexCast c0_i32_427
  let c112 : Index := 112#32
  ![v1039.toNat, 0, 112]
def k0_off687 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1050 : Index := Scalar.indexCast arg16
  let c0_i32_430 : BitVec 32 := 0#32
  let v1051 : Index := Scalar.indexCast c0_i32_430
  let c128 : Index := 128#32
  ![v1050.toNat, 0, 128]
def k0_off688 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1061 : Index := Scalar.indexCast arg16
  let c0_i32_433 : BitVec 32 := 0#32
  let v1062 : Index := Scalar.indexCast c0_i32_433
  let c144 : Index := 144#32
  ![v1061.toNat, 0, 144]
def k0_off689 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1072 : Index := Scalar.indexCast arg16
  let c0_i32_436 : BitVec 32 := 0#32
  let v1073 : Index := Scalar.indexCast c0_i32_436
  let c160 : Index := 160#32
  ![v1072.toNat, 0, 160]
def k0_off690 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1083 : Index := Scalar.indexCast arg16
  let c0_i32_439 : BitVec 32 := 0#32
  let v1084 : Index := Scalar.indexCast c0_i32_439
  let c176 : Index := 176#32
  ![v1083.toNat, 0, 176]
def k0_off691 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1094 : Index := Scalar.indexCast arg16
  let c0_i32_442 : BitVec 32 := 0#32
  let v1095 : Index := Scalar.indexCast c0_i32_442
  let c192 : Index := 192#32
  ![v1094.toNat, 0, 192]
def k0_off692 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1105 : Index := Scalar.indexCast arg16
  let c0_i32_445 : BitVec 32 := 0#32
  let v1106 : Index := Scalar.indexCast c0_i32_445
  let c208 : Index := 208#32
  ![v1105.toNat, 0, 208]
def k0_off693 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1116 : Index := Scalar.indexCast arg16
  let c0_i32_448 : BitVec 32 := 0#32
  let v1117 : Index := Scalar.indexCast c0_i32_448
  let c224 : Index := 224#32
  ![v1116.toNat, 0, 224]
def k0_off694 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1127 : Index := Scalar.indexCast arg16
  let c0_i32_451 : BitVec 32 := 0#32
  let v1128 : Index := Scalar.indexCast c0_i32_451
  let c240 : Index := 240#32
  ![v1127.toNat, 0, 240]
def k0_off695 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1138 : Index := Scalar.indexCast arg16
  let c0_i32_454 : BitVec 32 := 0#32
  let v1139 : Index := Scalar.indexCast c0_i32_454
  let c256 : Index := 256#32
  ![v1138.toNat, 0, 256]
def k0_off696 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1149 : Index := Scalar.indexCast arg16
  let c0_i32_457 : BitVec 32 := 0#32
  let v1150 : Index := Scalar.indexCast c0_i32_457
  let c272 : Index := 272#32
  ![v1149.toNat, 0, 272]
def k0_off697 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1160 : Index := Scalar.indexCast arg16
  let c0_i32_460 : BitVec 32 := 0#32
  let v1161 : Index := Scalar.indexCast c0_i32_460
  let c288 : Index := 288#32
  ![v1160.toNat, 0, 288]
def k0_off698 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1171 : Index := Scalar.indexCast arg16
  let c0_i32_463 : BitVec 32 := 0#32
  let v1172 : Index := Scalar.indexCast c0_i32_463
  let c304 : Index := 304#32
  ![v1171.toNat, 0, 304]
def k0_off699 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1182 : Index := Scalar.indexCast arg16
  let c0_i32_466 : BitVec 32 := 0#32
  let v1183 : Index := Scalar.indexCast c0_i32_466
  let c320 : Index := 320#32
  ![v1182.toNat, 0, 320]
def k0_off700 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1193 : Index := Scalar.indexCast arg16
  let c0_i32_469 : BitVec 32 := 0#32
  let v1194 : Index := Scalar.indexCast c0_i32_469
  let c336 : Index := 336#32
  ![v1193.toNat, 0, 336]
def k0_off701 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1204 : Index := Scalar.indexCast arg16
  let c0_i32_472 : BitVec 32 := 0#32
  let v1205 : Index := Scalar.indexCast c0_i32_472
  let c352 : Index := 352#32
  ![v1204.toNat, 0, 352]
def k0_off702 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1215 : Index := Scalar.indexCast arg16
  let c0_i32_475 : BitVec 32 := 0#32
  let v1216 : Index := Scalar.indexCast c0_i32_475
  let c368 : Index := 368#32
  ![v1215.toNat, 0, 368]
def k0_off703 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1226 : Index := Scalar.indexCast arg16
  let c0_i32_478 : BitVec 32 := 0#32
  let v1227 : Index := Scalar.indexCast c0_i32_478
  let c384 : Index := 384#32
  ![v1226.toNat, 0, 384]
def k0_off704 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1237 : Index := Scalar.indexCast arg16
  let c0_i32_481 : BitVec 32 := 0#32
  let v1238 : Index := Scalar.indexCast c0_i32_481
  let c400 : Index := 400#32
  ![v1237.toNat, 0, 400]
def k0_off705 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1248 : Index := Scalar.indexCast arg16
  let c0_i32_484 : BitVec 32 := 0#32
  let v1249 : Index := Scalar.indexCast c0_i32_484
  let c416 : Index := 416#32
  ![v1248.toNat, 0, 416]
def k0_off706 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1259 : Index := Scalar.indexCast arg16
  let c0_i32_487 : BitVec 32 := 0#32
  let v1260 : Index := Scalar.indexCast c0_i32_487
  let c432 : Index := 432#32
  ![v1259.toNat, 0, 432]
def k0_off707 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1270 : Index := Scalar.indexCast arg16
  let c0_i32_490 : BitVec 32 := 0#32
  let v1271 : Index := Scalar.indexCast c0_i32_490
  let c448 : Index := 448#32
  ![v1270.toNat, 0, 448]
def k0_off708 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1281 : Index := Scalar.indexCast arg16
  let c0_i32_493 : BitVec 32 := 0#32
  let v1282 : Index := Scalar.indexCast c0_i32_493
  let c464 : Index := 464#32
  ![v1281.toNat, 0, 464]
def k0_off709 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1292 : Index := Scalar.indexCast arg16
  let c0_i32_496 : BitVec 32 := 0#32
  let v1293 : Index := Scalar.indexCast c0_i32_496
  let c480 : Index := 480#32
  ![v1292.toNat, 0, 480]
def k0_off710 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips) : Fin 3 → Nat :=
  let c0_i32_142 : BitVec 32 := 0#32
  let c1024_i32_128 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v341 : BitVec 32 := Scalar.addi v101 v75
  let v342 : BitVec 32 := Scalar.minsi v150 v341
  let v345 : BitVec 32 := Scalar.subi v342 v101
  let v346 : BitVec 32 := Scalar.addi c1024_i32_128 v345
  let c1024_i32_127 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v340 : BitVec 32 := Scalar.maxsi v131 v101
  let v343 : BitVec 32 := Scalar.subi v340 v101
  let v344 : BitVec 32 := Scalar.addi c1024_i32_127 v343
  let v347 : BitVec 32 := Scalar.subi v346 v344
  let c31_i32_129 : BitVec 32 := 31#32
  let v348 : BitVec 32 := Scalar.addi v347 c31_i32_129
  let c0_i32_131 : BitVec 32 := 0#32
  let v350 : BitVec 1 := Scalar.cmpi .sgt v348 c0_i32_131
  let v351 : BitVec 32 := Scalar.extui v350
  let c0_i32_132 : BitVec 32 := 0#32
  let v352 : BitVec 1 := Scalar.cmpi .slt v348 c0_i32_132
  let v353 : BitVec 32 := Scalar.extui v352
  let v354 : BitVec 32 := Scalar.subi v351 v353
  let c32_i32_130 : BitVec 32 := 32#32
  let c0_i32_133 : BitVec 32 := 0#32
  let v355 : BitVec 1 := Scalar.cmpi .sgt c32_i32_130 c0_i32_133
  let v356 : BitVec 32 := Scalar.extui v355
  let c0_i32_134 : BitVec 32 := 0#32
  let v357 : BitVec 1 := Scalar.cmpi .slt c32_i32_130 c0_i32_134
  let v358 : BitVec 32 := Scalar.extui v357
  let v359 : BitVec 32 := Scalar.subi v356 v358
  let v360 : BitVec 1 := Scalar.cmpi .ne v354 v359
  let v361 : BitVec 32 := Scalar.remsi v348 c32_i32_130
  let c0_i32_135 : BitVec 32 := 0#32
  let v362 : BitVec 1 := Scalar.cmpi .ne v361 c0_i32_135
  let v363 : BitVec 1 := Scalar.andi v360 v362
  let v349 : BitVec 32 := Scalar.divsi v348 c32_i32_130
  let c1_i32_136 : BitVec 32 := 1#32
  let v364 : BitVec 32 := Scalar.subi v349 c1_i32_136
  let v365 : BitVec 32 := Scalar.select v363 v364 v349
  let v373 : BitVec 32 := Scalar.subi v365 c0_i32_142
  let c1_i32_143 : BitVec 32 := 1#32
  let v375 : BitVec 32 := Scalar.divsi v373 c1_i32_143
  let v376 : BitVec 32 := Scalar.muli v375 c1_i32_143
  let v377 : BitVec 32 := Scalar.addi c0_i32_142 v376
  let c1_i32_145 : BitVec 32 := 1#32
  let arg14 : BitVec 32 := Scf.iv v377 c1_i32_145 k0_t28
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v344 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v346 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t30
  let v1303 : Index := Scalar.indexCast arg16
  let c0_i32_499 : BitVec 32 := 0#32
  let v1304 : Index := Scalar.indexCast c0_i32_499
  let c496 : Index := 496#32
  ![v1303.toNat, 0, 496]
def k0_off711 : Fin 3 → Nat :=
  let c0_i32_370 : BitVec 32 := 0#32
  let c32_i32_371 : BitVec 32 := 32#32
  let v910 : BitVec 32 := Scalar.muli c0_i32_370 c32_i32_371
  let c0_i32_373 : BitVec 32 := 0#32
  let c0_i32_374 : BitVec 32 := 0#32
  ![v910.toNat, 0, 0]
def k0_off712 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c0_i32_368 : BitVec 32 := 0#32
  let c32_i32_369 : BitVec 32 := 32#32
  let v907 : BitVec 32 := Scalar.muli c0_i32_368 c32_i32_369
  let v908 : BitVec 32 := Scalar.addi v391 v907
  let c2016_i32 : BitVec 32 := 2016#32
  let v909 : BitVec 32 := Scalar.minsi v908 c2016_i32
  let c5_i32 : BitVec 32 := 5#32
  let c0_i32_375 : BitVec 32 := 0#32
  ![v909.toNat, 5, 0]
def k0_cond21 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let c0_i32_157 : BitVec 32 := 0#32
  let v413 : BitVec 1 := Scalar.cmpi .sgt v412 c0_i32_157
  let v414 : BitVec 32 := Scalar.extui v413
  let c0_i32_158 : BitVec 32 := 0#32
  let v415 : BitVec 1 := Scalar.cmpi .ne v414 c0_i32_158
  v415

def k0_off713 : Fin 3 → Nat :=
  let c1_i32_370 : BitVec 32 := 1#32
  let c32_i32_371 : BitVec 32 := 32#32
  let v910 : BitVec 32 := Scalar.muli c1_i32_370 c32_i32_371
  let c0_i32_373 : BitVec 32 := 0#32
  let c0_i32_374 : BitVec 32 := 0#32
  ![v910.toNat, 0, 0]
def k0_off714 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c1_i32_368 : BitVec 32 := 1#32
  let c32_i32_369 : BitVec 32 := 32#32
  let v907 : BitVec 32 := Scalar.muli c1_i32_368 c32_i32_369
  let v908 : BitVec 32 := Scalar.addi v391 v907
  let c2016_i32 : BitVec 32 := 2016#32
  let v909 : BitVec 32 := Scalar.minsi v908 c2016_i32
  let c5_i32 : BitVec 32 := 5#32
  let c0_i32_375 : BitVec 32 := 0#32
  ![v909.toNat, 5, 0]
def k0_cond22 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let c1_i32_159 : BitVec 32 := 1#32
  let v416 : BitVec 1 := Scalar.cmpi .sgt v412 c1_i32_159
  let v417 : BitVec 32 := Scalar.extui v416
  let c0_i32_160 : BitVec 32 := 0#32
  let v418 : BitVec 1 := Scalar.cmpi .ne v417 c0_i32_160
  v418

@[reducible] def k0_t31_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_164 : BitVec 32 := 1#32
  ⟨c0_i32_162, v424, c1_i32_164⟩
def k0_off715 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) : Fin 3 → Nat :=
  let c0_i32_162 : BitVec 32 := 0#32
  let c1_i32_164 : BitVec 32 := 1#32
  let arg14 : BitVec 32 := Scf.iv c0_i32_162 c1_i32_164 k0_t31
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond23 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) : BitVec 1 :=
  let c0_i32_162 : BitVec 32 := 0#32
  let c1_i32_164 : BitVec 32 := 1#32
  let arg14 : BitVec 32 := Scf.iv c0_i32_162 c1_i32_164 k0_t31
  let c2_i32_376 : BitVec 32 := 2#32
  let v927 : BitVec 32 := Scalar.addi arg14 c2_i32_376
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v908 : BitVec 32 := Scalar.subi v393 v391
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off716 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) : Fin 3 → Nat :=
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c0_i32_162 : BitVec 32 := 0#32
  let c1_i32_164 : BitVec 32 := 1#32
  let arg14 : BitVec 32 := Scf.iv c0_i32_162 c1_i32_164 k0_t31
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v391 v965
  let c2016_i32_409 : BitVec 32 := 2016#32
  let v967 : BitVec 32 := Scalar.minsi v966 c2016_i32_409
  let c5_i32_413 : BitVec 32 := 5#32
  let c0_i32_414 : BitVec 32 := 0#32
  ![v967.toNat, 5, 0]
def k0_off717 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) : Fin 1 → Nat :=
  let c0_i32_162 : BitVec 32 := 0#32
  let c1_i32_164 : BitVec 32 := 1#32
  let arg14 : BitVec 32 := Scf.iv c0_i32_162 c1_i32_164 k0_t31
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off718 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off719 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) : Fin 1 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  ![v907.toNat]
@[reducible] def k0_t32_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) : Scf.Loop 32 :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off720 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v962 : Index := Scalar.indexCast arg16
  let c0_i32_405 : BitVec 32 := 0#32
  let v963 : Index := Scalar.indexCast c0_i32_405
  let c0_406 : Index := 0#32
  ![v962.toNat, 0, 0]
def k0_off721 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v973 : Index := Scalar.indexCast arg16
  let c0_i32_409 : BitVec 32 := 0#32
  let v974 : Index := Scalar.indexCast c0_i32_409
  let c16 : Index := 16#32
  ![v973.toNat, 0, 16]
def k0_off722 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v984 : Index := Scalar.indexCast arg16
  let c0_i32_412 : BitVec 32 := 0#32
  let v985 : Index := Scalar.indexCast c0_i32_412
  let c32 : Index := 32#32
  ![v984.toNat, 0, 32]
def k0_off723 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v995 : Index := Scalar.indexCast arg16
  let c0_i32_415 : BitVec 32 := 0#32
  let v996 : Index := Scalar.indexCast c0_i32_415
  let c48 : Index := 48#32
  ![v995.toNat, 0, 48]
def k0_off724 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1006 : Index := Scalar.indexCast arg16
  let c0_i32_418 : BitVec 32 := 0#32
  let v1007 : Index := Scalar.indexCast c0_i32_418
  let c64 : Index := 64#32
  ![v1006.toNat, 0, 64]
def k0_off725 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1017 : Index := Scalar.indexCast arg16
  let c0_i32_421 : BitVec 32 := 0#32
  let v1018 : Index := Scalar.indexCast c0_i32_421
  let c80 : Index := 80#32
  ![v1017.toNat, 0, 80]
def k0_off726 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1028 : Index := Scalar.indexCast arg16
  let c0_i32_424 : BitVec 32 := 0#32
  let v1029 : Index := Scalar.indexCast c0_i32_424
  let c96 : Index := 96#32
  ![v1028.toNat, 0, 96]
def k0_off727 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1039 : Index := Scalar.indexCast arg16
  let c0_i32_427 : BitVec 32 := 0#32
  let v1040 : Index := Scalar.indexCast c0_i32_427
  let c112 : Index := 112#32
  ![v1039.toNat, 0, 112]
def k0_off728 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1050 : Index := Scalar.indexCast arg16
  let c0_i32_430 : BitVec 32 := 0#32
  let v1051 : Index := Scalar.indexCast c0_i32_430
  let c128 : Index := 128#32
  ![v1050.toNat, 0, 128]
def k0_off729 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1061 : Index := Scalar.indexCast arg16
  let c0_i32_433 : BitVec 32 := 0#32
  let v1062 : Index := Scalar.indexCast c0_i32_433
  let c144 : Index := 144#32
  ![v1061.toNat, 0, 144]
def k0_off730 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1072 : Index := Scalar.indexCast arg16
  let c0_i32_436 : BitVec 32 := 0#32
  let v1073 : Index := Scalar.indexCast c0_i32_436
  let c160 : Index := 160#32
  ![v1072.toNat, 0, 160]
def k0_off731 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1083 : Index := Scalar.indexCast arg16
  let c0_i32_439 : BitVec 32 := 0#32
  let v1084 : Index := Scalar.indexCast c0_i32_439
  let c176 : Index := 176#32
  ![v1083.toNat, 0, 176]
def k0_off732 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1094 : Index := Scalar.indexCast arg16
  let c0_i32_442 : BitVec 32 := 0#32
  let v1095 : Index := Scalar.indexCast c0_i32_442
  let c192 : Index := 192#32
  ![v1094.toNat, 0, 192]
def k0_off733 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1105 : Index := Scalar.indexCast arg16
  let c0_i32_445 : BitVec 32 := 0#32
  let v1106 : Index := Scalar.indexCast c0_i32_445
  let c208 : Index := 208#32
  ![v1105.toNat, 0, 208]
def k0_off734 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1116 : Index := Scalar.indexCast arg16
  let c0_i32_448 : BitVec 32 := 0#32
  let v1117 : Index := Scalar.indexCast c0_i32_448
  let c224 : Index := 224#32
  ![v1116.toNat, 0, 224]
def k0_off735 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1127 : Index := Scalar.indexCast arg16
  let c0_i32_451 : BitVec 32 := 0#32
  let v1128 : Index := Scalar.indexCast c0_i32_451
  let c240 : Index := 240#32
  ![v1127.toNat, 0, 240]
def k0_off736 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1138 : Index := Scalar.indexCast arg16
  let c0_i32_454 : BitVec 32 := 0#32
  let v1139 : Index := Scalar.indexCast c0_i32_454
  let c256 : Index := 256#32
  ![v1138.toNat, 0, 256]
def k0_off737 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1149 : Index := Scalar.indexCast arg16
  let c0_i32_457 : BitVec 32 := 0#32
  let v1150 : Index := Scalar.indexCast c0_i32_457
  let c272 : Index := 272#32
  ![v1149.toNat, 0, 272]
def k0_off738 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1160 : Index := Scalar.indexCast arg16
  let c0_i32_460 : BitVec 32 := 0#32
  let v1161 : Index := Scalar.indexCast c0_i32_460
  let c288 : Index := 288#32
  ![v1160.toNat, 0, 288]
def k0_off739 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1171 : Index := Scalar.indexCast arg16
  let c0_i32_463 : BitVec 32 := 0#32
  let v1172 : Index := Scalar.indexCast c0_i32_463
  let c304 : Index := 304#32
  ![v1171.toNat, 0, 304]
def k0_off740 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1182 : Index := Scalar.indexCast arg16
  let c0_i32_466 : BitVec 32 := 0#32
  let v1183 : Index := Scalar.indexCast c0_i32_466
  let c320 : Index := 320#32
  ![v1182.toNat, 0, 320]
def k0_off741 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1193 : Index := Scalar.indexCast arg16
  let c0_i32_469 : BitVec 32 := 0#32
  let v1194 : Index := Scalar.indexCast c0_i32_469
  let c336 : Index := 336#32
  ![v1193.toNat, 0, 336]
def k0_off742 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1204 : Index := Scalar.indexCast arg16
  let c0_i32_472 : BitVec 32 := 0#32
  let v1205 : Index := Scalar.indexCast c0_i32_472
  let c352 : Index := 352#32
  ![v1204.toNat, 0, 352]
def k0_off743 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1215 : Index := Scalar.indexCast arg16
  let c0_i32_475 : BitVec 32 := 0#32
  let v1216 : Index := Scalar.indexCast c0_i32_475
  let c368 : Index := 368#32
  ![v1215.toNat, 0, 368]
def k0_off744 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1226 : Index := Scalar.indexCast arg16
  let c0_i32_478 : BitVec 32 := 0#32
  let v1227 : Index := Scalar.indexCast c0_i32_478
  let c384 : Index := 384#32
  ![v1226.toNat, 0, 384]
def k0_off745 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1237 : Index := Scalar.indexCast arg16
  let c0_i32_481 : BitVec 32 := 0#32
  let v1238 : Index := Scalar.indexCast c0_i32_481
  let c400 : Index := 400#32
  ![v1237.toNat, 0, 400]
def k0_off746 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1248 : Index := Scalar.indexCast arg16
  let c0_i32_484 : BitVec 32 := 0#32
  let v1249 : Index := Scalar.indexCast c0_i32_484
  let c416 : Index := 416#32
  ![v1248.toNat, 0, 416]
def k0_off747 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1259 : Index := Scalar.indexCast arg16
  let c0_i32_487 : BitVec 32 := 0#32
  let v1260 : Index := Scalar.indexCast c0_i32_487
  let c432 : Index := 432#32
  ![v1259.toNat, 0, 432]
def k0_off748 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1270 : Index := Scalar.indexCast arg16
  let c0_i32_490 : BitVec 32 := 0#32
  let v1271 : Index := Scalar.indexCast c0_i32_490
  let c448 : Index := 448#32
  ![v1270.toNat, 0, 448]
def k0_off749 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1281 : Index := Scalar.indexCast arg16
  let c0_i32_493 : BitVec 32 := 0#32
  let v1282 : Index := Scalar.indexCast c0_i32_493
  let c464 : Index := 464#32
  ![v1281.toNat, 0, 464]
def k0_off750 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1292 : Index := Scalar.indexCast arg16
  let c0_i32_496 : BitVec 32 := 0#32
  let v1293 : Index := Scalar.indexCast c0_i32_496
  let c480 : Index := 480#32
  ![v1292.toNat, 0, 480]
def k0_off751 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t32
  let v1303 : Index := Scalar.indexCast arg16
  let c0_i32_499 : BitVec 32 := 0#32
  let v1304 : Index := Scalar.indexCast c0_i32_499
  let c496 : Index := 496#32
  ![v1303.toNat, 0, 496]
@[reducible] def k0_t33_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) : Scf.Loop 32 :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off752 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v962 : Index := Scalar.indexCast arg16
  let c0_i32_405 : BitVec 32 := 0#32
  let v963 : Index := Scalar.indexCast c0_i32_405
  let c0_406 : Index := 0#32
  ![v962.toNat, 0, 0]
def k0_off753 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v973 : Index := Scalar.indexCast arg16
  let c0_i32_409 : BitVec 32 := 0#32
  let v974 : Index := Scalar.indexCast c0_i32_409
  let c16 : Index := 16#32
  ![v973.toNat, 0, 16]
def k0_off754 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v984 : Index := Scalar.indexCast arg16
  let c0_i32_412 : BitVec 32 := 0#32
  let v985 : Index := Scalar.indexCast c0_i32_412
  let c32 : Index := 32#32
  ![v984.toNat, 0, 32]
def k0_off755 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v995 : Index := Scalar.indexCast arg16
  let c0_i32_415 : BitVec 32 := 0#32
  let v996 : Index := Scalar.indexCast c0_i32_415
  let c48 : Index := 48#32
  ![v995.toNat, 0, 48]
def k0_off756 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1006 : Index := Scalar.indexCast arg16
  let c0_i32_418 : BitVec 32 := 0#32
  let v1007 : Index := Scalar.indexCast c0_i32_418
  let c64 : Index := 64#32
  ![v1006.toNat, 0, 64]
def k0_off757 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1017 : Index := Scalar.indexCast arg16
  let c0_i32_421 : BitVec 32 := 0#32
  let v1018 : Index := Scalar.indexCast c0_i32_421
  let c80 : Index := 80#32
  ![v1017.toNat, 0, 80]
def k0_off758 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1028 : Index := Scalar.indexCast arg16
  let c0_i32_424 : BitVec 32 := 0#32
  let v1029 : Index := Scalar.indexCast c0_i32_424
  let c96 : Index := 96#32
  ![v1028.toNat, 0, 96]
def k0_off759 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1039 : Index := Scalar.indexCast arg16
  let c0_i32_427 : BitVec 32 := 0#32
  let v1040 : Index := Scalar.indexCast c0_i32_427
  let c112 : Index := 112#32
  ![v1039.toNat, 0, 112]
def k0_off760 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1050 : Index := Scalar.indexCast arg16
  let c0_i32_430 : BitVec 32 := 0#32
  let v1051 : Index := Scalar.indexCast c0_i32_430
  let c128 : Index := 128#32
  ![v1050.toNat, 0, 128]
def k0_off761 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1061 : Index := Scalar.indexCast arg16
  let c0_i32_433 : BitVec 32 := 0#32
  let v1062 : Index := Scalar.indexCast c0_i32_433
  let c144 : Index := 144#32
  ![v1061.toNat, 0, 144]
def k0_off762 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1072 : Index := Scalar.indexCast arg16
  let c0_i32_436 : BitVec 32 := 0#32
  let v1073 : Index := Scalar.indexCast c0_i32_436
  let c160 : Index := 160#32
  ![v1072.toNat, 0, 160]
def k0_off763 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1083 : Index := Scalar.indexCast arg16
  let c0_i32_439 : BitVec 32 := 0#32
  let v1084 : Index := Scalar.indexCast c0_i32_439
  let c176 : Index := 176#32
  ![v1083.toNat, 0, 176]
def k0_off764 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1094 : Index := Scalar.indexCast arg16
  let c0_i32_442 : BitVec 32 := 0#32
  let v1095 : Index := Scalar.indexCast c0_i32_442
  let c192 : Index := 192#32
  ![v1094.toNat, 0, 192]
def k0_off765 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1105 : Index := Scalar.indexCast arg16
  let c0_i32_445 : BitVec 32 := 0#32
  let v1106 : Index := Scalar.indexCast c0_i32_445
  let c208 : Index := 208#32
  ![v1105.toNat, 0, 208]
def k0_off766 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1116 : Index := Scalar.indexCast arg16
  let c0_i32_448 : BitVec 32 := 0#32
  let v1117 : Index := Scalar.indexCast c0_i32_448
  let c224 : Index := 224#32
  ![v1116.toNat, 0, 224]
def k0_off767 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1127 : Index := Scalar.indexCast arg16
  let c0_i32_451 : BitVec 32 := 0#32
  let v1128 : Index := Scalar.indexCast c0_i32_451
  let c240 : Index := 240#32
  ![v1127.toNat, 0, 240]
def k0_off768 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1138 : Index := Scalar.indexCast arg16
  let c0_i32_454 : BitVec 32 := 0#32
  let v1139 : Index := Scalar.indexCast c0_i32_454
  let c256 : Index := 256#32
  ![v1138.toNat, 0, 256]
def k0_off769 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1149 : Index := Scalar.indexCast arg16
  let c0_i32_457 : BitVec 32 := 0#32
  let v1150 : Index := Scalar.indexCast c0_i32_457
  let c272 : Index := 272#32
  ![v1149.toNat, 0, 272]
def k0_off770 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1160 : Index := Scalar.indexCast arg16
  let c0_i32_460 : BitVec 32 := 0#32
  let v1161 : Index := Scalar.indexCast c0_i32_460
  let c288 : Index := 288#32
  ![v1160.toNat, 0, 288]
def k0_off771 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1171 : Index := Scalar.indexCast arg16
  let c0_i32_463 : BitVec 32 := 0#32
  let v1172 : Index := Scalar.indexCast c0_i32_463
  let c304 : Index := 304#32
  ![v1171.toNat, 0, 304]
def k0_off772 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1182 : Index := Scalar.indexCast arg16
  let c0_i32_466 : BitVec 32 := 0#32
  let v1183 : Index := Scalar.indexCast c0_i32_466
  let c320 : Index := 320#32
  ![v1182.toNat, 0, 320]
def k0_off773 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1193 : Index := Scalar.indexCast arg16
  let c0_i32_469 : BitVec 32 := 0#32
  let v1194 : Index := Scalar.indexCast c0_i32_469
  let c336 : Index := 336#32
  ![v1193.toNat, 0, 336]
def k0_off774 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1204 : Index := Scalar.indexCast arg16
  let c0_i32_472 : BitVec 32 := 0#32
  let v1205 : Index := Scalar.indexCast c0_i32_472
  let c352 : Index := 352#32
  ![v1204.toNat, 0, 352]
def k0_off775 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1215 : Index := Scalar.indexCast arg16
  let c0_i32_475 : BitVec 32 := 0#32
  let v1216 : Index := Scalar.indexCast c0_i32_475
  let c368 : Index := 368#32
  ![v1215.toNat, 0, 368]
def k0_off776 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1226 : Index := Scalar.indexCast arg16
  let c0_i32_478 : BitVec 32 := 0#32
  let v1227 : Index := Scalar.indexCast c0_i32_478
  let c384 : Index := 384#32
  ![v1226.toNat, 0, 384]
def k0_off777 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1237 : Index := Scalar.indexCast arg16
  let c0_i32_481 : BitVec 32 := 0#32
  let v1238 : Index := Scalar.indexCast c0_i32_481
  let c400 : Index := 400#32
  ![v1237.toNat, 0, 400]
def k0_off778 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1248 : Index := Scalar.indexCast arg16
  let c0_i32_484 : BitVec 32 := 0#32
  let v1249 : Index := Scalar.indexCast c0_i32_484
  let c416 : Index := 416#32
  ![v1248.toNat, 0, 416]
def k0_off779 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1259 : Index := Scalar.indexCast arg16
  let c0_i32_487 : BitVec 32 := 0#32
  let v1260 : Index := Scalar.indexCast c0_i32_487
  let c432 : Index := 432#32
  ![v1259.toNat, 0, 432]
def k0_off780 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1270 : Index := Scalar.indexCast arg16
  let c0_i32_490 : BitVec 32 := 0#32
  let v1271 : Index := Scalar.indexCast c0_i32_490
  let c448 : Index := 448#32
  ![v1270.toNat, 0, 448]
def k0_off781 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1281 : Index := Scalar.indexCast arg16
  let c0_i32_493 : BitVec 32 := 0#32
  let v1282 : Index := Scalar.indexCast c0_i32_493
  let c464 : Index := 464#32
  ![v1281.toNat, 0, 464]
def k0_off782 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1292 : Index := Scalar.indexCast arg16
  let c0_i32_496 : BitVec 32 := 0#32
  let v1293 : Index := Scalar.indexCast c0_i32_496
  let c480 : Index := 480#32
  ![v1292.toNat, 0, 480]
def k0_off783 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips) : Fin 3 → Nat :=
  let c0_i32_162 : BitVec 32 := 0#32
  let c1_i32_164 : BitVec 32 := 1#32
  let arg14 : BitVec 32 := Scf.iv c0_i32_162 c1_i32_164 k0_t31
  let c3_i32 : BitVec 32 := 3#32
  let v907 : BitVec 32 := Scalar.remsi arg14 c3_i32
  let c32_i32_400 : BitVec 32 := 32#32
  let v948 : BitVec 32 := Scalar.muli v907 c32_i32_400
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t33
  let v1303 : Index := Scalar.indexCast arg16
  let c0_i32_499 : BitVec 32 := 0#32
  let v1304 : Index := Scalar.indexCast c0_i32_499
  let c496 : Index := 496#32
  ![v1303.toNat, 0, 496]
@[reducible] def k0_t34_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let v421 : BitVec 32 := Scalar.addi c0_i32_162 v420
  let c1_i32_165 : BitVec 32 := 1#32
  ⟨v424, v421, c1_i32_165⟩
def k0_off784 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond24 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) : BitVec 1 :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c2_i32_376 : BitVec 32 := 2#32
  let v927 : BitVec 32 := Scalar.addi arg14 c2_i32_376
  let v908 : BitVec 32 := Scalar.subi v393 v391
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off785 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) : Fin 3 → Nat :=
  let c1024_i32_147 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let c0_i32_162 : BitVec 32 := 0#32
  let c1024_i32_148 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v391 v965
  let c2016_i32_409 : BitVec 32 := 2016#32
  let v967 : BitVec 32 := Scalar.minsi v966 c2016_i32_409
  let c5_i32_413 : BitVec 32 := 5#32
  let c0_i32_414 : BitVec 32 := 0#32
  ![v967.toNat, 5, 0]
def k0_off786 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) : Fin 1 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off787 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off788 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) : Fin 1 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  ![v907.toNat]
@[reducible] def k0_t35_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) : Scf.Loop 32 :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off789 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v962 : Index := Scalar.indexCast arg16
  let c0_i32_405 : BitVec 32 := 0#32
  let v963 : Index := Scalar.indexCast c0_i32_405
  let c0_406 : Index := 0#32
  ![v962.toNat, 0, 0]
def k0_off790 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v973 : Index := Scalar.indexCast arg16
  let c0_i32_409 : BitVec 32 := 0#32
  let v974 : Index := Scalar.indexCast c0_i32_409
  let c16 : Index := 16#32
  ![v973.toNat, 0, 16]
def k0_off791 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v984 : Index := Scalar.indexCast arg16
  let c0_i32_412 : BitVec 32 := 0#32
  let v985 : Index := Scalar.indexCast c0_i32_412
  let c32 : Index := 32#32
  ![v984.toNat, 0, 32]
def k0_off792 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v995 : Index := Scalar.indexCast arg16
  let c0_i32_415 : BitVec 32 := 0#32
  let v996 : Index := Scalar.indexCast c0_i32_415
  let c48 : Index := 48#32
  ![v995.toNat, 0, 48]
def k0_off793 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1006 : Index := Scalar.indexCast arg16
  let c0_i32_418 : BitVec 32 := 0#32
  let v1007 : Index := Scalar.indexCast c0_i32_418
  let c64 : Index := 64#32
  ![v1006.toNat, 0, 64]
def k0_off794 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1017 : Index := Scalar.indexCast arg16
  let c0_i32_421 : BitVec 32 := 0#32
  let v1018 : Index := Scalar.indexCast c0_i32_421
  let c80 : Index := 80#32
  ![v1017.toNat, 0, 80]
def k0_off795 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1028 : Index := Scalar.indexCast arg16
  let c0_i32_424 : BitVec 32 := 0#32
  let v1029 : Index := Scalar.indexCast c0_i32_424
  let c96 : Index := 96#32
  ![v1028.toNat, 0, 96]
def k0_off796 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1039 : Index := Scalar.indexCast arg16
  let c0_i32_427 : BitVec 32 := 0#32
  let v1040 : Index := Scalar.indexCast c0_i32_427
  let c112 : Index := 112#32
  ![v1039.toNat, 0, 112]
def k0_off797 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1050 : Index := Scalar.indexCast arg16
  let c0_i32_430 : BitVec 32 := 0#32
  let v1051 : Index := Scalar.indexCast c0_i32_430
  let c128 : Index := 128#32
  ![v1050.toNat, 0, 128]
def k0_off798 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1061 : Index := Scalar.indexCast arg16
  let c0_i32_433 : BitVec 32 := 0#32
  let v1062 : Index := Scalar.indexCast c0_i32_433
  let c144 : Index := 144#32
  ![v1061.toNat, 0, 144]
def k0_off799 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1072 : Index := Scalar.indexCast arg16
  let c0_i32_436 : BitVec 32 := 0#32
  let v1073 : Index := Scalar.indexCast c0_i32_436
  let c160 : Index := 160#32
  ![v1072.toNat, 0, 160]
def k0_off800 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1083 : Index := Scalar.indexCast arg16
  let c0_i32_439 : BitVec 32 := 0#32
  let v1084 : Index := Scalar.indexCast c0_i32_439
  let c176 : Index := 176#32
  ![v1083.toNat, 0, 176]
def k0_off801 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1094 : Index := Scalar.indexCast arg16
  let c0_i32_442 : BitVec 32 := 0#32
  let v1095 : Index := Scalar.indexCast c0_i32_442
  let c192 : Index := 192#32
  ![v1094.toNat, 0, 192]
def k0_off802 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1105 : Index := Scalar.indexCast arg16
  let c0_i32_445 : BitVec 32 := 0#32
  let v1106 : Index := Scalar.indexCast c0_i32_445
  let c208 : Index := 208#32
  ![v1105.toNat, 0, 208]
def k0_off803 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1116 : Index := Scalar.indexCast arg16
  let c0_i32_448 : BitVec 32 := 0#32
  let v1117 : Index := Scalar.indexCast c0_i32_448
  let c224 : Index := 224#32
  ![v1116.toNat, 0, 224]
def k0_off804 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1127 : Index := Scalar.indexCast arg16
  let c0_i32_451 : BitVec 32 := 0#32
  let v1128 : Index := Scalar.indexCast c0_i32_451
  let c240 : Index := 240#32
  ![v1127.toNat, 0, 240]
def k0_off805 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1138 : Index := Scalar.indexCast arg16
  let c0_i32_454 : BitVec 32 := 0#32
  let v1139 : Index := Scalar.indexCast c0_i32_454
  let c256 : Index := 256#32
  ![v1138.toNat, 0, 256]
def k0_off806 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1149 : Index := Scalar.indexCast arg16
  let c0_i32_457 : BitVec 32 := 0#32
  let v1150 : Index := Scalar.indexCast c0_i32_457
  let c272 : Index := 272#32
  ![v1149.toNat, 0, 272]
def k0_off807 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1160 : Index := Scalar.indexCast arg16
  let c0_i32_460 : BitVec 32 := 0#32
  let v1161 : Index := Scalar.indexCast c0_i32_460
  let c288 : Index := 288#32
  ![v1160.toNat, 0, 288]
def k0_off808 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1171 : Index := Scalar.indexCast arg16
  let c0_i32_463 : BitVec 32 := 0#32
  let v1172 : Index := Scalar.indexCast c0_i32_463
  let c304 : Index := 304#32
  ![v1171.toNat, 0, 304]
def k0_off809 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1182 : Index := Scalar.indexCast arg16
  let c0_i32_466 : BitVec 32 := 0#32
  let v1183 : Index := Scalar.indexCast c0_i32_466
  let c320 : Index := 320#32
  ![v1182.toNat, 0, 320]
def k0_off810 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1193 : Index := Scalar.indexCast arg16
  let c0_i32_469 : BitVec 32 := 0#32
  let v1194 : Index := Scalar.indexCast c0_i32_469
  let c336 : Index := 336#32
  ![v1193.toNat, 0, 336]
def k0_off811 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1204 : Index := Scalar.indexCast arg16
  let c0_i32_472 : BitVec 32 := 0#32
  let v1205 : Index := Scalar.indexCast c0_i32_472
  let c352 : Index := 352#32
  ![v1204.toNat, 0, 352]
def k0_off812 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1215 : Index := Scalar.indexCast arg16
  let c0_i32_475 : BitVec 32 := 0#32
  let v1216 : Index := Scalar.indexCast c0_i32_475
  let c368 : Index := 368#32
  ![v1215.toNat, 0, 368]
def k0_off813 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1226 : Index := Scalar.indexCast arg16
  let c0_i32_478 : BitVec 32 := 0#32
  let v1227 : Index := Scalar.indexCast c0_i32_478
  let c384 : Index := 384#32
  ![v1226.toNat, 0, 384]
def k0_off814 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1237 : Index := Scalar.indexCast arg16
  let c0_i32_481 : BitVec 32 := 0#32
  let v1238 : Index := Scalar.indexCast c0_i32_481
  let c400 : Index := 400#32
  ![v1237.toNat, 0, 400]
def k0_off815 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1248 : Index := Scalar.indexCast arg16
  let c0_i32_484 : BitVec 32 := 0#32
  let v1249 : Index := Scalar.indexCast c0_i32_484
  let c416 : Index := 416#32
  ![v1248.toNat, 0, 416]
def k0_off816 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1259 : Index := Scalar.indexCast arg16
  let c0_i32_487 : BitVec 32 := 0#32
  let v1260 : Index := Scalar.indexCast c0_i32_487
  let c432 : Index := 432#32
  ![v1259.toNat, 0, 432]
def k0_off817 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1270 : Index := Scalar.indexCast arg16
  let c0_i32_490 : BitVec 32 := 0#32
  let v1271 : Index := Scalar.indexCast c0_i32_490
  let c448 : Index := 448#32
  ![v1270.toNat, 0, 448]
def k0_off818 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1281 : Index := Scalar.indexCast arg16
  let c0_i32_493 : BitVec 32 := 0#32
  let v1282 : Index := Scalar.indexCast c0_i32_493
  let c464 : Index := 464#32
  ![v1281.toNat, 0, 464]
def k0_off819 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1292 : Index := Scalar.indexCast arg16
  let c0_i32_496 : BitVec 32 := 0#32
  let v1293 : Index := Scalar.indexCast c0_i32_496
  let c480 : Index := 480#32
  ![v1292.toNat, 0, 480]
def k0_off820 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t35
  let v1303 : Index := Scalar.indexCast arg16
  let c0_i32_499 : BitVec 32 := 0#32
  let v1304 : Index := Scalar.indexCast c0_i32_499
  let c496 : Index := 496#32
  ![v1303.toNat, 0, 496]
@[reducible] def k0_t36_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) : Scf.Loop 32 :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off821 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v962 : Index := Scalar.indexCast arg16
  let c0_i32_405 : BitVec 32 := 0#32
  let v963 : Index := Scalar.indexCast c0_i32_405
  let c0_406 : Index := 0#32
  ![v962.toNat, 0, 0]
def k0_off822 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v973 : Index := Scalar.indexCast arg16
  let c0_i32_409 : BitVec 32 := 0#32
  let v974 : Index := Scalar.indexCast c0_i32_409
  let c16 : Index := 16#32
  ![v973.toNat, 0, 16]
def k0_off823 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v984 : Index := Scalar.indexCast arg16
  let c0_i32_412 : BitVec 32 := 0#32
  let v985 : Index := Scalar.indexCast c0_i32_412
  let c32 : Index := 32#32
  ![v984.toNat, 0, 32]
def k0_off824 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v995 : Index := Scalar.indexCast arg16
  let c0_i32_415 : BitVec 32 := 0#32
  let v996 : Index := Scalar.indexCast c0_i32_415
  let c48 : Index := 48#32
  ![v995.toNat, 0, 48]
def k0_off825 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1006 : Index := Scalar.indexCast arg16
  let c0_i32_418 : BitVec 32 := 0#32
  let v1007 : Index := Scalar.indexCast c0_i32_418
  let c64 : Index := 64#32
  ![v1006.toNat, 0, 64]
def k0_off826 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1017 : Index := Scalar.indexCast arg16
  let c0_i32_421 : BitVec 32 := 0#32
  let v1018 : Index := Scalar.indexCast c0_i32_421
  let c80 : Index := 80#32
  ![v1017.toNat, 0, 80]
def k0_off827 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1028 : Index := Scalar.indexCast arg16
  let c0_i32_424 : BitVec 32 := 0#32
  let v1029 : Index := Scalar.indexCast c0_i32_424
  let c96 : Index := 96#32
  ![v1028.toNat, 0, 96]
def k0_off828 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1039 : Index := Scalar.indexCast arg16
  let c0_i32_427 : BitVec 32 := 0#32
  let v1040 : Index := Scalar.indexCast c0_i32_427
  let c112 : Index := 112#32
  ![v1039.toNat, 0, 112]
def k0_off829 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1050 : Index := Scalar.indexCast arg16
  let c0_i32_430 : BitVec 32 := 0#32
  let v1051 : Index := Scalar.indexCast c0_i32_430
  let c128 : Index := 128#32
  ![v1050.toNat, 0, 128]
def k0_off830 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1061 : Index := Scalar.indexCast arg16
  let c0_i32_433 : BitVec 32 := 0#32
  let v1062 : Index := Scalar.indexCast c0_i32_433
  let c144 : Index := 144#32
  ![v1061.toNat, 0, 144]
def k0_off831 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1072 : Index := Scalar.indexCast arg16
  let c0_i32_436 : BitVec 32 := 0#32
  let v1073 : Index := Scalar.indexCast c0_i32_436
  let c160 : Index := 160#32
  ![v1072.toNat, 0, 160]
def k0_off832 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1083 : Index := Scalar.indexCast arg16
  let c0_i32_439 : BitVec 32 := 0#32
  let v1084 : Index := Scalar.indexCast c0_i32_439
  let c176 : Index := 176#32
  ![v1083.toNat, 0, 176]
def k0_off833 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1094 : Index := Scalar.indexCast arg16
  let c0_i32_442 : BitVec 32 := 0#32
  let v1095 : Index := Scalar.indexCast c0_i32_442
  let c192 : Index := 192#32
  ![v1094.toNat, 0, 192]
def k0_off834 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1105 : Index := Scalar.indexCast arg16
  let c0_i32_445 : BitVec 32 := 0#32
  let v1106 : Index := Scalar.indexCast c0_i32_445
  let c208 : Index := 208#32
  ![v1105.toNat, 0, 208]
def k0_off835 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1116 : Index := Scalar.indexCast arg16
  let c0_i32_448 : BitVec 32 := 0#32
  let v1117 : Index := Scalar.indexCast c0_i32_448
  let c224 : Index := 224#32
  ![v1116.toNat, 0, 224]
def k0_off836 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1127 : Index := Scalar.indexCast arg16
  let c0_i32_451 : BitVec 32 := 0#32
  let v1128 : Index := Scalar.indexCast c0_i32_451
  let c240 : Index := 240#32
  ![v1127.toNat, 0, 240]
def k0_off837 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1138 : Index := Scalar.indexCast arg16
  let c0_i32_454 : BitVec 32 := 0#32
  let v1139 : Index := Scalar.indexCast c0_i32_454
  let c256 : Index := 256#32
  ![v1138.toNat, 0, 256]
def k0_off838 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1149 : Index := Scalar.indexCast arg16
  let c0_i32_457 : BitVec 32 := 0#32
  let v1150 : Index := Scalar.indexCast c0_i32_457
  let c272 : Index := 272#32
  ![v1149.toNat, 0, 272]
def k0_off839 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1160 : Index := Scalar.indexCast arg16
  let c0_i32_460 : BitVec 32 := 0#32
  let v1161 : Index := Scalar.indexCast c0_i32_460
  let c288 : Index := 288#32
  ![v1160.toNat, 0, 288]
def k0_off840 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1171 : Index := Scalar.indexCast arg16
  let c0_i32_463 : BitVec 32 := 0#32
  let v1172 : Index := Scalar.indexCast c0_i32_463
  let c304 : Index := 304#32
  ![v1171.toNat, 0, 304]
def k0_off841 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1182 : Index := Scalar.indexCast arg16
  let c0_i32_466 : BitVec 32 := 0#32
  let v1183 : Index := Scalar.indexCast c0_i32_466
  let c320 : Index := 320#32
  ![v1182.toNat, 0, 320]
def k0_off842 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1193 : Index := Scalar.indexCast arg16
  let c0_i32_469 : BitVec 32 := 0#32
  let v1194 : Index := Scalar.indexCast c0_i32_469
  let c336 : Index := 336#32
  ![v1193.toNat, 0, 336]
def k0_off843 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1204 : Index := Scalar.indexCast arg16
  let c0_i32_472 : BitVec 32 := 0#32
  let v1205 : Index := Scalar.indexCast c0_i32_472
  let c352 : Index := 352#32
  ![v1204.toNat, 0, 352]
def k0_off844 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1215 : Index := Scalar.indexCast arg16
  let c0_i32_475 : BitVec 32 := 0#32
  let v1216 : Index := Scalar.indexCast c0_i32_475
  let c368 : Index := 368#32
  ![v1215.toNat, 0, 368]
def k0_off845 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1226 : Index := Scalar.indexCast arg16
  let c0_i32_478 : BitVec 32 := 0#32
  let v1227 : Index := Scalar.indexCast c0_i32_478
  let c384 : Index := 384#32
  ![v1226.toNat, 0, 384]
def k0_off846 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1237 : Index := Scalar.indexCast arg16
  let c0_i32_481 : BitVec 32 := 0#32
  let v1238 : Index := Scalar.indexCast c0_i32_481
  let c400 : Index := 400#32
  ![v1237.toNat, 0, 400]
def k0_off847 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1248 : Index := Scalar.indexCast arg16
  let c0_i32_484 : BitVec 32 := 0#32
  let v1249 : Index := Scalar.indexCast c0_i32_484
  let c416 : Index := 416#32
  ![v1248.toNat, 0, 416]
def k0_off848 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1259 : Index := Scalar.indexCast arg16
  let c0_i32_487 : BitVec 32 := 0#32
  let v1260 : Index := Scalar.indexCast c0_i32_487
  let c432 : Index := 432#32
  ![v1259.toNat, 0, 432]
def k0_off849 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1270 : Index := Scalar.indexCast arg16
  let c0_i32_490 : BitVec 32 := 0#32
  let v1271 : Index := Scalar.indexCast c0_i32_490
  let c448 : Index := 448#32
  ![v1270.toNat, 0, 448]
def k0_off850 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1281 : Index := Scalar.indexCast arg16
  let c0_i32_493 : BitVec 32 := 0#32
  let v1282 : Index := Scalar.indexCast c0_i32_493
  let c464 : Index := 464#32
  ![v1281.toNat, 0, 464]
def k0_off851 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1292 : Index := Scalar.indexCast arg16
  let c0_i32_496 : BitVec 32 := 0#32
  let v1293 : Index := Scalar.indexCast c0_i32_496
  let c480 : Index := 480#32
  ![v1292.toNat, 0, 480]
def k0_off852 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips) : Fin 3 → Nat :=
  let c0_i32_162 : BitVec 32 := 0#32
  let c1024_i32_148 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v388 : BitVec 32 := Scalar.addi v102 v77
  let v389 : BitVec 32 := Scalar.minsi v150 v388
  let v392 : BitVec 32 := Scalar.subi v389 v102
  let v393 : BitVec 32 := Scalar.addi c1024_i32_148 v392
  let c1024_i32_147 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v387 : BitVec 32 := Scalar.maxsi v131 v102
  let v390 : BitVec 32 := Scalar.subi v387 v102
  let v391 : BitVec 32 := Scalar.addi c1024_i32_147 v390
  let v394 : BitVec 32 := Scalar.subi v393 v391
  let c31_i32_149 : BitVec 32 := 31#32
  let v395 : BitVec 32 := Scalar.addi v394 c31_i32_149
  let c0_i32_151 : BitVec 32 := 0#32
  let v397 : BitVec 1 := Scalar.cmpi .sgt v395 c0_i32_151
  let v398 : BitVec 32 := Scalar.extui v397
  let c0_i32_152 : BitVec 32 := 0#32
  let v399 : BitVec 1 := Scalar.cmpi .slt v395 c0_i32_152
  let v400 : BitVec 32 := Scalar.extui v399
  let v401 : BitVec 32 := Scalar.subi v398 v400
  let c32_i32_150 : BitVec 32 := 32#32
  let c0_i32_153 : BitVec 32 := 0#32
  let v402 : BitVec 1 := Scalar.cmpi .sgt c32_i32_150 c0_i32_153
  let v403 : BitVec 32 := Scalar.extui v402
  let c0_i32_154 : BitVec 32 := 0#32
  let v404 : BitVec 1 := Scalar.cmpi .slt c32_i32_150 c0_i32_154
  let v405 : BitVec 32 := Scalar.extui v404
  let v406 : BitVec 32 := Scalar.subi v403 v405
  let v407 : BitVec 1 := Scalar.cmpi .ne v401 v406
  let v408 : BitVec 32 := Scalar.remsi v395 c32_i32_150
  let c0_i32_155 : BitVec 32 := 0#32
  let v409 : BitVec 1 := Scalar.cmpi .ne v408 c0_i32_155
  let v410 : BitVec 1 := Scalar.andi v407 v409
  let v396 : BitVec 32 := Scalar.divsi v395 c32_i32_150
  let c1_i32_156 : BitVec 32 := 1#32
  let v411 : BitVec 32 := Scalar.subi v396 c1_i32_156
  let v412 : BitVec 32 := Scalar.select v410 v411 v396
  let v420 : BitVec 32 := Scalar.subi v412 c0_i32_162
  let c1_i32_163 : BitVec 32 := 1#32
  let v422 : BitVec 32 := Scalar.divsi v420 c1_i32_163
  let v423 : BitVec 32 := Scalar.muli v422 c1_i32_163
  let v424 : BitVec 32 := Scalar.addi c0_i32_162 v423
  let c1_i32_165 : BitVec 32 := 1#32
  let arg14 : BitVec 32 := Scf.iv v424 c1_i32_165 k0_t34
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v391 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v393 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t36
  let v1303 : Index := Scalar.indexCast arg16
  let c0_i32_499 : BitVec 32 := 0#32
  let v1304 : Index := Scalar.indexCast c0_i32_499
  let c496 : Index := 496#32
  ![v1303.toNat, 0, 496]
def k0_off853 : Fin 3 → Nat :=
  let c0_i32_370 : BitVec 32 := 0#32
  let c32_i32_371 : BitVec 32 := 32#32
  let v910 : BitVec 32 := Scalar.muli c0_i32_370 c32_i32_371
  let c0_i32_373 : BitVec 32 := 0#32
  let c0_i32_374 : BitVec 32 := 0#32
  ![v910.toNat, 0, 0]
def k0_off854 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c0_i32_368 : BitVec 32 := 0#32
  let c32_i32_369 : BitVec 32 := 32#32
  let v907 : BitVec 32 := Scalar.muli c0_i32_368 c32_i32_369
  let v908 : BitVec 32 := Scalar.addi v438 v907
  let c2016_i32 : BitVec 32 := 2016#32
  let v909 : BitVec 32 := Scalar.minsi v908 c2016_i32
  let c6_i32 : BitVec 32 := 6#32
  let c0_i32_375 : BitVec 32 := 0#32
  ![v909.toNat, 6, 0]
def k0_cond25 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let c0_i32_177 : BitVec 32 := 0#32
  let v460 : BitVec 1 := Scalar.cmpi .sgt v459 c0_i32_177
  let v461 : BitVec 32 := Scalar.extui v460
  let c0_i32_178 : BitVec 32 := 0#32
  let v462 : BitVec 1 := Scalar.cmpi .ne v461 c0_i32_178
  v462

def k0_off855 : Fin 3 → Nat :=
  let c1_i32_370 : BitVec 32 := 1#32
  let c32_i32_371 : BitVec 32 := 32#32
  let v910 : BitVec 32 := Scalar.muli c1_i32_370 c32_i32_371
  let c0_i32_373 : BitVec 32 := 0#32
  let c0_i32_374 : BitVec 32 := 0#32
  ![v910.toNat, 0, 0]
def k0_off856 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c1_i32_368 : BitVec 32 := 1#32
  let c32_i32_369 : BitVec 32 := 32#32
  let v907 : BitVec 32 := Scalar.muli c1_i32_368 c32_i32_369
  let v908 : BitVec 32 := Scalar.addi v438 v907
  let c2016_i32 : BitVec 32 := 2016#32
  let v909 : BitVec 32 := Scalar.minsi v908 c2016_i32
  let c6_i32 : BitVec 32 := 6#32
  let c0_i32_375 : BitVec 32 := 0#32
  ![v909.toNat, 6, 0]
def k0_cond26 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let c1_i32_179 : BitVec 32 := 1#32
  let v463 : BitVec 1 := Scalar.cmpi .sgt v459 c1_i32_179
  let v464 : BitVec 32 := Scalar.extui v463
  let c0_i32_180 : BitVec 32 := 0#32
  let v465 : BitVec 1 := Scalar.cmpi .ne v464 c0_i32_180
  v465

@[reducible] def k0_t37_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_184 : BitVec 32 := 1#32
  ⟨c0_i32_182, v471, c1_i32_184⟩
def k0_off857 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) : Fin 3 → Nat :=
  let c0_i32_182 : BitVec 32 := 0#32
  let c1_i32_184 : BitVec 32 := 1#32
  let arg14 : BitVec 32 := Scf.iv c0_i32_182 c1_i32_184 k0_t37
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond27 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) : BitVec 1 :=
  let c0_i32_182 : BitVec 32 := 0#32
  let c1_i32_184 : BitVec 32 := 1#32
  let arg14 : BitVec 32 := Scf.iv c0_i32_182 c1_i32_184 k0_t37
  let c2_i32_376 : BitVec 32 := 2#32
  let v927 : BitVec 32 := Scalar.addi arg14 c2_i32_376
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v908 : BitVec 32 := Scalar.subi v440 v438
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off858 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) : Fin 3 → Nat :=
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c0_i32_182 : BitVec 32 := 0#32
  let c1_i32_184 : BitVec 32 := 1#32
  let arg14 : BitVec 32 := Scf.iv c0_i32_182 c1_i32_184 k0_t37
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v438 v965
  let c2016_i32_409 : BitVec 32 := 2016#32
  let v967 : BitVec 32 := Scalar.minsi v966 c2016_i32_409
  let c6_i32_413 : BitVec 32 := 6#32
  let c0_i32_414 : BitVec 32 := 0#32
  ![v967.toNat, 6, 0]
def k0_off859 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) : Fin 1 → Nat :=
  let c0_i32_182 : BitVec 32 := 0#32
  let c1_i32_184 : BitVec 32 := 1#32
  let arg14 : BitVec 32 := Scf.iv c0_i32_182 c1_i32_184 k0_t37
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off860 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off861 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) : Fin 1 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  ![v907.toNat]
@[reducible] def k0_t38_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) : Scf.Loop 32 :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off862 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v962 : Index := Scalar.indexCast arg16
  let c0_i32_405 : BitVec 32 := 0#32
  let v963 : Index := Scalar.indexCast c0_i32_405
  let c0_406 : Index := 0#32
  ![v962.toNat, 0, 0]
def k0_off863 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v973 : Index := Scalar.indexCast arg16
  let c0_i32_409 : BitVec 32 := 0#32
  let v974 : Index := Scalar.indexCast c0_i32_409
  let c16 : Index := 16#32
  ![v973.toNat, 0, 16]
def k0_off864 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v984 : Index := Scalar.indexCast arg16
  let c0_i32_412 : BitVec 32 := 0#32
  let v985 : Index := Scalar.indexCast c0_i32_412
  let c32 : Index := 32#32
  ![v984.toNat, 0, 32]
def k0_off865 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v995 : Index := Scalar.indexCast arg16
  let c0_i32_415 : BitVec 32 := 0#32
  let v996 : Index := Scalar.indexCast c0_i32_415
  let c48 : Index := 48#32
  ![v995.toNat, 0, 48]
def k0_off866 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1006 : Index := Scalar.indexCast arg16
  let c0_i32_418 : BitVec 32 := 0#32
  let v1007 : Index := Scalar.indexCast c0_i32_418
  let c64 : Index := 64#32
  ![v1006.toNat, 0, 64]
def k0_off867 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1017 : Index := Scalar.indexCast arg16
  let c0_i32_421 : BitVec 32 := 0#32
  let v1018 : Index := Scalar.indexCast c0_i32_421
  let c80 : Index := 80#32
  ![v1017.toNat, 0, 80]
def k0_off868 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1028 : Index := Scalar.indexCast arg16
  let c0_i32_424 : BitVec 32 := 0#32
  let v1029 : Index := Scalar.indexCast c0_i32_424
  let c96 : Index := 96#32
  ![v1028.toNat, 0, 96]
def k0_off869 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1039 : Index := Scalar.indexCast arg16
  let c0_i32_427 : BitVec 32 := 0#32
  let v1040 : Index := Scalar.indexCast c0_i32_427
  let c112 : Index := 112#32
  ![v1039.toNat, 0, 112]
def k0_off870 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1050 : Index := Scalar.indexCast arg16
  let c0_i32_430 : BitVec 32 := 0#32
  let v1051 : Index := Scalar.indexCast c0_i32_430
  let c128 : Index := 128#32
  ![v1050.toNat, 0, 128]
def k0_off871 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1061 : Index := Scalar.indexCast arg16
  let c0_i32_433 : BitVec 32 := 0#32
  let v1062 : Index := Scalar.indexCast c0_i32_433
  let c144 : Index := 144#32
  ![v1061.toNat, 0, 144]
def k0_off872 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1072 : Index := Scalar.indexCast arg16
  let c0_i32_436 : BitVec 32 := 0#32
  let v1073 : Index := Scalar.indexCast c0_i32_436
  let c160 : Index := 160#32
  ![v1072.toNat, 0, 160]
def k0_off873 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1083 : Index := Scalar.indexCast arg16
  let c0_i32_439 : BitVec 32 := 0#32
  let v1084 : Index := Scalar.indexCast c0_i32_439
  let c176 : Index := 176#32
  ![v1083.toNat, 0, 176]
def k0_off874 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1094 : Index := Scalar.indexCast arg16
  let c0_i32_442 : BitVec 32 := 0#32
  let v1095 : Index := Scalar.indexCast c0_i32_442
  let c192 : Index := 192#32
  ![v1094.toNat, 0, 192]
def k0_off875 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1105 : Index := Scalar.indexCast arg16
  let c0_i32_445 : BitVec 32 := 0#32
  let v1106 : Index := Scalar.indexCast c0_i32_445
  let c208 : Index := 208#32
  ![v1105.toNat, 0, 208]
def k0_off876 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1116 : Index := Scalar.indexCast arg16
  let c0_i32_448 : BitVec 32 := 0#32
  let v1117 : Index := Scalar.indexCast c0_i32_448
  let c224 : Index := 224#32
  ![v1116.toNat, 0, 224]
def k0_off877 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1127 : Index := Scalar.indexCast arg16
  let c0_i32_451 : BitVec 32 := 0#32
  let v1128 : Index := Scalar.indexCast c0_i32_451
  let c240 : Index := 240#32
  ![v1127.toNat, 0, 240]
def k0_off878 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1138 : Index := Scalar.indexCast arg16
  let c0_i32_454 : BitVec 32 := 0#32
  let v1139 : Index := Scalar.indexCast c0_i32_454
  let c256 : Index := 256#32
  ![v1138.toNat, 0, 256]
def k0_off879 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1149 : Index := Scalar.indexCast arg16
  let c0_i32_457 : BitVec 32 := 0#32
  let v1150 : Index := Scalar.indexCast c0_i32_457
  let c272 : Index := 272#32
  ![v1149.toNat, 0, 272]
def k0_off880 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1160 : Index := Scalar.indexCast arg16
  let c0_i32_460 : BitVec 32 := 0#32
  let v1161 : Index := Scalar.indexCast c0_i32_460
  let c288 : Index := 288#32
  ![v1160.toNat, 0, 288]
def k0_off881 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1171 : Index := Scalar.indexCast arg16
  let c0_i32_463 : BitVec 32 := 0#32
  let v1172 : Index := Scalar.indexCast c0_i32_463
  let c304 : Index := 304#32
  ![v1171.toNat, 0, 304]
def k0_off882 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1182 : Index := Scalar.indexCast arg16
  let c0_i32_466 : BitVec 32 := 0#32
  let v1183 : Index := Scalar.indexCast c0_i32_466
  let c320 : Index := 320#32
  ![v1182.toNat, 0, 320]
def k0_off883 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1193 : Index := Scalar.indexCast arg16
  let c0_i32_469 : BitVec 32 := 0#32
  let v1194 : Index := Scalar.indexCast c0_i32_469
  let c336 : Index := 336#32
  ![v1193.toNat, 0, 336]
def k0_off884 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1204 : Index := Scalar.indexCast arg16
  let c0_i32_472 : BitVec 32 := 0#32
  let v1205 : Index := Scalar.indexCast c0_i32_472
  let c352 : Index := 352#32
  ![v1204.toNat, 0, 352]
def k0_off885 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1215 : Index := Scalar.indexCast arg16
  let c0_i32_475 : BitVec 32 := 0#32
  let v1216 : Index := Scalar.indexCast c0_i32_475
  let c368 : Index := 368#32
  ![v1215.toNat, 0, 368]
def k0_off886 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1226 : Index := Scalar.indexCast arg16
  let c0_i32_478 : BitVec 32 := 0#32
  let v1227 : Index := Scalar.indexCast c0_i32_478
  let c384 : Index := 384#32
  ![v1226.toNat, 0, 384]
def k0_off887 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1237 : Index := Scalar.indexCast arg16
  let c0_i32_481 : BitVec 32 := 0#32
  let v1238 : Index := Scalar.indexCast c0_i32_481
  let c400 : Index := 400#32
  ![v1237.toNat, 0, 400]

variable {F : FTy → Type} [FloatOps F]

def k0_off888 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1248 : Index := Scalar.indexCast arg16
  let c0_i32_484 : BitVec 32 := 0#32
  let v1249 : Index := Scalar.indexCast c0_i32_484
  let c416 : Index := 416#32
  ![v1248.toNat, 0, 416]
def k0_off889 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1259 : Index := Scalar.indexCast arg16
  let c0_i32_487 : BitVec 32 := 0#32
  let v1260 : Index := Scalar.indexCast c0_i32_487
  let c432 : Index := 432#32
  ![v1259.toNat, 0, 432]
def k0_off890 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1270 : Index := Scalar.indexCast arg16
  let c0_i32_490 : BitVec 32 := 0#32
  let v1271 : Index := Scalar.indexCast c0_i32_490
  let c448 : Index := 448#32
  ![v1270.toNat, 0, 448]
def k0_off891 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1281 : Index := Scalar.indexCast arg16
  let c0_i32_493 : BitVec 32 := 0#32
  let v1282 : Index := Scalar.indexCast c0_i32_493
  let c464 : Index := 464#32
  ![v1281.toNat, 0, 464]
def k0_off892 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1292 : Index := Scalar.indexCast arg16
  let c0_i32_496 : BitVec 32 := 0#32
  let v1293 : Index := Scalar.indexCast c0_i32_496
  let c480 : Index := 480#32
  ![v1292.toNat, 0, 480]
def k0_off893 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t38
  let v1303 : Index := Scalar.indexCast arg16
  let c0_i32_499 : BitVec 32 := 0#32
  let v1304 : Index := Scalar.indexCast c0_i32_499
  let c496 : Index := 496#32
  ![v1303.toNat, 0, 496]
@[reducible] def k0_t39_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) : Scf.Loop 32 :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off894 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v962 : Index := Scalar.indexCast arg16
  let c0_i32_405 : BitVec 32 := 0#32
  let v963 : Index := Scalar.indexCast c0_i32_405
  let c0_406 : Index := 0#32
  ![v962.toNat, 0, 0]
def k0_off895 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v973 : Index := Scalar.indexCast arg16
  let c0_i32_409 : BitVec 32 := 0#32
  let v974 : Index := Scalar.indexCast c0_i32_409
  let c16 : Index := 16#32
  ![v973.toNat, 0, 16]
def k0_off896 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v984 : Index := Scalar.indexCast arg16
  let c0_i32_412 : BitVec 32 := 0#32
  let v985 : Index := Scalar.indexCast c0_i32_412
  let c32 : Index := 32#32
  ![v984.toNat, 0, 32]
def k0_off897 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v995 : Index := Scalar.indexCast arg16
  let c0_i32_415 : BitVec 32 := 0#32
  let v996 : Index := Scalar.indexCast c0_i32_415
  let c48 : Index := 48#32
  ![v995.toNat, 0, 48]
def k0_off898 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1006 : Index := Scalar.indexCast arg16
  let c0_i32_418 : BitVec 32 := 0#32
  let v1007 : Index := Scalar.indexCast c0_i32_418
  let c64 : Index := 64#32
  ![v1006.toNat, 0, 64]
def k0_off899 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1017 : Index := Scalar.indexCast arg16
  let c0_i32_421 : BitVec 32 := 0#32
  let v1018 : Index := Scalar.indexCast c0_i32_421
  let c80 : Index := 80#32
  ![v1017.toNat, 0, 80]
def k0_off900 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1028 : Index := Scalar.indexCast arg16
  let c0_i32_424 : BitVec 32 := 0#32
  let v1029 : Index := Scalar.indexCast c0_i32_424
  let c96 : Index := 96#32
  ![v1028.toNat, 0, 96]
def k0_off901 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1039 : Index := Scalar.indexCast arg16
  let c0_i32_427 : BitVec 32 := 0#32
  let v1040 : Index := Scalar.indexCast c0_i32_427
  let c112 : Index := 112#32
  ![v1039.toNat, 0, 112]
def k0_off902 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1050 : Index := Scalar.indexCast arg16
  let c0_i32_430 : BitVec 32 := 0#32
  let v1051 : Index := Scalar.indexCast c0_i32_430
  let c128 : Index := 128#32
  ![v1050.toNat, 0, 128]
def k0_off903 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1061 : Index := Scalar.indexCast arg16
  let c0_i32_433 : BitVec 32 := 0#32
  let v1062 : Index := Scalar.indexCast c0_i32_433
  let c144 : Index := 144#32
  ![v1061.toNat, 0, 144]
def k0_off904 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1072 : Index := Scalar.indexCast arg16
  let c0_i32_436 : BitVec 32 := 0#32
  let v1073 : Index := Scalar.indexCast c0_i32_436
  let c160 : Index := 160#32
  ![v1072.toNat, 0, 160]
def k0_off905 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1083 : Index := Scalar.indexCast arg16
  let c0_i32_439 : BitVec 32 := 0#32
  let v1084 : Index := Scalar.indexCast c0_i32_439
  let c176 : Index := 176#32
  ![v1083.toNat, 0, 176]
def k0_off906 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1094 : Index := Scalar.indexCast arg16
  let c0_i32_442 : BitVec 32 := 0#32
  let v1095 : Index := Scalar.indexCast c0_i32_442
  let c192 : Index := 192#32
  ![v1094.toNat, 0, 192]
def k0_off907 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1105 : Index := Scalar.indexCast arg16
  let c0_i32_445 : BitVec 32 := 0#32
  let v1106 : Index := Scalar.indexCast c0_i32_445
  let c208 : Index := 208#32
  ![v1105.toNat, 0, 208]
def k0_off908 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1116 : Index := Scalar.indexCast arg16
  let c0_i32_448 : BitVec 32 := 0#32
  let v1117 : Index := Scalar.indexCast c0_i32_448
  let c224 : Index := 224#32
  ![v1116.toNat, 0, 224]
def k0_off909 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1127 : Index := Scalar.indexCast arg16
  let c0_i32_451 : BitVec 32 := 0#32
  let v1128 : Index := Scalar.indexCast c0_i32_451
  let c240 : Index := 240#32
  ![v1127.toNat, 0, 240]
def k0_off910 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1138 : Index := Scalar.indexCast arg16
  let c0_i32_454 : BitVec 32 := 0#32
  let v1139 : Index := Scalar.indexCast c0_i32_454
  let c256 : Index := 256#32
  ![v1138.toNat, 0, 256]
def k0_off911 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1149 : Index := Scalar.indexCast arg16
  let c0_i32_457 : BitVec 32 := 0#32
  let v1150 : Index := Scalar.indexCast c0_i32_457
  let c272 : Index := 272#32
  ![v1149.toNat, 0, 272]
def k0_off912 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1160 : Index := Scalar.indexCast arg16
  let c0_i32_460 : BitVec 32 := 0#32
  let v1161 : Index := Scalar.indexCast c0_i32_460
  let c288 : Index := 288#32
  ![v1160.toNat, 0, 288]
def k0_off913 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1171 : Index := Scalar.indexCast arg16
  let c0_i32_463 : BitVec 32 := 0#32
  let v1172 : Index := Scalar.indexCast c0_i32_463
  let c304 : Index := 304#32
  ![v1171.toNat, 0, 304]
def k0_off914 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1182 : Index := Scalar.indexCast arg16
  let c0_i32_466 : BitVec 32 := 0#32
  let v1183 : Index := Scalar.indexCast c0_i32_466
  let c320 : Index := 320#32
  ![v1182.toNat, 0, 320]
def k0_off915 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1193 : Index := Scalar.indexCast arg16
  let c0_i32_469 : BitVec 32 := 0#32
  let v1194 : Index := Scalar.indexCast c0_i32_469
  let c336 : Index := 336#32
  ![v1193.toNat, 0, 336]
def k0_off916 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1204 : Index := Scalar.indexCast arg16
  let c0_i32_472 : BitVec 32 := 0#32
  let v1205 : Index := Scalar.indexCast c0_i32_472
  let c352 : Index := 352#32
  ![v1204.toNat, 0, 352]
def k0_off917 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1215 : Index := Scalar.indexCast arg16
  let c0_i32_475 : BitVec 32 := 0#32
  let v1216 : Index := Scalar.indexCast c0_i32_475
  let c368 : Index := 368#32
  ![v1215.toNat, 0, 368]
def k0_off918 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1226 : Index := Scalar.indexCast arg16
  let c0_i32_478 : BitVec 32 := 0#32
  let v1227 : Index := Scalar.indexCast c0_i32_478
  let c384 : Index := 384#32
  ![v1226.toNat, 0, 384]
def k0_off919 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1237 : Index := Scalar.indexCast arg16
  let c0_i32_481 : BitVec 32 := 0#32
  let v1238 : Index := Scalar.indexCast c0_i32_481
  let c400 : Index := 400#32
  ![v1237.toNat, 0, 400]
def k0_off920 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1248 : Index := Scalar.indexCast arg16
  let c0_i32_484 : BitVec 32 := 0#32
  let v1249 : Index := Scalar.indexCast c0_i32_484
  let c416 : Index := 416#32
  ![v1248.toNat, 0, 416]
def k0_off921 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1259 : Index := Scalar.indexCast arg16
  let c0_i32_487 : BitVec 32 := 0#32
  let v1260 : Index := Scalar.indexCast c0_i32_487
  let c432 : Index := 432#32
  ![v1259.toNat, 0, 432]
def k0_off922 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1270 : Index := Scalar.indexCast arg16
  let c0_i32_490 : BitVec 32 := 0#32
  let v1271 : Index := Scalar.indexCast c0_i32_490
  let c448 : Index := 448#32
  ![v1270.toNat, 0, 448]
def k0_off923 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1281 : Index := Scalar.indexCast arg16
  let c0_i32_493 : BitVec 32 := 0#32
  let v1282 : Index := Scalar.indexCast c0_i32_493
  let c464 : Index := 464#32
  ![v1281.toNat, 0, 464]
def k0_off924 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1292 : Index := Scalar.indexCast arg16
  let c0_i32_496 : BitVec 32 := 0#32
  let v1293 : Index := Scalar.indexCast c0_i32_496
  let c480 : Index := 480#32
  ![v1292.toNat, 0, 480]
def k0_off925 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips) : Fin 3 → Nat :=
  let c0_i32_182 : BitVec 32 := 0#32
  let c1_i32_184 : BitVec 32 := 1#32
  let arg14 : BitVec 32 := Scf.iv c0_i32_182 c1_i32_184 k0_t37
  let c3_i32 : BitVec 32 := 3#32
  let v907 : BitVec 32 := Scalar.remsi arg14 c3_i32
  let c32_i32_400 : BitVec 32 := 32#32
  let v948 : BitVec 32 := Scalar.muli v907 c32_i32_400
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t39
  let v1303 : Index := Scalar.indexCast arg16
  let c0_i32_499 : BitVec 32 := 0#32
  let v1304 : Index := Scalar.indexCast c0_i32_499
  let c496 : Index := 496#32
  ![v1303.toNat, 0, 496]
@[reducible] def k0_t40_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let v468 : BitVec 32 := Scalar.addi c0_i32_182 v467
  let c1_i32_185 : BitVec 32 := 1#32
  ⟨v471, v468, c1_i32_185⟩
def k0_off926 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond28 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) : BitVec 1 :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c2_i32_376 : BitVec 32 := 2#32
  let v927 : BitVec 32 := Scalar.addi arg14 c2_i32_376
  let v908 : BitVec 32 := Scalar.subi v440 v438
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off927 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) : Fin 3 → Nat :=
  let c1024_i32_167 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let c0_i32_182 : BitVec 32 := 0#32
  let c1024_i32_168 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v438 v965
  let c2016_i32_409 : BitVec 32 := 2016#32
  let v967 : BitVec 32 := Scalar.minsi v966 c2016_i32_409
  let c6_i32_413 : BitVec 32 := 6#32
  let c0_i32_414 : BitVec 32 := 0#32
  ![v967.toNat, 6, 0]
def k0_off928 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) : Fin 1 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off929 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off930 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) : Fin 1 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  ![v907.toNat]
@[reducible] def k0_t41_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) : Scf.Loop 32 :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off931 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v962 : Index := Scalar.indexCast arg16
  let c0_i32_405 : BitVec 32 := 0#32
  let v963 : Index := Scalar.indexCast c0_i32_405
  let c0_406 : Index := 0#32
  ![v962.toNat, 0, 0]
def k0_off932 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v973 : Index := Scalar.indexCast arg16
  let c0_i32_409 : BitVec 32 := 0#32
  let v974 : Index := Scalar.indexCast c0_i32_409
  let c16 : Index := 16#32
  ![v973.toNat, 0, 16]
def k0_off933 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v984 : Index := Scalar.indexCast arg16
  let c0_i32_412 : BitVec 32 := 0#32
  let v985 : Index := Scalar.indexCast c0_i32_412
  let c32 : Index := 32#32
  ![v984.toNat, 0, 32]
def k0_off934 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v995 : Index := Scalar.indexCast arg16
  let c0_i32_415 : BitVec 32 := 0#32
  let v996 : Index := Scalar.indexCast c0_i32_415
  let c48 : Index := 48#32
  ![v995.toNat, 0, 48]
def k0_off935 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1006 : Index := Scalar.indexCast arg16
  let c0_i32_418 : BitVec 32 := 0#32
  let v1007 : Index := Scalar.indexCast c0_i32_418
  let c64 : Index := 64#32
  ![v1006.toNat, 0, 64]
def k0_off936 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1017 : Index := Scalar.indexCast arg16
  let c0_i32_421 : BitVec 32 := 0#32
  let v1018 : Index := Scalar.indexCast c0_i32_421
  let c80 : Index := 80#32
  ![v1017.toNat, 0, 80]
def k0_off937 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1028 : Index := Scalar.indexCast arg16
  let c0_i32_424 : BitVec 32 := 0#32
  let v1029 : Index := Scalar.indexCast c0_i32_424
  let c96 : Index := 96#32
  ![v1028.toNat, 0, 96]
def k0_off938 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1039 : Index := Scalar.indexCast arg16
  let c0_i32_427 : BitVec 32 := 0#32
  let v1040 : Index := Scalar.indexCast c0_i32_427
  let c112 : Index := 112#32
  ![v1039.toNat, 0, 112]
def k0_off939 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1050 : Index := Scalar.indexCast arg16
  let c0_i32_430 : BitVec 32 := 0#32
  let v1051 : Index := Scalar.indexCast c0_i32_430
  let c128 : Index := 128#32
  ![v1050.toNat, 0, 128]
def k0_off940 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1061 : Index := Scalar.indexCast arg16
  let c0_i32_433 : BitVec 32 := 0#32
  let v1062 : Index := Scalar.indexCast c0_i32_433
  let c144 : Index := 144#32
  ![v1061.toNat, 0, 144]
def k0_off941 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1072 : Index := Scalar.indexCast arg16
  let c0_i32_436 : BitVec 32 := 0#32
  let v1073 : Index := Scalar.indexCast c0_i32_436
  let c160 : Index := 160#32
  ![v1072.toNat, 0, 160]
def k0_off942 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1083 : Index := Scalar.indexCast arg16
  let c0_i32_439 : BitVec 32 := 0#32
  let v1084 : Index := Scalar.indexCast c0_i32_439
  let c176 : Index := 176#32
  ![v1083.toNat, 0, 176]
def k0_off943 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1094 : Index := Scalar.indexCast arg16
  let c0_i32_442 : BitVec 32 := 0#32
  let v1095 : Index := Scalar.indexCast c0_i32_442
  let c192 : Index := 192#32
  ![v1094.toNat, 0, 192]
def k0_off944 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1105 : Index := Scalar.indexCast arg16
  let c0_i32_445 : BitVec 32 := 0#32
  let v1106 : Index := Scalar.indexCast c0_i32_445
  let c208 : Index := 208#32
  ![v1105.toNat, 0, 208]
def k0_off945 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1116 : Index := Scalar.indexCast arg16
  let c0_i32_448 : BitVec 32 := 0#32
  let v1117 : Index := Scalar.indexCast c0_i32_448
  let c224 : Index := 224#32
  ![v1116.toNat, 0, 224]
def k0_off946 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1127 : Index := Scalar.indexCast arg16
  let c0_i32_451 : BitVec 32 := 0#32
  let v1128 : Index := Scalar.indexCast c0_i32_451
  let c240 : Index := 240#32
  ![v1127.toNat, 0, 240]
def k0_off947 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1138 : Index := Scalar.indexCast arg16
  let c0_i32_454 : BitVec 32 := 0#32
  let v1139 : Index := Scalar.indexCast c0_i32_454
  let c256 : Index := 256#32
  ![v1138.toNat, 0, 256]
def k0_off948 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1149 : Index := Scalar.indexCast arg16
  let c0_i32_457 : BitVec 32 := 0#32
  let v1150 : Index := Scalar.indexCast c0_i32_457
  let c272 : Index := 272#32
  ![v1149.toNat, 0, 272]
def k0_off949 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1160 : Index := Scalar.indexCast arg16
  let c0_i32_460 : BitVec 32 := 0#32
  let v1161 : Index := Scalar.indexCast c0_i32_460
  let c288 : Index := 288#32
  ![v1160.toNat, 0, 288]
def k0_off950 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1171 : Index := Scalar.indexCast arg16
  let c0_i32_463 : BitVec 32 := 0#32
  let v1172 : Index := Scalar.indexCast c0_i32_463
  let c304 : Index := 304#32
  ![v1171.toNat, 0, 304]
def k0_off951 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1182 : Index := Scalar.indexCast arg16
  let c0_i32_466 : BitVec 32 := 0#32
  let v1183 : Index := Scalar.indexCast c0_i32_466
  let c320 : Index := 320#32
  ![v1182.toNat, 0, 320]
def k0_off952 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1193 : Index := Scalar.indexCast arg16
  let c0_i32_469 : BitVec 32 := 0#32
  let v1194 : Index := Scalar.indexCast c0_i32_469
  let c336 : Index := 336#32
  ![v1193.toNat, 0, 336]
def k0_off953 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1204 : Index := Scalar.indexCast arg16
  let c0_i32_472 : BitVec 32 := 0#32
  let v1205 : Index := Scalar.indexCast c0_i32_472
  let c352 : Index := 352#32
  ![v1204.toNat, 0, 352]
def k0_off954 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1215 : Index := Scalar.indexCast arg16
  let c0_i32_475 : BitVec 32 := 0#32
  let v1216 : Index := Scalar.indexCast c0_i32_475
  let c368 : Index := 368#32
  ![v1215.toNat, 0, 368]
def k0_off955 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1226 : Index := Scalar.indexCast arg16
  let c0_i32_478 : BitVec 32 := 0#32
  let v1227 : Index := Scalar.indexCast c0_i32_478
  let c384 : Index := 384#32
  ![v1226.toNat, 0, 384]
def k0_off956 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1237 : Index := Scalar.indexCast arg16
  let c0_i32_481 : BitVec 32 := 0#32
  let v1238 : Index := Scalar.indexCast c0_i32_481
  let c400 : Index := 400#32
  ![v1237.toNat, 0, 400]
def k0_off957 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1248 : Index := Scalar.indexCast arg16
  let c0_i32_484 : BitVec 32 := 0#32
  let v1249 : Index := Scalar.indexCast c0_i32_484
  let c416 : Index := 416#32
  ![v1248.toNat, 0, 416]
def k0_off958 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1259 : Index := Scalar.indexCast arg16
  let c0_i32_487 : BitVec 32 := 0#32
  let v1260 : Index := Scalar.indexCast c0_i32_487
  let c432 : Index := 432#32
  ![v1259.toNat, 0, 432]
def k0_off959 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1270 : Index := Scalar.indexCast arg16
  let c0_i32_490 : BitVec 32 := 0#32
  let v1271 : Index := Scalar.indexCast c0_i32_490
  let c448 : Index := 448#32
  ![v1270.toNat, 0, 448]
def k0_off960 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1281 : Index := Scalar.indexCast arg16
  let c0_i32_493 : BitVec 32 := 0#32
  let v1282 : Index := Scalar.indexCast c0_i32_493
  let c464 : Index := 464#32
  ![v1281.toNat, 0, 464]
def k0_off961 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1292 : Index := Scalar.indexCast arg16
  let c0_i32_496 : BitVec 32 := 0#32
  let v1293 : Index := Scalar.indexCast c0_i32_496
  let c480 : Index := 480#32
  ![v1292.toNat, 0, 480]
def k0_off962 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t41
  let v1303 : Index := Scalar.indexCast arg16
  let c0_i32_499 : BitVec 32 := 0#32
  let v1304 : Index := Scalar.indexCast c0_i32_499
  let c496 : Index := 496#32
  ![v1303.toNat, 0, 496]
@[reducible] def k0_t42_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) : Scf.Loop 32 :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off963 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v962 : Index := Scalar.indexCast arg16
  let c0_i32_405 : BitVec 32 := 0#32
  let v963 : Index := Scalar.indexCast c0_i32_405
  let c0_406 : Index := 0#32
  ![v962.toNat, 0, 0]
def k0_off964 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v973 : Index := Scalar.indexCast arg16
  let c0_i32_409 : BitVec 32 := 0#32
  let v974 : Index := Scalar.indexCast c0_i32_409
  let c16 : Index := 16#32
  ![v973.toNat, 0, 16]
def k0_off965 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v984 : Index := Scalar.indexCast arg16
  let c0_i32_412 : BitVec 32 := 0#32
  let v985 : Index := Scalar.indexCast c0_i32_412
  let c32 : Index := 32#32
  ![v984.toNat, 0, 32]
def k0_off966 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v995 : Index := Scalar.indexCast arg16
  let c0_i32_415 : BitVec 32 := 0#32
  let v996 : Index := Scalar.indexCast c0_i32_415
  let c48 : Index := 48#32
  ![v995.toNat, 0, 48]
def k0_off967 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1006 : Index := Scalar.indexCast arg16
  let c0_i32_418 : BitVec 32 := 0#32
  let v1007 : Index := Scalar.indexCast c0_i32_418
  let c64 : Index := 64#32
  ![v1006.toNat, 0, 64]
def k0_off968 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1017 : Index := Scalar.indexCast arg16
  let c0_i32_421 : BitVec 32 := 0#32
  let v1018 : Index := Scalar.indexCast c0_i32_421
  let c80 : Index := 80#32
  ![v1017.toNat, 0, 80]
def k0_off969 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1028 : Index := Scalar.indexCast arg16
  let c0_i32_424 : BitVec 32 := 0#32
  let v1029 : Index := Scalar.indexCast c0_i32_424
  let c96 : Index := 96#32
  ![v1028.toNat, 0, 96]
def k0_off970 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1039 : Index := Scalar.indexCast arg16
  let c0_i32_427 : BitVec 32 := 0#32
  let v1040 : Index := Scalar.indexCast c0_i32_427
  let c112 : Index := 112#32
  ![v1039.toNat, 0, 112]
def k0_off971 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1050 : Index := Scalar.indexCast arg16
  let c0_i32_430 : BitVec 32 := 0#32
  let v1051 : Index := Scalar.indexCast c0_i32_430
  let c128 : Index := 128#32
  ![v1050.toNat, 0, 128]
def k0_off972 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1061 : Index := Scalar.indexCast arg16
  let c0_i32_433 : BitVec 32 := 0#32
  let v1062 : Index := Scalar.indexCast c0_i32_433
  let c144 : Index := 144#32
  ![v1061.toNat, 0, 144]
def k0_off973 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1072 : Index := Scalar.indexCast arg16
  let c0_i32_436 : BitVec 32 := 0#32
  let v1073 : Index := Scalar.indexCast c0_i32_436
  let c160 : Index := 160#32
  ![v1072.toNat, 0, 160]
def k0_off974 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1083 : Index := Scalar.indexCast arg16
  let c0_i32_439 : BitVec 32 := 0#32
  let v1084 : Index := Scalar.indexCast c0_i32_439
  let c176 : Index := 176#32
  ![v1083.toNat, 0, 176]
def k0_off975 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1094 : Index := Scalar.indexCast arg16
  let c0_i32_442 : BitVec 32 := 0#32
  let v1095 : Index := Scalar.indexCast c0_i32_442
  let c192 : Index := 192#32
  ![v1094.toNat, 0, 192]
def k0_off976 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1105 : Index := Scalar.indexCast arg16
  let c0_i32_445 : BitVec 32 := 0#32
  let v1106 : Index := Scalar.indexCast c0_i32_445
  let c208 : Index := 208#32
  ![v1105.toNat, 0, 208]
def k0_off977 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1116 : Index := Scalar.indexCast arg16
  let c0_i32_448 : BitVec 32 := 0#32
  let v1117 : Index := Scalar.indexCast c0_i32_448
  let c224 : Index := 224#32
  ![v1116.toNat, 0, 224]
def k0_off978 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1127 : Index := Scalar.indexCast arg16
  let c0_i32_451 : BitVec 32 := 0#32
  let v1128 : Index := Scalar.indexCast c0_i32_451
  let c240 : Index := 240#32
  ![v1127.toNat, 0, 240]
def k0_off979 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1138 : Index := Scalar.indexCast arg16
  let c0_i32_454 : BitVec 32 := 0#32
  let v1139 : Index := Scalar.indexCast c0_i32_454
  let c256 : Index := 256#32
  ![v1138.toNat, 0, 256]
def k0_off980 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1149 : Index := Scalar.indexCast arg16
  let c0_i32_457 : BitVec 32 := 0#32
  let v1150 : Index := Scalar.indexCast c0_i32_457
  let c272 : Index := 272#32
  ![v1149.toNat, 0, 272]
def k0_off981 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1160 : Index := Scalar.indexCast arg16
  let c0_i32_460 : BitVec 32 := 0#32
  let v1161 : Index := Scalar.indexCast c0_i32_460
  let c288 : Index := 288#32
  ![v1160.toNat, 0, 288]
def k0_off982 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1171 : Index := Scalar.indexCast arg16
  let c0_i32_463 : BitVec 32 := 0#32
  let v1172 : Index := Scalar.indexCast c0_i32_463
  let c304 : Index := 304#32
  ![v1171.toNat, 0, 304]
def k0_off983 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1182 : Index := Scalar.indexCast arg16
  let c0_i32_466 : BitVec 32 := 0#32
  let v1183 : Index := Scalar.indexCast c0_i32_466
  let c320 : Index := 320#32
  ![v1182.toNat, 0, 320]
def k0_off984 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1193 : Index := Scalar.indexCast arg16
  let c0_i32_469 : BitVec 32 := 0#32
  let v1194 : Index := Scalar.indexCast c0_i32_469
  let c336 : Index := 336#32
  ![v1193.toNat, 0, 336]
def k0_off985 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1204 : Index := Scalar.indexCast arg16
  let c0_i32_472 : BitVec 32 := 0#32
  let v1205 : Index := Scalar.indexCast c0_i32_472
  let c352 : Index := 352#32
  ![v1204.toNat, 0, 352]
def k0_off986 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1215 : Index := Scalar.indexCast arg16
  let c0_i32_475 : BitVec 32 := 0#32
  let v1216 : Index := Scalar.indexCast c0_i32_475
  let c368 : Index := 368#32
  ![v1215.toNat, 0, 368]
def k0_off987 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1226 : Index := Scalar.indexCast arg16
  let c0_i32_478 : BitVec 32 := 0#32
  let v1227 : Index := Scalar.indexCast c0_i32_478
  let c384 : Index := 384#32
  ![v1226.toNat, 0, 384]
def k0_off988 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1237 : Index := Scalar.indexCast arg16
  let c0_i32_481 : BitVec 32 := 0#32
  let v1238 : Index := Scalar.indexCast c0_i32_481
  let c400 : Index := 400#32
  ![v1237.toNat, 0, 400]
def k0_off989 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1248 : Index := Scalar.indexCast arg16
  let c0_i32_484 : BitVec 32 := 0#32
  let v1249 : Index := Scalar.indexCast c0_i32_484
  let c416 : Index := 416#32
  ![v1248.toNat, 0, 416]
def k0_off990 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1259 : Index := Scalar.indexCast arg16
  let c0_i32_487 : BitVec 32 := 0#32
  let v1260 : Index := Scalar.indexCast c0_i32_487
  let c432 : Index := 432#32
  ![v1259.toNat, 0, 432]
def k0_off991 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1270 : Index := Scalar.indexCast arg16
  let c0_i32_490 : BitVec 32 := 0#32
  let v1271 : Index := Scalar.indexCast c0_i32_490
  let c448 : Index := 448#32
  ![v1270.toNat, 0, 448]
def k0_off992 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1281 : Index := Scalar.indexCast arg16
  let c0_i32_493 : BitVec 32 := 0#32
  let v1282 : Index := Scalar.indexCast c0_i32_493
  let c464 : Index := 464#32
  ![v1281.toNat, 0, 464]
def k0_off993 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1292 : Index := Scalar.indexCast arg16
  let c0_i32_496 : BitVec 32 := 0#32
  let v1293 : Index := Scalar.indexCast c0_i32_496
  let c480 : Index := 480#32
  ![v1292.toNat, 0, 480]
def k0_off994 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips) : Fin 3 → Nat :=
  let c0_i32_182 : BitVec 32 := 0#32
  let c1024_i32_168 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v435 : BitVec 32 := Scalar.addi v103 v79
  let v436 : BitVec 32 := Scalar.minsi v150 v435
  let v439 : BitVec 32 := Scalar.subi v436 v103
  let v440 : BitVec 32 := Scalar.addi c1024_i32_168 v439
  let c1024_i32_167 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v434 : BitVec 32 := Scalar.maxsi v131 v103
  let v437 : BitVec 32 := Scalar.subi v434 v103
  let v438 : BitVec 32 := Scalar.addi c1024_i32_167 v437
  let v441 : BitVec 32 := Scalar.subi v440 v438
  let c31_i32_169 : BitVec 32 := 31#32
  let v442 : BitVec 32 := Scalar.addi v441 c31_i32_169
  let c0_i32_171 : BitVec 32 := 0#32
  let v444 : BitVec 1 := Scalar.cmpi .sgt v442 c0_i32_171
  let v445 : BitVec 32 := Scalar.extui v444
  let c0_i32_172 : BitVec 32 := 0#32
  let v446 : BitVec 1 := Scalar.cmpi .slt v442 c0_i32_172
  let v447 : BitVec 32 := Scalar.extui v446
  let v448 : BitVec 32 := Scalar.subi v445 v447
  let c32_i32_170 : BitVec 32 := 32#32
  let c0_i32_173 : BitVec 32 := 0#32
  let v449 : BitVec 1 := Scalar.cmpi .sgt c32_i32_170 c0_i32_173
  let v450 : BitVec 32 := Scalar.extui v449
  let c0_i32_174 : BitVec 32 := 0#32
  let v451 : BitVec 1 := Scalar.cmpi .slt c32_i32_170 c0_i32_174
  let v452 : BitVec 32 := Scalar.extui v451
  let v453 : BitVec 32 := Scalar.subi v450 v452
  let v454 : BitVec 1 := Scalar.cmpi .ne v448 v453
  let v455 : BitVec 32 := Scalar.remsi v442 c32_i32_170
  let c0_i32_175 : BitVec 32 := 0#32
  let v456 : BitVec 1 := Scalar.cmpi .ne v455 c0_i32_175
  let v457 : BitVec 1 := Scalar.andi v454 v456
  let v443 : BitVec 32 := Scalar.divsi v442 c32_i32_170
  let c1_i32_176 : BitVec 32 := 1#32
  let v458 : BitVec 32 := Scalar.subi v443 c1_i32_176
  let v459 : BitVec 32 := Scalar.select v457 v458 v443
  let v467 : BitVec 32 := Scalar.subi v459 c0_i32_182
  let c1_i32_183 : BitVec 32 := 1#32
  let v469 : BitVec 32 := Scalar.divsi v467 c1_i32_183
  let v470 : BitVec 32 := Scalar.muli v469 c1_i32_183
  let v471 : BitVec 32 := Scalar.addi c0_i32_182 v470
  let c1_i32_185 : BitVec 32 := 1#32
  let arg14 : BitVec 32 := Scf.iv v471 c1_i32_185 k0_t40
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v438 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v440 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t42
  let v1303 : Index := Scalar.indexCast arg16
  let c0_i32_499 : BitVec 32 := 0#32
  let v1304 : Index := Scalar.indexCast c0_i32_499
  let c496 : Index := 496#32
  ![v1303.toNat, 0, 496]
def k0_off995 : Fin 3 → Nat :=
  let c0_i32_370 : BitVec 32 := 0#32
  let c32_i32_371 : BitVec 32 := 32#32
  let v910 : BitVec 32 := Scalar.muli c0_i32_370 c32_i32_371
  let c0_i32_373 : BitVec 32 := 0#32
  let c0_i32_374 : BitVec 32 := 0#32
  ![v910.toNat, 0, 0]
def k0_off996 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c0_i32_368 : BitVec 32 := 0#32
  let c32_i32_369 : BitVec 32 := 32#32
  let v907 : BitVec 32 := Scalar.muli c0_i32_368 c32_i32_369
  let v908 : BitVec 32 := Scalar.addi v485 v907
  let c2016_i32 : BitVec 32 := 2016#32
  let v909 : BitVec 32 := Scalar.minsi v908 c2016_i32
  let c7_i32 : BitVec 32 := 7#32
  let c0_i32_375 : BitVec 32 := 0#32
  ![v909.toNat, 7, 0]
def k0_cond29 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let c0_i32_197 : BitVec 32 := 0#32
  let v507 : BitVec 1 := Scalar.cmpi .sgt v506 c0_i32_197
  let v508 : BitVec 32 := Scalar.extui v507
  let c0_i32_198 : BitVec 32 := 0#32
  let v509 : BitVec 1 := Scalar.cmpi .ne v508 c0_i32_198
  v509

def k0_off997 : Fin 3 → Nat :=
  let c1_i32_370 : BitVec 32 := 1#32
  let c32_i32_371 : BitVec 32 := 32#32
  let v910 : BitVec 32 := Scalar.muli c1_i32_370 c32_i32_371
  let c0_i32_373 : BitVec 32 := 0#32
  let c0_i32_374 : BitVec 32 := 0#32
  ![v910.toNat, 0, 0]
def k0_off998 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c1_i32_368 : BitVec 32 := 1#32
  let c32_i32_369 : BitVec 32 := 32#32
  let v907 : BitVec 32 := Scalar.muli c1_i32_368 c32_i32_369
  let v908 : BitVec 32 := Scalar.addi v485 v907
  let c2016_i32 : BitVec 32 := 2016#32
  let v909 : BitVec 32 := Scalar.minsi v908 c2016_i32
  let c7_i32 : BitVec 32 := 7#32
  let c0_i32_375 : BitVec 32 := 0#32
  ![v909.toNat, 7, 0]
def k0_cond30 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let c1_i32_199 : BitVec 32 := 1#32
  let v510 : BitVec 1 := Scalar.cmpi .sgt v506 c1_i32_199
  let v511 : BitVec 32 := Scalar.extui v510
  let c0_i32_200 : BitVec 32 := 0#32
  let v512 : BitVec 1 := Scalar.cmpi .ne v511 c0_i32_200
  v512

@[reducible] def k0_t43_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_204 : BitVec 32 := 1#32
  ⟨c0_i32_202, v518, c1_i32_204⟩
def k0_off999 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) : Fin 3 → Nat :=
  let c0_i32_202 : BitVec 32 := 0#32
  let c1_i32_204 : BitVec 32 := 1#32
  let arg14 : BitVec 32 := Scf.iv c0_i32_202 c1_i32_204 k0_t43
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond31 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) : BitVec 1 :=
  let c0_i32_202 : BitVec 32 := 0#32
  let c1_i32_204 : BitVec 32 := 1#32
  let arg14 : BitVec 32 := Scf.iv c0_i32_202 c1_i32_204 k0_t43
  let c2_i32_376 : BitVec 32 := 2#32
  let v927 : BitVec 32 := Scalar.addi arg14 c2_i32_376
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v908 : BitVec 32 := Scalar.subi v487 v485
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off1000 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) : Fin 3 → Nat :=
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c0_i32_202 : BitVec 32 := 0#32
  let c1_i32_204 : BitVec 32 := 1#32
  let arg14 : BitVec 32 := Scf.iv c0_i32_202 c1_i32_204 k0_t43
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v485 v965
  let c2016_i32_409 : BitVec 32 := 2016#32
  let v967 : BitVec 32 := Scalar.minsi v966 c2016_i32_409
  let c7_i32_413 : BitVec 32 := 7#32
  let c0_i32_414 : BitVec 32 := 0#32
  ![v967.toNat, 7, 0]
def k0_off1001 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) : Fin 1 → Nat :=
  let c0_i32_202 : BitVec 32 := 0#32
  let c1_i32_204 : BitVec 32 := 1#32
  let arg14 : BitVec 32 := Scf.iv c0_i32_202 c1_i32_204 k0_t43
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off1002 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off1003 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) : Fin 1 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  ![v907.toNat]
@[reducible] def k0_t44_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) : Scf.Loop 32 :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off1004 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v962 : Index := Scalar.indexCast arg16
  let c0_i32_405 : BitVec 32 := 0#32
  let v963 : Index := Scalar.indexCast c0_i32_405
  let c0_406 : Index := 0#32
  ![v962.toNat, 0, 0]
def k0_off1005 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v973 : Index := Scalar.indexCast arg16
  let c0_i32_409 : BitVec 32 := 0#32
  let v974 : Index := Scalar.indexCast c0_i32_409
  let c16 : Index := 16#32
  ![v973.toNat, 0, 16]
def k0_off1006 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v984 : Index := Scalar.indexCast arg16
  let c0_i32_412 : BitVec 32 := 0#32
  let v985 : Index := Scalar.indexCast c0_i32_412
  let c32 : Index := 32#32
  ![v984.toNat, 0, 32]
def k0_off1007 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v995 : Index := Scalar.indexCast arg16
  let c0_i32_415 : BitVec 32 := 0#32
  let v996 : Index := Scalar.indexCast c0_i32_415
  let c48 : Index := 48#32
  ![v995.toNat, 0, 48]
def k0_off1008 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1006 : Index := Scalar.indexCast arg16
  let c0_i32_418 : BitVec 32 := 0#32
  let v1007 : Index := Scalar.indexCast c0_i32_418
  let c64 : Index := 64#32
  ![v1006.toNat, 0, 64]
def k0_off1009 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1017 : Index := Scalar.indexCast arg16
  let c0_i32_421 : BitVec 32 := 0#32
  let v1018 : Index := Scalar.indexCast c0_i32_421
  let c80 : Index := 80#32
  ![v1017.toNat, 0, 80]
def k0_off1010 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1028 : Index := Scalar.indexCast arg16
  let c0_i32_424 : BitVec 32 := 0#32
  let v1029 : Index := Scalar.indexCast c0_i32_424
  let c96 : Index := 96#32
  ![v1028.toNat, 0, 96]
def k0_off1011 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1039 : Index := Scalar.indexCast arg16
  let c0_i32_427 : BitVec 32 := 0#32
  let v1040 : Index := Scalar.indexCast c0_i32_427
  let c112 : Index := 112#32
  ![v1039.toNat, 0, 112]
def k0_off1012 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1050 : Index := Scalar.indexCast arg16
  let c0_i32_430 : BitVec 32 := 0#32
  let v1051 : Index := Scalar.indexCast c0_i32_430
  let c128 : Index := 128#32
  ![v1050.toNat, 0, 128]
def k0_off1013 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1061 : Index := Scalar.indexCast arg16
  let c0_i32_433 : BitVec 32 := 0#32
  let v1062 : Index := Scalar.indexCast c0_i32_433
  let c144 : Index := 144#32
  ![v1061.toNat, 0, 144]
def k0_off1014 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1072 : Index := Scalar.indexCast arg16
  let c0_i32_436 : BitVec 32 := 0#32
  let v1073 : Index := Scalar.indexCast c0_i32_436
  let c160 : Index := 160#32
  ![v1072.toNat, 0, 160]
def k0_off1015 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1083 : Index := Scalar.indexCast arg16
  let c0_i32_439 : BitVec 32 := 0#32
  let v1084 : Index := Scalar.indexCast c0_i32_439
  let c176 : Index := 176#32
  ![v1083.toNat, 0, 176]
def k0_off1016 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1094 : Index := Scalar.indexCast arg16
  let c0_i32_442 : BitVec 32 := 0#32
  let v1095 : Index := Scalar.indexCast c0_i32_442
  let c192 : Index := 192#32
  ![v1094.toNat, 0, 192]
def k0_off1017 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1105 : Index := Scalar.indexCast arg16
  let c0_i32_445 : BitVec 32 := 0#32
  let v1106 : Index := Scalar.indexCast c0_i32_445
  let c208 : Index := 208#32
  ![v1105.toNat, 0, 208]
def k0_off1018 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1116 : Index := Scalar.indexCast arg16
  let c0_i32_448 : BitVec 32 := 0#32
  let v1117 : Index := Scalar.indexCast c0_i32_448
  let c224 : Index := 224#32
  ![v1116.toNat, 0, 224]
def k0_off1019 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1127 : Index := Scalar.indexCast arg16
  let c0_i32_451 : BitVec 32 := 0#32
  let v1128 : Index := Scalar.indexCast c0_i32_451
  let c240 : Index := 240#32
  ![v1127.toNat, 0, 240]
def k0_off1020 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1138 : Index := Scalar.indexCast arg16
  let c0_i32_454 : BitVec 32 := 0#32
  let v1139 : Index := Scalar.indexCast c0_i32_454
  let c256 : Index := 256#32
  ![v1138.toNat, 0, 256]
def k0_off1021 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1149 : Index := Scalar.indexCast arg16
  let c0_i32_457 : BitVec 32 := 0#32
  let v1150 : Index := Scalar.indexCast c0_i32_457
  let c272 : Index := 272#32
  ![v1149.toNat, 0, 272]
def k0_off1022 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1160 : Index := Scalar.indexCast arg16
  let c0_i32_460 : BitVec 32 := 0#32
  let v1161 : Index := Scalar.indexCast c0_i32_460
  let c288 : Index := 288#32
  ![v1160.toNat, 0, 288]
def k0_off1023 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1171 : Index := Scalar.indexCast arg16
  let c0_i32_463 : BitVec 32 := 0#32
  let v1172 : Index := Scalar.indexCast c0_i32_463
  let c304 : Index := 304#32
  ![v1171.toNat, 0, 304]
def k0_off1024 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1182 : Index := Scalar.indexCast arg16
  let c0_i32_466 : BitVec 32 := 0#32
  let v1183 : Index := Scalar.indexCast c0_i32_466
  let c320 : Index := 320#32
  ![v1182.toNat, 0, 320]
def k0_off1025 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1193 : Index := Scalar.indexCast arg16
  let c0_i32_469 : BitVec 32 := 0#32
  let v1194 : Index := Scalar.indexCast c0_i32_469
  let c336 : Index := 336#32
  ![v1193.toNat, 0, 336]
def k0_off1026 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1204 : Index := Scalar.indexCast arg16
  let c0_i32_472 : BitVec 32 := 0#32
  let v1205 : Index := Scalar.indexCast c0_i32_472
  let c352 : Index := 352#32
  ![v1204.toNat, 0, 352]
def k0_off1027 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1215 : Index := Scalar.indexCast arg16
  let c0_i32_475 : BitVec 32 := 0#32
  let v1216 : Index := Scalar.indexCast c0_i32_475
  let c368 : Index := 368#32
  ![v1215.toNat, 0, 368]
def k0_off1028 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1226 : Index := Scalar.indexCast arg16
  let c0_i32_478 : BitVec 32 := 0#32
  let v1227 : Index := Scalar.indexCast c0_i32_478
  let c384 : Index := 384#32
  ![v1226.toNat, 0, 384]
def k0_off1029 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1237 : Index := Scalar.indexCast arg16
  let c0_i32_481 : BitVec 32 := 0#32
  let v1238 : Index := Scalar.indexCast c0_i32_481
  let c400 : Index := 400#32
  ![v1237.toNat, 0, 400]
def k0_off1030 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1248 : Index := Scalar.indexCast arg16
  let c0_i32_484 : BitVec 32 := 0#32
  let v1249 : Index := Scalar.indexCast c0_i32_484
  let c416 : Index := 416#32
  ![v1248.toNat, 0, 416]
def k0_off1031 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1259 : Index := Scalar.indexCast arg16
  let c0_i32_487 : BitVec 32 := 0#32
  let v1260 : Index := Scalar.indexCast c0_i32_487
  let c432 : Index := 432#32
  ![v1259.toNat, 0, 432]
def k0_off1032 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1270 : Index := Scalar.indexCast arg16
  let c0_i32_490 : BitVec 32 := 0#32
  let v1271 : Index := Scalar.indexCast c0_i32_490
  let c448 : Index := 448#32
  ![v1270.toNat, 0, 448]
def k0_off1033 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1281 : Index := Scalar.indexCast arg16
  let c0_i32_493 : BitVec 32 := 0#32
  let v1282 : Index := Scalar.indexCast c0_i32_493
  let c464 : Index := 464#32
  ![v1281.toNat, 0, 464]
def k0_off1034 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1292 : Index := Scalar.indexCast arg16
  let c0_i32_496 : BitVec 32 := 0#32
  let v1293 : Index := Scalar.indexCast c0_i32_496
  let c480 : Index := 480#32
  ![v1292.toNat, 0, 480]
def k0_off1035 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t44
  let v1303 : Index := Scalar.indexCast arg16
  let c0_i32_499 : BitVec 32 := 0#32
  let v1304 : Index := Scalar.indexCast c0_i32_499
  let c496 : Index := 496#32
  ![v1303.toNat, 0, 496]
@[reducible] def k0_t45_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) : Scf.Loop 32 :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off1036 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v962 : Index := Scalar.indexCast arg16
  let c0_i32_405 : BitVec 32 := 0#32
  let v963 : Index := Scalar.indexCast c0_i32_405
  let c0_406 : Index := 0#32
  ![v962.toNat, 0, 0]
def k0_off1037 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v973 : Index := Scalar.indexCast arg16
  let c0_i32_409 : BitVec 32 := 0#32
  let v974 : Index := Scalar.indexCast c0_i32_409
  let c16 : Index := 16#32
  ![v973.toNat, 0, 16]
def k0_off1038 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v984 : Index := Scalar.indexCast arg16
  let c0_i32_412 : BitVec 32 := 0#32
  let v985 : Index := Scalar.indexCast c0_i32_412
  let c32 : Index := 32#32
  ![v984.toNat, 0, 32]
def k0_off1039 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v995 : Index := Scalar.indexCast arg16
  let c0_i32_415 : BitVec 32 := 0#32
  let v996 : Index := Scalar.indexCast c0_i32_415
  let c48 : Index := 48#32
  ![v995.toNat, 0, 48]
def k0_off1040 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1006 : Index := Scalar.indexCast arg16
  let c0_i32_418 : BitVec 32 := 0#32
  let v1007 : Index := Scalar.indexCast c0_i32_418
  let c64 : Index := 64#32
  ![v1006.toNat, 0, 64]
def k0_off1041 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1017 : Index := Scalar.indexCast arg16
  let c0_i32_421 : BitVec 32 := 0#32
  let v1018 : Index := Scalar.indexCast c0_i32_421
  let c80 : Index := 80#32
  ![v1017.toNat, 0, 80]
def k0_off1042 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1028 : Index := Scalar.indexCast arg16
  let c0_i32_424 : BitVec 32 := 0#32
  let v1029 : Index := Scalar.indexCast c0_i32_424
  let c96 : Index := 96#32
  ![v1028.toNat, 0, 96]
def k0_off1043 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1039 : Index := Scalar.indexCast arg16
  let c0_i32_427 : BitVec 32 := 0#32
  let v1040 : Index := Scalar.indexCast c0_i32_427
  let c112 : Index := 112#32
  ![v1039.toNat, 0, 112]
def k0_off1044 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1050 : Index := Scalar.indexCast arg16
  let c0_i32_430 : BitVec 32 := 0#32
  let v1051 : Index := Scalar.indexCast c0_i32_430
  let c128 : Index := 128#32
  ![v1050.toNat, 0, 128]
def k0_off1045 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1061 : Index := Scalar.indexCast arg16
  let c0_i32_433 : BitVec 32 := 0#32
  let v1062 : Index := Scalar.indexCast c0_i32_433
  let c144 : Index := 144#32
  ![v1061.toNat, 0, 144]
def k0_off1046 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1072 : Index := Scalar.indexCast arg16
  let c0_i32_436 : BitVec 32 := 0#32
  let v1073 : Index := Scalar.indexCast c0_i32_436
  let c160 : Index := 160#32
  ![v1072.toNat, 0, 160]
def k0_off1047 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1083 : Index := Scalar.indexCast arg16
  let c0_i32_439 : BitVec 32 := 0#32
  let v1084 : Index := Scalar.indexCast c0_i32_439
  let c176 : Index := 176#32
  ![v1083.toNat, 0, 176]
def k0_off1048 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1094 : Index := Scalar.indexCast arg16
  let c0_i32_442 : BitVec 32 := 0#32
  let v1095 : Index := Scalar.indexCast c0_i32_442
  let c192 : Index := 192#32
  ![v1094.toNat, 0, 192]
def k0_off1049 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1105 : Index := Scalar.indexCast arg16
  let c0_i32_445 : BitVec 32 := 0#32
  let v1106 : Index := Scalar.indexCast c0_i32_445
  let c208 : Index := 208#32
  ![v1105.toNat, 0, 208]
def k0_off1050 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1116 : Index := Scalar.indexCast arg16
  let c0_i32_448 : BitVec 32 := 0#32
  let v1117 : Index := Scalar.indexCast c0_i32_448
  let c224 : Index := 224#32
  ![v1116.toNat, 0, 224]
def k0_off1051 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1127 : Index := Scalar.indexCast arg16
  let c0_i32_451 : BitVec 32 := 0#32
  let v1128 : Index := Scalar.indexCast c0_i32_451
  let c240 : Index := 240#32
  ![v1127.toNat, 0, 240]
def k0_off1052 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1138 : Index := Scalar.indexCast arg16
  let c0_i32_454 : BitVec 32 := 0#32
  let v1139 : Index := Scalar.indexCast c0_i32_454
  let c256 : Index := 256#32
  ![v1138.toNat, 0, 256]
def k0_off1053 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1149 : Index := Scalar.indexCast arg16
  let c0_i32_457 : BitVec 32 := 0#32
  let v1150 : Index := Scalar.indexCast c0_i32_457
  let c272 : Index := 272#32
  ![v1149.toNat, 0, 272]
def k0_off1054 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1160 : Index := Scalar.indexCast arg16
  let c0_i32_460 : BitVec 32 := 0#32
  let v1161 : Index := Scalar.indexCast c0_i32_460
  let c288 : Index := 288#32
  ![v1160.toNat, 0, 288]
def k0_off1055 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1171 : Index := Scalar.indexCast arg16
  let c0_i32_463 : BitVec 32 := 0#32
  let v1172 : Index := Scalar.indexCast c0_i32_463
  let c304 : Index := 304#32
  ![v1171.toNat, 0, 304]
def k0_off1056 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1182 : Index := Scalar.indexCast arg16
  let c0_i32_466 : BitVec 32 := 0#32
  let v1183 : Index := Scalar.indexCast c0_i32_466
  let c320 : Index := 320#32
  ![v1182.toNat, 0, 320]
def k0_off1057 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1193 : Index := Scalar.indexCast arg16
  let c0_i32_469 : BitVec 32 := 0#32
  let v1194 : Index := Scalar.indexCast c0_i32_469
  let c336 : Index := 336#32
  ![v1193.toNat, 0, 336]
def k0_off1058 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1204 : Index := Scalar.indexCast arg16
  let c0_i32_472 : BitVec 32 := 0#32
  let v1205 : Index := Scalar.indexCast c0_i32_472
  let c352 : Index := 352#32
  ![v1204.toNat, 0, 352]
def k0_off1059 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1215 : Index := Scalar.indexCast arg16
  let c0_i32_475 : BitVec 32 := 0#32
  let v1216 : Index := Scalar.indexCast c0_i32_475
  let c368 : Index := 368#32
  ![v1215.toNat, 0, 368]
def k0_off1060 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1226 : Index := Scalar.indexCast arg16
  let c0_i32_478 : BitVec 32 := 0#32
  let v1227 : Index := Scalar.indexCast c0_i32_478
  let c384 : Index := 384#32
  ![v1226.toNat, 0, 384]
def k0_off1061 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1237 : Index := Scalar.indexCast arg16
  let c0_i32_481 : BitVec 32 := 0#32
  let v1238 : Index := Scalar.indexCast c0_i32_481
  let c400 : Index := 400#32
  ![v1237.toNat, 0, 400]
def k0_off1062 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1248 : Index := Scalar.indexCast arg16
  let c0_i32_484 : BitVec 32 := 0#32
  let v1249 : Index := Scalar.indexCast c0_i32_484
  let c416 : Index := 416#32
  ![v1248.toNat, 0, 416]
def k0_off1063 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1259 : Index := Scalar.indexCast arg16
  let c0_i32_487 : BitVec 32 := 0#32
  let v1260 : Index := Scalar.indexCast c0_i32_487
  let c432 : Index := 432#32
  ![v1259.toNat, 0, 432]
def k0_off1064 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1270 : Index := Scalar.indexCast arg16
  let c0_i32_490 : BitVec 32 := 0#32
  let v1271 : Index := Scalar.indexCast c0_i32_490
  let c448 : Index := 448#32
  ![v1270.toNat, 0, 448]
def k0_off1065 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1281 : Index := Scalar.indexCast arg16
  let c0_i32_493 : BitVec 32 := 0#32
  let v1282 : Index := Scalar.indexCast c0_i32_493
  let c464 : Index := 464#32
  ![v1281.toNat, 0, 464]
def k0_off1066 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1292 : Index := Scalar.indexCast arg16
  let c0_i32_496 : BitVec 32 := 0#32
  let v1293 : Index := Scalar.indexCast c0_i32_496
  let c480 : Index := 480#32
  ![v1292.toNat, 0, 480]
def k0_off1067 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips) : Fin 3 → Nat :=
  let c0_i32_202 : BitVec 32 := 0#32
  let c1_i32_204 : BitVec 32 := 1#32
  let arg14 : BitVec 32 := Scf.iv c0_i32_202 c1_i32_204 k0_t43
  let c3_i32 : BitVec 32 := 3#32
  let v907 : BitVec 32 := Scalar.remsi arg14 c3_i32
  let c32_i32_400 : BitVec 32 := 32#32
  let v948 : BitVec 32 := Scalar.muli v907 c32_i32_400
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t45
  let v1303 : Index := Scalar.indexCast arg16
  let c0_i32_499 : BitVec 32 := 0#32
  let v1304 : Index := Scalar.indexCast c0_i32_499
  let c496 : Index := 496#32
  ![v1303.toNat, 0, 496]
@[reducible] def k0_t46_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let v515 : BitVec 32 := Scalar.addi c0_i32_202 v514
  let c1_i32_205 : BitVec 32 := 1#32
  ⟨v518, v515, c1_i32_205⟩
def k0_off1068 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond32 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) : BitVec 1 :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c2_i32_376 : BitVec 32 := 2#32
  let v927 : BitVec 32 := Scalar.addi arg14 c2_i32_376
  let v908 : BitVec 32 := Scalar.subi v487 v485
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off1069 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) : Fin 3 → Nat :=
  let c1024_i32_187 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let c0_i32_202 : BitVec 32 := 0#32
  let c1024_i32_188 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v485 v965
  let c2016_i32_409 : BitVec 32 := 2016#32
  let v967 : BitVec 32 := Scalar.minsi v966 c2016_i32_409
  let c7_i32_413 : BitVec 32 := 7#32
  let c0_i32_414 : BitVec 32 := 0#32
  ![v967.toNat, 7, 0]
def k0_off1070 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) : Fin 1 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off1071 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off1072 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) : Fin 1 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  ![v907.toNat]
@[reducible] def k0_t47_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) : Scf.Loop 32 :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off1073 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v962 : Index := Scalar.indexCast arg16
  let c0_i32_405 : BitVec 32 := 0#32
  let v963 : Index := Scalar.indexCast c0_i32_405
  let c0_406 : Index := 0#32
  ![v962.toNat, 0, 0]
def k0_off1074 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v973 : Index := Scalar.indexCast arg16
  let c0_i32_409 : BitVec 32 := 0#32
  let v974 : Index := Scalar.indexCast c0_i32_409
  let c16 : Index := 16#32
  ![v973.toNat, 0, 16]
def k0_off1075 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v984 : Index := Scalar.indexCast arg16
  let c0_i32_412 : BitVec 32 := 0#32
  let v985 : Index := Scalar.indexCast c0_i32_412
  let c32 : Index := 32#32
  ![v984.toNat, 0, 32]
def k0_off1076 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v995 : Index := Scalar.indexCast arg16
  let c0_i32_415 : BitVec 32 := 0#32
  let v996 : Index := Scalar.indexCast c0_i32_415
  let c48 : Index := 48#32
  ![v995.toNat, 0, 48]
def k0_off1077 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1006 : Index := Scalar.indexCast arg16
  let c0_i32_418 : BitVec 32 := 0#32
  let v1007 : Index := Scalar.indexCast c0_i32_418
  let c64 : Index := 64#32
  ![v1006.toNat, 0, 64]
def k0_off1078 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1017 : Index := Scalar.indexCast arg16
  let c0_i32_421 : BitVec 32 := 0#32
  let v1018 : Index := Scalar.indexCast c0_i32_421
  let c80 : Index := 80#32
  ![v1017.toNat, 0, 80]
def k0_off1079 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1028 : Index := Scalar.indexCast arg16
  let c0_i32_424 : BitVec 32 := 0#32
  let v1029 : Index := Scalar.indexCast c0_i32_424
  let c96 : Index := 96#32
  ![v1028.toNat, 0, 96]
def k0_off1080 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1039 : Index := Scalar.indexCast arg16
  let c0_i32_427 : BitVec 32 := 0#32
  let v1040 : Index := Scalar.indexCast c0_i32_427
  let c112 : Index := 112#32
  ![v1039.toNat, 0, 112]
def k0_off1081 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1050 : Index := Scalar.indexCast arg16
  let c0_i32_430 : BitVec 32 := 0#32
  let v1051 : Index := Scalar.indexCast c0_i32_430
  let c128 : Index := 128#32
  ![v1050.toNat, 0, 128]
def k0_off1082 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1061 : Index := Scalar.indexCast arg16
  let c0_i32_433 : BitVec 32 := 0#32
  let v1062 : Index := Scalar.indexCast c0_i32_433
  let c144 : Index := 144#32
  ![v1061.toNat, 0, 144]
def k0_off1083 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1072 : Index := Scalar.indexCast arg16
  let c0_i32_436 : BitVec 32 := 0#32
  let v1073 : Index := Scalar.indexCast c0_i32_436
  let c160 : Index := 160#32
  ![v1072.toNat, 0, 160]
def k0_off1084 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1083 : Index := Scalar.indexCast arg16
  let c0_i32_439 : BitVec 32 := 0#32
  let v1084 : Index := Scalar.indexCast c0_i32_439
  let c176 : Index := 176#32
  ![v1083.toNat, 0, 176]
def k0_off1085 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1094 : Index := Scalar.indexCast arg16
  let c0_i32_442 : BitVec 32 := 0#32
  let v1095 : Index := Scalar.indexCast c0_i32_442
  let c192 : Index := 192#32
  ![v1094.toNat, 0, 192]
def k0_off1086 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1105 : Index := Scalar.indexCast arg16
  let c0_i32_445 : BitVec 32 := 0#32
  let v1106 : Index := Scalar.indexCast c0_i32_445
  let c208 : Index := 208#32
  ![v1105.toNat, 0, 208]
def k0_off1087 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1116 : Index := Scalar.indexCast arg16
  let c0_i32_448 : BitVec 32 := 0#32
  let v1117 : Index := Scalar.indexCast c0_i32_448
  let c224 : Index := 224#32
  ![v1116.toNat, 0, 224]
def k0_off1088 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1127 : Index := Scalar.indexCast arg16
  let c0_i32_451 : BitVec 32 := 0#32
  let v1128 : Index := Scalar.indexCast c0_i32_451
  let c240 : Index := 240#32
  ![v1127.toNat, 0, 240]
def k0_off1089 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1138 : Index := Scalar.indexCast arg16
  let c0_i32_454 : BitVec 32 := 0#32
  let v1139 : Index := Scalar.indexCast c0_i32_454
  let c256 : Index := 256#32
  ![v1138.toNat, 0, 256]
def k0_off1090 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1149 : Index := Scalar.indexCast arg16
  let c0_i32_457 : BitVec 32 := 0#32
  let v1150 : Index := Scalar.indexCast c0_i32_457
  let c272 : Index := 272#32
  ![v1149.toNat, 0, 272]
def k0_off1091 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1160 : Index := Scalar.indexCast arg16
  let c0_i32_460 : BitVec 32 := 0#32
  let v1161 : Index := Scalar.indexCast c0_i32_460
  let c288 : Index := 288#32
  ![v1160.toNat, 0, 288]
def k0_off1092 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1171 : Index := Scalar.indexCast arg16
  let c0_i32_463 : BitVec 32 := 0#32
  let v1172 : Index := Scalar.indexCast c0_i32_463
  let c304 : Index := 304#32
  ![v1171.toNat, 0, 304]
def k0_off1093 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1182 : Index := Scalar.indexCast arg16
  let c0_i32_466 : BitVec 32 := 0#32
  let v1183 : Index := Scalar.indexCast c0_i32_466
  let c320 : Index := 320#32
  ![v1182.toNat, 0, 320]
def k0_off1094 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1193 : Index := Scalar.indexCast arg16
  let c0_i32_469 : BitVec 32 := 0#32
  let v1194 : Index := Scalar.indexCast c0_i32_469
  let c336 : Index := 336#32
  ![v1193.toNat, 0, 336]
def k0_off1095 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1204 : Index := Scalar.indexCast arg16
  let c0_i32_472 : BitVec 32 := 0#32
  let v1205 : Index := Scalar.indexCast c0_i32_472
  let c352 : Index := 352#32
  ![v1204.toNat, 0, 352]
def k0_off1096 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1215 : Index := Scalar.indexCast arg16
  let c0_i32_475 : BitVec 32 := 0#32
  let v1216 : Index := Scalar.indexCast c0_i32_475
  let c368 : Index := 368#32
  ![v1215.toNat, 0, 368]
def k0_off1097 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1226 : Index := Scalar.indexCast arg16
  let c0_i32_478 : BitVec 32 := 0#32
  let v1227 : Index := Scalar.indexCast c0_i32_478
  let c384 : Index := 384#32
  ![v1226.toNat, 0, 384]
def k0_off1098 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1237 : Index := Scalar.indexCast arg16
  let c0_i32_481 : BitVec 32 := 0#32
  let v1238 : Index := Scalar.indexCast c0_i32_481
  let c400 : Index := 400#32
  ![v1237.toNat, 0, 400]
def k0_off1099 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1248 : Index := Scalar.indexCast arg16
  let c0_i32_484 : BitVec 32 := 0#32
  let v1249 : Index := Scalar.indexCast c0_i32_484
  let c416 : Index := 416#32
  ![v1248.toNat, 0, 416]
def k0_off1100 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1259 : Index := Scalar.indexCast arg16
  let c0_i32_487 : BitVec 32 := 0#32
  let v1260 : Index := Scalar.indexCast c0_i32_487
  let c432 : Index := 432#32
  ![v1259.toNat, 0, 432]
def k0_off1101 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1270 : Index := Scalar.indexCast arg16
  let c0_i32_490 : BitVec 32 := 0#32
  let v1271 : Index := Scalar.indexCast c0_i32_490
  let c448 : Index := 448#32
  ![v1270.toNat, 0, 448]
def k0_off1102 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1281 : Index := Scalar.indexCast arg16
  let c0_i32_493 : BitVec 32 := 0#32
  let v1282 : Index := Scalar.indexCast c0_i32_493
  let c464 : Index := 464#32
  ![v1281.toNat, 0, 464]
def k0_off1103 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1292 : Index := Scalar.indexCast arg16
  let c0_i32_496 : BitVec 32 := 0#32
  let v1293 : Index := Scalar.indexCast c0_i32_496
  let c480 : Index := 480#32
  ![v1292.toNat, 0, 480]
def k0_off1104 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t47
  let v1303 : Index := Scalar.indexCast arg16
  let c0_i32_499 : BitVec 32 := 0#32
  let v1304 : Index := Scalar.indexCast c0_i32_499
  let c496 : Index := 496#32
  ![v1303.toNat, 0, 496]

variable {F : FTy → Type} [FloatOps F]

@[reducible] def k0_t48_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) : Scf.Loop 32 :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off1105 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v962 : Index := Scalar.indexCast arg16
  let c0_i32_405 : BitVec 32 := 0#32
  let v963 : Index := Scalar.indexCast c0_i32_405
  let c0_406 : Index := 0#32
  ![v962.toNat, 0, 0]
def k0_off1106 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v973 : Index := Scalar.indexCast arg16
  let c0_i32_409 : BitVec 32 := 0#32
  let v974 : Index := Scalar.indexCast c0_i32_409
  let c16 : Index := 16#32
  ![v973.toNat, 0, 16]
def k0_off1107 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v984 : Index := Scalar.indexCast arg16
  let c0_i32_412 : BitVec 32 := 0#32
  let v985 : Index := Scalar.indexCast c0_i32_412
  let c32 : Index := 32#32
  ![v984.toNat, 0, 32]
def k0_off1108 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v995 : Index := Scalar.indexCast arg16
  let c0_i32_415 : BitVec 32 := 0#32
  let v996 : Index := Scalar.indexCast c0_i32_415
  let c48 : Index := 48#32
  ![v995.toNat, 0, 48]
def k0_off1109 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1006 : Index := Scalar.indexCast arg16
  let c0_i32_418 : BitVec 32 := 0#32
  let v1007 : Index := Scalar.indexCast c0_i32_418
  let c64 : Index := 64#32
  ![v1006.toNat, 0, 64]
def k0_off1110 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1017 : Index := Scalar.indexCast arg16
  let c0_i32_421 : BitVec 32 := 0#32
  let v1018 : Index := Scalar.indexCast c0_i32_421
  let c80 : Index := 80#32
  ![v1017.toNat, 0, 80]
def k0_off1111 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1028 : Index := Scalar.indexCast arg16
  let c0_i32_424 : BitVec 32 := 0#32
  let v1029 : Index := Scalar.indexCast c0_i32_424
  let c96 : Index := 96#32
  ![v1028.toNat, 0, 96]
def k0_off1112 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1039 : Index := Scalar.indexCast arg16
  let c0_i32_427 : BitVec 32 := 0#32
  let v1040 : Index := Scalar.indexCast c0_i32_427
  let c112 : Index := 112#32
  ![v1039.toNat, 0, 112]
def k0_off1113 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1050 : Index := Scalar.indexCast arg16
  let c0_i32_430 : BitVec 32 := 0#32
  let v1051 : Index := Scalar.indexCast c0_i32_430
  let c128 : Index := 128#32
  ![v1050.toNat, 0, 128]
def k0_off1114 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1061 : Index := Scalar.indexCast arg16
  let c0_i32_433 : BitVec 32 := 0#32
  let v1062 : Index := Scalar.indexCast c0_i32_433
  let c144 : Index := 144#32
  ![v1061.toNat, 0, 144]
def k0_off1115 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1072 : Index := Scalar.indexCast arg16
  let c0_i32_436 : BitVec 32 := 0#32
  let v1073 : Index := Scalar.indexCast c0_i32_436
  let c160 : Index := 160#32
  ![v1072.toNat, 0, 160]
def k0_off1116 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1083 : Index := Scalar.indexCast arg16
  let c0_i32_439 : BitVec 32 := 0#32
  let v1084 : Index := Scalar.indexCast c0_i32_439
  let c176 : Index := 176#32
  ![v1083.toNat, 0, 176]
def k0_off1117 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1094 : Index := Scalar.indexCast arg16
  let c0_i32_442 : BitVec 32 := 0#32
  let v1095 : Index := Scalar.indexCast c0_i32_442
  let c192 : Index := 192#32
  ![v1094.toNat, 0, 192]
def k0_off1118 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1105 : Index := Scalar.indexCast arg16
  let c0_i32_445 : BitVec 32 := 0#32
  let v1106 : Index := Scalar.indexCast c0_i32_445
  let c208 : Index := 208#32
  ![v1105.toNat, 0, 208]
def k0_off1119 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1116 : Index := Scalar.indexCast arg16
  let c0_i32_448 : BitVec 32 := 0#32
  let v1117 : Index := Scalar.indexCast c0_i32_448
  let c224 : Index := 224#32
  ![v1116.toNat, 0, 224]
def k0_off1120 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1127 : Index := Scalar.indexCast arg16
  let c0_i32_451 : BitVec 32 := 0#32
  let v1128 : Index := Scalar.indexCast c0_i32_451
  let c240 : Index := 240#32
  ![v1127.toNat, 0, 240]
def k0_off1121 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1138 : Index := Scalar.indexCast arg16
  let c0_i32_454 : BitVec 32 := 0#32
  let v1139 : Index := Scalar.indexCast c0_i32_454
  let c256 : Index := 256#32
  ![v1138.toNat, 0, 256]
def k0_off1122 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1149 : Index := Scalar.indexCast arg16
  let c0_i32_457 : BitVec 32 := 0#32
  let v1150 : Index := Scalar.indexCast c0_i32_457
  let c272 : Index := 272#32
  ![v1149.toNat, 0, 272]
def k0_off1123 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1160 : Index := Scalar.indexCast arg16
  let c0_i32_460 : BitVec 32 := 0#32
  let v1161 : Index := Scalar.indexCast c0_i32_460
  let c288 : Index := 288#32
  ![v1160.toNat, 0, 288]
def k0_off1124 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1171 : Index := Scalar.indexCast arg16
  let c0_i32_463 : BitVec 32 := 0#32
  let v1172 : Index := Scalar.indexCast c0_i32_463
  let c304 : Index := 304#32
  ![v1171.toNat, 0, 304]
def k0_off1125 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1182 : Index := Scalar.indexCast arg16
  let c0_i32_466 : BitVec 32 := 0#32
  let v1183 : Index := Scalar.indexCast c0_i32_466
  let c320 : Index := 320#32
  ![v1182.toNat, 0, 320]
def k0_off1126 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1193 : Index := Scalar.indexCast arg16
  let c0_i32_469 : BitVec 32 := 0#32
  let v1194 : Index := Scalar.indexCast c0_i32_469
  let c336 : Index := 336#32
  ![v1193.toNat, 0, 336]
def k0_off1127 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1204 : Index := Scalar.indexCast arg16
  let c0_i32_472 : BitVec 32 := 0#32
  let v1205 : Index := Scalar.indexCast c0_i32_472
  let c352 : Index := 352#32
  ![v1204.toNat, 0, 352]
def k0_off1128 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1215 : Index := Scalar.indexCast arg16
  let c0_i32_475 : BitVec 32 := 0#32
  let v1216 : Index := Scalar.indexCast c0_i32_475
  let c368 : Index := 368#32
  ![v1215.toNat, 0, 368]
def k0_off1129 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1226 : Index := Scalar.indexCast arg16
  let c0_i32_478 : BitVec 32 := 0#32
  let v1227 : Index := Scalar.indexCast c0_i32_478
  let c384 : Index := 384#32
  ![v1226.toNat, 0, 384]
def k0_off1130 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1237 : Index := Scalar.indexCast arg16
  let c0_i32_481 : BitVec 32 := 0#32
  let v1238 : Index := Scalar.indexCast c0_i32_481
  let c400 : Index := 400#32
  ![v1237.toNat, 0, 400]
def k0_off1131 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1248 : Index := Scalar.indexCast arg16
  let c0_i32_484 : BitVec 32 := 0#32
  let v1249 : Index := Scalar.indexCast c0_i32_484
  let c416 : Index := 416#32
  ![v1248.toNat, 0, 416]
def k0_off1132 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1259 : Index := Scalar.indexCast arg16
  let c0_i32_487 : BitVec 32 := 0#32
  let v1260 : Index := Scalar.indexCast c0_i32_487
  let c432 : Index := 432#32
  ![v1259.toNat, 0, 432]
def k0_off1133 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1270 : Index := Scalar.indexCast arg16
  let c0_i32_490 : BitVec 32 := 0#32
  let v1271 : Index := Scalar.indexCast c0_i32_490
  let c448 : Index := 448#32
  ![v1270.toNat, 0, 448]
def k0_off1134 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1281 : Index := Scalar.indexCast arg16
  let c0_i32_493 : BitVec 32 := 0#32
  let v1282 : Index := Scalar.indexCast c0_i32_493
  let c464 : Index := 464#32
  ![v1281.toNat, 0, 464]
def k0_off1135 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1292 : Index := Scalar.indexCast arg16
  let c0_i32_496 : BitVec 32 := 0#32
  let v1293 : Index := Scalar.indexCast c0_i32_496
  let c480 : Index := 480#32
  ![v1292.toNat, 0, 480]
def k0_off1136 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips) : Fin 3 → Nat :=
  let c0_i32_202 : BitVec 32 := 0#32
  let c1024_i32_188 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v482 : BitVec 32 := Scalar.addi v104 v81
  let v483 : BitVec 32 := Scalar.minsi v150 v482
  let v486 : BitVec 32 := Scalar.subi v483 v104
  let v487 : BitVec 32 := Scalar.addi c1024_i32_188 v486
  let c1024_i32_187 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v481 : BitVec 32 := Scalar.maxsi v131 v104
  let v484 : BitVec 32 := Scalar.subi v481 v104
  let v485 : BitVec 32 := Scalar.addi c1024_i32_187 v484
  let v488 : BitVec 32 := Scalar.subi v487 v485
  let c31_i32_189 : BitVec 32 := 31#32
  let v489 : BitVec 32 := Scalar.addi v488 c31_i32_189
  let c0_i32_191 : BitVec 32 := 0#32
  let v491 : BitVec 1 := Scalar.cmpi .sgt v489 c0_i32_191
  let v492 : BitVec 32 := Scalar.extui v491
  let c0_i32_192 : BitVec 32 := 0#32
  let v493 : BitVec 1 := Scalar.cmpi .slt v489 c0_i32_192
  let v494 : BitVec 32 := Scalar.extui v493
  let v495 : BitVec 32 := Scalar.subi v492 v494
  let c32_i32_190 : BitVec 32 := 32#32
  let c0_i32_193 : BitVec 32 := 0#32
  let v496 : BitVec 1 := Scalar.cmpi .sgt c32_i32_190 c0_i32_193
  let v497 : BitVec 32 := Scalar.extui v496
  let c0_i32_194 : BitVec 32 := 0#32
  let v498 : BitVec 1 := Scalar.cmpi .slt c32_i32_190 c0_i32_194
  let v499 : BitVec 32 := Scalar.extui v498
  let v500 : BitVec 32 := Scalar.subi v497 v499
  let v501 : BitVec 1 := Scalar.cmpi .ne v495 v500
  let v502 : BitVec 32 := Scalar.remsi v489 c32_i32_190
  let c0_i32_195 : BitVec 32 := 0#32
  let v503 : BitVec 1 := Scalar.cmpi .ne v502 c0_i32_195
  let v504 : BitVec 1 := Scalar.andi v501 v503
  let v490 : BitVec 32 := Scalar.divsi v489 c32_i32_190
  let c1_i32_196 : BitVec 32 := 1#32
  let v505 : BitVec 32 := Scalar.subi v490 c1_i32_196
  let v506 : BitVec 32 := Scalar.select v504 v505 v490
  let v514 : BitVec 32 := Scalar.subi v506 c0_i32_202
  let c1_i32_203 : BitVec 32 := 1#32
  let v516 : BitVec 32 := Scalar.divsi v514 c1_i32_203
  let v517 : BitVec 32 := Scalar.muli v516 c1_i32_203
  let v518 : BitVec 32 := Scalar.addi c0_i32_202 v517
  let c1_i32_205 : BitVec 32 := 1#32
  let arg14 : BitVec 32 := Scf.iv v518 c1_i32_205 k0_t46
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v485 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v487 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t48
  let v1303 : Index := Scalar.indexCast arg16
  let c0_i32_499 : BitVec 32 := 0#32
  let v1304 : Index := Scalar.indexCast c0_i32_499
  let c496 : Index := 496#32
  ![v1303.toNat, 0, 496]
def k0_off1137 : Fin 3 → Nat :=
  let c0_i32_370 : BitVec 32 := 0#32
  let c32_i32_371 : BitVec 32 := 32#32
  let v910 : BitVec 32 := Scalar.muli c0_i32_370 c32_i32_371
  let c0_i32_373 : BitVec 32 := 0#32
  let c0_i32_374 : BitVec 32 := 0#32
  ![v910.toNat, 0, 0]
def k0_off1138 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c0_i32_368 : BitVec 32 := 0#32
  let c32_i32_369 : BitVec 32 := 32#32
  let v907 : BitVec 32 := Scalar.muli c0_i32_368 c32_i32_369
  let v908 : BitVec 32 := Scalar.addi v532 v907
  let c2016_i32 : BitVec 32 := 2016#32
  let v909 : BitVec 32 := Scalar.minsi v908 c2016_i32
  let c8_i32 : BitVec 32 := 8#32
  let c0_i32_375 : BitVec 32 := 0#32
  ![v909.toNat, 8, 0]
def k0_cond33 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let c0_i32_217 : BitVec 32 := 0#32
  let v554 : BitVec 1 := Scalar.cmpi .sgt v553 c0_i32_217
  let v555 : BitVec 32 := Scalar.extui v554
  let c0_i32_218 : BitVec 32 := 0#32
  let v556 : BitVec 1 := Scalar.cmpi .ne v555 c0_i32_218
  v556

def k0_off1139 : Fin 3 → Nat :=
  let c1_i32_370 : BitVec 32 := 1#32
  let c32_i32_371 : BitVec 32 := 32#32
  let v910 : BitVec 32 := Scalar.muli c1_i32_370 c32_i32_371
  let c0_i32_373 : BitVec 32 := 0#32
  let c0_i32_374 : BitVec 32 := 0#32
  ![v910.toNat, 0, 0]
def k0_off1140 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c1_i32_368 : BitVec 32 := 1#32
  let c32_i32_369 : BitVec 32 := 32#32
  let v907 : BitVec 32 := Scalar.muli c1_i32_368 c32_i32_369
  let v908 : BitVec 32 := Scalar.addi v532 v907
  let c2016_i32 : BitVec 32 := 2016#32
  let v909 : BitVec 32 := Scalar.minsi v908 c2016_i32
  let c8_i32 : BitVec 32 := 8#32
  let c0_i32_375 : BitVec 32 := 0#32
  ![v909.toNat, 8, 0]
def k0_cond34 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let c1_i32_219 : BitVec 32 := 1#32
  let v557 : BitVec 1 := Scalar.cmpi .sgt v553 c1_i32_219
  let v558 : BitVec 32 := Scalar.extui v557
  let c0_i32_220 : BitVec 32 := 0#32
  let v559 : BitVec 1 := Scalar.cmpi .ne v558 c0_i32_220
  v559

@[reducible] def k0_t49_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_224 : BitVec 32 := 1#32
  ⟨c0_i32_222, v565, c1_i32_224⟩
def k0_off1141 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) : Fin 3 → Nat :=
  let c0_i32_222 : BitVec 32 := 0#32
  let c1_i32_224 : BitVec 32 := 1#32
  let arg14 : BitVec 32 := Scf.iv c0_i32_222 c1_i32_224 k0_t49
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond35 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) : BitVec 1 :=
  let c0_i32_222 : BitVec 32 := 0#32
  let c1_i32_224 : BitVec 32 := 1#32
  let arg14 : BitVec 32 := Scf.iv c0_i32_222 c1_i32_224 k0_t49
  let c2_i32_376 : BitVec 32 := 2#32
  let v927 : BitVec 32 := Scalar.addi arg14 c2_i32_376
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v908 : BitVec 32 := Scalar.subi v534 v532
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off1142 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) : Fin 3 → Nat :=
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c0_i32_222 : BitVec 32 := 0#32
  let c1_i32_224 : BitVec 32 := 1#32
  let arg14 : BitVec 32 := Scf.iv c0_i32_222 c1_i32_224 k0_t49
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v532 v965
  let c2016_i32_409 : BitVec 32 := 2016#32
  let v967 : BitVec 32 := Scalar.minsi v966 c2016_i32_409
  let c8_i32_413 : BitVec 32 := 8#32
  let c0_i32_414 : BitVec 32 := 0#32
  ![v967.toNat, 8, 0]
def k0_off1143 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) : Fin 1 → Nat :=
  let c0_i32_222 : BitVec 32 := 0#32
  let c1_i32_224 : BitVec 32 := 1#32
  let arg14 : BitVec 32 := Scf.iv c0_i32_222 c1_i32_224 k0_t49
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off1144 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off1145 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) : Fin 1 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  ![v907.toNat]
@[reducible] def k0_t50_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) : Scf.Loop 32 :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off1146 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v962 : Index := Scalar.indexCast arg16
  let c0_i32_405 : BitVec 32 := 0#32
  let v963 : Index := Scalar.indexCast c0_i32_405
  let c0_406 : Index := 0#32
  ![v962.toNat, 0, 0]
def k0_off1147 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v973 : Index := Scalar.indexCast arg16
  let c0_i32_409 : BitVec 32 := 0#32
  let v974 : Index := Scalar.indexCast c0_i32_409
  let c16 : Index := 16#32
  ![v973.toNat, 0, 16]
def k0_off1148 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v984 : Index := Scalar.indexCast arg16
  let c0_i32_412 : BitVec 32 := 0#32
  let v985 : Index := Scalar.indexCast c0_i32_412
  let c32 : Index := 32#32
  ![v984.toNat, 0, 32]
def k0_off1149 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v995 : Index := Scalar.indexCast arg16
  let c0_i32_415 : BitVec 32 := 0#32
  let v996 : Index := Scalar.indexCast c0_i32_415
  let c48 : Index := 48#32
  ![v995.toNat, 0, 48]
def k0_off1150 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1006 : Index := Scalar.indexCast arg16
  let c0_i32_418 : BitVec 32 := 0#32
  let v1007 : Index := Scalar.indexCast c0_i32_418
  let c64 : Index := 64#32
  ![v1006.toNat, 0, 64]
def k0_off1151 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1017 : Index := Scalar.indexCast arg16
  let c0_i32_421 : BitVec 32 := 0#32
  let v1018 : Index := Scalar.indexCast c0_i32_421
  let c80 : Index := 80#32
  ![v1017.toNat, 0, 80]
def k0_off1152 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1028 : Index := Scalar.indexCast arg16
  let c0_i32_424 : BitVec 32 := 0#32
  let v1029 : Index := Scalar.indexCast c0_i32_424
  let c96 : Index := 96#32
  ![v1028.toNat, 0, 96]
def k0_off1153 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1039 : Index := Scalar.indexCast arg16
  let c0_i32_427 : BitVec 32 := 0#32
  let v1040 : Index := Scalar.indexCast c0_i32_427
  let c112 : Index := 112#32
  ![v1039.toNat, 0, 112]
def k0_off1154 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1050 : Index := Scalar.indexCast arg16
  let c0_i32_430 : BitVec 32 := 0#32
  let v1051 : Index := Scalar.indexCast c0_i32_430
  let c128 : Index := 128#32
  ![v1050.toNat, 0, 128]
def k0_off1155 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1061 : Index := Scalar.indexCast arg16
  let c0_i32_433 : BitVec 32 := 0#32
  let v1062 : Index := Scalar.indexCast c0_i32_433
  let c144 : Index := 144#32
  ![v1061.toNat, 0, 144]
def k0_off1156 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1072 : Index := Scalar.indexCast arg16
  let c0_i32_436 : BitVec 32 := 0#32
  let v1073 : Index := Scalar.indexCast c0_i32_436
  let c160 : Index := 160#32
  ![v1072.toNat, 0, 160]
def k0_off1157 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1083 : Index := Scalar.indexCast arg16
  let c0_i32_439 : BitVec 32 := 0#32
  let v1084 : Index := Scalar.indexCast c0_i32_439
  let c176 : Index := 176#32
  ![v1083.toNat, 0, 176]
def k0_off1158 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1094 : Index := Scalar.indexCast arg16
  let c0_i32_442 : BitVec 32 := 0#32
  let v1095 : Index := Scalar.indexCast c0_i32_442
  let c192 : Index := 192#32
  ![v1094.toNat, 0, 192]
def k0_off1159 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1105 : Index := Scalar.indexCast arg16
  let c0_i32_445 : BitVec 32 := 0#32
  let v1106 : Index := Scalar.indexCast c0_i32_445
  let c208 : Index := 208#32
  ![v1105.toNat, 0, 208]
def k0_off1160 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1116 : Index := Scalar.indexCast arg16
  let c0_i32_448 : BitVec 32 := 0#32
  let v1117 : Index := Scalar.indexCast c0_i32_448
  let c224 : Index := 224#32
  ![v1116.toNat, 0, 224]
def k0_off1161 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1127 : Index := Scalar.indexCast arg16
  let c0_i32_451 : BitVec 32 := 0#32
  let v1128 : Index := Scalar.indexCast c0_i32_451
  let c240 : Index := 240#32
  ![v1127.toNat, 0, 240]
def k0_off1162 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1138 : Index := Scalar.indexCast arg16
  let c0_i32_454 : BitVec 32 := 0#32
  let v1139 : Index := Scalar.indexCast c0_i32_454
  let c256 : Index := 256#32
  ![v1138.toNat, 0, 256]
def k0_off1163 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1149 : Index := Scalar.indexCast arg16
  let c0_i32_457 : BitVec 32 := 0#32
  let v1150 : Index := Scalar.indexCast c0_i32_457
  let c272 : Index := 272#32
  ![v1149.toNat, 0, 272]
def k0_off1164 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1160 : Index := Scalar.indexCast arg16
  let c0_i32_460 : BitVec 32 := 0#32
  let v1161 : Index := Scalar.indexCast c0_i32_460
  let c288 : Index := 288#32
  ![v1160.toNat, 0, 288]
def k0_off1165 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1171 : Index := Scalar.indexCast arg16
  let c0_i32_463 : BitVec 32 := 0#32
  let v1172 : Index := Scalar.indexCast c0_i32_463
  let c304 : Index := 304#32
  ![v1171.toNat, 0, 304]
def k0_off1166 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1182 : Index := Scalar.indexCast arg16
  let c0_i32_466 : BitVec 32 := 0#32
  let v1183 : Index := Scalar.indexCast c0_i32_466
  let c320 : Index := 320#32
  ![v1182.toNat, 0, 320]
def k0_off1167 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1193 : Index := Scalar.indexCast arg16
  let c0_i32_469 : BitVec 32 := 0#32
  let v1194 : Index := Scalar.indexCast c0_i32_469
  let c336 : Index := 336#32
  ![v1193.toNat, 0, 336]
def k0_off1168 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1204 : Index := Scalar.indexCast arg16
  let c0_i32_472 : BitVec 32 := 0#32
  let v1205 : Index := Scalar.indexCast c0_i32_472
  let c352 : Index := 352#32
  ![v1204.toNat, 0, 352]
def k0_off1169 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1215 : Index := Scalar.indexCast arg16
  let c0_i32_475 : BitVec 32 := 0#32
  let v1216 : Index := Scalar.indexCast c0_i32_475
  let c368 : Index := 368#32
  ![v1215.toNat, 0, 368]
def k0_off1170 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1226 : Index := Scalar.indexCast arg16
  let c0_i32_478 : BitVec 32 := 0#32
  let v1227 : Index := Scalar.indexCast c0_i32_478
  let c384 : Index := 384#32
  ![v1226.toNat, 0, 384]
def k0_off1171 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1237 : Index := Scalar.indexCast arg16
  let c0_i32_481 : BitVec 32 := 0#32
  let v1238 : Index := Scalar.indexCast c0_i32_481
  let c400 : Index := 400#32
  ![v1237.toNat, 0, 400]
def k0_off1172 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1248 : Index := Scalar.indexCast arg16
  let c0_i32_484 : BitVec 32 := 0#32
  let v1249 : Index := Scalar.indexCast c0_i32_484
  let c416 : Index := 416#32
  ![v1248.toNat, 0, 416]
def k0_off1173 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1259 : Index := Scalar.indexCast arg16
  let c0_i32_487 : BitVec 32 := 0#32
  let v1260 : Index := Scalar.indexCast c0_i32_487
  let c432 : Index := 432#32
  ![v1259.toNat, 0, 432]
def k0_off1174 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1270 : Index := Scalar.indexCast arg16
  let c0_i32_490 : BitVec 32 := 0#32
  let v1271 : Index := Scalar.indexCast c0_i32_490
  let c448 : Index := 448#32
  ![v1270.toNat, 0, 448]
def k0_off1175 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1281 : Index := Scalar.indexCast arg16
  let c0_i32_493 : BitVec 32 := 0#32
  let v1282 : Index := Scalar.indexCast c0_i32_493
  let c464 : Index := 464#32
  ![v1281.toNat, 0, 464]
def k0_off1176 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1292 : Index := Scalar.indexCast arg16
  let c0_i32_496 : BitVec 32 := 0#32
  let v1293 : Index := Scalar.indexCast c0_i32_496
  let c480 : Index := 480#32
  ![v1292.toNat, 0, 480]
def k0_off1177 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t50
  let v1303 : Index := Scalar.indexCast arg16
  let c0_i32_499 : BitVec 32 := 0#32
  let v1304 : Index := Scalar.indexCast c0_i32_499
  let c496 : Index := 496#32
  ![v1303.toNat, 0, 496]
@[reducible] def k0_t51_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) : Scf.Loop 32 :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off1178 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v962 : Index := Scalar.indexCast arg16
  let c0_i32_405 : BitVec 32 := 0#32
  let v963 : Index := Scalar.indexCast c0_i32_405
  let c0_406 : Index := 0#32
  ![v962.toNat, 0, 0]
def k0_off1179 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v973 : Index := Scalar.indexCast arg16
  let c0_i32_409 : BitVec 32 := 0#32
  let v974 : Index := Scalar.indexCast c0_i32_409
  let c16 : Index := 16#32
  ![v973.toNat, 0, 16]
def k0_off1180 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v984 : Index := Scalar.indexCast arg16
  let c0_i32_412 : BitVec 32 := 0#32
  let v985 : Index := Scalar.indexCast c0_i32_412
  let c32 : Index := 32#32
  ![v984.toNat, 0, 32]
def k0_off1181 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v995 : Index := Scalar.indexCast arg16
  let c0_i32_415 : BitVec 32 := 0#32
  let v996 : Index := Scalar.indexCast c0_i32_415
  let c48 : Index := 48#32
  ![v995.toNat, 0, 48]
def k0_off1182 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1006 : Index := Scalar.indexCast arg16
  let c0_i32_418 : BitVec 32 := 0#32
  let v1007 : Index := Scalar.indexCast c0_i32_418
  let c64 : Index := 64#32
  ![v1006.toNat, 0, 64]
def k0_off1183 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1017 : Index := Scalar.indexCast arg16
  let c0_i32_421 : BitVec 32 := 0#32
  let v1018 : Index := Scalar.indexCast c0_i32_421
  let c80 : Index := 80#32
  ![v1017.toNat, 0, 80]
def k0_off1184 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1028 : Index := Scalar.indexCast arg16
  let c0_i32_424 : BitVec 32 := 0#32
  let v1029 : Index := Scalar.indexCast c0_i32_424
  let c96 : Index := 96#32
  ![v1028.toNat, 0, 96]
def k0_off1185 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1039 : Index := Scalar.indexCast arg16
  let c0_i32_427 : BitVec 32 := 0#32
  let v1040 : Index := Scalar.indexCast c0_i32_427
  let c112 : Index := 112#32
  ![v1039.toNat, 0, 112]
def k0_off1186 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1050 : Index := Scalar.indexCast arg16
  let c0_i32_430 : BitVec 32 := 0#32
  let v1051 : Index := Scalar.indexCast c0_i32_430
  let c128 : Index := 128#32
  ![v1050.toNat, 0, 128]
def k0_off1187 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1061 : Index := Scalar.indexCast arg16
  let c0_i32_433 : BitVec 32 := 0#32
  let v1062 : Index := Scalar.indexCast c0_i32_433
  let c144 : Index := 144#32
  ![v1061.toNat, 0, 144]
def k0_off1188 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1072 : Index := Scalar.indexCast arg16
  let c0_i32_436 : BitVec 32 := 0#32
  let v1073 : Index := Scalar.indexCast c0_i32_436
  let c160 : Index := 160#32
  ![v1072.toNat, 0, 160]
def k0_off1189 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1083 : Index := Scalar.indexCast arg16
  let c0_i32_439 : BitVec 32 := 0#32
  let v1084 : Index := Scalar.indexCast c0_i32_439
  let c176 : Index := 176#32
  ![v1083.toNat, 0, 176]
def k0_off1190 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1094 : Index := Scalar.indexCast arg16
  let c0_i32_442 : BitVec 32 := 0#32
  let v1095 : Index := Scalar.indexCast c0_i32_442
  let c192 : Index := 192#32
  ![v1094.toNat, 0, 192]
def k0_off1191 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1105 : Index := Scalar.indexCast arg16
  let c0_i32_445 : BitVec 32 := 0#32
  let v1106 : Index := Scalar.indexCast c0_i32_445
  let c208 : Index := 208#32
  ![v1105.toNat, 0, 208]
def k0_off1192 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1116 : Index := Scalar.indexCast arg16
  let c0_i32_448 : BitVec 32 := 0#32
  let v1117 : Index := Scalar.indexCast c0_i32_448
  let c224 : Index := 224#32
  ![v1116.toNat, 0, 224]
def k0_off1193 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1127 : Index := Scalar.indexCast arg16
  let c0_i32_451 : BitVec 32 := 0#32
  let v1128 : Index := Scalar.indexCast c0_i32_451
  let c240 : Index := 240#32
  ![v1127.toNat, 0, 240]
def k0_off1194 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1138 : Index := Scalar.indexCast arg16
  let c0_i32_454 : BitVec 32 := 0#32
  let v1139 : Index := Scalar.indexCast c0_i32_454
  let c256 : Index := 256#32
  ![v1138.toNat, 0, 256]
def k0_off1195 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1149 : Index := Scalar.indexCast arg16
  let c0_i32_457 : BitVec 32 := 0#32
  let v1150 : Index := Scalar.indexCast c0_i32_457
  let c272 : Index := 272#32
  ![v1149.toNat, 0, 272]
def k0_off1196 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1160 : Index := Scalar.indexCast arg16
  let c0_i32_460 : BitVec 32 := 0#32
  let v1161 : Index := Scalar.indexCast c0_i32_460
  let c288 : Index := 288#32
  ![v1160.toNat, 0, 288]
def k0_off1197 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1171 : Index := Scalar.indexCast arg16
  let c0_i32_463 : BitVec 32 := 0#32
  let v1172 : Index := Scalar.indexCast c0_i32_463
  let c304 : Index := 304#32
  ![v1171.toNat, 0, 304]
def k0_off1198 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1182 : Index := Scalar.indexCast arg16
  let c0_i32_466 : BitVec 32 := 0#32
  let v1183 : Index := Scalar.indexCast c0_i32_466
  let c320 : Index := 320#32
  ![v1182.toNat, 0, 320]
def k0_off1199 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1193 : Index := Scalar.indexCast arg16
  let c0_i32_469 : BitVec 32 := 0#32
  let v1194 : Index := Scalar.indexCast c0_i32_469
  let c336 : Index := 336#32
  ![v1193.toNat, 0, 336]
def k0_off1200 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1204 : Index := Scalar.indexCast arg16
  let c0_i32_472 : BitVec 32 := 0#32
  let v1205 : Index := Scalar.indexCast c0_i32_472
  let c352 : Index := 352#32
  ![v1204.toNat, 0, 352]
def k0_off1201 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1215 : Index := Scalar.indexCast arg16
  let c0_i32_475 : BitVec 32 := 0#32
  let v1216 : Index := Scalar.indexCast c0_i32_475
  let c368 : Index := 368#32
  ![v1215.toNat, 0, 368]
def k0_off1202 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1226 : Index := Scalar.indexCast arg16
  let c0_i32_478 : BitVec 32 := 0#32
  let v1227 : Index := Scalar.indexCast c0_i32_478
  let c384 : Index := 384#32
  ![v1226.toNat, 0, 384]
def k0_off1203 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1237 : Index := Scalar.indexCast arg16
  let c0_i32_481 : BitVec 32 := 0#32
  let v1238 : Index := Scalar.indexCast c0_i32_481
  let c400 : Index := 400#32
  ![v1237.toNat, 0, 400]
def k0_off1204 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1248 : Index := Scalar.indexCast arg16
  let c0_i32_484 : BitVec 32 := 0#32
  let v1249 : Index := Scalar.indexCast c0_i32_484
  let c416 : Index := 416#32
  ![v1248.toNat, 0, 416]
def k0_off1205 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1259 : Index := Scalar.indexCast arg16
  let c0_i32_487 : BitVec 32 := 0#32
  let v1260 : Index := Scalar.indexCast c0_i32_487
  let c432 : Index := 432#32
  ![v1259.toNat, 0, 432]
def k0_off1206 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1270 : Index := Scalar.indexCast arg16
  let c0_i32_490 : BitVec 32 := 0#32
  let v1271 : Index := Scalar.indexCast c0_i32_490
  let c448 : Index := 448#32
  ![v1270.toNat, 0, 448]
def k0_off1207 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1281 : Index := Scalar.indexCast arg16
  let c0_i32_493 : BitVec 32 := 0#32
  let v1282 : Index := Scalar.indexCast c0_i32_493
  let c464 : Index := 464#32
  ![v1281.toNat, 0, 464]
def k0_off1208 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1292 : Index := Scalar.indexCast arg16
  let c0_i32_496 : BitVec 32 := 0#32
  let v1293 : Index := Scalar.indexCast c0_i32_496
  let c480 : Index := 480#32
  ![v1292.toNat, 0, 480]
def k0_off1209 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips) : Fin 3 → Nat :=
  let c0_i32_222 : BitVec 32 := 0#32
  let c1_i32_224 : BitVec 32 := 1#32
  let arg14 : BitVec 32 := Scf.iv c0_i32_222 c1_i32_224 k0_t49
  let c3_i32 : BitVec 32 := 3#32
  let v907 : BitVec 32 := Scalar.remsi arg14 c3_i32
  let c32_i32_400 : BitVec 32 := 32#32
  let v948 : BitVec 32 := Scalar.muli v907 c32_i32_400
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t51
  let v1303 : Index := Scalar.indexCast arg16
  let c0_i32_499 : BitVec 32 := 0#32
  let v1304 : Index := Scalar.indexCast c0_i32_499
  let c496 : Index := 496#32
  ![v1303.toNat, 0, 496]
@[reducible] def k0_t52_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let v562 : BitVec 32 := Scalar.addi c0_i32_222 v561
  let c1_i32_225 : BitVec 32 := 1#32
  ⟨v565, v562, c1_i32_225⟩
def k0_off1210 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond36 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) : BitVec 1 :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c2_i32_376 : BitVec 32 := 2#32
  let v927 : BitVec 32 := Scalar.addi arg14 c2_i32_376
  let v908 : BitVec 32 := Scalar.subi v534 v532
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off1211 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) : Fin 3 → Nat :=
  let c1024_i32_207 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let c0_i32_222 : BitVec 32 := 0#32
  let c1024_i32_208 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v532 v965
  let c2016_i32_409 : BitVec 32 := 2016#32
  let v967 : BitVec 32 := Scalar.minsi v966 c2016_i32_409
  let c8_i32_413 : BitVec 32 := 8#32
  let c0_i32_414 : BitVec 32 := 0#32
  ![v967.toNat, 8, 0]
def k0_off1212 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) : Fin 1 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off1213 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off1214 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) : Fin 1 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  ![v907.toNat]
@[reducible] def k0_t53_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) : Scf.Loop 32 :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off1215 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v962 : Index := Scalar.indexCast arg16
  let c0_i32_405 : BitVec 32 := 0#32
  let v963 : Index := Scalar.indexCast c0_i32_405
  let c0_406 : Index := 0#32
  ![v962.toNat, 0, 0]
def k0_off1216 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v973 : Index := Scalar.indexCast arg16
  let c0_i32_409 : BitVec 32 := 0#32
  let v974 : Index := Scalar.indexCast c0_i32_409
  let c16 : Index := 16#32
  ![v973.toNat, 0, 16]
def k0_off1217 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v984 : Index := Scalar.indexCast arg16
  let c0_i32_412 : BitVec 32 := 0#32
  let v985 : Index := Scalar.indexCast c0_i32_412
  let c32 : Index := 32#32
  ![v984.toNat, 0, 32]
def k0_off1218 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v995 : Index := Scalar.indexCast arg16
  let c0_i32_415 : BitVec 32 := 0#32
  let v996 : Index := Scalar.indexCast c0_i32_415
  let c48 : Index := 48#32
  ![v995.toNat, 0, 48]
def k0_off1219 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1006 : Index := Scalar.indexCast arg16
  let c0_i32_418 : BitVec 32 := 0#32
  let v1007 : Index := Scalar.indexCast c0_i32_418
  let c64 : Index := 64#32
  ![v1006.toNat, 0, 64]
def k0_off1220 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1017 : Index := Scalar.indexCast arg16
  let c0_i32_421 : BitVec 32 := 0#32
  let v1018 : Index := Scalar.indexCast c0_i32_421
  let c80 : Index := 80#32
  ![v1017.toNat, 0, 80]
def k0_off1221 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1028 : Index := Scalar.indexCast arg16
  let c0_i32_424 : BitVec 32 := 0#32
  let v1029 : Index := Scalar.indexCast c0_i32_424
  let c96 : Index := 96#32
  ![v1028.toNat, 0, 96]
def k0_off1222 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1039 : Index := Scalar.indexCast arg16
  let c0_i32_427 : BitVec 32 := 0#32
  let v1040 : Index := Scalar.indexCast c0_i32_427
  let c112 : Index := 112#32
  ![v1039.toNat, 0, 112]
def k0_off1223 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1050 : Index := Scalar.indexCast arg16
  let c0_i32_430 : BitVec 32 := 0#32
  let v1051 : Index := Scalar.indexCast c0_i32_430
  let c128 : Index := 128#32
  ![v1050.toNat, 0, 128]
def k0_off1224 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1061 : Index := Scalar.indexCast arg16
  let c0_i32_433 : BitVec 32 := 0#32
  let v1062 : Index := Scalar.indexCast c0_i32_433
  let c144 : Index := 144#32
  ![v1061.toNat, 0, 144]
def k0_off1225 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1072 : Index := Scalar.indexCast arg16
  let c0_i32_436 : BitVec 32 := 0#32
  let v1073 : Index := Scalar.indexCast c0_i32_436
  let c160 : Index := 160#32
  ![v1072.toNat, 0, 160]
def k0_off1226 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1083 : Index := Scalar.indexCast arg16
  let c0_i32_439 : BitVec 32 := 0#32
  let v1084 : Index := Scalar.indexCast c0_i32_439
  let c176 : Index := 176#32
  ![v1083.toNat, 0, 176]
def k0_off1227 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1094 : Index := Scalar.indexCast arg16
  let c0_i32_442 : BitVec 32 := 0#32
  let v1095 : Index := Scalar.indexCast c0_i32_442
  let c192 : Index := 192#32
  ![v1094.toNat, 0, 192]
def k0_off1228 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1105 : Index := Scalar.indexCast arg16
  let c0_i32_445 : BitVec 32 := 0#32
  let v1106 : Index := Scalar.indexCast c0_i32_445
  let c208 : Index := 208#32
  ![v1105.toNat, 0, 208]
def k0_off1229 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1116 : Index := Scalar.indexCast arg16
  let c0_i32_448 : BitVec 32 := 0#32
  let v1117 : Index := Scalar.indexCast c0_i32_448
  let c224 : Index := 224#32
  ![v1116.toNat, 0, 224]
def k0_off1230 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1127 : Index := Scalar.indexCast arg16
  let c0_i32_451 : BitVec 32 := 0#32
  let v1128 : Index := Scalar.indexCast c0_i32_451
  let c240 : Index := 240#32
  ![v1127.toNat, 0, 240]
def k0_off1231 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1138 : Index := Scalar.indexCast arg16
  let c0_i32_454 : BitVec 32 := 0#32
  let v1139 : Index := Scalar.indexCast c0_i32_454
  let c256 : Index := 256#32
  ![v1138.toNat, 0, 256]
def k0_off1232 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1149 : Index := Scalar.indexCast arg16
  let c0_i32_457 : BitVec 32 := 0#32
  let v1150 : Index := Scalar.indexCast c0_i32_457
  let c272 : Index := 272#32
  ![v1149.toNat, 0, 272]
def k0_off1233 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1160 : Index := Scalar.indexCast arg16
  let c0_i32_460 : BitVec 32 := 0#32
  let v1161 : Index := Scalar.indexCast c0_i32_460
  let c288 : Index := 288#32
  ![v1160.toNat, 0, 288]
def k0_off1234 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1171 : Index := Scalar.indexCast arg16
  let c0_i32_463 : BitVec 32 := 0#32
  let v1172 : Index := Scalar.indexCast c0_i32_463
  let c304 : Index := 304#32
  ![v1171.toNat, 0, 304]
def k0_off1235 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1182 : Index := Scalar.indexCast arg16
  let c0_i32_466 : BitVec 32 := 0#32
  let v1183 : Index := Scalar.indexCast c0_i32_466
  let c320 : Index := 320#32
  ![v1182.toNat, 0, 320]
def k0_off1236 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1193 : Index := Scalar.indexCast arg16
  let c0_i32_469 : BitVec 32 := 0#32
  let v1194 : Index := Scalar.indexCast c0_i32_469
  let c336 : Index := 336#32
  ![v1193.toNat, 0, 336]
def k0_off1237 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1204 : Index := Scalar.indexCast arg16
  let c0_i32_472 : BitVec 32 := 0#32
  let v1205 : Index := Scalar.indexCast c0_i32_472
  let c352 : Index := 352#32
  ![v1204.toNat, 0, 352]
def k0_off1238 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1215 : Index := Scalar.indexCast arg16
  let c0_i32_475 : BitVec 32 := 0#32
  let v1216 : Index := Scalar.indexCast c0_i32_475
  let c368 : Index := 368#32
  ![v1215.toNat, 0, 368]
def k0_off1239 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1226 : Index := Scalar.indexCast arg16
  let c0_i32_478 : BitVec 32 := 0#32
  let v1227 : Index := Scalar.indexCast c0_i32_478
  let c384 : Index := 384#32
  ![v1226.toNat, 0, 384]
def k0_off1240 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1237 : Index := Scalar.indexCast arg16
  let c0_i32_481 : BitVec 32 := 0#32
  let v1238 : Index := Scalar.indexCast c0_i32_481
  let c400 : Index := 400#32
  ![v1237.toNat, 0, 400]
def k0_off1241 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1248 : Index := Scalar.indexCast arg16
  let c0_i32_484 : BitVec 32 := 0#32
  let v1249 : Index := Scalar.indexCast c0_i32_484
  let c416 : Index := 416#32
  ![v1248.toNat, 0, 416]
def k0_off1242 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1259 : Index := Scalar.indexCast arg16
  let c0_i32_487 : BitVec 32 := 0#32
  let v1260 : Index := Scalar.indexCast c0_i32_487
  let c432 : Index := 432#32
  ![v1259.toNat, 0, 432]
def k0_off1243 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1270 : Index := Scalar.indexCast arg16
  let c0_i32_490 : BitVec 32 := 0#32
  let v1271 : Index := Scalar.indexCast c0_i32_490
  let c448 : Index := 448#32
  ![v1270.toNat, 0, 448]
def k0_off1244 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1281 : Index := Scalar.indexCast arg16
  let c0_i32_493 : BitVec 32 := 0#32
  let v1282 : Index := Scalar.indexCast c0_i32_493
  let c464 : Index := 464#32
  ![v1281.toNat, 0, 464]
def k0_off1245 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1292 : Index := Scalar.indexCast arg16
  let c0_i32_496 : BitVec 32 := 0#32
  let v1293 : Index := Scalar.indexCast c0_i32_496
  let c480 : Index := 480#32
  ![v1292.toNat, 0, 480]
def k0_off1246 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t53
  let v1303 : Index := Scalar.indexCast arg16
  let c0_i32_499 : BitVec 32 := 0#32
  let v1304 : Index := Scalar.indexCast c0_i32_499
  let c496 : Index := 496#32
  ![v1303.toNat, 0, 496]
@[reducible] def k0_t54_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) : Scf.Loop 32 :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off1247 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v962 : Index := Scalar.indexCast arg16
  let c0_i32_405 : BitVec 32 := 0#32
  let v963 : Index := Scalar.indexCast c0_i32_405
  let c0_406 : Index := 0#32
  ![v962.toNat, 0, 0]
def k0_off1248 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v973 : Index := Scalar.indexCast arg16
  let c0_i32_409 : BitVec 32 := 0#32
  let v974 : Index := Scalar.indexCast c0_i32_409
  let c16 : Index := 16#32
  ![v973.toNat, 0, 16]
def k0_off1249 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v984 : Index := Scalar.indexCast arg16
  let c0_i32_412 : BitVec 32 := 0#32
  let v985 : Index := Scalar.indexCast c0_i32_412
  let c32 : Index := 32#32
  ![v984.toNat, 0, 32]
def k0_off1250 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v995 : Index := Scalar.indexCast arg16
  let c0_i32_415 : BitVec 32 := 0#32
  let v996 : Index := Scalar.indexCast c0_i32_415
  let c48 : Index := 48#32
  ![v995.toNat, 0, 48]
def k0_off1251 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1006 : Index := Scalar.indexCast arg16
  let c0_i32_418 : BitVec 32 := 0#32
  let v1007 : Index := Scalar.indexCast c0_i32_418
  let c64 : Index := 64#32
  ![v1006.toNat, 0, 64]
def k0_off1252 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1017 : Index := Scalar.indexCast arg16
  let c0_i32_421 : BitVec 32 := 0#32
  let v1018 : Index := Scalar.indexCast c0_i32_421
  let c80 : Index := 80#32
  ![v1017.toNat, 0, 80]
def k0_off1253 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1028 : Index := Scalar.indexCast arg16
  let c0_i32_424 : BitVec 32 := 0#32
  let v1029 : Index := Scalar.indexCast c0_i32_424
  let c96 : Index := 96#32
  ![v1028.toNat, 0, 96]
def k0_off1254 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1039 : Index := Scalar.indexCast arg16
  let c0_i32_427 : BitVec 32 := 0#32
  let v1040 : Index := Scalar.indexCast c0_i32_427
  let c112 : Index := 112#32
  ![v1039.toNat, 0, 112]
def k0_off1255 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1050 : Index := Scalar.indexCast arg16
  let c0_i32_430 : BitVec 32 := 0#32
  let v1051 : Index := Scalar.indexCast c0_i32_430
  let c128 : Index := 128#32
  ![v1050.toNat, 0, 128]
def k0_off1256 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1061 : Index := Scalar.indexCast arg16
  let c0_i32_433 : BitVec 32 := 0#32
  let v1062 : Index := Scalar.indexCast c0_i32_433
  let c144 : Index := 144#32
  ![v1061.toNat, 0, 144]
def k0_off1257 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1072 : Index := Scalar.indexCast arg16
  let c0_i32_436 : BitVec 32 := 0#32
  let v1073 : Index := Scalar.indexCast c0_i32_436
  let c160 : Index := 160#32
  ![v1072.toNat, 0, 160]
def k0_off1258 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1083 : Index := Scalar.indexCast arg16
  let c0_i32_439 : BitVec 32 := 0#32
  let v1084 : Index := Scalar.indexCast c0_i32_439
  let c176 : Index := 176#32
  ![v1083.toNat, 0, 176]
def k0_off1259 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1094 : Index := Scalar.indexCast arg16
  let c0_i32_442 : BitVec 32 := 0#32
  let v1095 : Index := Scalar.indexCast c0_i32_442
  let c192 : Index := 192#32
  ![v1094.toNat, 0, 192]
def k0_off1260 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1105 : Index := Scalar.indexCast arg16
  let c0_i32_445 : BitVec 32 := 0#32
  let v1106 : Index := Scalar.indexCast c0_i32_445
  let c208 : Index := 208#32
  ![v1105.toNat, 0, 208]
def k0_off1261 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1116 : Index := Scalar.indexCast arg16
  let c0_i32_448 : BitVec 32 := 0#32
  let v1117 : Index := Scalar.indexCast c0_i32_448
  let c224 : Index := 224#32
  ![v1116.toNat, 0, 224]
def k0_off1262 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1127 : Index := Scalar.indexCast arg16
  let c0_i32_451 : BitVec 32 := 0#32
  let v1128 : Index := Scalar.indexCast c0_i32_451
  let c240 : Index := 240#32
  ![v1127.toNat, 0, 240]
def k0_off1263 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1138 : Index := Scalar.indexCast arg16
  let c0_i32_454 : BitVec 32 := 0#32
  let v1139 : Index := Scalar.indexCast c0_i32_454
  let c256 : Index := 256#32
  ![v1138.toNat, 0, 256]
def k0_off1264 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1149 : Index := Scalar.indexCast arg16
  let c0_i32_457 : BitVec 32 := 0#32
  let v1150 : Index := Scalar.indexCast c0_i32_457
  let c272 : Index := 272#32
  ![v1149.toNat, 0, 272]
def k0_off1265 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1160 : Index := Scalar.indexCast arg16
  let c0_i32_460 : BitVec 32 := 0#32
  let v1161 : Index := Scalar.indexCast c0_i32_460
  let c288 : Index := 288#32
  ![v1160.toNat, 0, 288]
def k0_off1266 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1171 : Index := Scalar.indexCast arg16
  let c0_i32_463 : BitVec 32 := 0#32
  let v1172 : Index := Scalar.indexCast c0_i32_463
  let c304 : Index := 304#32
  ![v1171.toNat, 0, 304]
def k0_off1267 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1182 : Index := Scalar.indexCast arg16
  let c0_i32_466 : BitVec 32 := 0#32
  let v1183 : Index := Scalar.indexCast c0_i32_466
  let c320 : Index := 320#32
  ![v1182.toNat, 0, 320]
def k0_off1268 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1193 : Index := Scalar.indexCast arg16
  let c0_i32_469 : BitVec 32 := 0#32
  let v1194 : Index := Scalar.indexCast c0_i32_469
  let c336 : Index := 336#32
  ![v1193.toNat, 0, 336]
def k0_off1269 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1204 : Index := Scalar.indexCast arg16
  let c0_i32_472 : BitVec 32 := 0#32
  let v1205 : Index := Scalar.indexCast c0_i32_472
  let c352 : Index := 352#32
  ![v1204.toNat, 0, 352]
def k0_off1270 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1215 : Index := Scalar.indexCast arg16
  let c0_i32_475 : BitVec 32 := 0#32
  let v1216 : Index := Scalar.indexCast c0_i32_475
  let c368 : Index := 368#32
  ![v1215.toNat, 0, 368]
def k0_off1271 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1226 : Index := Scalar.indexCast arg16
  let c0_i32_478 : BitVec 32 := 0#32
  let v1227 : Index := Scalar.indexCast c0_i32_478
  let c384 : Index := 384#32
  ![v1226.toNat, 0, 384]
def k0_off1272 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1237 : Index := Scalar.indexCast arg16
  let c0_i32_481 : BitVec 32 := 0#32
  let v1238 : Index := Scalar.indexCast c0_i32_481
  let c400 : Index := 400#32
  ![v1237.toNat, 0, 400]
def k0_off1273 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1248 : Index := Scalar.indexCast arg16
  let c0_i32_484 : BitVec 32 := 0#32
  let v1249 : Index := Scalar.indexCast c0_i32_484
  let c416 : Index := 416#32
  ![v1248.toNat, 0, 416]
def k0_off1274 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1259 : Index := Scalar.indexCast arg16
  let c0_i32_487 : BitVec 32 := 0#32
  let v1260 : Index := Scalar.indexCast c0_i32_487
  let c432 : Index := 432#32
  ![v1259.toNat, 0, 432]
def k0_off1275 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1270 : Index := Scalar.indexCast arg16
  let c0_i32_490 : BitVec 32 := 0#32
  let v1271 : Index := Scalar.indexCast c0_i32_490
  let c448 : Index := 448#32
  ![v1270.toNat, 0, 448]
def k0_off1276 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1281 : Index := Scalar.indexCast arg16
  let c0_i32_493 : BitVec 32 := 0#32
  let v1282 : Index := Scalar.indexCast c0_i32_493
  let c464 : Index := 464#32
  ![v1281.toNat, 0, 464]
def k0_off1277 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1292 : Index := Scalar.indexCast arg16
  let c0_i32_496 : BitVec 32 := 0#32
  let v1293 : Index := Scalar.indexCast c0_i32_496
  let c480 : Index := 480#32
  ![v1292.toNat, 0, 480]
def k0_off1278 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips) : Fin 3 → Nat :=
  let c0_i32_222 : BitVec 32 := 0#32
  let c1024_i32_208 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v529 : BitVec 32 := Scalar.addi v105 v83
  let v530 : BitVec 32 := Scalar.minsi v150 v529
  let v533 : BitVec 32 := Scalar.subi v530 v105
  let v534 : BitVec 32 := Scalar.addi c1024_i32_208 v533
  let c1024_i32_207 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v528 : BitVec 32 := Scalar.maxsi v131 v105
  let v531 : BitVec 32 := Scalar.subi v528 v105
  let v532 : BitVec 32 := Scalar.addi c1024_i32_207 v531
  let v535 : BitVec 32 := Scalar.subi v534 v532
  let c31_i32_209 : BitVec 32 := 31#32
  let v536 : BitVec 32 := Scalar.addi v535 c31_i32_209
  let c0_i32_211 : BitVec 32 := 0#32
  let v538 : BitVec 1 := Scalar.cmpi .sgt v536 c0_i32_211
  let v539 : BitVec 32 := Scalar.extui v538
  let c0_i32_212 : BitVec 32 := 0#32
  let v540 : BitVec 1 := Scalar.cmpi .slt v536 c0_i32_212
  let v541 : BitVec 32 := Scalar.extui v540
  let v542 : BitVec 32 := Scalar.subi v539 v541
  let c32_i32_210 : BitVec 32 := 32#32
  let c0_i32_213 : BitVec 32 := 0#32
  let v543 : BitVec 1 := Scalar.cmpi .sgt c32_i32_210 c0_i32_213
  let v544 : BitVec 32 := Scalar.extui v543
  let c0_i32_214 : BitVec 32 := 0#32
  let v545 : BitVec 1 := Scalar.cmpi .slt c32_i32_210 c0_i32_214
  let v546 : BitVec 32 := Scalar.extui v545
  let v547 : BitVec 32 := Scalar.subi v544 v546
  let v548 : BitVec 1 := Scalar.cmpi .ne v542 v547
  let v549 : BitVec 32 := Scalar.remsi v536 c32_i32_210
  let c0_i32_215 : BitVec 32 := 0#32
  let v550 : BitVec 1 := Scalar.cmpi .ne v549 c0_i32_215
  let v551 : BitVec 1 := Scalar.andi v548 v550
  let v537 : BitVec 32 := Scalar.divsi v536 c32_i32_210
  let c1_i32_216 : BitVec 32 := 1#32
  let v552 : BitVec 32 := Scalar.subi v537 c1_i32_216
  let v553 : BitVec 32 := Scalar.select v551 v552 v537
  let v561 : BitVec 32 := Scalar.subi v553 c0_i32_222
  let c1_i32_223 : BitVec 32 := 1#32
  let v563 : BitVec 32 := Scalar.divsi v561 c1_i32_223
  let v564 : BitVec 32 := Scalar.muli v563 c1_i32_223
  let v565 : BitVec 32 := Scalar.addi c0_i32_222 v564
  let c1_i32_225 : BitVec 32 := 1#32
  let arg14 : BitVec 32 := Scf.iv v565 c1_i32_225 k0_t52
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v532 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v534 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t54
  let v1303 : Index := Scalar.indexCast arg16
  let c0_i32_499 : BitVec 32 := 0#32
  let v1304 : Index := Scalar.indexCast c0_i32_499
  let c496 : Index := 496#32
  ![v1303.toNat, 0, 496]
def k0_off1279 : Fin 3 → Nat :=
  let c0_i32_370 : BitVec 32 := 0#32
  let c32_i32_371 : BitVec 32 := 32#32
  let v910 : BitVec 32 := Scalar.muli c0_i32_370 c32_i32_371
  let c0_i32_373 : BitVec 32 := 0#32
  let c0_i32_374 : BitVec 32 := 0#32
  ![v910.toNat, 0, 0]
def k0_off1280 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c0_i32_368 : BitVec 32 := 0#32
  let c32_i32_369 : BitVec 32 := 32#32
  let v907 : BitVec 32 := Scalar.muli c0_i32_368 c32_i32_369
  let v908 : BitVec 32 := Scalar.addi v579 v907
  let c2016_i32 : BitVec 32 := 2016#32
  let v909 : BitVec 32 := Scalar.minsi v908 c2016_i32
  let c9_i32 : BitVec 32 := 9#32
  let c0_i32_375 : BitVec 32 := 0#32
  ![v909.toNat, 9, 0]
def k0_cond37 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let c0_i32_237 : BitVec 32 := 0#32
  let v601 : BitVec 1 := Scalar.cmpi .sgt v600 c0_i32_237
  let v602 : BitVec 32 := Scalar.extui v601
  let c0_i32_238 : BitVec 32 := 0#32
  let v603 : BitVec 1 := Scalar.cmpi .ne v602 c0_i32_238
  v603

def k0_off1281 : Fin 3 → Nat :=
  let c1_i32_370 : BitVec 32 := 1#32
  let c32_i32_371 : BitVec 32 := 32#32
  let v910 : BitVec 32 := Scalar.muli c1_i32_370 c32_i32_371
  let c0_i32_373 : BitVec 32 := 0#32
  let c0_i32_374 : BitVec 32 := 0#32
  ![v910.toNat, 0, 0]
def k0_off1282 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c1_i32_368 : BitVec 32 := 1#32
  let c32_i32_369 : BitVec 32 := 32#32
  let v907 : BitVec 32 := Scalar.muli c1_i32_368 c32_i32_369
  let v908 : BitVec 32 := Scalar.addi v579 v907
  let c2016_i32 : BitVec 32 := 2016#32
  let v909 : BitVec 32 := Scalar.minsi v908 c2016_i32
  let c9_i32 : BitVec 32 := 9#32
  let c0_i32_375 : BitVec 32 := 0#32
  ![v909.toNat, 9, 0]
def k0_cond38 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let c1_i32_239 : BitVec 32 := 1#32
  let v604 : BitVec 1 := Scalar.cmpi .sgt v600 c1_i32_239
  let v605 : BitVec 32 := Scalar.extui v604
  let c0_i32_240 : BitVec 32 := 0#32
  let v606 : BitVec 1 := Scalar.cmpi .ne v605 c0_i32_240
  v606

@[reducible] def k0_t55_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_244 : BitVec 32 := 1#32
  ⟨c0_i32_242, v612, c1_i32_244⟩
def k0_off1283 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) : Fin 3 → Nat :=
  let c0_i32_242 : BitVec 32 := 0#32
  let c1_i32_244 : BitVec 32 := 1#32
  let arg14 : BitVec 32 := Scf.iv c0_i32_242 c1_i32_244 k0_t55
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond39 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) : BitVec 1 :=
  let c0_i32_242 : BitVec 32 := 0#32
  let c1_i32_244 : BitVec 32 := 1#32
  let arg14 : BitVec 32 := Scf.iv c0_i32_242 c1_i32_244 k0_t55
  let c2_i32_376 : BitVec 32 := 2#32
  let v927 : BitVec 32 := Scalar.addi arg14 c2_i32_376
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v908 : BitVec 32 := Scalar.subi v581 v579
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off1284 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) : Fin 3 → Nat :=
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c0_i32_242 : BitVec 32 := 0#32
  let c1_i32_244 : BitVec 32 := 1#32
  let arg14 : BitVec 32 := Scf.iv c0_i32_242 c1_i32_244 k0_t55
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v579 v965
  let c2016_i32_409 : BitVec 32 := 2016#32
  let v967 : BitVec 32 := Scalar.minsi v966 c2016_i32_409
  let c9_i32_413 : BitVec 32 := 9#32
  let c0_i32_414 : BitVec 32 := 0#32
  ![v967.toNat, 9, 0]
def k0_off1285 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) : Fin 1 → Nat :=
  let c0_i32_242 : BitVec 32 := 0#32
  let c1_i32_244 : BitVec 32 := 1#32
  let arg14 : BitVec 32 := Scf.iv c0_i32_242 c1_i32_244 k0_t55
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off1286 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off1287 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) : Fin 1 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  ![v907.toNat]
@[reducible] def k0_t56_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) : Scf.Loop 32 :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off1288 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v962 : Index := Scalar.indexCast arg16
  let c0_i32_405 : BitVec 32 := 0#32
  let v963 : Index := Scalar.indexCast c0_i32_405
  let c0_406 : Index := 0#32
  ![v962.toNat, 0, 0]
def k0_off1289 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v973 : Index := Scalar.indexCast arg16
  let c0_i32_409 : BitVec 32 := 0#32
  let v974 : Index := Scalar.indexCast c0_i32_409
  let c16 : Index := 16#32
  ![v973.toNat, 0, 16]
def k0_off1290 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v984 : Index := Scalar.indexCast arg16
  let c0_i32_412 : BitVec 32 := 0#32
  let v985 : Index := Scalar.indexCast c0_i32_412
  let c32 : Index := 32#32
  ![v984.toNat, 0, 32]
def k0_off1291 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v995 : Index := Scalar.indexCast arg16
  let c0_i32_415 : BitVec 32 := 0#32
  let v996 : Index := Scalar.indexCast c0_i32_415
  let c48 : Index := 48#32
  ![v995.toNat, 0, 48]
def k0_off1292 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1006 : Index := Scalar.indexCast arg16
  let c0_i32_418 : BitVec 32 := 0#32
  let v1007 : Index := Scalar.indexCast c0_i32_418
  let c64 : Index := 64#32
  ![v1006.toNat, 0, 64]
def k0_off1293 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1017 : Index := Scalar.indexCast arg16
  let c0_i32_421 : BitVec 32 := 0#32
  let v1018 : Index := Scalar.indexCast c0_i32_421
  let c80 : Index := 80#32
  ![v1017.toNat, 0, 80]
def k0_off1294 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1028 : Index := Scalar.indexCast arg16
  let c0_i32_424 : BitVec 32 := 0#32
  let v1029 : Index := Scalar.indexCast c0_i32_424
  let c96 : Index := 96#32
  ![v1028.toNat, 0, 96]
def k0_off1295 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1039 : Index := Scalar.indexCast arg16
  let c0_i32_427 : BitVec 32 := 0#32
  let v1040 : Index := Scalar.indexCast c0_i32_427
  let c112 : Index := 112#32
  ![v1039.toNat, 0, 112]
def k0_off1296 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1050 : Index := Scalar.indexCast arg16
  let c0_i32_430 : BitVec 32 := 0#32
  let v1051 : Index := Scalar.indexCast c0_i32_430
  let c128 : Index := 128#32
  ![v1050.toNat, 0, 128]
def k0_off1297 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1061 : Index := Scalar.indexCast arg16
  let c0_i32_433 : BitVec 32 := 0#32
  let v1062 : Index := Scalar.indexCast c0_i32_433
  let c144 : Index := 144#32
  ![v1061.toNat, 0, 144]
def k0_off1298 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1072 : Index := Scalar.indexCast arg16
  let c0_i32_436 : BitVec 32 := 0#32
  let v1073 : Index := Scalar.indexCast c0_i32_436
  let c160 : Index := 160#32
  ![v1072.toNat, 0, 160]
def k0_off1299 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1083 : Index := Scalar.indexCast arg16
  let c0_i32_439 : BitVec 32 := 0#32
  let v1084 : Index := Scalar.indexCast c0_i32_439
  let c176 : Index := 176#32
  ![v1083.toNat, 0, 176]
def k0_off1300 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1094 : Index := Scalar.indexCast arg16
  let c0_i32_442 : BitVec 32 := 0#32
  let v1095 : Index := Scalar.indexCast c0_i32_442
  let c192 : Index := 192#32
  ![v1094.toNat, 0, 192]
def k0_off1301 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1105 : Index := Scalar.indexCast arg16
  let c0_i32_445 : BitVec 32 := 0#32
  let v1106 : Index := Scalar.indexCast c0_i32_445
  let c208 : Index := 208#32
  ![v1105.toNat, 0, 208]
def k0_off1302 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1116 : Index := Scalar.indexCast arg16
  let c0_i32_448 : BitVec 32 := 0#32
  let v1117 : Index := Scalar.indexCast c0_i32_448
  let c224 : Index := 224#32
  ![v1116.toNat, 0, 224]
def k0_off1303 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1127 : Index := Scalar.indexCast arg16
  let c0_i32_451 : BitVec 32 := 0#32
  let v1128 : Index := Scalar.indexCast c0_i32_451
  let c240 : Index := 240#32
  ![v1127.toNat, 0, 240]
def k0_off1304 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1138 : Index := Scalar.indexCast arg16
  let c0_i32_454 : BitVec 32 := 0#32
  let v1139 : Index := Scalar.indexCast c0_i32_454
  let c256 : Index := 256#32
  ![v1138.toNat, 0, 256]
def k0_off1305 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1149 : Index := Scalar.indexCast arg16
  let c0_i32_457 : BitVec 32 := 0#32
  let v1150 : Index := Scalar.indexCast c0_i32_457
  let c272 : Index := 272#32
  ![v1149.toNat, 0, 272]
def k0_off1306 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1160 : Index := Scalar.indexCast arg16
  let c0_i32_460 : BitVec 32 := 0#32
  let v1161 : Index := Scalar.indexCast c0_i32_460
  let c288 : Index := 288#32
  ![v1160.toNat, 0, 288]
def k0_off1307 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1171 : Index := Scalar.indexCast arg16
  let c0_i32_463 : BitVec 32 := 0#32
  let v1172 : Index := Scalar.indexCast c0_i32_463
  let c304 : Index := 304#32
  ![v1171.toNat, 0, 304]
def k0_off1308 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1182 : Index := Scalar.indexCast arg16
  let c0_i32_466 : BitVec 32 := 0#32
  let v1183 : Index := Scalar.indexCast c0_i32_466
  let c320 : Index := 320#32
  ![v1182.toNat, 0, 320]
def k0_off1309 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1193 : Index := Scalar.indexCast arg16
  let c0_i32_469 : BitVec 32 := 0#32
  let v1194 : Index := Scalar.indexCast c0_i32_469
  let c336 : Index := 336#32
  ![v1193.toNat, 0, 336]
def k0_off1310 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1204 : Index := Scalar.indexCast arg16
  let c0_i32_472 : BitVec 32 := 0#32
  let v1205 : Index := Scalar.indexCast c0_i32_472
  let c352 : Index := 352#32
  ![v1204.toNat, 0, 352]
def k0_off1311 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1215 : Index := Scalar.indexCast arg16
  let c0_i32_475 : BitVec 32 := 0#32
  let v1216 : Index := Scalar.indexCast c0_i32_475
  let c368 : Index := 368#32
  ![v1215.toNat, 0, 368]
def k0_off1312 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1226 : Index := Scalar.indexCast arg16
  let c0_i32_478 : BitVec 32 := 0#32
  let v1227 : Index := Scalar.indexCast c0_i32_478
  let c384 : Index := 384#32
  ![v1226.toNat, 0, 384]
def k0_off1313 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1237 : Index := Scalar.indexCast arg16
  let c0_i32_481 : BitVec 32 := 0#32
  let v1238 : Index := Scalar.indexCast c0_i32_481
  let c400 : Index := 400#32
  ![v1237.toNat, 0, 400]
def k0_off1314 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1248 : Index := Scalar.indexCast arg16
  let c0_i32_484 : BitVec 32 := 0#32
  let v1249 : Index := Scalar.indexCast c0_i32_484
  let c416 : Index := 416#32
  ![v1248.toNat, 0, 416]
def k0_off1315 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1259 : Index := Scalar.indexCast arg16
  let c0_i32_487 : BitVec 32 := 0#32
  let v1260 : Index := Scalar.indexCast c0_i32_487
  let c432 : Index := 432#32
  ![v1259.toNat, 0, 432]
def k0_off1316 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1270 : Index := Scalar.indexCast arg16
  let c0_i32_490 : BitVec 32 := 0#32
  let v1271 : Index := Scalar.indexCast c0_i32_490
  let c448 : Index := 448#32
  ![v1270.toNat, 0, 448]
def k0_off1317 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1281 : Index := Scalar.indexCast arg16
  let c0_i32_493 : BitVec 32 := 0#32
  let v1282 : Index := Scalar.indexCast c0_i32_493
  let c464 : Index := 464#32
  ![v1281.toNat, 0, 464]
def k0_off1318 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1292 : Index := Scalar.indexCast arg16
  let c0_i32_496 : BitVec 32 := 0#32
  let v1293 : Index := Scalar.indexCast c0_i32_496
  let c480 : Index := 480#32
  ![v1292.toNat, 0, 480]
def k0_off1319 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t56
  let v1303 : Index := Scalar.indexCast arg16
  let c0_i32_499 : BitVec 32 := 0#32
  let v1304 : Index := Scalar.indexCast c0_i32_499
  let c496 : Index := 496#32
  ![v1303.toNat, 0, 496]
@[reducible] def k0_t57_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) : Scf.Loop 32 :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off1320 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v962 : Index := Scalar.indexCast arg16
  let c0_i32_405 : BitVec 32 := 0#32
  let v963 : Index := Scalar.indexCast c0_i32_405
  let c0_406 : Index := 0#32
  ![v962.toNat, 0, 0]
def k0_off1321 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v973 : Index := Scalar.indexCast arg16
  let c0_i32_409 : BitVec 32 := 0#32
  let v974 : Index := Scalar.indexCast c0_i32_409
  let c16 : Index := 16#32
  ![v973.toNat, 0, 16]
def k0_off1322 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v984 : Index := Scalar.indexCast arg16
  let c0_i32_412 : BitVec 32 := 0#32
  let v985 : Index := Scalar.indexCast c0_i32_412
  let c32 : Index := 32#32
  ![v984.toNat, 0, 32]
def k0_off1323 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v995 : Index := Scalar.indexCast arg16
  let c0_i32_415 : BitVec 32 := 0#32
  let v996 : Index := Scalar.indexCast c0_i32_415
  let c48 : Index := 48#32
  ![v995.toNat, 0, 48]
def k0_off1324 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1006 : Index := Scalar.indexCast arg16
  let c0_i32_418 : BitVec 32 := 0#32
  let v1007 : Index := Scalar.indexCast c0_i32_418
  let c64 : Index := 64#32
  ![v1006.toNat, 0, 64]
def k0_off1325 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1017 : Index := Scalar.indexCast arg16
  let c0_i32_421 : BitVec 32 := 0#32
  let v1018 : Index := Scalar.indexCast c0_i32_421
  let c80 : Index := 80#32
  ![v1017.toNat, 0, 80]
def k0_off1326 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1028 : Index := Scalar.indexCast arg16
  let c0_i32_424 : BitVec 32 := 0#32
  let v1029 : Index := Scalar.indexCast c0_i32_424
  let c96 : Index := 96#32
  ![v1028.toNat, 0, 96]
def k0_off1327 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1039 : Index := Scalar.indexCast arg16
  let c0_i32_427 : BitVec 32 := 0#32
  let v1040 : Index := Scalar.indexCast c0_i32_427
  let c112 : Index := 112#32
  ![v1039.toNat, 0, 112]
def k0_off1328 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1050 : Index := Scalar.indexCast arg16
  let c0_i32_430 : BitVec 32 := 0#32
  let v1051 : Index := Scalar.indexCast c0_i32_430
  let c128 : Index := 128#32
  ![v1050.toNat, 0, 128]
def k0_off1329 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1061 : Index := Scalar.indexCast arg16
  let c0_i32_433 : BitVec 32 := 0#32
  let v1062 : Index := Scalar.indexCast c0_i32_433
  let c144 : Index := 144#32
  ![v1061.toNat, 0, 144]

variable {F : FTy → Type} [FloatOps F]

def k0_off1330 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1072 : Index := Scalar.indexCast arg16
  let c0_i32_436 : BitVec 32 := 0#32
  let v1073 : Index := Scalar.indexCast c0_i32_436
  let c160 : Index := 160#32
  ![v1072.toNat, 0, 160]
def k0_off1331 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1083 : Index := Scalar.indexCast arg16
  let c0_i32_439 : BitVec 32 := 0#32
  let v1084 : Index := Scalar.indexCast c0_i32_439
  let c176 : Index := 176#32
  ![v1083.toNat, 0, 176]
def k0_off1332 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1094 : Index := Scalar.indexCast arg16
  let c0_i32_442 : BitVec 32 := 0#32
  let v1095 : Index := Scalar.indexCast c0_i32_442
  let c192 : Index := 192#32
  ![v1094.toNat, 0, 192]
def k0_off1333 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1105 : Index := Scalar.indexCast arg16
  let c0_i32_445 : BitVec 32 := 0#32
  let v1106 : Index := Scalar.indexCast c0_i32_445
  let c208 : Index := 208#32
  ![v1105.toNat, 0, 208]
def k0_off1334 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1116 : Index := Scalar.indexCast arg16
  let c0_i32_448 : BitVec 32 := 0#32
  let v1117 : Index := Scalar.indexCast c0_i32_448
  let c224 : Index := 224#32
  ![v1116.toNat, 0, 224]
def k0_off1335 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1127 : Index := Scalar.indexCast arg16
  let c0_i32_451 : BitVec 32 := 0#32
  let v1128 : Index := Scalar.indexCast c0_i32_451
  let c240 : Index := 240#32
  ![v1127.toNat, 0, 240]
def k0_off1336 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1138 : Index := Scalar.indexCast arg16
  let c0_i32_454 : BitVec 32 := 0#32
  let v1139 : Index := Scalar.indexCast c0_i32_454
  let c256 : Index := 256#32
  ![v1138.toNat, 0, 256]
def k0_off1337 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1149 : Index := Scalar.indexCast arg16
  let c0_i32_457 : BitVec 32 := 0#32
  let v1150 : Index := Scalar.indexCast c0_i32_457
  let c272 : Index := 272#32
  ![v1149.toNat, 0, 272]
def k0_off1338 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1160 : Index := Scalar.indexCast arg16
  let c0_i32_460 : BitVec 32 := 0#32
  let v1161 : Index := Scalar.indexCast c0_i32_460
  let c288 : Index := 288#32
  ![v1160.toNat, 0, 288]
def k0_off1339 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1171 : Index := Scalar.indexCast arg16
  let c0_i32_463 : BitVec 32 := 0#32
  let v1172 : Index := Scalar.indexCast c0_i32_463
  let c304 : Index := 304#32
  ![v1171.toNat, 0, 304]
def k0_off1340 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1182 : Index := Scalar.indexCast arg16
  let c0_i32_466 : BitVec 32 := 0#32
  let v1183 : Index := Scalar.indexCast c0_i32_466
  let c320 : Index := 320#32
  ![v1182.toNat, 0, 320]
def k0_off1341 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1193 : Index := Scalar.indexCast arg16
  let c0_i32_469 : BitVec 32 := 0#32
  let v1194 : Index := Scalar.indexCast c0_i32_469
  let c336 : Index := 336#32
  ![v1193.toNat, 0, 336]
def k0_off1342 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1204 : Index := Scalar.indexCast arg16
  let c0_i32_472 : BitVec 32 := 0#32
  let v1205 : Index := Scalar.indexCast c0_i32_472
  let c352 : Index := 352#32
  ![v1204.toNat, 0, 352]
def k0_off1343 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1215 : Index := Scalar.indexCast arg16
  let c0_i32_475 : BitVec 32 := 0#32
  let v1216 : Index := Scalar.indexCast c0_i32_475
  let c368 : Index := 368#32
  ![v1215.toNat, 0, 368]
def k0_off1344 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1226 : Index := Scalar.indexCast arg16
  let c0_i32_478 : BitVec 32 := 0#32
  let v1227 : Index := Scalar.indexCast c0_i32_478
  let c384 : Index := 384#32
  ![v1226.toNat, 0, 384]
def k0_off1345 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1237 : Index := Scalar.indexCast arg16
  let c0_i32_481 : BitVec 32 := 0#32
  let v1238 : Index := Scalar.indexCast c0_i32_481
  let c400 : Index := 400#32
  ![v1237.toNat, 0, 400]
def k0_off1346 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1248 : Index := Scalar.indexCast arg16
  let c0_i32_484 : BitVec 32 := 0#32
  let v1249 : Index := Scalar.indexCast c0_i32_484
  let c416 : Index := 416#32
  ![v1248.toNat, 0, 416]
def k0_off1347 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1259 : Index := Scalar.indexCast arg16
  let c0_i32_487 : BitVec 32 := 0#32
  let v1260 : Index := Scalar.indexCast c0_i32_487
  let c432 : Index := 432#32
  ![v1259.toNat, 0, 432]
def k0_off1348 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1270 : Index := Scalar.indexCast arg16
  let c0_i32_490 : BitVec 32 := 0#32
  let v1271 : Index := Scalar.indexCast c0_i32_490
  let c448 : Index := 448#32
  ![v1270.toNat, 0, 448]
def k0_off1349 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1281 : Index := Scalar.indexCast arg16
  let c0_i32_493 : BitVec 32 := 0#32
  let v1282 : Index := Scalar.indexCast c0_i32_493
  let c464 : Index := 464#32
  ![v1281.toNat, 0, 464]
def k0_off1350 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1292 : Index := Scalar.indexCast arg16
  let c0_i32_496 : BitVec 32 := 0#32
  let v1293 : Index := Scalar.indexCast c0_i32_496
  let c480 : Index := 480#32
  ![v1292.toNat, 0, 480]
def k0_off1351 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips) : Fin 3 → Nat :=
  let c0_i32_242 : BitVec 32 := 0#32
  let c1_i32_244 : BitVec 32 := 1#32
  let arg14 : BitVec 32 := Scf.iv c0_i32_242 c1_i32_244 k0_t55
  let c3_i32 : BitVec 32 := 3#32
  let v907 : BitVec 32 := Scalar.remsi arg14 c3_i32
  let c32_i32_400 : BitVec 32 := 32#32
  let v948 : BitVec 32 := Scalar.muli v907 c32_i32_400
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t57
  let v1303 : Index := Scalar.indexCast arg16
  let c0_i32_499 : BitVec 32 := 0#32
  let v1304 : Index := Scalar.indexCast c0_i32_499
  let c496 : Index := 496#32
  ![v1303.toNat, 0, 496]
@[reducible] def k0_t58_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let v609 : BitVec 32 := Scalar.addi c0_i32_242 v608
  let c1_i32_245 : BitVec 32 := 1#32
  ⟨v612, v609, c1_i32_245⟩
def k0_off1352 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond40 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) : BitVec 1 :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c2_i32_376 : BitVec 32 := 2#32
  let v927 : BitVec 32 := Scalar.addi arg14 c2_i32_376
  let v908 : BitVec 32 := Scalar.subi v581 v579
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off1353 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) : Fin 3 → Nat :=
  let c1024_i32_227 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let c0_i32_242 : BitVec 32 := 0#32
  let c1024_i32_228 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v579 v965
  let c2016_i32_409 : BitVec 32 := 2016#32
  let v967 : BitVec 32 := Scalar.minsi v966 c2016_i32_409
  let c9_i32_413 : BitVec 32 := 9#32
  let c0_i32_414 : BitVec 32 := 0#32
  ![v967.toNat, 9, 0]
def k0_off1354 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) : Fin 1 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off1355 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off1356 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) : Fin 1 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  ![v907.toNat]
@[reducible] def k0_t59_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) : Scf.Loop 32 :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off1357 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v962 : Index := Scalar.indexCast arg16
  let c0_i32_405 : BitVec 32 := 0#32
  let v963 : Index := Scalar.indexCast c0_i32_405
  let c0_406 : Index := 0#32
  ![v962.toNat, 0, 0]
def k0_off1358 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v973 : Index := Scalar.indexCast arg16
  let c0_i32_409 : BitVec 32 := 0#32
  let v974 : Index := Scalar.indexCast c0_i32_409
  let c16 : Index := 16#32
  ![v973.toNat, 0, 16]
def k0_off1359 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v984 : Index := Scalar.indexCast arg16
  let c0_i32_412 : BitVec 32 := 0#32
  let v985 : Index := Scalar.indexCast c0_i32_412
  let c32 : Index := 32#32
  ![v984.toNat, 0, 32]
def k0_off1360 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v995 : Index := Scalar.indexCast arg16
  let c0_i32_415 : BitVec 32 := 0#32
  let v996 : Index := Scalar.indexCast c0_i32_415
  let c48 : Index := 48#32
  ![v995.toNat, 0, 48]
def k0_off1361 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1006 : Index := Scalar.indexCast arg16
  let c0_i32_418 : BitVec 32 := 0#32
  let v1007 : Index := Scalar.indexCast c0_i32_418
  let c64 : Index := 64#32
  ![v1006.toNat, 0, 64]
def k0_off1362 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1017 : Index := Scalar.indexCast arg16
  let c0_i32_421 : BitVec 32 := 0#32
  let v1018 : Index := Scalar.indexCast c0_i32_421
  let c80 : Index := 80#32
  ![v1017.toNat, 0, 80]
def k0_off1363 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1028 : Index := Scalar.indexCast arg16
  let c0_i32_424 : BitVec 32 := 0#32
  let v1029 : Index := Scalar.indexCast c0_i32_424
  let c96 : Index := 96#32
  ![v1028.toNat, 0, 96]
def k0_off1364 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1039 : Index := Scalar.indexCast arg16
  let c0_i32_427 : BitVec 32 := 0#32
  let v1040 : Index := Scalar.indexCast c0_i32_427
  let c112 : Index := 112#32
  ![v1039.toNat, 0, 112]
def k0_off1365 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1050 : Index := Scalar.indexCast arg16
  let c0_i32_430 : BitVec 32 := 0#32
  let v1051 : Index := Scalar.indexCast c0_i32_430
  let c128 : Index := 128#32
  ![v1050.toNat, 0, 128]
def k0_off1366 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1061 : Index := Scalar.indexCast arg16
  let c0_i32_433 : BitVec 32 := 0#32
  let v1062 : Index := Scalar.indexCast c0_i32_433
  let c144 : Index := 144#32
  ![v1061.toNat, 0, 144]
def k0_off1367 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1072 : Index := Scalar.indexCast arg16
  let c0_i32_436 : BitVec 32 := 0#32
  let v1073 : Index := Scalar.indexCast c0_i32_436
  let c160 : Index := 160#32
  ![v1072.toNat, 0, 160]
def k0_off1368 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1083 : Index := Scalar.indexCast arg16
  let c0_i32_439 : BitVec 32 := 0#32
  let v1084 : Index := Scalar.indexCast c0_i32_439
  let c176 : Index := 176#32
  ![v1083.toNat, 0, 176]
def k0_off1369 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1094 : Index := Scalar.indexCast arg16
  let c0_i32_442 : BitVec 32 := 0#32
  let v1095 : Index := Scalar.indexCast c0_i32_442
  let c192 : Index := 192#32
  ![v1094.toNat, 0, 192]
def k0_off1370 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1105 : Index := Scalar.indexCast arg16
  let c0_i32_445 : BitVec 32 := 0#32
  let v1106 : Index := Scalar.indexCast c0_i32_445
  let c208 : Index := 208#32
  ![v1105.toNat, 0, 208]
def k0_off1371 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1116 : Index := Scalar.indexCast arg16
  let c0_i32_448 : BitVec 32 := 0#32
  let v1117 : Index := Scalar.indexCast c0_i32_448
  let c224 : Index := 224#32
  ![v1116.toNat, 0, 224]
def k0_off1372 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1127 : Index := Scalar.indexCast arg16
  let c0_i32_451 : BitVec 32 := 0#32
  let v1128 : Index := Scalar.indexCast c0_i32_451
  let c240 : Index := 240#32
  ![v1127.toNat, 0, 240]
def k0_off1373 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1138 : Index := Scalar.indexCast arg16
  let c0_i32_454 : BitVec 32 := 0#32
  let v1139 : Index := Scalar.indexCast c0_i32_454
  let c256 : Index := 256#32
  ![v1138.toNat, 0, 256]
def k0_off1374 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1149 : Index := Scalar.indexCast arg16
  let c0_i32_457 : BitVec 32 := 0#32
  let v1150 : Index := Scalar.indexCast c0_i32_457
  let c272 : Index := 272#32
  ![v1149.toNat, 0, 272]
def k0_off1375 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1160 : Index := Scalar.indexCast arg16
  let c0_i32_460 : BitVec 32 := 0#32
  let v1161 : Index := Scalar.indexCast c0_i32_460
  let c288 : Index := 288#32
  ![v1160.toNat, 0, 288]
def k0_off1376 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1171 : Index := Scalar.indexCast arg16
  let c0_i32_463 : BitVec 32 := 0#32
  let v1172 : Index := Scalar.indexCast c0_i32_463
  let c304 : Index := 304#32
  ![v1171.toNat, 0, 304]
def k0_off1377 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1182 : Index := Scalar.indexCast arg16
  let c0_i32_466 : BitVec 32 := 0#32
  let v1183 : Index := Scalar.indexCast c0_i32_466
  let c320 : Index := 320#32
  ![v1182.toNat, 0, 320]
def k0_off1378 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1193 : Index := Scalar.indexCast arg16
  let c0_i32_469 : BitVec 32 := 0#32
  let v1194 : Index := Scalar.indexCast c0_i32_469
  let c336 : Index := 336#32
  ![v1193.toNat, 0, 336]
def k0_off1379 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1204 : Index := Scalar.indexCast arg16
  let c0_i32_472 : BitVec 32 := 0#32
  let v1205 : Index := Scalar.indexCast c0_i32_472
  let c352 : Index := 352#32
  ![v1204.toNat, 0, 352]
def k0_off1380 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1215 : Index := Scalar.indexCast arg16
  let c0_i32_475 : BitVec 32 := 0#32
  let v1216 : Index := Scalar.indexCast c0_i32_475
  let c368 : Index := 368#32
  ![v1215.toNat, 0, 368]
def k0_off1381 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1226 : Index := Scalar.indexCast arg16
  let c0_i32_478 : BitVec 32 := 0#32
  let v1227 : Index := Scalar.indexCast c0_i32_478
  let c384 : Index := 384#32
  ![v1226.toNat, 0, 384]
def k0_off1382 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1237 : Index := Scalar.indexCast arg16
  let c0_i32_481 : BitVec 32 := 0#32
  let v1238 : Index := Scalar.indexCast c0_i32_481
  let c400 : Index := 400#32
  ![v1237.toNat, 0, 400]
def k0_off1383 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1248 : Index := Scalar.indexCast arg16
  let c0_i32_484 : BitVec 32 := 0#32
  let v1249 : Index := Scalar.indexCast c0_i32_484
  let c416 : Index := 416#32
  ![v1248.toNat, 0, 416]
def k0_off1384 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1259 : Index := Scalar.indexCast arg16
  let c0_i32_487 : BitVec 32 := 0#32
  let v1260 : Index := Scalar.indexCast c0_i32_487
  let c432 : Index := 432#32
  ![v1259.toNat, 0, 432]
def k0_off1385 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1270 : Index := Scalar.indexCast arg16
  let c0_i32_490 : BitVec 32 := 0#32
  let v1271 : Index := Scalar.indexCast c0_i32_490
  let c448 : Index := 448#32
  ![v1270.toNat, 0, 448]
def k0_off1386 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1281 : Index := Scalar.indexCast arg16
  let c0_i32_493 : BitVec 32 := 0#32
  let v1282 : Index := Scalar.indexCast c0_i32_493
  let c464 : Index := 464#32
  ![v1281.toNat, 0, 464]
def k0_off1387 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1292 : Index := Scalar.indexCast arg16
  let c0_i32_496 : BitVec 32 := 0#32
  let v1293 : Index := Scalar.indexCast c0_i32_496
  let c480 : Index := 480#32
  ![v1292.toNat, 0, 480]
def k0_off1388 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t59
  let v1303 : Index := Scalar.indexCast arg16
  let c0_i32_499 : BitVec 32 := 0#32
  let v1304 : Index := Scalar.indexCast c0_i32_499
  let c496 : Index := 496#32
  ![v1303.toNat, 0, 496]
@[reducible] def k0_t60_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) : Scf.Loop 32 :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off1389 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v962 : Index := Scalar.indexCast arg16
  let c0_i32_405 : BitVec 32 := 0#32
  let v963 : Index := Scalar.indexCast c0_i32_405
  let c0_406 : Index := 0#32
  ![v962.toNat, 0, 0]
def k0_off1390 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v973 : Index := Scalar.indexCast arg16
  let c0_i32_409 : BitVec 32 := 0#32
  let v974 : Index := Scalar.indexCast c0_i32_409
  let c16 : Index := 16#32
  ![v973.toNat, 0, 16]
def k0_off1391 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v984 : Index := Scalar.indexCast arg16
  let c0_i32_412 : BitVec 32 := 0#32
  let v985 : Index := Scalar.indexCast c0_i32_412
  let c32 : Index := 32#32
  ![v984.toNat, 0, 32]
def k0_off1392 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v995 : Index := Scalar.indexCast arg16
  let c0_i32_415 : BitVec 32 := 0#32
  let v996 : Index := Scalar.indexCast c0_i32_415
  let c48 : Index := 48#32
  ![v995.toNat, 0, 48]
def k0_off1393 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1006 : Index := Scalar.indexCast arg16
  let c0_i32_418 : BitVec 32 := 0#32
  let v1007 : Index := Scalar.indexCast c0_i32_418
  let c64 : Index := 64#32
  ![v1006.toNat, 0, 64]
def k0_off1394 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1017 : Index := Scalar.indexCast arg16
  let c0_i32_421 : BitVec 32 := 0#32
  let v1018 : Index := Scalar.indexCast c0_i32_421
  let c80 : Index := 80#32
  ![v1017.toNat, 0, 80]
def k0_off1395 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1028 : Index := Scalar.indexCast arg16
  let c0_i32_424 : BitVec 32 := 0#32
  let v1029 : Index := Scalar.indexCast c0_i32_424
  let c96 : Index := 96#32
  ![v1028.toNat, 0, 96]
def k0_off1396 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1039 : Index := Scalar.indexCast arg16
  let c0_i32_427 : BitVec 32 := 0#32
  let v1040 : Index := Scalar.indexCast c0_i32_427
  let c112 : Index := 112#32
  ![v1039.toNat, 0, 112]
def k0_off1397 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1050 : Index := Scalar.indexCast arg16
  let c0_i32_430 : BitVec 32 := 0#32
  let v1051 : Index := Scalar.indexCast c0_i32_430
  let c128 : Index := 128#32
  ![v1050.toNat, 0, 128]
def k0_off1398 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1061 : Index := Scalar.indexCast arg16
  let c0_i32_433 : BitVec 32 := 0#32
  let v1062 : Index := Scalar.indexCast c0_i32_433
  let c144 : Index := 144#32
  ![v1061.toNat, 0, 144]
def k0_off1399 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1072 : Index := Scalar.indexCast arg16
  let c0_i32_436 : BitVec 32 := 0#32
  let v1073 : Index := Scalar.indexCast c0_i32_436
  let c160 : Index := 160#32
  ![v1072.toNat, 0, 160]
def k0_off1400 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1083 : Index := Scalar.indexCast arg16
  let c0_i32_439 : BitVec 32 := 0#32
  let v1084 : Index := Scalar.indexCast c0_i32_439
  let c176 : Index := 176#32
  ![v1083.toNat, 0, 176]
def k0_off1401 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1094 : Index := Scalar.indexCast arg16
  let c0_i32_442 : BitVec 32 := 0#32
  let v1095 : Index := Scalar.indexCast c0_i32_442
  let c192 : Index := 192#32
  ![v1094.toNat, 0, 192]
def k0_off1402 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1105 : Index := Scalar.indexCast arg16
  let c0_i32_445 : BitVec 32 := 0#32
  let v1106 : Index := Scalar.indexCast c0_i32_445
  let c208 : Index := 208#32
  ![v1105.toNat, 0, 208]
def k0_off1403 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1116 : Index := Scalar.indexCast arg16
  let c0_i32_448 : BitVec 32 := 0#32
  let v1117 : Index := Scalar.indexCast c0_i32_448
  let c224 : Index := 224#32
  ![v1116.toNat, 0, 224]
def k0_off1404 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1127 : Index := Scalar.indexCast arg16
  let c0_i32_451 : BitVec 32 := 0#32
  let v1128 : Index := Scalar.indexCast c0_i32_451
  let c240 : Index := 240#32
  ![v1127.toNat, 0, 240]
def k0_off1405 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1138 : Index := Scalar.indexCast arg16
  let c0_i32_454 : BitVec 32 := 0#32
  let v1139 : Index := Scalar.indexCast c0_i32_454
  let c256 : Index := 256#32
  ![v1138.toNat, 0, 256]
def k0_off1406 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1149 : Index := Scalar.indexCast arg16
  let c0_i32_457 : BitVec 32 := 0#32
  let v1150 : Index := Scalar.indexCast c0_i32_457
  let c272 : Index := 272#32
  ![v1149.toNat, 0, 272]
def k0_off1407 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1160 : Index := Scalar.indexCast arg16
  let c0_i32_460 : BitVec 32 := 0#32
  let v1161 : Index := Scalar.indexCast c0_i32_460
  let c288 : Index := 288#32
  ![v1160.toNat, 0, 288]
def k0_off1408 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1171 : Index := Scalar.indexCast arg16
  let c0_i32_463 : BitVec 32 := 0#32
  let v1172 : Index := Scalar.indexCast c0_i32_463
  let c304 : Index := 304#32
  ![v1171.toNat, 0, 304]
def k0_off1409 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1182 : Index := Scalar.indexCast arg16
  let c0_i32_466 : BitVec 32 := 0#32
  let v1183 : Index := Scalar.indexCast c0_i32_466
  let c320 : Index := 320#32
  ![v1182.toNat, 0, 320]
def k0_off1410 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1193 : Index := Scalar.indexCast arg16
  let c0_i32_469 : BitVec 32 := 0#32
  let v1194 : Index := Scalar.indexCast c0_i32_469
  let c336 : Index := 336#32
  ![v1193.toNat, 0, 336]
def k0_off1411 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1204 : Index := Scalar.indexCast arg16
  let c0_i32_472 : BitVec 32 := 0#32
  let v1205 : Index := Scalar.indexCast c0_i32_472
  let c352 : Index := 352#32
  ![v1204.toNat, 0, 352]
def k0_off1412 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1215 : Index := Scalar.indexCast arg16
  let c0_i32_475 : BitVec 32 := 0#32
  let v1216 : Index := Scalar.indexCast c0_i32_475
  let c368 : Index := 368#32
  ![v1215.toNat, 0, 368]
def k0_off1413 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1226 : Index := Scalar.indexCast arg16
  let c0_i32_478 : BitVec 32 := 0#32
  let v1227 : Index := Scalar.indexCast c0_i32_478
  let c384 : Index := 384#32
  ![v1226.toNat, 0, 384]
def k0_off1414 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1237 : Index := Scalar.indexCast arg16
  let c0_i32_481 : BitVec 32 := 0#32
  let v1238 : Index := Scalar.indexCast c0_i32_481
  let c400 : Index := 400#32
  ![v1237.toNat, 0, 400]
def k0_off1415 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1248 : Index := Scalar.indexCast arg16
  let c0_i32_484 : BitVec 32 := 0#32
  let v1249 : Index := Scalar.indexCast c0_i32_484
  let c416 : Index := 416#32
  ![v1248.toNat, 0, 416]
def k0_off1416 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1259 : Index := Scalar.indexCast arg16
  let c0_i32_487 : BitVec 32 := 0#32
  let v1260 : Index := Scalar.indexCast c0_i32_487
  let c432 : Index := 432#32
  ![v1259.toNat, 0, 432]
def k0_off1417 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1270 : Index := Scalar.indexCast arg16
  let c0_i32_490 : BitVec 32 := 0#32
  let v1271 : Index := Scalar.indexCast c0_i32_490
  let c448 : Index := 448#32
  ![v1270.toNat, 0, 448]
def k0_off1418 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1281 : Index := Scalar.indexCast arg16
  let c0_i32_493 : BitVec 32 := 0#32
  let v1282 : Index := Scalar.indexCast c0_i32_493
  let c464 : Index := 464#32
  ![v1281.toNat, 0, 464]
def k0_off1419 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1292 : Index := Scalar.indexCast arg16
  let c0_i32_496 : BitVec 32 := 0#32
  let v1293 : Index := Scalar.indexCast c0_i32_496
  let c480 : Index := 480#32
  ![v1292.toNat, 0, 480]
def k0_off1420 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips) : Fin 3 → Nat :=
  let c0_i32_242 : BitVec 32 := 0#32
  let c1024_i32_228 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v576 : BitVec 32 := Scalar.addi v106 v85
  let v577 : BitVec 32 := Scalar.minsi v150 v576
  let v580 : BitVec 32 := Scalar.subi v577 v106
  let v581 : BitVec 32 := Scalar.addi c1024_i32_228 v580
  let c1024_i32_227 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v575 : BitVec 32 := Scalar.maxsi v131 v106
  let v578 : BitVec 32 := Scalar.subi v575 v106
  let v579 : BitVec 32 := Scalar.addi c1024_i32_227 v578
  let v582 : BitVec 32 := Scalar.subi v581 v579
  let c31_i32_229 : BitVec 32 := 31#32
  let v583 : BitVec 32 := Scalar.addi v582 c31_i32_229
  let c0_i32_231 : BitVec 32 := 0#32
  let v585 : BitVec 1 := Scalar.cmpi .sgt v583 c0_i32_231
  let v586 : BitVec 32 := Scalar.extui v585
  let c0_i32_232 : BitVec 32 := 0#32
  let v587 : BitVec 1 := Scalar.cmpi .slt v583 c0_i32_232
  let v588 : BitVec 32 := Scalar.extui v587
  let v589 : BitVec 32 := Scalar.subi v586 v588
  let c32_i32_230 : BitVec 32 := 32#32
  let c0_i32_233 : BitVec 32 := 0#32
  let v590 : BitVec 1 := Scalar.cmpi .sgt c32_i32_230 c0_i32_233
  let v591 : BitVec 32 := Scalar.extui v590
  let c0_i32_234 : BitVec 32 := 0#32
  let v592 : BitVec 1 := Scalar.cmpi .slt c32_i32_230 c0_i32_234
  let v593 : BitVec 32 := Scalar.extui v592
  let v594 : BitVec 32 := Scalar.subi v591 v593
  let v595 : BitVec 1 := Scalar.cmpi .ne v589 v594
  let v596 : BitVec 32 := Scalar.remsi v583 c32_i32_230
  let c0_i32_235 : BitVec 32 := 0#32
  let v597 : BitVec 1 := Scalar.cmpi .ne v596 c0_i32_235
  let v598 : BitVec 1 := Scalar.andi v595 v597
  let v584 : BitVec 32 := Scalar.divsi v583 c32_i32_230
  let c1_i32_236 : BitVec 32 := 1#32
  let v599 : BitVec 32 := Scalar.subi v584 c1_i32_236
  let v600 : BitVec 32 := Scalar.select v598 v599 v584
  let v608 : BitVec 32 := Scalar.subi v600 c0_i32_242
  let c1_i32_243 : BitVec 32 := 1#32
  let v610 : BitVec 32 := Scalar.divsi v608 c1_i32_243
  let v611 : BitVec 32 := Scalar.muli v610 c1_i32_243
  let v612 : BitVec 32 := Scalar.addi c0_i32_242 v611
  let c1_i32_245 : BitVec 32 := 1#32
  let arg14 : BitVec 32 := Scf.iv v612 c1_i32_245 k0_t58
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v579 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v581 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t60
  let v1303 : Index := Scalar.indexCast arg16
  let c0_i32_499 : BitVec 32 := 0#32
  let v1304 : Index := Scalar.indexCast c0_i32_499
  let c496 : Index := 496#32
  ![v1303.toNat, 0, 496]
def k0_off1421 : Fin 3 → Nat :=
  let c0_i32_370 : BitVec 32 := 0#32
  let c32_i32_371 : BitVec 32 := 32#32
  let v910 : BitVec 32 := Scalar.muli c0_i32_370 c32_i32_371
  let c0_i32_373 : BitVec 32 := 0#32
  let c0_i32_374 : BitVec 32 := 0#32
  ![v910.toNat, 0, 0]
def k0_off1422 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c0_i32_368 : BitVec 32 := 0#32
  let c32_i32_369 : BitVec 32 := 32#32
  let v907 : BitVec 32 := Scalar.muli c0_i32_368 c32_i32_369
  let v908 : BitVec 32 := Scalar.addi v626 v907
  let c2016_i32 : BitVec 32 := 2016#32
  let v909 : BitVec 32 := Scalar.minsi v908 c2016_i32
  let c10_i32 : BitVec 32 := 10#32
  let c0_i32_375 : BitVec 32 := 0#32
  ![v909.toNat, 10, 0]
def k0_cond41 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let c0_i32_257 : BitVec 32 := 0#32
  let v648 : BitVec 1 := Scalar.cmpi .sgt v647 c0_i32_257
  let v649 : BitVec 32 := Scalar.extui v648
  let c0_i32_258 : BitVec 32 := 0#32
  let v650 : BitVec 1 := Scalar.cmpi .ne v649 c0_i32_258
  v650

def k0_off1423 : Fin 3 → Nat :=
  let c1_i32_370 : BitVec 32 := 1#32
  let c32_i32_371 : BitVec 32 := 32#32
  let v910 : BitVec 32 := Scalar.muli c1_i32_370 c32_i32_371
  let c0_i32_373 : BitVec 32 := 0#32
  let c0_i32_374 : BitVec 32 := 0#32
  ![v910.toNat, 0, 0]
def k0_off1424 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c1_i32_368 : BitVec 32 := 1#32
  let c32_i32_369 : BitVec 32 := 32#32
  let v907 : BitVec 32 := Scalar.muli c1_i32_368 c32_i32_369
  let v908 : BitVec 32 := Scalar.addi v626 v907
  let c2016_i32 : BitVec 32 := 2016#32
  let v909 : BitVec 32 := Scalar.minsi v908 c2016_i32
  let c10_i32 : BitVec 32 := 10#32
  let c0_i32_375 : BitVec 32 := 0#32
  ![v909.toNat, 10, 0]
def k0_cond42 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let c1_i32_259 : BitVec 32 := 1#32
  let v651 : BitVec 1 := Scalar.cmpi .sgt v647 c1_i32_259
  let v652 : BitVec 32 := Scalar.extui v651
  let c0_i32_260 : BitVec 32 := 0#32
  let v653 : BitVec 1 := Scalar.cmpi .ne v652 c0_i32_260
  v653

@[reducible] def k0_t61_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_264 : BitVec 32 := 1#32
  ⟨c0_i32_262, v659, c1_i32_264⟩
def k0_off1425 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) : Fin 3 → Nat :=
  let c0_i32_262 : BitVec 32 := 0#32
  let c1_i32_264 : BitVec 32 := 1#32
  let arg14 : BitVec 32 := Scf.iv c0_i32_262 c1_i32_264 k0_t61
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond43 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) : BitVec 1 :=
  let c0_i32_262 : BitVec 32 := 0#32
  let c1_i32_264 : BitVec 32 := 1#32
  let arg14 : BitVec 32 := Scf.iv c0_i32_262 c1_i32_264 k0_t61
  let c2_i32_376 : BitVec 32 := 2#32
  let v927 : BitVec 32 := Scalar.addi arg14 c2_i32_376
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v908 : BitVec 32 := Scalar.subi v628 v626
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off1426 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) : Fin 3 → Nat :=
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c0_i32_262 : BitVec 32 := 0#32
  let c1_i32_264 : BitVec 32 := 1#32
  let arg14 : BitVec 32 := Scf.iv c0_i32_262 c1_i32_264 k0_t61
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v626 v965
  let c2016_i32_409 : BitVec 32 := 2016#32
  let v967 : BitVec 32 := Scalar.minsi v966 c2016_i32_409
  let c10_i32_413 : BitVec 32 := 10#32
  let c0_i32_414 : BitVec 32 := 0#32
  ![v967.toNat, 10, 0]
def k0_off1427 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) : Fin 1 → Nat :=
  let c0_i32_262 : BitVec 32 := 0#32
  let c1_i32_264 : BitVec 32 := 1#32
  let arg14 : BitVec 32 := Scf.iv c0_i32_262 c1_i32_264 k0_t61
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off1428 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off1429 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) : Fin 1 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  ![v907.toNat]
@[reducible] def k0_t62_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) : Scf.Loop 32 :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off1430 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v962 : Index := Scalar.indexCast arg16
  let c0_i32_405 : BitVec 32 := 0#32
  let v963 : Index := Scalar.indexCast c0_i32_405
  let c0_406 : Index := 0#32
  ![v962.toNat, 0, 0]
def k0_off1431 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v973 : Index := Scalar.indexCast arg16
  let c0_i32_409 : BitVec 32 := 0#32
  let v974 : Index := Scalar.indexCast c0_i32_409
  let c16 : Index := 16#32
  ![v973.toNat, 0, 16]
def k0_off1432 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v984 : Index := Scalar.indexCast arg16
  let c0_i32_412 : BitVec 32 := 0#32
  let v985 : Index := Scalar.indexCast c0_i32_412
  let c32 : Index := 32#32
  ![v984.toNat, 0, 32]
def k0_off1433 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v995 : Index := Scalar.indexCast arg16
  let c0_i32_415 : BitVec 32 := 0#32
  let v996 : Index := Scalar.indexCast c0_i32_415
  let c48 : Index := 48#32
  ![v995.toNat, 0, 48]
def k0_off1434 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1006 : Index := Scalar.indexCast arg16
  let c0_i32_418 : BitVec 32 := 0#32
  let v1007 : Index := Scalar.indexCast c0_i32_418
  let c64 : Index := 64#32
  ![v1006.toNat, 0, 64]
def k0_off1435 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1017 : Index := Scalar.indexCast arg16
  let c0_i32_421 : BitVec 32 := 0#32
  let v1018 : Index := Scalar.indexCast c0_i32_421
  let c80 : Index := 80#32
  ![v1017.toNat, 0, 80]
def k0_off1436 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1028 : Index := Scalar.indexCast arg16
  let c0_i32_424 : BitVec 32 := 0#32
  let v1029 : Index := Scalar.indexCast c0_i32_424
  let c96 : Index := 96#32
  ![v1028.toNat, 0, 96]
def k0_off1437 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1039 : Index := Scalar.indexCast arg16
  let c0_i32_427 : BitVec 32 := 0#32
  let v1040 : Index := Scalar.indexCast c0_i32_427
  let c112 : Index := 112#32
  ![v1039.toNat, 0, 112]
def k0_off1438 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1050 : Index := Scalar.indexCast arg16
  let c0_i32_430 : BitVec 32 := 0#32
  let v1051 : Index := Scalar.indexCast c0_i32_430
  let c128 : Index := 128#32
  ![v1050.toNat, 0, 128]
def k0_off1439 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1061 : Index := Scalar.indexCast arg16
  let c0_i32_433 : BitVec 32 := 0#32
  let v1062 : Index := Scalar.indexCast c0_i32_433
  let c144 : Index := 144#32
  ![v1061.toNat, 0, 144]
def k0_off1440 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1072 : Index := Scalar.indexCast arg16
  let c0_i32_436 : BitVec 32 := 0#32
  let v1073 : Index := Scalar.indexCast c0_i32_436
  let c160 : Index := 160#32
  ![v1072.toNat, 0, 160]
def k0_off1441 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1083 : Index := Scalar.indexCast arg16
  let c0_i32_439 : BitVec 32 := 0#32
  let v1084 : Index := Scalar.indexCast c0_i32_439
  let c176 : Index := 176#32
  ![v1083.toNat, 0, 176]
def k0_off1442 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1094 : Index := Scalar.indexCast arg16
  let c0_i32_442 : BitVec 32 := 0#32
  let v1095 : Index := Scalar.indexCast c0_i32_442
  let c192 : Index := 192#32
  ![v1094.toNat, 0, 192]
def k0_off1443 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1105 : Index := Scalar.indexCast arg16
  let c0_i32_445 : BitVec 32 := 0#32
  let v1106 : Index := Scalar.indexCast c0_i32_445
  let c208 : Index := 208#32
  ![v1105.toNat, 0, 208]
def k0_off1444 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1116 : Index := Scalar.indexCast arg16
  let c0_i32_448 : BitVec 32 := 0#32
  let v1117 : Index := Scalar.indexCast c0_i32_448
  let c224 : Index := 224#32
  ![v1116.toNat, 0, 224]
def k0_off1445 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1127 : Index := Scalar.indexCast arg16
  let c0_i32_451 : BitVec 32 := 0#32
  let v1128 : Index := Scalar.indexCast c0_i32_451
  let c240 : Index := 240#32
  ![v1127.toNat, 0, 240]
def k0_off1446 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1138 : Index := Scalar.indexCast arg16
  let c0_i32_454 : BitVec 32 := 0#32
  let v1139 : Index := Scalar.indexCast c0_i32_454
  let c256 : Index := 256#32
  ![v1138.toNat, 0, 256]
def k0_off1447 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1149 : Index := Scalar.indexCast arg16
  let c0_i32_457 : BitVec 32 := 0#32
  let v1150 : Index := Scalar.indexCast c0_i32_457
  let c272 : Index := 272#32
  ![v1149.toNat, 0, 272]
def k0_off1448 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1160 : Index := Scalar.indexCast arg16
  let c0_i32_460 : BitVec 32 := 0#32
  let v1161 : Index := Scalar.indexCast c0_i32_460
  let c288 : Index := 288#32
  ![v1160.toNat, 0, 288]
def k0_off1449 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1171 : Index := Scalar.indexCast arg16
  let c0_i32_463 : BitVec 32 := 0#32
  let v1172 : Index := Scalar.indexCast c0_i32_463
  let c304 : Index := 304#32
  ![v1171.toNat, 0, 304]
def k0_off1450 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1182 : Index := Scalar.indexCast arg16
  let c0_i32_466 : BitVec 32 := 0#32
  let v1183 : Index := Scalar.indexCast c0_i32_466
  let c320 : Index := 320#32
  ![v1182.toNat, 0, 320]
def k0_off1451 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1193 : Index := Scalar.indexCast arg16
  let c0_i32_469 : BitVec 32 := 0#32
  let v1194 : Index := Scalar.indexCast c0_i32_469
  let c336 : Index := 336#32
  ![v1193.toNat, 0, 336]
def k0_off1452 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1204 : Index := Scalar.indexCast arg16
  let c0_i32_472 : BitVec 32 := 0#32
  let v1205 : Index := Scalar.indexCast c0_i32_472
  let c352 : Index := 352#32
  ![v1204.toNat, 0, 352]
def k0_off1453 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1215 : Index := Scalar.indexCast arg16
  let c0_i32_475 : BitVec 32 := 0#32
  let v1216 : Index := Scalar.indexCast c0_i32_475
  let c368 : Index := 368#32
  ![v1215.toNat, 0, 368]
def k0_off1454 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1226 : Index := Scalar.indexCast arg16
  let c0_i32_478 : BitVec 32 := 0#32
  let v1227 : Index := Scalar.indexCast c0_i32_478
  let c384 : Index := 384#32
  ![v1226.toNat, 0, 384]
def k0_off1455 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1237 : Index := Scalar.indexCast arg16
  let c0_i32_481 : BitVec 32 := 0#32
  let v1238 : Index := Scalar.indexCast c0_i32_481
  let c400 : Index := 400#32
  ![v1237.toNat, 0, 400]
def k0_off1456 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1248 : Index := Scalar.indexCast arg16
  let c0_i32_484 : BitVec 32 := 0#32
  let v1249 : Index := Scalar.indexCast c0_i32_484
  let c416 : Index := 416#32
  ![v1248.toNat, 0, 416]
def k0_off1457 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1259 : Index := Scalar.indexCast arg16
  let c0_i32_487 : BitVec 32 := 0#32
  let v1260 : Index := Scalar.indexCast c0_i32_487
  let c432 : Index := 432#32
  ![v1259.toNat, 0, 432]
def k0_off1458 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1270 : Index := Scalar.indexCast arg16
  let c0_i32_490 : BitVec 32 := 0#32
  let v1271 : Index := Scalar.indexCast c0_i32_490
  let c448 : Index := 448#32
  ![v1270.toNat, 0, 448]
def k0_off1459 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1281 : Index := Scalar.indexCast arg16
  let c0_i32_493 : BitVec 32 := 0#32
  let v1282 : Index := Scalar.indexCast c0_i32_493
  let c464 : Index := 464#32
  ![v1281.toNat, 0, 464]
def k0_off1460 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1292 : Index := Scalar.indexCast arg16
  let c0_i32_496 : BitVec 32 := 0#32
  let v1293 : Index := Scalar.indexCast c0_i32_496
  let c480 : Index := 480#32
  ![v1292.toNat, 0, 480]
def k0_off1461 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t62
  let v1303 : Index := Scalar.indexCast arg16
  let c0_i32_499 : BitVec 32 := 0#32
  let v1304 : Index := Scalar.indexCast c0_i32_499
  let c496 : Index := 496#32
  ![v1303.toNat, 0, 496]
@[reducible] def k0_t63_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) : Scf.Loop 32 :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off1462 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v962 : Index := Scalar.indexCast arg16
  let c0_i32_405 : BitVec 32 := 0#32
  let v963 : Index := Scalar.indexCast c0_i32_405
  let c0_406 : Index := 0#32
  ![v962.toNat, 0, 0]
def k0_off1463 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v973 : Index := Scalar.indexCast arg16
  let c0_i32_409 : BitVec 32 := 0#32
  let v974 : Index := Scalar.indexCast c0_i32_409
  let c16 : Index := 16#32
  ![v973.toNat, 0, 16]
def k0_off1464 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v984 : Index := Scalar.indexCast arg16
  let c0_i32_412 : BitVec 32 := 0#32
  let v985 : Index := Scalar.indexCast c0_i32_412
  let c32 : Index := 32#32
  ![v984.toNat, 0, 32]
def k0_off1465 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v995 : Index := Scalar.indexCast arg16
  let c0_i32_415 : BitVec 32 := 0#32
  let v996 : Index := Scalar.indexCast c0_i32_415
  let c48 : Index := 48#32
  ![v995.toNat, 0, 48]
def k0_off1466 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1006 : Index := Scalar.indexCast arg16
  let c0_i32_418 : BitVec 32 := 0#32
  let v1007 : Index := Scalar.indexCast c0_i32_418
  let c64 : Index := 64#32
  ![v1006.toNat, 0, 64]
def k0_off1467 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1017 : Index := Scalar.indexCast arg16
  let c0_i32_421 : BitVec 32 := 0#32
  let v1018 : Index := Scalar.indexCast c0_i32_421
  let c80 : Index := 80#32
  ![v1017.toNat, 0, 80]
def k0_off1468 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1028 : Index := Scalar.indexCast arg16
  let c0_i32_424 : BitVec 32 := 0#32
  let v1029 : Index := Scalar.indexCast c0_i32_424
  let c96 : Index := 96#32
  ![v1028.toNat, 0, 96]
def k0_off1469 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1039 : Index := Scalar.indexCast arg16
  let c0_i32_427 : BitVec 32 := 0#32
  let v1040 : Index := Scalar.indexCast c0_i32_427
  let c112 : Index := 112#32
  ![v1039.toNat, 0, 112]
def k0_off1470 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1050 : Index := Scalar.indexCast arg16
  let c0_i32_430 : BitVec 32 := 0#32
  let v1051 : Index := Scalar.indexCast c0_i32_430
  let c128 : Index := 128#32
  ![v1050.toNat, 0, 128]
def k0_off1471 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1061 : Index := Scalar.indexCast arg16
  let c0_i32_433 : BitVec 32 := 0#32
  let v1062 : Index := Scalar.indexCast c0_i32_433
  let c144 : Index := 144#32
  ![v1061.toNat, 0, 144]
def k0_off1472 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1072 : Index := Scalar.indexCast arg16
  let c0_i32_436 : BitVec 32 := 0#32
  let v1073 : Index := Scalar.indexCast c0_i32_436
  let c160 : Index := 160#32
  ![v1072.toNat, 0, 160]
def k0_off1473 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1083 : Index := Scalar.indexCast arg16
  let c0_i32_439 : BitVec 32 := 0#32
  let v1084 : Index := Scalar.indexCast c0_i32_439
  let c176 : Index := 176#32
  ![v1083.toNat, 0, 176]
def k0_off1474 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1094 : Index := Scalar.indexCast arg16
  let c0_i32_442 : BitVec 32 := 0#32
  let v1095 : Index := Scalar.indexCast c0_i32_442
  let c192 : Index := 192#32
  ![v1094.toNat, 0, 192]
def k0_off1475 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1105 : Index := Scalar.indexCast arg16
  let c0_i32_445 : BitVec 32 := 0#32
  let v1106 : Index := Scalar.indexCast c0_i32_445
  let c208 : Index := 208#32
  ![v1105.toNat, 0, 208]
def k0_off1476 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1116 : Index := Scalar.indexCast arg16
  let c0_i32_448 : BitVec 32 := 0#32
  let v1117 : Index := Scalar.indexCast c0_i32_448
  let c224 : Index := 224#32
  ![v1116.toNat, 0, 224]
def k0_off1477 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1127 : Index := Scalar.indexCast arg16
  let c0_i32_451 : BitVec 32 := 0#32
  let v1128 : Index := Scalar.indexCast c0_i32_451
  let c240 : Index := 240#32
  ![v1127.toNat, 0, 240]
def k0_off1478 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1138 : Index := Scalar.indexCast arg16
  let c0_i32_454 : BitVec 32 := 0#32
  let v1139 : Index := Scalar.indexCast c0_i32_454
  let c256 : Index := 256#32
  ![v1138.toNat, 0, 256]
def k0_off1479 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1149 : Index := Scalar.indexCast arg16
  let c0_i32_457 : BitVec 32 := 0#32
  let v1150 : Index := Scalar.indexCast c0_i32_457
  let c272 : Index := 272#32
  ![v1149.toNat, 0, 272]
def k0_off1480 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1160 : Index := Scalar.indexCast arg16
  let c0_i32_460 : BitVec 32 := 0#32
  let v1161 : Index := Scalar.indexCast c0_i32_460
  let c288 : Index := 288#32
  ![v1160.toNat, 0, 288]
def k0_off1481 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1171 : Index := Scalar.indexCast arg16
  let c0_i32_463 : BitVec 32 := 0#32
  let v1172 : Index := Scalar.indexCast c0_i32_463
  let c304 : Index := 304#32
  ![v1171.toNat, 0, 304]
def k0_off1482 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1182 : Index := Scalar.indexCast arg16
  let c0_i32_466 : BitVec 32 := 0#32
  let v1183 : Index := Scalar.indexCast c0_i32_466
  let c320 : Index := 320#32
  ![v1182.toNat, 0, 320]
def k0_off1483 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1193 : Index := Scalar.indexCast arg16
  let c0_i32_469 : BitVec 32 := 0#32
  let v1194 : Index := Scalar.indexCast c0_i32_469
  let c336 : Index := 336#32
  ![v1193.toNat, 0, 336]
def k0_off1484 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1204 : Index := Scalar.indexCast arg16
  let c0_i32_472 : BitVec 32 := 0#32
  let v1205 : Index := Scalar.indexCast c0_i32_472
  let c352 : Index := 352#32
  ![v1204.toNat, 0, 352]
def k0_off1485 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1215 : Index := Scalar.indexCast arg16
  let c0_i32_475 : BitVec 32 := 0#32
  let v1216 : Index := Scalar.indexCast c0_i32_475
  let c368 : Index := 368#32
  ![v1215.toNat, 0, 368]
def k0_off1486 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1226 : Index := Scalar.indexCast arg16
  let c0_i32_478 : BitVec 32 := 0#32
  let v1227 : Index := Scalar.indexCast c0_i32_478
  let c384 : Index := 384#32
  ![v1226.toNat, 0, 384]
def k0_off1487 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1237 : Index := Scalar.indexCast arg16
  let c0_i32_481 : BitVec 32 := 0#32
  let v1238 : Index := Scalar.indexCast c0_i32_481
  let c400 : Index := 400#32
  ![v1237.toNat, 0, 400]
def k0_off1488 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1248 : Index := Scalar.indexCast arg16
  let c0_i32_484 : BitVec 32 := 0#32
  let v1249 : Index := Scalar.indexCast c0_i32_484
  let c416 : Index := 416#32
  ![v1248.toNat, 0, 416]
def k0_off1489 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1259 : Index := Scalar.indexCast arg16
  let c0_i32_487 : BitVec 32 := 0#32
  let v1260 : Index := Scalar.indexCast c0_i32_487
  let c432 : Index := 432#32
  ![v1259.toNat, 0, 432]
def k0_off1490 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1270 : Index := Scalar.indexCast arg16
  let c0_i32_490 : BitVec 32 := 0#32
  let v1271 : Index := Scalar.indexCast c0_i32_490
  let c448 : Index := 448#32
  ![v1270.toNat, 0, 448]
def k0_off1491 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1281 : Index := Scalar.indexCast arg16
  let c0_i32_493 : BitVec 32 := 0#32
  let v1282 : Index := Scalar.indexCast c0_i32_493
  let c464 : Index := 464#32
  ![v1281.toNat, 0, 464]
def k0_off1492 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1292 : Index := Scalar.indexCast arg16
  let c0_i32_496 : BitVec 32 := 0#32
  let v1293 : Index := Scalar.indexCast c0_i32_496
  let c480 : Index := 480#32
  ![v1292.toNat, 0, 480]
def k0_off1493 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips) : Fin 3 → Nat :=
  let c0_i32_262 : BitVec 32 := 0#32
  let c1_i32_264 : BitVec 32 := 1#32
  let arg14 : BitVec 32 := Scf.iv c0_i32_262 c1_i32_264 k0_t61
  let c3_i32 : BitVec 32 := 3#32
  let v907 : BitVec 32 := Scalar.remsi arg14 c3_i32
  let c32_i32_400 : BitVec 32 := 32#32
  let v948 : BitVec 32 := Scalar.muli v907 c32_i32_400
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t63
  let v1303 : Index := Scalar.indexCast arg16
  let c0_i32_499 : BitVec 32 := 0#32
  let v1304 : Index := Scalar.indexCast c0_i32_499
  let c496 : Index := 496#32
  ![v1303.toNat, 0, 496]
@[reducible] def k0_t64_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let v656 : BitVec 32 := Scalar.addi c0_i32_262 v655
  let c1_i32_265 : BitVec 32 := 1#32
  ⟨v659, v656, c1_i32_265⟩
def k0_off1494 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond44 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) : BitVec 1 :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c2_i32_376 : BitVec 32 := 2#32
  let v927 : BitVec 32 := Scalar.addi arg14 c2_i32_376
  let v908 : BitVec 32 := Scalar.subi v628 v626
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off1495 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) : Fin 3 → Nat :=
  let c1024_i32_247 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let c0_i32_262 : BitVec 32 := 0#32
  let c1024_i32_248 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v626 v965
  let c2016_i32_409 : BitVec 32 := 2016#32
  let v967 : BitVec 32 := Scalar.minsi v966 c2016_i32_409
  let c10_i32_413 : BitVec 32 := 10#32
  let c0_i32_414 : BitVec 32 := 0#32
  ![v967.toNat, 10, 0]
def k0_off1496 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) : Fin 1 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off1497 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off1498 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) : Fin 1 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  ![v907.toNat]
@[reducible] def k0_t65_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) : Scf.Loop 32 :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off1499 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v962 : Index := Scalar.indexCast arg16
  let c0_i32_405 : BitVec 32 := 0#32
  let v963 : Index := Scalar.indexCast c0_i32_405
  let c0_406 : Index := 0#32
  ![v962.toNat, 0, 0]
def k0_off1500 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v973 : Index := Scalar.indexCast arg16
  let c0_i32_409 : BitVec 32 := 0#32
  let v974 : Index := Scalar.indexCast c0_i32_409
  let c16 : Index := 16#32
  ![v973.toNat, 0, 16]
def k0_off1501 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v984 : Index := Scalar.indexCast arg16
  let c0_i32_412 : BitVec 32 := 0#32
  let v985 : Index := Scalar.indexCast c0_i32_412
  let c32 : Index := 32#32
  ![v984.toNat, 0, 32]
def k0_off1502 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v995 : Index := Scalar.indexCast arg16
  let c0_i32_415 : BitVec 32 := 0#32
  let v996 : Index := Scalar.indexCast c0_i32_415
  let c48 : Index := 48#32
  ![v995.toNat, 0, 48]
def k0_off1503 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1006 : Index := Scalar.indexCast arg16
  let c0_i32_418 : BitVec 32 := 0#32
  let v1007 : Index := Scalar.indexCast c0_i32_418
  let c64 : Index := 64#32
  ![v1006.toNat, 0, 64]
def k0_off1504 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1017 : Index := Scalar.indexCast arg16
  let c0_i32_421 : BitVec 32 := 0#32
  let v1018 : Index := Scalar.indexCast c0_i32_421
  let c80 : Index := 80#32
  ![v1017.toNat, 0, 80]
def k0_off1505 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1028 : Index := Scalar.indexCast arg16
  let c0_i32_424 : BitVec 32 := 0#32
  let v1029 : Index := Scalar.indexCast c0_i32_424
  let c96 : Index := 96#32
  ![v1028.toNat, 0, 96]
def k0_off1506 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1039 : Index := Scalar.indexCast arg16
  let c0_i32_427 : BitVec 32 := 0#32
  let v1040 : Index := Scalar.indexCast c0_i32_427
  let c112 : Index := 112#32
  ![v1039.toNat, 0, 112]
def k0_off1507 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1050 : Index := Scalar.indexCast arg16
  let c0_i32_430 : BitVec 32 := 0#32
  let v1051 : Index := Scalar.indexCast c0_i32_430
  let c128 : Index := 128#32
  ![v1050.toNat, 0, 128]
def k0_off1508 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1061 : Index := Scalar.indexCast arg16
  let c0_i32_433 : BitVec 32 := 0#32
  let v1062 : Index := Scalar.indexCast c0_i32_433
  let c144 : Index := 144#32
  ![v1061.toNat, 0, 144]
def k0_off1509 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1072 : Index := Scalar.indexCast arg16
  let c0_i32_436 : BitVec 32 := 0#32
  let v1073 : Index := Scalar.indexCast c0_i32_436
  let c160 : Index := 160#32
  ![v1072.toNat, 0, 160]
def k0_off1510 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1083 : Index := Scalar.indexCast arg16
  let c0_i32_439 : BitVec 32 := 0#32
  let v1084 : Index := Scalar.indexCast c0_i32_439
  let c176 : Index := 176#32
  ![v1083.toNat, 0, 176]
def k0_off1511 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1094 : Index := Scalar.indexCast arg16
  let c0_i32_442 : BitVec 32 := 0#32
  let v1095 : Index := Scalar.indexCast c0_i32_442
  let c192 : Index := 192#32
  ![v1094.toNat, 0, 192]
def k0_off1512 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1105 : Index := Scalar.indexCast arg16
  let c0_i32_445 : BitVec 32 := 0#32
  let v1106 : Index := Scalar.indexCast c0_i32_445
  let c208 : Index := 208#32
  ![v1105.toNat, 0, 208]
def k0_off1513 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1116 : Index := Scalar.indexCast arg16
  let c0_i32_448 : BitVec 32 := 0#32
  let v1117 : Index := Scalar.indexCast c0_i32_448
  let c224 : Index := 224#32
  ![v1116.toNat, 0, 224]
def k0_off1514 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1127 : Index := Scalar.indexCast arg16
  let c0_i32_451 : BitVec 32 := 0#32
  let v1128 : Index := Scalar.indexCast c0_i32_451
  let c240 : Index := 240#32
  ![v1127.toNat, 0, 240]
def k0_off1515 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1138 : Index := Scalar.indexCast arg16
  let c0_i32_454 : BitVec 32 := 0#32
  let v1139 : Index := Scalar.indexCast c0_i32_454
  let c256 : Index := 256#32
  ![v1138.toNat, 0, 256]
def k0_off1516 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1149 : Index := Scalar.indexCast arg16
  let c0_i32_457 : BitVec 32 := 0#32
  let v1150 : Index := Scalar.indexCast c0_i32_457
  let c272 : Index := 272#32
  ![v1149.toNat, 0, 272]
def k0_off1517 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1160 : Index := Scalar.indexCast arg16
  let c0_i32_460 : BitVec 32 := 0#32
  let v1161 : Index := Scalar.indexCast c0_i32_460
  let c288 : Index := 288#32
  ![v1160.toNat, 0, 288]
def k0_off1518 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1171 : Index := Scalar.indexCast arg16
  let c0_i32_463 : BitVec 32 := 0#32
  let v1172 : Index := Scalar.indexCast c0_i32_463
  let c304 : Index := 304#32
  ![v1171.toNat, 0, 304]
def k0_off1519 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1182 : Index := Scalar.indexCast arg16
  let c0_i32_466 : BitVec 32 := 0#32
  let v1183 : Index := Scalar.indexCast c0_i32_466
  let c320 : Index := 320#32
  ![v1182.toNat, 0, 320]
def k0_off1520 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1193 : Index := Scalar.indexCast arg16
  let c0_i32_469 : BitVec 32 := 0#32
  let v1194 : Index := Scalar.indexCast c0_i32_469
  let c336 : Index := 336#32
  ![v1193.toNat, 0, 336]
def k0_off1521 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1204 : Index := Scalar.indexCast arg16
  let c0_i32_472 : BitVec 32 := 0#32
  let v1205 : Index := Scalar.indexCast c0_i32_472
  let c352 : Index := 352#32
  ![v1204.toNat, 0, 352]
def k0_off1522 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1215 : Index := Scalar.indexCast arg16
  let c0_i32_475 : BitVec 32 := 0#32
  let v1216 : Index := Scalar.indexCast c0_i32_475
  let c368 : Index := 368#32
  ![v1215.toNat, 0, 368]
def k0_off1523 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1226 : Index := Scalar.indexCast arg16
  let c0_i32_478 : BitVec 32 := 0#32
  let v1227 : Index := Scalar.indexCast c0_i32_478
  let c384 : Index := 384#32
  ![v1226.toNat, 0, 384]
def k0_off1524 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1237 : Index := Scalar.indexCast arg16
  let c0_i32_481 : BitVec 32 := 0#32
  let v1238 : Index := Scalar.indexCast c0_i32_481
  let c400 : Index := 400#32
  ![v1237.toNat, 0, 400]
def k0_off1525 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1248 : Index := Scalar.indexCast arg16
  let c0_i32_484 : BitVec 32 := 0#32
  let v1249 : Index := Scalar.indexCast c0_i32_484
  let c416 : Index := 416#32
  ![v1248.toNat, 0, 416]
def k0_off1526 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1259 : Index := Scalar.indexCast arg16
  let c0_i32_487 : BitVec 32 := 0#32
  let v1260 : Index := Scalar.indexCast c0_i32_487
  let c432 : Index := 432#32
  ![v1259.toNat, 0, 432]
def k0_off1527 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1270 : Index := Scalar.indexCast arg16
  let c0_i32_490 : BitVec 32 := 0#32
  let v1271 : Index := Scalar.indexCast c0_i32_490
  let c448 : Index := 448#32
  ![v1270.toNat, 0, 448]
def k0_off1528 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1281 : Index := Scalar.indexCast arg16
  let c0_i32_493 : BitVec 32 := 0#32
  let v1282 : Index := Scalar.indexCast c0_i32_493
  let c464 : Index := 464#32
  ![v1281.toNat, 0, 464]
def k0_off1529 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1292 : Index := Scalar.indexCast arg16
  let c0_i32_496 : BitVec 32 := 0#32
  let v1293 : Index := Scalar.indexCast c0_i32_496
  let c480 : Index := 480#32
  ![v1292.toNat, 0, 480]
def k0_off1530 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t65
  let v1303 : Index := Scalar.indexCast arg16
  let c0_i32_499 : BitVec 32 := 0#32
  let v1304 : Index := Scalar.indexCast c0_i32_499
  let c496 : Index := 496#32
  ![v1303.toNat, 0, 496]
@[reducible] def k0_t66_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) : Scf.Loop 32 :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off1531 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v962 : Index := Scalar.indexCast arg16
  let c0_i32_405 : BitVec 32 := 0#32
  let v963 : Index := Scalar.indexCast c0_i32_405
  let c0_406 : Index := 0#32
  ![v962.toNat, 0, 0]
def k0_off1532 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v973 : Index := Scalar.indexCast arg16
  let c0_i32_409 : BitVec 32 := 0#32
  let v974 : Index := Scalar.indexCast c0_i32_409
  let c16 : Index := 16#32
  ![v973.toNat, 0, 16]
def k0_off1533 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v984 : Index := Scalar.indexCast arg16
  let c0_i32_412 : BitVec 32 := 0#32
  let v985 : Index := Scalar.indexCast c0_i32_412
  let c32 : Index := 32#32
  ![v984.toNat, 0, 32]
def k0_off1534 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v995 : Index := Scalar.indexCast arg16
  let c0_i32_415 : BitVec 32 := 0#32
  let v996 : Index := Scalar.indexCast c0_i32_415
  let c48 : Index := 48#32
  ![v995.toNat, 0, 48]
def k0_off1535 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1006 : Index := Scalar.indexCast arg16
  let c0_i32_418 : BitVec 32 := 0#32
  let v1007 : Index := Scalar.indexCast c0_i32_418
  let c64 : Index := 64#32
  ![v1006.toNat, 0, 64]
def k0_off1536 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1017 : Index := Scalar.indexCast arg16
  let c0_i32_421 : BitVec 32 := 0#32
  let v1018 : Index := Scalar.indexCast c0_i32_421
  let c80 : Index := 80#32
  ![v1017.toNat, 0, 80]
def k0_off1537 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1028 : Index := Scalar.indexCast arg16
  let c0_i32_424 : BitVec 32 := 0#32
  let v1029 : Index := Scalar.indexCast c0_i32_424
  let c96 : Index := 96#32
  ![v1028.toNat, 0, 96]
def k0_off1538 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1039 : Index := Scalar.indexCast arg16
  let c0_i32_427 : BitVec 32 := 0#32
  let v1040 : Index := Scalar.indexCast c0_i32_427
  let c112 : Index := 112#32
  ![v1039.toNat, 0, 112]
def k0_off1539 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1050 : Index := Scalar.indexCast arg16
  let c0_i32_430 : BitVec 32 := 0#32
  let v1051 : Index := Scalar.indexCast c0_i32_430
  let c128 : Index := 128#32
  ![v1050.toNat, 0, 128]
def k0_off1540 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1061 : Index := Scalar.indexCast arg16
  let c0_i32_433 : BitVec 32 := 0#32
  let v1062 : Index := Scalar.indexCast c0_i32_433
  let c144 : Index := 144#32
  ![v1061.toNat, 0, 144]
def k0_off1541 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1072 : Index := Scalar.indexCast arg16
  let c0_i32_436 : BitVec 32 := 0#32
  let v1073 : Index := Scalar.indexCast c0_i32_436
  let c160 : Index := 160#32
  ![v1072.toNat, 0, 160]
def k0_off1542 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1083 : Index := Scalar.indexCast arg16
  let c0_i32_439 : BitVec 32 := 0#32
  let v1084 : Index := Scalar.indexCast c0_i32_439
  let c176 : Index := 176#32
  ![v1083.toNat, 0, 176]
def k0_off1543 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1094 : Index := Scalar.indexCast arg16
  let c0_i32_442 : BitVec 32 := 0#32
  let v1095 : Index := Scalar.indexCast c0_i32_442
  let c192 : Index := 192#32
  ![v1094.toNat, 0, 192]

variable {F : FTy → Type} [FloatOps F]

def k0_off1544 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1105 : Index := Scalar.indexCast arg16
  let c0_i32_445 : BitVec 32 := 0#32
  let v1106 : Index := Scalar.indexCast c0_i32_445
  let c208 : Index := 208#32
  ![v1105.toNat, 0, 208]
def k0_off1545 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1116 : Index := Scalar.indexCast arg16
  let c0_i32_448 : BitVec 32 := 0#32
  let v1117 : Index := Scalar.indexCast c0_i32_448
  let c224 : Index := 224#32
  ![v1116.toNat, 0, 224]
def k0_off1546 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1127 : Index := Scalar.indexCast arg16
  let c0_i32_451 : BitVec 32 := 0#32
  let v1128 : Index := Scalar.indexCast c0_i32_451
  let c240 : Index := 240#32
  ![v1127.toNat, 0, 240]
def k0_off1547 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1138 : Index := Scalar.indexCast arg16
  let c0_i32_454 : BitVec 32 := 0#32
  let v1139 : Index := Scalar.indexCast c0_i32_454
  let c256 : Index := 256#32
  ![v1138.toNat, 0, 256]
def k0_off1548 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1149 : Index := Scalar.indexCast arg16
  let c0_i32_457 : BitVec 32 := 0#32
  let v1150 : Index := Scalar.indexCast c0_i32_457
  let c272 : Index := 272#32
  ![v1149.toNat, 0, 272]
def k0_off1549 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1160 : Index := Scalar.indexCast arg16
  let c0_i32_460 : BitVec 32 := 0#32
  let v1161 : Index := Scalar.indexCast c0_i32_460
  let c288 : Index := 288#32
  ![v1160.toNat, 0, 288]
def k0_off1550 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1171 : Index := Scalar.indexCast arg16
  let c0_i32_463 : BitVec 32 := 0#32
  let v1172 : Index := Scalar.indexCast c0_i32_463
  let c304 : Index := 304#32
  ![v1171.toNat, 0, 304]
def k0_off1551 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1182 : Index := Scalar.indexCast arg16
  let c0_i32_466 : BitVec 32 := 0#32
  let v1183 : Index := Scalar.indexCast c0_i32_466
  let c320 : Index := 320#32
  ![v1182.toNat, 0, 320]
def k0_off1552 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1193 : Index := Scalar.indexCast arg16
  let c0_i32_469 : BitVec 32 := 0#32
  let v1194 : Index := Scalar.indexCast c0_i32_469
  let c336 : Index := 336#32
  ![v1193.toNat, 0, 336]
def k0_off1553 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1204 : Index := Scalar.indexCast arg16
  let c0_i32_472 : BitVec 32 := 0#32
  let v1205 : Index := Scalar.indexCast c0_i32_472
  let c352 : Index := 352#32
  ![v1204.toNat, 0, 352]
def k0_off1554 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1215 : Index := Scalar.indexCast arg16
  let c0_i32_475 : BitVec 32 := 0#32
  let v1216 : Index := Scalar.indexCast c0_i32_475
  let c368 : Index := 368#32
  ![v1215.toNat, 0, 368]
def k0_off1555 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1226 : Index := Scalar.indexCast arg16
  let c0_i32_478 : BitVec 32 := 0#32
  let v1227 : Index := Scalar.indexCast c0_i32_478
  let c384 : Index := 384#32
  ![v1226.toNat, 0, 384]
def k0_off1556 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1237 : Index := Scalar.indexCast arg16
  let c0_i32_481 : BitVec 32 := 0#32
  let v1238 : Index := Scalar.indexCast c0_i32_481
  let c400 : Index := 400#32
  ![v1237.toNat, 0, 400]
def k0_off1557 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1248 : Index := Scalar.indexCast arg16
  let c0_i32_484 : BitVec 32 := 0#32
  let v1249 : Index := Scalar.indexCast c0_i32_484
  let c416 : Index := 416#32
  ![v1248.toNat, 0, 416]
def k0_off1558 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1259 : Index := Scalar.indexCast arg16
  let c0_i32_487 : BitVec 32 := 0#32
  let v1260 : Index := Scalar.indexCast c0_i32_487
  let c432 : Index := 432#32
  ![v1259.toNat, 0, 432]
def k0_off1559 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1270 : Index := Scalar.indexCast arg16
  let c0_i32_490 : BitVec 32 := 0#32
  let v1271 : Index := Scalar.indexCast c0_i32_490
  let c448 : Index := 448#32
  ![v1270.toNat, 0, 448]
def k0_off1560 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1281 : Index := Scalar.indexCast arg16
  let c0_i32_493 : BitVec 32 := 0#32
  let v1282 : Index := Scalar.indexCast c0_i32_493
  let c464 : Index := 464#32
  ![v1281.toNat, 0, 464]
def k0_off1561 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1292 : Index := Scalar.indexCast arg16
  let c0_i32_496 : BitVec 32 := 0#32
  let v1293 : Index := Scalar.indexCast c0_i32_496
  let c480 : Index := 480#32
  ![v1292.toNat, 0, 480]
def k0_off1562 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips) : Fin 3 → Nat :=
  let c0_i32_262 : BitVec 32 := 0#32
  let c1024_i32_248 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v623 : BitVec 32 := Scalar.addi v107 v87
  let v624 : BitVec 32 := Scalar.minsi v150 v623
  let v627 : BitVec 32 := Scalar.subi v624 v107
  let v628 : BitVec 32 := Scalar.addi c1024_i32_248 v627
  let c1024_i32_247 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v622 : BitVec 32 := Scalar.maxsi v131 v107
  let v625 : BitVec 32 := Scalar.subi v622 v107
  let v626 : BitVec 32 := Scalar.addi c1024_i32_247 v625
  let v629 : BitVec 32 := Scalar.subi v628 v626
  let c31_i32_249 : BitVec 32 := 31#32
  let v630 : BitVec 32 := Scalar.addi v629 c31_i32_249
  let c0_i32_251 : BitVec 32 := 0#32
  let v632 : BitVec 1 := Scalar.cmpi .sgt v630 c0_i32_251
  let v633 : BitVec 32 := Scalar.extui v632
  let c0_i32_252 : BitVec 32 := 0#32
  let v634 : BitVec 1 := Scalar.cmpi .slt v630 c0_i32_252
  let v635 : BitVec 32 := Scalar.extui v634
  let v636 : BitVec 32 := Scalar.subi v633 v635
  let c32_i32_250 : BitVec 32 := 32#32
  let c0_i32_253 : BitVec 32 := 0#32
  let v637 : BitVec 1 := Scalar.cmpi .sgt c32_i32_250 c0_i32_253
  let v638 : BitVec 32 := Scalar.extui v637
  let c0_i32_254 : BitVec 32 := 0#32
  let v639 : BitVec 1 := Scalar.cmpi .slt c32_i32_250 c0_i32_254
  let v640 : BitVec 32 := Scalar.extui v639
  let v641 : BitVec 32 := Scalar.subi v638 v640
  let v642 : BitVec 1 := Scalar.cmpi .ne v636 v641
  let v643 : BitVec 32 := Scalar.remsi v630 c32_i32_250
  let c0_i32_255 : BitVec 32 := 0#32
  let v644 : BitVec 1 := Scalar.cmpi .ne v643 c0_i32_255
  let v645 : BitVec 1 := Scalar.andi v642 v644
  let v631 : BitVec 32 := Scalar.divsi v630 c32_i32_250
  let c1_i32_256 : BitVec 32 := 1#32
  let v646 : BitVec 32 := Scalar.subi v631 c1_i32_256
  let v647 : BitVec 32 := Scalar.select v645 v646 v631
  let v655 : BitVec 32 := Scalar.subi v647 c0_i32_262
  let c1_i32_263 : BitVec 32 := 1#32
  let v657 : BitVec 32 := Scalar.divsi v655 c1_i32_263
  let v658 : BitVec 32 := Scalar.muli v657 c1_i32_263
  let v659 : BitVec 32 := Scalar.addi c0_i32_262 v658
  let c1_i32_265 : BitVec 32 := 1#32
  let arg14 : BitVec 32 := Scf.iv v659 c1_i32_265 k0_t64
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v626 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v628 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t66
  let v1303 : Index := Scalar.indexCast arg16
  let c0_i32_499 : BitVec 32 := 0#32
  let v1304 : Index := Scalar.indexCast c0_i32_499
  let c496 : Index := 496#32
  ![v1303.toNat, 0, 496]
def k0_off1563 : Fin 3 → Nat :=
  let c0_i32_370 : BitVec 32 := 0#32
  let c32_i32_371 : BitVec 32 := 32#32
  let v910 : BitVec 32 := Scalar.muli c0_i32_370 c32_i32_371
  let c0_i32_373 : BitVec 32 := 0#32
  let c0_i32_374 : BitVec 32 := 0#32
  ![v910.toNat, 0, 0]
def k0_off1564 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c0_i32_368 : BitVec 32 := 0#32
  let c32_i32_369 : BitVec 32 := 32#32
  let v907 : BitVec 32 := Scalar.muli c0_i32_368 c32_i32_369
  let v908 : BitVec 32 := Scalar.addi v673 v907
  let c2016_i32 : BitVec 32 := 2016#32
  let v909 : BitVec 32 := Scalar.minsi v908 c2016_i32
  let c11_i32 : BitVec 32 := 11#32
  let c0_i32_375 : BitVec 32 := 0#32
  ![v909.toNat, 11, 0]
def k0_cond45 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let c0_i32_277 : BitVec 32 := 0#32
  let v695 : BitVec 1 := Scalar.cmpi .sgt v694 c0_i32_277
  let v696 : BitVec 32 := Scalar.extui v695
  let c0_i32_278 : BitVec 32 := 0#32
  let v697 : BitVec 1 := Scalar.cmpi .ne v696 c0_i32_278
  v697

def k0_off1565 : Fin 3 → Nat :=
  let c1_i32_370 : BitVec 32 := 1#32
  let c32_i32_371 : BitVec 32 := 32#32
  let v910 : BitVec 32 := Scalar.muli c1_i32_370 c32_i32_371
  let c0_i32_373 : BitVec 32 := 0#32
  let c0_i32_374 : BitVec 32 := 0#32
  ![v910.toNat, 0, 0]
def k0_off1566 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c1_i32_368 : BitVec 32 := 1#32
  let c32_i32_369 : BitVec 32 := 32#32
  let v907 : BitVec 32 := Scalar.muli c1_i32_368 c32_i32_369
  let v908 : BitVec 32 := Scalar.addi v673 v907
  let c2016_i32 : BitVec 32 := 2016#32
  let v909 : BitVec 32 := Scalar.minsi v908 c2016_i32
  let c11_i32 : BitVec 32 := 11#32
  let c0_i32_375 : BitVec 32 := 0#32
  ![v909.toNat, 11, 0]
def k0_cond46 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let c1_i32_279 : BitVec 32 := 1#32
  let v698 : BitVec 1 := Scalar.cmpi .sgt v694 c1_i32_279
  let v699 : BitVec 32 := Scalar.extui v698
  let c0_i32_280 : BitVec 32 := 0#32
  let v700 : BitVec 1 := Scalar.cmpi .ne v699 c0_i32_280
  v700

@[reducible] def k0_t67_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_284 : BitVec 32 := 1#32
  ⟨c0_i32_282, v706, c1_i32_284⟩
def k0_off1567 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) : Fin 3 → Nat :=
  let c0_i32_282 : BitVec 32 := 0#32
  let c1_i32_284 : BitVec 32 := 1#32
  let arg14 : BitVec 32 := Scf.iv c0_i32_282 c1_i32_284 k0_t67
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond47 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) : BitVec 1 :=
  let c0_i32_282 : BitVec 32 := 0#32
  let c1_i32_284 : BitVec 32 := 1#32
  let arg14 : BitVec 32 := Scf.iv c0_i32_282 c1_i32_284 k0_t67
  let c2_i32_376 : BitVec 32 := 2#32
  let v927 : BitVec 32 := Scalar.addi arg14 c2_i32_376
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v908 : BitVec 32 := Scalar.subi v675 v673
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off1568 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) : Fin 3 → Nat :=
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c0_i32_282 : BitVec 32 := 0#32
  let c1_i32_284 : BitVec 32 := 1#32
  let arg14 : BitVec 32 := Scf.iv c0_i32_282 c1_i32_284 k0_t67
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v673 v965
  let c2016_i32_409 : BitVec 32 := 2016#32
  let v967 : BitVec 32 := Scalar.minsi v966 c2016_i32_409
  let c11_i32_413 : BitVec 32 := 11#32
  let c0_i32_414 : BitVec 32 := 0#32
  ![v967.toNat, 11, 0]
def k0_off1569 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) : Fin 1 → Nat :=
  let c0_i32_282 : BitVec 32 := 0#32
  let c1_i32_284 : BitVec 32 := 1#32
  let arg14 : BitVec 32 := Scf.iv c0_i32_282 c1_i32_284 k0_t67
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off1570 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off1571 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) : Fin 1 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  ![v907.toNat]
@[reducible] def k0_t68_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) : Scf.Loop 32 :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off1572 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v962 : Index := Scalar.indexCast arg16
  let c0_i32_405 : BitVec 32 := 0#32
  let v963 : Index := Scalar.indexCast c0_i32_405
  let c0_406 : Index := 0#32
  ![v962.toNat, 0, 0]
def k0_off1573 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v973 : Index := Scalar.indexCast arg16
  let c0_i32_409 : BitVec 32 := 0#32
  let v974 : Index := Scalar.indexCast c0_i32_409
  let c16 : Index := 16#32
  ![v973.toNat, 0, 16]
def k0_off1574 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v984 : Index := Scalar.indexCast arg16
  let c0_i32_412 : BitVec 32 := 0#32
  let v985 : Index := Scalar.indexCast c0_i32_412
  let c32 : Index := 32#32
  ![v984.toNat, 0, 32]
def k0_off1575 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v995 : Index := Scalar.indexCast arg16
  let c0_i32_415 : BitVec 32 := 0#32
  let v996 : Index := Scalar.indexCast c0_i32_415
  let c48 : Index := 48#32
  ![v995.toNat, 0, 48]
def k0_off1576 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1006 : Index := Scalar.indexCast arg16
  let c0_i32_418 : BitVec 32 := 0#32
  let v1007 : Index := Scalar.indexCast c0_i32_418
  let c64 : Index := 64#32
  ![v1006.toNat, 0, 64]
def k0_off1577 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1017 : Index := Scalar.indexCast arg16
  let c0_i32_421 : BitVec 32 := 0#32
  let v1018 : Index := Scalar.indexCast c0_i32_421
  let c80 : Index := 80#32
  ![v1017.toNat, 0, 80]
def k0_off1578 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1028 : Index := Scalar.indexCast arg16
  let c0_i32_424 : BitVec 32 := 0#32
  let v1029 : Index := Scalar.indexCast c0_i32_424
  let c96 : Index := 96#32
  ![v1028.toNat, 0, 96]
def k0_off1579 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1039 : Index := Scalar.indexCast arg16
  let c0_i32_427 : BitVec 32 := 0#32
  let v1040 : Index := Scalar.indexCast c0_i32_427
  let c112 : Index := 112#32
  ![v1039.toNat, 0, 112]
def k0_off1580 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1050 : Index := Scalar.indexCast arg16
  let c0_i32_430 : BitVec 32 := 0#32
  let v1051 : Index := Scalar.indexCast c0_i32_430
  let c128 : Index := 128#32
  ![v1050.toNat, 0, 128]
def k0_off1581 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1061 : Index := Scalar.indexCast arg16
  let c0_i32_433 : BitVec 32 := 0#32
  let v1062 : Index := Scalar.indexCast c0_i32_433
  let c144 : Index := 144#32
  ![v1061.toNat, 0, 144]
def k0_off1582 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1072 : Index := Scalar.indexCast arg16
  let c0_i32_436 : BitVec 32 := 0#32
  let v1073 : Index := Scalar.indexCast c0_i32_436
  let c160 : Index := 160#32
  ![v1072.toNat, 0, 160]
def k0_off1583 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1083 : Index := Scalar.indexCast arg16
  let c0_i32_439 : BitVec 32 := 0#32
  let v1084 : Index := Scalar.indexCast c0_i32_439
  let c176 : Index := 176#32
  ![v1083.toNat, 0, 176]
def k0_off1584 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1094 : Index := Scalar.indexCast arg16
  let c0_i32_442 : BitVec 32 := 0#32
  let v1095 : Index := Scalar.indexCast c0_i32_442
  let c192 : Index := 192#32
  ![v1094.toNat, 0, 192]
def k0_off1585 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1105 : Index := Scalar.indexCast arg16
  let c0_i32_445 : BitVec 32 := 0#32
  let v1106 : Index := Scalar.indexCast c0_i32_445
  let c208 : Index := 208#32
  ![v1105.toNat, 0, 208]
def k0_off1586 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1116 : Index := Scalar.indexCast arg16
  let c0_i32_448 : BitVec 32 := 0#32
  let v1117 : Index := Scalar.indexCast c0_i32_448
  let c224 : Index := 224#32
  ![v1116.toNat, 0, 224]
def k0_off1587 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1127 : Index := Scalar.indexCast arg16
  let c0_i32_451 : BitVec 32 := 0#32
  let v1128 : Index := Scalar.indexCast c0_i32_451
  let c240 : Index := 240#32
  ![v1127.toNat, 0, 240]
def k0_off1588 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1138 : Index := Scalar.indexCast arg16
  let c0_i32_454 : BitVec 32 := 0#32
  let v1139 : Index := Scalar.indexCast c0_i32_454
  let c256 : Index := 256#32
  ![v1138.toNat, 0, 256]
def k0_off1589 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1149 : Index := Scalar.indexCast arg16
  let c0_i32_457 : BitVec 32 := 0#32
  let v1150 : Index := Scalar.indexCast c0_i32_457
  let c272 : Index := 272#32
  ![v1149.toNat, 0, 272]
def k0_off1590 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1160 : Index := Scalar.indexCast arg16
  let c0_i32_460 : BitVec 32 := 0#32
  let v1161 : Index := Scalar.indexCast c0_i32_460
  let c288 : Index := 288#32
  ![v1160.toNat, 0, 288]
def k0_off1591 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1171 : Index := Scalar.indexCast arg16
  let c0_i32_463 : BitVec 32 := 0#32
  let v1172 : Index := Scalar.indexCast c0_i32_463
  let c304 : Index := 304#32
  ![v1171.toNat, 0, 304]
def k0_off1592 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1182 : Index := Scalar.indexCast arg16
  let c0_i32_466 : BitVec 32 := 0#32
  let v1183 : Index := Scalar.indexCast c0_i32_466
  let c320 : Index := 320#32
  ![v1182.toNat, 0, 320]
def k0_off1593 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1193 : Index := Scalar.indexCast arg16
  let c0_i32_469 : BitVec 32 := 0#32
  let v1194 : Index := Scalar.indexCast c0_i32_469
  let c336 : Index := 336#32
  ![v1193.toNat, 0, 336]
def k0_off1594 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1204 : Index := Scalar.indexCast arg16
  let c0_i32_472 : BitVec 32 := 0#32
  let v1205 : Index := Scalar.indexCast c0_i32_472
  let c352 : Index := 352#32
  ![v1204.toNat, 0, 352]
def k0_off1595 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1215 : Index := Scalar.indexCast arg16
  let c0_i32_475 : BitVec 32 := 0#32
  let v1216 : Index := Scalar.indexCast c0_i32_475
  let c368 : Index := 368#32
  ![v1215.toNat, 0, 368]
def k0_off1596 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1226 : Index := Scalar.indexCast arg16
  let c0_i32_478 : BitVec 32 := 0#32
  let v1227 : Index := Scalar.indexCast c0_i32_478
  let c384 : Index := 384#32
  ![v1226.toNat, 0, 384]
def k0_off1597 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1237 : Index := Scalar.indexCast arg16
  let c0_i32_481 : BitVec 32 := 0#32
  let v1238 : Index := Scalar.indexCast c0_i32_481
  let c400 : Index := 400#32
  ![v1237.toNat, 0, 400]
def k0_off1598 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1248 : Index := Scalar.indexCast arg16
  let c0_i32_484 : BitVec 32 := 0#32
  let v1249 : Index := Scalar.indexCast c0_i32_484
  let c416 : Index := 416#32
  ![v1248.toNat, 0, 416]
def k0_off1599 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1259 : Index := Scalar.indexCast arg16
  let c0_i32_487 : BitVec 32 := 0#32
  let v1260 : Index := Scalar.indexCast c0_i32_487
  let c432 : Index := 432#32
  ![v1259.toNat, 0, 432]
def k0_off1600 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1270 : Index := Scalar.indexCast arg16
  let c0_i32_490 : BitVec 32 := 0#32
  let v1271 : Index := Scalar.indexCast c0_i32_490
  let c448 : Index := 448#32
  ![v1270.toNat, 0, 448]
def k0_off1601 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1281 : Index := Scalar.indexCast arg16
  let c0_i32_493 : BitVec 32 := 0#32
  let v1282 : Index := Scalar.indexCast c0_i32_493
  let c464 : Index := 464#32
  ![v1281.toNat, 0, 464]
def k0_off1602 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1292 : Index := Scalar.indexCast arg16
  let c0_i32_496 : BitVec 32 := 0#32
  let v1293 : Index := Scalar.indexCast c0_i32_496
  let c480 : Index := 480#32
  ![v1292.toNat, 0, 480]
def k0_off1603 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t68
  let v1303 : Index := Scalar.indexCast arg16
  let c0_i32_499 : BitVec 32 := 0#32
  let v1304 : Index := Scalar.indexCast c0_i32_499
  let c496 : Index := 496#32
  ![v1303.toNat, 0, 496]
@[reducible] def k0_t69_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) : Scf.Loop 32 :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off1604 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v962 : Index := Scalar.indexCast arg16
  let c0_i32_405 : BitVec 32 := 0#32
  let v963 : Index := Scalar.indexCast c0_i32_405
  let c0_406 : Index := 0#32
  ![v962.toNat, 0, 0]
def k0_off1605 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v973 : Index := Scalar.indexCast arg16
  let c0_i32_409 : BitVec 32 := 0#32
  let v974 : Index := Scalar.indexCast c0_i32_409
  let c16 : Index := 16#32
  ![v973.toNat, 0, 16]
def k0_off1606 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v984 : Index := Scalar.indexCast arg16
  let c0_i32_412 : BitVec 32 := 0#32
  let v985 : Index := Scalar.indexCast c0_i32_412
  let c32 : Index := 32#32
  ![v984.toNat, 0, 32]
def k0_off1607 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v995 : Index := Scalar.indexCast arg16
  let c0_i32_415 : BitVec 32 := 0#32
  let v996 : Index := Scalar.indexCast c0_i32_415
  let c48 : Index := 48#32
  ![v995.toNat, 0, 48]
def k0_off1608 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1006 : Index := Scalar.indexCast arg16
  let c0_i32_418 : BitVec 32 := 0#32
  let v1007 : Index := Scalar.indexCast c0_i32_418
  let c64 : Index := 64#32
  ![v1006.toNat, 0, 64]
def k0_off1609 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1017 : Index := Scalar.indexCast arg16
  let c0_i32_421 : BitVec 32 := 0#32
  let v1018 : Index := Scalar.indexCast c0_i32_421
  let c80 : Index := 80#32
  ![v1017.toNat, 0, 80]
def k0_off1610 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1028 : Index := Scalar.indexCast arg16
  let c0_i32_424 : BitVec 32 := 0#32
  let v1029 : Index := Scalar.indexCast c0_i32_424
  let c96 : Index := 96#32
  ![v1028.toNat, 0, 96]
def k0_off1611 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1039 : Index := Scalar.indexCast arg16
  let c0_i32_427 : BitVec 32 := 0#32
  let v1040 : Index := Scalar.indexCast c0_i32_427
  let c112 : Index := 112#32
  ![v1039.toNat, 0, 112]
def k0_off1612 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1050 : Index := Scalar.indexCast arg16
  let c0_i32_430 : BitVec 32 := 0#32
  let v1051 : Index := Scalar.indexCast c0_i32_430
  let c128 : Index := 128#32
  ![v1050.toNat, 0, 128]
def k0_off1613 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1061 : Index := Scalar.indexCast arg16
  let c0_i32_433 : BitVec 32 := 0#32
  let v1062 : Index := Scalar.indexCast c0_i32_433
  let c144 : Index := 144#32
  ![v1061.toNat, 0, 144]
def k0_off1614 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1072 : Index := Scalar.indexCast arg16
  let c0_i32_436 : BitVec 32 := 0#32
  let v1073 : Index := Scalar.indexCast c0_i32_436
  let c160 : Index := 160#32
  ![v1072.toNat, 0, 160]
def k0_off1615 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1083 : Index := Scalar.indexCast arg16
  let c0_i32_439 : BitVec 32 := 0#32
  let v1084 : Index := Scalar.indexCast c0_i32_439
  let c176 : Index := 176#32
  ![v1083.toNat, 0, 176]
def k0_off1616 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1094 : Index := Scalar.indexCast arg16
  let c0_i32_442 : BitVec 32 := 0#32
  let v1095 : Index := Scalar.indexCast c0_i32_442
  let c192 : Index := 192#32
  ![v1094.toNat, 0, 192]
def k0_off1617 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1105 : Index := Scalar.indexCast arg16
  let c0_i32_445 : BitVec 32 := 0#32
  let v1106 : Index := Scalar.indexCast c0_i32_445
  let c208 : Index := 208#32
  ![v1105.toNat, 0, 208]
def k0_off1618 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1116 : Index := Scalar.indexCast arg16
  let c0_i32_448 : BitVec 32 := 0#32
  let v1117 : Index := Scalar.indexCast c0_i32_448
  let c224 : Index := 224#32
  ![v1116.toNat, 0, 224]
def k0_off1619 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1127 : Index := Scalar.indexCast arg16
  let c0_i32_451 : BitVec 32 := 0#32
  let v1128 : Index := Scalar.indexCast c0_i32_451
  let c240 : Index := 240#32
  ![v1127.toNat, 0, 240]
def k0_off1620 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1138 : Index := Scalar.indexCast arg16
  let c0_i32_454 : BitVec 32 := 0#32
  let v1139 : Index := Scalar.indexCast c0_i32_454
  let c256 : Index := 256#32
  ![v1138.toNat, 0, 256]
def k0_off1621 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1149 : Index := Scalar.indexCast arg16
  let c0_i32_457 : BitVec 32 := 0#32
  let v1150 : Index := Scalar.indexCast c0_i32_457
  let c272 : Index := 272#32
  ![v1149.toNat, 0, 272]
def k0_off1622 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1160 : Index := Scalar.indexCast arg16
  let c0_i32_460 : BitVec 32 := 0#32
  let v1161 : Index := Scalar.indexCast c0_i32_460
  let c288 : Index := 288#32
  ![v1160.toNat, 0, 288]
def k0_off1623 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1171 : Index := Scalar.indexCast arg16
  let c0_i32_463 : BitVec 32 := 0#32
  let v1172 : Index := Scalar.indexCast c0_i32_463
  let c304 : Index := 304#32
  ![v1171.toNat, 0, 304]
def k0_off1624 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1182 : Index := Scalar.indexCast arg16
  let c0_i32_466 : BitVec 32 := 0#32
  let v1183 : Index := Scalar.indexCast c0_i32_466
  let c320 : Index := 320#32
  ![v1182.toNat, 0, 320]
def k0_off1625 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1193 : Index := Scalar.indexCast arg16
  let c0_i32_469 : BitVec 32 := 0#32
  let v1194 : Index := Scalar.indexCast c0_i32_469
  let c336 : Index := 336#32
  ![v1193.toNat, 0, 336]
def k0_off1626 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1204 : Index := Scalar.indexCast arg16
  let c0_i32_472 : BitVec 32 := 0#32
  let v1205 : Index := Scalar.indexCast c0_i32_472
  let c352 : Index := 352#32
  ![v1204.toNat, 0, 352]
def k0_off1627 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1215 : Index := Scalar.indexCast arg16
  let c0_i32_475 : BitVec 32 := 0#32
  let v1216 : Index := Scalar.indexCast c0_i32_475
  let c368 : Index := 368#32
  ![v1215.toNat, 0, 368]
def k0_off1628 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1226 : Index := Scalar.indexCast arg16
  let c0_i32_478 : BitVec 32 := 0#32
  let v1227 : Index := Scalar.indexCast c0_i32_478
  let c384 : Index := 384#32
  ![v1226.toNat, 0, 384]
def k0_off1629 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1237 : Index := Scalar.indexCast arg16
  let c0_i32_481 : BitVec 32 := 0#32
  let v1238 : Index := Scalar.indexCast c0_i32_481
  let c400 : Index := 400#32
  ![v1237.toNat, 0, 400]
def k0_off1630 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1248 : Index := Scalar.indexCast arg16
  let c0_i32_484 : BitVec 32 := 0#32
  let v1249 : Index := Scalar.indexCast c0_i32_484
  let c416 : Index := 416#32
  ![v1248.toNat, 0, 416]
def k0_off1631 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1259 : Index := Scalar.indexCast arg16
  let c0_i32_487 : BitVec 32 := 0#32
  let v1260 : Index := Scalar.indexCast c0_i32_487
  let c432 : Index := 432#32
  ![v1259.toNat, 0, 432]
def k0_off1632 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1270 : Index := Scalar.indexCast arg16
  let c0_i32_490 : BitVec 32 := 0#32
  let v1271 : Index := Scalar.indexCast c0_i32_490
  let c448 : Index := 448#32
  ![v1270.toNat, 0, 448]
def k0_off1633 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1281 : Index := Scalar.indexCast arg16
  let c0_i32_493 : BitVec 32 := 0#32
  let v1282 : Index := Scalar.indexCast c0_i32_493
  let c464 : Index := 464#32
  ![v1281.toNat, 0, 464]
def k0_off1634 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1292 : Index := Scalar.indexCast arg16
  let c0_i32_496 : BitVec 32 := 0#32
  let v1293 : Index := Scalar.indexCast c0_i32_496
  let c480 : Index := 480#32
  ![v1292.toNat, 0, 480]
def k0_off1635 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips) : Fin 3 → Nat :=
  let c0_i32_282 : BitVec 32 := 0#32
  let c1_i32_284 : BitVec 32 := 1#32
  let arg14 : BitVec 32 := Scf.iv c0_i32_282 c1_i32_284 k0_t67
  let c3_i32 : BitVec 32 := 3#32
  let v907 : BitVec 32 := Scalar.remsi arg14 c3_i32
  let c32_i32_400 : BitVec 32 := 32#32
  let v948 : BitVec 32 := Scalar.muli v907 c32_i32_400
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t69
  let v1303 : Index := Scalar.indexCast arg16
  let c0_i32_499 : BitVec 32 := 0#32
  let v1304 : Index := Scalar.indexCast c0_i32_499
  let c496 : Index := 496#32
  ![v1303.toNat, 0, 496]
@[reducible] def k0_t70_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let v703 : BitVec 32 := Scalar.addi c0_i32_282 v702
  let c1_i32_285 : BitVec 32 := 1#32
  ⟨v706, v703, c1_i32_285⟩
def k0_off1636 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond48 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) : BitVec 1 :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c2_i32_376 : BitVec 32 := 2#32
  let v927 : BitVec 32 := Scalar.addi arg14 c2_i32_376
  let v908 : BitVec 32 := Scalar.subi v675 v673
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off1637 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) : Fin 3 → Nat :=
  let c1024_i32_267 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let c0_i32_282 : BitVec 32 := 0#32
  let c1024_i32_268 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v673 v965
  let c2016_i32_409 : BitVec 32 := 2016#32
  let v967 : BitVec 32 := Scalar.minsi v966 c2016_i32_409
  let c11_i32_413 : BitVec 32 := 11#32
  let c0_i32_414 : BitVec 32 := 0#32
  ![v967.toNat, 11, 0]
def k0_off1638 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) : Fin 1 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off1639 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off1640 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) : Fin 1 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  ![v907.toNat]
@[reducible] def k0_t71_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) : Scf.Loop 32 :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off1641 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v962 : Index := Scalar.indexCast arg16
  let c0_i32_405 : BitVec 32 := 0#32
  let v963 : Index := Scalar.indexCast c0_i32_405
  let c0_406 : Index := 0#32
  ![v962.toNat, 0, 0]
def k0_off1642 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v973 : Index := Scalar.indexCast arg16
  let c0_i32_409 : BitVec 32 := 0#32
  let v974 : Index := Scalar.indexCast c0_i32_409
  let c16 : Index := 16#32
  ![v973.toNat, 0, 16]
def k0_off1643 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v984 : Index := Scalar.indexCast arg16
  let c0_i32_412 : BitVec 32 := 0#32
  let v985 : Index := Scalar.indexCast c0_i32_412
  let c32 : Index := 32#32
  ![v984.toNat, 0, 32]
def k0_off1644 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v995 : Index := Scalar.indexCast arg16
  let c0_i32_415 : BitVec 32 := 0#32
  let v996 : Index := Scalar.indexCast c0_i32_415
  let c48 : Index := 48#32
  ![v995.toNat, 0, 48]
def k0_off1645 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1006 : Index := Scalar.indexCast arg16
  let c0_i32_418 : BitVec 32 := 0#32
  let v1007 : Index := Scalar.indexCast c0_i32_418
  let c64 : Index := 64#32
  ![v1006.toNat, 0, 64]
def k0_off1646 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1017 : Index := Scalar.indexCast arg16
  let c0_i32_421 : BitVec 32 := 0#32
  let v1018 : Index := Scalar.indexCast c0_i32_421
  let c80 : Index := 80#32
  ![v1017.toNat, 0, 80]
def k0_off1647 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1028 : Index := Scalar.indexCast arg16
  let c0_i32_424 : BitVec 32 := 0#32
  let v1029 : Index := Scalar.indexCast c0_i32_424
  let c96 : Index := 96#32
  ![v1028.toNat, 0, 96]
def k0_off1648 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1039 : Index := Scalar.indexCast arg16
  let c0_i32_427 : BitVec 32 := 0#32
  let v1040 : Index := Scalar.indexCast c0_i32_427
  let c112 : Index := 112#32
  ![v1039.toNat, 0, 112]
def k0_off1649 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1050 : Index := Scalar.indexCast arg16
  let c0_i32_430 : BitVec 32 := 0#32
  let v1051 : Index := Scalar.indexCast c0_i32_430
  let c128 : Index := 128#32
  ![v1050.toNat, 0, 128]
def k0_off1650 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1061 : Index := Scalar.indexCast arg16
  let c0_i32_433 : BitVec 32 := 0#32
  let v1062 : Index := Scalar.indexCast c0_i32_433
  let c144 : Index := 144#32
  ![v1061.toNat, 0, 144]
def k0_off1651 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1072 : Index := Scalar.indexCast arg16
  let c0_i32_436 : BitVec 32 := 0#32
  let v1073 : Index := Scalar.indexCast c0_i32_436
  let c160 : Index := 160#32
  ![v1072.toNat, 0, 160]
def k0_off1652 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1083 : Index := Scalar.indexCast arg16
  let c0_i32_439 : BitVec 32 := 0#32
  let v1084 : Index := Scalar.indexCast c0_i32_439
  let c176 : Index := 176#32
  ![v1083.toNat, 0, 176]
def k0_off1653 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1094 : Index := Scalar.indexCast arg16
  let c0_i32_442 : BitVec 32 := 0#32
  let v1095 : Index := Scalar.indexCast c0_i32_442
  let c192 : Index := 192#32
  ![v1094.toNat, 0, 192]
def k0_off1654 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1105 : Index := Scalar.indexCast arg16
  let c0_i32_445 : BitVec 32 := 0#32
  let v1106 : Index := Scalar.indexCast c0_i32_445
  let c208 : Index := 208#32
  ![v1105.toNat, 0, 208]
def k0_off1655 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1116 : Index := Scalar.indexCast arg16
  let c0_i32_448 : BitVec 32 := 0#32
  let v1117 : Index := Scalar.indexCast c0_i32_448
  let c224 : Index := 224#32
  ![v1116.toNat, 0, 224]
def k0_off1656 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1127 : Index := Scalar.indexCast arg16
  let c0_i32_451 : BitVec 32 := 0#32
  let v1128 : Index := Scalar.indexCast c0_i32_451
  let c240 : Index := 240#32
  ![v1127.toNat, 0, 240]
def k0_off1657 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1138 : Index := Scalar.indexCast arg16
  let c0_i32_454 : BitVec 32 := 0#32
  let v1139 : Index := Scalar.indexCast c0_i32_454
  let c256 : Index := 256#32
  ![v1138.toNat, 0, 256]
def k0_off1658 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1149 : Index := Scalar.indexCast arg16
  let c0_i32_457 : BitVec 32 := 0#32
  let v1150 : Index := Scalar.indexCast c0_i32_457
  let c272 : Index := 272#32
  ![v1149.toNat, 0, 272]
def k0_off1659 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1160 : Index := Scalar.indexCast arg16
  let c0_i32_460 : BitVec 32 := 0#32
  let v1161 : Index := Scalar.indexCast c0_i32_460
  let c288 : Index := 288#32
  ![v1160.toNat, 0, 288]
def k0_off1660 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1171 : Index := Scalar.indexCast arg16
  let c0_i32_463 : BitVec 32 := 0#32
  let v1172 : Index := Scalar.indexCast c0_i32_463
  let c304 : Index := 304#32
  ![v1171.toNat, 0, 304]
def k0_off1661 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1182 : Index := Scalar.indexCast arg16
  let c0_i32_466 : BitVec 32 := 0#32
  let v1183 : Index := Scalar.indexCast c0_i32_466
  let c320 : Index := 320#32
  ![v1182.toNat, 0, 320]
def k0_off1662 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1193 : Index := Scalar.indexCast arg16
  let c0_i32_469 : BitVec 32 := 0#32
  let v1194 : Index := Scalar.indexCast c0_i32_469
  let c336 : Index := 336#32
  ![v1193.toNat, 0, 336]
def k0_off1663 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1204 : Index := Scalar.indexCast arg16
  let c0_i32_472 : BitVec 32 := 0#32
  let v1205 : Index := Scalar.indexCast c0_i32_472
  let c352 : Index := 352#32
  ![v1204.toNat, 0, 352]
def k0_off1664 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1215 : Index := Scalar.indexCast arg16
  let c0_i32_475 : BitVec 32 := 0#32
  let v1216 : Index := Scalar.indexCast c0_i32_475
  let c368 : Index := 368#32
  ![v1215.toNat, 0, 368]
def k0_off1665 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1226 : Index := Scalar.indexCast arg16
  let c0_i32_478 : BitVec 32 := 0#32
  let v1227 : Index := Scalar.indexCast c0_i32_478
  let c384 : Index := 384#32
  ![v1226.toNat, 0, 384]
def k0_off1666 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1237 : Index := Scalar.indexCast arg16
  let c0_i32_481 : BitVec 32 := 0#32
  let v1238 : Index := Scalar.indexCast c0_i32_481
  let c400 : Index := 400#32
  ![v1237.toNat, 0, 400]
def k0_off1667 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1248 : Index := Scalar.indexCast arg16
  let c0_i32_484 : BitVec 32 := 0#32
  let v1249 : Index := Scalar.indexCast c0_i32_484
  let c416 : Index := 416#32
  ![v1248.toNat, 0, 416]
def k0_off1668 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1259 : Index := Scalar.indexCast arg16
  let c0_i32_487 : BitVec 32 := 0#32
  let v1260 : Index := Scalar.indexCast c0_i32_487
  let c432 : Index := 432#32
  ![v1259.toNat, 0, 432]
def k0_off1669 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1270 : Index := Scalar.indexCast arg16
  let c0_i32_490 : BitVec 32 := 0#32
  let v1271 : Index := Scalar.indexCast c0_i32_490
  let c448 : Index := 448#32
  ![v1270.toNat, 0, 448]
def k0_off1670 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1281 : Index := Scalar.indexCast arg16
  let c0_i32_493 : BitVec 32 := 0#32
  let v1282 : Index := Scalar.indexCast c0_i32_493
  let c464 : Index := 464#32
  ![v1281.toNat, 0, 464]
def k0_off1671 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1292 : Index := Scalar.indexCast arg16
  let c0_i32_496 : BitVec 32 := 0#32
  let v1293 : Index := Scalar.indexCast c0_i32_496
  let c480 : Index := 480#32
  ![v1292.toNat, 0, 480]
def k0_off1672 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t71
  let v1303 : Index := Scalar.indexCast arg16
  let c0_i32_499 : BitVec 32 := 0#32
  let v1304 : Index := Scalar.indexCast c0_i32_499
  let c496 : Index := 496#32
  ![v1303.toNat, 0, 496]
@[reducible] def k0_t72_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) : Scf.Loop 32 :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off1673 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v962 : Index := Scalar.indexCast arg16
  let c0_i32_405 : BitVec 32 := 0#32
  let v963 : Index := Scalar.indexCast c0_i32_405
  let c0_406 : Index := 0#32
  ![v962.toNat, 0, 0]
def k0_off1674 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v973 : Index := Scalar.indexCast arg16
  let c0_i32_409 : BitVec 32 := 0#32
  let v974 : Index := Scalar.indexCast c0_i32_409
  let c16 : Index := 16#32
  ![v973.toNat, 0, 16]
def k0_off1675 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v984 : Index := Scalar.indexCast arg16
  let c0_i32_412 : BitVec 32 := 0#32
  let v985 : Index := Scalar.indexCast c0_i32_412
  let c32 : Index := 32#32
  ![v984.toNat, 0, 32]
def k0_off1676 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v995 : Index := Scalar.indexCast arg16
  let c0_i32_415 : BitVec 32 := 0#32
  let v996 : Index := Scalar.indexCast c0_i32_415
  let c48 : Index := 48#32
  ![v995.toNat, 0, 48]
def k0_off1677 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1006 : Index := Scalar.indexCast arg16
  let c0_i32_418 : BitVec 32 := 0#32
  let v1007 : Index := Scalar.indexCast c0_i32_418
  let c64 : Index := 64#32
  ![v1006.toNat, 0, 64]
def k0_off1678 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1017 : Index := Scalar.indexCast arg16
  let c0_i32_421 : BitVec 32 := 0#32
  let v1018 : Index := Scalar.indexCast c0_i32_421
  let c80 : Index := 80#32
  ![v1017.toNat, 0, 80]
def k0_off1679 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1028 : Index := Scalar.indexCast arg16
  let c0_i32_424 : BitVec 32 := 0#32
  let v1029 : Index := Scalar.indexCast c0_i32_424
  let c96 : Index := 96#32
  ![v1028.toNat, 0, 96]
def k0_off1680 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1039 : Index := Scalar.indexCast arg16
  let c0_i32_427 : BitVec 32 := 0#32
  let v1040 : Index := Scalar.indexCast c0_i32_427
  let c112 : Index := 112#32
  ![v1039.toNat, 0, 112]
def k0_off1681 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1050 : Index := Scalar.indexCast arg16
  let c0_i32_430 : BitVec 32 := 0#32
  let v1051 : Index := Scalar.indexCast c0_i32_430
  let c128 : Index := 128#32
  ![v1050.toNat, 0, 128]
def k0_off1682 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1061 : Index := Scalar.indexCast arg16
  let c0_i32_433 : BitVec 32 := 0#32
  let v1062 : Index := Scalar.indexCast c0_i32_433
  let c144 : Index := 144#32
  ![v1061.toNat, 0, 144]
def k0_off1683 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1072 : Index := Scalar.indexCast arg16
  let c0_i32_436 : BitVec 32 := 0#32
  let v1073 : Index := Scalar.indexCast c0_i32_436
  let c160 : Index := 160#32
  ![v1072.toNat, 0, 160]
def k0_off1684 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1083 : Index := Scalar.indexCast arg16
  let c0_i32_439 : BitVec 32 := 0#32
  let v1084 : Index := Scalar.indexCast c0_i32_439
  let c176 : Index := 176#32
  ![v1083.toNat, 0, 176]
def k0_off1685 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1094 : Index := Scalar.indexCast arg16
  let c0_i32_442 : BitVec 32 := 0#32
  let v1095 : Index := Scalar.indexCast c0_i32_442
  let c192 : Index := 192#32
  ![v1094.toNat, 0, 192]
def k0_off1686 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1105 : Index := Scalar.indexCast arg16
  let c0_i32_445 : BitVec 32 := 0#32
  let v1106 : Index := Scalar.indexCast c0_i32_445
  let c208 : Index := 208#32
  ![v1105.toNat, 0, 208]
def k0_off1687 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1116 : Index := Scalar.indexCast arg16
  let c0_i32_448 : BitVec 32 := 0#32
  let v1117 : Index := Scalar.indexCast c0_i32_448
  let c224 : Index := 224#32
  ![v1116.toNat, 0, 224]
def k0_off1688 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1127 : Index := Scalar.indexCast arg16
  let c0_i32_451 : BitVec 32 := 0#32
  let v1128 : Index := Scalar.indexCast c0_i32_451
  let c240 : Index := 240#32
  ![v1127.toNat, 0, 240]
def k0_off1689 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1138 : Index := Scalar.indexCast arg16
  let c0_i32_454 : BitVec 32 := 0#32
  let v1139 : Index := Scalar.indexCast c0_i32_454
  let c256 : Index := 256#32
  ![v1138.toNat, 0, 256]
def k0_off1690 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1149 : Index := Scalar.indexCast arg16
  let c0_i32_457 : BitVec 32 := 0#32
  let v1150 : Index := Scalar.indexCast c0_i32_457
  let c272 : Index := 272#32
  ![v1149.toNat, 0, 272]
def k0_off1691 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1160 : Index := Scalar.indexCast arg16
  let c0_i32_460 : BitVec 32 := 0#32
  let v1161 : Index := Scalar.indexCast c0_i32_460
  let c288 : Index := 288#32
  ![v1160.toNat, 0, 288]
def k0_off1692 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1171 : Index := Scalar.indexCast arg16
  let c0_i32_463 : BitVec 32 := 0#32
  let v1172 : Index := Scalar.indexCast c0_i32_463
  let c304 : Index := 304#32
  ![v1171.toNat, 0, 304]
def k0_off1693 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1182 : Index := Scalar.indexCast arg16
  let c0_i32_466 : BitVec 32 := 0#32
  let v1183 : Index := Scalar.indexCast c0_i32_466
  let c320 : Index := 320#32
  ![v1182.toNat, 0, 320]
def k0_off1694 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1193 : Index := Scalar.indexCast arg16
  let c0_i32_469 : BitVec 32 := 0#32
  let v1194 : Index := Scalar.indexCast c0_i32_469
  let c336 : Index := 336#32
  ![v1193.toNat, 0, 336]
def k0_off1695 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1204 : Index := Scalar.indexCast arg16
  let c0_i32_472 : BitVec 32 := 0#32
  let v1205 : Index := Scalar.indexCast c0_i32_472
  let c352 : Index := 352#32
  ![v1204.toNat, 0, 352]
def k0_off1696 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1215 : Index := Scalar.indexCast arg16
  let c0_i32_475 : BitVec 32 := 0#32
  let v1216 : Index := Scalar.indexCast c0_i32_475
  let c368 : Index := 368#32
  ![v1215.toNat, 0, 368]
def k0_off1697 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1226 : Index := Scalar.indexCast arg16
  let c0_i32_478 : BitVec 32 := 0#32
  let v1227 : Index := Scalar.indexCast c0_i32_478
  let c384 : Index := 384#32
  ![v1226.toNat, 0, 384]
def k0_off1698 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1237 : Index := Scalar.indexCast arg16
  let c0_i32_481 : BitVec 32 := 0#32
  let v1238 : Index := Scalar.indexCast c0_i32_481
  let c400 : Index := 400#32
  ![v1237.toNat, 0, 400]
def k0_off1699 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1248 : Index := Scalar.indexCast arg16
  let c0_i32_484 : BitVec 32 := 0#32
  let v1249 : Index := Scalar.indexCast c0_i32_484
  let c416 : Index := 416#32
  ![v1248.toNat, 0, 416]
def k0_off1700 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1259 : Index := Scalar.indexCast arg16
  let c0_i32_487 : BitVec 32 := 0#32
  let v1260 : Index := Scalar.indexCast c0_i32_487
  let c432 : Index := 432#32
  ![v1259.toNat, 0, 432]
def k0_off1701 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1270 : Index := Scalar.indexCast arg16
  let c0_i32_490 : BitVec 32 := 0#32
  let v1271 : Index := Scalar.indexCast c0_i32_490
  let c448 : Index := 448#32
  ![v1270.toNat, 0, 448]
def k0_off1702 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1281 : Index := Scalar.indexCast arg16
  let c0_i32_493 : BitVec 32 := 0#32
  let v1282 : Index := Scalar.indexCast c0_i32_493
  let c464 : Index := 464#32
  ![v1281.toNat, 0, 464]
def k0_off1703 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1292 : Index := Scalar.indexCast arg16
  let c0_i32_496 : BitVec 32 := 0#32
  let v1293 : Index := Scalar.indexCast c0_i32_496
  let c480 : Index := 480#32
  ![v1292.toNat, 0, 480]
def k0_off1704 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips) : Fin 3 → Nat :=
  let c0_i32_282 : BitVec 32 := 0#32
  let c1024_i32_268 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v670 : BitVec 32 := Scalar.addi v108 v89
  let v671 : BitVec 32 := Scalar.minsi v150 v670
  let v674 : BitVec 32 := Scalar.subi v671 v108
  let v675 : BitVec 32 := Scalar.addi c1024_i32_268 v674
  let c1024_i32_267 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v669 : BitVec 32 := Scalar.maxsi v131 v108
  let v672 : BitVec 32 := Scalar.subi v669 v108
  let v673 : BitVec 32 := Scalar.addi c1024_i32_267 v672
  let v676 : BitVec 32 := Scalar.subi v675 v673
  let c31_i32_269 : BitVec 32 := 31#32
  let v677 : BitVec 32 := Scalar.addi v676 c31_i32_269
  let c0_i32_271 : BitVec 32 := 0#32
  let v679 : BitVec 1 := Scalar.cmpi .sgt v677 c0_i32_271
  let v680 : BitVec 32 := Scalar.extui v679
  let c0_i32_272 : BitVec 32 := 0#32
  let v681 : BitVec 1 := Scalar.cmpi .slt v677 c0_i32_272
  let v682 : BitVec 32 := Scalar.extui v681
  let v683 : BitVec 32 := Scalar.subi v680 v682
  let c32_i32_270 : BitVec 32 := 32#32
  let c0_i32_273 : BitVec 32 := 0#32
  let v684 : BitVec 1 := Scalar.cmpi .sgt c32_i32_270 c0_i32_273
  let v685 : BitVec 32 := Scalar.extui v684
  let c0_i32_274 : BitVec 32 := 0#32
  let v686 : BitVec 1 := Scalar.cmpi .slt c32_i32_270 c0_i32_274
  let v687 : BitVec 32 := Scalar.extui v686
  let v688 : BitVec 32 := Scalar.subi v685 v687
  let v689 : BitVec 1 := Scalar.cmpi .ne v683 v688
  let v690 : BitVec 32 := Scalar.remsi v677 c32_i32_270
  let c0_i32_275 : BitVec 32 := 0#32
  let v691 : BitVec 1 := Scalar.cmpi .ne v690 c0_i32_275
  let v692 : BitVec 1 := Scalar.andi v689 v691
  let v678 : BitVec 32 := Scalar.divsi v677 c32_i32_270
  let c1_i32_276 : BitVec 32 := 1#32
  let v693 : BitVec 32 := Scalar.subi v678 c1_i32_276
  let v694 : BitVec 32 := Scalar.select v692 v693 v678
  let v702 : BitVec 32 := Scalar.subi v694 c0_i32_282
  let c1_i32_283 : BitVec 32 := 1#32
  let v704 : BitVec 32 := Scalar.divsi v702 c1_i32_283
  let v705 : BitVec 32 := Scalar.muli v704 c1_i32_283
  let v706 : BitVec 32 := Scalar.addi c0_i32_282 v705
  let c1_i32_285 : BitVec 32 := 1#32
  let arg14 : BitVec 32 := Scf.iv v706 c1_i32_285 k0_t70
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v673 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v675 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t72
  let v1303 : Index := Scalar.indexCast arg16
  let c0_i32_499 : BitVec 32 := 0#32
  let v1304 : Index := Scalar.indexCast c0_i32_499
  let c496 : Index := 496#32
  ![v1303.toNat, 0, 496]
def k0_off1705 : Fin 3 → Nat :=
  let c0_i32_370 : BitVec 32 := 0#32
  let c32_i32_371 : BitVec 32 := 32#32
  let v910 : BitVec 32 := Scalar.muli c0_i32_370 c32_i32_371
  let c0_i32_373 : BitVec 32 := 0#32
  let c0_i32_374 : BitVec 32 := 0#32
  ![v910.toNat, 0, 0]
def k0_off1706 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c0_i32_368 : BitVec 32 := 0#32
  let c32_i32_369 : BitVec 32 := 32#32
  let v907 : BitVec 32 := Scalar.muli c0_i32_368 c32_i32_369
  let v908 : BitVec 32 := Scalar.addi v720 v907
  let c2016_i32 : BitVec 32 := 2016#32
  let v909 : BitVec 32 := Scalar.minsi v908 c2016_i32
  let c12_i32 : BitVec 32 := 12#32
  let c0_i32_375 : BitVec 32 := 0#32
  ![v909.toNat, 12, 0]
def k0_cond49 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let c0_i32_297 : BitVec 32 := 0#32
  let v742 : BitVec 1 := Scalar.cmpi .sgt v741 c0_i32_297
  let v743 : BitVec 32 := Scalar.extui v742
  let c0_i32_298 : BitVec 32 := 0#32
  let v744 : BitVec 1 := Scalar.cmpi .ne v743 c0_i32_298
  v744

def k0_off1707 : Fin 3 → Nat :=
  let c1_i32_370 : BitVec 32 := 1#32
  let c32_i32_371 : BitVec 32 := 32#32
  let v910 : BitVec 32 := Scalar.muli c1_i32_370 c32_i32_371
  let c0_i32_373 : BitVec 32 := 0#32
  let c0_i32_374 : BitVec 32 := 0#32
  ![v910.toNat, 0, 0]
def k0_off1708 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c1_i32_368 : BitVec 32 := 1#32
  let c32_i32_369 : BitVec 32 := 32#32
  let v907 : BitVec 32 := Scalar.muli c1_i32_368 c32_i32_369
  let v908 : BitVec 32 := Scalar.addi v720 v907
  let c2016_i32 : BitVec 32 := 2016#32
  let v909 : BitVec 32 := Scalar.minsi v908 c2016_i32
  let c12_i32 : BitVec 32 := 12#32
  let c0_i32_375 : BitVec 32 := 0#32
  ![v909.toNat, 12, 0]
def k0_cond50 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let c1_i32_299 : BitVec 32 := 1#32
  let v745 : BitVec 1 := Scalar.cmpi .sgt v741 c1_i32_299
  let v746 : BitVec 32 := Scalar.extui v745
  let c0_i32_300 : BitVec 32 := 0#32
  let v747 : BitVec 1 := Scalar.cmpi .ne v746 c0_i32_300
  v747

@[reducible] def k0_t73_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_304 : BitVec 32 := 1#32
  ⟨c0_i32_302, v753, c1_i32_304⟩
def k0_off1709 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) : Fin 3 → Nat :=
  let c0_i32_302 : BitVec 32 := 0#32
  let c1_i32_304 : BitVec 32 := 1#32
  let arg14 : BitVec 32 := Scf.iv c0_i32_302 c1_i32_304 k0_t73
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond51 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) : BitVec 1 :=
  let c0_i32_302 : BitVec 32 := 0#32
  let c1_i32_304 : BitVec 32 := 1#32
  let arg14 : BitVec 32 := Scf.iv c0_i32_302 c1_i32_304 k0_t73
  let c2_i32_376 : BitVec 32 := 2#32
  let v927 : BitVec 32 := Scalar.addi arg14 c2_i32_376
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v908 : BitVec 32 := Scalar.subi v722 v720
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off1710 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) : Fin 3 → Nat :=
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c0_i32_302 : BitVec 32 := 0#32
  let c1_i32_304 : BitVec 32 := 1#32
  let arg14 : BitVec 32 := Scf.iv c0_i32_302 c1_i32_304 k0_t73
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v720 v965
  let c2016_i32_409 : BitVec 32 := 2016#32
  let v967 : BitVec 32 := Scalar.minsi v966 c2016_i32_409
  let c12_i32_413 : BitVec 32 := 12#32
  let c0_i32_414 : BitVec 32 := 0#32
  ![v967.toNat, 12, 0]
def k0_off1711 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) : Fin 1 → Nat :=
  let c0_i32_302 : BitVec 32 := 0#32
  let c1_i32_304 : BitVec 32 := 1#32
  let arg14 : BitVec 32 := Scf.iv c0_i32_302 c1_i32_304 k0_t73
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off1712 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off1713 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) : Fin 1 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  ![v907.toNat]
@[reducible] def k0_t74_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) : Scf.Loop 32 :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off1714 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v962 : Index := Scalar.indexCast arg16
  let c0_i32_405 : BitVec 32 := 0#32
  let v963 : Index := Scalar.indexCast c0_i32_405
  let c0_406 : Index := 0#32
  ![v962.toNat, 0, 0]
def k0_off1715 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v973 : Index := Scalar.indexCast arg16
  let c0_i32_409 : BitVec 32 := 0#32
  let v974 : Index := Scalar.indexCast c0_i32_409
  let c16 : Index := 16#32
  ![v973.toNat, 0, 16]
def k0_off1716 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v984 : Index := Scalar.indexCast arg16
  let c0_i32_412 : BitVec 32 := 0#32
  let v985 : Index := Scalar.indexCast c0_i32_412
  let c32 : Index := 32#32
  ![v984.toNat, 0, 32]
def k0_off1717 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v995 : Index := Scalar.indexCast arg16
  let c0_i32_415 : BitVec 32 := 0#32
  let v996 : Index := Scalar.indexCast c0_i32_415
  let c48 : Index := 48#32
  ![v995.toNat, 0, 48]
def k0_off1718 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1006 : Index := Scalar.indexCast arg16
  let c0_i32_418 : BitVec 32 := 0#32
  let v1007 : Index := Scalar.indexCast c0_i32_418
  let c64 : Index := 64#32
  ![v1006.toNat, 0, 64]
def k0_off1719 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1017 : Index := Scalar.indexCast arg16
  let c0_i32_421 : BitVec 32 := 0#32
  let v1018 : Index := Scalar.indexCast c0_i32_421
  let c80 : Index := 80#32
  ![v1017.toNat, 0, 80]
def k0_off1720 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1028 : Index := Scalar.indexCast arg16
  let c0_i32_424 : BitVec 32 := 0#32
  let v1029 : Index := Scalar.indexCast c0_i32_424
  let c96 : Index := 96#32
  ![v1028.toNat, 0, 96]
def k0_off1721 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1039 : Index := Scalar.indexCast arg16
  let c0_i32_427 : BitVec 32 := 0#32
  let v1040 : Index := Scalar.indexCast c0_i32_427
  let c112 : Index := 112#32
  ![v1039.toNat, 0, 112]
def k0_off1722 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1050 : Index := Scalar.indexCast arg16
  let c0_i32_430 : BitVec 32 := 0#32
  let v1051 : Index := Scalar.indexCast c0_i32_430
  let c128 : Index := 128#32
  ![v1050.toNat, 0, 128]
def k0_off1723 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1061 : Index := Scalar.indexCast arg16
  let c0_i32_433 : BitVec 32 := 0#32
  let v1062 : Index := Scalar.indexCast c0_i32_433
  let c144 : Index := 144#32
  ![v1061.toNat, 0, 144]
def k0_off1724 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1072 : Index := Scalar.indexCast arg16
  let c0_i32_436 : BitVec 32 := 0#32
  let v1073 : Index := Scalar.indexCast c0_i32_436
  let c160 : Index := 160#32
  ![v1072.toNat, 0, 160]
def k0_off1725 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1083 : Index := Scalar.indexCast arg16
  let c0_i32_439 : BitVec 32 := 0#32
  let v1084 : Index := Scalar.indexCast c0_i32_439
  let c176 : Index := 176#32
  ![v1083.toNat, 0, 176]
def k0_off1726 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1094 : Index := Scalar.indexCast arg16
  let c0_i32_442 : BitVec 32 := 0#32
  let v1095 : Index := Scalar.indexCast c0_i32_442
  let c192 : Index := 192#32
  ![v1094.toNat, 0, 192]
def k0_off1727 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1105 : Index := Scalar.indexCast arg16
  let c0_i32_445 : BitVec 32 := 0#32
  let v1106 : Index := Scalar.indexCast c0_i32_445
  let c208 : Index := 208#32
  ![v1105.toNat, 0, 208]
def k0_off1728 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1116 : Index := Scalar.indexCast arg16
  let c0_i32_448 : BitVec 32 := 0#32
  let v1117 : Index := Scalar.indexCast c0_i32_448
  let c224 : Index := 224#32
  ![v1116.toNat, 0, 224]
def k0_off1729 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1127 : Index := Scalar.indexCast arg16
  let c0_i32_451 : BitVec 32 := 0#32
  let v1128 : Index := Scalar.indexCast c0_i32_451
  let c240 : Index := 240#32
  ![v1127.toNat, 0, 240]
def k0_off1730 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1138 : Index := Scalar.indexCast arg16
  let c0_i32_454 : BitVec 32 := 0#32
  let v1139 : Index := Scalar.indexCast c0_i32_454
  let c256 : Index := 256#32
  ![v1138.toNat, 0, 256]
def k0_off1731 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1149 : Index := Scalar.indexCast arg16
  let c0_i32_457 : BitVec 32 := 0#32
  let v1150 : Index := Scalar.indexCast c0_i32_457
  let c272 : Index := 272#32
  ![v1149.toNat, 0, 272]
def k0_off1732 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1160 : Index := Scalar.indexCast arg16
  let c0_i32_460 : BitVec 32 := 0#32
  let v1161 : Index := Scalar.indexCast c0_i32_460
  let c288 : Index := 288#32
  ![v1160.toNat, 0, 288]
def k0_off1733 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1171 : Index := Scalar.indexCast arg16
  let c0_i32_463 : BitVec 32 := 0#32
  let v1172 : Index := Scalar.indexCast c0_i32_463
  let c304 : Index := 304#32
  ![v1171.toNat, 0, 304]
def k0_off1734 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1182 : Index := Scalar.indexCast arg16
  let c0_i32_466 : BitVec 32 := 0#32
  let v1183 : Index := Scalar.indexCast c0_i32_466
  let c320 : Index := 320#32
  ![v1182.toNat, 0, 320]
def k0_off1735 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1193 : Index := Scalar.indexCast arg16
  let c0_i32_469 : BitVec 32 := 0#32
  let v1194 : Index := Scalar.indexCast c0_i32_469
  let c336 : Index := 336#32
  ![v1193.toNat, 0, 336]
def k0_off1736 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1204 : Index := Scalar.indexCast arg16
  let c0_i32_472 : BitVec 32 := 0#32
  let v1205 : Index := Scalar.indexCast c0_i32_472
  let c352 : Index := 352#32
  ![v1204.toNat, 0, 352]
def k0_off1737 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1215 : Index := Scalar.indexCast arg16
  let c0_i32_475 : BitVec 32 := 0#32
  let v1216 : Index := Scalar.indexCast c0_i32_475
  let c368 : Index := 368#32
  ![v1215.toNat, 0, 368]
def k0_off1738 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1226 : Index := Scalar.indexCast arg16
  let c0_i32_478 : BitVec 32 := 0#32
  let v1227 : Index := Scalar.indexCast c0_i32_478
  let c384 : Index := 384#32
  ![v1226.toNat, 0, 384]
def k0_off1739 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1237 : Index := Scalar.indexCast arg16
  let c0_i32_481 : BitVec 32 := 0#32
  let v1238 : Index := Scalar.indexCast c0_i32_481
  let c400 : Index := 400#32
  ![v1237.toNat, 0, 400]
def k0_off1740 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1248 : Index := Scalar.indexCast arg16
  let c0_i32_484 : BitVec 32 := 0#32
  let v1249 : Index := Scalar.indexCast c0_i32_484
  let c416 : Index := 416#32
  ![v1248.toNat, 0, 416]
def k0_off1741 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1259 : Index := Scalar.indexCast arg16
  let c0_i32_487 : BitVec 32 := 0#32
  let v1260 : Index := Scalar.indexCast c0_i32_487
  let c432 : Index := 432#32
  ![v1259.toNat, 0, 432]
def k0_off1742 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1270 : Index := Scalar.indexCast arg16
  let c0_i32_490 : BitVec 32 := 0#32
  let v1271 : Index := Scalar.indexCast c0_i32_490
  let c448 : Index := 448#32
  ![v1270.toNat, 0, 448]
def k0_off1743 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1281 : Index := Scalar.indexCast arg16
  let c0_i32_493 : BitVec 32 := 0#32
  let v1282 : Index := Scalar.indexCast c0_i32_493
  let c464 : Index := 464#32
  ![v1281.toNat, 0, 464]
def k0_off1744 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1292 : Index := Scalar.indexCast arg16
  let c0_i32_496 : BitVec 32 := 0#32
  let v1293 : Index := Scalar.indexCast c0_i32_496
  let c480 : Index := 480#32
  ![v1292.toNat, 0, 480]
def k0_off1745 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t74
  let v1303 : Index := Scalar.indexCast arg16
  let c0_i32_499 : BitVec 32 := 0#32
  let v1304 : Index := Scalar.indexCast c0_i32_499
  let c496 : Index := 496#32
  ![v1303.toNat, 0, 496]
@[reducible] def k0_t75_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) : Scf.Loop 32 :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off1746 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v962 : Index := Scalar.indexCast arg16
  let c0_i32_405 : BitVec 32 := 0#32
  let v963 : Index := Scalar.indexCast c0_i32_405
  let c0_406 : Index := 0#32
  ![v962.toNat, 0, 0]
def k0_off1747 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v973 : Index := Scalar.indexCast arg16
  let c0_i32_409 : BitVec 32 := 0#32
  let v974 : Index := Scalar.indexCast c0_i32_409
  let c16 : Index := 16#32
  ![v973.toNat, 0, 16]
def k0_off1748 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v984 : Index := Scalar.indexCast arg16
  let c0_i32_412 : BitVec 32 := 0#32
  let v985 : Index := Scalar.indexCast c0_i32_412
  let c32 : Index := 32#32
  ![v984.toNat, 0, 32]
def k0_off1749 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v995 : Index := Scalar.indexCast arg16
  let c0_i32_415 : BitVec 32 := 0#32
  let v996 : Index := Scalar.indexCast c0_i32_415
  let c48 : Index := 48#32
  ![v995.toNat, 0, 48]
def k0_off1750 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1006 : Index := Scalar.indexCast arg16
  let c0_i32_418 : BitVec 32 := 0#32
  let v1007 : Index := Scalar.indexCast c0_i32_418
  let c64 : Index := 64#32
  ![v1006.toNat, 0, 64]
def k0_off1751 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1017 : Index := Scalar.indexCast arg16
  let c0_i32_421 : BitVec 32 := 0#32
  let v1018 : Index := Scalar.indexCast c0_i32_421
  let c80 : Index := 80#32
  ![v1017.toNat, 0, 80]
def k0_off1752 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1028 : Index := Scalar.indexCast arg16
  let c0_i32_424 : BitVec 32 := 0#32
  let v1029 : Index := Scalar.indexCast c0_i32_424
  let c96 : Index := 96#32
  ![v1028.toNat, 0, 96]
def k0_off1753 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1039 : Index := Scalar.indexCast arg16
  let c0_i32_427 : BitVec 32 := 0#32
  let v1040 : Index := Scalar.indexCast c0_i32_427
  let c112 : Index := 112#32
  ![v1039.toNat, 0, 112]
def k0_off1754 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1050 : Index := Scalar.indexCast arg16
  let c0_i32_430 : BitVec 32 := 0#32
  let v1051 : Index := Scalar.indexCast c0_i32_430
  let c128 : Index := 128#32
  ![v1050.toNat, 0, 128]
def k0_off1755 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1061 : Index := Scalar.indexCast arg16
  let c0_i32_433 : BitVec 32 := 0#32
  let v1062 : Index := Scalar.indexCast c0_i32_433
  let c144 : Index := 144#32
  ![v1061.toNat, 0, 144]
def k0_off1756 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1072 : Index := Scalar.indexCast arg16
  let c0_i32_436 : BitVec 32 := 0#32
  let v1073 : Index := Scalar.indexCast c0_i32_436
  let c160 : Index := 160#32
  ![v1072.toNat, 0, 160]
def k0_off1757 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1083 : Index := Scalar.indexCast arg16
  let c0_i32_439 : BitVec 32 := 0#32
  let v1084 : Index := Scalar.indexCast c0_i32_439
  let c176 : Index := 176#32
  ![v1083.toNat, 0, 176]
def k0_off1758 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1094 : Index := Scalar.indexCast arg16
  let c0_i32_442 : BitVec 32 := 0#32
  let v1095 : Index := Scalar.indexCast c0_i32_442
  let c192 : Index := 192#32
  ![v1094.toNat, 0, 192]
def k0_off1759 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1105 : Index := Scalar.indexCast arg16
  let c0_i32_445 : BitVec 32 := 0#32
  let v1106 : Index := Scalar.indexCast c0_i32_445
  let c208 : Index := 208#32
  ![v1105.toNat, 0, 208]
def k0_off1760 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1116 : Index := Scalar.indexCast arg16
  let c0_i32_448 : BitVec 32 := 0#32
  let v1117 : Index := Scalar.indexCast c0_i32_448
  let c224 : Index := 224#32
  ![v1116.toNat, 0, 224]
def k0_off1761 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1127 : Index := Scalar.indexCast arg16
  let c0_i32_451 : BitVec 32 := 0#32
  let v1128 : Index := Scalar.indexCast c0_i32_451
  let c240 : Index := 240#32
  ![v1127.toNat, 0, 240]
def k0_off1762 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1138 : Index := Scalar.indexCast arg16
  let c0_i32_454 : BitVec 32 := 0#32
  let v1139 : Index := Scalar.indexCast c0_i32_454
  let c256 : Index := 256#32
  ![v1138.toNat, 0, 256]
def k0_off1763 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1149 : Index := Scalar.indexCast arg16
  let c0_i32_457 : BitVec 32 := 0#32
  let v1150 : Index := Scalar.indexCast c0_i32_457
  let c272 : Index := 272#32
  ![v1149.toNat, 0, 272]
def k0_off1764 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1160 : Index := Scalar.indexCast arg16
  let c0_i32_460 : BitVec 32 := 0#32
  let v1161 : Index := Scalar.indexCast c0_i32_460
  let c288 : Index := 288#32
  ![v1160.toNat, 0, 288]
def k0_off1765 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1171 : Index := Scalar.indexCast arg16
  let c0_i32_463 : BitVec 32 := 0#32
  let v1172 : Index := Scalar.indexCast c0_i32_463
  let c304 : Index := 304#32
  ![v1171.toNat, 0, 304]
def k0_off1766 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1182 : Index := Scalar.indexCast arg16
  let c0_i32_466 : BitVec 32 := 0#32
  let v1183 : Index := Scalar.indexCast c0_i32_466
  let c320 : Index := 320#32
  ![v1182.toNat, 0, 320]
def k0_off1767 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1193 : Index := Scalar.indexCast arg16
  let c0_i32_469 : BitVec 32 := 0#32
  let v1194 : Index := Scalar.indexCast c0_i32_469
  let c336 : Index := 336#32
  ![v1193.toNat, 0, 336]
def k0_off1768 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1204 : Index := Scalar.indexCast arg16
  let c0_i32_472 : BitVec 32 := 0#32
  let v1205 : Index := Scalar.indexCast c0_i32_472
  let c352 : Index := 352#32
  ![v1204.toNat, 0, 352]
def k0_off1769 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1215 : Index := Scalar.indexCast arg16
  let c0_i32_475 : BitVec 32 := 0#32
  let v1216 : Index := Scalar.indexCast c0_i32_475
  let c368 : Index := 368#32
  ![v1215.toNat, 0, 368]
def k0_off1770 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1226 : Index := Scalar.indexCast arg16
  let c0_i32_478 : BitVec 32 := 0#32
  let v1227 : Index := Scalar.indexCast c0_i32_478
  let c384 : Index := 384#32
  ![v1226.toNat, 0, 384]
def k0_off1771 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1237 : Index := Scalar.indexCast arg16
  let c0_i32_481 : BitVec 32 := 0#32
  let v1238 : Index := Scalar.indexCast c0_i32_481
  let c400 : Index := 400#32
  ![v1237.toNat, 0, 400]

variable {F : FTy → Type} [FloatOps F]

def k0_off1772 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1248 : Index := Scalar.indexCast arg16
  let c0_i32_484 : BitVec 32 := 0#32
  let v1249 : Index := Scalar.indexCast c0_i32_484
  let c416 : Index := 416#32
  ![v1248.toNat, 0, 416]
def k0_off1773 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1259 : Index := Scalar.indexCast arg16
  let c0_i32_487 : BitVec 32 := 0#32
  let v1260 : Index := Scalar.indexCast c0_i32_487
  let c432 : Index := 432#32
  ![v1259.toNat, 0, 432]
def k0_off1774 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1270 : Index := Scalar.indexCast arg16
  let c0_i32_490 : BitVec 32 := 0#32
  let v1271 : Index := Scalar.indexCast c0_i32_490
  let c448 : Index := 448#32
  ![v1270.toNat, 0, 448]
def k0_off1775 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1281 : Index := Scalar.indexCast arg16
  let c0_i32_493 : BitVec 32 := 0#32
  let v1282 : Index := Scalar.indexCast c0_i32_493
  let c464 : Index := 464#32
  ![v1281.toNat, 0, 464]
def k0_off1776 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1292 : Index := Scalar.indexCast arg16
  let c0_i32_496 : BitVec 32 := 0#32
  let v1293 : Index := Scalar.indexCast c0_i32_496
  let c480 : Index := 480#32
  ![v1292.toNat, 0, 480]
def k0_off1777 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips) : Fin 3 → Nat :=
  let c0_i32_302 : BitVec 32 := 0#32
  let c1_i32_304 : BitVec 32 := 1#32
  let arg14 : BitVec 32 := Scf.iv c0_i32_302 c1_i32_304 k0_t73
  let c3_i32 : BitVec 32 := 3#32
  let v907 : BitVec 32 := Scalar.remsi arg14 c3_i32
  let c32_i32_400 : BitVec 32 := 32#32
  let v948 : BitVec 32 := Scalar.muli v907 c32_i32_400
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t75
  let v1303 : Index := Scalar.indexCast arg16
  let c0_i32_499 : BitVec 32 := 0#32
  let v1304 : Index := Scalar.indexCast c0_i32_499
  let c496 : Index := 496#32
  ![v1303.toNat, 0, 496]
@[reducible] def k0_t76_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let v750 : BitVec 32 := Scalar.addi c0_i32_302 v749
  let c1_i32_305 : BitVec 32 := 1#32
  ⟨v753, v750, c1_i32_305⟩
def k0_off1778 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond52 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) : BitVec 1 :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c2_i32_376 : BitVec 32 := 2#32
  let v927 : BitVec 32 := Scalar.addi arg14 c2_i32_376
  let v908 : BitVec 32 := Scalar.subi v722 v720
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off1779 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) : Fin 3 → Nat :=
  let c1024_i32_287 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let c0_i32_302 : BitVec 32 := 0#32
  let c1024_i32_288 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v720 v965
  let c2016_i32_409 : BitVec 32 := 2016#32
  let v967 : BitVec 32 := Scalar.minsi v966 c2016_i32_409
  let c12_i32_413 : BitVec 32 := 12#32
  let c0_i32_414 : BitVec 32 := 0#32
  ![v967.toNat, 12, 0]
def k0_off1780 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) : Fin 1 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off1781 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off1782 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) : Fin 1 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  ![v907.toNat]
@[reducible] def k0_t77_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) : Scf.Loop 32 :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off1783 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v962 : Index := Scalar.indexCast arg16
  let c0_i32_405 : BitVec 32 := 0#32
  let v963 : Index := Scalar.indexCast c0_i32_405
  let c0_406 : Index := 0#32
  ![v962.toNat, 0, 0]
def k0_off1784 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v973 : Index := Scalar.indexCast arg16
  let c0_i32_409 : BitVec 32 := 0#32
  let v974 : Index := Scalar.indexCast c0_i32_409
  let c16 : Index := 16#32
  ![v973.toNat, 0, 16]
def k0_off1785 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v984 : Index := Scalar.indexCast arg16
  let c0_i32_412 : BitVec 32 := 0#32
  let v985 : Index := Scalar.indexCast c0_i32_412
  let c32 : Index := 32#32
  ![v984.toNat, 0, 32]
def k0_off1786 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v995 : Index := Scalar.indexCast arg16
  let c0_i32_415 : BitVec 32 := 0#32
  let v996 : Index := Scalar.indexCast c0_i32_415
  let c48 : Index := 48#32
  ![v995.toNat, 0, 48]
def k0_off1787 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1006 : Index := Scalar.indexCast arg16
  let c0_i32_418 : BitVec 32 := 0#32
  let v1007 : Index := Scalar.indexCast c0_i32_418
  let c64 : Index := 64#32
  ![v1006.toNat, 0, 64]
def k0_off1788 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1017 : Index := Scalar.indexCast arg16
  let c0_i32_421 : BitVec 32 := 0#32
  let v1018 : Index := Scalar.indexCast c0_i32_421
  let c80 : Index := 80#32
  ![v1017.toNat, 0, 80]
def k0_off1789 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1028 : Index := Scalar.indexCast arg16
  let c0_i32_424 : BitVec 32 := 0#32
  let v1029 : Index := Scalar.indexCast c0_i32_424
  let c96 : Index := 96#32
  ![v1028.toNat, 0, 96]
def k0_off1790 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1039 : Index := Scalar.indexCast arg16
  let c0_i32_427 : BitVec 32 := 0#32
  let v1040 : Index := Scalar.indexCast c0_i32_427
  let c112 : Index := 112#32
  ![v1039.toNat, 0, 112]
def k0_off1791 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1050 : Index := Scalar.indexCast arg16
  let c0_i32_430 : BitVec 32 := 0#32
  let v1051 : Index := Scalar.indexCast c0_i32_430
  let c128 : Index := 128#32
  ![v1050.toNat, 0, 128]
def k0_off1792 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1061 : Index := Scalar.indexCast arg16
  let c0_i32_433 : BitVec 32 := 0#32
  let v1062 : Index := Scalar.indexCast c0_i32_433
  let c144 : Index := 144#32
  ![v1061.toNat, 0, 144]
def k0_off1793 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1072 : Index := Scalar.indexCast arg16
  let c0_i32_436 : BitVec 32 := 0#32
  let v1073 : Index := Scalar.indexCast c0_i32_436
  let c160 : Index := 160#32
  ![v1072.toNat, 0, 160]
def k0_off1794 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1083 : Index := Scalar.indexCast arg16
  let c0_i32_439 : BitVec 32 := 0#32
  let v1084 : Index := Scalar.indexCast c0_i32_439
  let c176 : Index := 176#32
  ![v1083.toNat, 0, 176]
def k0_off1795 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1094 : Index := Scalar.indexCast arg16
  let c0_i32_442 : BitVec 32 := 0#32
  let v1095 : Index := Scalar.indexCast c0_i32_442
  let c192 : Index := 192#32
  ![v1094.toNat, 0, 192]
def k0_off1796 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1105 : Index := Scalar.indexCast arg16
  let c0_i32_445 : BitVec 32 := 0#32
  let v1106 : Index := Scalar.indexCast c0_i32_445
  let c208 : Index := 208#32
  ![v1105.toNat, 0, 208]
def k0_off1797 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1116 : Index := Scalar.indexCast arg16
  let c0_i32_448 : BitVec 32 := 0#32
  let v1117 : Index := Scalar.indexCast c0_i32_448
  let c224 : Index := 224#32
  ![v1116.toNat, 0, 224]
def k0_off1798 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1127 : Index := Scalar.indexCast arg16
  let c0_i32_451 : BitVec 32 := 0#32
  let v1128 : Index := Scalar.indexCast c0_i32_451
  let c240 : Index := 240#32
  ![v1127.toNat, 0, 240]
def k0_off1799 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1138 : Index := Scalar.indexCast arg16
  let c0_i32_454 : BitVec 32 := 0#32
  let v1139 : Index := Scalar.indexCast c0_i32_454
  let c256 : Index := 256#32
  ![v1138.toNat, 0, 256]
def k0_off1800 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1149 : Index := Scalar.indexCast arg16
  let c0_i32_457 : BitVec 32 := 0#32
  let v1150 : Index := Scalar.indexCast c0_i32_457
  let c272 : Index := 272#32
  ![v1149.toNat, 0, 272]
def k0_off1801 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1160 : Index := Scalar.indexCast arg16
  let c0_i32_460 : BitVec 32 := 0#32
  let v1161 : Index := Scalar.indexCast c0_i32_460
  let c288 : Index := 288#32
  ![v1160.toNat, 0, 288]
def k0_off1802 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1171 : Index := Scalar.indexCast arg16
  let c0_i32_463 : BitVec 32 := 0#32
  let v1172 : Index := Scalar.indexCast c0_i32_463
  let c304 : Index := 304#32
  ![v1171.toNat, 0, 304]
def k0_off1803 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1182 : Index := Scalar.indexCast arg16
  let c0_i32_466 : BitVec 32 := 0#32
  let v1183 : Index := Scalar.indexCast c0_i32_466
  let c320 : Index := 320#32
  ![v1182.toNat, 0, 320]
def k0_off1804 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1193 : Index := Scalar.indexCast arg16
  let c0_i32_469 : BitVec 32 := 0#32
  let v1194 : Index := Scalar.indexCast c0_i32_469
  let c336 : Index := 336#32
  ![v1193.toNat, 0, 336]
def k0_off1805 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1204 : Index := Scalar.indexCast arg16
  let c0_i32_472 : BitVec 32 := 0#32
  let v1205 : Index := Scalar.indexCast c0_i32_472
  let c352 : Index := 352#32
  ![v1204.toNat, 0, 352]
def k0_off1806 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1215 : Index := Scalar.indexCast arg16
  let c0_i32_475 : BitVec 32 := 0#32
  let v1216 : Index := Scalar.indexCast c0_i32_475
  let c368 : Index := 368#32
  ![v1215.toNat, 0, 368]
def k0_off1807 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1226 : Index := Scalar.indexCast arg16
  let c0_i32_478 : BitVec 32 := 0#32
  let v1227 : Index := Scalar.indexCast c0_i32_478
  let c384 : Index := 384#32
  ![v1226.toNat, 0, 384]
def k0_off1808 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1237 : Index := Scalar.indexCast arg16
  let c0_i32_481 : BitVec 32 := 0#32
  let v1238 : Index := Scalar.indexCast c0_i32_481
  let c400 : Index := 400#32
  ![v1237.toNat, 0, 400]
def k0_off1809 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1248 : Index := Scalar.indexCast arg16
  let c0_i32_484 : BitVec 32 := 0#32
  let v1249 : Index := Scalar.indexCast c0_i32_484
  let c416 : Index := 416#32
  ![v1248.toNat, 0, 416]
def k0_off1810 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1259 : Index := Scalar.indexCast arg16
  let c0_i32_487 : BitVec 32 := 0#32
  let v1260 : Index := Scalar.indexCast c0_i32_487
  let c432 : Index := 432#32
  ![v1259.toNat, 0, 432]
def k0_off1811 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1270 : Index := Scalar.indexCast arg16
  let c0_i32_490 : BitVec 32 := 0#32
  let v1271 : Index := Scalar.indexCast c0_i32_490
  let c448 : Index := 448#32
  ![v1270.toNat, 0, 448]
def k0_off1812 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1281 : Index := Scalar.indexCast arg16
  let c0_i32_493 : BitVec 32 := 0#32
  let v1282 : Index := Scalar.indexCast c0_i32_493
  let c464 : Index := 464#32
  ![v1281.toNat, 0, 464]
def k0_off1813 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1292 : Index := Scalar.indexCast arg16
  let c0_i32_496 : BitVec 32 := 0#32
  let v1293 : Index := Scalar.indexCast c0_i32_496
  let c480 : Index := 480#32
  ![v1292.toNat, 0, 480]
def k0_off1814 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t77
  let v1303 : Index := Scalar.indexCast arg16
  let c0_i32_499 : BitVec 32 := 0#32
  let v1304 : Index := Scalar.indexCast c0_i32_499
  let c496 : Index := 496#32
  ![v1303.toNat, 0, 496]
@[reducible] def k0_t78_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) : Scf.Loop 32 :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off1815 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v962 : Index := Scalar.indexCast arg16
  let c0_i32_405 : BitVec 32 := 0#32
  let v963 : Index := Scalar.indexCast c0_i32_405
  let c0_406 : Index := 0#32
  ![v962.toNat, 0, 0]
def k0_off1816 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v973 : Index := Scalar.indexCast arg16
  let c0_i32_409 : BitVec 32 := 0#32
  let v974 : Index := Scalar.indexCast c0_i32_409
  let c16 : Index := 16#32
  ![v973.toNat, 0, 16]
def k0_off1817 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v984 : Index := Scalar.indexCast arg16
  let c0_i32_412 : BitVec 32 := 0#32
  let v985 : Index := Scalar.indexCast c0_i32_412
  let c32 : Index := 32#32
  ![v984.toNat, 0, 32]
def k0_off1818 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v995 : Index := Scalar.indexCast arg16
  let c0_i32_415 : BitVec 32 := 0#32
  let v996 : Index := Scalar.indexCast c0_i32_415
  let c48 : Index := 48#32
  ![v995.toNat, 0, 48]
def k0_off1819 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1006 : Index := Scalar.indexCast arg16
  let c0_i32_418 : BitVec 32 := 0#32
  let v1007 : Index := Scalar.indexCast c0_i32_418
  let c64 : Index := 64#32
  ![v1006.toNat, 0, 64]
def k0_off1820 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1017 : Index := Scalar.indexCast arg16
  let c0_i32_421 : BitVec 32 := 0#32
  let v1018 : Index := Scalar.indexCast c0_i32_421
  let c80 : Index := 80#32
  ![v1017.toNat, 0, 80]
def k0_off1821 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1028 : Index := Scalar.indexCast arg16
  let c0_i32_424 : BitVec 32 := 0#32
  let v1029 : Index := Scalar.indexCast c0_i32_424
  let c96 : Index := 96#32
  ![v1028.toNat, 0, 96]
def k0_off1822 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1039 : Index := Scalar.indexCast arg16
  let c0_i32_427 : BitVec 32 := 0#32
  let v1040 : Index := Scalar.indexCast c0_i32_427
  let c112 : Index := 112#32
  ![v1039.toNat, 0, 112]
def k0_off1823 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1050 : Index := Scalar.indexCast arg16
  let c0_i32_430 : BitVec 32 := 0#32
  let v1051 : Index := Scalar.indexCast c0_i32_430
  let c128 : Index := 128#32
  ![v1050.toNat, 0, 128]
def k0_off1824 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1061 : Index := Scalar.indexCast arg16
  let c0_i32_433 : BitVec 32 := 0#32
  let v1062 : Index := Scalar.indexCast c0_i32_433
  let c144 : Index := 144#32
  ![v1061.toNat, 0, 144]
def k0_off1825 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1072 : Index := Scalar.indexCast arg16
  let c0_i32_436 : BitVec 32 := 0#32
  let v1073 : Index := Scalar.indexCast c0_i32_436
  let c160 : Index := 160#32
  ![v1072.toNat, 0, 160]
def k0_off1826 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1083 : Index := Scalar.indexCast arg16
  let c0_i32_439 : BitVec 32 := 0#32
  let v1084 : Index := Scalar.indexCast c0_i32_439
  let c176 : Index := 176#32
  ![v1083.toNat, 0, 176]
def k0_off1827 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1094 : Index := Scalar.indexCast arg16
  let c0_i32_442 : BitVec 32 := 0#32
  let v1095 : Index := Scalar.indexCast c0_i32_442
  let c192 : Index := 192#32
  ![v1094.toNat, 0, 192]
def k0_off1828 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1105 : Index := Scalar.indexCast arg16
  let c0_i32_445 : BitVec 32 := 0#32
  let v1106 : Index := Scalar.indexCast c0_i32_445
  let c208 : Index := 208#32
  ![v1105.toNat, 0, 208]
def k0_off1829 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1116 : Index := Scalar.indexCast arg16
  let c0_i32_448 : BitVec 32 := 0#32
  let v1117 : Index := Scalar.indexCast c0_i32_448
  let c224 : Index := 224#32
  ![v1116.toNat, 0, 224]
def k0_off1830 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1127 : Index := Scalar.indexCast arg16
  let c0_i32_451 : BitVec 32 := 0#32
  let v1128 : Index := Scalar.indexCast c0_i32_451
  let c240 : Index := 240#32
  ![v1127.toNat, 0, 240]
def k0_off1831 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1138 : Index := Scalar.indexCast arg16
  let c0_i32_454 : BitVec 32 := 0#32
  let v1139 : Index := Scalar.indexCast c0_i32_454
  let c256 : Index := 256#32
  ![v1138.toNat, 0, 256]
def k0_off1832 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1149 : Index := Scalar.indexCast arg16
  let c0_i32_457 : BitVec 32 := 0#32
  let v1150 : Index := Scalar.indexCast c0_i32_457
  let c272 : Index := 272#32
  ![v1149.toNat, 0, 272]
def k0_off1833 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1160 : Index := Scalar.indexCast arg16
  let c0_i32_460 : BitVec 32 := 0#32
  let v1161 : Index := Scalar.indexCast c0_i32_460
  let c288 : Index := 288#32
  ![v1160.toNat, 0, 288]
def k0_off1834 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1171 : Index := Scalar.indexCast arg16
  let c0_i32_463 : BitVec 32 := 0#32
  let v1172 : Index := Scalar.indexCast c0_i32_463
  let c304 : Index := 304#32
  ![v1171.toNat, 0, 304]
def k0_off1835 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1182 : Index := Scalar.indexCast arg16
  let c0_i32_466 : BitVec 32 := 0#32
  let v1183 : Index := Scalar.indexCast c0_i32_466
  let c320 : Index := 320#32
  ![v1182.toNat, 0, 320]
def k0_off1836 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1193 : Index := Scalar.indexCast arg16
  let c0_i32_469 : BitVec 32 := 0#32
  let v1194 : Index := Scalar.indexCast c0_i32_469
  let c336 : Index := 336#32
  ![v1193.toNat, 0, 336]
def k0_off1837 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1204 : Index := Scalar.indexCast arg16
  let c0_i32_472 : BitVec 32 := 0#32
  let v1205 : Index := Scalar.indexCast c0_i32_472
  let c352 : Index := 352#32
  ![v1204.toNat, 0, 352]
def k0_off1838 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1215 : Index := Scalar.indexCast arg16
  let c0_i32_475 : BitVec 32 := 0#32
  let v1216 : Index := Scalar.indexCast c0_i32_475
  let c368 : Index := 368#32
  ![v1215.toNat, 0, 368]
def k0_off1839 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1226 : Index := Scalar.indexCast arg16
  let c0_i32_478 : BitVec 32 := 0#32
  let v1227 : Index := Scalar.indexCast c0_i32_478
  let c384 : Index := 384#32
  ![v1226.toNat, 0, 384]
def k0_off1840 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1237 : Index := Scalar.indexCast arg16
  let c0_i32_481 : BitVec 32 := 0#32
  let v1238 : Index := Scalar.indexCast c0_i32_481
  let c400 : Index := 400#32
  ![v1237.toNat, 0, 400]
def k0_off1841 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1248 : Index := Scalar.indexCast arg16
  let c0_i32_484 : BitVec 32 := 0#32
  let v1249 : Index := Scalar.indexCast c0_i32_484
  let c416 : Index := 416#32
  ![v1248.toNat, 0, 416]
def k0_off1842 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1259 : Index := Scalar.indexCast arg16
  let c0_i32_487 : BitVec 32 := 0#32
  let v1260 : Index := Scalar.indexCast c0_i32_487
  let c432 : Index := 432#32
  ![v1259.toNat, 0, 432]
def k0_off1843 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1270 : Index := Scalar.indexCast arg16
  let c0_i32_490 : BitVec 32 := 0#32
  let v1271 : Index := Scalar.indexCast c0_i32_490
  let c448 : Index := 448#32
  ![v1270.toNat, 0, 448]
def k0_off1844 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1281 : Index := Scalar.indexCast arg16
  let c0_i32_493 : BitVec 32 := 0#32
  let v1282 : Index := Scalar.indexCast c0_i32_493
  let c464 : Index := 464#32
  ![v1281.toNat, 0, 464]
def k0_off1845 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1292 : Index := Scalar.indexCast arg16
  let c0_i32_496 : BitVec 32 := 0#32
  let v1293 : Index := Scalar.indexCast c0_i32_496
  let c480 : Index := 480#32
  ![v1292.toNat, 0, 480]
def k0_off1846 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips) : Fin 3 → Nat :=
  let c0_i32_302 : BitVec 32 := 0#32
  let c1024_i32_288 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v717 : BitVec 32 := Scalar.addi v109 v91
  let v718 : BitVec 32 := Scalar.minsi v150 v717
  let v721 : BitVec 32 := Scalar.subi v718 v109
  let v722 : BitVec 32 := Scalar.addi c1024_i32_288 v721
  let c1024_i32_287 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v716 : BitVec 32 := Scalar.maxsi v131 v109
  let v719 : BitVec 32 := Scalar.subi v716 v109
  let v720 : BitVec 32 := Scalar.addi c1024_i32_287 v719
  let v723 : BitVec 32 := Scalar.subi v722 v720
  let c31_i32_289 : BitVec 32 := 31#32
  let v724 : BitVec 32 := Scalar.addi v723 c31_i32_289
  let c0_i32_291 : BitVec 32 := 0#32
  let v726 : BitVec 1 := Scalar.cmpi .sgt v724 c0_i32_291
  let v727 : BitVec 32 := Scalar.extui v726
  let c0_i32_292 : BitVec 32 := 0#32
  let v728 : BitVec 1 := Scalar.cmpi .slt v724 c0_i32_292
  let v729 : BitVec 32 := Scalar.extui v728
  let v730 : BitVec 32 := Scalar.subi v727 v729
  let c32_i32_290 : BitVec 32 := 32#32
  let c0_i32_293 : BitVec 32 := 0#32
  let v731 : BitVec 1 := Scalar.cmpi .sgt c32_i32_290 c0_i32_293
  let v732 : BitVec 32 := Scalar.extui v731
  let c0_i32_294 : BitVec 32 := 0#32
  let v733 : BitVec 1 := Scalar.cmpi .slt c32_i32_290 c0_i32_294
  let v734 : BitVec 32 := Scalar.extui v733
  let v735 : BitVec 32 := Scalar.subi v732 v734
  let v736 : BitVec 1 := Scalar.cmpi .ne v730 v735
  let v737 : BitVec 32 := Scalar.remsi v724 c32_i32_290
  let c0_i32_295 : BitVec 32 := 0#32
  let v738 : BitVec 1 := Scalar.cmpi .ne v737 c0_i32_295
  let v739 : BitVec 1 := Scalar.andi v736 v738
  let v725 : BitVec 32 := Scalar.divsi v724 c32_i32_290
  let c1_i32_296 : BitVec 32 := 1#32
  let v740 : BitVec 32 := Scalar.subi v725 c1_i32_296
  let v741 : BitVec 32 := Scalar.select v739 v740 v725
  let v749 : BitVec 32 := Scalar.subi v741 c0_i32_302
  let c1_i32_303 : BitVec 32 := 1#32
  let v751 : BitVec 32 := Scalar.divsi v749 c1_i32_303
  let v752 : BitVec 32 := Scalar.muli v751 c1_i32_303
  let v753 : BitVec 32 := Scalar.addi c0_i32_302 v752
  let c1_i32_305 : BitVec 32 := 1#32
  let arg14 : BitVec 32 := Scf.iv v753 c1_i32_305 k0_t76
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v720 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v722 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t78
  let v1303 : Index := Scalar.indexCast arg16
  let c0_i32_499 : BitVec 32 := 0#32
  let v1304 : Index := Scalar.indexCast c0_i32_499
  let c496 : Index := 496#32
  ![v1303.toNat, 0, 496]
def k0_off1847 : Fin 3 → Nat :=
  let c0_i32_370 : BitVec 32 := 0#32
  let c32_i32_371 : BitVec 32 := 32#32
  let v910 : BitVec 32 := Scalar.muli c0_i32_370 c32_i32_371
  let c0_i32_373 : BitVec 32 := 0#32
  let c0_i32_374 : BitVec 32 := 0#32
  ![v910.toNat, 0, 0]
def k0_off1848 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c0_i32_368 : BitVec 32 := 0#32
  let c32_i32_369 : BitVec 32 := 32#32
  let v907 : BitVec 32 := Scalar.muli c0_i32_368 c32_i32_369
  let v908 : BitVec 32 := Scalar.addi v767 v907
  let c2016_i32 : BitVec 32 := 2016#32
  let v909 : BitVec 32 := Scalar.minsi v908 c2016_i32
  let c13_i32 : BitVec 32 := 13#32
  let c0_i32_375 : BitVec 32 := 0#32
  ![v909.toNat, 13, 0]
def k0_cond53 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let c0_i32_317 : BitVec 32 := 0#32
  let v789 : BitVec 1 := Scalar.cmpi .sgt v788 c0_i32_317
  let v790 : BitVec 32 := Scalar.extui v789
  let c0_i32_318 : BitVec 32 := 0#32
  let v791 : BitVec 1 := Scalar.cmpi .ne v790 c0_i32_318
  v791

def k0_off1849 : Fin 3 → Nat :=
  let c1_i32_370 : BitVec 32 := 1#32
  let c32_i32_371 : BitVec 32 := 32#32
  let v910 : BitVec 32 := Scalar.muli c1_i32_370 c32_i32_371
  let c0_i32_373 : BitVec 32 := 0#32
  let c0_i32_374 : BitVec 32 := 0#32
  ![v910.toNat, 0, 0]
def k0_off1850 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c1_i32_368 : BitVec 32 := 1#32
  let c32_i32_369 : BitVec 32 := 32#32
  let v907 : BitVec 32 := Scalar.muli c1_i32_368 c32_i32_369
  let v908 : BitVec 32 := Scalar.addi v767 v907
  let c2016_i32 : BitVec 32 := 2016#32
  let v909 : BitVec 32 := Scalar.minsi v908 c2016_i32
  let c13_i32 : BitVec 32 := 13#32
  let c0_i32_375 : BitVec 32 := 0#32
  ![v909.toNat, 13, 0]
def k0_cond54 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let c1_i32_319 : BitVec 32 := 1#32
  let v792 : BitVec 1 := Scalar.cmpi .sgt v788 c1_i32_319
  let v793 : BitVec 32 := Scalar.extui v792
  let c0_i32_320 : BitVec 32 := 0#32
  let v794 : BitVec 1 := Scalar.cmpi .ne v793 c0_i32_320
  v794

@[reducible] def k0_t79_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_324 : BitVec 32 := 1#32
  ⟨c0_i32_322, v800, c1_i32_324⟩
def k0_off1851 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) : Fin 3 → Nat :=
  let c0_i32_322 : BitVec 32 := 0#32
  let c1_i32_324 : BitVec 32 := 1#32
  let arg14 : BitVec 32 := Scf.iv c0_i32_322 c1_i32_324 k0_t79
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond55 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) : BitVec 1 :=
  let c0_i32_322 : BitVec 32 := 0#32
  let c1_i32_324 : BitVec 32 := 1#32
  let arg14 : BitVec 32 := Scf.iv c0_i32_322 c1_i32_324 k0_t79
  let c2_i32_376 : BitVec 32 := 2#32
  let v927 : BitVec 32 := Scalar.addi arg14 c2_i32_376
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v908 : BitVec 32 := Scalar.subi v769 v767
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off1852 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) : Fin 3 → Nat :=
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c0_i32_322 : BitVec 32 := 0#32
  let c1_i32_324 : BitVec 32 := 1#32
  let arg14 : BitVec 32 := Scf.iv c0_i32_322 c1_i32_324 k0_t79
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v767 v965
  let c2016_i32_409 : BitVec 32 := 2016#32
  let v967 : BitVec 32 := Scalar.minsi v966 c2016_i32_409
  let c13_i32_413 : BitVec 32 := 13#32
  let c0_i32_414 : BitVec 32 := 0#32
  ![v967.toNat, 13, 0]
def k0_off1853 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) : Fin 1 → Nat :=
  let c0_i32_322 : BitVec 32 := 0#32
  let c1_i32_324 : BitVec 32 := 1#32
  let arg14 : BitVec 32 := Scf.iv c0_i32_322 c1_i32_324 k0_t79
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off1854 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off1855 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) : Fin 1 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  ![v907.toNat]
@[reducible] def k0_t80_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) : Scf.Loop 32 :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off1856 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v962 : Index := Scalar.indexCast arg16
  let c0_i32_405 : BitVec 32 := 0#32
  let v963 : Index := Scalar.indexCast c0_i32_405
  let c0_406 : Index := 0#32
  ![v962.toNat, 0, 0]
def k0_off1857 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v973 : Index := Scalar.indexCast arg16
  let c0_i32_409 : BitVec 32 := 0#32
  let v974 : Index := Scalar.indexCast c0_i32_409
  let c16 : Index := 16#32
  ![v973.toNat, 0, 16]
def k0_off1858 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v984 : Index := Scalar.indexCast arg16
  let c0_i32_412 : BitVec 32 := 0#32
  let v985 : Index := Scalar.indexCast c0_i32_412
  let c32 : Index := 32#32
  ![v984.toNat, 0, 32]
def k0_off1859 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v995 : Index := Scalar.indexCast arg16
  let c0_i32_415 : BitVec 32 := 0#32
  let v996 : Index := Scalar.indexCast c0_i32_415
  let c48 : Index := 48#32
  ![v995.toNat, 0, 48]
def k0_off1860 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1006 : Index := Scalar.indexCast arg16
  let c0_i32_418 : BitVec 32 := 0#32
  let v1007 : Index := Scalar.indexCast c0_i32_418
  let c64 : Index := 64#32
  ![v1006.toNat, 0, 64]
def k0_off1861 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1017 : Index := Scalar.indexCast arg16
  let c0_i32_421 : BitVec 32 := 0#32
  let v1018 : Index := Scalar.indexCast c0_i32_421
  let c80 : Index := 80#32
  ![v1017.toNat, 0, 80]
def k0_off1862 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1028 : Index := Scalar.indexCast arg16
  let c0_i32_424 : BitVec 32 := 0#32
  let v1029 : Index := Scalar.indexCast c0_i32_424
  let c96 : Index := 96#32
  ![v1028.toNat, 0, 96]
def k0_off1863 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1039 : Index := Scalar.indexCast arg16
  let c0_i32_427 : BitVec 32 := 0#32
  let v1040 : Index := Scalar.indexCast c0_i32_427
  let c112 : Index := 112#32
  ![v1039.toNat, 0, 112]
def k0_off1864 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1050 : Index := Scalar.indexCast arg16
  let c0_i32_430 : BitVec 32 := 0#32
  let v1051 : Index := Scalar.indexCast c0_i32_430
  let c128 : Index := 128#32
  ![v1050.toNat, 0, 128]
def k0_off1865 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1061 : Index := Scalar.indexCast arg16
  let c0_i32_433 : BitVec 32 := 0#32
  let v1062 : Index := Scalar.indexCast c0_i32_433
  let c144 : Index := 144#32
  ![v1061.toNat, 0, 144]
def k0_off1866 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1072 : Index := Scalar.indexCast arg16
  let c0_i32_436 : BitVec 32 := 0#32
  let v1073 : Index := Scalar.indexCast c0_i32_436
  let c160 : Index := 160#32
  ![v1072.toNat, 0, 160]
def k0_off1867 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1083 : Index := Scalar.indexCast arg16
  let c0_i32_439 : BitVec 32 := 0#32
  let v1084 : Index := Scalar.indexCast c0_i32_439
  let c176 : Index := 176#32
  ![v1083.toNat, 0, 176]
def k0_off1868 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1094 : Index := Scalar.indexCast arg16
  let c0_i32_442 : BitVec 32 := 0#32
  let v1095 : Index := Scalar.indexCast c0_i32_442
  let c192 : Index := 192#32
  ![v1094.toNat, 0, 192]
def k0_off1869 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1105 : Index := Scalar.indexCast arg16
  let c0_i32_445 : BitVec 32 := 0#32
  let v1106 : Index := Scalar.indexCast c0_i32_445
  let c208 : Index := 208#32
  ![v1105.toNat, 0, 208]
def k0_off1870 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1116 : Index := Scalar.indexCast arg16
  let c0_i32_448 : BitVec 32 := 0#32
  let v1117 : Index := Scalar.indexCast c0_i32_448
  let c224 : Index := 224#32
  ![v1116.toNat, 0, 224]
def k0_off1871 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1127 : Index := Scalar.indexCast arg16
  let c0_i32_451 : BitVec 32 := 0#32
  let v1128 : Index := Scalar.indexCast c0_i32_451
  let c240 : Index := 240#32
  ![v1127.toNat, 0, 240]
def k0_off1872 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1138 : Index := Scalar.indexCast arg16
  let c0_i32_454 : BitVec 32 := 0#32
  let v1139 : Index := Scalar.indexCast c0_i32_454
  let c256 : Index := 256#32
  ![v1138.toNat, 0, 256]
def k0_off1873 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1149 : Index := Scalar.indexCast arg16
  let c0_i32_457 : BitVec 32 := 0#32
  let v1150 : Index := Scalar.indexCast c0_i32_457
  let c272 : Index := 272#32
  ![v1149.toNat, 0, 272]
def k0_off1874 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1160 : Index := Scalar.indexCast arg16
  let c0_i32_460 : BitVec 32 := 0#32
  let v1161 : Index := Scalar.indexCast c0_i32_460
  let c288 : Index := 288#32
  ![v1160.toNat, 0, 288]
def k0_off1875 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1171 : Index := Scalar.indexCast arg16
  let c0_i32_463 : BitVec 32 := 0#32
  let v1172 : Index := Scalar.indexCast c0_i32_463
  let c304 : Index := 304#32
  ![v1171.toNat, 0, 304]
def k0_off1876 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1182 : Index := Scalar.indexCast arg16
  let c0_i32_466 : BitVec 32 := 0#32
  let v1183 : Index := Scalar.indexCast c0_i32_466
  let c320 : Index := 320#32
  ![v1182.toNat, 0, 320]
def k0_off1877 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1193 : Index := Scalar.indexCast arg16
  let c0_i32_469 : BitVec 32 := 0#32
  let v1194 : Index := Scalar.indexCast c0_i32_469
  let c336 : Index := 336#32
  ![v1193.toNat, 0, 336]
def k0_off1878 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1204 : Index := Scalar.indexCast arg16
  let c0_i32_472 : BitVec 32 := 0#32
  let v1205 : Index := Scalar.indexCast c0_i32_472
  let c352 : Index := 352#32
  ![v1204.toNat, 0, 352]
def k0_off1879 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1215 : Index := Scalar.indexCast arg16
  let c0_i32_475 : BitVec 32 := 0#32
  let v1216 : Index := Scalar.indexCast c0_i32_475
  let c368 : Index := 368#32
  ![v1215.toNat, 0, 368]
def k0_off1880 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1226 : Index := Scalar.indexCast arg16
  let c0_i32_478 : BitVec 32 := 0#32
  let v1227 : Index := Scalar.indexCast c0_i32_478
  let c384 : Index := 384#32
  ![v1226.toNat, 0, 384]
def k0_off1881 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1237 : Index := Scalar.indexCast arg16
  let c0_i32_481 : BitVec 32 := 0#32
  let v1238 : Index := Scalar.indexCast c0_i32_481
  let c400 : Index := 400#32
  ![v1237.toNat, 0, 400]
def k0_off1882 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1248 : Index := Scalar.indexCast arg16
  let c0_i32_484 : BitVec 32 := 0#32
  let v1249 : Index := Scalar.indexCast c0_i32_484
  let c416 : Index := 416#32
  ![v1248.toNat, 0, 416]
def k0_off1883 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1259 : Index := Scalar.indexCast arg16
  let c0_i32_487 : BitVec 32 := 0#32
  let v1260 : Index := Scalar.indexCast c0_i32_487
  let c432 : Index := 432#32
  ![v1259.toNat, 0, 432]
def k0_off1884 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1270 : Index := Scalar.indexCast arg16
  let c0_i32_490 : BitVec 32 := 0#32
  let v1271 : Index := Scalar.indexCast c0_i32_490
  let c448 : Index := 448#32
  ![v1270.toNat, 0, 448]
def k0_off1885 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1281 : Index := Scalar.indexCast arg16
  let c0_i32_493 : BitVec 32 := 0#32
  let v1282 : Index := Scalar.indexCast c0_i32_493
  let c464 : Index := 464#32
  ![v1281.toNat, 0, 464]
def k0_off1886 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1292 : Index := Scalar.indexCast arg16
  let c0_i32_496 : BitVec 32 := 0#32
  let v1293 : Index := Scalar.indexCast c0_i32_496
  let c480 : Index := 480#32
  ![v1292.toNat, 0, 480]
def k0_off1887 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t80
  let v1303 : Index := Scalar.indexCast arg16
  let c0_i32_499 : BitVec 32 := 0#32
  let v1304 : Index := Scalar.indexCast c0_i32_499
  let c496 : Index := 496#32
  ![v1303.toNat, 0, 496]
@[reducible] def k0_t81_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) : Scf.Loop 32 :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off1888 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v962 : Index := Scalar.indexCast arg16
  let c0_i32_405 : BitVec 32 := 0#32
  let v963 : Index := Scalar.indexCast c0_i32_405
  let c0_406 : Index := 0#32
  ![v962.toNat, 0, 0]
def k0_off1889 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v973 : Index := Scalar.indexCast arg16
  let c0_i32_409 : BitVec 32 := 0#32
  let v974 : Index := Scalar.indexCast c0_i32_409
  let c16 : Index := 16#32
  ![v973.toNat, 0, 16]
def k0_off1890 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v984 : Index := Scalar.indexCast arg16
  let c0_i32_412 : BitVec 32 := 0#32
  let v985 : Index := Scalar.indexCast c0_i32_412
  let c32 : Index := 32#32
  ![v984.toNat, 0, 32]
def k0_off1891 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v995 : Index := Scalar.indexCast arg16
  let c0_i32_415 : BitVec 32 := 0#32
  let v996 : Index := Scalar.indexCast c0_i32_415
  let c48 : Index := 48#32
  ![v995.toNat, 0, 48]
def k0_off1892 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1006 : Index := Scalar.indexCast arg16
  let c0_i32_418 : BitVec 32 := 0#32
  let v1007 : Index := Scalar.indexCast c0_i32_418
  let c64 : Index := 64#32
  ![v1006.toNat, 0, 64]
def k0_off1893 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1017 : Index := Scalar.indexCast arg16
  let c0_i32_421 : BitVec 32 := 0#32
  let v1018 : Index := Scalar.indexCast c0_i32_421
  let c80 : Index := 80#32
  ![v1017.toNat, 0, 80]
def k0_off1894 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1028 : Index := Scalar.indexCast arg16
  let c0_i32_424 : BitVec 32 := 0#32
  let v1029 : Index := Scalar.indexCast c0_i32_424
  let c96 : Index := 96#32
  ![v1028.toNat, 0, 96]
def k0_off1895 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1039 : Index := Scalar.indexCast arg16
  let c0_i32_427 : BitVec 32 := 0#32
  let v1040 : Index := Scalar.indexCast c0_i32_427
  let c112 : Index := 112#32
  ![v1039.toNat, 0, 112]
def k0_off1896 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1050 : Index := Scalar.indexCast arg16
  let c0_i32_430 : BitVec 32 := 0#32
  let v1051 : Index := Scalar.indexCast c0_i32_430
  let c128 : Index := 128#32
  ![v1050.toNat, 0, 128]
def k0_off1897 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1061 : Index := Scalar.indexCast arg16
  let c0_i32_433 : BitVec 32 := 0#32
  let v1062 : Index := Scalar.indexCast c0_i32_433
  let c144 : Index := 144#32
  ![v1061.toNat, 0, 144]
def k0_off1898 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1072 : Index := Scalar.indexCast arg16
  let c0_i32_436 : BitVec 32 := 0#32
  let v1073 : Index := Scalar.indexCast c0_i32_436
  let c160 : Index := 160#32
  ![v1072.toNat, 0, 160]
def k0_off1899 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1083 : Index := Scalar.indexCast arg16
  let c0_i32_439 : BitVec 32 := 0#32
  let v1084 : Index := Scalar.indexCast c0_i32_439
  let c176 : Index := 176#32
  ![v1083.toNat, 0, 176]
def k0_off1900 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1094 : Index := Scalar.indexCast arg16
  let c0_i32_442 : BitVec 32 := 0#32
  let v1095 : Index := Scalar.indexCast c0_i32_442
  let c192 : Index := 192#32
  ![v1094.toNat, 0, 192]
def k0_off1901 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1105 : Index := Scalar.indexCast arg16
  let c0_i32_445 : BitVec 32 := 0#32
  let v1106 : Index := Scalar.indexCast c0_i32_445
  let c208 : Index := 208#32
  ![v1105.toNat, 0, 208]
def k0_off1902 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1116 : Index := Scalar.indexCast arg16
  let c0_i32_448 : BitVec 32 := 0#32
  let v1117 : Index := Scalar.indexCast c0_i32_448
  let c224 : Index := 224#32
  ![v1116.toNat, 0, 224]
def k0_off1903 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1127 : Index := Scalar.indexCast arg16
  let c0_i32_451 : BitVec 32 := 0#32
  let v1128 : Index := Scalar.indexCast c0_i32_451
  let c240 : Index := 240#32
  ![v1127.toNat, 0, 240]
def k0_off1904 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1138 : Index := Scalar.indexCast arg16
  let c0_i32_454 : BitVec 32 := 0#32
  let v1139 : Index := Scalar.indexCast c0_i32_454
  let c256 : Index := 256#32
  ![v1138.toNat, 0, 256]
def k0_off1905 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1149 : Index := Scalar.indexCast arg16
  let c0_i32_457 : BitVec 32 := 0#32
  let v1150 : Index := Scalar.indexCast c0_i32_457
  let c272 : Index := 272#32
  ![v1149.toNat, 0, 272]
def k0_off1906 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1160 : Index := Scalar.indexCast arg16
  let c0_i32_460 : BitVec 32 := 0#32
  let v1161 : Index := Scalar.indexCast c0_i32_460
  let c288 : Index := 288#32
  ![v1160.toNat, 0, 288]
def k0_off1907 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1171 : Index := Scalar.indexCast arg16
  let c0_i32_463 : BitVec 32 := 0#32
  let v1172 : Index := Scalar.indexCast c0_i32_463
  let c304 : Index := 304#32
  ![v1171.toNat, 0, 304]
def k0_off1908 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1182 : Index := Scalar.indexCast arg16
  let c0_i32_466 : BitVec 32 := 0#32
  let v1183 : Index := Scalar.indexCast c0_i32_466
  let c320 : Index := 320#32
  ![v1182.toNat, 0, 320]
def k0_off1909 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1193 : Index := Scalar.indexCast arg16
  let c0_i32_469 : BitVec 32 := 0#32
  let v1194 : Index := Scalar.indexCast c0_i32_469
  let c336 : Index := 336#32
  ![v1193.toNat, 0, 336]
def k0_off1910 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1204 : Index := Scalar.indexCast arg16
  let c0_i32_472 : BitVec 32 := 0#32
  let v1205 : Index := Scalar.indexCast c0_i32_472
  let c352 : Index := 352#32
  ![v1204.toNat, 0, 352]
def k0_off1911 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1215 : Index := Scalar.indexCast arg16
  let c0_i32_475 : BitVec 32 := 0#32
  let v1216 : Index := Scalar.indexCast c0_i32_475
  let c368 : Index := 368#32
  ![v1215.toNat, 0, 368]
def k0_off1912 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1226 : Index := Scalar.indexCast arg16
  let c0_i32_478 : BitVec 32 := 0#32
  let v1227 : Index := Scalar.indexCast c0_i32_478
  let c384 : Index := 384#32
  ![v1226.toNat, 0, 384]
def k0_off1913 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1237 : Index := Scalar.indexCast arg16
  let c0_i32_481 : BitVec 32 := 0#32
  let v1238 : Index := Scalar.indexCast c0_i32_481
  let c400 : Index := 400#32
  ![v1237.toNat, 0, 400]
def k0_off1914 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1248 : Index := Scalar.indexCast arg16
  let c0_i32_484 : BitVec 32 := 0#32
  let v1249 : Index := Scalar.indexCast c0_i32_484
  let c416 : Index := 416#32
  ![v1248.toNat, 0, 416]
def k0_off1915 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1259 : Index := Scalar.indexCast arg16
  let c0_i32_487 : BitVec 32 := 0#32
  let v1260 : Index := Scalar.indexCast c0_i32_487
  let c432 : Index := 432#32
  ![v1259.toNat, 0, 432]
def k0_off1916 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1270 : Index := Scalar.indexCast arg16
  let c0_i32_490 : BitVec 32 := 0#32
  let v1271 : Index := Scalar.indexCast c0_i32_490
  let c448 : Index := 448#32
  ![v1270.toNat, 0, 448]
def k0_off1917 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1281 : Index := Scalar.indexCast arg16
  let c0_i32_493 : BitVec 32 := 0#32
  let v1282 : Index := Scalar.indexCast c0_i32_493
  let c464 : Index := 464#32
  ![v1281.toNat, 0, 464]
def k0_off1918 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1292 : Index := Scalar.indexCast arg16
  let c0_i32_496 : BitVec 32 := 0#32
  let v1293 : Index := Scalar.indexCast c0_i32_496
  let c480 : Index := 480#32
  ![v1292.toNat, 0, 480]
def k0_off1919 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips) : Fin 3 → Nat :=
  let c0_i32_322 : BitVec 32 := 0#32
  let c1_i32_324 : BitVec 32 := 1#32
  let arg14 : BitVec 32 := Scf.iv c0_i32_322 c1_i32_324 k0_t79
  let c3_i32 : BitVec 32 := 3#32
  let v907 : BitVec 32 := Scalar.remsi arg14 c3_i32
  let c32_i32_400 : BitVec 32 := 32#32
  let v948 : BitVec 32 := Scalar.muli v907 c32_i32_400
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t81
  let v1303 : Index := Scalar.indexCast arg16
  let c0_i32_499 : BitVec 32 := 0#32
  let v1304 : Index := Scalar.indexCast c0_i32_499
  let c496 : Index := 496#32
  ![v1303.toNat, 0, 496]
@[reducible] def k0_t82_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let v797 : BitVec 32 := Scalar.addi c0_i32_322 v796
  let c1_i32_325 : BitVec 32 := 1#32
  ⟨v800, v797, c1_i32_325⟩
def k0_off1920 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond56 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) : BitVec 1 :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c2_i32_376 : BitVec 32 := 2#32
  let v927 : BitVec 32 := Scalar.addi arg14 c2_i32_376
  let v908 : BitVec 32 := Scalar.subi v769 v767
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off1921 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) : Fin 3 → Nat :=
  let c1024_i32_307 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let c0_i32_322 : BitVec 32 := 0#32
  let c1024_i32_308 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v767 v965
  let c2016_i32_409 : BitVec 32 := 2016#32
  let v967 : BitVec 32 := Scalar.minsi v966 c2016_i32_409
  let c13_i32_413 : BitVec 32 := 13#32
  let c0_i32_414 : BitVec 32 := 0#32
  ![v967.toNat, 13, 0]
def k0_off1922 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) : Fin 1 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off1923 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off1924 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) : Fin 1 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  ![v907.toNat]
@[reducible] def k0_t83_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) : Scf.Loop 32 :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off1925 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v962 : Index := Scalar.indexCast arg16
  let c0_i32_405 : BitVec 32 := 0#32
  let v963 : Index := Scalar.indexCast c0_i32_405
  let c0_406 : Index := 0#32
  ![v962.toNat, 0, 0]
def k0_off1926 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v973 : Index := Scalar.indexCast arg16
  let c0_i32_409 : BitVec 32 := 0#32
  let v974 : Index := Scalar.indexCast c0_i32_409
  let c16 : Index := 16#32
  ![v973.toNat, 0, 16]
def k0_off1927 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v984 : Index := Scalar.indexCast arg16
  let c0_i32_412 : BitVec 32 := 0#32
  let v985 : Index := Scalar.indexCast c0_i32_412
  let c32 : Index := 32#32
  ![v984.toNat, 0, 32]
def k0_off1928 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v995 : Index := Scalar.indexCast arg16
  let c0_i32_415 : BitVec 32 := 0#32
  let v996 : Index := Scalar.indexCast c0_i32_415
  let c48 : Index := 48#32
  ![v995.toNat, 0, 48]
def k0_off1929 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1006 : Index := Scalar.indexCast arg16
  let c0_i32_418 : BitVec 32 := 0#32
  let v1007 : Index := Scalar.indexCast c0_i32_418
  let c64 : Index := 64#32
  ![v1006.toNat, 0, 64]
def k0_off1930 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1017 : Index := Scalar.indexCast arg16
  let c0_i32_421 : BitVec 32 := 0#32
  let v1018 : Index := Scalar.indexCast c0_i32_421
  let c80 : Index := 80#32
  ![v1017.toNat, 0, 80]
def k0_off1931 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1028 : Index := Scalar.indexCast arg16
  let c0_i32_424 : BitVec 32 := 0#32
  let v1029 : Index := Scalar.indexCast c0_i32_424
  let c96 : Index := 96#32
  ![v1028.toNat, 0, 96]
def k0_off1932 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1039 : Index := Scalar.indexCast arg16
  let c0_i32_427 : BitVec 32 := 0#32
  let v1040 : Index := Scalar.indexCast c0_i32_427
  let c112 : Index := 112#32
  ![v1039.toNat, 0, 112]
def k0_off1933 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1050 : Index := Scalar.indexCast arg16
  let c0_i32_430 : BitVec 32 := 0#32
  let v1051 : Index := Scalar.indexCast c0_i32_430
  let c128 : Index := 128#32
  ![v1050.toNat, 0, 128]
def k0_off1934 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1061 : Index := Scalar.indexCast arg16
  let c0_i32_433 : BitVec 32 := 0#32
  let v1062 : Index := Scalar.indexCast c0_i32_433
  let c144 : Index := 144#32
  ![v1061.toNat, 0, 144]
def k0_off1935 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1072 : Index := Scalar.indexCast arg16
  let c0_i32_436 : BitVec 32 := 0#32
  let v1073 : Index := Scalar.indexCast c0_i32_436
  let c160 : Index := 160#32
  ![v1072.toNat, 0, 160]
def k0_off1936 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1083 : Index := Scalar.indexCast arg16
  let c0_i32_439 : BitVec 32 := 0#32
  let v1084 : Index := Scalar.indexCast c0_i32_439
  let c176 : Index := 176#32
  ![v1083.toNat, 0, 176]
def k0_off1937 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1094 : Index := Scalar.indexCast arg16
  let c0_i32_442 : BitVec 32 := 0#32
  let v1095 : Index := Scalar.indexCast c0_i32_442
  let c192 : Index := 192#32
  ![v1094.toNat, 0, 192]
def k0_off1938 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1105 : Index := Scalar.indexCast arg16
  let c0_i32_445 : BitVec 32 := 0#32
  let v1106 : Index := Scalar.indexCast c0_i32_445
  let c208 : Index := 208#32
  ![v1105.toNat, 0, 208]
def k0_off1939 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1116 : Index := Scalar.indexCast arg16
  let c0_i32_448 : BitVec 32 := 0#32
  let v1117 : Index := Scalar.indexCast c0_i32_448
  let c224 : Index := 224#32
  ![v1116.toNat, 0, 224]
def k0_off1940 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1127 : Index := Scalar.indexCast arg16
  let c0_i32_451 : BitVec 32 := 0#32
  let v1128 : Index := Scalar.indexCast c0_i32_451
  let c240 : Index := 240#32
  ![v1127.toNat, 0, 240]
def k0_off1941 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1138 : Index := Scalar.indexCast arg16
  let c0_i32_454 : BitVec 32 := 0#32
  let v1139 : Index := Scalar.indexCast c0_i32_454
  let c256 : Index := 256#32
  ![v1138.toNat, 0, 256]
def k0_off1942 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1149 : Index := Scalar.indexCast arg16
  let c0_i32_457 : BitVec 32 := 0#32
  let v1150 : Index := Scalar.indexCast c0_i32_457
  let c272 : Index := 272#32
  ![v1149.toNat, 0, 272]
def k0_off1943 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1160 : Index := Scalar.indexCast arg16
  let c0_i32_460 : BitVec 32 := 0#32
  let v1161 : Index := Scalar.indexCast c0_i32_460
  let c288 : Index := 288#32
  ![v1160.toNat, 0, 288]
def k0_off1944 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1171 : Index := Scalar.indexCast arg16
  let c0_i32_463 : BitVec 32 := 0#32
  let v1172 : Index := Scalar.indexCast c0_i32_463
  let c304 : Index := 304#32
  ![v1171.toNat, 0, 304]
def k0_off1945 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1182 : Index := Scalar.indexCast arg16
  let c0_i32_466 : BitVec 32 := 0#32
  let v1183 : Index := Scalar.indexCast c0_i32_466
  let c320 : Index := 320#32
  ![v1182.toNat, 0, 320]
def k0_off1946 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1193 : Index := Scalar.indexCast arg16
  let c0_i32_469 : BitVec 32 := 0#32
  let v1194 : Index := Scalar.indexCast c0_i32_469
  let c336 : Index := 336#32
  ![v1193.toNat, 0, 336]
def k0_off1947 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1204 : Index := Scalar.indexCast arg16
  let c0_i32_472 : BitVec 32 := 0#32
  let v1205 : Index := Scalar.indexCast c0_i32_472
  let c352 : Index := 352#32
  ![v1204.toNat, 0, 352]
def k0_off1948 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1215 : Index := Scalar.indexCast arg16
  let c0_i32_475 : BitVec 32 := 0#32
  let v1216 : Index := Scalar.indexCast c0_i32_475
  let c368 : Index := 368#32
  ![v1215.toNat, 0, 368]
def k0_off1949 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1226 : Index := Scalar.indexCast arg16
  let c0_i32_478 : BitVec 32 := 0#32
  let v1227 : Index := Scalar.indexCast c0_i32_478
  let c384 : Index := 384#32
  ![v1226.toNat, 0, 384]
def k0_off1950 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1237 : Index := Scalar.indexCast arg16
  let c0_i32_481 : BitVec 32 := 0#32
  let v1238 : Index := Scalar.indexCast c0_i32_481
  let c400 : Index := 400#32
  ![v1237.toNat, 0, 400]
def k0_off1951 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1248 : Index := Scalar.indexCast arg16
  let c0_i32_484 : BitVec 32 := 0#32
  let v1249 : Index := Scalar.indexCast c0_i32_484
  let c416 : Index := 416#32
  ![v1248.toNat, 0, 416]
def k0_off1952 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1259 : Index := Scalar.indexCast arg16
  let c0_i32_487 : BitVec 32 := 0#32
  let v1260 : Index := Scalar.indexCast c0_i32_487
  let c432 : Index := 432#32
  ![v1259.toNat, 0, 432]
def k0_off1953 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1270 : Index := Scalar.indexCast arg16
  let c0_i32_490 : BitVec 32 := 0#32
  let v1271 : Index := Scalar.indexCast c0_i32_490
  let c448 : Index := 448#32
  ![v1270.toNat, 0, 448]
def k0_off1954 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1281 : Index := Scalar.indexCast arg16
  let c0_i32_493 : BitVec 32 := 0#32
  let v1282 : Index := Scalar.indexCast c0_i32_493
  let c464 : Index := 464#32
  ![v1281.toNat, 0, 464]
def k0_off1955 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1292 : Index := Scalar.indexCast arg16
  let c0_i32_496 : BitVec 32 := 0#32
  let v1293 : Index := Scalar.indexCast c0_i32_496
  let c480 : Index := 480#32
  ![v1292.toNat, 0, 480]
def k0_off1956 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t83
  let v1303 : Index := Scalar.indexCast arg16
  let c0_i32_499 : BitVec 32 := 0#32
  let v1304 : Index := Scalar.indexCast c0_i32_499
  let c496 : Index := 496#32
  ![v1303.toNat, 0, 496]
@[reducible] def k0_t84_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) : Scf.Loop 32 :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off1957 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v962 : Index := Scalar.indexCast arg16
  let c0_i32_405 : BitVec 32 := 0#32
  let v963 : Index := Scalar.indexCast c0_i32_405
  let c0_406 : Index := 0#32
  ![v962.toNat, 0, 0]
def k0_off1958 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v973 : Index := Scalar.indexCast arg16
  let c0_i32_409 : BitVec 32 := 0#32
  let v974 : Index := Scalar.indexCast c0_i32_409
  let c16 : Index := 16#32
  ![v973.toNat, 0, 16]
def k0_off1959 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v984 : Index := Scalar.indexCast arg16
  let c0_i32_412 : BitVec 32 := 0#32
  let v985 : Index := Scalar.indexCast c0_i32_412
  let c32 : Index := 32#32
  ![v984.toNat, 0, 32]
def k0_off1960 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v995 : Index := Scalar.indexCast arg16
  let c0_i32_415 : BitVec 32 := 0#32
  let v996 : Index := Scalar.indexCast c0_i32_415
  let c48 : Index := 48#32
  ![v995.toNat, 0, 48]
def k0_off1961 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1006 : Index := Scalar.indexCast arg16
  let c0_i32_418 : BitVec 32 := 0#32
  let v1007 : Index := Scalar.indexCast c0_i32_418
  let c64 : Index := 64#32
  ![v1006.toNat, 0, 64]
def k0_off1962 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1017 : Index := Scalar.indexCast arg16
  let c0_i32_421 : BitVec 32 := 0#32
  let v1018 : Index := Scalar.indexCast c0_i32_421
  let c80 : Index := 80#32
  ![v1017.toNat, 0, 80]
def k0_off1963 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1028 : Index := Scalar.indexCast arg16
  let c0_i32_424 : BitVec 32 := 0#32
  let v1029 : Index := Scalar.indexCast c0_i32_424
  let c96 : Index := 96#32
  ![v1028.toNat, 0, 96]
def k0_off1964 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1039 : Index := Scalar.indexCast arg16
  let c0_i32_427 : BitVec 32 := 0#32
  let v1040 : Index := Scalar.indexCast c0_i32_427
  let c112 : Index := 112#32
  ![v1039.toNat, 0, 112]
def k0_off1965 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1050 : Index := Scalar.indexCast arg16
  let c0_i32_430 : BitVec 32 := 0#32
  let v1051 : Index := Scalar.indexCast c0_i32_430
  let c128 : Index := 128#32
  ![v1050.toNat, 0, 128]
def k0_off1966 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1061 : Index := Scalar.indexCast arg16
  let c0_i32_433 : BitVec 32 := 0#32
  let v1062 : Index := Scalar.indexCast c0_i32_433
  let c144 : Index := 144#32
  ![v1061.toNat, 0, 144]
def k0_off1967 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1072 : Index := Scalar.indexCast arg16
  let c0_i32_436 : BitVec 32 := 0#32
  let v1073 : Index := Scalar.indexCast c0_i32_436
  let c160 : Index := 160#32
  ![v1072.toNat, 0, 160]
def k0_off1968 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1083 : Index := Scalar.indexCast arg16
  let c0_i32_439 : BitVec 32 := 0#32
  let v1084 : Index := Scalar.indexCast c0_i32_439
  let c176 : Index := 176#32
  ![v1083.toNat, 0, 176]
def k0_off1969 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1094 : Index := Scalar.indexCast arg16
  let c0_i32_442 : BitVec 32 := 0#32
  let v1095 : Index := Scalar.indexCast c0_i32_442
  let c192 : Index := 192#32
  ![v1094.toNat, 0, 192]
def k0_off1970 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1105 : Index := Scalar.indexCast arg16
  let c0_i32_445 : BitVec 32 := 0#32
  let v1106 : Index := Scalar.indexCast c0_i32_445
  let c208 : Index := 208#32
  ![v1105.toNat, 0, 208]
def k0_off1971 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1116 : Index := Scalar.indexCast arg16
  let c0_i32_448 : BitVec 32 := 0#32
  let v1117 : Index := Scalar.indexCast c0_i32_448
  let c224 : Index := 224#32
  ![v1116.toNat, 0, 224]
def k0_off1972 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1127 : Index := Scalar.indexCast arg16
  let c0_i32_451 : BitVec 32 := 0#32
  let v1128 : Index := Scalar.indexCast c0_i32_451
  let c240 : Index := 240#32
  ![v1127.toNat, 0, 240]
def k0_off1973 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1138 : Index := Scalar.indexCast arg16
  let c0_i32_454 : BitVec 32 := 0#32
  let v1139 : Index := Scalar.indexCast c0_i32_454
  let c256 : Index := 256#32
  ![v1138.toNat, 0, 256]
def k0_off1974 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1149 : Index := Scalar.indexCast arg16
  let c0_i32_457 : BitVec 32 := 0#32
  let v1150 : Index := Scalar.indexCast c0_i32_457
  let c272 : Index := 272#32
  ![v1149.toNat, 0, 272]
def k0_off1975 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1160 : Index := Scalar.indexCast arg16
  let c0_i32_460 : BitVec 32 := 0#32
  let v1161 : Index := Scalar.indexCast c0_i32_460
  let c288 : Index := 288#32
  ![v1160.toNat, 0, 288]
def k0_off1976 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1171 : Index := Scalar.indexCast arg16
  let c0_i32_463 : BitVec 32 := 0#32
  let v1172 : Index := Scalar.indexCast c0_i32_463
  let c304 : Index := 304#32
  ![v1171.toNat, 0, 304]
def k0_off1977 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1182 : Index := Scalar.indexCast arg16
  let c0_i32_466 : BitVec 32 := 0#32
  let v1183 : Index := Scalar.indexCast c0_i32_466
  let c320 : Index := 320#32
  ![v1182.toNat, 0, 320]
def k0_off1978 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1193 : Index := Scalar.indexCast arg16
  let c0_i32_469 : BitVec 32 := 0#32
  let v1194 : Index := Scalar.indexCast c0_i32_469
  let c336 : Index := 336#32
  ![v1193.toNat, 0, 336]
def k0_off1979 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1204 : Index := Scalar.indexCast arg16
  let c0_i32_472 : BitVec 32 := 0#32
  let v1205 : Index := Scalar.indexCast c0_i32_472
  let c352 : Index := 352#32
  ![v1204.toNat, 0, 352]
def k0_off1980 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1215 : Index := Scalar.indexCast arg16
  let c0_i32_475 : BitVec 32 := 0#32
  let v1216 : Index := Scalar.indexCast c0_i32_475
  let c368 : Index := 368#32
  ![v1215.toNat, 0, 368]
def k0_off1981 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1226 : Index := Scalar.indexCast arg16
  let c0_i32_478 : BitVec 32 := 0#32
  let v1227 : Index := Scalar.indexCast c0_i32_478
  let c384 : Index := 384#32
  ![v1226.toNat, 0, 384]
def k0_off1982 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1237 : Index := Scalar.indexCast arg16
  let c0_i32_481 : BitVec 32 := 0#32
  let v1238 : Index := Scalar.indexCast c0_i32_481
  let c400 : Index := 400#32
  ![v1237.toNat, 0, 400]

variable {F : FTy → Type} [FloatOps F]

def k0_off1983 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1248 : Index := Scalar.indexCast arg16
  let c0_i32_484 : BitVec 32 := 0#32
  let v1249 : Index := Scalar.indexCast c0_i32_484
  let c416 : Index := 416#32
  ![v1248.toNat, 0, 416]
def k0_off1984 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1259 : Index := Scalar.indexCast arg16
  let c0_i32_487 : BitVec 32 := 0#32
  let v1260 : Index := Scalar.indexCast c0_i32_487
  let c432 : Index := 432#32
  ![v1259.toNat, 0, 432]
def k0_off1985 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1270 : Index := Scalar.indexCast arg16
  let c0_i32_490 : BitVec 32 := 0#32
  let v1271 : Index := Scalar.indexCast c0_i32_490
  let c448 : Index := 448#32
  ![v1270.toNat, 0, 448]
def k0_off1986 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1281 : Index := Scalar.indexCast arg16
  let c0_i32_493 : BitVec 32 := 0#32
  let v1282 : Index := Scalar.indexCast c0_i32_493
  let c464 : Index := 464#32
  ![v1281.toNat, 0, 464]
def k0_off1987 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1292 : Index := Scalar.indexCast arg16
  let c0_i32_496 : BitVec 32 := 0#32
  let v1293 : Index := Scalar.indexCast c0_i32_496
  let c480 : Index := 480#32
  ![v1292.toNat, 0, 480]
def k0_off1988 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips) : Fin 3 → Nat :=
  let c0_i32_322 : BitVec 32 := 0#32
  let c1024_i32_308 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v764 : BitVec 32 := Scalar.addi v110 v93
  let v765 : BitVec 32 := Scalar.minsi v150 v764
  let v768 : BitVec 32 := Scalar.subi v765 v110
  let v769 : BitVec 32 := Scalar.addi c1024_i32_308 v768
  let c1024_i32_307 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v763 : BitVec 32 := Scalar.maxsi v131 v110
  let v766 : BitVec 32 := Scalar.subi v763 v110
  let v767 : BitVec 32 := Scalar.addi c1024_i32_307 v766
  let v770 : BitVec 32 := Scalar.subi v769 v767
  let c31_i32_309 : BitVec 32 := 31#32
  let v771 : BitVec 32 := Scalar.addi v770 c31_i32_309
  let c0_i32_311 : BitVec 32 := 0#32
  let v773 : BitVec 1 := Scalar.cmpi .sgt v771 c0_i32_311
  let v774 : BitVec 32 := Scalar.extui v773
  let c0_i32_312 : BitVec 32 := 0#32
  let v775 : BitVec 1 := Scalar.cmpi .slt v771 c0_i32_312
  let v776 : BitVec 32 := Scalar.extui v775
  let v777 : BitVec 32 := Scalar.subi v774 v776
  let c32_i32_310 : BitVec 32 := 32#32
  let c0_i32_313 : BitVec 32 := 0#32
  let v778 : BitVec 1 := Scalar.cmpi .sgt c32_i32_310 c0_i32_313
  let v779 : BitVec 32 := Scalar.extui v778
  let c0_i32_314 : BitVec 32 := 0#32
  let v780 : BitVec 1 := Scalar.cmpi .slt c32_i32_310 c0_i32_314
  let v781 : BitVec 32 := Scalar.extui v780
  let v782 : BitVec 32 := Scalar.subi v779 v781
  let v783 : BitVec 1 := Scalar.cmpi .ne v777 v782
  let v784 : BitVec 32 := Scalar.remsi v771 c32_i32_310
  let c0_i32_315 : BitVec 32 := 0#32
  let v785 : BitVec 1 := Scalar.cmpi .ne v784 c0_i32_315
  let v786 : BitVec 1 := Scalar.andi v783 v785
  let v772 : BitVec 32 := Scalar.divsi v771 c32_i32_310
  let c1_i32_316 : BitVec 32 := 1#32
  let v787 : BitVec 32 := Scalar.subi v772 c1_i32_316
  let v788 : BitVec 32 := Scalar.select v786 v787 v772
  let v796 : BitVec 32 := Scalar.subi v788 c0_i32_322
  let c1_i32_323 : BitVec 32 := 1#32
  let v798 : BitVec 32 := Scalar.divsi v796 c1_i32_323
  let v799 : BitVec 32 := Scalar.muli v798 c1_i32_323
  let v800 : BitVec 32 := Scalar.addi c0_i32_322 v799
  let c1_i32_325 : BitVec 32 := 1#32
  let arg14 : BitVec 32 := Scf.iv v800 c1_i32_325 k0_t82
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v767 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v769 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t84
  let v1303 : Index := Scalar.indexCast arg16
  let c0_i32_499 : BitVec 32 := 0#32
  let v1304 : Index := Scalar.indexCast c0_i32_499
  let c496 : Index := 496#32
  ![v1303.toNat, 0, 496]
def k0_off1989 : Fin 3 → Nat :=
  let c0_i32_370 : BitVec 32 := 0#32
  let c32_i32_371 : BitVec 32 := 32#32
  let v910 : BitVec 32 := Scalar.muli c0_i32_370 c32_i32_371
  let c0_i32_373 : BitVec 32 := 0#32
  let c0_i32_374 : BitVec 32 := 0#32
  ![v910.toNat, 0, 0]
def k0_off1990 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c0_i32_368 : BitVec 32 := 0#32
  let c32_i32_369 : BitVec 32 := 32#32
  let v907 : BitVec 32 := Scalar.muli c0_i32_368 c32_i32_369
  let v908 : BitVec 32 := Scalar.addi v814 v907
  let c2016_i32 : BitVec 32 := 2016#32
  let v909 : BitVec 32 := Scalar.minsi v908 c2016_i32
  let c14_i32 : BitVec 32 := 14#32
  let c0_i32_375 : BitVec 32 := 0#32
  ![v909.toNat, 14, 0]
def k0_cond57 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let c0_i32_337 : BitVec 32 := 0#32
  let v836 : BitVec 1 := Scalar.cmpi .sgt v835 c0_i32_337
  let v837 : BitVec 32 := Scalar.extui v836
  let c0_i32_338 : BitVec 32 := 0#32
  let v838 : BitVec 1 := Scalar.cmpi .ne v837 c0_i32_338
  v838

def k0_off1991 : Fin 3 → Nat :=
  let c1_i32_370 : BitVec 32 := 1#32
  let c32_i32_371 : BitVec 32 := 32#32
  let v910 : BitVec 32 := Scalar.muli c1_i32_370 c32_i32_371
  let c0_i32_373 : BitVec 32 := 0#32
  let c0_i32_374 : BitVec 32 := 0#32
  ![v910.toNat, 0, 0]
def k0_off1992 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c1_i32_368 : BitVec 32 := 1#32
  let c32_i32_369 : BitVec 32 := 32#32
  let v907 : BitVec 32 := Scalar.muli c1_i32_368 c32_i32_369
  let v908 : BitVec 32 := Scalar.addi v814 v907
  let c2016_i32 : BitVec 32 := 2016#32
  let v909 : BitVec 32 := Scalar.minsi v908 c2016_i32
  let c14_i32 : BitVec 32 := 14#32
  let c0_i32_375 : BitVec 32 := 0#32
  ![v909.toNat, 14, 0]
def k0_cond58 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let c1_i32_339 : BitVec 32 := 1#32
  let v839 : BitVec 1 := Scalar.cmpi .sgt v835 c1_i32_339
  let v840 : BitVec 32 := Scalar.extui v839
  let c0_i32_340 : BitVec 32 := 0#32
  let v841 : BitVec 1 := Scalar.cmpi .ne v840 c0_i32_340
  v841

@[reducible] def k0_t85_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_344 : BitVec 32 := 1#32
  ⟨c0_i32_342, v847, c1_i32_344⟩
def k0_off1993 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) : Fin 3 → Nat :=
  let c0_i32_342 : BitVec 32 := 0#32
  let c1_i32_344 : BitVec 32 := 1#32
  let arg14 : BitVec 32 := Scf.iv c0_i32_342 c1_i32_344 k0_t85
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond59 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) : BitVec 1 :=
  let c0_i32_342 : BitVec 32 := 0#32
  let c1_i32_344 : BitVec 32 := 1#32
  let arg14 : BitVec 32 := Scf.iv c0_i32_342 c1_i32_344 k0_t85
  let c2_i32_376 : BitVec 32 := 2#32
  let v927 : BitVec 32 := Scalar.addi arg14 c2_i32_376
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v908 : BitVec 32 := Scalar.subi v816 v814
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off1994 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) : Fin 3 → Nat :=
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c0_i32_342 : BitVec 32 := 0#32
  let c1_i32_344 : BitVec 32 := 1#32
  let arg14 : BitVec 32 := Scf.iv c0_i32_342 c1_i32_344 k0_t85
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v814 v965
  let c2016_i32_409 : BitVec 32 := 2016#32
  let v967 : BitVec 32 := Scalar.minsi v966 c2016_i32_409
  let c14_i32_413 : BitVec 32 := 14#32
  let c0_i32_414 : BitVec 32 := 0#32
  ![v967.toNat, 14, 0]
def k0_off1995 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) : Fin 1 → Nat :=
  let c0_i32_342 : BitVec 32 := 0#32
  let c1_i32_344 : BitVec 32 := 1#32
  let arg14 : BitVec 32 := Scf.iv c0_i32_342 c1_i32_344 k0_t85
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off1996 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off1997 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) : Fin 1 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  ![v907.toNat]
@[reducible] def k0_t86_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) : Scf.Loop 32 :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off1998 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v962 : Index := Scalar.indexCast arg16
  let c0_i32_405 : BitVec 32 := 0#32
  let v963 : Index := Scalar.indexCast c0_i32_405
  let c0_406 : Index := 0#32
  ![v962.toNat, 0, 0]
def k0_off1999 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v973 : Index := Scalar.indexCast arg16
  let c0_i32_409 : BitVec 32 := 0#32
  let v974 : Index := Scalar.indexCast c0_i32_409
  let c16 : Index := 16#32
  ![v973.toNat, 0, 16]
def k0_off2000 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v984 : Index := Scalar.indexCast arg16
  let c0_i32_412 : BitVec 32 := 0#32
  let v985 : Index := Scalar.indexCast c0_i32_412
  let c32 : Index := 32#32
  ![v984.toNat, 0, 32]
def k0_off2001 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v995 : Index := Scalar.indexCast arg16
  let c0_i32_415 : BitVec 32 := 0#32
  let v996 : Index := Scalar.indexCast c0_i32_415
  let c48 : Index := 48#32
  ![v995.toNat, 0, 48]
def k0_off2002 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1006 : Index := Scalar.indexCast arg16
  let c0_i32_418 : BitVec 32 := 0#32
  let v1007 : Index := Scalar.indexCast c0_i32_418
  let c64 : Index := 64#32
  ![v1006.toNat, 0, 64]
def k0_off2003 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1017 : Index := Scalar.indexCast arg16
  let c0_i32_421 : BitVec 32 := 0#32
  let v1018 : Index := Scalar.indexCast c0_i32_421
  let c80 : Index := 80#32
  ![v1017.toNat, 0, 80]
def k0_off2004 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1028 : Index := Scalar.indexCast arg16
  let c0_i32_424 : BitVec 32 := 0#32
  let v1029 : Index := Scalar.indexCast c0_i32_424
  let c96 : Index := 96#32
  ![v1028.toNat, 0, 96]
def k0_off2005 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1039 : Index := Scalar.indexCast arg16
  let c0_i32_427 : BitVec 32 := 0#32
  let v1040 : Index := Scalar.indexCast c0_i32_427
  let c112 : Index := 112#32
  ![v1039.toNat, 0, 112]
def k0_off2006 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1050 : Index := Scalar.indexCast arg16
  let c0_i32_430 : BitVec 32 := 0#32
  let v1051 : Index := Scalar.indexCast c0_i32_430
  let c128 : Index := 128#32
  ![v1050.toNat, 0, 128]
def k0_off2007 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1061 : Index := Scalar.indexCast arg16
  let c0_i32_433 : BitVec 32 := 0#32
  let v1062 : Index := Scalar.indexCast c0_i32_433
  let c144 : Index := 144#32
  ![v1061.toNat, 0, 144]
def k0_off2008 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1072 : Index := Scalar.indexCast arg16
  let c0_i32_436 : BitVec 32 := 0#32
  let v1073 : Index := Scalar.indexCast c0_i32_436
  let c160 : Index := 160#32
  ![v1072.toNat, 0, 160]
def k0_off2009 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1083 : Index := Scalar.indexCast arg16
  let c0_i32_439 : BitVec 32 := 0#32
  let v1084 : Index := Scalar.indexCast c0_i32_439
  let c176 : Index := 176#32
  ![v1083.toNat, 0, 176]
def k0_off2010 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1094 : Index := Scalar.indexCast arg16
  let c0_i32_442 : BitVec 32 := 0#32
  let v1095 : Index := Scalar.indexCast c0_i32_442
  let c192 : Index := 192#32
  ![v1094.toNat, 0, 192]
def k0_off2011 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1105 : Index := Scalar.indexCast arg16
  let c0_i32_445 : BitVec 32 := 0#32
  let v1106 : Index := Scalar.indexCast c0_i32_445
  let c208 : Index := 208#32
  ![v1105.toNat, 0, 208]
def k0_off2012 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1116 : Index := Scalar.indexCast arg16
  let c0_i32_448 : BitVec 32 := 0#32
  let v1117 : Index := Scalar.indexCast c0_i32_448
  let c224 : Index := 224#32
  ![v1116.toNat, 0, 224]
def k0_off2013 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1127 : Index := Scalar.indexCast arg16
  let c0_i32_451 : BitVec 32 := 0#32
  let v1128 : Index := Scalar.indexCast c0_i32_451
  let c240 : Index := 240#32
  ![v1127.toNat, 0, 240]
def k0_off2014 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1138 : Index := Scalar.indexCast arg16
  let c0_i32_454 : BitVec 32 := 0#32
  let v1139 : Index := Scalar.indexCast c0_i32_454
  let c256 : Index := 256#32
  ![v1138.toNat, 0, 256]
def k0_off2015 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1149 : Index := Scalar.indexCast arg16
  let c0_i32_457 : BitVec 32 := 0#32
  let v1150 : Index := Scalar.indexCast c0_i32_457
  let c272 : Index := 272#32
  ![v1149.toNat, 0, 272]
def k0_off2016 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1160 : Index := Scalar.indexCast arg16
  let c0_i32_460 : BitVec 32 := 0#32
  let v1161 : Index := Scalar.indexCast c0_i32_460
  let c288 : Index := 288#32
  ![v1160.toNat, 0, 288]
def k0_off2017 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1171 : Index := Scalar.indexCast arg16
  let c0_i32_463 : BitVec 32 := 0#32
  let v1172 : Index := Scalar.indexCast c0_i32_463
  let c304 : Index := 304#32
  ![v1171.toNat, 0, 304]
def k0_off2018 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1182 : Index := Scalar.indexCast arg16
  let c0_i32_466 : BitVec 32 := 0#32
  let v1183 : Index := Scalar.indexCast c0_i32_466
  let c320 : Index := 320#32
  ![v1182.toNat, 0, 320]
def k0_off2019 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1193 : Index := Scalar.indexCast arg16
  let c0_i32_469 : BitVec 32 := 0#32
  let v1194 : Index := Scalar.indexCast c0_i32_469
  let c336 : Index := 336#32
  ![v1193.toNat, 0, 336]
def k0_off2020 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1204 : Index := Scalar.indexCast arg16
  let c0_i32_472 : BitVec 32 := 0#32
  let v1205 : Index := Scalar.indexCast c0_i32_472
  let c352 : Index := 352#32
  ![v1204.toNat, 0, 352]
def k0_off2021 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1215 : Index := Scalar.indexCast arg16
  let c0_i32_475 : BitVec 32 := 0#32
  let v1216 : Index := Scalar.indexCast c0_i32_475
  let c368 : Index := 368#32
  ![v1215.toNat, 0, 368]
def k0_off2022 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1226 : Index := Scalar.indexCast arg16
  let c0_i32_478 : BitVec 32 := 0#32
  let v1227 : Index := Scalar.indexCast c0_i32_478
  let c384 : Index := 384#32
  ![v1226.toNat, 0, 384]
def k0_off2023 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1237 : Index := Scalar.indexCast arg16
  let c0_i32_481 : BitVec 32 := 0#32
  let v1238 : Index := Scalar.indexCast c0_i32_481
  let c400 : Index := 400#32
  ![v1237.toNat, 0, 400]
def k0_off2024 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1248 : Index := Scalar.indexCast arg16
  let c0_i32_484 : BitVec 32 := 0#32
  let v1249 : Index := Scalar.indexCast c0_i32_484
  let c416 : Index := 416#32
  ![v1248.toNat, 0, 416]
def k0_off2025 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1259 : Index := Scalar.indexCast arg16
  let c0_i32_487 : BitVec 32 := 0#32
  let v1260 : Index := Scalar.indexCast c0_i32_487
  let c432 : Index := 432#32
  ![v1259.toNat, 0, 432]
def k0_off2026 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1270 : Index := Scalar.indexCast arg16
  let c0_i32_490 : BitVec 32 := 0#32
  let v1271 : Index := Scalar.indexCast c0_i32_490
  let c448 : Index := 448#32
  ![v1270.toNat, 0, 448]
def k0_off2027 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1281 : Index := Scalar.indexCast arg16
  let c0_i32_493 : BitVec 32 := 0#32
  let v1282 : Index := Scalar.indexCast c0_i32_493
  let c464 : Index := 464#32
  ![v1281.toNat, 0, 464]
def k0_off2028 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1292 : Index := Scalar.indexCast arg16
  let c0_i32_496 : BitVec 32 := 0#32
  let v1293 : Index := Scalar.indexCast c0_i32_496
  let c480 : Index := 480#32
  ![v1292.toNat, 0, 480]
def k0_off2029 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t86
  let v1303 : Index := Scalar.indexCast arg16
  let c0_i32_499 : BitVec 32 := 0#32
  let v1304 : Index := Scalar.indexCast c0_i32_499
  let c496 : Index := 496#32
  ![v1303.toNat, 0, 496]
@[reducible] def k0_t87_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) : Scf.Loop 32 :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off2030 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v962 : Index := Scalar.indexCast arg16
  let c0_i32_405 : BitVec 32 := 0#32
  let v963 : Index := Scalar.indexCast c0_i32_405
  let c0_406 : Index := 0#32
  ![v962.toNat, 0, 0]
def k0_off2031 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v973 : Index := Scalar.indexCast arg16
  let c0_i32_409 : BitVec 32 := 0#32
  let v974 : Index := Scalar.indexCast c0_i32_409
  let c16 : Index := 16#32
  ![v973.toNat, 0, 16]
def k0_off2032 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v984 : Index := Scalar.indexCast arg16
  let c0_i32_412 : BitVec 32 := 0#32
  let v985 : Index := Scalar.indexCast c0_i32_412
  let c32 : Index := 32#32
  ![v984.toNat, 0, 32]
def k0_off2033 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v995 : Index := Scalar.indexCast arg16
  let c0_i32_415 : BitVec 32 := 0#32
  let v996 : Index := Scalar.indexCast c0_i32_415
  let c48 : Index := 48#32
  ![v995.toNat, 0, 48]
def k0_off2034 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1006 : Index := Scalar.indexCast arg16
  let c0_i32_418 : BitVec 32 := 0#32
  let v1007 : Index := Scalar.indexCast c0_i32_418
  let c64 : Index := 64#32
  ![v1006.toNat, 0, 64]
def k0_off2035 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1017 : Index := Scalar.indexCast arg16
  let c0_i32_421 : BitVec 32 := 0#32
  let v1018 : Index := Scalar.indexCast c0_i32_421
  let c80 : Index := 80#32
  ![v1017.toNat, 0, 80]
def k0_off2036 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1028 : Index := Scalar.indexCast arg16
  let c0_i32_424 : BitVec 32 := 0#32
  let v1029 : Index := Scalar.indexCast c0_i32_424
  let c96 : Index := 96#32
  ![v1028.toNat, 0, 96]
def k0_off2037 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1039 : Index := Scalar.indexCast arg16
  let c0_i32_427 : BitVec 32 := 0#32
  let v1040 : Index := Scalar.indexCast c0_i32_427
  let c112 : Index := 112#32
  ![v1039.toNat, 0, 112]
def k0_off2038 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1050 : Index := Scalar.indexCast arg16
  let c0_i32_430 : BitVec 32 := 0#32
  let v1051 : Index := Scalar.indexCast c0_i32_430
  let c128 : Index := 128#32
  ![v1050.toNat, 0, 128]
def k0_off2039 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1061 : Index := Scalar.indexCast arg16
  let c0_i32_433 : BitVec 32 := 0#32
  let v1062 : Index := Scalar.indexCast c0_i32_433
  let c144 : Index := 144#32
  ![v1061.toNat, 0, 144]
def k0_off2040 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1072 : Index := Scalar.indexCast arg16
  let c0_i32_436 : BitVec 32 := 0#32
  let v1073 : Index := Scalar.indexCast c0_i32_436
  let c160 : Index := 160#32
  ![v1072.toNat, 0, 160]
def k0_off2041 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1083 : Index := Scalar.indexCast arg16
  let c0_i32_439 : BitVec 32 := 0#32
  let v1084 : Index := Scalar.indexCast c0_i32_439
  let c176 : Index := 176#32
  ![v1083.toNat, 0, 176]
def k0_off2042 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1094 : Index := Scalar.indexCast arg16
  let c0_i32_442 : BitVec 32 := 0#32
  let v1095 : Index := Scalar.indexCast c0_i32_442
  let c192 : Index := 192#32
  ![v1094.toNat, 0, 192]
def k0_off2043 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1105 : Index := Scalar.indexCast arg16
  let c0_i32_445 : BitVec 32 := 0#32
  let v1106 : Index := Scalar.indexCast c0_i32_445
  let c208 : Index := 208#32
  ![v1105.toNat, 0, 208]
def k0_off2044 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1116 : Index := Scalar.indexCast arg16
  let c0_i32_448 : BitVec 32 := 0#32
  let v1117 : Index := Scalar.indexCast c0_i32_448
  let c224 : Index := 224#32
  ![v1116.toNat, 0, 224]
def k0_off2045 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1127 : Index := Scalar.indexCast arg16
  let c0_i32_451 : BitVec 32 := 0#32
  let v1128 : Index := Scalar.indexCast c0_i32_451
  let c240 : Index := 240#32
  ![v1127.toNat, 0, 240]
def k0_off2046 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1138 : Index := Scalar.indexCast arg16
  let c0_i32_454 : BitVec 32 := 0#32
  let v1139 : Index := Scalar.indexCast c0_i32_454
  let c256 : Index := 256#32
  ![v1138.toNat, 0, 256]
def k0_off2047 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1149 : Index := Scalar.indexCast arg16
  let c0_i32_457 : BitVec 32 := 0#32
  let v1150 : Index := Scalar.indexCast c0_i32_457
  let c272 : Index := 272#32
  ![v1149.toNat, 0, 272]
def k0_off2048 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1160 : Index := Scalar.indexCast arg16
  let c0_i32_460 : BitVec 32 := 0#32
  let v1161 : Index := Scalar.indexCast c0_i32_460
  let c288 : Index := 288#32
  ![v1160.toNat, 0, 288]
def k0_off2049 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1171 : Index := Scalar.indexCast arg16
  let c0_i32_463 : BitVec 32 := 0#32
  let v1172 : Index := Scalar.indexCast c0_i32_463
  let c304 : Index := 304#32
  ![v1171.toNat, 0, 304]
def k0_off2050 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1182 : Index := Scalar.indexCast arg16
  let c0_i32_466 : BitVec 32 := 0#32
  let v1183 : Index := Scalar.indexCast c0_i32_466
  let c320 : Index := 320#32
  ![v1182.toNat, 0, 320]
def k0_off2051 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1193 : Index := Scalar.indexCast arg16
  let c0_i32_469 : BitVec 32 := 0#32
  let v1194 : Index := Scalar.indexCast c0_i32_469
  let c336 : Index := 336#32
  ![v1193.toNat, 0, 336]
def k0_off2052 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1204 : Index := Scalar.indexCast arg16
  let c0_i32_472 : BitVec 32 := 0#32
  let v1205 : Index := Scalar.indexCast c0_i32_472
  let c352 : Index := 352#32
  ![v1204.toNat, 0, 352]
def k0_off2053 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1215 : Index := Scalar.indexCast arg16
  let c0_i32_475 : BitVec 32 := 0#32
  let v1216 : Index := Scalar.indexCast c0_i32_475
  let c368 : Index := 368#32
  ![v1215.toNat, 0, 368]
def k0_off2054 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1226 : Index := Scalar.indexCast arg16
  let c0_i32_478 : BitVec 32 := 0#32
  let v1227 : Index := Scalar.indexCast c0_i32_478
  let c384 : Index := 384#32
  ![v1226.toNat, 0, 384]
def k0_off2055 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1237 : Index := Scalar.indexCast arg16
  let c0_i32_481 : BitVec 32 := 0#32
  let v1238 : Index := Scalar.indexCast c0_i32_481
  let c400 : Index := 400#32
  ![v1237.toNat, 0, 400]
def k0_off2056 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1248 : Index := Scalar.indexCast arg16
  let c0_i32_484 : BitVec 32 := 0#32
  let v1249 : Index := Scalar.indexCast c0_i32_484
  let c416 : Index := 416#32
  ![v1248.toNat, 0, 416]
def k0_off2057 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1259 : Index := Scalar.indexCast arg16
  let c0_i32_487 : BitVec 32 := 0#32
  let v1260 : Index := Scalar.indexCast c0_i32_487
  let c432 : Index := 432#32
  ![v1259.toNat, 0, 432]
def k0_off2058 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1270 : Index := Scalar.indexCast arg16
  let c0_i32_490 : BitVec 32 := 0#32
  let v1271 : Index := Scalar.indexCast c0_i32_490
  let c448 : Index := 448#32
  ![v1270.toNat, 0, 448]
def k0_off2059 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1281 : Index := Scalar.indexCast arg16
  let c0_i32_493 : BitVec 32 := 0#32
  let v1282 : Index := Scalar.indexCast c0_i32_493
  let c464 : Index := 464#32
  ![v1281.toNat, 0, 464]
def k0_off2060 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1292 : Index := Scalar.indexCast arg16
  let c0_i32_496 : BitVec 32 := 0#32
  let v1293 : Index := Scalar.indexCast c0_i32_496
  let c480 : Index := 480#32
  ![v1292.toNat, 0, 480]
def k0_off2061 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips) : Fin 3 → Nat :=
  let c0_i32_342 : BitVec 32 := 0#32
  let c1_i32_344 : BitVec 32 := 1#32
  let arg14 : BitVec 32 := Scf.iv c0_i32_342 c1_i32_344 k0_t85
  let c3_i32 : BitVec 32 := 3#32
  let v907 : BitVec 32 := Scalar.remsi arg14 c3_i32
  let c32_i32_400 : BitVec 32 := 32#32
  let v948 : BitVec 32 := Scalar.muli v907 c32_i32_400
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t87
  let v1303 : Index := Scalar.indexCast arg16
  let c0_i32_499 : BitVec 32 := 0#32
  let v1304 : Index := Scalar.indexCast c0_i32_499
  let c496 : Index := 496#32
  ![v1303.toNat, 0, 496]
@[reducible] def k0_t88_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let v844 : BitVec 32 := Scalar.addi c0_i32_342 v843
  let c1_i32_345 : BitVec 32 := 1#32
  ⟨v847, v844, c1_i32_345⟩
def k0_off2062 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond60 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) : BitVec 1 :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c2_i32_376 : BitVec 32 := 2#32
  let v927 : BitVec 32 := Scalar.addi arg14 c2_i32_376
  let v908 : BitVec 32 := Scalar.subi v816 v814
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off2063 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) : Fin 3 → Nat :=
  let c1024_i32_327 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let c0_i32_342 : BitVec 32 := 0#32
  let c1024_i32_328 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v814 v965
  let c2016_i32_409 : BitVec 32 := 2016#32
  let v967 : BitVec 32 := Scalar.minsi v966 c2016_i32_409
  let c14_i32_413 : BitVec 32 := 14#32
  let c0_i32_414 : BitVec 32 := 0#32
  ![v967.toNat, 14, 0]
def k0_off2064 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) : Fin 1 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off2065 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off2066 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) : Fin 1 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  ![v907.toNat]
@[reducible] def k0_t89_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) : Scf.Loop 32 :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off2067 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v962 : Index := Scalar.indexCast arg16
  let c0_i32_405 : BitVec 32 := 0#32
  let v963 : Index := Scalar.indexCast c0_i32_405
  let c0_406 : Index := 0#32
  ![v962.toNat, 0, 0]
def k0_off2068 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v973 : Index := Scalar.indexCast arg16
  let c0_i32_409 : BitVec 32 := 0#32
  let v974 : Index := Scalar.indexCast c0_i32_409
  let c16 : Index := 16#32
  ![v973.toNat, 0, 16]
def k0_off2069 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v984 : Index := Scalar.indexCast arg16
  let c0_i32_412 : BitVec 32 := 0#32
  let v985 : Index := Scalar.indexCast c0_i32_412
  let c32 : Index := 32#32
  ![v984.toNat, 0, 32]
def k0_off2070 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v995 : Index := Scalar.indexCast arg16
  let c0_i32_415 : BitVec 32 := 0#32
  let v996 : Index := Scalar.indexCast c0_i32_415
  let c48 : Index := 48#32
  ![v995.toNat, 0, 48]
def k0_off2071 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1006 : Index := Scalar.indexCast arg16
  let c0_i32_418 : BitVec 32 := 0#32
  let v1007 : Index := Scalar.indexCast c0_i32_418
  let c64 : Index := 64#32
  ![v1006.toNat, 0, 64]
def k0_off2072 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1017 : Index := Scalar.indexCast arg16
  let c0_i32_421 : BitVec 32 := 0#32
  let v1018 : Index := Scalar.indexCast c0_i32_421
  let c80 : Index := 80#32
  ![v1017.toNat, 0, 80]
def k0_off2073 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1028 : Index := Scalar.indexCast arg16
  let c0_i32_424 : BitVec 32 := 0#32
  let v1029 : Index := Scalar.indexCast c0_i32_424
  let c96 : Index := 96#32
  ![v1028.toNat, 0, 96]
def k0_off2074 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1039 : Index := Scalar.indexCast arg16
  let c0_i32_427 : BitVec 32 := 0#32
  let v1040 : Index := Scalar.indexCast c0_i32_427
  let c112 : Index := 112#32
  ![v1039.toNat, 0, 112]
def k0_off2075 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1050 : Index := Scalar.indexCast arg16
  let c0_i32_430 : BitVec 32 := 0#32
  let v1051 : Index := Scalar.indexCast c0_i32_430
  let c128 : Index := 128#32
  ![v1050.toNat, 0, 128]
def k0_off2076 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1061 : Index := Scalar.indexCast arg16
  let c0_i32_433 : BitVec 32 := 0#32
  let v1062 : Index := Scalar.indexCast c0_i32_433
  let c144 : Index := 144#32
  ![v1061.toNat, 0, 144]
def k0_off2077 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1072 : Index := Scalar.indexCast arg16
  let c0_i32_436 : BitVec 32 := 0#32
  let v1073 : Index := Scalar.indexCast c0_i32_436
  let c160 : Index := 160#32
  ![v1072.toNat, 0, 160]
def k0_off2078 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1083 : Index := Scalar.indexCast arg16
  let c0_i32_439 : BitVec 32 := 0#32
  let v1084 : Index := Scalar.indexCast c0_i32_439
  let c176 : Index := 176#32
  ![v1083.toNat, 0, 176]
def k0_off2079 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1094 : Index := Scalar.indexCast arg16
  let c0_i32_442 : BitVec 32 := 0#32
  let v1095 : Index := Scalar.indexCast c0_i32_442
  let c192 : Index := 192#32
  ![v1094.toNat, 0, 192]
def k0_off2080 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1105 : Index := Scalar.indexCast arg16
  let c0_i32_445 : BitVec 32 := 0#32
  let v1106 : Index := Scalar.indexCast c0_i32_445
  let c208 : Index := 208#32
  ![v1105.toNat, 0, 208]
def k0_off2081 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1116 : Index := Scalar.indexCast arg16
  let c0_i32_448 : BitVec 32 := 0#32
  let v1117 : Index := Scalar.indexCast c0_i32_448
  let c224 : Index := 224#32
  ![v1116.toNat, 0, 224]
def k0_off2082 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1127 : Index := Scalar.indexCast arg16
  let c0_i32_451 : BitVec 32 := 0#32
  let v1128 : Index := Scalar.indexCast c0_i32_451
  let c240 : Index := 240#32
  ![v1127.toNat, 0, 240]
def k0_off2083 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1138 : Index := Scalar.indexCast arg16
  let c0_i32_454 : BitVec 32 := 0#32
  let v1139 : Index := Scalar.indexCast c0_i32_454
  let c256 : Index := 256#32
  ![v1138.toNat, 0, 256]
def k0_off2084 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1149 : Index := Scalar.indexCast arg16
  let c0_i32_457 : BitVec 32 := 0#32
  let v1150 : Index := Scalar.indexCast c0_i32_457
  let c272 : Index := 272#32
  ![v1149.toNat, 0, 272]
def k0_off2085 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1160 : Index := Scalar.indexCast arg16
  let c0_i32_460 : BitVec 32 := 0#32
  let v1161 : Index := Scalar.indexCast c0_i32_460
  let c288 : Index := 288#32
  ![v1160.toNat, 0, 288]
def k0_off2086 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1171 : Index := Scalar.indexCast arg16
  let c0_i32_463 : BitVec 32 := 0#32
  let v1172 : Index := Scalar.indexCast c0_i32_463
  let c304 : Index := 304#32
  ![v1171.toNat, 0, 304]
def k0_off2087 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1182 : Index := Scalar.indexCast arg16
  let c0_i32_466 : BitVec 32 := 0#32
  let v1183 : Index := Scalar.indexCast c0_i32_466
  let c320 : Index := 320#32
  ![v1182.toNat, 0, 320]
def k0_off2088 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1193 : Index := Scalar.indexCast arg16
  let c0_i32_469 : BitVec 32 := 0#32
  let v1194 : Index := Scalar.indexCast c0_i32_469
  let c336 : Index := 336#32
  ![v1193.toNat, 0, 336]
def k0_off2089 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1204 : Index := Scalar.indexCast arg16
  let c0_i32_472 : BitVec 32 := 0#32
  let v1205 : Index := Scalar.indexCast c0_i32_472
  let c352 : Index := 352#32
  ![v1204.toNat, 0, 352]
def k0_off2090 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1215 : Index := Scalar.indexCast arg16
  let c0_i32_475 : BitVec 32 := 0#32
  let v1216 : Index := Scalar.indexCast c0_i32_475
  let c368 : Index := 368#32
  ![v1215.toNat, 0, 368]
def k0_off2091 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1226 : Index := Scalar.indexCast arg16
  let c0_i32_478 : BitVec 32 := 0#32
  let v1227 : Index := Scalar.indexCast c0_i32_478
  let c384 : Index := 384#32
  ![v1226.toNat, 0, 384]
def k0_off2092 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1237 : Index := Scalar.indexCast arg16
  let c0_i32_481 : BitVec 32 := 0#32
  let v1238 : Index := Scalar.indexCast c0_i32_481
  let c400 : Index := 400#32
  ![v1237.toNat, 0, 400]
def k0_off2093 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1248 : Index := Scalar.indexCast arg16
  let c0_i32_484 : BitVec 32 := 0#32
  let v1249 : Index := Scalar.indexCast c0_i32_484
  let c416 : Index := 416#32
  ![v1248.toNat, 0, 416]
def k0_off2094 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1259 : Index := Scalar.indexCast arg16
  let c0_i32_487 : BitVec 32 := 0#32
  let v1260 : Index := Scalar.indexCast c0_i32_487
  let c432 : Index := 432#32
  ![v1259.toNat, 0, 432]
def k0_off2095 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1270 : Index := Scalar.indexCast arg16
  let c0_i32_490 : BitVec 32 := 0#32
  let v1271 : Index := Scalar.indexCast c0_i32_490
  let c448 : Index := 448#32
  ![v1270.toNat, 0, 448]
def k0_off2096 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1281 : Index := Scalar.indexCast arg16
  let c0_i32_493 : BitVec 32 := 0#32
  let v1282 : Index := Scalar.indexCast c0_i32_493
  let c464 : Index := 464#32
  ![v1281.toNat, 0, 464]
def k0_off2097 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1292 : Index := Scalar.indexCast arg16
  let c0_i32_496 : BitVec 32 := 0#32
  let v1293 : Index := Scalar.indexCast c0_i32_496
  let c480 : Index := 480#32
  ![v1292.toNat, 0, 480]
def k0_off2098 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t89
  let v1303 : Index := Scalar.indexCast arg16
  let c0_i32_499 : BitVec 32 := 0#32
  let v1304 : Index := Scalar.indexCast c0_i32_499
  let c496 : Index := 496#32
  ![v1303.toNat, 0, 496]
@[reducible] def k0_t90_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) : Scf.Loop 32 :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off2099 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v962 : Index := Scalar.indexCast arg16
  let c0_i32_405 : BitVec 32 := 0#32
  let v963 : Index := Scalar.indexCast c0_i32_405
  let c0_406 : Index := 0#32
  ![v962.toNat, 0, 0]
def k0_off2100 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v973 : Index := Scalar.indexCast arg16
  let c0_i32_409 : BitVec 32 := 0#32
  let v974 : Index := Scalar.indexCast c0_i32_409
  let c16 : Index := 16#32
  ![v973.toNat, 0, 16]
def k0_off2101 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v984 : Index := Scalar.indexCast arg16
  let c0_i32_412 : BitVec 32 := 0#32
  let v985 : Index := Scalar.indexCast c0_i32_412
  let c32 : Index := 32#32
  ![v984.toNat, 0, 32]
def k0_off2102 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v995 : Index := Scalar.indexCast arg16
  let c0_i32_415 : BitVec 32 := 0#32
  let v996 : Index := Scalar.indexCast c0_i32_415
  let c48 : Index := 48#32
  ![v995.toNat, 0, 48]
def k0_off2103 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1006 : Index := Scalar.indexCast arg16
  let c0_i32_418 : BitVec 32 := 0#32
  let v1007 : Index := Scalar.indexCast c0_i32_418
  let c64 : Index := 64#32
  ![v1006.toNat, 0, 64]
def k0_off2104 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1017 : Index := Scalar.indexCast arg16
  let c0_i32_421 : BitVec 32 := 0#32
  let v1018 : Index := Scalar.indexCast c0_i32_421
  let c80 : Index := 80#32
  ![v1017.toNat, 0, 80]
def k0_off2105 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1028 : Index := Scalar.indexCast arg16
  let c0_i32_424 : BitVec 32 := 0#32
  let v1029 : Index := Scalar.indexCast c0_i32_424
  let c96 : Index := 96#32
  ![v1028.toNat, 0, 96]
def k0_off2106 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1039 : Index := Scalar.indexCast arg16
  let c0_i32_427 : BitVec 32 := 0#32
  let v1040 : Index := Scalar.indexCast c0_i32_427
  let c112 : Index := 112#32
  ![v1039.toNat, 0, 112]
def k0_off2107 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1050 : Index := Scalar.indexCast arg16
  let c0_i32_430 : BitVec 32 := 0#32
  let v1051 : Index := Scalar.indexCast c0_i32_430
  let c128 : Index := 128#32
  ![v1050.toNat, 0, 128]
def k0_off2108 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1061 : Index := Scalar.indexCast arg16
  let c0_i32_433 : BitVec 32 := 0#32
  let v1062 : Index := Scalar.indexCast c0_i32_433
  let c144 : Index := 144#32
  ![v1061.toNat, 0, 144]
def k0_off2109 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1072 : Index := Scalar.indexCast arg16
  let c0_i32_436 : BitVec 32 := 0#32
  let v1073 : Index := Scalar.indexCast c0_i32_436
  let c160 : Index := 160#32
  ![v1072.toNat, 0, 160]
def k0_off2110 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1083 : Index := Scalar.indexCast arg16
  let c0_i32_439 : BitVec 32 := 0#32
  let v1084 : Index := Scalar.indexCast c0_i32_439
  let c176 : Index := 176#32
  ![v1083.toNat, 0, 176]
def k0_off2111 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1094 : Index := Scalar.indexCast arg16
  let c0_i32_442 : BitVec 32 := 0#32
  let v1095 : Index := Scalar.indexCast c0_i32_442
  let c192 : Index := 192#32
  ![v1094.toNat, 0, 192]
def k0_off2112 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1105 : Index := Scalar.indexCast arg16
  let c0_i32_445 : BitVec 32 := 0#32
  let v1106 : Index := Scalar.indexCast c0_i32_445
  let c208 : Index := 208#32
  ![v1105.toNat, 0, 208]
def k0_off2113 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1116 : Index := Scalar.indexCast arg16
  let c0_i32_448 : BitVec 32 := 0#32
  let v1117 : Index := Scalar.indexCast c0_i32_448
  let c224 : Index := 224#32
  ![v1116.toNat, 0, 224]
def k0_off2114 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1127 : Index := Scalar.indexCast arg16
  let c0_i32_451 : BitVec 32 := 0#32
  let v1128 : Index := Scalar.indexCast c0_i32_451
  let c240 : Index := 240#32
  ![v1127.toNat, 0, 240]
def k0_off2115 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1138 : Index := Scalar.indexCast arg16
  let c0_i32_454 : BitVec 32 := 0#32
  let v1139 : Index := Scalar.indexCast c0_i32_454
  let c256 : Index := 256#32
  ![v1138.toNat, 0, 256]
def k0_off2116 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1149 : Index := Scalar.indexCast arg16
  let c0_i32_457 : BitVec 32 := 0#32
  let v1150 : Index := Scalar.indexCast c0_i32_457
  let c272 : Index := 272#32
  ![v1149.toNat, 0, 272]
def k0_off2117 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1160 : Index := Scalar.indexCast arg16
  let c0_i32_460 : BitVec 32 := 0#32
  let v1161 : Index := Scalar.indexCast c0_i32_460
  let c288 : Index := 288#32
  ![v1160.toNat, 0, 288]
def k0_off2118 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1171 : Index := Scalar.indexCast arg16
  let c0_i32_463 : BitVec 32 := 0#32
  let v1172 : Index := Scalar.indexCast c0_i32_463
  let c304 : Index := 304#32
  ![v1171.toNat, 0, 304]
def k0_off2119 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1182 : Index := Scalar.indexCast arg16
  let c0_i32_466 : BitVec 32 := 0#32
  let v1183 : Index := Scalar.indexCast c0_i32_466
  let c320 : Index := 320#32
  ![v1182.toNat, 0, 320]
def k0_off2120 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1193 : Index := Scalar.indexCast arg16
  let c0_i32_469 : BitVec 32 := 0#32
  let v1194 : Index := Scalar.indexCast c0_i32_469
  let c336 : Index := 336#32
  ![v1193.toNat, 0, 336]
def k0_off2121 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1204 : Index := Scalar.indexCast arg16
  let c0_i32_472 : BitVec 32 := 0#32
  let v1205 : Index := Scalar.indexCast c0_i32_472
  let c352 : Index := 352#32
  ![v1204.toNat, 0, 352]
def k0_off2122 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1215 : Index := Scalar.indexCast arg16
  let c0_i32_475 : BitVec 32 := 0#32
  let v1216 : Index := Scalar.indexCast c0_i32_475
  let c368 : Index := 368#32
  ![v1215.toNat, 0, 368]
def k0_off2123 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1226 : Index := Scalar.indexCast arg16
  let c0_i32_478 : BitVec 32 := 0#32
  let v1227 : Index := Scalar.indexCast c0_i32_478
  let c384 : Index := 384#32
  ![v1226.toNat, 0, 384]
def k0_off2124 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1237 : Index := Scalar.indexCast arg16
  let c0_i32_481 : BitVec 32 := 0#32
  let v1238 : Index := Scalar.indexCast c0_i32_481
  let c400 : Index := 400#32
  ![v1237.toNat, 0, 400]
def k0_off2125 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1248 : Index := Scalar.indexCast arg16
  let c0_i32_484 : BitVec 32 := 0#32
  let v1249 : Index := Scalar.indexCast c0_i32_484
  let c416 : Index := 416#32
  ![v1248.toNat, 0, 416]
def k0_off2126 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1259 : Index := Scalar.indexCast arg16
  let c0_i32_487 : BitVec 32 := 0#32
  let v1260 : Index := Scalar.indexCast c0_i32_487
  let c432 : Index := 432#32
  ![v1259.toNat, 0, 432]
def k0_off2127 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1270 : Index := Scalar.indexCast arg16
  let c0_i32_490 : BitVec 32 := 0#32
  let v1271 : Index := Scalar.indexCast c0_i32_490
  let c448 : Index := 448#32
  ![v1270.toNat, 0, 448]
def k0_off2128 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1281 : Index := Scalar.indexCast arg16
  let c0_i32_493 : BitVec 32 := 0#32
  let v1282 : Index := Scalar.indexCast c0_i32_493
  let c464 : Index := 464#32
  ![v1281.toNat, 0, 464]
def k0_off2129 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1292 : Index := Scalar.indexCast arg16
  let c0_i32_496 : BitVec 32 := 0#32
  let v1293 : Index := Scalar.indexCast c0_i32_496
  let c480 : Index := 480#32
  ![v1292.toNat, 0, 480]
def k0_off2130 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips) : Fin 3 → Nat :=
  let c0_i32_342 : BitVec 32 := 0#32
  let c1024_i32_328 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v811 : BitVec 32 := Scalar.addi v111 v95
  let v812 : BitVec 32 := Scalar.minsi v150 v811
  let v815 : BitVec 32 := Scalar.subi v812 v111
  let v816 : BitVec 32 := Scalar.addi c1024_i32_328 v815
  let c1024_i32_327 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v810 : BitVec 32 := Scalar.maxsi v131 v111
  let v813 : BitVec 32 := Scalar.subi v810 v111
  let v814 : BitVec 32 := Scalar.addi c1024_i32_327 v813
  let v817 : BitVec 32 := Scalar.subi v816 v814
  let c31_i32_329 : BitVec 32 := 31#32
  let v818 : BitVec 32 := Scalar.addi v817 c31_i32_329
  let c0_i32_331 : BitVec 32 := 0#32
  let v820 : BitVec 1 := Scalar.cmpi .sgt v818 c0_i32_331
  let v821 : BitVec 32 := Scalar.extui v820
  let c0_i32_332 : BitVec 32 := 0#32
  let v822 : BitVec 1 := Scalar.cmpi .slt v818 c0_i32_332
  let v823 : BitVec 32 := Scalar.extui v822
  let v824 : BitVec 32 := Scalar.subi v821 v823
  let c32_i32_330 : BitVec 32 := 32#32
  let c0_i32_333 : BitVec 32 := 0#32
  let v825 : BitVec 1 := Scalar.cmpi .sgt c32_i32_330 c0_i32_333
  let v826 : BitVec 32 := Scalar.extui v825
  let c0_i32_334 : BitVec 32 := 0#32
  let v827 : BitVec 1 := Scalar.cmpi .slt c32_i32_330 c0_i32_334
  let v828 : BitVec 32 := Scalar.extui v827
  let v829 : BitVec 32 := Scalar.subi v826 v828
  let v830 : BitVec 1 := Scalar.cmpi .ne v824 v829
  let v831 : BitVec 32 := Scalar.remsi v818 c32_i32_330
  let c0_i32_335 : BitVec 32 := 0#32
  let v832 : BitVec 1 := Scalar.cmpi .ne v831 c0_i32_335
  let v833 : BitVec 1 := Scalar.andi v830 v832
  let v819 : BitVec 32 := Scalar.divsi v818 c32_i32_330
  let c1_i32_336 : BitVec 32 := 1#32
  let v834 : BitVec 32 := Scalar.subi v819 c1_i32_336
  let v835 : BitVec 32 := Scalar.select v833 v834 v819
  let v843 : BitVec 32 := Scalar.subi v835 c0_i32_342
  let c1_i32_343 : BitVec 32 := 1#32
  let v845 : BitVec 32 := Scalar.divsi v843 c1_i32_343
  let v846 : BitVec 32 := Scalar.muli v845 c1_i32_343
  let v847 : BitVec 32 := Scalar.addi c0_i32_342 v846
  let c1_i32_345 : BitVec 32 := 1#32
  let arg14 : BitVec 32 := Scf.iv v847 c1_i32_345 k0_t88
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v814 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v816 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t90
  let v1303 : Index := Scalar.indexCast arg16
  let c0_i32_499 : BitVec 32 := 0#32
  let v1304 : Index := Scalar.indexCast c0_i32_499
  let c496 : Index := 496#32
  ![v1303.toNat, 0, 496]
def k0_off2131 : Fin 3 → Nat :=
  let c0_i32_370 : BitVec 32 := 0#32
  let c32_i32_371 : BitVec 32 := 32#32
  let v910 : BitVec 32 := Scalar.muli c0_i32_370 c32_i32_371
  let c0_i32_373 : BitVec 32 := 0#32
  let c0_i32_374 : BitVec 32 := 0#32
  ![v910.toNat, 0, 0]
def k0_off2132 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c0_i32_368 : BitVec 32 := 0#32
  let c32_i32_369 : BitVec 32 := 32#32
  let v907 : BitVec 32 := Scalar.muli c0_i32_368 c32_i32_369
  let v908 : BitVec 32 := Scalar.addi v861 v907
  let c2016_i32 : BitVec 32 := 2016#32
  let v909 : BitVec 32 := Scalar.minsi v908 c2016_i32
  let c15_i32 : BitVec 32 := 15#32
  let c0_i32_375 : BitVec 32 := 0#32
  ![v909.toNat, 15, 0]
def k0_cond61 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let c0_i32_357 : BitVec 32 := 0#32
  let v883 : BitVec 1 := Scalar.cmpi .sgt v882 c0_i32_357
  let v884 : BitVec 32 := Scalar.extui v883
  let c0_i32_358 : BitVec 32 := 0#32
  let v885 : BitVec 1 := Scalar.cmpi .ne v884 c0_i32_358
  v885

def k0_off2133 : Fin 3 → Nat :=
  let c1_i32_370 : BitVec 32 := 1#32
  let c32_i32_371 : BitVec 32 := 32#32
  let v910 : BitVec 32 := Scalar.muli c1_i32_370 c32_i32_371
  let c0_i32_373 : BitVec 32 := 0#32
  let c0_i32_374 : BitVec 32 := 0#32
  ![v910.toNat, 0, 0]
def k0_off2134 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Fin 3 → Nat :=
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c1_i32_368 : BitVec 32 := 1#32
  let c32_i32_369 : BitVec 32 := 32#32
  let v907 : BitVec 32 := Scalar.muli c1_i32_368 c32_i32_369
  let v908 : BitVec 32 := Scalar.addi v861 v907
  let c2016_i32 : BitVec 32 := 2016#32
  let v909 : BitVec 32 := Scalar.minsi v908 c2016_i32
  let c15_i32 : BitVec 32 := 15#32
  let c0_i32_375 : BitVec 32 := 0#32
  ![v909.toNat, 15, 0]
def k0_cond62 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : BitVec 1 :=
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let c1_i32_359 : BitVec 32 := 1#32
  let v886 : BitVec 1 := Scalar.cmpi .sgt v882 c1_i32_359
  let v887 : BitVec 32 := Scalar.extui v886
  let c0_i32_360 : BitVec 32 := 0#32
  let v888 : BitVec 1 := Scalar.cmpi .ne v887 c0_i32_360
  v888

@[reducible] def k0_t91_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_364 : BitVec 32 := 1#32
  ⟨c0_i32_362, v894, c1_i32_364⟩
def k0_off2135 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) : Fin 3 → Nat :=
  let c0_i32_362 : BitVec 32 := 0#32
  let c1_i32_364 : BitVec 32 := 1#32
  let arg14 : BitVec 32 := Scf.iv c0_i32_362 c1_i32_364 k0_t91
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond63 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) : BitVec 1 :=
  let c0_i32_362 : BitVec 32 := 0#32
  let c1_i32_364 : BitVec 32 := 1#32
  let arg14 : BitVec 32 := Scf.iv c0_i32_362 c1_i32_364 k0_t91
  let c2_i32_376 : BitVec 32 := 2#32
  let v927 : BitVec 32 := Scalar.addi arg14 c2_i32_376
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v908 : BitVec 32 := Scalar.subi v863 v861
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off2136 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) : Fin 3 → Nat :=
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c0_i32_362 : BitVec 32 := 0#32
  let c1_i32_364 : BitVec 32 := 1#32
  let arg14 : BitVec 32 := Scf.iv c0_i32_362 c1_i32_364 k0_t91
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v861 v965
  let c2016_i32_409 : BitVec 32 := 2016#32
  let v967 : BitVec 32 := Scalar.minsi v966 c2016_i32_409
  let c15_i32_413 : BitVec 32 := 15#32
  let c0_i32_414 : BitVec 32 := 0#32
  ![v967.toNat, 15, 0]
def k0_off2137 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) : Fin 1 → Nat :=
  let c0_i32_362 : BitVec 32 := 0#32
  let c1_i32_364 : BitVec 32 := 1#32
  let arg14 : BitVec 32 := Scf.iv c0_i32_362 c1_i32_364 k0_t91
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off2138 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off2139 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) : Fin 1 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  ![v907.toNat]
@[reducible] def k0_t92_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) : Scf.Loop 32 :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off2140 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v962 : Index := Scalar.indexCast arg16
  let c0_i32_405 : BitVec 32 := 0#32
  let v963 : Index := Scalar.indexCast c0_i32_405
  let c0_406 : Index := 0#32
  ![v962.toNat, 0, 0]
def k0_off2141 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v973 : Index := Scalar.indexCast arg16
  let c0_i32_409 : BitVec 32 := 0#32
  let v974 : Index := Scalar.indexCast c0_i32_409
  let c16 : Index := 16#32
  ![v973.toNat, 0, 16]
def k0_off2142 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v984 : Index := Scalar.indexCast arg16
  let c0_i32_412 : BitVec 32 := 0#32
  let v985 : Index := Scalar.indexCast c0_i32_412
  let c32 : Index := 32#32
  ![v984.toNat, 0, 32]
def k0_off2143 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v995 : Index := Scalar.indexCast arg16
  let c0_i32_415 : BitVec 32 := 0#32
  let v996 : Index := Scalar.indexCast c0_i32_415
  let c48 : Index := 48#32
  ![v995.toNat, 0, 48]
def k0_off2144 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1006 : Index := Scalar.indexCast arg16
  let c0_i32_418 : BitVec 32 := 0#32
  let v1007 : Index := Scalar.indexCast c0_i32_418
  let c64 : Index := 64#32
  ![v1006.toNat, 0, 64]
def k0_off2145 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1017 : Index := Scalar.indexCast arg16
  let c0_i32_421 : BitVec 32 := 0#32
  let v1018 : Index := Scalar.indexCast c0_i32_421
  let c80 : Index := 80#32
  ![v1017.toNat, 0, 80]
def k0_off2146 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1028 : Index := Scalar.indexCast arg16
  let c0_i32_424 : BitVec 32 := 0#32
  let v1029 : Index := Scalar.indexCast c0_i32_424
  let c96 : Index := 96#32
  ![v1028.toNat, 0, 96]
def k0_off2147 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1039 : Index := Scalar.indexCast arg16
  let c0_i32_427 : BitVec 32 := 0#32
  let v1040 : Index := Scalar.indexCast c0_i32_427
  let c112 : Index := 112#32
  ![v1039.toNat, 0, 112]
def k0_off2148 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1050 : Index := Scalar.indexCast arg16
  let c0_i32_430 : BitVec 32 := 0#32
  let v1051 : Index := Scalar.indexCast c0_i32_430
  let c128 : Index := 128#32
  ![v1050.toNat, 0, 128]
def k0_off2149 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1061 : Index := Scalar.indexCast arg16
  let c0_i32_433 : BitVec 32 := 0#32
  let v1062 : Index := Scalar.indexCast c0_i32_433
  let c144 : Index := 144#32
  ![v1061.toNat, 0, 144]
def k0_off2150 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1072 : Index := Scalar.indexCast arg16
  let c0_i32_436 : BitVec 32 := 0#32
  let v1073 : Index := Scalar.indexCast c0_i32_436
  let c160 : Index := 160#32
  ![v1072.toNat, 0, 160]
def k0_off2151 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1083 : Index := Scalar.indexCast arg16
  let c0_i32_439 : BitVec 32 := 0#32
  let v1084 : Index := Scalar.indexCast c0_i32_439
  let c176 : Index := 176#32
  ![v1083.toNat, 0, 176]
def k0_off2152 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1094 : Index := Scalar.indexCast arg16
  let c0_i32_442 : BitVec 32 := 0#32
  let v1095 : Index := Scalar.indexCast c0_i32_442
  let c192 : Index := 192#32
  ![v1094.toNat, 0, 192]
def k0_off2153 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1105 : Index := Scalar.indexCast arg16
  let c0_i32_445 : BitVec 32 := 0#32
  let v1106 : Index := Scalar.indexCast c0_i32_445
  let c208 : Index := 208#32
  ![v1105.toNat, 0, 208]
def k0_off2154 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1116 : Index := Scalar.indexCast arg16
  let c0_i32_448 : BitVec 32 := 0#32
  let v1117 : Index := Scalar.indexCast c0_i32_448
  let c224 : Index := 224#32
  ![v1116.toNat, 0, 224]
def k0_off2155 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1127 : Index := Scalar.indexCast arg16
  let c0_i32_451 : BitVec 32 := 0#32
  let v1128 : Index := Scalar.indexCast c0_i32_451
  let c240 : Index := 240#32
  ![v1127.toNat, 0, 240]
def k0_off2156 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1138 : Index := Scalar.indexCast arg16
  let c0_i32_454 : BitVec 32 := 0#32
  let v1139 : Index := Scalar.indexCast c0_i32_454
  let c256 : Index := 256#32
  ![v1138.toNat, 0, 256]
def k0_off2157 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1149 : Index := Scalar.indexCast arg16
  let c0_i32_457 : BitVec 32 := 0#32
  let v1150 : Index := Scalar.indexCast c0_i32_457
  let c272 : Index := 272#32
  ![v1149.toNat, 0, 272]
def k0_off2158 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1160 : Index := Scalar.indexCast arg16
  let c0_i32_460 : BitVec 32 := 0#32
  let v1161 : Index := Scalar.indexCast c0_i32_460
  let c288 : Index := 288#32
  ![v1160.toNat, 0, 288]
def k0_off2159 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1171 : Index := Scalar.indexCast arg16
  let c0_i32_463 : BitVec 32 := 0#32
  let v1172 : Index := Scalar.indexCast c0_i32_463
  let c304 : Index := 304#32
  ![v1171.toNat, 0, 304]
def k0_off2160 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1182 : Index := Scalar.indexCast arg16
  let c0_i32_466 : BitVec 32 := 0#32
  let v1183 : Index := Scalar.indexCast c0_i32_466
  let c320 : Index := 320#32
  ![v1182.toNat, 0, 320]
def k0_off2161 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1193 : Index := Scalar.indexCast arg16
  let c0_i32_469 : BitVec 32 := 0#32
  let v1194 : Index := Scalar.indexCast c0_i32_469
  let c336 : Index := 336#32
  ![v1193.toNat, 0, 336]
def k0_off2162 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1204 : Index := Scalar.indexCast arg16
  let c0_i32_472 : BitVec 32 := 0#32
  let v1205 : Index := Scalar.indexCast c0_i32_472
  let c352 : Index := 352#32
  ![v1204.toNat, 0, 352]
def k0_off2163 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1215 : Index := Scalar.indexCast arg16
  let c0_i32_475 : BitVec 32 := 0#32
  let v1216 : Index := Scalar.indexCast c0_i32_475
  let c368 : Index := 368#32
  ![v1215.toNat, 0, 368]
def k0_off2164 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1226 : Index := Scalar.indexCast arg16
  let c0_i32_478 : BitVec 32 := 0#32
  let v1227 : Index := Scalar.indexCast c0_i32_478
  let c384 : Index := 384#32
  ![v1226.toNat, 0, 384]
def k0_off2165 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1237 : Index := Scalar.indexCast arg16
  let c0_i32_481 : BitVec 32 := 0#32
  let v1238 : Index := Scalar.indexCast c0_i32_481
  let c400 : Index := 400#32
  ![v1237.toNat, 0, 400]
def k0_off2166 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1248 : Index := Scalar.indexCast arg16
  let c0_i32_484 : BitVec 32 := 0#32
  let v1249 : Index := Scalar.indexCast c0_i32_484
  let c416 : Index := 416#32
  ![v1248.toNat, 0, 416]
def k0_off2167 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1259 : Index := Scalar.indexCast arg16
  let c0_i32_487 : BitVec 32 := 0#32
  let v1260 : Index := Scalar.indexCast c0_i32_487
  let c432 : Index := 432#32
  ![v1259.toNat, 0, 432]
def k0_off2168 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1270 : Index := Scalar.indexCast arg16
  let c0_i32_490 : BitVec 32 := 0#32
  let v1271 : Index := Scalar.indexCast c0_i32_490
  let c448 : Index := 448#32
  ![v1270.toNat, 0, 448]
def k0_off2169 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1281 : Index := Scalar.indexCast arg16
  let c0_i32_493 : BitVec 32 := 0#32
  let v1282 : Index := Scalar.indexCast c0_i32_493
  let c464 : Index := 464#32
  ![v1281.toNat, 0, 464]
def k0_off2170 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1292 : Index := Scalar.indexCast arg16
  let c0_i32_496 : BitVec 32 := 0#32
  let v1293 : Index := Scalar.indexCast c0_i32_496
  let c480 : Index := 480#32
  ![v1292.toNat, 0, 480]
def k0_off2171 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t92
  let v1303 : Index := Scalar.indexCast arg16
  let c0_i32_499 : BitVec 32 := 0#32
  let v1304 : Index := Scalar.indexCast c0_i32_499
  let c496 : Index := 496#32
  ![v1303.toNat, 0, 496]
@[reducible] def k0_t93_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) : Scf.Loop 32 :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off2172 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v962 : Index := Scalar.indexCast arg16
  let c0_i32_405 : BitVec 32 := 0#32
  let v963 : Index := Scalar.indexCast c0_i32_405
  let c0_406 : Index := 0#32
  ![v962.toNat, 0, 0]
def k0_off2173 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v973 : Index := Scalar.indexCast arg16
  let c0_i32_409 : BitVec 32 := 0#32
  let v974 : Index := Scalar.indexCast c0_i32_409
  let c16 : Index := 16#32
  ![v973.toNat, 0, 16]
def k0_off2174 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v984 : Index := Scalar.indexCast arg16
  let c0_i32_412 : BitVec 32 := 0#32
  let v985 : Index := Scalar.indexCast c0_i32_412
  let c32 : Index := 32#32
  ![v984.toNat, 0, 32]
def k0_off2175 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v995 : Index := Scalar.indexCast arg16
  let c0_i32_415 : BitVec 32 := 0#32
  let v996 : Index := Scalar.indexCast c0_i32_415
  let c48 : Index := 48#32
  ![v995.toNat, 0, 48]
def k0_off2176 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1006 : Index := Scalar.indexCast arg16
  let c0_i32_418 : BitVec 32 := 0#32
  let v1007 : Index := Scalar.indexCast c0_i32_418
  let c64 : Index := 64#32
  ![v1006.toNat, 0, 64]
def k0_off2177 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1017 : Index := Scalar.indexCast arg16
  let c0_i32_421 : BitVec 32 := 0#32
  let v1018 : Index := Scalar.indexCast c0_i32_421
  let c80 : Index := 80#32
  ![v1017.toNat, 0, 80]
def k0_off2178 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1028 : Index := Scalar.indexCast arg16
  let c0_i32_424 : BitVec 32 := 0#32
  let v1029 : Index := Scalar.indexCast c0_i32_424
  let c96 : Index := 96#32
  ![v1028.toNat, 0, 96]
def k0_off2179 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1039 : Index := Scalar.indexCast arg16
  let c0_i32_427 : BitVec 32 := 0#32
  let v1040 : Index := Scalar.indexCast c0_i32_427
  let c112 : Index := 112#32
  ![v1039.toNat, 0, 112]
def k0_off2180 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1050 : Index := Scalar.indexCast arg16
  let c0_i32_430 : BitVec 32 := 0#32
  let v1051 : Index := Scalar.indexCast c0_i32_430
  let c128 : Index := 128#32
  ![v1050.toNat, 0, 128]
def k0_off2181 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1061 : Index := Scalar.indexCast arg16
  let c0_i32_433 : BitVec 32 := 0#32
  let v1062 : Index := Scalar.indexCast c0_i32_433
  let c144 : Index := 144#32
  ![v1061.toNat, 0, 144]
def k0_off2182 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1072 : Index := Scalar.indexCast arg16
  let c0_i32_436 : BitVec 32 := 0#32
  let v1073 : Index := Scalar.indexCast c0_i32_436
  let c160 : Index := 160#32
  ![v1072.toNat, 0, 160]
def k0_off2183 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1083 : Index := Scalar.indexCast arg16
  let c0_i32_439 : BitVec 32 := 0#32
  let v1084 : Index := Scalar.indexCast c0_i32_439
  let c176 : Index := 176#32
  ![v1083.toNat, 0, 176]
def k0_off2184 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1094 : Index := Scalar.indexCast arg16
  let c0_i32_442 : BitVec 32 := 0#32
  let v1095 : Index := Scalar.indexCast c0_i32_442
  let c192 : Index := 192#32
  ![v1094.toNat, 0, 192]
def k0_off2185 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1105 : Index := Scalar.indexCast arg16
  let c0_i32_445 : BitVec 32 := 0#32
  let v1106 : Index := Scalar.indexCast c0_i32_445
  let c208 : Index := 208#32
  ![v1105.toNat, 0, 208]
def k0_off2186 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1116 : Index := Scalar.indexCast arg16
  let c0_i32_448 : BitVec 32 := 0#32
  let v1117 : Index := Scalar.indexCast c0_i32_448
  let c224 : Index := 224#32
  ![v1116.toNat, 0, 224]
def k0_off2187 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1127 : Index := Scalar.indexCast arg16
  let c0_i32_451 : BitVec 32 := 0#32
  let v1128 : Index := Scalar.indexCast c0_i32_451
  let c240 : Index := 240#32
  ![v1127.toNat, 0, 240]
def k0_off2188 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1138 : Index := Scalar.indexCast arg16
  let c0_i32_454 : BitVec 32 := 0#32
  let v1139 : Index := Scalar.indexCast c0_i32_454
  let c256 : Index := 256#32
  ![v1138.toNat, 0, 256]
def k0_off2189 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1149 : Index := Scalar.indexCast arg16
  let c0_i32_457 : BitVec 32 := 0#32
  let v1150 : Index := Scalar.indexCast c0_i32_457
  let c272 : Index := 272#32
  ![v1149.toNat, 0, 272]
def k0_off2190 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1160 : Index := Scalar.indexCast arg16
  let c0_i32_460 : BitVec 32 := 0#32
  let v1161 : Index := Scalar.indexCast c0_i32_460
  let c288 : Index := 288#32
  ![v1160.toNat, 0, 288]
def k0_off2191 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1171 : Index := Scalar.indexCast arg16
  let c0_i32_463 : BitVec 32 := 0#32
  let v1172 : Index := Scalar.indexCast c0_i32_463
  let c304 : Index := 304#32
  ![v1171.toNat, 0, 304]
def k0_off2192 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1182 : Index := Scalar.indexCast arg16
  let c0_i32_466 : BitVec 32 := 0#32
  let v1183 : Index := Scalar.indexCast c0_i32_466
  let c320 : Index := 320#32
  ![v1182.toNat, 0, 320]
def k0_off2193 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1193 : Index := Scalar.indexCast arg16
  let c0_i32_469 : BitVec 32 := 0#32
  let v1194 : Index := Scalar.indexCast c0_i32_469
  let c336 : Index := 336#32
  ![v1193.toNat, 0, 336]
def k0_off2194 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1204 : Index := Scalar.indexCast arg16
  let c0_i32_472 : BitVec 32 := 0#32
  let v1205 : Index := Scalar.indexCast c0_i32_472
  let c352 : Index := 352#32
  ![v1204.toNat, 0, 352]
def k0_off2195 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1215 : Index := Scalar.indexCast arg16
  let c0_i32_475 : BitVec 32 := 0#32
  let v1216 : Index := Scalar.indexCast c0_i32_475
  let c368 : Index := 368#32
  ![v1215.toNat, 0, 368]
def k0_off2196 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1226 : Index := Scalar.indexCast arg16
  let c0_i32_478 : BitVec 32 := 0#32
  let v1227 : Index := Scalar.indexCast c0_i32_478
  let c384 : Index := 384#32
  ![v1226.toNat, 0, 384]
def k0_off2197 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1237 : Index := Scalar.indexCast arg16
  let c0_i32_481 : BitVec 32 := 0#32
  let v1238 : Index := Scalar.indexCast c0_i32_481
  let c400 : Index := 400#32
  ![v1237.toNat, 0, 400]
def k0_off2198 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1248 : Index := Scalar.indexCast arg16
  let c0_i32_484 : BitVec 32 := 0#32
  let v1249 : Index := Scalar.indexCast c0_i32_484
  let c416 : Index := 416#32
  ![v1248.toNat, 0, 416]
def k0_off2199 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1259 : Index := Scalar.indexCast arg16
  let c0_i32_487 : BitVec 32 := 0#32
  let v1260 : Index := Scalar.indexCast c0_i32_487
  let c432 : Index := 432#32
  ![v1259.toNat, 0, 432]
def k0_off2200 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1270 : Index := Scalar.indexCast arg16
  let c0_i32_490 : BitVec 32 := 0#32
  let v1271 : Index := Scalar.indexCast c0_i32_490
  let c448 : Index := 448#32
  ![v1270.toNat, 0, 448]
def k0_off2201 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1281 : Index := Scalar.indexCast arg16
  let c0_i32_493 : BitVec 32 := 0#32
  let v1282 : Index := Scalar.indexCast c0_i32_493
  let c464 : Index := 464#32
  ![v1281.toNat, 0, 464]
def k0_off2202 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1292 : Index := Scalar.indexCast arg16
  let c0_i32_496 : BitVec 32 := 0#32
  let v1293 : Index := Scalar.indexCast c0_i32_496
  let c480 : Index := 480#32
  ![v1292.toNat, 0, 480]
def k0_off2203 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips) : Fin 3 → Nat :=
  let c0_i32_362 : BitVec 32 := 0#32
  let c1_i32_364 : BitVec 32 := 1#32
  let arg14 : BitVec 32 := Scf.iv c0_i32_362 c1_i32_364 k0_t91
  let c3_i32 : BitVec 32 := 3#32
  let v907 : BitVec 32 := Scalar.remsi arg14 c3_i32
  let c32_i32_400 : BitVec 32 := 32#32
  let v948 : BitVec 32 := Scalar.muli v907 c32_i32_400
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t93
  let v1303 : Index := Scalar.indexCast arg16
  let c0_i32_499 : BitVec 32 := 0#32
  let v1304 : Index := Scalar.indexCast c0_i32_499
  let c496 : Index := 496#32
  ![v1303.toNat, 0, 496]
@[reducible] def k0_t94_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Scf.Loop 32 :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let v891 : BitVec 32 := Scalar.addi c0_i32_362 v890
  let c1_i32_365 : BitVec 32 := 1#32
  ⟨v894, v891, c1_i32_365⟩
def k0_off2204 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c2_i32_406 : BitVec 32 := 2#32
  let v963 : BitVec 32 := Scalar.addi arg14 c2_i32_406
  let c3_i32_407 : BitVec 32 := 3#32
  let v964 : BitVec 32 := Scalar.remsi v963 c3_i32_407
  let c32_i32_410 : BitVec 32 := 32#32
  let v968 : BitVec 32 := Scalar.muli v964 c32_i32_410
  let c0_i32_411 : BitVec 32 := 0#32
  let c0_i32_412 : BitVec 32 := 0#32
  ![v968.toNat, 0, 0]
def k0_cond64 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) : BitVec 1 :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c2_i32_376 : BitVec 32 := 2#32
  let v927 : BitVec 32 := Scalar.addi arg14 c2_i32_376
  let v908 : BitVec 32 := Scalar.subi v863 v861
  let c31_i32_368 : BitVec 32 := 31#32
  let v909 : BitVec 32 := Scalar.addi v908 c31_i32_368
  let c0_i32_370 : BitVec 32 := 0#32
  let v911 : BitVec 1 := Scalar.cmpi .sgt v909 c0_i32_370
  let v912 : BitVec 32 := Scalar.extui v911
  let c0_i32_371 : BitVec 32 := 0#32
  let v913 : BitVec 1 := Scalar.cmpi .slt v909 c0_i32_371
  let v914 : BitVec 32 := Scalar.extui v913
  let v915 : BitVec 32 := Scalar.subi v912 v914
  let c32_i32_369 : BitVec 32 := 32#32
  let c0_i32_372 : BitVec 32 := 0#32
  let v916 : BitVec 1 := Scalar.cmpi .sgt c32_i32_369 c0_i32_372
  let v917 : BitVec 32 := Scalar.extui v916
  let c0_i32_373 : BitVec 32 := 0#32
  let v918 : BitVec 1 := Scalar.cmpi .slt c32_i32_369 c0_i32_373
  let v919 : BitVec 32 := Scalar.extui v918
  let v920 : BitVec 32 := Scalar.subi v917 v919
  let v921 : BitVec 1 := Scalar.cmpi .ne v915 v920
  let v922 : BitVec 32 := Scalar.remsi v909 c32_i32_369
  let c0_i32_374 : BitVec 32 := 0#32
  let v923 : BitVec 1 := Scalar.cmpi .ne v922 c0_i32_374
  let v924 : BitVec 1 := Scalar.andi v921 v923
  let v910 : BitVec 32 := Scalar.divsi v909 c32_i32_369
  let c1_i32_375 : BitVec 32 := 1#32
  let v925 : BitVec 32 := Scalar.subi v910 c1_i32_375
  let v926 : BitVec 32 := Scalar.select v924 v925 v910
  let v928 : BitVec 1 := Scalar.cmpi .slt v927 v926
  let v929 : BitVec 32 := Scalar.extui v928
  let c0_i32_377 : BitVec 32 := 0#32
  let v930 : BitVec 1 := Scalar.cmpi .ne v929 c0_i32_377
  v930

def k0_off2205 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) : Fin 3 → Nat :=
  let c1024_i32_347 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let c0_i32_362 : BitVec 32 := 0#32
  let c1024_i32_348 : BitVec 32 := 1024#32
  let c1_i32_36 : BitVec 32 := 1#32
  let v132 : BitVec 32 := Scalar.addi v1 c1_i32_36
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c2_i32_405 : BitVec 32 := 2#32
  let v962 : BitVec 32 := Scalar.addi arg14 c2_i32_405
  let c32_i32_408 : BitVec 32 := 32#32
  let v965 : BitVec 32 := Scalar.muli v962 c32_i32_408
  let v966 : BitVec 32 := Scalar.addi v861 v965
  let c2016_i32_409 : BitVec 32 := 2016#32
  let v967 : BitVec 32 := Scalar.minsi v966 c2016_i32_409
  let c15_i32_413 : BitVec 32 := 15#32
  let c0_i32_414 : BitVec 32 := 0#32
  ![v967.toNat, 15, 0]
def k0_off2206 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) : Fin 1 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c2_i32_406 : BitVec 32 := 2#32
  let v963 : BitVec 32 := Scalar.addi arg14 c2_i32_406
  let c3_i32_407 : BitVec 32 := 3#32
  let v964 : BitVec 32 := Scalar.remsi v963 c3_i32_407
  ![v964.toNat]
def k0_off2207 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_378 : BitVec 32 := 32#32
  let v931 : BitVec 32 := Scalar.muli v907 c32_i32_378
  let c0_i32_379 : BitVec 32 := 0#32
  let c0_i32_380 : BitVec 32 := 0#32
  ![v931.toNat, 0, 0]
def k0_off2208 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) : Fin 1 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  ![v907.toNat]
@[reducible] def k0_t95_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) : Scf.Loop 32 :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_403 : BitVec 32 := 1#32
  ⟨v950, v959, c1_i32_403⟩
def k0_off2209 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v962 : Index := Scalar.indexCast arg16
  let c0_i32_405 : BitVec 32 := 0#32
  let v963 : Index := Scalar.indexCast c0_i32_405
  let c0_406 : Index := 0#32
  ![v962.toNat, 0, 0]

variable {F : FTy → Type} [FloatOps F]

def k0_off2210 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v973 : Index := Scalar.indexCast arg16
  let c0_i32_409 : BitVec 32 := 0#32
  let v974 : Index := Scalar.indexCast c0_i32_409
  let c16 : Index := 16#32
  ![v973.toNat, 0, 16]
def k0_off2211 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v984 : Index := Scalar.indexCast arg16
  let c0_i32_412 : BitVec 32 := 0#32
  let v985 : Index := Scalar.indexCast c0_i32_412
  let c32 : Index := 32#32
  ![v984.toNat, 0, 32]
def k0_off2212 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v995 : Index := Scalar.indexCast arg16
  let c0_i32_415 : BitVec 32 := 0#32
  let v996 : Index := Scalar.indexCast c0_i32_415
  let c48 : Index := 48#32
  ![v995.toNat, 0, 48]
def k0_off2213 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1006 : Index := Scalar.indexCast arg16
  let c0_i32_418 : BitVec 32 := 0#32
  let v1007 : Index := Scalar.indexCast c0_i32_418
  let c64 : Index := 64#32
  ![v1006.toNat, 0, 64]
def k0_off2214 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1017 : Index := Scalar.indexCast arg16
  let c0_i32_421 : BitVec 32 := 0#32
  let v1018 : Index := Scalar.indexCast c0_i32_421
  let c80 : Index := 80#32
  ![v1017.toNat, 0, 80]
def k0_off2215 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1028 : Index := Scalar.indexCast arg16
  let c0_i32_424 : BitVec 32 := 0#32
  let v1029 : Index := Scalar.indexCast c0_i32_424
  let c96 : Index := 96#32
  ![v1028.toNat, 0, 96]
def k0_off2216 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1039 : Index := Scalar.indexCast arg16
  let c0_i32_427 : BitVec 32 := 0#32
  let v1040 : Index := Scalar.indexCast c0_i32_427
  let c112 : Index := 112#32
  ![v1039.toNat, 0, 112]
def k0_off2217 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1050 : Index := Scalar.indexCast arg16
  let c0_i32_430 : BitVec 32 := 0#32
  let v1051 : Index := Scalar.indexCast c0_i32_430
  let c128 : Index := 128#32
  ![v1050.toNat, 0, 128]
def k0_off2218 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1061 : Index := Scalar.indexCast arg16
  let c0_i32_433 : BitVec 32 := 0#32
  let v1062 : Index := Scalar.indexCast c0_i32_433
  let c144 : Index := 144#32
  ![v1061.toNat, 0, 144]
def k0_off2219 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1072 : Index := Scalar.indexCast arg16
  let c0_i32_436 : BitVec 32 := 0#32
  let v1073 : Index := Scalar.indexCast c0_i32_436
  let c160 : Index := 160#32
  ![v1072.toNat, 0, 160]
def k0_off2220 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1083 : Index := Scalar.indexCast arg16
  let c0_i32_439 : BitVec 32 := 0#32
  let v1084 : Index := Scalar.indexCast c0_i32_439
  let c176 : Index := 176#32
  ![v1083.toNat, 0, 176]
def k0_off2221 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1094 : Index := Scalar.indexCast arg16
  let c0_i32_442 : BitVec 32 := 0#32
  let v1095 : Index := Scalar.indexCast c0_i32_442
  let c192 : Index := 192#32
  ![v1094.toNat, 0, 192]
def k0_off2222 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1105 : Index := Scalar.indexCast arg16
  let c0_i32_445 : BitVec 32 := 0#32
  let v1106 : Index := Scalar.indexCast c0_i32_445
  let c208 : Index := 208#32
  ![v1105.toNat, 0, 208]
def k0_off2223 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1116 : Index := Scalar.indexCast arg16
  let c0_i32_448 : BitVec 32 := 0#32
  let v1117 : Index := Scalar.indexCast c0_i32_448
  let c224 : Index := 224#32
  ![v1116.toNat, 0, 224]
def k0_off2224 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1127 : Index := Scalar.indexCast arg16
  let c0_i32_451 : BitVec 32 := 0#32
  let v1128 : Index := Scalar.indexCast c0_i32_451
  let c240 : Index := 240#32
  ![v1127.toNat, 0, 240]
def k0_off2225 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1138 : Index := Scalar.indexCast arg16
  let c0_i32_454 : BitVec 32 := 0#32
  let v1139 : Index := Scalar.indexCast c0_i32_454
  let c256 : Index := 256#32
  ![v1138.toNat, 0, 256]
def k0_off2226 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1149 : Index := Scalar.indexCast arg16
  let c0_i32_457 : BitVec 32 := 0#32
  let v1150 : Index := Scalar.indexCast c0_i32_457
  let c272 : Index := 272#32
  ![v1149.toNat, 0, 272]
def k0_off2227 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1160 : Index := Scalar.indexCast arg16
  let c0_i32_460 : BitVec 32 := 0#32
  let v1161 : Index := Scalar.indexCast c0_i32_460
  let c288 : Index := 288#32
  ![v1160.toNat, 0, 288]
def k0_off2228 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1171 : Index := Scalar.indexCast arg16
  let c0_i32_463 : BitVec 32 := 0#32
  let v1172 : Index := Scalar.indexCast c0_i32_463
  let c304 : Index := 304#32
  ![v1171.toNat, 0, 304]
def k0_off2229 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1182 : Index := Scalar.indexCast arg16
  let c0_i32_466 : BitVec 32 := 0#32
  let v1183 : Index := Scalar.indexCast c0_i32_466
  let c320 : Index := 320#32
  ![v1182.toNat, 0, 320]
def k0_off2230 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1193 : Index := Scalar.indexCast arg16
  let c0_i32_469 : BitVec 32 := 0#32
  let v1194 : Index := Scalar.indexCast c0_i32_469
  let c336 : Index := 336#32
  ![v1193.toNat, 0, 336]
def k0_off2231 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1204 : Index := Scalar.indexCast arg16
  let c0_i32_472 : BitVec 32 := 0#32
  let v1205 : Index := Scalar.indexCast c0_i32_472
  let c352 : Index := 352#32
  ![v1204.toNat, 0, 352]
def k0_off2232 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1215 : Index := Scalar.indexCast arg16
  let c0_i32_475 : BitVec 32 := 0#32
  let v1216 : Index := Scalar.indexCast c0_i32_475
  let c368 : Index := 368#32
  ![v1215.toNat, 0, 368]
def k0_off2233 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1226 : Index := Scalar.indexCast arg16
  let c0_i32_478 : BitVec 32 := 0#32
  let v1227 : Index := Scalar.indexCast c0_i32_478
  let c384 : Index := 384#32
  ![v1226.toNat, 0, 384]
def k0_off2234 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1237 : Index := Scalar.indexCast arg16
  let c0_i32_481 : BitVec 32 := 0#32
  let v1238 : Index := Scalar.indexCast c0_i32_481
  let c400 : Index := 400#32
  ![v1237.toNat, 0, 400]
def k0_off2235 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1248 : Index := Scalar.indexCast arg16
  let c0_i32_484 : BitVec 32 := 0#32
  let v1249 : Index := Scalar.indexCast c0_i32_484
  let c416 : Index := 416#32
  ![v1248.toNat, 0, 416]
def k0_off2236 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1259 : Index := Scalar.indexCast arg16
  let c0_i32_487 : BitVec 32 := 0#32
  let v1260 : Index := Scalar.indexCast c0_i32_487
  let c432 : Index := 432#32
  ![v1259.toNat, 0, 432]
def k0_off2237 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1270 : Index := Scalar.indexCast arg16
  let c0_i32_490 : BitVec 32 := 0#32
  let v1271 : Index := Scalar.indexCast c0_i32_490
  let c448 : Index := 448#32
  ![v1270.toNat, 0, 448]
def k0_off2238 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1281 : Index := Scalar.indexCast arg16
  let c0_i32_493 : BitVec 32 := 0#32
  let v1282 : Index := Scalar.indexCast c0_i32_493
  let c464 : Index := 464#32
  ![v1281.toNat, 0, 464]
def k0_off2239 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1292 : Index := Scalar.indexCast arg16
  let c0_i32_496 : BitVec 32 := 0#32
  let v1293 : Index := Scalar.indexCast c0_i32_496
  let c480 : Index := 480#32
  ![v1292.toNat, 0, 480]
def k0_off2240 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c1_i32_403 : BitVec 32 := 1#32
  let arg16 : BitVec 32 := Scf.iv v950 c1_i32_403 k0_t95
  let v1303 : Index := Scalar.indexCast arg16
  let c0_i32_499 : BitVec 32 := 0#32
  let v1304 : Index := Scalar.indexCast c0_i32_499
  let c496 : Index := 496#32
  ![v1303.toNat, 0, 496]
@[reducible] def k0_t96_loop (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) : Scf.Loop 32 :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let v956 : BitVec 32 := Scalar.addi v950 v955
  let c1_i32_404 : BitVec 32 := 1#32
  ⟨v959, v956, c1_i32_404⟩
def k0_off2241 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v962 : Index := Scalar.indexCast arg16
  let c0_i32_405 : BitVec 32 := 0#32
  let v963 : Index := Scalar.indexCast c0_i32_405
  let c0_406 : Index := 0#32
  ![v962.toNat, 0, 0]
def k0_off2242 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v973 : Index := Scalar.indexCast arg16
  let c0_i32_409 : BitVec 32 := 0#32
  let v974 : Index := Scalar.indexCast c0_i32_409
  let c16 : Index := 16#32
  ![v973.toNat, 0, 16]
def k0_off2243 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v984 : Index := Scalar.indexCast arg16
  let c0_i32_412 : BitVec 32 := 0#32
  let v985 : Index := Scalar.indexCast c0_i32_412
  let c32 : Index := 32#32
  ![v984.toNat, 0, 32]
def k0_off2244 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v995 : Index := Scalar.indexCast arg16
  let c0_i32_415 : BitVec 32 := 0#32
  let v996 : Index := Scalar.indexCast c0_i32_415
  let c48 : Index := 48#32
  ![v995.toNat, 0, 48]
def k0_off2245 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1006 : Index := Scalar.indexCast arg16
  let c0_i32_418 : BitVec 32 := 0#32
  let v1007 : Index := Scalar.indexCast c0_i32_418
  let c64 : Index := 64#32
  ![v1006.toNat, 0, 64]
def k0_off2246 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1017 : Index := Scalar.indexCast arg16
  let c0_i32_421 : BitVec 32 := 0#32
  let v1018 : Index := Scalar.indexCast c0_i32_421
  let c80 : Index := 80#32
  ![v1017.toNat, 0, 80]
def k0_off2247 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1028 : Index := Scalar.indexCast arg16
  let c0_i32_424 : BitVec 32 := 0#32
  let v1029 : Index := Scalar.indexCast c0_i32_424
  let c96 : Index := 96#32
  ![v1028.toNat, 0, 96]
def k0_off2248 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1039 : Index := Scalar.indexCast arg16
  let c0_i32_427 : BitVec 32 := 0#32
  let v1040 : Index := Scalar.indexCast c0_i32_427
  let c112 : Index := 112#32
  ![v1039.toNat, 0, 112]
def k0_off2249 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1050 : Index := Scalar.indexCast arg16
  let c0_i32_430 : BitVec 32 := 0#32
  let v1051 : Index := Scalar.indexCast c0_i32_430
  let c128 : Index := 128#32
  ![v1050.toNat, 0, 128]
def k0_off2250 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1061 : Index := Scalar.indexCast arg16
  let c0_i32_433 : BitVec 32 := 0#32
  let v1062 : Index := Scalar.indexCast c0_i32_433
  let c144 : Index := 144#32
  ![v1061.toNat, 0, 144]
def k0_off2251 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1072 : Index := Scalar.indexCast arg16
  let c0_i32_436 : BitVec 32 := 0#32
  let v1073 : Index := Scalar.indexCast c0_i32_436
  let c160 : Index := 160#32
  ![v1072.toNat, 0, 160]
def k0_off2252 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1083 : Index := Scalar.indexCast arg16
  let c0_i32_439 : BitVec 32 := 0#32
  let v1084 : Index := Scalar.indexCast c0_i32_439
  let c176 : Index := 176#32
  ![v1083.toNat, 0, 176]
def k0_off2253 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1094 : Index := Scalar.indexCast arg16
  let c0_i32_442 : BitVec 32 := 0#32
  let v1095 : Index := Scalar.indexCast c0_i32_442
  let c192 : Index := 192#32
  ![v1094.toNat, 0, 192]
def k0_off2254 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1105 : Index := Scalar.indexCast arg16
  let c0_i32_445 : BitVec 32 := 0#32
  let v1106 : Index := Scalar.indexCast c0_i32_445
  let c208 : Index := 208#32
  ![v1105.toNat, 0, 208]
def k0_off2255 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1116 : Index := Scalar.indexCast arg16
  let c0_i32_448 : BitVec 32 := 0#32
  let v1117 : Index := Scalar.indexCast c0_i32_448
  let c224 : Index := 224#32
  ![v1116.toNat, 0, 224]
def k0_off2256 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1127 : Index := Scalar.indexCast arg16
  let c0_i32_451 : BitVec 32 := 0#32
  let v1128 : Index := Scalar.indexCast c0_i32_451
  let c240 : Index := 240#32
  ![v1127.toNat, 0, 240]
def k0_off2257 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1138 : Index := Scalar.indexCast arg16
  let c0_i32_454 : BitVec 32 := 0#32
  let v1139 : Index := Scalar.indexCast c0_i32_454
  let c256 : Index := 256#32
  ![v1138.toNat, 0, 256]
def k0_off2258 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1149 : Index := Scalar.indexCast arg16
  let c0_i32_457 : BitVec 32 := 0#32
  let v1150 : Index := Scalar.indexCast c0_i32_457
  let c272 : Index := 272#32
  ![v1149.toNat, 0, 272]
def k0_off2259 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1160 : Index := Scalar.indexCast arg16
  let c0_i32_460 : BitVec 32 := 0#32
  let v1161 : Index := Scalar.indexCast c0_i32_460
  let c288 : Index := 288#32
  ![v1160.toNat, 0, 288]
def k0_off2260 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1171 : Index := Scalar.indexCast arg16
  let c0_i32_463 : BitVec 32 := 0#32
  let v1172 : Index := Scalar.indexCast c0_i32_463
  let c304 : Index := 304#32
  ![v1171.toNat, 0, 304]
def k0_off2261 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1182 : Index := Scalar.indexCast arg16
  let c0_i32_466 : BitVec 32 := 0#32
  let v1183 : Index := Scalar.indexCast c0_i32_466
  let c320 : Index := 320#32
  ![v1182.toNat, 0, 320]
def k0_off2262 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1193 : Index := Scalar.indexCast arg16
  let c0_i32_469 : BitVec 32 := 0#32
  let v1194 : Index := Scalar.indexCast c0_i32_469
  let c336 : Index := 336#32
  ![v1193.toNat, 0, 336]
def k0_off2263 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1204 : Index := Scalar.indexCast arg16
  let c0_i32_472 : BitVec 32 := 0#32
  let v1205 : Index := Scalar.indexCast c0_i32_472
  let c352 : Index := 352#32
  ![v1204.toNat, 0, 352]
def k0_off2264 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1215 : Index := Scalar.indexCast arg16
  let c0_i32_475 : BitVec 32 := 0#32
  let v1216 : Index := Scalar.indexCast c0_i32_475
  let c368 : Index := 368#32
  ![v1215.toNat, 0, 368]
def k0_off2265 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1226 : Index := Scalar.indexCast arg16
  let c0_i32_478 : BitVec 32 := 0#32
  let v1227 : Index := Scalar.indexCast c0_i32_478
  let c384 : Index := 384#32
  ![v1226.toNat, 0, 384]
def k0_off2266 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1237 : Index := Scalar.indexCast arg16
  let c0_i32_481 : BitVec 32 := 0#32
  let v1238 : Index := Scalar.indexCast c0_i32_481
  let c400 : Index := 400#32
  ![v1237.toNat, 0, 400]
def k0_off2267 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1248 : Index := Scalar.indexCast arg16
  let c0_i32_484 : BitVec 32 := 0#32
  let v1249 : Index := Scalar.indexCast c0_i32_484
  let c416 : Index := 416#32
  ![v1248.toNat, 0, 416]
def k0_off2268 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1259 : Index := Scalar.indexCast arg16
  let c0_i32_487 : BitVec 32 := 0#32
  let v1260 : Index := Scalar.indexCast c0_i32_487
  let c432 : Index := 432#32
  ![v1259.toNat, 0, 432]
def k0_off2269 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1270 : Index := Scalar.indexCast arg16
  let c0_i32_490 : BitVec 32 := 0#32
  let v1271 : Index := Scalar.indexCast c0_i32_490
  let c448 : Index := 448#32
  ![v1270.toNat, 0, 448]
def k0_off2270 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1281 : Index := Scalar.indexCast arg16
  let c0_i32_493 : BitVec 32 := 0#32
  let v1282 : Index := Scalar.indexCast c0_i32_493
  let c464 : Index := 464#32
  ![v1281.toNat, 0, 464]
def k0_off2271 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1292 : Index := Scalar.indexCast arg16
  let c0_i32_496 : BitVec 32 := 0#32
  let v1293 : Index := Scalar.indexCast c0_i32_496
  let c480 : Index := 480#32
  ![v1292.toNat, 0, 480]
def k0_off2272 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips) : Fin 3 → Nat :=
  let c0_i32_362 : BitVec 32 := 0#32
  let c1024_i32_348 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let v132 : BitVec 32 := Scalar.addi v1 c1_i32_36
  let c0_i32_30 : BitVec 32 := 0#32
  let c1024_i32 : BitVec 32 := 1024#32
  let v66 : BitVec 32 := Scalar.subi v5 c1024_i32
  let c0_i32 : BitVec 32 := 0#32
  let v67 : BitVec 32 := Scalar.maxsi v66 c0_i32
  let v98 : BitVec 32 := Scalar.addi c0_i32_30 v67
  let c1024_i32_0 : BitVec 32 := 1024#32
  let v68 : BitVec 32 := Scalar.subi v9 c1024_i32_0
  let c0_i32_1 : BitVec 32 := 0#32
  let v69 : BitVec 32 := Scalar.maxsi v68 c0_i32_1
  let v99 : BitVec 32 := Scalar.addi v98 v69
  let c1024_i32_2 : BitVec 32 := 1024#32
  let v70 : BitVec 32 := Scalar.subi v13 c1024_i32_2
  let c0_i32_3 : BitVec 32 := 0#32
  let v71 : BitVec 32 := Scalar.maxsi v70 c0_i32_3
  let v100 : BitVec 32 := Scalar.addi v99 v71
  let c1024_i32_4 : BitVec 32 := 1024#32
  let v72 : BitVec 32 := Scalar.subi v17 c1024_i32_4
  let c0_i32_5 : BitVec 32 := 0#32
  let v73 : BitVec 32 := Scalar.maxsi v72 c0_i32_5
  let v101 : BitVec 32 := Scalar.addi v100 v73
  let c1024_i32_6 : BitVec 32 := 1024#32
  let v74 : BitVec 32 := Scalar.subi v21 c1024_i32_6
  let c0_i32_7 : BitVec 32 := 0#32
  let v75 : BitVec 32 := Scalar.maxsi v74 c0_i32_7
  let v102 : BitVec 32 := Scalar.addi v101 v75
  let c1024_i32_8 : BitVec 32 := 1024#32
  let v76 : BitVec 32 := Scalar.subi v25 c1024_i32_8
  let c0_i32_9 : BitVec 32 := 0#32
  let v77 : BitVec 32 := Scalar.maxsi v76 c0_i32_9
  let v103 : BitVec 32 := Scalar.addi v102 v77
  let c1024_i32_10 : BitVec 32 := 1024#32
  let v78 : BitVec 32 := Scalar.subi v29 c1024_i32_10
  let c0_i32_11 : BitVec 32 := 0#32
  let v79 : BitVec 32 := Scalar.maxsi v78 c0_i32_11
  let v104 : BitVec 32 := Scalar.addi v103 v79
  let c1024_i32_12 : BitVec 32 := 1024#32
  let v80 : BitVec 32 := Scalar.subi v33 c1024_i32_12
  let c0_i32_13 : BitVec 32 := 0#32
  let v81 : BitVec 32 := Scalar.maxsi v80 c0_i32_13
  let v105 : BitVec 32 := Scalar.addi v104 v81
  let c1024_i32_14 : BitVec 32 := 1024#32
  let v82 : BitVec 32 := Scalar.subi v37 c1024_i32_14
  let c0_i32_15 : BitVec 32 := 0#32
  let v83 : BitVec 32 := Scalar.maxsi v82 c0_i32_15
  let v106 : BitVec 32 := Scalar.addi v105 v83
  let c1024_i32_16 : BitVec 32 := 1024#32
  let v84 : BitVec 32 := Scalar.subi v41 c1024_i32_16
  let c0_i32_17 : BitVec 32 := 0#32
  let v85 : BitVec 32 := Scalar.maxsi v84 c0_i32_17
  let v107 : BitVec 32 := Scalar.addi v106 v85
  let c1024_i32_18 : BitVec 32 := 1024#32
  let v86 : BitVec 32 := Scalar.subi v45 c1024_i32_18
  let c0_i32_19 : BitVec 32 := 0#32
  let v87 : BitVec 32 := Scalar.maxsi v86 c0_i32_19
  let v108 : BitVec 32 := Scalar.addi v107 v87
  let c1024_i32_20 : BitVec 32 := 1024#32
  let v88 : BitVec 32 := Scalar.subi v49 c1024_i32_20
  let c0_i32_21 : BitVec 32 := 0#32
  let v89 : BitVec 32 := Scalar.maxsi v88 c0_i32_21
  let v109 : BitVec 32 := Scalar.addi v108 v89
  let c1024_i32_22 : BitVec 32 := 1024#32
  let v90 : BitVec 32 := Scalar.subi v53 c1024_i32_22
  let c0_i32_23 : BitVec 32 := 0#32
  let v91 : BitVec 32 := Scalar.maxsi v90 c0_i32_23
  let v110 : BitVec 32 := Scalar.addi v109 v91
  let c1024_i32_24 : BitVec 32 := 1024#32
  let v92 : BitVec 32 := Scalar.subi v57 c1024_i32_24
  let c0_i32_25 : BitVec 32 := 0#32
  let v93 : BitVec 32 := Scalar.maxsi v92 c0_i32_25
  let v111 : BitVec 32 := Scalar.addi v110 v93
  let c1024_i32_26 : BitVec 32 := 1024#32
  let v94 : BitVec 32 := Scalar.subi v61 c1024_i32_26
  let c0_i32_27 : BitVec 32 := 0#32
  let v95 : BitVec 32 := Scalar.maxsi v94 c0_i32_27
  let v112 : BitVec 32 := Scalar.addi v111 v95
  let c1024_i32_28 : BitVec 32 := 1024#32
  let v96 : BitVec 32 := Scalar.subi v65 c1024_i32_28
  let c0_i32_29 : BitVec 32 := 0#32
  let v97 : BitVec 32 := Scalar.maxsi v96 c0_i32_29
  let v113 : BitVec 32 := Scalar.addi v112 v97
  let v133 : BitVec 32 := Scalar.muli v132 v113
  let c0_i32_38 : BitVec 32 := 0#32
  let v135 : BitVec 1 := Scalar.cmpi .sgt v133 c0_i32_38
  let v136 : BitVec 32 := Scalar.extui v135
  let c0_i32_39 : BitVec 32 := 0#32
  let v137 : BitVec 1 := Scalar.cmpi .slt v133 c0_i32_39
  let v138 : BitVec 32 := Scalar.extui v137
  let v139 : BitVec 32 := Scalar.subi v136 v138
  let c32_i32_37 : BitVec 32 := 32#32
  let c0_i32_40 : BitVec 32 := 0#32
  let v140 : BitVec 1 := Scalar.cmpi .sgt c32_i32_37 c0_i32_40
  let v141 : BitVec 32 := Scalar.extui v140
  let c0_i32_41 : BitVec 32 := 0#32
  let v142 : BitVec 1 := Scalar.cmpi .slt c32_i32_37 c0_i32_41
  let v143 : BitVec 32 := Scalar.extui v142
  let v144 : BitVec 32 := Scalar.subi v141 v143
  let v145 : BitVec 1 := Scalar.cmpi .ne v139 v144
  let v146 : BitVec 32 := Scalar.remsi v133 c32_i32_37
  let c0_i32_42 : BitVec 32 := 0#32
  let v147 : BitVec 1 := Scalar.cmpi .ne v146 c0_i32_42
  let v148 : BitVec 1 := Scalar.andi v145 v147
  let v134 : BitVec 32 := Scalar.divsi v133 c32_i32_37
  let c1_i32_43 : BitVec 32 := 1#32
  let v149 : BitVec 32 := Scalar.subi v134 c1_i32_43
  let v150 : BitVec 32 := Scalar.select v148 v149 v134
  let v858 : BitVec 32 := Scalar.addi v112 v97
  let v859 : BitVec 32 := Scalar.minsi v150 v858
  let v862 : BitVec 32 := Scalar.subi v859 v112
  let v863 : BitVec 32 := Scalar.addi c1024_i32_348 v862
  let c1024_i32_347 : BitVec 32 := 1024#32
  let v114 : BitVec 32 := Scalar.muli v1 v113
  let c0_i32_31 : BitVec 32 := 0#32
  let v116 : BitVec 1 := Scalar.cmpi .sgt v114 c0_i32_31
  let v117 : BitVec 32 := Scalar.extui v116
  let c0_i32_32 : BitVec 32 := 0#32
  let v118 : BitVec 1 := Scalar.cmpi .slt v114 c0_i32_32
  let v119 : BitVec 32 := Scalar.extui v118
  let v120 : BitVec 32 := Scalar.subi v117 v119
  let c32_i32 : BitVec 32 := 32#32
  let c0_i32_33 : BitVec 32 := 0#32
  let v121 : BitVec 1 := Scalar.cmpi .sgt c32_i32 c0_i32_33
  let v122 : BitVec 32 := Scalar.extui v121
  let c0_i32_34 : BitVec 32 := 0#32
  let v123 : BitVec 1 := Scalar.cmpi .slt c32_i32 c0_i32_34
  let v124 : BitVec 32 := Scalar.extui v123
  let v125 : BitVec 32 := Scalar.subi v122 v124
  let v126 : BitVec 1 := Scalar.cmpi .ne v120 v125
  let v127 : BitVec 32 := Scalar.remsi v114 c32_i32
  let c0_i32_35 : BitVec 32 := 0#32
  let v128 : BitVec 1 := Scalar.cmpi .ne v127 c0_i32_35
  let v129 : BitVec 1 := Scalar.andi v126 v128
  let v115 : BitVec 32 := Scalar.divsi v114 c32_i32
  let c1_i32 : BitVec 32 := 1#32
  let v130 : BitVec 32 := Scalar.subi v115 c1_i32
  let v131 : BitVec 32 := Scalar.select v129 v130 v115
  let v857 : BitVec 32 := Scalar.maxsi v131 v112
  let v860 : BitVec 32 := Scalar.subi v857 v112
  let v861 : BitVec 32 := Scalar.addi c1024_i32_347 v860
  let v864 : BitVec 32 := Scalar.subi v863 v861
  let c31_i32_349 : BitVec 32 := 31#32
  let v865 : BitVec 32 := Scalar.addi v864 c31_i32_349
  let c0_i32_351 : BitVec 32 := 0#32
  let v867 : BitVec 1 := Scalar.cmpi .sgt v865 c0_i32_351
  let v868 : BitVec 32 := Scalar.extui v867
  let c0_i32_352 : BitVec 32 := 0#32
  let v869 : BitVec 1 := Scalar.cmpi .slt v865 c0_i32_352
  let v870 : BitVec 32 := Scalar.extui v869
  let v871 : BitVec 32 := Scalar.subi v868 v870
  let c32_i32_350 : BitVec 32 := 32#32
  let c0_i32_353 : BitVec 32 := 0#32
  let v872 : BitVec 1 := Scalar.cmpi .sgt c32_i32_350 c0_i32_353
  let v873 : BitVec 32 := Scalar.extui v872
  let c0_i32_354 : BitVec 32 := 0#32
  let v874 : BitVec 1 := Scalar.cmpi .slt c32_i32_350 c0_i32_354
  let v875 : BitVec 32 := Scalar.extui v874
  let v876 : BitVec 32 := Scalar.subi v873 v875
  let v877 : BitVec 1 := Scalar.cmpi .ne v871 v876
  let v878 : BitVec 32 := Scalar.remsi v865 c32_i32_350
  let c0_i32_355 : BitVec 32 := 0#32
  let v879 : BitVec 1 := Scalar.cmpi .ne v878 c0_i32_355
  let v880 : BitVec 1 := Scalar.andi v877 v879
  let v866 : BitVec 32 := Scalar.divsi v865 c32_i32_350
  let c1_i32_356 : BitVec 32 := 1#32
  let v881 : BitVec 32 := Scalar.subi v866 c1_i32_356
  let v882 : BitVec 32 := Scalar.select v880 v881 v866
  let v890 : BitVec 32 := Scalar.subi v882 c0_i32_362
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_365 : BitVec 32 := 1#32
  let arg14 : BitVec 32 := Scf.iv v894 c1_i32_365 k0_t94
  let c3_i32 : BitVec 32 := 3#32
  let v907 : BitVec 32 := Scalar.remsi arg14 c3_i32
  let c32_i32_400 : BitVec 32 := 32#32
  let v948 : BitVec 32 := Scalar.muli v907 c32_i32_400
  let c32_i32_399 : BitVec 32 := 32#32
  let v945 : BitVec 32 := Scalar.muli arg14 c32_i32_399
  let v946 : BitVec 32 := Scalar.addi v861 v945
  let c2016_i32 : BitVec 32 := 2016#32
  let v947 : BitVec 32 := Scalar.minsi v946 c2016_i32
  let v949 : BitVec 32 := Scalar.subi v946 v947
  let v950 : BitVec 32 := Scalar.addi v948 v949
  let c32_i32_401 : BitVec 32 := 32#32
  let v951 : BitVec 32 := Scalar.addi v946 c32_i32_401
  let v952 : BitVec 32 := Scalar.minsi v863 v951
  let v953 : BitVec 32 := Scalar.subi v952 v947
  let v954 : BitVec 32 := Scalar.addi v948 v953
  let v955 : BitVec 32 := Scalar.subi v954 v950
  let c1_i32_402 : BitVec 32 := 1#32
  let v957 : BitVec 32 := Scalar.divsi v955 c1_i32_402
  let v958 : BitVec 32 := Scalar.muli v957 c1_i32_402
  let v959 : BitVec 32 := Scalar.addi v950 v958
  let c1_i32_404 : BitVec 32 := 1#32
  let arg16 : BitVec 32 := Scf.iv v959 c1_i32_404 k0_t96
  let v1303 : Index := Scalar.indexCast arg16
  let c0_i32_499 : BitVec 32 := 0#32
  let v1304 : Index := Scalar.indexCast c0_i32_499
  let c496 : Index := 496#32
  ![v1303.toNat, 0, 496]

variable {F : FTy → Type} [FloatOps F]

def k0_chk1_0 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_h1 : k0_cond1 i v5 v9 v13 v17 v21 v25 v29 v33 v37 v41 v45 v49 v53 v57 v61 v65 = 1#1), ∀ a, (k0_off2 i v5 v9 v13 v17 v21 v25 v29 v33 v37 v41 v45 v49 v53 v57 v61 v65) a + S32x1x512.size a ≤ S2048x16x512.size a) ∧
  (∀ (k0_h2 : k0_cond2 i v5 v9 v13 v17 v21 v25 v29 v33 v37 v41 v45 v49 v53 v57 v61 v65 = 1#1), ∀ a, (k0_off4 i v5 v9 v13 v17 v21 v25 v29 v33 v37 v41 v45 v49 v53 v57 v61 v65) a + S32x1x512.size a ≤ S2048x16x512.size a) ∧
  ((k0_t1_loop i v5 v9 v13 v17 v21 v25 v29 v33 v37 v41 v45 v49 v53 v57 v61 v65).OK) ∧
  (∀ k0_t1 : Fin (k0_t1_loop i v5 v9 v13 v17 v21 v25 v29 v33 v37 v41 v45 v49 v53 v57 v61 v65).trips, ∀ (k0_h3 : k0_cond3 i v5 v9 v13 v17 v21 v25 v29 v33 v37 v41 v45 v49 v53 v57 v61 v65 k0_t1 = 1#1), ∀ a, (k0_off5 i v5 v9 v13 v17 v21 v25 v29 v33 v37 v41 v45 v49 v53 v57 v61 v65 k0_t1) a + S32x1x512.size a ≤ S96x1x512.size a) ∧
  (∀ k0_t1 : Fin (k0_t1_loop i v5 v9 v13 v17 v21 v25 v29 v33 v37 v41 v45 v49 v53 v57 v61 v65).trips, ∀ (k0_h3 : k0_cond3 i v5 v9 v13 v17 v21 v25 v29 v33 v37 v41 v45 v49 v53 v57 v61 v65 k0_t1 = 1#1), ∀ a, (k0_off6 i v5 v9 v13 v17 v21 v25 v29 v33 v37 v41 v45 v49 v53 v57 v61 v65 k0_t1) a + S32x1x512.size a ≤ S2048x16x512.size a) ∧
  (∀ k0_t1 : Fin (k0_t1_loop i v5 v9 v13 v17 v21 v25 v29 v33 v37 v41 v45 v49 v53 v57 v61 v65).trips, ∀ (k0_h3 : k0_cond3 i v5 v9 v13 v17 v21 v25 v29 v33 v37 v41 v45 v49 v53 v57 v61 v65 k0_t1 = 1#1), ∀ a, (k0_off7 i v5 v9 v13 v17 v21 v25 v29 v33 v37 v41 v45 v49 v53 v57 v61 v65 k0_t1) a + S1.size a ≤ S3.size a) ∧
  (∀ k0_t1 : Fin (k0_t1_loop i v5 v9 v13 v17 v21 v25 v29 v33 v37 v41 v45 v49 v53 v57 v61 v65).trips, ∀ a, (k0_off8 i v5 v9 v13 v17 v21 v25 v29 v33 v37 v41 v45 v49 v53 v57 v61 v65 k0_t1) a + S32x1x512.size a ≤ S96x1x512.size a) ∧
  (∀ k0_t1 : Fin (k0_t1_loop i v5 v9 v13 v17 v21 v25 v29 v33 v37 v41 v45 v49 v53 v57 v61 v65).trips, ∀ a, (k0_off9 i v5 v9 v13 v17 v21 v25 v29 v33 v37 v41 v45 v49 v53 v57 v61 v65 k0_t1) a + S1.size a ≤ S3.size a) ∧
  (∀ k0_t1 : Fin (k0_t1_loop i v5 v9 v13 v17 v21 v25 v29 v33 v37 v41 v45 v49 v53 v57 v61 v65).trips, (k0_t2_loop i v5 v9 v13 v17 v21 v25 v29 v33 v37 v41 v45 v49 v53 v57 v61 v65 k0_t1).OK) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off10 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off11 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off12 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off13 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off14 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off15 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off16 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off17 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off18 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off19 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off20 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off21 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off22 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off23 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off24 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off25 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off26 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off27 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off28 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off29 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off30 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off31 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off32 i v5 v9 v13 v17 v21 v25 v29 v33 v37 v41 v45 v49 v53 v57 v61 v65 k0_t1 k0_t2) a + S1x1x16.size a ≤ S96x1x512.size a)
def k0_chk1_1 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off33 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off34 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off35 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off36 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off37 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off38 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off39 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off40 i v5 v9 v13 v17 v21 v25 v29 v33 v37 v41 v45 v49 v53 v57 v61 v65 k0_t1 k0_t2) a + S1x1x16.size a ≤ S96x1x512.size a) ∧
  (∀ (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off41 i v5 v9 v13 v17 v21 v25 v29 v33 v37 v41 v45 v49 v53 v57 v61 v65 k0_t1 k0_t2) a + S1x1x16.size a ≤ S96x1x512.size a) ∧
  (∀ k0_t1 : Fin (k0_t1_loop i v5 v9 v13 v17 v21 v25 v29 v33 v37 v41 v45 v49 v53 v57 v61 v65).trips, (k0_t3_loop i v5 v9 v13 v17 v21 v25 v29 v33 v37 v41 v45 v49 v53 v57 v61 v65 k0_t1).OK) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off42 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off43 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off44 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off45 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off46 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off47 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off48 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off49 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off50 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off51 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off52 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off53 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off54 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off55 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off56 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off57 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off58 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off59 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off60 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off61 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off62 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off63 i v5 v9 v13 v17 v21 v25 v29 v33 v37 v41 v45 v49 v53 v57 v61 v65 k0_t1 k0_t3) a + S1x1x16.size a ≤ S96x1x512.size a)
def k0_chk1_2 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off64 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off65 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off66 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off67 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off68 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off69 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off70 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off71 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off72 i v5 v9 v13 v17 v21 v25 v29 v33 v37 v41 v45 v49 v53 v57 v61 v65 k0_t1 k0_t3) a + S1x1x16.size a ≤ S96x1x512.size a) ∧
  (∀ (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off73 i v5 v9 v13 v17 v21 v25 v29 v33 v37 v41 v45 v49 v53 v57 v61 v65 k0_t1 k0_t3) a + S1x1x16.size a ≤ S96x1x512.size a) ∧
  ((k0_t4_loop i v5 v9 v13 v17 v21 v25 v29 v33 v37 v41 v45 v49 v53 v57 v61 v65).OK) ∧
  (∀ k0_t4 : Fin (k0_t4_loop i v5 v9 v13 v17 v21 v25 v29 v33 v37 v41 v45 v49 v53 v57 v61 v65).trips, ∀ (k0_h4 : k0_cond4 i v5 v9 v13 v17 v21 v25 v29 v33 v37 v41 v45 v49 v53 v57 v61 v65 k0_t4 = 1#1), ∀ a, (k0_off74 i v5 v9 v13 v17 v21 v25 v29 v33 v37 v41 v45 v49 v53 v57 v61 v65 k0_t4) a + S32x1x512.size a ≤ S96x1x512.size a) ∧
  (∀ k0_t4 : Fin (k0_t4_loop i v5 v9 v13 v17 v21 v25 v29 v33 v37 v41 v45 v49 v53 v57 v61 v65).trips, ∀ (k0_h4 : k0_cond4 i v5 v9 v13 v17 v21 v25 v29 v33 v37 v41 v45 v49 v53 v57 v61 v65 k0_t4 = 1#1), ∀ a, (k0_off75 i v5 v9 v13 v17 v21 v25 v29 v33 v37 v41 v45 v49 v53 v57 v61 v65 k0_t4) a + S32x1x512.size a ≤ S2048x16x512.size a) ∧
  (∀ k0_t4 : Fin (k0_t4_loop i v5 v9 v13 v17 v21 v25 v29 v33 v37 v41 v45 v49 v53 v57 v61 v65).trips, ∀ (k0_h4 : k0_cond4 i v5 v9 v13 v17 v21 v25 v29 v33 v37 v41 v45 v49 v53 v57 v61 v65 k0_t4 = 1#1), ∀ a, (k0_off76 i v5 v9 v13 v17 v21 v25 v29 v33 v37 v41 v45 v49 v53 v57 v61 v65 k0_t4) a + S1.size a ≤ S3.size a) ∧
  (∀ k0_t4 : Fin (k0_t4_loop i v5 v9 v13 v17 v21 v25 v29 v33 v37 v41 v45 v49 v53 v57 v61 v65).trips, ∀ a, (k0_off77 i v5 v9 v13 v17 v21 v25 v29 v33 v37 v41 v45 v49 v53 v57 v61 v65 k0_t4) a + S32x1x512.size a ≤ S96x1x512.size a) ∧
  (∀ k0_t4 : Fin (k0_t4_loop i v5 v9 v13 v17 v21 v25 v29 v33 v37 v41 v45 v49 v53 v57 v61 v65).trips, ∀ a, (k0_off78 i v5 v9 v13 v17 v21 v25 v29 v33 v37 v41 v45 v49 v53 v57 v61 v65 k0_t4) a + S1.size a ≤ S3.size a) ∧
  (∀ k0_t4 : Fin (k0_t4_loop i v5 v9 v13 v17 v21 v25 v29 v33 v37 v41 v45 v49 v53 v57 v61 v65).trips, (k0_t5_loop i v5 v9 v13 v17 v21 v25 v29 v33 v37 v41 v45 v49 v53 v57 v61 v65 k0_t4).OK) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off79 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off80 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off81 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off82 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off83 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off84 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off85 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off86 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off87 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off88 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off89 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off90 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off91 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off92 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off93 i v5 v9 v13 v17 v21 v25 v29 v33 v37 v41 v45 v49 v53 v57 v61 v65 k0_t4 k0_t5) a + S1x1x16.size a ≤ S96x1x512.size a)
def k0_chk1_3 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off94 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off95 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off96 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off97 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off98 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off99 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off100 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off101 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off102 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off103 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off104 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off105 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off106 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off107 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off108 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off109 i v5 v9 v13 v17 v21 v25 v29 v33 v37 v41 v45 v49 v53 v57 v61 v65 k0_t4 k0_t5) a + S1x1x16.size a ≤ S96x1x512.size a) ∧
  (∀ (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off110 i v5 v9 v13 v17 v21 v25 v29 v33 v37 v41 v45 v49 v53 v57 v61 v65 k0_t4 k0_t5) a + S1x1x16.size a ≤ S96x1x512.size a) ∧
  (∀ k0_t4 : Fin (k0_t4_loop i v5 v9 v13 v17 v21 v25 v29 v33 v37 v41 v45 v49 v53 v57 v61 v65).trips, (k0_t6_loop i v5 v9 v13 v17 v21 v25 v29 v33 v37 v41 v45 v49 v53 v57 v61 v65 k0_t4).OK) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off111 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off112 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off113 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off114 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off115 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off116 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off117 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off118 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off119 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off120 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off121 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off122 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off123 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off124 i v5 v9 v13 v17 v21 v25 v29 v33 v37 v41 v45 v49 v53 v57 v61 v65 k0_t4 k0_t6) a + S1x1x16.size a ≤ S96x1x512.size a)
def k0_chk1_4 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off125 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off126 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off127 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off128 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off129 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off130 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off131 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off132 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off133 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off134 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off135 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off136 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off137 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off138 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off139 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off140 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off141 i v5 v9 v13 v17 v21 v25 v29 v33 v37 v41 v45 v49 v53 v57 v61 v65 k0_t4 k0_t6) a + S1x1x16.size a ≤ S96x1x512.size a) ∧
  (∀ (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off142 i v5 v9 v13 v17 v21 v25 v29 v33 v37 v41 v45 v49 v53 v57 v61 v65 k0_t4 k0_t6) a + S1x1x16.size a ≤ S96x1x512.size a) ∧
  (∀ (k0_h5 : k0_cond5 i v5 v9 v13 v17 v21 v25 v29 v33 v37 v41 v45 v49 v53 v57 v61 v65 = 1#1), ∀ a, (k0_off144 i v5 v9 v13 v17 v21 v25 v29 v33 v37 v41 v45 v49 v53 v57 v61 v65) a + S32x1x512.size a ≤ S2048x16x512.size a) ∧
  (∀ (k0_h6 : k0_cond6 i v5 v9 v13 v17 v21 v25 v29 v33 v37 v41 v45 v49 v53 v57 v61 v65 = 1#1), ∀ a, (k0_off146 i v5 v9 v13 v17 v21 v25 v29 v33 v37 v41 v45 v49 v53 v57 v61 v65) a + S32x1x512.size a ≤ S2048x16x512.size a) ∧
  ((k0_t7_loop i v5 v9 v13 v17 v21 v25 v29 v33 v37 v41 v45 v49 v53 v57 v61 v65).OK) ∧
  (∀ k0_t7 : Fin (k0_t7_loop i v5 v9 v13 v17 v21 v25 v29 v33 v37 v41 v45 v49 v53 v57 v61 v65).trips, ∀ (k0_h7 : k0_cond7 i v5 v9 v13 v17 v21 v25 v29 v33 v37 v41 v45 v49 v53 v57 v61 v65 k0_t7 = 1#1), ∀ a, (k0_off147 i v5 v9 v13 v17 v21 v25 v29 v33 v37 v41 v45 v49 v53 v57 v61 v65 k0_t7) a + S32x1x512.size a ≤ S96x1x512.size a) ∧
  (∀ k0_t7 : Fin (k0_t7_loop i v5 v9 v13 v17 v21 v25 v29 v33 v37 v41 v45 v49 v53 v57 v61 v65).trips, ∀ (k0_h7 : k0_cond7 i v5 v9 v13 v17 v21 v25 v29 v33 v37 v41 v45 v49 v53 v57 v61 v65 k0_t7 = 1#1), ∀ a, (k0_off148 i v5 v9 v13 v17 v21 v25 v29 v33 v37 v41 v45 v49 v53 v57 v61 v65 k0_t7) a + S32x1x512.size a ≤ S2048x16x512.size a) ∧
  (∀ k0_t7 : Fin (k0_t7_loop i v5 v9 v13 v17 v21 v25 v29 v33 v37 v41 v45 v49 v53 v57 v61 v65).trips, ∀ (k0_h7 : k0_cond7 i v5 v9 v13 v17 v21 v25 v29 v33 v37 v41 v45 v49 v53 v57 v61 v65 k0_t7 = 1#1), ∀ a, (k0_off149 i v5 v9 v13 v17 v21 v25 v29 v33 v37 v41 v45 v49 v53 v57 v61 v65 k0_t7) a + S1.size a ≤ S3.size a) ∧
  (∀ k0_t7 : Fin (k0_t7_loop i v5 v9 v13 v17 v21 v25 v29 v33 v37 v41 v45 v49 v53 v57 v61 v65).trips, ∀ a, (k0_off150 i v5 v9 v13 v17 v21 v25 v29 v33 v37 v41 v45 v49 v53 v57 v61 v65 k0_t7) a + S32x1x512.size a ≤ S96x1x512.size a) ∧
  (∀ k0_t7 : Fin (k0_t7_loop i v5 v9 v13 v17 v21 v25 v29 v33 v37 v41 v45 v49 v53 v57 v61 v65).trips, ∀ a, (k0_off151 i v5 v9 v13 v17 v21 v25 v29 v33 v37 v41 v45 v49 v53 v57 v61 v65 k0_t7) a + S1.size a ≤ S3.size a) ∧
  (∀ k0_t7 : Fin (k0_t7_loop i v5 v9 v13 v17 v21 v25 v29 v33 v37 v41 v45 v49 v53 v57 v61 v65).trips, (k0_t8_loop i v5 v9 v13 v17 v21 v25 v29 v33 v37 v41 v45 v49 v53 v57 v61 v65 k0_t7).OK) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off152 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off153 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off154 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off155 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off156 i v5 v9 v13 v17 v21 v25 v29 v33 v37 v41 v45 v49 v53 v57 v61 v65 k0_t7 k0_t8) a + S1x1x16.size a ≤ S96x1x512.size a)
def k0_chk1_5 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off157 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off158 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off159 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off160 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off161 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off162 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off163 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off164 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off165 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off166 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off167 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off168 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off169 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off170 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off171 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off172 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off173 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off174 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off175 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off176 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off177 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off178 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off179 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off180 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off181 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off182 i v5 v9 v13 v17 v21 v25 v29 v33 v37 v41 v45 v49 v53 v57 v61 v65 k0_t7 k0_t8) a + S1x1x16.size a ≤ S96x1x512.size a) ∧
  (∀ (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off183 i v5 v9 v13 v17 v21 v25 v29 v33 v37 v41 v45 v49 v53 v57 v61 v65 k0_t7 k0_t8) a + S1x1x16.size a ≤ S96x1x512.size a) ∧
  (∀ k0_t7 : Fin (k0_t7_loop i v5 v9 v13 v17 v21 v25 v29 v33 v37 v41 v45 v49 v53 v57 v61 v65).trips, (k0_t9_loop i v5 v9 v13 v17 v21 v25 v29 v33 v37 v41 v45 v49 v53 v57 v61 v65 k0_t7).OK) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off184 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off185 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off186 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off187 i v5 v9 v13 v17 v21 v25 v29 v33 v37 v41 v45 v49 v53 v57 v61 v65 k0_t7 k0_t9) a + S1x1x16.size a ≤ S96x1x512.size a)
def k0_chk1_6 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off188 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off189 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off190 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off191 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off192 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off193 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off194 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off195 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off196 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off197 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off198 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off199 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off200 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off201 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off202 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off203 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off204 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off205 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off206 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off207 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off208 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off209 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off210 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off211 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off212 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off213 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off214 i v5 v9 v13 v17 v21 v25 v29 v33 v37 v41 v45 v49 v53 v57 v61 v65 k0_t7 k0_t9) a + S1x1x16.size a ≤ S96x1x512.size a) ∧
  (∀ (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off215 i v5 v9 v13 v17 v21 v25 v29 v33 v37 v41 v45 v49 v53 v57 v61 v65 k0_t7 k0_t9) a + S1x1x16.size a ≤ S96x1x512.size a) ∧
  ((k0_t10_loop i v5 v9 v13 v17 v21 v25 v29 v33 v37 v41 v45 v49 v53 v57 v61 v65).OK) ∧
  (∀ k0_t10 : Fin (k0_t10_loop i v5 v9 v13 v17 v21 v25 v29 v33 v37 v41 v45 v49 v53 v57 v61 v65).trips, ∀ (k0_h8 : k0_cond8 i v5 v9 v13 v17 v21 v25 v29 v33 v37 v41 v45 v49 v53 v57 v61 v65 k0_t10 = 1#1), ∀ a, (k0_off216 i v5 v9 v13 v17 v21 v25 v29 v33 v37 v41 v45 v49 v53 v57 v61 v65 k0_t10) a + S32x1x512.size a ≤ S96x1x512.size a) ∧
  (∀ k0_t10 : Fin (k0_t10_loop i v5 v9 v13 v17 v21 v25 v29 v33 v37 v41 v45 v49 v53 v57 v61 v65).trips, ∀ (k0_h8 : k0_cond8 i v5 v9 v13 v17 v21 v25 v29 v33 v37 v41 v45 v49 v53 v57 v61 v65 k0_t10 = 1#1), ∀ a, (k0_off217 i v5 v9 v13 v17 v21 v25 v29 v33 v37 v41 v45 v49 v53 v57 v61 v65 k0_t10) a + S32x1x512.size a ≤ S2048x16x512.size a) ∧
  (∀ k0_t10 : Fin (k0_t10_loop i v5 v9 v13 v17 v21 v25 v29 v33 v37 v41 v45 v49 v53 v57 v61 v65).trips, ∀ (k0_h8 : k0_cond8 i v5 v9 v13 v17 v21 v25 v29 v33 v37 v41 v45 v49 v53 v57 v61 v65 k0_t10 = 1#1), ∀ a, (k0_off218 i v5 v9 v13 v17 v21 v25 v29 v33 v37 v41 v45 v49 v53 v57 v61 v65 k0_t10) a + S1.size a ≤ S3.size a)
def k0_chk1_7 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ k0_t10 : Fin (k0_t10_loop i v5 v9 v13 v17 v21 v25 v29 v33 v37 v41 v45 v49 v53 v57 v61 v65).trips, ∀ a, (k0_off219 i v5 v9 v13 v17 v21 v25 v29 v33 v37 v41 v45 v49 v53 v57 v61 v65 k0_t10) a + S32x1x512.size a ≤ S96x1x512.size a) ∧
  (∀ k0_t10 : Fin (k0_t10_loop i v5 v9 v13 v17 v21 v25 v29 v33 v37 v41 v45 v49 v53 v57 v61 v65).trips, ∀ a, (k0_off220 i v5 v9 v13 v17 v21 v25 v29 v33 v37 v41 v45 v49 v53 v57 v61 v65 k0_t10) a + S1.size a ≤ S3.size a) ∧
  (∀ k0_t10 : Fin (k0_t10_loop i v5 v9 v13 v17 v21 v25 v29 v33 v37 v41 v45 v49 v53 v57 v61 v65).trips, (k0_t11_loop i v5 v9 v13 v17 v21 v25 v29 v33 v37 v41 v45 v49 v53 v57 v61 v65 k0_t10).OK) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off221 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off222 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off223 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off224 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off225 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off226 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off227 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off228 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off229 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off230 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off231 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off232 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off233 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off234 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off235 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off236 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off237 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off238 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off239 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off240 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off241 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off242 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off243 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off244 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off245 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off246 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off247 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off248 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off249 i v5 v9 v13 v17 v21 v25 v29 v33 v37 v41 v45 v49 v53 v57 v61 v65 k0_t10 k0_t11) a + S1x1x16.size a ≤ S96x1x512.size a)
def k0_chk1_8 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off250 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off251 i v5 v9 v13 v17 v21 v25 v29 v33 v37 v41 v45 v49 v53 v57 v61 v65 k0_t10 k0_t11) a + S1x1x16.size a ≤ S96x1x512.size a) ∧
  (∀ (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off252 i v5 v9 v13 v17 v21 v25 v29 v33 v37 v41 v45 v49 v53 v57 v61 v65 k0_t10 k0_t11) a + S1x1x16.size a ≤ S96x1x512.size a) ∧
  (∀ k0_t10 : Fin (k0_t10_loop i v5 v9 v13 v17 v21 v25 v29 v33 v37 v41 v45 v49 v53 v57 v61 v65).trips, (k0_t12_loop i v5 v9 v13 v17 v21 v25 v29 v33 v37 v41 v45 v49 v53 v57 v61 v65 k0_t10).OK) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off253 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off254 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off255 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off256 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off257 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off258 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off259 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off260 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off261 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off262 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off263 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off264 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off265 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off266 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off267 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off268 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off269 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off270 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off271 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off272 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off273 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off274 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off275 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off276 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off277 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off278 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off279 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off280 i v5 v9 v13 v17 v21 v25 v29 v33 v37 v41 v45 v49 v53 v57 v61 v65 k0_t10 k0_t12) a + S1x1x16.size a ≤ S96x1x512.size a)
def k0_chk1_9 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off281 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off282 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off283 i v5 v9 v13 v17 v21 v25 v29 v33 v37 v41 v45 v49 v53 v57 v61 v65 k0_t10 k0_t12) a + S1x1x16.size a ≤ S96x1x512.size a) ∧
  (∀ (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off284 i v5 v9 v13 v17 v21 v25 v29 v33 v37 v41 v45 v49 v53 v57 v61 v65 k0_t10 k0_t12) a + S1x1x16.size a ≤ S96x1x512.size a) ∧
  (∀ (k0_h9 : k0_cond9 i v5 v9 v13 v17 v21 v25 v29 v33 v37 v41 v45 v49 v53 v57 v61 v65 = 1#1), ∀ a, (k0_off286 i v5 v9 v13 v17 v21 v25 v29 v33 v37 v41 v45 v49 v53 v57 v61 v65) a + S32x1x512.size a ≤ S2048x16x512.size a) ∧
  (∀ (k0_h10 : k0_cond10 i v5 v9 v13 v17 v21 v25 v29 v33 v37 v41 v45 v49 v53 v57 v61 v65 = 1#1), ∀ a, (k0_off288 i v5 v9 v13 v17 v21 v25 v29 v33 v37 v41 v45 v49 v53 v57 v61 v65) a + S32x1x512.size a ≤ S2048x16x512.size a) ∧
  ((k0_t13_loop i v5 v9 v13 v17 v21 v25 v29 v33 v37 v41 v45 v49 v53 v57 v61 v65).OK) ∧
  (∀ k0_t13 : Fin (k0_t13_loop i v5 v9 v13 v17 v21 v25 v29 v33 v37 v41 v45 v49 v53 v57 v61 v65).trips, ∀ (k0_h11 : k0_cond11 i v5 v9 v13 v17 v21 v25 v29 v33 v37 v41 v45 v49 v53 v57 v61 v65 k0_t13 = 1#1), ∀ a, (k0_off289 i v5 v9 v13 v17 v21 v25 v29 v33 v37 v41 v45 v49 v53 v57 v61 v65 k0_t13) a + S32x1x512.size a ≤ S96x1x512.size a) ∧
  (∀ k0_t13 : Fin (k0_t13_loop i v5 v9 v13 v17 v21 v25 v29 v33 v37 v41 v45 v49 v53 v57 v61 v65).trips, ∀ (k0_h11 : k0_cond11 i v5 v9 v13 v17 v21 v25 v29 v33 v37 v41 v45 v49 v53 v57 v61 v65 k0_t13 = 1#1), ∀ a, (k0_off290 i v5 v9 v13 v17 v21 v25 v29 v33 v37 v41 v45 v49 v53 v57 v61 v65 k0_t13) a + S32x1x512.size a ≤ S2048x16x512.size a) ∧
  (∀ k0_t13 : Fin (k0_t13_loop i v5 v9 v13 v17 v21 v25 v29 v33 v37 v41 v45 v49 v53 v57 v61 v65).trips, ∀ (k0_h11 : k0_cond11 i v5 v9 v13 v17 v21 v25 v29 v33 v37 v41 v45 v49 v53 v57 v61 v65 k0_t13 = 1#1), ∀ a, (k0_off291 i v5 v9 v13 v17 v21 v25 v29 v33 v37 v41 v45 v49 v53 v57 v61 v65 k0_t13) a + S1.size a ≤ S3.size a) ∧
  (∀ k0_t13 : Fin (k0_t13_loop i v5 v9 v13 v17 v21 v25 v29 v33 v37 v41 v45 v49 v53 v57 v61 v65).trips, ∀ a, (k0_off292 i v5 v9 v13 v17 v21 v25 v29 v33 v37 v41 v45 v49 v53 v57 v61 v65 k0_t13) a + S32x1x512.size a ≤ S96x1x512.size a) ∧
  (∀ k0_t13 : Fin (k0_t13_loop i v5 v9 v13 v17 v21 v25 v29 v33 v37 v41 v45 v49 v53 v57 v61 v65).trips, ∀ a, (k0_off293 i v5 v9 v13 v17 v21 v25 v29 v33 v37 v41 v45 v49 v53 v57 v61 v65 k0_t13) a + S1.size a ≤ S3.size a) ∧
  (∀ k0_t13 : Fin (k0_t13_loop i v5 v9 v13 v17 v21 v25 v29 v33 v37 v41 v45 v49 v53 v57 v61 v65).trips, (k0_t14_loop i v5 v9 v13 v17 v21 v25 v29 v33 v37 v41 v45 v49 v53 v57 v61 v65 k0_t13).OK) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off294 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off295 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off296 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off297 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off298 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off299 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off300 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off301 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off302 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off303 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off304 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off305 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off306 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off307 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off308 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off309 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off310 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off311 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off312 i v5 v9 v13 v17 v21 v25 v29 v33 v37 v41 v45 v49 v53 v57 v61 v65 k0_t13 k0_t14) a + S1x1x16.size a ≤ S96x1x512.size a)
def k0_chk1_10 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off313 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off314 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off315 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off316 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off317 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off318 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off319 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off320 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off321 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off322 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off323 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off324 i v5 v9 v13 v17 v21 v25 v29 v33 v37 v41 v45 v49 v53 v57 v61 v65 k0_t13 k0_t14) a + S1x1x16.size a ≤ S96x1x512.size a) ∧
  (∀ (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off325 i v5 v9 v13 v17 v21 v25 v29 v33 v37 v41 v45 v49 v53 v57 v61 v65 k0_t13 k0_t14) a + S1x1x16.size a ≤ S96x1x512.size a) ∧
  (∀ k0_t13 : Fin (k0_t13_loop i v5 v9 v13 v17 v21 v25 v29 v33 v37 v41 v45 v49 v53 v57 v61 v65).trips, (k0_t15_loop i v5 v9 v13 v17 v21 v25 v29 v33 v37 v41 v45 v49 v53 v57 v61 v65 k0_t13).OK) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off326 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off327 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off328 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off329 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off330 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off331 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off332 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off333 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off334 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off335 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off336 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off337 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off338 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off339 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off340 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off341 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off342 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off343 i v5 v9 v13 v17 v21 v25 v29 v33 v37 v41 v45 v49 v53 v57 v61 v65 k0_t13 k0_t15) a + S1x1x16.size a ≤ S96x1x512.size a)
def k0_chk1_11 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off344 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off345 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off346 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off347 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off348 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off349 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off350 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off351 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off352 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off353 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off354 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off355 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off356 i v5 v9 v13 v17 v21 v25 v29 v33 v37 v41 v45 v49 v53 v57 v61 v65 k0_t13 k0_t15) a + S1x1x16.size a ≤ S96x1x512.size a) ∧
  (∀ (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off357 i v5 v9 v13 v17 v21 v25 v29 v33 v37 v41 v45 v49 v53 v57 v61 v65 k0_t13 k0_t15) a + S1x1x16.size a ≤ S96x1x512.size a) ∧
  ((k0_t16_loop i v5 v9 v13 v17 v21 v25 v29 v33 v37 v41 v45 v49 v53 v57 v61 v65).OK) ∧
  (∀ k0_t16 : Fin (k0_t16_loop i v5 v9 v13 v17 v21 v25 v29 v33 v37 v41 v45 v49 v53 v57 v61 v65).trips, ∀ (k0_h12 : k0_cond12 i v5 v9 v13 v17 v21 v25 v29 v33 v37 v41 v45 v49 v53 v57 v61 v65 k0_t16 = 1#1), ∀ a, (k0_off358 i v5 v9 v13 v17 v21 v25 v29 v33 v37 v41 v45 v49 v53 v57 v61 v65 k0_t16) a + S32x1x512.size a ≤ S96x1x512.size a) ∧
  (∀ k0_t16 : Fin (k0_t16_loop i v5 v9 v13 v17 v21 v25 v29 v33 v37 v41 v45 v49 v53 v57 v61 v65).trips, ∀ (k0_h12 : k0_cond12 i v5 v9 v13 v17 v21 v25 v29 v33 v37 v41 v45 v49 v53 v57 v61 v65 k0_t16 = 1#1), ∀ a, (k0_off359 i v5 v9 v13 v17 v21 v25 v29 v33 v37 v41 v45 v49 v53 v57 v61 v65 k0_t16) a + S32x1x512.size a ≤ S2048x16x512.size a) ∧
  (∀ k0_t16 : Fin (k0_t16_loop i v5 v9 v13 v17 v21 v25 v29 v33 v37 v41 v45 v49 v53 v57 v61 v65).trips, ∀ (k0_h12 : k0_cond12 i v5 v9 v13 v17 v21 v25 v29 v33 v37 v41 v45 v49 v53 v57 v61 v65 k0_t16 = 1#1), ∀ a, (k0_off360 i v5 v9 v13 v17 v21 v25 v29 v33 v37 v41 v45 v49 v53 v57 v61 v65 k0_t16) a + S1.size a ≤ S3.size a) ∧
  (∀ k0_t16 : Fin (k0_t16_loop i v5 v9 v13 v17 v21 v25 v29 v33 v37 v41 v45 v49 v53 v57 v61 v65).trips, ∀ a, (k0_off361 i v5 v9 v13 v17 v21 v25 v29 v33 v37 v41 v45 v49 v53 v57 v61 v65 k0_t16) a + S32x1x512.size a ≤ S96x1x512.size a) ∧
  (∀ k0_t16 : Fin (k0_t16_loop i v5 v9 v13 v17 v21 v25 v29 v33 v37 v41 v45 v49 v53 v57 v61 v65).trips, ∀ a, (k0_off362 i v5 v9 v13 v17 v21 v25 v29 v33 v37 v41 v45 v49 v53 v57 v61 v65 k0_t16) a + S1.size a ≤ S3.size a) ∧
  (∀ k0_t16 : Fin (k0_t16_loop i v5 v9 v13 v17 v21 v25 v29 v33 v37 v41 v45 v49 v53 v57 v61 v65).trips, (k0_t17_loop i v5 v9 v13 v17 v21 v25 v29 v33 v37 v41 v45 v49 v53 v57 v61 v65 k0_t16).OK) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off363 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off364 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off365 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off366 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off367 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off368 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off369 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off370 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off371 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off372 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off373 i v5 v9 v13 v17 v21 v25 v29 v33 v37 v41 v45 v49 v53 v57 v61 v65 k0_t16 k0_t17) a + S1x1x16.size a ≤ S96x1x512.size a)
def k0_chk1_12 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off374 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off375 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off376 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off377 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off378 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off379 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off380 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off381 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off382 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off383 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off384 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off385 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off386 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off387 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off388 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off389 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off390 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off391 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off392 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off393 i v5 v9 v13 v17 v21 v25 v29 v33 v37 v41 v45 v49 v53 v57 v61 v65 k0_t16 k0_t17) a + S1x1x16.size a ≤ S96x1x512.size a) ∧
  (∀ (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off394 i v5 v9 v13 v17 v21 v25 v29 v33 v37 v41 v45 v49 v53 v57 v61 v65 k0_t16 k0_t17) a + S1x1x16.size a ≤ S96x1x512.size a) ∧
  (∀ k0_t16 : Fin (k0_t16_loop i v5 v9 v13 v17 v21 v25 v29 v33 v37 v41 v45 v49 v53 v57 v61 v65).trips, (k0_t18_loop i v5 v9 v13 v17 v21 v25 v29 v33 v37 v41 v45 v49 v53 v57 v61 v65 k0_t16).OK) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off395 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off396 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off397 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off398 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off399 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off400 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off401 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off402 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off403 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off404 i v5 v9 v13 v17 v21 v25 v29 v33 v37 v41 v45 v49 v53 v57 v61 v65 k0_t16 k0_t18) a + S1x1x16.size a ≤ S96x1x512.size a)
def k0_chk1_13 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off405 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off406 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off407 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off408 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off409 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off410 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off411 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off412 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off413 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off414 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off415 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off416 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off417 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off418 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off419 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off420 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off421 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off422 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off423 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off424 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off425 i v5 v9 v13 v17 v21 v25 v29 v33 v37 v41 v45 v49 v53 v57 v61 v65 k0_t16 k0_t18) a + S1x1x16.size a ≤ S96x1x512.size a) ∧
  (∀ (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off426 i v5 v9 v13 v17 v21 v25 v29 v33 v37 v41 v45 v49 v53 v57 v61 v65 k0_t16 k0_t18) a + S1x1x16.size a ≤ S96x1x512.size a) ∧
  (∀ (k0_h13 : k0_cond13 i v5 v9 v13 v17 v21 v25 v29 v33 v37 v41 v45 v49 v53 v57 v61 v65 = 1#1), ∀ a, (k0_off428 i v5 v9 v13 v17 v21 v25 v29 v33 v37 v41 v45 v49 v53 v57 v61 v65) a + S32x1x512.size a ≤ S2048x16x512.size a) ∧
  (∀ (k0_h14 : k0_cond14 i v5 v9 v13 v17 v21 v25 v29 v33 v37 v41 v45 v49 v53 v57 v61 v65 = 1#1), ∀ a, (k0_off430 i v5 v9 v13 v17 v21 v25 v29 v33 v37 v41 v45 v49 v53 v57 v61 v65) a + S32x1x512.size a ≤ S2048x16x512.size a) ∧
  ((k0_t19_loop i v5 v9 v13 v17 v21 v25 v29 v33 v37 v41 v45 v49 v53 v57 v61 v65).OK) ∧
  (∀ k0_t19 : Fin (k0_t19_loop i v5 v9 v13 v17 v21 v25 v29 v33 v37 v41 v45 v49 v53 v57 v61 v65).trips, ∀ (k0_h15 : k0_cond15 i v5 v9 v13 v17 v21 v25 v29 v33 v37 v41 v45 v49 v53 v57 v61 v65 k0_t19 = 1#1), ∀ a, (k0_off431 i v5 v9 v13 v17 v21 v25 v29 v33 v37 v41 v45 v49 v53 v57 v61 v65 k0_t19) a + S32x1x512.size a ≤ S96x1x512.size a) ∧
  (∀ k0_t19 : Fin (k0_t19_loop i v5 v9 v13 v17 v21 v25 v29 v33 v37 v41 v45 v49 v53 v57 v61 v65).trips, ∀ (k0_h15 : k0_cond15 i v5 v9 v13 v17 v21 v25 v29 v33 v37 v41 v45 v49 v53 v57 v61 v65 k0_t19 = 1#1), ∀ a, (k0_off432 i v5 v9 v13 v17 v21 v25 v29 v33 v37 v41 v45 v49 v53 v57 v61 v65 k0_t19) a + S32x1x512.size a ≤ S2048x16x512.size a) ∧
  (∀ k0_t19 : Fin (k0_t19_loop i v5 v9 v13 v17 v21 v25 v29 v33 v37 v41 v45 v49 v53 v57 v61 v65).trips, ∀ (k0_h15 : k0_cond15 i v5 v9 v13 v17 v21 v25 v29 v33 v37 v41 v45 v49 v53 v57 v61 v65 k0_t19 = 1#1), ∀ a, (k0_off433 i v5 v9 v13 v17 v21 v25 v29 v33 v37 v41 v45 v49 v53 v57 v61 v65 k0_t19) a + S1.size a ≤ S3.size a) ∧
  (∀ k0_t19 : Fin (k0_t19_loop i v5 v9 v13 v17 v21 v25 v29 v33 v37 v41 v45 v49 v53 v57 v61 v65).trips, ∀ a, (k0_off434 i v5 v9 v13 v17 v21 v25 v29 v33 v37 v41 v45 v49 v53 v57 v61 v65 k0_t19) a + S32x1x512.size a ≤ S96x1x512.size a) ∧
  (∀ k0_t19 : Fin (k0_t19_loop i v5 v9 v13 v17 v21 v25 v29 v33 v37 v41 v45 v49 v53 v57 v61 v65).trips, ∀ a, (k0_off435 i v5 v9 v13 v17 v21 v25 v29 v33 v37 v41 v45 v49 v53 v57 v61 v65 k0_t19) a + S1.size a ≤ S3.size a) ∧
  (∀ k0_t19 : Fin (k0_t19_loop i v5 v9 v13 v17 v21 v25 v29 v33 v37 v41 v45 v49 v53 v57 v61 v65).trips, (k0_t20_loop i v5 v9 v13 v17 v21 v25 v29 v33 v37 v41 v45 v49 v53 v57 v61 v65 k0_t19).OK) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off436 i v5 v9 v13 v17 v21 v25 v29 v33 v37 v41 v45 v49 v53 v57 v61 v65 k0_t19 k0_t20) a + S1x1x16.size a ≤ S96x1x512.size a)
def k0_chk1_14 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off437 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off438 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off439 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off440 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off441 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off442 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off443 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off444 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off445 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off446 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off447 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off448 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off449 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off450 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off451 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off452 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off453 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off454 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off455 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off456 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off457 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off458 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off459 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off460 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off461 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off462 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off463 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off464 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off465 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off466 i v5 v9 v13 v17 v21 v25 v29 v33 v37 v41 v45 v49 v53 v57 v61 v65 k0_t19 k0_t20) a + S1x1x16.size a ≤ S96x1x512.size a) ∧
  (∀ (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off467 i v5 v9 v13 v17 v21 v25 v29 v33 v37 v41 v45 v49 v53 v57 v61 v65 k0_t19 k0_t20) a + S1x1x16.size a ≤ S96x1x512.size a) ∧
  (∀ k0_t19 : Fin (k0_t19_loop i v5 v9 v13 v17 v21 v25 v29 v33 v37 v41 v45 v49 v53 v57 v61 v65).trips, (k0_t21_loop i v5 v9 v13 v17 v21 v25 v29 v33 v37 v41 v45 v49 v53 v57 v61 v65 k0_t19).OK)
def k0_chk1_15 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off468 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off469 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off470 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off471 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off472 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off473 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off474 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off475 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off476 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off477 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off478 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off479 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off480 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off481 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off482 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off483 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off484 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off485 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off486 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off487 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off488 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off489 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off490 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off491 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off492 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off493 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off494 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off495 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off496 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off497 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off498 i v5 v9 v13 v17 v21 v25 v29 v33 v37 v41 v45 v49 v53 v57 v61 v65 k0_t19 k0_t21) a + S1x1x16.size a ≤ S96x1x512.size a) ∧
  (∀ (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off499 i v5 v9 v13 v17 v21 v25 v29 v33 v37 v41 v45 v49 v53 v57 v61 v65 k0_t19 k0_t21) a + S1x1x16.size a ≤ S96x1x512.size a)
def k0_chk1_16 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  ((k0_t22_loop i v5 v9 v13 v17 v21 v25 v29 v33 v37 v41 v45 v49 v53 v57 v61 v65).OK) ∧
  (∀ k0_t22 : Fin (k0_t22_loop i v5 v9 v13 v17 v21 v25 v29 v33 v37 v41 v45 v49 v53 v57 v61 v65).trips, ∀ (k0_h16 : k0_cond16 i v5 v9 v13 v17 v21 v25 v29 v33 v37 v41 v45 v49 v53 v57 v61 v65 k0_t22 = 1#1), ∀ a, (k0_off500 i v5 v9 v13 v17 v21 v25 v29 v33 v37 v41 v45 v49 v53 v57 v61 v65 k0_t22) a + S32x1x512.size a ≤ S96x1x512.size a) ∧
  (∀ k0_t22 : Fin (k0_t22_loop i v5 v9 v13 v17 v21 v25 v29 v33 v37 v41 v45 v49 v53 v57 v61 v65).trips, ∀ (k0_h16 : k0_cond16 i v5 v9 v13 v17 v21 v25 v29 v33 v37 v41 v45 v49 v53 v57 v61 v65 k0_t22 = 1#1), ∀ a, (k0_off501 i v5 v9 v13 v17 v21 v25 v29 v33 v37 v41 v45 v49 v53 v57 v61 v65 k0_t22) a + S32x1x512.size a ≤ S2048x16x512.size a) ∧
  (∀ k0_t22 : Fin (k0_t22_loop i v5 v9 v13 v17 v21 v25 v29 v33 v37 v41 v45 v49 v53 v57 v61 v65).trips, ∀ (k0_h16 : k0_cond16 i v5 v9 v13 v17 v21 v25 v29 v33 v37 v41 v45 v49 v53 v57 v61 v65 k0_t22 = 1#1), ∀ a, (k0_off502 i v5 v9 v13 v17 v21 v25 v29 v33 v37 v41 v45 v49 v53 v57 v61 v65 k0_t22) a + S1.size a ≤ S3.size a) ∧
  (∀ k0_t22 : Fin (k0_t22_loop i v5 v9 v13 v17 v21 v25 v29 v33 v37 v41 v45 v49 v53 v57 v61 v65).trips, ∀ a, (k0_off503 i v5 v9 v13 v17 v21 v25 v29 v33 v37 v41 v45 v49 v53 v57 v61 v65 k0_t22) a + S32x1x512.size a ≤ S96x1x512.size a) ∧
  (∀ k0_t22 : Fin (k0_t22_loop i v5 v9 v13 v17 v21 v25 v29 v33 v37 v41 v45 v49 v53 v57 v61 v65).trips, ∀ a, (k0_off504 i v5 v9 v13 v17 v21 v25 v29 v33 v37 v41 v45 v49 v53 v57 v61 v65 k0_t22) a + S1.size a ≤ S3.size a) ∧
  (∀ k0_t22 : Fin (k0_t22_loop i v5 v9 v13 v17 v21 v25 v29 v33 v37 v41 v45 v49 v53 v57 v61 v65).trips, (k0_t23_loop i v5 v9 v13 v17 v21 v25 v29 v33 v37 v41 v45 v49 v53 v57 v61 v65 k0_t22).OK) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off505 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off506 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off507 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off508 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off509 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off510 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off511 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off512 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off513 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off514 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off515 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off516 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off517 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off518 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off519 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off520 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off521 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off522 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off523 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off524 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off525 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off526 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off527 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off528 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off529 i v5 v9 v13 v17 v21 v25 v29 v33 v37 v41 v45 v49 v53 v57 v61 v65 k0_t22 k0_t23) a + S1x1x16.size a ≤ S96x1x512.size a)
def k0_chk1_17 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off530 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off531 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off532 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off533 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off534 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off535 i v5 v9 v13 v17 v21 v25 v29 v33 v37 v41 v45 v49 v53 v57 v61 v65 k0_t22 k0_t23) a + S1x1x16.size a ≤ S96x1x512.size a) ∧
  (∀ (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off536 i v5 v9 v13 v17 v21 v25 v29 v33 v37 v41 v45 v49 v53 v57 v61 v65 k0_t22 k0_t23) a + S1x1x16.size a ≤ S96x1x512.size a) ∧
  (∀ k0_t22 : Fin (k0_t22_loop i v5 v9 v13 v17 v21 v25 v29 v33 v37 v41 v45 v49 v53 v57 v61 v65).trips, (k0_t24_loop i v5 v9 v13 v17 v21 v25 v29 v33 v37 v41 v45 v49 v53 v57 v61 v65 k0_t22).OK) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off537 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off538 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off539 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off540 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off541 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off542 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off543 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off544 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off545 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off546 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off547 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off548 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off549 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off550 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off551 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off552 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off553 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off554 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off555 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off556 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off557 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off558 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off559 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off560 i v5 v9 v13 v17 v21 v25 v29 v33 v37 v41 v45 v49 v53 v57 v61 v65 k0_t22 k0_t24) a + S1x1x16.size a ≤ S96x1x512.size a)
def k0_chk1_18 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off561 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off562 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off563 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off564 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off565 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off566 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off567 i v5 v9 v13 v17 v21 v25 v29 v33 v37 v41 v45 v49 v53 v57 v61 v65 k0_t22 k0_t24) a + S1x1x16.size a ≤ S96x1x512.size a) ∧
  (∀ (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off568 i v5 v9 v13 v17 v21 v25 v29 v33 v37 v41 v45 v49 v53 v57 v61 v65 k0_t22 k0_t24) a + S1x1x16.size a ≤ S96x1x512.size a) ∧
  (∀ (k0_h17 : k0_cond17 i v5 v9 v13 v17 v21 v25 v29 v33 v37 v41 v45 v49 v53 v57 v61 v65 = 1#1), ∀ a, (k0_off570 i v5 v9 v13 v17 v21 v25 v29 v33 v37 v41 v45 v49 v53 v57 v61 v65) a + S32x1x512.size a ≤ S2048x16x512.size a) ∧
  (∀ (k0_h18 : k0_cond18 i v5 v9 v13 v17 v21 v25 v29 v33 v37 v41 v45 v49 v53 v57 v61 v65 = 1#1), ∀ a, (k0_off572 i v5 v9 v13 v17 v21 v25 v29 v33 v37 v41 v45 v49 v53 v57 v61 v65) a + S32x1x512.size a ≤ S2048x16x512.size a) ∧
  ((k0_t25_loop i v5 v9 v13 v17 v21 v25 v29 v33 v37 v41 v45 v49 v53 v57 v61 v65).OK) ∧
  (∀ k0_t25 : Fin (k0_t25_loop i v5 v9 v13 v17 v21 v25 v29 v33 v37 v41 v45 v49 v53 v57 v61 v65).trips, ∀ (k0_h19 : k0_cond19 i v5 v9 v13 v17 v21 v25 v29 v33 v37 v41 v45 v49 v53 v57 v61 v65 k0_t25 = 1#1), ∀ a, (k0_off573 i v5 v9 v13 v17 v21 v25 v29 v33 v37 v41 v45 v49 v53 v57 v61 v65 k0_t25) a + S32x1x512.size a ≤ S96x1x512.size a) ∧
  (∀ k0_t25 : Fin (k0_t25_loop i v5 v9 v13 v17 v21 v25 v29 v33 v37 v41 v45 v49 v53 v57 v61 v65).trips, ∀ (k0_h19 : k0_cond19 i v5 v9 v13 v17 v21 v25 v29 v33 v37 v41 v45 v49 v53 v57 v61 v65 k0_t25 = 1#1), ∀ a, (k0_off574 i v5 v9 v13 v17 v21 v25 v29 v33 v37 v41 v45 v49 v53 v57 v61 v65 k0_t25) a + S32x1x512.size a ≤ S2048x16x512.size a) ∧
  (∀ k0_t25 : Fin (k0_t25_loop i v5 v9 v13 v17 v21 v25 v29 v33 v37 v41 v45 v49 v53 v57 v61 v65).trips, ∀ (k0_h19 : k0_cond19 i v5 v9 v13 v17 v21 v25 v29 v33 v37 v41 v45 v49 v53 v57 v61 v65 k0_t25 = 1#1), ∀ a, (k0_off575 i v5 v9 v13 v17 v21 v25 v29 v33 v37 v41 v45 v49 v53 v57 v61 v65 k0_t25) a + S1.size a ≤ S3.size a) ∧
  (∀ k0_t25 : Fin (k0_t25_loop i v5 v9 v13 v17 v21 v25 v29 v33 v37 v41 v45 v49 v53 v57 v61 v65).trips, ∀ a, (k0_off576 i v5 v9 v13 v17 v21 v25 v29 v33 v37 v41 v45 v49 v53 v57 v61 v65 k0_t25) a + S32x1x512.size a ≤ S96x1x512.size a) ∧
  (∀ k0_t25 : Fin (k0_t25_loop i v5 v9 v13 v17 v21 v25 v29 v33 v37 v41 v45 v49 v53 v57 v61 v65).trips, ∀ a, (k0_off577 i v5 v9 v13 v17 v21 v25 v29 v33 v37 v41 v45 v49 v53 v57 v61 v65 k0_t25) a + S1.size a ≤ S3.size a) ∧
  (∀ k0_t25 : Fin (k0_t25_loop i v5 v9 v13 v17 v21 v25 v29 v33 v37 v41 v45 v49 v53 v57 v61 v65).trips, (k0_t26_loop i v5 v9 v13 v17 v21 v25 v29 v33 v37 v41 v45 v49 v53 v57 v61 v65 k0_t25).OK) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off578 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off579 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off580 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off581 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off582 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off583 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off584 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off585 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off586 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off587 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off588 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off589 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off590 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off591 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off592 i v5 v9 v13 v17 v21 v25 v29 v33 v37 v41 v45 v49 v53 v57 v61 v65 k0_t25 k0_t26) a + S1x1x16.size a ≤ S96x1x512.size a)
def k0_chk1_19 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off593 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off594 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off595 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off596 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off597 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off598 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off599 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off600 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off601 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off602 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off603 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off604 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off605 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off606 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off607 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off608 i v5 v9 v13 v17 v21 v25 v29 v33 v37 v41 v45 v49 v53 v57 v61 v65 k0_t25 k0_t26) a + S1x1x16.size a ≤ S96x1x512.size a) ∧
  (∀ (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off609 i v5 v9 v13 v17 v21 v25 v29 v33 v37 v41 v45 v49 v53 v57 v61 v65 k0_t25 k0_t26) a + S1x1x16.size a ≤ S96x1x512.size a) ∧
  (∀ k0_t25 : Fin (k0_t25_loop i v5 v9 v13 v17 v21 v25 v29 v33 v37 v41 v45 v49 v53 v57 v61 v65).trips, (k0_t27_loop i v5 v9 v13 v17 v21 v25 v29 v33 v37 v41 v45 v49 v53 v57 v61 v65 k0_t25).OK) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off610 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off611 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off612 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off613 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off614 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off615 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off616 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off617 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off618 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off619 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off620 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off621 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off622 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off623 i v5 v9 v13 v17 v21 v25 v29 v33 v37 v41 v45 v49 v53 v57 v61 v65 k0_t25 k0_t27) a + S1x1x16.size a ≤ S96x1x512.size a)
def k0_chk1_20 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off624 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off625 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off626 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off627 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off628 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off629 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off630 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off631 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off632 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off633 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off634 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off635 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off636 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off637 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off638 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off639 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off640 i v5 v9 v13 v17 v21 v25 v29 v33 v37 v41 v45 v49 v53 v57 v61 v65 k0_t25 k0_t27) a + S1x1x16.size a ≤ S96x1x512.size a) ∧
  (∀ (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off641 i v5 v9 v13 v17 v21 v25 v29 v33 v37 v41 v45 v49 v53 v57 v61 v65 k0_t25 k0_t27) a + S1x1x16.size a ≤ S96x1x512.size a) ∧
  ((k0_t28_loop i v5 v9 v13 v17 v21 v25 v29 v33 v37 v41 v45 v49 v53 v57 v61 v65).OK) ∧
  (∀ k0_t28 : Fin (k0_t28_loop i v5 v9 v13 v17 v21 v25 v29 v33 v37 v41 v45 v49 v53 v57 v61 v65).trips, ∀ (k0_h20 : k0_cond20 i v5 v9 v13 v17 v21 v25 v29 v33 v37 v41 v45 v49 v53 v57 v61 v65 k0_t28 = 1#1), ∀ a, (k0_off642 i v5 v9 v13 v17 v21 v25 v29 v33 v37 v41 v45 v49 v53 v57 v61 v65 k0_t28) a + S32x1x512.size a ≤ S96x1x512.size a) ∧
  (∀ k0_t28 : Fin (k0_t28_loop i v5 v9 v13 v17 v21 v25 v29 v33 v37 v41 v45 v49 v53 v57 v61 v65).trips, ∀ (k0_h20 : k0_cond20 i v5 v9 v13 v17 v21 v25 v29 v33 v37 v41 v45 v49 v53 v57 v61 v65 k0_t28 = 1#1), ∀ a, (k0_off643 i v5 v9 v13 v17 v21 v25 v29 v33 v37 v41 v45 v49 v53 v57 v61 v65 k0_t28) a + S32x1x512.size a ≤ S2048x16x512.size a) ∧
  (∀ k0_t28 : Fin (k0_t28_loop i v5 v9 v13 v17 v21 v25 v29 v33 v37 v41 v45 v49 v53 v57 v61 v65).trips, ∀ (k0_h20 : k0_cond20 i v5 v9 v13 v17 v21 v25 v29 v33 v37 v41 v45 v49 v53 v57 v61 v65 k0_t28 = 1#1), ∀ a, (k0_off644 i v5 v9 v13 v17 v21 v25 v29 v33 v37 v41 v45 v49 v53 v57 v61 v65 k0_t28) a + S1.size a ≤ S3.size a) ∧
  (∀ k0_t28 : Fin (k0_t28_loop i v5 v9 v13 v17 v21 v25 v29 v33 v37 v41 v45 v49 v53 v57 v61 v65).trips, ∀ a, (k0_off645 i v5 v9 v13 v17 v21 v25 v29 v33 v37 v41 v45 v49 v53 v57 v61 v65 k0_t28) a + S32x1x512.size a ≤ S96x1x512.size a) ∧
  (∀ k0_t28 : Fin (k0_t28_loop i v5 v9 v13 v17 v21 v25 v29 v33 v37 v41 v45 v49 v53 v57 v61 v65).trips, ∀ a, (k0_off646 i v5 v9 v13 v17 v21 v25 v29 v33 v37 v41 v45 v49 v53 v57 v61 v65 k0_t28) a + S1.size a ≤ S3.size a) ∧
  (∀ k0_t28 : Fin (k0_t28_loop i v5 v9 v13 v17 v21 v25 v29 v33 v37 v41 v45 v49 v53 v57 v61 v65).trips, (k0_t29_loop i v5 v9 v13 v17 v21 v25 v29 v33 v37 v41 v45 v49 v53 v57 v61 v65 k0_t28).OK) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off647 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off648 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off649 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off650 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off651 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off652 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off653 i v5 v9 v13 v17 v21 v25 v29 v33 v37 v41 v45 v49 v53 v57 v61 v65 k0_t28 k0_t29) a + S1x1x16.size a ≤ S96x1x512.size a)
def k0_chk1_21 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off654 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off655 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off656 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off657 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off658 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off659 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off660 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off661 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off662 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off663 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off664 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off665 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off666 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off667 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off668 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off669 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off670 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off671 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off672 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off673 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off674 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off675 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off676 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off677 i v5 v9 v13 v17 v21 v25 v29 v33 v37 v41 v45 v49 v53 v57 v61 v65 k0_t28 k0_t29) a + S1x1x16.size a ≤ S96x1x512.size a) ∧
  (∀ (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off678 i v5 v9 v13 v17 v21 v25 v29 v33 v37 v41 v45 v49 v53 v57 v61 v65 k0_t28 k0_t29) a + S1x1x16.size a ≤ S96x1x512.size a) ∧
  (∀ k0_t28 : Fin (k0_t28_loop i v5 v9 v13 v17 v21 v25 v29 v33 v37 v41 v45 v49 v53 v57 v61 v65).trips, (k0_t30_loop i v5 v9 v13 v17 v21 v25 v29 v33 v37 v41 v45 v49 v53 v57 v61 v65 k0_t28).OK) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off679 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off680 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off681 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off682 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off683 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off684 i v5 v9 v13 v17 v21 v25 v29 v33 v37 v41 v45 v49 v53 v57 v61 v65 k0_t28 k0_t30) a + S1x1x16.size a ≤ S96x1x512.size a)
def k0_chk1_22 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off685 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off686 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off687 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off688 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off689 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off690 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off691 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off692 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off693 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off694 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off695 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off696 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off697 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off698 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off699 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off700 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off701 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off702 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off703 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off704 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off705 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off706 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off707 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off708 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off709 i v5 v9 v13 v17 v21 v25 v29 v33 v37 v41 v45 v49 v53 v57 v61 v65 k0_t28 k0_t30) a + S1x1x16.size a ≤ S96x1x512.size a) ∧
  (∀ (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off710 i v5 v9 v13 v17 v21 v25 v29 v33 v37 v41 v45 v49 v53 v57 v61 v65 k0_t28 k0_t30) a + S1x1x16.size a ≤ S96x1x512.size a) ∧
  (∀ (k0_h21 : k0_cond21 i v5 v9 v13 v17 v21 v25 v29 v33 v37 v41 v45 v49 v53 v57 v61 v65 = 1#1), ∀ a, (k0_off712 i v5 v9 v13 v17 v21 v25 v29 v33 v37 v41 v45 v49 v53 v57 v61 v65) a + S32x1x512.size a ≤ S2048x16x512.size a) ∧
  (∀ (k0_h22 : k0_cond22 i v5 v9 v13 v17 v21 v25 v29 v33 v37 v41 v45 v49 v53 v57 v61 v65 = 1#1), ∀ a, (k0_off714 i v5 v9 v13 v17 v21 v25 v29 v33 v37 v41 v45 v49 v53 v57 v61 v65) a + S32x1x512.size a ≤ S2048x16x512.size a) ∧
  ((k0_t31_loop i v5 v9 v13 v17 v21 v25 v29 v33 v37 v41 v45 v49 v53 v57 v61 v65).OK) ∧
  (∀ k0_t31 : Fin (k0_t31_loop i v5 v9 v13 v17 v21 v25 v29 v33 v37 v41 v45 v49 v53 v57 v61 v65).trips, ∀ (k0_h23 : k0_cond23 i v5 v9 v13 v17 v21 v25 v29 v33 v37 v41 v45 v49 v53 v57 v61 v65 k0_t31 = 1#1), ∀ a, (k0_off715 i v5 v9 v13 v17 v21 v25 v29 v33 v37 v41 v45 v49 v53 v57 v61 v65 k0_t31) a + S32x1x512.size a ≤ S96x1x512.size a) ∧
  (∀ k0_t31 : Fin (k0_t31_loop i v5 v9 v13 v17 v21 v25 v29 v33 v37 v41 v45 v49 v53 v57 v61 v65).trips, ∀ (k0_h23 : k0_cond23 i v5 v9 v13 v17 v21 v25 v29 v33 v37 v41 v45 v49 v53 v57 v61 v65 k0_t31 = 1#1), ∀ a, (k0_off716 i v5 v9 v13 v17 v21 v25 v29 v33 v37 v41 v45 v49 v53 v57 v61 v65 k0_t31) a + S32x1x512.size a ≤ S2048x16x512.size a) ∧
  (∀ k0_t31 : Fin (k0_t31_loop i v5 v9 v13 v17 v21 v25 v29 v33 v37 v41 v45 v49 v53 v57 v61 v65).trips, ∀ (k0_h23 : k0_cond23 i v5 v9 v13 v17 v21 v25 v29 v33 v37 v41 v45 v49 v53 v57 v61 v65 k0_t31 = 1#1), ∀ a, (k0_off717 i v5 v9 v13 v17 v21 v25 v29 v33 v37 v41 v45 v49 v53 v57 v61 v65 k0_t31) a + S1.size a ≤ S3.size a)
def k0_chk1_23 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ k0_t31 : Fin (k0_t31_loop i v5 v9 v13 v17 v21 v25 v29 v33 v37 v41 v45 v49 v53 v57 v61 v65).trips, ∀ a, (k0_off718 i v5 v9 v13 v17 v21 v25 v29 v33 v37 v41 v45 v49 v53 v57 v61 v65 k0_t31) a + S32x1x512.size a ≤ S96x1x512.size a) ∧
  (∀ k0_t31 : Fin (k0_t31_loop i v5 v9 v13 v17 v21 v25 v29 v33 v37 v41 v45 v49 v53 v57 v61 v65).trips, ∀ a, (k0_off719 i v5 v9 v13 v17 v21 v25 v29 v33 v37 v41 v45 v49 v53 v57 v61 v65 k0_t31) a + S1.size a ≤ S3.size a) ∧
  (∀ k0_t31 : Fin (k0_t31_loop i v5 v9 v13 v17 v21 v25 v29 v33 v37 v41 v45 v49 v53 v57 v61 v65).trips, (k0_t32_loop i v5 v9 v13 v17 v21 v25 v29 v33 v37 v41 v45 v49 v53 v57 v61 v65 k0_t31).OK) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off720 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off721 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off722 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off723 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off724 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off725 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off726 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off727 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off728 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off729 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off730 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off731 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off732 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off733 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off734 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off735 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off736 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off737 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off738 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off739 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off740 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off741 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off742 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off743 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off744 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off745 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off746 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off747 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off748 i v5 v9 v13 v17 v21 v25 v29 v33 v37 v41 v45 v49 v53 v57 v61 v65 k0_t31 k0_t32) a + S1x1x16.size a ≤ S96x1x512.size a)
def k0_chk1_24 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off749 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off750 i v5 v9 v13 v17 v21 v25 v29 v33 v37 v41 v45 v49 v53 v57 v61 v65 k0_t31 k0_t32) a + S1x1x16.size a ≤ S96x1x512.size a) ∧
  (∀ (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off751 i v5 v9 v13 v17 v21 v25 v29 v33 v37 v41 v45 v49 v53 v57 v61 v65 k0_t31 k0_t32) a + S1x1x16.size a ≤ S96x1x512.size a) ∧
  (∀ k0_t31 : Fin (k0_t31_loop i v5 v9 v13 v17 v21 v25 v29 v33 v37 v41 v45 v49 v53 v57 v61 v65).trips, (k0_t33_loop i v5 v9 v13 v17 v21 v25 v29 v33 v37 v41 v45 v49 v53 v57 v61 v65 k0_t31).OK) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off752 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off753 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off754 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off755 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off756 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off757 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off758 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off759 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off760 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off761 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off762 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off763 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off764 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off765 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off766 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off767 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off768 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off769 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off770 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off771 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off772 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off773 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off774 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off775 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off776 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off777 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off778 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off779 i v5 v9 v13 v17 v21 v25 v29 v33 v37 v41 v45 v49 v53 v57 v61 v65 k0_t31 k0_t33) a + S1x1x16.size a ≤ S96x1x512.size a)
def k0_chk1_25 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off780 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off781 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off782 i v5 v9 v13 v17 v21 v25 v29 v33 v37 v41 v45 v49 v53 v57 v61 v65 k0_t31 k0_t33) a + S1x1x16.size a ≤ S96x1x512.size a) ∧
  (∀ (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off783 i v5 v9 v13 v17 v21 v25 v29 v33 v37 v41 v45 v49 v53 v57 v61 v65 k0_t31 k0_t33) a + S1x1x16.size a ≤ S96x1x512.size a) ∧
  ((k0_t34_loop i v5 v9 v13 v17 v21 v25 v29 v33 v37 v41 v45 v49 v53 v57 v61 v65).OK) ∧
  (∀ k0_t34 : Fin (k0_t34_loop i v5 v9 v13 v17 v21 v25 v29 v33 v37 v41 v45 v49 v53 v57 v61 v65).trips, ∀ (k0_h24 : k0_cond24 i v5 v9 v13 v17 v21 v25 v29 v33 v37 v41 v45 v49 v53 v57 v61 v65 k0_t34 = 1#1), ∀ a, (k0_off784 i v5 v9 v13 v17 v21 v25 v29 v33 v37 v41 v45 v49 v53 v57 v61 v65 k0_t34) a + S32x1x512.size a ≤ S96x1x512.size a) ∧
  (∀ k0_t34 : Fin (k0_t34_loop i v5 v9 v13 v17 v21 v25 v29 v33 v37 v41 v45 v49 v53 v57 v61 v65).trips, ∀ (k0_h24 : k0_cond24 i v5 v9 v13 v17 v21 v25 v29 v33 v37 v41 v45 v49 v53 v57 v61 v65 k0_t34 = 1#1), ∀ a, (k0_off785 i v5 v9 v13 v17 v21 v25 v29 v33 v37 v41 v45 v49 v53 v57 v61 v65 k0_t34) a + S32x1x512.size a ≤ S2048x16x512.size a) ∧
  (∀ k0_t34 : Fin (k0_t34_loop i v5 v9 v13 v17 v21 v25 v29 v33 v37 v41 v45 v49 v53 v57 v61 v65).trips, ∀ (k0_h24 : k0_cond24 i v5 v9 v13 v17 v21 v25 v29 v33 v37 v41 v45 v49 v53 v57 v61 v65 k0_t34 = 1#1), ∀ a, (k0_off786 i v5 v9 v13 v17 v21 v25 v29 v33 v37 v41 v45 v49 v53 v57 v61 v65 k0_t34) a + S1.size a ≤ S3.size a) ∧
  (∀ k0_t34 : Fin (k0_t34_loop i v5 v9 v13 v17 v21 v25 v29 v33 v37 v41 v45 v49 v53 v57 v61 v65).trips, ∀ a, (k0_off787 i v5 v9 v13 v17 v21 v25 v29 v33 v37 v41 v45 v49 v53 v57 v61 v65 k0_t34) a + S32x1x512.size a ≤ S96x1x512.size a) ∧
  (∀ k0_t34 : Fin (k0_t34_loop i v5 v9 v13 v17 v21 v25 v29 v33 v37 v41 v45 v49 v53 v57 v61 v65).trips, ∀ a, (k0_off788 i v5 v9 v13 v17 v21 v25 v29 v33 v37 v41 v45 v49 v53 v57 v61 v65 k0_t34) a + S1.size a ≤ S3.size a) ∧
  (∀ k0_t34 : Fin (k0_t34_loop i v5 v9 v13 v17 v21 v25 v29 v33 v37 v41 v45 v49 v53 v57 v61 v65).trips, (k0_t35_loop i v5 v9 v13 v17 v21 v25 v29 v33 v37 v41 v45 v49 v53 v57 v61 v65 k0_t34).OK) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off789 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off790 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off791 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off792 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off793 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off794 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off795 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off796 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off797 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off798 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off799 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off800 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off801 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off802 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off803 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off804 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off805 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off806 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off807 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off808 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off809 i v5 v9 v13 v17 v21 v25 v29 v33 v37 v41 v45 v49 v53 v57 v61 v65 k0_t34 k0_t35) a + S1x1x16.size a ≤ S96x1x512.size a)
def k0_chk1_26 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off810 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off811 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off812 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off813 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off814 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off815 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off816 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off817 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off818 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off819 i v5 v9 v13 v17 v21 v25 v29 v33 v37 v41 v45 v49 v53 v57 v61 v65 k0_t34 k0_t35) a + S1x1x16.size a ≤ S96x1x512.size a) ∧
  (∀ (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off820 i v5 v9 v13 v17 v21 v25 v29 v33 v37 v41 v45 v49 v53 v57 v61 v65 k0_t34 k0_t35) a + S1x1x16.size a ≤ S96x1x512.size a) ∧
  (∀ k0_t34 : Fin (k0_t34_loop i v5 v9 v13 v17 v21 v25 v29 v33 v37 v41 v45 v49 v53 v57 v61 v65).trips, (k0_t36_loop i v5 v9 v13 v17 v21 v25 v29 v33 v37 v41 v45 v49 v53 v57 v61 v65 k0_t34).OK) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off821 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off822 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off823 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off824 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off825 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off826 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off827 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off828 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off829 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off830 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off831 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off832 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off833 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off834 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off835 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off836 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off837 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off838 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off839 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off840 i v5 v9 v13 v17 v21 v25 v29 v33 v37 v41 v45 v49 v53 v57 v61 v65 k0_t34 k0_t36) a + S1x1x16.size a ≤ S96x1x512.size a)
def k0_chk1_27 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off841 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off842 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off843 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off844 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off845 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off846 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off847 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off848 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off849 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off850 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off851 i v5 v9 v13 v17 v21 v25 v29 v33 v37 v41 v45 v49 v53 v57 v61 v65 k0_t34 k0_t36) a + S1x1x16.size a ≤ S96x1x512.size a) ∧
  (∀ (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off852 i v5 v9 v13 v17 v21 v25 v29 v33 v37 v41 v45 v49 v53 v57 v61 v65 k0_t34 k0_t36) a + S1x1x16.size a ≤ S96x1x512.size a) ∧
  (∀ (k0_h25 : k0_cond25 i v5 v9 v13 v17 v21 v25 v29 v33 v37 v41 v45 v49 v53 v57 v61 v65 = 1#1), ∀ a, (k0_off854 i v5 v9 v13 v17 v21 v25 v29 v33 v37 v41 v45 v49 v53 v57 v61 v65) a + S32x1x512.size a ≤ S2048x16x512.size a) ∧
  (∀ (k0_h26 : k0_cond26 i v5 v9 v13 v17 v21 v25 v29 v33 v37 v41 v45 v49 v53 v57 v61 v65 = 1#1), ∀ a, (k0_off856 i v5 v9 v13 v17 v21 v25 v29 v33 v37 v41 v45 v49 v53 v57 v61 v65) a + S32x1x512.size a ≤ S2048x16x512.size a) ∧
  ((k0_t37_loop i v5 v9 v13 v17 v21 v25 v29 v33 v37 v41 v45 v49 v53 v57 v61 v65).OK) ∧
  (∀ k0_t37 : Fin (k0_t37_loop i v5 v9 v13 v17 v21 v25 v29 v33 v37 v41 v45 v49 v53 v57 v61 v65).trips, ∀ (k0_h27 : k0_cond27 i v5 v9 v13 v17 v21 v25 v29 v33 v37 v41 v45 v49 v53 v57 v61 v65 k0_t37 = 1#1), ∀ a, (k0_off857 i v5 v9 v13 v17 v21 v25 v29 v33 v37 v41 v45 v49 v53 v57 v61 v65 k0_t37) a + S32x1x512.size a ≤ S96x1x512.size a) ∧
  (∀ k0_t37 : Fin (k0_t37_loop i v5 v9 v13 v17 v21 v25 v29 v33 v37 v41 v45 v49 v53 v57 v61 v65).trips, ∀ (k0_h27 : k0_cond27 i v5 v9 v13 v17 v21 v25 v29 v33 v37 v41 v45 v49 v53 v57 v61 v65 k0_t37 = 1#1), ∀ a, (k0_off858 i v5 v9 v13 v17 v21 v25 v29 v33 v37 v41 v45 v49 v53 v57 v61 v65 k0_t37) a + S32x1x512.size a ≤ S2048x16x512.size a) ∧
  (∀ k0_t37 : Fin (k0_t37_loop i v5 v9 v13 v17 v21 v25 v29 v33 v37 v41 v45 v49 v53 v57 v61 v65).trips, ∀ (k0_h27 : k0_cond27 i v5 v9 v13 v17 v21 v25 v29 v33 v37 v41 v45 v49 v53 v57 v61 v65 k0_t37 = 1#1), ∀ a, (k0_off859 i v5 v9 v13 v17 v21 v25 v29 v33 v37 v41 v45 v49 v53 v57 v61 v65 k0_t37) a + S1.size a ≤ S3.size a) ∧
  (∀ k0_t37 : Fin (k0_t37_loop i v5 v9 v13 v17 v21 v25 v29 v33 v37 v41 v45 v49 v53 v57 v61 v65).trips, ∀ a, (k0_off860 i v5 v9 v13 v17 v21 v25 v29 v33 v37 v41 v45 v49 v53 v57 v61 v65 k0_t37) a + S32x1x512.size a ≤ S96x1x512.size a) ∧
  (∀ k0_t37 : Fin (k0_t37_loop i v5 v9 v13 v17 v21 v25 v29 v33 v37 v41 v45 v49 v53 v57 v61 v65).trips, ∀ a, (k0_off861 i v5 v9 v13 v17 v21 v25 v29 v33 v37 v41 v45 v49 v53 v57 v61 v65 k0_t37) a + S1.size a ≤ S3.size a) ∧
  (∀ k0_t37 : Fin (k0_t37_loop i v5 v9 v13 v17 v21 v25 v29 v33 v37 v41 v45 v49 v53 v57 v61 v65).trips, (k0_t38_loop i v5 v9 v13 v17 v21 v25 v29 v33 v37 v41 v45 v49 v53 v57 v61 v65 k0_t37).OK) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off862 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off863 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off864 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off865 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off866 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off867 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off868 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off869 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off870 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off871 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off872 i v5 v9 v13 v17 v21 v25 v29 v33 v37 v41 v45 v49 v53 v57 v61 v65 k0_t37 k0_t38) a + S1x1x16.size a ≤ S96x1x512.size a)
def k0_chk1_28 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off873 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off874 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off875 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off876 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off877 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off878 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off879 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off880 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off881 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off882 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off883 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off884 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off885 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off886 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off887 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off888 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off889 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off890 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off891 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off892 i v5 v9 v13 v17 v21 v25 v29 v33 v37 v41 v45 v49 v53 v57 v61 v65 k0_t37 k0_t38) a + S1x1x16.size a ≤ S96x1x512.size a) ∧
  (∀ (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off893 i v5 v9 v13 v17 v21 v25 v29 v33 v37 v41 v45 v49 v53 v57 v61 v65 k0_t37 k0_t38) a + S1x1x16.size a ≤ S96x1x512.size a) ∧
  (∀ k0_t37 : Fin (k0_t37_loop i v5 v9 v13 v17 v21 v25 v29 v33 v37 v41 v45 v49 v53 v57 v61 v65).trips, (k0_t39_loop i v5 v9 v13 v17 v21 v25 v29 v33 v37 v41 v45 v49 v53 v57 v61 v65 k0_t37).OK) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off894 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off895 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off896 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off897 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off898 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off899 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off900 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off901 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off902 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off903 i v5 v9 v13 v17 v21 v25 v29 v33 v37 v41 v45 v49 v53 v57 v61 v65 k0_t37 k0_t39) a + S1x1x16.size a ≤ S96x1x512.size a)
def k0_chk1_29 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off904 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off905 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off906 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off907 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off908 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off909 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off910 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off911 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off912 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off913 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off914 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off915 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off916 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off917 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off918 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off919 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off920 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off921 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off922 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off923 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off924 i v5 v9 v13 v17 v21 v25 v29 v33 v37 v41 v45 v49 v53 v57 v61 v65 k0_t37 k0_t39) a + S1x1x16.size a ≤ S96x1x512.size a) ∧
  (∀ (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off925 i v5 v9 v13 v17 v21 v25 v29 v33 v37 v41 v45 v49 v53 v57 v61 v65 k0_t37 k0_t39) a + S1x1x16.size a ≤ S96x1x512.size a) ∧
  ((k0_t40_loop i v5 v9 v13 v17 v21 v25 v29 v33 v37 v41 v45 v49 v53 v57 v61 v65).OK) ∧
  (∀ k0_t40 : Fin (k0_t40_loop i v5 v9 v13 v17 v21 v25 v29 v33 v37 v41 v45 v49 v53 v57 v61 v65).trips, ∀ (k0_h28 : k0_cond28 i v5 v9 v13 v17 v21 v25 v29 v33 v37 v41 v45 v49 v53 v57 v61 v65 k0_t40 = 1#1), ∀ a, (k0_off926 i v5 v9 v13 v17 v21 v25 v29 v33 v37 v41 v45 v49 v53 v57 v61 v65 k0_t40) a + S32x1x512.size a ≤ S96x1x512.size a) ∧
  (∀ k0_t40 : Fin (k0_t40_loop i v5 v9 v13 v17 v21 v25 v29 v33 v37 v41 v45 v49 v53 v57 v61 v65).trips, ∀ (k0_h28 : k0_cond28 i v5 v9 v13 v17 v21 v25 v29 v33 v37 v41 v45 v49 v53 v57 v61 v65 k0_t40 = 1#1), ∀ a, (k0_off927 i v5 v9 v13 v17 v21 v25 v29 v33 v37 v41 v45 v49 v53 v57 v61 v65 k0_t40) a + S32x1x512.size a ≤ S2048x16x512.size a) ∧
  (∀ k0_t40 : Fin (k0_t40_loop i v5 v9 v13 v17 v21 v25 v29 v33 v37 v41 v45 v49 v53 v57 v61 v65).trips, ∀ (k0_h28 : k0_cond28 i v5 v9 v13 v17 v21 v25 v29 v33 v37 v41 v45 v49 v53 v57 v61 v65 k0_t40 = 1#1), ∀ a, (k0_off928 i v5 v9 v13 v17 v21 v25 v29 v33 v37 v41 v45 v49 v53 v57 v61 v65 k0_t40) a + S1.size a ≤ S3.size a) ∧
  (∀ k0_t40 : Fin (k0_t40_loop i v5 v9 v13 v17 v21 v25 v29 v33 v37 v41 v45 v49 v53 v57 v61 v65).trips, ∀ a, (k0_off929 i v5 v9 v13 v17 v21 v25 v29 v33 v37 v41 v45 v49 v53 v57 v61 v65 k0_t40) a + S32x1x512.size a ≤ S96x1x512.size a) ∧
  (∀ k0_t40 : Fin (k0_t40_loop i v5 v9 v13 v17 v21 v25 v29 v33 v37 v41 v45 v49 v53 v57 v61 v65).trips, ∀ a, (k0_off930 i v5 v9 v13 v17 v21 v25 v29 v33 v37 v41 v45 v49 v53 v57 v61 v65 k0_t40) a + S1.size a ≤ S3.size a) ∧
  (∀ k0_t40 : Fin (k0_t40_loop i v5 v9 v13 v17 v21 v25 v29 v33 v37 v41 v45 v49 v53 v57 v61 v65).trips, (k0_t41_loop i v5 v9 v13 v17 v21 v25 v29 v33 v37 v41 v45 v49 v53 v57 v61 v65 k0_t40).OK) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off931 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off932 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off933 i v5 v9 v13 v17 v21 v25 v29 v33 v37 v41 v45 v49 v53 v57 v61 v65 k0_t40 k0_t41) a + S1x1x16.size a ≤ S96x1x512.size a)
def k0_chk1_30 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off934 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off935 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off936 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off937 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off938 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off939 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off940 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off941 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off942 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off943 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off944 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off945 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off946 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off947 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off948 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off949 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off950 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off951 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off952 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off953 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off954 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off955 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off956 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off957 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off958 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off959 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off960 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off961 i v5 v9 v13 v17 v21 v25 v29 v33 v37 v41 v45 v49 v53 v57 v61 v65 k0_t40 k0_t41) a + S1x1x16.size a ≤ S96x1x512.size a) ∧
  (∀ (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off962 i v5 v9 v13 v17 v21 v25 v29 v33 v37 v41 v45 v49 v53 v57 v61 v65 k0_t40 k0_t41) a + S1x1x16.size a ≤ S96x1x512.size a) ∧
  (∀ k0_t40 : Fin (k0_t40_loop i v5 v9 v13 v17 v21 v25 v29 v33 v37 v41 v45 v49 v53 v57 v61 v65).trips, (k0_t42_loop i v5 v9 v13 v17 v21 v25 v29 v33 v37 v41 v45 v49 v53 v57 v61 v65 k0_t40).OK) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off963 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off964 i v5 v9 v13 v17 v21 v25 v29 v33 v37 v41 v45 v49 v53 v57 v61 v65 k0_t40 k0_t42) a + S1x1x16.size a ≤ S96x1x512.size a)
def k0_chk1_31 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off965 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off966 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off967 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off968 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off969 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off970 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off971 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off972 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off973 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off974 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off975 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off976 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off977 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off978 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off979 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off980 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off981 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off982 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off983 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off984 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off985 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off986 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off987 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off988 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off989 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off990 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off991 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off992 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off993 i v5 v9 v13 v17 v21 v25 v29 v33 v37 v41 v45 v49 v53 v57 v61 v65 k0_t40 k0_t42) a + S1x1x16.size a ≤ S96x1x512.size a) ∧
  (∀ (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off994 i v5 v9 v13 v17 v21 v25 v29 v33 v37 v41 v45 v49 v53 v57 v61 v65 k0_t40 k0_t42) a + S1x1x16.size a ≤ S96x1x512.size a) ∧
  (∀ (k0_h29 : k0_cond29 i v5 v9 v13 v17 v21 v25 v29 v33 v37 v41 v45 v49 v53 v57 v61 v65 = 1#1), ∀ a, (k0_off996 i v5 v9 v13 v17 v21 v25 v29 v33 v37 v41 v45 v49 v53 v57 v61 v65) a + S32x1x512.size a ≤ S2048x16x512.size a) ∧
  (∀ (k0_h30 : k0_cond30 i v5 v9 v13 v17 v21 v25 v29 v33 v37 v41 v45 v49 v53 v57 v61 v65 = 1#1), ∀ a, (k0_off998 i v5 v9 v13 v17 v21 v25 v29 v33 v37 v41 v45 v49 v53 v57 v61 v65) a + S32x1x512.size a ≤ S2048x16x512.size a)
def k0_chk1_32 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  ((k0_t43_loop i v5 v9 v13 v17 v21 v25 v29 v33 v37 v41 v45 v49 v53 v57 v61 v65).OK) ∧
  (∀ k0_t43 : Fin (k0_t43_loop i v5 v9 v13 v17 v21 v25 v29 v33 v37 v41 v45 v49 v53 v57 v61 v65).trips, ∀ (k0_h31 : k0_cond31 i v5 v9 v13 v17 v21 v25 v29 v33 v37 v41 v45 v49 v53 v57 v61 v65 k0_t43 = 1#1), ∀ a, (k0_off999 i v5 v9 v13 v17 v21 v25 v29 v33 v37 v41 v45 v49 v53 v57 v61 v65 k0_t43) a + S32x1x512.size a ≤ S96x1x512.size a) ∧
  (∀ k0_t43 : Fin (k0_t43_loop i v5 v9 v13 v17 v21 v25 v29 v33 v37 v41 v45 v49 v53 v57 v61 v65).trips, ∀ (k0_h31 : k0_cond31 i v5 v9 v13 v17 v21 v25 v29 v33 v37 v41 v45 v49 v53 v57 v61 v65 k0_t43 = 1#1), ∀ a, (k0_off1000 i v5 v9 v13 v17 v21 v25 v29 v33 v37 v41 v45 v49 v53 v57 v61 v65 k0_t43) a + S32x1x512.size a ≤ S2048x16x512.size a) ∧
  (∀ k0_t43 : Fin (k0_t43_loop i v5 v9 v13 v17 v21 v25 v29 v33 v37 v41 v45 v49 v53 v57 v61 v65).trips, ∀ (k0_h31 : k0_cond31 i v5 v9 v13 v17 v21 v25 v29 v33 v37 v41 v45 v49 v53 v57 v61 v65 k0_t43 = 1#1), ∀ a, (k0_off1001 i v5 v9 v13 v17 v21 v25 v29 v33 v37 v41 v45 v49 v53 v57 v61 v65 k0_t43) a + S1.size a ≤ S3.size a) ∧
  (∀ k0_t43 : Fin (k0_t43_loop i v5 v9 v13 v17 v21 v25 v29 v33 v37 v41 v45 v49 v53 v57 v61 v65).trips, ∀ a, (k0_off1002 i v5 v9 v13 v17 v21 v25 v29 v33 v37 v41 v45 v49 v53 v57 v61 v65 k0_t43) a + S32x1x512.size a ≤ S96x1x512.size a) ∧
  (∀ k0_t43 : Fin (k0_t43_loop i v5 v9 v13 v17 v21 v25 v29 v33 v37 v41 v45 v49 v53 v57 v61 v65).trips, ∀ a, (k0_off1003 i v5 v9 v13 v17 v21 v25 v29 v33 v37 v41 v45 v49 v53 v57 v61 v65 k0_t43) a + S1.size a ≤ S3.size a) ∧
  (∀ k0_t43 : Fin (k0_t43_loop i v5 v9 v13 v17 v21 v25 v29 v33 v37 v41 v45 v49 v53 v57 v61 v65).trips, (k0_t44_loop i v5 v9 v13 v17 v21 v25 v29 v33 v37 v41 v45 v49 v53 v57 v61 v65 k0_t43).OK) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1004 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1005 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1006 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1007 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1008 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1009 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1010 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1011 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1012 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1013 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1014 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1015 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1016 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1017 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1018 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1019 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1020 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1021 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1022 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1023 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1024 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1025 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1026 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1027 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1028 i v5 v9 v13 v17 v21 v25 v29 v33 v37 v41 v45 v49 v53 v57 v61 v65 k0_t43 k0_t44) a + S1x1x16.size a ≤ S96x1x512.size a)
def k0_chk1_33 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1029 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1030 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1031 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1032 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1033 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1034 i v5 v9 v13 v17 v21 v25 v29 v33 v37 v41 v45 v49 v53 v57 v61 v65 k0_t43 k0_t44) a + S1x1x16.size a ≤ S96x1x512.size a) ∧
  (∀ (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1035 i v5 v9 v13 v17 v21 v25 v29 v33 v37 v41 v45 v49 v53 v57 v61 v65 k0_t43 k0_t44) a + S1x1x16.size a ≤ S96x1x512.size a) ∧
  (∀ k0_t43 : Fin (k0_t43_loop i v5 v9 v13 v17 v21 v25 v29 v33 v37 v41 v45 v49 v53 v57 v61 v65).trips, (k0_t45_loop i v5 v9 v13 v17 v21 v25 v29 v33 v37 v41 v45 v49 v53 v57 v61 v65 k0_t43).OK) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1036 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1037 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1038 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1039 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1040 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1041 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1042 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1043 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1044 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1045 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1046 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1047 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1048 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1049 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1050 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1051 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1052 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1053 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1054 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1055 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1056 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1057 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1058 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1059 i v5 v9 v13 v17 v21 v25 v29 v33 v37 v41 v45 v49 v53 v57 v61 v65 k0_t43 k0_t45) a + S1x1x16.size a ≤ S96x1x512.size a)
def k0_chk1_34 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1060 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1061 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1062 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1063 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1064 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1065 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1066 i v5 v9 v13 v17 v21 v25 v29 v33 v37 v41 v45 v49 v53 v57 v61 v65 k0_t43 k0_t45) a + S1x1x16.size a ≤ S96x1x512.size a) ∧
  (∀ (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1067 i v5 v9 v13 v17 v21 v25 v29 v33 v37 v41 v45 v49 v53 v57 v61 v65 k0_t43 k0_t45) a + S1x1x16.size a ≤ S96x1x512.size a) ∧
  ((k0_t46_loop i v5 v9 v13 v17 v21 v25 v29 v33 v37 v41 v45 v49 v53 v57 v61 v65).OK) ∧
  (∀ k0_t46 : Fin (k0_t46_loop i v5 v9 v13 v17 v21 v25 v29 v33 v37 v41 v45 v49 v53 v57 v61 v65).trips, ∀ (k0_h32 : k0_cond32 i v5 v9 v13 v17 v21 v25 v29 v33 v37 v41 v45 v49 v53 v57 v61 v65 k0_t46 = 1#1), ∀ a, (k0_off1068 i v5 v9 v13 v17 v21 v25 v29 v33 v37 v41 v45 v49 v53 v57 v61 v65 k0_t46) a + S32x1x512.size a ≤ S96x1x512.size a) ∧
  (∀ k0_t46 : Fin (k0_t46_loop i v5 v9 v13 v17 v21 v25 v29 v33 v37 v41 v45 v49 v53 v57 v61 v65).trips, ∀ (k0_h32 : k0_cond32 i v5 v9 v13 v17 v21 v25 v29 v33 v37 v41 v45 v49 v53 v57 v61 v65 k0_t46 = 1#1), ∀ a, (k0_off1069 i v5 v9 v13 v17 v21 v25 v29 v33 v37 v41 v45 v49 v53 v57 v61 v65 k0_t46) a + S32x1x512.size a ≤ S2048x16x512.size a) ∧
  (∀ k0_t46 : Fin (k0_t46_loop i v5 v9 v13 v17 v21 v25 v29 v33 v37 v41 v45 v49 v53 v57 v61 v65).trips, ∀ (k0_h32 : k0_cond32 i v5 v9 v13 v17 v21 v25 v29 v33 v37 v41 v45 v49 v53 v57 v61 v65 k0_t46 = 1#1), ∀ a, (k0_off1070 i v5 v9 v13 v17 v21 v25 v29 v33 v37 v41 v45 v49 v53 v57 v61 v65 k0_t46) a + S1.size a ≤ S3.size a) ∧
  (∀ k0_t46 : Fin (k0_t46_loop i v5 v9 v13 v17 v21 v25 v29 v33 v37 v41 v45 v49 v53 v57 v61 v65).trips, ∀ a, (k0_off1071 i v5 v9 v13 v17 v21 v25 v29 v33 v37 v41 v45 v49 v53 v57 v61 v65 k0_t46) a + S32x1x512.size a ≤ S96x1x512.size a) ∧
  (∀ k0_t46 : Fin (k0_t46_loop i v5 v9 v13 v17 v21 v25 v29 v33 v37 v41 v45 v49 v53 v57 v61 v65).trips, ∀ a, (k0_off1072 i v5 v9 v13 v17 v21 v25 v29 v33 v37 v41 v45 v49 v53 v57 v61 v65 k0_t46) a + S1.size a ≤ S3.size a) ∧
  (∀ k0_t46 : Fin (k0_t46_loop i v5 v9 v13 v17 v21 v25 v29 v33 v37 v41 v45 v49 v53 v57 v61 v65).trips, (k0_t47_loop i v5 v9 v13 v17 v21 v25 v29 v33 v37 v41 v45 v49 v53 v57 v61 v65 k0_t46).OK) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1073 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1074 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1075 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1076 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1077 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1078 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1079 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1080 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1081 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1082 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1083 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1084 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1085 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1086 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1087 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1088 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1089 i v5 v9 v13 v17 v21 v25 v29 v33 v37 v41 v45 v49 v53 v57 v61 v65 k0_t46 k0_t47) a + S1x1x16.size a ≤ S96x1x512.size a)
def k0_chk1_35 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1090 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1091 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1092 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1093 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1094 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1095 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1096 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1097 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1098 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1099 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1100 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1101 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1102 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1103 i v5 v9 v13 v17 v21 v25 v29 v33 v37 v41 v45 v49 v53 v57 v61 v65 k0_t46 k0_t47) a + S1x1x16.size a ≤ S96x1x512.size a) ∧
  (∀ (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1104 i v5 v9 v13 v17 v21 v25 v29 v33 v37 v41 v45 v49 v53 v57 v61 v65 k0_t46 k0_t47) a + S1x1x16.size a ≤ S96x1x512.size a) ∧
  (∀ k0_t46 : Fin (k0_t46_loop i v5 v9 v13 v17 v21 v25 v29 v33 v37 v41 v45 v49 v53 v57 v61 v65).trips, (k0_t48_loop i v5 v9 v13 v17 v21 v25 v29 v33 v37 v41 v45 v49 v53 v57 v61 v65 k0_t46).OK) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1105 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1106 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1107 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1108 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1109 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1110 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1111 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1112 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1113 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1114 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1115 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1116 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1117 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1118 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1119 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1120 i v5 v9 v13 v17 v21 v25 v29 v33 v37 v41 v45 v49 v53 v57 v61 v65 k0_t46 k0_t48) a + S1x1x16.size a ≤ S96x1x512.size a)
def k0_chk1_36 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1121 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1122 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1123 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1124 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1125 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1126 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1127 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1128 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1129 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1130 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1131 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1132 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1133 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1134 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1135 i v5 v9 v13 v17 v21 v25 v29 v33 v37 v41 v45 v49 v53 v57 v61 v65 k0_t46 k0_t48) a + S1x1x16.size a ≤ S96x1x512.size a) ∧
  (∀ (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1136 i v5 v9 v13 v17 v21 v25 v29 v33 v37 v41 v45 v49 v53 v57 v61 v65 k0_t46 k0_t48) a + S1x1x16.size a ≤ S96x1x512.size a) ∧
  (∀ (k0_h33 : k0_cond33 i v5 v9 v13 v17 v21 v25 v29 v33 v37 v41 v45 v49 v53 v57 v61 v65 = 1#1), ∀ a, (k0_off1138 i v5 v9 v13 v17 v21 v25 v29 v33 v37 v41 v45 v49 v53 v57 v61 v65) a + S32x1x512.size a ≤ S2048x16x512.size a) ∧
  (∀ (k0_h34 : k0_cond34 i v5 v9 v13 v17 v21 v25 v29 v33 v37 v41 v45 v49 v53 v57 v61 v65 = 1#1), ∀ a, (k0_off1140 i v5 v9 v13 v17 v21 v25 v29 v33 v37 v41 v45 v49 v53 v57 v61 v65) a + S32x1x512.size a ≤ S2048x16x512.size a) ∧
  ((k0_t49_loop i v5 v9 v13 v17 v21 v25 v29 v33 v37 v41 v45 v49 v53 v57 v61 v65).OK) ∧
  (∀ k0_t49 : Fin (k0_t49_loop i v5 v9 v13 v17 v21 v25 v29 v33 v37 v41 v45 v49 v53 v57 v61 v65).trips, ∀ (k0_h35 : k0_cond35 i v5 v9 v13 v17 v21 v25 v29 v33 v37 v41 v45 v49 v53 v57 v61 v65 k0_t49 = 1#1), ∀ a, (k0_off1141 i v5 v9 v13 v17 v21 v25 v29 v33 v37 v41 v45 v49 v53 v57 v61 v65 k0_t49) a + S32x1x512.size a ≤ S96x1x512.size a) ∧
  (∀ k0_t49 : Fin (k0_t49_loop i v5 v9 v13 v17 v21 v25 v29 v33 v37 v41 v45 v49 v53 v57 v61 v65).trips, ∀ (k0_h35 : k0_cond35 i v5 v9 v13 v17 v21 v25 v29 v33 v37 v41 v45 v49 v53 v57 v61 v65 k0_t49 = 1#1), ∀ a, (k0_off1142 i v5 v9 v13 v17 v21 v25 v29 v33 v37 v41 v45 v49 v53 v57 v61 v65 k0_t49) a + S32x1x512.size a ≤ S2048x16x512.size a) ∧
  (∀ k0_t49 : Fin (k0_t49_loop i v5 v9 v13 v17 v21 v25 v29 v33 v37 v41 v45 v49 v53 v57 v61 v65).trips, ∀ (k0_h35 : k0_cond35 i v5 v9 v13 v17 v21 v25 v29 v33 v37 v41 v45 v49 v53 v57 v61 v65 k0_t49 = 1#1), ∀ a, (k0_off1143 i v5 v9 v13 v17 v21 v25 v29 v33 v37 v41 v45 v49 v53 v57 v61 v65 k0_t49) a + S1.size a ≤ S3.size a) ∧
  (∀ k0_t49 : Fin (k0_t49_loop i v5 v9 v13 v17 v21 v25 v29 v33 v37 v41 v45 v49 v53 v57 v61 v65).trips, ∀ a, (k0_off1144 i v5 v9 v13 v17 v21 v25 v29 v33 v37 v41 v45 v49 v53 v57 v61 v65 k0_t49) a + S32x1x512.size a ≤ S96x1x512.size a) ∧
  (∀ k0_t49 : Fin (k0_t49_loop i v5 v9 v13 v17 v21 v25 v29 v33 v37 v41 v45 v49 v53 v57 v61 v65).trips, ∀ a, (k0_off1145 i v5 v9 v13 v17 v21 v25 v29 v33 v37 v41 v45 v49 v53 v57 v61 v65 k0_t49) a + S1.size a ≤ S3.size a) ∧
  (∀ k0_t49 : Fin (k0_t49_loop i v5 v9 v13 v17 v21 v25 v29 v33 v37 v41 v45 v49 v53 v57 v61 v65).trips, (k0_t50_loop i v5 v9 v13 v17 v21 v25 v29 v33 v37 v41 v45 v49 v53 v57 v61 v65 k0_t49).OK) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1146 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1147 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1148 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1149 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1150 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1151 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1152 i v5 v9 v13 v17 v21 v25 v29 v33 v37 v41 v45 v49 v53 v57 v61 v65 k0_t49 k0_t50) a + S1x1x16.size a ≤ S96x1x512.size a)
def k0_chk1_37 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1153 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1154 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1155 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1156 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1157 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1158 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1159 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1160 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1161 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1162 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1163 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1164 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1165 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1166 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1167 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1168 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1169 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1170 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1171 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1172 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1173 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1174 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1175 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1176 i v5 v9 v13 v17 v21 v25 v29 v33 v37 v41 v45 v49 v53 v57 v61 v65 k0_t49 k0_t50) a + S1x1x16.size a ≤ S96x1x512.size a) ∧
  (∀ (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1177 i v5 v9 v13 v17 v21 v25 v29 v33 v37 v41 v45 v49 v53 v57 v61 v65 k0_t49 k0_t50) a + S1x1x16.size a ≤ S96x1x512.size a) ∧
  (∀ k0_t49 : Fin (k0_t49_loop i v5 v9 v13 v17 v21 v25 v29 v33 v37 v41 v45 v49 v53 v57 v61 v65).trips, (k0_t51_loop i v5 v9 v13 v17 v21 v25 v29 v33 v37 v41 v45 v49 v53 v57 v61 v65 k0_t49).OK) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1178 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1179 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1180 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1181 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1182 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1183 i v5 v9 v13 v17 v21 v25 v29 v33 v37 v41 v45 v49 v53 v57 v61 v65 k0_t49 k0_t51) a + S1x1x16.size a ≤ S96x1x512.size a)
def k0_chk1_38 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1184 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1185 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1186 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1187 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1188 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1189 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1190 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1191 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1192 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1193 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1194 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1195 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1196 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1197 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1198 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1199 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1200 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1201 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1202 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1203 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1204 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1205 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1206 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1207 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1208 i v5 v9 v13 v17 v21 v25 v29 v33 v37 v41 v45 v49 v53 v57 v61 v65 k0_t49 k0_t51) a + S1x1x16.size a ≤ S96x1x512.size a) ∧
  (∀ (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1209 i v5 v9 v13 v17 v21 v25 v29 v33 v37 v41 v45 v49 v53 v57 v61 v65 k0_t49 k0_t51) a + S1x1x16.size a ≤ S96x1x512.size a) ∧
  ((k0_t52_loop i v5 v9 v13 v17 v21 v25 v29 v33 v37 v41 v45 v49 v53 v57 v61 v65).OK) ∧
  (∀ k0_t52 : Fin (k0_t52_loop i v5 v9 v13 v17 v21 v25 v29 v33 v37 v41 v45 v49 v53 v57 v61 v65).trips, ∀ (k0_h36 : k0_cond36 i v5 v9 v13 v17 v21 v25 v29 v33 v37 v41 v45 v49 v53 v57 v61 v65 k0_t52 = 1#1), ∀ a, (k0_off1210 i v5 v9 v13 v17 v21 v25 v29 v33 v37 v41 v45 v49 v53 v57 v61 v65 k0_t52) a + S32x1x512.size a ≤ S96x1x512.size a) ∧
  (∀ k0_t52 : Fin (k0_t52_loop i v5 v9 v13 v17 v21 v25 v29 v33 v37 v41 v45 v49 v53 v57 v61 v65).trips, ∀ (k0_h36 : k0_cond36 i v5 v9 v13 v17 v21 v25 v29 v33 v37 v41 v45 v49 v53 v57 v61 v65 k0_t52 = 1#1), ∀ a, (k0_off1211 i v5 v9 v13 v17 v21 v25 v29 v33 v37 v41 v45 v49 v53 v57 v61 v65 k0_t52) a + S32x1x512.size a ≤ S2048x16x512.size a) ∧
  (∀ k0_t52 : Fin (k0_t52_loop i v5 v9 v13 v17 v21 v25 v29 v33 v37 v41 v45 v49 v53 v57 v61 v65).trips, ∀ (k0_h36 : k0_cond36 i v5 v9 v13 v17 v21 v25 v29 v33 v37 v41 v45 v49 v53 v57 v61 v65 k0_t52 = 1#1), ∀ a, (k0_off1212 i v5 v9 v13 v17 v21 v25 v29 v33 v37 v41 v45 v49 v53 v57 v61 v65 k0_t52) a + S1.size a ≤ S3.size a) ∧
  (∀ k0_t52 : Fin (k0_t52_loop i v5 v9 v13 v17 v21 v25 v29 v33 v37 v41 v45 v49 v53 v57 v61 v65).trips, ∀ a, (k0_off1213 i v5 v9 v13 v17 v21 v25 v29 v33 v37 v41 v45 v49 v53 v57 v61 v65 k0_t52) a + S32x1x512.size a ≤ S96x1x512.size a) ∧
  (∀ k0_t52 : Fin (k0_t52_loop i v5 v9 v13 v17 v21 v25 v29 v33 v37 v41 v45 v49 v53 v57 v61 v65).trips, ∀ a, (k0_off1214 i v5 v9 v13 v17 v21 v25 v29 v33 v37 v41 v45 v49 v53 v57 v61 v65 k0_t52) a + S1.size a ≤ S3.size a)
def k0_chk1_39 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ k0_t52 : Fin (k0_t52_loop i v5 v9 v13 v17 v21 v25 v29 v33 v37 v41 v45 v49 v53 v57 v61 v65).trips, (k0_t53_loop i v5 v9 v13 v17 v21 v25 v29 v33 v37 v41 v45 v49 v53 v57 v61 v65 k0_t52).OK) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1215 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1216 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1217 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1218 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1219 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1220 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1221 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1222 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1223 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1224 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1225 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1226 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1227 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1228 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1229 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1230 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1231 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1232 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1233 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1234 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1235 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1236 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1237 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1238 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1239 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1240 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1241 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1242 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1243 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1244 i v5 v9 v13 v17 v21 v25 v29 v33 v37 v41 v45 v49 v53 v57 v61 v65 k0_t52 k0_t53) a + S1x1x16.size a ≤ S96x1x512.size a) ∧
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1245 i v5 v9 v13 v17 v21 v25 v29 v33 v37 v41 v45 v49 v53 v57 v61 v65 k0_t52 k0_t53) a + S1x1x16.size a ≤ S96x1x512.size a)
def k0_chk1_40 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1246 i v5 v9 v13 v17 v21 v25 v29 v33 v37 v41 v45 v49 v53 v57 v61 v65 k0_t52 k0_t53) a + S1x1x16.size a ≤ S96x1x512.size a) ∧
  (∀ k0_t52 : Fin (k0_t52_loop i v5 v9 v13 v17 v21 v25 v29 v33 v37 v41 v45 v49 v53 v57 v61 v65).trips, (k0_t54_loop i v5 v9 v13 v17 v21 v25 v29 v33 v37 v41 v45 v49 v53 v57 v61 v65 k0_t52).OK) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1247 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1248 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1249 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1250 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1251 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1252 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1253 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1254 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1255 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1256 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1257 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1258 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1259 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1260 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1261 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1262 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1263 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1264 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1265 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1266 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1267 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1268 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1269 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1270 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1271 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1272 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1273 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1274 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1275 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1276 i v5 v9 v13 v17 v21 v25 v29 v33 v37 v41 v45 v49 v53 v57 v61 v65 k0_t52 k0_t54) a + S1x1x16.size a ≤ S96x1x512.size a)
def k0_chk1_41 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1277 i v5 v9 v13 v17 v21 v25 v29 v33 v37 v41 v45 v49 v53 v57 v61 v65 k0_t52 k0_t54) a + S1x1x16.size a ≤ S96x1x512.size a) ∧
  (∀ (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1278 i v5 v9 v13 v17 v21 v25 v29 v33 v37 v41 v45 v49 v53 v57 v61 v65 k0_t52 k0_t54) a + S1x1x16.size a ≤ S96x1x512.size a) ∧
  (∀ (k0_h37 : k0_cond37 i v5 v9 v13 v17 v21 v25 v29 v33 v37 v41 v45 v49 v53 v57 v61 v65 = 1#1), ∀ a, (k0_off1280 i v5 v9 v13 v17 v21 v25 v29 v33 v37 v41 v45 v49 v53 v57 v61 v65) a + S32x1x512.size a ≤ S2048x16x512.size a) ∧
  (∀ (k0_h38 : k0_cond38 i v5 v9 v13 v17 v21 v25 v29 v33 v37 v41 v45 v49 v53 v57 v61 v65 = 1#1), ∀ a, (k0_off1282 i v5 v9 v13 v17 v21 v25 v29 v33 v37 v41 v45 v49 v53 v57 v61 v65) a + S32x1x512.size a ≤ S2048x16x512.size a) ∧
  ((k0_t55_loop i v5 v9 v13 v17 v21 v25 v29 v33 v37 v41 v45 v49 v53 v57 v61 v65).OK) ∧
  (∀ k0_t55 : Fin (k0_t55_loop i v5 v9 v13 v17 v21 v25 v29 v33 v37 v41 v45 v49 v53 v57 v61 v65).trips, ∀ (k0_h39 : k0_cond39 i v5 v9 v13 v17 v21 v25 v29 v33 v37 v41 v45 v49 v53 v57 v61 v65 k0_t55 = 1#1), ∀ a, (k0_off1283 i v5 v9 v13 v17 v21 v25 v29 v33 v37 v41 v45 v49 v53 v57 v61 v65 k0_t55) a + S32x1x512.size a ≤ S96x1x512.size a) ∧
  (∀ k0_t55 : Fin (k0_t55_loop i v5 v9 v13 v17 v21 v25 v29 v33 v37 v41 v45 v49 v53 v57 v61 v65).trips, ∀ (k0_h39 : k0_cond39 i v5 v9 v13 v17 v21 v25 v29 v33 v37 v41 v45 v49 v53 v57 v61 v65 k0_t55 = 1#1), ∀ a, (k0_off1284 i v5 v9 v13 v17 v21 v25 v29 v33 v37 v41 v45 v49 v53 v57 v61 v65 k0_t55) a + S32x1x512.size a ≤ S2048x16x512.size a) ∧
  (∀ k0_t55 : Fin (k0_t55_loop i v5 v9 v13 v17 v21 v25 v29 v33 v37 v41 v45 v49 v53 v57 v61 v65).trips, ∀ (k0_h39 : k0_cond39 i v5 v9 v13 v17 v21 v25 v29 v33 v37 v41 v45 v49 v53 v57 v61 v65 k0_t55 = 1#1), ∀ a, (k0_off1285 i v5 v9 v13 v17 v21 v25 v29 v33 v37 v41 v45 v49 v53 v57 v61 v65 k0_t55) a + S1.size a ≤ S3.size a) ∧
  (∀ k0_t55 : Fin (k0_t55_loop i v5 v9 v13 v17 v21 v25 v29 v33 v37 v41 v45 v49 v53 v57 v61 v65).trips, ∀ a, (k0_off1286 i v5 v9 v13 v17 v21 v25 v29 v33 v37 v41 v45 v49 v53 v57 v61 v65 k0_t55) a + S32x1x512.size a ≤ S96x1x512.size a) ∧
  (∀ k0_t55 : Fin (k0_t55_loop i v5 v9 v13 v17 v21 v25 v29 v33 v37 v41 v45 v49 v53 v57 v61 v65).trips, ∀ a, (k0_off1287 i v5 v9 v13 v17 v21 v25 v29 v33 v37 v41 v45 v49 v53 v57 v61 v65 k0_t55) a + S1.size a ≤ S3.size a) ∧
  (∀ k0_t55 : Fin (k0_t55_loop i v5 v9 v13 v17 v21 v25 v29 v33 v37 v41 v45 v49 v53 v57 v61 v65).trips, (k0_t56_loop i v5 v9 v13 v17 v21 v25 v29 v33 v37 v41 v45 v49 v53 v57 v61 v65 k0_t55).OK) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1288 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1289 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1290 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1291 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1292 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1293 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1294 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1295 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1296 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1297 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1298 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1299 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1300 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1301 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1302 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1303 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1304 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1305 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1306 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1307 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1308 i v5 v9 v13 v17 v21 v25 v29 v33 v37 v41 v45 v49 v53 v57 v61 v65 k0_t55 k0_t56) a + S1x1x16.size a ≤ S96x1x512.size a)
def k0_chk1_42 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1309 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1310 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1311 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1312 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1313 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1314 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1315 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1316 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1317 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1318 i v5 v9 v13 v17 v21 v25 v29 v33 v37 v41 v45 v49 v53 v57 v61 v65 k0_t55 k0_t56) a + S1x1x16.size a ≤ S96x1x512.size a) ∧
  (∀ (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1319 i v5 v9 v13 v17 v21 v25 v29 v33 v37 v41 v45 v49 v53 v57 v61 v65 k0_t55 k0_t56) a + S1x1x16.size a ≤ S96x1x512.size a) ∧
  (∀ k0_t55 : Fin (k0_t55_loop i v5 v9 v13 v17 v21 v25 v29 v33 v37 v41 v45 v49 v53 v57 v61 v65).trips, (k0_t57_loop i v5 v9 v13 v17 v21 v25 v29 v33 v37 v41 v45 v49 v53 v57 v61 v65 k0_t55).OK) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1320 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1321 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1322 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1323 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1324 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1325 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1326 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1327 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1328 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1329 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1330 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1331 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1332 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1333 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1334 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1335 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1336 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1337 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1338 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1339 i v5 v9 v13 v17 v21 v25 v29 v33 v37 v41 v45 v49 v53 v57 v61 v65 k0_t55 k0_t57) a + S1x1x16.size a ≤ S96x1x512.size a)
def k0_chk1_43 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1340 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1341 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1342 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1343 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1344 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1345 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1346 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1347 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1348 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1349 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1350 i v5 v9 v13 v17 v21 v25 v29 v33 v37 v41 v45 v49 v53 v57 v61 v65 k0_t55 k0_t57) a + S1x1x16.size a ≤ S96x1x512.size a) ∧
  (∀ (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1351 i v5 v9 v13 v17 v21 v25 v29 v33 v37 v41 v45 v49 v53 v57 v61 v65 k0_t55 k0_t57) a + S1x1x16.size a ≤ S96x1x512.size a) ∧
  ((k0_t58_loop i v5 v9 v13 v17 v21 v25 v29 v33 v37 v41 v45 v49 v53 v57 v61 v65).OK) ∧
  (∀ k0_t58 : Fin (k0_t58_loop i v5 v9 v13 v17 v21 v25 v29 v33 v37 v41 v45 v49 v53 v57 v61 v65).trips, ∀ (k0_h40 : k0_cond40 i v5 v9 v13 v17 v21 v25 v29 v33 v37 v41 v45 v49 v53 v57 v61 v65 k0_t58 = 1#1), ∀ a, (k0_off1352 i v5 v9 v13 v17 v21 v25 v29 v33 v37 v41 v45 v49 v53 v57 v61 v65 k0_t58) a + S32x1x512.size a ≤ S96x1x512.size a) ∧
  (∀ k0_t58 : Fin (k0_t58_loop i v5 v9 v13 v17 v21 v25 v29 v33 v37 v41 v45 v49 v53 v57 v61 v65).trips, ∀ (k0_h40 : k0_cond40 i v5 v9 v13 v17 v21 v25 v29 v33 v37 v41 v45 v49 v53 v57 v61 v65 k0_t58 = 1#1), ∀ a, (k0_off1353 i v5 v9 v13 v17 v21 v25 v29 v33 v37 v41 v45 v49 v53 v57 v61 v65 k0_t58) a + S32x1x512.size a ≤ S2048x16x512.size a) ∧
  (∀ k0_t58 : Fin (k0_t58_loop i v5 v9 v13 v17 v21 v25 v29 v33 v37 v41 v45 v49 v53 v57 v61 v65).trips, ∀ (k0_h40 : k0_cond40 i v5 v9 v13 v17 v21 v25 v29 v33 v37 v41 v45 v49 v53 v57 v61 v65 k0_t58 = 1#1), ∀ a, (k0_off1354 i v5 v9 v13 v17 v21 v25 v29 v33 v37 v41 v45 v49 v53 v57 v61 v65 k0_t58) a + S1.size a ≤ S3.size a) ∧
  (∀ k0_t58 : Fin (k0_t58_loop i v5 v9 v13 v17 v21 v25 v29 v33 v37 v41 v45 v49 v53 v57 v61 v65).trips, ∀ a, (k0_off1355 i v5 v9 v13 v17 v21 v25 v29 v33 v37 v41 v45 v49 v53 v57 v61 v65 k0_t58) a + S32x1x512.size a ≤ S96x1x512.size a) ∧
  (∀ k0_t58 : Fin (k0_t58_loop i v5 v9 v13 v17 v21 v25 v29 v33 v37 v41 v45 v49 v53 v57 v61 v65).trips, ∀ a, (k0_off1356 i v5 v9 v13 v17 v21 v25 v29 v33 v37 v41 v45 v49 v53 v57 v61 v65 k0_t58) a + S1.size a ≤ S3.size a) ∧
  (∀ k0_t58 : Fin (k0_t58_loop i v5 v9 v13 v17 v21 v25 v29 v33 v37 v41 v45 v49 v53 v57 v61 v65).trips, (k0_t59_loop i v5 v9 v13 v17 v21 v25 v29 v33 v37 v41 v45 v49 v53 v57 v61 v65 k0_t58).OK) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1357 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1358 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1359 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1360 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1361 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1362 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1363 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1364 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1365 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1366 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1367 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1368 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1369 i v5 v9 v13 v17 v21 v25 v29 v33 v37 v41 v45 v49 v53 v57 v61 v65 k0_t58 k0_t59) a + S1x1x16.size a ≤ S96x1x512.size a)
def k0_chk1_44 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1370 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1371 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1372 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1373 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1374 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1375 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1376 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1377 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1378 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1379 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1380 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1381 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1382 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1383 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1384 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1385 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1386 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1387 i v5 v9 v13 v17 v21 v25 v29 v33 v37 v41 v45 v49 v53 v57 v61 v65 k0_t58 k0_t59) a + S1x1x16.size a ≤ S96x1x512.size a) ∧
  (∀ (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1388 i v5 v9 v13 v17 v21 v25 v29 v33 v37 v41 v45 v49 v53 v57 v61 v65 k0_t58 k0_t59) a + S1x1x16.size a ≤ S96x1x512.size a) ∧
  (∀ k0_t58 : Fin (k0_t58_loop i v5 v9 v13 v17 v21 v25 v29 v33 v37 v41 v45 v49 v53 v57 v61 v65).trips, (k0_t60_loop i v5 v9 v13 v17 v21 v25 v29 v33 v37 v41 v45 v49 v53 v57 v61 v65 k0_t58).OK) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1389 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1390 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1391 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1392 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1393 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1394 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1395 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1396 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1397 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1398 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1399 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1400 i v5 v9 v13 v17 v21 v25 v29 v33 v37 v41 v45 v49 v53 v57 v61 v65 k0_t58 k0_t60) a + S1x1x16.size a ≤ S96x1x512.size a)
def k0_chk1_45 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1401 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1402 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1403 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1404 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1405 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1406 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1407 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1408 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1409 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1410 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1411 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1412 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1413 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1414 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1415 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1416 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1417 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1418 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1419 i v5 v9 v13 v17 v21 v25 v29 v33 v37 v41 v45 v49 v53 v57 v61 v65 k0_t58 k0_t60) a + S1x1x16.size a ≤ S96x1x512.size a) ∧
  (∀ (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1420 i v5 v9 v13 v17 v21 v25 v29 v33 v37 v41 v45 v49 v53 v57 v61 v65 k0_t58 k0_t60) a + S1x1x16.size a ≤ S96x1x512.size a) ∧
  (∀ (k0_h41 : k0_cond41 i v5 v9 v13 v17 v21 v25 v29 v33 v37 v41 v45 v49 v53 v57 v61 v65 = 1#1), ∀ a, (k0_off1422 i v5 v9 v13 v17 v21 v25 v29 v33 v37 v41 v45 v49 v53 v57 v61 v65) a + S32x1x512.size a ≤ S2048x16x512.size a) ∧
  (∀ (k0_h42 : k0_cond42 i v5 v9 v13 v17 v21 v25 v29 v33 v37 v41 v45 v49 v53 v57 v61 v65 = 1#1), ∀ a, (k0_off1424 i v5 v9 v13 v17 v21 v25 v29 v33 v37 v41 v45 v49 v53 v57 v61 v65) a + S32x1x512.size a ≤ S2048x16x512.size a) ∧
  ((k0_t61_loop i v5 v9 v13 v17 v21 v25 v29 v33 v37 v41 v45 v49 v53 v57 v61 v65).OK) ∧
  (∀ k0_t61 : Fin (k0_t61_loop i v5 v9 v13 v17 v21 v25 v29 v33 v37 v41 v45 v49 v53 v57 v61 v65).trips, ∀ (k0_h43 : k0_cond43 i v5 v9 v13 v17 v21 v25 v29 v33 v37 v41 v45 v49 v53 v57 v61 v65 k0_t61 = 1#1), ∀ a, (k0_off1425 i v5 v9 v13 v17 v21 v25 v29 v33 v37 v41 v45 v49 v53 v57 v61 v65 k0_t61) a + S32x1x512.size a ≤ S96x1x512.size a) ∧
  (∀ k0_t61 : Fin (k0_t61_loop i v5 v9 v13 v17 v21 v25 v29 v33 v37 v41 v45 v49 v53 v57 v61 v65).trips, ∀ (k0_h43 : k0_cond43 i v5 v9 v13 v17 v21 v25 v29 v33 v37 v41 v45 v49 v53 v57 v61 v65 k0_t61 = 1#1), ∀ a, (k0_off1426 i v5 v9 v13 v17 v21 v25 v29 v33 v37 v41 v45 v49 v53 v57 v61 v65 k0_t61) a + S32x1x512.size a ≤ S2048x16x512.size a) ∧
  (∀ k0_t61 : Fin (k0_t61_loop i v5 v9 v13 v17 v21 v25 v29 v33 v37 v41 v45 v49 v53 v57 v61 v65).trips, ∀ (k0_h43 : k0_cond43 i v5 v9 v13 v17 v21 v25 v29 v33 v37 v41 v45 v49 v53 v57 v61 v65 k0_t61 = 1#1), ∀ a, (k0_off1427 i v5 v9 v13 v17 v21 v25 v29 v33 v37 v41 v45 v49 v53 v57 v61 v65 k0_t61) a + S1.size a ≤ S3.size a) ∧
  (∀ k0_t61 : Fin (k0_t61_loop i v5 v9 v13 v17 v21 v25 v29 v33 v37 v41 v45 v49 v53 v57 v61 v65).trips, ∀ a, (k0_off1428 i v5 v9 v13 v17 v21 v25 v29 v33 v37 v41 v45 v49 v53 v57 v61 v65 k0_t61) a + S32x1x512.size a ≤ S96x1x512.size a) ∧
  (∀ k0_t61 : Fin (k0_t61_loop i v5 v9 v13 v17 v21 v25 v29 v33 v37 v41 v45 v49 v53 v57 v61 v65).trips, ∀ a, (k0_off1429 i v5 v9 v13 v17 v21 v25 v29 v33 v37 v41 v45 v49 v53 v57 v61 v65 k0_t61) a + S1.size a ≤ S3.size a) ∧
  (∀ k0_t61 : Fin (k0_t61_loop i v5 v9 v13 v17 v21 v25 v29 v33 v37 v41 v45 v49 v53 v57 v61 v65).trips, (k0_t62_loop i v5 v9 v13 v17 v21 v25 v29 v33 v37 v41 v45 v49 v53 v57 v61 v65 k0_t61).OK) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1430 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1431 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1432 i v5 v9 v13 v17 v21 v25 v29 v33 v37 v41 v45 v49 v53 v57 v61 v65 k0_t61 k0_t62) a + S1x1x16.size a ≤ S96x1x512.size a)
def k0_chk1_46 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1433 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1434 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1435 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1436 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1437 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1438 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1439 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1440 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1441 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1442 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1443 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1444 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1445 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1446 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1447 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1448 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1449 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1450 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1451 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1452 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1453 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1454 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1455 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1456 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1457 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1458 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1459 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1460 i v5 v9 v13 v17 v21 v25 v29 v33 v37 v41 v45 v49 v53 v57 v61 v65 k0_t61 k0_t62) a + S1x1x16.size a ≤ S96x1x512.size a) ∧
  (∀ (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1461 i v5 v9 v13 v17 v21 v25 v29 v33 v37 v41 v45 v49 v53 v57 v61 v65 k0_t61 k0_t62) a + S1x1x16.size a ≤ S96x1x512.size a) ∧
  (∀ k0_t61 : Fin (k0_t61_loop i v5 v9 v13 v17 v21 v25 v29 v33 v37 v41 v45 v49 v53 v57 v61 v65).trips, (k0_t63_loop i v5 v9 v13 v17 v21 v25 v29 v33 v37 v41 v45 v49 v53 v57 v61 v65 k0_t61).OK) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1462 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1463 i v5 v9 v13 v17 v21 v25 v29 v33 v37 v41 v45 v49 v53 v57 v61 v65 k0_t61 k0_t63) a + S1x1x16.size a ≤ S96x1x512.size a)
def k0_chk1_47 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1464 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1465 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1466 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1467 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1468 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1469 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1470 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1471 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1472 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1473 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1474 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1475 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1476 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1477 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1478 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1479 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1480 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1481 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1482 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1483 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1484 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1485 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1486 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1487 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1488 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1489 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1490 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1491 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1492 i v5 v9 v13 v17 v21 v25 v29 v33 v37 v41 v45 v49 v53 v57 v61 v65 k0_t61 k0_t63) a + S1x1x16.size a ≤ S96x1x512.size a) ∧
  (∀ (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1493 i v5 v9 v13 v17 v21 v25 v29 v33 v37 v41 v45 v49 v53 v57 v61 v65 k0_t61 k0_t63) a + S1x1x16.size a ≤ S96x1x512.size a) ∧
  ((k0_t64_loop i v5 v9 v13 v17 v21 v25 v29 v33 v37 v41 v45 v49 v53 v57 v61 v65).OK) ∧
  (∀ k0_t64 : Fin (k0_t64_loop i v5 v9 v13 v17 v21 v25 v29 v33 v37 v41 v45 v49 v53 v57 v61 v65).trips, ∀ (k0_h44 : k0_cond44 i v5 v9 v13 v17 v21 v25 v29 v33 v37 v41 v45 v49 v53 v57 v61 v65 k0_t64 = 1#1), ∀ a, (k0_off1494 i v5 v9 v13 v17 v21 v25 v29 v33 v37 v41 v45 v49 v53 v57 v61 v65 k0_t64) a + S32x1x512.size a ≤ S96x1x512.size a)
def k0_chk1_48 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ k0_t64 : Fin (k0_t64_loop i v5 v9 v13 v17 v21 v25 v29 v33 v37 v41 v45 v49 v53 v57 v61 v65).trips, ∀ (k0_h44 : k0_cond44 i v5 v9 v13 v17 v21 v25 v29 v33 v37 v41 v45 v49 v53 v57 v61 v65 k0_t64 = 1#1), ∀ a, (k0_off1495 i v5 v9 v13 v17 v21 v25 v29 v33 v37 v41 v45 v49 v53 v57 v61 v65 k0_t64) a + S32x1x512.size a ≤ S2048x16x512.size a) ∧
  (∀ k0_t64 : Fin (k0_t64_loop i v5 v9 v13 v17 v21 v25 v29 v33 v37 v41 v45 v49 v53 v57 v61 v65).trips, ∀ (k0_h44 : k0_cond44 i v5 v9 v13 v17 v21 v25 v29 v33 v37 v41 v45 v49 v53 v57 v61 v65 k0_t64 = 1#1), ∀ a, (k0_off1496 i v5 v9 v13 v17 v21 v25 v29 v33 v37 v41 v45 v49 v53 v57 v61 v65 k0_t64) a + S1.size a ≤ S3.size a) ∧
  (∀ k0_t64 : Fin (k0_t64_loop i v5 v9 v13 v17 v21 v25 v29 v33 v37 v41 v45 v49 v53 v57 v61 v65).trips, ∀ a, (k0_off1497 i v5 v9 v13 v17 v21 v25 v29 v33 v37 v41 v45 v49 v53 v57 v61 v65 k0_t64) a + S32x1x512.size a ≤ S96x1x512.size a) ∧
  (∀ k0_t64 : Fin (k0_t64_loop i v5 v9 v13 v17 v21 v25 v29 v33 v37 v41 v45 v49 v53 v57 v61 v65).trips, ∀ a, (k0_off1498 i v5 v9 v13 v17 v21 v25 v29 v33 v37 v41 v45 v49 v53 v57 v61 v65 k0_t64) a + S1.size a ≤ S3.size a) ∧
  (∀ k0_t64 : Fin (k0_t64_loop i v5 v9 v13 v17 v21 v25 v29 v33 v37 v41 v45 v49 v53 v57 v61 v65).trips, (k0_t65_loop i v5 v9 v13 v17 v21 v25 v29 v33 v37 v41 v45 v49 v53 v57 v61 v65 k0_t64).OK) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1499 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1500 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1501 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1502 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1503 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1504 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1505 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1506 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1507 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1508 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1509 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1510 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1511 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1512 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1513 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1514 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1515 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1516 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1517 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1518 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1519 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1520 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1521 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1522 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1523 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1524 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1525 i v5 v9 v13 v17 v21 v25 v29 v33 v37 v41 v45 v49 v53 v57 v61 v65 k0_t64 k0_t65) a + S1x1x16.size a ≤ S96x1x512.size a)
def k0_chk1_49 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1526 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1527 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1528 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1529 i v5 v9 v13 v17 v21 v25 v29 v33 v37 v41 v45 v49 v53 v57 v61 v65 k0_t64 k0_t65) a + S1x1x16.size a ≤ S96x1x512.size a) ∧
  (∀ (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1530 i v5 v9 v13 v17 v21 v25 v29 v33 v37 v41 v45 v49 v53 v57 v61 v65 k0_t64 k0_t65) a + S1x1x16.size a ≤ S96x1x512.size a) ∧
  (∀ k0_t64 : Fin (k0_t64_loop i v5 v9 v13 v17 v21 v25 v29 v33 v37 v41 v45 v49 v53 v57 v61 v65).trips, (k0_t66_loop i v5 v9 v13 v17 v21 v25 v29 v33 v37 v41 v45 v49 v53 v57 v61 v65 k0_t64).OK) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1531 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1532 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1533 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1534 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1535 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1536 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1537 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1538 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1539 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1540 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1541 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1542 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1543 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1544 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1545 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1546 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1547 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1548 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1549 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1550 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1551 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1552 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1553 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1554 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1555 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1556 i v5 v9 v13 v17 v21 v25 v29 v33 v37 v41 v45 v49 v53 v57 v61 v65 k0_t64 k0_t66) a + S1x1x16.size a ≤ S96x1x512.size a)
def k0_chk1_50 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1557 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1558 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1559 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1560 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1561 i v5 v9 v13 v17 v21 v25 v29 v33 v37 v41 v45 v49 v53 v57 v61 v65 k0_t64 k0_t66) a + S1x1x16.size a ≤ S96x1x512.size a) ∧
  (∀ (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1562 i v5 v9 v13 v17 v21 v25 v29 v33 v37 v41 v45 v49 v53 v57 v61 v65 k0_t64 k0_t66) a + S1x1x16.size a ≤ S96x1x512.size a) ∧
  (∀ (k0_h45 : k0_cond45 i v5 v9 v13 v17 v21 v25 v29 v33 v37 v41 v45 v49 v53 v57 v61 v65 = 1#1), ∀ a, (k0_off1564 i v5 v9 v13 v17 v21 v25 v29 v33 v37 v41 v45 v49 v53 v57 v61 v65) a + S32x1x512.size a ≤ S2048x16x512.size a) ∧
  (∀ (k0_h46 : k0_cond46 i v5 v9 v13 v17 v21 v25 v29 v33 v37 v41 v45 v49 v53 v57 v61 v65 = 1#1), ∀ a, (k0_off1566 i v5 v9 v13 v17 v21 v25 v29 v33 v37 v41 v45 v49 v53 v57 v61 v65) a + S32x1x512.size a ≤ S2048x16x512.size a) ∧
  ((k0_t67_loop i v5 v9 v13 v17 v21 v25 v29 v33 v37 v41 v45 v49 v53 v57 v61 v65).OK) ∧
  (∀ k0_t67 : Fin (k0_t67_loop i v5 v9 v13 v17 v21 v25 v29 v33 v37 v41 v45 v49 v53 v57 v61 v65).trips, ∀ (k0_h47 : k0_cond47 i v5 v9 v13 v17 v21 v25 v29 v33 v37 v41 v45 v49 v53 v57 v61 v65 k0_t67 = 1#1), ∀ a, (k0_off1567 i v5 v9 v13 v17 v21 v25 v29 v33 v37 v41 v45 v49 v53 v57 v61 v65 k0_t67) a + S32x1x512.size a ≤ S96x1x512.size a) ∧
  (∀ k0_t67 : Fin (k0_t67_loop i v5 v9 v13 v17 v21 v25 v29 v33 v37 v41 v45 v49 v53 v57 v61 v65).trips, ∀ (k0_h47 : k0_cond47 i v5 v9 v13 v17 v21 v25 v29 v33 v37 v41 v45 v49 v53 v57 v61 v65 k0_t67 = 1#1), ∀ a, (k0_off1568 i v5 v9 v13 v17 v21 v25 v29 v33 v37 v41 v45 v49 v53 v57 v61 v65 k0_t67) a + S32x1x512.size a ≤ S2048x16x512.size a) ∧
  (∀ k0_t67 : Fin (k0_t67_loop i v5 v9 v13 v17 v21 v25 v29 v33 v37 v41 v45 v49 v53 v57 v61 v65).trips, ∀ (k0_h47 : k0_cond47 i v5 v9 v13 v17 v21 v25 v29 v33 v37 v41 v45 v49 v53 v57 v61 v65 k0_t67 = 1#1), ∀ a, (k0_off1569 i v5 v9 v13 v17 v21 v25 v29 v33 v37 v41 v45 v49 v53 v57 v61 v65 k0_t67) a + S1.size a ≤ S3.size a) ∧
  (∀ k0_t67 : Fin (k0_t67_loop i v5 v9 v13 v17 v21 v25 v29 v33 v37 v41 v45 v49 v53 v57 v61 v65).trips, ∀ a, (k0_off1570 i v5 v9 v13 v17 v21 v25 v29 v33 v37 v41 v45 v49 v53 v57 v61 v65 k0_t67) a + S32x1x512.size a ≤ S96x1x512.size a) ∧
  (∀ k0_t67 : Fin (k0_t67_loop i v5 v9 v13 v17 v21 v25 v29 v33 v37 v41 v45 v49 v53 v57 v61 v65).trips, ∀ a, (k0_off1571 i v5 v9 v13 v17 v21 v25 v29 v33 v37 v41 v45 v49 v53 v57 v61 v65 k0_t67) a + S1.size a ≤ S3.size a) ∧
  (∀ k0_t67 : Fin (k0_t67_loop i v5 v9 v13 v17 v21 v25 v29 v33 v37 v41 v45 v49 v53 v57 v61 v65).trips, (k0_t68_loop i v5 v9 v13 v17 v21 v25 v29 v33 v37 v41 v45 v49 v53 v57 v61 v65 k0_t67).OK) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1572 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1573 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1574 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1575 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1576 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1577 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1578 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1579 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1580 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1581 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1582 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1583 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1584 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1585 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1586 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1587 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1588 i v5 v9 v13 v17 v21 v25 v29 v33 v37 v41 v45 v49 v53 v57 v61 v65 k0_t67 k0_t68) a + S1x1x16.size a ≤ S96x1x512.size a)
def k0_chk1_51 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1589 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1590 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1591 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1592 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1593 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1594 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1595 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1596 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1597 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1598 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1599 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1600 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1601 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1602 i v5 v9 v13 v17 v21 v25 v29 v33 v37 v41 v45 v49 v53 v57 v61 v65 k0_t67 k0_t68) a + S1x1x16.size a ≤ S96x1x512.size a) ∧
  (∀ (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1603 i v5 v9 v13 v17 v21 v25 v29 v33 v37 v41 v45 v49 v53 v57 v61 v65 k0_t67 k0_t68) a + S1x1x16.size a ≤ S96x1x512.size a) ∧
  (∀ k0_t67 : Fin (k0_t67_loop i v5 v9 v13 v17 v21 v25 v29 v33 v37 v41 v45 v49 v53 v57 v61 v65).trips, (k0_t69_loop i v5 v9 v13 v17 v21 v25 v29 v33 v37 v41 v45 v49 v53 v57 v61 v65 k0_t67).OK) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1604 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1605 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1606 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1607 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1608 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1609 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1610 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1611 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1612 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1613 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1614 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1615 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1616 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1617 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1618 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1619 i v5 v9 v13 v17 v21 v25 v29 v33 v37 v41 v45 v49 v53 v57 v61 v65 k0_t67 k0_t69) a + S1x1x16.size a ≤ S96x1x512.size a)
def k0_chk1_52 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1620 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1621 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1622 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1623 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1624 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1625 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1626 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1627 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1628 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1629 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1630 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1631 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1632 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1633 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1634 i v5 v9 v13 v17 v21 v25 v29 v33 v37 v41 v45 v49 v53 v57 v61 v65 k0_t67 k0_t69) a + S1x1x16.size a ≤ S96x1x512.size a) ∧
  (∀ (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1635 i v5 v9 v13 v17 v21 v25 v29 v33 v37 v41 v45 v49 v53 v57 v61 v65 k0_t67 k0_t69) a + S1x1x16.size a ≤ S96x1x512.size a) ∧
  ((k0_t70_loop i v5 v9 v13 v17 v21 v25 v29 v33 v37 v41 v45 v49 v53 v57 v61 v65).OK) ∧
  (∀ k0_t70 : Fin (k0_t70_loop i v5 v9 v13 v17 v21 v25 v29 v33 v37 v41 v45 v49 v53 v57 v61 v65).trips, ∀ (k0_h48 : k0_cond48 i v5 v9 v13 v17 v21 v25 v29 v33 v37 v41 v45 v49 v53 v57 v61 v65 k0_t70 = 1#1), ∀ a, (k0_off1636 i v5 v9 v13 v17 v21 v25 v29 v33 v37 v41 v45 v49 v53 v57 v61 v65 k0_t70) a + S32x1x512.size a ≤ S96x1x512.size a) ∧
  (∀ k0_t70 : Fin (k0_t70_loop i v5 v9 v13 v17 v21 v25 v29 v33 v37 v41 v45 v49 v53 v57 v61 v65).trips, ∀ (k0_h48 : k0_cond48 i v5 v9 v13 v17 v21 v25 v29 v33 v37 v41 v45 v49 v53 v57 v61 v65 k0_t70 = 1#1), ∀ a, (k0_off1637 i v5 v9 v13 v17 v21 v25 v29 v33 v37 v41 v45 v49 v53 v57 v61 v65 k0_t70) a + S32x1x512.size a ≤ S2048x16x512.size a) ∧
  (∀ k0_t70 : Fin (k0_t70_loop i v5 v9 v13 v17 v21 v25 v29 v33 v37 v41 v45 v49 v53 v57 v61 v65).trips, ∀ (k0_h48 : k0_cond48 i v5 v9 v13 v17 v21 v25 v29 v33 v37 v41 v45 v49 v53 v57 v61 v65 k0_t70 = 1#1), ∀ a, (k0_off1638 i v5 v9 v13 v17 v21 v25 v29 v33 v37 v41 v45 v49 v53 v57 v61 v65 k0_t70) a + S1.size a ≤ S3.size a) ∧
  (∀ k0_t70 : Fin (k0_t70_loop i v5 v9 v13 v17 v21 v25 v29 v33 v37 v41 v45 v49 v53 v57 v61 v65).trips, ∀ a, (k0_off1639 i v5 v9 v13 v17 v21 v25 v29 v33 v37 v41 v45 v49 v53 v57 v61 v65 k0_t70) a + S32x1x512.size a ≤ S96x1x512.size a) ∧
  (∀ k0_t70 : Fin (k0_t70_loop i v5 v9 v13 v17 v21 v25 v29 v33 v37 v41 v45 v49 v53 v57 v61 v65).trips, ∀ a, (k0_off1640 i v5 v9 v13 v17 v21 v25 v29 v33 v37 v41 v45 v49 v53 v57 v61 v65 k0_t70) a + S1.size a ≤ S3.size a) ∧
  (∀ k0_t70 : Fin (k0_t70_loop i v5 v9 v13 v17 v21 v25 v29 v33 v37 v41 v45 v49 v53 v57 v61 v65).trips, (k0_t71_loop i v5 v9 v13 v17 v21 v25 v29 v33 v37 v41 v45 v49 v53 v57 v61 v65 k0_t70).OK) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1641 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1642 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1643 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1644 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1645 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1646 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1647 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1648 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1649 i v5 v9 v13 v17 v21 v25 v29 v33 v37 v41 v45 v49 v53 v57 v61 v65 k0_t70 k0_t71) a + S1x1x16.size a ≤ S96x1x512.size a)
def k0_chk1_53 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1650 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1651 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1652 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1653 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1654 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1655 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1656 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1657 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1658 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1659 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1660 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1661 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1662 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1663 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1664 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1665 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1666 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1667 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1668 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1669 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1670 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1671 i v5 v9 v13 v17 v21 v25 v29 v33 v37 v41 v45 v49 v53 v57 v61 v65 k0_t70 k0_t71) a + S1x1x16.size a ≤ S96x1x512.size a) ∧
  (∀ (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1672 i v5 v9 v13 v17 v21 v25 v29 v33 v37 v41 v45 v49 v53 v57 v61 v65 k0_t70 k0_t71) a + S1x1x16.size a ≤ S96x1x512.size a) ∧
  (∀ k0_t70 : Fin (k0_t70_loop i v5 v9 v13 v17 v21 v25 v29 v33 v37 v41 v45 v49 v53 v57 v61 v65).trips, (k0_t72_loop i v5 v9 v13 v17 v21 v25 v29 v33 v37 v41 v45 v49 v53 v57 v61 v65 k0_t70).OK) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1673 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1674 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1675 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1676 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1677 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1678 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1679 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1680 i v5 v9 v13 v17 v21 v25 v29 v33 v37 v41 v45 v49 v53 v57 v61 v65 k0_t70 k0_t72) a + S1x1x16.size a ≤ S96x1x512.size a)
def k0_chk1_54 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1681 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1682 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1683 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1684 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1685 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1686 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1687 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1688 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1689 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1690 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1691 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1692 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1693 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1694 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1695 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1696 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1697 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1698 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1699 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1700 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1701 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1702 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1703 i v5 v9 v13 v17 v21 v25 v29 v33 v37 v41 v45 v49 v53 v57 v61 v65 k0_t70 k0_t72) a + S1x1x16.size a ≤ S96x1x512.size a) ∧
  (∀ (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1704 i v5 v9 v13 v17 v21 v25 v29 v33 v37 v41 v45 v49 v53 v57 v61 v65 k0_t70 k0_t72) a + S1x1x16.size a ≤ S96x1x512.size a) ∧
  (∀ (k0_h49 : k0_cond49 i v5 v9 v13 v17 v21 v25 v29 v33 v37 v41 v45 v49 v53 v57 v61 v65 = 1#1), ∀ a, (k0_off1706 i v5 v9 v13 v17 v21 v25 v29 v33 v37 v41 v45 v49 v53 v57 v61 v65) a + S32x1x512.size a ≤ S2048x16x512.size a) ∧
  (∀ (k0_h50 : k0_cond50 i v5 v9 v13 v17 v21 v25 v29 v33 v37 v41 v45 v49 v53 v57 v61 v65 = 1#1), ∀ a, (k0_off1708 i v5 v9 v13 v17 v21 v25 v29 v33 v37 v41 v45 v49 v53 v57 v61 v65) a + S32x1x512.size a ≤ S2048x16x512.size a) ∧
  ((k0_t73_loop i v5 v9 v13 v17 v21 v25 v29 v33 v37 v41 v45 v49 v53 v57 v61 v65).OK) ∧
  (∀ k0_t73 : Fin (k0_t73_loop i v5 v9 v13 v17 v21 v25 v29 v33 v37 v41 v45 v49 v53 v57 v61 v65).trips, ∀ (k0_h51 : k0_cond51 i v5 v9 v13 v17 v21 v25 v29 v33 v37 v41 v45 v49 v53 v57 v61 v65 k0_t73 = 1#1), ∀ a, (k0_off1709 i v5 v9 v13 v17 v21 v25 v29 v33 v37 v41 v45 v49 v53 v57 v61 v65 k0_t73) a + S32x1x512.size a ≤ S96x1x512.size a) ∧
  (∀ k0_t73 : Fin (k0_t73_loop i v5 v9 v13 v17 v21 v25 v29 v33 v37 v41 v45 v49 v53 v57 v61 v65).trips, ∀ (k0_h51 : k0_cond51 i v5 v9 v13 v17 v21 v25 v29 v33 v37 v41 v45 v49 v53 v57 v61 v65 k0_t73 = 1#1), ∀ a, (k0_off1710 i v5 v9 v13 v17 v21 v25 v29 v33 v37 v41 v45 v49 v53 v57 v61 v65 k0_t73) a + S32x1x512.size a ≤ S2048x16x512.size a) ∧
  (∀ k0_t73 : Fin (k0_t73_loop i v5 v9 v13 v17 v21 v25 v29 v33 v37 v41 v45 v49 v53 v57 v61 v65).trips, ∀ (k0_h51 : k0_cond51 i v5 v9 v13 v17 v21 v25 v29 v33 v37 v41 v45 v49 v53 v57 v61 v65 k0_t73 = 1#1), ∀ a, (k0_off1711 i v5 v9 v13 v17 v21 v25 v29 v33 v37 v41 v45 v49 v53 v57 v61 v65 k0_t73) a + S1.size a ≤ S3.size a) ∧
  (∀ k0_t73 : Fin (k0_t73_loop i v5 v9 v13 v17 v21 v25 v29 v33 v37 v41 v45 v49 v53 v57 v61 v65).trips, ∀ a, (k0_off1712 i v5 v9 v13 v17 v21 v25 v29 v33 v37 v41 v45 v49 v53 v57 v61 v65 k0_t73) a + S32x1x512.size a ≤ S96x1x512.size a) ∧
  (∀ k0_t73 : Fin (k0_t73_loop i v5 v9 v13 v17 v21 v25 v29 v33 v37 v41 v45 v49 v53 v57 v61 v65).trips, ∀ a, (k0_off1713 i v5 v9 v13 v17 v21 v25 v29 v33 v37 v41 v45 v49 v53 v57 v61 v65 k0_t73) a + S1.size a ≤ S3.size a)
def k0_chk1_55 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ k0_t73 : Fin (k0_t73_loop i v5 v9 v13 v17 v21 v25 v29 v33 v37 v41 v45 v49 v53 v57 v61 v65).trips, (k0_t74_loop i v5 v9 v13 v17 v21 v25 v29 v33 v37 v41 v45 v49 v53 v57 v61 v65 k0_t73).OK) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1714 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1715 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1716 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1717 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1718 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1719 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1720 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1721 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1722 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1723 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1724 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1725 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1726 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1727 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1728 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1729 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1730 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1731 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1732 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1733 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1734 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1735 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1736 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1737 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1738 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1739 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1740 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1741 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1742 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1743 i v5 v9 v13 v17 v21 v25 v29 v33 v37 v41 v45 v49 v53 v57 v61 v65 k0_t73 k0_t74) a + S1x1x16.size a ≤ S96x1x512.size a) ∧
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1744 i v5 v9 v13 v17 v21 v25 v29 v33 v37 v41 v45 v49 v53 v57 v61 v65 k0_t73 k0_t74) a + S1x1x16.size a ≤ S96x1x512.size a)
def k0_chk1_56 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1745 i v5 v9 v13 v17 v21 v25 v29 v33 v37 v41 v45 v49 v53 v57 v61 v65 k0_t73 k0_t74) a + S1x1x16.size a ≤ S96x1x512.size a) ∧
  (∀ k0_t73 : Fin (k0_t73_loop i v5 v9 v13 v17 v21 v25 v29 v33 v37 v41 v45 v49 v53 v57 v61 v65).trips, (k0_t75_loop i v5 v9 v13 v17 v21 v25 v29 v33 v37 v41 v45 v49 v53 v57 v61 v65 k0_t73).OK) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1746 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1747 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1748 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1749 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1750 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1751 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1752 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1753 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1754 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1755 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1756 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1757 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1758 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1759 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1760 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1761 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1762 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1763 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1764 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1765 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1766 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1767 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1768 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1769 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1770 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1771 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1772 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1773 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1774 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1775 i v5 v9 v13 v17 v21 v25 v29 v33 v37 v41 v45 v49 v53 v57 v61 v65 k0_t73 k0_t75) a + S1x1x16.size a ≤ S96x1x512.size a)
def k0_chk1_57 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1776 i v5 v9 v13 v17 v21 v25 v29 v33 v37 v41 v45 v49 v53 v57 v61 v65 k0_t73 k0_t75) a + S1x1x16.size a ≤ S96x1x512.size a) ∧
  (∀ (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1777 i v5 v9 v13 v17 v21 v25 v29 v33 v37 v41 v45 v49 v53 v57 v61 v65 k0_t73 k0_t75) a + S1x1x16.size a ≤ S96x1x512.size a) ∧
  ((k0_t76_loop i v5 v9 v13 v17 v21 v25 v29 v33 v37 v41 v45 v49 v53 v57 v61 v65).OK) ∧
  (∀ k0_t76 : Fin (k0_t76_loop i v5 v9 v13 v17 v21 v25 v29 v33 v37 v41 v45 v49 v53 v57 v61 v65).trips, ∀ (k0_h52 : k0_cond52 i v5 v9 v13 v17 v21 v25 v29 v33 v37 v41 v45 v49 v53 v57 v61 v65 k0_t76 = 1#1), ∀ a, (k0_off1778 i v5 v9 v13 v17 v21 v25 v29 v33 v37 v41 v45 v49 v53 v57 v61 v65 k0_t76) a + S32x1x512.size a ≤ S96x1x512.size a) ∧
  (∀ k0_t76 : Fin (k0_t76_loop i v5 v9 v13 v17 v21 v25 v29 v33 v37 v41 v45 v49 v53 v57 v61 v65).trips, ∀ (k0_h52 : k0_cond52 i v5 v9 v13 v17 v21 v25 v29 v33 v37 v41 v45 v49 v53 v57 v61 v65 k0_t76 = 1#1), ∀ a, (k0_off1779 i v5 v9 v13 v17 v21 v25 v29 v33 v37 v41 v45 v49 v53 v57 v61 v65 k0_t76) a + S32x1x512.size a ≤ S2048x16x512.size a) ∧
  (∀ k0_t76 : Fin (k0_t76_loop i v5 v9 v13 v17 v21 v25 v29 v33 v37 v41 v45 v49 v53 v57 v61 v65).trips, ∀ (k0_h52 : k0_cond52 i v5 v9 v13 v17 v21 v25 v29 v33 v37 v41 v45 v49 v53 v57 v61 v65 k0_t76 = 1#1), ∀ a, (k0_off1780 i v5 v9 v13 v17 v21 v25 v29 v33 v37 v41 v45 v49 v53 v57 v61 v65 k0_t76) a + S1.size a ≤ S3.size a) ∧
  (∀ k0_t76 : Fin (k0_t76_loop i v5 v9 v13 v17 v21 v25 v29 v33 v37 v41 v45 v49 v53 v57 v61 v65).trips, ∀ a, (k0_off1781 i v5 v9 v13 v17 v21 v25 v29 v33 v37 v41 v45 v49 v53 v57 v61 v65 k0_t76) a + S32x1x512.size a ≤ S96x1x512.size a) ∧
  (∀ k0_t76 : Fin (k0_t76_loop i v5 v9 v13 v17 v21 v25 v29 v33 v37 v41 v45 v49 v53 v57 v61 v65).trips, ∀ a, (k0_off1782 i v5 v9 v13 v17 v21 v25 v29 v33 v37 v41 v45 v49 v53 v57 v61 v65 k0_t76) a + S1.size a ≤ S3.size a) ∧
  (∀ k0_t76 : Fin (k0_t76_loop i v5 v9 v13 v17 v21 v25 v29 v33 v37 v41 v45 v49 v53 v57 v61 v65).trips, (k0_t77_loop i v5 v9 v13 v17 v21 v25 v29 v33 v37 v41 v45 v49 v53 v57 v61 v65 k0_t76).OK) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1783 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1784 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1785 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1786 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1787 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1788 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1789 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1790 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1791 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1792 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1793 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1794 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1795 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1796 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1797 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1798 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1799 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1800 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1801 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1802 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1803 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1804 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1805 i v5 v9 v13 v17 v21 v25 v29 v33 v37 v41 v45 v49 v53 v57 v61 v65 k0_t76 k0_t77) a + S1x1x16.size a ≤ S96x1x512.size a)
def k0_chk1_58 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1806 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1807 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1808 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1809 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1810 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1811 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1812 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1813 i v5 v9 v13 v17 v21 v25 v29 v33 v37 v41 v45 v49 v53 v57 v61 v65 k0_t76 k0_t77) a + S1x1x16.size a ≤ S96x1x512.size a) ∧
  (∀ (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1814 i v5 v9 v13 v17 v21 v25 v29 v33 v37 v41 v45 v49 v53 v57 v61 v65 k0_t76 k0_t77) a + S1x1x16.size a ≤ S96x1x512.size a) ∧
  (∀ k0_t76 : Fin (k0_t76_loop i v5 v9 v13 v17 v21 v25 v29 v33 v37 v41 v45 v49 v53 v57 v61 v65).trips, (k0_t78_loop i v5 v9 v13 v17 v21 v25 v29 v33 v37 v41 v45 v49 v53 v57 v61 v65 k0_t76).OK) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1815 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1816 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1817 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1818 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1819 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1820 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1821 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1822 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1823 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1824 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1825 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1826 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1827 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1828 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1829 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1830 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1831 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1832 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1833 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1834 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1835 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1836 i v5 v9 v13 v17 v21 v25 v29 v33 v37 v41 v45 v49 v53 v57 v61 v65 k0_t76 k0_t78) a + S1x1x16.size a ≤ S96x1x512.size a)
def k0_chk1_59 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1837 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1838 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1839 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1840 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1841 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1842 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1843 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1844 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1845 i v5 v9 v13 v17 v21 v25 v29 v33 v37 v41 v45 v49 v53 v57 v61 v65 k0_t76 k0_t78) a + S1x1x16.size a ≤ S96x1x512.size a) ∧
  (∀ (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1846 i v5 v9 v13 v17 v21 v25 v29 v33 v37 v41 v45 v49 v53 v57 v61 v65 k0_t76 k0_t78) a + S1x1x16.size a ≤ S96x1x512.size a) ∧
  (∀ (k0_h53 : k0_cond53 i v5 v9 v13 v17 v21 v25 v29 v33 v37 v41 v45 v49 v53 v57 v61 v65 = 1#1), ∀ a, (k0_off1848 i v5 v9 v13 v17 v21 v25 v29 v33 v37 v41 v45 v49 v53 v57 v61 v65) a + S32x1x512.size a ≤ S2048x16x512.size a) ∧
  (∀ (k0_h54 : k0_cond54 i v5 v9 v13 v17 v21 v25 v29 v33 v37 v41 v45 v49 v53 v57 v61 v65 = 1#1), ∀ a, (k0_off1850 i v5 v9 v13 v17 v21 v25 v29 v33 v37 v41 v45 v49 v53 v57 v61 v65) a + S32x1x512.size a ≤ S2048x16x512.size a) ∧
  ((k0_t79_loop i v5 v9 v13 v17 v21 v25 v29 v33 v37 v41 v45 v49 v53 v57 v61 v65).OK) ∧
  (∀ k0_t79 : Fin (k0_t79_loop i v5 v9 v13 v17 v21 v25 v29 v33 v37 v41 v45 v49 v53 v57 v61 v65).trips, ∀ (k0_h55 : k0_cond55 i v5 v9 v13 v17 v21 v25 v29 v33 v37 v41 v45 v49 v53 v57 v61 v65 k0_t79 = 1#1), ∀ a, (k0_off1851 i v5 v9 v13 v17 v21 v25 v29 v33 v37 v41 v45 v49 v53 v57 v61 v65 k0_t79) a + S32x1x512.size a ≤ S96x1x512.size a) ∧
  (∀ k0_t79 : Fin (k0_t79_loop i v5 v9 v13 v17 v21 v25 v29 v33 v37 v41 v45 v49 v53 v57 v61 v65).trips, ∀ (k0_h55 : k0_cond55 i v5 v9 v13 v17 v21 v25 v29 v33 v37 v41 v45 v49 v53 v57 v61 v65 k0_t79 = 1#1), ∀ a, (k0_off1852 i v5 v9 v13 v17 v21 v25 v29 v33 v37 v41 v45 v49 v53 v57 v61 v65 k0_t79) a + S32x1x512.size a ≤ S2048x16x512.size a) ∧
  (∀ k0_t79 : Fin (k0_t79_loop i v5 v9 v13 v17 v21 v25 v29 v33 v37 v41 v45 v49 v53 v57 v61 v65).trips, ∀ (k0_h55 : k0_cond55 i v5 v9 v13 v17 v21 v25 v29 v33 v37 v41 v45 v49 v53 v57 v61 v65 k0_t79 = 1#1), ∀ a, (k0_off1853 i v5 v9 v13 v17 v21 v25 v29 v33 v37 v41 v45 v49 v53 v57 v61 v65 k0_t79) a + S1.size a ≤ S3.size a) ∧
  (∀ k0_t79 : Fin (k0_t79_loop i v5 v9 v13 v17 v21 v25 v29 v33 v37 v41 v45 v49 v53 v57 v61 v65).trips, ∀ a, (k0_off1854 i v5 v9 v13 v17 v21 v25 v29 v33 v37 v41 v45 v49 v53 v57 v61 v65 k0_t79) a + S32x1x512.size a ≤ S96x1x512.size a) ∧
  (∀ k0_t79 : Fin (k0_t79_loop i v5 v9 v13 v17 v21 v25 v29 v33 v37 v41 v45 v49 v53 v57 v61 v65).trips, ∀ a, (k0_off1855 i v5 v9 v13 v17 v21 v25 v29 v33 v37 v41 v45 v49 v53 v57 v61 v65 k0_t79) a + S1.size a ≤ S3.size a) ∧
  (∀ k0_t79 : Fin (k0_t79_loop i v5 v9 v13 v17 v21 v25 v29 v33 v37 v41 v45 v49 v53 v57 v61 v65).trips, (k0_t80_loop i v5 v9 v13 v17 v21 v25 v29 v33 v37 v41 v45 v49 v53 v57 v61 v65 k0_t79).OK) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1856 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1857 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1858 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1859 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1860 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1861 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1862 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1863 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1864 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1865 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1866 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1867 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1868 i v5 v9 v13 v17 v21 v25 v29 v33 v37 v41 v45 v49 v53 v57 v61 v65 k0_t79 k0_t80) a + S1x1x16.size a ≤ S96x1x512.size a)
def k0_chk1_60 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1869 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1870 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1871 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1872 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1873 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1874 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1875 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1876 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1877 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1878 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1879 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1880 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1881 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1882 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1883 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1884 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1885 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1886 i v5 v9 v13 v17 v21 v25 v29 v33 v37 v41 v45 v49 v53 v57 v61 v65 k0_t79 k0_t80) a + S1x1x16.size a ≤ S96x1x512.size a) ∧
  (∀ (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1887 i v5 v9 v13 v17 v21 v25 v29 v33 v37 v41 v45 v49 v53 v57 v61 v65 k0_t79 k0_t80) a + S1x1x16.size a ≤ S96x1x512.size a) ∧
  (∀ k0_t79 : Fin (k0_t79_loop i v5 v9 v13 v17 v21 v25 v29 v33 v37 v41 v45 v49 v53 v57 v61 v65).trips, (k0_t81_loop i v5 v9 v13 v17 v21 v25 v29 v33 v37 v41 v45 v49 v53 v57 v61 v65 k0_t79).OK) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1888 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1889 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1890 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1891 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1892 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1893 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1894 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1895 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1896 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1897 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1898 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1899 i v5 v9 v13 v17 v21 v25 v29 v33 v37 v41 v45 v49 v53 v57 v61 v65 k0_t79 k0_t81) a + S1x1x16.size a ≤ S96x1x512.size a)
def k0_chk1_61 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1900 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1901 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1902 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1903 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1904 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1905 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1906 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1907 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1908 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1909 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1910 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1911 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1912 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1913 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1914 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1915 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1916 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1917 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1918 i v5 v9 v13 v17 v21 v25 v29 v33 v37 v41 v45 v49 v53 v57 v61 v65 k0_t79 k0_t81) a + S1x1x16.size a ≤ S96x1x512.size a) ∧
  (∀ (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1919 i v5 v9 v13 v17 v21 v25 v29 v33 v37 v41 v45 v49 v53 v57 v61 v65 k0_t79 k0_t81) a + S1x1x16.size a ≤ S96x1x512.size a) ∧
  ((k0_t82_loop i v5 v9 v13 v17 v21 v25 v29 v33 v37 v41 v45 v49 v53 v57 v61 v65).OK) ∧
  (∀ k0_t82 : Fin (k0_t82_loop i v5 v9 v13 v17 v21 v25 v29 v33 v37 v41 v45 v49 v53 v57 v61 v65).trips, ∀ (k0_h56 : k0_cond56 i v5 v9 v13 v17 v21 v25 v29 v33 v37 v41 v45 v49 v53 v57 v61 v65 k0_t82 = 1#1), ∀ a, (k0_off1920 i v5 v9 v13 v17 v21 v25 v29 v33 v37 v41 v45 v49 v53 v57 v61 v65 k0_t82) a + S32x1x512.size a ≤ S96x1x512.size a) ∧
  (∀ k0_t82 : Fin (k0_t82_loop i v5 v9 v13 v17 v21 v25 v29 v33 v37 v41 v45 v49 v53 v57 v61 v65).trips, ∀ (k0_h56 : k0_cond56 i v5 v9 v13 v17 v21 v25 v29 v33 v37 v41 v45 v49 v53 v57 v61 v65 k0_t82 = 1#1), ∀ a, (k0_off1921 i v5 v9 v13 v17 v21 v25 v29 v33 v37 v41 v45 v49 v53 v57 v61 v65 k0_t82) a + S32x1x512.size a ≤ S2048x16x512.size a) ∧
  (∀ k0_t82 : Fin (k0_t82_loop i v5 v9 v13 v17 v21 v25 v29 v33 v37 v41 v45 v49 v53 v57 v61 v65).trips, ∀ (k0_h56 : k0_cond56 i v5 v9 v13 v17 v21 v25 v29 v33 v37 v41 v45 v49 v53 v57 v61 v65 k0_t82 = 1#1), ∀ a, (k0_off1922 i v5 v9 v13 v17 v21 v25 v29 v33 v37 v41 v45 v49 v53 v57 v61 v65 k0_t82) a + S1.size a ≤ S3.size a) ∧
  (∀ k0_t82 : Fin (k0_t82_loop i v5 v9 v13 v17 v21 v25 v29 v33 v37 v41 v45 v49 v53 v57 v61 v65).trips, ∀ a, (k0_off1923 i v5 v9 v13 v17 v21 v25 v29 v33 v37 v41 v45 v49 v53 v57 v61 v65 k0_t82) a + S32x1x512.size a ≤ S96x1x512.size a) ∧
  (∀ k0_t82 : Fin (k0_t82_loop i v5 v9 v13 v17 v21 v25 v29 v33 v37 v41 v45 v49 v53 v57 v61 v65).trips, ∀ a, (k0_off1924 i v5 v9 v13 v17 v21 v25 v29 v33 v37 v41 v45 v49 v53 v57 v61 v65 k0_t82) a + S1.size a ≤ S3.size a) ∧
  (∀ k0_t82 : Fin (k0_t82_loop i v5 v9 v13 v17 v21 v25 v29 v33 v37 v41 v45 v49 v53 v57 v61 v65).trips, (k0_t83_loop i v5 v9 v13 v17 v21 v25 v29 v33 v37 v41 v45 v49 v53 v57 v61 v65 k0_t82).OK) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1925 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1926 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1927 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1928 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1929 i v5 v9 v13 v17 v21 v25 v29 v33 v37 v41 v45 v49 v53 v57 v61 v65 k0_t82 k0_t83) a + S1x1x16.size a ≤ S96x1x512.size a)
def k0_chk1_62 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1930 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1931 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1932 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1933 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1934 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1935 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1936 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1937 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1938 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1939 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1940 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1941 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1942 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1943 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1944 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1945 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1946 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1947 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1948 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1949 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1950 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1951 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1952 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1953 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1954 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1955 i v5 v9 v13 v17 v21 v25 v29 v33 v37 v41 v45 v49 v53 v57 v61 v65 k0_t82 k0_t83) a + S1x1x16.size a ≤ S96x1x512.size a) ∧
  (∀ (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1956 i v5 v9 v13 v17 v21 v25 v29 v33 v37 v41 v45 v49 v53 v57 v61 v65 k0_t82 k0_t83) a + S1x1x16.size a ≤ S96x1x512.size a) ∧
  (∀ k0_t82 : Fin (k0_t82_loop i v5 v9 v13 v17 v21 v25 v29 v33 v37 v41 v45 v49 v53 v57 v61 v65).trips, (k0_t84_loop i v5 v9 v13 v17 v21 v25 v29 v33 v37 v41 v45 v49 v53 v57 v61 v65 k0_t82).OK) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1957 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1958 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1959 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1960 i v5 v9 v13 v17 v21 v25 v29 v33 v37 v41 v45 v49 v53 v57 v61 v65 k0_t82 k0_t84) a + S1x1x16.size a ≤ S96x1x512.size a)
def k0_chk1_63 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1961 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1962 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1963 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1964 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1965 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1966 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1967 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1968 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1969 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1970 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1971 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1972 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1973 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1974 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1975 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1976 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1977 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1978 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1979 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1980 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1981 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1982 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1983 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1984 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1985 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1986 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1987 i v5 v9 v13 v17 v21 v25 v29 v33 v37 v41 v45 v49 v53 v57 v61 v65 k0_t82 k0_t84) a + S1x1x16.size a ≤ S96x1x512.size a) ∧
  (∀ (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1988 i v5 v9 v13 v17 v21 v25 v29 v33 v37 v41 v45 v49 v53 v57 v61 v65 k0_t82 k0_t84) a + S1x1x16.size a ≤ S96x1x512.size a) ∧
  (∀ (k0_h57 : k0_cond57 i v5 v9 v13 v17 v21 v25 v29 v33 v37 v41 v45 v49 v53 v57 v61 v65 = 1#1), ∀ a, (k0_off1990 i v5 v9 v13 v17 v21 v25 v29 v33 v37 v41 v45 v49 v53 v57 v61 v65) a + S32x1x512.size a ≤ S2048x16x512.size a) ∧
  (∀ (k0_h58 : k0_cond58 i v5 v9 v13 v17 v21 v25 v29 v33 v37 v41 v45 v49 v53 v57 v61 v65 = 1#1), ∀ a, (k0_off1992 i v5 v9 v13 v17 v21 v25 v29 v33 v37 v41 v45 v49 v53 v57 v61 v65) a + S32x1x512.size a ≤ S2048x16x512.size a) ∧
  ((k0_t85_loop i v5 v9 v13 v17 v21 v25 v29 v33 v37 v41 v45 v49 v53 v57 v61 v65).OK) ∧
  (∀ k0_t85 : Fin (k0_t85_loop i v5 v9 v13 v17 v21 v25 v29 v33 v37 v41 v45 v49 v53 v57 v61 v65).trips, ∀ (k0_h59 : k0_cond59 i v5 v9 v13 v17 v21 v25 v29 v33 v37 v41 v45 v49 v53 v57 v61 v65 k0_t85 = 1#1), ∀ a, (k0_off1993 i v5 v9 v13 v17 v21 v25 v29 v33 v37 v41 v45 v49 v53 v57 v61 v65 k0_t85) a + S32x1x512.size a ≤ S96x1x512.size a)
def k0_chk1_64 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ k0_t85 : Fin (k0_t85_loop i v5 v9 v13 v17 v21 v25 v29 v33 v37 v41 v45 v49 v53 v57 v61 v65).trips, ∀ (k0_h59 : k0_cond59 i v5 v9 v13 v17 v21 v25 v29 v33 v37 v41 v45 v49 v53 v57 v61 v65 k0_t85 = 1#1), ∀ a, (k0_off1994 i v5 v9 v13 v17 v21 v25 v29 v33 v37 v41 v45 v49 v53 v57 v61 v65 k0_t85) a + S32x1x512.size a ≤ S2048x16x512.size a) ∧
  (∀ k0_t85 : Fin (k0_t85_loop i v5 v9 v13 v17 v21 v25 v29 v33 v37 v41 v45 v49 v53 v57 v61 v65).trips, ∀ (k0_h59 : k0_cond59 i v5 v9 v13 v17 v21 v25 v29 v33 v37 v41 v45 v49 v53 v57 v61 v65 k0_t85 = 1#1), ∀ a, (k0_off1995 i v5 v9 v13 v17 v21 v25 v29 v33 v37 v41 v45 v49 v53 v57 v61 v65 k0_t85) a + S1.size a ≤ S3.size a) ∧
  (∀ k0_t85 : Fin (k0_t85_loop i v5 v9 v13 v17 v21 v25 v29 v33 v37 v41 v45 v49 v53 v57 v61 v65).trips, ∀ a, (k0_off1996 i v5 v9 v13 v17 v21 v25 v29 v33 v37 v41 v45 v49 v53 v57 v61 v65 k0_t85) a + S32x1x512.size a ≤ S96x1x512.size a) ∧
  (∀ k0_t85 : Fin (k0_t85_loop i v5 v9 v13 v17 v21 v25 v29 v33 v37 v41 v45 v49 v53 v57 v61 v65).trips, ∀ a, (k0_off1997 i v5 v9 v13 v17 v21 v25 v29 v33 v37 v41 v45 v49 v53 v57 v61 v65 k0_t85) a + S1.size a ≤ S3.size a) ∧
  (∀ k0_t85 : Fin (k0_t85_loop i v5 v9 v13 v17 v21 v25 v29 v33 v37 v41 v45 v49 v53 v57 v61 v65).trips, (k0_t86_loop i v5 v9 v13 v17 v21 v25 v29 v33 v37 v41 v45 v49 v53 v57 v61 v65 k0_t85).OK) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off1998 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off1999 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2000 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2001 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2002 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2003 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2004 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2005 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2006 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2007 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2008 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2009 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2010 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2011 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2012 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2013 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2014 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2015 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2016 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2017 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2018 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2019 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2020 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2021 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2022 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2023 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2024 i v5 v9 v13 v17 v21 v25 v29 v33 v37 v41 v45 v49 v53 v57 v61 v65 k0_t85 k0_t86) a + S1x1x16.size a ≤ S96x1x512.size a)
def k0_chk1_65 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2025 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2026 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2027 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2028 i v5 v9 v13 v17 v21 v25 v29 v33 v37 v41 v45 v49 v53 v57 v61 v65 k0_t85 k0_t86) a + S1x1x16.size a ≤ S96x1x512.size a) ∧
  (∀ (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2029 i v5 v9 v13 v17 v21 v25 v29 v33 v37 v41 v45 v49 v53 v57 v61 v65 k0_t85 k0_t86) a + S1x1x16.size a ≤ S96x1x512.size a) ∧
  (∀ k0_t85 : Fin (k0_t85_loop i v5 v9 v13 v17 v21 v25 v29 v33 v37 v41 v45 v49 v53 v57 v61 v65).trips, (k0_t87_loop i v5 v9 v13 v17 v21 v25 v29 v33 v37 v41 v45 v49 v53 v57 v61 v65 k0_t85).OK) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2030 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2031 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2032 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2033 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2034 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2035 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2036 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2037 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2038 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2039 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2040 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2041 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2042 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2043 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2044 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2045 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2046 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2047 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2048 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2049 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2050 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2051 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2052 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2053 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2054 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2055 i v5 v9 v13 v17 v21 v25 v29 v33 v37 v41 v45 v49 v53 v57 v61 v65 k0_t85 k0_t87) a + S1x1x16.size a ≤ S96x1x512.size a)
def k0_chk1_66 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2056 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2057 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2058 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2059 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2060 i v5 v9 v13 v17 v21 v25 v29 v33 v37 v41 v45 v49 v53 v57 v61 v65 k0_t85 k0_t87) a + S1x1x16.size a ≤ S96x1x512.size a) ∧
  (∀ (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2061 i v5 v9 v13 v17 v21 v25 v29 v33 v37 v41 v45 v49 v53 v57 v61 v65 k0_t85 k0_t87) a + S1x1x16.size a ≤ S96x1x512.size a) ∧
  ((k0_t88_loop i v5 v9 v13 v17 v21 v25 v29 v33 v37 v41 v45 v49 v53 v57 v61 v65).OK) ∧
  (∀ k0_t88 : Fin (k0_t88_loop i v5 v9 v13 v17 v21 v25 v29 v33 v37 v41 v45 v49 v53 v57 v61 v65).trips, ∀ (k0_h60 : k0_cond60 i v5 v9 v13 v17 v21 v25 v29 v33 v37 v41 v45 v49 v53 v57 v61 v65 k0_t88 = 1#1), ∀ a, (k0_off2062 i v5 v9 v13 v17 v21 v25 v29 v33 v37 v41 v45 v49 v53 v57 v61 v65 k0_t88) a + S32x1x512.size a ≤ S96x1x512.size a) ∧
  (∀ k0_t88 : Fin (k0_t88_loop i v5 v9 v13 v17 v21 v25 v29 v33 v37 v41 v45 v49 v53 v57 v61 v65).trips, ∀ (k0_h60 : k0_cond60 i v5 v9 v13 v17 v21 v25 v29 v33 v37 v41 v45 v49 v53 v57 v61 v65 k0_t88 = 1#1), ∀ a, (k0_off2063 i v5 v9 v13 v17 v21 v25 v29 v33 v37 v41 v45 v49 v53 v57 v61 v65 k0_t88) a + S32x1x512.size a ≤ S2048x16x512.size a) ∧
  (∀ k0_t88 : Fin (k0_t88_loop i v5 v9 v13 v17 v21 v25 v29 v33 v37 v41 v45 v49 v53 v57 v61 v65).trips, ∀ (k0_h60 : k0_cond60 i v5 v9 v13 v17 v21 v25 v29 v33 v37 v41 v45 v49 v53 v57 v61 v65 k0_t88 = 1#1), ∀ a, (k0_off2064 i v5 v9 v13 v17 v21 v25 v29 v33 v37 v41 v45 v49 v53 v57 v61 v65 k0_t88) a + S1.size a ≤ S3.size a) ∧
  (∀ k0_t88 : Fin (k0_t88_loop i v5 v9 v13 v17 v21 v25 v29 v33 v37 v41 v45 v49 v53 v57 v61 v65).trips, ∀ a, (k0_off2065 i v5 v9 v13 v17 v21 v25 v29 v33 v37 v41 v45 v49 v53 v57 v61 v65 k0_t88) a + S32x1x512.size a ≤ S96x1x512.size a) ∧
  (∀ k0_t88 : Fin (k0_t88_loop i v5 v9 v13 v17 v21 v25 v29 v33 v37 v41 v45 v49 v53 v57 v61 v65).trips, ∀ a, (k0_off2066 i v5 v9 v13 v17 v21 v25 v29 v33 v37 v41 v45 v49 v53 v57 v61 v65 k0_t88) a + S1.size a ≤ S3.size a) ∧
  (∀ k0_t88 : Fin (k0_t88_loop i v5 v9 v13 v17 v21 v25 v29 v33 v37 v41 v45 v49 v53 v57 v61 v65).trips, (k0_t89_loop i v5 v9 v13 v17 v21 v25 v29 v33 v37 v41 v45 v49 v53 v57 v61 v65 k0_t88).OK) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2067 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2068 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2069 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2070 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2071 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2072 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2073 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2074 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2075 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2076 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2077 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2078 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2079 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2080 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2081 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2082 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2083 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2084 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2085 i v5 v9 v13 v17 v21 v25 v29 v33 v37 v41 v45 v49 v53 v57 v61 v65 k0_t88 k0_t89) a + S1x1x16.size a ≤ S96x1x512.size a)
def k0_chk1_67 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2086 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2087 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2088 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2089 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2090 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2091 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2092 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2093 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2094 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2095 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2096 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2097 i v5 v9 v13 v17 v21 v25 v29 v33 v37 v41 v45 v49 v53 v57 v61 v65 k0_t88 k0_t89) a + S1x1x16.size a ≤ S96x1x512.size a) ∧
  (∀ (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2098 i v5 v9 v13 v17 v21 v25 v29 v33 v37 v41 v45 v49 v53 v57 v61 v65 k0_t88 k0_t89) a + S1x1x16.size a ≤ S96x1x512.size a) ∧
  (∀ k0_t88 : Fin (k0_t88_loop i v5 v9 v13 v17 v21 v25 v29 v33 v37 v41 v45 v49 v53 v57 v61 v65).trips, (k0_t90_loop i v5 v9 v13 v17 v21 v25 v29 v33 v37 v41 v45 v49 v53 v57 v61 v65 k0_t88).OK) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2099 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2100 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2101 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2102 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2103 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2104 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2105 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2106 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2107 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2108 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2109 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2110 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2111 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2112 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2113 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2114 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2115 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2116 i v5 v9 v13 v17 v21 v25 v29 v33 v37 v41 v45 v49 v53 v57 v61 v65 k0_t88 k0_t90) a + S1x1x16.size a ≤ S96x1x512.size a)
def k0_chk1_68 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2117 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2118 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2119 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2120 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2121 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2122 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2123 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2124 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2125 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2126 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2127 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2128 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2129 i v5 v9 v13 v17 v21 v25 v29 v33 v37 v41 v45 v49 v53 v57 v61 v65 k0_t88 k0_t90) a + S1x1x16.size a ≤ S96x1x512.size a) ∧
  (∀ (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2130 i v5 v9 v13 v17 v21 v25 v29 v33 v37 v41 v45 v49 v53 v57 v61 v65 k0_t88 k0_t90) a + S1x1x16.size a ≤ S96x1x512.size a) ∧
  (∀ (k0_h61 : k0_cond61 i v5 v9 v13 v17 v21 v25 v29 v33 v37 v41 v45 v49 v53 v57 v61 v65 = 1#1), ∀ a, (k0_off2132 i v5 v9 v13 v17 v21 v25 v29 v33 v37 v41 v45 v49 v53 v57 v61 v65) a + S32x1x512.size a ≤ S2048x16x512.size a) ∧
  (∀ (k0_h62 : k0_cond62 i v5 v9 v13 v17 v21 v25 v29 v33 v37 v41 v45 v49 v53 v57 v61 v65 = 1#1), ∀ a, (k0_off2134 i v5 v9 v13 v17 v21 v25 v29 v33 v37 v41 v45 v49 v53 v57 v61 v65) a + S32x1x512.size a ≤ S2048x16x512.size a) ∧
  ((k0_t91_loop i v5 v9 v13 v17 v21 v25 v29 v33 v37 v41 v45 v49 v53 v57 v61 v65).OK) ∧
  (∀ k0_t91 : Fin (k0_t91_loop i v5 v9 v13 v17 v21 v25 v29 v33 v37 v41 v45 v49 v53 v57 v61 v65).trips, ∀ (k0_h63 : k0_cond63 i v5 v9 v13 v17 v21 v25 v29 v33 v37 v41 v45 v49 v53 v57 v61 v65 k0_t91 = 1#1), ∀ a, (k0_off2135 i v5 v9 v13 v17 v21 v25 v29 v33 v37 v41 v45 v49 v53 v57 v61 v65 k0_t91) a + S32x1x512.size a ≤ S96x1x512.size a) ∧
  (∀ k0_t91 : Fin (k0_t91_loop i v5 v9 v13 v17 v21 v25 v29 v33 v37 v41 v45 v49 v53 v57 v61 v65).trips, ∀ (k0_h63 : k0_cond63 i v5 v9 v13 v17 v21 v25 v29 v33 v37 v41 v45 v49 v53 v57 v61 v65 k0_t91 = 1#1), ∀ a, (k0_off2136 i v5 v9 v13 v17 v21 v25 v29 v33 v37 v41 v45 v49 v53 v57 v61 v65 k0_t91) a + S32x1x512.size a ≤ S2048x16x512.size a) ∧
  (∀ k0_t91 : Fin (k0_t91_loop i v5 v9 v13 v17 v21 v25 v29 v33 v37 v41 v45 v49 v53 v57 v61 v65).trips, ∀ (k0_h63 : k0_cond63 i v5 v9 v13 v17 v21 v25 v29 v33 v37 v41 v45 v49 v53 v57 v61 v65 k0_t91 = 1#1), ∀ a, (k0_off2137 i v5 v9 v13 v17 v21 v25 v29 v33 v37 v41 v45 v49 v53 v57 v61 v65 k0_t91) a + S1.size a ≤ S3.size a) ∧
  (∀ k0_t91 : Fin (k0_t91_loop i v5 v9 v13 v17 v21 v25 v29 v33 v37 v41 v45 v49 v53 v57 v61 v65).trips, ∀ a, (k0_off2138 i v5 v9 v13 v17 v21 v25 v29 v33 v37 v41 v45 v49 v53 v57 v61 v65 k0_t91) a + S32x1x512.size a ≤ S96x1x512.size a) ∧
  (∀ k0_t91 : Fin (k0_t91_loop i v5 v9 v13 v17 v21 v25 v29 v33 v37 v41 v45 v49 v53 v57 v61 v65).trips, ∀ a, (k0_off2139 i v5 v9 v13 v17 v21 v25 v29 v33 v37 v41 v45 v49 v53 v57 v61 v65 k0_t91) a + S1.size a ≤ S3.size a) ∧
  (∀ k0_t91 : Fin (k0_t91_loop i v5 v9 v13 v17 v21 v25 v29 v33 v37 v41 v45 v49 v53 v57 v61 v65).trips, (k0_t92_loop i v5 v9 v13 v17 v21 v25 v29 v33 v37 v41 v45 v49 v53 v57 v61 v65 k0_t91).OK) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2140 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2141 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2142 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2143 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2144 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2145 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2146 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2147 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2148 i v5 v9 v13 v17 v21 v25 v29 v33 v37 v41 v45 v49 v53 v57 v61 v65 k0_t91 k0_t92) a + S1x1x16.size a ≤ S96x1x512.size a)
def k0_chk1_69 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2149 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2150 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2151 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2152 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2153 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2154 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2155 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2156 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2157 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2158 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2159 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2160 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2161 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2162 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2163 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2164 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2165 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2166 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2167 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2168 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2169 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2170 i v5 v9 v13 v17 v21 v25 v29 v33 v37 v41 v45 v49 v53 v57 v61 v65 k0_t91 k0_t92) a + S1x1x16.size a ≤ S96x1x512.size a) ∧
  (∀ (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2171 i v5 v9 v13 v17 v21 v25 v29 v33 v37 v41 v45 v49 v53 v57 v61 v65 k0_t91 k0_t92) a + S1x1x16.size a ≤ S96x1x512.size a) ∧
  (∀ k0_t91 : Fin (k0_t91_loop i v5 v9 v13 v17 v21 v25 v29 v33 v37 v41 v45 v49 v53 v57 v61 v65).trips, (k0_t93_loop i v5 v9 v13 v17 v21 v25 v29 v33 v37 v41 v45 v49 v53 v57 v61 v65 k0_t91).OK) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2172 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2173 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2174 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2175 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2176 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2177 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2178 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2179 i v5 v9 v13 v17 v21 v25 v29 v33 v37 v41 v45 v49 v53 v57 v61 v65 k0_t91 k0_t93) a + S1x1x16.size a ≤ S96x1x512.size a)
def k0_chk1_70 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2180 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2181 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2182 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2183 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2184 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2185 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2186 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2187 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2188 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2189 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2190 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2191 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2192 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2193 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2194 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2195 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2196 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2197 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2198 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2199 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2200 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2201 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2202 i v5 v9 v13 v17 v21 v25 v29 v33 v37 v41 v45 v49 v53 v57 v61 v65 k0_t91 k0_t93) a + S1x1x16.size a ≤ S96x1x512.size a) ∧
  (∀ (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2203 i v5 v9 v13 v17 v21 v25 v29 v33 v37 v41 v45 v49 v53 v57 v61 v65 k0_t91 k0_t93) a + S1x1x16.size a ≤ S96x1x512.size a) ∧
  ((k0_t94_loop i v5 v9 v13 v17 v21 v25 v29 v33 v37 v41 v45 v49 v53 v57 v61 v65).OK) ∧
  (∀ k0_t94 : Fin (k0_t94_loop i v5 v9 v13 v17 v21 v25 v29 v33 v37 v41 v45 v49 v53 v57 v61 v65).trips, ∀ (k0_h64 : k0_cond64 i v5 v9 v13 v17 v21 v25 v29 v33 v37 v41 v45 v49 v53 v57 v61 v65 k0_t94 = 1#1), ∀ a, (k0_off2204 i v5 v9 v13 v17 v21 v25 v29 v33 v37 v41 v45 v49 v53 v57 v61 v65 k0_t94) a + S32x1x512.size a ≤ S96x1x512.size a) ∧
  (∀ k0_t94 : Fin (k0_t94_loop i v5 v9 v13 v17 v21 v25 v29 v33 v37 v41 v45 v49 v53 v57 v61 v65).trips, ∀ (k0_h64 : k0_cond64 i v5 v9 v13 v17 v21 v25 v29 v33 v37 v41 v45 v49 v53 v57 v61 v65 k0_t94 = 1#1), ∀ a, (k0_off2205 i v5 v9 v13 v17 v21 v25 v29 v33 v37 v41 v45 v49 v53 v57 v61 v65 k0_t94) a + S32x1x512.size a ≤ S2048x16x512.size a) ∧
  (∀ k0_t94 : Fin (k0_t94_loop i v5 v9 v13 v17 v21 v25 v29 v33 v37 v41 v45 v49 v53 v57 v61 v65).trips, ∀ (k0_h64 : k0_cond64 i v5 v9 v13 v17 v21 v25 v29 v33 v37 v41 v45 v49 v53 v57 v61 v65 k0_t94 = 1#1), ∀ a, (k0_off2206 i v5 v9 v13 v17 v21 v25 v29 v33 v37 v41 v45 v49 v53 v57 v61 v65 k0_t94) a + S1.size a ≤ S3.size a) ∧
  (∀ k0_t94 : Fin (k0_t94_loop i v5 v9 v13 v17 v21 v25 v29 v33 v37 v41 v45 v49 v53 v57 v61 v65).trips, ∀ a, (k0_off2207 i v5 v9 v13 v17 v21 v25 v29 v33 v37 v41 v45 v49 v53 v57 v61 v65 k0_t94) a + S32x1x512.size a ≤ S96x1x512.size a) ∧
  (∀ k0_t94 : Fin (k0_t94_loop i v5 v9 v13 v17 v21 v25 v29 v33 v37 v41 v45 v49 v53 v57 v61 v65).trips, ∀ a, (k0_off2208 i v5 v9 v13 v17 v21 v25 v29 v33 v37 v41 v45 v49 v53 v57 v61 v65 k0_t94) a + S1.size a ≤ S3.size a) ∧
  (∀ k0_t94 : Fin (k0_t94_loop i v5 v9 v13 v17 v21 v25 v29 v33 v37 v41 v45 v49 v53 v57 v61 v65).trips, (k0_t95_loop i v5 v9 v13 v17 v21 v25 v29 v33 v37 v41 v45 v49 v53 v57 v61 v65 k0_t94).OK) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2209 i v5 v9 v13 v17 v21 v25 v29 v33 v37 v41 v45 v49 v53 v57 v61 v65 k0_t94 k0_t95) a + S1x1x16.size a ≤ S96x1x512.size a)
def k0_chk1_71 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2210 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2211 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2212 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2213 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2214 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2215 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2216 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2217 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2218 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2219 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2220 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2221 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2222 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2223 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2224 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2225 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2226 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2227 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2228 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2229 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2230 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2231 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2232 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2233 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2234 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2235 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2236 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2237 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2238 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2239 i v5 v9 v13 v17 v21 v25 v29 v33 v37 v41 v45 v49 v53 v57 v61 v65 k0_t94 k0_t95) a + S1x1x16.size a ≤ S96x1x512.size a) ∧
  (∀ (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2240 i v5 v9 v13 v17 v21 v25 v29 v33 v37 v41 v45 v49 v53 v57 v61 v65 k0_t94 k0_t95) a + S1x1x16.size a ≤ S96x1x512.size a) ∧
  (∀ k0_t94 : Fin (k0_t94_loop i v5 v9 v13 v17 v21 v25 v29 v33 v37 v41 v45 v49 v53 v57 v61 v65).trips, (k0_t96_loop i v5 v9 v13 v17 v21 v25 v29 v33 v37 v41 v45 v49 v53 v57 v61 v65 k0_t94).OK)
def k0_chk1_72 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2241 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2242 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2243 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2244 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2245 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2246 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2247 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2248 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2249 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2250 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2251 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2252 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2253 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2254 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2255 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2256 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2257 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2258 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2259 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2260 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2261 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2262 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2263 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2264 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2265 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2266 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2267 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2268 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2269 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2270 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2271 i v5 v9 v13 v17 v21 v25 v29 v33 v37 v41 v45 v49 v53 v57 v61 v65 k0_t94 k0_t96) a + S1x1x16.size a ≤ S96x1x512.size a) ∧
  (∀ (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2272 i v5 v9 v13 v17 v21 v25 v29 v33 v37 v41 v45 v49 v53 v57 v61 v65 k0_t94 k0_t96) a + S1x1x16.size a ≤ S96x1x512.size a)
def k0_chk1 (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) : Prop :=
  k0_chk1_0 i v5 v9 v13 v17 v21 v25 v29 v33 v37 v41 v45 v49 v53 v57 v61 v65 ∧
  k0_chk1_1 i v5 v9 v13 v17 v21 v25 v29 v33 v37 v41 v45 v49 v53 v57 v61 v65 ∧
  k0_chk1_2 i v5 v9 v13 v17 v21 v25 v29 v33 v37 v41 v45 v49 v53 v57 v61 v65 ∧
  k0_chk1_3 i v5 v9 v13 v17 v21 v25 v29 v33 v37 v41 v45 v49 v53 v57 v61 v65 ∧
  k0_chk1_4 i v5 v9 v13 v17 v21 v25 v29 v33 v37 v41 v45 v49 v53 v57 v61 v65 ∧
  k0_chk1_5 i v5 v9 v13 v17 v21 v25 v29 v33 v37 v41 v45 v49 v53 v57 v61 v65 ∧
  k0_chk1_6 i v5 v9 v13 v17 v21 v25 v29 v33 v37 v41 v45 v49 v53 v57 v61 v65 ∧
  k0_chk1_7 i v5 v9 v13 v17 v21 v25 v29 v33 v37 v41 v45 v49 v53 v57 v61 v65 ∧
  k0_chk1_8 i v5 v9 v13 v17 v21 v25 v29 v33 v37 v41 v45 v49 v53 v57 v61 v65 ∧
  k0_chk1_9 i v5 v9 v13 v17 v21 v25 v29 v33 v37 v41 v45 v49 v53 v57 v61 v65 ∧
  k0_chk1_10 i v5 v9 v13 v17 v21 v25 v29 v33 v37 v41 v45 v49 v53 v57 v61 v65 ∧
  k0_chk1_11 i v5 v9 v13 v17 v21 v25 v29 v33 v37 v41 v45 v49 v53 v57 v61 v65 ∧
  k0_chk1_12 i v5 v9 v13 v17 v21 v25 v29 v33 v37 v41 v45 v49 v53 v57 v61 v65 ∧
  k0_chk1_13 i v5 v9 v13 v17 v21 v25 v29 v33 v37 v41 v45 v49 v53 v57 v61 v65 ∧
  k0_chk1_14 i v5 v9 v13 v17 v21 v25 v29 v33 v37 v41 v45 v49 v53 v57 v61 v65 ∧
  k0_chk1_15 i v5 v9 v13 v17 v21 v25 v29 v33 v37 v41 v45 v49 v53 v57 v61 v65 ∧
  k0_chk1_16 i v5 v9 v13 v17 v21 v25 v29 v33 v37 v41 v45 v49 v53 v57 v61 v65 ∧
  k0_chk1_17 i v5 v9 v13 v17 v21 v25 v29 v33 v37 v41 v45 v49 v53 v57 v61 v65 ∧
  k0_chk1_18 i v5 v9 v13 v17 v21 v25 v29 v33 v37 v41 v45 v49 v53 v57 v61 v65 ∧
  k0_chk1_19 i v5 v9 v13 v17 v21 v25 v29 v33 v37 v41 v45 v49 v53 v57 v61 v65 ∧
  k0_chk1_20 i v5 v9 v13 v17 v21 v25 v29 v33 v37 v41 v45 v49 v53 v57 v61 v65 ∧
  k0_chk1_21 i v5 v9 v13 v17 v21 v25 v29 v33 v37 v41 v45 v49 v53 v57 v61 v65 ∧
  k0_chk1_22 i v5 v9 v13 v17 v21 v25 v29 v33 v37 v41 v45 v49 v53 v57 v61 v65 ∧
  k0_chk1_23 i v5 v9 v13 v17 v21 v25 v29 v33 v37 v41 v45 v49 v53 v57 v61 v65 ∧
  k0_chk1_24 i v5 v9 v13 v17 v21 v25 v29 v33 v37 v41 v45 v49 v53 v57 v61 v65 ∧
  k0_chk1_25 i v5 v9 v13 v17 v21 v25 v29 v33 v37 v41 v45 v49 v53 v57 v61 v65 ∧
  k0_chk1_26 i v5 v9 v13 v17 v21 v25 v29 v33 v37 v41 v45 v49 v53 v57 v61 v65 ∧
  k0_chk1_27 i v5 v9 v13 v17 v21 v25 v29 v33 v37 v41 v45 v49 v53 v57 v61 v65 ∧
  k0_chk1_28 i v5 v9 v13 v17 v21 v25 v29 v33 v37 v41 v45 v49 v53 v57 v61 v65 ∧
  k0_chk1_29 i v5 v9 v13 v17 v21 v25 v29 v33 v37 v41 v45 v49 v53 v57 v61 v65 ∧
  k0_chk1_30 i v5 v9 v13 v17 v21 v25 v29 v33 v37 v41 v45 v49 v53 v57 v61 v65 ∧
  k0_chk1_31 i v5 v9 v13 v17 v21 v25 v29 v33 v37 v41 v45 v49 v53 v57 v61 v65 ∧
  k0_chk1_32 i v5 v9 v13 v17 v21 v25 v29 v33 v37 v41 v45 v49 v53 v57 v61 v65 ∧
  k0_chk1_33 i v5 v9 v13 v17 v21 v25 v29 v33 v37 v41 v45 v49 v53 v57 v61 v65 ∧
  k0_chk1_34 i v5 v9 v13 v17 v21 v25 v29 v33 v37 v41 v45 v49 v53 v57 v61 v65 ∧
  k0_chk1_35 i v5 v9 v13 v17 v21 v25 v29 v33 v37 v41 v45 v49 v53 v57 v61 v65 ∧
  k0_chk1_36 i v5 v9 v13 v17 v21 v25 v29 v33 v37 v41 v45 v49 v53 v57 v61 v65 ∧
  k0_chk1_37 i v5 v9 v13 v17 v21 v25 v29 v33 v37 v41 v45 v49 v53 v57 v61 v65 ∧
  k0_chk1_38 i v5 v9 v13 v17 v21 v25 v29 v33 v37 v41 v45 v49 v53 v57 v61 v65 ∧
  k0_chk1_39 i v5 v9 v13 v17 v21 v25 v29 v33 v37 v41 v45 v49 v53 v57 v61 v65 ∧
  k0_chk1_40 i v5 v9 v13 v17 v21 v25 v29 v33 v37 v41 v45 v49 v53 v57 v61 v65 ∧
  k0_chk1_41 i v5 v9 v13 v17 v21 v25 v29 v33 v37 v41 v45 v49 v53 v57 v61 v65 ∧
  k0_chk1_42 i v5 v9 v13 v17 v21 v25 v29 v33 v37 v41 v45 v49 v53 v57 v61 v65 ∧
  k0_chk1_43 i v5 v9 v13 v17 v21 v25 v29 v33 v37 v41 v45 v49 v53 v57 v61 v65 ∧
  k0_chk1_44 i v5 v9 v13 v17 v21 v25 v29 v33 v37 v41 v45 v49 v53 v57 v61 v65 ∧
  k0_chk1_45 i v5 v9 v13 v17 v21 v25 v29 v33 v37 v41 v45 v49 v53 v57 v61 v65 ∧
  k0_chk1_46 i v5 v9 v13 v17 v21 v25 v29 v33 v37 v41 v45 v49 v53 v57 v61 v65 ∧
  k0_chk1_47 i v5 v9 v13 v17 v21 v25 v29 v33 v37 v41 v45 v49 v53 v57 v61 v65 ∧
  k0_chk1_48 i v5 v9 v13 v17 v21 v25 v29 v33 v37 v41 v45 v49 v53 v57 v61 v65 ∧
  k0_chk1_49 i v5 v9 v13 v17 v21 v25 v29 v33 v37 v41 v45 v49 v53 v57 v61 v65 ∧
  k0_chk1_50 i v5 v9 v13 v17 v21 v25 v29 v33 v37 v41 v45 v49 v53 v57 v61 v65 ∧
  k0_chk1_51 i v5 v9 v13 v17 v21 v25 v29 v33 v37 v41 v45 v49 v53 v57 v61 v65 ∧
  k0_chk1_52 i v5 v9 v13 v17 v21 v25 v29 v33 v37 v41 v45 v49 v53 v57 v61 v65 ∧
  k0_chk1_53 i v5 v9 v13 v17 v21 v25 v29 v33 v37 v41 v45 v49 v53 v57 v61 v65 ∧
  k0_chk1_54 i v5 v9 v13 v17 v21 v25 v29 v33 v37 v41 v45 v49 v53 v57 v61 v65 ∧
  k0_chk1_55 i v5 v9 v13 v17 v21 v25 v29 v33 v37 v41 v45 v49 v53 v57 v61 v65 ∧
  k0_chk1_56 i v5 v9 v13 v17 v21 v25 v29 v33 v37 v41 v45 v49 v53 v57 v61 v65 ∧
  k0_chk1_57 i v5 v9 v13 v17 v21 v25 v29 v33 v37 v41 v45 v49 v53 v57 v61 v65 ∧
  k0_chk1_58 i v5 v9 v13 v17 v21 v25 v29 v33 v37 v41 v45 v49 v53 v57 v61 v65 ∧
  k0_chk1_59 i v5 v9 v13 v17 v21 v25 v29 v33 v37 v41 v45 v49 v53 v57 v61 v65 ∧
  k0_chk1_60 i v5 v9 v13 v17 v21 v25 v29 v33 v37 v41 v45 v49 v53 v57 v61 v65 ∧
  k0_chk1_61 i v5 v9 v13 v17 v21 v25 v29 v33 v37 v41 v45 v49 v53 v57 v61 v65 ∧
  k0_chk1_62 i v5 v9 v13 v17 v21 v25 v29 v33 v37 v41 v45 v49 v53 v57 v61 v65 ∧
  k0_chk1_63 i v5 v9 v13 v17 v21 v25 v29 v33 v37 v41 v45 v49 v53 v57 v61 v65 ∧
  k0_chk1_64 i v5 v9 v13 v17 v21 v25 v29 v33 v37 v41 v45 v49 v53 v57 v61 v65 ∧
  k0_chk1_65 i v5 v9 v13 v17 v21 v25 v29 v33 v37 v41 v45 v49 v53 v57 v61 v65 ∧
  k0_chk1_66 i v5 v9 v13 v17 v21 v25 v29 v33 v37 v41 v45 v49 v53 v57 v61 v65 ∧
  k0_chk1_67 i v5 v9 v13 v17 v21 v25 v29 v33 v37 v41 v45 v49 v53 v57 v61 v65 ∧
  k0_chk1_68 i v5 v9 v13 v17 v21 v25 v29 v33 v37 v41 v45 v49 v53 v57 v61 v65 ∧
  k0_chk1_69 i v5 v9 v13 v17 v21 v25 v29 v33 v37 v41 v45 v49 v53 v57 v61 v65 ∧
  k0_chk1_70 i v5 v9 v13 v17 v21 v25 v29 v33 v37 v41 v45 v49 v53 v57 v61 v65 ∧
  k0_chk1_71 i v5 v9 v13 v17 v21 v25 v29 v33 v37 v41 v45 v49 v53 v57 v61 v65 ∧
  k0_chk1_72 i v5 v9 v13 v17 v21 v25 v29 v33 v37 v41 v45 v49 v53 v57 v61 v65
theorem k0_off2_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h1 : k0_cond1 i v5 v9 v13 v17 v21 v25 v29 v33 v37 v41 v45 v49 v53 v57 v61 v65 = 1#1), ∀ a, (k0_off2 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h1 => k0_hw1.1.1 k0_h1
theorem k0_off4_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h2 : k0_cond2 i v5 v9 v13 v17 v21 v25 v29 v33 v37 v41 v45 v49 v53 v57 v61 v65 = 1#1), ∀ a, (k0_off4 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h2 => k0_hw1.1.2.1 k0_h2
theorem k0_t1_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t1_loop i v5 v9 v13 v17 v21 v25 v29 v33 v37 v41 v45 v49 v53 v57 v61 v65).OK := fun i v5 v9 v13 v17 v21 v25 v29 v33 v37 v41 v45 v49 v53 v57 v61 v65 k0_hw1 => k0_hw1.1.2.2.1
theorem k0_off5_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips), ∀ (k0_h3 : k0_cond3 i v5 v9 v13 v17 v21 v25 v29 v33 v37 v41 v45 v49 v53 v57 v61 v65 k0_t1 = 1#1), ∀ a, (k0_off5 i v5 v9 v13 v17 v21 v25 v29 v33 v37 v41 v45 v49 v53 v57 v61 v65 k0_t1) a + S32x1x512.size a ≤ S96x1x512.size a := fun i v5 v9 v13 v17 v21 v25 v29 v33 v37 v41 v45 v49 v53 v57 v61 v65 k0_hw1 k0_t1 k0_h3 => k0_hw1.1.2.2.2.1 k0_t1 k0_h3
theorem k0_off6_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips), ∀ (k0_h3 : k0_cond3 i v5 v9 v13 v17 v21 v25 v29 v33 v37 v41 v45 v49 v53 v57 v61 v65 k0_t1 = 1#1), ∀ a, (k0_off6 i v5 v9 v13 v17 v21 v25 v29 v33 v37 v41 v45 v49 v53 v57 v61 v65 k0_t1) a + S32x1x512.size a ≤ S2048x16x512.size a := fun i v5 v9 v13 v17 v21 v25 v29 v33 v37 v41 v45 v49 v53 v57 v61 v65 k0_hw1 k0_t1 k0_h3 => k0_hw1.1.2.2.2.2.1 k0_t1 k0_h3
theorem k0_off7_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips), ∀ (k0_h3 : k0_cond3 i v5 v9 v13 v17 v21 v25 v29 v33 v37 v41 v45 v49 v53 v57 v61 v65 k0_t1 = 1#1), ∀ a, (k0_off7 i v5 v9 v13 v17 v21 v25 v29 v33 v37 v41 v45 v49 v53 v57 v61 v65 k0_t1) a + S1.size a ≤ S3.size a := fun i v5 v9 v13 v17 v21 v25 v29 v33 v37 v41 v45 v49 v53 v57 v61 v65 k0_hw1 k0_t1 k0_h3 => k0_hw1.1.2.2.2.2.2.1 k0_t1 k0_h3
theorem k0_off8_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips), ∀ a, (k0_off8 i v5 v9 v13 v17 v21 v25 v29 v33 v37 v41 v45 v49 v53 v57 v61 v65 k0_t1) a + S32x1x512.size a ≤ S96x1x512.size a := fun i v5 v9 v13 v17 v21 v25 v29 v33 v37 v41 v45 v49 v53 v57 v61 v65 k0_hw1 k0_t1 => k0_hw1.1.2.2.2.2.2.2.1 k0_t1
theorem k0_off9_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips), ∀ a, (k0_off9 i v5 v9 v13 v17 v21 v25 v29 v33 v37 v41 v45 v49 v53 v57 v61 v65 k0_t1) a + S1.size a ≤ S3.size a := fun i v5 v9 v13 v17 v21 v25 v29 v33 v37 v41 v45 v49 v53 v57 v61 v65 k0_hw1 k0_t1 => k0_hw1.1.2.2.2.2.2.2.2.1 k0_t1
theorem k0_t2_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips), (k0_t2_loop i v5 v9 v13 v17 v21 v25 v29 v33 v37 v41 v45 v49 v53 v57 v61 v65 k0_t1).OK := fun i v5 v9 v13 v17 v21 v25 v29 v33 v37 v41 v45 v49 v53 v57 v61 v65 k0_hw1 k0_t1 => k0_hw1.1.2.2.2.2.2.2.2.2.1 k0_t1
theorem k0_off10_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off10 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.1 k0_t1 k0_t2
theorem k0_off11_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off11 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.1 k0_t1 k0_t2
theorem k0_off12_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off12 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.1 k0_t1 k0_t2
theorem k0_off13_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off13 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.2.1 k0_t1 k0_t2
theorem k0_off14_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off14 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.2.2.1 k0_t1 k0_t2
theorem k0_off15_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off15 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.2.2.2.1 k0_t1 k0_t2
theorem k0_off16_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off16 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.2.2.2.2.1 k0_t1 k0_t2
theorem k0_off17_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off17 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.2.2.2.2.2.1 k0_t1 k0_t2
theorem k0_off18_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off18 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.2.2.2.2.2.2.1 k0_t1 k0_t2
theorem k0_off19_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off19 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.2.2.2.2.2.2.2.1 k0_t1 k0_t2
theorem k0_off20_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off20 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.2.2.2.2.2.2.2.2.1 k0_t1 k0_t2
theorem k0_off21_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off21 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.2.2.2.2.2.2.2.2.2.1 k0_t1 k0_t2
theorem k0_off22_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off22 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.2.2.2.2.2.2.2.2.2.2.1 k0_t1 k0_t2
theorem k0_off23_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off23 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.2.2.2.2.2.2.2.2.2.2.2.1 k0_t1 k0_t2
theorem k0_off24_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off24 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.2.2.2.2.2.2.2.2.2.2.2.2.1 k0_t1 k0_t2
theorem k0_off25_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off25 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.2.2.2.2.2.2.2.2.2.2.2.2.2.1 k0_t1 k0_t2
theorem k0_off26_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off26 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.2.2.2.2.2.2.2.2.2.2.2.2.2.2.1 k0_t1 k0_t2
theorem k0_off27_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off27 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.2.2.2.2.2.2.2.2.2.2.2.2.2.2.2.1 k0_t1 k0_t2
theorem k0_off28_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off28 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.2.2.2.2.2.2.2.2.2.2.2.2.2.2.2.2.1 k0_t1 k0_t2
theorem k0_off29_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off29 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.2.2.2.2.2.2.2.2.2.2.2.2.2.2.2.2.2.1 k0_t1 k0_t2
theorem k0_off30_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off30 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.2.2.2.2.2.2.2.2.2.2.2.2.2.2.2.2.2.2.1 k0_t1 k0_t2
theorem k0_off31_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off31 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.2.2.2.2.2.2.2.2.2.2.2.2.2.2.2.2.2.2.2.1 k0_t1 k0_t2
theorem k0_off32_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off32 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.1.2.2.2.2.2.2.2.2.2.2.2.2.2.2.2.2.2.2.2.2.2.2.2.2.2.2.2.2.2.2.2 k0_t1 k0_t2
theorem k0_off33_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off33 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.2.1.1 k0_t1 k0_t2
theorem k0_off34_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off34 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.2.1.2.1 k0_t1 k0_t2
theorem k0_off35_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off35 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.2.1.2.2.1 k0_t1 k0_t2
theorem k0_off36_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off36 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.2.1.2.2.2.1 k0_t1 k0_t2
theorem k0_off37_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off37 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.2.1.2.2.2.2.1 k0_t1 k0_t2
theorem k0_off38_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off38 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.2.1.2.2.2.2.2.1 k0_t1 k0_t2
theorem k0_off39_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off39 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.2.1.2.2.2.2.2.2.1 k0_t1 k0_t2
theorem k0_off40_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off40 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.2.1.2.2.2.2.2.2.2.1 k0_t1 k0_t2
theorem k0_off41_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t2 : Fin (k0_t2_loop i v5 v9 v13 v17 v21 v25 v29 v33 v37 v41 v45 v49 v53 v57 v61 v65 k0_t1).trips), ∀ a, (k0_off41 i v5 v9 v13 v17 v21 v25 v29 v33 v37 v41 v45 v49 v53 v57 v61 v65 k0_t1 k0_t2) a + S1x1x16.size a ≤ S96x1x512.size a := fun i v5 v9 v13 v17 v21 v25 v29 v33 v37 v41 v45 v49 v53 v57 v61 v65 k0_hw1 k0_t1 k0_t2 => k0_hw1.2.1.2.2.2.2.2.2.2.2.1 k0_t1 k0_t2
theorem k0_t3_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips), (k0_t3_loop i v5 v9 v13 v17 v21 v25 v29 v33 v37 v41 v45 v49 v53 v57 v61 v65 k0_t1).OK := fun i v5 v9 v13 v17 v21 v25 v29 v33 v37 v41 v45 v49 v53 v57 v61 v65 k0_hw1 k0_t1 => k0_hw1.2.1.2.2.2.2.2.2.2.2.2.1 k0_t1
theorem k0_off42_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off42 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.1 k0_t1 k0_t3
theorem k0_off43_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off43 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.1 k0_t1 k0_t3
theorem k0_off44_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off44 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.2.1 k0_t1 k0_t3
theorem k0_off45_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off45 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.2.2.1 k0_t1 k0_t3
theorem k0_off46_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off46 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.2.2.2.1 k0_t1 k0_t3
theorem k0_off47_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off47 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.2.2.2.2.1 k0_t1 k0_t3
theorem k0_off48_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off48 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.2.2.2.2.2.1 k0_t1 k0_t3
theorem k0_off49_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off49 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.2.2.2.2.2.2.1 k0_t1 k0_t3
theorem k0_off50_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off50 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.2.2.2.2.2.2.2.1 k0_t1 k0_t3
theorem k0_off51_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off51 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.2.2.2.2.2.2.2.2.1 k0_t1 k0_t3
theorem k0_off52_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off52 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.2.2.2.2.2.2.2.2.2.1 k0_t1 k0_t3
theorem k0_off53_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off53 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.2.2.2.2.2.2.2.2.2.2.1 k0_t1 k0_t3
theorem k0_off54_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off54 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.2.2.2.2.2.2.2.2.2.2.2.1 k0_t1 k0_t3
theorem k0_off55_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off55 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.2.2.2.2.2.2.2.2.2.2.2.2.1 k0_t1 k0_t3
theorem k0_off56_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off56 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.2.2.2.2.2.2.2.2.2.2.2.2.2.1 k0_t1 k0_t3
theorem k0_off57_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off57 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.2.2.2.2.2.2.2.2.2.2.2.2.2.2.1 k0_t1 k0_t3
theorem k0_off58_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off58 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.2.2.2.2.2.2.2.2.2.2.2.2.2.2.2.1 k0_t1 k0_t3
theorem k0_off59_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off59 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.2.2.2.2.2.2.2.2.2.2.2.2.2.2.2.2.1 k0_t1 k0_t3
theorem k0_off60_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off60 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.2.2.2.2.2.2.2.2.2.2.2.2.2.2.2.2.2.1 k0_t1 k0_t3
theorem k0_off61_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off61 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.2.2.2.2.2.2.2.2.2.2.2.2.2.2.2.2.2.2.1 k0_t1 k0_t3
theorem k0_off62_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off62 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.2.2.2.2.2.2.2.2.2.2.2.2.2.2.2.2.2.2.2.1 k0_t1 k0_t3
theorem k0_off63_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off63 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.1.2.2.2.2.2.2.2.2.2.2.2.2.2.2.2.2.2.2.2.2.2.2.2.2.2.2.2.2.2.2.2 k0_t1 k0_t3
theorem k0_off64_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off64 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.2.1.1 k0_t1 k0_t3
theorem k0_off65_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off65 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.2.1.2.1 k0_t1 k0_t3
theorem k0_off66_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off66 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.2.1.2.2.1 k0_t1 k0_t3
theorem k0_off67_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off67 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.2.1.2.2.2.1 k0_t1 k0_t3
theorem k0_off68_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off68 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.2.1.2.2.2.2.1 k0_t1 k0_t3
theorem k0_off69_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off69 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.2.1.2.2.2.2.2.1 k0_t1 k0_t3
theorem k0_off70_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off70 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.2.1.2.2.2.2.2.2.1 k0_t1 k0_t3
theorem k0_off71_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off71 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.2.1.2.2.2.2.2.2.2.1 k0_t1 k0_t3
theorem k0_off72_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off72 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.2.1.2.2.2.2.2.2.2.2.1 k0_t1 k0_t3
theorem k0_off73_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t1 : Fin (k0_t1_loop i v5 v9 v13 v17 v21 v25 v29 v33 v37 v41 v45 v49 v53 v57 v61 v65).trips) (k0_t3 : Fin (k0_t3_loop i v5 v9 v13 v17 v21 v25 v29 v33 v37 v41 v45 v49 v53 v57 v61 v65 k0_t1).trips), ∀ a, (k0_off73 i v5 v9 v13 v17 v21 v25 v29 v33 v37 v41 v45 v49 v53 v57 v61 v65 k0_t1 k0_t3) a + S1x1x16.size a ≤ S96x1x512.size a := fun i v5 v9 v13 v17 v21 v25 v29 v33 v37 v41 v45 v49 v53 v57 v61 v65 k0_hw1 k0_t1 k0_t3 => k0_hw1.2.2.1.2.2.2.2.2.2.2.2.2.1 k0_t1 k0_t3
theorem k0_t4_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t4_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.1.2.2.2.2.2.2.2.2.2.2.1
theorem k0_off74_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips), ∀ (k0_h4 : k0_cond4 i v5 v9 v13 v17 v21 v25 v29 v33 v37 v41 v45 v49 v53 v57 v61 v65 k0_t4 = 1#1), ∀ a, (k0_off74 i v5 v9 v13 v17 v21 v25 v29 v33 v37 v41 v45 v49 v53 v57 v61 v65 k0_t4) a + S32x1x512.size a ≤ S96x1x512.size a := fun i v5 v9 v13 v17 v21 v25 v29 v33 v37 v41 v45 v49 v53 v57 v61 v65 k0_hw1 k0_t4 k0_h4 => k0_hw1.2.2.1.2.2.2.2.2.2.2.2.2.2.2.1 k0_t4 k0_h4
theorem k0_off75_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips), ∀ (k0_h4 : k0_cond4 i v5 v9 v13 v17 v21 v25 v29 v33 v37 v41 v45 v49 v53 v57 v61 v65 k0_t4 = 1#1), ∀ a, (k0_off75 i v5 v9 v13 v17 v21 v25 v29 v33 v37 v41 v45 v49 v53 v57 v61 v65 k0_t4) a + S32x1x512.size a ≤ S2048x16x512.size a := fun i v5 v9 v13 v17 v21 v25 v29 v33 v37 v41 v45 v49 v53 v57 v61 v65 k0_hw1 k0_t4 k0_h4 => k0_hw1.2.2.1.2.2.2.2.2.2.2.2.2.2.2.2.1 k0_t4 k0_h4
theorem k0_off76_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips), ∀ (k0_h4 : k0_cond4 i v5 v9 v13 v17 v21 v25 v29 v33 v37 v41 v45 v49 v53 v57 v61 v65 k0_t4 = 1#1), ∀ a, (k0_off76 i v5 v9 v13 v17 v21 v25 v29 v33 v37 v41 v45 v49 v53 v57 v61 v65 k0_t4) a + S1.size a ≤ S3.size a := fun i v5 v9 v13 v17 v21 v25 v29 v33 v37 v41 v45 v49 v53 v57 v61 v65 k0_hw1 k0_t4 k0_h4 => k0_hw1.2.2.1.2.2.2.2.2.2.2.2.2.2.2.2.2.1 k0_t4 k0_h4
theorem k0_off77_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips), ∀ a, (k0_off77 i v5 v9 v13 v17 v21 v25 v29 v33 v37 v41 v45 v49 v53 v57 v61 v65 k0_t4) a + S32x1x512.size a ≤ S96x1x512.size a := fun i v5 v9 v13 v17 v21 v25 v29 v33 v37 v41 v45 v49 v53 v57 v61 v65 k0_hw1 k0_t4 => k0_hw1.2.2.1.2.2.2.2.2.2.2.2.2.2.2.2.2.2.1 k0_t4
theorem k0_off78_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips), ∀ a, (k0_off78 i v5 v9 v13 v17 v21 v25 v29 v33 v37 v41 v45 v49 v53 v57 v61 v65 k0_t4) a + S1.size a ≤ S3.size a := fun i v5 v9 v13 v17 v21 v25 v29 v33 v37 v41 v45 v49 v53 v57 v61 v65 k0_hw1 k0_t4 => k0_hw1.2.2.1.2.2.2.2.2.2.2.2.2.2.2.2.2.2.2.1 k0_t4
theorem k0_t5_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips), (k0_t5_loop i v5 v9 v13 v17 v21 v25 v29 v33 v37 v41 v45 v49 v53 v57 v61 v65 k0_t4).OK := fun i v5 v9 v13 v17 v21 v25 v29 v33 v37 v41 v45 v49 v53 v57 v61 v65 k0_hw1 k0_t4 => k0_hw1.2.2.1.2.2.2.2.2.2.2.2.2.2.2.2.2.2.2.2.1 k0_t4
theorem k0_off79_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off79 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.1.2.2.2.2.2.2.2.2.2.2.2.2.2.2.2.2.2.1 k0_t4 k0_t5
theorem k0_off80_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off80 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.1.2.2.2.2.2.2.2.2.2.2.2.2.2.2.2.2.2.2.1 k0_t4 k0_t5
theorem k0_off81_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off81 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.1.2.2.2.2.2.2.2.2.2.2.2.2.2.2.2.2.2.2.2.1 k0_t4 k0_t5
theorem k0_off82_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off82 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.1.2.2.2.2.2.2.2.2.2.2.2.2.2.2.2.2.2.2.2.2.1 k0_t4 k0_t5
theorem k0_off83_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off83 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.1.2.2.2.2.2.2.2.2.2.2.2.2.2.2.2.2.2.2.2.2.2.1 k0_t4 k0_t5
theorem k0_off84_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off84 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.1.2.2.2.2.2.2.2.2.2.2.2.2.2.2.2.2.2.2.2.2.2.2.1 k0_t4 k0_t5
theorem k0_off85_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off85 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.1.2.2.2.2.2.2.2.2.2.2.2.2.2.2.2.2.2.2.2.2.2.2.2.1 k0_t4 k0_t5
theorem k0_off86_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off86 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.1.2.2.2.2.2.2.2.2.2.2.2.2.2.2.2.2.2.2.2.2.2.2.2.2.1 k0_t4 k0_t5
theorem k0_off87_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off87 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.1.2.2.2.2.2.2.2.2.2.2.2.2.2.2.2.2.2.2.2.2.2.2.2.2.2.1 k0_t4 k0_t5
theorem k0_off88_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off88 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.1.2.2.2.2.2.2.2.2.2.2.2.2.2.2.2.2.2.2.2.2.2.2.2.2.2.2.1 k0_t4 k0_t5
theorem k0_off89_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off89 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.1.2.2.2.2.2.2.2.2.2.2.2.2.2.2.2.2.2.2.2.2.2.2.2.2.2.2.2.1 k0_t4 k0_t5
theorem k0_off90_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off90 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.1.2.2.2.2.2.2.2.2.2.2.2.2.2.2.2.2.2.2.2.2.2.2.2.2.2.2.2.2.1 k0_t4 k0_t5
theorem k0_off91_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off91 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.1.2.2.2.2.2.2.2.2.2.2.2.2.2.2.2.2.2.2.2.2.2.2.2.2.2.2.2.2.2.1 k0_t4 k0_t5
theorem k0_off92_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off92 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.1.2.2.2.2.2.2.2.2.2.2.2.2.2.2.2.2.2.2.2.2.2.2.2.2.2.2.2.2.2.2.1 k0_t4 k0_t5
theorem k0_off93_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off93 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.1.2.2.2.2.2.2.2.2.2.2.2.2.2.2.2.2.2.2.2.2.2.2.2.2.2.2.2.2.2.2.2 k0_t4 k0_t5
theorem k0_off94_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off94 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.2.1.1 k0_t4 k0_t5
theorem k0_off95_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off95 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.2.1.2.1 k0_t4 k0_t5
theorem k0_off96_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off96 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.2.1.2.2.1 k0_t4 k0_t5
theorem k0_off97_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off97 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.2.1.2.2.2.1 k0_t4 k0_t5
theorem k0_off98_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off98 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.2.1.2.2.2.2.1 k0_t4 k0_t5
theorem k0_off99_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off99 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.2.1.2.2.2.2.2.1 k0_t4 k0_t5
theorem k0_off100_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off100 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.2.1.2.2.2.2.2.2.1 k0_t4 k0_t5
theorem k0_off101_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off101 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.2.1.2.2.2.2.2.2.2.1 k0_t4 k0_t5
theorem k0_off102_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off102 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.2.1.2.2.2.2.2.2.2.2.1 k0_t4 k0_t5
theorem k0_off103_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off103 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.2.1.2.2.2.2.2.2.2.2.2.1 k0_t4 k0_t5
theorem k0_off104_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off104 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.2.1.2.2.2.2.2.2.2.2.2.2.1 k0_t4 k0_t5
theorem k0_off105_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off105 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.2.1.2.2.2.2.2.2.2.2.2.2.2.1 k0_t4 k0_t5
theorem k0_off106_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off106 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.2.1.2.2.2.2.2.2.2.2.2.2.2.2.1 k0_t4 k0_t5
theorem k0_off107_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off107 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.2.1.2.2.2.2.2.2.2.2.2.2.2.2.2.1 k0_t4 k0_t5
theorem k0_off108_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off108 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.2.1.2.2.2.2.2.2.2.2.2.2.2.2.2.2.1 k0_t4 k0_t5
theorem k0_off109_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off109 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.2.1.2.2.2.2.2.2.2.2.2.2.2.2.2.2.2.1 k0_t4 k0_t5
theorem k0_off110_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t5 : Fin (k0_t5_loop i v5 v9 v13 v17 v21 v25 v29 v33 v37 v41 v45 v49 v53 v57 v61 v65 k0_t4).trips), ∀ a, (k0_off110 i v5 v9 v13 v17 v21 v25 v29 v33 v37 v41 v45 v49 v53 v57 v61 v65 k0_t4 k0_t5) a + S1x1x16.size a ≤ S96x1x512.size a := fun i v5 v9 v13 v17 v21 v25 v29 v33 v37 v41 v45 v49 v53 v57 v61 v65 k0_hw1 k0_t4 k0_t5 => k0_hw1.2.2.2.1.2.2.2.2.2.2.2.2.2.2.2.2.2.2.2.2.1 k0_t4 k0_t5
theorem k0_t6_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips), (k0_t6_loop i v5 v9 v13 v17 v21 v25 v29 v33 v37 v41 v45 v49 v53 v57 v61 v65 k0_t4).OK := fun i v5 v9 v13 v17 v21 v25 v29 v33 v37 v41 v45 v49 v53 v57 v61 v65 k0_hw1 k0_t4 => k0_hw1.2.2.2.1.2.2.2.2.2.2.2.2.2.2.2.2.2.2.2.2.2.1 k0_t4
theorem k0_off111_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off111 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.1.2.2.2.2.2.2.2.2.2.2.2.2.2.2.2.2.2.2.1 k0_t4 k0_t6
theorem k0_off112_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off112 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.1.2.2.2.2.2.2.2.2.2.2.2.2.2.2.2.2.2.2.2.1 k0_t4 k0_t6
theorem k0_off113_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off113 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.1.2.2.2.2.2.2.2.2.2.2.2.2.2.2.2.2.2.2.2.2.1 k0_t4 k0_t6
theorem k0_off114_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off114 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.1.2.2.2.2.2.2.2.2.2.2.2.2.2.2.2.2.2.2.2.2.2.1 k0_t4 k0_t6
theorem k0_off115_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off115 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.1.2.2.2.2.2.2.2.2.2.2.2.2.2.2.2.2.2.2.2.2.2.2.1 k0_t4 k0_t6
theorem k0_off116_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off116 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.1.2.2.2.2.2.2.2.2.2.2.2.2.2.2.2.2.2.2.2.2.2.2.2.1 k0_t4 k0_t6
theorem k0_off117_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off117 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.1.2.2.2.2.2.2.2.2.2.2.2.2.2.2.2.2.2.2.2.2.2.2.2.2.1 k0_t4 k0_t6
theorem k0_off118_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off118 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.1.2.2.2.2.2.2.2.2.2.2.2.2.2.2.2.2.2.2.2.2.2.2.2.2.2.1 k0_t4 k0_t6
theorem k0_off119_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off119 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.1.2.2.2.2.2.2.2.2.2.2.2.2.2.2.2.2.2.2.2.2.2.2.2.2.2.2.1 k0_t4 k0_t6
theorem k0_off120_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off120 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.1.2.2.2.2.2.2.2.2.2.2.2.2.2.2.2.2.2.2.2.2.2.2.2.2.2.2.2.1 k0_t4 k0_t6
theorem k0_off121_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off121 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.1.2.2.2.2.2.2.2.2.2.2.2.2.2.2.2.2.2.2.2.2.2.2.2.2.2.2.2.2.1 k0_t4 k0_t6
theorem k0_off122_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off122 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.1.2.2.2.2.2.2.2.2.2.2.2.2.2.2.2.2.2.2.2.2.2.2.2.2.2.2.2.2.2.1 k0_t4 k0_t6
theorem k0_off123_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off123 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.1.2.2.2.2.2.2.2.2.2.2.2.2.2.2.2.2.2.2.2.2.2.2.2.2.2.2.2.2.2.2.1 k0_t4 k0_t6
theorem k0_off124_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off124 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.1.2.2.2.2.2.2.2.2.2.2.2.2.2.2.2.2.2.2.2.2.2.2.2.2.2.2.2.2.2.2.2 k0_t4 k0_t6
theorem k0_off125_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off125 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.2.1.1 k0_t4 k0_t6
theorem k0_off126_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off126 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.2.1.2.1 k0_t4 k0_t6
theorem k0_off127_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off127 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.2.1.2.2.1 k0_t4 k0_t6
theorem k0_off128_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off128 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.2.1.2.2.2.1 k0_t4 k0_t6
theorem k0_off129_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off129 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.2.1.2.2.2.2.1 k0_t4 k0_t6
theorem k0_off130_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off130 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.2.1.2.2.2.2.2.1 k0_t4 k0_t6
theorem k0_off131_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off131 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.2.1.2.2.2.2.2.2.1 k0_t4 k0_t6
theorem k0_off132_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off132 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.2.1.2.2.2.2.2.2.2.1 k0_t4 k0_t6
theorem k0_off133_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off133 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.2.1.2.2.2.2.2.2.2.2.1 k0_t4 k0_t6
theorem k0_off134_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off134 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.2.1.2.2.2.2.2.2.2.2.2.1 k0_t4 k0_t6
theorem k0_off135_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off135 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.2.1.2.2.2.2.2.2.2.2.2.2.1 k0_t4 k0_t6
theorem k0_off136_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off136 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.2.1.2.2.2.2.2.2.2.2.2.2.2.1 k0_t4 k0_t6
theorem k0_off137_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off137 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.2.1.2.2.2.2.2.2.2.2.2.2.2.2.1 k0_t4 k0_t6
theorem k0_off138_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off138 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.2.1.2.2.2.2.2.2.2.2.2.2.2.2.2.1 k0_t4 k0_t6
theorem k0_off139_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off139 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.2.1.2.2.2.2.2.2.2.2.2.2.2.2.2.2.1 k0_t4 k0_t6
theorem k0_off140_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off140 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.2.1.2.2.2.2.2.2.2.2.2.2.2.2.2.2.2.1 k0_t4 k0_t6
theorem k0_off141_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off141 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.2.1.2.2.2.2.2.2.2.2.2.2.2.2.2.2.2.2.1 k0_t4 k0_t6
theorem k0_off142_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t4 : Fin (k0_t4_loop i v5 v9 v13 v17 v21 v25 v29 v33 v37 v41 v45 v49 v53 v57 v61 v65).trips) (k0_t6 : Fin (k0_t6_loop i v5 v9 v13 v17 v21 v25 v29 v33 v37 v41 v45 v49 v53 v57 v61 v65 k0_t4).trips), ∀ a, (k0_off142 i v5 v9 v13 v17 v21 v25 v29 v33 v37 v41 v45 v49 v53 v57 v61 v65 k0_t4 k0_t6) a + S1x1x16.size a ≤ S96x1x512.size a := fun i v5 v9 v13 v17 v21 v25 v29 v33 v37 v41 v45 v49 v53 v57 v61 v65 k0_hw1 k0_t4 k0_t6 => k0_hw1.2.2.2.2.1.2.2.2.2.2.2.2.2.2.2.2.2.2.2.2.2.2.1 k0_t4 k0_t6
theorem k0_off144_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h5 : k0_cond5 i v5 v9 v13 v17 v21 v25 v29 v33 v37 v41 v45 v49 v53 v57 v61 v65 = 1#1), ∀ a, (k0_off144 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h5 => k0_hw1.2.2.2.2.1.2.2.2.2.2.2.2.2.2.2.2.2.2.2.2.2.2.2.1 k0_h5
theorem k0_off146_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h6 : k0_cond6 i v5 v9 v13 v17 v21 v25 v29 v33 v37 v41 v45 v49 v53 v57 v61 v65 = 1#1), ∀ a, (k0_off146 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h6 => k0_hw1.2.2.2.2.1.2.2.2.2.2.2.2.2.2.2.2.2.2.2.2.2.2.2.2.1 k0_h6
theorem k0_t7_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t7_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.1.2.2.2.2.2.2.2.2.2.2.2.2.2.2.2.2.2.2.2.2.1
theorem k0_off147_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips), ∀ (k0_h7 : k0_cond7 i v5 v9 v13 v17 v21 v25 v29 v33 v37 v41 v45 v49 v53 v57 v61 v65 k0_t7 = 1#1), ∀ a, (k0_off147 i v5 v9 v13 v17 v21 v25 v29 v33 v37 v41 v45 v49 v53 v57 v61 v65 k0_t7) a + S32x1x512.size a ≤ S96x1x512.size a := fun i v5 v9 v13 v17 v21 v25 v29 v33 v37 v41 v45 v49 v53 v57 v61 v65 k0_hw1 k0_t7 k0_h7 => k0_hw1.2.2.2.2.1.2.2.2.2.2.2.2.2.2.2.2.2.2.2.2.2.2.2.2.2.2.1 k0_t7 k0_h7
theorem k0_off148_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips), ∀ (k0_h7 : k0_cond7 i v5 v9 v13 v17 v21 v25 v29 v33 v37 v41 v45 v49 v53 v57 v61 v65 k0_t7 = 1#1), ∀ a, (k0_off148 i v5 v9 v13 v17 v21 v25 v29 v33 v37 v41 v45 v49 v53 v57 v61 v65 k0_t7) a + S32x1x512.size a ≤ S2048x16x512.size a := fun i v5 v9 v13 v17 v21 v25 v29 v33 v37 v41 v45 v49 v53 v57 v61 v65 k0_hw1 k0_t7 k0_h7 => k0_hw1.2.2.2.2.1.2.2.2.2.2.2.2.2.2.2.2.2.2.2.2.2.2.2.2.2.2.2.1 k0_t7 k0_h7
theorem k0_off149_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips), ∀ (k0_h7 : k0_cond7 i v5 v9 v13 v17 v21 v25 v29 v33 v37 v41 v45 v49 v53 v57 v61 v65 k0_t7 = 1#1), ∀ a, (k0_off149 i v5 v9 v13 v17 v21 v25 v29 v33 v37 v41 v45 v49 v53 v57 v61 v65 k0_t7) a + S1.size a ≤ S3.size a := fun i v5 v9 v13 v17 v21 v25 v29 v33 v37 v41 v45 v49 v53 v57 v61 v65 k0_hw1 k0_t7 k0_h7 => k0_hw1.2.2.2.2.1.2.2.2.2.2.2.2.2.2.2.2.2.2.2.2.2.2.2.2.2.2.2.2.1 k0_t7 k0_h7
theorem k0_off150_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips), ∀ a, (k0_off150 i v5 v9 v13 v17 v21 v25 v29 v33 v37 v41 v45 v49 v53 v57 v61 v65 k0_t7) a + S32x1x512.size a ≤ S96x1x512.size a := fun i v5 v9 v13 v17 v21 v25 v29 v33 v37 v41 v45 v49 v53 v57 v61 v65 k0_hw1 k0_t7 => k0_hw1.2.2.2.2.1.2.2.2.2.2.2.2.2.2.2.2.2.2.2.2.2.2.2.2.2.2.2.2.2.1 k0_t7
theorem k0_off151_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips), ∀ a, (k0_off151 i v5 v9 v13 v17 v21 v25 v29 v33 v37 v41 v45 v49 v53 v57 v61 v65 k0_t7) a + S1.size a ≤ S3.size a := fun i v5 v9 v13 v17 v21 v25 v29 v33 v37 v41 v45 v49 v53 v57 v61 v65 k0_hw1 k0_t7 => k0_hw1.2.2.2.2.1.2.2.2.2.2.2.2.2.2.2.2.2.2.2.2.2.2.2.2.2.2.2.2.2.2.1 k0_t7
theorem k0_t8_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips), (k0_t8_loop i v5 v9 v13 v17 v21 v25 v29 v33 v37 v41 v45 v49 v53 v57 v61 v65 k0_t7).OK := fun i v5 v9 v13 v17 v21 v25 v29 v33 v37 v41 v45 v49 v53 v57 v61 v65 k0_hw1 k0_t7 => k0_hw1.2.2.2.2.1.2.2.2.2.2.2.2.2.2.2.2.2.2.2.2.2.2.2.2.2.2.2.2.2.2.2.1 k0_t7
theorem k0_off152_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off152 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.1.2.2.2.2.2.2.2.2.2.2.2.2.2.2.2.2.2.2.2.2.2.2.2.2.2.2.2.1 k0_t7 k0_t8
theorem k0_off153_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off153 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.1.2.2.2.2.2.2.2.2.2.2.2.2.2.2.2.2.2.2.2.2.2.2.2.2.2.2.2.2.1 k0_t7 k0_t8
theorem k0_off154_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off154 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.1.2.2.2.2.2.2.2.2.2.2.2.2.2.2.2.2.2.2.2.2.2.2.2.2.2.2.2.2.2.1 k0_t7 k0_t8
theorem k0_off155_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off155 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.1.2.2.2.2.2.2.2.2.2.2.2.2.2.2.2.2.2.2.2.2.2.2.2.2.2.2.2.2.2.2.1 k0_t7 k0_t8
theorem k0_off156_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off156 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.1.2.2.2.2.2.2.2.2.2.2.2.2.2.2.2.2.2.2.2.2.2.2.2.2.2.2.2.2.2.2.2 k0_t7 k0_t8
theorem k0_off157_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off157 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.1 k0_t7 k0_t8
theorem k0_off158_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off158 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.1 k0_t7 k0_t8
theorem k0_off159_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off159 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.1 k0_t7 k0_t8
theorem k0_off160_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off160 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.1 k0_t7 k0_t8
theorem k0_off161_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off161 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.1 k0_t7 k0_t8
theorem k0_off162_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off162 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.1 k0_t7 k0_t8
theorem k0_off163_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off163 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.1 k0_t7 k0_t8
theorem k0_off164_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off164 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.2.1 k0_t7 k0_t8
theorem k0_off165_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off165 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.2.2.1 k0_t7 k0_t8
theorem k0_off166_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off166 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.2.2.2.1 k0_t7 k0_t8
theorem k0_off167_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off167 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.2.2.2.2.1 k0_t7 k0_t8
theorem k0_off168_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off168 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.2.2.2.2.2.1 k0_t7 k0_t8
theorem k0_off169_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off169 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.2.2.2.2.2.2.1 k0_t7 k0_t8
theorem k0_off170_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off170 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.2.2.2.2.2.2.2.1 k0_t7 k0_t8
theorem k0_off171_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off171 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.2.2.2.2.2.2.2.2.1 k0_t7 k0_t8
theorem k0_off172_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off172 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.2.2.2.2.2.2.2.2.2.1 k0_t7 k0_t8
theorem k0_off173_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off173 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.2.2.2.2.2.2.2.2.2.2.1 k0_t7 k0_t8
theorem k0_off174_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off174 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.2.2.2.2.2.2.2.2.2.2.2.1 k0_t7 k0_t8
theorem k0_off175_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off175 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.2.2.2.2.2.2.2.2.2.2.2.2.1 k0_t7 k0_t8
theorem k0_off176_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off176 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.2.2.2.2.2.2.2.2.2.2.2.2.2.1 k0_t7 k0_t8
theorem k0_off177_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off177 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.2.2.2.2.2.2.2.2.2.2.2.2.2.2.1 k0_t7 k0_t8
theorem k0_off178_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off178 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.2.2.2.2.2.2.2.2.2.2.2.2.2.2.2.1 k0_t7 k0_t8
theorem k0_off179_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off179 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.2.2.2.2.2.2.2.2.2.2.2.2.2.2.2.2.1 k0_t7 k0_t8
theorem k0_off180_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off180 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.2.2.2.2.2.2.2.2.2.2.2.2.2.2.2.2.2.1 k0_t7 k0_t8
theorem k0_off181_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off181 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.2.2.2.2.2.2.2.2.2.2.2.2.2.2.2.2.2.2.1 k0_t7 k0_t8
theorem k0_off182_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off182 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.2.2.2.2.2.2.2.2.2.2.2.2.2.2.2.2.2.2.2.1 k0_t7 k0_t8
theorem k0_off183_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t8 : Fin (k0_t8_loop i v5 v9 v13 v17 v21 v25 v29 v33 v37 v41 v45 v49 v53 v57 v61 v65 k0_t7).trips), ∀ a, (k0_off183 i v5 v9 v13 v17 v21 v25 v29 v33 v37 v41 v45 v49 v53 v57 v61 v65 k0_t7 k0_t8) a + S1x1x16.size a ≤ S96x1x512.size a := fun i v5 v9 v13 v17 v21 v25 v29 v33 v37 v41 v45 v49 v53 v57 v61 v65 k0_hw1 k0_t7 k0_t8 => k0_hw1.2.2.2.2.2.1.2.2.2.2.2.2.2.2.2.2.2.2.2.2.2.2.2.2.2.2.2.2.2.2.2.2.1 k0_t7 k0_t8
theorem k0_t9_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips), (k0_t9_loop i v5 v9 v13 v17 v21 v25 v29 v33 v37 v41 v45 v49 v53 v57 v61 v65 k0_t7).OK := fun i v5 v9 v13 v17 v21 v25 v29 v33 v37 v41 v45 v49 v53 v57 v61 v65 k0_hw1 k0_t7 => k0_hw1.2.2.2.2.2.1.2.2.2.2.2.2.2.2.2.2.2.2.2.2.2.2.2.2.2.2.2.2.2.2.2.2.2.1 k0_t7
theorem k0_off184_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off184 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.1.2.2.2.2.2.2.2.2.2.2.2.2.2.2.2.2.2.2.2.2.2.2.2.2.2.2.2.2.1 k0_t7 k0_t9
theorem k0_off185_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off185 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.1.2.2.2.2.2.2.2.2.2.2.2.2.2.2.2.2.2.2.2.2.2.2.2.2.2.2.2.2.2.1 k0_t7 k0_t9
theorem k0_off186_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off186 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.1.2.2.2.2.2.2.2.2.2.2.2.2.2.2.2.2.2.2.2.2.2.2.2.2.2.2.2.2.2.2.1 k0_t7 k0_t9
theorem k0_off187_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off187 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.1.2.2.2.2.2.2.2.2.2.2.2.2.2.2.2.2.2.2.2.2.2.2.2.2.2.2.2.2.2.2.2 k0_t7 k0_t9
theorem k0_off188_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off188 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.1 k0_t7 k0_t9
theorem k0_off189_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off189 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.1 k0_t7 k0_t9
theorem k0_off190_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off190 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.1 k0_t7 k0_t9
theorem k0_off191_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off191 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.1 k0_t7 k0_t9
theorem k0_off192_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off192 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.1 k0_t7 k0_t9
theorem k0_off193_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off193 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.1 k0_t7 k0_t9
theorem k0_off194_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off194 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.1 k0_t7 k0_t9
theorem k0_off195_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off195 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.1 k0_t7 k0_t9
theorem k0_off196_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off196 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.2.1 k0_t7 k0_t9
theorem k0_off197_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off197 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.2.2.1 k0_t7 k0_t9
theorem k0_off198_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off198 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.2.2.2.1 k0_t7 k0_t9
theorem k0_off199_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off199 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.2.2.2.2.1 k0_t7 k0_t9
theorem k0_off200_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off200 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.2.2.2.2.2.1 k0_t7 k0_t9
theorem k0_off201_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off201 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.2.2.2.2.2.2.1 k0_t7 k0_t9
theorem k0_off202_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off202 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.2.2.2.2.2.2.2.1 k0_t7 k0_t9
theorem k0_off203_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off203 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.2.2.2.2.2.2.2.2.1 k0_t7 k0_t9
theorem k0_off204_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off204 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.2.2.2.2.2.2.2.2.2.1 k0_t7 k0_t9
theorem k0_off205_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off205 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.2.2.2.2.2.2.2.2.2.2.1 k0_t7 k0_t9
theorem k0_off206_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off206 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.2.2.2.2.2.2.2.2.2.2.2.1 k0_t7 k0_t9
theorem k0_off207_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off207 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.2.2.2.2.2.2.2.2.2.2.2.2.1 k0_t7 k0_t9
theorem k0_off208_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off208 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.2.2.2.2.2.2.2.2.2.2.2.2.2.1 k0_t7 k0_t9
theorem k0_off209_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off209 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.2.2.2.2.2.2.2.2.2.2.2.2.2.2.1 k0_t7 k0_t9
theorem k0_off210_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off210 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.2.2.2.2.2.2.2.2.2.2.2.2.2.2.2.1 k0_t7 k0_t9
theorem k0_off211_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off211 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.2.2.2.2.2.2.2.2.2.2.2.2.2.2.2.2.1 k0_t7 k0_t9
theorem k0_off212_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off212 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.2.2.2.2.2.2.2.2.2.2.2.2.2.2.2.2.2.1 k0_t7 k0_t9
theorem k0_off213_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off213 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.2.2.2.2.2.2.2.2.2.2.2.2.2.2.2.2.2.2.1 k0_t7 k0_t9
theorem k0_off214_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off214 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.2.2.2.2.2.2.2.2.2.2.2.2.2.2.2.2.2.2.2.1 k0_t7 k0_t9
theorem k0_off215_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t7 : Fin (k0_t7_loop i v5 v9 v13 v17 v21 v25 v29 v33 v37 v41 v45 v49 v53 v57 v61 v65).trips) (k0_t9 : Fin (k0_t9_loop i v5 v9 v13 v17 v21 v25 v29 v33 v37 v41 v45 v49 v53 v57 v61 v65 k0_t7).trips), ∀ a, (k0_off215 i v5 v9 v13 v17 v21 v25 v29 v33 v37 v41 v45 v49 v53 v57 v61 v65 k0_t7 k0_t9) a + S1x1x16.size a ≤ S96x1x512.size a := fun i v5 v9 v13 v17 v21 v25 v29 v33 v37 v41 v45 v49 v53 v57 v61 v65 k0_hw1 k0_t7 k0_t9 => k0_hw1.2.2.2.2.2.2.1.2.2.2.2.2.2.2.2.2.2.2.2.2.2.2.2.2.2.2.2.2.2.2.2.2.2.2.1 k0_t7 k0_t9
theorem k0_t10_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t10_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.1.2.2.2.2.2.2.2.2.2.2.2.2.2.2.2.2.2.2.2.2.2.2.2.2.2.2.2.2.1
theorem k0_off216_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips), ∀ (k0_h8 : k0_cond8 i v5 v9 v13 v17 v21 v25 v29 v33 v37 v41 v45 v49 v53 v57 v61 v65 k0_t10 = 1#1), ∀ a, (k0_off216 i v5 v9 v13 v17 v21 v25 v29 v33 v37 v41 v45 v49 v53 v57 v61 v65 k0_t10) a + S32x1x512.size a ≤ S96x1x512.size a := fun i v5 v9 v13 v17 v21 v25 v29 v33 v37 v41 v45 v49 v53 v57 v61 v65 k0_hw1 k0_t10 k0_h8 => k0_hw1.2.2.2.2.2.2.1.2.2.2.2.2.2.2.2.2.2.2.2.2.2.2.2.2.2.2.2.2.2.2.2.2.2.2.2.2.1 k0_t10 k0_h8
theorem k0_off217_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips), ∀ (k0_h8 : k0_cond8 i v5 v9 v13 v17 v21 v25 v29 v33 v37 v41 v45 v49 v53 v57 v61 v65 k0_t10 = 1#1), ∀ a, (k0_off217 i v5 v9 v13 v17 v21 v25 v29 v33 v37 v41 v45 v49 v53 v57 v61 v65 k0_t10) a + S32x1x512.size a ≤ S2048x16x512.size a := fun i v5 v9 v13 v17 v21 v25 v29 v33 v37 v41 v45 v49 v53 v57 v61 v65 k0_hw1 k0_t10 k0_h8 => k0_hw1.2.2.2.2.2.2.1.2.2.2.2.2.2.2.2.2.2.2.2.2.2.2.2.2.2.2.2.2.2.2.2.2.2.2.2.2.2.1 k0_t10 k0_h8
theorem k0_off218_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips), ∀ (k0_h8 : k0_cond8 i v5 v9 v13 v17 v21 v25 v29 v33 v37 v41 v45 v49 v53 v57 v61 v65 k0_t10 = 1#1), ∀ a, (k0_off218 i v5 v9 v13 v17 v21 v25 v29 v33 v37 v41 v45 v49 v53 v57 v61 v65 k0_t10) a + S1.size a ≤ S3.size a := fun i v5 v9 v13 v17 v21 v25 v29 v33 v37 v41 v45 v49 v53 v57 v61 v65 k0_hw1 k0_t10 k0_h8 => k0_hw1.2.2.2.2.2.2.1.2.2.2.2.2.2.2.2.2.2.2.2.2.2.2.2.2.2.2.2.2.2.2.2.2.2.2.2.2.2.2 k0_t10 k0_h8
theorem k0_off219_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips), ∀ a, (k0_off219 i v5 v9 v13 v17 v21 v25 v29 v33 v37 v41 v45 v49 v53 v57 v61 v65 k0_t10) a + S32x1x512.size a ≤ S96x1x512.size a := fun i v5 v9 v13 v17 v21 v25 v29 v33 v37 v41 v45 v49 v53 v57 v61 v65 k0_hw1 k0_t10 => k0_hw1.2.2.2.2.2.2.2.1.1 k0_t10
theorem k0_off220_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips), ∀ a, (k0_off220 i v5 v9 v13 v17 v21 v25 v29 v33 v37 v41 v45 v49 v53 v57 v61 v65 k0_t10) a + S1.size a ≤ S3.size a := fun i v5 v9 v13 v17 v21 v25 v29 v33 v37 v41 v45 v49 v53 v57 v61 v65 k0_hw1 k0_t10 => k0_hw1.2.2.2.2.2.2.2.1.2.1 k0_t10
theorem k0_t11_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips), (k0_t11_loop i v5 v9 v13 v17 v21 v25 v29 v33 v37 v41 v45 v49 v53 v57 v61 v65 k0_t10).OK := fun i v5 v9 v13 v17 v21 v25 v29 v33 v37 v41 v45 v49 v53 v57 v61 v65 k0_hw1 k0_t10 => k0_hw1.2.2.2.2.2.2.2.1.2.2.1 k0_t10
theorem k0_off221_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off221 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.1 k0_t10 k0_t11
theorem k0_off222_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off222 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.1 k0_t10 k0_t11
theorem k0_off223_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off223 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.1 k0_t10 k0_t11
theorem k0_off224_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off224 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.1 k0_t10 k0_t11
theorem k0_off225_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off225 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.1 k0_t10 k0_t11
theorem k0_off226_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off226 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.1 k0_t10 k0_t11
theorem k0_off227_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off227 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.1 k0_t10 k0_t11
theorem k0_off228_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off228 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.1 k0_t10 k0_t11
theorem k0_off229_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off229 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.1 k0_t10 k0_t11
theorem k0_off230_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off230 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.2.1 k0_t10 k0_t11
theorem k0_off231_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off231 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.2.2.1 k0_t10 k0_t11
theorem k0_off232_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off232 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.2.2.2.1 k0_t10 k0_t11
theorem k0_off233_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off233 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.2.2.2.2.1 k0_t10 k0_t11
theorem k0_off234_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off234 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.2.2.2.2.2.1 k0_t10 k0_t11
theorem k0_off235_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off235 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.2.2.2.2.2.2.1 k0_t10 k0_t11
theorem k0_off236_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off236 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.2.2.2.2.2.2.2.1 k0_t10 k0_t11
theorem k0_off237_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off237 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.2.2.2.2.2.2.2.2.1 k0_t10 k0_t11
theorem k0_off238_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off238 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.2.2.2.2.2.2.2.2.2.1 k0_t10 k0_t11
theorem k0_off239_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off239 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.2.2.2.2.2.2.2.2.2.2.1 k0_t10 k0_t11
theorem k0_off240_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off240 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.2.2.2.2.2.2.2.2.2.2.2.1 k0_t10 k0_t11
theorem k0_off241_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off241 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.2.2.2.2.2.2.2.2.2.2.2.2.1 k0_t10 k0_t11
theorem k0_off242_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off242 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.2.2.2.2.2.2.2.2.2.2.2.2.2.1 k0_t10 k0_t11
theorem k0_off243_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off243 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.2.2.2.2.2.2.2.2.2.2.2.2.2.2.1 k0_t10 k0_t11
theorem k0_off244_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off244 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.2.2.2.2.2.2.2.2.2.2.2.2.2.2.2.1 k0_t10 k0_t11
theorem k0_off245_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off245 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.2.2.2.2.2.2.2.2.2.2.2.2.2.2.2.2.1 k0_t10 k0_t11
theorem k0_off246_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off246 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.2.2.2.2.2.2.2.2.2.2.2.2.2.2.2.2.2.1 k0_t10 k0_t11
theorem k0_off247_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off247 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.2.2.2.2.2.2.2.2.2.2.2.2.2.2.2.2.2.2.1 k0_t10 k0_t11
theorem k0_off248_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off248 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.2.2.2.2.2.2.2.2.2.2.2.2.2.2.2.2.2.2.2.1 k0_t10 k0_t11
theorem k0_off249_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off249 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.1.2.2.2.2.2.2.2.2.2.2.2.2.2.2.2.2.2.2.2.2.2.2.2.2.2.2.2.2.2.2.2 k0_t10 k0_t11
theorem k0_off250_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off250 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.2.1.1 k0_t10 k0_t11
theorem k0_off251_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off251 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.2.1.2.1 k0_t10 k0_t11
theorem k0_off252_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t11 : Fin (k0_t11_loop i v5 v9 v13 v17 v21 v25 v29 v33 v37 v41 v45 v49 v53 v57 v61 v65 k0_t10).trips), ∀ a, (k0_off252 i v5 v9 v13 v17 v21 v25 v29 v33 v37 v41 v45 v49 v53 v57 v61 v65 k0_t10 k0_t11) a + S1x1x16.size a ≤ S96x1x512.size a := fun i v5 v9 v13 v17 v21 v25 v29 v33 v37 v41 v45 v49 v53 v57 v61 v65 k0_hw1 k0_t10 k0_t11 => k0_hw1.2.2.2.2.2.2.2.2.1.2.2.1 k0_t10 k0_t11
theorem k0_t12_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips), (k0_t12_loop i v5 v9 v13 v17 v21 v25 v29 v33 v37 v41 v45 v49 v53 v57 v61 v65 k0_t10).OK := fun i v5 v9 v13 v17 v21 v25 v29 v33 v37 v41 v45 v49 v53 v57 v61 v65 k0_hw1 k0_t10 => k0_hw1.2.2.2.2.2.2.2.2.1.2.2.2.1 k0_t10
theorem k0_off253_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off253 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.1 k0_t10 k0_t12
theorem k0_off254_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off254 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.1 k0_t10 k0_t12
theorem k0_off255_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off255 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.1 k0_t10 k0_t12
theorem k0_off256_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off256 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.1 k0_t10 k0_t12
theorem k0_off257_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off257 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.1 k0_t10 k0_t12
theorem k0_off258_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off258 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.1 k0_t10 k0_t12
theorem k0_off259_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off259 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.1 k0_t10 k0_t12
theorem k0_off260_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off260 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.1 k0_t10 k0_t12
theorem k0_off261_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off261 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.2.1 k0_t10 k0_t12
theorem k0_off262_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off262 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.2.2.1 k0_t10 k0_t12
theorem k0_off263_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off263 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.2.2.2.1 k0_t10 k0_t12
theorem k0_off264_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off264 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.2.2.2.2.1 k0_t10 k0_t12
theorem k0_off265_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off265 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.2.2.2.2.2.1 k0_t10 k0_t12
theorem k0_off266_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off266 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.2.2.2.2.2.2.1 k0_t10 k0_t12
theorem k0_off267_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off267 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.2.2.2.2.2.2.2.1 k0_t10 k0_t12
theorem k0_off268_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off268 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.2.2.2.2.2.2.2.2.1 k0_t10 k0_t12
theorem k0_off269_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off269 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.2.2.2.2.2.2.2.2.2.1 k0_t10 k0_t12
theorem k0_off270_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off270 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.2.2.2.2.2.2.2.2.2.2.1 k0_t10 k0_t12
theorem k0_off271_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off271 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.2.2.2.2.2.2.2.2.2.2.2.1 k0_t10 k0_t12
theorem k0_off272_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off272 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.2.2.2.2.2.2.2.2.2.2.2.2.1 k0_t10 k0_t12
theorem k0_off273_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off273 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.2.2.2.2.2.2.2.2.2.2.2.2.2.1 k0_t10 k0_t12
theorem k0_off274_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off274 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.2.2.2.2.2.2.2.2.2.2.2.2.2.2.1 k0_t10 k0_t12
theorem k0_off275_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off275 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.2.2.2.2.2.2.2.2.2.2.2.2.2.2.2.1 k0_t10 k0_t12
theorem k0_off276_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off276 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.2.2.2.2.2.2.2.2.2.2.2.2.2.2.2.2.1 k0_t10 k0_t12
theorem k0_off277_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off277 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.2.2.2.2.2.2.2.2.2.2.2.2.2.2.2.2.2.1 k0_t10 k0_t12
theorem k0_off278_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off278 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.2.2.2.2.2.2.2.2.2.2.2.2.2.2.2.2.2.2.1 k0_t10 k0_t12
theorem k0_off279_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off279 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.2.2.2.2.2.2.2.2.2.2.2.2.2.2.2.2.2.2.2.1 k0_t10 k0_t12
theorem k0_off280_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off280 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.1.2.2.2.2.2.2.2.2.2.2.2.2.2.2.2.2.2.2.2.2.2.2.2.2.2.2.2.2.2.2.2 k0_t10 k0_t12
theorem k0_off281_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off281 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.2.1.1 k0_t10 k0_t12
theorem k0_off282_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off282 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.2.1.2.1 k0_t10 k0_t12
theorem k0_off283_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off283 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.2.1.2.2.1 k0_t10 k0_t12
theorem k0_off284_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t10 : Fin (k0_t10_loop i v5 v9 v13 v17 v21 v25 v29 v33 v37 v41 v45 v49 v53 v57 v61 v65).trips) (k0_t12 : Fin (k0_t12_loop i v5 v9 v13 v17 v21 v25 v29 v33 v37 v41 v45 v49 v53 v57 v61 v65 k0_t10).trips), ∀ a, (k0_off284 i v5 v9 v13 v17 v21 v25 v29 v33 v37 v41 v45 v49 v53 v57 v61 v65 k0_t10 k0_t12) a + S1x1x16.size a ≤ S96x1x512.size a := fun i v5 v9 v13 v17 v21 v25 v29 v33 v37 v41 v45 v49 v53 v57 v61 v65 k0_hw1 k0_t10 k0_t12 => k0_hw1.2.2.2.2.2.2.2.2.2.1.2.2.2.1 k0_t10 k0_t12
theorem k0_off286_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h9 : k0_cond9 i v5 v9 v13 v17 v21 v25 v29 v33 v37 v41 v45 v49 v53 v57 v61 v65 = 1#1), ∀ a, (k0_off286 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h9 => k0_hw1.2.2.2.2.2.2.2.2.2.1.2.2.2.2.1 k0_h9
theorem k0_off288_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h10 : k0_cond10 i v5 v9 v13 v17 v21 v25 v29 v33 v37 v41 v45 v49 v53 v57 v61 v65 = 1#1), ∀ a, (k0_off288 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h10 => k0_hw1.2.2.2.2.2.2.2.2.2.1.2.2.2.2.2.1 k0_h10
theorem k0_t13_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t13_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.1.2.2.2.2.2.2.1
theorem k0_off289_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips), ∀ (k0_h11 : k0_cond11 i v5 v9 v13 v17 v21 v25 v29 v33 v37 v41 v45 v49 v53 v57 v61 v65 k0_t13 = 1#1), ∀ a, (k0_off289 i v5 v9 v13 v17 v21 v25 v29 v33 v37 v41 v45 v49 v53 v57 v61 v65 k0_t13) a + S32x1x512.size a ≤ S96x1x512.size a := fun i v5 v9 v13 v17 v21 v25 v29 v33 v37 v41 v45 v49 v53 v57 v61 v65 k0_hw1 k0_t13 k0_h11 => k0_hw1.2.2.2.2.2.2.2.2.2.1.2.2.2.2.2.2.2.1 k0_t13 k0_h11
theorem k0_off290_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips), ∀ (k0_h11 : k0_cond11 i v5 v9 v13 v17 v21 v25 v29 v33 v37 v41 v45 v49 v53 v57 v61 v65 k0_t13 = 1#1), ∀ a, (k0_off290 i v5 v9 v13 v17 v21 v25 v29 v33 v37 v41 v45 v49 v53 v57 v61 v65 k0_t13) a + S32x1x512.size a ≤ S2048x16x512.size a := fun i v5 v9 v13 v17 v21 v25 v29 v33 v37 v41 v45 v49 v53 v57 v61 v65 k0_hw1 k0_t13 k0_h11 => k0_hw1.2.2.2.2.2.2.2.2.2.1.2.2.2.2.2.2.2.2.1 k0_t13 k0_h11
theorem k0_off291_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips), ∀ (k0_h11 : k0_cond11 i v5 v9 v13 v17 v21 v25 v29 v33 v37 v41 v45 v49 v53 v57 v61 v65 k0_t13 = 1#1), ∀ a, (k0_off291 i v5 v9 v13 v17 v21 v25 v29 v33 v37 v41 v45 v49 v53 v57 v61 v65 k0_t13) a + S1.size a ≤ S3.size a := fun i v5 v9 v13 v17 v21 v25 v29 v33 v37 v41 v45 v49 v53 v57 v61 v65 k0_hw1 k0_t13 k0_h11 => k0_hw1.2.2.2.2.2.2.2.2.2.1.2.2.2.2.2.2.2.2.2.1 k0_t13 k0_h11
theorem k0_off292_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips), ∀ a, (k0_off292 i v5 v9 v13 v17 v21 v25 v29 v33 v37 v41 v45 v49 v53 v57 v61 v65 k0_t13) a + S32x1x512.size a ≤ S96x1x512.size a := fun i v5 v9 v13 v17 v21 v25 v29 v33 v37 v41 v45 v49 v53 v57 v61 v65 k0_hw1 k0_t13 => k0_hw1.2.2.2.2.2.2.2.2.2.1.2.2.2.2.2.2.2.2.2.2.1 k0_t13
theorem k0_off293_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips), ∀ a, (k0_off293 i v5 v9 v13 v17 v21 v25 v29 v33 v37 v41 v45 v49 v53 v57 v61 v65 k0_t13) a + S1.size a ≤ S3.size a := fun i v5 v9 v13 v17 v21 v25 v29 v33 v37 v41 v45 v49 v53 v57 v61 v65 k0_hw1 k0_t13 => k0_hw1.2.2.2.2.2.2.2.2.2.1.2.2.2.2.2.2.2.2.2.2.2.1 k0_t13
theorem k0_t14_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips), (k0_t14_loop i v5 v9 v13 v17 v21 v25 v29 v33 v37 v41 v45 v49 v53 v57 v61 v65 k0_t13).OK := fun i v5 v9 v13 v17 v21 v25 v29 v33 v37 v41 v45 v49 v53 v57 v61 v65 k0_hw1 k0_t13 => k0_hw1.2.2.2.2.2.2.2.2.2.1.2.2.2.2.2.2.2.2.2.2.2.2.1 k0_t13
theorem k0_off294_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off294 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.1.2.2.2.2.2.2.2.2.2.2.2.2.2.1 k0_t13 k0_t14
theorem k0_off295_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off295 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.1.2.2.2.2.2.2.2.2.2.2.2.2.2.2.1 k0_t13 k0_t14
theorem k0_off296_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off296 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.1.2.2.2.2.2.2.2.2.2.2.2.2.2.2.2.1 k0_t13 k0_t14
theorem k0_off297_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off297 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.1.2.2.2.2.2.2.2.2.2.2.2.2.2.2.2.2.1 k0_t13 k0_t14
theorem k0_off298_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off298 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.1.2.2.2.2.2.2.2.2.2.2.2.2.2.2.2.2.2.1 k0_t13 k0_t14
theorem k0_off299_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off299 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.1.2.2.2.2.2.2.2.2.2.2.2.2.2.2.2.2.2.2.1 k0_t13 k0_t14
theorem k0_off300_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off300 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.1.2.2.2.2.2.2.2.2.2.2.2.2.2.2.2.2.2.2.2.1 k0_t13 k0_t14
theorem k0_off301_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off301 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.1.2.2.2.2.2.2.2.2.2.2.2.2.2.2.2.2.2.2.2.2.1 k0_t13 k0_t14
theorem k0_off302_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off302 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.1.2.2.2.2.2.2.2.2.2.2.2.2.2.2.2.2.2.2.2.2.2.1 k0_t13 k0_t14
theorem k0_off303_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off303 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.1.2.2.2.2.2.2.2.2.2.2.2.2.2.2.2.2.2.2.2.2.2.2.1 k0_t13 k0_t14
theorem k0_off304_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off304 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.1.2.2.2.2.2.2.2.2.2.2.2.2.2.2.2.2.2.2.2.2.2.2.2.1 k0_t13 k0_t14
theorem k0_off305_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off305 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.1.2.2.2.2.2.2.2.2.2.2.2.2.2.2.2.2.2.2.2.2.2.2.2.2.1 k0_t13 k0_t14
theorem k0_off306_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off306 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.1.2.2.2.2.2.2.2.2.2.2.2.2.2.2.2.2.2.2.2.2.2.2.2.2.2.1 k0_t13 k0_t14
theorem k0_off307_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off307 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.1.2.2.2.2.2.2.2.2.2.2.2.2.2.2.2.2.2.2.2.2.2.2.2.2.2.2.1 k0_t13 k0_t14
theorem k0_off308_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off308 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.1.2.2.2.2.2.2.2.2.2.2.2.2.2.2.2.2.2.2.2.2.2.2.2.2.2.2.2.1 k0_t13 k0_t14
theorem k0_off309_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off309 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.1.2.2.2.2.2.2.2.2.2.2.2.2.2.2.2.2.2.2.2.2.2.2.2.2.2.2.2.2.1 k0_t13 k0_t14
theorem k0_off310_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off310 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.1.2.2.2.2.2.2.2.2.2.2.2.2.2.2.2.2.2.2.2.2.2.2.2.2.2.2.2.2.2.1 k0_t13 k0_t14
theorem k0_off311_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off311 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.1.2.2.2.2.2.2.2.2.2.2.2.2.2.2.2.2.2.2.2.2.2.2.2.2.2.2.2.2.2.2.1 k0_t13 k0_t14
theorem k0_off312_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off312 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.1.2.2.2.2.2.2.2.2.2.2.2.2.2.2.2.2.2.2.2.2.2.2.2.2.2.2.2.2.2.2.2 k0_t13 k0_t14
theorem k0_off313_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off313 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.2.1.1 k0_t13 k0_t14
theorem k0_off314_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off314 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.2.1.2.1 k0_t13 k0_t14
theorem k0_off315_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off315 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.2.1.2.2.1 k0_t13 k0_t14
theorem k0_off316_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off316 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.2.1.2.2.2.1 k0_t13 k0_t14
theorem k0_off317_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off317 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.2.1.2.2.2.2.1 k0_t13 k0_t14
theorem k0_off318_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off318 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.2.1.2.2.2.2.2.1 k0_t13 k0_t14
theorem k0_off319_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off319 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.2.1.2.2.2.2.2.2.1 k0_t13 k0_t14
theorem k0_off320_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off320 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.2.1.2.2.2.2.2.2.2.1 k0_t13 k0_t14
theorem k0_off321_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off321 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.2.1.2.2.2.2.2.2.2.2.1 k0_t13 k0_t14
theorem k0_off322_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off322 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.2.1.2.2.2.2.2.2.2.2.2.1 k0_t13 k0_t14
theorem k0_off323_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off323 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.2.1.2.2.2.2.2.2.2.2.2.2.1 k0_t13 k0_t14
theorem k0_off324_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off324 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.2.1.2.2.2.2.2.2.2.2.2.2.2.1 k0_t13 k0_t14
theorem k0_off325_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t14 : Fin (k0_t14_loop i v5 v9 v13 v17 v21 v25 v29 v33 v37 v41 v45 v49 v53 v57 v61 v65 k0_t13).trips), ∀ a, (k0_off325 i v5 v9 v13 v17 v21 v25 v29 v33 v37 v41 v45 v49 v53 v57 v61 v65 k0_t13 k0_t14) a + S1x1x16.size a ≤ S96x1x512.size a := fun i v5 v9 v13 v17 v21 v25 v29 v33 v37 v41 v45 v49 v53 v57 v61 v65 k0_hw1 k0_t13 k0_t14 => k0_hw1.2.2.2.2.2.2.2.2.2.2.1.2.2.2.2.2.2.2.2.2.2.2.2.1 k0_t13 k0_t14
theorem k0_t15_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips), (k0_t15_loop i v5 v9 v13 v17 v21 v25 v29 v33 v37 v41 v45 v49 v53 v57 v61 v65 k0_t13).OK := fun i v5 v9 v13 v17 v21 v25 v29 v33 v37 v41 v45 v49 v53 v57 v61 v65 k0_hw1 k0_t13 => k0_hw1.2.2.2.2.2.2.2.2.2.2.1.2.2.2.2.2.2.2.2.2.2.2.2.2.1 k0_t13
theorem k0_off326_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off326 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.1.2.2.2.2.2.2.2.2.2.2.2.2.2.2.1 k0_t13 k0_t15
theorem k0_off327_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off327 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.1.2.2.2.2.2.2.2.2.2.2.2.2.2.2.2.1 k0_t13 k0_t15
theorem k0_off328_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off328 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.1.2.2.2.2.2.2.2.2.2.2.2.2.2.2.2.2.1 k0_t13 k0_t15
theorem k0_off329_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off329 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.1.2.2.2.2.2.2.2.2.2.2.2.2.2.2.2.2.2.1 k0_t13 k0_t15
theorem k0_off330_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off330 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.1.2.2.2.2.2.2.2.2.2.2.2.2.2.2.2.2.2.2.1 k0_t13 k0_t15
theorem k0_off331_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off331 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.1.2.2.2.2.2.2.2.2.2.2.2.2.2.2.2.2.2.2.2.1 k0_t13 k0_t15
theorem k0_off332_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off332 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.1.2.2.2.2.2.2.2.2.2.2.2.2.2.2.2.2.2.2.2.2.1 k0_t13 k0_t15
theorem k0_off333_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off333 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.1.2.2.2.2.2.2.2.2.2.2.2.2.2.2.2.2.2.2.2.2.2.1 k0_t13 k0_t15
theorem k0_off334_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off334 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.1.2.2.2.2.2.2.2.2.2.2.2.2.2.2.2.2.2.2.2.2.2.2.1 k0_t13 k0_t15
theorem k0_off335_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off335 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.1.2.2.2.2.2.2.2.2.2.2.2.2.2.2.2.2.2.2.2.2.2.2.2.1 k0_t13 k0_t15
theorem k0_off336_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off336 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.1.2.2.2.2.2.2.2.2.2.2.2.2.2.2.2.2.2.2.2.2.2.2.2.2.1 k0_t13 k0_t15
theorem k0_off337_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off337 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.1.2.2.2.2.2.2.2.2.2.2.2.2.2.2.2.2.2.2.2.2.2.2.2.2.2.1 k0_t13 k0_t15
theorem k0_off338_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off338 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.1.2.2.2.2.2.2.2.2.2.2.2.2.2.2.2.2.2.2.2.2.2.2.2.2.2.2.1 k0_t13 k0_t15
theorem k0_off339_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off339 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.1.2.2.2.2.2.2.2.2.2.2.2.2.2.2.2.2.2.2.2.2.2.2.2.2.2.2.2.1 k0_t13 k0_t15
theorem k0_off340_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off340 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.1.2.2.2.2.2.2.2.2.2.2.2.2.2.2.2.2.2.2.2.2.2.2.2.2.2.2.2.2.1 k0_t13 k0_t15
theorem k0_off341_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off341 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.1.2.2.2.2.2.2.2.2.2.2.2.2.2.2.2.2.2.2.2.2.2.2.2.2.2.2.2.2.2.1 k0_t13 k0_t15
theorem k0_off342_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off342 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.1.2.2.2.2.2.2.2.2.2.2.2.2.2.2.2.2.2.2.2.2.2.2.2.2.2.2.2.2.2.2.1 k0_t13 k0_t15
theorem k0_off343_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off343 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.1.2.2.2.2.2.2.2.2.2.2.2.2.2.2.2.2.2.2.2.2.2.2.2.2.2.2.2.2.2.2.2 k0_t13 k0_t15
theorem k0_off344_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off344 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.2.1.1 k0_t13 k0_t15
theorem k0_off345_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off345 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.2.1.2.1 k0_t13 k0_t15
theorem k0_off346_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off346 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.2.1.2.2.1 k0_t13 k0_t15
theorem k0_off347_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off347 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.2.1.2.2.2.1 k0_t13 k0_t15
theorem k0_off348_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off348 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.2.1.2.2.2.2.1 k0_t13 k0_t15
theorem k0_off349_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off349 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.2.1.2.2.2.2.2.1 k0_t13 k0_t15
theorem k0_off350_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off350 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.2.1.2.2.2.2.2.2.1 k0_t13 k0_t15
theorem k0_off351_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off351 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.2.1.2.2.2.2.2.2.2.1 k0_t13 k0_t15
theorem k0_off352_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off352 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.2.1.2.2.2.2.2.2.2.2.1 k0_t13 k0_t15
theorem k0_off353_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off353 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.2.1.2.2.2.2.2.2.2.2.2.1 k0_t13 k0_t15
theorem k0_off354_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off354 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.2.1.2.2.2.2.2.2.2.2.2.2.1 k0_t13 k0_t15
theorem k0_off355_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off355 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.2.1.2.2.2.2.2.2.2.2.2.2.2.1 k0_t13 k0_t15
theorem k0_off356_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off356 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.2.1.2.2.2.2.2.2.2.2.2.2.2.2.1 k0_t13 k0_t15
theorem k0_off357_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t13 : Fin (k0_t13_loop i v5 v9 v13 v17 v21 v25 v29 v33 v37 v41 v45 v49 v53 v57 v61 v65).trips) (k0_t15 : Fin (k0_t15_loop i v5 v9 v13 v17 v21 v25 v29 v33 v37 v41 v45 v49 v53 v57 v61 v65 k0_t13).trips), ∀ a, (k0_off357 i v5 v9 v13 v17 v21 v25 v29 v33 v37 v41 v45 v49 v53 v57 v61 v65 k0_t13 k0_t15) a + S1x1x16.size a ≤ S96x1x512.size a := fun i v5 v9 v13 v17 v21 v25 v29 v33 v37 v41 v45 v49 v53 v57 v61 v65 k0_hw1 k0_t13 k0_t15 => k0_hw1.2.2.2.2.2.2.2.2.2.2.2.1.2.2.2.2.2.2.2.2.2.2.2.2.2.1 k0_t13 k0_t15
theorem k0_t16_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t16_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.1.2.2.2.2.2.2.2.2.2.2.2.2.2.2.1
theorem k0_off358_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips), ∀ (k0_h12 : k0_cond12 i v5 v9 v13 v17 v21 v25 v29 v33 v37 v41 v45 v49 v53 v57 v61 v65 k0_t16 = 1#1), ∀ a, (k0_off358 i v5 v9 v13 v17 v21 v25 v29 v33 v37 v41 v45 v49 v53 v57 v61 v65 k0_t16) a + S32x1x512.size a ≤ S96x1x512.size a := fun i v5 v9 v13 v17 v21 v25 v29 v33 v37 v41 v45 v49 v53 v57 v61 v65 k0_hw1 k0_t16 k0_h12 => k0_hw1.2.2.2.2.2.2.2.2.2.2.2.1.2.2.2.2.2.2.2.2.2.2.2.2.2.2.2.1 k0_t16 k0_h12
theorem k0_off359_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips), ∀ (k0_h12 : k0_cond12 i v5 v9 v13 v17 v21 v25 v29 v33 v37 v41 v45 v49 v53 v57 v61 v65 k0_t16 = 1#1), ∀ a, (k0_off359 i v5 v9 v13 v17 v21 v25 v29 v33 v37 v41 v45 v49 v53 v57 v61 v65 k0_t16) a + S32x1x512.size a ≤ S2048x16x512.size a := fun i v5 v9 v13 v17 v21 v25 v29 v33 v37 v41 v45 v49 v53 v57 v61 v65 k0_hw1 k0_t16 k0_h12 => k0_hw1.2.2.2.2.2.2.2.2.2.2.2.1.2.2.2.2.2.2.2.2.2.2.2.2.2.2.2.2.1 k0_t16 k0_h12
theorem k0_off360_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips), ∀ (k0_h12 : k0_cond12 i v5 v9 v13 v17 v21 v25 v29 v33 v37 v41 v45 v49 v53 v57 v61 v65 k0_t16 = 1#1), ∀ a, (k0_off360 i v5 v9 v13 v17 v21 v25 v29 v33 v37 v41 v45 v49 v53 v57 v61 v65 k0_t16) a + S1.size a ≤ S3.size a := fun i v5 v9 v13 v17 v21 v25 v29 v33 v37 v41 v45 v49 v53 v57 v61 v65 k0_hw1 k0_t16 k0_h12 => k0_hw1.2.2.2.2.2.2.2.2.2.2.2.1.2.2.2.2.2.2.2.2.2.2.2.2.2.2.2.2.2.1 k0_t16 k0_h12
theorem k0_off361_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips), ∀ a, (k0_off361 i v5 v9 v13 v17 v21 v25 v29 v33 v37 v41 v45 v49 v53 v57 v61 v65 k0_t16) a + S32x1x512.size a ≤ S96x1x512.size a := fun i v5 v9 v13 v17 v21 v25 v29 v33 v37 v41 v45 v49 v53 v57 v61 v65 k0_hw1 k0_t16 => k0_hw1.2.2.2.2.2.2.2.2.2.2.2.1.2.2.2.2.2.2.2.2.2.2.2.2.2.2.2.2.2.2.1 k0_t16
theorem k0_off362_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips), ∀ a, (k0_off362 i v5 v9 v13 v17 v21 v25 v29 v33 v37 v41 v45 v49 v53 v57 v61 v65 k0_t16) a + S1.size a ≤ S3.size a := fun i v5 v9 v13 v17 v21 v25 v29 v33 v37 v41 v45 v49 v53 v57 v61 v65 k0_hw1 k0_t16 => k0_hw1.2.2.2.2.2.2.2.2.2.2.2.1.2.2.2.2.2.2.2.2.2.2.2.2.2.2.2.2.2.2.2.1 k0_t16
theorem k0_t17_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips), (k0_t17_loop i v5 v9 v13 v17 v21 v25 v29 v33 v37 v41 v45 v49 v53 v57 v61 v65 k0_t16).OK := fun i v5 v9 v13 v17 v21 v25 v29 v33 v37 v41 v45 v49 v53 v57 v61 v65 k0_hw1 k0_t16 => k0_hw1.2.2.2.2.2.2.2.2.2.2.2.1.2.2.2.2.2.2.2.2.2.2.2.2.2.2.2.2.2.2.2.2.1 k0_t16
theorem k0_off363_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off363 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.1.2.2.2.2.2.2.2.2.2.2.2.2.2.2.2.2.2.2.2.2.2.1 k0_t16 k0_t17
theorem k0_off364_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off364 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.1.2.2.2.2.2.2.2.2.2.2.2.2.2.2.2.2.2.2.2.2.2.2.1 k0_t16 k0_t17
theorem k0_off365_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off365 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.1.2.2.2.2.2.2.2.2.2.2.2.2.2.2.2.2.2.2.2.2.2.2.2.1 k0_t16 k0_t17
theorem k0_off366_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off366 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.1.2.2.2.2.2.2.2.2.2.2.2.2.2.2.2.2.2.2.2.2.2.2.2.2.1 k0_t16 k0_t17
theorem k0_off367_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off367 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.1.2.2.2.2.2.2.2.2.2.2.2.2.2.2.2.2.2.2.2.2.2.2.2.2.2.1 k0_t16 k0_t17
theorem k0_off368_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off368 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.1.2.2.2.2.2.2.2.2.2.2.2.2.2.2.2.2.2.2.2.2.2.2.2.2.2.2.1 k0_t16 k0_t17
theorem k0_off369_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off369 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.1.2.2.2.2.2.2.2.2.2.2.2.2.2.2.2.2.2.2.2.2.2.2.2.2.2.2.2.1 k0_t16 k0_t17
theorem k0_off370_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off370 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.1.2.2.2.2.2.2.2.2.2.2.2.2.2.2.2.2.2.2.2.2.2.2.2.2.2.2.2.2.1 k0_t16 k0_t17
theorem k0_off371_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off371 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.1.2.2.2.2.2.2.2.2.2.2.2.2.2.2.2.2.2.2.2.2.2.2.2.2.2.2.2.2.2.1 k0_t16 k0_t17
theorem k0_off372_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off372 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.1.2.2.2.2.2.2.2.2.2.2.2.2.2.2.2.2.2.2.2.2.2.2.2.2.2.2.2.2.2.2.1 k0_t16 k0_t17
theorem k0_off373_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off373 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.1.2.2.2.2.2.2.2.2.2.2.2.2.2.2.2.2.2.2.2.2.2.2.2.2.2.2.2.2.2.2.2 k0_t16 k0_t17
theorem k0_off374_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off374 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.1 k0_t16 k0_t17
theorem k0_off375_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off375 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.2.1 k0_t16 k0_t17
theorem k0_off376_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off376 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.2.2.1 k0_t16 k0_t17
theorem k0_off377_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off377 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.2.2.2.1 k0_t16 k0_t17
theorem k0_off378_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off378 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.2.2.2.2.1 k0_t16 k0_t17
theorem k0_off379_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off379 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.2.2.2.2.2.1 k0_t16 k0_t17
theorem k0_off380_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off380 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.2.2.2.2.2.2.1 k0_t16 k0_t17
theorem k0_off381_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off381 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.2.2.2.2.2.2.2.1 k0_t16 k0_t17
theorem k0_off382_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off382 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.2.2.2.2.2.2.2.2.1 k0_t16 k0_t17
theorem k0_off383_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off383 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.2.2.2.2.2.2.2.2.2.1 k0_t16 k0_t17
theorem k0_off384_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off384 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.2.2.2.2.2.2.2.2.2.2.1 k0_t16 k0_t17
theorem k0_off385_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off385 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.2.2.2.2.2.2.2.2.2.2.2.1 k0_t16 k0_t17
theorem k0_off386_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off386 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.2.2.2.2.2.2.2.2.2.2.2.2.1 k0_t16 k0_t17
theorem k0_off387_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off387 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.2.2.2.2.2.2.2.2.2.2.2.2.2.1 k0_t16 k0_t17
theorem k0_off388_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off388 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.2.2.2.2.2.2.2.2.2.2.2.2.2.2.1 k0_t16 k0_t17
theorem k0_off389_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off389 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.2.2.2.2.2.2.2.2.2.2.2.2.2.2.2.1 k0_t16 k0_t17
theorem k0_off390_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off390 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.2.2.2.2.2.2.2.2.2.2.2.2.2.2.2.2.1 k0_t16 k0_t17
theorem k0_off391_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off391 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.2.2.2.2.2.2.2.2.2.2.2.2.2.2.2.2.2.1 k0_t16 k0_t17
theorem k0_off392_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off392 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.2.2.2.2.2.2.2.2.2.2.2.2.2.2.2.2.2.2.1 k0_t16 k0_t17
theorem k0_off393_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off393 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.2.2.2.2.2.2.2.2.2.2.2.2.2.2.2.2.2.2.2.1 k0_t16 k0_t17
theorem k0_off394_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t17 : Fin (k0_t17_loop i v5 v9 v13 v17 v21 v25 v29 v33 v37 v41 v45 v49 v53 v57 v61 v65 k0_t16).trips), ∀ a, (k0_off394 i v5 v9 v13 v17 v21 v25 v29 v33 v37 v41 v45 v49 v53 v57 v61 v65 k0_t16 k0_t17) a + S1x1x16.size a ≤ S96x1x512.size a := fun i v5 v9 v13 v17 v21 v25 v29 v33 v37 v41 v45 v49 v53 v57 v61 v65 k0_hw1 k0_t16 k0_t17 => k0_hw1.2.2.2.2.2.2.2.2.2.2.2.2.1.2.2.2.2.2.2.2.2.2.2.2.2.2.2.2.2.2.2.2.2.1 k0_t16 k0_t17
theorem k0_t18_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips), (k0_t18_loop i v5 v9 v13 v17 v21 v25 v29 v33 v37 v41 v45 v49 v53 v57 v61 v65 k0_t16).OK := fun i v5 v9 v13 v17 v21 v25 v29 v33 v37 v41 v45 v49 v53 v57 v61 v65 k0_hw1 k0_t16 => k0_hw1.2.2.2.2.2.2.2.2.2.2.2.2.1.2.2.2.2.2.2.2.2.2.2.2.2.2.2.2.2.2.2.2.2.2.1 k0_t16
theorem k0_off395_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off395 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.1.2.2.2.2.2.2.2.2.2.2.2.2.2.2.2.2.2.2.2.2.2.2.1 k0_t16 k0_t18
theorem k0_off396_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off396 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.1.2.2.2.2.2.2.2.2.2.2.2.2.2.2.2.2.2.2.2.2.2.2.2.1 k0_t16 k0_t18
theorem k0_off397_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off397 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.1.2.2.2.2.2.2.2.2.2.2.2.2.2.2.2.2.2.2.2.2.2.2.2.2.1 k0_t16 k0_t18
theorem k0_off398_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off398 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.1.2.2.2.2.2.2.2.2.2.2.2.2.2.2.2.2.2.2.2.2.2.2.2.2.2.1 k0_t16 k0_t18
theorem k0_off399_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off399 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.1.2.2.2.2.2.2.2.2.2.2.2.2.2.2.2.2.2.2.2.2.2.2.2.2.2.2.1 k0_t16 k0_t18
theorem k0_off400_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off400 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.1.2.2.2.2.2.2.2.2.2.2.2.2.2.2.2.2.2.2.2.2.2.2.2.2.2.2.2.1 k0_t16 k0_t18
theorem k0_off401_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off401 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.1.2.2.2.2.2.2.2.2.2.2.2.2.2.2.2.2.2.2.2.2.2.2.2.2.2.2.2.2.1 k0_t16 k0_t18
theorem k0_off402_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off402 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.1.2.2.2.2.2.2.2.2.2.2.2.2.2.2.2.2.2.2.2.2.2.2.2.2.2.2.2.2.2.1 k0_t16 k0_t18
theorem k0_off403_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off403 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.1.2.2.2.2.2.2.2.2.2.2.2.2.2.2.2.2.2.2.2.2.2.2.2.2.2.2.2.2.2.2.1 k0_t16 k0_t18
theorem k0_off404_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off404 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.1.2.2.2.2.2.2.2.2.2.2.2.2.2.2.2.2.2.2.2.2.2.2.2.2.2.2.2.2.2.2.2 k0_t16 k0_t18
theorem k0_off405_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off405 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.1 k0_t16 k0_t18
theorem k0_off406_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off406 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.1 k0_t16 k0_t18
theorem k0_off407_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off407 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.2.1 k0_t16 k0_t18
theorem k0_off408_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off408 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.2.2.1 k0_t16 k0_t18
theorem k0_off409_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off409 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.2.2.2.1 k0_t16 k0_t18
theorem k0_off410_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off410 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.2.2.2.2.1 k0_t16 k0_t18
theorem k0_off411_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off411 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.2.2.2.2.2.1 k0_t16 k0_t18
theorem k0_off412_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off412 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.2.2.2.2.2.2.1 k0_t16 k0_t18
theorem k0_off413_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off413 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.2.2.2.2.2.2.2.1 k0_t16 k0_t18
theorem k0_off414_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off414 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.2.2.2.2.2.2.2.2.1 k0_t16 k0_t18
theorem k0_off415_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off415 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.2.2.2.2.2.2.2.2.2.1 k0_t16 k0_t18
theorem k0_off416_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off416 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.2.2.2.2.2.2.2.2.2.2.1 k0_t16 k0_t18
theorem k0_off417_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off417 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.2.2.2.2.2.2.2.2.2.2.2.1 k0_t16 k0_t18
theorem k0_off418_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off418 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.2.2.2.2.2.2.2.2.2.2.2.2.1 k0_t16 k0_t18
theorem k0_off419_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off419 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.2.2.2.2.2.2.2.2.2.2.2.2.2.1 k0_t16 k0_t18
theorem k0_off420_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off420 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.2.2.2.2.2.2.2.2.2.2.2.2.2.2.1 k0_t16 k0_t18
theorem k0_off421_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off421 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.2.2.2.2.2.2.2.2.2.2.2.2.2.2.2.1 k0_t16 k0_t18
theorem k0_off422_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off422 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.2.2.2.2.2.2.2.2.2.2.2.2.2.2.2.2.1 k0_t16 k0_t18
theorem k0_off423_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off423 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.2.2.2.2.2.2.2.2.2.2.2.2.2.2.2.2.2.1 k0_t16 k0_t18
theorem k0_off424_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off424 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.2.2.2.2.2.2.2.2.2.2.2.2.2.2.2.2.2.2.1 k0_t16 k0_t18
theorem k0_off425_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off425 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.2.2.2.2.2.2.2.2.2.2.2.2.2.2.2.2.2.2.2.1 k0_t16 k0_t18
theorem k0_off426_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t16 : Fin (k0_t16_loop i v5 v9 v13 v17 v21 v25 v29 v33 v37 v41 v45 v49 v53 v57 v61 v65).trips) (k0_t18 : Fin (k0_t18_loop i v5 v9 v13 v17 v21 v25 v29 v33 v37 v41 v45 v49 v53 v57 v61 v65 k0_t16).trips), ∀ a, (k0_off426 i v5 v9 v13 v17 v21 v25 v29 v33 v37 v41 v45 v49 v53 v57 v61 v65 k0_t16 k0_t18) a + S1x1x16.size a ≤ S96x1x512.size a := fun i v5 v9 v13 v17 v21 v25 v29 v33 v37 v41 v45 v49 v53 v57 v61 v65 k0_hw1 k0_t16 k0_t18 => k0_hw1.2.2.2.2.2.2.2.2.2.2.2.2.2.1.2.2.2.2.2.2.2.2.2.2.2.2.2.2.2.2.2.2.2.2.2.1 k0_t16 k0_t18
theorem k0_off428_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h13 : k0_cond13 i v5 v9 v13 v17 v21 v25 v29 v33 v37 v41 v45 v49 v53 v57 v61 v65 = 1#1), ∀ a, (k0_off428 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h13 => k0_hw1.2.2.2.2.2.2.2.2.2.2.2.2.2.1.2.2.2.2.2.2.2.2.2.2.2.2.2.2.2.2.2.2.2.2.2.2.1 k0_h13
theorem k0_off430_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h14 : k0_cond14 i v5 v9 v13 v17 v21 v25 v29 v33 v37 v41 v45 v49 v53 v57 v61 v65 = 1#1), ∀ a, (k0_off430 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h14 => k0_hw1.2.2.2.2.2.2.2.2.2.2.2.2.2.1.2.2.2.2.2.2.2.2.2.2.2.2.2.2.2.2.2.2.2.2.2.2.2.1 k0_h14
theorem k0_t19_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t19_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.1.2.2.2.2.2.2.2.2.2.2.2.2.2.2.2.2.2.2.2.2.2.2.2.2.1
theorem k0_off431_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips), ∀ (k0_h15 : k0_cond15 i v5 v9 v13 v17 v21 v25 v29 v33 v37 v41 v45 v49 v53 v57 v61 v65 k0_t19 = 1#1), ∀ a, (k0_off431 i v5 v9 v13 v17 v21 v25 v29 v33 v37 v41 v45 v49 v53 v57 v61 v65 k0_t19) a + S32x1x512.size a ≤ S96x1x512.size a := fun i v5 v9 v13 v17 v21 v25 v29 v33 v37 v41 v45 v49 v53 v57 v61 v65 k0_hw1 k0_t19 k0_h15 => k0_hw1.2.2.2.2.2.2.2.2.2.2.2.2.2.1.2.2.2.2.2.2.2.2.2.2.2.2.2.2.2.2.2.2.2.2.2.2.2.2.2.1 k0_t19 k0_h15
theorem k0_off432_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips), ∀ (k0_h15 : k0_cond15 i v5 v9 v13 v17 v21 v25 v29 v33 v37 v41 v45 v49 v53 v57 v61 v65 k0_t19 = 1#1), ∀ a, (k0_off432 i v5 v9 v13 v17 v21 v25 v29 v33 v37 v41 v45 v49 v53 v57 v61 v65 k0_t19) a + S32x1x512.size a ≤ S2048x16x512.size a := fun i v5 v9 v13 v17 v21 v25 v29 v33 v37 v41 v45 v49 v53 v57 v61 v65 k0_hw1 k0_t19 k0_h15 => k0_hw1.2.2.2.2.2.2.2.2.2.2.2.2.2.1.2.2.2.2.2.2.2.2.2.2.2.2.2.2.2.2.2.2.2.2.2.2.2.2.2.2.1 k0_t19 k0_h15
theorem k0_off433_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips), ∀ (k0_h15 : k0_cond15 i v5 v9 v13 v17 v21 v25 v29 v33 v37 v41 v45 v49 v53 v57 v61 v65 k0_t19 = 1#1), ∀ a, (k0_off433 i v5 v9 v13 v17 v21 v25 v29 v33 v37 v41 v45 v49 v53 v57 v61 v65 k0_t19) a + S1.size a ≤ S3.size a := fun i v5 v9 v13 v17 v21 v25 v29 v33 v37 v41 v45 v49 v53 v57 v61 v65 k0_hw1 k0_t19 k0_h15 => k0_hw1.2.2.2.2.2.2.2.2.2.2.2.2.2.1.2.2.2.2.2.2.2.2.2.2.2.2.2.2.2.2.2.2.2.2.2.2.2.2.2.2.2.1 k0_t19 k0_h15
theorem k0_off434_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips), ∀ a, (k0_off434 i v5 v9 v13 v17 v21 v25 v29 v33 v37 v41 v45 v49 v53 v57 v61 v65 k0_t19) a + S32x1x512.size a ≤ S96x1x512.size a := fun i v5 v9 v13 v17 v21 v25 v29 v33 v37 v41 v45 v49 v53 v57 v61 v65 k0_hw1 k0_t19 => k0_hw1.2.2.2.2.2.2.2.2.2.2.2.2.2.1.2.2.2.2.2.2.2.2.2.2.2.2.2.2.2.2.2.2.2.2.2.2.2.2.2.2.2.2.1 k0_t19
theorem k0_off435_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips), ∀ a, (k0_off435 i v5 v9 v13 v17 v21 v25 v29 v33 v37 v41 v45 v49 v53 v57 v61 v65 k0_t19) a + S1.size a ≤ S3.size a := fun i v5 v9 v13 v17 v21 v25 v29 v33 v37 v41 v45 v49 v53 v57 v61 v65 k0_hw1 k0_t19 => k0_hw1.2.2.2.2.2.2.2.2.2.2.2.2.2.1.2.2.2.2.2.2.2.2.2.2.2.2.2.2.2.2.2.2.2.2.2.2.2.2.2.2.2.2.2.1 k0_t19
theorem k0_t20_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips), (k0_t20_loop i v5 v9 v13 v17 v21 v25 v29 v33 v37 v41 v45 v49 v53 v57 v61 v65 k0_t19).OK := fun i v5 v9 v13 v17 v21 v25 v29 v33 v37 v41 v45 v49 v53 v57 v61 v65 k0_hw1 k0_t19 => k0_hw1.2.2.2.2.2.2.2.2.2.2.2.2.2.1.2.2.2.2.2.2.2.2.2.2.2.2.2.2.2.2.2.2.2.2.2.2.2.2.2.2.2.2.2.2.1 k0_t19
theorem k0_off436_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off436 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.1.2.2.2.2.2.2.2.2.2.2.2.2.2.2.2.2.2.2.2.2.2.2.2.2.2.2.2.2.2.2.2 k0_t19 k0_t20
theorem k0_off437_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off437 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.1 k0_t19 k0_t20
theorem k0_off438_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off438 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.1 k0_t19 k0_t20
theorem k0_off439_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off439 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.1 k0_t19 k0_t20
theorem k0_off440_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off440 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.1 k0_t19 k0_t20
theorem k0_off441_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off441 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.1 k0_t19 k0_t20
theorem k0_off442_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off442 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.1 k0_t19 k0_t20
theorem k0_off443_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off443 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.1 k0_t19 k0_t20
theorem k0_off444_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off444 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.1 k0_t19 k0_t20
theorem k0_off445_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off445 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.1 k0_t19 k0_t20
theorem k0_off446_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off446 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.1 k0_t19 k0_t20
theorem k0_off447_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off447 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.1 k0_t19 k0_t20
theorem k0_off448_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off448 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.2.1 k0_t19 k0_t20
theorem k0_off449_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off449 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.2.2.1 k0_t19 k0_t20
theorem k0_off450_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off450 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.2.2.2.1 k0_t19 k0_t20
theorem k0_off451_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off451 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.2.2.2.2.1 k0_t19 k0_t20
theorem k0_off452_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off452 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.2.2.2.2.2.1 k0_t19 k0_t20
theorem k0_off453_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off453 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.2.2.2.2.2.2.1 k0_t19 k0_t20
theorem k0_off454_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off454 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.2.2.2.2.2.2.2.1 k0_t19 k0_t20
theorem k0_off455_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off455 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.2.2.2.2.2.2.2.2.1 k0_t19 k0_t20
theorem k0_off456_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off456 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.2.2.2.2.2.2.2.2.2.1 k0_t19 k0_t20
theorem k0_off457_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off457 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.2.2.2.2.2.2.2.2.2.2.1 k0_t19 k0_t20
theorem k0_off458_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off458 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.2.2.2.2.2.2.2.2.2.2.2.1 k0_t19 k0_t20
theorem k0_off459_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off459 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.2.2.2.2.2.2.2.2.2.2.2.2.1 k0_t19 k0_t20
theorem k0_off460_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off460 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.2.2.2.2.2.2.2.2.2.2.2.2.2.1 k0_t19 k0_t20
theorem k0_off461_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off461 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.2.2.2.2.2.2.2.2.2.2.2.2.2.2.1 k0_t19 k0_t20
theorem k0_off462_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off462 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.2.2.2.2.2.2.2.2.2.2.2.2.2.2.2.1 k0_t19 k0_t20
theorem k0_off463_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off463 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.2.2.2.2.2.2.2.2.2.2.2.2.2.2.2.2.1 k0_t19 k0_t20
theorem k0_off464_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off464 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.2.2.2.2.2.2.2.2.2.2.2.2.2.2.2.2.2.1 k0_t19 k0_t20
theorem k0_off465_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off465 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.2.2.2.2.2.2.2.2.2.2.2.2.2.2.2.2.2.2.1 k0_t19 k0_t20
theorem k0_off466_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off466 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.2.2.2.2.2.2.2.2.2.2.2.2.2.2.2.2.2.2.2.1 k0_t19 k0_t20
theorem k0_off467_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t20 : Fin (k0_t20_loop i v5 v9 v13 v17 v21 v25 v29 v33 v37 v41 v45 v49 v53 v57 v61 v65 k0_t19).trips), ∀ a, (k0_off467 i v5 v9 v13 v17 v21 v25 v29 v33 v37 v41 v45 v49 v53 v57 v61 v65 k0_t19 k0_t20) a + S1x1x16.size a ≤ S96x1x512.size a := fun i v5 v9 v13 v17 v21 v25 v29 v33 v37 v41 v45 v49 v53 v57 v61 v65 k0_hw1 k0_t19 k0_t20 => k0_hw1.2.2.2.2.2.2.2.2.2.2.2.2.2.2.1.2.2.2.2.2.2.2.2.2.2.2.2.2.2.2.2.2.2.2.2.2.2.2.2.2.2.2.2.2.2.1 k0_t19 k0_t20
theorem k0_t21_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips), (k0_t21_loop i v5 v9 v13 v17 v21 v25 v29 v33 v37 v41 v45 v49 v53 v57 v61 v65 k0_t19).OK := fun i v5 v9 v13 v17 v21 v25 v29 v33 v37 v41 v45 v49 v53 v57 v61 v65 k0_hw1 k0_t19 => k0_hw1.2.2.2.2.2.2.2.2.2.2.2.2.2.2.1.2.2.2.2.2.2.2.2.2.2.2.2.2.2.2.2.2.2.2.2.2.2.2.2.2.2.2.2.2.2.2 k0_t19
theorem k0_off468_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off468 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.1 k0_t19 k0_t21
theorem k0_off469_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off469 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.1 k0_t19 k0_t21
theorem k0_off470_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off470 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.1 k0_t19 k0_t21
theorem k0_off471_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off471 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.1 k0_t19 k0_t21
theorem k0_off472_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off472 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.1 k0_t19 k0_t21
theorem k0_off473_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off473 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.1 k0_t19 k0_t21
theorem k0_off474_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off474 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.1 k0_t19 k0_t21
theorem k0_off475_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off475 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.1 k0_t19 k0_t21
theorem k0_off476_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off476 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.1 k0_t19 k0_t21
theorem k0_off477_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off477 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.1 k0_t19 k0_t21
theorem k0_off478_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off478 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.1 k0_t19 k0_t21
theorem k0_off479_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off479 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.1 k0_t19 k0_t21
theorem k0_off480_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off480 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.2.1 k0_t19 k0_t21
theorem k0_off481_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off481 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.2.2.1 k0_t19 k0_t21
theorem k0_off482_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off482 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.2.2.2.1 k0_t19 k0_t21
theorem k0_off483_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off483 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.2.2.2.2.1 k0_t19 k0_t21
theorem k0_off484_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off484 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.2.2.2.2.2.1 k0_t19 k0_t21
theorem k0_off485_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off485 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.2.2.2.2.2.2.1 k0_t19 k0_t21
theorem k0_off486_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off486 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.2.2.2.2.2.2.2.1 k0_t19 k0_t21
theorem k0_off487_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off487 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.2.2.2.2.2.2.2.2.1 k0_t19 k0_t21
theorem k0_off488_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off488 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.2.2.2.2.2.2.2.2.2.1 k0_t19 k0_t21
theorem k0_off489_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off489 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.2.2.2.2.2.2.2.2.2.2.1 k0_t19 k0_t21
theorem k0_off490_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off490 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.2.2.2.2.2.2.2.2.2.2.2.1 k0_t19 k0_t21
theorem k0_off491_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off491 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.2.2.2.2.2.2.2.2.2.2.2.2.1 k0_t19 k0_t21
theorem k0_off492_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off492 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.2.2.2.2.2.2.2.2.2.2.2.2.2.1 k0_t19 k0_t21
theorem k0_off493_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off493 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.2.2.2.2.2.2.2.2.2.2.2.2.2.2.1 k0_t19 k0_t21
theorem k0_off494_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off494 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.2.2.2.2.2.2.2.2.2.2.2.2.2.2.2.1 k0_t19 k0_t21
theorem k0_off495_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off495 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.2.2.2.2.2.2.2.2.2.2.2.2.2.2.2.2.1 k0_t19 k0_t21
theorem k0_off496_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off496 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.2.2.2.2.2.2.2.2.2.2.2.2.2.2.2.2.2.1 k0_t19 k0_t21
theorem k0_off497_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off497 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.2.2.2.2.2.2.2.2.2.2.2.2.2.2.2.2.2.2.1 k0_t19 k0_t21
theorem k0_off498_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off498 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.2.2.2.2.2.2.2.2.2.2.2.2.2.2.2.2.2.2.2.1 k0_t19 k0_t21
theorem k0_off499_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t19 : Fin (k0_t19_loop i v5 v9 v13 v17 v21 v25 v29 v33 v37 v41 v45 v49 v53 v57 v61 v65).trips) (k0_t21 : Fin (k0_t21_loop i v5 v9 v13 v17 v21 v25 v29 v33 v37 v41 v45 v49 v53 v57 v61 v65 k0_t19).trips), ∀ a, (k0_off499 i v5 v9 v13 v17 v21 v25 v29 v33 v37 v41 v45 v49 v53 v57 v61 v65 k0_t19 k0_t21) a + S1x1x16.size a ≤ S96x1x512.size a := fun i v5 v9 v13 v17 v21 v25 v29 v33 v37 v41 v45 v49 v53 v57 v61 v65 k0_hw1 k0_t19 k0_t21 => k0_hw1.2.2.2.2.2.2.2.2.2.2.2.2.2.2.2.1.2.2.2.2.2.2.2.2.2.2.2.2.2.2.2.2.2.2.2.2.2.2.2.2.2.2.2.2.2.2.2 k0_t19 k0_t21
theorem k0_t22_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t22_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.1.1
theorem k0_off500_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips), ∀ (k0_h16 : k0_cond16 i v5 v9 v13 v17 v21 v25 v29 v33 v37 v41 v45 v49 v53 v57 v61 v65 k0_t22 = 1#1), ∀ a, (k0_off500 i v5 v9 v13 v17 v21 v25 v29 v33 v37 v41 v45 v49 v53 v57 v61 v65 k0_t22) a + S32x1x512.size a ≤ S96x1x512.size a := fun i v5 v9 v13 v17 v21 v25 v29 v33 v37 v41 v45 v49 v53 v57 v61 v65 k0_hw1 k0_t22 k0_h16 => k0_hw1.2.2.2.2.2.2.2.2.2.2.2.2.2.2.2.2.1.2.1 k0_t22 k0_h16
theorem k0_off501_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips), ∀ (k0_h16 : k0_cond16 i v5 v9 v13 v17 v21 v25 v29 v33 v37 v41 v45 v49 v53 v57 v61 v65 k0_t22 = 1#1), ∀ a, (k0_off501 i v5 v9 v13 v17 v21 v25 v29 v33 v37 v41 v45 v49 v53 v57 v61 v65 k0_t22) a + S32x1x512.size a ≤ S2048x16x512.size a := fun i v5 v9 v13 v17 v21 v25 v29 v33 v37 v41 v45 v49 v53 v57 v61 v65 k0_hw1 k0_t22 k0_h16 => k0_hw1.2.2.2.2.2.2.2.2.2.2.2.2.2.2.2.2.1.2.2.1 k0_t22 k0_h16
theorem k0_off502_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips), ∀ (k0_h16 : k0_cond16 i v5 v9 v13 v17 v21 v25 v29 v33 v37 v41 v45 v49 v53 v57 v61 v65 k0_t22 = 1#1), ∀ a, (k0_off502 i v5 v9 v13 v17 v21 v25 v29 v33 v37 v41 v45 v49 v53 v57 v61 v65 k0_t22) a + S1.size a ≤ S3.size a := fun i v5 v9 v13 v17 v21 v25 v29 v33 v37 v41 v45 v49 v53 v57 v61 v65 k0_hw1 k0_t22 k0_h16 => k0_hw1.2.2.2.2.2.2.2.2.2.2.2.2.2.2.2.2.1.2.2.2.1 k0_t22 k0_h16
theorem k0_off503_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips), ∀ a, (k0_off503 i v5 v9 v13 v17 v21 v25 v29 v33 v37 v41 v45 v49 v53 v57 v61 v65 k0_t22) a + S32x1x512.size a ≤ S96x1x512.size a := fun i v5 v9 v13 v17 v21 v25 v29 v33 v37 v41 v45 v49 v53 v57 v61 v65 k0_hw1 k0_t22 => k0_hw1.2.2.2.2.2.2.2.2.2.2.2.2.2.2.2.2.1.2.2.2.2.1 k0_t22
theorem k0_off504_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips), ∀ a, (k0_off504 i v5 v9 v13 v17 v21 v25 v29 v33 v37 v41 v45 v49 v53 v57 v61 v65 k0_t22) a + S1.size a ≤ S3.size a := fun i v5 v9 v13 v17 v21 v25 v29 v33 v37 v41 v45 v49 v53 v57 v61 v65 k0_hw1 k0_t22 => k0_hw1.2.2.2.2.2.2.2.2.2.2.2.2.2.2.2.2.1.2.2.2.2.2.1 k0_t22
theorem k0_t23_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips), (k0_t23_loop i v5 v9 v13 v17 v21 v25 v29 v33 v37 v41 v45 v49 v53 v57 v61 v65 k0_t22).OK := fun i v5 v9 v13 v17 v21 v25 v29 v33 v37 v41 v45 v49 v53 v57 v61 v65 k0_hw1 k0_t22 => k0_hw1.2.2.2.2.2.2.2.2.2.2.2.2.2.2.2.2.1.2.2.2.2.2.2.1 k0_t22
theorem k0_off505_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off505 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.1 k0_t22 k0_t23
theorem k0_off506_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off506 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.1 k0_t22 k0_t23
theorem k0_off507_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off507 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.1 k0_t22 k0_t23
theorem k0_off508_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off508 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.1 k0_t22 k0_t23
theorem k0_off509_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off509 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.1 k0_t22 k0_t23
theorem k0_off510_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off510 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.2.1 k0_t22 k0_t23
theorem k0_off511_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off511 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.2.2.1 k0_t22 k0_t23
theorem k0_off512_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off512 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.2.2.2.1 k0_t22 k0_t23
theorem k0_off513_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off513 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.2.2.2.2.1 k0_t22 k0_t23
theorem k0_off514_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off514 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.2.2.2.2.2.1 k0_t22 k0_t23
theorem k0_off515_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off515 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.2.2.2.2.2.2.1 k0_t22 k0_t23
theorem k0_off516_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off516 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.2.2.2.2.2.2.2.1 k0_t22 k0_t23
theorem k0_off517_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off517 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.2.2.2.2.2.2.2.2.1 k0_t22 k0_t23
theorem k0_off518_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off518 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.2.2.2.2.2.2.2.2.2.1 k0_t22 k0_t23
theorem k0_off519_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off519 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.2.2.2.2.2.2.2.2.2.2.1 k0_t22 k0_t23
theorem k0_off520_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off520 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.2.2.2.2.2.2.2.2.2.2.2.1 k0_t22 k0_t23
theorem k0_off521_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off521 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.2.2.2.2.2.2.2.2.2.2.2.2.1 k0_t22 k0_t23
theorem k0_off522_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off522 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.2.2.2.2.2.2.2.2.2.2.2.2.2.1 k0_t22 k0_t23
theorem k0_off523_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off523 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.2.2.2.2.2.2.2.2.2.2.2.2.2.2.1 k0_t22 k0_t23
theorem k0_off524_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off524 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.2.2.2.2.2.2.2.2.2.2.2.2.2.2.2.1 k0_t22 k0_t23
theorem k0_off525_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off525 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.2.2.2.2.2.2.2.2.2.2.2.2.2.2.2.2.1 k0_t22 k0_t23
theorem k0_off526_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off526 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.2.2.2.2.2.2.2.2.2.2.2.2.2.2.2.2.2.1 k0_t22 k0_t23
theorem k0_off527_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off527 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.2.2.2.2.2.2.2.2.2.2.2.2.2.2.2.2.2.2.1 k0_t22 k0_t23
theorem k0_off528_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off528 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.2.2.2.2.2.2.2.2.2.2.2.2.2.2.2.2.2.2.2.1 k0_t22 k0_t23
theorem k0_off529_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off529 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.1.2.2.2.2.2.2.2.2.2.2.2.2.2.2.2.2.2.2.2.2.2.2.2.2.2.2.2.2.2.2.2 k0_t22 k0_t23
theorem k0_off530_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off530 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.2.1.1 k0_t22 k0_t23
theorem k0_off531_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off531 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.2.1.2.1 k0_t22 k0_t23
theorem k0_off532_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off532 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.2.1.2.2.1 k0_t22 k0_t23
theorem k0_off533_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off533 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.2.1.2.2.2.1 k0_t22 k0_t23
theorem k0_off534_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off534 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.2.1.2.2.2.2.1 k0_t22 k0_t23
theorem k0_off535_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off535 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.2.1.2.2.2.2.2.1 k0_t22 k0_t23
theorem k0_off536_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t23 : Fin (k0_t23_loop i v5 v9 v13 v17 v21 v25 v29 v33 v37 v41 v45 v49 v53 v57 v61 v65 k0_t22).trips), ∀ a, (k0_off536 i v5 v9 v13 v17 v21 v25 v29 v33 v37 v41 v45 v49 v53 v57 v61 v65 k0_t22 k0_t23) a + S1x1x16.size a ≤ S96x1x512.size a := fun i v5 v9 v13 v17 v21 v25 v29 v33 v37 v41 v45 v49 v53 v57 v61 v65 k0_hw1 k0_t22 k0_t23 => k0_hw1.2.2.2.2.2.2.2.2.2.2.2.2.2.2.2.2.2.1.2.2.2.2.2.2.1 k0_t22 k0_t23
theorem k0_t24_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips), (k0_t24_loop i v5 v9 v13 v17 v21 v25 v29 v33 v37 v41 v45 v49 v53 v57 v61 v65 k0_t22).OK := fun i v5 v9 v13 v17 v21 v25 v29 v33 v37 v41 v45 v49 v53 v57 v61 v65 k0_hw1 k0_t22 => k0_hw1.2.2.2.2.2.2.2.2.2.2.2.2.2.2.2.2.2.1.2.2.2.2.2.2.2.1 k0_t22
theorem k0_off537_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off537 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.1 k0_t22 k0_t24
theorem k0_off538_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off538 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.1 k0_t22 k0_t24
theorem k0_off539_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off539 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.1 k0_t22 k0_t24
theorem k0_off540_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off540 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.1 k0_t22 k0_t24
theorem k0_off541_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off541 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.2.1 k0_t22 k0_t24
theorem k0_off542_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off542 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.2.2.1 k0_t22 k0_t24
theorem k0_off543_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off543 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.2.2.2.1 k0_t22 k0_t24
theorem k0_off544_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off544 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.2.2.2.2.1 k0_t22 k0_t24
theorem k0_off545_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off545 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.2.2.2.2.2.1 k0_t22 k0_t24
theorem k0_off546_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off546 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.2.2.2.2.2.2.1 k0_t22 k0_t24
theorem k0_off547_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off547 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.2.2.2.2.2.2.2.1 k0_t22 k0_t24
theorem k0_off548_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off548 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.2.2.2.2.2.2.2.2.1 k0_t22 k0_t24
theorem k0_off549_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off549 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.2.2.2.2.2.2.2.2.2.1 k0_t22 k0_t24
theorem k0_off550_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off550 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.2.2.2.2.2.2.2.2.2.2.1 k0_t22 k0_t24
theorem k0_off551_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off551 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.2.2.2.2.2.2.2.2.2.2.2.1 k0_t22 k0_t24
theorem k0_off552_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off552 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.2.2.2.2.2.2.2.2.2.2.2.2.1 k0_t22 k0_t24
theorem k0_off553_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off553 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.2.2.2.2.2.2.2.2.2.2.2.2.2.1 k0_t22 k0_t24
theorem k0_off554_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off554 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.2.2.2.2.2.2.2.2.2.2.2.2.2.2.1 k0_t22 k0_t24
theorem k0_off555_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off555 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.2.2.2.2.2.2.2.2.2.2.2.2.2.2.2.1 k0_t22 k0_t24
theorem k0_off556_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off556 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.2.2.2.2.2.2.2.2.2.2.2.2.2.2.2.2.1 k0_t22 k0_t24
theorem k0_off557_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off557 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.2.2.2.2.2.2.2.2.2.2.2.2.2.2.2.2.2.1 k0_t22 k0_t24
theorem k0_off558_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off558 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.2.2.2.2.2.2.2.2.2.2.2.2.2.2.2.2.2.2.1 k0_t22 k0_t24
theorem k0_off559_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off559 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.2.2.2.2.2.2.2.2.2.2.2.2.2.2.2.2.2.2.2.1 k0_t22 k0_t24
theorem k0_off560_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off560 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.1.2.2.2.2.2.2.2.2.2.2.2.2.2.2.2.2.2.2.2.2.2.2.2.2.2.2.2.2.2.2.2 k0_t22 k0_t24
theorem k0_off561_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off561 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.2.1.1 k0_t22 k0_t24
theorem k0_off562_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off562 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.2.1.2.1 k0_t22 k0_t24
theorem k0_off563_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off563 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.2.1.2.2.1 k0_t22 k0_t24
theorem k0_off564_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off564 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.2.1.2.2.2.1 k0_t22 k0_t24
theorem k0_off565_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off565 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.2.1.2.2.2.2.1 k0_t22 k0_t24
theorem k0_off566_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off566 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.2.1.2.2.2.2.2.1 k0_t22 k0_t24
theorem k0_off567_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off567 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.2.1.2.2.2.2.2.2.1 k0_t22 k0_t24
theorem k0_off568_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t22 : Fin (k0_t22_loop i v5 v9 v13 v17 v21 v25 v29 v33 v37 v41 v45 v49 v53 v57 v61 v65).trips) (k0_t24 : Fin (k0_t24_loop i v5 v9 v13 v17 v21 v25 v29 v33 v37 v41 v45 v49 v53 v57 v61 v65 k0_t22).trips), ∀ a, (k0_off568 i v5 v9 v13 v17 v21 v25 v29 v33 v37 v41 v45 v49 v53 v57 v61 v65 k0_t22 k0_t24) a + S1x1x16.size a ≤ S96x1x512.size a := fun i v5 v9 v13 v17 v21 v25 v29 v33 v37 v41 v45 v49 v53 v57 v61 v65 k0_hw1 k0_t22 k0_t24 => k0_hw1.2.2.2.2.2.2.2.2.2.2.2.2.2.2.2.2.2.2.1.2.2.2.2.2.2.2.1 k0_t22 k0_t24
theorem k0_off570_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h17 : k0_cond17 i v5 v9 v13 v17 v21 v25 v29 v33 v37 v41 v45 v49 v53 v57 v61 v65 = 1#1), ∀ a, (k0_off570 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h17 => k0_hw1.2.2.2.2.2.2.2.2.2.2.2.2.2.2.2.2.2.2.1.2.2.2.2.2.2.2.2.1 k0_h17
theorem k0_off572_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h18 : k0_cond18 i v5 v9 v13 v17 v21 v25 v29 v33 v37 v41 v45 v49 v53 v57 v61 v65 = 1#1), ∀ a, (k0_off572 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h18 => k0_hw1.2.2.2.2.2.2.2.2.2.2.2.2.2.2.2.2.2.2.1.2.2.2.2.2.2.2.2.2.1 k0_h18
theorem k0_t25_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t25_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.1.2.2.2.2.2.2.2.2.2.2.1
theorem k0_off573_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips), ∀ (k0_h19 : k0_cond19 i v5 v9 v13 v17 v21 v25 v29 v33 v37 v41 v45 v49 v53 v57 v61 v65 k0_t25 = 1#1), ∀ a, (k0_off573 i v5 v9 v13 v17 v21 v25 v29 v33 v37 v41 v45 v49 v53 v57 v61 v65 k0_t25) a + S32x1x512.size a ≤ S96x1x512.size a := fun i v5 v9 v13 v17 v21 v25 v29 v33 v37 v41 v45 v49 v53 v57 v61 v65 k0_hw1 k0_t25 k0_h19 => k0_hw1.2.2.2.2.2.2.2.2.2.2.2.2.2.2.2.2.2.2.1.2.2.2.2.2.2.2.2.2.2.2.1 k0_t25 k0_h19
theorem k0_off574_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips), ∀ (k0_h19 : k0_cond19 i v5 v9 v13 v17 v21 v25 v29 v33 v37 v41 v45 v49 v53 v57 v61 v65 k0_t25 = 1#1), ∀ a, (k0_off574 i v5 v9 v13 v17 v21 v25 v29 v33 v37 v41 v45 v49 v53 v57 v61 v65 k0_t25) a + S32x1x512.size a ≤ S2048x16x512.size a := fun i v5 v9 v13 v17 v21 v25 v29 v33 v37 v41 v45 v49 v53 v57 v61 v65 k0_hw1 k0_t25 k0_h19 => k0_hw1.2.2.2.2.2.2.2.2.2.2.2.2.2.2.2.2.2.2.1.2.2.2.2.2.2.2.2.2.2.2.2.1 k0_t25 k0_h19
theorem k0_off575_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips), ∀ (k0_h19 : k0_cond19 i v5 v9 v13 v17 v21 v25 v29 v33 v37 v41 v45 v49 v53 v57 v61 v65 k0_t25 = 1#1), ∀ a, (k0_off575 i v5 v9 v13 v17 v21 v25 v29 v33 v37 v41 v45 v49 v53 v57 v61 v65 k0_t25) a + S1.size a ≤ S3.size a := fun i v5 v9 v13 v17 v21 v25 v29 v33 v37 v41 v45 v49 v53 v57 v61 v65 k0_hw1 k0_t25 k0_h19 => k0_hw1.2.2.2.2.2.2.2.2.2.2.2.2.2.2.2.2.2.2.1.2.2.2.2.2.2.2.2.2.2.2.2.2.1 k0_t25 k0_h19
theorem k0_off576_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips), ∀ a, (k0_off576 i v5 v9 v13 v17 v21 v25 v29 v33 v37 v41 v45 v49 v53 v57 v61 v65 k0_t25) a + S32x1x512.size a ≤ S96x1x512.size a := fun i v5 v9 v13 v17 v21 v25 v29 v33 v37 v41 v45 v49 v53 v57 v61 v65 k0_hw1 k0_t25 => k0_hw1.2.2.2.2.2.2.2.2.2.2.2.2.2.2.2.2.2.2.1.2.2.2.2.2.2.2.2.2.2.2.2.2.2.1 k0_t25
theorem k0_off577_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips), ∀ a, (k0_off577 i v5 v9 v13 v17 v21 v25 v29 v33 v37 v41 v45 v49 v53 v57 v61 v65 k0_t25) a + S1.size a ≤ S3.size a := fun i v5 v9 v13 v17 v21 v25 v29 v33 v37 v41 v45 v49 v53 v57 v61 v65 k0_hw1 k0_t25 => k0_hw1.2.2.2.2.2.2.2.2.2.2.2.2.2.2.2.2.2.2.1.2.2.2.2.2.2.2.2.2.2.2.2.2.2.2.1 k0_t25
theorem k0_t26_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips), (k0_t26_loop i v5 v9 v13 v17 v21 v25 v29 v33 v37 v41 v45 v49 v53 v57 v61 v65 k0_t25).OK := fun i v5 v9 v13 v17 v21 v25 v29 v33 v37 v41 v45 v49 v53 v57 v61 v65 k0_hw1 k0_t25 => k0_hw1.2.2.2.2.2.2.2.2.2.2.2.2.2.2.2.2.2.2.1.2.2.2.2.2.2.2.2.2.2.2.2.2.2.2.2.1 k0_t25
theorem k0_off578_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off578 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.1.2.2.2.2.2.2.2.2.2.2.2.2.2.2.2.2.2.1 k0_t25 k0_t26
theorem k0_off579_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off579 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.1.2.2.2.2.2.2.2.2.2.2.2.2.2.2.2.2.2.2.1 k0_t25 k0_t26
theorem k0_off580_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off580 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.1.2.2.2.2.2.2.2.2.2.2.2.2.2.2.2.2.2.2.2.1 k0_t25 k0_t26
theorem k0_off581_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off581 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.1.2.2.2.2.2.2.2.2.2.2.2.2.2.2.2.2.2.2.2.2.1 k0_t25 k0_t26
theorem k0_off582_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off582 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.1.2.2.2.2.2.2.2.2.2.2.2.2.2.2.2.2.2.2.2.2.2.1 k0_t25 k0_t26
theorem k0_off583_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off583 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.1.2.2.2.2.2.2.2.2.2.2.2.2.2.2.2.2.2.2.2.2.2.2.1 k0_t25 k0_t26
theorem k0_off584_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off584 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.1.2.2.2.2.2.2.2.2.2.2.2.2.2.2.2.2.2.2.2.2.2.2.2.1 k0_t25 k0_t26
theorem k0_off585_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off585 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.1.2.2.2.2.2.2.2.2.2.2.2.2.2.2.2.2.2.2.2.2.2.2.2.2.1 k0_t25 k0_t26
theorem k0_off586_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off586 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.1.2.2.2.2.2.2.2.2.2.2.2.2.2.2.2.2.2.2.2.2.2.2.2.2.2.1 k0_t25 k0_t26
theorem k0_off587_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off587 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.1.2.2.2.2.2.2.2.2.2.2.2.2.2.2.2.2.2.2.2.2.2.2.2.2.2.2.1 k0_t25 k0_t26
theorem k0_off588_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off588 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.1.2.2.2.2.2.2.2.2.2.2.2.2.2.2.2.2.2.2.2.2.2.2.2.2.2.2.2.1 k0_t25 k0_t26
theorem k0_off589_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off589 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.1.2.2.2.2.2.2.2.2.2.2.2.2.2.2.2.2.2.2.2.2.2.2.2.2.2.2.2.2.1 k0_t25 k0_t26
theorem k0_off590_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off590 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.1.2.2.2.2.2.2.2.2.2.2.2.2.2.2.2.2.2.2.2.2.2.2.2.2.2.2.2.2.2.1 k0_t25 k0_t26
theorem k0_off591_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off591 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.1.2.2.2.2.2.2.2.2.2.2.2.2.2.2.2.2.2.2.2.2.2.2.2.2.2.2.2.2.2.2.1 k0_t25 k0_t26
theorem k0_off592_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off592 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.1.2.2.2.2.2.2.2.2.2.2.2.2.2.2.2.2.2.2.2.2.2.2.2.2.2.2.2.2.2.2.2 k0_t25 k0_t26
theorem k0_off593_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off593 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.2.1.1 k0_t25 k0_t26
theorem k0_off594_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off594 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.2.1.2.1 k0_t25 k0_t26
theorem k0_off595_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off595 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.2.1.2.2.1 k0_t25 k0_t26
theorem k0_off596_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off596 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.2.1.2.2.2.1 k0_t25 k0_t26
theorem k0_off597_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off597 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.2.1.2.2.2.2.1 k0_t25 k0_t26
theorem k0_off598_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off598 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.2.1.2.2.2.2.2.1 k0_t25 k0_t26
theorem k0_off599_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off599 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.2.1.2.2.2.2.2.2.1 k0_t25 k0_t26
theorem k0_off600_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off600 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.2.1.2.2.2.2.2.2.2.1 k0_t25 k0_t26
theorem k0_off601_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off601 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.2.1.2.2.2.2.2.2.2.2.1 k0_t25 k0_t26
theorem k0_off602_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off602 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.2.1.2.2.2.2.2.2.2.2.2.1 k0_t25 k0_t26
theorem k0_off603_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off603 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.2.1.2.2.2.2.2.2.2.2.2.2.1 k0_t25 k0_t26
theorem k0_off604_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off604 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.2.1.2.2.2.2.2.2.2.2.2.2.2.1 k0_t25 k0_t26
theorem k0_off605_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off605 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.2.1.2.2.2.2.2.2.2.2.2.2.2.2.1 k0_t25 k0_t26
theorem k0_off606_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off606 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.2.1.2.2.2.2.2.2.2.2.2.2.2.2.2.1 k0_t25 k0_t26
theorem k0_off607_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off607 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.2.1.2.2.2.2.2.2.2.2.2.2.2.2.2.2.1 k0_t25 k0_t26
theorem k0_off608_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off608 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.2.1.2.2.2.2.2.2.2.2.2.2.2.2.2.2.2.1 k0_t25 k0_t26
theorem k0_off609_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t26 : Fin (k0_t26_loop i v5 v9 v13 v17 v21 v25 v29 v33 v37 v41 v45 v49 v53 v57 v61 v65 k0_t25).trips), ∀ a, (k0_off609 i v5 v9 v13 v17 v21 v25 v29 v33 v37 v41 v45 v49 v53 v57 v61 v65 k0_t25 k0_t26) a + S1x1x16.size a ≤ S96x1x512.size a := fun i v5 v9 v13 v17 v21 v25 v29 v33 v37 v41 v45 v49 v53 v57 v61 v65 k0_hw1 k0_t25 k0_t26 => k0_hw1.2.2.2.2.2.2.2.2.2.2.2.2.2.2.2.2.2.2.2.1.2.2.2.2.2.2.2.2.2.2.2.2.2.2.2.2.1 k0_t25 k0_t26
theorem k0_t27_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips), (k0_t27_loop i v5 v9 v13 v17 v21 v25 v29 v33 v37 v41 v45 v49 v53 v57 v61 v65 k0_t25).OK := fun i v5 v9 v13 v17 v21 v25 v29 v33 v37 v41 v45 v49 v53 v57 v61 v65 k0_hw1 k0_t25 => k0_hw1.2.2.2.2.2.2.2.2.2.2.2.2.2.2.2.2.2.2.2.1.2.2.2.2.2.2.2.2.2.2.2.2.2.2.2.2.2.1 k0_t25
theorem k0_off610_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off610 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.1.2.2.2.2.2.2.2.2.2.2.2.2.2.2.2.2.2.2.1 k0_t25 k0_t27
theorem k0_off611_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off611 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.1.2.2.2.2.2.2.2.2.2.2.2.2.2.2.2.2.2.2.2.1 k0_t25 k0_t27
theorem k0_off612_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off612 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.1.2.2.2.2.2.2.2.2.2.2.2.2.2.2.2.2.2.2.2.2.1 k0_t25 k0_t27
theorem k0_off613_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off613 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.1.2.2.2.2.2.2.2.2.2.2.2.2.2.2.2.2.2.2.2.2.2.1 k0_t25 k0_t27
theorem k0_off614_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off614 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.1.2.2.2.2.2.2.2.2.2.2.2.2.2.2.2.2.2.2.2.2.2.2.1 k0_t25 k0_t27
theorem k0_off615_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off615 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.1.2.2.2.2.2.2.2.2.2.2.2.2.2.2.2.2.2.2.2.2.2.2.2.1 k0_t25 k0_t27
theorem k0_off616_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off616 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.1.2.2.2.2.2.2.2.2.2.2.2.2.2.2.2.2.2.2.2.2.2.2.2.2.1 k0_t25 k0_t27
theorem k0_off617_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off617 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.1.2.2.2.2.2.2.2.2.2.2.2.2.2.2.2.2.2.2.2.2.2.2.2.2.2.1 k0_t25 k0_t27
theorem k0_off618_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off618 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.1.2.2.2.2.2.2.2.2.2.2.2.2.2.2.2.2.2.2.2.2.2.2.2.2.2.2.1 k0_t25 k0_t27
theorem k0_off619_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off619 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.1.2.2.2.2.2.2.2.2.2.2.2.2.2.2.2.2.2.2.2.2.2.2.2.2.2.2.2.1 k0_t25 k0_t27
theorem k0_off620_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off620 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.1.2.2.2.2.2.2.2.2.2.2.2.2.2.2.2.2.2.2.2.2.2.2.2.2.2.2.2.2.1 k0_t25 k0_t27
theorem k0_off621_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off621 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.1.2.2.2.2.2.2.2.2.2.2.2.2.2.2.2.2.2.2.2.2.2.2.2.2.2.2.2.2.2.1 k0_t25 k0_t27
theorem k0_off622_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off622 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.1.2.2.2.2.2.2.2.2.2.2.2.2.2.2.2.2.2.2.2.2.2.2.2.2.2.2.2.2.2.2.1 k0_t25 k0_t27
theorem k0_off623_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off623 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.1.2.2.2.2.2.2.2.2.2.2.2.2.2.2.2.2.2.2.2.2.2.2.2.2.2.2.2.2.2.2.2 k0_t25 k0_t27
theorem k0_off624_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off624 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.2.1.1 k0_t25 k0_t27
theorem k0_off625_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off625 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.2.1.2.1 k0_t25 k0_t27
theorem k0_off626_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off626 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.2.1.2.2.1 k0_t25 k0_t27
theorem k0_off627_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off627 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.2.1.2.2.2.1 k0_t25 k0_t27
theorem k0_off628_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off628 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.2.1.2.2.2.2.1 k0_t25 k0_t27
theorem k0_off629_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off629 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.2.1.2.2.2.2.2.1 k0_t25 k0_t27
theorem k0_off630_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off630 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.2.1.2.2.2.2.2.2.1 k0_t25 k0_t27
theorem k0_off631_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off631 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.2.1.2.2.2.2.2.2.2.1 k0_t25 k0_t27
theorem k0_off632_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off632 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.2.1.2.2.2.2.2.2.2.2.1 k0_t25 k0_t27
theorem k0_off633_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off633 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.2.1.2.2.2.2.2.2.2.2.2.1 k0_t25 k0_t27
theorem k0_off634_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off634 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.2.1.2.2.2.2.2.2.2.2.2.2.1 k0_t25 k0_t27
theorem k0_off635_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off635 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.2.1.2.2.2.2.2.2.2.2.2.2.2.1 k0_t25 k0_t27
theorem k0_off636_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off636 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.2.1.2.2.2.2.2.2.2.2.2.2.2.2.1 k0_t25 k0_t27
theorem k0_off637_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off637 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.2.1.2.2.2.2.2.2.2.2.2.2.2.2.2.1 k0_t25 k0_t27
theorem k0_off638_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off638 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.2.1.2.2.2.2.2.2.2.2.2.2.2.2.2.2.1 k0_t25 k0_t27
theorem k0_off639_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off639 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.2.1.2.2.2.2.2.2.2.2.2.2.2.2.2.2.2.1 k0_t25 k0_t27
theorem k0_off640_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off640 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.2.1.2.2.2.2.2.2.2.2.2.2.2.2.2.2.2.2.1 k0_t25 k0_t27
theorem k0_off641_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t25 : Fin (k0_t25_loop i v5 v9 v13 v17 v21 v25 v29 v33 v37 v41 v45 v49 v53 v57 v61 v65).trips) (k0_t27 : Fin (k0_t27_loop i v5 v9 v13 v17 v21 v25 v29 v33 v37 v41 v45 v49 v53 v57 v61 v65 k0_t25).trips), ∀ a, (k0_off641 i v5 v9 v13 v17 v21 v25 v29 v33 v37 v41 v45 v49 v53 v57 v61 v65 k0_t25 k0_t27) a + S1x1x16.size a ≤ S96x1x512.size a := fun i v5 v9 v13 v17 v21 v25 v29 v33 v37 v41 v45 v49 v53 v57 v61 v65 k0_hw1 k0_t25 k0_t27 => k0_hw1.2.2.2.2.2.2.2.2.2.2.2.2.2.2.2.2.2.2.2.2.1.2.2.2.2.2.2.2.2.2.2.2.2.2.2.2.2.2.1 k0_t25 k0_t27
theorem k0_t28_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t28_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.1.2.2.2.2.2.2.2.2.2.2.2.2.2.2.2.2.2.2.1
theorem k0_off642_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips), ∀ (k0_h20 : k0_cond20 i v5 v9 v13 v17 v21 v25 v29 v33 v37 v41 v45 v49 v53 v57 v61 v65 k0_t28 = 1#1), ∀ a, (k0_off642 i v5 v9 v13 v17 v21 v25 v29 v33 v37 v41 v45 v49 v53 v57 v61 v65 k0_t28) a + S32x1x512.size a ≤ S96x1x512.size a := fun i v5 v9 v13 v17 v21 v25 v29 v33 v37 v41 v45 v49 v53 v57 v61 v65 k0_hw1 k0_t28 k0_h20 => k0_hw1.2.2.2.2.2.2.2.2.2.2.2.2.2.2.2.2.2.2.2.2.1.2.2.2.2.2.2.2.2.2.2.2.2.2.2.2.2.2.2.2.1 k0_t28 k0_h20
theorem k0_off643_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips), ∀ (k0_h20 : k0_cond20 i v5 v9 v13 v17 v21 v25 v29 v33 v37 v41 v45 v49 v53 v57 v61 v65 k0_t28 = 1#1), ∀ a, (k0_off643 i v5 v9 v13 v17 v21 v25 v29 v33 v37 v41 v45 v49 v53 v57 v61 v65 k0_t28) a + S32x1x512.size a ≤ S2048x16x512.size a := fun i v5 v9 v13 v17 v21 v25 v29 v33 v37 v41 v45 v49 v53 v57 v61 v65 k0_hw1 k0_t28 k0_h20 => k0_hw1.2.2.2.2.2.2.2.2.2.2.2.2.2.2.2.2.2.2.2.2.1.2.2.2.2.2.2.2.2.2.2.2.2.2.2.2.2.2.2.2.2.1 k0_t28 k0_h20
theorem k0_off644_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips), ∀ (k0_h20 : k0_cond20 i v5 v9 v13 v17 v21 v25 v29 v33 v37 v41 v45 v49 v53 v57 v61 v65 k0_t28 = 1#1), ∀ a, (k0_off644 i v5 v9 v13 v17 v21 v25 v29 v33 v37 v41 v45 v49 v53 v57 v61 v65 k0_t28) a + S1.size a ≤ S3.size a := fun i v5 v9 v13 v17 v21 v25 v29 v33 v37 v41 v45 v49 v53 v57 v61 v65 k0_hw1 k0_t28 k0_h20 => k0_hw1.2.2.2.2.2.2.2.2.2.2.2.2.2.2.2.2.2.2.2.2.1.2.2.2.2.2.2.2.2.2.2.2.2.2.2.2.2.2.2.2.2.2.1 k0_t28 k0_h20
theorem k0_off645_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips), ∀ a, (k0_off645 i v5 v9 v13 v17 v21 v25 v29 v33 v37 v41 v45 v49 v53 v57 v61 v65 k0_t28) a + S32x1x512.size a ≤ S96x1x512.size a := fun i v5 v9 v13 v17 v21 v25 v29 v33 v37 v41 v45 v49 v53 v57 v61 v65 k0_hw1 k0_t28 => k0_hw1.2.2.2.2.2.2.2.2.2.2.2.2.2.2.2.2.2.2.2.2.1.2.2.2.2.2.2.2.2.2.2.2.2.2.2.2.2.2.2.2.2.2.2.1 k0_t28
theorem k0_off646_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips), ∀ a, (k0_off646 i v5 v9 v13 v17 v21 v25 v29 v33 v37 v41 v45 v49 v53 v57 v61 v65 k0_t28) a + S1.size a ≤ S3.size a := fun i v5 v9 v13 v17 v21 v25 v29 v33 v37 v41 v45 v49 v53 v57 v61 v65 k0_hw1 k0_t28 => k0_hw1.2.2.2.2.2.2.2.2.2.2.2.2.2.2.2.2.2.2.2.2.1.2.2.2.2.2.2.2.2.2.2.2.2.2.2.2.2.2.2.2.2.2.2.2.1 k0_t28
theorem k0_t29_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips), (k0_t29_loop i v5 v9 v13 v17 v21 v25 v29 v33 v37 v41 v45 v49 v53 v57 v61 v65 k0_t28).OK := fun i v5 v9 v13 v17 v21 v25 v29 v33 v37 v41 v45 v49 v53 v57 v61 v65 k0_hw1 k0_t28 => k0_hw1.2.2.2.2.2.2.2.2.2.2.2.2.2.2.2.2.2.2.2.2.1.2.2.2.2.2.2.2.2.2.2.2.2.2.2.2.2.2.2.2.2.2.2.2.2.1 k0_t28
theorem k0_off647_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off647 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.1.2.2.2.2.2.2.2.2.2.2.2.2.2.2.2.2.2.2.2.2.2.2.2.2.2.1 k0_t28 k0_t29
theorem k0_off648_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off648 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.1.2.2.2.2.2.2.2.2.2.2.2.2.2.2.2.2.2.2.2.2.2.2.2.2.2.2.1 k0_t28 k0_t29
theorem k0_off649_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off649 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.1.2.2.2.2.2.2.2.2.2.2.2.2.2.2.2.2.2.2.2.2.2.2.2.2.2.2.2.1 k0_t28 k0_t29
theorem k0_off650_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off650 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.1.2.2.2.2.2.2.2.2.2.2.2.2.2.2.2.2.2.2.2.2.2.2.2.2.2.2.2.2.1 k0_t28 k0_t29
theorem k0_off651_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off651 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.1.2.2.2.2.2.2.2.2.2.2.2.2.2.2.2.2.2.2.2.2.2.2.2.2.2.2.2.2.2.1 k0_t28 k0_t29
theorem k0_off652_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off652 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.1.2.2.2.2.2.2.2.2.2.2.2.2.2.2.2.2.2.2.2.2.2.2.2.2.2.2.2.2.2.2.1 k0_t28 k0_t29
theorem k0_off653_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off653 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.1.2.2.2.2.2.2.2.2.2.2.2.2.2.2.2.2.2.2.2.2.2.2.2.2.2.2.2.2.2.2.2 k0_t28 k0_t29
theorem k0_off654_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off654 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.1 k0_t28 k0_t29
theorem k0_off655_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off655 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.1 k0_t28 k0_t29
theorem k0_off656_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off656 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.1 k0_t28 k0_t29
theorem k0_off657_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off657 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.1 k0_t28 k0_t29
theorem k0_off658_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off658 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.1 k0_t28 k0_t29
theorem k0_off659_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off659 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.2.1 k0_t28 k0_t29
theorem k0_off660_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off660 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.2.2.1 k0_t28 k0_t29
theorem k0_off661_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off661 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.2.2.2.1 k0_t28 k0_t29
theorem k0_off662_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off662 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.2.2.2.2.1 k0_t28 k0_t29
theorem k0_off663_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off663 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.2.2.2.2.2.1 k0_t28 k0_t29
theorem k0_off664_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off664 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.2.2.2.2.2.2.1 k0_t28 k0_t29
theorem k0_off665_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off665 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.2.2.2.2.2.2.2.1 k0_t28 k0_t29
theorem k0_off666_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off666 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.2.2.2.2.2.2.2.2.1 k0_t28 k0_t29
theorem k0_off667_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off667 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.2.2.2.2.2.2.2.2.2.1 k0_t28 k0_t29
theorem k0_off668_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off668 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.2.2.2.2.2.2.2.2.2.2.1 k0_t28 k0_t29
theorem k0_off669_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off669 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.2.2.2.2.2.2.2.2.2.2.2.1 k0_t28 k0_t29
theorem k0_off670_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off670 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.2.2.2.2.2.2.2.2.2.2.2.2.1 k0_t28 k0_t29
theorem k0_off671_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off671 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.2.2.2.2.2.2.2.2.2.2.2.2.2.1 k0_t28 k0_t29
theorem k0_off672_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off672 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.2.2.2.2.2.2.2.2.2.2.2.2.2.2.1 k0_t28 k0_t29
theorem k0_off673_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off673 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.2.2.2.2.2.2.2.2.2.2.2.2.2.2.2.1 k0_t28 k0_t29
theorem k0_off674_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off674 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.2.2.2.2.2.2.2.2.2.2.2.2.2.2.2.2.1 k0_t28 k0_t29
theorem k0_off675_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off675 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.2.2.2.2.2.2.2.2.2.2.2.2.2.2.2.2.2.1 k0_t28 k0_t29
theorem k0_off676_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off676 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.2.2.2.2.2.2.2.2.2.2.2.2.2.2.2.2.2.2.1 k0_t28 k0_t29
theorem k0_off677_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off677 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.2.2.2.2.2.2.2.2.2.2.2.2.2.2.2.2.2.2.2.1 k0_t28 k0_t29
theorem k0_off678_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t29 : Fin (k0_t29_loop i v5 v9 v13 v17 v21 v25 v29 v33 v37 v41 v45 v49 v53 v57 v61 v65 k0_t28).trips), ∀ a, (k0_off678 i v5 v9 v13 v17 v21 v25 v29 v33 v37 v41 v45 v49 v53 v57 v61 v65 k0_t28 k0_t29) a + S1x1x16.size a ≤ S96x1x512.size a := fun i v5 v9 v13 v17 v21 v25 v29 v33 v37 v41 v45 v49 v53 v57 v61 v65 k0_hw1 k0_t28 k0_t29 => k0_hw1.2.2.2.2.2.2.2.2.2.2.2.2.2.2.2.2.2.2.2.2.2.1.2.2.2.2.2.2.2.2.2.2.2.2.2.2.2.2.2.2.2.2.2.2.2.2.1 k0_t28 k0_t29
theorem k0_t30_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips), (k0_t30_loop i v5 v9 v13 v17 v21 v25 v29 v33 v37 v41 v45 v49 v53 v57 v61 v65 k0_t28).OK := fun i v5 v9 v13 v17 v21 v25 v29 v33 v37 v41 v45 v49 v53 v57 v61 v65 k0_hw1 k0_t28 => k0_hw1.2.2.2.2.2.2.2.2.2.2.2.2.2.2.2.2.2.2.2.2.2.1.2.2.2.2.2.2.2.2.2.2.2.2.2.2.2.2.2.2.2.2.2.2.2.2.2.1 k0_t28
theorem k0_off679_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off679 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.1.2.2.2.2.2.2.2.2.2.2.2.2.2.2.2.2.2.2.2.2.2.2.2.2.2.2.1 k0_t28 k0_t30
theorem k0_off680_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off680 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.1.2.2.2.2.2.2.2.2.2.2.2.2.2.2.2.2.2.2.2.2.2.2.2.2.2.2.2.1 k0_t28 k0_t30
theorem k0_off681_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off681 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.1.2.2.2.2.2.2.2.2.2.2.2.2.2.2.2.2.2.2.2.2.2.2.2.2.2.2.2.2.1 k0_t28 k0_t30
theorem k0_off682_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off682 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.1.2.2.2.2.2.2.2.2.2.2.2.2.2.2.2.2.2.2.2.2.2.2.2.2.2.2.2.2.2.1 k0_t28 k0_t30
theorem k0_off683_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off683 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.1.2.2.2.2.2.2.2.2.2.2.2.2.2.2.2.2.2.2.2.2.2.2.2.2.2.2.2.2.2.2.1 k0_t28 k0_t30
theorem k0_off684_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off684 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.1.2.2.2.2.2.2.2.2.2.2.2.2.2.2.2.2.2.2.2.2.2.2.2.2.2.2.2.2.2.2.2 k0_t28 k0_t30
theorem k0_off685_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off685 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.1 k0_t28 k0_t30
theorem k0_off686_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off686 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.1 k0_t28 k0_t30
theorem k0_off687_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off687 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.1 k0_t28 k0_t30
theorem k0_off688_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off688 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.1 k0_t28 k0_t30
theorem k0_off689_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off689 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.1 k0_t28 k0_t30
theorem k0_off690_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off690 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.1 k0_t28 k0_t30
theorem k0_off691_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off691 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.2.1 k0_t28 k0_t30
theorem k0_off692_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off692 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.2.2.1 k0_t28 k0_t30
theorem k0_off693_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off693 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.2.2.2.1 k0_t28 k0_t30
theorem k0_off694_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off694 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.2.2.2.2.1 k0_t28 k0_t30
theorem k0_off695_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off695 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.2.2.2.2.2.1 k0_t28 k0_t30
theorem k0_off696_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off696 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.2.2.2.2.2.2.1 k0_t28 k0_t30
theorem k0_off697_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off697 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.2.2.2.2.2.2.2.1 k0_t28 k0_t30
theorem k0_off698_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off698 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.2.2.2.2.2.2.2.2.1 k0_t28 k0_t30
theorem k0_off699_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off699 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.2.2.2.2.2.2.2.2.2.1 k0_t28 k0_t30
theorem k0_off700_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off700 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.2.2.2.2.2.2.2.2.2.2.1 k0_t28 k0_t30
theorem k0_off701_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off701 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.2.2.2.2.2.2.2.2.2.2.2.1 k0_t28 k0_t30
theorem k0_off702_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off702 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.2.2.2.2.2.2.2.2.2.2.2.2.1 k0_t28 k0_t30
theorem k0_off703_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off703 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.2.2.2.2.2.2.2.2.2.2.2.2.2.1 k0_t28 k0_t30
theorem k0_off704_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off704 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.2.2.2.2.2.2.2.2.2.2.2.2.2.2.1 k0_t28 k0_t30
theorem k0_off705_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off705 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.2.2.2.2.2.2.2.2.2.2.2.2.2.2.2.1 k0_t28 k0_t30
theorem k0_off706_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off706 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.2.2.2.2.2.2.2.2.2.2.2.2.2.2.2.2.1 k0_t28 k0_t30
theorem k0_off707_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off707 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.2.2.2.2.2.2.2.2.2.2.2.2.2.2.2.2.2.1 k0_t28 k0_t30
theorem k0_off708_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off708 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.2.2.2.2.2.2.2.2.2.2.2.2.2.2.2.2.2.2.1 k0_t28 k0_t30
theorem k0_off709_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off709 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.2.2.2.2.2.2.2.2.2.2.2.2.2.2.2.2.2.2.2.1 k0_t28 k0_t30
theorem k0_off710_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t28 : Fin (k0_t28_loop i v5 v9 v13 v17 v21 v25 v29 v33 v37 v41 v45 v49 v53 v57 v61 v65).trips) (k0_t30 : Fin (k0_t30_loop i v5 v9 v13 v17 v21 v25 v29 v33 v37 v41 v45 v49 v53 v57 v61 v65 k0_t28).trips), ∀ a, (k0_off710 i v5 v9 v13 v17 v21 v25 v29 v33 v37 v41 v45 v49 v53 v57 v61 v65 k0_t28 k0_t30) a + S1x1x16.size a ≤ S96x1x512.size a := fun i v5 v9 v13 v17 v21 v25 v29 v33 v37 v41 v45 v49 v53 v57 v61 v65 k0_hw1 k0_t28 k0_t30 => k0_hw1.2.2.2.2.2.2.2.2.2.2.2.2.2.2.2.2.2.2.2.2.2.2.1.2.2.2.2.2.2.2.2.2.2.2.2.2.2.2.2.2.2.2.2.2.2.2.2.2.1 k0_t28 k0_t30
theorem k0_off712_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h21 : k0_cond21 i v5 v9 v13 v17 v21 v25 v29 v33 v37 v41 v45 v49 v53 v57 v61 v65 = 1#1), ∀ a, (k0_off712 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h21 => k0_hw1.2.2.2.2.2.2.2.2.2.2.2.2.2.2.2.2.2.2.2.2.2.2.1.2.2.2.2.2.2.2.2.2.2.2.2.2.2.2.2.2.2.2.2.2.2.2.2.2.2.1 k0_h21
theorem k0_off714_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h22 : k0_cond22 i v5 v9 v13 v17 v21 v25 v29 v33 v37 v41 v45 v49 v53 v57 v61 v65 = 1#1), ∀ a, (k0_off714 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h22 => k0_hw1.2.2.2.2.2.2.2.2.2.2.2.2.2.2.2.2.2.2.2.2.2.2.1.2.2.2.2.2.2.2.2.2.2.2.2.2.2.2.2.2.2.2.2.2.2.2.2.2.2.2.1 k0_h22
theorem k0_t31_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t31_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.1.2.2.2.2.2.2.2.2.2.2.2.2.2.2.2.2.2.2.2.2.2.2.2.2.2.2.2.2.1
theorem k0_off715_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips), ∀ (k0_h23 : k0_cond23 i v5 v9 v13 v17 v21 v25 v29 v33 v37 v41 v45 v49 v53 v57 v61 v65 k0_t31 = 1#1), ∀ a, (k0_off715 i v5 v9 v13 v17 v21 v25 v29 v33 v37 v41 v45 v49 v53 v57 v61 v65 k0_t31) a + S32x1x512.size a ≤ S96x1x512.size a := fun i v5 v9 v13 v17 v21 v25 v29 v33 v37 v41 v45 v49 v53 v57 v61 v65 k0_hw1 k0_t31 k0_h23 => k0_hw1.2.2.2.2.2.2.2.2.2.2.2.2.2.2.2.2.2.2.2.2.2.2.1.2.2.2.2.2.2.2.2.2.2.2.2.2.2.2.2.2.2.2.2.2.2.2.2.2.2.2.2.2.1 k0_t31 k0_h23
theorem k0_off716_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips), ∀ (k0_h23 : k0_cond23 i v5 v9 v13 v17 v21 v25 v29 v33 v37 v41 v45 v49 v53 v57 v61 v65 k0_t31 = 1#1), ∀ a, (k0_off716 i v5 v9 v13 v17 v21 v25 v29 v33 v37 v41 v45 v49 v53 v57 v61 v65 k0_t31) a + S32x1x512.size a ≤ S2048x16x512.size a := fun i v5 v9 v13 v17 v21 v25 v29 v33 v37 v41 v45 v49 v53 v57 v61 v65 k0_hw1 k0_t31 k0_h23 => k0_hw1.2.2.2.2.2.2.2.2.2.2.2.2.2.2.2.2.2.2.2.2.2.2.1.2.2.2.2.2.2.2.2.2.2.2.2.2.2.2.2.2.2.2.2.2.2.2.2.2.2.2.2.2.2.1 k0_t31 k0_h23
theorem k0_off717_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips), ∀ (k0_h23 : k0_cond23 i v5 v9 v13 v17 v21 v25 v29 v33 v37 v41 v45 v49 v53 v57 v61 v65 k0_t31 = 1#1), ∀ a, (k0_off717 i v5 v9 v13 v17 v21 v25 v29 v33 v37 v41 v45 v49 v53 v57 v61 v65 k0_t31) a + S1.size a ≤ S3.size a := fun i v5 v9 v13 v17 v21 v25 v29 v33 v37 v41 v45 v49 v53 v57 v61 v65 k0_hw1 k0_t31 k0_h23 => k0_hw1.2.2.2.2.2.2.2.2.2.2.2.2.2.2.2.2.2.2.2.2.2.2.1.2.2.2.2.2.2.2.2.2.2.2.2.2.2.2.2.2.2.2.2.2.2.2.2.2.2.2.2.2.2.2 k0_t31 k0_h23
theorem k0_off718_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips), ∀ a, (k0_off718 i v5 v9 v13 v17 v21 v25 v29 v33 v37 v41 v45 v49 v53 v57 v61 v65 k0_t31) a + S32x1x512.size a ≤ S96x1x512.size a := fun i v5 v9 v13 v17 v21 v25 v29 v33 v37 v41 v45 v49 v53 v57 v61 v65 k0_hw1 k0_t31 => k0_hw1.2.2.2.2.2.2.2.2.2.2.2.2.2.2.2.2.2.2.2.2.2.2.2.1.1 k0_t31
theorem k0_off719_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips), ∀ a, (k0_off719 i v5 v9 v13 v17 v21 v25 v29 v33 v37 v41 v45 v49 v53 v57 v61 v65 k0_t31) a + S1.size a ≤ S3.size a := fun i v5 v9 v13 v17 v21 v25 v29 v33 v37 v41 v45 v49 v53 v57 v61 v65 k0_hw1 k0_t31 => k0_hw1.2.2.2.2.2.2.2.2.2.2.2.2.2.2.2.2.2.2.2.2.2.2.2.1.2.1 k0_t31
theorem k0_t32_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips), (k0_t32_loop i v5 v9 v13 v17 v21 v25 v29 v33 v37 v41 v45 v49 v53 v57 v61 v65 k0_t31).OK := fun i v5 v9 v13 v17 v21 v25 v29 v33 v37 v41 v45 v49 v53 v57 v61 v65 k0_hw1 k0_t31 => k0_hw1.2.2.2.2.2.2.2.2.2.2.2.2.2.2.2.2.2.2.2.2.2.2.2.1.2.2.1 k0_t31
theorem k0_off720_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off720 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.1 k0_t31 k0_t32
theorem k0_off721_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off721 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.1 k0_t31 k0_t32
theorem k0_off722_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off722 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.1 k0_t31 k0_t32
theorem k0_off723_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off723 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.1 k0_t31 k0_t32
theorem k0_off724_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off724 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.1 k0_t31 k0_t32
theorem k0_off725_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off725 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.1 k0_t31 k0_t32
theorem k0_off726_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off726 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.1 k0_t31 k0_t32
theorem k0_off727_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off727 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.1 k0_t31 k0_t32
theorem k0_off728_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off728 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.1 k0_t31 k0_t32
theorem k0_off729_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off729 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.2.1 k0_t31 k0_t32
theorem k0_off730_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off730 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.2.2.1 k0_t31 k0_t32
theorem k0_off731_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off731 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.2.2.2.1 k0_t31 k0_t32
theorem k0_off732_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off732 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.2.2.2.2.1 k0_t31 k0_t32
theorem k0_off733_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off733 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.2.2.2.2.2.1 k0_t31 k0_t32
theorem k0_off734_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off734 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.2.2.2.2.2.2.1 k0_t31 k0_t32
theorem k0_off735_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off735 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.2.2.2.2.2.2.2.1 k0_t31 k0_t32
theorem k0_off736_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off736 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.2.2.2.2.2.2.2.2.1 k0_t31 k0_t32
theorem k0_off737_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off737 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.2.2.2.2.2.2.2.2.2.1 k0_t31 k0_t32
theorem k0_off738_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off738 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.2.2.2.2.2.2.2.2.2.2.1 k0_t31 k0_t32
theorem k0_off739_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off739 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.2.2.2.2.2.2.2.2.2.2.2.1 k0_t31 k0_t32
theorem k0_off740_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off740 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.2.2.2.2.2.2.2.2.2.2.2.2.1 k0_t31 k0_t32
theorem k0_off741_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off741 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.2.2.2.2.2.2.2.2.2.2.2.2.2.1 k0_t31 k0_t32
theorem k0_off742_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off742 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.2.2.2.2.2.2.2.2.2.2.2.2.2.2.1 k0_t31 k0_t32
theorem k0_off743_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off743 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.2.2.2.2.2.2.2.2.2.2.2.2.2.2.2.1 k0_t31 k0_t32
theorem k0_off744_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off744 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.2.2.2.2.2.2.2.2.2.2.2.2.2.2.2.2.1 k0_t31 k0_t32
theorem k0_off745_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off745 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.2.2.2.2.2.2.2.2.2.2.2.2.2.2.2.2.2.1 k0_t31 k0_t32
theorem k0_off746_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off746 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.2.2.2.2.2.2.2.2.2.2.2.2.2.2.2.2.2.2.1 k0_t31 k0_t32
theorem k0_off747_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off747 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.2.2.2.2.2.2.2.2.2.2.2.2.2.2.2.2.2.2.2.1 k0_t31 k0_t32
theorem k0_off748_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off748 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.1.2.2.2.2.2.2.2.2.2.2.2.2.2.2.2.2.2.2.2.2.2.2.2.2.2.2.2.2.2.2.2 k0_t31 k0_t32
theorem k0_off749_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off749 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.2.1.1 k0_t31 k0_t32
theorem k0_off750_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off750 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.2.1.2.1 k0_t31 k0_t32
theorem k0_off751_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t32 : Fin (k0_t32_loop i v5 v9 v13 v17 v21 v25 v29 v33 v37 v41 v45 v49 v53 v57 v61 v65 k0_t31).trips), ∀ a, (k0_off751 i v5 v9 v13 v17 v21 v25 v29 v33 v37 v41 v45 v49 v53 v57 v61 v65 k0_t31 k0_t32) a + S1x1x16.size a ≤ S96x1x512.size a := fun i v5 v9 v13 v17 v21 v25 v29 v33 v37 v41 v45 v49 v53 v57 v61 v65 k0_hw1 k0_t31 k0_t32 => k0_hw1.2.2.2.2.2.2.2.2.2.2.2.2.2.2.2.2.2.2.2.2.2.2.2.2.1.2.2.1 k0_t31 k0_t32
theorem k0_t33_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips), (k0_t33_loop i v5 v9 v13 v17 v21 v25 v29 v33 v37 v41 v45 v49 v53 v57 v61 v65 k0_t31).OK := fun i v5 v9 v13 v17 v21 v25 v29 v33 v37 v41 v45 v49 v53 v57 v61 v65 k0_hw1 k0_t31 => k0_hw1.2.2.2.2.2.2.2.2.2.2.2.2.2.2.2.2.2.2.2.2.2.2.2.2.1.2.2.2.1 k0_t31
theorem k0_off752_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off752 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.1 k0_t31 k0_t33
theorem k0_off753_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off753 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.1 k0_t31 k0_t33
theorem k0_off754_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off754 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.1 k0_t31 k0_t33
theorem k0_off755_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off755 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.1 k0_t31 k0_t33
theorem k0_off756_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off756 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.1 k0_t31 k0_t33
theorem k0_off757_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off757 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.1 k0_t31 k0_t33
theorem k0_off758_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off758 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.1 k0_t31 k0_t33
theorem k0_off759_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off759 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.1 k0_t31 k0_t33
theorem k0_off760_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off760 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.2.1 k0_t31 k0_t33
theorem k0_off761_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off761 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.2.2.1 k0_t31 k0_t33
theorem k0_off762_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off762 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.2.2.2.1 k0_t31 k0_t33
theorem k0_off763_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off763 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.2.2.2.2.1 k0_t31 k0_t33
theorem k0_off764_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off764 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.2.2.2.2.2.1 k0_t31 k0_t33
theorem k0_off765_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off765 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.2.2.2.2.2.2.1 k0_t31 k0_t33
theorem k0_off766_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off766 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.2.2.2.2.2.2.2.1 k0_t31 k0_t33
theorem k0_off767_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off767 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.2.2.2.2.2.2.2.2.1 k0_t31 k0_t33
theorem k0_off768_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off768 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.2.2.2.2.2.2.2.2.2.1 k0_t31 k0_t33
theorem k0_off769_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off769 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.2.2.2.2.2.2.2.2.2.2.1 k0_t31 k0_t33
theorem k0_off770_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off770 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.2.2.2.2.2.2.2.2.2.2.2.1 k0_t31 k0_t33
theorem k0_off771_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off771 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.2.2.2.2.2.2.2.2.2.2.2.2.1 k0_t31 k0_t33
theorem k0_off772_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off772 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.2.2.2.2.2.2.2.2.2.2.2.2.2.1 k0_t31 k0_t33
theorem k0_off773_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off773 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.2.2.2.2.2.2.2.2.2.2.2.2.2.2.1 k0_t31 k0_t33
theorem k0_off774_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off774 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.2.2.2.2.2.2.2.2.2.2.2.2.2.2.2.1 k0_t31 k0_t33
theorem k0_off775_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off775 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.2.2.2.2.2.2.2.2.2.2.2.2.2.2.2.2.1 k0_t31 k0_t33
theorem k0_off776_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off776 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.2.2.2.2.2.2.2.2.2.2.2.2.2.2.2.2.2.1 k0_t31 k0_t33
theorem k0_off777_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off777 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.2.2.2.2.2.2.2.2.2.2.2.2.2.2.2.2.2.2.1 k0_t31 k0_t33
theorem k0_off778_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off778 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.2.2.2.2.2.2.2.2.2.2.2.2.2.2.2.2.2.2.2.1 k0_t31 k0_t33
theorem k0_off779_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off779 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.1.2.2.2.2.2.2.2.2.2.2.2.2.2.2.2.2.2.2.2.2.2.2.2.2.2.2.2.2.2.2.2 k0_t31 k0_t33
theorem k0_off780_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off780 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.2.1.1 k0_t31 k0_t33
theorem k0_off781_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off781 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.2.1.2.1 k0_t31 k0_t33
theorem k0_off782_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off782 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.2.1.2.2.1 k0_t31 k0_t33
theorem k0_off783_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t31 : Fin (k0_t31_loop i v5 v9 v13 v17 v21 v25 v29 v33 v37 v41 v45 v49 v53 v57 v61 v65).trips) (k0_t33 : Fin (k0_t33_loop i v5 v9 v13 v17 v21 v25 v29 v33 v37 v41 v45 v49 v53 v57 v61 v65 k0_t31).trips), ∀ a, (k0_off783 i v5 v9 v13 v17 v21 v25 v29 v33 v37 v41 v45 v49 v53 v57 v61 v65 k0_t31 k0_t33) a + S1x1x16.size a ≤ S96x1x512.size a := fun i v5 v9 v13 v17 v21 v25 v29 v33 v37 v41 v45 v49 v53 v57 v61 v65 k0_hw1 k0_t31 k0_t33 => k0_hw1.2.2.2.2.2.2.2.2.2.2.2.2.2.2.2.2.2.2.2.2.2.2.2.2.2.1.2.2.2.1 k0_t31 k0_t33
theorem k0_t34_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t34_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.1.2.2.2.2.1
theorem k0_off784_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips), ∀ (k0_h24 : k0_cond24 i v5 v9 v13 v17 v21 v25 v29 v33 v37 v41 v45 v49 v53 v57 v61 v65 k0_t34 = 1#1), ∀ a, (k0_off784 i v5 v9 v13 v17 v21 v25 v29 v33 v37 v41 v45 v49 v53 v57 v61 v65 k0_t34) a + S32x1x512.size a ≤ S96x1x512.size a := fun i v5 v9 v13 v17 v21 v25 v29 v33 v37 v41 v45 v49 v53 v57 v61 v65 k0_hw1 k0_t34 k0_h24 => k0_hw1.2.2.2.2.2.2.2.2.2.2.2.2.2.2.2.2.2.2.2.2.2.2.2.2.2.1.2.2.2.2.2.1 k0_t34 k0_h24
theorem k0_off785_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips), ∀ (k0_h24 : k0_cond24 i v5 v9 v13 v17 v21 v25 v29 v33 v37 v41 v45 v49 v53 v57 v61 v65 k0_t34 = 1#1), ∀ a, (k0_off785 i v5 v9 v13 v17 v21 v25 v29 v33 v37 v41 v45 v49 v53 v57 v61 v65 k0_t34) a + S32x1x512.size a ≤ S2048x16x512.size a := fun i v5 v9 v13 v17 v21 v25 v29 v33 v37 v41 v45 v49 v53 v57 v61 v65 k0_hw1 k0_t34 k0_h24 => k0_hw1.2.2.2.2.2.2.2.2.2.2.2.2.2.2.2.2.2.2.2.2.2.2.2.2.2.1.2.2.2.2.2.2.1 k0_t34 k0_h24
theorem k0_off786_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips), ∀ (k0_h24 : k0_cond24 i v5 v9 v13 v17 v21 v25 v29 v33 v37 v41 v45 v49 v53 v57 v61 v65 k0_t34 = 1#1), ∀ a, (k0_off786 i v5 v9 v13 v17 v21 v25 v29 v33 v37 v41 v45 v49 v53 v57 v61 v65 k0_t34) a + S1.size a ≤ S3.size a := fun i v5 v9 v13 v17 v21 v25 v29 v33 v37 v41 v45 v49 v53 v57 v61 v65 k0_hw1 k0_t34 k0_h24 => k0_hw1.2.2.2.2.2.2.2.2.2.2.2.2.2.2.2.2.2.2.2.2.2.2.2.2.2.1.2.2.2.2.2.2.2.1 k0_t34 k0_h24
theorem k0_off787_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips), ∀ a, (k0_off787 i v5 v9 v13 v17 v21 v25 v29 v33 v37 v41 v45 v49 v53 v57 v61 v65 k0_t34) a + S32x1x512.size a ≤ S96x1x512.size a := fun i v5 v9 v13 v17 v21 v25 v29 v33 v37 v41 v45 v49 v53 v57 v61 v65 k0_hw1 k0_t34 => k0_hw1.2.2.2.2.2.2.2.2.2.2.2.2.2.2.2.2.2.2.2.2.2.2.2.2.2.1.2.2.2.2.2.2.2.2.1 k0_t34
theorem k0_off788_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips), ∀ a, (k0_off788 i v5 v9 v13 v17 v21 v25 v29 v33 v37 v41 v45 v49 v53 v57 v61 v65 k0_t34) a + S1.size a ≤ S3.size a := fun i v5 v9 v13 v17 v21 v25 v29 v33 v37 v41 v45 v49 v53 v57 v61 v65 k0_hw1 k0_t34 => k0_hw1.2.2.2.2.2.2.2.2.2.2.2.2.2.2.2.2.2.2.2.2.2.2.2.2.2.1.2.2.2.2.2.2.2.2.2.1 k0_t34
theorem k0_t35_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips), (k0_t35_loop i v5 v9 v13 v17 v21 v25 v29 v33 v37 v41 v45 v49 v53 v57 v61 v65 k0_t34).OK := fun i v5 v9 v13 v17 v21 v25 v29 v33 v37 v41 v45 v49 v53 v57 v61 v65 k0_hw1 k0_t34 => k0_hw1.2.2.2.2.2.2.2.2.2.2.2.2.2.2.2.2.2.2.2.2.2.2.2.2.2.1.2.2.2.2.2.2.2.2.2.2.1 k0_t34
theorem k0_off789_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off789 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.1 k0_t34 k0_t35
theorem k0_off790_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off790 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.2.1 k0_t34 k0_t35
theorem k0_off791_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off791 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.2.2.1 k0_t34 k0_t35
theorem k0_off792_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off792 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.2.2.2.1 k0_t34 k0_t35
theorem k0_off793_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off793 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.2.2.2.2.1 k0_t34 k0_t35
theorem k0_off794_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off794 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.2.2.2.2.2.1 k0_t34 k0_t35
theorem k0_off795_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off795 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.2.2.2.2.2.2.1 k0_t34 k0_t35
theorem k0_off796_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off796 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.2.2.2.2.2.2.2.1 k0_t34 k0_t35
theorem k0_off797_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off797 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.2.2.2.2.2.2.2.2.1 k0_t34 k0_t35
theorem k0_off798_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off798 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.2.2.2.2.2.2.2.2.2.1 k0_t34 k0_t35
theorem k0_off799_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off799 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.2.2.2.2.2.2.2.2.2.2.1 k0_t34 k0_t35
theorem k0_off800_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off800 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.2.2.2.2.2.2.2.2.2.2.2.1 k0_t34 k0_t35
theorem k0_off801_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off801 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.2.2.2.2.2.2.2.2.2.2.2.2.1 k0_t34 k0_t35
theorem k0_off802_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off802 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.2.2.2.2.2.2.2.2.2.2.2.2.2.1 k0_t34 k0_t35
theorem k0_off803_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off803 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.2.2.2.2.2.2.2.2.2.2.2.2.2.2.1 k0_t34 k0_t35
theorem k0_off804_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off804 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.2.2.2.2.2.2.2.2.2.2.2.2.2.2.2.1 k0_t34 k0_t35
theorem k0_off805_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off805 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.2.2.2.2.2.2.2.2.2.2.2.2.2.2.2.2.1 k0_t34 k0_t35
theorem k0_off806_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off806 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.2.2.2.2.2.2.2.2.2.2.2.2.2.2.2.2.2.1 k0_t34 k0_t35
theorem k0_off807_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off807 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.2.2.2.2.2.2.2.2.2.2.2.2.2.2.2.2.2.2.1 k0_t34 k0_t35
theorem k0_off808_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off808 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.2.2.2.2.2.2.2.2.2.2.2.2.2.2.2.2.2.2.2.1 k0_t34 k0_t35
theorem k0_off809_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off809 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.1.2.2.2.2.2.2.2.2.2.2.2.2.2.2.2.2.2.2.2.2.2.2.2.2.2.2.2.2.2.2.2 k0_t34 k0_t35
theorem k0_off810_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off810 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.2.1.1 k0_t34 k0_t35
theorem k0_off811_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off811 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.2.1.2.1 k0_t34 k0_t35
theorem k0_off812_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off812 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.2.1.2.2.1 k0_t34 k0_t35
theorem k0_off813_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off813 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.2.1.2.2.2.1 k0_t34 k0_t35
theorem k0_off814_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off814 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.2.1.2.2.2.2.1 k0_t34 k0_t35
theorem k0_off815_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off815 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.2.1.2.2.2.2.2.1 k0_t34 k0_t35
theorem k0_off816_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off816 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.2.1.2.2.2.2.2.2.1 k0_t34 k0_t35
theorem k0_off817_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off817 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.2.1.2.2.2.2.2.2.2.1 k0_t34 k0_t35
theorem k0_off818_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off818 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.2.1.2.2.2.2.2.2.2.2.1 k0_t34 k0_t35
theorem k0_off819_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off819 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.2.1.2.2.2.2.2.2.2.2.2.1 k0_t34 k0_t35
theorem k0_off820_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t35 : Fin (k0_t35_loop i v5 v9 v13 v17 v21 v25 v29 v33 v37 v41 v45 v49 v53 v57 v61 v65 k0_t34).trips), ∀ a, (k0_off820 i v5 v9 v13 v17 v21 v25 v29 v33 v37 v41 v45 v49 v53 v57 v61 v65 k0_t34 k0_t35) a + S1x1x16.size a ≤ S96x1x512.size a := fun i v5 v9 v13 v17 v21 v25 v29 v33 v37 v41 v45 v49 v53 v57 v61 v65 k0_hw1 k0_t34 k0_t35 => k0_hw1.2.2.2.2.2.2.2.2.2.2.2.2.2.2.2.2.2.2.2.2.2.2.2.2.2.2.1.2.2.2.2.2.2.2.2.2.2.1 k0_t34 k0_t35
theorem k0_t36_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips), (k0_t36_loop i v5 v9 v13 v17 v21 v25 v29 v33 v37 v41 v45 v49 v53 v57 v61 v65 k0_t34).OK := fun i v5 v9 v13 v17 v21 v25 v29 v33 v37 v41 v45 v49 v53 v57 v61 v65 k0_hw1 k0_t34 => k0_hw1.2.2.2.2.2.2.2.2.2.2.2.2.2.2.2.2.2.2.2.2.2.2.2.2.2.2.1.2.2.2.2.2.2.2.2.2.2.2.1 k0_t34
theorem k0_off821_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off821 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.1.2.2.2.2.2.2.2.2.2.2.2.2.1 k0_t34 k0_t36
theorem k0_off822_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off822 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.1.2.2.2.2.2.2.2.2.2.2.2.2.2.1 k0_t34 k0_t36
theorem k0_off823_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off823 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.1.2.2.2.2.2.2.2.2.2.2.2.2.2.2.1 k0_t34 k0_t36
theorem k0_off824_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off824 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.1.2.2.2.2.2.2.2.2.2.2.2.2.2.2.2.1 k0_t34 k0_t36
theorem k0_off825_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off825 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.1.2.2.2.2.2.2.2.2.2.2.2.2.2.2.2.2.1 k0_t34 k0_t36
theorem k0_off826_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off826 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.1.2.2.2.2.2.2.2.2.2.2.2.2.2.2.2.2.2.1 k0_t34 k0_t36
theorem k0_off827_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off827 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.1.2.2.2.2.2.2.2.2.2.2.2.2.2.2.2.2.2.2.1 k0_t34 k0_t36
theorem k0_off828_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off828 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.1.2.2.2.2.2.2.2.2.2.2.2.2.2.2.2.2.2.2.2.1 k0_t34 k0_t36
theorem k0_off829_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off829 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.1.2.2.2.2.2.2.2.2.2.2.2.2.2.2.2.2.2.2.2.2.1 k0_t34 k0_t36
theorem k0_off830_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off830 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.1.2.2.2.2.2.2.2.2.2.2.2.2.2.2.2.2.2.2.2.2.2.1 k0_t34 k0_t36
theorem k0_off831_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off831 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.1.2.2.2.2.2.2.2.2.2.2.2.2.2.2.2.2.2.2.2.2.2.2.1 k0_t34 k0_t36
theorem k0_off832_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off832 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.1.2.2.2.2.2.2.2.2.2.2.2.2.2.2.2.2.2.2.2.2.2.2.2.1 k0_t34 k0_t36
theorem k0_off833_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off833 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.1.2.2.2.2.2.2.2.2.2.2.2.2.2.2.2.2.2.2.2.2.2.2.2.2.1 k0_t34 k0_t36
theorem k0_off834_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off834 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.1.2.2.2.2.2.2.2.2.2.2.2.2.2.2.2.2.2.2.2.2.2.2.2.2.2.1 k0_t34 k0_t36
theorem k0_off835_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off835 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.1.2.2.2.2.2.2.2.2.2.2.2.2.2.2.2.2.2.2.2.2.2.2.2.2.2.2.1 k0_t34 k0_t36
theorem k0_off836_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off836 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.1.2.2.2.2.2.2.2.2.2.2.2.2.2.2.2.2.2.2.2.2.2.2.2.2.2.2.2.1 k0_t34 k0_t36
theorem k0_off837_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off837 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.1.2.2.2.2.2.2.2.2.2.2.2.2.2.2.2.2.2.2.2.2.2.2.2.2.2.2.2.2.1 k0_t34 k0_t36
theorem k0_off838_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off838 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.1.2.2.2.2.2.2.2.2.2.2.2.2.2.2.2.2.2.2.2.2.2.2.2.2.2.2.2.2.2.1 k0_t34 k0_t36
theorem k0_off839_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off839 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.1.2.2.2.2.2.2.2.2.2.2.2.2.2.2.2.2.2.2.2.2.2.2.2.2.2.2.2.2.2.2.1 k0_t34 k0_t36
theorem k0_off840_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off840 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.1.2.2.2.2.2.2.2.2.2.2.2.2.2.2.2.2.2.2.2.2.2.2.2.2.2.2.2.2.2.2.2 k0_t34 k0_t36
theorem k0_off841_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off841 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.2.1.1 k0_t34 k0_t36
theorem k0_off842_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off842 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.2.1.2.1 k0_t34 k0_t36
theorem k0_off843_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off843 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.2.1.2.2.1 k0_t34 k0_t36
theorem k0_off844_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off844 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.2.1.2.2.2.1 k0_t34 k0_t36
theorem k0_off845_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off845 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.2.1.2.2.2.2.1 k0_t34 k0_t36
theorem k0_off846_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off846 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.2.1.2.2.2.2.2.1 k0_t34 k0_t36
theorem k0_off847_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off847 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.2.1.2.2.2.2.2.2.1 k0_t34 k0_t36
theorem k0_off848_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off848 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.2.1.2.2.2.2.2.2.2.1 k0_t34 k0_t36
theorem k0_off849_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off849 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.2.1.2.2.2.2.2.2.2.2.1 k0_t34 k0_t36
theorem k0_off850_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off850 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.2.1.2.2.2.2.2.2.2.2.2.1 k0_t34 k0_t36
theorem k0_off851_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off851 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.2.1.2.2.2.2.2.2.2.2.2.2.1 k0_t34 k0_t36
theorem k0_off852_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t34 : Fin (k0_t34_loop i v5 v9 v13 v17 v21 v25 v29 v33 v37 v41 v45 v49 v53 v57 v61 v65).trips) (k0_t36 : Fin (k0_t36_loop i v5 v9 v13 v17 v21 v25 v29 v33 v37 v41 v45 v49 v53 v57 v61 v65 k0_t34).trips), ∀ a, (k0_off852 i v5 v9 v13 v17 v21 v25 v29 v33 v37 v41 v45 v49 v53 v57 v61 v65 k0_t34 k0_t36) a + S1x1x16.size a ≤ S96x1x512.size a := fun i v5 v9 v13 v17 v21 v25 v29 v33 v37 v41 v45 v49 v53 v57 v61 v65 k0_hw1 k0_t34 k0_t36 => k0_hw1.2.2.2.2.2.2.2.2.2.2.2.2.2.2.2.2.2.2.2.2.2.2.2.2.2.2.2.1.2.2.2.2.2.2.2.2.2.2.2.1 k0_t34 k0_t36
theorem k0_off854_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h25 : k0_cond25 i v5 v9 v13 v17 v21 v25 v29 v33 v37 v41 v45 v49 v53 v57 v61 v65 = 1#1), ∀ a, (k0_off854 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h25 => k0_hw1.2.2.2.2.2.2.2.2.2.2.2.2.2.2.2.2.2.2.2.2.2.2.2.2.2.2.2.1.2.2.2.2.2.2.2.2.2.2.2.2.1 k0_h25
theorem k0_off856_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h26 : k0_cond26 i v5 v9 v13 v17 v21 v25 v29 v33 v37 v41 v45 v49 v53 v57 v61 v65 = 1#1), ∀ a, (k0_off856 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h26 => k0_hw1.2.2.2.2.2.2.2.2.2.2.2.2.2.2.2.2.2.2.2.2.2.2.2.2.2.2.2.1.2.2.2.2.2.2.2.2.2.2.2.2.2.1 k0_h26
theorem k0_t37_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t37_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.2.2.1.2.2.2.2.2.2.2.2.2.2.2.2.2.2.1
theorem k0_off857_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips), ∀ (k0_h27 : k0_cond27 i v5 v9 v13 v17 v21 v25 v29 v33 v37 v41 v45 v49 v53 v57 v61 v65 k0_t37 = 1#1), ∀ a, (k0_off857 i v5 v9 v13 v17 v21 v25 v29 v33 v37 v41 v45 v49 v53 v57 v61 v65 k0_t37) a + S32x1x512.size a ≤ S96x1x512.size a := fun i v5 v9 v13 v17 v21 v25 v29 v33 v37 v41 v45 v49 v53 v57 v61 v65 k0_hw1 k0_t37 k0_h27 => k0_hw1.2.2.2.2.2.2.2.2.2.2.2.2.2.2.2.2.2.2.2.2.2.2.2.2.2.2.2.1.2.2.2.2.2.2.2.2.2.2.2.2.2.2.2.1 k0_t37 k0_h27
theorem k0_off858_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips), ∀ (k0_h27 : k0_cond27 i v5 v9 v13 v17 v21 v25 v29 v33 v37 v41 v45 v49 v53 v57 v61 v65 k0_t37 = 1#1), ∀ a, (k0_off858 i v5 v9 v13 v17 v21 v25 v29 v33 v37 v41 v45 v49 v53 v57 v61 v65 k0_t37) a + S32x1x512.size a ≤ S2048x16x512.size a := fun i v5 v9 v13 v17 v21 v25 v29 v33 v37 v41 v45 v49 v53 v57 v61 v65 k0_hw1 k0_t37 k0_h27 => k0_hw1.2.2.2.2.2.2.2.2.2.2.2.2.2.2.2.2.2.2.2.2.2.2.2.2.2.2.2.1.2.2.2.2.2.2.2.2.2.2.2.2.2.2.2.2.1 k0_t37 k0_h27
theorem k0_off859_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips), ∀ (k0_h27 : k0_cond27 i v5 v9 v13 v17 v21 v25 v29 v33 v37 v41 v45 v49 v53 v57 v61 v65 k0_t37 = 1#1), ∀ a, (k0_off859 i v5 v9 v13 v17 v21 v25 v29 v33 v37 v41 v45 v49 v53 v57 v61 v65 k0_t37) a + S1.size a ≤ S3.size a := fun i v5 v9 v13 v17 v21 v25 v29 v33 v37 v41 v45 v49 v53 v57 v61 v65 k0_hw1 k0_t37 k0_h27 => k0_hw1.2.2.2.2.2.2.2.2.2.2.2.2.2.2.2.2.2.2.2.2.2.2.2.2.2.2.2.1.2.2.2.2.2.2.2.2.2.2.2.2.2.2.2.2.2.1 k0_t37 k0_h27
theorem k0_off860_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips), ∀ a, (k0_off860 i v5 v9 v13 v17 v21 v25 v29 v33 v37 v41 v45 v49 v53 v57 v61 v65 k0_t37) a + S32x1x512.size a ≤ S96x1x512.size a := fun i v5 v9 v13 v17 v21 v25 v29 v33 v37 v41 v45 v49 v53 v57 v61 v65 k0_hw1 k0_t37 => k0_hw1.2.2.2.2.2.2.2.2.2.2.2.2.2.2.2.2.2.2.2.2.2.2.2.2.2.2.2.1.2.2.2.2.2.2.2.2.2.2.2.2.2.2.2.2.2.2.1 k0_t37
theorem k0_off861_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips), ∀ a, (k0_off861 i v5 v9 v13 v17 v21 v25 v29 v33 v37 v41 v45 v49 v53 v57 v61 v65 k0_t37) a + S1.size a ≤ S3.size a := fun i v5 v9 v13 v17 v21 v25 v29 v33 v37 v41 v45 v49 v53 v57 v61 v65 k0_hw1 k0_t37 => k0_hw1.2.2.2.2.2.2.2.2.2.2.2.2.2.2.2.2.2.2.2.2.2.2.2.2.2.2.2.1.2.2.2.2.2.2.2.2.2.2.2.2.2.2.2.2.2.2.2.1 k0_t37
theorem k0_t38_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips), (k0_t38_loop i v5 v9 v13 v17 v21 v25 v29 v33 v37 v41 v45 v49 v53 v57 v61 v65 k0_t37).OK := fun i v5 v9 v13 v17 v21 v25 v29 v33 v37 v41 v45 v49 v53 v57 v61 v65 k0_hw1 k0_t37 => k0_hw1.2.2.2.2.2.2.2.2.2.2.2.2.2.2.2.2.2.2.2.2.2.2.2.2.2.2.2.1.2.2.2.2.2.2.2.2.2.2.2.2.2.2.2.2.2.2.2.2.1 k0_t37
theorem k0_off862_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off862 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.1.2.2.2.2.2.2.2.2.2.2.2.2.2.2.2.2.2.2.2.2.2.1 k0_t37 k0_t38
theorem k0_off863_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off863 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.1.2.2.2.2.2.2.2.2.2.2.2.2.2.2.2.2.2.2.2.2.2.2.1 k0_t37 k0_t38
theorem k0_off864_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off864 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.1.2.2.2.2.2.2.2.2.2.2.2.2.2.2.2.2.2.2.2.2.2.2.2.1 k0_t37 k0_t38
theorem k0_off865_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off865 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.1.2.2.2.2.2.2.2.2.2.2.2.2.2.2.2.2.2.2.2.2.2.2.2.2.1 k0_t37 k0_t38
theorem k0_off866_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off866 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.1.2.2.2.2.2.2.2.2.2.2.2.2.2.2.2.2.2.2.2.2.2.2.2.2.2.1 k0_t37 k0_t38
theorem k0_off867_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off867 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.1.2.2.2.2.2.2.2.2.2.2.2.2.2.2.2.2.2.2.2.2.2.2.2.2.2.2.1 k0_t37 k0_t38
theorem k0_off868_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off868 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.1.2.2.2.2.2.2.2.2.2.2.2.2.2.2.2.2.2.2.2.2.2.2.2.2.2.2.2.1 k0_t37 k0_t38
theorem k0_off869_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off869 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.1.2.2.2.2.2.2.2.2.2.2.2.2.2.2.2.2.2.2.2.2.2.2.2.2.2.2.2.2.1 k0_t37 k0_t38
theorem k0_off870_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off870 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.1.2.2.2.2.2.2.2.2.2.2.2.2.2.2.2.2.2.2.2.2.2.2.2.2.2.2.2.2.2.1 k0_t37 k0_t38
theorem k0_off871_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off871 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.1.2.2.2.2.2.2.2.2.2.2.2.2.2.2.2.2.2.2.2.2.2.2.2.2.2.2.2.2.2.2.1 k0_t37 k0_t38
theorem k0_off872_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off872 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.1.2.2.2.2.2.2.2.2.2.2.2.2.2.2.2.2.2.2.2.2.2.2.2.2.2.2.2.2.2.2.2 k0_t37 k0_t38
theorem k0_off873_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off873 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.1 k0_t37 k0_t38
theorem k0_off874_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off874 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.2.1 k0_t37 k0_t38
theorem k0_off875_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off875 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.2.2.1 k0_t37 k0_t38
theorem k0_off876_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off876 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.2.2.2.1 k0_t37 k0_t38
theorem k0_off877_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off877 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.2.2.2.2.1 k0_t37 k0_t38
theorem k0_off878_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off878 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.2.2.2.2.2.1 k0_t37 k0_t38
theorem k0_off879_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off879 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.2.2.2.2.2.2.1 k0_t37 k0_t38
theorem k0_off880_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off880 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.2.2.2.2.2.2.2.1 k0_t37 k0_t38
theorem k0_off881_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off881 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.2.2.2.2.2.2.2.2.1 k0_t37 k0_t38
theorem k0_off882_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off882 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.2.2.2.2.2.2.2.2.2.1 k0_t37 k0_t38
theorem k0_off883_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off883 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.2.2.2.2.2.2.2.2.2.2.1 k0_t37 k0_t38
theorem k0_off884_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off884 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.2.2.2.2.2.2.2.2.2.2.2.1 k0_t37 k0_t38
theorem k0_off885_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off885 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.2.2.2.2.2.2.2.2.2.2.2.2.1 k0_t37 k0_t38
theorem k0_off886_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off886 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.2.2.2.2.2.2.2.2.2.2.2.2.2.1 k0_t37 k0_t38
theorem k0_off887_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off887 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.2.2.2.2.2.2.2.2.2.2.2.2.2.2.1 k0_t37 k0_t38
theorem k0_off888_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off888 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.2.2.2.2.2.2.2.2.2.2.2.2.2.2.2.1 k0_t37 k0_t38
theorem k0_off889_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off889 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.2.2.2.2.2.2.2.2.2.2.2.2.2.2.2.2.1 k0_t37 k0_t38
theorem k0_off890_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off890 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.2.2.2.2.2.2.2.2.2.2.2.2.2.2.2.2.2.1 k0_t37 k0_t38
theorem k0_off891_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off891 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.2.2.2.2.2.2.2.2.2.2.2.2.2.2.2.2.2.2.1 k0_t37 k0_t38
theorem k0_off892_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off892 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.2.2.2.2.2.2.2.2.2.2.2.2.2.2.2.2.2.2.2.1 k0_t37 k0_t38
theorem k0_off893_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t38 : Fin (k0_t38_loop i v5 v9 v13 v17 v21 v25 v29 v33 v37 v41 v45 v49 v53 v57 v61 v65 k0_t37).trips), ∀ a, (k0_off893 i v5 v9 v13 v17 v21 v25 v29 v33 v37 v41 v45 v49 v53 v57 v61 v65 k0_t37 k0_t38) a + S1x1x16.size a ≤ S96x1x512.size a := fun i v5 v9 v13 v17 v21 v25 v29 v33 v37 v41 v45 v49 v53 v57 v61 v65 k0_hw1 k0_t37 k0_t38 => k0_hw1.2.2.2.2.2.2.2.2.2.2.2.2.2.2.2.2.2.2.2.2.2.2.2.2.2.2.2.2.1.2.2.2.2.2.2.2.2.2.2.2.2.2.2.2.2.2.2.2.2.1 k0_t37 k0_t38
theorem k0_t39_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips), (k0_t39_loop i v5 v9 v13 v17 v21 v25 v29 v33 v37 v41 v45 v49 v53 v57 v61 v65 k0_t37).OK := fun i v5 v9 v13 v17 v21 v25 v29 v33 v37 v41 v45 v49 v53 v57 v61 v65 k0_hw1 k0_t37 => k0_hw1.2.2.2.2.2.2.2.2.2.2.2.2.2.2.2.2.2.2.2.2.2.2.2.2.2.2.2.2.1.2.2.2.2.2.2.2.2.2.2.2.2.2.2.2.2.2.2.2.2.2.1 k0_t37
theorem k0_off894_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off894 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.1.2.2.2.2.2.2.2.2.2.2.2.2.2.2.2.2.2.2.2.2.2.2.1 k0_t37 k0_t39
theorem k0_off895_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off895 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.1.2.2.2.2.2.2.2.2.2.2.2.2.2.2.2.2.2.2.2.2.2.2.2.1 k0_t37 k0_t39
theorem k0_off896_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off896 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.1.2.2.2.2.2.2.2.2.2.2.2.2.2.2.2.2.2.2.2.2.2.2.2.2.1 k0_t37 k0_t39
theorem k0_off897_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off897 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.1.2.2.2.2.2.2.2.2.2.2.2.2.2.2.2.2.2.2.2.2.2.2.2.2.2.1 k0_t37 k0_t39
theorem k0_off898_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off898 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.1.2.2.2.2.2.2.2.2.2.2.2.2.2.2.2.2.2.2.2.2.2.2.2.2.2.2.1 k0_t37 k0_t39
theorem k0_off899_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off899 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.1.2.2.2.2.2.2.2.2.2.2.2.2.2.2.2.2.2.2.2.2.2.2.2.2.2.2.2.1 k0_t37 k0_t39
theorem k0_off900_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off900 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.1.2.2.2.2.2.2.2.2.2.2.2.2.2.2.2.2.2.2.2.2.2.2.2.2.2.2.2.2.1 k0_t37 k0_t39
theorem k0_off901_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off901 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.1.2.2.2.2.2.2.2.2.2.2.2.2.2.2.2.2.2.2.2.2.2.2.2.2.2.2.2.2.2.1 k0_t37 k0_t39
theorem k0_off902_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off902 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t37 k0_t39
theorem k0_off903_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off903 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t37 k0_t39
theorem k0_off904_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off904 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.1 k0_t37 k0_t39
theorem k0_off905_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off905 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.1 k0_t37 k0_t39
theorem k0_off906_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off906 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.2.1 k0_t37 k0_t39
theorem k0_off907_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off907 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.2.2.1 k0_t37 k0_t39
theorem k0_off908_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off908 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.2.2.2.1 k0_t37 k0_t39
theorem k0_off909_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off909 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.2.2.2.2.1 k0_t37 k0_t39
theorem k0_off910_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off910 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.2.2.2.2.2.1 k0_t37 k0_t39
theorem k0_off911_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off911 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.2.2.2.2.2.2.1 k0_t37 k0_t39
theorem k0_off912_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off912 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.2.2.2.2.2.2.2.1 k0_t37 k0_t39
theorem k0_off913_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off913 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.2.2.2.2.2.2.2.2.1 k0_t37 k0_t39
theorem k0_off914_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off914 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.2.2.2.2.2.2.2.2.2.1 k0_t37 k0_t39
theorem k0_off915_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off915 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.2.2.2.2.2.2.2.2.2.2.1 k0_t37 k0_t39
theorem k0_off916_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off916 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.2.2.2.2.2.2.2.2.2.2.2.1 k0_t37 k0_t39
theorem k0_off917_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off917 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.2.2.2.2.2.2.2.2.2.2.2.2.1 k0_t37 k0_t39
theorem k0_off918_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off918 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.2.2.2.2.2.2.2.2.2.2.2.2.2.1 k0_t37 k0_t39
theorem k0_off919_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off919 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.2.2.2.2.2.2.2.2.2.2.2.2.2.2.1 k0_t37 k0_t39
theorem k0_off920_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off920 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.2.2.2.2.2.2.2.2.2.2.2.2.2.2.2.1 k0_t37 k0_t39
theorem k0_off921_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off921 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.2.2.2.2.2.2.2.2.2.2.2.2.2.2.2.2.1 k0_t37 k0_t39
theorem k0_off922_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off922 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.2.2.2.2.2.2.2.2.2.2.2.2.2.2.2.2.2.1 k0_t37 k0_t39
theorem k0_off923_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off923 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.2.2.2.2.2.2.2.2.2.2.2.2.2.2.2.2.2.2.1 k0_t37 k0_t39
theorem k0_off924_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off924 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.2.2.2.2.2.2.2.2.2.2.2.2.2.2.2.2.2.2.2.1 k0_t37 k0_t39
theorem k0_off925_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t37 : Fin (k0_t37_loop i v5 v9 v13 v17 v21 v25 v29 v33 v37 v41 v45 v49 v53 v57 v61 v65).trips) (k0_t39 : Fin (k0_t39_loop i v5 v9 v13 v17 v21 v25 v29 v33 v37 v41 v45 v49 v53 v57 v61 v65 k0_t37).trips), ∀ a, (k0_off925 i v5 v9 v13 v17 v21 v25 v29 v33 v37 v41 v45 v49 v53 v57 v61 v65 k0_t37 k0_t39) a + S1x1x16.size a ≤ S96x1x512.size a := fun i v5 v9 v13 v17 v21 v25 v29 v33 v37 v41 v45 v49 v53 v57 v61 v65 k0_hw1 k0_t37 k0_t39 => k0_hw1.2.2.2.2.2.2.2.2.2.2.2.2.2.2.2.2.2.2.2.2.2.2.2.2.2.2.2.2.2.1.2.2.2.2.2.2.2.2.2.2.2.2.2.2.2.2.2.2.2.2.2.1 k0_t37 k0_t39
theorem k0_t40_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t40_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.2.2.2.2.1.2.2.2.2.2.2.2.2.2.2.2.2.2.2.2.2.2.2.2.2.2.2.1
theorem k0_off926_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips), ∀ (k0_h28 : k0_cond28 i v5 v9 v13 v17 v21 v25 v29 v33 v37 v41 v45 v49 v53 v57 v61 v65 k0_t40 = 1#1), ∀ a, (k0_off926 i v5 v9 v13 v17 v21 v25 v29 v33 v37 v41 v45 v49 v53 v57 v61 v65 k0_t40) a + S32x1x512.size a ≤ S96x1x512.size a := fun i v5 v9 v13 v17 v21 v25 v29 v33 v37 v41 v45 v49 v53 v57 v61 v65 k0_hw1 k0_t40 k0_h28 => k0_hw1.2.2.2.2.2.2.2.2.2.2.2.2.2.2.2.2.2.2.2.2.2.2.2.2.2.2.2.2.2.1.2.2.2.2.2.2.2.2.2.2.2.2.2.2.2.2.2.2.2.2.2.2.2.1 k0_t40 k0_h28
theorem k0_off927_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips), ∀ (k0_h28 : k0_cond28 i v5 v9 v13 v17 v21 v25 v29 v33 v37 v41 v45 v49 v53 v57 v61 v65 k0_t40 = 1#1), ∀ a, (k0_off927 i v5 v9 v13 v17 v21 v25 v29 v33 v37 v41 v45 v49 v53 v57 v61 v65 k0_t40) a + S32x1x512.size a ≤ S2048x16x512.size a := fun i v5 v9 v13 v17 v21 v25 v29 v33 v37 v41 v45 v49 v53 v57 v61 v65 k0_hw1 k0_t40 k0_h28 => k0_hw1.2.2.2.2.2.2.2.2.2.2.2.2.2.2.2.2.2.2.2.2.2.2.2.2.2.2.2.2.2.1.2.2.2.2.2.2.2.2.2.2.2.2.2.2.2.2.2.2.2.2.2.2.2.2.1 k0_t40 k0_h28
theorem k0_off928_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips), ∀ (k0_h28 : k0_cond28 i v5 v9 v13 v17 v21 v25 v29 v33 v37 v41 v45 v49 v53 v57 v61 v65 k0_t40 = 1#1), ∀ a, (k0_off928 i v5 v9 v13 v17 v21 v25 v29 v33 v37 v41 v45 v49 v53 v57 v61 v65 k0_t40) a + S1.size a ≤ S3.size a := fun i v5 v9 v13 v17 v21 v25 v29 v33 v37 v41 v45 v49 v53 v57 v61 v65 k0_hw1 k0_t40 k0_h28 => k0_hw1.2.2.2.2.2.2.2.2.2.2.2.2.2.2.2.2.2.2.2.2.2.2.2.2.2.2.2.2.2.1.2.2.2.2.2.2.2.2.2.2.2.2.2.2.2.2.2.2.2.2.2.2.2.2.2.1 k0_t40 k0_h28
theorem k0_off929_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips), ∀ a, (k0_off929 i v5 v9 v13 v17 v21 v25 v29 v33 v37 v41 v45 v49 v53 v57 v61 v65 k0_t40) a + S32x1x512.size a ≤ S96x1x512.size a := fun i v5 v9 v13 v17 v21 v25 v29 v33 v37 v41 v45 v49 v53 v57 v61 v65 k0_hw1 k0_t40 => k0_hw1.2.2.2.2.2.2.2.2.2.2.2.2.2.2.2.2.2.2.2.2.2.2.2.2.2.2.2.2.2.1.2.2.2.2.2.2.2.2.2.2.2.2.2.2.2.2.2.2.2.2.2.2.2.2.2.2.1 k0_t40
theorem k0_off930_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips), ∀ a, (k0_off930 i v5 v9 v13 v17 v21 v25 v29 v33 v37 v41 v45 v49 v53 v57 v61 v65 k0_t40) a + S1.size a ≤ S3.size a := fun i v5 v9 v13 v17 v21 v25 v29 v33 v37 v41 v45 v49 v53 v57 v61 v65 k0_hw1 k0_t40 => k0_hw1.2.2.2.2.2.2.2.2.2.2.2.2.2.2.2.2.2.2.2.2.2.2.2.2.2.2.2.2.2.1.2.2.2.2.2.2.2.2.2.2.2.2.2.2.2.2.2.2.2.2.2.2.2.2.2.2.2.1 k0_t40
theorem k0_t41_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips), (k0_t41_loop i v5 v9 v13 v17 v21 v25 v29 v33 v37 v41 v45 v49 v53 v57 v61 v65 k0_t40).OK := fun i v5 v9 v13 v17 v21 v25 v29 v33 v37 v41 v45 v49 v53 v57 v61 v65 k0_hw1 k0_t40 => k0_hw1.2.2.2.2.2.2.2.2.2.2.2.2.2.2.2.2.2.2.2.2.2.2.2.2.2.2.2.2.2.1.2.2.2.2.2.2.2.2.2.2.2.2.2.2.2.2.2.2.2.2.2.2.2.2.2.2.2.2.1 k0_t40
theorem k0_off931_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off931 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t40 k0_t41
theorem k0_off932_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off932 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t40 k0_t41
theorem k0_off933_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off933 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t40 k0_t41
theorem k0_off934_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off934 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.1 k0_t40 k0_t41
theorem k0_off935_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off935 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.1 k0_t40 k0_t41
theorem k0_off936_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off936 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.1 k0_t40 k0_t41
theorem k0_off937_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off937 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.1 k0_t40 k0_t41
theorem k0_off938_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off938 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.1 k0_t40 k0_t41
theorem k0_off939_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off939 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.1 k0_t40 k0_t41
theorem k0_off940_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off940 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.1 k0_t40 k0_t41
theorem k0_off941_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off941 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.1 k0_t40 k0_t41
theorem k0_off942_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off942 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.1 k0_t40 k0_t41
theorem k0_off943_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off943 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.2.1 k0_t40 k0_t41
theorem k0_off944_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off944 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.2.2.1 k0_t40 k0_t41
theorem k0_off945_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off945 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.2.2.2.1 k0_t40 k0_t41
theorem k0_off946_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off946 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.2.2.2.2.1 k0_t40 k0_t41
theorem k0_off947_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off947 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.2.2.2.2.2.1 k0_t40 k0_t41
theorem k0_off948_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off948 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.2.2.2.2.2.2.1 k0_t40 k0_t41
theorem k0_off949_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off949 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.2.2.2.2.2.2.2.1 k0_t40 k0_t41
theorem k0_off950_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off950 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.2.2.2.2.2.2.2.2.1 k0_t40 k0_t41
theorem k0_off951_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off951 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.2.2.2.2.2.2.2.2.2.1 k0_t40 k0_t41
theorem k0_off952_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off952 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.2.2.2.2.2.2.2.2.2.2.1 k0_t40 k0_t41
theorem k0_off953_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off953 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.2.2.2.2.2.2.2.2.2.2.2.1 k0_t40 k0_t41
theorem k0_off954_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off954 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.2.2.2.2.2.2.2.2.2.2.2.2.1 k0_t40 k0_t41
theorem k0_off955_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off955 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.2.2.2.2.2.2.2.2.2.2.2.2.2.1 k0_t40 k0_t41
theorem k0_off956_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off956 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.2.2.2.2.2.2.2.2.2.2.2.2.2.2.1 k0_t40 k0_t41
theorem k0_off957_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off957 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.2.2.2.2.2.2.2.2.2.2.2.2.2.2.2.1 k0_t40 k0_t41
theorem k0_off958_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off958 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.2.2.2.2.2.2.2.2.2.2.2.2.2.2.2.2.1 k0_t40 k0_t41
theorem k0_off959_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off959 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.2.2.2.2.2.2.2.2.2.2.2.2.2.2.2.2.2.1 k0_t40 k0_t41
theorem k0_off960_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off960 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.2.2.2.2.2.2.2.2.2.2.2.2.2.2.2.2.2.2.1 k0_t40 k0_t41
theorem k0_off961_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off961 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.2.2.2.2.2.2.2.2.2.2.2.2.2.2.2.2.2.2.2.1 k0_t40 k0_t41
theorem k0_off962_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t41 : Fin (k0_t41_loop i v5 v9 v13 v17 v21 v25 v29 v33 v37 v41 v45 v49 v53 v57 v61 v65 k0_t40).trips), ∀ a, (k0_off962 i v5 v9 v13 v17 v21 v25 v29 v33 v37 v41 v45 v49 v53 v57 v61 v65 k0_t40 k0_t41) a + S1x1x16.size a ≤ S96x1x512.size a := fun i v5 v9 v13 v17 v21 v25 v29 v33 v37 v41 v45 v49 v53 v57 v61 v65 k0_hw1 k0_t40 k0_t41 => k0_hw1.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t40 k0_t41
theorem k0_t42_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips), (k0_t42_loop i v5 v9 v13 v17 v21 v25 v29 v33 v37 v41 v45 v49 v53 v57 v61 v65 k0_t40).OK := fun i v5 v9 v13 v17 v21 v25 v29 v33 v37 v41 v45 v49 v53 v57 v61 v65 k0_hw1 k0_t40 => k0_hw1.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t40
theorem k0_off963_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off963 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t40 k0_t42
theorem k0_off964_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off964 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t40 k0_t42
theorem k0_off965_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off965 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.1 k0_t40 k0_t42
theorem k0_off966_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off966 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.1 k0_t40 k0_t42
theorem k0_off967_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off967 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.1 k0_t40 k0_t42
theorem k0_off968_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off968 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.1 k0_t40 k0_t42
theorem k0_off969_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off969 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.1 k0_t40 k0_t42
theorem k0_off970_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off970 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.1 k0_t40 k0_t42
theorem k0_off971_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off971 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.1 k0_t40 k0_t42
theorem k0_off972_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off972 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.1 k0_t40 k0_t42
theorem k0_off973_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off973 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.1 k0_t40 k0_t42
theorem k0_off974_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off974 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.1 k0_t40 k0_t42
theorem k0_off975_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off975 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.2.1 k0_t40 k0_t42
theorem k0_off976_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off976 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.2.2.1 k0_t40 k0_t42
theorem k0_off977_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off977 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.2.2.2.1 k0_t40 k0_t42
theorem k0_off978_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off978 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.2.2.2.2.1 k0_t40 k0_t42
theorem k0_off979_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off979 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.2.2.2.2.2.1 k0_t40 k0_t42
theorem k0_off980_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off980 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.2.2.2.2.2.2.1 k0_t40 k0_t42
theorem k0_off981_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off981 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.2.2.2.2.2.2.2.1 k0_t40 k0_t42
theorem k0_off982_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off982 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.2.2.2.2.2.2.2.2.1 k0_t40 k0_t42
theorem k0_off983_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off983 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.2.2.2.2.2.2.2.2.2.1 k0_t40 k0_t42
theorem k0_off984_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off984 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.2.2.2.2.2.2.2.2.2.2.1 k0_t40 k0_t42
theorem k0_off985_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off985 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.2.2.2.2.2.2.2.2.2.2.2.1 k0_t40 k0_t42
theorem k0_off986_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off986 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.2.2.2.2.2.2.2.2.2.2.2.2.1 k0_t40 k0_t42
theorem k0_off987_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off987 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.2.2.2.2.2.2.2.2.2.2.2.2.2.1 k0_t40 k0_t42
theorem k0_off988_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off988 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.2.2.2.2.2.2.2.2.2.2.2.2.2.2.1 k0_t40 k0_t42
theorem k0_off989_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off989 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.2.2.2.2.2.2.2.2.2.2.2.2.2.2.2.1 k0_t40 k0_t42
theorem k0_off990_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off990 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.2.2.2.2.2.2.2.2.2.2.2.2.2.2.2.2.1 k0_t40 k0_t42
theorem k0_off991_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off991 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.2.2.2.2.2.2.2.2.2.2.2.2.2.2.2.2.2.1 k0_t40 k0_t42
theorem k0_off992_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off992 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t40 k0_t42
theorem k0_off993_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off993 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t40 k0_t42
theorem k0_off994_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t40 : Fin (k0_t40_loop i v5 v9 v13 v17 v21 v25 v29 v33 v37 v41 v45 v49 v53 v57 v61 v65).trips) (k0_t42 : Fin (k0_t42_loop i v5 v9 v13 v17 v21 v25 v29 v33 v37 v41 v45 v49 v53 v57 v61 v65 k0_t40).trips), ∀ a, (k0_off994 i v5 v9 v13 v17 v21 v25 v29 v33 v37 v41 v45 v49 v53 v57 v61 v65 k0_t40 k0_t42) a + S1x1x16.size a ≤ S96x1x512.size a := fun i v5 v9 v13 v17 v21 v25 v29 v33 v37 v41 v45 v49 v53 v57 v61 v65 k0_hw1 k0_t40 k0_t42 => k0_hw1.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t40 k0_t42
theorem k0_off996_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h29 : k0_cond29 i v5 v9 v13 v17 v21 v25 v29 v33 v37 v41 v45 v49 v53 v57 v61 v65 = 1#1), ∀ a, (k0_off996 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h29 => k0_hw1.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_h29
theorem k0_off998_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h30 : k0_cond30 i v5 v9 v13 v17 v21 v25 v29 v33 v37 v41 v45 v49 v53 v57 v61 v65 = 1#1), ∀ a, (k0_off998 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h30 => k0_hw1.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_h30
theorem k0_t43_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t43_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.2.2.2.2.2.2.2.1.1
theorem k0_off999_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips), ∀ (k0_h31 : k0_cond31 i v5 v9 v13 v17 v21 v25 v29 v33 v37 v41 v45 v49 v53 v57 v61 v65 k0_t43 = 1#1), ∀ a, (k0_off999 i v5 v9 v13 v17 v21 v25 v29 v33 v37 v41 v45 v49 v53 v57 v61 v65 k0_t43) a + S32x1x512.size a ≤ S96x1x512.size a := fun i v5 v9 v13 v17 v21 v25 v29 v33 v37 v41 v45 v49 v53 v57 v61 v65 k0_hw1 k0_t43 k0_h31 => k0_hw1.2.2.2.2.2.2.2.2.2.2.2.2.2.2.2.2.2.2.2.2.2.2.2.2.2.2.2.2.2.2.2.2.1.2.1 k0_t43 k0_h31
theorem k0_off1000_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips), ∀ (k0_h31 : k0_cond31 i v5 v9 v13 v17 v21 v25 v29 v33 v37 v41 v45 v49 v53 v57 v61 v65 k0_t43 = 1#1), ∀ a, (k0_off1000 i v5 v9 v13 v17 v21 v25 v29 v33 v37 v41 v45 v49 v53 v57 v61 v65 k0_t43) a + S32x1x512.size a ≤ S2048x16x512.size a := fun i v5 v9 v13 v17 v21 v25 v29 v33 v37 v41 v45 v49 v53 v57 v61 v65 k0_hw1 k0_t43 k0_h31 => k0_hw1.2.2.2.2.2.2.2.2.2.2.2.2.2.2.2.2.2.2.2.2.2.2.2.2.2.2.2.2.2.2.2.2.1.2.2.1 k0_t43 k0_h31
theorem k0_off1001_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips), ∀ (k0_h31 : k0_cond31 i v5 v9 v13 v17 v21 v25 v29 v33 v37 v41 v45 v49 v53 v57 v61 v65 k0_t43 = 1#1), ∀ a, (k0_off1001 i v5 v9 v13 v17 v21 v25 v29 v33 v37 v41 v45 v49 v53 v57 v61 v65 k0_t43) a + S1.size a ≤ S3.size a := fun i v5 v9 v13 v17 v21 v25 v29 v33 v37 v41 v45 v49 v53 v57 v61 v65 k0_hw1 k0_t43 k0_h31 => k0_hw1.2.2.2.2.2.2.2.2.2.2.2.2.2.2.2.2.2.2.2.2.2.2.2.2.2.2.2.2.2.2.2.2.1.2.2.2.1 k0_t43 k0_h31
theorem k0_off1002_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips), ∀ a, (k0_off1002 i v5 v9 v13 v17 v21 v25 v29 v33 v37 v41 v45 v49 v53 v57 v61 v65 k0_t43) a + S32x1x512.size a ≤ S96x1x512.size a := fun i v5 v9 v13 v17 v21 v25 v29 v33 v37 v41 v45 v49 v53 v57 v61 v65 k0_hw1 k0_t43 => k0_hw1.2.2.2.2.2.2.2.2.2.2.2.2.2.2.2.2.2.2.2.2.2.2.2.2.2.2.2.2.2.2.2.2.1.2.2.2.2.1 k0_t43
theorem k0_off1003_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips), ∀ a, (k0_off1003 i v5 v9 v13 v17 v21 v25 v29 v33 v37 v41 v45 v49 v53 v57 v61 v65 k0_t43) a + S1.size a ≤ S3.size a := fun i v5 v9 v13 v17 v21 v25 v29 v33 v37 v41 v45 v49 v53 v57 v61 v65 k0_hw1 k0_t43 => k0_hw1.2.2.2.2.2.2.2.2.2.2.2.2.2.2.2.2.2.2.2.2.2.2.2.2.2.2.2.2.2.2.2.2.1.2.2.2.2.2.1 k0_t43
theorem k0_t44_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips), (k0_t44_loop i v5 v9 v13 v17 v21 v25 v29 v33 v37 v41 v45 v49 v53 v57 v61 v65 k0_t43).OK := fun i v5 v9 v13 v17 v21 v25 v29 v33 v37 v41 v45 v49 v53 v57 v61 v65 k0_hw1 k0_t43 => k0_hw1.2.2.2.2.2.2.2.2.2.2.2.2.2.2.2.2.2.2.2.2.2.2.2.2.2.2.2.2.2.2.2.2.1.2.2.2.2.2.2.1 k0_t43
theorem k0_off1004_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1004 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.1 k0_t43 k0_t44
theorem k0_off1005_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1005 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.1 k0_t43 k0_t44
theorem k0_off1006_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1006 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.1 k0_t43 k0_t44
theorem k0_off1007_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1007 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.1 k0_t43 k0_t44
theorem k0_off1008_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1008 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.1 k0_t43 k0_t44
theorem k0_off1009_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1009 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.2.1 k0_t43 k0_t44
theorem k0_off1010_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1010 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.2.2.1 k0_t43 k0_t44
theorem k0_off1011_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1011 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.2.2.2.1 k0_t43 k0_t44
theorem k0_off1012_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1012 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.2.2.2.2.1 k0_t43 k0_t44
theorem k0_off1013_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1013 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.2.2.2.2.2.1 k0_t43 k0_t44
theorem k0_off1014_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1014 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.2.2.2.2.2.2.1 k0_t43 k0_t44
theorem k0_off1015_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1015 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.2.2.2.2.2.2.2.1 k0_t43 k0_t44
theorem k0_off1016_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1016 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.2.2.2.2.2.2.2.2.1 k0_t43 k0_t44
theorem k0_off1017_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1017 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.2.2.2.2.2.2.2.2.2.1 k0_t43 k0_t44
theorem k0_off1018_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1018 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.2.2.2.2.2.2.2.2.2.2.1 k0_t43 k0_t44
theorem k0_off1019_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1019 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.2.2.2.2.2.2.2.2.2.2.2.1 k0_t43 k0_t44
theorem k0_off1020_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1020 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.2.2.2.2.2.2.2.2.2.2.2.2.1 k0_t43 k0_t44
theorem k0_off1021_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1021 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.2.2.2.2.2.2.2.2.2.2.2.2.2.1 k0_t43 k0_t44
theorem k0_off1022_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1022 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.2.2.2.2.2.2.2.2.2.2.2.2.2.2.1 k0_t43 k0_t44
theorem k0_off1023_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1023 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t43 k0_t44
theorem k0_off1024_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1024 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t43 k0_t44
theorem k0_off1025_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1025 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t43 k0_t44
theorem k0_off1026_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1026 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t43 k0_t44
theorem k0_off1027_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1027 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t43 k0_t44
theorem k0_off1028_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1028 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t43 k0_t44
theorem k0_off1029_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1029 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.2.1.1 k0_t43 k0_t44
theorem k0_off1030_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1030 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.2.1.2.1 k0_t43 k0_t44
theorem k0_off1031_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1031 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.2.1.2.2.1 k0_t43 k0_t44
theorem k0_off1032_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1032 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.2.1.2.2.2.1 k0_t43 k0_t44
theorem k0_off1033_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1033 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.2.1.2.2.2.2.1 k0_t43 k0_t44
theorem k0_off1034_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1034 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.2.1.2.2.2.2.2.1 k0_t43 k0_t44
theorem k0_off1035_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t44 : Fin (k0_t44_loop i v5 v9 v13 v17 v21 v25 v29 v33 v37 v41 v45 v49 v53 v57 v61 v65 k0_t43).trips), ∀ a, (k0_off1035 i v5 v9 v13 v17 v21 v25 v29 v33 v37 v41 v45 v49 v53 v57 v61 v65 k0_t43 k0_t44) a + S1x1x16.size a ≤ S96x1x512.size a := fun i v5 v9 v13 v17 v21 v25 v29 v33 v37 v41 v45 v49 v53 v57 v61 v65 k0_hw1 k0_t43 k0_t44 => k0_hw1.2.2.2.2.2.2.2.2.2.2.2.2.2.2.2.2.2.2.2.2.2.2.2.2.2.2.2.2.2.2.2.2.2.1.2.2.2.2.2.2.1 k0_t43 k0_t44
theorem k0_t45_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips), (k0_t45_loop i v5 v9 v13 v17 v21 v25 v29 v33 v37 v41 v45 v49 v53 v57 v61 v65 k0_t43).OK := fun i v5 v9 v13 v17 v21 v25 v29 v33 v37 v41 v45 v49 v53 v57 v61 v65 k0_hw1 k0_t43 => k0_hw1.2.2.2.2.2.2.2.2.2.2.2.2.2.2.2.2.2.2.2.2.2.2.2.2.2.2.2.2.2.2.2.2.2.1.2.2.2.2.2.2.2.1 k0_t43
theorem k0_off1036_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1036 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.1 k0_t43 k0_t45
theorem k0_off1037_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1037 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.1 k0_t43 k0_t45
theorem k0_off1038_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1038 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.1 k0_t43 k0_t45
theorem k0_off1039_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1039 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.1 k0_t43 k0_t45
theorem k0_off1040_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1040 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.2.1 k0_t43 k0_t45
theorem k0_off1041_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1041 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.2.2.1 k0_t43 k0_t45
theorem k0_off1042_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1042 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.2.2.2.1 k0_t43 k0_t45
theorem k0_off1043_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1043 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.2.2.2.2.1 k0_t43 k0_t45
theorem k0_off1044_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1044 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.2.2.2.2.2.1 k0_t43 k0_t45
theorem k0_off1045_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1045 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.2.2.2.2.2.2.1 k0_t43 k0_t45
theorem k0_off1046_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1046 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.2.2.2.2.2.2.2.1 k0_t43 k0_t45
theorem k0_off1047_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1047 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.2.2.2.2.2.2.2.2.1 k0_t43 k0_t45
theorem k0_off1048_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1048 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.2.2.2.2.2.2.2.2.2.1 k0_t43 k0_t45
theorem k0_off1049_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1049 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.2.2.2.2.2.2.2.2.2.2.1 k0_t43 k0_t45
theorem k0_off1050_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1050 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.2.2.2.2.2.2.2.2.2.2.2.1 k0_t43 k0_t45
theorem k0_off1051_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1051 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.2.2.2.2.2.2.2.2.2.2.2.2.1 k0_t43 k0_t45
theorem k0_off1052_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1052 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.2.2.2.2.2.2.2.2.2.2.2.2.2.1 k0_t43 k0_t45
theorem k0_off1053_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1053 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t43 k0_t45
theorem k0_off1054_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1054 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t43 k0_t45
theorem k0_off1055_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1055 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t43 k0_t45
theorem k0_off1056_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1056 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t43 k0_t45
theorem k0_off1057_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1057 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t43 k0_t45
theorem k0_off1058_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1058 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t43 k0_t45
theorem k0_off1059_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1059 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t43 k0_t45
theorem k0_off1060_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1060 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.2.1.1 k0_t43 k0_t45
theorem k0_off1061_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1061 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.2.1.2.1 k0_t43 k0_t45
theorem k0_off1062_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1062 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.2.1.2.2.1 k0_t43 k0_t45
theorem k0_off1063_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1063 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.2.1.2.2.2.1 k0_t43 k0_t45
theorem k0_off1064_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1064 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.2.1.2.2.2.2.1 k0_t43 k0_t45
theorem k0_off1065_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1065 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.2.1.2.2.2.2.2.1 k0_t43 k0_t45
theorem k0_off1066_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1066 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.2.1.2.2.2.2.2.2.1 k0_t43 k0_t45
theorem k0_off1067_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t43 : Fin (k0_t43_loop i v5 v9 v13 v17 v21 v25 v29 v33 v37 v41 v45 v49 v53 v57 v61 v65).trips) (k0_t45 : Fin (k0_t45_loop i v5 v9 v13 v17 v21 v25 v29 v33 v37 v41 v45 v49 v53 v57 v61 v65 k0_t43).trips), ∀ a, (k0_off1067 i v5 v9 v13 v17 v21 v25 v29 v33 v37 v41 v45 v49 v53 v57 v61 v65 k0_t43 k0_t45) a + S1x1x16.size a ≤ S96x1x512.size a := fun i v5 v9 v13 v17 v21 v25 v29 v33 v37 v41 v45 v49 v53 v57 v61 v65 k0_hw1 k0_t43 k0_t45 => k0_hw1.2.2.2.2.2.2.2.2.2.2.2.2.2.2.2.2.2.2.2.2.2.2.2.2.2.2.2.2.2.2.2.2.2.2.1.2.2.2.2.2.2.2.1 k0_t43 k0_t45
theorem k0_t46_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t46_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.2.2.2.2.2.2.2.2.2.1.2.2.2.2.2.2.2.2.1
theorem k0_off1068_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips), ∀ (k0_h32 : k0_cond32 i v5 v9 v13 v17 v21 v25 v29 v33 v37 v41 v45 v49 v53 v57 v61 v65 k0_t46 = 1#1), ∀ a, (k0_off1068 i v5 v9 v13 v17 v21 v25 v29 v33 v37 v41 v45 v49 v53 v57 v61 v65 k0_t46) a + S32x1x512.size a ≤ S96x1x512.size a := fun i v5 v9 v13 v17 v21 v25 v29 v33 v37 v41 v45 v49 v53 v57 v61 v65 k0_hw1 k0_t46 k0_h32 => k0_hw1.2.2.2.2.2.2.2.2.2.2.2.2.2.2.2.2.2.2.2.2.2.2.2.2.2.2.2.2.2.2.2.2.2.2.1.2.2.2.2.2.2.2.2.2.1 k0_t46 k0_h32
theorem k0_off1069_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips), ∀ (k0_h32 : k0_cond32 i v5 v9 v13 v17 v21 v25 v29 v33 v37 v41 v45 v49 v53 v57 v61 v65 k0_t46 = 1#1), ∀ a, (k0_off1069 i v5 v9 v13 v17 v21 v25 v29 v33 v37 v41 v45 v49 v53 v57 v61 v65 k0_t46) a + S32x1x512.size a ≤ S2048x16x512.size a := fun i v5 v9 v13 v17 v21 v25 v29 v33 v37 v41 v45 v49 v53 v57 v61 v65 k0_hw1 k0_t46 k0_h32 => k0_hw1.2.2.2.2.2.2.2.2.2.2.2.2.2.2.2.2.2.2.2.2.2.2.2.2.2.2.2.2.2.2.2.2.2.2.1.2.2.2.2.2.2.2.2.2.2.1 k0_t46 k0_h32
theorem k0_off1070_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips), ∀ (k0_h32 : k0_cond32 i v5 v9 v13 v17 v21 v25 v29 v33 v37 v41 v45 v49 v53 v57 v61 v65 k0_t46 = 1#1), ∀ a, (k0_off1070 i v5 v9 v13 v17 v21 v25 v29 v33 v37 v41 v45 v49 v53 v57 v61 v65 k0_t46) a + S1.size a ≤ S3.size a := fun i v5 v9 v13 v17 v21 v25 v29 v33 v37 v41 v45 v49 v53 v57 v61 v65 k0_hw1 k0_t46 k0_h32 => k0_hw1.2.2.2.2.2.2.2.2.2.2.2.2.2.2.2.2.2.2.2.2.2.2.2.2.2.2.2.2.2.2.2.2.2.2.1.2.2.2.2.2.2.2.2.2.2.2.1 k0_t46 k0_h32
theorem k0_off1071_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips), ∀ a, (k0_off1071 i v5 v9 v13 v17 v21 v25 v29 v33 v37 v41 v45 v49 v53 v57 v61 v65 k0_t46) a + S32x1x512.size a ≤ S96x1x512.size a := fun i v5 v9 v13 v17 v21 v25 v29 v33 v37 v41 v45 v49 v53 v57 v61 v65 k0_hw1 k0_t46 => k0_hw1.2.2.2.2.2.2.2.2.2.2.2.2.2.2.2.2.2.2.2.2.2.2.2.2.2.2.2.2.2.2.2.2.2.2.1.2.2.2.2.2.2.2.2.2.2.2.2.1 k0_t46
theorem k0_off1072_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips), ∀ a, (k0_off1072 i v5 v9 v13 v17 v21 v25 v29 v33 v37 v41 v45 v49 v53 v57 v61 v65 k0_t46) a + S1.size a ≤ S3.size a := fun i v5 v9 v13 v17 v21 v25 v29 v33 v37 v41 v45 v49 v53 v57 v61 v65 k0_hw1 k0_t46 => k0_hw1.2.2.2.2.2.2.2.2.2.2.2.2.2.2.2.2.2.2.2.2.2.2.2.2.2.2.2.2.2.2.2.2.2.2.1.2.2.2.2.2.2.2.2.2.2.2.2.2.1 k0_t46
theorem k0_t47_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips), (k0_t47_loop i v5 v9 v13 v17 v21 v25 v29 v33 v37 v41 v45 v49 v53 v57 v61 v65 k0_t46).OK := fun i v5 v9 v13 v17 v21 v25 v29 v33 v37 v41 v45 v49 v53 v57 v61 v65 k0_hw1 k0_t46 => k0_hw1.2.2.2.2.2.2.2.2.2.2.2.2.2.2.2.2.2.2.2.2.2.2.2.2.2.2.2.2.2.2.2.2.2.2.1.2.2.2.2.2.2.2.2.2.2.2.2.2.2.1 k0_t46
theorem k0_off1073_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1073 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.1.2.2.2.2.2.2.2.2.2.2.2.2.2.2.2.1 k0_t46 k0_t47
theorem k0_off1074_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1074 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.1.2.2.2.2.2.2.2.2.2.2.2.2.2.2.2.2.1 k0_t46 k0_t47
theorem k0_off1075_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1075 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.1.2.2.2.2.2.2.2.2.2.2.2.2.2.2.2.2.2.1 k0_t46 k0_t47
theorem k0_off1076_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1076 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.1.2.2.2.2.2.2.2.2.2.2.2.2.2.2.2.2.2.2.1 k0_t46 k0_t47
theorem k0_off1077_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1077 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.1.2.2.2.2.2.2.2.2.2.2.2.2.2.2.2.2.2.2.2.1 k0_t46 k0_t47
theorem k0_off1078_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1078 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.1.2.2.2.2.2.2.2.2.2.2.2.2.2.2.2.2.2.2.2.2.1 k0_t46 k0_t47
theorem k0_off1079_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1079 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.1.2.2.2.2.2.2.2.2.2.2.2.2.2.2.2.2.2.2.2.2.2.1 k0_t46 k0_t47
theorem k0_off1080_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1080 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.1.2.2.2.2.2.2.2.2.2.2.2.2.2.2.2.2.2.2.2.2.2.2.1 k0_t46 k0_t47
theorem k0_off1081_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1081 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.1.2.2.2.2.2.2.2.2.2.2.2.2.2.2.2.2.2.2.2.2.2.2.2.1 k0_t46 k0_t47
theorem k0_off1082_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1082 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t46 k0_t47
theorem k0_off1083_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1083 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t46 k0_t47
theorem k0_off1084_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1084 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t46 k0_t47
theorem k0_off1085_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1085 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t46 k0_t47
theorem k0_off1086_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1086 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t46 k0_t47
theorem k0_off1087_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1087 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t46 k0_t47
theorem k0_off1088_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1088 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t46 k0_t47
theorem k0_off1089_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1089 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t46 k0_t47
theorem k0_off1090_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1090 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.2.1.1 k0_t46 k0_t47
theorem k0_off1091_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1091 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.2.1.2.1 k0_t46 k0_t47
theorem k0_off1092_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1092 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.2.1.2.2.1 k0_t46 k0_t47
theorem k0_off1093_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1093 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.2.1.2.2.2.1 k0_t46 k0_t47
theorem k0_off1094_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1094 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.2.1.2.2.2.2.1 k0_t46 k0_t47
theorem k0_off1095_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1095 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.2.1.2.2.2.2.2.1 k0_t46 k0_t47
theorem k0_off1096_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1096 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.2.1.2.2.2.2.2.2.1 k0_t46 k0_t47
theorem k0_off1097_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1097 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.2.1.2.2.2.2.2.2.2.1 k0_t46 k0_t47
theorem k0_off1098_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1098 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.2.1.2.2.2.2.2.2.2.2.1 k0_t46 k0_t47
theorem k0_off1099_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1099 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.2.1.2.2.2.2.2.2.2.2.2.1 k0_t46 k0_t47
theorem k0_off1100_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1100 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.2.1.2.2.2.2.2.2.2.2.2.2.1 k0_t46 k0_t47
theorem k0_off1101_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1101 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.2.1.2.2.2.2.2.2.2.2.2.2.2.1 k0_t46 k0_t47
theorem k0_off1102_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1102 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.2.1.2.2.2.2.2.2.2.2.2.2.2.2.1 k0_t46 k0_t47
theorem k0_off1103_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1103 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.2.1.2.2.2.2.2.2.2.2.2.2.2.2.2.1 k0_t46 k0_t47
theorem k0_off1104_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t47 : Fin (k0_t47_loop i v5 v9 v13 v17 v21 v25 v29 v33 v37 v41 v45 v49 v53 v57 v61 v65 k0_t46).trips), ∀ a, (k0_off1104 i v5 v9 v13 v17 v21 v25 v29 v33 v37 v41 v45 v49 v53 v57 v61 v65 k0_t46 k0_t47) a + S1x1x16.size a ≤ S96x1x512.size a := fun i v5 v9 v13 v17 v21 v25 v29 v33 v37 v41 v45 v49 v53 v57 v61 v65 k0_hw1 k0_t46 k0_t47 => k0_hw1.2.2.2.2.2.2.2.2.2.2.2.2.2.2.2.2.2.2.2.2.2.2.2.2.2.2.2.2.2.2.2.2.2.2.2.1.2.2.2.2.2.2.2.2.2.2.2.2.2.2.1 k0_t46 k0_t47
theorem k0_t48_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips), (k0_t48_loop i v5 v9 v13 v17 v21 v25 v29 v33 v37 v41 v45 v49 v53 v57 v61 v65 k0_t46).OK := fun i v5 v9 v13 v17 v21 v25 v29 v33 v37 v41 v45 v49 v53 v57 v61 v65 k0_hw1 k0_t46 => k0_hw1.2.2.2.2.2.2.2.2.2.2.2.2.2.2.2.2.2.2.2.2.2.2.2.2.2.2.2.2.2.2.2.2.2.2.2.1.2.2.2.2.2.2.2.2.2.2.2.2.2.2.2.1 k0_t46
theorem k0_off1105_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1105 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.1.2.2.2.2.2.2.2.2.2.2.2.2.2.2.2.2.1 k0_t46 k0_t48
theorem k0_off1106_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1106 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.1.2.2.2.2.2.2.2.2.2.2.2.2.2.2.2.2.2.1 k0_t46 k0_t48
theorem k0_off1107_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1107 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.1.2.2.2.2.2.2.2.2.2.2.2.2.2.2.2.2.2.2.1 k0_t46 k0_t48
theorem k0_off1108_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1108 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.1.2.2.2.2.2.2.2.2.2.2.2.2.2.2.2.2.2.2.2.1 k0_t46 k0_t48
theorem k0_off1109_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1109 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.1.2.2.2.2.2.2.2.2.2.2.2.2.2.2.2.2.2.2.2.2.1 k0_t46 k0_t48
theorem k0_off1110_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1110 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.1.2.2.2.2.2.2.2.2.2.2.2.2.2.2.2.2.2.2.2.2.2.1 k0_t46 k0_t48
theorem k0_off1111_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1111 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.1.2.2.2.2.2.2.2.2.2.2.2.2.2.2.2.2.2.2.2.2.2.2.1 k0_t46 k0_t48
theorem k0_off1112_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1112 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t46 k0_t48
theorem k0_off1113_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1113 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t46 k0_t48
theorem k0_off1114_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1114 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t46 k0_t48
theorem k0_off1115_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1115 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t46 k0_t48
theorem k0_off1116_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1116 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t46 k0_t48
theorem k0_off1117_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1117 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t46 k0_t48
theorem k0_off1118_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1118 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t46 k0_t48
theorem k0_off1119_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1119 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t46 k0_t48
theorem k0_off1120_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1120 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t46 k0_t48
theorem k0_off1121_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1121 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.2.1.1 k0_t46 k0_t48
theorem k0_off1122_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1122 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.2.1.2.1 k0_t46 k0_t48
theorem k0_off1123_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1123 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.2.1.2.2.1 k0_t46 k0_t48
theorem k0_off1124_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1124 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.2.1.2.2.2.1 k0_t46 k0_t48
theorem k0_off1125_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1125 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.2.1.2.2.2.2.1 k0_t46 k0_t48
theorem k0_off1126_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1126 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.2.1.2.2.2.2.2.1 k0_t46 k0_t48
theorem k0_off1127_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1127 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.2.1.2.2.2.2.2.2.1 k0_t46 k0_t48
theorem k0_off1128_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1128 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.2.1.2.2.2.2.2.2.2.1 k0_t46 k0_t48
theorem k0_off1129_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1129 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.2.1.2.2.2.2.2.2.2.2.1 k0_t46 k0_t48
theorem k0_off1130_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1130 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.2.1.2.2.2.2.2.2.2.2.2.1 k0_t46 k0_t48
theorem k0_off1131_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1131 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.2.1.2.2.2.2.2.2.2.2.2.2.1 k0_t46 k0_t48
theorem k0_off1132_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1132 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.2.1.2.2.2.2.2.2.2.2.2.2.2.1 k0_t46 k0_t48
theorem k0_off1133_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1133 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.2.1.2.2.2.2.2.2.2.2.2.2.2.2.1 k0_t46 k0_t48
theorem k0_off1134_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1134 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.2.1.2.2.2.2.2.2.2.2.2.2.2.2.2.1 k0_t46 k0_t48
theorem k0_off1135_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1135 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.2.1.2.2.2.2.2.2.2.2.2.2.2.2.2.2.1 k0_t46 k0_t48
theorem k0_off1136_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t46 : Fin (k0_t46_loop i v5 v9 v13 v17 v21 v25 v29 v33 v37 v41 v45 v49 v53 v57 v61 v65).trips) (k0_t48 : Fin (k0_t48_loop i v5 v9 v13 v17 v21 v25 v29 v33 v37 v41 v45 v49 v53 v57 v61 v65 k0_t46).trips), ∀ a, (k0_off1136 i v5 v9 v13 v17 v21 v25 v29 v33 v37 v41 v45 v49 v53 v57 v61 v65 k0_t46 k0_t48) a + S1x1x16.size a ≤ S96x1x512.size a := fun i v5 v9 v13 v17 v21 v25 v29 v33 v37 v41 v45 v49 v53 v57 v61 v65 k0_hw1 k0_t46 k0_t48 => k0_hw1.2.2.2.2.2.2.2.2.2.2.2.2.2.2.2.2.2.2.2.2.2.2.2.2.2.2.2.2.2.2.2.2.2.2.2.2.1.2.2.2.2.2.2.2.2.2.2.2.2.2.2.2.1 k0_t46 k0_t48
theorem k0_off1138_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h33 : k0_cond33 i v5 v9 v13 v17 v21 v25 v29 v33 v37 v41 v45 v49 v53 v57 v61 v65 = 1#1), ∀ a, (k0_off1138 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h33 => k0_hw1.2.2.2.2.2.2.2.2.2.2.2.2.2.2.2.2.2.2.2.2.2.2.2.2.2.2.2.2.2.2.2.2.2.2.2.2.1.2.2.2.2.2.2.2.2.2.2.2.2.2.2.2.2.1 k0_h33
theorem k0_off1140_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h34 : k0_cond34 i v5 v9 v13 v17 v21 v25 v29 v33 v37 v41 v45 v49 v53 v57 v61 v65 = 1#1), ∀ a, (k0_off1140 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h34 => k0_hw1.2.2.2.2.2.2.2.2.2.2.2.2.2.2.2.2.2.2.2.2.2.2.2.2.2.2.2.2.2.2.2.2.2.2.2.2.1.2.2.2.2.2.2.2.2.2.2.2.2.2.2.2.2.2.1 k0_h34
theorem k0_t49_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t49_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.2.2.2.2.2.2.2.2.2.2.2.1.2.2.2.2.2.2.2.2.2.2.2.2.2.2.2.2.2.2.1
theorem k0_off1141_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips), ∀ (k0_h35 : k0_cond35 i v5 v9 v13 v17 v21 v25 v29 v33 v37 v41 v45 v49 v53 v57 v61 v65 k0_t49 = 1#1), ∀ a, (k0_off1141 i v5 v9 v13 v17 v21 v25 v29 v33 v37 v41 v45 v49 v53 v57 v61 v65 k0_t49) a + S32x1x512.size a ≤ S96x1x512.size a := fun i v5 v9 v13 v17 v21 v25 v29 v33 v37 v41 v45 v49 v53 v57 v61 v65 k0_hw1 k0_t49 k0_h35 => k0_hw1.2.2.2.2.2.2.2.2.2.2.2.2.2.2.2.2.2.2.2.2.2.2.2.2.2.2.2.2.2.2.2.2.2.2.2.2.1.2.2.2.2.2.2.2.2.2.2.2.2.2.2.2.2.2.2.2.1 k0_t49 k0_h35
theorem k0_off1142_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips), ∀ (k0_h35 : k0_cond35 i v5 v9 v13 v17 v21 v25 v29 v33 v37 v41 v45 v49 v53 v57 v61 v65 k0_t49 = 1#1), ∀ a, (k0_off1142 i v5 v9 v13 v17 v21 v25 v29 v33 v37 v41 v45 v49 v53 v57 v61 v65 k0_t49) a + S32x1x512.size a ≤ S2048x16x512.size a := fun i v5 v9 v13 v17 v21 v25 v29 v33 v37 v41 v45 v49 v53 v57 v61 v65 k0_hw1 k0_t49 k0_h35 => k0_hw1.2.2.2.2.2.2.2.2.2.2.2.2.2.2.2.2.2.2.2.2.2.2.2.2.2.2.2.2.2.2.2.2.2.2.2.2.1.2.2.2.2.2.2.2.2.2.2.2.2.2.2.2.2.2.2.2.2.1 k0_t49 k0_h35
theorem k0_off1143_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips), ∀ (k0_h35 : k0_cond35 i v5 v9 v13 v17 v21 v25 v29 v33 v37 v41 v45 v49 v53 v57 v61 v65 k0_t49 = 1#1), ∀ a, (k0_off1143 i v5 v9 v13 v17 v21 v25 v29 v33 v37 v41 v45 v49 v53 v57 v61 v65 k0_t49) a + S1.size a ≤ S3.size a := fun i v5 v9 v13 v17 v21 v25 v29 v33 v37 v41 v45 v49 v53 v57 v61 v65 k0_hw1 k0_t49 k0_h35 => k0_hw1.2.2.2.2.2.2.2.2.2.2.2.2.2.2.2.2.2.2.2.2.2.2.2.2.2.2.2.2.2.2.2.2.2.2.2.2.1.2.2.2.2.2.2.2.2.2.2.2.2.2.2.2.2.2.2.2.2.2.1 k0_t49 k0_h35
theorem k0_off1144_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips), ∀ a, (k0_off1144 i v5 v9 v13 v17 v21 v25 v29 v33 v37 v41 v45 v49 v53 v57 v61 v65 k0_t49) a + S32x1x512.size a ≤ S96x1x512.size a := fun i v5 v9 v13 v17 v21 v25 v29 v33 v37 v41 v45 v49 v53 v57 v61 v65 k0_hw1 k0_t49 => k0_hw1.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t49
theorem k0_off1145_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips), ∀ a, (k0_off1145 i v5 v9 v13 v17 v21 v25 v29 v33 v37 v41 v45 v49 v53 v57 v61 v65 k0_t49) a + S1.size a ≤ S3.size a := fun i v5 v9 v13 v17 v21 v25 v29 v33 v37 v41 v45 v49 v53 v57 v61 v65 k0_hw1 k0_t49 => k0_hw1.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t49
theorem k0_t50_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips), (k0_t50_loop i v5 v9 v13 v17 v21 v25 v29 v33 v37 v41 v45 v49 v53 v57 v61 v65 k0_t49).OK := fun i v5 v9 v13 v17 v21 v25 v29 v33 v37 v41 v45 v49 v53 v57 v61 v65 k0_hw1 k0_t49 => k0_hw1.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t49
theorem k0_off1146_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1146 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t49 k0_t50
theorem k0_off1147_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1147 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t49 k0_t50
theorem k0_off1148_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1148 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t49 k0_t50
theorem k0_off1149_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1149 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t49 k0_t50
theorem k0_off1150_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1150 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t49 k0_t50
theorem k0_off1151_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1151 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t49 k0_t50
theorem k0_off1152_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1152 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t49 k0_t50
theorem k0_off1153_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1153 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.1 k0_t49 k0_t50
theorem k0_off1154_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1154 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.1 k0_t49 k0_t50
theorem k0_off1155_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1155 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.1 k0_t49 k0_t50
theorem k0_off1156_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1156 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.1 k0_t49 k0_t50
theorem k0_off1157_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1157 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.1 k0_t49 k0_t50
theorem k0_off1158_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1158 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.2.1 k0_t49 k0_t50
theorem k0_off1159_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1159 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.2.2.1 k0_t49 k0_t50
theorem k0_off1160_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1160 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.2.2.2.1 k0_t49 k0_t50
theorem k0_off1161_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1161 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.2.2.2.2.1 k0_t49 k0_t50
theorem k0_off1162_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1162 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.2.2.2.2.2.1 k0_t49 k0_t50
theorem k0_off1163_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1163 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.2.2.2.2.2.2.1 k0_t49 k0_t50
theorem k0_off1164_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1164 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.2.2.2.2.2.2.2.1 k0_t49 k0_t50
theorem k0_off1165_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1165 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.2.2.2.2.2.2.2.2.1 k0_t49 k0_t50
theorem k0_off1166_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1166 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.2.2.2.2.2.2.2.2.2.1 k0_t49 k0_t50
theorem k0_off1167_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1167 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.2.2.2.2.2.2.2.2.2.2.1 k0_t49 k0_t50
theorem k0_off1168_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1168 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.2.2.2.2.2.2.2.2.2.2.2.1 k0_t49 k0_t50
theorem k0_off1169_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1169 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.2.2.2.2.2.2.2.2.2.2.2.2.1 k0_t49 k0_t50
theorem k0_off1170_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1170 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.2.2.2.2.2.2.2.2.2.2.2.2.2.1 k0_t49 k0_t50
theorem k0_off1171_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1171 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.2.2.2.2.2.2.2.2.2.2.2.2.2.2.1 k0_t49 k0_t50
theorem k0_off1172_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1172 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.2.2.2.2.2.2.2.2.2.2.2.2.2.2.2.1 k0_t49 k0_t50
theorem k0_off1173_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1173 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.2.2.2.2.2.2.2.2.2.2.2.2.2.2.2.2.1 k0_t49 k0_t50
theorem k0_off1174_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1174 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t49 k0_t50
theorem k0_off1175_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1175 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t49 k0_t50
theorem k0_off1176_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1176 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t49 k0_t50
theorem k0_off1177_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t50 : Fin (k0_t50_loop i v5 v9 v13 v17 v21 v25 v29 v33 v37 v41 v45 v49 v53 v57 v61 v65 k0_t49).trips), ∀ a, (k0_off1177 i v5 v9 v13 v17 v21 v25 v29 v33 v37 v41 v45 v49 v53 v57 v61 v65 k0_t49 k0_t50) a + S1x1x16.size a ≤ S96x1x512.size a := fun i v5 v9 v13 v17 v21 v25 v29 v33 v37 v41 v45 v49 v53 v57 v61 v65 k0_hw1 k0_t49 k0_t50 => k0_hw1.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t49 k0_t50
theorem k0_t51_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips), (k0_t51_loop i v5 v9 v13 v17 v21 v25 v29 v33 v37 v41 v45 v49 v53 v57 v61 v65 k0_t49).OK := fun i v5 v9 v13 v17 v21 v25 v29 v33 v37 v41 v45 v49 v53 v57 v61 v65 k0_hw1 k0_t49 => k0_hw1.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t49
theorem k0_off1178_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1178 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t49 k0_t51
theorem k0_off1179_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1179 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t49 k0_t51
theorem k0_off1180_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1180 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t49 k0_t51
theorem k0_off1181_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1181 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t49 k0_t51
theorem k0_off1182_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1182 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t49 k0_t51
theorem k0_off1183_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1183 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t49 k0_t51
theorem k0_off1184_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1184 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.1 k0_t49 k0_t51
theorem k0_off1185_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1185 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.1 k0_t49 k0_t51
theorem k0_off1186_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1186 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.1 k0_t49 k0_t51
theorem k0_off1187_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1187 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.1 k0_t49 k0_t51
theorem k0_off1188_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1188 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.1 k0_t49 k0_t51
theorem k0_off1189_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1189 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.1 k0_t49 k0_t51
theorem k0_off1190_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1190 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.2.1 k0_t49 k0_t51
theorem k0_off1191_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1191 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.2.2.1 k0_t49 k0_t51
theorem k0_off1192_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1192 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.2.2.2.1 k0_t49 k0_t51
theorem k0_off1193_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1193 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.2.2.2.2.1 k0_t49 k0_t51
theorem k0_off1194_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1194 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.2.2.2.2.2.1 k0_t49 k0_t51
theorem k0_off1195_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1195 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.2.2.2.2.2.2.1 k0_t49 k0_t51
theorem k0_off1196_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1196 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.2.2.2.2.2.2.2.1 k0_t49 k0_t51
theorem k0_off1197_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1197 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.2.2.2.2.2.2.2.2.1 k0_t49 k0_t51
theorem k0_off1198_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1198 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.2.2.2.2.2.2.2.2.2.1 k0_t49 k0_t51
theorem k0_off1199_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1199 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.2.2.2.2.2.2.2.2.2.2.1 k0_t49 k0_t51
theorem k0_off1200_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1200 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.2.2.2.2.2.2.2.2.2.2.2.1 k0_t49 k0_t51
theorem k0_off1201_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1201 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.2.2.2.2.2.2.2.2.2.2.2.2.1 k0_t49 k0_t51
theorem k0_off1202_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1202 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.2.2.2.2.2.2.2.2.2.2.2.2.2.1 k0_t49 k0_t51
theorem k0_off1203_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1203 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.2.2.2.2.2.2.2.2.2.2.2.2.2.2.1 k0_t49 k0_t51
theorem k0_off1204_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1204 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t49 k0_t51
theorem k0_off1205_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1205 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t49 k0_t51
theorem k0_off1206_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1206 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t49 k0_t51
theorem k0_off1207_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1207 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t49 k0_t51
theorem k0_off1208_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1208 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t49 k0_t51
theorem k0_off1209_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t49 : Fin (k0_t49_loop i v5 v9 v13 v17 v21 v25 v29 v33 v37 v41 v45 v49 v53 v57 v61 v65).trips) (k0_t51 : Fin (k0_t51_loop i v5 v9 v13 v17 v21 v25 v29 v33 v37 v41 v45 v49 v53 v57 v61 v65 k0_t49).trips), ∀ a, (k0_off1209 i v5 v9 v13 v17 v21 v25 v29 v33 v37 v41 v45 v49 v53 v57 v61 v65 k0_t49 k0_t51) a + S1x1x16.size a ≤ S96x1x512.size a := fun i v5 v9 v13 v17 v21 v25 v29 v33 v37 v41 v45 v49 v53 v57 v61 v65 k0_hw1 k0_t49 k0_t51 => k0_hw1.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t49 k0_t51
theorem k0_t52_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t52_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1
theorem k0_off1210_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips), ∀ (k0_h36 : k0_cond36 i v5 v9 v13 v17 v21 v25 v29 v33 v37 v41 v45 v49 v53 v57 v61 v65 k0_t52 = 1#1), ∀ a, (k0_off1210 i v5 v9 v13 v17 v21 v25 v29 v33 v37 v41 v45 v49 v53 v57 v61 v65 k0_t52) a + S32x1x512.size a ≤ S96x1x512.size a := fun i v5 v9 v13 v17 v21 v25 v29 v33 v37 v41 v45 v49 v53 v57 v61 v65 k0_hw1 k0_t52 k0_h36 => k0_hw1.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t52 k0_h36
theorem k0_off1211_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips), ∀ (k0_h36 : k0_cond36 i v5 v9 v13 v17 v21 v25 v29 v33 v37 v41 v45 v49 v53 v57 v61 v65 k0_t52 = 1#1), ∀ a, (k0_off1211 i v5 v9 v13 v17 v21 v25 v29 v33 v37 v41 v45 v49 v53 v57 v61 v65 k0_t52) a + S32x1x512.size a ≤ S2048x16x512.size a := fun i v5 v9 v13 v17 v21 v25 v29 v33 v37 v41 v45 v49 v53 v57 v61 v65 k0_hw1 k0_t52 k0_h36 => k0_hw1.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t52 k0_h36
theorem k0_off1212_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips), ∀ (k0_h36 : k0_cond36 i v5 v9 v13 v17 v21 v25 v29 v33 v37 v41 v45 v49 v53 v57 v61 v65 k0_t52 = 1#1), ∀ a, (k0_off1212 i v5 v9 v13 v17 v21 v25 v29 v33 v37 v41 v45 v49 v53 v57 v61 v65 k0_t52) a + S1.size a ≤ S3.size a := fun i v5 v9 v13 v17 v21 v25 v29 v33 v37 v41 v45 v49 v53 v57 v61 v65 k0_hw1 k0_t52 k0_h36 => k0_hw1.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t52 k0_h36
theorem k0_off1213_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips), ∀ a, (k0_off1213 i v5 v9 v13 v17 v21 v25 v29 v33 v37 v41 v45 v49 v53 v57 v61 v65 k0_t52) a + S32x1x512.size a ≤ S96x1x512.size a := fun i v5 v9 v13 v17 v21 v25 v29 v33 v37 v41 v45 v49 v53 v57 v61 v65 k0_hw1 k0_t52 => k0_hw1.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t52
theorem k0_off1214_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips), ∀ a, (k0_off1214 i v5 v9 v13 v17 v21 v25 v29 v33 v37 v41 v45 v49 v53 v57 v61 v65 k0_t52) a + S1.size a ≤ S3.size a := fun i v5 v9 v13 v17 v21 v25 v29 v33 v37 v41 v45 v49 v53 v57 v61 v65 k0_hw1 k0_t52 => k0_hw1.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t52
theorem k0_t53_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips), (k0_t53_loop i v5 v9 v13 v17 v21 v25 v29 v33 v37 v41 v45 v49 v53 v57 v61 v65 k0_t52).OK := fun i v5 v9 v13 v17 v21 v25 v29 v33 v37 v41 v45 v49 v53 v57 v61 v65 k0_hw1 k0_t52 => k0_hw1.2.2.2.2.2.2.2.2.2.2.2.2.2.2.2.2.2.2.2.2.2.2.2.2.2.2.2.2.2.2.2.2.2.2.2.2.2.2.2.1.1 k0_t52
theorem k0_off1215_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1215 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.1 k0_t52 k0_t53
theorem k0_off1216_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1216 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.1 k0_t52 k0_t53
theorem k0_off1217_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1217 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.1 k0_t52 k0_t53
theorem k0_off1218_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1218 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.1 k0_t52 k0_t53
theorem k0_off1219_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1219 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.1 k0_t52 k0_t53
theorem k0_off1220_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1220 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.1 k0_t52 k0_t53
theorem k0_off1221_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1221 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.1 k0_t52 k0_t53
theorem k0_off1222_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1222 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.1 k0_t52 k0_t53
theorem k0_off1223_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1223 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.1 k0_t52 k0_t53
theorem k0_off1224_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1224 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.1 k0_t52 k0_t53
theorem k0_off1225_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1225 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.1 k0_t52 k0_t53
theorem k0_off1226_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1226 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.2.1 k0_t52 k0_t53
theorem k0_off1227_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1227 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.2.2.1 k0_t52 k0_t53
theorem k0_off1228_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1228 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.2.2.2.1 k0_t52 k0_t53
theorem k0_off1229_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1229 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.2.2.2.2.1 k0_t52 k0_t53
theorem k0_off1230_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1230 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.2.2.2.2.2.1 k0_t52 k0_t53
theorem k0_off1231_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1231 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.2.2.2.2.2.2.1 k0_t52 k0_t53
theorem k0_off1232_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1232 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.2.2.2.2.2.2.2.1 k0_t52 k0_t53
theorem k0_off1233_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1233 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t52 k0_t53
theorem k0_off1234_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1234 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t52 k0_t53
theorem k0_off1235_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1235 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t52 k0_t53
theorem k0_off1236_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1236 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t52 k0_t53
theorem k0_off1237_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1237 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t52 k0_t53
theorem k0_off1238_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1238 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t52 k0_t53
theorem k0_off1239_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1239 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t52 k0_t53
theorem k0_off1240_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1240 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t52 k0_t53
theorem k0_off1241_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1241 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t52 k0_t53
theorem k0_off1242_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1242 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t52 k0_t53
theorem k0_off1243_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1243 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t52 k0_t53
theorem k0_off1244_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1244 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t52 k0_t53
theorem k0_off1245_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1245 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t52 k0_t53
theorem k0_off1246_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t53 : Fin (k0_t53_loop i v5 v9 v13 v17 v21 v25 v29 v33 v37 v41 v45 v49 v53 v57 v61 v65 k0_t52).trips), ∀ a, (k0_off1246 i v5 v9 v13 v17 v21 v25 v29 v33 v37 v41 v45 v49 v53 v57 v61 v65 k0_t52 k0_t53) a + S1x1x16.size a ≤ S96x1x512.size a := fun i v5 v9 v13 v17 v21 v25 v29 v33 v37 v41 v45 v49 v53 v57 v61 v65 k0_hw1 k0_t52 k0_t53 => k0_hw1.2.2.2.2.2.2.2.2.2.2.2.2.2.2.2.2.2.2.2.2.2.2.2.2.2.2.2.2.2.2.2.2.2.2.2.2.2.2.2.2.1.1 k0_t52 k0_t53
theorem k0_t54_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips), (k0_t54_loop i v5 v9 v13 v17 v21 v25 v29 v33 v37 v41 v45 v49 v53 v57 v61 v65 k0_t52).OK := fun i v5 v9 v13 v17 v21 v25 v29 v33 v37 v41 v45 v49 v53 v57 v61 v65 k0_hw1 k0_t52 => k0_hw1.2.2.2.2.2.2.2.2.2.2.2.2.2.2.2.2.2.2.2.2.2.2.2.2.2.2.2.2.2.2.2.2.2.2.2.2.2.2.2.2.1.2.1 k0_t52
theorem k0_off1247_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1247 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.1 k0_t52 k0_t54
theorem k0_off1248_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1248 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.1 k0_t52 k0_t54
theorem k0_off1249_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1249 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.1 k0_t52 k0_t54
theorem k0_off1250_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1250 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.1 k0_t52 k0_t54
theorem k0_off1251_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1251 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.1 k0_t52 k0_t54
theorem k0_off1252_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1252 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.1 k0_t52 k0_t54
theorem k0_off1253_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1253 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.1 k0_t52 k0_t54
theorem k0_off1254_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1254 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.1 k0_t52 k0_t54
theorem k0_off1255_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1255 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.1 k0_t52 k0_t54
theorem k0_off1256_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1256 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.1 k0_t52 k0_t54
theorem k0_off1257_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1257 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.2.1 k0_t52 k0_t54
theorem k0_off1258_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1258 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.2.2.1 k0_t52 k0_t54
theorem k0_off1259_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1259 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.2.2.2.1 k0_t52 k0_t54
theorem k0_off1260_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1260 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.2.2.2.2.1 k0_t52 k0_t54
theorem k0_off1261_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1261 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.2.2.2.2.2.1 k0_t52 k0_t54
theorem k0_off1262_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1262 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.2.2.2.2.2.2.1 k0_t52 k0_t54
theorem k0_off1263_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1263 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t52 k0_t54
theorem k0_off1264_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1264 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t52 k0_t54
theorem k0_off1265_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1265 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t52 k0_t54
theorem k0_off1266_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1266 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t52 k0_t54
theorem k0_off1267_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1267 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t52 k0_t54
theorem k0_off1268_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1268 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t52 k0_t54
theorem k0_off1269_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1269 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t52 k0_t54
theorem k0_off1270_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1270 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t52 k0_t54
theorem k0_off1271_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1271 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t52 k0_t54
theorem k0_off1272_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1272 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t52 k0_t54
theorem k0_off1273_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1273 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t52 k0_t54
theorem k0_off1274_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1274 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t52 k0_t54
theorem k0_off1275_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1275 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t52 k0_t54
theorem k0_off1276_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1276 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t52 k0_t54
theorem k0_off1277_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1277 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.2.1.1 k0_t52 k0_t54
theorem k0_off1278_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t52 : Fin (k0_t52_loop i v5 v9 v13 v17 v21 v25 v29 v33 v37 v41 v45 v49 v53 v57 v61 v65).trips) (k0_t54 : Fin (k0_t54_loop i v5 v9 v13 v17 v21 v25 v29 v33 v37 v41 v45 v49 v53 v57 v61 v65 k0_t52).trips), ∀ a, (k0_off1278 i v5 v9 v13 v17 v21 v25 v29 v33 v37 v41 v45 v49 v53 v57 v61 v65 k0_t52 k0_t54) a + S1x1x16.size a ≤ S96x1x512.size a := fun i v5 v9 v13 v17 v21 v25 v29 v33 v37 v41 v45 v49 v53 v57 v61 v65 k0_hw1 k0_t52 k0_t54 => k0_hw1.2.2.2.2.2.2.2.2.2.2.2.2.2.2.2.2.2.2.2.2.2.2.2.2.2.2.2.2.2.2.2.2.2.2.2.2.2.2.2.2.2.1.2.1 k0_t52 k0_t54
theorem k0_off1280_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h37 : k0_cond37 i v5 v9 v13 v17 v21 v25 v29 v33 v37 v41 v45 v49 v53 v57 v61 v65 = 1#1), ∀ a, (k0_off1280 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h37 => k0_hw1.2.2.2.2.2.2.2.2.2.2.2.2.2.2.2.2.2.2.2.2.2.2.2.2.2.2.2.2.2.2.2.2.2.2.2.2.2.2.2.2.2.1.2.2.1 k0_h37
theorem k0_off1282_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h38 : k0_cond38 i v5 v9 v13 v17 v21 v25 v29 v33 v37 v41 v45 v49 v53 v57 v61 v65 = 1#1), ∀ a, (k0_off1282 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h38 => k0_hw1.2.2.2.2.2.2.2.2.2.2.2.2.2.2.2.2.2.2.2.2.2.2.2.2.2.2.2.2.2.2.2.2.2.2.2.2.2.2.2.2.2.1.2.2.2.1 k0_h38
theorem k0_t55_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t55_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.2.2.2.2.2.2.2.2.2.2.2.2.2.2.2.2.1.2.2.2.2.1
theorem k0_off1283_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips), ∀ (k0_h39 : k0_cond39 i v5 v9 v13 v17 v21 v25 v29 v33 v37 v41 v45 v49 v53 v57 v61 v65 k0_t55 = 1#1), ∀ a, (k0_off1283 i v5 v9 v13 v17 v21 v25 v29 v33 v37 v41 v45 v49 v53 v57 v61 v65 k0_t55) a + S32x1x512.size a ≤ S96x1x512.size a := fun i v5 v9 v13 v17 v21 v25 v29 v33 v37 v41 v45 v49 v53 v57 v61 v65 k0_hw1 k0_t55 k0_h39 => k0_hw1.2.2.2.2.2.2.2.2.2.2.2.2.2.2.2.2.2.2.2.2.2.2.2.2.2.2.2.2.2.2.2.2.2.2.2.2.2.2.2.2.2.1.2.2.2.2.2.1 k0_t55 k0_h39
theorem k0_off1284_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips), ∀ (k0_h39 : k0_cond39 i v5 v9 v13 v17 v21 v25 v29 v33 v37 v41 v45 v49 v53 v57 v61 v65 k0_t55 = 1#1), ∀ a, (k0_off1284 i v5 v9 v13 v17 v21 v25 v29 v33 v37 v41 v45 v49 v53 v57 v61 v65 k0_t55) a + S32x1x512.size a ≤ S2048x16x512.size a := fun i v5 v9 v13 v17 v21 v25 v29 v33 v37 v41 v45 v49 v53 v57 v61 v65 k0_hw1 k0_t55 k0_h39 => k0_hw1.2.2.2.2.2.2.2.2.2.2.2.2.2.2.2.2.2.2.2.2.2.2.2.2.2.2.2.2.2.2.2.2.2.2.2.2.2.2.2.2.2.1.2.2.2.2.2.2.1 k0_t55 k0_h39
theorem k0_off1285_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips), ∀ (k0_h39 : k0_cond39 i v5 v9 v13 v17 v21 v25 v29 v33 v37 v41 v45 v49 v53 v57 v61 v65 k0_t55 = 1#1), ∀ a, (k0_off1285 i v5 v9 v13 v17 v21 v25 v29 v33 v37 v41 v45 v49 v53 v57 v61 v65 k0_t55) a + S1.size a ≤ S3.size a := fun i v5 v9 v13 v17 v21 v25 v29 v33 v37 v41 v45 v49 v53 v57 v61 v65 k0_hw1 k0_t55 k0_h39 => k0_hw1.2.2.2.2.2.2.2.2.2.2.2.2.2.2.2.2.2.2.2.2.2.2.2.2.2.2.2.2.2.2.2.2.2.2.2.2.2.2.2.2.2.1.2.2.2.2.2.2.2.1 k0_t55 k0_h39
theorem k0_off1286_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips), ∀ a, (k0_off1286 i v5 v9 v13 v17 v21 v25 v29 v33 v37 v41 v45 v49 v53 v57 v61 v65 k0_t55) a + S32x1x512.size a ≤ S96x1x512.size a := fun i v5 v9 v13 v17 v21 v25 v29 v33 v37 v41 v45 v49 v53 v57 v61 v65 k0_hw1 k0_t55 => k0_hw1.2.2.2.2.2.2.2.2.2.2.2.2.2.2.2.2.2.2.2.2.2.2.2.2.2.2.2.2.2.2.2.2.2.2.2.2.2.2.2.2.2.1.2.2.2.2.2.2.2.2.1 k0_t55
theorem k0_off1287_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips), ∀ a, (k0_off1287 i v5 v9 v13 v17 v21 v25 v29 v33 v37 v41 v45 v49 v53 v57 v61 v65 k0_t55) a + S1.size a ≤ S3.size a := fun i v5 v9 v13 v17 v21 v25 v29 v33 v37 v41 v45 v49 v53 v57 v61 v65 k0_hw1 k0_t55 => k0_hw1.2.2.2.2.2.2.2.2.2.2.2.2.2.2.2.2.2.2.2.2.2.2.2.2.2.2.2.2.2.2.2.2.2.2.2.2.2.2.2.2.2.1.2.2.2.2.2.2.2.2.2.1 k0_t55
theorem k0_t56_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips), (k0_t56_loop i v5 v9 v13 v17 v21 v25 v29 v33 v37 v41 v45 v49 v53 v57 v61 v65 k0_t55).OK := fun i v5 v9 v13 v17 v21 v25 v29 v33 v37 v41 v45 v49 v53 v57 v61 v65 k0_hw1 k0_t55 => k0_hw1.2.2.2.2.2.2.2.2.2.2.2.2.2.2.2.2.2.2.2.2.2.2.2.2.2.2.2.2.2.2.2.2.2.2.2.2.2.2.2.2.2.1.2.2.2.2.2.2.2.2.2.2.1 k0_t55
theorem k0_off1288_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1288 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.1 k0_t55 k0_t56
theorem k0_off1289_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1289 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.2.1 k0_t55 k0_t56
theorem k0_off1290_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1290 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.2.2.1 k0_t55 k0_t56
theorem k0_off1291_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1291 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.2.2.2.1 k0_t55 k0_t56
theorem k0_off1292_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1292 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.2.2.2.2.1 k0_t55 k0_t56
theorem k0_off1293_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1293 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.2.2.2.2.2.1 k0_t55 k0_t56
theorem k0_off1294_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1294 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t55 k0_t56
theorem k0_off1295_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1295 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t55 k0_t56
theorem k0_off1296_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1296 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t55 k0_t56
theorem k0_off1297_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1297 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t55 k0_t56
theorem k0_off1298_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1298 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t55 k0_t56
theorem k0_off1299_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1299 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t55 k0_t56
theorem k0_off1300_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1300 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t55 k0_t56
theorem k0_off1301_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1301 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t55 k0_t56
theorem k0_off1302_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1302 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t55 k0_t56
theorem k0_off1303_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1303 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t55 k0_t56
theorem k0_off1304_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1304 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t55 k0_t56
theorem k0_off1305_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1305 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t55 k0_t56
theorem k0_off1306_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1306 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t55 k0_t56
theorem k0_off1307_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1307 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t55 k0_t56
theorem k0_off1308_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1308 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t55 k0_t56
theorem k0_off1309_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1309 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.2.1.1 k0_t55 k0_t56
theorem k0_off1310_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1310 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.2.1.2.1 k0_t55 k0_t56
theorem k0_off1311_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1311 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.2.1.2.2.1 k0_t55 k0_t56
theorem k0_off1312_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1312 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.2.1.2.2.2.1 k0_t55 k0_t56
theorem k0_off1313_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1313 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.2.1.2.2.2.2.1 k0_t55 k0_t56
theorem k0_off1314_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1314 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.2.1.2.2.2.2.2.1 k0_t55 k0_t56
theorem k0_off1315_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1315 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.2.1.2.2.2.2.2.2.1 k0_t55 k0_t56
theorem k0_off1316_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1316 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.2.1.2.2.2.2.2.2.2.1 k0_t55 k0_t56
theorem k0_off1317_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1317 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.2.1.2.2.2.2.2.2.2.2.1 k0_t55 k0_t56
theorem k0_off1318_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1318 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.2.1.2.2.2.2.2.2.2.2.2.1 k0_t55 k0_t56
theorem k0_off1319_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t56 : Fin (k0_t56_loop i v5 v9 v13 v17 v21 v25 v29 v33 v37 v41 v45 v49 v53 v57 v61 v65 k0_t55).trips), ∀ a, (k0_off1319 i v5 v9 v13 v17 v21 v25 v29 v33 v37 v41 v45 v49 v53 v57 v61 v65 k0_t55 k0_t56) a + S1x1x16.size a ≤ S96x1x512.size a := fun i v5 v9 v13 v17 v21 v25 v29 v33 v37 v41 v45 v49 v53 v57 v61 v65 k0_hw1 k0_t55 k0_t56 => k0_hw1.2.2.2.2.2.2.2.2.2.2.2.2.2.2.2.2.2.2.2.2.2.2.2.2.2.2.2.2.2.2.2.2.2.2.2.2.2.2.2.2.2.2.1.2.2.2.2.2.2.2.2.2.2.1 k0_t55 k0_t56
theorem k0_t57_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips), (k0_t57_loop i v5 v9 v13 v17 v21 v25 v29 v33 v37 v41 v45 v49 v53 v57 v61 v65 k0_t55).OK := fun i v5 v9 v13 v17 v21 v25 v29 v33 v37 v41 v45 v49 v53 v57 v61 v65 k0_hw1 k0_t55 => k0_hw1.2.2.2.2.2.2.2.2.2.2.2.2.2.2.2.2.2.2.2.2.2.2.2.2.2.2.2.2.2.2.2.2.2.2.2.2.2.2.2.2.2.2.1.2.2.2.2.2.2.2.2.2.2.2.1 k0_t55
theorem k0_off1320_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1320 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.1.2.2.2.2.2.2.2.2.2.2.2.2.1 k0_t55 k0_t57
theorem k0_off1321_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1321 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.1.2.2.2.2.2.2.2.2.2.2.2.2.2.1 k0_t55 k0_t57
theorem k0_off1322_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1322 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.1.2.2.2.2.2.2.2.2.2.2.2.2.2.2.1 k0_t55 k0_t57
theorem k0_off1323_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1323 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.1.2.2.2.2.2.2.2.2.2.2.2.2.2.2.2.1 k0_t55 k0_t57
theorem k0_off1324_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1324 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t55 k0_t57
theorem k0_off1325_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1325 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t55 k0_t57
theorem k0_off1326_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1326 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t55 k0_t57
theorem k0_off1327_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1327 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t55 k0_t57
theorem k0_off1328_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1328 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t55 k0_t57
theorem k0_off1329_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1329 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t55 k0_t57
theorem k0_off1330_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1330 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t55 k0_t57
theorem k0_off1331_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1331 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t55 k0_t57
theorem k0_off1332_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1332 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t55 k0_t57
theorem k0_off1333_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1333 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t55 k0_t57
theorem k0_off1334_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1334 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t55 k0_t57
theorem k0_off1335_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1335 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t55 k0_t57
theorem k0_off1336_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1336 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t55 k0_t57
theorem k0_off1337_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1337 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t55 k0_t57
theorem k0_off1338_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1338 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t55 k0_t57
theorem k0_off1339_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1339 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t55 k0_t57
theorem k0_off1340_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1340 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.2.1.1 k0_t55 k0_t57
theorem k0_off1341_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1341 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.2.1.2.1 k0_t55 k0_t57
theorem k0_off1342_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1342 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.2.1.2.2.1 k0_t55 k0_t57
theorem k0_off1343_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1343 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.2.1.2.2.2.1 k0_t55 k0_t57
theorem k0_off1344_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1344 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.2.1.2.2.2.2.1 k0_t55 k0_t57
theorem k0_off1345_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1345 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.2.1.2.2.2.2.2.1 k0_t55 k0_t57
theorem k0_off1346_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1346 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.2.1.2.2.2.2.2.2.1 k0_t55 k0_t57
theorem k0_off1347_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1347 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.2.1.2.2.2.2.2.2.2.1 k0_t55 k0_t57
theorem k0_off1348_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1348 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.2.1.2.2.2.2.2.2.2.2.1 k0_t55 k0_t57
theorem k0_off1349_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1349 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.2.1.2.2.2.2.2.2.2.2.2.1 k0_t55 k0_t57
theorem k0_off1350_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1350 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.2.1.2.2.2.2.2.2.2.2.2.2.1 k0_t55 k0_t57
theorem k0_off1351_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t55 : Fin (k0_t55_loop i v5 v9 v13 v17 v21 v25 v29 v33 v37 v41 v45 v49 v53 v57 v61 v65).trips) (k0_t57 : Fin (k0_t57_loop i v5 v9 v13 v17 v21 v25 v29 v33 v37 v41 v45 v49 v53 v57 v61 v65 k0_t55).trips), ∀ a, (k0_off1351 i v5 v9 v13 v17 v21 v25 v29 v33 v37 v41 v45 v49 v53 v57 v61 v65 k0_t55 k0_t57) a + S1x1x16.size a ≤ S96x1x512.size a := fun i v5 v9 v13 v17 v21 v25 v29 v33 v37 v41 v45 v49 v53 v57 v61 v65 k0_hw1 k0_t55 k0_t57 => k0_hw1.2.2.2.2.2.2.2.2.2.2.2.2.2.2.2.2.2.2.2.2.2.2.2.2.2.2.2.2.2.2.2.2.2.2.2.2.2.2.2.2.2.2.2.1.2.2.2.2.2.2.2.2.2.2.2.1 k0_t55 k0_t57
theorem k0_t58_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t58_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.2.2.2.2.2.2.2.2.2.2.2.2.2.2.2.2.2.2.1.2.2.2.2.2.2.2.2.2.2.2.2.1
theorem k0_off1352_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips), ∀ (k0_h40 : k0_cond40 i v5 v9 v13 v17 v21 v25 v29 v33 v37 v41 v45 v49 v53 v57 v61 v65 k0_t58 = 1#1), ∀ a, (k0_off1352 i v5 v9 v13 v17 v21 v25 v29 v33 v37 v41 v45 v49 v53 v57 v61 v65 k0_t58) a + S32x1x512.size a ≤ S96x1x512.size a := fun i v5 v9 v13 v17 v21 v25 v29 v33 v37 v41 v45 v49 v53 v57 v61 v65 k0_hw1 k0_t58 k0_h40 => k0_hw1.2.2.2.2.2.2.2.2.2.2.2.2.2.2.2.2.2.2.2.2.2.2.2.2.2.2.2.2.2.2.2.2.2.2.2.2.2.2.2.2.2.2.2.1.2.2.2.2.2.2.2.2.2.2.2.2.2.1 k0_t58 k0_h40
theorem k0_off1353_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips), ∀ (k0_h40 : k0_cond40 i v5 v9 v13 v17 v21 v25 v29 v33 v37 v41 v45 v49 v53 v57 v61 v65 k0_t58 = 1#1), ∀ a, (k0_off1353 i v5 v9 v13 v17 v21 v25 v29 v33 v37 v41 v45 v49 v53 v57 v61 v65 k0_t58) a + S32x1x512.size a ≤ S2048x16x512.size a := fun i v5 v9 v13 v17 v21 v25 v29 v33 v37 v41 v45 v49 v53 v57 v61 v65 k0_hw1 k0_t58 k0_h40 => k0_hw1.2.2.2.2.2.2.2.2.2.2.2.2.2.2.2.2.2.2.2.2.2.2.2.2.2.2.2.2.2.2.2.2.2.2.2.2.2.2.2.2.2.2.2.1.2.2.2.2.2.2.2.2.2.2.2.2.2.2.1 k0_t58 k0_h40
theorem k0_off1354_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips), ∀ (k0_h40 : k0_cond40 i v5 v9 v13 v17 v21 v25 v29 v33 v37 v41 v45 v49 v53 v57 v61 v65 k0_t58 = 1#1), ∀ a, (k0_off1354 i v5 v9 v13 v17 v21 v25 v29 v33 v37 v41 v45 v49 v53 v57 v61 v65 k0_t58) a + S1.size a ≤ S3.size a := fun i v5 v9 v13 v17 v21 v25 v29 v33 v37 v41 v45 v49 v53 v57 v61 v65 k0_hw1 k0_t58 k0_h40 => k0_hw1.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t58 k0_h40
theorem k0_off1355_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips), ∀ a, (k0_off1355 i v5 v9 v13 v17 v21 v25 v29 v33 v37 v41 v45 v49 v53 v57 v61 v65 k0_t58) a + S32x1x512.size a ≤ S96x1x512.size a := fun i v5 v9 v13 v17 v21 v25 v29 v33 v37 v41 v45 v49 v53 v57 v61 v65 k0_hw1 k0_t58 => k0_hw1.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t58
theorem k0_off1356_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips), ∀ a, (k0_off1356 i v5 v9 v13 v17 v21 v25 v29 v33 v37 v41 v45 v49 v53 v57 v61 v65 k0_t58) a + S1.size a ≤ S3.size a := fun i v5 v9 v13 v17 v21 v25 v29 v33 v37 v41 v45 v49 v53 v57 v61 v65 k0_hw1 k0_t58 => k0_hw1.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t58
theorem k0_t59_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips), (k0_t59_loop i v5 v9 v13 v17 v21 v25 v29 v33 v37 v41 v45 v49 v53 v57 v61 v65 k0_t58).OK := fun i v5 v9 v13 v17 v21 v25 v29 v33 v37 v41 v45 v49 v53 v57 v61 v65 k0_hw1 k0_t58 => k0_hw1.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t58
theorem k0_off1357_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1357 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t58 k0_t59
theorem k0_off1358_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1358 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t58 k0_t59
theorem k0_off1359_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1359 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t58 k0_t59
theorem k0_off1360_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1360 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t58 k0_t59
theorem k0_off1361_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1361 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t58 k0_t59
theorem k0_off1362_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1362 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t58 k0_t59
theorem k0_off1363_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1363 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t58 k0_t59
theorem k0_off1364_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1364 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t58 k0_t59
theorem k0_off1365_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1365 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t58 k0_t59
theorem k0_off1366_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1366 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t58 k0_t59
theorem k0_off1367_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1367 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t58 k0_t59
theorem k0_off1368_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1368 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t58 k0_t59
theorem k0_off1369_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1369 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t58 k0_t59
theorem k0_off1370_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1370 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.2.1.1 k0_t58 k0_t59
theorem k0_off1371_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1371 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.2.1.2.1 k0_t58 k0_t59
theorem k0_off1372_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1372 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.2.1.2.2.1 k0_t58 k0_t59
theorem k0_off1373_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1373 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.2.1.2.2.2.1 k0_t58 k0_t59
theorem k0_off1374_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1374 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.2.1.2.2.2.2.1 k0_t58 k0_t59
theorem k0_off1375_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1375 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.2.1.2.2.2.2.2.1 k0_t58 k0_t59
theorem k0_off1376_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1376 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.2.1.2.2.2.2.2.2.1 k0_t58 k0_t59
theorem k0_off1377_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1377 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.2.1.2.2.2.2.2.2.2.1 k0_t58 k0_t59
theorem k0_off1378_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1378 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.2.1.2.2.2.2.2.2.2.2.1 k0_t58 k0_t59
theorem k0_off1379_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1379 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.2.1.2.2.2.2.2.2.2.2.2.1 k0_t58 k0_t59
theorem k0_off1380_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1380 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.2.1.2.2.2.2.2.2.2.2.2.2.1 k0_t58 k0_t59
theorem k0_off1381_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1381 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.2.1.2.2.2.2.2.2.2.2.2.2.2.1 k0_t58 k0_t59
theorem k0_off1382_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1382 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.2.1.2.2.2.2.2.2.2.2.2.2.2.2.1 k0_t58 k0_t59
theorem k0_off1383_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1383 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.2.1.2.2.2.2.2.2.2.2.2.2.2.2.2.1 k0_t58 k0_t59
theorem k0_off1384_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1384 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t58 k0_t59
theorem k0_off1385_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1385 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t58 k0_t59
theorem k0_off1386_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1386 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t58 k0_t59
theorem k0_off1387_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1387 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t58 k0_t59
theorem k0_off1388_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t59 : Fin (k0_t59_loop i v5 v9 v13 v17 v21 v25 v29 v33 v37 v41 v45 v49 v53 v57 v61 v65 k0_t58).trips), ∀ a, (k0_off1388 i v5 v9 v13 v17 v21 v25 v29 v33 v37 v41 v45 v49 v53 v57 v61 v65 k0_t58 k0_t59) a + S1x1x16.size a ≤ S96x1x512.size a := fun i v5 v9 v13 v17 v21 v25 v29 v33 v37 v41 v45 v49 v53 v57 v61 v65 k0_hw1 k0_t58 k0_t59 => k0_hw1.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t58 k0_t59
theorem k0_t60_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips), (k0_t60_loop i v5 v9 v13 v17 v21 v25 v29 v33 v37 v41 v45 v49 v53 v57 v61 v65 k0_t58).OK := fun i v5 v9 v13 v17 v21 v25 v29 v33 v37 v41 v45 v49 v53 v57 v61 v65 k0_hw1 k0_t58 => k0_hw1.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t58
theorem k0_off1389_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1389 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t58 k0_t60
theorem k0_off1390_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1390 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t58 k0_t60
theorem k0_off1391_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1391 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t58 k0_t60
theorem k0_off1392_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1392 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t58 k0_t60
theorem k0_off1393_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1393 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t58 k0_t60
theorem k0_off1394_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1394 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t58 k0_t60
theorem k0_off1395_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1395 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t58 k0_t60
theorem k0_off1396_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1396 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t58 k0_t60
theorem k0_off1397_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1397 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t58 k0_t60
theorem k0_off1398_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1398 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t58 k0_t60
theorem k0_off1399_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1399 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t58 k0_t60
theorem k0_off1400_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1400 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t58 k0_t60
theorem k0_off1401_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1401 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.2.1.1 k0_t58 k0_t60
theorem k0_off1402_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1402 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.2.1.2.1 k0_t58 k0_t60
theorem k0_off1403_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1403 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.2.1.2.2.1 k0_t58 k0_t60
theorem k0_off1404_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1404 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.2.1.2.2.2.1 k0_t58 k0_t60
theorem k0_off1405_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1405 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.2.1.2.2.2.2.1 k0_t58 k0_t60
theorem k0_off1406_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1406 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.2.1.2.2.2.2.2.1 k0_t58 k0_t60
theorem k0_off1407_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1407 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.2.1.2.2.2.2.2.2.1 k0_t58 k0_t60
theorem k0_off1408_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1408 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.2.1.2.2.2.2.2.2.2.1 k0_t58 k0_t60
theorem k0_off1409_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1409 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.2.1.2.2.2.2.2.2.2.2.1 k0_t58 k0_t60
theorem k0_off1410_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1410 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.2.1.2.2.2.2.2.2.2.2.2.1 k0_t58 k0_t60
theorem k0_off1411_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1411 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.2.1.2.2.2.2.2.2.2.2.2.2.1 k0_t58 k0_t60
theorem k0_off1412_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1412 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.2.1.2.2.2.2.2.2.2.2.2.2.2.1 k0_t58 k0_t60
theorem k0_off1413_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1413 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.2.1.2.2.2.2.2.2.2.2.2.2.2.2.1 k0_t58 k0_t60
theorem k0_off1414_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1414 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t58 k0_t60
theorem k0_off1415_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1415 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t58 k0_t60
theorem k0_off1416_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1416 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t58 k0_t60
theorem k0_off1417_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1417 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t58 k0_t60
theorem k0_off1418_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1418 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t58 k0_t60
theorem k0_off1419_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1419 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t58 k0_t60
theorem k0_off1420_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t58 : Fin (k0_t58_loop i v5 v9 v13 v17 v21 v25 v29 v33 v37 v41 v45 v49 v53 v57 v61 v65).trips) (k0_t60 : Fin (k0_t60_loop i v5 v9 v13 v17 v21 v25 v29 v33 v37 v41 v45 v49 v53 v57 v61 v65 k0_t58).trips), ∀ a, (k0_off1420 i v5 v9 v13 v17 v21 v25 v29 v33 v37 v41 v45 v49 v53 v57 v61 v65 k0_t58 k0_t60) a + S1x1x16.size a ≤ S96x1x512.size a := fun i v5 v9 v13 v17 v21 v25 v29 v33 v37 v41 v45 v49 v53 v57 v61 v65 k0_hw1 k0_t58 k0_t60 => k0_hw1.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t58 k0_t60
theorem k0_off1422_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h41 : k0_cond41 i v5 v9 v13 v17 v21 v25 v29 v33 v37 v41 v45 v49 v53 v57 v61 v65 = 1#1), ∀ a, (k0_off1422 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h41 => k0_hw1.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_h41
theorem k0_off1424_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h42 : k0_cond42 i v5 v9 v13 v17 v21 v25 v29 v33 v37 v41 v45 v49 v53 v57 v61 v65 = 1#1), ∀ a, (k0_off1424 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h42 => k0_hw1.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_h42
theorem k0_t61_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t61_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1
theorem k0_off1425_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips), ∀ (k0_h43 : k0_cond43 i v5 v9 v13 v17 v21 v25 v29 v33 v37 v41 v45 v49 v53 v57 v61 v65 k0_t61 = 1#1), ∀ a, (k0_off1425 i v5 v9 v13 v17 v21 v25 v29 v33 v37 v41 v45 v49 v53 v57 v61 v65 k0_t61) a + S32x1x512.size a ≤ S96x1x512.size a := fun i v5 v9 v13 v17 v21 v25 v29 v33 v37 v41 v45 v49 v53 v57 v61 v65 k0_hw1 k0_t61 k0_h43 => k0_hw1.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t61 k0_h43
theorem k0_off1426_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips), ∀ (k0_h43 : k0_cond43 i v5 v9 v13 v17 v21 v25 v29 v33 v37 v41 v45 v49 v53 v57 v61 v65 k0_t61 = 1#1), ∀ a, (k0_off1426 i v5 v9 v13 v17 v21 v25 v29 v33 v37 v41 v45 v49 v53 v57 v61 v65 k0_t61) a + S32x1x512.size a ≤ S2048x16x512.size a := fun i v5 v9 v13 v17 v21 v25 v29 v33 v37 v41 v45 v49 v53 v57 v61 v65 k0_hw1 k0_t61 k0_h43 => k0_hw1.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t61 k0_h43
theorem k0_off1427_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips), ∀ (k0_h43 : k0_cond43 i v5 v9 v13 v17 v21 v25 v29 v33 v37 v41 v45 v49 v53 v57 v61 v65 k0_t61 = 1#1), ∀ a, (k0_off1427 i v5 v9 v13 v17 v21 v25 v29 v33 v37 v41 v45 v49 v53 v57 v61 v65 k0_t61) a + S1.size a ≤ S3.size a := fun i v5 v9 v13 v17 v21 v25 v29 v33 v37 v41 v45 v49 v53 v57 v61 v65 k0_hw1 k0_t61 k0_h43 => k0_hw1.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t61 k0_h43
theorem k0_off1428_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips), ∀ a, (k0_off1428 i v5 v9 v13 v17 v21 v25 v29 v33 v37 v41 v45 v49 v53 v57 v61 v65 k0_t61) a + S32x1x512.size a ≤ S96x1x512.size a := fun i v5 v9 v13 v17 v21 v25 v29 v33 v37 v41 v45 v49 v53 v57 v61 v65 k0_hw1 k0_t61 => k0_hw1.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t61
theorem k0_off1429_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips), ∀ a, (k0_off1429 i v5 v9 v13 v17 v21 v25 v29 v33 v37 v41 v45 v49 v53 v57 v61 v65 k0_t61) a + S1.size a ≤ S3.size a := fun i v5 v9 v13 v17 v21 v25 v29 v33 v37 v41 v45 v49 v53 v57 v61 v65 k0_hw1 k0_t61 => k0_hw1.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t61
theorem k0_t62_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips), (k0_t62_loop i v5 v9 v13 v17 v21 v25 v29 v33 v37 v41 v45 v49 v53 v57 v61 v65 k0_t61).OK := fun i v5 v9 v13 v17 v21 v25 v29 v33 v37 v41 v45 v49 v53 v57 v61 v65 k0_hw1 k0_t61 => k0_hw1.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t61
theorem k0_off1430_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1430 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t61 k0_t62
theorem k0_off1431_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1431 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t61 k0_t62
theorem k0_off1432_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1432 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t61 k0_t62
theorem k0_off1433_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1433 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.1 k0_t61 k0_t62
theorem k0_off1434_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1434 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.1 k0_t61 k0_t62
theorem k0_off1435_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1435 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.1 k0_t61 k0_t62
theorem k0_off1436_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1436 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.1 k0_t61 k0_t62
theorem k0_off1437_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1437 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.1 k0_t61 k0_t62
theorem k0_off1438_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1438 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.1 k0_t61 k0_t62
theorem k0_off1439_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1439 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.1 k0_t61 k0_t62
theorem k0_off1440_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1440 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.1 k0_t61 k0_t62
theorem k0_off1441_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1441 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.1 k0_t61 k0_t62
theorem k0_off1442_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1442 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.2.1 k0_t61 k0_t62
theorem k0_off1443_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1443 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.2.2.1 k0_t61 k0_t62
theorem k0_off1444_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1444 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.1 k0_t61 k0_t62
theorem k0_off1445_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1445 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t61 k0_t62
theorem k0_off1446_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1446 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t61 k0_t62
theorem k0_off1447_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1447 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t61 k0_t62
theorem k0_off1448_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1448 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t61 k0_t62
theorem k0_off1449_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1449 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t61 k0_t62
theorem k0_off1450_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1450 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t61 k0_t62
theorem k0_off1451_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1451 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t61 k0_t62
theorem k0_off1452_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1452 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t61 k0_t62
theorem k0_off1453_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1453 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t61 k0_t62
theorem k0_off1454_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1454 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t61 k0_t62
theorem k0_off1455_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1455 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t61 k0_t62
theorem k0_off1456_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1456 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t61 k0_t62
theorem k0_off1457_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1457 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t61 k0_t62
theorem k0_off1458_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1458 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t61 k0_t62
theorem k0_off1459_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1459 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t61 k0_t62
theorem k0_off1460_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1460 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t61 k0_t62
theorem k0_off1461_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t62 : Fin (k0_t62_loop i v5 v9 v13 v17 v21 v25 v29 v33 v37 v41 v45 v49 v53 v57 v61 v65 k0_t61).trips), ∀ a, (k0_off1461 i v5 v9 v13 v17 v21 v25 v29 v33 v37 v41 v45 v49 v53 v57 v61 v65 k0_t61 k0_t62) a + S1x1x16.size a ≤ S96x1x512.size a := fun i v5 v9 v13 v17 v21 v25 v29 v33 v37 v41 v45 v49 v53 v57 v61 v65 k0_hw1 k0_t61 k0_t62 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t61 k0_t62
theorem k0_t63_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips), (k0_t63_loop i v5 v9 v13 v17 v21 v25 v29 v33 v37 v41 v45 v49 v53 v57 v61 v65 k0_t61).OK := fun i v5 v9 v13 v17 v21 v25 v29 v33 v37 v41 v45 v49 v53 v57 v61 v65 k0_hw1 k0_t61 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t61
theorem k0_off1462_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1462 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t61 k0_t63
theorem k0_off1463_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1463 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t61 k0_t63
theorem k0_off1464_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1464 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.1 k0_t61 k0_t63
theorem k0_off1465_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1465 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.1 k0_t61 k0_t63
theorem k0_off1466_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1466 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.1 k0_t61 k0_t63
theorem k0_off1467_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1467 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.1 k0_t61 k0_t63
theorem k0_off1468_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1468 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.1 k0_t61 k0_t63
theorem k0_off1469_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1469 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.1 k0_t61 k0_t63
theorem k0_off1470_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1470 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.1 k0_t61 k0_t63
theorem k0_off1471_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1471 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.1 k0_t61 k0_t63
theorem k0_off1472_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1472 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.1 k0_t61 k0_t63
theorem k0_off1473_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1473 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.1 k0_t61 k0_t63
theorem k0_off1474_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1474 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.1 k0_t61 k0_t63
theorem k0_off1475_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1475 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t61 k0_t63
theorem k0_off1476_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1476 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t61 k0_t63
theorem k0_off1477_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1477 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t61 k0_t63
theorem k0_off1478_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1478 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t61 k0_t63
theorem k0_off1479_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1479 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t61 k0_t63
theorem k0_off1480_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1480 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t61 k0_t63
theorem k0_off1481_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1481 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t61 k0_t63
theorem k0_off1482_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1482 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t61 k0_t63
theorem k0_off1483_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1483 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t61 k0_t63
theorem k0_off1484_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1484 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t61 k0_t63
theorem k0_off1485_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1485 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t61 k0_t63
theorem k0_off1486_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1486 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t61 k0_t63
theorem k0_off1487_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1487 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t61 k0_t63
theorem k0_off1488_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1488 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t61 k0_t63
theorem k0_off1489_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1489 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t61 k0_t63
theorem k0_off1490_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1490 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t61 k0_t63
theorem k0_off1491_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1491 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t61 k0_t63
theorem k0_off1492_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1492 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t61 k0_t63
theorem k0_off1493_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t61 : Fin (k0_t61_loop i v5 v9 v13 v17 v21 v25 v29 v33 v37 v41 v45 v49 v53 v57 v61 v65).trips) (k0_t63 : Fin (k0_t63_loop i v5 v9 v13 v17 v21 v25 v29 v33 v37 v41 v45 v49 v53 v57 v61 v65 k0_t61).trips), ∀ a, (k0_off1493 i v5 v9 v13 v17 v21 v25 v29 v33 v37 v41 v45 v49 v53 v57 v61 v65 k0_t61 k0_t63) a + S1x1x16.size a ≤ S96x1x512.size a := fun i v5 v9 v13 v17 v21 v25 v29 v33 v37 v41 v45 v49 v53 v57 v61 v65 k0_hw1 k0_t61 k0_t63 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t61 k0_t63
theorem k0_t64_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t64_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1
theorem k0_off1494_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips), ∀ (k0_h44 : k0_cond44 i v5 v9 v13 v17 v21 v25 v29 v33 v37 v41 v45 v49 v53 v57 v61 v65 k0_t64 = 1#1), ∀ a, (k0_off1494 i v5 v9 v13 v17 v21 v25 v29 v33 v37 v41 v45 v49 v53 v57 v61 v65 k0_t64) a + S32x1x512.size a ≤ S96x1x512.size a := fun i v5 v9 v13 v17 v21 v25 v29 v33 v37 v41 v45 v49 v53 v57 v61 v65 k0_hw1 k0_t64 k0_h44 => k0_hw1.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t64 k0_h44
theorem k0_off1495_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips), ∀ (k0_h44 : k0_cond44 i v5 v9 v13 v17 v21 v25 v29 v33 v37 v41 v45 v49 v53 v57 v61 v65 k0_t64 = 1#1), ∀ a, (k0_off1495 i v5 v9 v13 v17 v21 v25 v29 v33 v37 v41 v45 v49 v53 v57 v61 v65 k0_t64) a + S32x1x512.size a ≤ S2048x16x512.size a := fun i v5 v9 v13 v17 v21 v25 v29 v33 v37 v41 v45 v49 v53 v57 v61 v65 k0_hw1 k0_t64 k0_h44 => k0_hw1.2.2.2.2.2.2.2.2.2.2.2.2.2.2.2.2.2.2.2.2.2.2.2.2.2.2.2.2.2.2.2.2.2.2.2.2.2.2.2.2.2.2.2.2.2.2.2.2.1.1 k0_t64 k0_h44
theorem k0_off1496_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips), ∀ (k0_h44 : k0_cond44 i v5 v9 v13 v17 v21 v25 v29 v33 v37 v41 v45 v49 v53 v57 v61 v65 k0_t64 = 1#1), ∀ a, (k0_off1496 i v5 v9 v13 v17 v21 v25 v29 v33 v37 v41 v45 v49 v53 v57 v61 v65 k0_t64) a + S1.size a ≤ S3.size a := fun i v5 v9 v13 v17 v21 v25 v29 v33 v37 v41 v45 v49 v53 v57 v61 v65 k0_hw1 k0_t64 k0_h44 => k0_hw1.2.2.2.2.2.2.2.2.2.2.2.2.2.2.2.2.2.2.2.2.2.2.2.2.2.2.2.2.2.2.2.2.2.2.2.2.2.2.2.2.2.2.2.2.2.2.2.2.1.2.1 k0_t64 k0_h44
theorem k0_off1497_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips), ∀ a, (k0_off1497 i v5 v9 v13 v17 v21 v25 v29 v33 v37 v41 v45 v49 v53 v57 v61 v65 k0_t64) a + S32x1x512.size a ≤ S96x1x512.size a := fun i v5 v9 v13 v17 v21 v25 v29 v33 v37 v41 v45 v49 v53 v57 v61 v65 k0_hw1 k0_t64 => k0_hw1.2.2.2.2.2.2.2.2.2.2.2.2.2.2.2.2.2.2.2.2.2.2.2.2.2.2.2.2.2.2.2.2.2.2.2.2.2.2.2.2.2.2.2.2.2.2.2.2.1.2.2.1 k0_t64
theorem k0_off1498_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips), ∀ a, (k0_off1498 i v5 v9 v13 v17 v21 v25 v29 v33 v37 v41 v45 v49 v53 v57 v61 v65 k0_t64) a + S1.size a ≤ S3.size a := fun i v5 v9 v13 v17 v21 v25 v29 v33 v37 v41 v45 v49 v53 v57 v61 v65 k0_hw1 k0_t64 => k0_hw1.2.2.2.2.2.2.2.2.2.2.2.2.2.2.2.2.2.2.2.2.2.2.2.2.2.2.2.2.2.2.2.2.2.2.2.2.2.2.2.2.2.2.2.2.2.2.2.2.1.2.2.2.1 k0_t64
theorem k0_t65_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips), (k0_t65_loop i v5 v9 v13 v17 v21 v25 v29 v33 v37 v41 v45 v49 v53 v57 v61 v65 k0_t64).OK := fun i v5 v9 v13 v17 v21 v25 v29 v33 v37 v41 v45 v49 v53 v57 v61 v65 k0_hw1 k0_t64 => k0_hw1.2.2.2.2.2.2.2.2.2.2.2.2.2.2.2.2.2.2.2.2.2.2.2.2.2.2.2.2.2.2.2.2.2.2.2.2.2.2.2.2.2.2.2.2.2.2.2.2.1.2.2.2.2.1 k0_t64
theorem k0_off1499_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1499 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.1 k0_t64 k0_t65
theorem k0_off1500_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1500 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.1 k0_t64 k0_t65
theorem k0_off1501_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1501 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.1 k0_t64 k0_t65
theorem k0_off1502_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1502 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.1 k0_t64 k0_t65
theorem k0_off1503_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1503 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.1 k0_t64 k0_t65
theorem k0_off1504_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1504 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t64 k0_t65
theorem k0_off1505_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1505 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t64 k0_t65
theorem k0_off1506_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1506 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t64 k0_t65
theorem k0_off1507_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1507 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t64 k0_t65
theorem k0_off1508_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1508 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t64 k0_t65
theorem k0_off1509_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1509 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t64 k0_t65
theorem k0_off1510_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1510 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t64 k0_t65
theorem k0_off1511_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1511 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t64 k0_t65
theorem k0_off1512_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1512 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t64 k0_t65
theorem k0_off1513_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1513 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t64 k0_t65
theorem k0_off1514_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1514 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t64 k0_t65
theorem k0_off1515_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1515 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t64 k0_t65
theorem k0_off1516_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1516 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t64 k0_t65
theorem k0_off1517_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1517 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t64 k0_t65
theorem k0_off1518_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1518 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t64 k0_t65
theorem k0_off1519_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1519 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t64 k0_t65
theorem k0_off1520_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1520 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t64 k0_t65
theorem k0_off1521_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1521 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t64 k0_t65
theorem k0_off1522_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1522 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t64 k0_t65
theorem k0_off1523_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1523 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t64 k0_t65
theorem k0_off1524_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1524 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t64 k0_t65
theorem k0_off1525_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1525 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t64 k0_t65
theorem k0_off1526_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1526 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.2.1.1 k0_t64 k0_t65
theorem k0_off1527_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1527 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.2.1.2.1 k0_t64 k0_t65
theorem k0_off1528_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1528 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.2.1.2.2.1 k0_t64 k0_t65
theorem k0_off1529_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1529 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.2.1.2.2.2.1 k0_t64 k0_t65
theorem k0_off1530_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t65 : Fin (k0_t65_loop i v5 v9 v13 v17 v21 v25 v29 v33 v37 v41 v45 v49 v53 v57 v61 v65 k0_t64).trips), ∀ a, (k0_off1530 i v5 v9 v13 v17 v21 v25 v29 v33 v37 v41 v45 v49 v53 v57 v61 v65 k0_t64 k0_t65) a + S1x1x16.size a ≤ S96x1x512.size a := fun i v5 v9 v13 v17 v21 v25 v29 v33 v37 v41 v45 v49 v53 v57 v61 v65 k0_hw1 k0_t64 k0_t65 => k0_hw1.2.2.2.2.2.2.2.2.2.2.2.2.2.2.2.2.2.2.2.2.2.2.2.2.2.2.2.2.2.2.2.2.2.2.2.2.2.2.2.2.2.2.2.2.2.2.2.2.2.1.2.2.2.2.1 k0_t64 k0_t65
theorem k0_t66_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips), (k0_t66_loop i v5 v9 v13 v17 v21 v25 v29 v33 v37 v41 v45 v49 v53 v57 v61 v65 k0_t64).OK := fun i v5 v9 v13 v17 v21 v25 v29 v33 v37 v41 v45 v49 v53 v57 v61 v65 k0_hw1 k0_t64 => k0_hw1.2.2.2.2.2.2.2.2.2.2.2.2.2.2.2.2.2.2.2.2.2.2.2.2.2.2.2.2.2.2.2.2.2.2.2.2.2.2.2.2.2.2.2.2.2.2.2.2.2.1.2.2.2.2.2.1 k0_t64
theorem k0_off1531_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1531 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.1 k0_t64 k0_t66
theorem k0_off1532_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1532 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.1 k0_t64 k0_t66
theorem k0_off1533_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1533 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.1 k0_t64 k0_t66
theorem k0_off1534_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1534 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t64 k0_t66
theorem k0_off1535_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1535 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t64 k0_t66
theorem k0_off1536_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1536 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t64 k0_t66
theorem k0_off1537_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1537 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t64 k0_t66
theorem k0_off1538_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1538 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t64 k0_t66
theorem k0_off1539_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1539 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t64 k0_t66
theorem k0_off1540_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1540 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t64 k0_t66
theorem k0_off1541_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1541 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t64 k0_t66
theorem k0_off1542_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1542 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t64 k0_t66
theorem k0_off1543_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1543 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t64 k0_t66
theorem k0_off1544_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1544 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t64 k0_t66
theorem k0_off1545_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1545 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t64 k0_t66
theorem k0_off1546_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1546 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t64 k0_t66
theorem k0_off1547_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1547 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t64 k0_t66
theorem k0_off1548_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1548 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t64 k0_t66
theorem k0_off1549_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1549 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t64 k0_t66
theorem k0_off1550_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1550 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t64 k0_t66
theorem k0_off1551_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1551 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t64 k0_t66
theorem k0_off1552_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1552 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t64 k0_t66
theorem k0_off1553_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1553 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t64 k0_t66
theorem k0_off1554_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1554 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t64 k0_t66
theorem k0_off1555_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1555 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t64 k0_t66
theorem k0_off1556_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1556 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t64 k0_t66
theorem k0_off1557_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1557 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.2.1.1 k0_t64 k0_t66
theorem k0_off1558_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1558 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.2.1.2.1 k0_t64 k0_t66
theorem k0_off1559_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1559 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.2.1.2.2.1 k0_t64 k0_t66
theorem k0_off1560_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1560 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.2.1.2.2.2.1 k0_t64 k0_t66
theorem k0_off1561_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1561 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.2.1.2.2.2.2.1 k0_t64 k0_t66
theorem k0_off1562_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t64 : Fin (k0_t64_loop i v5 v9 v13 v17 v21 v25 v29 v33 v37 v41 v45 v49 v53 v57 v61 v65).trips) (k0_t66 : Fin (k0_t66_loop i v5 v9 v13 v17 v21 v25 v29 v33 v37 v41 v45 v49 v53 v57 v61 v65 k0_t64).trips), ∀ a, (k0_off1562 i v5 v9 v13 v17 v21 v25 v29 v33 v37 v41 v45 v49 v53 v57 v61 v65 k0_t64 k0_t66) a + S1x1x16.size a ≤ S96x1x512.size a := fun i v5 v9 v13 v17 v21 v25 v29 v33 v37 v41 v45 v49 v53 v57 v61 v65 k0_hw1 k0_t64 k0_t66 => k0_hw1.2.2.2.2.2.2.2.2.2.2.2.2.2.2.2.2.2.2.2.2.2.2.2.2.2.2.2.2.2.2.2.2.2.2.2.2.2.2.2.2.2.2.2.2.2.2.2.2.2.2.1.2.2.2.2.2.1 k0_t64 k0_t66
theorem k0_off1564_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h45 : k0_cond45 i v5 v9 v13 v17 v21 v25 v29 v33 v37 v41 v45 v49 v53 v57 v61 v65 = 1#1), ∀ a, (k0_off1564 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h45 => k0_hw1.2.2.2.2.2.2.2.2.2.2.2.2.2.2.2.2.2.2.2.2.2.2.2.2.2.2.2.2.2.2.2.2.2.2.2.2.2.2.2.2.2.2.2.2.2.2.2.2.2.2.1.2.2.2.2.2.2.1 k0_h45
theorem k0_off1566_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h46 : k0_cond46 i v5 v9 v13 v17 v21 v25 v29 v33 v37 v41 v45 v49 v53 v57 v61 v65 = 1#1), ∀ a, (k0_off1566 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h46 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.1 k0_h46
theorem k0_t67_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t67_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.1
theorem k0_off1567_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips), ∀ (k0_h47 : k0_cond47 i v5 v9 v13 v17 v21 v25 v29 v33 v37 v41 v45 v49 v53 v57 v61 v65 k0_t67 = 1#1), ∀ a, (k0_off1567 i v5 v9 v13 v17 v21 v25 v29 v33 v37 v41 v45 v49 v53 v57 v61 v65 k0_t67) a + S32x1x512.size a ≤ S96x1x512.size a := fun i v5 v9 v13 v17 v21 v25 v29 v33 v37 v41 v45 v49 v53 v57 v61 v65 k0_hw1 k0_t67 k0_h47 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t67 k0_h47
theorem k0_off1568_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips), ∀ (k0_h47 : k0_cond47 i v5 v9 v13 v17 v21 v25 v29 v33 v37 v41 v45 v49 v53 v57 v61 v65 k0_t67 = 1#1), ∀ a, (k0_off1568 i v5 v9 v13 v17 v21 v25 v29 v33 v37 v41 v45 v49 v53 v57 v61 v65 k0_t67) a + S32x1x512.size a ≤ S2048x16x512.size a := fun i v5 v9 v13 v17 v21 v25 v29 v33 v37 v41 v45 v49 v53 v57 v61 v65 k0_hw1 k0_t67 k0_h47 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t67 k0_h47
theorem k0_off1569_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips), ∀ (k0_h47 : k0_cond47 i v5 v9 v13 v17 v21 v25 v29 v33 v37 v41 v45 v49 v53 v57 v61 v65 k0_t67 = 1#1), ∀ a, (k0_off1569 i v5 v9 v13 v17 v21 v25 v29 v33 v37 v41 v45 v49 v53 v57 v61 v65 k0_t67) a + S1.size a ≤ S3.size a := fun i v5 v9 v13 v17 v21 v25 v29 v33 v37 v41 v45 v49 v53 v57 v61 v65 k0_hw1 k0_t67 k0_h47 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t67 k0_h47
theorem k0_off1570_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips), ∀ a, (k0_off1570 i v5 v9 v13 v17 v21 v25 v29 v33 v37 v41 v45 v49 v53 v57 v61 v65 k0_t67) a + S32x1x512.size a ≤ S96x1x512.size a := fun i v5 v9 v13 v17 v21 v25 v29 v33 v37 v41 v45 v49 v53 v57 v61 v65 k0_hw1 k0_t67 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t67
theorem k0_off1571_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips), ∀ a, (k0_off1571 i v5 v9 v13 v17 v21 v25 v29 v33 v37 v41 v45 v49 v53 v57 v61 v65 k0_t67) a + S1.size a ≤ S3.size a := fun i v5 v9 v13 v17 v21 v25 v29 v33 v37 v41 v45 v49 v53 v57 v61 v65 k0_hw1 k0_t67 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t67
theorem k0_t68_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips), (k0_t68_loop i v5 v9 v13 v17 v21 v25 v29 v33 v37 v41 v45 v49 v53 v57 v61 v65 k0_t67).OK := fun i v5 v9 v13 v17 v21 v25 v29 v33 v37 v41 v45 v49 v53 v57 v61 v65 k0_hw1 k0_t67 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t67
theorem k0_off1572_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1572 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t67 k0_t68
theorem k0_off1573_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1573 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t67 k0_t68
theorem k0_off1574_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1574 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t67 k0_t68
theorem k0_off1575_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1575 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t67 k0_t68
theorem k0_off1576_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1576 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t67 k0_t68
theorem k0_off1577_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1577 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t67 k0_t68
theorem k0_off1578_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1578 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t67 k0_t68
theorem k0_off1579_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1579 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t67 k0_t68
theorem k0_off1580_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1580 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t67 k0_t68
theorem k0_off1581_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1581 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t67 k0_t68
theorem k0_off1582_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1582 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t67 k0_t68
theorem k0_off1583_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1583 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t67 k0_t68
theorem k0_off1584_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1584 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t67 k0_t68
theorem k0_off1585_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1585 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t67 k0_t68
theorem k0_off1586_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1586 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t67 k0_t68
theorem k0_off1587_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1587 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t67 k0_t68
theorem k0_off1588_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1588 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t67 k0_t68
theorem k0_off1589_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1589 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.2.1.1 k0_t67 k0_t68
theorem k0_off1590_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1590 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.2.1.2.1 k0_t67 k0_t68
theorem k0_off1591_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1591 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.2.1.2.2.1 k0_t67 k0_t68
theorem k0_off1592_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1592 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.2.1.2.2.2.1 k0_t67 k0_t68
theorem k0_off1593_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1593 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.2.1.2.2.2.2.1 k0_t67 k0_t68
theorem k0_off1594_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1594 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.2.1.2.2.2.2.2.1 k0_t67 k0_t68
theorem k0_off1595_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1595 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.1 k0_t67 k0_t68
theorem k0_off1596_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1596 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t67 k0_t68
theorem k0_off1597_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1597 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t67 k0_t68
theorem k0_off1598_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1598 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t67 k0_t68
theorem k0_off1599_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1599 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t67 k0_t68
theorem k0_off1600_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1600 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t67 k0_t68
theorem k0_off1601_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1601 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t67 k0_t68
theorem k0_off1602_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1602 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t67 k0_t68
theorem k0_off1603_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t68 : Fin (k0_t68_loop i v5 v9 v13 v17 v21 v25 v29 v33 v37 v41 v45 v49 v53 v57 v61 v65 k0_t67).trips), ∀ a, (k0_off1603 i v5 v9 v13 v17 v21 v25 v29 v33 v37 v41 v45 v49 v53 v57 v61 v65 k0_t67 k0_t68) a + S1x1x16.size a ≤ S96x1x512.size a := fun i v5 v9 v13 v17 v21 v25 v29 v33 v37 v41 v45 v49 v53 v57 v61 v65 k0_hw1 k0_t67 k0_t68 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t67 k0_t68
theorem k0_t69_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips), (k0_t69_loop i v5 v9 v13 v17 v21 v25 v29 v33 v37 v41 v45 v49 v53 v57 v61 v65 k0_t67).OK := fun i v5 v9 v13 v17 v21 v25 v29 v33 v37 v41 v45 v49 v53 v57 v61 v65 k0_hw1 k0_t67 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t67
theorem k0_off1604_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1604 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t67 k0_t69
theorem k0_off1605_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1605 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t67 k0_t69
theorem k0_off1606_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1606 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t67 k0_t69
theorem k0_off1607_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1607 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t67 k0_t69
theorem k0_off1608_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1608 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t67 k0_t69
theorem k0_off1609_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1609 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t67 k0_t69
theorem k0_off1610_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1610 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t67 k0_t69
theorem k0_off1611_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1611 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t67 k0_t69
theorem k0_off1612_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1612 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t67 k0_t69
theorem k0_off1613_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1613 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t67 k0_t69
theorem k0_off1614_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1614 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t67 k0_t69
theorem k0_off1615_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1615 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t67 k0_t69
theorem k0_off1616_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1616 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t67 k0_t69
theorem k0_off1617_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1617 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t67 k0_t69
theorem k0_off1618_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1618 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t67 k0_t69
theorem k0_off1619_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1619 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t67 k0_t69
theorem k0_off1620_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1620 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.2.1.1 k0_t67 k0_t69
theorem k0_off1621_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1621 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.2.1.2.1 k0_t67 k0_t69
theorem k0_off1622_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1622 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.2.1.2.2.1 k0_t67 k0_t69
theorem k0_off1623_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1623 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.2.1.2.2.2.1 k0_t67 k0_t69
theorem k0_off1624_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1624 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.2.1.2.2.2.2.1 k0_t67 k0_t69
theorem k0_off1625_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1625 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.1 k0_t67 k0_t69
theorem k0_off1626_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1626 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t67 k0_t69
theorem k0_off1627_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1627 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t67 k0_t69
theorem k0_off1628_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1628 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t67 k0_t69
theorem k0_off1629_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1629 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t67 k0_t69
theorem k0_off1630_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1630 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t67 k0_t69
theorem k0_off1631_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1631 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t67 k0_t69
theorem k0_off1632_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1632 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t67 k0_t69
theorem k0_off1633_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1633 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t67 k0_t69
theorem k0_off1634_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1634 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t67 k0_t69
theorem k0_off1635_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t67 : Fin (k0_t67_loop i v5 v9 v13 v17 v21 v25 v29 v33 v37 v41 v45 v49 v53 v57 v61 v65).trips) (k0_t69 : Fin (k0_t69_loop i v5 v9 v13 v17 v21 v25 v29 v33 v37 v41 v45 v49 v53 v57 v61 v65 k0_t67).trips), ∀ a, (k0_off1635 i v5 v9 v13 v17 v21 v25 v29 v33 v37 v41 v45 v49 v53 v57 v61 v65 k0_t67 k0_t69) a + S1x1x16.size a ≤ S96x1x512.size a := fun i v5 v9 v13 v17 v21 v25 v29 v33 v37 v41 v45 v49 v53 v57 v61 v65 k0_hw1 k0_t67 k0_t69 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t67 k0_t69
theorem k0_t70_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t70_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1
theorem k0_off1636_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips), ∀ (k0_h48 : k0_cond48 i v5 v9 v13 v17 v21 v25 v29 v33 v37 v41 v45 v49 v53 v57 v61 v65 k0_t70 = 1#1), ∀ a, (k0_off1636 i v5 v9 v13 v17 v21 v25 v29 v33 v37 v41 v45 v49 v53 v57 v61 v65 k0_t70) a + S32x1x512.size a ≤ S96x1x512.size a := fun i v5 v9 v13 v17 v21 v25 v29 v33 v37 v41 v45 v49 v53 v57 v61 v65 k0_hw1 k0_t70 k0_h48 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t70 k0_h48
theorem k0_off1637_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips), ∀ (k0_h48 : k0_cond48 i v5 v9 v13 v17 v21 v25 v29 v33 v37 v41 v45 v49 v53 v57 v61 v65 k0_t70 = 1#1), ∀ a, (k0_off1637 i v5 v9 v13 v17 v21 v25 v29 v33 v37 v41 v45 v49 v53 v57 v61 v65 k0_t70) a + S32x1x512.size a ≤ S2048x16x512.size a := fun i v5 v9 v13 v17 v21 v25 v29 v33 v37 v41 v45 v49 v53 v57 v61 v65 k0_hw1 k0_t70 k0_h48 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t70 k0_h48
theorem k0_off1638_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips), ∀ (k0_h48 : k0_cond48 i v5 v9 v13 v17 v21 v25 v29 v33 v37 v41 v45 v49 v53 v57 v61 v65 k0_t70 = 1#1), ∀ a, (k0_off1638 i v5 v9 v13 v17 v21 v25 v29 v33 v37 v41 v45 v49 v53 v57 v61 v65 k0_t70) a + S1.size a ≤ S3.size a := fun i v5 v9 v13 v17 v21 v25 v29 v33 v37 v41 v45 v49 v53 v57 v61 v65 k0_hw1 k0_t70 k0_h48 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t70 k0_h48
theorem k0_off1639_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips), ∀ a, (k0_off1639 i v5 v9 v13 v17 v21 v25 v29 v33 v37 v41 v45 v49 v53 v57 v61 v65 k0_t70) a + S32x1x512.size a ≤ S96x1x512.size a := fun i v5 v9 v13 v17 v21 v25 v29 v33 v37 v41 v45 v49 v53 v57 v61 v65 k0_hw1 k0_t70 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t70
theorem k0_off1640_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips), ∀ a, (k0_off1640 i v5 v9 v13 v17 v21 v25 v29 v33 v37 v41 v45 v49 v53 v57 v61 v65 k0_t70) a + S1.size a ≤ S3.size a := fun i v5 v9 v13 v17 v21 v25 v29 v33 v37 v41 v45 v49 v53 v57 v61 v65 k0_hw1 k0_t70 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t70
theorem k0_t71_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips), (k0_t71_loop i v5 v9 v13 v17 v21 v25 v29 v33 v37 v41 v45 v49 v53 v57 v61 v65 k0_t70).OK := fun i v5 v9 v13 v17 v21 v25 v29 v33 v37 v41 v45 v49 v53 v57 v61 v65 k0_hw1 k0_t70 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t70
theorem k0_off1641_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1641 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t70 k0_t71
theorem k0_off1642_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1642 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t70 k0_t71
theorem k0_off1643_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1643 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t70 k0_t71
theorem k0_off1644_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1644 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t70 k0_t71
theorem k0_off1645_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1645 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t70 k0_t71
theorem k0_off1646_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1646 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t70 k0_t71
theorem k0_off1647_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1647 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t70 k0_t71
theorem k0_off1648_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1648 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t70 k0_t71
theorem k0_off1649_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1649 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t70 k0_t71
theorem k0_off1650_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1650 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.1 k0_t70 k0_t71
theorem k0_off1651_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1651 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.1 k0_t70 k0_t71
theorem k0_off1652_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1652 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.1 k0_t70 k0_t71
theorem k0_off1653_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1653 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.2.1 k0_t70 k0_t71
theorem k0_off1654_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1654 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.1 k0_t70 k0_t71
theorem k0_off1655_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1655 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t70 k0_t71
theorem k0_off1656_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1656 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t70 k0_t71
theorem k0_off1657_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1657 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t70 k0_t71
theorem k0_off1658_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1658 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t70 k0_t71
theorem k0_off1659_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1659 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t70 k0_t71
theorem k0_off1660_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1660 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t70 k0_t71
theorem k0_off1661_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1661 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t70 k0_t71
theorem k0_off1662_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1662 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t70 k0_t71
theorem k0_off1663_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1663 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t70 k0_t71
theorem k0_off1664_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1664 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t70 k0_t71
theorem k0_off1665_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1665 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t70 k0_t71
theorem k0_off1666_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1666 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t70 k0_t71
theorem k0_off1667_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1667 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t70 k0_t71
theorem k0_off1668_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1668 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t70 k0_t71
theorem k0_off1669_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1669 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t70 k0_t71
theorem k0_off1670_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1670 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t70 k0_t71
theorem k0_off1671_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1671 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t70 k0_t71
theorem k0_off1672_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t71 : Fin (k0_t71_loop i v5 v9 v13 v17 v21 v25 v29 v33 v37 v41 v45 v49 v53 v57 v61 v65 k0_t70).trips), ∀ a, (k0_off1672 i v5 v9 v13 v17 v21 v25 v29 v33 v37 v41 v45 v49 v53 v57 v61 v65 k0_t70 k0_t71) a + S1x1x16.size a ≤ S96x1x512.size a := fun i v5 v9 v13 v17 v21 v25 v29 v33 v37 v41 v45 v49 v53 v57 v61 v65 k0_hw1 k0_t70 k0_t71 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t70 k0_t71
theorem k0_t72_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips), (k0_t72_loop i v5 v9 v13 v17 v21 v25 v29 v33 v37 v41 v45 v49 v53 v57 v61 v65 k0_t70).OK := fun i v5 v9 v13 v17 v21 v25 v29 v33 v37 v41 v45 v49 v53 v57 v61 v65 k0_hw1 k0_t70 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t70
theorem k0_off1673_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1673 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t70 k0_t72
theorem k0_off1674_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1674 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t70 k0_t72
theorem k0_off1675_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1675 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t70 k0_t72
theorem k0_off1676_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1676 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t70 k0_t72
theorem k0_off1677_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1677 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t70 k0_t72
theorem k0_off1678_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1678 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t70 k0_t72
theorem k0_off1679_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1679 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t70 k0_t72
theorem k0_off1680_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1680 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t70 k0_t72
theorem k0_off1681_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1681 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.1 k0_t70 k0_t72
theorem k0_off1682_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1682 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.1 k0_t70 k0_t72
theorem k0_off1683_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1683 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.1 k0_t70 k0_t72
theorem k0_off1684_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1684 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.1 k0_t70 k0_t72
theorem k0_off1685_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1685 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t70 k0_t72
theorem k0_off1686_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1686 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t70 k0_t72
theorem k0_off1687_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1687 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t70 k0_t72
theorem k0_off1688_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1688 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t70 k0_t72
theorem k0_off1689_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1689 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t70 k0_t72
theorem k0_off1690_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1690 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t70 k0_t72
theorem k0_off1691_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1691 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t70 k0_t72
theorem k0_off1692_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1692 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t70 k0_t72
theorem k0_off1693_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1693 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t70 k0_t72
theorem k0_off1694_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1694 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t70 k0_t72
theorem k0_off1695_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1695 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t70 k0_t72
theorem k0_off1696_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1696 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t70 k0_t72
theorem k0_off1697_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1697 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t70 k0_t72
theorem k0_off1698_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1698 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t70 k0_t72
theorem k0_off1699_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1699 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t70 k0_t72
theorem k0_off1700_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1700 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t70 k0_t72
theorem k0_off1701_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1701 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t70 k0_t72
theorem k0_off1702_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1702 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t70 k0_t72
theorem k0_off1703_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1703 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t70 k0_t72
theorem k0_off1704_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t70 : Fin (k0_t70_loop i v5 v9 v13 v17 v21 v25 v29 v33 v37 v41 v45 v49 v53 v57 v61 v65).trips) (k0_t72 : Fin (k0_t72_loop i v5 v9 v13 v17 v21 v25 v29 v33 v37 v41 v45 v49 v53 v57 v61 v65 k0_t70).trips), ∀ a, (k0_off1704 i v5 v9 v13 v17 v21 v25 v29 v33 v37 v41 v45 v49 v53 v57 v61 v65 k0_t70 k0_t72) a + S1x1x16.size a ≤ S96x1x512.size a := fun i v5 v9 v13 v17 v21 v25 v29 v33 v37 v41 v45 v49 v53 v57 v61 v65 k0_hw1 k0_t70 k0_t72 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t70 k0_t72
theorem k0_off1706_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h49 : k0_cond49 i v5 v9 v13 v17 v21 v25 v29 v33 v37 v41 v45 v49 v53 v57 v61 v65 = 1#1), ∀ a, (k0_off1706 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h49 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_h49
theorem k0_off1708_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h50 : k0_cond50 i v5 v9 v13 v17 v21 v25 v29 v33 v37 v41 v45 v49 v53 v57 v61 v65 = 1#1), ∀ a, (k0_off1708 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h50 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_h50
theorem k0_t73_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t73_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1
theorem k0_off1709_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips), ∀ (k0_h51 : k0_cond51 i v5 v9 v13 v17 v21 v25 v29 v33 v37 v41 v45 v49 v53 v57 v61 v65 k0_t73 = 1#1), ∀ a, (k0_off1709 i v5 v9 v13 v17 v21 v25 v29 v33 v37 v41 v45 v49 v53 v57 v61 v65 k0_t73) a + S32x1x512.size a ≤ S96x1x512.size a := fun i v5 v9 v13 v17 v21 v25 v29 v33 v37 v41 v45 v49 v53 v57 v61 v65 k0_hw1 k0_t73 k0_h51 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t73 k0_h51
theorem k0_off1710_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips), ∀ (k0_h51 : k0_cond51 i v5 v9 v13 v17 v21 v25 v29 v33 v37 v41 v45 v49 v53 v57 v61 v65 k0_t73 = 1#1), ∀ a, (k0_off1710 i v5 v9 v13 v17 v21 v25 v29 v33 v37 v41 v45 v49 v53 v57 v61 v65 k0_t73) a + S32x1x512.size a ≤ S2048x16x512.size a := fun i v5 v9 v13 v17 v21 v25 v29 v33 v37 v41 v45 v49 v53 v57 v61 v65 k0_hw1 k0_t73 k0_h51 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t73 k0_h51
theorem k0_off1711_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips), ∀ (k0_h51 : k0_cond51 i v5 v9 v13 v17 v21 v25 v29 v33 v37 v41 v45 v49 v53 v57 v61 v65 k0_t73 = 1#1), ∀ a, (k0_off1711 i v5 v9 v13 v17 v21 v25 v29 v33 v37 v41 v45 v49 v53 v57 v61 v65 k0_t73) a + S1.size a ≤ S3.size a := fun i v5 v9 v13 v17 v21 v25 v29 v33 v37 v41 v45 v49 v53 v57 v61 v65 k0_hw1 k0_t73 k0_h51 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t73 k0_h51
theorem k0_off1712_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips), ∀ a, (k0_off1712 i v5 v9 v13 v17 v21 v25 v29 v33 v37 v41 v45 v49 v53 v57 v61 v65 k0_t73) a + S32x1x512.size a ≤ S96x1x512.size a := fun i v5 v9 v13 v17 v21 v25 v29 v33 v37 v41 v45 v49 v53 v57 v61 v65 k0_hw1 k0_t73 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t73
theorem k0_off1713_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips), ∀ a, (k0_off1713 i v5 v9 v13 v17 v21 v25 v29 v33 v37 v41 v45 v49 v53 v57 v61 v65 k0_t73) a + S1.size a ≤ S3.size a := fun i v5 v9 v13 v17 v21 v25 v29 v33 v37 v41 v45 v49 v53 v57 v61 v65 k0_hw1 k0_t73 => k0_hw1.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t73
theorem k0_t74_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips), (k0_t74_loop i v5 v9 v13 v17 v21 v25 v29 v33 v37 v41 v45 v49 v53 v57 v61 v65 k0_t73).OK := fun i v5 v9 v13 v17 v21 v25 v29 v33 v37 v41 v45 v49 v53 v57 v61 v65 k0_hw1 k0_t73 => k0_hw1.2.2.2.2.2.2.2.2.2.2.2.2.2.2.2.2.2.2.2.2.2.2.2.2.2.2.2.2.2.2.2.2.2.2.2.2.2.2.2.2.2.2.2.2.2.2.2.2.2.2.2.2.2.2.2.1.1 k0_t73
theorem k0_off1714_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1714 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.1 k0_t73 k0_t74
theorem k0_off1715_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1715 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.1 k0_t73 k0_t74
theorem k0_off1716_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1716 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t73 k0_t74
theorem k0_off1717_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1717 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t73 k0_t74
theorem k0_off1718_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1718 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t73 k0_t74
theorem k0_off1719_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1719 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t73 k0_t74
theorem k0_off1720_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1720 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t73 k0_t74
theorem k0_off1721_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1721 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t73 k0_t74
theorem k0_off1722_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1722 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t73 k0_t74
theorem k0_off1723_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1723 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t73 k0_t74
theorem k0_off1724_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1724 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t73 k0_t74
theorem k0_off1725_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1725 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t73 k0_t74
theorem k0_off1726_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1726 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t73 k0_t74
theorem k0_off1727_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1727 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t73 k0_t74
theorem k0_off1728_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1728 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t73 k0_t74
theorem k0_off1729_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1729 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t73 k0_t74
theorem k0_off1730_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1730 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t73 k0_t74
theorem k0_off1731_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1731 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t73 k0_t74
theorem k0_off1732_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1732 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t73 k0_t74
theorem k0_off1733_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1733 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t73 k0_t74
theorem k0_off1734_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1734 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t73 k0_t74
theorem k0_off1735_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1735 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t73 k0_t74
theorem k0_off1736_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1736 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t73 k0_t74
theorem k0_off1737_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1737 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t73 k0_t74
theorem k0_off1738_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1738 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t73 k0_t74
theorem k0_off1739_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1739 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t73 k0_t74
theorem k0_off1740_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1740 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t73 k0_t74
theorem k0_off1741_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1741 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t73 k0_t74
theorem k0_off1742_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1742 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t73 k0_t74
theorem k0_off1743_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1743 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t73 k0_t74
theorem k0_off1744_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1744 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t73 k0_t74
theorem k0_off1745_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t74 : Fin (k0_t74_loop i v5 v9 v13 v17 v21 v25 v29 v33 v37 v41 v45 v49 v53 v57 v61 v65 k0_t73).trips), ∀ a, (k0_off1745 i v5 v9 v13 v17 v21 v25 v29 v33 v37 v41 v45 v49 v53 v57 v61 v65 k0_t73 k0_t74) a + S1x1x16.size a ≤ S96x1x512.size a := fun i v5 v9 v13 v17 v21 v25 v29 v33 v37 v41 v45 v49 v53 v57 v61 v65 k0_hw1 k0_t73 k0_t74 => k0_hw1.2.2.2.2.2.2.2.2.2.2.2.2.2.2.2.2.2.2.2.2.2.2.2.2.2.2.2.2.2.2.2.2.2.2.2.2.2.2.2.2.2.2.2.2.2.2.2.2.2.2.2.2.2.2.2.2.1.1 k0_t73 k0_t74
theorem k0_t75_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips), (k0_t75_loop i v5 v9 v13 v17 v21 v25 v29 v33 v37 v41 v45 v49 v53 v57 v61 v65 k0_t73).OK := fun i v5 v9 v13 v17 v21 v25 v29 v33 v37 v41 v45 v49 v53 v57 v61 v65 k0_hw1 k0_t73 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.1 k0_t73
theorem k0_off1746_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1746 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t73 k0_t75
theorem k0_off1747_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1747 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t73 k0_t75
theorem k0_off1748_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1748 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t73 k0_t75
theorem k0_off1749_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1749 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t73 k0_t75
theorem k0_off1750_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1750 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t73 k0_t75
theorem k0_off1751_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1751 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t73 k0_t75
theorem k0_off1752_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1752 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t73 k0_t75
theorem k0_off1753_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1753 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t73 k0_t75
theorem k0_off1754_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1754 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t73 k0_t75
theorem k0_off1755_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1755 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t73 k0_t75
theorem k0_off1756_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1756 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t73 k0_t75
theorem k0_off1757_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1757 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t73 k0_t75
theorem k0_off1758_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1758 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t73 k0_t75
theorem k0_off1759_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1759 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t73 k0_t75
theorem k0_off1760_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1760 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t73 k0_t75
theorem k0_off1761_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1761 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t73 k0_t75
theorem k0_off1762_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1762 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t73 k0_t75
theorem k0_off1763_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1763 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t73 k0_t75
theorem k0_off1764_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1764 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t73 k0_t75
theorem k0_off1765_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1765 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t73 k0_t75
theorem k0_off1766_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1766 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t73 k0_t75
theorem k0_off1767_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1767 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t73 k0_t75
theorem k0_off1768_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1768 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t73 k0_t75
theorem k0_off1769_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1769 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t73 k0_t75
theorem k0_off1770_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1770 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t73 k0_t75
theorem k0_off1771_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1771 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t73 k0_t75
theorem k0_off1772_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1772 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t73 k0_t75
theorem k0_off1773_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1773 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t73 k0_t75
theorem k0_off1774_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1774 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t73 k0_t75
theorem k0_off1775_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1775 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t73 k0_t75
theorem k0_off1776_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1776 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.1 k0_t73 k0_t75
theorem k0_off1777_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t73 : Fin (k0_t73_loop i v5 v9 v13 v17 v21 v25 v29 v33 v37 v41 v45 v49 v53 v57 v61 v65).trips) (k0_t75 : Fin (k0_t75_loop i v5 v9 v13 v17 v21 v25 v29 v33 v37 v41 v45 v49 v53 v57 v61 v65 k0_t73).trips), ∀ a, (k0_off1777 i v5 v9 v13 v17 v21 v25 v29 v33 v37 v41 v45 v49 v53 v57 v61 v65 k0_t73 k0_t75) a + S1x1x16.size a ≤ S96x1x512.size a := fun i v5 v9 v13 v17 v21 v25 v29 v33 v37 v41 v45 v49 v53 v57 v61 v65 k0_hw1 k0_t73 k0_t75 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t73 k0_t75
theorem k0_t76_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t76_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.1
theorem k0_off1778_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips), ∀ (k0_h52 : k0_cond52 i v5 v9 v13 v17 v21 v25 v29 v33 v37 v41 v45 v49 v53 v57 v61 v65 k0_t76 = 1#1), ∀ a, (k0_off1778 i v5 v9 v13 v17 v21 v25 v29 v33 v37 v41 v45 v49 v53 v57 v61 v65 k0_t76) a + S32x1x512.size a ≤ S96x1x512.size a := fun i v5 v9 v13 v17 v21 v25 v29 v33 v37 v41 v45 v49 v53 v57 v61 v65 k0_hw1 k0_t76 k0_h52 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t76 k0_h52
theorem k0_off1779_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips), ∀ (k0_h52 : k0_cond52 i v5 v9 v13 v17 v21 v25 v29 v33 v37 v41 v45 v49 v53 v57 v61 v65 k0_t76 = 1#1), ∀ a, (k0_off1779 i v5 v9 v13 v17 v21 v25 v29 v33 v37 v41 v45 v49 v53 v57 v61 v65 k0_t76) a + S32x1x512.size a ≤ S2048x16x512.size a := fun i v5 v9 v13 v17 v21 v25 v29 v33 v37 v41 v45 v49 v53 v57 v61 v65 k0_hw1 k0_t76 k0_h52 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t76 k0_h52
theorem k0_off1780_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips), ∀ (k0_h52 : k0_cond52 i v5 v9 v13 v17 v21 v25 v29 v33 v37 v41 v45 v49 v53 v57 v61 v65 k0_t76 = 1#1), ∀ a, (k0_off1780 i v5 v9 v13 v17 v21 v25 v29 v33 v37 v41 v45 v49 v53 v57 v61 v65 k0_t76) a + S1.size a ≤ S3.size a := fun i v5 v9 v13 v17 v21 v25 v29 v33 v37 v41 v45 v49 v53 v57 v61 v65 k0_hw1 k0_t76 k0_h52 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t76 k0_h52
theorem k0_off1781_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips), ∀ a, (k0_off1781 i v5 v9 v13 v17 v21 v25 v29 v33 v37 v41 v45 v49 v53 v57 v61 v65 k0_t76) a + S32x1x512.size a ≤ S96x1x512.size a := fun i v5 v9 v13 v17 v21 v25 v29 v33 v37 v41 v45 v49 v53 v57 v61 v65 k0_hw1 k0_t76 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t76
theorem k0_off1782_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips), ∀ a, (k0_off1782 i v5 v9 v13 v17 v21 v25 v29 v33 v37 v41 v45 v49 v53 v57 v61 v65 k0_t76) a + S1.size a ≤ S3.size a := fun i v5 v9 v13 v17 v21 v25 v29 v33 v37 v41 v45 v49 v53 v57 v61 v65 k0_hw1 k0_t76 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t76
theorem k0_t77_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips), (k0_t77_loop i v5 v9 v13 v17 v21 v25 v29 v33 v37 v41 v45 v49 v53 v57 v61 v65 k0_t76).OK := fun i v5 v9 v13 v17 v21 v25 v29 v33 v37 v41 v45 v49 v53 v57 v61 v65 k0_hw1 k0_t76 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t76
theorem k0_off1783_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1783 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t76 k0_t77
theorem k0_off1784_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1784 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t76 k0_t77
theorem k0_off1785_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1785 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t76 k0_t77
theorem k0_off1786_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1786 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t76 k0_t77
theorem k0_off1787_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1787 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t76 k0_t77
theorem k0_off1788_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1788 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t76 k0_t77
theorem k0_off1789_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1789 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t76 k0_t77
theorem k0_off1790_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1790 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t76 k0_t77
theorem k0_off1791_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1791 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t76 k0_t77
theorem k0_off1792_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1792 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t76 k0_t77
theorem k0_off1793_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1793 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t76 k0_t77
theorem k0_off1794_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1794 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t76 k0_t77
theorem k0_off1795_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1795 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t76 k0_t77
theorem k0_off1796_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1796 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t76 k0_t77
theorem k0_off1797_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1797 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t76 k0_t77
theorem k0_off1798_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1798 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t76 k0_t77
theorem k0_off1799_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1799 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t76 k0_t77
theorem k0_off1800_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1800 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t76 k0_t77
theorem k0_off1801_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1801 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t76 k0_t77
theorem k0_off1802_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1802 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t76 k0_t77
theorem k0_off1803_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1803 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t76 k0_t77
theorem k0_off1804_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1804 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t76 k0_t77
theorem k0_off1805_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1805 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t76 k0_t77
theorem k0_off1806_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1806 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.1 k0_t76 k0_t77
theorem k0_off1807_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1807 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t76 k0_t77
theorem k0_off1808_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1808 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t76 k0_t77
theorem k0_off1809_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1809 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t76 k0_t77
theorem k0_off1810_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1810 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t76 k0_t77
theorem k0_off1811_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1811 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t76 k0_t77
theorem k0_off1812_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1812 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t76 k0_t77
theorem k0_off1813_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1813 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t76 k0_t77
theorem k0_off1814_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t77 : Fin (k0_t77_loop i v5 v9 v13 v17 v21 v25 v29 v33 v37 v41 v45 v49 v53 v57 v61 v65 k0_t76).trips), ∀ a, (k0_off1814 i v5 v9 v13 v17 v21 v25 v29 v33 v37 v41 v45 v49 v53 v57 v61 v65 k0_t76 k0_t77) a + S1x1x16.size a ≤ S96x1x512.size a := fun i v5 v9 v13 v17 v21 v25 v29 v33 v37 v41 v45 v49 v53 v57 v61 v65 k0_hw1 k0_t76 k0_t77 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t76 k0_t77
theorem k0_t78_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips), (k0_t78_loop i v5 v9 v13 v17 v21 v25 v29 v33 v37 v41 v45 v49 v53 v57 v61 v65 k0_t76).OK := fun i v5 v9 v13 v17 v21 v25 v29 v33 v37 v41 v45 v49 v53 v57 v61 v65 k0_hw1 k0_t76 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t76
theorem k0_off1815_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1815 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t76 k0_t78
theorem k0_off1816_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1816 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t76 k0_t78
theorem k0_off1817_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1817 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t76 k0_t78
theorem k0_off1818_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1818 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t76 k0_t78
theorem k0_off1819_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1819 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t76 k0_t78
theorem k0_off1820_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1820 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t76 k0_t78
theorem k0_off1821_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1821 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t76 k0_t78
theorem k0_off1822_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1822 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t76 k0_t78
theorem k0_off1823_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1823 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t76 k0_t78
theorem k0_off1824_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1824 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t76 k0_t78
theorem k0_off1825_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1825 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t76 k0_t78
theorem k0_off1826_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1826 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t76 k0_t78
theorem k0_off1827_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1827 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t76 k0_t78
theorem k0_off1828_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1828 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t76 k0_t78
theorem k0_off1829_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1829 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t76 k0_t78
theorem k0_off1830_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1830 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t76 k0_t78
theorem k0_off1831_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1831 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t76 k0_t78
theorem k0_off1832_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1832 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t76 k0_t78
theorem k0_off1833_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1833 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t76 k0_t78
theorem k0_off1834_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1834 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t76 k0_t78
theorem k0_off1835_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1835 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t76 k0_t78
theorem k0_off1836_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1836 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t76 k0_t78
theorem k0_off1837_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1837 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.1 k0_t76 k0_t78
theorem k0_off1838_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1838 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t76 k0_t78
theorem k0_off1839_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1839 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t76 k0_t78
theorem k0_off1840_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1840 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t76 k0_t78
theorem k0_off1841_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1841 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t76 k0_t78
theorem k0_off1842_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1842 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t76 k0_t78
theorem k0_off1843_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1843 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t76 k0_t78
theorem k0_off1844_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1844 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t76 k0_t78
theorem k0_off1845_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1845 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t76 k0_t78
theorem k0_off1846_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t76 : Fin (k0_t76_loop i v5 v9 v13 v17 v21 v25 v29 v33 v37 v41 v45 v49 v53 v57 v61 v65).trips) (k0_t78 : Fin (k0_t78_loop i v5 v9 v13 v17 v21 v25 v29 v33 v37 v41 v45 v49 v53 v57 v61 v65 k0_t76).trips), ∀ a, (k0_off1846 i v5 v9 v13 v17 v21 v25 v29 v33 v37 v41 v45 v49 v53 v57 v61 v65 k0_t76 k0_t78) a + S1x1x16.size a ≤ S96x1x512.size a := fun i v5 v9 v13 v17 v21 v25 v29 v33 v37 v41 v45 v49 v53 v57 v61 v65 k0_hw1 k0_t76 k0_t78 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t76 k0_t78
theorem k0_off1848_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h53 : k0_cond53 i v5 v9 v13 v17 v21 v25 v29 v33 v37 v41 v45 v49 v53 v57 v61 v65 = 1#1), ∀ a, (k0_off1848 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h53 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_h53
theorem k0_off1850_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h54 : k0_cond54 i v5 v9 v13 v17 v21 v25 v29 v33 v37 v41 v45 v49 v53 v57 v61 v65 = 1#1), ∀ a, (k0_off1850 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h54 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_h54
theorem k0_t79_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t79_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1
theorem k0_off1851_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips), ∀ (k0_h55 : k0_cond55 i v5 v9 v13 v17 v21 v25 v29 v33 v37 v41 v45 v49 v53 v57 v61 v65 k0_t79 = 1#1), ∀ a, (k0_off1851 i v5 v9 v13 v17 v21 v25 v29 v33 v37 v41 v45 v49 v53 v57 v61 v65 k0_t79) a + S32x1x512.size a ≤ S96x1x512.size a := fun i v5 v9 v13 v17 v21 v25 v29 v33 v37 v41 v45 v49 v53 v57 v61 v65 k0_hw1 k0_t79 k0_h55 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t79 k0_h55
theorem k0_off1852_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips), ∀ (k0_h55 : k0_cond55 i v5 v9 v13 v17 v21 v25 v29 v33 v37 v41 v45 v49 v53 v57 v61 v65 k0_t79 = 1#1), ∀ a, (k0_off1852 i v5 v9 v13 v17 v21 v25 v29 v33 v37 v41 v45 v49 v53 v57 v61 v65 k0_t79) a + S32x1x512.size a ≤ S2048x16x512.size a := fun i v5 v9 v13 v17 v21 v25 v29 v33 v37 v41 v45 v49 v53 v57 v61 v65 k0_hw1 k0_t79 k0_h55 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t79 k0_h55
theorem k0_off1853_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips), ∀ (k0_h55 : k0_cond55 i v5 v9 v13 v17 v21 v25 v29 v33 v37 v41 v45 v49 v53 v57 v61 v65 k0_t79 = 1#1), ∀ a, (k0_off1853 i v5 v9 v13 v17 v21 v25 v29 v33 v37 v41 v45 v49 v53 v57 v61 v65 k0_t79) a + S1.size a ≤ S3.size a := fun i v5 v9 v13 v17 v21 v25 v29 v33 v37 v41 v45 v49 v53 v57 v61 v65 k0_hw1 k0_t79 k0_h55 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t79 k0_h55
theorem k0_off1854_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips), ∀ a, (k0_off1854 i v5 v9 v13 v17 v21 v25 v29 v33 v37 v41 v45 v49 v53 v57 v61 v65 k0_t79) a + S32x1x512.size a ≤ S96x1x512.size a := fun i v5 v9 v13 v17 v21 v25 v29 v33 v37 v41 v45 v49 v53 v57 v61 v65 k0_hw1 k0_t79 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t79
theorem k0_off1855_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips), ∀ a, (k0_off1855 i v5 v9 v13 v17 v21 v25 v29 v33 v37 v41 v45 v49 v53 v57 v61 v65 k0_t79) a + S1.size a ≤ S3.size a := fun i v5 v9 v13 v17 v21 v25 v29 v33 v37 v41 v45 v49 v53 v57 v61 v65 k0_hw1 k0_t79 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t79
theorem k0_t80_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips), (k0_t80_loop i v5 v9 v13 v17 v21 v25 v29 v33 v37 v41 v45 v49 v53 v57 v61 v65 k0_t79).OK := fun i v5 v9 v13 v17 v21 v25 v29 v33 v37 v41 v45 v49 v53 v57 v61 v65 k0_hw1 k0_t79 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t79
theorem k0_off1856_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1856 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t79 k0_t80
theorem k0_off1857_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1857 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t79 k0_t80
theorem k0_off1858_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1858 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t79 k0_t80
theorem k0_off1859_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1859 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t79 k0_t80
theorem k0_off1860_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1860 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t79 k0_t80
theorem k0_off1861_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1861 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t79 k0_t80
theorem k0_off1862_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1862 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t79 k0_t80
theorem k0_off1863_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1863 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t79 k0_t80
theorem k0_off1864_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1864 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t79 k0_t80
theorem k0_off1865_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1865 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t79 k0_t80
theorem k0_off1866_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1866 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t79 k0_t80
theorem k0_off1867_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1867 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t79 k0_t80
theorem k0_off1868_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1868 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t79 k0_t80
theorem k0_off1869_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1869 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.1 k0_t79 k0_t80
theorem k0_off1870_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1870 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t79 k0_t80
theorem k0_off1871_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1871 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t79 k0_t80
theorem k0_off1872_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1872 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t79 k0_t80
theorem k0_off1873_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1873 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t79 k0_t80
theorem k0_off1874_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1874 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t79 k0_t80
theorem k0_off1875_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1875 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t79 k0_t80
theorem k0_off1876_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1876 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t79 k0_t80
theorem k0_off1877_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1877 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t79 k0_t80
theorem k0_off1878_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1878 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t79 k0_t80
theorem k0_off1879_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1879 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t79 k0_t80
theorem k0_off1880_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1880 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t79 k0_t80
theorem k0_off1881_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1881 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t79 k0_t80
theorem k0_off1882_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1882 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t79 k0_t80
theorem k0_off1883_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1883 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t79 k0_t80
theorem k0_off1884_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1884 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t79 k0_t80
theorem k0_off1885_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1885 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t79 k0_t80
theorem k0_off1886_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1886 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t79 k0_t80
theorem k0_off1887_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t80 : Fin (k0_t80_loop i v5 v9 v13 v17 v21 v25 v29 v33 v37 v41 v45 v49 v53 v57 v61 v65 k0_t79).trips), ∀ a, (k0_off1887 i v5 v9 v13 v17 v21 v25 v29 v33 v37 v41 v45 v49 v53 v57 v61 v65 k0_t79 k0_t80) a + S1x1x16.size a ≤ S96x1x512.size a := fun i v5 v9 v13 v17 v21 v25 v29 v33 v37 v41 v45 v49 v53 v57 v61 v65 k0_hw1 k0_t79 k0_t80 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t79 k0_t80
theorem k0_t81_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips), (k0_t81_loop i v5 v9 v13 v17 v21 v25 v29 v33 v37 v41 v45 v49 v53 v57 v61 v65 k0_t79).OK := fun i v5 v9 v13 v17 v21 v25 v29 v33 v37 v41 v45 v49 v53 v57 v61 v65 k0_hw1 k0_t79 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t79
theorem k0_off1888_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1888 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t79 k0_t81
theorem k0_off1889_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1889 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t79 k0_t81
theorem k0_off1890_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1890 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t79 k0_t81
theorem k0_off1891_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1891 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t79 k0_t81
theorem k0_off1892_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1892 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t79 k0_t81
theorem k0_off1893_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1893 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t79 k0_t81
theorem k0_off1894_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1894 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t79 k0_t81
theorem k0_off1895_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1895 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t79 k0_t81
theorem k0_off1896_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1896 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t79 k0_t81
theorem k0_off1897_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1897 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t79 k0_t81
theorem k0_off1898_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1898 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t79 k0_t81
theorem k0_off1899_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1899 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t79 k0_t81
theorem k0_off1900_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1900 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.1 k0_t79 k0_t81
theorem k0_off1901_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1901 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t79 k0_t81
theorem k0_off1902_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1902 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t79 k0_t81
theorem k0_off1903_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1903 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t79 k0_t81
theorem k0_off1904_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1904 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t79 k0_t81
theorem k0_off1905_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1905 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t79 k0_t81
theorem k0_off1906_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1906 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t79 k0_t81
theorem k0_off1907_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1907 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t79 k0_t81
theorem k0_off1908_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1908 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t79 k0_t81
theorem k0_off1909_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1909 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t79 k0_t81
theorem k0_off1910_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1910 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t79 k0_t81
theorem k0_off1911_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1911 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t79 k0_t81
theorem k0_off1912_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1912 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t79 k0_t81
theorem k0_off1913_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1913 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t79 k0_t81
theorem k0_off1914_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1914 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t79 k0_t81
theorem k0_off1915_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1915 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t79 k0_t81
theorem k0_off1916_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1916 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t79 k0_t81
theorem k0_off1917_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1917 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t79 k0_t81
theorem k0_off1918_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1918 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t79 k0_t81
theorem k0_off1919_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t79 : Fin (k0_t79_loop i v5 v9 v13 v17 v21 v25 v29 v33 v37 v41 v45 v49 v53 v57 v61 v65).trips) (k0_t81 : Fin (k0_t81_loop i v5 v9 v13 v17 v21 v25 v29 v33 v37 v41 v45 v49 v53 v57 v61 v65 k0_t79).trips), ∀ a, (k0_off1919 i v5 v9 v13 v17 v21 v25 v29 v33 v37 v41 v45 v49 v53 v57 v61 v65 k0_t79 k0_t81) a + S1x1x16.size a ≤ S96x1x512.size a := fun i v5 v9 v13 v17 v21 v25 v29 v33 v37 v41 v45 v49 v53 v57 v61 v65 k0_hw1 k0_t79 k0_t81 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t79 k0_t81
theorem k0_t82_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t82_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1
theorem k0_off1920_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips), ∀ (k0_h56 : k0_cond56 i v5 v9 v13 v17 v21 v25 v29 v33 v37 v41 v45 v49 v53 v57 v61 v65 k0_t82 = 1#1), ∀ a, (k0_off1920 i v5 v9 v13 v17 v21 v25 v29 v33 v37 v41 v45 v49 v53 v57 v61 v65 k0_t82) a + S32x1x512.size a ≤ S96x1x512.size a := fun i v5 v9 v13 v17 v21 v25 v29 v33 v37 v41 v45 v49 v53 v57 v61 v65 k0_hw1 k0_t82 k0_h56 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t82 k0_h56
theorem k0_off1921_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips), ∀ (k0_h56 : k0_cond56 i v5 v9 v13 v17 v21 v25 v29 v33 v37 v41 v45 v49 v53 v57 v61 v65 k0_t82 = 1#1), ∀ a, (k0_off1921 i v5 v9 v13 v17 v21 v25 v29 v33 v37 v41 v45 v49 v53 v57 v61 v65 k0_t82) a + S32x1x512.size a ≤ S2048x16x512.size a := fun i v5 v9 v13 v17 v21 v25 v29 v33 v37 v41 v45 v49 v53 v57 v61 v65 k0_hw1 k0_t82 k0_h56 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t82 k0_h56
theorem k0_off1922_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips), ∀ (k0_h56 : k0_cond56 i v5 v9 v13 v17 v21 v25 v29 v33 v37 v41 v45 v49 v53 v57 v61 v65 k0_t82 = 1#1), ∀ a, (k0_off1922 i v5 v9 v13 v17 v21 v25 v29 v33 v37 v41 v45 v49 v53 v57 v61 v65 k0_t82) a + S1.size a ≤ S3.size a := fun i v5 v9 v13 v17 v21 v25 v29 v33 v37 v41 v45 v49 v53 v57 v61 v65 k0_hw1 k0_t82 k0_h56 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t82 k0_h56
theorem k0_off1923_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips), ∀ a, (k0_off1923 i v5 v9 v13 v17 v21 v25 v29 v33 v37 v41 v45 v49 v53 v57 v61 v65 k0_t82) a + S32x1x512.size a ≤ S96x1x512.size a := fun i v5 v9 v13 v17 v21 v25 v29 v33 v37 v41 v45 v49 v53 v57 v61 v65 k0_hw1 k0_t82 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t82
theorem k0_off1924_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips), ∀ a, (k0_off1924 i v5 v9 v13 v17 v21 v25 v29 v33 v37 v41 v45 v49 v53 v57 v61 v65 k0_t82) a + S1.size a ≤ S3.size a := fun i v5 v9 v13 v17 v21 v25 v29 v33 v37 v41 v45 v49 v53 v57 v61 v65 k0_hw1 k0_t82 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t82
theorem k0_t83_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips), (k0_t83_loop i v5 v9 v13 v17 v21 v25 v29 v33 v37 v41 v45 v49 v53 v57 v61 v65 k0_t82).OK := fun i v5 v9 v13 v17 v21 v25 v29 v33 v37 v41 v45 v49 v53 v57 v61 v65 k0_hw1 k0_t82 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t82
theorem k0_off1925_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1925 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t82 k0_t83
theorem k0_off1926_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1926 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t82 k0_t83
theorem k0_off1927_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1927 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t82 k0_t83
theorem k0_off1928_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1928 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t82 k0_t83
theorem k0_off1929_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1929 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t82 k0_t83
theorem k0_off1930_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1930 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.1 k0_t82 k0_t83
theorem k0_off1931_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1931 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t82 k0_t83
theorem k0_off1932_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1932 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t82 k0_t83
theorem k0_off1933_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1933 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t82 k0_t83
theorem k0_off1934_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1934 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t82 k0_t83
theorem k0_off1935_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1935 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t82 k0_t83
theorem k0_off1936_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1936 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t82 k0_t83
theorem k0_off1937_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1937 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t82 k0_t83
theorem k0_off1938_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1938 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t82 k0_t83
theorem k0_off1939_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1939 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t82 k0_t83
theorem k0_off1940_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1940 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t82 k0_t83
theorem k0_off1941_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1941 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t82 k0_t83
theorem k0_off1942_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1942 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t82 k0_t83
theorem k0_off1943_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1943 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t82 k0_t83
theorem k0_off1944_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1944 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t82 k0_t83
theorem k0_off1945_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1945 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t82 k0_t83
theorem k0_off1946_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1946 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t82 k0_t83
theorem k0_off1947_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1947 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t82 k0_t83
theorem k0_off1948_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1948 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t82 k0_t83
theorem k0_off1949_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1949 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t82 k0_t83
theorem k0_off1950_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1950 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t82 k0_t83
theorem k0_off1951_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1951 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t82 k0_t83
theorem k0_off1952_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1952 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t82 k0_t83
theorem k0_off1953_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1953 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t82 k0_t83
theorem k0_off1954_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1954 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t82 k0_t83
theorem k0_off1955_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1955 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t82 k0_t83
theorem k0_off1956_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t83 : Fin (k0_t83_loop i v5 v9 v13 v17 v21 v25 v29 v33 v37 v41 v45 v49 v53 v57 v61 v65 k0_t82).trips), ∀ a, (k0_off1956 i v5 v9 v13 v17 v21 v25 v29 v33 v37 v41 v45 v49 v53 v57 v61 v65 k0_t82 k0_t83) a + S1x1x16.size a ≤ S96x1x512.size a := fun i v5 v9 v13 v17 v21 v25 v29 v33 v37 v41 v45 v49 v53 v57 v61 v65 k0_hw1 k0_t82 k0_t83 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t82 k0_t83
theorem k0_t84_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips), (k0_t84_loop i v5 v9 v13 v17 v21 v25 v29 v33 v37 v41 v45 v49 v53 v57 v61 v65 k0_t82).OK := fun i v5 v9 v13 v17 v21 v25 v29 v33 v37 v41 v45 v49 v53 v57 v61 v65 k0_hw1 k0_t82 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t82
theorem k0_off1957_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1957 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t82 k0_t84
theorem k0_off1958_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1958 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t82 k0_t84
theorem k0_off1959_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1959 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t82 k0_t84
theorem k0_off1960_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1960 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t82 k0_t84
theorem k0_off1961_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1961 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.1 k0_t82 k0_t84
theorem k0_off1962_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1962 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t82 k0_t84
theorem k0_off1963_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1963 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t82 k0_t84
theorem k0_off1964_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1964 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t82 k0_t84
theorem k0_off1965_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1965 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t82 k0_t84
theorem k0_off1966_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1966 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t82 k0_t84
theorem k0_off1967_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1967 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t82 k0_t84
theorem k0_off1968_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1968 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t82 k0_t84
theorem k0_off1969_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1969 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t82 k0_t84
theorem k0_off1970_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1970 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t82 k0_t84
theorem k0_off1971_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1971 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t82 k0_t84
theorem k0_off1972_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1972 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t82 k0_t84
theorem k0_off1973_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1973 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t82 k0_t84
theorem k0_off1974_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1974 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t82 k0_t84
theorem k0_off1975_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1975 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t82 k0_t84
theorem k0_off1976_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1976 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t82 k0_t84
theorem k0_off1977_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1977 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t82 k0_t84
theorem k0_off1978_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1978 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t82 k0_t84
theorem k0_off1979_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1979 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t82 k0_t84
theorem k0_off1980_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1980 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t82 k0_t84
theorem k0_off1981_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1981 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t82 k0_t84
theorem k0_off1982_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1982 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t82 k0_t84
theorem k0_off1983_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1983 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t82 k0_t84
theorem k0_off1984_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1984 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t82 k0_t84
theorem k0_off1985_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1985 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t82 k0_t84
theorem k0_off1986_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1986 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t82 k0_t84
theorem k0_off1987_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1987 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t82 k0_t84
theorem k0_off1988_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t82 : Fin (k0_t82_loop i v5 v9 v13 v17 v21 v25 v29 v33 v37 v41 v45 v49 v53 v57 v61 v65).trips) (k0_t84 : Fin (k0_t84_loop i v5 v9 v13 v17 v21 v25 v29 v33 v37 v41 v45 v49 v53 v57 v61 v65 k0_t82).trips), ∀ a, (k0_off1988 i v5 v9 v13 v17 v21 v25 v29 v33 v37 v41 v45 v49 v53 v57 v61 v65 k0_t82 k0_t84) a + S1x1x16.size a ≤ S96x1x512.size a := fun i v5 v9 v13 v17 v21 v25 v29 v33 v37 v41 v45 v49 v53 v57 v61 v65 k0_hw1 k0_t82 k0_t84 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t82 k0_t84
theorem k0_off1990_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h57 : k0_cond57 i v5 v9 v13 v17 v21 v25 v29 v33 v37 v41 v45 v49 v53 v57 v61 v65 = 1#1), ∀ a, (k0_off1990 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h57 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_h57
theorem k0_off1992_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h58 : k0_cond58 i v5 v9 v13 v17 v21 v25 v29 v33 v37 v41 v45 v49 v53 v57 v61 v65 = 1#1), ∀ a, (k0_off1992 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h58 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_h58
theorem k0_t85_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t85_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1
theorem k0_off1993_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips), ∀ (k0_h59 : k0_cond59 i v5 v9 v13 v17 v21 v25 v29 v33 v37 v41 v45 v49 v53 v57 v61 v65 k0_t85 = 1#1), ∀ a, (k0_off1993 i v5 v9 v13 v17 v21 v25 v29 v33 v37 v41 v45 v49 v53 v57 v61 v65 k0_t85) a + S32x1x512.size a ≤ S96x1x512.size a := fun i v5 v9 v13 v17 v21 v25 v29 v33 v37 v41 v45 v49 v53 v57 v61 v65 k0_hw1 k0_t85 k0_h59 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t85 k0_h59
theorem k0_off1994_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips), ∀ (k0_h59 : k0_cond59 i v5 v9 v13 v17 v21 v25 v29 v33 v37 v41 v45 v49 v53 v57 v61 v65 k0_t85 = 1#1), ∀ a, (k0_off1994 i v5 v9 v13 v17 v21 v25 v29 v33 v37 v41 v45 v49 v53 v57 v61 v65 k0_t85) a + S32x1x512.size a ≤ S2048x16x512.size a := fun i v5 v9 v13 v17 v21 v25 v29 v33 v37 v41 v45 v49 v53 v57 v61 v65 k0_hw1 k0_t85 k0_h59 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.1 k0_t85 k0_h59
theorem k0_off1995_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips), ∀ (k0_h59 : k0_cond59 i v5 v9 v13 v17 v21 v25 v29 v33 v37 v41 v45 v49 v53 v57 v61 v65 k0_t85 = 1#1), ∀ a, (k0_off1995 i v5 v9 v13 v17 v21 v25 v29 v33 v37 v41 v45 v49 v53 v57 v61 v65 k0_t85) a + S1.size a ≤ S3.size a := fun i v5 v9 v13 v17 v21 v25 v29 v33 v37 v41 v45 v49 v53 v57 v61 v65 k0_hw1 k0_t85 k0_h59 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t85 k0_h59
theorem k0_off1996_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips), ∀ a, (k0_off1996 i v5 v9 v13 v17 v21 v25 v29 v33 v37 v41 v45 v49 v53 v57 v61 v65 k0_t85) a + S32x1x512.size a ≤ S96x1x512.size a := fun i v5 v9 v13 v17 v21 v25 v29 v33 v37 v41 v45 v49 v53 v57 v61 v65 k0_hw1 k0_t85 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t85
theorem k0_off1997_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips), ∀ a, (k0_off1997 i v5 v9 v13 v17 v21 v25 v29 v33 v37 v41 v45 v49 v53 v57 v61 v65 k0_t85) a + S1.size a ≤ S3.size a := fun i v5 v9 v13 v17 v21 v25 v29 v33 v37 v41 v45 v49 v53 v57 v61 v65 k0_hw1 k0_t85 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t85
theorem k0_t86_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips), (k0_t86_loop i v5 v9 v13 v17 v21 v25 v29 v33 v37 v41 v45 v49 v53 v57 v61 v65 k0_t85).OK := fun i v5 v9 v13 v17 v21 v25 v29 v33 v37 v41 v45 v49 v53 v57 v61 v65 k0_hw1 k0_t85 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t85
theorem k0_off1998_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off1998 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t85 k0_t86
theorem k0_off1999_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off1999 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t85 k0_t86
theorem k0_off2000_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2000 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t85 k0_t86
theorem k0_off2001_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2001 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t85 k0_t86
theorem k0_off2002_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2002 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t85 k0_t86
theorem k0_off2003_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2003 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t85 k0_t86
theorem k0_off2004_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2004 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t85 k0_t86
theorem k0_off2005_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2005 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t85 k0_t86
theorem k0_off2006_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2006 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t85 k0_t86
theorem k0_off2007_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2007 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t85 k0_t86
theorem k0_off2008_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2008 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t85 k0_t86
theorem k0_off2009_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2009 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t85 k0_t86
theorem k0_off2010_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2010 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t85 k0_t86
theorem k0_off2011_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2011 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t85 k0_t86
theorem k0_off2012_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2012 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t85 k0_t86
theorem k0_off2013_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2013 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t85 k0_t86
theorem k0_off2014_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2014 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t85 k0_t86
theorem k0_off2015_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2015 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t85 k0_t86
theorem k0_off2016_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2016 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t85 k0_t86
theorem k0_off2017_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2017 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t85 k0_t86
theorem k0_off2018_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2018 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t85 k0_t86
theorem k0_off2019_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2019 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t85 k0_t86
theorem k0_off2020_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2020 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t85 k0_t86
theorem k0_off2021_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2021 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t85 k0_t86
theorem k0_off2022_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2022 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t85 k0_t86
theorem k0_off2023_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2023 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t85 k0_t86
theorem k0_off2024_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2024 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t85 k0_t86
theorem k0_off2025_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2025 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.1 k0_t85 k0_t86
theorem k0_off2026_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2026 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t85 k0_t86
theorem k0_off2027_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2027 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t85 k0_t86
theorem k0_off2028_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2028 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t85 k0_t86
theorem k0_off2029_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t86 : Fin (k0_t86_loop i v5 v9 v13 v17 v21 v25 v29 v33 v37 v41 v45 v49 v53 v57 v61 v65 k0_t85).trips), ∀ a, (k0_off2029 i v5 v9 v13 v17 v21 v25 v29 v33 v37 v41 v45 v49 v53 v57 v61 v65 k0_t85 k0_t86) a + S1x1x16.size a ≤ S96x1x512.size a := fun i v5 v9 v13 v17 v21 v25 v29 v33 v37 v41 v45 v49 v53 v57 v61 v65 k0_hw1 k0_t85 k0_t86 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t85 k0_t86
theorem k0_t87_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips), (k0_t87_loop i v5 v9 v13 v17 v21 v25 v29 v33 v37 v41 v45 v49 v53 v57 v61 v65 k0_t85).OK := fun i v5 v9 v13 v17 v21 v25 v29 v33 v37 v41 v45 v49 v53 v57 v61 v65 k0_hw1 k0_t85 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t85
theorem k0_off2030_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2030 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t85 k0_t87
theorem k0_off2031_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2031 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t85 k0_t87
theorem k0_off2032_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2032 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t85 k0_t87
theorem k0_off2033_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2033 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t85 k0_t87
theorem k0_off2034_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2034 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t85 k0_t87
theorem k0_off2035_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2035 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t85 k0_t87
theorem k0_off2036_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2036 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t85 k0_t87
theorem k0_off2037_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2037 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t85 k0_t87
theorem k0_off2038_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2038 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t85 k0_t87
theorem k0_off2039_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2039 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t85 k0_t87
theorem k0_off2040_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2040 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t85 k0_t87
theorem k0_off2041_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2041 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t85 k0_t87
theorem k0_off2042_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2042 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t85 k0_t87
theorem k0_off2043_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2043 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t85 k0_t87
theorem k0_off2044_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2044 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t85 k0_t87
theorem k0_off2045_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2045 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t85 k0_t87
theorem k0_off2046_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2046 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t85 k0_t87
theorem k0_off2047_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2047 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t85 k0_t87
theorem k0_off2048_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2048 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t85 k0_t87
theorem k0_off2049_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2049 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t85 k0_t87
theorem k0_off2050_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2050 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t85 k0_t87
theorem k0_off2051_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2051 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t85 k0_t87
theorem k0_off2052_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2052 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t85 k0_t87
theorem k0_off2053_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2053 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t85 k0_t87
theorem k0_off2054_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2054 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t85 k0_t87
theorem k0_off2055_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2055 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t85 k0_t87
theorem k0_off2056_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2056 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.1 k0_t85 k0_t87
theorem k0_off2057_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2057 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t85 k0_t87
theorem k0_off2058_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2058 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t85 k0_t87
theorem k0_off2059_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2059 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t85 k0_t87
theorem k0_off2060_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2060 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t85 k0_t87
theorem k0_off2061_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t85 : Fin (k0_t85_loop i v5 v9 v13 v17 v21 v25 v29 v33 v37 v41 v45 v49 v53 v57 v61 v65).trips) (k0_t87 : Fin (k0_t87_loop i v5 v9 v13 v17 v21 v25 v29 v33 v37 v41 v45 v49 v53 v57 v61 v65 k0_t85).trips), ∀ a, (k0_off2061 i v5 v9 v13 v17 v21 v25 v29 v33 v37 v41 v45 v49 v53 v57 v61 v65 k0_t85 k0_t87) a + S1x1x16.size a ≤ S96x1x512.size a := fun i v5 v9 v13 v17 v21 v25 v29 v33 v37 v41 v45 v49 v53 v57 v61 v65 k0_hw1 k0_t85 k0_t87 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t85 k0_t87
theorem k0_t88_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t88_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1
theorem k0_off2062_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips), ∀ (k0_h60 : k0_cond60 i v5 v9 v13 v17 v21 v25 v29 v33 v37 v41 v45 v49 v53 v57 v61 v65 k0_t88 = 1#1), ∀ a, (k0_off2062 i v5 v9 v13 v17 v21 v25 v29 v33 v37 v41 v45 v49 v53 v57 v61 v65 k0_t88) a + S32x1x512.size a ≤ S96x1x512.size a := fun i v5 v9 v13 v17 v21 v25 v29 v33 v37 v41 v45 v49 v53 v57 v61 v65 k0_hw1 k0_t88 k0_h60 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t88 k0_h60
theorem k0_off2063_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips), ∀ (k0_h60 : k0_cond60 i v5 v9 v13 v17 v21 v25 v29 v33 v37 v41 v45 v49 v53 v57 v61 v65 k0_t88 = 1#1), ∀ a, (k0_off2063 i v5 v9 v13 v17 v21 v25 v29 v33 v37 v41 v45 v49 v53 v57 v61 v65 k0_t88) a + S32x1x512.size a ≤ S2048x16x512.size a := fun i v5 v9 v13 v17 v21 v25 v29 v33 v37 v41 v45 v49 v53 v57 v61 v65 k0_hw1 k0_t88 k0_h60 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t88 k0_h60
theorem k0_off2064_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips), ∀ (k0_h60 : k0_cond60 i v5 v9 v13 v17 v21 v25 v29 v33 v37 v41 v45 v49 v53 v57 v61 v65 k0_t88 = 1#1), ∀ a, (k0_off2064 i v5 v9 v13 v17 v21 v25 v29 v33 v37 v41 v45 v49 v53 v57 v61 v65 k0_t88) a + S1.size a ≤ S3.size a := fun i v5 v9 v13 v17 v21 v25 v29 v33 v37 v41 v45 v49 v53 v57 v61 v65 k0_hw1 k0_t88 k0_h60 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t88 k0_h60
theorem k0_off2065_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips), ∀ a, (k0_off2065 i v5 v9 v13 v17 v21 v25 v29 v33 v37 v41 v45 v49 v53 v57 v61 v65 k0_t88) a + S32x1x512.size a ≤ S96x1x512.size a := fun i v5 v9 v13 v17 v21 v25 v29 v33 v37 v41 v45 v49 v53 v57 v61 v65 k0_hw1 k0_t88 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t88
theorem k0_off2066_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips), ∀ a, (k0_off2066 i v5 v9 v13 v17 v21 v25 v29 v33 v37 v41 v45 v49 v53 v57 v61 v65 k0_t88) a + S1.size a ≤ S3.size a := fun i v5 v9 v13 v17 v21 v25 v29 v33 v37 v41 v45 v49 v53 v57 v61 v65 k0_hw1 k0_t88 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t88
theorem k0_t89_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips), (k0_t89_loop i v5 v9 v13 v17 v21 v25 v29 v33 v37 v41 v45 v49 v53 v57 v61 v65 k0_t88).OK := fun i v5 v9 v13 v17 v21 v25 v29 v33 v37 v41 v45 v49 v53 v57 v61 v65 k0_hw1 k0_t88 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t88
theorem k0_off2067_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2067 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t88 k0_t89
theorem k0_off2068_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2068 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t88 k0_t89
theorem k0_off2069_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2069 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t88 k0_t89
theorem k0_off2070_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2070 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t88 k0_t89
theorem k0_off2071_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2071 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t88 k0_t89
theorem k0_off2072_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2072 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t88 k0_t89
theorem k0_off2073_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2073 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t88 k0_t89
theorem k0_off2074_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2074 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t88 k0_t89
theorem k0_off2075_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2075 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t88 k0_t89
theorem k0_off2076_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2076 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t88 k0_t89
theorem k0_off2077_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2077 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t88 k0_t89
theorem k0_off2078_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2078 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t88 k0_t89
theorem k0_off2079_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2079 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t88 k0_t89
theorem k0_off2080_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2080 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t88 k0_t89
theorem k0_off2081_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2081 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t88 k0_t89
theorem k0_off2082_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2082 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t88 k0_t89
theorem k0_off2083_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2083 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t88 k0_t89
theorem k0_off2084_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2084 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t88 k0_t89
theorem k0_off2085_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2085 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t88 k0_t89
theorem k0_off2086_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2086 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.1 k0_t88 k0_t89
theorem k0_off2087_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2087 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t88 k0_t89
theorem k0_off2088_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2088 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t88 k0_t89
theorem k0_off2089_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2089 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t88 k0_t89
theorem k0_off2090_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2090 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t88 k0_t89
theorem k0_off2091_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2091 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t88 k0_t89
theorem k0_off2092_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2092 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t88 k0_t89
theorem k0_off2093_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2093 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t88 k0_t89
theorem k0_off2094_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2094 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t88 k0_t89
theorem k0_off2095_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2095 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t88 k0_t89
theorem k0_off2096_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2096 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t88 k0_t89
theorem k0_off2097_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2097 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t88 k0_t89
theorem k0_off2098_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t89 : Fin (k0_t89_loop i v5 v9 v13 v17 v21 v25 v29 v33 v37 v41 v45 v49 v53 v57 v61 v65 k0_t88).trips), ∀ a, (k0_off2098 i v5 v9 v13 v17 v21 v25 v29 v33 v37 v41 v45 v49 v53 v57 v61 v65 k0_t88 k0_t89) a + S1x1x16.size a ≤ S96x1x512.size a := fun i v5 v9 v13 v17 v21 v25 v29 v33 v37 v41 v45 v49 v53 v57 v61 v65 k0_hw1 k0_t88 k0_t89 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t88 k0_t89
theorem k0_t90_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips), (k0_t90_loop i v5 v9 v13 v17 v21 v25 v29 v33 v37 v41 v45 v49 v53 v57 v61 v65 k0_t88).OK := fun i v5 v9 v13 v17 v21 v25 v29 v33 v37 v41 v45 v49 v53 v57 v61 v65 k0_hw1 k0_t88 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t88
theorem k0_off2099_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2099 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t88 k0_t90
theorem k0_off2100_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2100 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t88 k0_t90
theorem k0_off2101_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2101 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t88 k0_t90
theorem k0_off2102_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2102 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t88 k0_t90
theorem k0_off2103_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2103 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t88 k0_t90
theorem k0_off2104_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2104 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t88 k0_t90
theorem k0_off2105_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2105 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t88 k0_t90
theorem k0_off2106_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2106 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t88 k0_t90
theorem k0_off2107_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2107 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t88 k0_t90
theorem k0_off2108_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2108 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t88 k0_t90
theorem k0_off2109_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2109 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t88 k0_t90
theorem k0_off2110_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2110 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t88 k0_t90
theorem k0_off2111_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2111 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t88 k0_t90
theorem k0_off2112_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2112 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t88 k0_t90
theorem k0_off2113_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2113 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t88 k0_t90
theorem k0_off2114_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2114 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t88 k0_t90
theorem k0_off2115_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2115 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t88 k0_t90
theorem k0_off2116_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2116 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t88 k0_t90
theorem k0_off2117_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2117 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.1 k0_t88 k0_t90
theorem k0_off2118_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2118 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t88 k0_t90
theorem k0_off2119_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2119 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t88 k0_t90
theorem k0_off2120_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2120 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t88 k0_t90
theorem k0_off2121_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2121 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t88 k0_t90
theorem k0_off2122_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2122 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t88 k0_t90
theorem k0_off2123_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2123 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t88 k0_t90
theorem k0_off2124_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2124 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t88 k0_t90
theorem k0_off2125_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2125 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t88 k0_t90
theorem k0_off2126_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2126 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t88 k0_t90
theorem k0_off2127_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2127 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t88 k0_t90
theorem k0_off2128_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2128 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t88 k0_t90
theorem k0_off2129_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2129 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t88 k0_t90
theorem k0_off2130_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t88 : Fin (k0_t88_loop i v5 v9 v13 v17 v21 v25 v29 v33 v37 v41 v45 v49 v53 v57 v61 v65).trips) (k0_t90 : Fin (k0_t90_loop i v5 v9 v13 v17 v21 v25 v29 v33 v37 v41 v45 v49 v53 v57 v61 v65 k0_t88).trips), ∀ a, (k0_off2130 i v5 v9 v13 v17 v21 v25 v29 v33 v37 v41 v45 v49 v53 v57 v61 v65 k0_t88 k0_t90) a + S1x1x16.size a ≤ S96x1x512.size a := fun i v5 v9 v13 v17 v21 v25 v29 v33 v37 v41 v45 v49 v53 v57 v61 v65 k0_hw1 k0_t88 k0_t90 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t88 k0_t90
theorem k0_off2132_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h61 : k0_cond61 i v5 v9 v13 v17 v21 v25 v29 v33 v37 v41 v45 v49 v53 v57 v61 v65 = 1#1), ∀ a, (k0_off2132 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h61 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_h61
theorem k0_off2134_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), ∀ (k0_h62 : k0_cond62 i v5 v9 v13 v17 v21 v25 v29 v33 v37 v41 v45 v49 v53 v57 v61 v65 = 1#1), ∀ a, (k0_off2134 i v5 v9 v13 v17 v21 v25 v29 v33 v37 v41 v45 v49 v53 v57 v61 v65) a + S32x1x512.size a ≤ S2048x16x512.size a := fun i v5 v9 v13 v17 v21 v25 v29 v33 v37 v41 v45 v49 v53 v57 v61 v65 k0_hw1 k0_h62 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_h62
theorem k0_t91_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t91_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1
theorem k0_off2135_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips), ∀ (k0_h63 : k0_cond63 i v5 v9 v13 v17 v21 v25 v29 v33 v37 v41 v45 v49 v53 v57 v61 v65 k0_t91 = 1#1), ∀ a, (k0_off2135 i v5 v9 v13 v17 v21 v25 v29 v33 v37 v41 v45 v49 v53 v57 v61 v65 k0_t91) a + S32x1x512.size a ≤ S96x1x512.size a := fun i v5 v9 v13 v17 v21 v25 v29 v33 v37 v41 v45 v49 v53 v57 v61 v65 k0_hw1 k0_t91 k0_h63 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t91 k0_h63
theorem k0_off2136_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips), ∀ (k0_h63 : k0_cond63 i v5 v9 v13 v17 v21 v25 v29 v33 v37 v41 v45 v49 v53 v57 v61 v65 k0_t91 = 1#1), ∀ a, (k0_off2136 i v5 v9 v13 v17 v21 v25 v29 v33 v37 v41 v45 v49 v53 v57 v61 v65 k0_t91) a + S32x1x512.size a ≤ S2048x16x512.size a := fun i v5 v9 v13 v17 v21 v25 v29 v33 v37 v41 v45 v49 v53 v57 v61 v65 k0_hw1 k0_t91 k0_h63 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t91 k0_h63
theorem k0_off2137_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips), ∀ (k0_h63 : k0_cond63 i v5 v9 v13 v17 v21 v25 v29 v33 v37 v41 v45 v49 v53 v57 v61 v65 k0_t91 = 1#1), ∀ a, (k0_off2137 i v5 v9 v13 v17 v21 v25 v29 v33 v37 v41 v45 v49 v53 v57 v61 v65 k0_t91) a + S1.size a ≤ S3.size a := fun i v5 v9 v13 v17 v21 v25 v29 v33 v37 v41 v45 v49 v53 v57 v61 v65 k0_hw1 k0_t91 k0_h63 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t91 k0_h63
theorem k0_off2138_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips), ∀ a, (k0_off2138 i v5 v9 v13 v17 v21 v25 v29 v33 v37 v41 v45 v49 v53 v57 v61 v65 k0_t91) a + S32x1x512.size a ≤ S96x1x512.size a := fun i v5 v9 v13 v17 v21 v25 v29 v33 v37 v41 v45 v49 v53 v57 v61 v65 k0_hw1 k0_t91 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t91
theorem k0_off2139_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips), ∀ a, (k0_off2139 i v5 v9 v13 v17 v21 v25 v29 v33 v37 v41 v45 v49 v53 v57 v61 v65 k0_t91) a + S1.size a ≤ S3.size a := fun i v5 v9 v13 v17 v21 v25 v29 v33 v37 v41 v45 v49 v53 v57 v61 v65 k0_hw1 k0_t91 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t91
theorem k0_t92_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips), (k0_t92_loop i v5 v9 v13 v17 v21 v25 v29 v33 v37 v41 v45 v49 v53 v57 v61 v65 k0_t91).OK := fun i v5 v9 v13 v17 v21 v25 v29 v33 v37 v41 v45 v49 v53 v57 v61 v65 k0_hw1 k0_t91 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t91
theorem k0_off2140_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2140 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t91 k0_t92
theorem k0_off2141_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2141 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t91 k0_t92
theorem k0_off2142_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2142 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t91 k0_t92
theorem k0_off2143_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2143 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t91 k0_t92
theorem k0_off2144_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2144 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t91 k0_t92
theorem k0_off2145_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2145 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t91 k0_t92
theorem k0_off2146_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2146 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t91 k0_t92
theorem k0_off2147_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2147 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t91 k0_t92
theorem k0_off2148_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2148 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t91 k0_t92
theorem k0_off2149_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2149 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.1 k0_t91 k0_t92
theorem k0_off2150_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2150 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t91 k0_t92
theorem k0_off2151_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2151 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t91 k0_t92
theorem k0_off2152_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2152 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t91 k0_t92
theorem k0_off2153_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2153 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t91 k0_t92
theorem k0_off2154_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2154 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t91 k0_t92
theorem k0_off2155_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2155 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t91 k0_t92
theorem k0_off2156_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2156 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t91 k0_t92
theorem k0_off2157_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2157 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t91 k0_t92
theorem k0_off2158_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2158 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t91 k0_t92
theorem k0_off2159_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2159 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t91 k0_t92
theorem k0_off2160_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2160 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t91 k0_t92
theorem k0_off2161_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2161 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t91 k0_t92
theorem k0_off2162_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2162 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t91 k0_t92
theorem k0_off2163_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2163 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t91 k0_t92
theorem k0_off2164_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2164 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t91 k0_t92
theorem k0_off2165_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2165 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t91 k0_t92
theorem k0_off2166_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2166 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t91 k0_t92
theorem k0_off2167_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2167 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t91 k0_t92
theorem k0_off2168_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2168 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t91 k0_t92
theorem k0_off2169_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2169 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t91 k0_t92
theorem k0_off2170_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2170 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t91 k0_t92
theorem k0_off2171_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t92 : Fin (k0_t92_loop i v5 v9 v13 v17 v21 v25 v29 v33 v37 v41 v45 v49 v53 v57 v61 v65 k0_t91).trips), ∀ a, (k0_off2171 i v5 v9 v13 v17 v21 v25 v29 v33 v37 v41 v45 v49 v53 v57 v61 v65 k0_t91 k0_t92) a + S1x1x16.size a ≤ S96x1x512.size a := fun i v5 v9 v13 v17 v21 v25 v29 v33 v37 v41 v45 v49 v53 v57 v61 v65 k0_hw1 k0_t91 k0_t92 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t91 k0_t92
theorem k0_t93_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips), (k0_t93_loop i v5 v9 v13 v17 v21 v25 v29 v33 v37 v41 v45 v49 v53 v57 v61 v65 k0_t91).OK := fun i v5 v9 v13 v17 v21 v25 v29 v33 v37 v41 v45 v49 v53 v57 v61 v65 k0_hw1 k0_t91 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t91
theorem k0_off2172_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2172 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t91 k0_t93
theorem k0_off2173_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2173 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t91 k0_t93
theorem k0_off2174_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2174 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t91 k0_t93
theorem k0_off2175_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2175 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t91 k0_t93
theorem k0_off2176_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2176 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t91 k0_t93
theorem k0_off2177_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2177 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t91 k0_t93
theorem k0_off2178_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2178 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t91 k0_t93
theorem k0_off2179_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2179 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t91 k0_t93
theorem k0_off2180_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2180 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.1 k0_t91 k0_t93
theorem k0_off2181_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2181 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t91 k0_t93
theorem k0_off2182_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2182 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t91 k0_t93
theorem k0_off2183_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2183 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t91 k0_t93
theorem k0_off2184_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2184 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t91 k0_t93
theorem k0_off2185_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2185 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t91 k0_t93
theorem k0_off2186_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2186 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t91 k0_t93
theorem k0_off2187_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2187 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t91 k0_t93
theorem k0_off2188_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2188 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t91 k0_t93
theorem k0_off2189_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2189 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t91 k0_t93
theorem k0_off2190_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2190 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t91 k0_t93
theorem k0_off2191_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2191 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t91 k0_t93
theorem k0_off2192_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2192 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t91 k0_t93
theorem k0_off2193_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2193 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t91 k0_t93
theorem k0_off2194_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2194 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t91 k0_t93
theorem k0_off2195_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2195 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t91 k0_t93
theorem k0_off2196_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2196 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t91 k0_t93
theorem k0_off2197_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2197 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t91 k0_t93
theorem k0_off2198_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2198 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t91 k0_t93
theorem k0_off2199_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2199 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t91 k0_t93
theorem k0_off2200_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2200 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t91 k0_t93
theorem k0_off2201_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2201 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t91 k0_t93
theorem k0_off2202_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2202 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t91 k0_t93
theorem k0_off2203_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t91 : Fin (k0_t91_loop i v5 v9 v13 v17 v21 v25 v29 v33 v37 v41 v45 v49 v53 v57 v61 v65).trips) (k0_t93 : Fin (k0_t93_loop i v5 v9 v13 v17 v21 v25 v29 v33 v37 v41 v45 v49 v53 v57 v61 v65 k0_t91).trips), ∀ a, (k0_off2203 i v5 v9 v13 v17 v21 v25 v29 v33 v37 v41 v45 v49 v53 v57 v61 v65 k0_t91 k0_t93) a + S1x1x16.size a ≤ S96x1x512.size a := fun i v5 v9 v13 v17 v21 v25 v29 v33 v37 v41 v45 v49 v53 v57 v61 v65 k0_hw1 k0_t91 k0_t93 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t91 k0_t93
theorem k0_t94_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65), (k0_t94_loop i v5 v9 v13 v17 v21 v25 v29 v33 v37 v41 v45 v49 v53 v57 v61 v65).OK := fun i v5 v9 v13 v17 v21 v25 v29 v33 v37 v41 v45 v49 v53 v57 v61 v65 k0_hw1 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1
theorem k0_off2204_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips), ∀ (k0_h64 : k0_cond64 i v5 v9 v13 v17 v21 v25 v29 v33 v37 v41 v45 v49 v53 v57 v61 v65 k0_t94 = 1#1), ∀ a, (k0_off2204 i v5 v9 v13 v17 v21 v25 v29 v33 v37 v41 v45 v49 v53 v57 v61 v65 k0_t94) a + S32x1x512.size a ≤ S96x1x512.size a := fun i v5 v9 v13 v17 v21 v25 v29 v33 v37 v41 v45 v49 v53 v57 v61 v65 k0_hw1 k0_t94 k0_h64 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t94 k0_h64
theorem k0_off2205_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips), ∀ (k0_h64 : k0_cond64 i v5 v9 v13 v17 v21 v25 v29 v33 v37 v41 v45 v49 v53 v57 v61 v65 k0_t94 = 1#1), ∀ a, (k0_off2205 i v5 v9 v13 v17 v21 v25 v29 v33 v37 v41 v45 v49 v53 v57 v61 v65 k0_t94) a + S32x1x512.size a ≤ S2048x16x512.size a := fun i v5 v9 v13 v17 v21 v25 v29 v33 v37 v41 v45 v49 v53 v57 v61 v65 k0_hw1 k0_t94 k0_h64 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t94 k0_h64
theorem k0_off2206_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips), ∀ (k0_h64 : k0_cond64 i v5 v9 v13 v17 v21 v25 v29 v33 v37 v41 v45 v49 v53 v57 v61 v65 k0_t94 = 1#1), ∀ a, (k0_off2206 i v5 v9 v13 v17 v21 v25 v29 v33 v37 v41 v45 v49 v53 v57 v61 v65 k0_t94) a + S1.size a ≤ S3.size a := fun i v5 v9 v13 v17 v21 v25 v29 v33 v37 v41 v45 v49 v53 v57 v61 v65 k0_hw1 k0_t94 k0_h64 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t94 k0_h64
theorem k0_off2207_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips), ∀ a, (k0_off2207 i v5 v9 v13 v17 v21 v25 v29 v33 v37 v41 v45 v49 v53 v57 v61 v65 k0_t94) a + S32x1x512.size a ≤ S96x1x512.size a := fun i v5 v9 v13 v17 v21 v25 v29 v33 v37 v41 v45 v49 v53 v57 v61 v65 k0_hw1 k0_t94 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t94
theorem k0_off2208_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips), ∀ a, (k0_off2208 i v5 v9 v13 v17 v21 v25 v29 v33 v37 v41 v45 v49 v53 v57 v61 v65 k0_t94) a + S1.size a ≤ S3.size a := fun i v5 v9 v13 v17 v21 v25 v29 v33 v37 v41 v45 v49 v53 v57 v61 v65 k0_hw1 k0_t94 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t94
theorem k0_t95_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips), (k0_t95_loop i v5 v9 v13 v17 v21 v25 v29 v33 v37 v41 v45 v49 v53 v57 v61 v65 k0_t94).OK := fun i v5 v9 v13 v17 v21 v25 v29 v33 v37 v41 v45 v49 v53 v57 v61 v65 k0_hw1 k0_t94 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t94
theorem k0_off2209_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2209 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t94 k0_t95
theorem k0_off2210_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2210 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.1 k0_t94 k0_t95
theorem k0_off2211_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2211 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t94 k0_t95
theorem k0_off2212_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2212 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t94 k0_t95
theorem k0_off2213_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2213 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t94 k0_t95
theorem k0_off2214_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2214 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t94 k0_t95
theorem k0_off2215_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2215 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t94 k0_t95
theorem k0_off2216_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2216 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t94 k0_t95
theorem k0_off2217_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2217 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t94 k0_t95
theorem k0_off2218_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2218 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t94 k0_t95
theorem k0_off2219_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2219 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t94 k0_t95
theorem k0_off2220_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2220 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t94 k0_t95
theorem k0_off2221_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2221 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t94 k0_t95
theorem k0_off2222_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2222 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t94 k0_t95
theorem k0_off2223_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2223 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t94 k0_t95
theorem k0_off2224_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2224 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t94 k0_t95
theorem k0_off2225_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2225 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t94 k0_t95
theorem k0_off2226_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2226 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t94 k0_t95
theorem k0_off2227_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2227 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t94 k0_t95
theorem k0_off2228_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2228 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t94 k0_t95
theorem k0_off2229_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2229 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t94 k0_t95
theorem k0_off2230_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2230 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t94 k0_t95
theorem k0_off2231_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2231 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t94 k0_t95
theorem k0_off2232_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2232 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t94 k0_t95
theorem k0_off2233_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2233 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t94 k0_t95
theorem k0_off2234_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2234 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t94 k0_t95
theorem k0_off2235_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2235 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t94 k0_t95
theorem k0_off2236_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2236 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t94 k0_t95
theorem k0_off2237_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2237 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t94 k0_t95
theorem k0_off2238_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2238 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t94 k0_t95
theorem k0_off2239_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2239 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t94 k0_t95
theorem k0_off2240_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t95 : Fin (k0_t95_loop i v5 v9 v13 v17 v21 v25 v29 v33 v37 v41 v45 v49 v53 v57 v61 v65 k0_t94).trips), ∀ a, (k0_off2240 i v5 v9 v13 v17 v21 v25 v29 v33 v37 v41 v45 v49 v53 v57 v61 v65 k0_t94 k0_t95) a + S1x1x16.size a ≤ S96x1x512.size a := fun i v5 v9 v13 v17 v21 v25 v29 v33 v37 v41 v45 v49 v53 v57 v61 v65 k0_hw1 k0_t94 k0_t95 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t94 k0_t95
theorem k0_t96_ok : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips), (k0_t96_loop i v5 v9 v13 v17 v21 v25 v29 v33 v37 v41 v45 v49 v53 v57 v61 v65 k0_t94).OK := fun i v5 v9 v13 v17 v21 v25 v29 v33 v37 v41 v45 v49 v53 v57 v61 v65 k0_hw1 k0_t94 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t94
theorem k0_off2241_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2241 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2242_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2242 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2243_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2243 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2244_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2244 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2245_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2245 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2246_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2246 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2247_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2247 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2248_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2248 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2249_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2249 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2250_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2250 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2251_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2251 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2252_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2252 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2253_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2253 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2254_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2254 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2255_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2255 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2256_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2256 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2257_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2257 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2258_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2258 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2259_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2259 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2260_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2260 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2261_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2261 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2262_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2262 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2263_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2263 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2264_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2264 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2265_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2265 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2266_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2266 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2267_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2267 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2268_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2268 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2269_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2269 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2270_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2270 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2271_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2271 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t94 k0_t96
theorem k0_off2272_inb : ∀ (i : grid0.Coords) (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) (k0_t94 : Fin (k0_t94_loop i v5 v9 v13 v17 v21 v25 v29 v33 v37 v41 v45 v49 v53 v57 v61 v65).trips) (k0_t96 : Fin (k0_t96_loop i v5 v9 v13 v17 v21 v25 v29 v33 v37 v41 v45 v49 v53 v57 v61 v65 k0_t94).trips), ∀ a, (k0_off2272 i v5 v9 v13 v17 v21 v25 v29 v33 v37 v41 v45 v49 v53 v57 v61 v65 k0_t94 k0_t96) a + S1x1x16.size a ≤ S96x1x512.size a := fun i v5 v9 v13 v17 v21 v25 v29 v33 v37 v41 v45 v49 v53 v57 v61 v65 k0_hw1 k0_t94 k0_t96 => k0_hw1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2 k0_t94 k0_t96

variable {F : FTy → Type} [FloatOps F]

def k0_off2273 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_368_r2 : BitVec 32 := 0#32
  ![v1.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x16 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x16x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x16x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x16x512 : Shape := ⟨3, ![2048, 16, 512]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x16x1 : Shape := ⟨3, ![2048, 16, 1]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x16x512, .f32⟩
  | .hbm, ⟨1, _⟩ => ⟨S2048x16x512, .f32⟩
  | .hbm, ⟨2, _⟩ => ⟨S16, .i32⟩
  | .hbm, ⟨3, _⟩ => ⟨S2048, .i32⟩
  | .hbm, ⟨4, _⟩ => ⟨S2048x1, .i32⟩
  | .hbm, ⟨5, _⟩ => ⟨S1x16, .i32⟩
  | .hbm, ⟨6, _⟩ => ⟨S2048x16, .i32⟩
  | .hbm, ⟨7, _⟩ => ⟨S2048x16, .i32⟩
  | .hbm, ⟨8, _⟩ => ⟨S2048x16, .i1⟩
  | .hbm, ⟨9, _⟩ => ⟨S2048x16, .f32⟩
  | .hbm, ⟨10, _⟩ => ⟨S2048x16x512, .f32⟩
  | .hbm, ⟨11, _⟩ => ⟨S2048x16x512, .f32⟩
  | .hbm, ⟨12, _⟩ => ⟨S2048x16x1, .f32⟩
  | .hbm, ⟨13, _⟩ => ⟨S2048x16x512, .f32⟩
  | .hbm, ⟨14, _⟩ => ⟨S2048x16x512, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S2048x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Words.lean ====
/-
  The scalar words a tile computes, and the tile's program for one sequence, written once for every sequence number `b`.

  A tile reads the sixteen sequence lengths `L 0`, …, `L 15`. Of each it keeps the tail past row 1024
  (`tail`), lays the tails one after another (`before b` is where sequence `b`'s tail starts, `before 16` their total)
  and takes its share of the whole from `first` to `last`. Of sequence `b` that is the rows `lo b` to `hi b`, which it
  goes through in `chunks b` pieces of thirty-two rows.
-/
module

public import proofs.«01_k».proof.Proof.Gen.KernelIdeal
public import Idealize.ShloMosaic.Lib.LoopRemainder

@[expose] public section

noncomputable section

namespace Cert.Tail

open Idealize.ShloMosaic Idealize.SL.Sem Cert.KernelIdeal Cert.KernelIdeal.Gen
open Facts₀ Facts

/-! ## The words -/

/-- Sixteen words, by number. -/
def wordsOf (v5 v9 v13 v17 v21 v25 v29 v33 v37 v41 v45 v49 v53 v57 v61 v65 : BitVec 32) : ℕ → BitVec 32
  | 0 => v5 | 1 => v9 | 2 => v13 | 3 => v17 | 4 => v21 | 5 => v25 | 6 => v29 | 7 => v33
  | 8 => v37 | 9 => v41 | 10 => v45 | 11 => v49 | 12 => v53 | 13 => v57 | 14 => v61 | _ => v65

/-- How many rows of sequence `b` lie past row 1024. -/
def tail (L : ℕ → BitVec 32) (b : ℕ) : BitVec 32 := Scalar.maxsi (Scalar.subi (L b) 1024#32) 0#32

/-- The tails before sequence `b`, added up. -/
def before (L : ℕ → BitVec 32) : ℕ → BitVec 32
  | 0 => 0#32
  | b + 1 => Scalar.addi (before L b) (tail L b)

/-- A word divided by thirty-two, rounded towards minus infinity. -/
def floor32 (x : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt 32#32 0#32)) (Scalar.extui (Scalar.cmpi .slt 32#32 0#32))))
      (Scalar.cmpi .ne (Scalar.remsi x 32#32) 0#32))
    (Scalar.subi (Scalar.divsi x 32#32) 1#32)
    (Scalar.divsi x 32#32)

/-- The tile's number: twice the subcore plus the core. -/
def wid (i : grid0.Coords) : BitVec 32 :=
  Scalar.addi (Scalar.muli (BitVec.ofNat 32 (i 1).val) 2#32) (BitVec.ofNat 32 (i 0).val)

/-- Where the tile's share of all the tails starts, -/
def first (i : grid0.Coords) (L : ℕ → BitVec 32) : BitVec 32 := floor32 (Scalar.muli (wid i) (before L 16))
/-- and where it ends. -/
def last (i : grid0.Coords) (L : ℕ → BitVec 32) : BitVec 32 :=
  floor32 (Scalar.muli (Scalar.addi (wid i) 1#32) (before L 16))

/-- The first row of sequence `b` in the tile's share, -/
def lo (i : grid0.Coords) (L : ℕ → BitVec 32) (b : ℕ) : BitVec 32 :=
  Scalar.addi 1024#32 (Scalar.subi (Scalar.maxsi (first i L) (before L b)) (before L b))
/-- and the row past its last. -/
def hi (i : grid0.Coords) (L : ℕ → BitVec 32) (b : ℕ) : BitVec 32 :=
  Scalar.addi 1024#32 (Scalar.subi (Scalar.minsi (last i L) (Scalar.addi (before L b) (tail L b))) (before L b))

/-- The number of pieces of thirty-two rows from `lo` to `hi`. -/
def chunks (i : grid0.Coords) (L : ℕ → BitVec 32) (b : ℕ) : BitVec 32 :=
  floor32 (Scalar.addi (Scalar.subi (hi i L b) (lo i L b)) 31#32)

/-- The counted loop from `lb` to `ub`, -/
@[reducible] def span (lb ub : BitVec 32) : Scf.Loop 32 :=
  ⟨lb, Scalar.addi lb (Scalar.muli (Scalar.divsi (Scalar.subi ub lb) 1#32) 1#32), 1#32⟩
/-- and the remainder loop that stands behind it and makes no trip. -/
@[reducible] def rest (lb ub : BitVec 32) : Scf.Loop 32 :=
  ⟨Scalar.addi lb (Scalar.muli (Scalar.divsi (Scalar.subi ub lb) 1#32) 1#32), Scalar.addi lb (Scalar.subi ub lb), 1#32⟩

/-- The first row of piece `c`, -/
def row0 (i : grid0.Coords) (L : ℕ → BitVec 32) (b : ℕ) (c : BitVec 32) : BitVec 32 :=
  Scalar.addi (lo i L b) (Scalar.muli c 32#32)
/-- the same moved back so that thirty-two rows are left: the first row copied, -/
def row0c (i : grid0.Coords) (L : ℕ → BitVec 32) (b : ℕ) (c : BitVec 32) : BitVec 32 :=
  Scalar.minsi (row0 i L b c) 2016#32
/-- the slot of the three that piece `c` goes through, as a row of the buffer. -/
def slotRow (c : BitVec 32) : BitVec 32 := Scalar.muli (Scalar.remsi c 3#32) 32#32

/-- The buffer's rows that hold the rows of piece `c`: from -/
def bufLo (i : grid0.Coords) (L : ℕ → BitVec 32) (b : ℕ) (c : BitVec 32) : BitVec 32 :=
  Scalar.addi (slotRow c) (Scalar.subi (row0 i L b c) (row0c i L b c))
/-- up to. -/
def bufHi (i : grid0.Coords) (L : ℕ → BitVec 32) (b : ℕ) (c : BitVec 32) : BitVec 32 :=
  Scalar.addi (slotRow c)
    (Scalar.subi (Scalar.minsi (hi i L b) (Scalar.addi (row0 i L b c) 32#32)) (row0c i L b c))

/-- Whether piece number `k` is there: asked of pieces 0 and 1 before the loop. -/
def has (i : grid0.Coords) (L : ℕ → BitVec 32) (b : ℕ) (k : BitVec 32) : BitVec 1 :=
  Scalar.cmpi .ne (Scalar.extui (Scalar.cmpi .sgt (chunks i L b) k)) 0#32
/-- Whether the piece two past `c` is there: asked inside the loop. -/
def hasNext (i : grid0.Coords) (L : ℕ → BitVec 32) (b : ℕ) (c : BitVec 32) : BitVec 1 :=
  Scalar.cmpi .ne (Scalar.extui (Scalar.cmpi .slt (Scalar.addi c 2#32) (chunks i L b))) 0#32

/-! ## The side conditions -/

/-- Thirty-two rows from row `r` fit in a buffer. -/
abbrev SlotIn (r : ℕ) : Prop := ∀ a, (![r, 0, 0] : Fin 3 → ℕ) a + S32x1x512.size a ≤ S96x1x512.size a
/-- Thirty-two rows of column `b` from row `r` fit in an array. -/
abbrev SrcIn (r b : ℕ) : Prop := ∀ a, (![r, b, 0] : Fin 3 → ℕ) a + S32x1x512.size a ≤ S2048x16x512.size a
/-- Semaphore `r` is one of the three. -/
abbrev SemIn (r : ℕ) : Prop := ∀ a, (![r] : Fin 1 → ℕ) a + S1.size a ≤ S3.size a
/-- Row `r`, group `g` is in a buffer. -/
abbrev GroupIn (r g : ℕ) : Prop := ∀ a, (![r, 0, 16 * g] : Fin 3 → ℕ) a + S1x1x16.size a ≤ S96x1x512.size a

/-- A row in a buffer has all its groups there. -/
theorem GroupIn.of_row {r : ℕ} (h : GroupIn r 0) {g : ℕ} (hg : g < 32) : GroupIn r g := by
  intro a
  have h0 := h 0
  fin_cases a
  · exact h0
  · show 0 + 1 ≤ 1; omega
  · show 16 * g + 16 ≤ 512; omega

/-- What piece `c` of sequence `b` asks of the words. -/
structure PieceOK (i : grid0.Coords) (L : ℕ → BitVec 32) (b : ℕ) (c : BitVec 32) : Prop where
  nextSlot : hasNext i L b c = 1#1 → SlotIn (slotRow (Scalar.addi c 2#32)).toNat
  nextSrc : hasNext i L b c = 1#1 → SrcIn (row0c i L b (Scalar.addi c 2#32)).toNat b
  nextSem : hasNext i L b c = 1#1 → SemIn (Scalar.remsi (Scalar.addi c 2#32) 3#32).toNat
  slot : SlotIn (slotRow c).toNat
  sem : SemIn (Scalar.remsi c 3#32).toNat
  rowsOK : (span (bufLo i L b c) (bufHi i L b c)).OK
  rows : ∀ t : Fin (span (bufLo i L b c) (bufHi i L b c)).trips,
    GroupIn (Scf.iv (bufLo i L b c) 1#32 t).toNat 0

/-- What sequence `b` asks of the words. -/
structure SeqOK (i : grid0.Coords) (L : ℕ → BitVec 32) (b : ℕ) : Prop where
  col : SrcIn 0 b
  word : ∀ a, (![b] : Fin 1 → ℕ) a + S16.size a ≤ S32.size a
  src0 : has i L b 0#32 = 1#1 → SrcIn (row0c i L b 0#32).toNat b
  src1 : has i L b 1#32 = 1#1 → SrcIn (row0c i L b 1#32).toNat b
  loopOK : (span 0#32 (chunks i L b)).OK
  piece : ∀ t : Fin (span 0#32 (chunks i L b)).trips, PieceOK i L b (Scf.iv 0#32 1#32 t)

/-- Every piece's rows are in the buffers, at group `g`. -/
def RowIn (i : grid0.Coords) (L : ℕ → BitVec 32) (b g : ℕ) : Prop :=
  ∀ (t : Fin (span 0#32 (chunks i L b)).trips)
    (t' : Fin (span (bufLo i L b (Scf.iv 0#32 1#32 t)) (bufHi i L b (Scf.iv 0#32 1#32 t))).trips),
    GroupIn (Scf.iv (bufLo i L b (Scf.iv 0#32 1#32 t)) 1#32 t').toNat g

theorem SeqOK.rowIn {i : grid0.Coords} {L : ℕ → BitVec 32} {b g : ℕ} (h : SeqOK i L b) (hg : g < 32) : RowIn i L b g :=
  fun t t' => ((h.piece t).rows t').of_row hg

/-- A proposition that is another one, as the kernel sees, follows from it. -/
theorem byKernel {a b : Prop} (h : a = b) (hb : b) : a := h.mpr hb

/-- A loop without trips has none to speak of. -/
theorem noTrip {n : ℕ} (h : n = 0) {α : Prop} (t : Fin n) : α := absurd t.isLt (by omega)

/-- The remainder loop has a meaning, -/
theorem rest_ok (lb ub : BitVec 32) : (rest lb ub).OK := Scf.rem_ok _ _
/-- and makes no trip. -/
theorem rest_no_trip {lb ub : BitVec 32} {α : Prop} (t : Fin (rest lb ub).trips) : α :=
  (Scf.rem_no_trip _ _ t).elim

end Cert.Tail

end
-- ==== Proof.Tile.lean ====
/-
  The tile's program for one sequence, in steps that take the rest of the program as an argument, and the whole tile's
  program from them.
-/
module

public import proofs.«01_k».proof.Proof.Words

@[expose] public section

noncomputable section

namespace Cert.Tail

open Idealize.ShloMosaic Idealize.SL.Sem Cert.KernelIdeal Cert.KernelIdeal.Gen

variable {F : FTy → Type} [FloatOps F]

/-- A tile's programs. -/
abbrev TP (F : FTy → Type) [FloatOps F] (i : grid0.Coords) (α : Type) : Type 1 :=
  Prog (TpuEff nD τ sig (Elt F) Λ₀ (.scVector ((i 0).castLE hcore0) ((i 1).castLE hsub0))) α

/-- The memory and semaphores a tile works with. -/
structure Mem where
  y : Memref sig .scVector .hbm S2048x16x512 .f32
  d : Memref sig .scVector .hbm S2048x16x512 .f32
  inv : Memref sig .scVector .vmem S32 .f32
  yb : Memref sig .scVector .vmem S96x1x512 .f32
  db : Memref sig .scVector .vmem S96x1x512 .f32
  sy : DmaSems sig S3
  sd : DmaSems sig S3

/-- A buffer's thirty-two rows from row `r`. -/
abbrev slotOf (m : Memref sig .scVector .vmem S96x1x512 .f32) (r : ℕ) (h : SlotIn r) :
    Memref sig .scVector .vmem S32x1x512 .f32 :=
  m.slice (Rect.unit (s := S96x1x512) ![r, 0, 0] S32x1x512.size h) (fun _ => rfl)
/-- An array's thirty-two rows of column `b` from row `r`. -/
abbrev srcOf (m : Memref sig .scVector .hbm S2048x16x512 .f32) (r b : ℕ) (h : SrcIn r b) :
    Memref sig .scVector .hbm S32x1x512 .f32 :=
  m.slice (Rect.unit (s := S2048x16x512) ![r, b, 0] S32x1x512.size h) (fun _ => rfl)
/-- One of three semaphores. -/
abbrev semOf (s : DmaSems sig S3) (r : ℕ) (h : SemIn r) : DmaSems sig S_ :=
  (s.slice (Rect.unit (s := S3) ![r] S1.size h)).squeeze S_ squeezes_S1_S_

/-- One group of sixteen of a buffer's row. -/
abbrev groupOf (r g : ℕ) (h : GroupIn r g) : LoadRect S96x1x512 :=
  (Rect.unit (s := S96x1x512) ![r, 0, 16 * g] S1x1x16.size h).toLoadRect

/-- The square of the difference of two groups, added on. -/
def step (acc : FVec F S16 .f32) (vy vd : Vec F S1x1x16 .f32) : FVec F S16 .f32 :=
  addf acc (mulf (subf (shapeCast S16 vd shapeCasts_S1x1x16_S16) (shapeCast S16 vy shapeCasts_S1x1x16_S16))
    (subf (shapeCast S16 vd shapeCasts_S1x1x16_S16) (shapeCast S16 vy shapeCasts_S1x1x16_S16)))

/-- A row's groups from group `g`, `n` of them. -/
def rowFrom (i : grid0.Coords) (m : Mem) (r : ℕ) (h : GroupIn r 0) :
    (n g : ℕ) → g + n ≤ 32 → FVec F S16 .f32 → TP F i (FVec F S16 .f32)
  | 0, _, _, acc => pure acc
  | n + 1, g, hg, acc => do
    let vy : Vec F S1x1x16 .f32 ← Prog.lift (.load m.yb (groupOf r g (h.of_row (by omega))) (View.loadsAt_vmem h_S1x1x16))
    let vd : Vec F S1x1x16 .f32 ← Prog.lift (.load m.db (groupOf r g (h.of_row (by omega))) (View.loadsAt_vmem h_S1x1x16))
    rowFrom i m r h n (g + 1) (by omega) (step acc vy vd)

/-- One row. -/
def row (i : grid0.Coords) (m : Mem) (r : ℕ) (h : GroupIn r 0) (acc : FVec F S16 .f32) : TP F i (FVec F S16 .f32) :=
  rowFrom i m r h 32 0 (by omega) acc

/-- The rows `lb` to `ub` of the buffers, with the loop that makes no trip behind. -/
def rows (i : grid0.Coords) (m : Mem) (lb ub : BitVec 32) (hok : (span lb ub).OK)
    (h : ∀ t : Fin (span lb ub).trips, GroupIn (Scf.iv lb 1#32 t).toNat 0) (acc : FVec F S16 .f32) :
    TP F i (FVec F S16 .f32) := do
  let v : FVec F S16 .f32 ← Scf.Loop.for (span lb ub) hok acc fun t acc => row i m (Scf.iv lb 1#32 t).toNat (h t) acc
  let v : FVec F S16 .f32 ← Scf.Loop.for (rest lb ub) (rest_ok lb ub) v fun t acc =>
    row i m (Scf.iv (Scalar.addi lb (Scalar.muli (Scalar.divsi (Scalar.subi ub lb) 1#32) 1#32)) 1#32 t).toNat
      (rest_no_trip t) acc
  pure v

/-- Starting the copies of a piece into slot `r`, from row `s` of column `b`. -/
def issue (i : grid0.Coords) (m : Mem) (b r s e : ℕ) (hr : SlotIn r) (hs : SrcIn s b) (he : SemIn e) : TP F i PUnit := do
  Prog.lift (.enqueueDma (srcOf m.y s b hs) (.here (slotOf m.yb r hr)) (.dma (semOf m.sy e he).sem)
    (View.wordExact_bits rfl) (View.wordExact_bits rfl) ⟨Or.inl rfl, trivial⟩)
  Prog.lift (.enqueueDma (srcOf m.d s b hs) (.here (slotOf m.db r hr)) (.dma (semOf m.sd e he).sem)
    (View.wordExact_bits rfl) (View.wordExact_bits rfl) ⟨Or.inl rfl, trivial⟩)
  pure ⟨⟩

/-- Piece `c` of sequence `b`: start the copies of the piece two on, wait for this one's, add its rows. -/
def piece (i : grid0.Coords) (m : Mem) (L : ℕ → BitVec 32) (b : ℕ) (c : BitVec 32) (hcol : SrcIn 0 b)
    (h : PieceOK i L b c) (acc : FVec F S16 .f32) : TP F i (FVec F S16 .f32) := do
  let ⟨_, _⟩ : Σ' (_ : BitVec 32), BitVec 32 ← (do
    if hn : hasNext i L b c = 1#1 then do
      issue i m b (slotRow (Scalar.addi c 2#32)).toNat (row0c i L b (Scalar.addi c 2#32)).toNat
        (Scalar.remsi (Scalar.addi c 2#32) 3#32).toNat (h.nextSlot hn) (h.nextSrc hn) (h.nextSem hn)
      pure ⟨⟩
    else do
      pure ⟨⟩
    Prog.lift (.waitDma2 (semOf m.sy (Scalar.remsi c 3#32).toNat h.sem).sem (srcOf m.y 0 b hcol)
      (slotOf m.yb (slotRow c).toNat h.slot) (View.wordExact_bits rfl) (View.wordExact_bits rfl))
    pure ⟨c, Scalar.remsi c 3#32⟩)
  Prog.lift (.waitDma2 (semOf m.sd (Scalar.remsi c 3#32).toNat h.sem).sem (srcOf m.d 0 b hcol)
    (slotOf m.db (slotRow c).toNat h.slot) (View.wordExact_bits rfl) (View.wordExact_bits rfl))
  rows i m (bufLo i L b c) (bufHi i L b c) h.rowsOK h.rows acc

section Steps
variable {α : Type} (i : grid0.Coords) (m : Mem) (L : ℕ → BitVec 32) (b : ℕ) (h : SeqOK i L b)

/-- The zeros a sequence's sums start from. -/
def zeros : FVec F S16 .f32 := broadcast S16 (Scalar.ofBits .f32 0x00000000#32)

/-- Starting the copies of piece 0, if it is there, and then the rest. -/
def start0 (k : TP F i α) : TP F i α := do
  if hn : has i L b 0#32 = 1#1 then do
    issue i m b 0 (row0c i L b 0#32).toNat 0 (by decide) (h.src0 hn) (by decide)
    pure ⟨⟩
  else do
    pure ⟨⟩
  k

/-- Starting the copies of piece 1, if it is there, and then the rest. -/
def start1 (k : TP F i α) : TP F i α := do
  if hn : has i L b 1#32 = 1#1 then do
    issue i m b 32 (row0c i L b 1#32).toNat 1 (by decide) (h.src1 hn) (by decide)
    pure ⟨⟩
  else do
    pure ⟨⟩
  k

/-- Going through the pieces, and then the rest. -/
def pieces (acc : FVec F S16 .f32) (k : FVec F S16 .f32 → TP F i α) : TP F i α := do
  let v : FVec F S16 .f32 ← Scf.Loop.for (span 0#32 (chunks i L b)) h.loopOK acc fun t acc =>
    piece i m L b (Scf.iv 0#32 1#32 t) h.col (h.piece t) acc
  k v

/-- The loop that makes no trip behind it, and then the rest. -/
def pieces' (acc : FVec F S16 .f32) (k : FVec F S16 .f32 → TP F i α) : TP F i α := do
  let v : FVec F S16 .f32 ← Scf.Loop.for (rest 0#32 (chunks i L b)) (rest_ok _ _) acc fun t acc =>
    piece i m L b (Scf.iv (Scalar.addi 0#32 (Scalar.muli (Scalar.divsi (Scalar.subi (chunks i L b) 0#32) 1#32) 1#32)) 1#32 t)
      h.col (rest_no_trip t) acc
  k v

/-- That loop alone. -/
def piecesEnd (acc : FVec F S16 .f32) : TP F i (FVec F S16 .f32) :=
  Scf.Loop.for (rest 0#32 (chunks i L b)) (rest_ok _ _) acc fun t acc =>
    piece i m L b (Scf.iv (Scalar.addi 0#32 (Scalar.muli (Scalar.divsi (Scalar.subi (chunks i L b) 0#32) 1#32) 1#32)) 1#32 t)
      h.col (rest_no_trip t) acc

/-- Loading sequence `b`'s scale, and then the rest. -/
def scale (k : Vec F S16 .f32 → TP F i α) : TP F i α := do
  let v : Vec F S16 .f32 ← Prog.lift (.load m.inv (Rect.unit (s := S32) ![b] S16.size h.word).toLoadRect (View.loadsAt_vmem h_S16))
  k v

/-- A sequence's sums, scaled and added to the total. -/
def addSeq (total seg : FVec F S16 .f32) (v : Vec F S16 .f32) : FVec F S16 .f32 :=
  addf total (mulf seg (broadcast S16 (extractAt ![0] (extractStridedSlice S1 ![0] (shapeCast S16 v shapeCasts_S16_S16)
    slices_S16_o0_S1) inpos_S1_p0)))

end Steps

end Cert.Tail

end
-- ==== Proof.Meaning.lean ====
/-
  What the words of a tile mean as numbers, when every length is between 1 and 2048.
-/
module

public import proofs.«01_k».proof.Proof.Words

@[expose] public section

noncomputable section

namespace Cert.Tail

open Idealize.ShloMosaic Idealize.SL.Sem Cert.KernelIdeal Cert.KernelIdeal.Gen
open Affine

/-- The lengths are between 1 and 2048. -/
def InRange (L : ℕ → BitVec 32) : Prop := ∀ b, b < 16 → 1 ≤ (L b).toNat ∧ (L b).toNat ≤ 2048

/-! ## The numbers -/

/-- How many rows of sequence `b` lie past row 1024. -/
def tailN (L : ℕ → BitVec 32) (b : ℕ) : ℕ := (L b).toNat - 1024
/-- The tails before sequence `b`, added up. -/
def beforeN (L : ℕ → BitVec 32) : ℕ → ℕ
  | 0 => 0
  | b + 1 => beforeN L b + tailN L b
/-- The tile's number. -/
def widN (i : grid0.Coords) : ℕ := (i 1).val * 2 + (i 0).val
/-- Where the tile's share starts, -/
def firstN (i : grid0.Coords) (L : ℕ → BitVec 32) : ℕ := widN i * beforeN L 16 / 32
/-- and ends. -/
def lastN (i : grid0.Coords) (L : ℕ → BitVec 32) : ℕ := (widN i + 1) * beforeN L 16 / 32
/-- The first row of sequence `b` in the share, -/
def loN (i : grid0.Coords) (L : ℕ → BitVec 32) (b : ℕ) : ℕ := 1024 + (firstN i L - beforeN L b)
/-- and the row past the last. -/
def hiN (i : grid0.Coords) (L : ℕ → BitVec 32) (b : ℕ) : ℕ := 1024 + (min (lastN i L) (beforeN L (b + 1)) - beforeN L b)
/-- The number of pieces. -/
def chunksN (i : grid0.Coords) (L : ℕ → BitVec 32) (b : ℕ) : ℕ := (hiN i L b - loN i L b + 31) / 32

theorem tailN_le {L : ℕ → BitVec 32} (hL : InRange L) {b : ℕ} (hb : b < 16) : tailN L b ≤ 1024 := by
  have := hL b hb; unfold tailN; omega

theorem beforeN_le {L : ℕ → BitVec 32} (hL : InRange L) {b : ℕ} (hb : b ≤ 16) : beforeN L b ≤ 1024 * b := by
  induction b with
  | zero => simp [beforeN]
  | succ b ih =>
    have := tailN_le hL (b := b) (by omega)
    have := ih (by omega)
    simp only [beforeN]; omega

theorem beforeN_mono (L : ℕ → BitVec 32) {b c : ℕ} (h : b ≤ c) : beforeN L b ≤ beforeN L c := by
  induction h with
  | refl => exact le_rfl
  | step _ ih => simp only [beforeN]; omega

theorem widN_lt (i : grid0.Coords) : widN i < 32 := by
  have h0 : (i 0).val < 2 := (i 0).isLt
  have h1 : (i 1).val < 16 := (i 1).isLt
  unfold widN; omega

/-! ## The words are the numbers -/

/-- The number a word is. -/
theorem toInt_of {x : BitVec 32} {e : ℤ} (h : IsInt x e) : x.toInt = e := unique (word x) h

/-- Dividing by thirty-two and rounding down does that. -/
theorem toInt_floor32 (x : BitVec 32) : (floor32 x).toInt = x.toInt / 32 := by
  have h32 : (32#32 : BitVec 32).toInt = 32 := by decide
  have hc : ¬ IntOp.SDivCorner x 32#32 := IntOp.not_corner_of_pos (by decide)
  have hr := word_range x
  have e1 : x.toInt.tdiv 32 = x.toInt / 32 + if 0 ≤ x.toInt ∨ 32 ∣ x.toInt then 0 else 1 := Int.tdiv_eq_ediv
  have hd : (Scalar.divsi x 32#32).toInt = x.toInt.tdiv 32 := by
    show (IntOp.divsi .scalar x 32#32).toInt = _
    unfold IntOp.divsi
    rw [if_neg hc, BitVec.toInt_sdiv, h32, Int.bmod_eq_of_le]
    · split at e1 <;> omega
    · split at e1 <;> omega
  have hm : (Scalar.remsi x 32#32).toInt = x.toInt.tmod 32 := by
    show (IntOp.remsi .scalar x 32#32).toInt = _
    rw [IntOp.remsi, if_neg hc, BitVec.toInt_srem, h32]
  have e2 := Int.mul_tdiv_add_tmod x.toInt 32
  have h1 : (Scalar.subi (Scalar.divsi x 32#32) 1#32).toInt = x.toInt.tdiv 32 - 1 := by
    refine toInt_of (subi (word _) (Affine.ofNat 1 ⟨rfl, by decide⟩) ⟨by rw [hd]; rfl, ?_, ?_⟩) <;> (split at e1 <;> omega)
  have hsel : Scalar.andi
      (Scalar.cmpi .ne
        (Scalar.subi (Scalar.extui (Scalar.cmpi .sgt x 0#32)) (Scalar.extui (Scalar.cmpi .slt x 0#32)))
        (Scalar.subi (Scalar.extui (Scalar.cmpi .sgt 32#32 0#32)) (Scalar.extui (Scalar.cmpi .slt 32#32 0#32) : BitVec 32)))
      (Scalar.cmpi .ne (Scalar.remsi x 32#32) 0#32) = 1#1 ↔ (x.toInt ≤ 0 ∧ x.toInt.tmod 32 ≠ 0) := by
    have ne : ∀ {x y : BitVec 32}, Scalar.cmpi .ne x y = 1#1 ↔ x ≠ y := IntOp.cmpi_ne
    rw [(by decide : ∀ c d : BitVec 1, Scalar.andi c d = 1#1 ↔ c = 1#1 ∧ d = 1#1), ne, ne]
    have hz : (Scalar.remsi x 32#32 ≠ 0#32) ↔ x.toInt.tmod 32 ≠ 0 := by
      rw [← hm, not_iff_not, ← BitVec.toInt_inj]; simp
    rw [hz]
    refine and_congr_left fun _ => ?_
    rcases lt_trichotomy x.toInt 0 with h | h | h
    · have a : Scalar.cmpi .sgt x 0#32 = 0#1 := by
        have := (IntOp.cmpi_sgt (x := x) (y := 0#32)).not.mpr (by simp; omega)
        exact (by decide : ∀ c : BitVec 1, ¬ c = 1#1 → c = 0#1) _ this
      have b : Scalar.cmpi .slt x 0#32 = 1#1 := (IntOp.cmpi_slt (x := x) (y := 0#32)).mpr (by simpa using h)
      rw [a, b]; simp only [h.le, iff_true]; decide
    · have : x = 0#32 := by rw [← BitVec.toInt_inj, h]; decide
      subst this; decide
    · have a : Scalar.cmpi .sgt x 0#32 = 1#1 := (IntOp.cmpi_sgt (x := x) (y := 0#32)).mpr (by simpa using h)
      have b : Scalar.cmpi .slt x 0#32 = 0#1 := by
        have := (IntOp.cmpi_slt (x := x) (y := 0#32)).not.mpr (by simp; omega)
        exact (by decide : ∀ c : BitVec 1, ¬ c = 1#1 → c = 0#1) _ this
      rw [a, b]; constructor
      · intro hh; exact absurd (by decide) hh
      · intro hh; omega
  unfold floor32
  rw [Scalar.select]
  by_cases h : x.toInt ≤ 0 ∧ x.toInt.tmod 32 ≠ 0
  · refine (congrArg BitVec.toInt (if_pos (hsel.mpr h))).trans (h1.trans ?_); split at e1 <;> omega
  · refine (congrArg BitVec.toInt (if_neg (hsel.not.mpr h))).trans (hd.trans ?_); split at e1 <;> omega

section
variable {L : ℕ → BitVec 32} (hL : InRange L)
include hL

theorem len_toInt {b : ℕ} (hb : b < 16) : IsInt (L b) ((L b).toNat : ℤ) := by
  have := hL b hb
  exact relit (word _) (BitVec.toInt_eq_toNat_of_lt (by omega))

theorem tail_isInt {b : ℕ} (hb : b < 16) : IsInt (tail L b) (tailN L b : ℤ) := by
  have := hL b hb
  refine maxsi (subi (len_toInt hL hb) (Affine.ofNat 1024 ⟨rfl, by decide⟩) ⟨rfl, by omega, by omega⟩)
    (Affine.ofNat 0 ⟨rfl, by decide⟩) ?_
  unfold tailN; omega

theorem before_isInt {b : ℕ} (hb : b ≤ 16) : IsInt (before L b) (beforeN L b : ℤ) := by
  induction b with
  | zero => exact Affine.ofNat 0 ⟨rfl, by decide⟩
  | succ b ih =>
    have h1 := beforeN_le hL hb
    refine addi (ih (by omega)) (tail_isInt hL (by omega)) ⟨?_, ?_, ?_⟩ <;> simp only [beforeN] at * <;> omega

omit hL in
theorem wid_isInt (i : grid0.Coords) : IsInt (wid i) (widN i : ℤ) := by
  have h0 : (i 0).val < 2 := (i 0).isLt
  have h1 : (i 1).val < 16 := (i 1).isLt
  refine addi (muli (Affine.ofNat (i 1).val ⟨rfl, by omega⟩) (Affine.ofNat 2 ⟨rfl, by decide⟩) ⟨rfl, by omega, by omega⟩)
    (Affine.ofNat (i 0).val ⟨rfl, by omega⟩) ⟨?_, ?_, ?_⟩ <;> unfold widN <;> push_cast <;> omega

theorem mul_le (i : grid0.Coords) : widN i * beforeN L 16 + beforeN L 16 ≤ 32 * 16384 := by
  have h1 := beforeN_le hL (b := 16) le_rfl
  have h2 := widN_lt i
  calc _ = (widN i + 1) * beforeN L 16 := (Nat.succ_mul _ _).symm
    _ ≤ 32 * 16384 := Nat.mul_le_mul (by omega) (by omega)

theorem first_isInt (i : grid0.Coords) : IsInt (first i L) (firstN i L : ℤ) := by
  have h := mul_le hL i
  have hm : IsInt (Scalar.muli (wid i) (before L 16)) ((widN i * beforeN L 16 : ℕ) : ℤ) :=
    muli (wid_isInt i) (before_isInt hL le_rfl) ⟨by push_cast; rfl, by omega, by omega⟩
  refine relit (word _) ?_
  rw [first, toInt_floor32, toInt_of hm, firstN]; omega

theorem last_isInt (i : grid0.Coords) : IsInt (last i L) (lastN i L : ℤ) := by
  have h := mul_le hL i
  have h2 := widN_lt i
  have e : (widN i + 1) * beforeN L 16 = widN i * beforeN L 16 + beforeN L 16 := Nat.succ_mul _ _
  have hm : IsInt (Scalar.muli (Scalar.addi (wid i) 1#32) (before L 16)) (((widN i + 1) * beforeN L 16 : ℕ) : ℤ) :=
    muli (addi (wid_isInt i) (Affine.ofNat 1 ⟨rfl, by decide⟩) ⟨rfl, by omega, by omega⟩) (before_isInt hL le_rfl)
      ⟨by push_cast; rfl, by omega, by omega⟩
  refine relit (word _) ?_
  rw [last, toInt_floor32, toInt_of hm, lastN]; omega

theorem firstN_le (i : grid0.Coords) : firstN i L ≤ 16384 := by
  have h := mul_le hL i
  unfold firstN; omega

theorem lastN_le (i : grid0.Coords) : lastN i L ≤ 16384 := by
  have h := mul_le hL i
  have e : (widN i + 1) * beforeN L 16 = widN i * beforeN L 16 + beforeN L 16 := Nat.succ_mul _ _
  unfold lastN; omega

theorem lo_isInt (i : grid0.Coords) {b : ℕ} (hb : b < 16) : IsInt (lo i L b) (loN i L b : ℤ) := by
  have h1 := beforeN_le hL (b := b) (by omega)
  have h2 := firstN_le hL i
  refine addi (Affine.ofNat 1024 ⟨rfl, by decide⟩) (subi (maxsi (first_isInt hL i) (before_isInt hL (by omega)) rfl)
    (before_isInt hL (by omega)) ⟨rfl, by omega, by omega⟩) ⟨?_, ?_, ?_⟩ <;> unfold loN <;> omega

/-- The end of the share in sequence `b`, which may come out before its start. -/
theorem hi_isInt (i : grid0.Coords) {b : ℕ} (hb : b < 16) :
    IsInt (hi i L b) (1024 + (min (lastN i L : ℤ) (beforeN L (b + 1)) - beforeN L b)) := by
  have h1 := beforeN_le hL (b := b) (by omega)
  have h2 := lastN_le hL i
  have h3 := beforeN_le hL (b := b + 1) (by omega)
  refine addi (Affine.ofNat 1024 ⟨rfl, by decide⟩) (subi (minsi (last_isInt hL i) (before_isInt hL (b := b + 1) (by omega)) rfl)
    (before_isInt hL (by omega)) ⟨rfl, by omega, by omega⟩) ⟨rfl, ?_, ?_⟩ <;> omega

theorem hi_toInt (i : grid0.Coords) {b : ℕ} (hb : b < 16) :
    (hi i L b).toInt ≤ hiN i L b ∧ (1024 < hiN i L b → (hi i L b).toInt = hiN i L b) ∧ -20000 ≤ (hi i L b).toInt := by
  have h1 := beforeN_le hL (b := b) (by omega)
  rw [toInt_of (hi_isInt hL i hb)]; unfold hiN; omega

theorem hiN_le (i : grid0.Coords) {b : ℕ} (hb : b < 16) : hiN i L b ≤ 2048 := by
  have := tailN_le hL hb
  unfold hiN; simp only [beforeN]; omega

omit hL in
theorem loN_ge (i : grid0.Coords) (b : ℕ) : 1024 ≤ loN i L b := by unfold loN; omega

theorem loN_le (i : grid0.Coords) (b : ℕ) : loN i L b ≤ 20000 := by
  have h2 := firstN_le hL i
  unfold loN; omega

theorem chunks_toInt (i : grid0.Coords) {b : ℕ} (hb : b < 16) :
    (chunks i L b).toInt ≤ chunksN i L b ∧ (0 < chunksN i L b → (chunks i L b).toInt = chunksN i L b) ∧
      -2000 ≤ (chunks i L b).toInt := by
  have h1 := hi_toInt hL i hb
  have h2 := loN_ge (L := L) i b
  have h3 := loN_le hL i b
  have h4 := hiN_le hL i hb
  have e : (Scalar.addi (Scalar.subi (hi i L b) (lo i L b)) 31#32).toInt = (hi i L b).toInt - loN i L b + 31 :=
    toInt_of (addi (subi (word _) (lo_isInt hL i hb) ⟨rfl, by omega, by omega⟩) (Affine.ofNat 31 ⟨rfl, by decide⟩)
      ⟨rfl, by omega, by omega⟩)
  rw [chunks, toInt_floor32, e, chunksN]; omega

theorem chunksN_le (i : grid0.Coords) {b : ℕ} (hb : b < 16) : chunksN i L b ≤ 32 := by
  have h2 := loN_ge (L := L) i b
  have h4 := hiN_le hL i hb
  unfold chunksN; omega

omit hL in
theorem span_ub (lb ub : BitVec 32) :
    Scalar.addi lb (Scalar.muli (Scalar.divsi (Scalar.subi ub lb) 1#32) 1#32) = ub := by
  rw [Scalar.muli_divsi_one]
  show lb + (ub - lb) = ub
  rw [add_sub_cancel]

omit hL in
theorem span_trips (lb ub : BitVec 32) : (span lb ub).trips = (ub.toInt - lb.toInt).toNat := by
  show Scf.trips lb (Scalar.addi lb (Scalar.muli (Scalar.divsi (Scalar.subi ub lb) 1#32) 1#32)) 1#32 = _
  rw [span_ub, Scf.trips, (by decide : (1#32 : BitVec 32).toInt = 1), Int.ediv_one]
  congr 1; omega

omit hL in
theorem span_ok (lb ub : BitVec 32) : (span lb ub).OK := by
  show Scf.OK lb (Scalar.addi lb (Scalar.muli (Scalar.divsi (Scalar.subi ub lb) 1#32) 1#32)) 1#32
  rw [span_ub]
  have h1 := word_range lb
  have h2 := word_range ub
  refine ⟨by decide, ?_⟩
  have := span_trips lb ub
  have e : Scf.trips lb ub 1#32 = (ub.toInt - lb.toInt).toNat := by
    rw [← this]
    show _ = Scf.trips lb (Scalar.addi lb (Scalar.muli (Scalar.divsi (Scalar.subi ub lb) 1#32) 1#32)) 1#32
    rw [span_ub]
  rw [e, (by decide : (1#32 : BitVec 32).toInt = 1)]
  have e2 : (2 : ℤ) ^ (32 - 1) = 2147483648 := by decide
  omega

theorem pieces_trips (i : grid0.Coords) {b : ℕ} (hb : b < 16) : (span 0#32 (chunks i L b)).trips = chunksN i L b := by
  have h1 := chunks_toInt hL i hb
  rw [span_trips, (by decide : (0#32 : BitVec 32).toInt = 0)]; omega

theorem has_iff (i : grid0.Coords) {b : ℕ} (hb : b < 16) (k : ℕ) (hk : k < 2) :
    has i L b (BitVec.ofNat 32 k) = 1#1 ↔ k < chunksN i L b := by
  have h1 := chunks_toInt hL i hb
  unfold has
  rw [Scalar.guard_iff]
  have : Scalar.cmpi .sgt (chunks i L b) (BitVec.ofNat 32 k) = 1#1 ↔ (BitVec.ofNat 32 k).toInt < (chunks i L b).toInt :=
    IntOp.cmpi_sgt
  rw [this, toInt_of (Affine.ofNat k ⟨rfl, by omega⟩)]; omega

/-- A piece's number as a word. -/
abbrev cw (k : ℕ) : BitVec 32 := BitVec.ofNat 32 k

omit hL in
theorem iv_zero (k : ℕ) : Scf.iv 0#32 1#32 k = cw k := by
  show (0#32 : BitVec 32) + BitVec.ofNat 32 k * 1#32 = _
  simp

theorem hasNext_iff (i : grid0.Coords) {b : ℕ} (hb : b < 16) {k : ℕ} (hk : k < chunksN i L b) :
    hasNext i L b (cw k) = 1#1 ↔ k + 2 < chunksN i L b := by
  have h1 := chunks_toInt hL i hb
  have h2 := chunksN_le hL i hb
  unfold hasNext
  rw [Scalar.guard_iff]
  have : Scalar.cmpi .slt (Scalar.addi (cw k) 2#32) (chunks i L b) = 1#1 ↔
      (Scalar.addi (cw k) 2#32).toInt < (chunks i L b).toInt := IntOp.cmpi_slt
  rw [this, toInt_of (addi (Affine.ofNat k ⟨rfl, by omega⟩) (Affine.ofNat 2 ⟨rfl, by decide⟩)
    ⟨rfl, by omega, by omega⟩)]
  push_cast; omega

/-- The first row of piece `k`, -/
def rowN (i : grid0.Coords) (L : ℕ → BitVec 32) (b k : ℕ) : ℕ := loN i L b + 32 * k
/-- the first row copied, -/
def rowcN (i : grid0.Coords) (L : ℕ → BitVec 32) (b k : ℕ) : ℕ := min (rowN i L b k) 2016
/-- the row past the piece's last. -/
def rowEndN (i : grid0.Coords) (L : ℕ → BitVec 32) (b k : ℕ) : ℕ := min (hiN i L b) (rowN i L b k + 32)

theorem rowN_lt (i : grid0.Coords) {b k : ℕ} (hb : b < 16) (hk : k < chunksN i L b) : rowN i L b k < hiN i L b := by
  unfold rowN; unfold chunksN at hk; omega

omit hL in
theorem addi_two (k : ℕ) : Scalar.addi (cw k) 2#32 = cw (k + 2) := (BitVec.ofNat_add k 2).symm

theorem row0_isInt (i : grid0.Coords) {b k : ℕ} (hb : b < 16) (hk : k < chunksN i L b) :
    IsInt (row0 i L b (cw k)) (rowN i L b k : ℤ) := by
  have h1 := rowN_lt hL i hb hk
  have h2 := hiN_le hL i hb
  have h3 := chunksN_le hL i hb
  refine addi (lo_isInt hL i hb) (muli (Affine.ofNat k ⟨rfl, by omega⟩) (Affine.ofNat 32 ⟨rfl, by decide⟩)
    ⟨rfl, by push_cast; omega, by push_cast; omega⟩) ⟨?_, ?_, ?_⟩ <;> unfold rowN at * <;> push_cast <;> omega

theorem row0c_isInt (i : grid0.Coords) {b k : ℕ} (hb : b < 16) (hk : k < chunksN i L b) :
    IsInt (row0c i L b (cw k)) (rowcN i L b k : ℤ) :=
  minsi (row0_isInt hL i hb hk) (Affine.ofNat 2016 ⟨rfl, by decide⟩) (by unfold rowcN; omega)

theorem row0c_nat (i : grid0.Coords) {b k : ℕ} (hb : b < 16) (hk : k < chunksN i L b) :
    (row0c i L b (cw k)).toNat = rowcN i L b k := nat_eq (row0c_isInt hL i hb hk) _ rfl

omit hL in
theorem sem_isInt {k : ℕ} (hk : k < 40) : IsInt (Scalar.remsi (cw k) 3#32) ((k % 3 : ℕ) : ℤ) :=
  remsi (Affine.ofNat k ⟨rfl, by omega⟩) (Affine.ofNat 3 ⟨rfl, by decide⟩) ⟨by push_cast; rfl, by omega, by omega⟩

omit hL in
theorem sem_nat {k : ℕ} (hk : k < 40) : (Scalar.remsi (cw k) 3#32).toNat = k % 3 := nat_eq (sem_isInt hk) _ rfl

omit hL in
theorem slotRow_isInt {k : ℕ} (hk : k < 40) : IsInt (slotRow (cw k)) ((32 * (k % 3) : ℕ) : ℤ) :=
  muli (sem_isInt hk) (Affine.ofNat 32 ⟨rfl, by decide⟩) ⟨by push_cast; omega, by omega, by omega⟩

omit hL in
theorem slotRow_nat {k : ℕ} (hk : k < 40) : (slotRow (cw k)).toNat = 32 * (k % 3) := nat_eq (slotRow_isInt hk) _ rfl

theorem bufLo_isInt (i : grid0.Coords) {b k : ℕ} (hb : b < 16) (hk : k < chunksN i L b) :
    IsInt (bufLo i L b (cw k)) ((32 * (k % 3) + (rowN i L b k - rowcN i L b k) : ℕ) : ℤ) := by
  have h1 := rowN_lt hL i hb hk
  have h2 := hiN_le hL i hb
  have h3 := chunksN_le hL i hb
  have h4 : rowcN i L b k ≤ rowN i L b k := min_le_left _ _
  refine addi (slotRow_isInt (by omega)) (subi (row0_isInt hL i hb hk) (row0c_isInt hL i hb hk) ⟨rfl, by omega, by omega⟩)
    ⟨?_, ?_, ?_⟩ <;> omega

theorem bufHi_isInt (i : grid0.Coords) {b k : ℕ} (hb : b < 16) (hk : k < chunksN i L b) :
    IsInt (bufHi i L b (cw k)) ((32 * (k % 3) + (rowEndN i L b k - rowcN i L b k) : ℕ) : ℤ) := by
  have h1 := rowN_lt hL i hb hk
  have h2 := hiN_le hL i hb
  have h3 := chunksN_le hL i hb
  have h4 : rowcN i L b k ≤ rowN i L b k := min_le_left _ _
  have h5 := loN_ge (L := L) i b
  have h7 : rowN i L b k < rowEndN i L b k := by unfold rowEndN; omega
  have h8 : rowEndN i L b k ≤ 2048 := by unfold rowEndN; omega
  have h6 : (hi i L b).toInt = hiN i L b := (hi_toInt hL i hb).2.1 (by unfold rowN at h1; omega)
  refine addi (slotRow_isInt (by omega)) (subi (minsi (ea := (hiN i L b : ℤ)) (relit (word _) h6)
    (addi (row0_isInt hL i hb hk) (Affine.ofNat 32 ⟨rfl, by decide⟩) ⟨rfl, by omega, by omega⟩) rfl)
    (row0c_isInt hL i hb hk) ⟨rfl, ?_, ?_⟩) ⟨?_, ?_, ?_⟩ <;> (try unfold rowEndN at *) <;> omega

/-- The rows of a piece. -/
theorem rows_trips (i : grid0.Coords) {b k : ℕ} (hb : b < 16) (hk : k < chunksN i L b) :
    (span (bufLo i L b (cw k)) (bufHi i L b (cw k))).trips = rowEndN i L b k - rowN i L b k := by
  have h1 := rowN_lt hL i hb hk
  have h4 : rowcN i L b k ≤ rowN i L b k := min_le_left _ _
  have h7 : rowN i L b k < rowEndN i L b k := by unfold rowEndN; omega
  rw [span_trips, toInt_of (bufLo_isInt hL i hb hk), toInt_of (bufHi_isInt hL i hb hk)]; omega

theorem row_nat (i : grid0.Coords) {b k t : ℕ} (hb : b < 16) (hk : k < chunksN i L b)
    (ht : t < rowEndN i L b k - rowN i L b k) :
    (Scf.iv (bufLo i L b (cw k)) 1#32 t).toNat = 32 * (k % 3) + (rowN i L b k - rowcN i L b k) + t := by
  have h1 := rowN_lt hL i hb hk
  have h4 : rowcN i L b k ≤ rowN i L b k := min_le_left _ _
  have h7 : rowN i L b k < rowEndN i L b k := by unfold rowEndN; omega
  have h8 : rowEndN i L b k ≤ rowN i L b k + 32 := min_le_right _ _
  have h9 : rowN i L b k - rowcN i L b k ≤ 32 := by
    have := hiN_le hL i hb
    unfold rowcN; omega
  have e := bufLo_isInt hL i hb hk
  have : Scf.iv (bufLo i L b (cw k)) 1#32 t = Scalar.addi (bufLo i L b (cw k)) (cw t) := by
    show _ + BitVec.ofNat 32 t * 1#32 = _ + BitVec.ofNat 32 t
    rw [BitVec.mul_one]
  rw [this]
  exact nat_eq (addi e (Affine.ofNat t ⟨rfl, by omega⟩) ⟨rfl, by omega, by omega⟩) _ (by push_cast; omega)

/-- What a piece asks holds. -/
theorem pieceOK (i : grid0.Coords) {b k : ℕ} (hb : b < 16) (hk : k < chunksN i L b) : PieceOK i L b (cw k) := by
  have h1 := rowN_lt hL i hb hk
  have h2 := hiN_le hL i hb
  have h3 := chunksN_le hL i hb
  have h4 : rowcN i L b k ≤ rowN i L b k := min_le_left _ _
  have h7 : rowN i L b k < rowEndN i L b k := by unfold rowEndN; omega
  have h8 : rowEndN i L b k ≤ 2048 := by unfold rowEndN; omega
  have h9 : rowEndN i L b k ≤ rowcN i L b k + 32 := by unfold rowEndN rowcN; omega
  have slotIn : ∀ r, r ≤ 64 → SlotIn r := by
    intro r hr a; fin_cases a
    · show r + 32 ≤ 96; omega
    · show 0 + 1 ≤ 1; omega
    · show 0 + 512 ≤ 512; omega
  have semIn : ∀ r, r < 3 → SemIn r := by
    intro r hr a; fin_cases a; show r + 1 ≤ 3; omega
  refine ⟨fun hn => ?_, fun hn => ?_, fun hn => ?_, ?_, ?_, span_ok _ _, fun t => ?_⟩
  · rw [addi_two, slotRow_nat (by omega)]; exact slotIn _ (by omega)
  · rw [addi_two, row0c_nat hL i hb ((hasNext_iff hL i hb hk).mp hn)]
    intro a; fin_cases a
    · show rowcN i L b (k + 2) + 32 ≤ 2048; unfold rowcN; omega
    · show b + 1 ≤ 16; omega
    · show 0 + 512 ≤ 512; omega
  · rw [addi_two, sem_nat (by omega)]; exact semIn _ (by omega)
  · rw [slotRow_nat (by omega)]; exact slotIn _ (by omega)
  · rw [sem_nat (by omega)]; exact semIn _ (by omega)
  · have ht := t.isLt
    have e := rows_trips hL i hb hk
    rw [row_nat hL i hb hk (by omega)]
    intro a; fin_cases a
    · show 32 * (k % 3) + (rowN i L b k - rowcN i L b k) + t.val + 1 ≤ 96; omega
    · show 0 + 1 ≤ 1; omega
    · show 16 * 0 + 16 ≤ 512; omega

theorem src_in (i : grid0.Coords) {b k : ℕ} (hb : b < 16) (hk : k < chunksN i L b) : SrcIn (row0c i L b (cw k)).toNat b := by
  rw [row0c_nat hL i hb hk]
  intro a; fin_cases a
  · show rowcN i L b k + 32 ≤ 2048; unfold rowcN; omega
  · show b + 1 ≤ 16; omega
  · show 0 + 512 ≤ 512; omega

/-- What a sequence asks holds. -/
theorem seqOK (i : grid0.Coords) {b : ℕ} (hb : b < 16) : SeqOK i L b := by
  refine ⟨?_, ?_, fun hn => src_in hL i hb ((has_iff hL i hb 0 (by omega)).mp hn),
    fun hn => src_in hL i hb ((has_iff hL i hb 1 (by omega)).mp hn), span_ok _ _, fun t => ?_⟩
  · intro a; fin_cases a
    · show 0 + 32 ≤ 2048; omega
    · show b + 1 ≤ 16; omega
    · show 0 + 512 ≤ 512; omega
  · intro a; fin_cases a; show b + 16 ≤ 32; omega
  · rw [iv_zero]
    exact pieceOK hL i hb (by have := t.isLt; have := pieces_trips hL i hb; omega)

end

end Cert.Tail

end
-- ==== Proof.Parts1.lean ====
/-
  What each stretch of the tile's printed program is, in the steps it holds: the scalars and the first eight sequences.
-/
module

public import proofs.«01_k».proof.Proof.Tile

@[expose] public section

set_option maxRecDepth 20000
set_option Elab.async false

noncomputable section

namespace Cert.Tail

open Idealize.ShloMosaic Idealize.SL.Sem Cert.KernelIdeal Cert.KernelIdeal.Gen

variable {F : FTy → Type} [FloatOps F]

set_option cleanup.letToHave false in
/-- A stretch of the tile's program is the steps it holds. -/
theorem part547_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b)  :
    k0_part547 (F := F) i arg2 harg2 arg3 harg3 arg4 harg4 arg5 harg5 arg6 harg6 arg7 harg7 arg8 harg8 arg9 harg9 arg10 harg10 arg11 harg11 arg12 arg13 v907_r0 v907_r1 v907_r2 (w 4) (w 5) (w 6) (w 7) (w 8) (w 9) (w 10) (w 11) (w 12) (w 13) (w 14) (w 15) (tail w 0) (tail w 1) (tail w 2) (Scalar.subi (w 3) 1024#32) =
    (pure ⟨tail w 3, tail w 4, tail w 5, tail w 6, tail w 7, tail w 8, tail w 9, tail w 10, tail w 11, tail w 12, tail w 13, tail w 14, tail w 15, before w 1, before w 2, before w 3, before w 4, before w 5, before w 6, before w 7, before w 8, before w 9⟩) := by
  sl_kernel_rfl

set_option cleanup.letToHave false in
/-- A stretch of the tile's program is the steps it holds. -/
theorem part548_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b)  :
    k0_part548 (F := F) i arg2 harg2 arg3 harg3 arg4 harg4 arg5 harg5 arg6 harg6 arg7 harg7 arg8 harg8 arg9 harg9 arg10 harg10 arg11 harg11 arg12 arg13 v907_r0 v907_r1 v907_r2 (wid i) (tail w 9) (tail w 10) (tail w 11) (tail w 12) (tail w 13) (tail w 14) (tail w 15) (before w 9) =
    (pure ⟨before w 10, before w 11, before w 12, before w 13, before w 14, before w 15, first i w, last i w, Scalar.ofBits .f32 0x00000000#32⟩) := by
  sl_kernel_rfl

set_option cleanup.letToHave false in
/-- A stretch of the tile's program is the steps it holds. -/
theorem part549_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b)  :
    k0_part549 (F := F) i arg2 harg2 arg3 harg3 arg4 harg4 arg5 harg5 arg6 harg6 arg7 harg7 arg8 harg8 arg9 harg9 arg10 harg10 arg11 harg11 arg12 arg13 v907_r0 v907_r1 v907_r2 (w 0) (w 1) (w 2) (w 3) (w 4) (w 5) (w 6) (w 7) (w 8) (w 9) (w 10) (w 11) (w 12) (w 13) (w 14) (w 15) hw (tail w 0) (first i w) (last i w) (Scalar.ofBits .f32 0x00000000#32) =
    (start0 i ⟨arg2, arg3, arg8, arg9, arg10, arg12, arg13⟩ w 0 (ok 0 (by decide)) <|
    start1 i ⟨arg2, arg3, arg8, arg9, arg10, arg12, arg13⟩ w 0 (ok 0 (by decide)) <|
    pure ⟨broadcast S16 (Scalar.ofBits .f32 0x00000000#32), lo i w 0, hi i w 0, broadcast S16 (Scalar.ofBits .f32 0x00000000#32), 0#32, 1#32, Scalar.divsi (Scalar.subi (chunks i w 0) 0#32) 1#32⟩) := by
  sl_kernel_rfl

set_option cleanup.letToHave false in
/-- A stretch of the tile's program is the steps it holds. -/
theorem part550_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b) (v151 : FVec F S16 .f32) (v184 : FVec F S16 .f32) :
    k0_part550 (F := F) i arg2 harg2 arg3 harg3 arg4 harg4 arg5 harg5 arg6 harg6 arg7 harg7 arg8 harg8 arg9 harg9 arg10 harg10 arg11 harg11 arg12 arg13 v907_r0 v907_r1 v907_r2 (w 0) (w 1) (w 2) (w 3) (w 4) (w 5) (w 6) (w 7) (w 8) (w 9) (w 10) (w 11) (w 12) (w 13) (w 14) (w 15) hw (tail w 1) (before w 1) (first i w) (last i w) v151 (lo i w 0) (hi i w 0) v184 0#32 1#32 (Scalar.divsi (Scalar.subi (chunks i w 0) 0#32) 1#32) =
    (pieces i ⟨arg2, arg3, arg8, arg9, arg10, arg12, arg13⟩ w 0 (ok 0 (by decide)) v184 fun v190 =>
    pieces' i ⟨arg2, arg3, arg8, arg9, arg10, arg12, arg13⟩ w 0 (ok 0 (by decide)) v190 fun v191 =>
    scale i ⟨arg2, arg3, arg8, arg9, arg10, arg12, arg13⟩ w 0 (ok 0 (by decide)) fun v192 =>
    start0 i ⟨arg2, arg3, arg8, arg9, arg10, arg12, arg13⟩ w 1 (ok 1 (by decide)) <|
    pure ⟨addf v151 (mulf v191 (broadcast S16 (extractAt (![0]) (extractStridedSlice S1 (![0]) (shapeCast S16 v192 shapeCasts_S16_S16) slices_S16_o0_S1) inpos_S1_p0))), lo i w 1, hi i w 1, chunks i w 1, Scalar.extui (Scalar.cmpi .sgt (chunks i w 1) 1#32), 0#32⟩) := by
  sl_kernel_rfl

set_option cleanup.letToHave false in
/-- A stretch of the tile's program is the steps it holds. -/
theorem part551_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b) (v198 : FVec F S16 .f32) :
    k0_part551 (F := F) i arg2 harg2 arg3 harg3 arg4 harg4 arg5 harg5 arg6 harg6 arg7 harg7 arg8 harg8 arg9 harg9 arg10 harg10 arg11 harg11 arg12 arg13 v907_r0 v907_r1 v907_r2 (w 0) (w 1) (w 2) (w 3) (w 4) (w 5) (w 6) (w 7) (w 8) (w 9) (w 10) (w 11) (w 12) (w 13) (w 14) (w 15) hw (tail w 2) (before w 2) (first i w) (last i w) v198 (lo i w 1) (hi i w 1) (chunks i w 1) (Scalar.extui (Scalar.cmpi .sgt (chunks i w 1) 1#32)) 0#32 =
    (start1 i ⟨arg2, arg3, arg8, arg9, arg10, arg12, arg13⟩ w 1 (ok 1 (by decide)) <|
    pieces i ⟨arg2, arg3, arg8, arg9, arg10, arg12, arg13⟩ w 1 (ok 1 (by decide)) (broadcast S16 (Scalar.ofBits .f32 0x00000000#32)) fun v237 =>
    pieces' i ⟨arg2, arg3, arg8, arg9, arg10, arg12, arg13⟩ w 1 (ok 1 (by decide)) v237 fun v238 =>
    scale i ⟨arg2, arg3, arg8, arg9, arg10, arg12, arg13⟩ w 1 (ok 1 (by decide)) fun v239 =>
    pure ⟨addf v198 (mulf v238 (broadcast S16 (extractAt (![0]) (extractStridedSlice S1 (![0]) (shapeCast S16 v239 shapeCasts_S16_S16) slices_S16_o0_S1) inpos_S1_p0))), lo i w 2, hi i w 2, chunks i w 2, 0#32⟩) := by
  sl_kernel_rfl

set_option cleanup.letToHave false in
/-- A stretch of the tile's program is the steps it holds. -/
theorem part552_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b) (v245 : FVec F S16 .f32) :
    k0_part552 (F := F) i arg2 harg2 arg3 harg3 arg4 harg4 arg5 harg5 arg6 harg6 arg7 harg7 arg8 harg8 arg9 harg9 arg10 harg10 arg11 harg11 arg12 arg13 v907_r0 v907_r1 v907_r2 (w 0) (w 1) (w 2) (w 3) (w 4) (w 5) (w 6) (w 7) (w 8) (w 9) (w 10) (w 11) (w 12) (w 13) (w 14) (w 15) hw (tail w 3) (before w 3) (first i w) (last i w) v245 (lo i w 2) (hi i w 2) (chunks i w 2) 0#32 =
    (start0 i ⟨arg2, arg3, arg8, arg9, arg10, arg12, arg13⟩ w 2 (ok 2 (by decide)) <|
    start1 i ⟨arg2, arg3, arg8, arg9, arg10, arg12, arg13⟩ w 2 (ok 2 (by decide)) <|
    pieces i ⟨arg2, arg3, arg8, arg9, arg10, arg12, arg13⟩ w 2 (ok 2 (by decide)) (broadcast S16 (Scalar.ofBits .f32 0x00000000#32)) fun v284 =>
    pieces' i ⟨arg2, arg3, arg8, arg9, arg10, arg12, arg13⟩ w 2 (ok 2 (by decide)) v284 fun v285 =>
    scale i ⟨arg2, arg3, arg8, arg9, arg10, arg12, arg13⟩ w 2 (ok 2 (by decide)) fun v286 =>
    pure ⟨addf v245 (mulf v285 (broadcast S16 (extractAt (![0]) (extractStridedSlice S1 (![0]) (shapeCast S16 v286 shapeCasts_S16_S16) slices_S16_o0_S1) inpos_S1_p0))), lo i w 3, hi i w 3, Scalar.addi (Scalar.subi (hi i w 3) (lo i w 3)) 31#32, 32#32, Scalar.divsi (Scalar.addi (Scalar.subi (hi i w 3) (lo i w 3)) 31#32) 32#32, Scalar.subi (Scalar.extui (Scalar.cmpi .sgt (Scalar.addi (Scalar.subi (hi i w 3) (lo i w 3)) 31#32) 0#32)) (Scalar.extui (Scalar.cmpi .slt (Scalar.addi (Scalar.subi (hi i w 3) (lo i w 3)) 31#32) 0#32)), Scalar.subi (Scalar.extui (Scalar.cmpi .sgt 32#32 0#32)) (Scalar.extui (Scalar.cmpi .slt 32#32 0#32))⟩) := by
  sl_kernel_rfl

set_option cleanup.letToHave false in
/-- A stretch of the tile's program is the steps it holds. -/
theorem part553_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b) (v292 : FVec F S16 .f32) :
    k0_part553 (F := F) i arg2 harg2 arg3 harg3 arg4 harg4 arg5 harg5 arg6 harg6 arg7 harg7 arg8 harg8 arg9 harg9 arg10 harg10 arg11 harg11 arg12 arg13 v907_r0 v907_r1 v907_r2 (w 0) (w 1) (w 2) (w 3) (w 4) (w 5) (w 6) (w 7) (w 8) (w 9) (w 10) (w 11) (w 12) (w 13) (w 14) (w 15) hw (tail w 4) (before w 4) (first i w) (last i w) v292 (lo i w 3) (hi i w 3) (Scalar.addi (Scalar.subi (hi i w 3) (lo i w 3)) 31#32) 32#32 (Scalar.divsi (Scalar.addi (Scalar.subi (hi i w 3) (lo i w 3)) 31#32) 32#32) (Scalar.subi (Scalar.extui (Scalar.cmpi .sgt (Scalar.addi (Scalar.subi (hi i w 3) (lo i w 3)) 31#32) 0#32)) (Scalar.extui (Scalar.cmpi .slt (Scalar.addi (Scalar.subi (hi i w 3) (lo i w 3)) 31#32) 0#32))) (Scalar.subi (Scalar.extui (Scalar.cmpi .sgt 32#32 0#32)) (Scalar.extui (Scalar.cmpi .slt 32#32 0#32))) =
    (start0 i ⟨arg2, arg3, arg8, arg9, arg10, arg12, arg13⟩ w 3 (ok 3 (by decide)) <|
    start1 i ⟨arg2, arg3, arg8, arg9, arg10, arg12, arg13⟩ w 3 (ok 3 (by decide)) <|
    pieces i ⟨arg2, arg3, arg8, arg9, arg10, arg12, arg13⟩ w 3 (ok 3 (by decide)) (broadcast S16 (Scalar.ofBits .f32 0x00000000#32)) fun v331 =>
    pieces' i ⟨arg2, arg3, arg8, arg9, arg10, arg12, arg13⟩ w 3 (ok 3 (by decide)) v331 fun v332 =>
    scale i ⟨arg2, arg3, arg8, arg9, arg10, arg12, arg13⟩ w 3 (ok 3 (by decide)) fun v333 =>
    pure ⟨addf v292 (mulf v332 (broadcast S16 (extractAt (![0]) (extractStridedSlice S1 (![0]) (shapeCast S16 v333 shapeCasts_S16_S16) slices_S16_o0_S1) inpos_S1_p0))), lo i w 4, hi i w 4, Scalar.addi (Scalar.subi (hi i w 4) (lo i w 4)) 31#32, 32#32, Scalar.divsi (Scalar.addi (Scalar.subi (hi i w 4) (lo i w 4)) 31#32) 32#32, Scalar.extui (Scalar.cmpi .sgt (Scalar.addi (Scalar.subi (hi i w 4) (lo i w 4)) 31#32) 0#32), Scalar.cmpi .slt (Scalar.addi (Scalar.subi (hi i w 4) (lo i w 4)) 31#32) 0#32⟩) := by
  sl_kernel_rfl

set_option cleanup.letToHave false in
/-- A stretch of the tile's program is the steps it holds. -/
theorem part554_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b) (v339 : FVec F S16 .f32) :
    k0_part554 (F := F) i arg2 harg2 arg3 harg3 arg4 harg4 arg5 harg5 arg6 harg6 arg7 harg7 arg8 harg8 arg9 harg9 arg10 harg10 arg11 harg11 arg12 arg13 v907_r0 v907_r1 v907_r2 (w 0) (w 1) (w 2) (w 3) (w 4) (w 5) (w 6) (w 7) (w 8) (w 9) (w 10) (w 11) (w 12) (w 13) (w 14) (w 15) hw (tail w 5) (before w 5) (first i w) (last i w) v339 (lo i w 4) (hi i w 4) (Scalar.addi (Scalar.subi (hi i w 4) (lo i w 4)) 31#32) 32#32 (Scalar.divsi (Scalar.addi (Scalar.subi (hi i w 4) (lo i w 4)) 31#32) 32#32) (Scalar.extui (Scalar.cmpi .sgt (Scalar.addi (Scalar.subi (hi i w 4) (lo i w 4)) 31#32) 0#32)) (Scalar.cmpi .slt (Scalar.addi (Scalar.subi (hi i w 4) (lo i w 4)) 31#32) 0#32) =
    (start0 i ⟨arg2, arg3, arg8, arg9, arg10, arg12, arg13⟩ w 4 (ok 4 (by decide)) <|
    start1 i ⟨arg2, arg3, arg8, arg9, arg10, arg12, arg13⟩ w 4 (ok 4 (by decide)) <|
    pieces i ⟨arg2, arg3, arg8, arg9, arg10, arg12, arg13⟩ w 4 (ok 4 (by decide)) (broadcast S16 (Scalar.ofBits .f32 0x00000000#32)) fun v378 =>
    pieces' i ⟨arg2, arg3, arg8, arg9, arg10, arg12, arg13⟩ w 4 (ok 4 (by decide)) v378 fun v379 =>
    scale i ⟨arg2, arg3, arg8, arg9, arg10, arg12, arg13⟩ w 4 (ok 4 (by decide)) fun v380 =>
    pure ⟨addf v339 (mulf v379 (broadcast S16 (extractAt (![0]) (extractStridedSlice S1 (![0]) (shapeCast S16 v380 shapeCasts_S16_S16) slices_S16_o0_S1) inpos_S1_p0))), lo i w 5, hi i w 5, Scalar.subi (hi i w 5) (lo i w 5)⟩) := by
  sl_kernel_rfl

set_option cleanup.letToHave false in
/-- A stretch of the tile's program is the steps it holds. -/
theorem part555_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b) (v386 : FVec F S16 .f32) :
    k0_part555 (F := F) i arg2 harg2 arg3 harg3 arg4 harg4 arg5 harg5 arg6 harg6 arg7 harg7 arg8 harg8 arg9 harg9 arg10 harg10 arg11 harg11 arg12 arg13 v907_r0 v907_r1 v907_r2 (w 0) (w 1) (w 2) (w 3) (w 4) (w 5) (w 6) (w 7) (w 8) (w 9) (w 10) (w 11) (w 12) (w 13) (w 14) (w 15) hw (before w 6) (first i w) v386 (lo i w 5) (hi i w 5) (Scalar.subi (hi i w 5) (lo i w 5)) =
    (start0 i ⟨arg2, arg3, arg8, arg9, arg10, arg12, arg13⟩ w 5 (ok 5 (by decide)) <|
    start1 i ⟨arg2, arg3, arg8, arg9, arg10, arg12, arg13⟩ w 5 (ok 5 (by decide)) <|
    pieces i ⟨arg2, arg3, arg8, arg9, arg10, arg12, arg13⟩ w 5 (ok 5 (by decide)) (broadcast S16 (Scalar.ofBits .f32 0x00000000#32)) fun v425 =>
    pieces' i ⟨arg2, arg3, arg8, arg9, arg10, arg12, arg13⟩ w 5 (ok 5 (by decide)) v425 fun v426 =>
    scale i ⟨arg2, arg3, arg8, arg9, arg10, arg12, arg13⟩ w 5 (ok 5 (by decide)) fun v427 =>
    pure ⟨addf v386 (mulf v426 (broadcast S16 (extractAt (![0]) (extractStridedSlice S1 (![0]) (shapeCast S16 v427 shapeCasts_S16_S16) slices_S16_o0_S1) inpos_S1_p0))), Scalar.maxsi (first i w) (before w 6)⟩) := by
  sl_kernel_rfl

set_option cleanup.letToHave false in
/-- A stretch of the tile's program is the steps it holds. -/
theorem part556_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b)  :
    k0_part556 (F := F) i arg2 harg2 arg3 harg3 arg4 harg4 arg5 harg5 arg6 harg6 arg7 harg7 arg8 harg8 arg9 harg9 arg10 harg10 arg11 harg11 arg12 arg13 v907_r0 v907_r1 v907_r2 (w 0) (w 1) (w 2) (w 3) (w 4) (w 5) (w 6) (w 7) (w 8) (w 9) (w 10) (w 11) (w 12) (w 13) (w 14) (w 15) hw (tail w 6) (before w 6) (last i w) (Scalar.maxsi (first i w) (before w 6)) =
    (start0 i ⟨arg2, arg3, arg8, arg9, arg10, arg12, arg13⟩ w 6 (ok 6 (by decide)) <|
    start1 i ⟨arg2, arg3, arg8, arg9, arg10, arg12, arg13⟩ w 6 (ok 6 (by decide)) <|
    pieces i ⟨arg2, arg3, arg8, arg9, arg10, arg12, arg13⟩ w 6 (ok 6 (by decide)) (broadcast S16 (Scalar.ofBits .f32 0x00000000#32)) fun v472 =>
    piecesEnd i ⟨arg2, arg3, arg8, arg9, arg10, arg12, arg13⟩ w 6 (ok 6 (by decide)) v472) := by
  sl_kernel_rfl

end Cert.Tail

end
-- ==== Proof.Parts2.lean ====
/-
  What each stretch of the tile's printed program is, in the steps it holds: the other eight sequences.
-/
module

public import proofs.«01_k».proof.Proof.Tile

@[expose] public section

set_option maxRecDepth 20000
set_option Elab.async false

noncomputable section

namespace Cert.Tail

open Idealize.ShloMosaic Idealize.SL.Sem Cert.KernelIdeal Cert.KernelIdeal.Gen

variable {F : FTy → Type} [FloatOps F]

set_option cleanup.letToHave false in
/-- A stretch of the tile's program is the steps it holds. -/
theorem part557_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b) (v433 : FVec F S16 .f32) (v473 : FVec F S16 .f32) :
    k0_part557 (F := F) i arg2 harg2 arg3 harg3 arg4 harg4 arg5 harg5 arg6 harg6 arg7 harg7 arg8 harg8 arg9 harg9 arg10 harg10 arg11 harg11 arg12 arg13 v907_r0 v907_r1 v907_r2 (w 0) (w 1) (w 2) (w 3) (w 4) (w 5) (w 6) (w 7) (w 8) (w 9) (w 10) (w 11) (w 12) (w 13) (w 14) (w 15) hw (tail w 7) (before w 7) (first i w) (last i w) v433 v473 =
    (scale i ⟨arg2, arg3, arg8, arg9, arg10, arg12, arg13⟩ w 6 (ok 6 (by decide)) fun v474 =>
    start0 i ⟨arg2, arg3, arg8, arg9, arg10, arg12, arg13⟩ w 7 (ok 7 (by decide)) <|
    start1 i ⟨arg2, arg3, arg8, arg9, arg10, arg12, arg13⟩ w 7 (ok 7 (by decide)) <|
    pure ⟨addf v433 (mulf v473 (broadcast S16 (extractAt (![0]) (extractStridedSlice S1 (![0]) (shapeCast S16 v474 shapeCasts_S16_S16) slices_S16_o0_S1) inpos_S1_p0))), lo i w 7, hi i w 7, broadcast S16 (Scalar.ofBits .f32 0x00000000#32), 0#32, Scalar.subi (chunks i w 7) 0#32⟩) := by
  sl_kernel_rfl

set_option cleanup.letToHave false in
/-- A stretch of the tile's program is the steps it holds. -/
theorem part558_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b) (v480 : FVec F S16 .f32) (v513 : FVec F S16 .f32) :
    k0_part558 (F := F) i arg2 harg2 arg3 harg3 arg4 harg4 arg5 harg5 arg6 harg6 arg7 harg7 arg8 harg8 arg9 harg9 arg10 harg10 arg11 harg11 arg12 arg13 v907_r0 v907_r1 v907_r2 (w 0) (w 1) (w 2) (w 3) (w 4) (w 5) (w 6) (w 7) (w 8) (w 9) (w 10) (w 11) (w 12) (w 13) (w 14) (w 15) hw (tail w 8) (before w 8) (first i w) (last i w) v480 (lo i w 7) (hi i w 7) v513 0#32 (Scalar.subi (chunks i w 7) 0#32) =
    (pieces i ⟨arg2, arg3, arg8, arg9, arg10, arg12, arg13⟩ w 7 (ok 7 (by decide)) v513 fun v519 =>
    pieces' i ⟨arg2, arg3, arg8, arg9, arg10, arg12, arg13⟩ w 7 (ok 7 (by decide)) v519 fun v520 =>
    scale i ⟨arg2, arg3, arg8, arg9, arg10, arg12, arg13⟩ w 7 (ok 7 (by decide)) fun v521 =>
    start0 i ⟨arg2, arg3, arg8, arg9, arg10, arg12, arg13⟩ w 8 (ok 8 (by decide)) <|
    pure ⟨addf v480 (mulf v520 (broadcast S16 (extractAt (![0]) (extractStridedSlice S1 (![0]) (shapeCast S16 v521 shapeCasts_S16_S16) slices_S16_o0_S1) inpos_S1_p0))), lo i w 8, hi i w 8, chunks i w 8, 1#32⟩) := by
  sl_kernel_rfl

set_option cleanup.letToHave false in
/-- A stretch of the tile's program is the steps it holds. -/
theorem part559_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b) (v527 : FVec F S16 .f32) :
    k0_part559 (F := F) i arg2 harg2 arg3 harg3 arg4 harg4 arg5 harg5 arg6 harg6 arg7 harg7 arg8 harg8 arg9 harg9 arg10 harg10 arg11 harg11 arg12 arg13 v907_r0 v907_r1 v907_r2 (w 0) (w 1) (w 2) (w 3) (w 4) (w 5) (w 6) (w 7) (w 8) (w 9) (w 10) (w 11) (w 12) (w 13) (w 14) (w 15) hw (tail w 9) (before w 9) (first i w) (last i w) v527 (lo i w 8) (hi i w 8) (chunks i w 8) 1#32 =
    (start1 i ⟨arg2, arg3, arg8, arg9, arg10, arg12, arg13⟩ w 8 (ok 8 (by decide)) <|
    pieces i ⟨arg2, arg3, arg8, arg9, arg10, arg12, arg13⟩ w 8 (ok 8 (by decide)) (broadcast S16 (Scalar.ofBits .f32 0x00000000#32)) fun v566 =>
    pieces' i ⟨arg2, arg3, arg8, arg9, arg10, arg12, arg13⟩ w 8 (ok 8 (by decide)) v566 fun v567 =>
    scale i ⟨arg2, arg3, arg8, arg9, arg10, arg12, arg13⟩ w 8 (ok 8 (by decide)) fun v568 =>
    pure ⟨addf v527 (mulf v567 (broadcast S16 (extractAt (![0]) (extractStridedSlice S1 (![0]) (shapeCast S16 v568 shapeCasts_S16_S16) slices_S16_o0_S1) inpos_S1_p0))), lo i w 9, hi i w 9, Scalar.divsi (Scalar.addi (Scalar.subi (hi i w 9) (lo i w 9)) 31#32) 32#32, Scalar.andi (Scalar.cmpi .ne (Scalar.subi (Scalar.extui (Scalar.cmpi .sgt (Scalar.addi (Scalar.subi (hi i w 9) (lo i w 9)) 31#32) 0#32)) (Scalar.extui (Scalar.cmpi .slt (Scalar.addi (Scalar.subi (hi i w 9) (lo i w 9)) 31#32) 0#32))) (Scalar.subi (Scalar.extui (Scalar.cmpi .sgt 32#32 0#32)) (Scalar.extui (Scalar.cmpi .slt 32#32 0#32)))) (Scalar.cmpi .ne (Scalar.remsi (Scalar.addi (Scalar.subi (hi i w 9) (lo i w 9)) 31#32) 32#32) 0#32), 1#32⟩) := by
  sl_kernel_rfl

set_option cleanup.letToHave false in
/-- A stretch of the tile's program is the steps it holds. -/
theorem part560_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b) (v574 : FVec F S16 .f32) :
    k0_part560 (F := F) i arg2 harg2 arg3 harg3 arg4 harg4 arg5 harg5 arg6 harg6 arg7 harg7 arg8 harg8 arg9 harg9 arg10 harg10 arg11 harg11 arg12 arg13 v907_r0 v907_r1 v907_r2 (w 0) (w 1) (w 2) (w 3) (w 4) (w 5) (w 6) (w 7) (w 8) (w 9) (w 10) (w 11) (w 12) (w 13) (w 14) (w 15) hw (tail w 10) (before w 10) (first i w) (last i w) v574 (lo i w 9) (hi i w 9) (Scalar.divsi (Scalar.addi (Scalar.subi (hi i w 9) (lo i w 9)) 31#32) 32#32) (Scalar.andi (Scalar.cmpi .ne (Scalar.subi (Scalar.extui (Scalar.cmpi .sgt (Scalar.addi (Scalar.subi (hi i w 9) (lo i w 9)) 31#32) 0#32)) (Scalar.extui (Scalar.cmpi .slt (Scalar.addi (Scalar.subi (hi i w 9) (lo i w 9)) 31#32) 0#32))) (Scalar.subi (Scalar.extui (Scalar.cmpi .sgt 32#32 0#32)) (Scalar.extui (Scalar.cmpi .slt 32#32 0#32)))) (Scalar.cmpi .ne (Scalar.remsi (Scalar.addi (Scalar.subi (hi i w 9) (lo i w 9)) 31#32) 32#32) 0#32)) 1#32 =
    (start0 i ⟨arg2, arg3, arg8, arg9, arg10, arg12, arg13⟩ w 9 (ok 9 (by decide)) <|
    start1 i ⟨arg2, arg3, arg8, arg9, arg10, arg12, arg13⟩ w 9 (ok 9 (by decide)) <|
    pieces i ⟨arg2, arg3, arg8, arg9, arg10, arg12, arg13⟩ w 9 (ok 9 (by decide)) (broadcast S16 (Scalar.ofBits .f32 0x00000000#32)) fun v613 =>
    pieces' i ⟨arg2, arg3, arg8, arg9, arg10, arg12, arg13⟩ w 9 (ok 9 (by decide)) v613 fun v614 =>
    scale i ⟨arg2, arg3, arg8, arg9, arg10, arg12, arg13⟩ w 9 (ok 9 (by decide)) fun v615 =>
    pure ⟨addf v574 (mulf v614 (broadcast S16 (extractAt (![0]) (extractStridedSlice S1 (![0]) (shapeCast S16 v615 shapeCasts_S16_S16) slices_S16_o0_S1) inpos_S1_p0))), lo i w 10, hi i w 10, Scalar.addi (Scalar.subi (hi i w 10) (lo i w 10)) 31#32, 32#32, Scalar.divsi (Scalar.addi (Scalar.subi (hi i w 10) (lo i w 10)) 31#32) 32#32, Scalar.subi (Scalar.extui (Scalar.cmpi .sgt (Scalar.addi (Scalar.subi (hi i w 10) (lo i w 10)) 31#32) 0#32)) (Scalar.extui (Scalar.cmpi .slt (Scalar.addi (Scalar.subi (hi i w 10) (lo i w 10)) 31#32) 0#32)), Scalar.extui (Scalar.cmpi .sgt 32#32 0#32), 0#32⟩) := by
  sl_kernel_rfl

set_option cleanup.letToHave false in
/-- A stretch of the tile's program is the steps it holds. -/
theorem part561_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b) (v621 : FVec F S16 .f32) :
    k0_part561 (F := F) i arg2 harg2 arg3 harg3 arg4 harg4 arg5 harg5 arg6 harg6 arg7 harg7 arg8 harg8 arg9 harg9 arg10 harg10 arg11 harg11 arg12 arg13 v907_r0 v907_r1 v907_r2 (w 0) (w 1) (w 2) (w 3) (w 4) (w 5) (w 6) (w 7) (w 8) (w 9) (w 10) (w 11) (w 12) (w 13) (w 14) (w 15) hw (tail w 11) (before w 11) (first i w) (last i w) v621 (lo i w 10) (hi i w 10) (Scalar.addi (Scalar.subi (hi i w 10) (lo i w 10)) 31#32) 32#32 (Scalar.divsi (Scalar.addi (Scalar.subi (hi i w 10) (lo i w 10)) 31#32) 32#32) (Scalar.subi (Scalar.extui (Scalar.cmpi .sgt (Scalar.addi (Scalar.subi (hi i w 10) (lo i w 10)) 31#32) 0#32)) (Scalar.extui (Scalar.cmpi .slt (Scalar.addi (Scalar.subi (hi i w 10) (lo i w 10)) 31#32) 0#32))) (Scalar.extui (Scalar.cmpi .sgt 32#32 0#32)) 0#32 =
    (start0 i ⟨arg2, arg3, arg8, arg9, arg10, arg12, arg13⟩ w 10 (ok 10 (by decide)) <|
    start1 i ⟨arg2, arg3, arg8, arg9, arg10, arg12, arg13⟩ w 10 (ok 10 (by decide)) <|
    pieces i ⟨arg2, arg3, arg8, arg9, arg10, arg12, arg13⟩ w 10 (ok 10 (by decide)) (broadcast S16 (Scalar.ofBits .f32 0x00000000#32)) fun v660 =>
    pieces' i ⟨arg2, arg3, arg8, arg9, arg10, arg12, arg13⟩ w 10 (ok 10 (by decide)) v660 fun v661 =>
    scale i ⟨arg2, arg3, arg8, arg9, arg10, arg12, arg13⟩ w 10 (ok 10 (by decide)) fun v662 =>
    pure ⟨addf v621 (mulf v661 (broadcast S16 (extractAt (![0]) (extractStridedSlice S1 (![0]) (shapeCast S16 v662 shapeCasts_S16_S16) slices_S16_o0_S1) inpos_S1_p0))), lo i w 11, hi i w 11, Scalar.addi (Scalar.subi (hi i w 11) (lo i w 11)) 31#32, 32#32, Scalar.divsi (Scalar.addi (Scalar.subi (hi i w 11) (lo i w 11)) 31#32) 32#32, Scalar.cmpi .sgt (Scalar.addi (Scalar.subi (hi i w 11) (lo i w 11)) 31#32) 0#32⟩) := by
  sl_kernel_rfl

set_option cleanup.letToHave false in
/-- A stretch of the tile's program is the steps it holds. -/
theorem part562_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b) (v668 : FVec F S16 .f32) :
    k0_part562 (F := F) i arg2 harg2 arg3 harg3 arg4 harg4 arg5 harg5 arg6 harg6 arg7 harg7 arg8 harg8 arg9 harg9 arg10 harg10 arg11 harg11 arg12 arg13 v907_r0 v907_r1 v907_r2 (w 0) (w 1) (w 2) (w 3) (w 4) (w 5) (w 6) (w 7) (w 8) (w 9) (w 10) (w 11) (w 12) (w 13) (w 14) (w 15) hw (tail w 12) (before w 12) (first i w) (last i w) v668 (lo i w 11) (hi i w 11) (Scalar.addi (Scalar.subi (hi i w 11) (lo i w 11)) 31#32) 32#32 (Scalar.divsi (Scalar.addi (Scalar.subi (hi i w 11) (lo i w 11)) 31#32) 32#32) (Scalar.cmpi .sgt (Scalar.addi (Scalar.subi (hi i w 11) (lo i w 11)) 31#32) 0#32) =
    (start0 i ⟨arg2, arg3, arg8, arg9, arg10, arg12, arg13⟩ w 11 (ok 11 (by decide)) <|
    start1 i ⟨arg2, arg3, arg8, arg9, arg10, arg12, arg13⟩ w 11 (ok 11 (by decide)) <|
    pieces i ⟨arg2, arg3, arg8, arg9, arg10, arg12, arg13⟩ w 11 (ok 11 (by decide)) (broadcast S16 (Scalar.ofBits .f32 0x00000000#32)) fun v707 =>
    pieces' i ⟨arg2, arg3, arg8, arg9, arg10, arg12, arg13⟩ w 11 (ok 11 (by decide)) v707 fun v708 =>
    scale i ⟨arg2, arg3, arg8, arg9, arg10, arg12, arg13⟩ w 11 (ok 11 (by decide)) fun v709 =>
    pure ⟨addf v668 (mulf v708 (broadcast S16 (extractAt (![0]) (extractStridedSlice S1 (![0]) (shapeCast S16 v709 shapeCasts_S16_S16) slices_S16_o0_S1) inpos_S1_p0))), lo i w 12, Scalar.subi (Scalar.minsi (last i w) (before w 13)) (before w 12)⟩) := by
  sl_kernel_rfl

set_option cleanup.letToHave false in
/-- A stretch of the tile's program is the steps it holds. -/
theorem part563_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b)  :
    k0_part563 (F := F) i arg2 harg2 arg3 harg3 arg4 harg4 arg5 harg5 arg6 harg6 arg7 harg7 arg8 harg8 arg9 harg9 arg10 harg10 arg11 harg11 arg12 arg13 v907_r0 v907_r1 v907_r2 (w 0) (w 1) (w 2) (w 3) (w 4) (w 5) (w 6) (w 7) (w 8) (w 9) (w 10) (w 11) (w 12) (w 13) (w 14) (w 15) hw (lo i w 12) (Scalar.subi (Scalar.minsi (last i w) (before w 13)) (before w 12)) =
    (start0 i ⟨arg2, arg3, arg8, arg9, arg10, arg12, arg13⟩ w 12 (ok 12 (by decide)) <|
    start1 i ⟨arg2, arg3, arg8, arg9, arg10, arg12, arg13⟩ w 12 (ok 12 (by decide)) <|
    pieces i ⟨arg2, arg3, arg8, arg9, arg10, arg12, arg13⟩ w 12 (ok 12 (by decide)) (broadcast S16 (Scalar.ofBits .f32 0x00000000#32)) fun v754 =>
    pieces' i ⟨arg2, arg3, arg8, arg9, arg10, arg12, arg13⟩ w 12 (ok 12 (by decide)) v754 fun v755 =>
    scale i ⟨arg2, arg3, arg8, arg9, arg10, arg12, arg13⟩ w 12 (ok 12 (by decide)) fun v756 =>
    pure ⟨v755, broadcast S16 (extractAt (![0]) (extractStridedSlice S1 (![0]) (shapeCast S16 v756 shapeCasts_S16_S16) slices_S16_o0_S1) inpos_S1_p0)⟩) := by
  sl_kernel_rfl

set_option cleanup.letToHave false in
/-- A stretch of the tile's program is the steps it holds. -/
theorem part564_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b) (v715 : FVec F S16 .f32) (v755 : FVec F S16 .f32) (v760 : FVec F S16 .f32) :
    k0_part564 (F := F) i arg2 harg2 arg3 harg3 arg4 harg4 arg5 harg5 arg6 harg6 arg7 harg7 arg8 harg8 arg9 harg9 arg10 harg10 arg11 harg11 arg12 arg13 v907_r0 v907_r1 v907_r2 (w 0) (w 1) (w 2) (w 3) (w 4) (w 5) (w 6) (w 7) (w 8) (w 9) (w 10) (w 11) (w 12) (w 13) (w 14) (w 15) hw (tail w 13) (before w 13) (first i w) (last i w) v715 v755 v760 =
    (start0 i ⟨arg2, arg3, arg8, arg9, arg10, arg12, arg13⟩ w 13 (ok 13 (by decide)) <|
    start1 i ⟨arg2, arg3, arg8, arg9, arg10, arg12, arg13⟩ w 13 (ok 13 (by decide)) <|
    pure ⟨addf v715 (mulf v755 v760), lo i w 13, hi i w 13, broadcast S16 (Scalar.ofBits .f32 0x00000000#32), 0#32, Scalar.addi 0#32 (Scalar.muli (Scalar.divsi (Scalar.subi (chunks i w 13) 0#32) 1#32) 1#32), 1#32⟩) := by
  sl_kernel_rfl

set_option cleanup.letToHave false in
/-- A stretch of the tile's program is the steps it holds. -/
theorem part565_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b) (v762 : FVec F S16 .f32) (v795 : FVec F S16 .f32) :
    k0_part565 (F := F) i arg2 harg2 arg3 harg3 arg4 harg4 arg5 harg5 arg6 harg6 arg7 harg7 arg8 harg8 arg9 harg9 arg10 harg10 arg11 harg11 arg12 arg13 v907_r0 v907_r1 v907_r2 (w 0) (w 1) (w 2) (w 3) (w 4) (w 5) (w 6) (w 7) (w 8) (w 9) (w 10) (w 11) (w 12) (w 13) (w 14) (w 15) hw (tail w 14) (before w 14) (first i w) (last i w) v762 (lo i w 13) (hi i w 13) v795 0#32 (Scalar.addi 0#32 (Scalar.muli (Scalar.divsi (Scalar.subi (chunks i w 13) 0#32) 1#32) 1#32)) 1#32 =
    (pieces i ⟨arg2, arg3, arg8, arg9, arg10, arg12, arg13⟩ w 13 (ok 13 (by decide)) v795 fun v801 =>
    pieces' i ⟨arg2, arg3, arg8, arg9, arg10, arg12, arg13⟩ w 13 (ok 13 (by decide)) v801 fun v802 =>
    scale i ⟨arg2, arg3, arg8, arg9, arg10, arg12, arg13⟩ w 13 (ok 13 (by decide)) fun v803 =>
    start0 i ⟨arg2, arg3, arg8, arg9, arg10, arg12, arg13⟩ w 14 (ok 14 (by decide)) <|
    start1 i ⟨arg2, arg3, arg8, arg9, arg10, arg12, arg13⟩ w 14 (ok 14 (by decide)) <|
    pure ⟨addf v762 (mulf v802 (broadcast S16 (extractAt (![0]) (extractStridedSlice S1 (![0]) (shapeCast S16 v803 shapeCasts_S16_S16) slices_S16_o0_S1) inpos_S1_p0))), lo i w 14, hi i w 14, chunks i w 14, Scalar.ofBits .f32 0x00000000#32⟩) := by
  sl_kernel_rfl

set_option cleanup.letToHave false in
/-- A stretch of the tile's program is the steps it holds. -/
theorem part566_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b) (v809 : FVec F S16 .f32) :
    k0_part566 (F := F) i arg2 harg2 arg3 harg3 arg4 harg4 arg5 harg5 arg6 harg6 arg7 harg7 arg8 harg8 arg9 harg9 arg10 harg10 arg11 harg11 arg12 arg13 v907_r0 v907_r1 v907_r2 (w 0) (w 1) (w 2) (w 3) (w 4) (w 5) (w 6) (w 7) (w 8) (w 9) (w 10) (w 11) (w 12) (w 13) (w 14) (w 15) hw (tail w 15) (before w 15) (first i w) (last i w) v809 (lo i w 14) (hi i w 14) (chunks i w 14) (Scalar.ofBits .f32 0x00000000#32) =
    (pieces i ⟨arg2, arg3, arg8, arg9, arg10, arg12, arg13⟩ w 14 (ok 14 (by decide)) (broadcast S16 (Scalar.ofBits .f32 0x00000000#32)) fun v848 =>
    pieces' i ⟨arg2, arg3, arg8, arg9, arg10, arg12, arg13⟩ w 14 (ok 14 (by decide)) v848 fun v849 =>
    scale i ⟨arg2, arg3, arg8, arg9, arg10, arg12, arg13⟩ w 14 (ok 14 (by decide)) fun v850 =>
    pure ⟨addf v809 (mulf v849 (broadcast S16 (extractAt (![0]) (extractStridedSlice S1 (![0]) (shapeCast S16 v850 shapeCasts_S16_S16) slices_S16_o0_S1) inpos_S1_p0))), lo i w 15, hi i w 15, chunks i w 15, Scalar.extui (Scalar.cmpi .sgt (chunks i w 15) 0#32), 0#32⟩) := by
  sl_kernel_rfl

end Cert.Tail

end
-- ==== Proof.Head.lean ====
/-
  The tile's printed program from its start to its last copy, in the steps it holds.
-/
module

public import proofs.«01_k».proof.Proof.Parts1
public import proofs.«01_k».proof.Proof.Parts2

@[expose] public section

set_option maxRecDepth 20000
set_option Elab.async false

noncomputable section

namespace Cert.Tail

open Idealize.ShloMosaic Idealize.SL.Sem Cert.KernelIdeal Cert.KernelIdeal.Gen

variable {F : FTy → Type} [FloatOps F]

/-- Putting the sums into the buffer they are copied out of. -/
def putTotal (i : grid0.Coords) (arg11 : Memref sig .scVector .vmem S16 .f32) (v : FVec F S16 .f32) : TP F i PUnit := do
  let _v : Vec F S16 .f32 ← Prog.lift (.load arg11 (Rect.unit (s := S16) ![0] S16.size inb_S16_S16_0).toLoadRect (View.loadsAt_vmem h_S16))
  Prog.lift (.store arg11 (Rect.unit (s := S16) ![0] S16.size inb_S16_S16_0) (shapeCast S16 v shapeCasts_S16_S16) Finset.univ (View.stores_vmem_bits_univ h_S16 rfl) (.inl rfl))
  pure ⟨⟩

/-- Reading a length, and then the rest. -/
def readWord {α : Type} (i : grid0.Coords) (arg7 : Memref sig .scVector .vmem S32 .i32) (k : ℕ)
    (h : ∀ a, (![k] : Fin 1 → ℕ) a + S16.size a ≤ S32.size a) (kk : BitVec 32 → TP F i α) : TP F i α := do
  let v : Vec F S16 .i32 ← Prog.lift (.load arg7 (Rect.unit (s := S32) ![k] S16.size h).toLoadRect (View.loadsAt_vmem h_S16))
  kk (extractAt ![0] (extractStridedSlice S1 ![0] (shapeCast S16 v shapeCasts_S16_S16) slices_S16_o0_S1) inpos_S1_p0)

/-- Fetching the lengths and the scales, and then the rest. -/
def fetch {α : Type} (i : grid0.Coords) (arg4 : Memref sig .scVector .hbm S16 .i32) (harg4 : arg4.IsWhole)
    (arg5 : Memref sig .scVector .hbm S16 .f32) (harg5 : arg5.IsWhole) (arg7 : Memref sig .scVector .vmem S32 .i32)
    (arg8 : Memref sig .scVector .vmem S32 .f32) (r0 r1 : DmaSems sig S_) (kk : TP F i α) : TP F i α := do
  Prog.lift (.enqueueDma arg4 (.here (arg7.slice (Rect.unit (s := S32) ![0] S16.size inb_S32_S16_0) (fun _ => rfl))) (.dma r0.sem) harg4.wordExact (View.wordExact_bits rfl) ⟨Or.inl rfl, trivial⟩)
  Prog.lift (.waitDma2 r0.sem arg4 (arg7.slice (Rect.unit (s := S32) ![0] S16.size inb_S32_S16_0) (fun _ => rfl)) harg4.wordExact (View.wordExact_bits rfl))
  Prog.lift (.enqueueDma arg5 (.here (arg8.slice (Rect.unit (s := S32) ![0] S16.size inb_S32_S16_0) (fun _ => rfl))) (.dma r1.sem) harg5.wordExact (View.wordExact_bits rfl) ⟨Or.inl rfl, trivial⟩)
  Prog.lift (.waitDma2 r1.sem arg5 (arg8.slice (Rect.unit (s := S32) ![0] S16.size inb_S32_S16_0) (fun _ => rfl)) harg5.wordExact (View.wordExact_bits rfl))
  kk

/-- The end of the tile's program: the last sequence, and the sums put into the buffer they are copied out of. -/
def lastSeq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65)
    (v856 : FVec F S16 .f32) (v861 v863 v882 v884 c0_i32_358 : BitVec 32) : TP F i PUnit := do
  let v885 : BitVec 1 := Scalar.cmpi .ne v884 c0_i32_358
  if k0_h61 : k0_cond61 i v5 v9 v13 v17 v21 v25 v29 v33 v37 v41 v45 v49 v53 v57 v61 v65 = 1#1 then do
    let c0_i32_368 : BitVec 32 := 0#32
    let c32_i32_369 : BitVec 32 := 32#32
    let v907 : BitVec 32 := Scalar.muli c0_i32_368 c32_i32_369
    let v908 : BitVec 32 := Scalar.addi v861 v907
    let c2016_i32 : BitVec 32 := 2016#32
    let v909 : BitVec 32 := Scalar.minsi v908 c2016_i32
    let c0_i32_370 : BitVec 32 := 0#32
    let c32_i32_371 : BitVec 32 := 32#32
    let v910 : BitVec 32 := Scalar.muli c0_i32_370 c32_i32_371
    let c0_i32_372 : BitVec 32 := 0#32
    let c0_i32_373 : BitVec 32 := 0#32
    let c0_i32_374 : BitVec 32 := 0#32
    let v911 : Memref sig .scVector .vmem S32x1x512 .f32 := arg9.slice (Rect.unit (s := S96x1x512) k0_off2131 S32x1x512.size k0_off2131_inb) (fun _ => rfl)
    let c15_i32 : BitVec 32 := 15#32
    let c0_i32_375 : BitVec 32 := 0#32
    let v912 : Memref sig .scVector .hbm S32x1x512 .f32 := arg2.slice (Rect.unit (s := S2048x16x512) (k0_off2132 i v5 v9 v13 v17 v21 v25 v29 v33 v37 v41 v45 v49 v53 v57 v61 v65) S32x1x512.size (k0_off2132_inb i v5 v9 v13 v17 v21 v25 v29 v33 v37 v41 v45 v49 v53 v57 v61 v65 k0_hw1 k0_h61)) (fun _ => rfl)
    let v913 : DmaSems sig S1 := arg12.slice (Rect.unit (s := S3) ![0] S1.size inb_S3_S1_0)
    let v914 : DmaSems sig S_ := v913.squeeze S_ squeezes_S1_S_
    let c0_i32_376 : BitVec 32 := 0#32
    let c0_i32_377 : BitVec 32 := 0#32
    let v915 : Memref sig .scVector .vmem S32x1x512 .f32 := arg9.slice (Rect.unit (s := S96x1x512) k0_off2131 S32x1x512.size k0_off2131_inb) (fun _ => rfl)
    let c15_i32_378 : BitVec 32 := 15#32
    let c0_i32_379 : BitVec 32 := 0#32
    let v916 : Memref sig .scVector .hbm S32x1x512 .f32 := arg2.slice (Rect.unit (s := S2048x16x512) (k0_off2132 i v5 v9 v13 v17 v21 v25 v29 v33 v37 v41 v45 v49 v53 v57 v61 v65) S32x1x512.size (k0_off2132_inb i v5 v9 v13 v17 v21 v25 v29 v33 v37 v41 v45 v49 v53 v57 v61 v65 k0_hw1 k0_h61)) (fun _ => rfl)
    Prog.lift (.enqueueDma v916 (.here v915) (.dma v914.sem) (View.wordExact_bits rfl) (View.wordExact_bits rfl) ⟨Or.inl rfl, trivial⟩)
    let c0_i32_380 : BitVec 32 := 0#32
    let c32_i32_381 : BitVec 32 := 32#32
    let v917 : BitVec 32 := Scalar.muli c0_i32_380 c32_i32_381
    let c0_i32_382 : BitVec 32 := 0#32
    let c0_i32_383 : BitVec 32 := 0#32
    let c0_i32_384 : BitVec 32 := 0#32
    let v918 : Memref sig .scVector .vmem S32x1x512 .f32 := arg10.slice (Rect.unit (s := S96x1x512) k0_off2131 S32x1x512.size k0_off2131_inb) (fun _ => rfl)
    let c15_i32_385 : BitVec 32 := 15#32
    let c0_i32_386 : BitVec 32 := 0#32
    let v919 : Memref sig .scVector .hbm S32x1x512 .f32 := arg3.slice (Rect.unit (s := S2048x16x512) (k0_off2132 i v5 v9 v13 v17 v21 v25 v29 v33 v37 v41 v45 v49 v53 v57 v61 v65) S32x1x512.size (k0_off2132_inb i v5 v9 v13 v17 v21 v25 v29 v33 v37 v41 v45 v49 v53 v57 v61 v65 k0_hw1 k0_h61)) (fun _ => rfl)
    let v920 : DmaSems sig S1 := arg13.slice (Rect.unit (s := S3) ![0] S1.size inb_S3_S1_0)
    let v921 : DmaSems sig S_ := v920.squeeze S_ squeezes_S1_S_
    let c0_i32_387 : BitVec 32 := 0#32
    let c0_i32_388 : BitVec 32 := 0#32
    let v922 : Memref sig .scVector .vmem S32x1x512 .f32 := arg10.slice (Rect.unit (s := S96x1x512) k0_off2131 S32x1x512.size k0_off2131_inb) (fun _ => rfl)
    let c15_i32_389 : BitVec 32 := 15#32
    let c0_i32_390 : BitVec 32 := 0#32
    let v923 : Memref sig .scVector .hbm S32x1x512 .f32 := arg3.slice (Rect.unit (s := S2048x16x512) (k0_off2132 i v5 v9 v13 v17 v21 v25 v29 v33 v37 v41 v45 v49 v53 v57 v61 v65) S32x1x512.size (k0_off2132_inb i v5 v9 v13 v17 v21 v25 v29 v33 v37 v41 v45 v49 v53 v57 v61 v65 k0_hw1 k0_h61)) (fun _ => rfl)
    Prog.lift (.enqueueDma v923 (.here v922) (.dma v921.sem) (View.wordExact_bits rfl) (View.wordExact_bits rfl) ⟨Or.inl rfl, trivial⟩)
    pure ⟨⟩
  else do
    pure ⟨⟩
  let c1_i32_359 : BitVec 32 := 1#32
  let v886 : BitVec 1 := Scalar.cmpi .sgt v882 c1_i32_359
  let v887 : BitVec 32 := Scalar.extui v886
  let c0_i32_360 : BitVec 32 := 0#32
  let v888 : BitVec 1 := Scalar.cmpi .ne v887 c0_i32_360
  if k0_h62 : k0_cond62 i v5 v9 v13 v17 v21 v25 v29 v33 v37 v41 v45 v49 v53 v57 v61 v65 = 1#1 then do
    let c1_i32_368 : BitVec 32 := 1#32
    let c32_i32_369 : BitVec 32 := 32#32
    let v907 : BitVec 32 := Scalar.muli c1_i32_368 c32_i32_369
    let v908 : BitVec 32 := Scalar.addi v861 v907
    let c2016_i32 : BitVec 32 := 2016#32
    let v909 : BitVec 32 := Scalar.minsi v908 c2016_i32
    let c1_i32_370 : BitVec 32 := 1#32
    let c32_i32_371 : BitVec 32 := 32#32
    let v910 : BitVec 32 := Scalar.muli c1_i32_370 c32_i32_371
    let c1_i32_372 : BitVec 32 := 1#32
    let c0_i32_373 : BitVec 32 := 0#32
    let c0_i32_374 : BitVec 32 := 0#32
    let v911 : Memref sig .scVector .vmem S32x1x512 .f32 := arg9.slice (Rect.unit (s := S96x1x512) k0_off2133 S32x1x512.size k0_off2133_inb) (fun _ => rfl)
    let c15_i32 : BitVec 32 := 15#32
    let c0_i32_375 : BitVec 32 := 0#32
    let v912 : Memref sig .scVector .hbm S32x1x512 .f32 := arg2.slice (Rect.unit (s := S2048x16x512) (k0_off2134 i v5 v9 v13 v17 v21 v25 v29 v33 v37 v41 v45 v49 v53 v57 v61 v65) S32x1x512.size (k0_off2134_inb i v5 v9 v13 v17 v21 v25 v29 v33 v37 v41 v45 v49 v53 v57 v61 v65 k0_hw1 k0_h62)) (fun _ => rfl)
    let v913 : DmaSems sig S1 := arg12.slice (Rect.unit (s := S3) ![1] S1.size inb_S3_S1_1)
    let v914 : DmaSems sig S_ := v913.squeeze S_ squeezes_S1_S_
    let c0_i32_376 : BitVec 32 := 0#32
    let c0_i32_377 : BitVec 32 := 0#32
    let v915 : Memref sig .scVector .vmem S32x1x512 .f32 := arg9.slice (Rect.unit (s := S96x1x512) k0_off2133 S32x1x512.size k0_off2133_inb) (fun _ => rfl)
    let c15_i32_378 : BitVec 32 := 15#32
    let c0_i32_379 : BitVec 32 := 0#32
    let v916 : Memref sig .scVector .hbm S32x1x512 .f32 := arg2.slice (Rect.unit (s := S2048x16x512) (k0_off2134 i v5 v9 v13 v17 v21 v25 v29 v33 v37 v41 v45 v49 v53 v57 v61 v65) S32x1x512.size (k0_off2134_inb i v5 v9 v13 v17 v21 v25 v29 v33 v37 v41 v45 v49 v53 v57 v61 v65 k0_hw1 k0_h62)) (fun _ => rfl)
    Prog.lift (.enqueueDma v916 (.here v915) (.dma v914.sem) (View.wordExact_bits rfl) (View.wordExact_bits rfl) ⟨Or.inl rfl, trivial⟩)
    let c1_i32_380 : BitVec 32 := 1#32
    let c32_i32_381 : BitVec 32 := 32#32
    let v917 : BitVec 32 := Scalar.muli c1_i32_380 c32_i32_381
    let c1_i32_382 : BitVec 32 := 1#32
    let c0_i32_383 : BitVec 32 := 0#32
    let c0_i32_384 : BitVec 32 := 0#32
    let v918 : Memref sig .scVector .vmem S32x1x512 .f32 := arg10.slice (Rect.unit (s := S96x1x512) k0_off2133 S32x1x512.size k0_off2133_inb) (fun _ => rfl)
    let c15_i32_385 : BitVec 32 := 15#32
    let c0_i32_386 : BitVec 32 := 0#32
    let v919 : Memref sig .scVector .hbm S32x1x512 .f32 := arg3.slice (Rect.unit (s := S2048x16x512) (k0_off2134 i v5 v9 v13 v17 v21 v25 v29 v33 v37 v41 v45 v49 v53 v57 v61 v65) S32x1x512.size (k0_off2134_inb i v5 v9 v13 v17 v21 v25 v29 v33 v37 v41 v45 v49 v53 v57 v61 v65 k0_hw1 k0_h62)) (fun _ => rfl)
    let v920 : DmaSems sig S1 := arg13.slice (Rect.unit (s := S3) ![1] S1.size inb_S3_S1_1)
    let v921 : DmaSems sig S_ := v920.squeeze S_ squeezes_S1_S_
    let c0_i32_387 : BitVec 32 := 0#32
    let c0_i32_388 : BitVec 32 := 0#32
    let v922 : Memref sig .scVector .vmem S32x1x512 .f32 := arg10.slice (Rect.unit (s := S96x1x512) k0_off2133 S32x1x512.size k0_off2133_inb) (fun _ => rfl)
    let c15_i32_389 : BitVec 32 := 15#32
    let c0_i32_390 : BitVec 32 := 0#32
    let v923 : Memref sig .scVector .hbm S32x1x512 .f32 := arg3.slice (Rect.unit (s := S2048x16x512) (k0_off2134 i v5 v9 v13 v17 v21 v25 v29 v33 v37 v41 v45 v49 v53 v57 v61 v65) S32x1x512.size (k0_off2134_inb i v5 v9 v13 v17 v21 v25 v29 v33 v37 v41 v45 v49 v53 v57 v61 v65 k0_hw1 k0_h62)) (fun _ => rfl)
    Prog.lift (.enqueueDma v923 (.here v922) (.dma v921.sem) (View.wordExact_bits rfl) (View.wordExact_bits rfl) ⟨Or.inl rfl, trivial⟩)
    pure ⟨⟩
  else do
    pure ⟨⟩
  have cst_361 : F .f32 := Scalar.ofBits .f32 0x00000000#32
  have v889 : FVec F S16 .f32 := broadcast S16 cst_361
  let c0_i32_362 : BitVec 32 := 0#32
  let v890 : BitVec 32 := Scalar.subi v882 c0_i32_362
  let v891 : BitVec 32 := Scalar.addi c0_i32_362 v890
  let c1_i32_363 : BitVec 32 := 1#32
  let v892 : BitVec 32 := Scalar.divsi v890 c1_i32_363
  let v893 : BitVec 32 := Scalar.muli v892 c1_i32_363
  let v894 : BitVec 32 := Scalar.addi c0_i32_362 v893
  let c1_i32_364 : BitVec 32 := 1#32
  let v895 : FVec F S16 .f32 ← Scf.Loop.for (k0_t91_loop i v5 v9 v13 v17 v21 v25 v29 v33 v37 v41 v45 v49 v53 v57 v61 v65) (k0_t91_ok i v5 v9 v13 v17 v21 v25 v29 v33 v37 v41 v45 v49 v53 v57 v61 v65 k0_hw1) v889 fun k0_t91 arg15 => do
    let ⟨arg14, v907⟩ : Σ' (arg14 : BitVec 32), BitVec 32 ← k0_part527 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v861 v863 c0_i32_362 c1_i32_364 k0_t91
    let v939 : Memref sig .scVector .vmem S32x1x512 .f32 := arg10.slice (Rect.unit (s := S96x1x512) (k0_off2138 i v5 v9 v13 v17 v21 v25 v29 v33 v37 v41 v45 v49 v53 v57 v61 v65 k0_t91) S32x1x512.size (k0_off2138_inb i v5 v9 v13 v17 v21 v25 v29 v33 v37 v41 v45 v49 v53 v57 v61 v65 k0_hw1 k0_t91)) (fun _ => rfl)
    let c0_i32_391 : BitVec 32 := 0#32
    let c15_i32_392 : BitVec 32 := 15#32
    let c0_i32_393 : BitVec 32 := 0#32
    let v940 : Memref sig .scVector .hbm S32x1x512 .f32 := arg3.slice (Rect.unit (s := S2048x16x512) ![0, 15, 0] S32x1x512.size inb_S2048x16x512_S32x1x512_0_15_0) (fun _ => rfl)
    let v941 : DmaSems sig S1 := arg13.slice (Rect.unit (s := S3) (k0_off2139 i v5 v9 v13 v17 v21 v25 v29 v33 v37 v41 v45 v49 v53 v57 v61 v65 k0_t91) S1.size (k0_off2139_inb i v5 v9 v13 v17 v21 v25 v29 v33 v37 v41 v45 v49 v53 v57 v61 v65 k0_hw1 k0_t91))
    let v942 : DmaSems sig S_ := v941.squeeze S_ squeezes_S1_S_
    let c0_i32_394 : BitVec 32 := 0#32
    let c0_i32_395 : BitVec 32 := 0#32
    let v943 : Memref sig .scVector .vmem S32x1x512 .f32 := arg10.slice (Rect.unit (s := S96x1x512) (k0_off2138 i v5 v9 v13 v17 v21 v25 v29 v33 v37 v41 v45 v49 v53 v57 v61 v65 k0_t91) S32x1x512.size (k0_off2138_inb i v5 v9 v13 v17 v21 v25 v29 v33 v37 v41 v45 v49 v53 v57 v61 v65 k0_hw1 k0_t91)) (fun _ => rfl)
    let c0_i32_396 : BitVec 32 := 0#32
    let c15_i32_397 : BitVec 32 := 15#32
    let c0_i32_398 : BitVec 32 := 0#32
    let v944 : Memref sig .scVector .hbm S32x1x512 .f32 := arg3.slice (Rect.unit (s := S2048x16x512) ![0, 15, 0] S32x1x512.size inb_S2048x16x512_S32x1x512_0_15_0) (fun _ => rfl)
    Prog.lift (.waitDma2 v942.sem v944 v943 (View.wordExact_bits rfl) (View.wordExact_bits rfl))
    let c32_i32_399 : BitVec 32 := 32#32
    let v945 : BitVec 32 := Scalar.muli arg14 c32_i32_399
    let v946 : BitVec 32 := Scalar.addi v861 v945
    let c2016_i32 : BitVec 32 := 2016#32
    let v947 : BitVec 32 := Scalar.minsi v946 c2016_i32
    let c32_i32_400 : BitVec 32 := 32#32
    let v948 : BitVec 32 := Scalar.muli v907 c32_i32_400
    let v949 : BitVec 32 := Scalar.subi v946 v947
    let v950 : BitVec 32 := Scalar.addi v948 v949
    let c32_i32_401 : BitVec 32 := 32#32
    let v951 : BitVec 32 := Scalar.addi v946 c32_i32_401
    let v952 : BitVec 32 := Scalar.minsi v863 v951
    let v953 : BitVec 32 := Scalar.subi v952 v947
    let v954 : BitVec 32 := Scalar.addi v948 v953
    let v955 : BitVec 32 := Scalar.subi v954 v950
    let v956 : BitVec 32 := Scalar.addi v950 v955
    let c1_i32_402 : BitVec 32 := 1#32
    let v957 : BitVec 32 := Scalar.divsi v955 c1_i32_402
    let v958 : BitVec 32 := Scalar.muli v957 c1_i32_402
    let v959 : BitVec 32 := Scalar.addi v950 v958
    let c1_i32_403 : BitVec 32 := 1#32
    let v960 : FVec F S16 .f32 ← Scf.Loop.for (k0_t92_loop i v5 v9 v13 v17 v21 v25 v29 v33 v37 v41 v45 v49 v53 v57 v61 v65 k0_t91) (k0_t92_ok i v5 v9 v13 v17 v21 v25 v29 v33 v37 v41 v45 v49 v53 v57 v61 v65 k0_hw1 k0_t91) arg15 fun k0_t92 arg17 => do
      let ⟨arg16, v994, v1004⟩ : Σ' (arg16 : BitVec 32) (v994 : FVec F S16 .f32), FVec F S16 .f32 ← k0_part511 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t91 v950 c1_i32_403 k0_t92 arg17
      let ⟨v1038, v1048⟩ : Σ' (v1038 : FVec F S16 .f32), FVec F S16 .f32 ← k0_part512 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t91 k0_t92 arg16 v994 v1004
      let ⟨v1082, v1092⟩ : Σ' (v1082 : FVec F S16 .f32), FVec F S16 .f32 ← k0_part513 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t91 k0_t92 arg16 v1038 v1048
      let ⟨v1126, v1136⟩ : Σ' (v1126 : FVec F S16 .f32), FVec F S16 .f32 ← k0_part514 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t91 k0_t92 arg16 v1082 v1092
      let ⟨v1170, v1180⟩ : Σ' (v1170 : FVec F S16 .f32), FVec F S16 .f32 ← k0_part515 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t91 k0_t92 arg16 v1126 v1136
      let ⟨v1214, v1224⟩ : Σ' (v1214 : FVec F S16 .f32), FVec F S16 .f32 ← k0_part516 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t91 k0_t92 arg16 v1170 v1180
      let ⟨v1258, v1268⟩ : Σ' (v1258 : FVec F S16 .f32), FVec F S16 .f32 ← k0_part517 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t91 k0_t92 arg16 v1214 v1224
      let ⟨v1302, v1312⟩ : Σ' (v1302 : FVec F S16 .f32), FVec F S16 .f32 ← k0_part518 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t91 k0_t92 arg16 v1258 v1268
      have v1313 : FVec F S16 .f32 := addf v1302 v1312
      pure v1313
    let c1_i32_404 : BitVec 32 := 1#32
    let v961 : FVec F S16 .f32 ← Scf.Loop.for (k0_t93_loop i v5 v9 v13 v17 v21 v25 v29 v33 v37 v41 v45 v49 v53 v57 v61 v65 k0_t91) (k0_t93_ok i v5 v9 v13 v17 v21 v25 v29 v33 v37 v41 v45 v49 v53 v57 v61 v65 k0_hw1 k0_t91) v960 fun k0_t93 arg17 => do
      let ⟨arg16, v994, v1004⟩ : Σ' (arg16 : BitVec 32) (v994 : FVec F S16 .f32), FVec F S16 .f32 ← k0_part519 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t91 v959 c1_i32_404 k0_t93 arg17
      let ⟨v1038, v1048⟩ : Σ' (v1038 : FVec F S16 .f32), FVec F S16 .f32 ← k0_part520 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t91 k0_t93 arg16 v994 v1004
      let ⟨v1082, v1092⟩ : Σ' (v1082 : FVec F S16 .f32), FVec F S16 .f32 ← k0_part521 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t91 k0_t93 arg16 v1038 v1048
      let ⟨v1126, v1136⟩ : Σ' (v1126 : FVec F S16 .f32), FVec F S16 .f32 ← k0_part522 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t91 k0_t93 arg16 v1082 v1092
      let ⟨v1170, v1180⟩ : Σ' (v1170 : FVec F S16 .f32), FVec F S16 .f32 ← k0_part523 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t91 k0_t93 arg16 v1126 v1136
      let ⟨v1214, v1224⟩ : Σ' (v1214 : FVec F S16 .f32), FVec F S16 .f32 ← k0_part524 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t91 k0_t93 arg16 v1170 v1180
      let ⟨v1258, v1268⟩ : Σ' (v1258 : FVec F S16 .f32), FVec F S16 .f32 ← k0_part525 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t91 k0_t93 arg16 v1214 v1224
      let ⟨v1302, v1312⟩ : Σ' (v1302 : FVec F S16 .f32), FVec F S16 .f32 ← k0_part526 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t91 k0_t93 arg16 v1258 v1268
      have v1313 : FVec F S16 .f32 := addf v1302 v1312
      pure v1313
    pure v961
  let c1_i32_365 : BitVec 32 := 1#32
  let v896 : FVec F S16 .f32 ← Scf.Loop.for (k0_t94_loop i v5 v9 v13 v17 v21 v25 v29 v33 v37 v41 v45 v49 v53 v57 v61 v65) (k0_t94_ok i v5 v9 v13 v17 v21 v25 v29 v33 v37 v41 v45 v49 v53 v57 v61 v65 k0_hw1) v895 fun k0_t94 arg15 => do
    let ⟨arg14, v907⟩ : Σ' (arg14 : BitVec 32), BitVec 32 ← k0_part544 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v861 v863 v894 c1_i32_365 k0_t94
    let v939 : Memref sig .scVector .vmem S32x1x512 .f32 := arg10.slice (Rect.unit (s := S96x1x512) (k0_off2207 i v5 v9 v13 v17 v21 v25 v29 v33 v37 v41 v45 v49 v53 v57 v61 v65 k0_t94) S32x1x512.size (k0_off2207_inb i v5 v9 v13 v17 v21 v25 v29 v33 v37 v41 v45 v49 v53 v57 v61 v65 k0_hw1 k0_t94)) (fun _ => rfl)
    let c0_i32_391 : BitVec 32 := 0#32
    let c15_i32_392 : BitVec 32 := 15#32
    let c0_i32_393 : BitVec 32 := 0#32
    let v940 : Memref sig .scVector .hbm S32x1x512 .f32 := arg3.slice (Rect.unit (s := S2048x16x512) ![0, 15, 0] S32x1x512.size inb_S2048x16x512_S32x1x512_0_15_0) (fun _ => rfl)
    let v941 : DmaSems sig S1 := arg13.slice (Rect.unit (s := S3) (k0_off2208 i v5 v9 v13 v17 v21 v25 v29 v33 v37 v41 v45 v49 v53 v57 v61 v65 k0_t94) S1.size (k0_off2208_inb i v5 v9 v13 v17 v21 v25 v29 v33 v37 v41 v45 v49 v53 v57 v61 v65 k0_hw1 k0_t94))
    let v942 : DmaSems sig S_ := v941.squeeze S_ squeezes_S1_S_
    let c0_i32_394 : BitVec 32 := 0#32
    let c0_i32_395 : BitVec 32 := 0#32
    let v943 : Memref sig .scVector .vmem S32x1x512 .f32 := arg10.slice (Rect.unit (s := S96x1x512) (k0_off2207 i v5 v9 v13 v17 v21 v25 v29 v33 v37 v41 v45 v49 v53 v57 v61 v65 k0_t94) S32x1x512.size (k0_off2207_inb i v5 v9 v13 v17 v21 v25 v29 v33 v37 v41 v45 v49 v53 v57 v61 v65 k0_hw1 k0_t94)) (fun _ => rfl)
    let c0_i32_396 : BitVec 32 := 0#32
    let c15_i32_397 : BitVec 32 := 15#32
    let c0_i32_398 : BitVec 32 := 0#32
    let v944 : Memref sig .scVector .hbm S32x1x512 .f32 := arg3.slice (Rect.unit (s := S2048x16x512) ![0, 15, 0] S32x1x512.size inb_S2048x16x512_S32x1x512_0_15_0) (fun _ => rfl)
    Prog.lift (.waitDma2 v942.sem v944 v943 (View.wordExact_bits rfl) (View.wordExact_bits rfl))
    let c32_i32_399 : BitVec 32 := 32#32
    let v945 : BitVec 32 := Scalar.muli arg14 c32_i32_399
    let v946 : BitVec 32 := Scalar.addi v861 v945
    let c2016_i32 : BitVec 32 := 2016#32
    let v947 : BitVec 32 := Scalar.minsi v946 c2016_i32
    let c32_i32_400 : BitVec 32 := 32#32
    let v948 : BitVec 32 := Scalar.muli v907 c32_i32_400
    let v949 : BitVec 32 := Scalar.subi v946 v947
    let v950 : BitVec 32 := Scalar.addi v948 v949
    let c32_i32_401 : BitVec 32 := 32#32
    let v951 : BitVec 32 := Scalar.addi v946 c32_i32_401
    let v952 : BitVec 32 := Scalar.minsi v863 v951
    let v953 : BitVec 32 := Scalar.subi v952 v947
    let v954 : BitVec 32 := Scalar.addi v948 v953
    let v955 : BitVec 32 := Scalar.subi v954 v950
    let v956 : BitVec 32 := Scalar.addi v950 v955
    let c1_i32_402 : BitVec 32 := 1#32
    let v957 : BitVec 32 := Scalar.divsi v955 c1_i32_402
    let v958 : BitVec 32 := Scalar.muli v957 c1_i32_402
    let v959 : BitVec 32 := Scalar.addi v950 v958
    let c1_i32_403 : BitVec 32 := 1#32
    let v960 : FVec F S16 .f32 ← Scf.Loop.for (k0_t95_loop i v5 v9 v13 v17 v21 v25 v29 v33 v37 v41 v45 v49 v53 v57 v61 v65 k0_t94) (k0_t95_ok i v5 v9 v13 v17 v21 v25 v29 v33 v37 v41 v45 v49 v53 v57 v61 v65 k0_hw1 k0_t94) arg15 fun k0_t95 arg17 => do
      let ⟨arg16, v994, v1004⟩ : Σ' (arg16 : BitVec 32) (v994 : FVec F S16 .f32), FVec F S16 .f32 ← k0_part528 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t94 v950 c1_i32_403 k0_t95 arg17
      let ⟨v1038, v1048⟩ : Σ' (v1038 : FVec F S16 .f32), FVec F S16 .f32 ← k0_part529 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t94 k0_t95 arg16 v994 v1004
      let ⟨v1082, v1092⟩ : Σ' (v1082 : FVec F S16 .f32), FVec F S16 .f32 ← k0_part530 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t94 k0_t95 arg16 v1038 v1048
      let ⟨v1126, v1136⟩ : Σ' (v1126 : FVec F S16 .f32), FVec F S16 .f32 ← k0_part531 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t94 k0_t95 arg16 v1082 v1092
      let ⟨v1170, v1180⟩ : Σ' (v1170 : FVec F S16 .f32), FVec F S16 .f32 ← k0_part532 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t94 k0_t95 arg16 v1126 v1136
      let ⟨v1214, v1224⟩ : Σ' (v1214 : FVec F S16 .f32), FVec F S16 .f32 ← k0_part533 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t94 k0_t95 arg16 v1170 v1180
      let ⟨v1258, v1268⟩ : Σ' (v1258 : FVec F S16 .f32), FVec F S16 .f32 ← k0_part534 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t94 k0_t95 arg16 v1214 v1224
      let ⟨v1302, v1312⟩ : Σ' (v1302 : FVec F S16 .f32), FVec F S16 .f32 ← k0_part535 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t94 k0_t95 arg16 v1258 v1268
      have v1313 : FVec F S16 .f32 := addf v1302 v1312
      pure v1313
    let c1_i32_404 : BitVec 32 := 1#32
    let v961 : FVec F S16 .f32 ← Scf.Loop.for (k0_t96_loop i v5 v9 v13 v17 v21 v25 v29 v33 v37 v41 v45 v49 v53 v57 v61 v65 k0_t94) (k0_t96_ok i v5 v9 v13 v17 v21 v25 v29 v33 v37 v41 v45 v49 v53 v57 v61 v65 k0_hw1 k0_t94) v960 fun k0_t96 arg17 => do
      let ⟨arg16, v994, v1004⟩ : Σ' (arg16 : BitVec 32) (v994 : FVec F S16 .f32), FVec F S16 .f32 ← k0_part536 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t94 v959 c1_i32_404 k0_t96 arg17
      let ⟨v1038, v1048⟩ : Σ' (v1038 : FVec F S16 .f32), FVec F S16 .f32 ← k0_part537 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t94 k0_t96 arg16 v994 v1004
      let ⟨v1082, v1092⟩ : Σ' (v1082 : FVec F S16 .f32), FVec F S16 .f32 ← k0_part538 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t94 k0_t96 arg16 v1038 v1048
      let ⟨v1126, v1136⟩ : Σ' (v1126 : FVec F S16 .f32), FVec F S16 .f32 ← k0_part539 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t94 k0_t96 arg16 v1082 v1092
      let ⟨v1170, v1180⟩ : Σ' (v1170 : FVec F S16 .f32), FVec F S16 .f32 ← k0_part540 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t94 k0_t96 arg16 v1126 v1136
      let ⟨v1214, v1224⟩ : Σ' (v1214 : FVec F S16 .f32), FVec F S16 .f32 ← k0_part541 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t94 k0_t96 arg16 v1170 v1180
      let ⟨v1258, v1268⟩ : Σ' (v1258 : FVec F S16 .f32), FVec F S16 .f32 ← k0_part542 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t94 k0_t96 arg16 v1214 v1224
      let ⟨v1302, v1312⟩ : Σ' (v1302 : FVec F S16 .f32), FVec F S16 .f32 ← k0_part543 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 k0_t94 k0_t96 arg16 v1258 v1268
      have v1313 : FVec F S16 .f32 := addf v1302 v1312
      pure v1313
    pure v961
  let c15_366 : Index := 15#32
  let v897 : Vec F S16 .f32 ← Prog.lift (.load arg8 (Rect.unit (s := S32) ![15] S16.size inb_S32_S16_15).toLoadRect (View.loadsAt_vmem h_S16))
  have v898 : FVec F S16 .f32 := shapeCast S16 v897 shapeCasts_S16_S16
  have v899 : FVec F S1 .f32 := extractStridedSlice S1 ![0] v898 slices_S16_o0_S1
  have v900 : F .f32 := extractAt ![0] v899 inpos_S1_p0
  have v901 : FVec F S16 .f32 := broadcast S16 v900
  have v902 : FVec F S16 .f32 := mulf v896 v901
  have v903 : FVec F S16 .f32 := addf v856 v902
  let c0_367 : Index := 0#32
  let v904 : Vec F S16 .f32 ← Prog.lift (.load arg11 (Rect.unit (s := S16) ![0] S16.size inb_S16_S16_0).toLoadRect (View.loadsAt_vmem h_S16))
  have v905 : FVec F S16 .f32 := shapeCast S16 v904 shapeCasts_S16_S16
  have v906 : FVec F S16 .f32 := shapeCast S16 v903 shapeCasts_S16_S16
  Prog.lift (.store arg11 (Rect.unit (s := S16) ![0] S16.size inb_S16_S16_0) v906 Finset.univ (View.stores_vmem_bits_univ h_S16 rfl) (.inl rfl))
  let c0_i32_368_r2 : BitVec 32 := 0#32
  let v908_r2 : Memref sig .scVector .hbm S1x16 .f32 := arg6.slice (Rect.unit (s := S32x16) (k0_off2273 i) S1x16.size (k0_off2273_inb i)) (fun _ => rfl)
  let v909_r2 : Memref sig .scVector .hbm S16 .f32 := v908_r2.squeeze S16 squeezes_S1x16_S16
  let c0_i32_369_r2 : BitVec 32 := 0#32
  pure ⟨⟩

/-- The tile's program after it has read and checked the lengths. -/
def afterWords (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (v5 : BitVec 32) (v9 : BitVec 32) (v13 : BitVec 32) (v17 : BitVec 32) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (k0_hw1 : k0_chk1 i v5 v9 v13 v17 v21 v25 v29 v33 v37 v41 v45 v49 v53 v57 v61 v65) : TP F i PUnit := do
  let v1 : BitVec 32 := wid i
  let v67 : BitVec 32 := Scalar.maxsi (Scalar.subi v5 1024#32) 0#32
  let v69 : BitVec 32 := Scalar.maxsi (Scalar.subi v9 1024#32) 0#32
  let v71 : BitVec 32 := Scalar.maxsi (Scalar.subi v13 1024#32) 0#32
  let v72 : BitVec 32 := Scalar.subi v17 1024#32
  let ⟨v73, v75, v77, v79, v81, v83, v85, v87, v89, v91, v93, v95, v97, v98, v99, v100, v101, v102, v103, v104, v105, v106⟩ : Σ' (v73 : BitVec 32) (v75 : BitVec 32) (v77 : BitVec 32) (v79 : BitVec 32) (v81 : BitVec 32) (v83 : BitVec 32) (v85 : BitVec 32) (v87 : BitVec 32) (v89 : BitVec 32) (v91 : BitVec 32) (v93 : BitVec 32) (v95 : BitVec 32) (v97 : BitVec 32) (v98 : BitVec 32) (v99 : BitVec 32) (v100 : BitVec 32) (v101 : BitVec 32) (v102 : BitVec 32) (v103 : BitVec 32) (v104 : BitVec 32) (v105 : BitVec 32), BitVec 32 ← k0_part547 i arg2 harg2 arg3 harg3 arg4 harg4 arg5 harg5 arg6 harg6 arg7 harg7 arg8 harg8 arg9 harg9 arg10 harg10 arg11 harg11 arg12 arg13 v907_r0 v907_r1 v907_r2 v21 v25 v29 v33 v37 v41 v45 v49 v53 v57 v61 v65 v67 v69 v71 v72
  let ⟨v107, v108, v109, v110, v111, v112, v131, v150, cst⟩ : Σ' (v107 : BitVec 32) (v108 : BitVec 32) (v109 : BitVec 32) (v110 : BitVec 32) (v111 : BitVec 32) (v112 : BitVec 32) (v131 : BitVec 32) (v150 : BitVec 32), F .f32 ← k0_part548 i arg2 harg2 arg3 harg3 arg4 harg4 arg5 harg5 arg6 harg6 arg7 harg7 arg8 harg8 arg9 harg9 arg10 harg10 arg11 harg11 arg12 arg13 v907_r0 v907_r1 v907_r2 v1 v85 v87 v89 v91 v93 v95 v97 v106
  let ⟨v151, v156, v158, v184, c0_i32_62, c1_i32_63, v187⟩ : Σ' (v151 : FVec F S16 .f32) (v156 : BitVec 32) (v158 : BitVec 32) (v184 : FVec F S16 .f32) (c0_i32_62 : BitVec 32) (c1_i32_63 : BitVec 32), BitVec 32 ← k0_part549 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v67 v131 v150 cst
  let ⟨v198, v203, v205, v224, v229, c0_i32_80⟩ : Σ' (v198 : FVec F S16 .f32) (v203 : BitVec 32) (v205 : BitVec 32) (v224 : BitVec 32) (v229 : BitVec 32), BitVec 32 ← k0_part550 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v69 v98 v131 v150 v151 v156 v158 v184 c0_i32_62 c1_i32_63 v187
  let ⟨v245, v250, v252, v271, c0_i32_97⟩ : Σ' (v245 : FVec F S16 .f32) (v250 : BitVec 32) (v252 : BitVec 32) (v271 : BitVec 32), BitVec 32 ← k0_part551 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v71 v99 v131 v150 v198 v203 v205 v224 v229 c0_i32_80
  let ⟨v292, v297, v299, v301, c32_i32_110, v302, v307, v312⟩ : Σ' (v292 : FVec F S16 .f32) (v297 : BitVec 32) (v299 : BitVec 32) (v301 : BitVec 32) (c32_i32_110 : BitVec 32) (v302 : BitVec 32) (v307 : BitVec 32), BitVec 32 ← k0_part552 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v73 v100 v131 v150 v245 v250 v252 v271 c0_i32_97
  let ⟨v339, v344, v346, v348, c32_i32_130, v349, v351, v352⟩ : Σ' (v339 : FVec F S16 .f32) (v344 : BitVec 32) (v346 : BitVec 32) (v348 : BitVec 32) (c32_i32_130 : BitVec 32) (v349 : BitVec 32) (v351 : BitVec 32), BitVec 1 ← k0_part553 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v75 v101 v131 v150 v292 v297 v299 v301 c32_i32_110 v302 v307 v312
  let ⟨v386, v391, v393, v394⟩ : Σ' (v386 : FVec F S16 .f32) (v391 : BitVec 32) (v393 : BitVec 32), BitVec 32 ← k0_part554 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v77 v102 v131 v150 v339 v344 v346 v348 c32_i32_130 v349 v351 v352
  let ⟨v433, v434⟩ : Σ' (v433 : FVec F S16 .f32), BitVec 32 ← k0_part555 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v103 v131 v386 v391 v393 v394
  let v473 : FVec F S16 .f32 ← k0_part556 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v79 v103 v150 v434
  let ⟨v480, v485, v487, v513, c0_i32_202, v514⟩ : Σ' (v480 : FVec F S16 .f32) (v485 : BitVec 32) (v487 : BitVec 32) (v513 : FVec F S16 .f32) (c0_i32_202 : BitVec 32), BitVec 32 ← k0_part557 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v81 v104 v131 v150 v433 v473
  let ⟨v527, v532, v534, v553, c1_i32_219⟩ : Σ' (v527 : FVec F S16 .f32) (v532 : BitVec 32) (v534 : BitVec 32) (v553 : BitVec 32), BitVec 32 ← k0_part558 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v83 v105 v131 v150 v480 v485 v487 v513 c0_i32_202 v514
  let ⟨v574, v579, v581, v584, v598, c1_i32_236⟩ : Σ' (v574 : FVec F S16 .f32) (v579 : BitVec 32) (v581 : BitVec 32) (v584 : BitVec 32) (v598 : BitVec 1), BitVec 32 ← k0_part559 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v85 v106 v131 v150 v527 v532 v534 v553 c1_i32_219
  let ⟨v621, v626, v628, v630, c32_i32_250, v631, v636, v638, c0_i32_254⟩ : Σ' (v621 : FVec F S16 .f32) (v626 : BitVec 32) (v628 : BitVec 32) (v630 : BitVec 32) (c32_i32_250 : BitVec 32) (v631 : BitVec 32) (v636 : BitVec 32) (v638 : BitVec 32), BitVec 32 ← k0_part560 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v87 v107 v131 v150 v574 v579 v581 v584 v598 c1_i32_236
  let ⟨v668, v673, v675, v677, c32_i32_270, v678, v679⟩ : Σ' (v668 : FVec F S16 .f32) (v673 : BitVec 32) (v675 : BitVec 32) (v677 : BitVec 32) (c32_i32_270 : BitVec 32) (v678 : BitVec 32), BitVec 1 ← k0_part561 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v89 v108 v131 v150 v621 v626 v628 v630 c32_i32_250 v631 v636 v638 c0_i32_254
  let ⟨v715, v720, v721⟩ : Σ' (v715 : FVec F S16 .f32) (v720 : BitVec 32), BitVec 32 ← k0_part562 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v91 v109 v131 v150 v668 v673 v675 v677 c32_i32_270 v678 v679
  let ⟨v755, v760⟩ : Σ' (v755 : FVec F S16 .f32), FVec F S16 .f32 ← k0_part563 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v720 v721
  let ⟨v762, v767, v769, v795, c0_i32_322, v800, c1_i32_324⟩ : Σ' (v762 : FVec F S16 .f32) (v767 : BitVec 32) (v769 : BitVec 32) (v795 : FVec F S16 .f32) (c0_i32_322 : BitVec 32) (v800 : BitVec 32), BitVec 32 ← k0_part564 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v93 v110 v131 v150 v715 v755 v760
  let ⟨v809, v814, v816, v835, cst_341⟩ : Σ' (v809 : FVec F S16 .f32) (v814 : BitVec 32) (v816 : BitVec 32) (v835 : BitVec 32), F .f32 ← k0_part565 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v95 v111 v131 v150 v762 v767 v769 v795 c0_i32_322 v800 c1_i32_324
  let ⟨v856, v861, v863, v882, v884, c0_i32_358⟩ : Σ' (v856 : FVec F S16 .f32) (v861 : BitVec 32) (v863 : BitVec 32) (v882 : BitVec 32) (v884 : BitVec 32), BitVec 32 ← k0_part566 i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v97 v112 v131 v150 v809 v814 v816 v835 cst_341
  lastSeq i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 k0_hw1 v856 v861 v863 v882 v884 c0_i32_358

set_option cleanup.letToHave false in
/-- The tile's program up to its last copy: fetch, read the lengths, check them, and go on from there. -/
theorem part567_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_) :
    k0_part567 (F := F) i arg2 harg2 arg3 harg3 arg4 harg4 arg5 harg5 arg6 harg6 arg7 harg7 arg8 harg8 arg9 harg9 arg10 harg10 arg11 harg11 arg12 arg13 v907_r0 v907_r1 v907_r2 =
    (fetch i arg4 harg4 arg5 harg5 arg7 arg8 v907_r0 v907_r1 <|
      readWord i arg7 0 inb_S32_S16_0 fun v5 =>
      readWord i arg7 1 inb_S32_S16_1 fun v9 =>
      readWord i arg7 2 inb_S32_S16_2 fun v13 =>
      readWord i arg7 3 inb_S32_S16_3 fun v17 =>
      readWord i arg7 4 inb_S32_S16_4 fun v21 =>
      readWord i arg7 5 inb_S32_S16_5 fun v25 =>
      readWord i arg7 6 inb_S32_S16_6 fun v29 =>
      readWord i arg7 7 inb_S32_S16_7 fun v33 =>
      readWord i arg7 8 inb_S32_S16_8 fun v37 =>
      readWord i arg7 9 inb_S32_S16_9 fun v41 =>
      readWord i arg7 10 inb_S32_S16_10 fun v45 =>
      readWord i arg7 11 inb_S32_S16_11 fun v49 =>
      readWord i arg7 12 inb_S32_S16_12 fun v53 =>
      readWord i arg7 13 inb_S32_S16_13 fun v57 =>
      readWord i arg7 14 inb_S32_S16_14 fun v61 =>
      readWord i arg7 15 inb_S32_S16_15 fun v65 =>
      Prog.lift (TpuEff.assume (k0_chk1 i v5 v9 v13 v17 v21 v25 v29 v33 v37 v41 v45 v49 v53 v57 v61 v65) (k0_chk1.dec i v5 v9 v13 v17 v21 v25 v29 v33 v37 v41 v45 v49 v53 v57 v61 v65)) >>= fun hw =>
      afterWords i arg2 harg2 arg3 harg3 arg4 harg4 arg5 harg5 arg6 harg6 arg7 harg7 arg8 harg8 arg9 harg9 arg10 harg10 arg11 harg11 arg12 arg13 v907_r0 v907_r1 v907_r2 v5 v9 v13 v17 v21 v25 v29 v33 v37 v41 v45 v49 v53 v57 v61 v65 hw.down) := by
  sl_kernel_rfl

set_option cleanup.letToHave false in
/-- The last sequence in its steps. -/
theorem lastSeq_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b) (v856 : FVec F S16 .f32) :
    lastSeq i arg2 harg2 arg3 harg3 arg4 harg4 arg5 harg5 arg6 harg6 arg7 harg7 arg8 harg8 arg9 harg9 arg10 harg10 arg11 harg11 arg12 arg13 v907_r0 v907_r1 v907_r2 (w 0) (w 1) (w 2) (w 3) (w 4) (w 5) (w 6) (w 7) (w 8) (w 9) (w 10) (w 11) (w 12) (w 13) (w 14) (w 15) hw v856 (lo i w 15) (hi i w 15) (chunks i w 15) (Scalar.extui (Scalar.cmpi .sgt (chunks i w 15) 0#32)) 0#32 =
    (start0 i ⟨arg2, arg3, arg8, arg9, arg10, arg12, arg13⟩ w 15 (ok 15 (by decide)) <|
    start1 i ⟨arg2, arg3, arg8, arg9, arg10, arg12, arg13⟩ w 15 (ok 15 (by decide)) <|
    pieces i ⟨arg2, arg3, arg8, arg9, arg10, arg12, arg13⟩ w 15 (ok 15 (by decide)) (zeros (F := F)) fun v895 =>
    pieces' i ⟨arg2, arg3, arg8, arg9, arg10, arg12, arg13⟩ w 15 (ok 15 (by decide)) v895 fun v896 =>
    scale i ⟨arg2, arg3, arg8, arg9, arg10, arg12, arg13⟩ w 15 (ok 15 (by decide)) fun v897 =>
    putTotal i arg11 (addSeq v856 v896 v897)) := by
  sl_kernel_rfl

end Cert.Tail

end
-- ==== Proof.Sequences.lean ====
/-
  The tile's program after it has read the lengths is one program for a sequence, sixteen times.
-/
module

public import proofs.«01_k».proof.Proof.Head

@[expose] public section

set_option maxRecDepth 20000
set_option Elab.async false

noncomputable section

namespace Cert.Tail

open Idealize.ShloMosaic Idealize.SL.Sem Cert.KernelIdeal Cert.KernelIdeal.Gen

variable {F : FTy → Type} [FloatOps F]

section Bind
variable {α β : Type} (i : grid0.Coords) (m : Mem) (L : ℕ → BitVec 32) (b : ℕ) (h : SeqOK i L b)

/-- What follows a step goes into it. -/
theorem start0_bind (k : TP F i α) (f : α → TP F i β) : start0 i m L b h k >>= f = start0 i m L b h (k >>= f) := by
  unfold start0; split <;> simp only [bind_assoc]

theorem start1_bind (k : TP F i α) (f : α → TP F i β) : start1 i m L b h k >>= f = start1 i m L b h (k >>= f) := by
  unfold start1; split <;> simp only [bind_assoc]

theorem pieces_bind (acc : FVec F S16 .f32) (k : FVec F S16 .f32 → TP F i α) (f : α → TP F i β) :
    pieces i m L b h acc k >>= f = pieces i m L b h acc fun v => k v >>= f := by
  unfold pieces; simp only [bind_assoc]

theorem scale_bind (k : Vec F S16 .f32 → TP F i α) (f : α → TP F i β) :
    scale i m L b h k >>= f = scale i m L b h fun v => k v >>= f := by
  unfold scale; simp only [bind_assoc]

/-- The loop that makes no trip leaves its start. -/
theorem piecesEnd_eq (acc : FVec F S16 .f32) : piecesEnd i m L b h acc = pure acc :=
  Scf.for_eq_ret _ _ _ _ _ _ (Scf.rem_trips _ _)

theorem pieces'_eq (acc : FVec F S16 .f32) (k : FVec F S16 .f32 → TP F i α) : pieces' i m L b h acc k = k acc := by
  show piecesEnd i m L b h acc >>= k = k acc
  rw [piecesEnd_eq, pure_bind]

end Bind

/-- One sequence, and then the rest. -/
def oneSeq {α : Type} (i : grid0.Coords) (m : Mem) (L : ℕ → BitVec 32) (b : ℕ) (h : SeqOK i L b)
    (total : FVec F S16 .f32) (k : FVec F S16 .f32 → TP F i α) : TP F i α :=
  start0 i m L b h <| start1 i m L b h <| pieces i m L b h zeros fun v => scale i m L b h fun s => k (addSeq total v s)

/-- `n` sequences from number `b` on, and then the rest. -/
def seqs {α : Type} (i : grid0.Coords) (m : Mem) (L : ℕ → BitVec 32) (h : ∀ b, b < 16 → SeqOK i L b) :
    (n b : ℕ) → n + b ≤ 16 → FVec F S16 .f32 → (FVec F S16 .f32 → TP F i α) → TP F i α
  | 0, _, _, total, k => k total
  | n + 1, b, hb, total, k => oneSeq i m L b (h b (by omega)) total fun t => seqs i m L h n (b + 1) (by omega) t k

set_option cleanup.letToHave false in
/-- After the lengths: the sixteen sequences one after another, and the sums put into their buffer. -/
theorem afterWords_eq (i : grid0.Coords) (arg2 : Memref sig .scVector .hbm S2048x16x512 .f32) (harg2 : arg2.IsWhole) (arg3 : Memref sig .scVector .hbm S2048x16x512 .f32) (harg3 : arg3.IsWhole) (arg4 : Memref sig .scVector .hbm S16 .i32) (harg4 : arg4.IsWhole) (arg5 : Memref sig .scVector .hbm S16 .f32) (harg5 : arg5.IsWhole) (arg6 : Memref sig .scVector .hbm S32x16 .f32) (harg6 : arg6.IsWhole) (arg7 : Memref sig .scVector .vmem S32 .i32) (harg7 : arg7.IsWhole) (arg8 : Memref sig .scVector .vmem S32 .f32) (harg8 : arg8.IsWhole) (arg9 : Memref sig .scVector .vmem S96x1x512 .f32) (harg9 : arg9.IsWhole) (arg10 : Memref sig .scVector .vmem S96x1x512 .f32) (harg10 : arg10.IsWhole) (arg11 : Memref sig .scVector .vmem S16 .f32) (harg11 : arg11.IsWhole) (arg12 : DmaSems sig S3) (arg13 : DmaSems sig S3) (v907_r0 : DmaSems sig S_) (v907_r1 : DmaSems sig S_) (v907_r2 : DmaSems sig S_)
    (w : ℕ → BitVec 32) (hw : k0_chk1 i (w 0) (w 1) (w 2) (w 3) (w 4) (w 5) (w 6) (w 7) (w 8) (w 9) (w 10) (w 11) (w 12) (w 13) (w 14) (w 15)) (ok : ∀ b, b < 16 → SeqOK i w b) :
    afterWords (F := F) i arg2 harg2 arg3 harg3 arg4 harg4 arg5 harg5 arg6 harg6 arg7 harg7 arg8 harg8 arg9 harg9 arg10 harg10 arg11 harg11 arg12 arg13 v907_r0 v907_r1 v907_r2 (w 0) (w 1) (w 2) (w 3) (w 4) (w 5) (w 6) (w 7) (w 8) (w 9) (w 10) (w 11) (w 12) (w 13) (w 14) (w 15) hw =
    seqs i ⟨arg2, arg3, arg8, arg9, arg10, arg12, arg13⟩ w ok 16 0 (by decide) zeros fun t => putTotal i arg11 t := by
  have e67 : Scalar.maxsi (Scalar.subi (w 0) 1024#32) 0#32 = tail w 0 := rfl
  have e69 : Scalar.maxsi (Scalar.subi (w 1) 1024#32) 0#32 = tail w 1 := rfl
  have e71 : Scalar.maxsi (Scalar.subi (w 2) 1024#32) 0#32 = tail w 2 := rfl
  unfold afterWords
  simp only [e67, e69, e71, part547_eq (hw := hw) (ok := ok), part548_eq (hw := hw) (ok := ok), part549_eq (hw := hw) (ok := ok), part550_eq (hw := hw) (ok := ok), part551_eq (hw := hw) (ok := ok), part552_eq (hw := hw) (ok := ok), part553_eq (hw := hw) (ok := ok), part554_eq (hw := hw) (ok := ok), part555_eq (hw := hw) (ok := ok), part556_eq (hw := hw) (ok := ok), part557_eq (hw := hw) (ok := ok), part558_eq (hw := hw) (ok := ok), part559_eq (hw := hw) (ok := ok), part560_eq (hw := hw) (ok := ok), part561_eq (hw := hw) (ok := ok), part562_eq (hw := hw) (ok := ok), part563_eq (hw := hw) (ok := ok), part564_eq (hw := hw) (ok := ok), part565_eq (hw := hw) (ok := ok), part566_eq (hw := hw) (ok := ok), lastSeq_eq (hw := hw) (ok := ok), start0_bind, start1_bind, pieces_bind, scale_bind,
    pieces'_eq, piecesEnd_eq, bind_assoc, pure_bind]
  sl_kernel_rfl

end Cert.Tail

end
-- ==== Proof.Base.lean ====
/-
  The program as the launch theorem sees it, and the resources its proof works with.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Tile
public import proofs.«01_k».proof.Proof.Meaning
public import proofs.«01_k».proof.Proof.Sequences

@[expose] public section

noncomputable section

namespace Cert.Tail

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

/-- The algebra the assertions are over. -/
abbrev MM (F : FTy → Type) : Type := MT nD τ sig (HIx 1) (Elt F) ℕ UU ℕ

abbrev EH : Emb UH (MM F) := embL
/-- The pipeline's rounds: the left half of the right factor. -/
def EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP (MM F)).LandsIn (upEmb : UEmb _ (MM F)) := by unfold EP; infer_instance

/-! ## The memory -/

abbrev yLoc (d : Dev nD) : Loc nD τ sig := (SparseCore.T d).loc main_arg0
abbrev dLoc (d : Dev nD) : Loc nD τ sig := (SparseCore.T d).loc main_arg1
abbrev lLoc (d : Dev nD) : Loc nD τ sig := (SparseCore.T d).loc main_arg2
abbrev iLoc (d : Dev nD) : Loc nD τ sig := (SparseCore.T d).loc main_v4
abbrev oLoc (d : Dev nD) : Loc nD τ sig := (SparseCore.T d).loc main_v5

abbrev yV : Memref sig .scVector .hbm S2048x16x512 .f32 := Memref.whole main_arg0_scv
abbrev dV : Memref sig .scVector .hbm S2048x16x512 .f32 := Memref.whole main_arg1_scv
abbrev lV : Memref sig .scVector .hbm S16 .i32 := Memref.whole main_arg2_scv
abbrev iV : Memref sig .scVector .hbm S16 .f32 := Memref.whole main_v4_scv
abbrev oV : Memref sig .scVector .hbm S32x16 .f32 := Memref.whole main_v5_scv
abbrev lsV : Memref sig .scVector .vmem S32 .i32 := Memref.whole cc0_scratch0
abbrev isV : Memref sig .scVector .vmem S32 .f32 := Memref.whole cc0_scratch1
abbrev ybV : Memref sig .scVector .vmem S96x1x512 .f32 := Memref.whole cc0_scratch2
abbrev dbV : Memref sig .scVector .vmem S96x1x512 .f32 := Memref.whole cc0_scratch3
abbrev osV : Memref sig .scVector .vmem S16 .f32 := Memref.whole cc0_scratch4

/-- The tile's memory and semaphores. -/
abbrev M0 : Mem := ⟨yV, dV, isV, ybV, dbV, cc0_scratch5, cc0_scratch6⟩

/-- The tile at grid coordinates `i`. -/
abbrev thr (d : Dev nD) (i : grid0.Coords) : Thread nD τ := V d ((i 0).castLE hcore0) ((i 1).castLE hsub0)

end Cert.Tail

end
-- ==== Proof.Lane.lean ====
/-
  One of the two copy streams of a tile: thirty-two rows of a column go into one of three slots of a buffer.
-/
module

public import proofs.«01_k».proof.Proof.Base

@[expose] public section

noncomputable section

namespace Cert.Tail

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- Slot `s` is in the buffer, -/
theorem slotIn (s : Fin 3) : SlotIn (32 * s.val) := by
  intro a; have := s.isLt
  fin_cases a
  · show 32 * s.val + 32 ≤ 96; omega
  · exact le_refl 1
  · exact le_refl 512
/-- and its semaphore is one of the three. -/
theorem semIn (s : Fin 3) : SemIn s.val := by
  intro a; have := s.isLt
  fin_cases a; show s.val + 1 ≤ 3; omega

/-- The slot piece `k` goes through. -/
def slotNo (k : ℕ) : Fin 3 := ⟨k % 3, Nat.mod_lt _ (by decide)⟩

/-- A slot's part of a share. -/
def part (q : PosShare TreeShare) : Fin 3 → PosShare TreeShare
  | 0 => q.left | 1 => q.right.left | 2 => q.right.right

section Lane

variable (d : Dev nD) (i : grid0.Coords) (src : Memref sig .scVector .hbm S2048x16x512 .f32)
  (buf : Memref sig .scVector .vmem S96x1x512 .f32) (sems : DmaSems sig S3)
  (A : Buf (Elt F) (src.view.loc (thr d i))) (q : PosShare TreeShare)

/-- Slot `s` of the buffer. -/
abbrev slotM (s : Fin 3) : Memref sig .scVector .vmem S32x1x512 .f32 := slotOf buf (32 * s.val) (slotIn s)
/-- The semaphore of slot `s`. -/
abbrev semL (s : Fin 3) : SemLoc sig := .dma (semOf sems s.val (semIn s)).sem

/-- A slot nothing is under way to: what it holds is not said; its semaphore is at zero, its share of the array is whole. -/
def IdleL (s : Fin 3) : sProp (MM F) :=
  iprop((∃ f, (slotM buf s).view.loc (thr d i) ↦[(slotM buf s).view.set]{fullShare} f) ∗ semVal (thr d i, semL sems s) 0
    ∗ (src.view.loc (thr d i) ↦{part q s} A))

/-- Thirty-two rows of column `b` from row `r` are on the way to slot `s`. -/
def FlyL (s : Fin 3) (r b : ℕ) : sProp (MM F) :=
  iprop(∃ (hs : SrcIn r b) (f : Buf (Elt F) ((slotM buf s).view.loc (thr d i))), Transfers.Flight countersEmb (thr d i) (semL sems s) (none : HIx 1) ((slotM buf s).view.amount (semL sems s))
      iprop(((slotM buf s).view.loc (thr d i) ↦[(slotM buf s).view.set]{fullShare}
          ((slotM buf s).view.write (Elt F) f ((srcOf src r b hs).view.read (Elt F) A) Finset.univ))
        ∗ ((srcOf src r b hs).view.loc (thr d i) ↦[(srcOf src r b hs).view.set]{part q s} A))
    ∗ (src.view.loc (thr d i) ↦[Finset.univ \ (srcOf src r b hs).view.set]{part q s} A))

/-- They have arrived. -/
def FullL (s : Fin 3) (r b : ℕ) : sProp (MM F) :=
  iprop(∃ (hs : SrcIn r b) (f : Buf (Elt F) ((slotM buf s).view.loc (thr d i))), ((slotM buf s).view.loc (thr d i) ↦[(slotM buf s).view.set]{fullShare}
          ((slotM buf s).view.write (Elt F) f ((srcOf src r b hs).view.read (Elt F) A) Finset.univ))
      ∗ semVal (thr d i, semL sems s) 0 ∗ (src.view.loc (thr d i) ↦{part q s} A))

theorem FullL.idle (s : Fin 3) (r b : ℕ) : FullL d i src buf sems A q s r b ⊢ IdleL d i src buf sems A q s := by
  unfold FullL IdleL
  iintro ⟨%hs, %f, Hb, Hv, Hs⟩
  isplitl [Hb]; · iexists _; iexact Hb
  isplitl [Hv] <;> iassumption

variable {α : Type} {Q : α → sProp (MM F)}

/-- Starting the copy. -/
theorem wp_start (s : Fin 3) (r b e t : ℕ) (he : e = s.val) (ht : t = 32 * s.val) (hr : SlotIn t) (hs : SrcIn r b) (hm : SemIn e)
    (k : PUnit → TP F i α) :
    IdleL d i src buf sems A q s ⊢ iprop((FlyL d i src buf sems A q s r b -∗ wp frame (wpE (defs₀ (F := F)) 𝒱₀ (thr d i) none) Set.univ (k ⟨⟩) Q)
      -∗ wp frame (wpE (defs₀ (F := F)) 𝒱₀ (thr d i) none) Set.univ
        (.op (.enqueueDma (srcOf src r b hs) (.here (slotOf buf t hr)) (.dma (semOf sems e hm).sem)
    (View.wordExact_bits rfl) (View.wordExact_bits rfl) ⟨Or.inl rfl, trivial⟩) k) Q) := by
  subst he ht
  unfold IdleL FlyL
  iintro ⟨⟨%f, Hb⟩, Hv, Hs⟩ Hk
  ihave Hs := (pointsTo_split_subset (q := part q s) (f := A) (S := Finset.univ) (Finset.subset_univ (srcOf src r b hs).view.set)).1 $$ Hs
  icases Hs with ⟨Hs, Hr⟩
  iapply (Transfers.wp_dmaLocal countersEmb 𝒱₀ (thr d i) none (none : HIx 1) ((slotM buf s).view.amount (semL sems s)) rfl
    (View.amount_pos _ _ (show 0 < S32x1x512.numel by decide)) (Finset.Subset.refl _)) $$ [Hs Hb Hv]
  · isplitl [Hs]; · iexact Hs
    isplitl [Hb]; · iexact Hb
    iexact Hv
  iintro Hf
  iapply Hk
  iexists hs; iexists f
  isplitl [Hf]; · iexact Hf
  iexact Hr

/-- Waiting for it. -/
theorem wp_await (s : Fin 3) (r b e t c : ℕ) (he : e = s.val) (ht : t = 32 * s.val) (hr : SlotIn t) (hs : SrcIn 0 c) (hm : SemIn e)
    (O : CellTallies nD τ sig (HIx 1)) (W : Waits sig (HIx 1)) (k : PUnit → TP F i α) :
    iprop(FlyL d i src buf sems A q s r b ∗ owes (thr d i) O W ∗ Transfers.MayWaits (thr d i) (none : HIx 1) O) ⊢
      iprop((iprop(FullL d i src buf sems A q s r b ∗ owes (thr d i) O (insert (semL sems s, none) W)) -∗ wp frame (wpE (defs₀ (F := F)) 𝒱₀ (thr d i) none) Set.univ (k ⟨⟩) Q)
      -∗ wp frame (wpE (defs₀ (F := F)) 𝒱₀ (thr d i) none) Set.univ
        (.op (.waitDma2 (semOf sems e hm).sem (srcOf src 0 c hs) (slotOf buf t hr) (View.wordExact_bits rfl) (View.wordExact_bits rfl)) k) Q) := by
  subst he ht
  unfold FlyL FullL
  iintro ⟨⟨%h, %f, Hf, Hr⟩, HO, Hmw⟩ Hk
  iapply (Transfers.wp_waitLocalO countersEmb 𝒱₀ (thr d i) none (none : HIx 1) rfl) $$ [Hf HO Hmw]
  · isplitl [Hf]; · iexact Hf
    isplitl [HO]; · iexact HO
    iapply (Transfers.MayWaits.elim (semL sems s)) $$ Hmw
  iintro ⟨⟨Hb, Hs⟩, Hv, HO⟩
  iapply Hk
  isplitr [HO]
  · iexists h; iexists f
    isplitl [Hb]; · iexact Hb
    isplitl [Hv]; · iexact Hv
    iapply (pointsTo_split_subset (q := part q s) (f := A) (S := Finset.univ) (Finset.subset_univ (srcOf src r b h).view.set)).2
    isplitl [Hs] <;> iassumption
  · iexact HO

end Lane

end Cert.Tail

end
-- ==== Proof.Values.lean ====
/-
  What a tile computes: the values behind its program's words and loads.
-/
module

public import proofs.«01_k».proof.Proof.Lane

@[expose] public section

noncomputable section

namespace Cert.Tail

open Cert.KernelIdeal Cert.KernelIdeal.Gen
open Idealize.ShloMosaic
open Idealize.SL.Sem

variable {F : FTy → Type} [FloatOps F]

/-- The element of an array at row `t`, column `b`, place `c`. -/
def cell (t b c : ℕ) : S2048x16x512.Idx := fun a =>
  ⟨(![t, b, c] : Fin 3 → ℕ) a % S2048x16x512.size a, Nat.mod_lt _ (by fin_cases a <;> decide)⟩

/-- Group `g` of row `t` of column `b`. -/
def grp (A : S2048x16x512.Idx → Elt F .f32) (t b g : ℕ) : Vec F S1x1x16 .f32 := fun x => A (cell t b (16 * g + (x 2).val))

/-- A row's groups from group `g`, `n` of them, each one's squared differences added on. -/
def groups (Y D : S2048x16x512.Idx → Elt F .f32) (t b : ℕ) : (n g : ℕ) → FVec F S16 .f32 → FVec F S16 .f32
  | 0, _, acc => acc
  | n + 1, g, acc => groups Y D t b n (g + 1) (step acc (grp Y t b g) (grp D t b g))

/-- `n` rows from row `t`. -/
def foldRows (Y D : S2048x16x512.Idx → Elt F .f32) (b t : ℕ) : ℕ → FVec F S16 .f32 → FVec F S16 .f32
  | 0, acc => acc
  | n + 1, acc => groups Y D (t + n) b 32 0 (foldRows Y D b t n acc)

/-- A sequence's sums, times its scale, added to the total. -/
def addScaled (total seg : FVec F S16 .f32) (x : Elt F .f32) : FVec F S16 .f32 :=
  addf total (mulf seg (broadcast S16 x))

/-- The tile's total after `n` sequences. -/
def total (Y D : S2048x16x512.Idx → Elt F .f32) (inv : ℕ → Elt F .f32) (i : grid0.Coords) (L : ℕ → BitVec 32) :
    ℕ → FVec F S16 .f32
  | 0 => zeros
  | b + 1 => addScaled (total Y D inv i L b) (foldRows Y D b (loN i L b) (hiN i L b - loN i L b) zeros) (inv b)

section Read
variable (src : Memref sig .scVector .hbm S2048x16x512 .f32) (buf : Memref sig .scVector .vmem S96x1x512 .f32)

/-- A group of a slot that rows from `r` of column `b` have been copied to is a group of the array. -/
theorem read_slot (A : src.view.ty.Contents (Elt F)) (f : buf.view.ty.Contents (Elt F)) (s : Fin 3) (r b t g u : ℕ) (hs : SrcIn r b)
    (hu : u = 32 * s.val + t) (ht : t < 32) (hg : g < 32) (h : GroupIn u g) :
    buf.view.readAt (Elt F) (groupOf u g h) ((slotM buf s).view.write (Elt F) f ((srcOf src r b hs).view.read (Elt F) A) Finset.univ)
      = grp (src.view.read (Elt F) A) (r + t) b g := by
  subst hu
  funext x
  have hx : (x 2).val < 16 := (x 2).isLt
  have hx1 : (x 1).val < 1 := (x 1).isLt
  have hx0 : (x 0).val < 1 := (x 0).isLt
  have h0 : r + 32 ≤ 2048 := hs 0
  have h1 : b + 1 ≤ 16 := hs 1
  let z : S32x1x512.Idx := fun a => ⟨(![t, 0, 16 * g + (x 2).val] : Fin 3 → ℕ) a, by
    fin_cases a
    · exact ht
    · exact Nat.one_pos
    · show 16 * g + (x 2).val < 512; omega⟩
  rw [View.readAt_apply]
  have e1 : (groupOf (32 * s.val + t) g h).idx x
      = (Rect.unit (s := S96x1x512) ![32 * s.val, 0, 0] S32x1x512.size (slotIn s)).emb z := by
    funext a; apply Fin.ext
    fin_cases a
    · show 32 * s.val + t + 1 * (x 0).val = 32 * s.val + 1 * t; omega
    · show 0 + 1 * (x 1).val = 0 + 1 * 0; omega
    · show 16 * g + 1 * (x 2).val = 0 + 1 * (16 * g + (x 2).val); omega
  rw [e1, View.read_apply]
  have e2 := View.write_emb_of_mem (v := (slotM buf s).view) (Val := Elt F) f ((srcOf src r b hs).view.read (Elt F) A) (Finset.mem_univ z)
  refine (congrArg _ e2).trans ?_
  rw [cast_cast, cast_eq]
  show src.view.read (Elt F) A ((Rect.unit (s := S2048x16x512) ![r, b, 0] S32x1x512.size hs).emb z) = src.view.read (Elt F) A (cell (r + t) b (16 * g + (x 2).val))
  congr 1
  funext a; apply Fin.ext
  fin_cases a
  · show r + 1 * t = (r + t) % 2048; omega
  · show b + 1 * 0 = b % 16; omega
  · show 0 + 1 * (16 * g + (x 2).val) = (16 * g + (x 2).val) % 512; omega

end Read

end Cert.Tail

end
-- ==== Proof.Pieces.lean ====
/-
  A tile goes through the pieces of a sequence: what its program does to the slots, and what its sums come to.
-/
module

public import proofs.«01_k».proof.Proof.Values

@[expose] public section

noncomputable section

namespace Cert.Tail

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- A tile's program meets a postcondition. -/
abbrev WP (d : Dev nD) (i : grid0.Coords) {α : Type} (p : TP F i α) (Q : α → sProp (MM F)) : sProp (MM F) :=
  wp frame (wpE (defs₀ (F := F)) 𝒱₀ (thr d i) none) Set.univ p Q

theorem WP_pure (d : Dev nD) (i : grid0.Coords) {α : Type} (a : α) (Q : α → sProp (MM F)) : Q a ⊢ WP d i (Pure.pure a) Q := by
  unfold WP
  rw [wp_pure]
  iintro H
  imodintro
  iexact H

/-- What the tile owes, and the waits it has made: those of `W`, and some at its copies' index. -/
def Owing (t : Thread nD τ) (O : CellTallies nD τ sig (HIx 1)) (W : Waits sig (HIx 1)) : sProp (MM F) :=
  iprop(∃ W', ⌜∀ p ∈ W', p ∈ W ∨ p.2 = none⌝ ∗ owes t O W')

theorem Owing.insert {t : Thread nD τ} {O : CellTallies nD τ sig (HIx 1)} {W W' : Waits sig (HIx 1)} {s : SemLoc sig}
    (h : ∀ p ∈ W', p ∈ W ∨ p.2 = none) : (owes t O (insert (s, none) W') : sProp (MM F)) ⊢ Owing t O W := by
  unfold Owing
  iintro HO
  iexists _; isplitr
  swap; · iexact HO
  ipureintro; intro p hp
  rcases Finset.mem_insert.mp hp with hp | hp
  · exact .inr (hp ▸ rfl)
  · exact h p hp

theorem group_subset (buf : Memref sig .scVector .vmem S96x1x512 .f32) (s : Fin 3) (t g u : ℕ) (hu : u = 32 * s.val + t)
    (ht : t < 32) (hg : g < 32) (h : GroupIn u g) :
    buf.view.setOn (groupOf u g h).set ⊆ (slotM buf s).view.set := by
  subst hu
  refine Finset.Subset.trans ?_ (le_of_eq (View.set_slice (v := buf.view)
    (Rect.unit (s := S96x1x512) ![32 * s.val, 0, 0] S32x1x512.size (slotIn s))).symm)
  refine Finset.map_subset_map.mpr fun x hx => ?_
  have hx' := Rect.mem_set_unit.mp (show x ∈ (Rect.unit (s := S96x1x512) ![32 * s.val + t, 0, 16 * g] S1x1x16.size h).set from hx)
  refine Rect.mem_set_unit.mpr fun a => ?_
  have h0 := hx' 0
  have h1 := hx' 1
  have h2 := hx' 2
  have h3 : (x 1).val < 1 := (x 1).isLt
  have h4 : (x 2).val < 512 := (x 2).isLt
  fin_cases a
  · change 32 * s.val + t ≤ (x 0).val ∧ (x 0).val < 32 * s.val + t + 1 at h0
    show 32 * s.val ≤ (x 0).val ∧ (x 0).val < 32 * s.val + 32
    omega
  · show 0 ≤ (x 1).val ∧ (x 1).val < 0 + 1
    omega
  · show 0 ≤ (x 2).val ∧ (x 2).val < 0 + 512
    omega

section Pieces

variable (d : Dev nD) (i : grid0.Coords) (m : Mem)
  (Y : Buf (Elt F) (m.y.view.loc (thr d i))) (D : Buf (Elt F) (m.d.view.loc (thr d i))) (qy qd : PosShare TreeShare)

/-- The two arrays as the tile reads them. -/
abbrev Yv : S2048x16x512.Idx → Elt F .f32 := m.y.view.read (Elt F) Y
abbrev Dv : S2048x16x512.Idx → Elt F .f32 := m.d.view.read (Elt F) D

/-- Both streams' slot `s` idle, -/
def Idle (s : Fin 3) : sProp (MM F) := iprop(IdleL d i m.y m.yb m.sy Y qy s ∗ IdleL d i m.d m.db m.sd D qd s)
/-- on the way, -/
def Fly (s : Fin 3) (r b : ℕ) : sProp (MM F) := iprop(FlyL d i m.y m.yb m.sy Y qy s r b ∗ FlyL d i m.d m.db m.sd D qd s r b)
/-- arrived. -/
def Full (s : Fin 3) (r b : ℕ) : sProp (MM F) := iprop(FullL d i m.y m.yb m.sy Y qy s r b ∗ FullL d i m.d m.db m.sd D qd s r b)

theorem Full.idle (s : Fin 3) (r b : ℕ) : Full d i m Y D qy qd s r b ⊢ Idle d i m Y D qy qd s := by
  unfold Full Idle
  iintro ⟨H, H'⟩
  isplitl [H]
  · iapply (FullL.idle (F := F)) $$ H
  · iapply (FullL.idle (F := F)) $$ H'

variable {α : Type} {Q : α → sProp (MM F)}

/-- Both copies of a piece are started. -/
theorem wp_issue (s : Fin 3) (r b e t : ℕ) (he : e = s.val) (ht : t = 32 * s.val) (hr : SlotIn t) (hs : SrcIn r b) (hm : SemIn e)
    (k : PUnit → TP F i α) :
    Idle d i m Y D qy qd s ⊢ iprop((Fly d i m Y D qy qd s r b -∗ WP d i (k ⟨⟩) Q) -∗ WP d i (issue i m b t r e hr hs hm >>= k) Q) := by
  unfold issue Idle Fly
  simp only [Prog.lift, Prog.bind_op, Prog.bind_ret, bind_assoc, pure_bind]
  iintro ⟨Hy, Hd⟩ Hk
  iapply (wp_start d i m.y m.yb m.sy Y qy s r b e t he ht hr hs hm) $$ Hy
  iintro Hy
  iapply (wp_start d i m.d m.db m.sd D qd s r b e t he ht hr hs hm) $$ Hd
  iintro Hd
  iapply Hk
  isplitl [Hy] <;> iassumption

/-- A row of a slot, group by group. -/
theorem wp_rowFrom (s : Fin 3) (t u T b : ℕ) (hu : u = 32 * s.val + t) (ht : t < 32) (h : GroupIn u 0)
    (fy : Buf (Elt F) (m.yb.view.loc (thr d i))) (fd : Buf (Elt F) (m.db.view.loc (thr d i)))
    (hy : ∀ g, g < 32 → ∀ h, m.yb.view.readAt (Elt F) (groupOf u g h) fy = grp (Yv d i m Y) T b g)
    (hd : ∀ g, g < 32 → ∀ h, m.db.view.readAt (Elt F) (groupOf u g h) fd = grp (Dv d i m D) T b g)
    (k : FVec F S16 .f32 → TP F i α) (n g : ℕ) (hn : g + n ≤ 32) (acc : FVec F S16 .f32) :
    iprop((m.yb.view.loc (thr d i) ↦[(slotM m.yb s).view.set]{fullShare} fy) ∗ (m.db.view.loc (thr d i) ↦[(slotM m.db s).view.set]{fullShare} fd))
      ⊢ iprop((iprop((m.yb.view.loc (thr d i) ↦[(slotM m.yb s).view.set]{fullShare} fy) ∗ (m.db.view.loc (thr d i) ↦[(slotM m.db s).view.set]{fullShare} fd))
          -∗ WP d i (k (groups (Yv d i m Y) (Dv d i m D) T b n g acc)) Q)
        -∗ WP d i (rowFrom i m u h n g hn acc >>= k) Q) := by
  induction n generalizing g acc with
  | zero =>
    unfold rowFrom groups
    simp only [pure_bind]
    iintro H Hk
    iapply Hk $$ H
  | succ n ih =>
    unfold rowFrom groups
    simp only [Prog.lift, Prog.bind_op, Prog.bind_ret, bind_assoc, pure_bind]
    iintro ⟨Hy, Hd⟩ Hk
    iapply (wp_load 𝒱₀ (thr d i) none Set.univ (group_subset m.yb s t g u hu ht (by omega) _)) $$ Hy
    iintro Hy
    iapply (wp_load 𝒱₀ (thr d i) none Set.univ (group_subset m.db s t g u hu ht (by omega) _)) $$ Hd
    iintro Hd
    rw [hy g (by omega), hd g (by omega)]
    ihave H := (ih (g + 1) (by omega) (step acc (grp (Yv d i m Y) T b g) (grp (Dv d i m D) T b g))) $$ [Hy Hd]
    · isplitl [Hy] <;> iassumption
    iapply H $$ Hk

/-- A row of a slot that has arrived. -/
theorem wp_row (s : Fin 3) (t u T r b : ℕ) (hu : u = 32 * s.val + t) (ht : t < 32) (hT : r + t = T) (h : GroupIn u 0)
    (k : FVec F S16 .f32 → TP F i α) (acc : FVec F S16 .f32) :
    Full d i m Y D qy qd s r b
      ⊢ iprop((Full d i m Y D qy qd s r b -∗ WP d i (k (groups (Yv d i m Y) (Dv d i m D) T b 32 0 acc)) Q)
        -∗ WP d i (row i m u h acc >>= k) Q) := by
  subst hT
  unfold Full FullL row
  iintro ⟨⟨%hs, %fy, Hy, Hvy, Hsy⟩, ⟨%hs', %fd, Hd, Hvd, Hsd⟩⟩ Hk
  ihave H := (wp_rowFrom d i m Y D s t u (r + t) b hu ht h _ _
    (fun g hg h => read_slot m.y m.yb Y fy s r b t g u hs hu ht hg h)
    (fun g hg h => read_slot m.d m.db D fd s r b t g u hs' hu ht hg h) (Q := Q) k 32 0 (by omega) acc) $$ [Hy Hd]
  · isplitl [Hy] <;> iassumption
  iapply H
  iintro ⟨Hy, Hd⟩
  iapply Hk
  isplitl [Hy Hvy Hsy]
  · iexists hs; iexists fy
    isplitl [Hy]; · iexact Hy
    isplitl [Hvy] <;> iassumption
  · iexists hs'; iexists fd
    isplitl [Hd]; · iexact Hd
    isplitl [Hvd] <;> iassumption

/-- The rows of a piece. -/
theorem wp_rows (s : Fin 3) (r b T0 n : ℕ) (lb ub : BitVec 32) (hok : (span lb ub).OK)
    (h : ∀ t : Fin (span lb ub).trips, GroupIn (Scf.iv lb 1#32 t).toNat 0) (o : ℕ) (hn : (span lb ub).trips = n)
    (hrow : ∀ t, t < n → (Scf.iv lb 1#32 t).toNat = 32 * s.val + (o + t)) (ho : ∀ t, t < n → o + t < 32)
    (lo : ℕ) (hT : r + o = lo + T0)
    (k : FVec F S16 .f32 → TP F i α) :
    Full d i m Y D qy qd s r b
      ⊢ iprop((Full d i m Y D qy qd s r b -∗ WP d i (k (foldRows (Yv d i m Y) (Dv d i m D) b lo (T0 + n) zeros)) Q)
        -∗ WP d i (rows i m lb ub hok h (foldRows (Yv d i m Y) (Dv d i m D) b lo T0 zeros) >>= k) Q) := by
  unfold rows
  simp only [bind_assoc]
  let I : ℕ → FVec F S16 .f32 → sProp (MM F) := fun t acc =>
    iprop(⌜acc = foldRows (Yv d i m Y) (Dv d i m D) b lo (T0 + t) zeros⌝ ∗ Full d i m Y D qy qd s r b)
  have hbody : ∀ (t : Fin (span lb ub).trips) (acc : FVec F S16 .f32),
      I t acc ⊢ WP d i (row i m (Scf.iv lb 1#32 t).toNat (h t) acc) (I (t.val + 1)) := by
    intro t acc
    have ht : t.val < n := hn ▸ t.isLt
    rw [← bind_pure (row i m _ (h t) acc)]
    iintro ⟨%e, H⟩
    subst e
    iapply (wp_row d i m Y D qy qd s (o + t.val) _ (lo + (T0 + t.val)) r b (hrow t.val ht) (ho t.val ht) (by omega) (h t) _ _) $$ H
    iintro H
    iapply (WP_pure d i)
    isplitr; · ipureintro; rfl
    iexact H
  iintro H Hk
  iapply (Scf.wp_for_bind frame (wpE (defs₀ (F := F)) 𝒱₀ (thr d i) none) Set.univ _ _ _ hok _ _ I hbody) $$ [H]
  · isplitr; · ipureintro; rfl
    iexact H
  iintro %acc ⟨%e, H⟩
  subst e
  rw [show Scf.trips (span lb ub).lb (span lb ub).ub (span lb ub).st = n from hn]
  rw [show Scf.Loop.for (rest lb ub) (rest_ok lb ub) (foldRows (Yv d i m Y) (Dv d i m D) b lo (T0 + n) zeros) (fun t acc =>
      row i m (Scf.iv (Scalar.addi lb (Scalar.muli (Scalar.divsi (Scalar.subi ub lb) 1#32) 1#32)) 1#32 t).toNat
      (rest_no_trip t) acc) = Pure.pure _ from Scf.for_eq_ret _ _ _ _ _ _ (Scf.rem_trips _ _)]
  simp only [pure_bind]
  iapply Hk $$ H

variable (L : ℕ → BitVec 32)

/-- Piece `k`'s slot: on the way if there is such a piece, idle if not. -/
def SlotAt (b k : ℕ) : sProp (MM F) :=
  if k < chunksN i L b then Fly d i m Y D qy qd (slotNo k) (rowcN i L b k) b else Idle d i m Y D qy qd (slotNo k)

/-- The slots as piece `k` is come to. -/
def Ring (b k : ℕ) : sProp (MM F) :=
  iprop(SlotAt d i m Y D qy qd L b k ∗ SlotAt d i m Y D qy qd L b (k + 1) ∗ Idle d i m Y D qy qd (slotNo (k + 2)))

/-- How many rows come before piece `k`. -/
def doneN (b k : ℕ) : ℕ := min (32 * k) (hiN i L b - loN i L b)

variable {L} (hL : InRange L)
include hL

/-- One piece. -/
theorem wp_piece (b k : ℕ) (hb : b < 16) (hk : k < chunksN i L b) (c : BitVec 32) (hc : c = cw k) (hcol : SrcIn 0 b)
    (h : PieceOK i L b c) (O : CellTallies nD τ sig (HIx 1)) (W : Waits sig (HIx 1)) (kk : FVec F S16 .f32 → TP F i α) :
    iprop(Ring d i m Y D qy qd L b k ∗ Owing (thr d i) O W ∗ Transfers.MayWaits (thr d i) (none : HIx 1) O)
      ⊢ iprop((iprop(Ring d i m Y D qy qd L b (k + 1) ∗ Owing (thr d i) O W)
          -∗ WP d i (kk (foldRows (Yv d i m Y) (Dv d i m D) b (loN i L b) (doneN i L b (k + 1)) zeros)) Q)
        -∗ WP d i (piece i m L b c hcol h (foldRows (Yv d i m Y) (Dv d i m D) b (loN i L b) (doneN i L b k) zeros) >>= kk) Q) := by
  subst hc
  have h3 := chunksN_le hL i hb
  have hlt := rowN_lt hL i hb hk
  have hhi := hiN_le hL i hb
  have hslot : slotNo (k + 1 + 2) = slotNo k := Fin.ext (by show (k + 1 + 2) % 3 = k % 3; omega)
  -- the rest of the piece, once the next copies are on their way
  have hrest : ∀ (P : sProp (MM F)), iprop(Fly d i m Y D qy qd (slotNo k) (rowcN i L b k) b ∗ P ∗ Owing (thr d i) O W ∗ Transfers.MayWaits (thr d i) (none : HIx 1) O)
      ⊢ iprop((iprop(Idle d i m Y D qy qd (slotNo k) ∗ P ∗ Owing (thr d i) O W)
          -∗ WP d i (kk (foldRows (Yv d i m Y) (Dv d i m D) b (loN i L b) (doneN i L b (k + 1)) zeros)) Q)
        -∗ WP d i (.op (.waitDma2 (semOf m.sy (Scalar.remsi (cw k) 3#32).toNat h.sem).sem (srcOf m.y 0 b hcol)
      (slotOf m.yb (slotRow (cw k)).toNat h.slot) (View.wordExact_bits rfl) (View.wordExact_bits rfl)) fun _ =>
        .op (.waitDma2 (semOf m.sd (Scalar.remsi (cw k) 3#32).toNat h.sem).sem (srcOf m.d 0 b hcol)
      (slotOf m.db (slotRow (cw k)).toNat h.slot) (View.wordExact_bits rfl) (View.wordExact_bits rfl)) fun _ =>
        rows i m (bufLo i L b (cw k)) (bufHi i L b (cw k)) h.rowsOK h.rows
          (foldRows (Yv d i m Y) (Dv d i m D) b (loN i L b) (doneN i L b k) zeros) >>= kk) Q) := by
    intro P
    unfold Fly
    iintro ⟨⟨Hy, Hd⟩, HP, HO, #Hmw⟩ Hk
    unfold Owing
    icases HO with ⟨%W', %hW, HO⟩
    iapply (wp_await d i m.y m.yb m.sy Y qy (slotNo k) (rowcN i L b k) b (Scalar.remsi (cw k) 3#32).toNat (slotRow (cw k)).toNat b
      (sem_nat (by omega)) (slotRow_nat (by omega)) h.slot hcol h.sem O W') $$ [Hy HO]
    · isplitl [Hy]; · iexact Hy
      isplitl [HO]; · iexact HO
      iexact Hmw
    iintro ⟨Hy, HO⟩
    iapply (wp_await d i m.d m.db m.sd D qd (slotNo k) (rowcN i L b k) b (Scalar.remsi (cw k) 3#32).toNat (slotRow (cw k)).toNat b
      (sem_nat (by omega)) (slotRow_nat (by omega)) h.slot hcol h.sem O _) $$ [Hd HO]
    · isplitl [Hd]; · iexact Hd
      isplitl [HO]; · iexact HO
      iexact Hmw
    iintro ⟨Hd, HO⟩
    have hR := wp_rows d i m Y D qy qd (Q := Q) (slotNo k) (rowcN i L b k) b (doneN i L b k) (rowEndN i L b k - rowN i L b k)
      (bufLo i L b (cw k)) (bufHi i L b (cw k)) h.rowsOK h.rows (rowN i L b k - rowcN i L b k) (rows_trips hL i hb hk)
      (fun t ht => (row_nat hL i hb hk ht).trans (by show _ = 32 * (k % 3) + _; omega))
      (fun t ht => by unfold rowEndN rowcN rowN at *; omega) (loN i L b)
      (by unfold doneN rowcN; unfold rowN at *; omega) kk
    rw [show doneN i L b k + (rowEndN i L b k - rowN i L b k) = doneN i L b (k + 1) by
      unfold doneN rowEndN; unfold rowN at *; omega] at hR
    iapply hR $$ [Hy Hd]
    · unfold Full; isplitl [Hy] <;> iassumption
    iintro H
    iapply Hk
    isplitl [H]
    · iapply (Full.idle d i m Y D qy qd) $$ H
    isplitl [HP]; · iexact HP
    iexists _; isplitr
    swap; · iexact HO
    ipureintro; intro p hp
    rcases Finset.mem_insert.mp hp with hp | hp
    · exact .inr (hp ▸ rfl)
    rcases Finset.mem_insert.mp hp with hp | hp
    · exact .inr (hp ▸ rfl)
    · exact hW p hp
  unfold piece Ring
  rw [show SlotAt d i m Y D qy qd L b k = Fly d i m Y D qy qd (slotNo k) (rowcN i L b k) b from if_pos hk, hslot]
  iintro ⟨⟨Hf, H1, Hi⟩, HO, #Hmw⟩ Hk
  by_cases hn : hasNext i L b (cw k) = 1#1
  · have hn' := (hasNext_iff hL i hb hk).mp hn
    simp only [dif_pos hn, Prog.lift, Prog.bind_op, Prog.bind_ret, bind_assoc, pure_bind]
    have hI := wp_issue d i m Y D qy qd (Q := Q) (slotNo (k + 2)) (row0c i L b (Scalar.addi (cw k) 2#32)).toNat b
      (Scalar.remsi (Scalar.addi (cw k) 2#32) 3#32).toNat (slotRow (Scalar.addi (cw k) 2#32)).toNat
      (by rw [addi_two]; exact sem_nat (by omega)) (by rw [addi_two]; exact slotRow_nat (by omega))
      (h.nextSlot hn) (h.nextSrc hn) (h.nextSem hn)
    iapply hI $$ Hi
    iintro Hi
    rw [addi_two, row0c_nat hL i hb hn']
    iapply (hrest iprop(SlotAt d i m Y D qy qd L b (k + 1) ∗ SlotAt d i m Y D qy qd L b (k + 1 + 1))) $$ [Hf H1 Hi HO]
    · isplitl [Hf]; · iexact Hf
      isplitl [H1 Hi]
      · isplitl [H1]; · iexact H1
        rw [show SlotAt d i m Y D qy qd L b (k + 1 + 1) = Fly d i m Y D qy qd (slotNo (k + 2)) (rowcN i L b (k + 2)) b from if_pos hn']
        iexact Hi
      isplitl [HO]; · iexact HO
      iexact Hmw
    iintro ⟨Hid, ⟨H1, H2⟩, HO⟩
    iapply Hk
    isplitr [HO]
    · isplitl [H1]; · iexact H1
      isplitl [H2] <;> iassumption
    · iexact HO
  · have hn' : ¬ k + 2 < chunksN i L b := fun e => hn ((hasNext_iff hL i hb hk).mpr e)
    simp only [dif_neg hn, Prog.lift, Prog.bind_op, Prog.bind_ret, bind_assoc, pure_bind]
    iapply (hrest iprop(SlotAt d i m Y D qy qd L b (k + 1) ∗ SlotAt d i m Y D qy qd L b (k + 1 + 1))) $$ [Hf H1 Hi HO]
    · isplitl [Hf]; · iexact Hf
      isplitl [H1 Hi]
      · isplitl [H1]; · iexact H1
        rw [show SlotAt d i m Y D qy qd L b (k + 1 + 1) = Idle d i m Y D qy qd (slotNo (k + 2)) from if_neg hn']
        iexact Hi
      isplitl [HO]; · iexact HO
      iexact Hmw
    iintro ⟨Hid, ⟨H1, H2⟩, HO⟩
    iapply Hk
    isplitr [HO]
    · isplitl [H1]; · iexact H1
      isplitl [H2] <;> iassumption
    · iexact HO

end Pieces

end Cert.Tail

end
-- ==== Proof.Steps.lean ====
/-
  A tile goes through the sequences: what its program for all sixteen comes to.
-/
module

public import Idealize.ShloMosaic.Lib.Pipeline.Value
public import proofs.«01_k».proof.Proof.Pieces

@[expose] public section

noncomputable section

namespace Cert.Tail

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- Place `k` of a row of thirty-two, -/
def ix32 (k : ℕ) : S32.Idx := fun a => ⟨k % S32.size a, Nat.mod_lt _ (by fin_cases a; decide)⟩
/-- and of a row of sixteen. -/
def ix16 (k : ℕ) : S16.Idx := fun a => ⟨k % S16.size a, Nat.mod_lt _ (by fin_cases a; decide)⟩

/-- The first element of a vector loaded from place `k` on is the one at place `k`. -/
theorem first_loaded {e : EltTy} (m : Memref sig .scVector .vmem S32 e) (f : m.view.ty.Contents (Elt F)) (k : ℕ) (hk : k < 16)
    (h : ∀ a, (![k] : Fin 1 → ℕ) a + S16.size a ≤ S32.size a) :
    extractAt ![0] (extractStridedSlice S1 ![0] (shapeCast S16
      (m.view.readAt (Elt F) (Rect.unit (s := S32) ![k] S16.size h).toLoadRect f) shapeCasts_S16_S16) slices_S16_o0_S1) inpos_S1_p0
      = m.view.read (Elt F) f (ix32 k) := by
  refine (congrArg (fun v : Vec F S16 e => extractAt ![0] (extractStridedSlice S1 ![0] v slices_S16_o0_S1) inpos_S1_p0)
    (shapeCast_self (s := S16) _ shapeCasts_S16_S16)).trans ?_
  show m.view.read (Elt F) f _ = _
  congr 1
  funext a; apply Fin.ext
  fin_cases a
  show k + 1 * 0 = k % 32
  omega

section Steps

variable (d : Dev nD) (i : grid0.Coords)
variable {α : Type} {Q : α → sProp (MM F)}

/-- A copy, and the wait for it. -/
theorem wp_copy {sp sp' : Space} {s : Shape} {e : EltTy} {src : Memref sig .scVector sp s e} {dst : Memref sig .scVector sp' s e}
    {sem : DmaSem sig} {h1 : src.view.WordExact} {h2 : dst.view.WordExact} {h3} {h4 : src.view.WordExact} {h5 : dst.view.WordExact}
    {Sd : Finset (Idx (dst.view.loc (thr d i)))} (hSd : dst.view.set ⊆ Sd) (hn : 0 < s.numel) {q : PosShare TreeShare}
    (fs : Buf (Elt F) (src.view.loc (thr d i))) (fd : Buf (Elt F) (dst.view.loc (thr d i)))
    (O : CellTallies nD τ sig (HIx 1)) (W : Waits sig (HIx 1)) (k : PUnit → TP F i α) :
    iprop((src.view.loc (thr d i) ↦[src.view.set]{q} fs) ∗ (dst.view.loc (thr d i) ↦[Sd]{fullShare} fd) ∗ semVal (thr d i, .dma sem) 0
        ∗ Owing (thr d i) O W ∗ Transfers.MayWaits (thr d i) (none : HIx 1) O)
      ⊢ iprop((iprop((src.view.loc (thr d i) ↦[src.view.set]{q} fs)
            ∗ (dst.view.loc (thr d i) ↦[Sd]{fullShare} (dst.view.write (Elt F) fd (src.view.read (Elt F) fs) Finset.univ))
            ∗ semVal (thr d i, .dma sem) 0 ∗ Owing (thr d i) O W) -∗ WP d i (k ⟨⟩) Q)
        -∗ WP d i (.op (.enqueueDma src (.here dst) (.dma sem) h1 h2 h3) fun _ => .op (.waitDma2 sem src dst h4 h5) k) Q) := by
  iintro ⟨Hs, Hd, Hv, HO, Hmw⟩ Hk
  iapply (Transfers.wp_dmaLocal countersEmb 𝒱₀ (thr d i) none (none : HIx 1) (dst.view.amount (.dma sem)) rfl
    (View.amount_pos _ _ hn) hSd) $$ [Hs Hd Hv]
  · isplitl [Hs]; · iexact Hs
    isplitl [Hd]; · iexact Hd
    iexact Hv
  iintro Hf
  unfold Owing
  icases HO with ⟨%W', %hW, HO⟩
  iapply (Transfers.wp_waitLocalO countersEmb 𝒱₀ (thr d i) none (none : HIx 1) rfl) $$ [Hf HO Hmw]
  · isplitl [Hf]; · iexact Hf
    isplitl [HO]; · iexact HO
    iapply (Transfers.MayWaits.elim (SemLoc.dma sem)) $$ Hmw
  iintro ⟨⟨Hd, Hs⟩, Hv, HO⟩
  iapply Hk
  isplitl [Hs]; · iexact Hs
  isplitl [Hd]; · iexact Hd
  isplitl [Hv]; · iexact Hv
  iexists _; isplitr
  swap; · iexact HO
  ipureintro; intro p hp
  rcases Finset.mem_insert.mp hp with hp | hp
  · exact .inr (hp ▸ rfl)
  · exact hW p hp

/-- A copy of a whole buffer, and the wait for it. -/
theorem wp_copyWhole {sp sp' : Space} {s : Shape} {e : EltTy} {src : Memref sig .scVector sp s e} {dst : Memref sig .scVector sp' s e}
    {sem : DmaSem sig} {h1 : src.view.WordExact} {h2 : dst.view.WordExact} {h3} {h4 : src.view.WordExact} {h5 : dst.view.WordExact}
    (hw : src.view.set = Finset.univ)
    {Sd : Finset (Idx (dst.view.loc (thr d i)))} (hSd : dst.view.set ⊆ Sd) (hn : 0 < s.numel) {q : PosShare TreeShare}
    (fs : Buf (Elt F) (src.view.loc (thr d i))) (fd : Buf (Elt F) (dst.view.loc (thr d i)))
    (O : CellTallies nD τ sig (HIx 1)) (W : Waits sig (HIx 1)) (k : PUnit → TP F i α) :
    iprop((src.view.loc (thr d i) ↦{q} fs) ∗ (dst.view.loc (thr d i) ↦[Sd]{fullShare} fd) ∗ semVal (thr d i, .dma sem) 0
        ∗ Owing (thr d i) O W ∗ Transfers.MayWaits (thr d i) (none : HIx 1) O)
      ⊢ iprop((iprop((src.view.loc (thr d i) ↦{q} fs)
            ∗ (dst.view.loc (thr d i) ↦[Sd]{fullShare} (dst.view.write (Elt F) fd (src.view.read (Elt F) fs) Finset.univ))
            ∗ semVal (thr d i, .dma sem) 0 ∗ Owing (thr d i) O W) -∗ WP d i (k ⟨⟩) Q)
        -∗ WP d i (.op (.enqueueDma src (.here dst) (.dma sem) h1 h2 h3) fun _ => .op (.waitDma2 sem src dst h4 h5) k) Q) := by
  have h := wp_copy d i (Q := Q) (sem := sem) (h1 := h1) (h2 := h2) (h3 := h3) (h4 := h4) (h5 := h5) hSd hn (q := q) fs fd O W k
  rwa [hw] at h

/-- Reading a length. -/
theorem wp_readWord (m : Memref sig .scVector .vmem S32 .i32) (f : Buf (Elt F) (m.view.loc (thr d i))) (k : ℕ) (hk : k < 16) (h)
    (w : BitVec 32) (hw : m.view.read (Elt F) f (ix32 k) = w) (kk : BitVec 32 → TP F i α) :
    iprop(m.view.loc (thr d i) ↦{fullShare} f)
      ⊢ iprop((iprop(m.view.loc (thr d i) ↦{fullShare} f) -∗ WP d i (kk w) Q) -∗ WP d i (readWord i m k h kk) Q) := by
  unfold readWord
  simp only [Prog.lift, Prog.bind_op, Prog.bind_ret]
  iintro H Hk
  iapply (wp_load 𝒱₀ (thr d i) none Set.univ (Finset.subset_univ _)) $$ H
  iintro H
  rw [first_loaded m f k hk h, hw]
  iapply Hk $$ H

variable (m : Mem)
  (Y : Buf (Elt F) (m.y.view.loc (thr d i))) (D : Buf (Elt F) (m.d.view.loc (thr d i))) (qy qd : PosShare TreeShare)

/-- All the slots idle. -/
def Idles : sProp (MM F) := iprop(Idle d i m Y D qy qd 0 ∗ Idle d i m Y D qy qd 1 ∗ Idle d i m Y D qy qd 2)

variable {L : ℕ → BitVec 32} (hL : InRange L)
include hL

theorem Ring_end (b n : ℕ) (hn : chunksN i L b = n) : Ring d i m Y D qy qd L b n ⊢ Idles d i m Y D qy qd := by
  unfold Ring Idles
  rw [show SlotAt d i m Y D qy qd L b n = Idle d i m Y D qy qd (slotNo n) from if_neg (by omega),
    show SlotAt d i m Y D qy qd L b (n + 1) = Idle d i m Y D qy qd (slotNo (n + 1)) from if_neg (by omega)]
  have h := Nat.mod_lt n (show 0 < 3 by decide)
  rcases (by omega : n % 3 = 0 ∨ n % 3 = 1 ∨ n % 3 = 2) with e | e | e
  · rw [show slotNo n = 0 from Fin.ext (by show n % 3 = 0; omega), show slotNo (n + 1) = 1 from Fin.ext (by show (n + 1) % 3 = 1; omega),
      show slotNo (n + 2) = 2 from Fin.ext (by show (n + 2) % 3 = 2; omega)]
  · rw [show slotNo n = 1 from Fin.ext (by show n % 3 = 1; omega), show slotNo (n + 1) = 2 from Fin.ext (by show (n + 1) % 3 = 2; omega),
      show slotNo (n + 2) = 0 from Fin.ext (by show (n + 2) % 3 = 0; omega)]
    iintro ⟨H1, H2, H0⟩
    isplitl [H0]; · iexact H0
    isplitl [H1] <;> iassumption
  · rw [show slotNo n = 2 from Fin.ext (by show n % 3 = 2; omega), show slotNo (n + 1) = 0 from Fin.ext (by show (n + 1) % 3 = 0; omega),
      show slotNo (n + 2) = 1 from Fin.ext (by show (n + 2) % 3 = 1; omega)]
    iintro ⟨H2, H0, H1⟩
    isplitl [H0]; · iexact H0
    isplitl [H1] <;> iassumption

theorem wp_start0 (b : ℕ) (hb : b < 16) (h : SeqOK i L b) (k : TP F i α) :
    Idle d i m Y D qy qd 0 ⊢ iprop((SlotAt d i m Y D qy qd L b 0 -∗ WP d i k Q) -∗ WP d i (start0 i m L b h k) Q) := by
  unfold start0
  have hi := has_iff hL i hb 0 (by decide)
  iintro H Hk
  by_cases hn : has i L b 0#32 = 1#1
  · have hn' := hi.mp hn
    simp only [dif_pos hn, bind_assoc, pure_bind]
    iapply (wp_issue d i m Y D qy qd 0 (row0c i L b 0#32).toNat b 0 0 rfl rfl _ (h.src0 hn) _) $$ H
    rw [show (row0c i L b 0#32).toNat = rowcN i L b 0 from row0c_nat hL i hb hn',
      show SlotAt d i m Y D qy qd L b 0 = Fly d i m Y D qy qd 0 (rowcN i L b 0) b from if_pos hn']
    iexact Hk
  · have hn' : ¬ 0 < chunksN i L b := fun e => hn (hi.mpr e)
    simp only [dif_neg hn, bind_assoc, pure_bind]
    rw [show SlotAt d i m Y D qy qd L b 0 = Idle d i m Y D qy qd 0 from if_neg hn']
    iapply Hk $$ H

theorem wp_start1 (b : ℕ) (hb : b < 16) (h : SeqOK i L b) (k : TP F i α) :
    Idle d i m Y D qy qd 1 ⊢ iprop((SlotAt d i m Y D qy qd L b 1 -∗ WP d i k Q) -∗ WP d i (start1 i m L b h k) Q) := by
  unfold start1
  have hi := has_iff hL i hb 1 (by decide)
  iintro H Hk
  by_cases hn : has i L b 1#32 = 1#1
  · have hn' := hi.mp hn
    simp only [dif_pos hn, bind_assoc, pure_bind]
    iapply (wp_issue d i m Y D qy qd 1 (row0c i L b 1#32).toNat b 1 32 rfl rfl _ (h.src1 hn) _) $$ H
    rw [show (row0c i L b 1#32).toNat = rowcN i L b 1 from row0c_nat hL i hb hn',
      show SlotAt d i m Y D qy qd L b 1 = Fly d i m Y D qy qd 1 (rowcN i L b 1) b from if_pos hn']
    iexact Hk
  · have hn' : ¬ 1 < chunksN i L b := fun e => hn (hi.mpr e)
    simp only [dif_neg hn, bind_assoc, pure_bind]
    rw [show SlotAt d i m Y D qy qd L b 1 = Idle d i m Y D qy qd 1 from if_neg hn']
    iapply Hk $$ H

/-- All the pieces of a sequence. -/
theorem wp_pieces (b : ℕ) (hb : b < 16) (h : SeqOK i L b) (O : CellTallies nD τ sig (HIx 1)) (W : Waits sig (HIx 1))
    (k : FVec F S16 .f32 → TP F i α) :
    iprop(Ring d i m Y D qy qd L b 0 ∗ Owing (thr d i) O W ∗ Transfers.MayWaits (thr d i) (none : HIx 1) O)
      ⊢ iprop((iprop(Idles d i m Y D qy qd ∗ Owing (thr d i) O W)
          -∗ WP d i (k (foldRows (Yv d i m Y) (Dv d i m D) b (loN i L b) (hiN i L b - loN i L b) zeros)) Q)
        -∗ WP d i (pieces i m L b h zeros k) Q) := by
  unfold pieces
  have htr := pieces_trips hL i hb
  let I : ℕ → FVec F S16 .f32 → sProp (MM F) := fun t acc =>
    iprop(⌜acc = foldRows (Yv d i m Y) (Dv d i m D) b (loN i L b) (doneN i L b t) zeros⌝
      ∗ Ring d i m Y D qy qd L b t ∗ Owing (thr d i) O W ∗ Transfers.MayWaits (thr d i) (none : HIx 1) O)
  have hbody : ∀ (t : Fin (span 0#32 (chunks i L b)).trips) (acc : FVec F S16 .f32),
      I t acc ⊢ WP d i (piece i m L b (Scf.iv 0#32 1#32 t) h.col (h.piece t) acc) (I (t.val + 1)) := by
    intro t acc
    have ht : t.val < chunksN i L b := htr ▸ t.isLt
    rw [← bind_pure (piece i m L b _ h.col (h.piece t) acc)]
    iintro ⟨%e, H, HO, #Hmw⟩
    subst e
    iapply (wp_piece d i m Y D qy qd hL b t.val hb ht _ (iv_zero _) h.col (h.piece t) O W) $$ [H HO]
    · isplitl [H]; · iexact H
      isplitl [HO]; · iexact HO
      iexact Hmw
    iintro ⟨H, HO⟩
    iapply (WP_pure d i)
    isplitr; · ipureintro; rfl
    isplitl [H]; · iexact H
    isplitl [HO]; · iexact HO
    iexact Hmw
  iintro ⟨H, HO, Hmw⟩ Hk
  iapply (Scf.wp_for_bind frame (wpE (defs₀ (F := F)) 𝒱₀ (thr d i) none) Set.univ _ _ _ h.loopOK _ _ I hbody) $$ [H HO Hmw]
  · isplitr; · ipureintro; rw [show doneN i L b 0 = 0 from Nat.zero_min _]; rfl
    isplitl [H]; · iexact H
    isplitl [HO]; · iexact HO
    iexact Hmw
  rw [show Scf.trips (span 0#32 (chunks i L b)).lb (span 0#32 (chunks i L b)).ub (span 0#32 (chunks i L b)).st = chunksN i L b from htr]
  iintro %acc ⟨%e, H, HO, Hmw⟩
  subst e
  rw [show doneN i L b (chunksN i L b) = hiN i L b - loN i L b by unfold doneN chunksN; omega]
  iapply Hk
  isplitl [H]
  · iapply (Ring_end d i m Y D qy qd hL b _ rfl) $$ H
  · iexact HO

variable (inv : ℕ → Elt F .f32) (fi : Buf (Elt F) (m.inv.view.loc (thr d i)))
  (hfi : ∀ b, b < 16 → m.inv.view.read (Elt F) fi (ix32 b) = inv b)
include hfi

/-- What a tile holds from one sequence to the next. -/
def Held (O : CellTallies nD τ sig (HIx 1)) (W : Waits sig (HIx 1)) : sProp (MM F) :=
  iprop(Idles d i m Y D qy qd ∗ (m.inv.view.loc (thr d i) ↦{fullShare} fi) ∗ Owing (thr d i) O W
    ∗ Transfers.MayWaits (thr d i) (none : HIx 1) O)

/-- One sequence. -/
theorem wp_oneSeq (b : ℕ) (hb : b < 16) (h : SeqOK i L b) (O : CellTallies nD τ sig (HIx 1)) (W : Waits sig (HIx 1))
    (k : FVec F S16 .f32 → TP F i α) :
    Held d i m Y D qy qd fi O W
      ⊢ iprop((Held d i m Y D qy qd fi O W -∗ WP d i (k (total (Yv d i m Y) (Dv d i m D) inv i L (b + 1))) Q)
        -∗ WP d i (oneSeq i m L b h (total (Yv d i m Y) (Dv d i m D) inv i L b) k) Q) := by
  unfold oneSeq Held Idles
  iintro ⟨⟨H0, H1, H2⟩, Hi, HO, #Hmw⟩ Hk
  iapply (wp_start0 d i m Y D qy qd hL b hb h) $$ H0
  iintro H0
  iapply (wp_start1 d i m Y D qy qd hL b hb h) $$ H1
  iintro H1
  iapply (wp_pieces d i m Y D qy qd hL b hb h O W) $$ [H0 H1 H2 HO]
  · isplitl [H0 H1 H2]
    · unfold Ring
      isplitl [H0]; · iexact H0
      isplitl [H1]; · iexact H1
      iexact H2
    isplitl [HO]; · iexact HO
    iexact Hmw
  iintro ⟨H, HO⟩
  unfold scale
  simp only [Prog.lift, Prog.bind_op, Prog.bind_ret]
  iapply (wp_load 𝒱₀ (thr d i) none Set.univ (Finset.subset_univ _)) $$ Hi
  iintro Hi
  have e : ∀ (a : FVec F S16 .f32), addSeq (total (Yv d i m Y) (Dv d i m D) inv i L b) a
      (m.inv.view.readAt (Elt F) (Rect.unit (s := S32) ![b] S16.size h.word).toLoadRect fi)
      = addScaled (total (Yv d i m Y) (Dv d i m D) inv i L b) a (inv b) := fun a => by
    unfold addSeq addScaled
    rw [first_loaded m.inv fi b hb h.word, hfi b hb]
  rw [e]
  iapply Hk
  isplitl [H]; · unfold Idles; iexact H
  isplitl [Hi]; · iexact Hi
  isplitl [HO]; · iexact HO
  iexact Hmw

/-- All the sequences from `b` on. -/
theorem wp_seqs (h : ∀ b, b < 16 → SeqOK i L b) (O : CellTallies nD τ sig (HIx 1)) (W : Waits sig (HIx 1))
    (n b : ℕ) (hb : n + b ≤ 16) (k : FVec F S16 .f32 → TP F i α) :
    Held d i m Y D qy qd fi O W
      ⊢ iprop((Held d i m Y D qy qd fi O W -∗ WP d i (k (total (Yv d i m Y) (Dv d i m D) inv i L (n + b))) Q)
        -∗ WP d i (seqs i m L h n b hb (total (Yv d i m Y) (Dv d i m D) inv i L b) k) Q) := by
  induction n generalizing b with
  | zero =>
    unfold seqs
    rw [Nat.zero_add]
    iintro H Hk
    iapply Hk $$ H
  | succ n ih =>
    unfold seqs
    iintro H Hk
    iapply (wp_oneSeq d i m Y D qy qd hL inv fi hfi b (by omega) (h b (by omega)) O W) $$ H
    iintro H
    iapply (ih (b + 1) _) $$ H
    rw [show n + (b + 1) = n + 1 + b by omega]
    iexact Hk

end Steps

end Cert.Tail

end
-- ==== Proof.Facts.lean ====
/-
  The side conditions that the tile's program checks, one lemma for each kind.
-/
module

public import proofs.«01_k».proof.Proof.Tile

@[expose] public section

set_option maxRecDepth 20000
set_option Elab.async false

noncomputable section

namespace Cert.Tail

open Idealize.ShloMosaic Idealize.SL.Sem Cert.KernelIdeal Cert.KernelIdeal.Gen

variable {F : FTy → Type} [FloatOps F]

/-- The trip `t` of the loop over pieces, as a piece's number. -/
abbrev trip (t : ℕ) : BitVec 32 := Scf.iv 0#32 1#32 t

section Facts
variable {i : grid0.Coords} {w : ℕ → BitVec 32} {a : Prop} (ok : ∀ b, b < 16 → SeqOK i w b) (b : ℕ)
include ok

/-! A side condition that says what a sequence asks, in the program's spelling, holds. -/

theorem src0Fact (hb : b < 16 := by decide)
    (e : a = (has i w b 0#32 = 1#1 → SrcIn (row0c i w b 0#32).toNat b) := by sl_kernel_rfl) : a :=
  byKernel e (ok b hb).src0
theorem src1Fact (hb : b < 16 := by decide)
    (e : a = (has i w b 1#32 = 1#1 → SrcIn (row0c i w b 1#32).toNat b) := by sl_kernel_rfl) : a :=
  byKernel e (ok b hb).src1
theorem loopOKFact (hb : b < 16 := by decide)
    (e : a = (span 0#32 (chunks i w b)).OK := by sl_kernel_rfl) : a :=
  byKernel e (ok b hb).loopOK
theorem nextSlotFact (hb : b < 16 := by decide)
    (e : a = (∀ t : Fin (span 0#32 (chunks i w b)).trips, hasNext i w b (trip t) = 1#1 →
      SlotIn (slotRow (Scalar.addi (trip t) 2#32)).toNat) := by sl_kernel_rfl) : a :=
  byKernel e fun t => ((ok b hb).piece t).nextSlot
theorem nextSrcFact (hb : b < 16 := by decide)
    (e : a = (∀ t : Fin (span 0#32 (chunks i w b)).trips, hasNext i w b (trip t) = 1#1 →
      SrcIn (row0c i w b (Scalar.addi (trip t) 2#32)).toNat b) := by sl_kernel_rfl) : a :=
  byKernel e fun t => ((ok b hb).piece t).nextSrc
theorem nextSemFact (hb : b < 16 := by decide)
    (e : a = (∀ t : Fin (span 0#32 (chunks i w b)).trips, hasNext i w b (trip t) = 1#1 →
      SemIn (Scalar.remsi (Scalar.addi (trip t) 2#32) 3#32).toNat) := by sl_kernel_rfl) : a :=
  byKernel e fun t => ((ok b hb).piece t).nextSem
theorem slotFact (hb : b < 16 := by decide)
    (e : a = (∀ t : Fin (span 0#32 (chunks i w b)).trips, SlotIn (slotRow (trip t)).toNat) := by sl_kernel_rfl) : a :=
  byKernel e fun t => ((ok b hb).piece t).slot
theorem semFact (hb : b < 16 := by decide)
    (e : a = (∀ t : Fin (span 0#32 (chunks i w b)).trips, SemIn (Scalar.remsi (trip t) 3#32).toNat) := by sl_kernel_rfl) : a :=
  byKernel e fun t => ((ok b hb).piece t).sem
theorem rowsOKFact (hb : b < 16 := by decide)
    (e : a = (∀ t : Fin (span 0#32 (chunks i w b)).trips, (span (bufLo i w b (trip t)) (bufHi i w b (trip t))).OK) := by sl_kernel_rfl) : a :=
  byKernel e fun t => ((ok b hb).piece t).rowsOK
theorem rowFact (g : ℕ) (hb : b < 16 := by decide) (hg : g < 32 := by decide)
    (e : a = RowIn i w b g := by sl_kernel_rfl) : a :=
  byKernel e ((ok b hb).rowIn hg)

end Facts

section Rest
variable (i : grid0.Coords) (w : ℕ → BitVec 32) {a : Prop} (b : ℕ)

/-! A side condition about a loop that makes no trip holds. -/

theorem restOK (e : a = (rest 0#32 (chunks i w b)).OK := by sl_kernel_rfl) : a := byKernel e (rest_ok _ _)
theorem rowRestOK (e : a = (∀ t : Fin (span 0#32 (chunks i w b)).trips,
    (rest (bufLo i w b (trip t)) (bufHi i w b (trip t))).OK) := by sl_kernel_rfl) : a := byKernel e fun _ => rest_ok _ _
theorem noRest1 {n : ℕ} {Q : Fin n → Prop} (e : n = (rest 0#32 (chunks i w b)).trips := by sl_kernel_rfl) (t : Fin n) : Q t :=
  noTrip (e.trans (Scf.rem_trips _ _)) t
theorem noRest2 {n : ℕ} {n' : Fin n → ℕ} {Q : (t : Fin n) → Fin (n' t) → Prop}
    (e : n' = (fun t : Fin n => (rest (bufLo i w b (trip t)) (bufHi i w b (trip t))).trips) := by sl_kernel_rfl)
    (t : Fin n) (t' : Fin (n' t)) : Q t t' :=
  noTrip ((congrFun e t).trans (Scf.rem_trips _ _)) t'

end Rest

end Cert.Tail

end
-- ==== Proof.Checks1.lean ====
/-
  The side conditions that the tile's program checks hold when the sequences ask nothing that is not there.
-/
module

public import proofs.«01_k».proof.Proof.Facts

@[expose] public section

set_option maxRecDepth 20000
set_option Elab.async false

noncomputable section

namespace Cert.Tail

open Idealize.ShloMosaic Idealize.SL.Sem Cert.KernelIdeal Cert.KernelIdeal.Gen

variable {F : FTy → Type} [FloatOps F]

variable (i : grid0.Coords) (w : ℕ → BitVec 32) (ok : ∀ b, b < 16 → SeqOK i w b)
include ok

/-- The side conditions, stretch 0. -/
theorem chk_0 : k0_chk1_0 i (w 0) (w 1) (w 2) (w 3) (w 4) (w 5) (w 6) (w 7) (w 8) (w 9) (w 10) (w 11) (w 12) (w 13) (w 14) (w 15) := by
  unfold k0_chk1_0
  exact ⟨src0Fact ok 0, src1Fact ok 0, loopOKFact ok 0, nextSlotFact ok 0, nextSrcFact ok 0, nextSemFact ok 0, slotFact ok 0, semFact ok 0, rowsOKFact ok 0, rowFact ok 0 0, rowFact ok 0 1, rowFact ok 0 2, rowFact ok 0 3, rowFact ok 0 4, rowFact ok 0 5, rowFact ok 0 6, rowFact ok 0 7, rowFact ok 0 8, rowFact ok 0 9, rowFact ok 0 10, rowFact ok 0 11, rowFact ok 0 12, rowFact ok 0 13, rowFact ok 0 14, rowFact ok 0 15, rowFact ok 0 16, rowFact ok 0 17, rowFact ok 0 18, rowFact ok 0 19, rowFact ok 0 20, rowFact ok 0 21, rowFact ok 0 22⟩

/-- The side conditions, stretch 1. -/
theorem chk_1 : k0_chk1_1 i (w 0) (w 1) (w 2) (w 3) (w 4) (w 5) (w 6) (w 7) (w 8) (w 9) (w 10) (w 11) (w 12) (w 13) (w 14) (w 15) := by
  unfold k0_chk1_1
  exact ⟨rowFact ok 0 23, rowFact ok 0 24, rowFact ok 0 25, rowFact ok 0 26, rowFact ok 0 27, rowFact ok 0 28, rowFact ok 0 29, rowFact ok 0 30, rowFact ok 0 31, rowRestOK i w 0, noRest2 i w 0, noRest2 i w 0, noRest2 i w 0, noRest2 i w 0, noRest2 i w 0, noRest2 i w 0, noRest2 i w 0, noRest2 i w 0, noRest2 i w 0, noRest2 i w 0, noRest2 i w 0, noRest2 i w 0, noRest2 i w 0, noRest2 i w 0, noRest2 i w 0, noRest2 i w 0, noRest2 i w 0, noRest2 i w 0, noRest2 i w 0, noRest2 i w 0, noRest2 i w 0, noRest2 i w 0⟩

/-- The side conditions, stretch 2. -/
theorem chk_2 : k0_chk1_2 i (w 0) (w 1) (w 2) (w 3) (w 4) (w 5) (w 6) (w 7) (w 8) (w 9) (w 10) (w 11) (w 12) (w 13) (w 14) (w 15) := by
  unfold k0_chk1_2
  exact ⟨noRest2 i w 0, noRest2 i w 0, noRest2 i w 0, noRest2 i w 0, noRest2 i w 0, noRest2 i w 0, noRest2 i w 0, noRest2 i w 0, noRest2 i w 0, noRest2 i w 0, restOK i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0⟩

/-- The side conditions, stretch 3. -/
theorem chk_3 : k0_chk1_3 i (w 0) (w 1) (w 2) (w 3) (w 4) (w 5) (w 6) (w 7) (w 8) (w 9) (w 10) (w 11) (w 12) (w 13) (w 14) (w 15) := by
  unfold k0_chk1_3
  exact ⟨noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0⟩

/-- The side conditions, stretch 4. -/
theorem chk_4 : k0_chk1_4 i (w 0) (w 1) (w 2) (w 3) (w 4) (w 5) (w 6) (w 7) (w 8) (w 9) (w 10) (w 11) (w 12) (w 13) (w 14) (w 15) := by
  unfold k0_chk1_4
  exact ⟨noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, noRest1 i w 0, src0Fact ok 1, src1Fact ok 1, loopOKFact ok 1, nextSlotFact ok 1, nextSrcFact ok 1, nextSemFact ok 1, slotFact ok 1, semFact ok 1, rowsOKFact ok 1, rowFact ok 1 0, rowFact ok 1 1, rowFact ok 1 2, rowFact ok 1 3, rowFact ok 1 4⟩

/-- The side conditions, stretch 5. -/
theorem chk_5 : k0_chk1_5 i (w 0) (w 1) (w 2) (w 3) (w 4) (w 5) (w 6) (w 7) (w 8) (w 9) (w 10) (w 11) (w 12) (w 13) (w 14) (w 15) := by
  unfold k0_chk1_5
  exact ⟨rowFact ok 1 5, rowFact ok 1 6, rowFact ok 1 7, rowFact ok 1 8, rowFact ok 1 9, rowFact ok 1 10, rowFact ok 1 11, rowFact ok 1 12, rowFact ok 1 13, rowFact ok 1 14, rowFact ok 1 15, rowFact ok 1 16, rowFact ok 1 17, rowFact ok 1 18, rowFact ok 1 19, rowFact ok 1 20, rowFact ok 1 21, rowFact ok 1 22, rowFact ok 1 23, rowFact ok 1 24, rowFact ok 1 25, rowFact ok 1 26, rowFact ok 1 27, rowFact ok 1 28, rowFact ok 1 29, rowFact ok 1 30, rowFact ok 1 31, rowRestOK i w 1, noRest2 i w 1, noRest2 i w 1, noRest2 i w 1, noRest2 i w 1⟩

/-- The side conditions, stretch 6. -/
theorem chk_6 : k0_chk1_6 i (w 0) (w 1) (w 2) (w 3) (w 4) (w 5) (w 6) (w 7) (w 8) (w 9) (w 10) (w 11) (w 12) (w 13) (w 14) (w 15) := by
  unfold k0_chk1_6
  exact ⟨noRest2 i w 1, noRest2 i w 1, noRest2 i w 1, noRest2 i w 1, noRest2 i w 1, noRest2 i w 1, noRest2 i w 1, noRest2 i w 1, noRest2 i w 1, noRest2 i w 1, noRest2 i w 1, noRest2 i w 1, noRest2 i w 1, noRest2 i w 1, noRest2 i w 1, noRest2 i w 1, noRest2 i w 1, noRest2 i w 1, noRest2 i w 1, noRest2 i w 1, noRest2 i w 1, noRest2 i w 1, noRest2 i w 1, noRest2 i w 1, noRest2 i w 1, noRest2 i w 1, noRest2 i w 1, noRest2 i w 1, restOK i w 1, noRest1 i w 1, noRest1 i w 1, noRest1 i w 1⟩

/-- The side conditions, stretch 7. -/
theorem chk_7 : k0_chk1_7 i (w 0) (w 1) (w 2) (w 3) (w 4) (w 5) (w 6) (w 7) (w 8) (w 9) (w 10) (w 11) (w 12) (w 13) (w 14) (w 15) := by
  unfold k0_chk1_7
  exact ⟨noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1⟩

/-- The side conditions, stretch 8. -/
theorem chk_8 : k0_chk1_8 i (w 0) (w 1) (w 2) (w 3) (w 4) (w 5) (w 6) (w 7) (w 8) (w 9) (w 10) (w 11) (w 12) (w 13) (w 14) (w 15) := by
  unfold k0_chk1_8
  exact ⟨noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1, noRest1 i w 1⟩

/-- The side conditions, stretch 9. -/
theorem chk_9 : k0_chk1_9 i (w 0) (w 1) (w 2) (w 3) (w 4) (w 5) (w 6) (w 7) (w 8) (w 9) (w 10) (w 11) (w 12) (w 13) (w 14) (w 15) := by
  unfold k0_chk1_9
  exact ⟨noRest1 i w 1, noRest1 i w 1, noRest1 i w 1, noRest1 i w 1, src0Fact ok 2, src1Fact ok 2, loopOKFact ok 2, nextSlotFact ok 2, nextSrcFact ok 2, nextSemFact ok 2, slotFact ok 2, semFact ok 2, rowsOKFact ok 2, rowFact ok 2 0, rowFact ok 2 1, rowFact ok 2 2, rowFact ok 2 3, rowFact ok 2 4, rowFact ok 2 5, rowFact ok 2 6, rowFact ok 2 7, rowFact ok 2 8, rowFact ok 2 9, rowFact ok 2 10, rowFact ok 2 11, rowFact ok 2 12, rowFact ok 2 13, rowFact ok 2 14, rowFact ok 2 15, rowFact ok 2 16, rowFact ok 2 17, rowFact ok 2 18⟩

/-- The side conditions, stretch 10. -/
theorem chk_10 : k0_chk1_10 i (w 0) (w 1) (w 2) (w 3) (w 4) (w 5) (w 6) (w 7) (w 8) (w 9) (w 10) (w 11) (w 12) (w 13) (w 14) (w 15) := by
  unfold k0_chk1_10
  exact ⟨rowFact ok 2 19, rowFact ok 2 20, rowFact ok 2 21, rowFact ok 2 22, rowFact ok 2 23, rowFact ok 2 24, rowFact ok 2 25, rowFact ok 2 26, rowFact ok 2 27, rowFact ok 2 28, rowFact ok 2 29, rowFact ok 2 30, rowFact ok 2 31, rowRestOK i w 2, noRest2 i w 2, noRest2 i w 2, noRest2 i w 2, noRest2 i w 2, noRest2 i w 2, noRest2 i w 2, noRest2 i w 2, noRest2 i w 2, noRest2 i w 2, noRest2 i w 2, noRest2 i w 2, noRest2 i w 2, noRest2 i w 2, noRest2 i w 2, noRest2 i w 2, noRest2 i w 2, noRest2 i w 2, noRest2 i w 2⟩

/-- The side conditions, stretch 11. -/
theorem chk_11 : k0_chk1_11 i (w 0) (w 1) (w 2) (w 3) (w 4) (w 5) (w 6) (w 7) (w 8) (w 9) (w 10) (w 11) (w 12) (w 13) (w 14) (w 15) := by
  unfold k0_chk1_11
  exact ⟨noRest2 i w 2, noRest2 i w 2, noRest2 i w 2, noRest2 i w 2, noRest2 i w 2, noRest2 i w 2, noRest2 i w 2, noRest2 i w 2, noRest2 i w 2, noRest2 i w 2, noRest2 i w 2, noRest2 i w 2, noRest2 i w 2, noRest2 i w 2, restOK i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2⟩

/-- The side conditions, stretch 12. -/
theorem chk_12 : k0_chk1_12 i (w 0) (w 1) (w 2) (w 3) (w 4) (w 5) (w 6) (w 7) (w 8) (w 9) (w 10) (w 11) (w 12) (w 13) (w 14) (w 15) := by
  unfold k0_chk1_12
  exact ⟨noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2⟩

/-- The side conditions, stretch 13. -/
theorem chk_13 : k0_chk1_13 i (w 0) (w 1) (w 2) (w 3) (w 4) (w 5) (w 6) (w 7) (w 8) (w 9) (w 10) (w 11) (w 12) (w 13) (w 14) (w 15) := by
  unfold k0_chk1_13
  exact ⟨noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, noRest1 i w 2, src0Fact ok 3, src1Fact ok 3, loopOKFact ok 3, nextSlotFact ok 3, nextSrcFact ok 3, nextSemFact ok 3, slotFact ok 3, semFact ok 3, rowsOKFact ok 3, rowFact ok 3 0⟩

/-- The side conditions, stretch 14. -/
theorem chk_14 : k0_chk1_14 i (w 0) (w 1) (w 2) (w 3) (w 4) (w 5) (w 6) (w 7) (w 8) (w 9) (w 10) (w 11) (w 12) (w 13) (w 14) (w 15) := by
  unfold k0_chk1_14
  exact ⟨rowFact ok 3 1, rowFact ok 3 2, rowFact ok 3 3, rowFact ok 3 4, rowFact ok 3 5, rowFact ok 3 6, rowFact ok 3 7, rowFact ok 3 8, rowFact ok 3 9, rowFact ok 3 10, rowFact ok 3 11, rowFact ok 3 12, rowFact ok 3 13, rowFact ok 3 14, rowFact ok 3 15, rowFact ok 3 16, rowFact ok 3 17, rowFact ok 3 18, rowFact ok 3 19, rowFact ok 3 20, rowFact ok 3 21, rowFact ok 3 22, rowFact ok 3 23, rowFact ok 3 24, rowFact ok 3 25, rowFact ok 3 26, rowFact ok 3 27, rowFact ok 3 28, rowFact ok 3 29, rowFact ok 3 30, rowFact ok 3 31, rowRestOK i w 3⟩

/-- The side conditions, stretch 15. -/
theorem chk_15 : k0_chk1_15 i (w 0) (w 1) (w 2) (w 3) (w 4) (w 5) (w 6) (w 7) (w 8) (w 9) (w 10) (w 11) (w 12) (w 13) (w 14) (w 15) := by
  unfold k0_chk1_15
  exact ⟨noRest2 i w 3, noRest2 i w 3, noRest2 i w 3, noRest2 i w 3, noRest2 i w 3, noRest2 i w 3, noRest2 i w 3, noRest2 i w 3, noRest2 i w 3, noRest2 i w 3, noRest2 i w 3, noRest2 i w 3, noRest2 i w 3, noRest2 i w 3, noRest2 i w 3, noRest2 i w 3, noRest2 i w 3, noRest2 i w 3, noRest2 i w 3, noRest2 i w 3, noRest2 i w 3, noRest2 i w 3, noRest2 i w 3, noRest2 i w 3, noRest2 i w 3, noRest2 i w 3, noRest2 i w 3, noRest2 i w 3, noRest2 i w 3, noRest2 i w 3, noRest2 i w 3, noRest2 i w 3⟩

/-- The side conditions, stretch 16. -/
theorem chk_16 : k0_chk1_16 i (w 0) (w 1) (w 2) (w 3) (w 4) (w 5) (w 6) (w 7) (w 8) (w 9) (w 10) (w 11) (w 12) (w 13) (w 14) (w 15) := by
  unfold k0_chk1_16
  exact ⟨restOK i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3⟩

/-- The side conditions, stretch 17. -/
theorem chk_17 : k0_chk1_17 i (w 0) (w 1) (w 2) (w 3) (w 4) (w 5) (w 6) (w 7) (w 8) (w 9) (w 10) (w 11) (w 12) (w 13) (w 14) (w 15) := by
  unfold k0_chk1_17
  exact ⟨noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3, noRest1 i w 3⟩

/-- The side conditions, stretch 18. -/
theorem chk_18 : k0_chk1_18 i (w 0) (w 1) (w 2) (w 3) (w 4) (w 5) (w 6) (w 7) (w 8) (w 9) (w 10) (w 11) (w 12) (w 13) (w 14) (w 15) := by
  unfold k0_chk1_18
  exact ⟨noRest1 i w 3, noRest1 i w 3, noRest1 i w 3, noRest1 i w 3, noRest1 i w 3, noRest1 i w 3, noRest1 i w 3, noRest1 i w 3, src0Fact ok 4, src1Fact ok 4, loopOKFact ok 4, nextSlotFact ok 4, nextSrcFact ok 4, nextSemFact ok 4, slotFact ok 4, semFact ok 4, rowsOKFact ok 4, rowFact ok 4 0, rowFact ok 4 1, rowFact ok 4 2, rowFact ok 4 3, rowFact ok 4 4, rowFact ok 4 5, rowFact ok 4 6, rowFact ok 4 7, rowFact ok 4 8, rowFact ok 4 9, rowFact ok 4 10, rowFact ok 4 11, rowFact ok 4 12, rowFact ok 4 13, rowFact ok 4 14⟩

/-- The side conditions, stretch 19. -/
theorem chk_19 : k0_chk1_19 i (w 0) (w 1) (w 2) (w 3) (w 4) (w 5) (w 6) (w 7) (w 8) (w 9) (w 10) (w 11) (w 12) (w 13) (w 14) (w 15) := by
  unfold k0_chk1_19
  exact ⟨rowFact ok 4 15, rowFact ok 4 16, rowFact ok 4 17, rowFact ok 4 18, rowFact ok 4 19, rowFact ok 4 20, rowFact ok 4 21, rowFact ok 4 22, rowFact ok 4 23, rowFact ok 4 24, rowFact ok 4 25, rowFact ok 4 26, rowFact ok 4 27, rowFact ok 4 28, rowFact ok 4 29, rowFact ok 4 30, rowFact ok 4 31, rowRestOK i w 4, noRest2 i w 4, noRest2 i w 4, noRest2 i w 4, noRest2 i w 4, noRest2 i w 4, noRest2 i w 4, noRest2 i w 4, noRest2 i w 4, noRest2 i w 4, noRest2 i w 4, noRest2 i w 4, noRest2 i w 4, noRest2 i w 4, noRest2 i w 4⟩

/-- The side conditions, stretch 20. -/
theorem chk_20 : k0_chk1_20 i (w 0) (w 1) (w 2) (w 3) (w 4) (w 5) (w 6) (w 7) (w 8) (w 9) (w 10) (w 11) (w 12) (w 13) (w 14) (w 15) := by
  unfold k0_chk1_20
  exact ⟨noRest2 i w 4, noRest2 i w 4, noRest2 i w 4, noRest2 i w 4, noRest2 i w 4, noRest2 i w 4, noRest2 i w 4, noRest2 i w 4, noRest2 i w 4, noRest2 i w 4, noRest2 i w 4, noRest2 i w 4, noRest2 i w 4, noRest2 i w 4, noRest2 i w 4, noRest2 i w 4, noRest2 i w 4, noRest2 i w 4, restOK i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4⟩

/-- The side conditions, stretch 21. -/
theorem chk_21 : k0_chk1_21 i (w 0) (w 1) (w 2) (w 3) (w 4) (w 5) (w 6) (w 7) (w 8) (w 9) (w 10) (w 11) (w 12) (w 13) (w 14) (w 15) := by
  unfold k0_chk1_21
  exact ⟨noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4⟩

/-- The side conditions, stretch 22. -/
theorem chk_22 : k0_chk1_22 i (w 0) (w 1) (w 2) (w 3) (w 4) (w 5) (w 6) (w 7) (w 8) (w 9) (w 10) (w 11) (w 12) (w 13) (w 14) (w 15) := by
  unfold k0_chk1_22
  exact ⟨noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, noRest1 i w 4, src0Fact ok 5, src1Fact ok 5, loopOKFact ok 5, nextSlotFact ok 5, nextSrcFact ok 5, nextSemFact ok 5⟩

/-- The side conditions, stretch 23. -/
theorem chk_23 : k0_chk1_23 i (w 0) (w 1) (w 2) (w 3) (w 4) (w 5) (w 6) (w 7) (w 8) (w 9) (w 10) (w 11) (w 12) (w 13) (w 14) (w 15) := by
  unfold k0_chk1_23
  exact ⟨slotFact ok 5, semFact ok 5, rowsOKFact ok 5, rowFact ok 5 0, rowFact ok 5 1, rowFact ok 5 2, rowFact ok 5 3, rowFact ok 5 4, rowFact ok 5 5, rowFact ok 5 6, rowFact ok 5 7, rowFact ok 5 8, rowFact ok 5 9, rowFact ok 5 10, rowFact ok 5 11, rowFact ok 5 12, rowFact ok 5 13, rowFact ok 5 14, rowFact ok 5 15, rowFact ok 5 16, rowFact ok 5 17, rowFact ok 5 18, rowFact ok 5 19, rowFact ok 5 20, rowFact ok 5 21, rowFact ok 5 22, rowFact ok 5 23, rowFact ok 5 24, rowFact ok 5 25, rowFact ok 5 26, rowFact ok 5 27, rowFact ok 5 28⟩

/-- The side conditions, stretch 24. -/
theorem chk_24 : k0_chk1_24 i (w 0) (w 1) (w 2) (w 3) (w 4) (w 5) (w 6) (w 7) (w 8) (w 9) (w 10) (w 11) (w 12) (w 13) (w 14) (w 15) := by
  unfold k0_chk1_24
  exact ⟨rowFact ok 5 29, rowFact ok 5 30, rowFact ok 5 31, rowRestOK i w 5, noRest2 i w 5, noRest2 i w 5, noRest2 i w 5, noRest2 i w 5, noRest2 i w 5, noRest2 i w 5, noRest2 i w 5, noRest2 i w 5, noRest2 i w 5, noRest2 i w 5, noRest2 i w 5, noRest2 i w 5, noRest2 i w 5, noRest2 i w 5, noRest2 i w 5, noRest2 i w 5, noRest2 i w 5, noRest2 i w 5, noRest2 i w 5, noRest2 i w 5, noRest2 i w 5, noRest2 i w 5, noRest2 i w 5, noRest2 i w 5, noRest2 i w 5, noRest2 i w 5, noRest2 i w 5, noRest2 i w 5⟩

end Cert.Tail

end
-- ==== Proof.Checks2.lean ====
/-
  The side conditions that the tile's program checks hold when the sequences ask nothing that is not there.
-/
module

public import proofs.«01_k».proof.Proof.Facts

@[expose] public section

set_option maxRecDepth 20000
set_option Elab.async false

noncomputable section

namespace Cert.Tail

open Idealize.ShloMosaic Idealize.SL.Sem Cert.KernelIdeal Cert.KernelIdeal.Gen

variable {F : FTy → Type} [FloatOps F]

variable (i : grid0.Coords) (w : ℕ → BitVec 32) (ok : ∀ b, b < 16 → SeqOK i w b)
include ok

/-- The side conditions, stretch 25. -/
theorem chk_25 : k0_chk1_25 i (w 0) (w 1) (w 2) (w 3) (w 4) (w 5) (w 6) (w 7) (w 8) (w 9) (w 10) (w 11) (w 12) (w 13) (w 14) (w 15) := by
  unfold k0_chk1_25
  exact ⟨noRest2 i w 5, noRest2 i w 5, noRest2 i w 5, noRest2 i w 5, restOK i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5⟩

/-- The side conditions, stretch 26. -/
theorem chk_26 : k0_chk1_26 i (w 0) (w 1) (w 2) (w 3) (w 4) (w 5) (w 6) (w 7) (w 8) (w 9) (w 10) (w 11) (w 12) (w 13) (w 14) (w 15) := by
  unfold k0_chk1_26
  exact ⟨noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5, noRest1 i w 5⟩

/-- The side conditions, stretch 27. -/
theorem chk_27 : k0_chk1_27 i (w 0) (w 1) (w 2) (w 3) (w 4) (w 5) (w 6) (w 7) (w 8) (w 9) (w 10) (w 11) (w 12) (w 13) (w 14) (w 15) := by
  unfold k0_chk1_27
  exact ⟨noRest1 i w 5, noRest1 i w 5, noRest1 i w 5, noRest1 i w 5, noRest1 i w 5, noRest1 i w 5, noRest1 i w 5, noRest1 i w 5, noRest1 i w 5, noRest1 i w 5, noRest1 i w 5, noRest1 i w 5, src0Fact ok 6, src1Fact ok 6, loopOKFact ok 6, nextSlotFact ok 6, nextSrcFact ok 6, nextSemFact ok 6, slotFact ok 6, semFact ok 6, rowsOKFact ok 6, rowFact ok 6 0, rowFact ok 6 1, rowFact ok 6 2, rowFact ok 6 3, rowFact ok 6 4, rowFact ok 6 5, rowFact ok 6 6, rowFact ok 6 7, rowFact ok 6 8, rowFact ok 6 9, rowFact ok 6 10⟩

/-- The side conditions, stretch 28. -/
theorem chk_28 : k0_chk1_28 i (w 0) (w 1) (w 2) (w 3) (w 4) (w 5) (w 6) (w 7) (w 8) (w 9) (w 10) (w 11) (w 12) (w 13) (w 14) (w 15) := by
  unfold k0_chk1_28
  exact ⟨rowFact ok 6 11, rowFact ok 6 12, rowFact ok 6 13, rowFact ok 6 14, rowFact ok 6 15, rowFact ok 6 16, rowFact ok 6 17, rowFact ok 6 18, rowFact ok 6 19, rowFact ok 6 20, rowFact ok 6 21, rowFact ok 6 22, rowFact ok 6 23, rowFact ok 6 24, rowFact ok 6 25, rowFact ok 6 26, rowFact ok 6 27, rowFact ok 6 28, rowFact ok 6 29, rowFact ok 6 30, rowFact ok 6 31, rowRestOK i w 6, noRest2 i w 6, noRest2 i w 6, noRest2 i w 6, noRest2 i w 6, noRest2 i w 6, noRest2 i w 6, noRest2 i w 6, noRest2 i w 6, noRest2 i w 6, noRest2 i w 6⟩

/-- The side conditions, stretch 29. -/
theorem chk_29 : k0_chk1_29 i (w 0) (w 1) (w 2) (w 3) (w 4) (w 5) (w 6) (w 7) (w 8) (w 9) (w 10) (w 11) (w 12) (w 13) (w 14) (w 15) := by
  unfold k0_chk1_29
  exact ⟨noRest2 i w 6, noRest2 i w 6, noRest2 i w 6, noRest2 i w 6, noRest2 i w 6, noRest2 i w 6, noRest2 i w 6, noRest2 i w 6, noRest2 i w 6, noRest2 i w 6, noRest2 i w 6, noRest2 i w 6, noRest2 i w 6, noRest2 i w 6, noRest2 i w 6, noRest2 i w 6, noRest2 i w 6, noRest2 i w 6, noRest2 i w 6, noRest2 i w 6, noRest2 i w 6, noRest2 i w 6, restOK i w 6, noRest1 i w 6, noRest1 i w 6, noRest1 i w 6, noRest1 i w 6, noRest1 i w 6, noRest1 i w 6, noRest1 i w 6, noRest1 i w 6, noRest1 i w 6⟩

/-- The side conditions, stretch 30. -/
theorem chk_30 : k0_chk1_30 i (w 0) (w 1) (w 2) (w 3) (w 4) (w 5) (w 6) (w 7) (w 8) (w 9) (w 10) (w 11) (w 12) (w 13) (w 14) (w 15) := by
  unfold k0_chk1_30
  exact ⟨noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6⟩

/-- The side conditions, stretch 31. -/
theorem chk_31 : k0_chk1_31 i (w 0) (w 1) (w 2) (w 3) (w 4) (w 5) (w 6) (w 7) (w 8) (w 9) (w 10) (w 11) (w 12) (w 13) (w 14) (w 15) := by
  unfold k0_chk1_31
  exact ⟨noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, noRest1 i w 6, src0Fact ok 7, src1Fact ok 7⟩

/-- The side conditions, stretch 32. -/
theorem chk_32 : k0_chk1_32 i (w 0) (w 1) (w 2) (w 3) (w 4) (w 5) (w 6) (w 7) (w 8) (w 9) (w 10) (w 11) (w 12) (w 13) (w 14) (w 15) := by
  unfold k0_chk1_32
  exact ⟨loopOKFact ok 7, nextSlotFact ok 7, nextSrcFact ok 7, nextSemFact ok 7, slotFact ok 7, semFact ok 7, rowsOKFact ok 7, rowFact ok 7 0, rowFact ok 7 1, rowFact ok 7 2, rowFact ok 7 3, rowFact ok 7 4, rowFact ok 7 5, rowFact ok 7 6, rowFact ok 7 7, rowFact ok 7 8, rowFact ok 7 9, rowFact ok 7 10, rowFact ok 7 11, rowFact ok 7 12, rowFact ok 7 13, rowFact ok 7 14, rowFact ok 7 15, rowFact ok 7 16, rowFact ok 7 17, rowFact ok 7 18, rowFact ok 7 19, rowFact ok 7 20, rowFact ok 7 21, rowFact ok 7 22, rowFact ok 7 23, rowFact ok 7 24⟩

/-- The side conditions, stretch 33. -/
theorem chk_33 : k0_chk1_33 i (w 0) (w 1) (w 2) (w 3) (w 4) (w 5) (w 6) (w 7) (w 8) (w 9) (w 10) (w 11) (w 12) (w 13) (w 14) (w 15) := by
  unfold k0_chk1_33
  exact ⟨rowFact ok 7 25, rowFact ok 7 26, rowFact ok 7 27, rowFact ok 7 28, rowFact ok 7 29, rowFact ok 7 30, rowFact ok 7 31, rowRestOK i w 7, noRest2 i w 7, noRest2 i w 7, noRest2 i w 7, noRest2 i w 7, noRest2 i w 7, noRest2 i w 7, noRest2 i w 7, noRest2 i w 7, noRest2 i w 7, noRest2 i w 7, noRest2 i w 7, noRest2 i w 7, noRest2 i w 7, noRest2 i w 7, noRest2 i w 7, noRest2 i w 7, noRest2 i w 7, noRest2 i w 7, noRest2 i w 7, noRest2 i w 7, noRest2 i w 7, noRest2 i w 7, noRest2 i w 7, noRest2 i w 7⟩

/-- The side conditions, stretch 34. -/
theorem chk_34 : k0_chk1_34 i (w 0) (w 1) (w 2) (w 3) (w 4) (w 5) (w 6) (w 7) (w 8) (w 9) (w 10) (w 11) (w 12) (w 13) (w 14) (w 15) := by
  unfold k0_chk1_34
  exact ⟨noRest2 i w 7, noRest2 i w 7, noRest2 i w 7, noRest2 i w 7, noRest2 i w 7, noRest2 i w 7, noRest2 i w 7, noRest2 i w 7, restOK i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7⟩

/-- The side conditions, stretch 35. -/
theorem chk_35 : k0_chk1_35 i (w 0) (w 1) (w 2) (w 3) (w 4) (w 5) (w 6) (w 7) (w 8) (w 9) (w 10) (w 11) (w 12) (w 13) (w 14) (w 15) := by
  unfold k0_chk1_35
  exact ⟨noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7⟩

/-- The side conditions, stretch 36. -/
theorem chk_36 : k0_chk1_36 i (w 0) (w 1) (w 2) (w 3) (w 4) (w 5) (w 6) (w 7) (w 8) (w 9) (w 10) (w 11) (w 12) (w 13) (w 14) (w 15) := by
  unfold k0_chk1_36
  exact ⟨noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, noRest1 i w 7, src0Fact ok 8, src1Fact ok 8, loopOKFact ok 8, nextSlotFact ok 8, nextSrcFact ok 8, nextSemFact ok 8, slotFact ok 8, semFact ok 8, rowsOKFact ok 8, rowFact ok 8 0, rowFact ok 8 1, rowFact ok 8 2, rowFact ok 8 3, rowFact ok 8 4, rowFact ok 8 5, rowFact ok 8 6⟩

/-- The side conditions, stretch 37. -/
theorem chk_37 : k0_chk1_37 i (w 0) (w 1) (w 2) (w 3) (w 4) (w 5) (w 6) (w 7) (w 8) (w 9) (w 10) (w 11) (w 12) (w 13) (w 14) (w 15) := by
  unfold k0_chk1_37
  exact ⟨rowFact ok 8 7, rowFact ok 8 8, rowFact ok 8 9, rowFact ok 8 10, rowFact ok 8 11, rowFact ok 8 12, rowFact ok 8 13, rowFact ok 8 14, rowFact ok 8 15, rowFact ok 8 16, rowFact ok 8 17, rowFact ok 8 18, rowFact ok 8 19, rowFact ok 8 20, rowFact ok 8 21, rowFact ok 8 22, rowFact ok 8 23, rowFact ok 8 24, rowFact ok 8 25, rowFact ok 8 26, rowFact ok 8 27, rowFact ok 8 28, rowFact ok 8 29, rowFact ok 8 30, rowFact ok 8 31, rowRestOK i w 8, noRest2 i w 8, noRest2 i w 8, noRest2 i w 8, noRest2 i w 8, noRest2 i w 8, noRest2 i w 8⟩

/-- The side conditions, stretch 38. -/
theorem chk_38 : k0_chk1_38 i (w 0) (w 1) (w 2) (w 3) (w 4) (w 5) (w 6) (w 7) (w 8) (w 9) (w 10) (w 11) (w 12) (w 13) (w 14) (w 15) := by
  unfold k0_chk1_38
  exact ⟨noRest2 i w 8, noRest2 i w 8, noRest2 i w 8, noRest2 i w 8, noRest2 i w 8, noRest2 i w 8, noRest2 i w 8, noRest2 i w 8, noRest2 i w 8, noRest2 i w 8, noRest2 i w 8, noRest2 i w 8, noRest2 i w 8, noRest2 i w 8, noRest2 i w 8, noRest2 i w 8, noRest2 i w 8, noRest2 i w 8, noRest2 i w 8, noRest2 i w 8, noRest2 i w 8, noRest2 i w 8, noRest2 i w 8, noRest2 i w 8, noRest2 i w 8, noRest2 i w 8, restOK i w 8, noRest1 i w 8, noRest1 i w 8, noRest1 i w 8, noRest1 i w 8, noRest1 i w 8⟩

/-- The side conditions, stretch 39. -/
theorem chk_39 : k0_chk1_39 i (w 0) (w 1) (w 2) (w 3) (w 4) (w 5) (w 6) (w 7) (w 8) (w 9) (w 10) (w 11) (w 12) (w 13) (w 14) (w 15) := by
  unfold k0_chk1_39
  exact ⟨noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8⟩

/-- The side conditions, stretch 40. -/
theorem chk_40 : k0_chk1_40 i (w 0) (w 1) (w 2) (w 3) (w 4) (w 5) (w 6) (w 7) (w 8) (w 9) (w 10) (w 11) (w 12) (w 13) (w 14) (w 15) := by
  unfold k0_chk1_40
  exact ⟨noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8, noRest1 i w 8⟩

/-- The side conditions, stretch 41. -/
theorem chk_41 : k0_chk1_41 i (w 0) (w 1) (w 2) (w 3) (w 4) (w 5) (w 6) (w 7) (w 8) (w 9) (w 10) (w 11) (w 12) (w 13) (w 14) (w 15) := by
  unfold k0_chk1_41
  exact ⟨noRest1 i w 8, noRest1 i w 8, src0Fact ok 9, src1Fact ok 9, loopOKFact ok 9, nextSlotFact ok 9, nextSrcFact ok 9, nextSemFact ok 9, slotFact ok 9, semFact ok 9, rowsOKFact ok 9, rowFact ok 9 0, rowFact ok 9 1, rowFact ok 9 2, rowFact ok 9 3, rowFact ok 9 4, rowFact ok 9 5, rowFact ok 9 6, rowFact ok 9 7, rowFact ok 9 8, rowFact ok 9 9, rowFact ok 9 10, rowFact ok 9 11, rowFact ok 9 12, rowFact ok 9 13, rowFact ok 9 14, rowFact ok 9 15, rowFact ok 9 16, rowFact ok 9 17, rowFact ok 9 18, rowFact ok 9 19, rowFact ok 9 20⟩

/-- The side conditions, stretch 42. -/
theorem chk_42 : k0_chk1_42 i (w 0) (w 1) (w 2) (w 3) (w 4) (w 5) (w 6) (w 7) (w 8) (w 9) (w 10) (w 11) (w 12) (w 13) (w 14) (w 15) := by
  unfold k0_chk1_42
  exact ⟨rowFact ok 9 21, rowFact ok 9 22, rowFact ok 9 23, rowFact ok 9 24, rowFact ok 9 25, rowFact ok 9 26, rowFact ok 9 27, rowFact ok 9 28, rowFact ok 9 29, rowFact ok 9 30, rowFact ok 9 31, rowRestOK i w 9, noRest2 i w 9, noRest2 i w 9, noRest2 i w 9, noRest2 i w 9, noRest2 i w 9, noRest2 i w 9, noRest2 i w 9, noRest2 i w 9, noRest2 i w 9, noRest2 i w 9, noRest2 i w 9, noRest2 i w 9, noRest2 i w 9, noRest2 i w 9, noRest2 i w 9, noRest2 i w 9, noRest2 i w 9, noRest2 i w 9, noRest2 i w 9, noRest2 i w 9⟩

/-- The side conditions, stretch 43. -/
theorem chk_43 : k0_chk1_43 i (w 0) (w 1) (w 2) (w 3) (w 4) (w 5) (w 6) (w 7) (w 8) (w 9) (w 10) (w 11) (w 12) (w 13) (w 14) (w 15) := by
  unfold k0_chk1_43
  exact ⟨noRest2 i w 9, noRest2 i w 9, noRest2 i w 9, noRest2 i w 9, noRest2 i w 9, noRest2 i w 9, noRest2 i w 9, noRest2 i w 9, noRest2 i w 9, noRest2 i w 9, noRest2 i w 9, noRest2 i w 9, restOK i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9⟩

/-- The side conditions, stretch 44. -/
theorem chk_44 : k0_chk1_44 i (w 0) (w 1) (w 2) (w 3) (w 4) (w 5) (w 6) (w 7) (w 8) (w 9) (w 10) (w 11) (w 12) (w 13) (w 14) (w 15) := by
  unfold k0_chk1_44
  exact ⟨noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9⟩

/-- The side conditions, stretch 45. -/
theorem chk_45 : k0_chk1_45 i (w 0) (w 1) (w 2) (w 3) (w 4) (w 5) (w 6) (w 7) (w 8) (w 9) (w 10) (w 11) (w 12) (w 13) (w 14) (w 15) := by
  unfold k0_chk1_45
  exact ⟨noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, noRest1 i w 9, src0Fact ok 10, src1Fact ok 10, loopOKFact ok 10, nextSlotFact ok 10, nextSrcFact ok 10, nextSemFact ok 10, slotFact ok 10, semFact ok 10, rowsOKFact ok 10, rowFact ok 10 0, rowFact ok 10 1, rowFact ok 10 2⟩

/-- The side conditions, stretch 46. -/
theorem chk_46 : k0_chk1_46 i (w 0) (w 1) (w 2) (w 3) (w 4) (w 5) (w 6) (w 7) (w 8) (w 9) (w 10) (w 11) (w 12) (w 13) (w 14) (w 15) := by
  unfold k0_chk1_46
  exact ⟨rowFact ok 10 3, rowFact ok 10 4, rowFact ok 10 5, rowFact ok 10 6, rowFact ok 10 7, rowFact ok 10 8, rowFact ok 10 9, rowFact ok 10 10, rowFact ok 10 11, rowFact ok 10 12, rowFact ok 10 13, rowFact ok 10 14, rowFact ok 10 15, rowFact ok 10 16, rowFact ok 10 17, rowFact ok 10 18, rowFact ok 10 19, rowFact ok 10 20, rowFact ok 10 21, rowFact ok 10 22, rowFact ok 10 23, rowFact ok 10 24, rowFact ok 10 25, rowFact ok 10 26, rowFact ok 10 27, rowFact ok 10 28, rowFact ok 10 29, rowFact ok 10 30, rowFact ok 10 31, rowRestOK i w 10, noRest2 i w 10, noRest2 i w 10⟩

/-- The side conditions, stretch 47. -/
theorem chk_47 : k0_chk1_47 i (w 0) (w 1) (w 2) (w 3) (w 4) (w 5) (w 6) (w 7) (w 8) (w 9) (w 10) (w 11) (w 12) (w 13) (w 14) (w 15) := by
  unfold k0_chk1_47
  exact ⟨noRest2 i w 10, noRest2 i w 10, noRest2 i w 10, noRest2 i w 10, noRest2 i w 10, noRest2 i w 10, noRest2 i w 10, noRest2 i w 10, noRest2 i w 10, noRest2 i w 10, noRest2 i w 10, noRest2 i w 10, noRest2 i w 10, noRest2 i w 10, noRest2 i w 10, noRest2 i w 10, noRest2 i w 10, noRest2 i w 10, noRest2 i w 10, noRest2 i w 10, noRest2 i w 10, noRest2 i w 10, noRest2 i w 10, noRest2 i w 10, noRest2 i w 10, noRest2 i w 10, noRest2 i w 10, noRest2 i w 10, noRest2 i w 10, noRest2 i w 10, restOK i w 10, noRest1 i w 10⟩

/-- The side conditions, stretch 48. -/
theorem chk_48 : k0_chk1_48 i (w 0) (w 1) (w 2) (w 3) (w 4) (w 5) (w 6) (w 7) (w 8) (w 9) (w 10) (w 11) (w 12) (w 13) (w 14) (w 15) := by
  unfold k0_chk1_48
  exact ⟨noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10⟩

end Cert.Tail

end
-- ==== Proof.Checks3.lean ====
/-
  The side conditions that the tile's program checks hold when the sequences ask nothing that is not there.
-/
module

public import proofs.«01_k».proof.Proof.Facts

@[expose] public section

set_option maxRecDepth 20000
set_option Elab.async false

noncomputable section

namespace Cert.Tail

open Idealize.ShloMosaic Idealize.SL.Sem Cert.KernelIdeal Cert.KernelIdeal.Gen

variable {F : FTy → Type} [FloatOps F]

variable (i : grid0.Coords) (w : ℕ → BitVec 32) (ok : ∀ b, b < 16 → SeqOK i w b)
include ok

/-- The side conditions, stretch 49. -/
theorem chk_49 : k0_chk1_49 i (w 0) (w 1) (w 2) (w 3) (w 4) (w 5) (w 6) (w 7) (w 8) (w 9) (w 10) (w 11) (w 12) (w 13) (w 14) (w 15) := by
  unfold k0_chk1_49
  exact ⟨noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10, noRest1 i w 10⟩

/-- The side conditions, stretch 50. -/
theorem chk_50 : k0_chk1_50 i (w 0) (w 1) (w 2) (w 3) (w 4) (w 5) (w 6) (w 7) (w 8) (w 9) (w 10) (w 11) (w 12) (w 13) (w 14) (w 15) := by
  unfold k0_chk1_50
  exact ⟨noRest1 i w 10, noRest1 i w 10, noRest1 i w 10, noRest1 i w 10, noRest1 i w 10, noRest1 i w 10, src0Fact ok 11, src1Fact ok 11, loopOKFact ok 11, nextSlotFact ok 11, nextSrcFact ok 11, nextSemFact ok 11, slotFact ok 11, semFact ok 11, rowsOKFact ok 11, rowFact ok 11 0, rowFact ok 11 1, rowFact ok 11 2, rowFact ok 11 3, rowFact ok 11 4, rowFact ok 11 5, rowFact ok 11 6, rowFact ok 11 7, rowFact ok 11 8, rowFact ok 11 9, rowFact ok 11 10, rowFact ok 11 11, rowFact ok 11 12, rowFact ok 11 13, rowFact ok 11 14, rowFact ok 11 15, rowFact ok 11 16⟩

/-- The side conditions, stretch 51. -/
theorem chk_51 : k0_chk1_51 i (w 0) (w 1) (w 2) (w 3) (w 4) (w 5) (w 6) (w 7) (w 8) (w 9) (w 10) (w 11) (w 12) (w 13) (w 14) (w 15) := by
  unfold k0_chk1_51
  exact ⟨rowFact ok 11 17, rowFact ok 11 18, rowFact ok 11 19, rowFact ok 11 20, rowFact ok 11 21, rowFact ok 11 22, rowFact ok 11 23, rowFact ok 11 24, rowFact ok 11 25, rowFact ok 11 26, rowFact ok 11 27, rowFact ok 11 28, rowFact ok 11 29, rowFact ok 11 30, rowFact ok 11 31, rowRestOK i w 11, noRest2 i w 11, noRest2 i w 11, noRest2 i w 11, noRest2 i w 11, noRest2 i w 11, noRest2 i w 11, noRest2 i w 11, noRest2 i w 11, noRest2 i w 11, noRest2 i w 11, noRest2 i w 11, noRest2 i w 11, noRest2 i w 11, noRest2 i w 11, noRest2 i w 11, noRest2 i w 11⟩

/-- The side conditions, stretch 52. -/
theorem chk_52 : k0_chk1_52 i (w 0) (w 1) (w 2) (w 3) (w 4) (w 5) (w 6) (w 7) (w 8) (w 9) (w 10) (w 11) (w 12) (w 13) (w 14) (w 15) := by
  unfold k0_chk1_52
  exact ⟨noRest2 i w 11, noRest2 i w 11, noRest2 i w 11, noRest2 i w 11, noRest2 i w 11, noRest2 i w 11, noRest2 i w 11, noRest2 i w 11, noRest2 i w 11, noRest2 i w 11, noRest2 i w 11, noRest2 i w 11, noRest2 i w 11, noRest2 i w 11, noRest2 i w 11, noRest2 i w 11, restOK i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11⟩

/-- The side conditions, stretch 53. -/
theorem chk_53 : k0_chk1_53 i (w 0) (w 1) (w 2) (w 3) (w 4) (w 5) (w 6) (w 7) (w 8) (w 9) (w 10) (w 11) (w 12) (w 13) (w 14) (w 15) := by
  unfold k0_chk1_53
  exact ⟨noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11⟩

/-- The side conditions, stretch 54. -/
theorem chk_54 : k0_chk1_54 i (w 0) (w 1) (w 2) (w 3) (w 4) (w 5) (w 6) (w 7) (w 8) (w 9) (w 10) (w 11) (w 12) (w 13) (w 14) (w 15) := by
  unfold k0_chk1_54
  exact ⟨noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, noRest1 i w 11, src0Fact ok 12, src1Fact ok 12, loopOKFact ok 12, nextSlotFact ok 12, nextSrcFact ok 12, nextSemFact ok 12, slotFact ok 12, semFact ok 12⟩

/-- The side conditions, stretch 55. -/
theorem chk_55 : k0_chk1_55 i (w 0) (w 1) (w 2) (w 3) (w 4) (w 5) (w 6) (w 7) (w 8) (w 9) (w 10) (w 11) (w 12) (w 13) (w 14) (w 15) := by
  unfold k0_chk1_55
  exact ⟨rowsOKFact ok 12, rowFact ok 12 0, rowFact ok 12 1, rowFact ok 12 2, rowFact ok 12 3, rowFact ok 12 4, rowFact ok 12 5, rowFact ok 12 6, rowFact ok 12 7, rowFact ok 12 8, rowFact ok 12 9, rowFact ok 12 10, rowFact ok 12 11, rowFact ok 12 12, rowFact ok 12 13, rowFact ok 12 14, rowFact ok 12 15, rowFact ok 12 16, rowFact ok 12 17, rowFact ok 12 18, rowFact ok 12 19, rowFact ok 12 20, rowFact ok 12 21, rowFact ok 12 22, rowFact ok 12 23, rowFact ok 12 24, rowFact ok 12 25, rowFact ok 12 26, rowFact ok 12 27, rowFact ok 12 28, rowFact ok 12 29, rowFact ok 12 30⟩

/-- The side conditions, stretch 56. -/
theorem chk_56 : k0_chk1_56 i (w 0) (w 1) (w 2) (w 3) (w 4) (w 5) (w 6) (w 7) (w 8) (w 9) (w 10) (w 11) (w 12) (w 13) (w 14) (w 15) := by
  unfold k0_chk1_56
  exact ⟨rowFact ok 12 31, rowRestOK i w 12, noRest2 i w 12, noRest2 i w 12, noRest2 i w 12, noRest2 i w 12, noRest2 i w 12, noRest2 i w 12, noRest2 i w 12, noRest2 i w 12, noRest2 i w 12, noRest2 i w 12, noRest2 i w 12, noRest2 i w 12, noRest2 i w 12, noRest2 i w 12, noRest2 i w 12, noRest2 i w 12, noRest2 i w 12, noRest2 i w 12, noRest2 i w 12, noRest2 i w 12, noRest2 i w 12, noRest2 i w 12, noRest2 i w 12, noRest2 i w 12, noRest2 i w 12, noRest2 i w 12, noRest2 i w 12, noRest2 i w 12, noRest2 i w 12, noRest2 i w 12⟩

/-- The side conditions, stretch 57. -/
theorem chk_57 : k0_chk1_57 i (w 0) (w 1) (w 2) (w 3) (w 4) (w 5) (w 6) (w 7) (w 8) (w 9) (w 10) (w 11) (w 12) (w 13) (w 14) (w 15) := by
  unfold k0_chk1_57
  exact ⟨noRest2 i w 12, noRest2 i w 12, restOK i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12⟩

/-- The side conditions, stretch 58. -/
theorem chk_58 : k0_chk1_58 i (w 0) (w 1) (w 2) (w 3) (w 4) (w 5) (w 6) (w 7) (w 8) (w 9) (w 10) (w 11) (w 12) (w 13) (w 14) (w 15) := by
  unfold k0_chk1_58
  exact ⟨noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12, noRest1 i w 12⟩

/-- The side conditions, stretch 59. -/
theorem chk_59 : k0_chk1_59 i (w 0) (w 1) (w 2) (w 3) (w 4) (w 5) (w 6) (w 7) (w 8) (w 9) (w 10) (w 11) (w 12) (w 13) (w 14) (w 15) := by
  unfold k0_chk1_59
  exact ⟨noRest1 i w 12, noRest1 i w 12, noRest1 i w 12, noRest1 i w 12, noRest1 i w 12, noRest1 i w 12, noRest1 i w 12, noRest1 i w 12, noRest1 i w 12, noRest1 i w 12, src0Fact ok 13, src1Fact ok 13, loopOKFact ok 13, nextSlotFact ok 13, nextSrcFact ok 13, nextSemFact ok 13, slotFact ok 13, semFact ok 13, rowsOKFact ok 13, rowFact ok 13 0, rowFact ok 13 1, rowFact ok 13 2, rowFact ok 13 3, rowFact ok 13 4, rowFact ok 13 5, rowFact ok 13 6, rowFact ok 13 7, rowFact ok 13 8, rowFact ok 13 9, rowFact ok 13 10, rowFact ok 13 11, rowFact ok 13 12⟩

/-- The side conditions, stretch 60. -/
theorem chk_60 : k0_chk1_60 i (w 0) (w 1) (w 2) (w 3) (w 4) (w 5) (w 6) (w 7) (w 8) (w 9) (w 10) (w 11) (w 12) (w 13) (w 14) (w 15) := by
  unfold k0_chk1_60
  exact ⟨rowFact ok 13 13, rowFact ok 13 14, rowFact ok 13 15, rowFact ok 13 16, rowFact ok 13 17, rowFact ok 13 18, rowFact ok 13 19, rowFact ok 13 20, rowFact ok 13 21, rowFact ok 13 22, rowFact ok 13 23, rowFact ok 13 24, rowFact ok 13 25, rowFact ok 13 26, rowFact ok 13 27, rowFact ok 13 28, rowFact ok 13 29, rowFact ok 13 30, rowFact ok 13 31, rowRestOK i w 13, noRest2 i w 13, noRest2 i w 13, noRest2 i w 13, noRest2 i w 13, noRest2 i w 13, noRest2 i w 13, noRest2 i w 13, noRest2 i w 13, noRest2 i w 13, noRest2 i w 13, noRest2 i w 13, noRest2 i w 13⟩

/-- The side conditions, stretch 61. -/
theorem chk_61 : k0_chk1_61 i (w 0) (w 1) (w 2) (w 3) (w 4) (w 5) (w 6) (w 7) (w 8) (w 9) (w 10) (w 11) (w 12) (w 13) (w 14) (w 15) := by
  unfold k0_chk1_61
  exact ⟨noRest2 i w 13, noRest2 i w 13, noRest2 i w 13, noRest2 i w 13, noRest2 i w 13, noRest2 i w 13, noRest2 i w 13, noRest2 i w 13, noRest2 i w 13, noRest2 i w 13, noRest2 i w 13, noRest2 i w 13, noRest2 i w 13, noRest2 i w 13, noRest2 i w 13, noRest2 i w 13, noRest2 i w 13, noRest2 i w 13, noRest2 i w 13, noRest2 i w 13, restOK i w 13, noRest1 i w 13, noRest1 i w 13, noRest1 i w 13, noRest1 i w 13, noRest1 i w 13, noRest1 i w 13, noRest1 i w 13, noRest1 i w 13, noRest1 i w 13, noRest1 i w 13, noRest1 i w 13⟩

/-- The side conditions, stretch 62. -/
theorem chk_62 : k0_chk1_62 i (w 0) (w 1) (w 2) (w 3) (w 4) (w 5) (w 6) (w 7) (w 8) (w 9) (w 10) (w 11) (w 12) (w 13) (w 14) (w 15) := by
  unfold k0_chk1_62
  exact ⟨noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13⟩

/-- The side conditions, stretch 63. -/
theorem chk_63 : k0_chk1_63 i (w 0) (w 1) (w 2) (w 3) (w 4) (w 5) (w 6) (w 7) (w 8) (w 9) (w 10) (w 11) (w 12) (w 13) (w 14) (w 15) := by
  unfold k0_chk1_63
  exact ⟨noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, noRest1 i w 13, src0Fact ok 14, src1Fact ok 14, loopOKFact ok 14, nextSlotFact ok 14⟩

/-- The side conditions, stretch 64. -/
theorem chk_64 : k0_chk1_64 i (w 0) (w 1) (w 2) (w 3) (w 4) (w 5) (w 6) (w 7) (w 8) (w 9) (w 10) (w 11) (w 12) (w 13) (w 14) (w 15) := by
  unfold k0_chk1_64
  exact ⟨nextSrcFact ok 14, nextSemFact ok 14, slotFact ok 14, semFact ok 14, rowsOKFact ok 14, rowFact ok 14 0, rowFact ok 14 1, rowFact ok 14 2, rowFact ok 14 3, rowFact ok 14 4, rowFact ok 14 5, rowFact ok 14 6, rowFact ok 14 7, rowFact ok 14 8, rowFact ok 14 9, rowFact ok 14 10, rowFact ok 14 11, rowFact ok 14 12, rowFact ok 14 13, rowFact ok 14 14, rowFact ok 14 15, rowFact ok 14 16, rowFact ok 14 17, rowFact ok 14 18, rowFact ok 14 19, rowFact ok 14 20, rowFact ok 14 21, rowFact ok 14 22, rowFact ok 14 23, rowFact ok 14 24, rowFact ok 14 25, rowFact ok 14 26⟩

/-- The side conditions, stretch 65. -/
theorem chk_65 : k0_chk1_65 i (w 0) (w 1) (w 2) (w 3) (w 4) (w 5) (w 6) (w 7) (w 8) (w 9) (w 10) (w 11) (w 12) (w 13) (w 14) (w 15) := by
  unfold k0_chk1_65
  exact ⟨rowFact ok 14 27, rowFact ok 14 28, rowFact ok 14 29, rowFact ok 14 30, rowFact ok 14 31, rowRestOK i w 14, noRest2 i w 14, noRest2 i w 14, noRest2 i w 14, noRest2 i w 14, noRest2 i w 14, noRest2 i w 14, noRest2 i w 14, noRest2 i w 14, noRest2 i w 14, noRest2 i w 14, noRest2 i w 14, noRest2 i w 14, noRest2 i w 14, noRest2 i w 14, noRest2 i w 14, noRest2 i w 14, noRest2 i w 14, noRest2 i w 14, noRest2 i w 14, noRest2 i w 14, noRest2 i w 14, noRest2 i w 14, noRest2 i w 14, noRest2 i w 14, noRest2 i w 14, noRest2 i w 14⟩

/-- The side conditions, stretch 66. -/
theorem chk_66 : k0_chk1_66 i (w 0) (w 1) (w 2) (w 3) (w 4) (w 5) (w 6) (w 7) (w 8) (w 9) (w 10) (w 11) (w 12) (w 13) (w 14) (w 15) := by
  unfold k0_chk1_66
  exact ⟨noRest2 i w 14, noRest2 i w 14, noRest2 i w 14, noRest2 i w 14, noRest2 i w 14, noRest2 i w 14, restOK i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14⟩

/-- The side conditions, stretch 67. -/
theorem chk_67 : k0_chk1_67 i (w 0) (w 1) (w 2) (w 3) (w 4) (w 5) (w 6) (w 7) (w 8) (w 9) (w 10) (w 11) (w 12) (w 13) (w 14) (w 15) := by
  unfold k0_chk1_67
  exact ⟨noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14⟩

/-- The side conditions, stretch 68. -/
theorem chk_68 : k0_chk1_68 i (w 0) (w 1) (w 2) (w 3) (w 4) (w 5) (w 6) (w 7) (w 8) (w 9) (w 10) (w 11) (w 12) (w 13) (w 14) (w 15) := by
  unfold k0_chk1_68
  exact ⟨noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, noRest1 i w 14, src0Fact ok 15, src1Fact ok 15, loopOKFact ok 15, nextSlotFact ok 15, nextSrcFact ok 15, nextSemFact ok 15, slotFact ok 15, semFact ok 15, rowsOKFact ok 15, rowFact ok 15 0, rowFact ok 15 1, rowFact ok 15 2, rowFact ok 15 3, rowFact ok 15 4, rowFact ok 15 5, rowFact ok 15 6, rowFact ok 15 7, rowFact ok 15 8⟩

/-- The side conditions, stretch 69. -/
theorem chk_69 : k0_chk1_69 i (w 0) (w 1) (w 2) (w 3) (w 4) (w 5) (w 6) (w 7) (w 8) (w 9) (w 10) (w 11) (w 12) (w 13) (w 14) (w 15) := by
  unfold k0_chk1_69
  exact ⟨rowFact ok 15 9, rowFact ok 15 10, rowFact ok 15 11, rowFact ok 15 12, rowFact ok 15 13, rowFact ok 15 14, rowFact ok 15 15, rowFact ok 15 16, rowFact ok 15 17, rowFact ok 15 18, rowFact ok 15 19, rowFact ok 15 20, rowFact ok 15 21, rowFact ok 15 22, rowFact ok 15 23, rowFact ok 15 24, rowFact ok 15 25, rowFact ok 15 26, rowFact ok 15 27, rowFact ok 15 28, rowFact ok 15 29, rowFact ok 15 30, rowFact ok 15 31, rowRestOK i w 15, noRest2 i w 15, noRest2 i w 15, noRest2 i w 15, noRest2 i w 15, noRest2 i w 15, noRest2 i w 15, noRest2 i w 15, noRest2 i w 15⟩

/-- The side conditions, stretch 70. -/
theorem chk_70 : k0_chk1_70 i (w 0) (w 1) (w 2) (w 3) (w 4) (w 5) (w 6) (w 7) (w 8) (w 9) (w 10) (w 11) (w 12) (w 13) (w 14) (w 15) := by
  unfold k0_chk1_70
  exact ⟨noRest2 i w 15, noRest2 i w 15, noRest2 i w 15, noRest2 i w 15, noRest2 i w 15, noRest2 i w 15, noRest2 i w 15, noRest2 i w 15, noRest2 i w 15, noRest2 i w 15, noRest2 i w 15, noRest2 i w 15, noRest2 i w 15, noRest2 i w 15, noRest2 i w 15, noRest2 i w 15, noRest2 i w 15, noRest2 i w 15, noRest2 i w 15, noRest2 i w 15, noRest2 i w 15, noRest2 i w 15, noRest2 i w 15, noRest2 i w 15, restOK i w 15, noRest1 i w 15, noRest1 i w 15, noRest1 i w 15, noRest1 i w 15, noRest1 i w 15, noRest1 i w 15, noRest1 i w 15⟩

/-- The side conditions, stretch 71. -/
theorem chk_71 : k0_chk1_71 i (w 0) (w 1) (w 2) (w 3) (w 4) (w 5) (w 6) (w 7) (w 8) (w 9) (w 10) (w 11) (w 12) (w 13) (w 14) (w 15) := by
  unfold k0_chk1_71
  exact ⟨noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15⟩

/-- The side conditions, stretch 72. -/
theorem chk_72 : k0_chk1_72 i (w 0) (w 1) (w 2) (w 3) (w 4) (w 5) (w 6) (w 7) (w 8) (w 9) (w 10) (w 11) (w 12) (w 13) (w 14) (w 15) := by
  unfold k0_chk1_72
  exact ⟨noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15, noRest1 i w 15⟩

end Cert.Tail

end
-- ==== Proof.Checks.lean ====
/-
  All the side conditions that the tile's program checks.
-/
module

public import proofs.«01_k».proof.Proof.Checks1
public import proofs.«01_k».proof.Proof.Checks2
public import proofs.«01_k».proof.Proof.Checks3

@[expose] public section

set_option maxRecDepth 20000
set_option Elab.async false

noncomputable section

namespace Cert.Tail

open Idealize.ShloMosaic Idealize.SL.Sem Cert.KernelIdeal Cert.KernelIdeal.Gen

variable {F : FTy → Type} [FloatOps F]

/-- All the side conditions hold. -/
theorem checks (i : grid0.Coords) (w : ℕ → BitVec 32) (ok : ∀ b, b < 16 → SeqOK i w b) : k0_chk1 i (w 0) (w 1) (w 2) (w 3) (w 4) (w 5) (w 6) (w 7) (w 8) (w 9) (w 10) (w 11) (w 12) (w 13) (w 14) (w 15) := by
  unfold k0_chk1
  exact ⟨chk_0 i w ok, chk_1 i w ok, chk_2 i w ok, chk_3 i w ok, chk_4 i w ok, chk_5 i w ok, chk_6 i w ok, chk_7 i w ok, chk_8 i w ok, chk_9 i w ok, chk_10 i w ok, chk_11 i w ok, chk_12 i w ok, chk_13 i w ok, chk_14 i w ok, chk_15 i w ok, chk_16 i w ok, chk_17 i w ok, chk_18 i w ok, chk_19 i w ok, chk_20 i w ok, chk_21 i w ok, chk_22 i w ok, chk_23 i w ok, chk_24 i w ok, chk_25 i w ok, chk_26 i w ok, chk_27 i w ok, chk_28 i w ok, chk_29 i w ok, chk_30 i w ok, chk_31 i w ok, chk_32 i w ok, chk_33 i w ok, chk_34 i w ok, chk_35 i w ok, chk_36 i w ok, chk_37 i w ok, chk_38 i w ok, chk_39 i w ok, chk_40 i w ok, chk_41 i w ok, chk_42 i w ok, chk_43 i w ok, chk_44 i w ok, chk_45 i w ok, chk_46 i w ok, chk_47 i w ok, chk_48 i w ok, chk_49 i w ok, chk_50 i w ok, chk_51 i w ok, chk_52 i w ok, chk_53 i w ok, chk_54 i w ok, chk_55 i w ok, chk_56 i w ok, chk_57 i w ok, chk_58 i w ok, chk_59 i w ok, chk_60 i w ok, chk_61 i w ok, chk_62 i w ok, chk_63 i w ok, chk_64 i w ok, chk_65 i w ok, chk_66 i w ok, chk_67 i w ok, chk_68 i w ok, chk_69 i w ok, chk_70 i w ok, chk_71 i w ok, chk_72 i w ok⟩

end Cert.Tail

end
-- ==== Proof.Body.lean ====
/-
  A tile's whole program: what it takes, what it gives back, and the sums it leaves.
-/
module

public import proofs.«01_k».proof.Proof.Steps
public import proofs.«01_k».proof.Proof.Checks

@[expose] public section

set_option maxRecDepth 20000

noncomputable section

namespace Cert.Tail

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The lengths, by number, -/
def lens (Lv : S16.Idx → BitVec 32) (k : ℕ) : BitVec 32 := Lv (ix16 k)
/-- the scales, -/
def invs (Iv : S16.Idx → Elt F .f32) (k : ℕ) : Elt F .f32 := Iv (ix16 k)

/-- The tile with number `w`. -/
def tileOf (w : Fin 32) : grid0.Coords := fun a => ⟨(![w.val % 2, w.val / 2] : Fin 2 → ℕ) a, by
  have := w.isLt
  fin_cases a
  · exact Nat.mod_lt _ (by decide)
  · show w.val / 2 < 16; omega⟩

/-- The number of a tile. -/
def widF (i : grid0.Coords) : Fin 32 := ⟨widN i, widN_lt i⟩

theorem tileOf_wid (i : grid0.Coords) : tileOf (widF i) = i := by
  have h0 : (i 0).val < 2 := (i 0).isLt
  funext a; apply Fin.ext
  fin_cases a
  · show ((i 1).val * 2 + (i 0).val) % 2 = (i 0).val; omega
  · show ((i 1).val * 2 + (i 0).val) / 2 = (i 1).val; omega

/-- What the tiles' sums come to, a row a tile. -/
def tails (Y D : S2048x16x512.Idx → Elt F .f32) (Lv : S16.Idx → BitVec 32) (Iv : S16.Idx → Elt F .f32) : S32x16.Idx → Elt F .f32 :=
  fun x => total Y D (invs Iv) (tileOf (x 0)) (lens Lv) 16 (ix16 (x 1).val)

/-- A tile's row of the sums, as the tile names it, -/
abbrev outM (i : grid0.Coords) : Memref sig .scVector .hbm S16 .f32 :=
  (oV.slice (Rect.unit (s := S32x16) (k0_off2273 i) S1x16.size (k0_off2273_inb i)) (fun _ => rfl)).squeeze S16 squeezes_S1x16_S16

/-- and as a set. -/
def rowSet (w : Fin 32) : Finset S32x16.Idx := Finset.univ.filter fun x => (x 0).val = w.val

theorem off_nat (i : grid0.Coords) : k0_off2273 i = ![widN i, 0] := by
  funext a; fin_cases a
  · exact Affine.nat_eq (wid_isInt i) _ rfl
  · rfl

theorem outM_emb (i : grid0.Coords) (y : S16.Idx) : (((outM i).view.emb y : S32x16.Idx) 1).val = (y 0).val := by
  have e : (outM i).view.emb y = (Rect.unit (s := S32x16) (k0_off2273 i) S1x16.size (k0_off2273_inb i)).emb
      (Shape.reshapeEquiv squeezes_S1x16_S16.numel_eq y) := rfl
  rw [e, Shape.reshapeEquiv_cons_one]
  show 0 + 1 * (y 0).val = (y 0).val
  omega

theorem outM_set (i : grid0.Coords) : (outM i).view.set = rowSet (widF i) := by
  refine (View.set_reshape _ _).trans ?_
  refine (View.set_slice_whole _ _).trans ?_
  ext x
  refine Rect.mem_set_unit.trans ?_
  have h1 : (x 1).val < 16 := (x 1).isLt
  rw [rowSet, Finset.mem_filter, off_nat]
  constructor
  · intro h
    have h0 := h 0
    change widN i ≤ (x 0).val ∧ (x 0).val < widN i + 1 at h0
    exact ⟨Finset.mem_univ _, (by show (x 0).val = widN i; omega)⟩
  · rintro ⟨-, h⟩ a
    have h0 : (x 0).val = widN i := h
    fin_cases a
    · show widN i ≤ (x 0).val ∧ (x 0).val < widN i + 1; omega
    · show 0 ≤ (x 1).val ∧ (x 1).val < 0 + 16; omega

section Tile

variable (d : Dev nD) (i : grid0.Coords)
variable {α : Type} {Q : α → sProp (MM F)}

/-- The first sixteen places of a buffer written over. -/
theorem read_fetched {e : EltTy} (m : Memref sig .scVector .vmem S32 e) (f : m.view.ty.Contents (Elt F)) (w : S16.Idx → Elt F e) (k : ℕ)
    (hk : k < 16) :
    m.view.read (Elt F) ((m.slice (Rect.unit (s := S32) ![0] S16.size inb_S32_S16_0) (fun _ => rfl)).view.write (Elt F) f w Finset.univ) (ix32 k)
      = w (ix16 k) := by
  have e1 : ix32 k = (Rect.unit (s := S32) ![0] S16.size inb_S32_S16_0).emb (ix16 k) := by
    funext a; apply Fin.ext
    fin_cases a
    show k % 32 = 0 + 1 * (k % 16)
    omega
  rw [e1, View.read_apply]
  have e2 := View.write_emb_of_mem (v := (m.slice (Rect.unit (s := S32) ![0] S16.size inb_S32_S16_0) (fun _ => rfl)).view) (Val := Elt F)
    f w (Finset.mem_univ (ix16 k))
  refine (congrArg _ e2).trans ?_
  rw [cast_cast, cast_eq]

/-- Putting the sums into the buffer they are copied out of. -/
theorem wp_putTotal (m : Memref sig .scVector .vmem S16 .f32) (f : Buf (Elt F) (m.view.loc (thr d i))) (v : FVec F S16 .f32)
    (k : PUnit → TP F i α) :
    iprop(m.view.loc (thr d i) ↦{fullShare} f)
      ⊢ iprop((iprop(∃ f', ⌜m.view.read (Elt F) f' = v⌝ ∗ (m.view.loc (thr d i) ↦{fullShare} f')) -∗ WP d i (k ⟨⟩) Q)
        -∗ WP d i (putTotal i m v >>= k) Q) := by
  unfold putTotal
  simp only [Prog.lift, Prog.bind_op, Prog.bind_ret, pure_bind]
  iintro H Hk
  iapply (wp_load 𝒱₀ (thr d i) none Set.univ (Finset.subset_univ _)) $$ H
  iintro H
  iapply (wp_store 𝒱₀ (thr d i) none Set.univ (m := m) (r := Rect.unit (s := S16) ![0] S16.size inb_S16_S16_0) (f := f)
    (Finset.subset_univ _)) $$ H
  iintro H
  iapply Hk
  iexists _; isplitr
  swap; · iexact H
  ipureintro
  funext y
  have e1 : y = (Rect.unit (s := S16) ![0] S16.size inb_S16_S16_0).emb y := by
    funext a; apply Fin.ext
    fin_cases a
    show (y 0).val = 0 + 1 * (y 0).val
    omega
  have e2 := View.write_emb_of_mem (v := m.access (Rect.unit (s := S16) ![0] S16.size inb_S16_S16_0)) (Val := Elt F)
    f (shapeCast S16 v shapeCasts_S16_S16) (Finset.mem_univ y)
  have e3 : m.view.emb y = (m.access (Rect.unit (s := S16) ![0] S16.size inb_S16_S16_0)).emb y := congrArg m.view.emb e1
  rw [View.read_apply, e3]
  refine (congrArg _ e2).trans ?_
  rw [cast_cast, cast_eq, shapeCast_self]

/-- Fetching the lengths and the scales. -/
theorem wp_fetch (r0 r1 : DmaSems sig S_) (q : PosShare TreeShare)
    (Lv : Buf (Elt F) (lV.view.loc (thr d i))) (Iv : Buf (Elt F) (iV.view.loc (thr d i)))
    (f7 : Buf (Elt F) (lsV.view.loc (thr d i))) (f8 : Buf (Elt F) (isV.view.loc (thr d i)))
    (O : CellTallies nD τ sig (HIx 1)) (W : Waits sig (HIx 1)) (kk : TP F i α) :
    iprop((lV.view.loc (thr d i) ↦{q} Lv) ∗ (iV.view.loc (thr d i) ↦{q} Iv)
        ∗ (lsV.view.loc (thr d i) ↦{fullShare} f7) ∗ (isV.view.loc (thr d i) ↦{fullShare} f8)
        ∗ semVal (thr d i, .dma r0.sem) 0 ∗ semVal (thr d i, .dma r1.sem) 0
        ∗ Owing (thr d i) O W ∗ Transfers.MayWaits (thr d i) (none : HIx 1) O)
      ⊢ iprop((iprop((lV.view.loc (thr d i) ↦{q} Lv) ∗ (iV.view.loc (thr d i) ↦{q} Iv)
          ∗ (∃ f7, ⌜∀ k, k < 16 → lsV.view.read (Elt F) f7 (ix32 k) = lens Lv k⌝ ∗ (lsV.view.loc (thr d i) ↦{fullShare} f7))
          ∗ (∃ f8, ⌜∀ k, k < 16 → isV.view.read (Elt F) f8 (ix32 k) = invs Iv k⌝ ∗ (isV.view.loc (thr d i) ↦{fullShare} f8))
          ∗ semVal (thr d i, .dma r0.sem) 0 ∗ semVal (thr d i, .dma r1.sem) 0
          ∗ Owing (thr d i) O W) -∗ WP d i kk Q)
        -∗ WP d i (fetch i lV (Memref.isWhole_whole _) iV (Memref.isWhole_whole _) lsV isV r0 r1 kk) Q) := by
  unfold fetch
  simp only [Prog.lift, Prog.bind_op, Prog.bind_ret]
  iintro ⟨Hl, Hi, H7, H8, H0, H1, HO, #Hmw⟩ Hk
  iapply (wp_copyWhole d i (View.set_whole _) (Finset.subset_univ _) (show 0 < S16.numel by decide) Lv f7 O W) $$ [Hl H7 H0 HO]
  · isplitl [Hl]; · iexact Hl
    isplitl [H7]; · iexact H7
    isplitl [H0]; · iexact H0
    isplitl [HO]; · iexact HO
    iexact Hmw
  iintro ⟨Hl, H7, H0, HO⟩
  iapply (wp_copyWhole d i (View.set_whole _) (Finset.subset_univ _) (show 0 < S16.numel by decide) Iv f8 O W) $$ [Hi H8 H1 HO]
  · isplitl [Hi]; · iexact Hi
    isplitl [H8]; · iexact H8
    isplitl [H1]; · iexact H1
    isplitl [HO]; · iexact HO
    iexact Hmw
  iintro ⟨Hi, H8, H1, HO⟩
  iapply Hk
  isplitl [Hl]; · iexact Hl
  isplitl [Hi]; · iexact Hi
  isplitl [H7]
  · iexists _; isplitr
    swap; · iexact H7
    ipureintro; intro k hk; exact read_fetched lsV f7 _ k hk
  isplitl [H8]
  · iexists _; isplitr
    swap; · iexact H8
    ipureintro; intro k hk; exact read_fetched isV f8 _ k hk
  isplitl [H0]; · iexact H0
  isplitl [H1]; · iexact H1
  iexact HO

/-- What a tile takes and gives back: the shares of the arrays, its buffers but the copied ones, its semaphores but theirs. -/
def Kit (q : PosShare TreeShare) (Y : Buf (Elt F) (yV.view.loc (thr d i))) (D : Buf (Elt F) (dV.view.loc (thr d i)))
    (Lv : Buf (Elt F) (lV.view.loc (thr d i))) (Iv : Buf (Elt F) (iV.view.loc (thr d i))) : sProp (MM F) :=
  iprop(Idles d i M0 Y D q q ∗ (lV.view.loc (thr d i) ↦{q} Lv) ∗ (iV.view.loc (thr d i) ↦{q} Iv)
    ∗ (∃ f, lsV.view.loc (thr d i) ↦{fullShare} f) ∗ (∃ f, isV.view.loc (thr d i) ↦{fullShare} f)
    ∗ (∃ f, osV.view.loc (thr d i) ↦{fullShare} f)
    ∗ semVal (thr d i, .dma cc0_scoped0.sem) 0 ∗ semVal (thr d i, .dma cc0_scoped1.sem) 0 ∗ semVal (thr d i, .dma cc0_scoped2.sem) 0)

/-- A tile's program, at grid coordinates `i`. -/
abbrev tileProg (i : grid0.Coords) : TP F i PUnit :=
  cc0_k i yV (Memref.isWhole_whole _) dV (Memref.isWhole_whole _) lV (Memref.isWhole_whole _) iV (Memref.isWhole_whole _) oV (Memref.isWhole_whole _)
    lsV (Memref.isWhole_whole _) isV (Memref.isWhole_whole _) ybV (Memref.isWhole_whole _) dbV (Memref.isWhole_whole _) osV (Memref.isWhole_whole _)
    cc0_scratch5 cc0_scratch6 cc0_scoped0 cc0_scoped1 cc0_scoped2

/-- A tile's program leaves its row of the sums. -/
theorem wp_tile (q : PosShare TreeShare) (Y : Buf (Elt F) (yV.view.loc (thr d i))) (D : Buf (Elt F) (dV.view.loc (thr d i)))
    (Lv : Buf (Elt F) (lV.view.loc (thr d i))) (Iv : Buf (Elt F) (iV.view.loc (thr d i))) (hL : InRange (lens Lv))
    (O : CellTallies nD τ sig (HIx 1)) (W : Waits sig (HIx 1)) (fo : Buf (Elt F) (oV.view.loc (thr d i))) :
    iprop(Kit d i q Y D Lv Iv ∗ (oV.view.loc (thr d i) ↦[rowSet (widF i)]{fullShare} fo)
        ∗ Owing (thr d i) O W ∗ Transfers.MayWaits (thr d i) (none : HIx 1) O)
      ⊢ WP d i (tileProg i) fun _ => iprop(Kit d i q Y D Lv Iv ∗ (oV.view.loc (thr d i) ↦[rowSet (widF i)]{fullShare} (tails Y D Lv Iv))
        ∗ Owing (thr d i) O W) := by
  have hrow := outM_set i
  unfold tileProg cc0_k Kit
  rw [part567_eq]
  have ok : ∀ b, b < 16 → SeqOK i (lens Lv) b := fun b hb => seqOK hL i hb
  iintro ⟨⟨HI, Hl, Hi, ⟨%f7, H7⟩, ⟨%f8, H8⟩, ⟨%f11, H11⟩, H0, H1, H2⟩, Ho, HO, #Hmw⟩
  unfold WP
  rw [wp_bind]
  iapply (wp_fetch d i cc0_scoped0 cc0_scoped1 q Lv Iv f7 f8 O W) $$ [Hl Hi H7 H8 H0 H1 HO]
  · isplitl [Hl]; · iexact Hl
    isplitl [Hi]; · iexact Hi
    isplitl [H7]; · iexact H7
    isplitl [H8]; · iexact H8
    isplitl [H0]; · iexact H0
    isplitl [H1]; · iexact H1
    isplitl [HO]; · iexact HO
    iexact Hmw
  clear f7 f8
  iintro ⟨Hl, Hi, ⟨%f7, %h7, H7⟩, ⟨%f8, %h8, H8⟩, H0, H1, HO⟩
  iapply (wp_readWord d i lsV f7 0 (by decide) inb_S32_S16_0 (lens Lv 0) (h7 0 (by decide))) $$ H7
  iintro H7
  iapply (wp_readWord d i lsV f7 1 (by decide) inb_S32_S16_1 (lens Lv 1) (h7 1 (by decide))) $$ H7
  iintro H7
  iapply (wp_readWord d i lsV f7 2 (by decide) inb_S32_S16_2 (lens Lv 2) (h7 2 (by decide))) $$ H7
  iintro H7
  iapply (wp_readWord d i lsV f7 3 (by decide) inb_S32_S16_3 (lens Lv 3) (h7 3 (by decide))) $$ H7
  iintro H7
  iapply (wp_readWord d i lsV f7 4 (by decide) inb_S32_S16_4 (lens Lv 4) (h7 4 (by decide))) $$ H7
  iintro H7
  iapply (wp_readWord d i lsV f7 5 (by decide) inb_S32_S16_5 (lens Lv 5) (h7 5 (by decide))) $$ H7
  iintro H7
  iapply (wp_readWord d i lsV f7 6 (by decide) inb_S32_S16_6 (lens Lv 6) (h7 6 (by decide))) $$ H7
  iintro H7
  iapply (wp_readWord d i lsV f7 7 (by decide) inb_S32_S16_7 (lens Lv 7) (h7 7 (by decide))) $$ H7
  iintro H7
  iapply (wp_readWord d i lsV f7 8 (by decide) inb_S32_S16_8 (lens Lv 8) (h7 8 (by decide))) $$ H7
  iintro H7
  iapply (wp_readWord d i lsV f7 9 (by decide) inb_S32_S16_9 (lens Lv 9) (h7 9 (by decide))) $$ H7
  iintro H7
  iapply (wp_readWord d i lsV f7 10 (by decide) inb_S32_S16_10 (lens Lv 10) (h7 10 (by decide))) $$ H7
  iintro H7
  iapply (wp_readWord d i lsV f7 11 (by decide) inb_S32_S16_11 (lens Lv 11) (h7 11 (by decide))) $$ H7
  iintro H7
  iapply (wp_readWord d i lsV f7 12 (by decide) inb_S32_S16_12 (lens Lv 12) (h7 12 (by decide))) $$ H7
  iintro H7
  iapply (wp_readWord d i lsV f7 13 (by decide) inb_S32_S16_13 (lens Lv 13) (h7 13 (by decide))) $$ H7
  iintro H7
  iapply (wp_readWord d i lsV f7 14 (by decide) inb_S32_S16_14 (lens Lv 14) (h7 14 (by decide))) $$ H7
  iintro H7
  iapply (wp_readWord d i lsV f7 15 (by decide) inb_S32_S16_15 (lens Lv 15) (h7 15 (by decide))) $$ H7
  iintro H7
  have hw := checks i (lens Lv) ok
  simp only [Prog.lift, Prog.bind_op, Prog.bind_ret]
  iapply (wp_assume 𝒱₀ (thr d i) none Set.univ hw)
  rw [afterWords_eq (w := lens Lv) (hw := hw) (ok := ok)]
  iapply (wp_seqs d i M0 Y D q q hL (invs Iv) f8 h8 ok O W 16 0 _) $$ [HI H8 HO]
  · unfold Held
    isplitl [HI]; · iexact HI
    isplitl [H8]; · iexact H8
    isplitl [HO]; · iexact HO
    iexact Hmw
  unfold Held
  iintro ⟨HI, H8, HO, -⟩
  rw [← bind_pure (putTotal i osV _)]
  iapply (wp_putTotal d i osV f11) $$ H11
  iintro ⟨%f11', %h11, H11⟩
  iapply (WP_pure d i)
  iapply (wp_copyWhole d i (src := osV) (dst := outM i) (sem := cc0_scoped2.sem) (View.set_whole _) (le_of_eq hrow) (show 0 < S16.numel by decide) f11' fo O W) $$ [H11 Ho H2 HO]
  · isplitl [H11]; · iexact H11
    isplitl [Ho]; · iexact Ho
    isplitl [H2]; · iexact H2
    isplitl [HO]; · iexact HO
    iexact Hmw
  iintro ⟨H11, Ho, H2, HO⟩
  iapply (WP_pure d i)
  isplitr [Ho HO]
  · isplitl [HI]; · iexact HI
    isplitl [Hl]; · iexact Hl
    isplitl [Hi]; · iexact Hi
    isplitl [H7]; · iexists f7; iexact H7
    isplitl [H8]; · iexists f8; iexact H8
    isplitl [H11]; · iexists f11'; iexact H11
    isplitl [H0]; · iexact H0
    isplitl [H1]; · iexact H1
    iexact H2
  isplitl [Ho]
  · have e : ∀ x ∈ rowSet (widF i), (outM i).view.write (Elt F) fo (osV.view.read (Elt F) f11') Finset.univ x = tails Y D Lv Iv x := by
      intro x hx
      have hx0 : (x 0).val = widN i := (Finset.mem_filter.mp hx).2
      obtain ⟨y, -, rfl⟩ := Finset.mem_map.mp (hrow ▸ hx)
      refine (View.write_emb_of_mem (v := (outM i).view) (Val := Elt F) fo _ (Finset.mem_univ y)).trans ?_
      rw [h11]
      unfold tails
      have e0 : tileOf (((outM i).view.emb y : S32x16.Idx) 0) = i := by
        rw [show ((outM i).view.emb y : S32x16.Idx) 0 = widF i from Fin.ext hx0, tileOf_wid]
      have e1 : ix16 (((outM i).view.emb y : S32x16.Idx) 1).val = y := by
        rw [outM_emb]
        funext a; apply Fin.ext
        fin_cases a
        exact Nat.mod_eq_of_lt (y 0).isLt
      rw [e0, e1]
      rfl
    rw [show (oV.view.loc (thr d i) ↦[rowSet (widF i)]{fullShare} (tails Y D Lv Iv) : sProp (MM F)) = _ from (pointsTo_congr e).symm]
    iexact Ho
  · iexact HO

end Tile

end Cert.Tail

end
-- ==== Proof.Own.lean ====
/-
  A tile's own storage: the buffers and semaphores the launch deals it, the slots of the copied buffers, and the shares of the arrays.
-/
module

public import proofs.«01_k».proof.Proof.Body

@[expose] public section

set_option maxRecDepth 20000

noncomputable section

namespace Cert.Tail

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Slots

variable (d : Dev nD) (i : grid0.Coords) (buf : Ref sig .scVector)

/-- The rows of slot `s`. -/
def slotRows (s : Fin 3) : Finset S96x1x512.Idx := Finset.univ.filter fun x => (x 0).val / 32 = s.val

theorem slotRows_disjoint : ∀ s ∈ (Finset.univ : Finset (Fin 3)), ∀ t ∈ (Finset.univ : Finset (Fin 3)), s ≠ t → Disjoint (slotRows s) (slotRows t) := by
  intro s _ t _ hst
  rw [Finset.disjoint_left]
  intro x hx hy
  rw [slotRows, Finset.mem_filter] at hx hy
  exact hst (Fin.ext (hx.2.symm.trans hy.2))

theorem slotRows_cover : (Finset.univ : Finset (Fin 3)).biUnion slotRows = Finset.univ := by
  ext x
  have h : (x 0).val < 96 := (x 0).isLt
  simp only [Finset.mem_biUnion, Finset.mem_univ, true_and, iff_true, slotRows, Finset.mem_filter]
  exact ⟨⟨(x 0).val / 32, by omega⟩, rfl⟩

theorem slot_unit_set (s : Fin 3) (h : SlotIn (32 * s.val)) :
    (Rect.unit (s := S96x1x512) ![32 * s.val, 0, 0] S32x1x512.size h).set = slotRows s := by
  ext x
  have h1 : (x 1).val < 1 := (x 1).isLt
  have h2 : (x 2).val < 512 := (x 2).isLt
  refine Rect.mem_set_unit.trans ?_
  rw [slotRows, Finset.mem_filter]
  constructor
  · intro h
    have h0 := h 0
    change 32 * s.val ≤ (x 0).val ∧ (x 0).val < 32 * s.val + 32 at h0
    exact ⟨Finset.mem_univ _, by omega⟩
  · rintro ⟨-, h⟩ a
    fin_cases a
    · show 32 * s.val ≤ (x 0).val ∧ (x 0).val < 32 * s.val + 32; omega
    · show 0 ≤ (x 1).val ∧ (x 1).val < 0 + 1; omega
    · show 0 ≤ (x 2).val ∧ (x 2).val < 0 + 512; omega

theorem slot_set_y (s : Fin 3) : (slotM ybV s).view.set = slotRows s :=
  (View.set_slice_whole _ _).trans (slot_unit_set s _)
theorem slot_set_d (s : Fin 3) : (slotM dbV s).view.set = slotRows s :=
  (View.set_slice_whole _ _).trans (slot_unit_set s _)

theorem three (Φ : Fin 3 → sProp (MM F)) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

/-- A buffer of three slots, slot by slot, -/
theorem slots_split {ℓ : Loc nD τ sig} (R : Fin 3 → Finset (Idx ℓ)) (hd : ∀ s ∈ Finset.univ, ∀ t ∈ Finset.univ, s ≠ t → Disjoint (R s) (R t))
    (hc : Finset.univ.biUnion R = Finset.univ) :
    iprop(∃ f, (ℓ ↦{fullShare} f)) ⊢ (iprop((∃ f, ℓ ↦[R 0]{fullShare} f) ∗ (∃ f, ℓ ↦[R 1]{fullShare} f) ∗ ∃ f, ℓ ↦[R 2]{fullShare} f) : sProp (MM F)) := by
  iintro ⟨%f, H⟩
  ihave H := (show (ℓ ↦{fullShare} f : sProp (MM F)) ⊢ iprop((ℓ ↦[R 0]{fullShare} f) ∗ (ℓ ↦[R 1]{fullShare} f) ∗ (ℓ ↦[R 2]{fullShare} f)) from by
    rw [← hc, pointsTo_biUnion _ _ hd, three]) $$ H
  icases H with ⟨H0, H1, H2⟩
  isplitl [H0]; · iexists f; iexact H0
  isplitl [H1]; · iexists f; iexact H1
  iexists f; iexact H2

/-- A fact about what a buffer holds, dropped. -/
theorem forget {α : Type} (φ : α → Prop) (Φ : α → sProp (MM F)) : iprop(∃ g, ⌜φ g⌝ ∗ Φ g) ⊢ iprop(∃ g, Φ g) := by
  iintro ⟨%g, -, H⟩
  iexists g; iexact H

/-- and back. -/
theorem slots_join {ℓ : Loc nD τ sig} (R : Fin 3 → Finset (Idx ℓ)) (hd : ∀ s ∈ Finset.univ, ∀ t ∈ Finset.univ, s ≠ t → Disjoint (R s) (R t))
    (hc : Finset.univ.biUnion R = Finset.univ) :
    (iprop((∃ f, ℓ ↦[R 0]{fullShare} f) ∗ (∃ f, ℓ ↦[R 1]{fullShare} f) ∗ ∃ f, ℓ ↦[R 2]{fullShare} f) : sProp (MM F)) ⊢ iprop(∃ f, (ℓ ↦{fullShare} f)) := by
  iintro ⟨⟨%f0, H0⟩, ⟨%f1, H1⟩, ⟨%f2, H2⟩⟩
  ihave H := (show iprop((ℓ ↦[R 0]{fullShare} f0) ∗ (ℓ ↦[R 1]{fullShare} f1) ∗ (ℓ ↦[R 2]{fullShare} f2)) ⊢ (iprop(∃ g, (ℓ ↦{fullShare} g)) : sProp (MM F)) from by
    have e := pointsTo_biUnion_join (nD := nD) (τ := τ) (sig := sig) (Ix := HIx 1) (Val := Elt F) (Name := ℕ) (U := UU) (Lvl := ℕ) (ℓ := ℓ) (q := fullShare)
      Finset.univ R (![f0, f1, f2] : Fin 3 → _) f0 hd
    rw [three, hc] at e
    exact BI.Entails.trans e (forget _ _)) $$ [H0 H1 H2]
  · isplitl [H0]; · iexact H0
    isplitl [H1] <;> iassumption
  iexact H

/-- A share in its three parts. -/
theorem parts {ℓ : Loc nD τ sig} (q : PosShare TreeShare) (f : Buf (Elt F) ℓ) :
    (ℓ ↦{q} f : sProp (MM F)) = iprop((ℓ ↦{part q 0} f) ∗ (ℓ ↦{part q 1} f) ∗ (ℓ ↦{part q 2} f)) := by
  rw [BI.Entails.antisymm (pointsTo_share (PosShare.mem_left_op_right q)).1 (pointsTo_share (PosShare.mem_left_op_right q)).2,
    BI.Entails.antisymm (pointsTo_share (I := Finset.univ) (f := f) (PosShare.mem_left_op_right q.right)).1 (pointsTo_share (PosShare.mem_left_op_right q.right)).2]
  rfl

end Slots

section Dealt

variable (d : Dev nD) (i : grid0.Coords)

/-- The nine semaphores a tile's copies use, -/
def nineSems : Finset (SemLoc sig) :=
  {semL cc0_scratch5 0, semL cc0_scratch5 1, semL cc0_scratch5 2, semL cc0_scratch6 0, semL cc0_scratch6 1, semL cc0_scratch6 2,
    .dma cc0_scoped0.sem, .dma cc0_scoped1.sem, .dma cc0_scoped2.sem}
/-- and its five buffers. -/
def fiveBufs : Finset (Ref sig .scVector) := {cc0_scratch0, cc0_scratch1, cc0_scratch2, cc0_scratch3, cc0_scratch4}

theorem nineSems_scoped : ∀ s ∈ nineSems, s.isScoped .scVector = true := by decide

theorem nineSems_eq (Φ : SemLoc sig → sProp (MM F)) : bigSep nineSems Φ
    = iprop(Φ (semL cc0_scratch5 0) ∗ Φ (semL cc0_scratch5 1) ∗ Φ (semL cc0_scratch5 2) ∗ Φ (semL cc0_scratch6 0) ∗ Φ (semL cc0_scratch6 1) ∗ Φ (semL cc0_scratch6 2)
      ∗ Φ (.dma cc0_scoped0.sem) ∗ Φ (.dma cc0_scoped1.sem) ∗ Φ (.dma cc0_scoped2.sem)) := by
  unfold nineSems
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

theorem fiveBufs_eq (Φ : Ref sig .scVector → sProp (MM F)) : bigSep fiveBufs Φ
    = iprop(Φ cc0_scratch0 ∗ Φ cc0_scratch1 ∗ Φ cc0_scratch2 ∗ Φ cc0_scratch3 ∗ Φ cc0_scratch4) := by
  unfold fiveBufs
  rw [SparseCore.bigSep_insert' (by decide), SparseCore.bigSep_insert' (by decide), SparseCore.bigSep_insert' (by decide), SparseCore.bigSep_insert' (by decide), bigSep_singleton]

/-- The processor a tile is. -/
abbrev tileProc (i : grid0.Coords) : Proc τ := .scVector ((i 0).castLE hcore0) ((i 1).castLE hsub0)

/-- What is left of the launch's semaphores and buffers. -/
def restSems : sProp (MM F) := bigSep (ownCells (thr d i) \ nineSems.image fun s => ((thr d i, s) : GSem nD τ sig)) fun g => semVal g 0
def restBufs : sProp (MM F) := bigSep (ownRefs (τ := τ) (sig := sig) (tileProc i) \ fiveBufs.image fun b => (tileProc i).devRef b)
  fun b => iprop(∃ f, ((d, b) : Loc nD τ sig) ↦{fullShare} f)

theorem ownSems0_split : (ownSems0 (thr d i) : sProp (MM F))
    = iprop((bigSep nineSems fun s => semVal ((thr d i, s) : GSem nD τ sig) 0) ∗ restSems d i) := by
  have inj : Set.InjOn (fun s => ((thr d i, s) : GSem nD τ sig)) nineSems := fun a _ b _ e => (Prod.mk.inj e).2
  unfold SparseCore.Cfg.ownSems0 restSems
  rw [bigSep_sdiff_split (s := ownCells (thr d i)) (t := nineSems.image fun s => ((thr d i, s) : GSem nD τ sig)) ?_, bigSep_image_of_injOn inj]
  · rfl
  intro g hg
  obtain ⟨s, hs, rfl⟩ := Finset.mem_image.mp hg
  exact mem_ownCells.mpr ⟨rfl, nineSems_scoped s hs⟩

theorem ownBufs_split : (ownBufs (thr d i) : sProp (MM F))
    = iprop((bigSep fiveBufs fun b => iprop(∃ f, ((thr d i).loc b : Loc nD τ sig) ↦{fullShare} f)) ∗ restBufs d i) := by
  have inj : Set.InjOn (fun b : Ref sig .scVector => (tileProc i).devRef b) fiveBufs := fun a _ b _ e => Proc.devRef_injective _ e
  unfold SparseCore.Cfg.ownBufs restBufs
  rw [bigSep_sdiff_split (s := ownRefs (τ := τ) (sig := sig) (tileProc i)) (t := fiveBufs.image fun b => (tileProc i).devRef b) ?_, bigSep_image_of_injOn inj]
  · rfl
  intro g hg
  obtain ⟨s, hs, rfl⟩ := Finset.mem_image.mp hg
  have h : ∀ s ∈ fiveBufs, ((tileProc i).devRef s).owner = .proc (tileProc i) := by
    intro s hs
    rw [fiveBufs] at hs
    simp only [Finset.mem_insert, Finset.mem_singleton] at hs
    rcases hs with rfl | rfl | rfl | rfl | rfl <;> rfl
  exact SparseCore.Cfg.mem_ownRefs_of_owner (h s hs)

/-- The arrays a tile is dealt: a share of each it reads. -/
def Shares (q : PosShare TreeShare) (Y D : S2048x16x512.Idx → Elt F .f32) (Lv : S16.Idx → BitVec 32) (Iv : S16.Idx → Elt F .f32) : sProp (MM F) :=
  iprop((yLoc d ↦{q} Y) ∗ (dLoc d ↦{q} D) ∗ (lLoc d ↦{q} Lv) ∗ (iLoc d ↦{q} Iv))

/-- What a tile starts from, out of what it is dealt, -/
theorem kit_in (q : PosShare TreeShare) (Y D : S2048x16x512.Idx → Elt F .f32) (Lv : S16.Idx → BitVec 32) (Iv : S16.Idx → Elt F .f32) :
    iprop(Shares d q Y D Lv Iv ∗ ownBufs (thr d i) ∗ ownSems0 (thr d i)) ⊢ (iprop(Kit d i q Y D Lv Iv ∗ restBufs d i ∗ restSems d i) : sProp (MM F)) := by
  rw [ownSems0_split, ownBufs_split, nineSems_eq, fiveBufs_eq]
  unfold Shares Kit Idles Idle IdleL
  rw [parts (ℓ := yLoc d) q Y, parts (ℓ := dLoc d) q D]
  iintro ⟨⟨⟨Hy0, Hy1, Hy2⟩, ⟨Hd0, Hd1, Hd2⟩, Hl, Hi⟩, ⟨⟨H0, H1, H2, H3, H4⟩, Hrb⟩, ⟨G0, G1, G2, G3, G4, G5, G6, G7, G8⟩, Hrs⟩
  ihave H2 := (slots_split (F := F) (ℓ := (thr d i).loc cc0_scratch2) slotRows slotRows_disjoint slotRows_cover) $$ H2
  ihave H3 := (slots_split (F := F) (ℓ := (thr d i).loc cc0_scratch3) slotRows slotRows_disjoint slotRows_cover) $$ H3
  icases H2 with ⟨A0, A1, A2⟩
  icases H3 with ⟨B0, B1, B2⟩
  rw [slot_set_y 0, slot_set_y 1, slot_set_y 2, slot_set_d 0, slot_set_d 1, slot_set_d 2]
  isplitr [Hrb Hrs]
  · isplitl [A0 A1 A2 B0 B1 B2 G0 G1 G2 G3 G4 G5 Hy0 Hy1 Hy2 Hd0 Hd1 Hd2]
    · isplitl [A0 B0 G0 G3 Hy0 Hd0]
      · isplitl [A0 G0 Hy0]
        · isplitl [A0]; · iexact A0
          isplitl [G0]; · iexact G0
          iexact Hy0
        · isplitl [B0]; · iexact B0
          isplitl [G3]; · iexact G3
          iexact Hd0
      isplitl [A1 B1 G1 G4 Hy1 Hd1]
      · isplitl [A1 G1 Hy1]
        · isplitl [A1]; · iexact A1
          isplitl [G1]; · iexact G1
          iexact Hy1
        · isplitl [B1]; · iexact B1
          isplitl [G4]; · iexact G4
          iexact Hd1
      · isplitl [A2 G2 Hy2]
        · isplitl [A2]; · iexact A2
          isplitl [G2]; · iexact G2
          iexact Hy2
        · isplitl [B2]; · iexact B2
          isplitl [G5]; · iexact G5
          iexact Hd2
    isplitl [Hl]; · iexact Hl
    isplitl [Hi]; · iexact Hi
    isplitl [H0]; · iexact H0
    isplitl [H1]; · iexact H1
    isplitl [H4]; · iexact H4
    isplitl [G6]; · iexact G6
    isplitl [G7]; · iexact G7
    iexact G8
  isplitl [Hrb] <;> iassumption

/-- and back. -/
theorem kit_out (q : PosShare TreeShare) (Y D : S2048x16x512.Idx → Elt F .f32) (Lv : S16.Idx → BitVec 32) (Iv : S16.Idx → Elt F .f32) :
    iprop(Kit d i q Y D Lv Iv ∗ restBufs d i ∗ restSems d i) ⊢ (iprop(Shares d q Y D Lv Iv ∗ ownBufs (thr d i) ∗ ownSems0 (thr d i)) : sProp (MM F)) := by
  rw [ownSems0_split, ownBufs_split, nineSems_eq, fiveBufs_eq]
  unfold Shares Kit Idles Idle IdleL
  rw [parts (ℓ := yLoc d) q Y, parts (ℓ := dLoc d) q D, slot_set_y 0, slot_set_y 1, slot_set_y 2, slot_set_d 0, slot_set_d 1, slot_set_d 2]
  iintro ⟨⟨⟨⟨⟨A0, G0, Hy0⟩, B0, G3, Hd0⟩, ⟨⟨A1, G1, Hy1⟩, B1, G4, Hd1⟩, ⟨A2, G2, Hy2⟩, B2, G5, Hd2⟩, Hl, Hi, H0, H1, H4, G6, G7, G8⟩, Hrb, Hrs⟩
  ihave H2 := (slots_join (F := F) (ℓ := (thr d i).loc cc0_scratch2) slotRows slotRows_disjoint slotRows_cover) $$ [A0 A1 A2]
  · isplitl [A0]; · iexact A0
    isplitl [A1]; · iexact A1
    iexact A2
  ihave H3 := (slots_join (F := F) (ℓ := (thr d i).loc cc0_scratch3) slotRows slotRows_disjoint slotRows_cover) $$ [B0 B1 B2]
  · isplitl [B0]; · iexact B0
    isplitl [B1]; · iexact B1
    iexact B2
  isplitl [Hy0 Hy1 Hy2 Hd0 Hd1 Hd2 Hl Hi]
  · isplitl [Hy0 Hy1 Hy2]
    · isplitl [Hy0]; · iexact Hy0
      isplitl [Hy1]; · iexact Hy1
      iexact Hy2
    isplitl [Hd0 Hd1 Hd2]
    · isplitl [Hd0]; · iexact Hd0
      isplitl [Hd1]; · iexact Hd1
      iexact Hd2
    isplitl [Hl]; · iexact Hl
    iexact Hi
  isplitl [H0 H1 H2 H3 H4 Hrb]
  · isplitr [Hrb]
    · isplitl [H0]; · iexact H0
      isplitl [H1]; · iexact H1
      isplitl [H2]; · iexact H2
      isplitl [H3]; · iexact H3
      iexact H4
    iexact Hrb
  isplitr [Hrs]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexact G8
  iexact Hrs

end Dealt

end Cert.Tail

end
-- ==== Proof.Call.lean ====
/-
  The tiles' call: what goes to each tile and comes back, a tile's program as its task, and the arrays dealt over the tiles.
-/
module

public import Idealize.ShloMosaic.Lib.ShareLeaves
public import proofs.«01_k».proof.Proof.Own

@[expose] public section

set_option maxRecDepth 20000

noncomputable section

namespace Cert.Tail

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

theorem nCore_zero : (K (F := F)).nCore 0 = 2 := rfl
theorem nSub_zero : (K (F := F)).nSub 0 = 16 := rfl

/-- The grid coordinates of core `c`'s subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The same, the bounds written out. -/
def coordsW (c : Fin 2) (s : Fin 16) : grid0.Coords := coordsV c s

/-- The share of the arrays the tile with number `w` reads. -/
def tq (w : Fin 32) : PosShare TreeShare := ShareLeaves.leaf 5 fullShare (w.cast (by decide))

section Deal

variable (d : Dev nD) (Y D : S2048x16x512.Idx → Elt F .f32) (Lv : S16.Idx → BitVec 32) (Iv : S16.Idx → Elt F .f32)
  (fo : S32x16.Idx → Elt F .f32)

/-- What the tile with number `w` is handed: its share of what it reads, its row of the sums. -/
def Part (w : Fin 32) : sProp (MM F) := iprop(Shares d (tq w) Y D Lv Iv ∗ (oLoc d ↦[rowSet w]{fullShare} fo))

/-- The five arrays whole. -/
def Whole : sProp (MM F) :=
  iprop(Shares d fullShare Y D Lv Iv ∗ (oLoc d ↦{fullShare} fo))

theorem rowSet_disjoint : ∀ s ∈ (Finset.univ : Finset (Fin 32)), ∀ t ∈ (Finset.univ : Finset (Fin 32)), s ≠ t → Disjoint (rowSet s) (rowSet t) := by
  intro s _ t _ hst
  rw [Finset.disjoint_left]
  intro x hx hy
  rw [rowSet, Finset.mem_filter] at hx hy
  exact hst (Fin.ext (hx.2.symm.trans hy.2))

theorem rowSet_cover : (Finset.univ : Finset (Fin 32)).biUnion rowSet = Finset.univ := by
  ext x
  simp only [Finset.mem_biUnion, Finset.mem_univ, true_and, iff_true, rowSet, Finset.mem_filter]
  exact ⟨⟨(x 0).val, (x 0).isLt⟩, rfl⟩

theorem leaves32 {ℓ : Loc nD τ sig} (f : Buf (Elt F) ℓ) :
    (ℓ ↦{fullShare} f : sProp (MM F)) = bigSep Finset.univ fun w : Fin 32 => (ℓ ↦{tq w} f) := by
  rw [ShareLeaves.pointsTo_leaves _ f 5 fullShare, bigSep_univ_equiv (finCongr (show 32 = 2 ^ 5 by decide))]
  rfl

theorem rows32 : (oLoc d ↦{fullShare} fo : sProp (MM F)) = bigSep Finset.univ fun w : Fin 32 => (oLoc d ↦[rowSet w]{fullShare} fo) := by
  rw [← pointsTo_biUnion _ _ rowSet_disjoint, rowSet_cover]

/-- A tile's number, from its core and subcore. -/
def number : Fin 2 × Fin 16 ≃ Fin 32 := (Equiv.prodComm _ _).trans finProdFinEquiv

theorem number_eq (c : Fin 2) (s : Fin 16) : number (c, s) = widF (coordsW c s) := by
  apply Fin.ext
  show c.val + 2 * s.val = s.val * 2 + c.val
  omega

/-- The arrays dealt over the two cores' tiles. -/
theorem deal : Whole d Y D Lv Iv fo = bigSep Finset.univ fun c : Fin 2 => bigSep Finset.univ fun s : Fin 16 => Part d Y D Lv Iv fo (widF (coordsW c s)) := by
  unfold Whole Shares
  rw [leaves32 (ℓ := yLoc d), leaves32 (ℓ := dLoc d), leaves32 (ℓ := lLoc d), leaves32 (ℓ := iLoc d), rows32 d fo, ← bigSep_sep', ← bigSep_sep', ← bigSep_sep', ← bigSep_sep',
    bigSep_univ_equiv number, bigSep_univ_prod]
  refine bigSep_congr fun c _ => bigSep_congr fun s _ => ?_
  rw [number_eq]
  rfl

end Deal

section Task

variable (d : Dev nD) (i : grid0.Coords)

/-- A tile's program as a task of the launch. -/
theorem tile_body (Y D : S2048x16x512.Idx → Elt F .f32) (Lv : S16.Idx → BitVec 32) (Iv : S16.Idx → Elt F .f32)
    (fo : S32x16.Idx → Elt F .f32) (hL : InRange (lens Lv)) (O : CellTallies nD τ sig (HIx 1)) (W : Waits sig (HIx 1)) (hO : ∀ g, O g none = 0) :
    iprop(levAts (K (F := F)).L (K (F := F)).lev ∗ emp ∗ Part d Y D Lv Iv fo (widF i) ∗ scopedBufs (thr d i) ∗ scopedSems0 (thr d i) ∗ owes (thr d i) O W)
      ⊢ wp frame (wpE (defs₀ (F := F)) 𝒱₀ (thr d i) none) Set.univ (tileProg (F := F) i) fun _ =>
        iprop(Part d Y D Lv Iv (tails Y D Lv Iv) (widF i) ∗ scopedBufs (thr d i) ∗ scopedSems0 (thr d i)
          ∗ ∃ W', ⌜∀ p ∈ W', p ∈ W ∨ p.2 = none⌝ ∗ owes (thr d i) O W') := by
  rw [(K (F := F)).scopedBufs_V facts d ((i 0).castLE hcore0) ((i 1).castLE hsub0), SparseCore.Cfg.scopedSems0_V (Val := Elt F) d ((i 0).castLE hcore0) ((i 1).castLE hsub0)]
  unfold Part
  iintro ⟨Hlv, -, ⟨Hs, Ho⟩, Hb, Hm, HO⟩
  ihave Hmw := (show levAts (K (F := F)).L (K (F := F)).lev ⊢ Transfers.MayWaits (thr d i) (none : HIx 1) O from (K (F := F)).mayWaits_none (thr := thr d i) hO) $$ Hlv
  ihave Hk := (kit_in d i (tq (widF i)) Y D Lv Iv) $$ [Hs Hb Hm]
  · isplitl [Hs]; · iexact Hs
    isplitl [Hb] <;> iassumption
  icases Hk with ⟨Hk, Hrest⟩
  iapply (wp_wand_r frame (wpE (defs₀ (F := F)) 𝒱₀ (thr d i) none) Set.univ)
  isplitr [Hrest]
  · iapply (wp_tile d i (tq (widF i)) Y D Lv Iv hL O W fo)
    isplitl [Hk]; · iexact Hk
    isplitl [Ho]; · iexact Ho
    isplitl [HO]
    · unfold Owing
      iexists W
      isplitr; · ipureintro; exact fun p hp => .inl hp
      iexact HO
    iexact Hmw
  iintro %_ ⟨Hk, Ho, HO⟩
  ihave H := (kit_out d i (tq (widF i)) Y D Lv Iv) $$ [Hk Hrest]
  · isplitl [Hk]; · iexact Hk
    iexact Hrest
  icases H with ⟨Hs, Hb, Hm⟩
  isplitl [Hs Ho]
  · isplitl [Hs]; · iexact Hs
    iexact Ho
  isplitl [Hb]; · iexact Hb
  isplitl [Hm]; · iexact Hm
  unfold Owing
  iexact HO

end Task

theorem defs₀_vector (c : Fin τ.nSC) (s : Fin τ.nSub) : defs₀ (F := F) (.scVector c s) 0 () = SparseCore.onTile hcore0 hsub0 (fun c s => tileProg (F := F) (coordsV c s)) ⟨⟩ c s := rfl

section Pay

variable (m : (ℓ : Loc nD τ sig) → Buf (Elt F) ℓ) (Iv : Dev nD → S16.Idx → Elt F .f32)

/-- The call's hand-overs: each core its tiles' parts, each tile its own; back, the same with the sums in their rows. -/
def P : (K (F := F)).Pay (nD := nD) (Val := Elt F) (Name := ℕ) (U := UU) where
  st := fun q d c => match q with
    | 0 => bigSep Finset.univ fun s : Fin 16 => Part d (m (yLoc d)) (m (dLoc d)) (m (lLoc d)) (Iv d) (m (oLoc d)) (widF (coordsW (Fin.cast nCore_zero c) s))
  dn := fun q d c => match q with
    | 0 => bigSep Finset.univ fun s : Fin 16 => Part d (m (yLoc d)) (m (dLoc d)) (m (lLoc d)) (Iv d)
        (tails (m (yLoc d)) (m (dLoc d)) (m (lLoc d)) (Iv d)) (widF (coordsW (Fin.cast nCore_zero c) s))
  go := fun q d c i => match q with
    | 0 => Part d (m (yLoc d)) (m (dLoc d)) (m (lLoc d)) (Iv d) (m (oLoc d)) (widF (coordsW (Fin.cast nCore_zero c) (Fin.cast nSub_zero i)))
  td := fun q d c i => match q with
    | 0 => Part d (m (yLoc d)) (m (dLoc d)) (m (lLoc d)) (Iv d) (tails (m (yLoc d)) (m (dLoc d)) (m (lLoc d)) (Iv d))
        (widF (coordsW (Fin.cast nCore_zero c) (Fin.cast nSub_zero i)))
  x := fun _ _ => iprop(emp)

instance Part_storable (d : Dev nD) (Y D : S2048x16x512.Idx → Elt F .f32) (Lv : S16.Idx → BitVec 32) (Jv : S16.Idx → Elt F .f32) (fo : S32x16.Idx → Elt F .f32) (w : Fin 32) :
    BI.Storable (upEmb : UEmb _ (MM F)) (Part d Y D Lv Jv fo w) := by unfold Part Shares; infer_instance

instance P_storable : (P m Iv).IsStorable where
  st q d c := match q with
    | 0 => (inferInstance : BI.Storable (upEmb : UEmb _ (MM F)) (bigSep Finset.univ fun s : Fin 16 => Part d (m (yLoc d)) (m (dLoc d)) (m (lLoc d)) (Iv d) (m (oLoc d)) (widF (coordsW (Fin.cast nCore_zero c) s))))
  dn q d c := match q with
    | 0 => (inferInstance : BI.Storable (upEmb : UEmb _ (MM F)) (bigSep Finset.univ fun s : Fin 16 => Part d (m (yLoc d)) (m (dLoc d)) (m (lLoc d)) (Iv d)
        (tails (m (yLoc d)) (m (dLoc d)) (m (lLoc d)) (Iv d)) (widF (coordsW (Fin.cast nCore_zero c) s))))
  go q d c i := match q with
    | 0 => (Part_storable d (m (yLoc d)) (m (dLoc d)) (m (lLoc d)) (Iv d) (m (oLoc d)) (widF (coordsW (Fin.cast nCore_zero c) (Fin.cast nSub_zero i))))
  td q d c i := match q with
    | 0 => (Part_storable d (m (yLoc d)) (m (dLoc d)) (m (lLoc d)) (Iv d) (tails (m (yLoc d)) (m (dLoc d)) (m (lLoc d)) (Iv d))
        (widF (coordsW (Fin.cast nCore_zero c) (Fin.cast nSub_zero i))))

theorem obl_post {A B C : sProp (MM F)} {t : Thread nD τ} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %h, HO⟩
  isplitl [HA]; · iexact HA
  isplitl [HB]; · iexact HB
  isplitl [HC]; · iexact HC
  iexists W'
  isplitr; · ipureintro; exact fun p hp => (h p hp).imp_right .inl
  iexact HO

/-- Each tile's task. -/
theorem tileObl (hL : ∀ d, InRange (lens (m (lLoc d)))) : (K (F := F)).TileObl (D (F := F)) 𝒱 (P m Iv) v₀ 0 := by
  intro d c i O W hO _ _
  simp only [show (P m Iv).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body d (coordsV ⟨((K (F := F)).core 0 c).val, hci.1⟩ ⟨((K (F := F)).sub 0 i).val, hci.2⟩) _ _ _ _ _ (hL d) O W hO).trans
    (wp_mono frame _ _ fun _ => obl_post)

theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp (MM F)) :
    (bigSep Finset.univ fun c : Fin ((K (F := F)).nCore 0) => Φ (Fin.cast nCore_zero c)) = bigSep Finset.univ Φ :=
  bigSep_congr fun _ _ => congrArg Φ (Fin.ext rfl)

/-- What is held task by task is held tile by tile, and back. -/
theorem give (Φ Ψ : Fin 16 → sProp (MM F)) : bigSep Finset.univ Φ
    ⊢ |={Set.univ}=> iprop((bigSep Finset.univ fun i : Fin ((K (F := F)).nSub 0) => Φ (Fin.cast nSub_zero i))
      ∗ ((bigSep Finset.univ fun i : Fin ((K (F := F)).nSub 0) => Ψ (Fin.cast nSub_zero i)) -∗ bigSep Finset.univ Ψ)) := by
  rw [bigSep_tasks, bigSep_tasks]
  iintro H
  imodintro
  isplitl [H]; · iexact H
  iintro H
  iexact H

/-- A core hands its tiles their parts and gathers them. -/
theorem vecSplit : (K (F := F)).VecSplit' (P m Iv) 0 := by
  intro d c
  exact give (fun s : Fin 16 => Part d (m (yLoc d)) (m (dLoc d)) (m (lLoc d)) (Iv d) (m (oLoc d)) (widF (coordsW (Fin.cast nCore_zero c) s)))
    (fun s : Fin 16 => Part d (m (yLoc d)) (m (dLoc d)) (m (lLoc d)) (Iv d) (tails (m (yLoc d)) (m (dLoc d)) (m (lLoc d)) (Iv d))
      (widF (coordsW (Fin.cast nCore_zero c) s)))

/-- What the call takes, from every core's part at once, -/
theorem st_eq (d : Dev nD) : (bigSep Finset.univ fun c : Fin ((K (F := F)).nCore 0) => (P m Iv).st 0 d c)
    = Whole d (m (yLoc d)) (m (dLoc d)) (m (lLoc d)) (Iv d) (m (oLoc d)) := by
  rw [deal]
  exact bigSep_cores fun c => bigSep Finset.univ fun s : Fin 16 => Part d (m (yLoc d)) (m (dLoc d)) (m (lLoc d)) (Iv d) (m (oLoc d)) (widF (coordsW c s))
/-- and what it leaves. -/
theorem dn_eq (d : Dev nD) : (bigSep Finset.univ fun c : Fin ((K (F := F)).nCore 0) => (P m Iv).dn 0 d c)
    = Whole d (m (yLoc d)) (m (dLoc d)) (m (lLoc d)) (Iv d) (tails (m (yLoc d)) (m (dLoc d)) (m (lLoc d)) (Iv d)) := by
  rw [deal]
  exact bigSep_cores fun c => bigSep Finset.univ fun s : Fin 16 => Part d (m (yLoc d)) (m (dLoc d)) (m (lLoc d)) (Iv d)
    (tails (m (yLoc d)) (m (dLoc d)) (m (lLoc d)) (Iv d)) (widF (coordsW c s))

end Pay

end Cert.Tail

end
-- ==== Proof.Prefix.lean ====
/- The kernel on the first half of the rows: at each of its eight points it adds a block's masked squared differences,
   row by row, into one [16, 512] block, which the first point starts from zero. -/
module

public import proofs.«01_k».proof.Proof.Base
public import Idealize.ShloMosaic.Lib.Pipeline.Value
public import Idealize.ShloMosaic.Lib.Pipeline.FrameBody

@[expose] public section

set_option maxRecDepth 20000

noncomputable section

namespace Cert.Tail

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The block of zeros the first point starts from. -/
def zeroBlock : FVec F S16x512 .f32 := broadcast S16x512 (Scalar.ofBits .f32 0x00000000#32 : F .f32)

/-- Which rows of the block of point `i` lie before the sequence's end. -/
def maskBlock (i : grid1.Coords) (l : Vec F S1x16 .i32) : IVec S128x16x512 1 :=
  broadcastTo S128x16x512 (shapeCast S128x16x1
    (cmpi .slt (addi (iota .tc S128x16x1 32 [0] iota_S128x16x1_d0_w32) (broadcast S128x16x1 (Scalar.muli (BitVec.ofNat 32 (i 0).val) 128#32)))
      (broadcastTo S128x16x1 (shapeCast S1x16x1 (shapeCast S1x16 l shapeCasts_S1x16_S1x16) shapeCasts_S1x16_S1x16x1) broadcasts_S1x16x1_S128x16x1))
    shapeCasts_S128x16x1_S128x16x1) broadcasts_S128x16x1_S128x16x512

/-- The block's squared differences where the mask holds, zero elsewhere. -/
def squares (i : grid1.Coords) (y z : Vec F S128x16x512 .f32) (l : Vec F S1x16 .i32) : FVec F S128x16x512 .f32 :=
  select (maskBlock i l) (mulf (subf z y) (subf z y)) (broadcast S128x16x512 (Scalar.ofBits .f32 0x00000000#32 : F .f32))

/-- What point `i` makes of the running block `x`. -/
def addBlock (i : grid1.Coords) (y z : Vec F S128x16x512 .f32) (l : Vec F S1x16 .i32) (x : FVec F S16x512 .f32) : FVec F S16x512 .f32 :=
  addf x (multiReduction .add [0] S16x512 (squares i y z l) 0x00000000#32 reduces_S128x16x512_S16x512 (.inl rfl) rfl)

section Whole
variable {κ : Kind} {sp : Space} {s : Shape} {e : EltTy}
/-- Loading a whole memref reads it. -/
theorem read_all (v : View sig κ sp s e) (f : v.ty.Contents (Elt F)) {off : Fin s.rank → ℕ} (ho : off = fun _ => 0)
    (inb : ∀ a, off a + s.size a ≤ s.size a) :
    v.readAt (Elt F) (Rect.unit (s := s) off s.size inb).toLoadRect f = v.read (Elt F) f := by
  rw [View.readAt_eq_ld]
  exact View.ld_unit_zero ho inb _
/-- What reads back after the whole memref is overwritten. -/
theorem read_overwritten {cs : CoreSpace} (m : Memref sig κ cs s e) (f : m.view.ty.Contents (Elt F)) (w : s.Idx → Elt F e) {off : Fin s.rank → ℕ} (ho : off = fun _ => 0)
    (inb : ∀ a, off a + s.size a ≤ s.size a) :
    m.view.read (Elt F) ((m.access (Rect.unit (s := s) off s.size inb)).write (Elt F) f w Finset.univ) = w := by
  subst ho
  funext y
  have e1 : y = (Rect.unit (s := s) (fun _ => 0) s.size inb).emb y := by
    funext a; apply Fin.ext
    show (y a).val = 0 + 1 * (y a).val
    omega
  have e2 := View.write_emb_of_mem (v := m.access (Rect.unit (s := s) (fun _ => 0) s.size inb)) (Val := Elt F) f w (Finset.mem_univ y)
  have e3 : m.view.emb y = (m.access (Rect.unit (s := s) (fun _ => 0) s.size inb)).emb y := congrArg m.view.emb e1
  rw [View.read_apply, e3]
  refine (congrArg _ e2).trans ?_
  rw [cast_cast, cast_eq]
/-- A whole-memref store stays within the memref. -/
theorem access_subset {cs : CoreSpace} (m : Memref sig κ cs s e) (r : Rect s) : (m.access r : View sig κ _ _ _).setOn Finset.univ ⊆ m.view.set := by
  rw [View.setOn_univ]
  exact View.set_slice_subset m.view r
end Whole

theorem zero2 : (![0, 0] : Fin 2 → ℕ) = fun _ => 0 := funext fun a => by fin_cases a <;> rfl
theorem zero3 : (![0, 0, 0] : Fin 3 → ℕ) = fun _ => 0 := funext fun a => by fin_cases a <;> rfl

/-- The test of the first point. -/
theorem first_iff (i : grid1.Coords) :
    (Scalar.cmpi .ne (Scalar.extui (Scalar.cmpi .eq (BitVec.ofNat 32 (i 0).val) 0#32) : BitVec 32) 0#32 = 1#1) ↔ (i 0).val = 0 := by
  have hlt : (i 0).val < 8 := (i 0).isLt
  generalize (i 0).val = n at hlt ⊢
  revert n
  decide

/-- Adding a block of sums into the running block, as the kernel writes it. -/
def lastPart (a4 : Memref sig .tc .vmem S16x512 .f32) (v : FVec F S16x512 .f32) : Prog (TpuEff nD τ sig (Elt F) Λ₀ .tc) PUnit := do
  let u : Vec F S16x512 .f32 ← Prog.lift (.load a4 (Rect.unit (s := S16x512) ![0, 0] S16x512.size inb_S16x512_S16x512_0_0).toLoadRect (View.loadsAt_vmem h_S16x512))
  let _ : Vec F S16x512 .f32 ← Prog.lift (.load a4 (Rect.unit (s := S16x512) ![0, 0] S16x512.size inb_S16x512_S16x512_0_0).toLoadRect (View.loadsAt_vmem h_S16x512))
  Prog.lift (.store a4 (Rect.unit (s := S16x512) ![0, 0] S16x512.size inb_S16x512_S16x512_0_0) (addf (shapeCast S16x512 u shapeCasts_S16x512_S16x512) v)
    Finset.univ (View.stores_vmem_bits_univ h_S16x512 rfl) (.inl rfl))

/-- It leaves the sum. -/
theorem wp_lastPart (d : Dev nD) (a4 : Memref sig .tc .vmem S16x512 .f32) (v : FVec F S16x512 .f32) (f : Buf (Elt F) (a4.view.loc (T d)))
    (Q : PUnit → sProp (MM F)) :
    iprop(a4.view.loc (T d) ↦[a4.view.set]{fullShare} f)
      ⊢ iprop((owns (T d) a4 fullShare (addf (a4.view.read (Elt F) f) v) -∗ Q ⟨⟩)
        -∗ wp frame (wpE (defs₀ (F := F)) 𝒱₀ (T d) none) Set.univ (lastPart a4 v) Q) := by
  unfold owns lastPart
  iintro H Hk
  simp only [Prog.lift, Prog.bind_op, Prog.bind_ret, pure_bind]
  iapply (wp_load 𝒱₀ (T d) none Set.univ (View.setOn_subset_set a4.view _)) $$ H
  iintro H
  iapply (wp_load 𝒱₀ (T d) none Set.univ (View.setOn_subset_set a4.view _)) $$ H
  iintro H
  iapply (wp_store 𝒱₀ (T d) none Set.univ (m := a4) (r := Rect.unit (s := S16x512) ![0, 0] S16x512.size inb_S16x512_S16x512_0_0) (f := f)
    (access_subset a4 _)) $$ H
  iintro H
  rw [wp_ret]
  imodintro
  iapply Hk
  iexists _
  isplitr
  swap; · iexact H
  ipureintro
  rw [read_overwritten a4 _ _ zero2, read_all a4.view f zero2, shapeCast_self]

theorem turn {A B C E : sProp (MM F)} : iprop(((A ∗ B) ∗ C) ∗ E) ⊢ iprop(E ∗ C ∗ B ∗ A) := by
  iintro ⟨⟨⟨HA, HB⟩, HC⟩, HE⟩
  isplitl [HE]; · iexact HE
  isplitl [HC]; · iexact HC
  isplitl [HB]; · iexact HB
  iexact HA

theorem turn' {A B C E : sProp (MM F)} : iprop(((A ∗ B) ∗ C) ∗ E) ⊢ iprop(C ∗ B ∗ A ∗ E) := by
  iintro ⟨⟨⟨HA, HB⟩, HC⟩, HE⟩
  isplitl [HC]; · iexact HC
  isplitl [HB]; · iexact HB
  isplitl [HA]; · iexact HA
  iexact HE

/-- The same beside the inputs. -/
theorem lastPart_entails (d : Dev nD) (a1 : Memref sig .tc .vmem S1x16 .i32) (a2 a3 : Memref sig .tc .vmem S128x16x512 .f32)
    (a4 : Memref sig .tc .vmem S16x512 .f32) (i : grid1.Coords) (f1 : Buf (Elt F) (a1.view.loc (T d))) (f2 : Buf (Elt F) (a2.view.loc (T d)))
    (f3 : Buf (Elt F) (a3.view.loc (T d))) (f4 : Buf (Elt F) (a4.view.loc (T d)))
    (l : S1x16.Idx → Elt F .i32) (y z : S128x16x512.Idx → Elt F .f32) (x : S16x512.Idx → Elt F .f32)
    (e1 : a1.view.read (Elt F) f1 = l) (e2 : a2.view.read (Elt F) f2 = y) (e3 : a3.view.read (Elt F) f3 = z) (e4 : a4.view.read (Elt F) f4 = x) :
    (iprop((a1.view.loc (T d) ↦[a1.view.set]{fullShare} f1) ∗ (a2.view.loc (T d) ↦[a2.view.set]{fullShare} f2)
        ∗ (a3.view.loc (T d) ↦[a3.view.set]{fullShare} f3) ∗ (a4.view.loc (T d) ↦[a4.view.set]{fullShare} f4)) : sProp (MM F))
      ⊢ wp frame (wpE (defs₀ (F := F)) 𝒱₀ (T d) none) Set.univ
          (lastPart a4 (multiReduction .add [0] S16x512 (squares i y z l) 0x00000000#32 reduces_S128x16x512_S16x512 (.inl rfl) rfl)) fun _ =>
          iprop((∃ f, ⌜a1.view.read (Elt F) f = l⌝ ∗ (a1.view.loc (T d) ↦[a1.view.set]{fullShare} f))
            ∗ (∃ f, ⌜a2.view.read (Elt F) f = y⌝ ∗ (a2.view.loc (T d) ↦[a2.view.set]{fullShare} f))
            ∗ (∃ f, ⌜a3.view.read (Elt F) f = z⌝ ∗ (a3.view.loc (T d) ↦[a3.view.set]{fullShare} f))
            ∗ (∃ f, ⌜a4.view.read (Elt F) f = addBlock i y z l x⌝ ∗ (a4.view.loc (T d) ↦[a4.view.set]{fullShare} f))) := by
  subst e4
  iintro ⟨H1, H2, H3, H4⟩
  iapply (wp_lastPart d a4 _ f4 _) $$ H4
  iintro H4
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  unfold owns addBlock
  iexact H4

/-- The kernel at one point: it leaves its inputs as they are and adds the block. -/
theorem prefix_body (d : Dev nD) (i : grid1.Coords)
    (a1 : Memref sig .tc .vmem S1x16 .i32) (h1 : a1.IsWhole) (a2 : Memref sig .tc .vmem S128x16x512 .f32) (h2 : a2.IsWhole)
    (a3 : Memref sig .tc .vmem S128x16x512 .f32) (h3 : a3.IsWhole) (a4 : Memref sig .tc .vmem S16x512 .f32) (h4 : a4.IsWhole)
    (l : S1x16.Idx → Elt F .i32) (y z : S128x16x512.Idx → Elt F .f32) (x : S16x512.Idx → Elt F .f32) :
    (iprop(owns (T d) a1 fullShare l ∗ owns (T d) a2 fullShare y ∗ owns (T d) a3 fullShare z ∗ owns (T d) a4 fullShare x) : sProp (MM F))
      ⊢ wp frame (wpE (defs₀ (F := F)) 𝒱₀ (T d) none) Set.univ (cc1__tc_prefix_body i a1 h1 a2 h2 a3 h3 a4 h4) fun _ =>
          iprop(owns (T d) a1 fullShare l ∗ owns (T d) a2 fullShare y ∗ owns (T d) a3 fullShare z
            ∗ owns (T d) a4 fullShare (addBlock i y z l (if (i 0).val = 0 then zeroBlock else x))) := by
  unfold owns
  iintro ⟨⟨%f1, %e1, H1⟩, ⟨%f2, %e2, H2⟩, ⟨%f3, %e3, H3⟩, ⟨%f4, %e4, H4⟩⟩
  unfold cc1__tc_prefix_body
  simp only [Prog.lift, Prog.bind_op, Prog.bind_ret, pure_bind]
  iapply (wp_load 𝒱₀ (T d) none Set.univ (View.setOn_subset_set a3.view _)) $$ H3
  iintro H3
  iapply (wp_load 𝒱₀ (T d) none Set.univ (View.setOn_subset_set a2.view _)) $$ H2
  iintro H2
  iapply (wp_load 𝒱₀ (T d) none Set.univ (View.setOn_subset_set a1.view _)) $$ H1
  iintro H1
  rw [read_all a3.view f3 zero3, read_all a2.view f2 zero3, read_all a1.view f1 zero2, e1, e2, e3]
  by_cases h0 : (i 0).val = 0
  · rw [dif_pos ((first_iff i).mpr h0), if_pos h0]
    simp only [Prog.bind_op, pure_bind, Prog.bind_ret]
    iapply (wp_load 𝒱₀ (T d) none Set.univ (View.setOn_subset_set a4.view _)) $$ H4
    iintro H4
    iapply (wp_store 𝒱₀ (T d) none Set.univ (m := a4) (r := Rect.unit (s := S16x512) ![0, 0] S16x512.size inb_S16x512_S16x512_0_0) (f := f4)
      (access_subset a4 _)) $$ H4
    iintro H4
    refine BI.Entails.trans ?_ (lastPart_entails d a1 a2 a3 a4 i f1 f2 f3
      ((a4.access (Rect.unit (s := S16x512) ![0, 0] S16x512.size inb_S16x512_S16x512_0_0)).write (Elt F) f4
        (broadcast S16x512 (Scalar.ofBits .f32 0x00000000#32 : F .f32)) Finset.univ) l y z zeroBlock e1 e2 e3
      (read_overwritten a4 f4 _ zero2 inb_S16x512_S16x512_0_0))
    exact turn' (F := F)
  · rw [dif_neg (fun h => h0 ((first_iff i).mp h)), if_neg h0]
    refine BI.Entails.trans ?_ (lastPart_entails d a1 a2 a3 a4 i f1 f2 f3 _ l y z x e1 e2 e3 e4)
    exact turn (F := F)

end Cert.Tail

end
-- ==== Proof.Region.lean ====
/- The pipeline of the first half's kernel: what its windows hold at each point, and the pipeline's run as a step of
   the host's program, from any contents of the host's buffers. -/
module

public import proofs.«01_k».proof.Proof.Prefix
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.ValueKit.Geometry

@[expose] public section

set_option maxRecDepth 20000

noncomputable section

namespace Cert.Tail

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation cellOf)

variable {F : FTy → Type} [FloatOps F]

/-- The contents of the host's buffers on device `d`. -/
abbrev Store (F : FTy → Type) (d : Dev nD) : Type := (b : Ref sig .tc) → Buf (Elt F) ((T d : Thread nD τ).loc b)

section Data
variable {d : Dev nD} (V : Store F d)

/-- The lengths as point `t` finds them. -/
abbrev lBlk (t : Fin cfg1.N) : S1x16.Idx → Elt F .i32 := ((cfg1.win 0).blk t).view.read (Elt F) (V main_v6)
/-- The first array's block at point `t`. -/
abbrev yBlk (t : Fin cfg1.N) : S128x16x512.Idx → Elt F .f32 := ((cfg1.win 1).blk t).view.read (Elt F) (V main_arg0)
/-- The second array's block at point `t`. -/
abbrev dBlk (t : Fin cfg1.N) : S128x16x512.Idx → Elt F .f32 := ((cfg1.win 2).blk t).view.read (Elt F) (V main_arg1)

/-- The running block before point `n`. -/
def acc : ℕ → S16x512.Idx → Elt F .f32
  | 0 => zeroBlock
  | n + 1 => if h : n < cfg1.N then addBlock (grid1.coords ⟨n, h⟩) (yBlk V ⟨n, h⟩) (dBlk V ⟨n, h⟩) (lBlk V ⟨n, h⟩) (acc n) else acc n

/-- The pipeline's data from contents `V`. -/
def dat1 (d : Dev nD) (V : Store F d) : Dat τ (Elt F) (HIx 1) ℕ UU ℕ cfg1 d where
  A w := V (Pipeline.arrRef spec1 w)
  after w t := match w with
    | ⟨0, _⟩ => lBlk V t
    | ⟨1, _⟩ => yBlk V t
    | ⟨2, _⟩ => dBlk V t
    | ⟨3, _⟩ => acc V (t.val + 1)
  Φ _ := BI.emp
  q _ := fullShare
  owed _ := 0
  recorded _ := {p | (K (F := F)).lev (T d, p.1) p.2 ≤ 8 * (SparseCore.Cfg.Blocks.fst 1 1 1)}

theorem before_0 (t : Fin cfg1.N) (x) : (dat1 d V).before 0 t x = lBlk V t :=
  ((dat1 d V).before_in_eq_fetched 0 rfl (fun _ => rfl) (fun _ _ _ => rfl) (fun _ => by dsimp only [dat1]; rfl) t x).trans (by
    unfold Dat.fetched Dat.blockOf; dsimp only [dat1]; rfl)
theorem before_1 (t : Fin cfg1.N) (x) : (dat1 d V).before 1 t x = yBlk V t :=
  ((dat1 d V).before_in_eq_fetched 1 rfl (fun _ => rfl) (fun _ _ _ => rfl) (fun _ => by dsimp only [dat1]; rfl) t x).trans (by
    unfold Dat.fetched Dat.blockOf; dsimp only [dat1]; rfl)
theorem before_2 (t : Fin cfg1.N) (x) : (dat1 d V).before 2 t x = dBlk V t :=
  ((dat1 d V).before_in_eq_fetched 2 rfl (fun _ => rfl) (fun _ _ _ => rfl) (fun _ => by dsimp only [dat1]; rfl) t x).trans (by
    unfold Dat.fetched Dat.blockOf; dsimp only [dat1]; rfl)
theorem before_3 (t : Fin cfg1.N) (x) (ht : t.val ≠ 0) : (dat1 d V).before 3 t x = acc V t.val := by
  have hN : cfg1.N = 8 := N_1
  have hlt : t.val < cfg1.N := t.isLt
  rw [(dat1 d V).before_out_kept 3 rfl t ht (by
    rw [← Bool.not_eq_true]
    intro h
    have := (flush1_3 _).mp h
    simp only at this
    omega) (fun _ => rfl) (fun _ _ => rfl)]
  dsimp only [dat1]
  rw [Nat.sub_add_cancel (Nat.pos_of_ne_zero ht)]

/-- The coordinate of a point is its number. -/
theorem coords_val : ∀ t : Fin cfg1.N, (grid1.coords t 0).val = t.val := by decide +kernel

theorem acc_succ (t : Fin cfg1.N) :
    acc V (t.val + 1) = addBlock (grid1.coords t) (yBlk V t) (dBlk V t) (lBlk V t) (if (grid1.coords t 0).val = 0 then zeroBlock else acc V t.val) := by
  rw [acc, dif_pos t.isLt]
  by_cases h : t.val = 0
  · rw [if_pos ((coords_val t).trans h)]
    exact congrArg _ (show acc V t.val = zeroBlock by rw [h]; rfl)
  · rw [if_neg (fun e => h ((coords_val t).symm.trans e))]

/-- The kernel at one point takes the windows from what the pipeline leaves there to what it must find after. -/
theorem body_obligation : BodyObligation (dat1 d V) (defs₀ (F := F)) 𝒱₀ none Set.univ := fun t => by
  rw [bigSep_W1, bigSep_W1]
  rw [show (dat1 d V).Φ t.castSucc = BI.emp from rfl, show (dat1 d V).Φ t.succ = BI.emp from rfl,
    show (dat1 d V).owesAt none t.succ = (dat1 d V).owesAt none t.castSucc from rfl]
  iintro ⟨HΦ, Howes, ⟨%x0, H0⟩, ⟨%x1, H1⟩, ⟨%x2, H2⟩, ⟨%x3, H3⟩⟩
  rw [before_0, before_1, before_2]
  have e3 : addBlock (grid1.coords t) (yBlk V t) (dBlk V t) (lBlk V t) (if (grid1.coords t 0).val = 0 then zeroBlock else (dat1 d V).before 3 t x3)
      = acc V (t.val + 1) := by
    rw [acc_succ]
    by_cases h : t.val = 0
    · rw [if_pos ((coords_val t).trans h), if_pos ((coords_val t).trans h)]
    · rw [before_3 V t x3 h]
  iapply (wp_wand_r frame _ Set.univ)
  isplitl [H0 H1 H2 H3]
  · iapply (prefix_body d (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) (lBlk V t) (yBlk V t) (dBlk V t) ((dat1 d V).before 3 t x3))
    isplitl [H0]; · iexact H0
    isplitl [H1]; · iexact H1
    isplitl [H2]; · iexact H2
    iexact H3
  rw [e3]
  iintro %_ ⟨H0, H1, H2, H3⟩
  isplitl [HΦ]; · iexact HΦ
  isplitl [Howes]; · iexact Howes
  isplitl [H0]; · dsimp only [dat1]; iexact H0
  isplitl [H1]; · dsimp only [dat1]; iexact H1
  isplitl [H2]; · dsimp only [dat1]; iexact H2
  dsimp only [dat1]; iexact H3

/-- The result's array after the run is the last running block. -/
theorem arrAt_out : (dat1 d V).arrAt 3 cfg1.N = (acc V 8 : S16x512.Idx → Elt F .f32) :=
  (dat1 d V).arrAt_eq_of_after_last 3 t1_7 (by decide +kernel) _ fun j => by
    dsimp only [dat1]
    rw [cast_eq]
    rfl

end Data

abbrev adm : (p : Fin 1) → (pcfgs (F := F) p).Adm := fun p => (cfgs p).toPCfg_adm

/-- The pipelines' data, from contents `V d` on each device. -/
def pdats (V : (d : Dev nD) → Store F d) : (p : Fin 1) → (d : Dev nD) → Dat τ (Elt F) (HIx 1) ℕ UU ℕ (Pipeline.pin (pcfgs (F := F)) adm p) d
  | ⟨0, _⟩ => fun d => dat1 d (V d)

/-- What the core owes: nothing, the waits it has recorded all of the calls so far. -/
def settled (d : Dev nD) : sProp (MM F) :=
  iprop(∃ W, ⌜(K (F := F)).WBelow (T d) W (8 * (SparseCore.Cfg.Blocks.fst 1 1 1))⌝ ∗ owes (T d) (0 : CellTallies nD τ sig (HIx 1)) W)

/-- The contents after the run: the result's array replaced. -/
def afterRegion {d : Dev nD} (V : Store F d) : Store F d := Function.update V main_v7 (acc V 8)
theorem afterRegion_self {d : Dev nD} (V : Store F d) : afterRegion V main_v7 = (acc V 8 : S16x512.Idx → Elt F .f32) := Function.update_self _ _ _

set_option backward.isDefEq.respectTransparency.types false in
/-- The pipeline's run as a step of the host's program. -/
def reg (V : (d : Dev nD) → Store F d) :
    Pipeline.RegionSeg (pcfgs (F := F)) adm (pdats V) none (defs₀ (F := F)) 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody d := (body_obligation (V d)).loose
  hwaits := Pipeline.hwaits_of_owed_zero _ _ _ _ _ _ 0 fun _ _ => rfl
  pre d := iprop(unscopedBufs d (V d) ∗ settled d)
  post d := iprop(unscopedBufs d (afterRegion (V d)) ∗ settled d)
  X _ := BI.emp
  Y _ := BI.emp
  Z d := Pipeline.unscopedRest (Ix := HIx 1) (Name := ℕ) (U := UU) (Lvl := ℕ) spec1 d (V d)
  hentry d := by
    rw [Pipeline.ownSems0_none]
    have hsplit := Pipeline.arrays_of_unscopedBufs (p := 0) (pcfgs (F := F)) adm (pdats V) (launch1).win (launch1).arr_whole d
      ((pdats V 0 d).share_full fun _ => rfl) (V d) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold settled Pipeline.Dat.owesAt Pipeline.owesWithin
      icases HO with ⟨%W, %hW, HO⟩; iexists W; isplitr; · ipureintro; exact fun p hp => Or.inl (hW p hp)
      iexact HO
    isplitr; · iempintro
    iexact Hrest
  hin d := by
    rw [show (pdats V 0 d).Φ 0 = BI.emp from rfl]
    rw [show (Pipeline.scopedRest (Pipeline.pin (pcfgs (F := F)) adm 0).spec d : sProp (MM F)) = BI.emp from scopedRest1_eq d]
    iintro ⟨-, -, Hr⟩; iexact Hr
  hout d := by
    rw [Pipeline.ownSems0_none, show (pdats V 0 d).Φ (Fin.last _) = BI.emp from rfl]
    rw [show (Pipeline.scopedRest (Pipeline.pin (pcfgs (F := F)) adm 0).spec d : sProp (MM F)) = BI.emp from scopedRest1_eq d]
    iintro Hr
    isplitr; · iempintro
    isplitr; · iempintro
    iexact Hr
  hexit d := by
    have hjoin := Pipeline.unscopedBufs_of_arrays (p := 0) (pcfgs (F := F)) adm (Ix := HIx 1) (Name := ℕ) (U := UU) (Lvl := ℕ) (launch1).win (launch1).arr_whole d
      (pdats V) ((pdats V 0 d).share_full fun _ => rfl) (V d) (afterRegion (V d)) ((pdats V 0 d).arrAt · cfg1.N)
      (fun w => by
        fin_cases w
        · exact ((pdats V 0 d).arrAt_in 0 rfl _).trans (Function.update_of_ne (show main_v6 ≠ main_v7 by decide) _ _).symm
        · exact ((pdats V 0 d).arrAt_in 1 rfl _).trans (Function.update_of_ne (show main_arg0 ≠ main_v7 by decide) _ _).symm
        · exact ((pdats V 0 d).arrAt_in 2 rfl _).trans (Function.update_of_ne (show main_arg1 ≠ main_v7 by decide) _ _).symm
        · exact (arrAt_out (V d)).trans (afterRegion_self (V d)).symm)
      (fun b hb => Function.update_of_ne (fun h : b = main_v7 => hb (by rw [h]; exact Finset.mem_image.mpr ⟨3, Finset.mem_univ _, rfl⟩)) _ _)
    iintro ⟨Ha, HO, -, Hrest⟩
    imodintro
    isplitl [Ha Hrest]
    · iapply hjoin; isplitl [Ha] <;> iassumption
    unfold settled Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

/-- The pipeline's run, in place: from the buffers at any contents it leaves the result's array at the last running
    block and everything else as it was. -/
theorem wp_region [∀ e, Nonempty (Elt F e)] (V : (d : Dev nD) → Store F d) (d : Dev nD) (Q : PUnit → sProp (MM F)) :
    iprop((iprop(boundary (T d) ∗ unscopedBufs d (afterRegion (V d)) ∗ settled d) -∗ Q ⟨⟩)
        ∗ boundary (T d) ∗ (unscopedBufs d (V d) ∗ settled d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (T d) none) Set.univ (Prog.lift (.customCall (Pipeline.entry 0) ())) Q := by
  have h := Pipeline.RegionSeg.wp (pcfgs (F := F)) adm (pdats V) none cellOf_inj EP (defs₀ (F := F)) 𝒱₀ _ _ (reg V) d none
    (fun u hu => nomatch hu) (fun x => .ret x) Q
  exact BI.Entails.trans (sep_mono (wand_mono .rfl (fupd_intro.trans (BI.BIBase.Entails.of_eq (wp_ret ..).symm))) .rfl) h

end Cert.Tail

end
-- ==== Proof.Main.lean ====
/- The host's program: the operations before the tiles' call, the call, the pipeline on the first half, and the sums
   that combine them; then the whole launch. -/
module

public import proofs.«01_k».proof.Proof.Call
public import proofs.«01_k».proof.Proof.Region
public import Idealize.ShloMosaic.Lib.SparseCore.Quiescent
public import Idealize.ShloMosaic.Lib.StableHlo.Run

@[expose] public section

set_option maxRecDepth 20000

noncomputable section

namespace Cert.Tail

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (after seq held)
open Idealize.ShloMosaic.Pipeline (ucRefs)

variable {F : FTy → Type} [FloatOps F]

/-! ## The program in lines -/

/-- The operations before the tiles' call: the reciprocals. -/
abbrev opsA : List (HloOp τ sig (Elt F)) :=
  [StableHlo.unary main_arg2 main_v0 (sitofp .f32 : (⟨S16, .i32⟩ : BufTy).Contents (Elt F) → (⟨S16, .f32⟩ : BufTy).Contents (Elt F)),
   StableHlo.nullary main_cst (constant S_ .f32 0x46000000#32),
   StableHlo.unary main_cst main_v1 (broadcastInDim S16 ![] bcast_S_S16 : (⟨S_, .f32⟩ : BufTy).Contents (Elt F) → (⟨S16, .f32⟩ : BufTy).Contents (Elt F)),
   StableHlo.binary main_v0 main_v1 main_v2 (mulf : (⟨S16, .f32⟩ : BufTy).Contents (Elt F) → (⟨S16, .f32⟩ : BufTy).Contents (Elt F) → (⟨S16, .f32⟩ : BufTy).Contents (Elt F)),
   StableHlo.nullary main_cst_0 (constant S_ .f32 0x3F800000#32),
   StableHlo.unary main_cst_0 main_v3 (broadcastInDim S16 ![] bcast_S_S16 : (⟨S_, .f32⟩ : BufTy).Contents (Elt F) → (⟨S16, .f32⟩ : BufTy).Contents (Elt F)),
   StableHlo.binary main_v3 main_v2 main_v4 (Host.divf : (⟨S16, .f32⟩ : BufTy).Contents (Elt F) → (⟨S16, .f32⟩ : BufTy).Contents (Elt F) → (⟨S16, .f32⟩ : BufTy).Contents (Elt F))]
/-- The operation between the call and the pipeline: the lengths as one row. -/
abbrev opM : HloOp τ sig (Elt F) := StableHlo.reshape main_arg2 main_v6 (rfl : (.i32 : EltTy) = .i32) shapeCasts_S16_S1x16
/-- The operations after the pipeline: the sums. -/
abbrev opsB : List (HloOp τ sig (Elt F)) :=
  [StableHlo.nullary main_cst_1 (constant S_ .f32 0x00000000#32),
   StableHlo.binary main_v5 main_cst_1 main_v8 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
   StableHlo.nullary main_cst_2 (constant S_ .f32 0x00000000#32),
   StableHlo.binary main_v7 main_cst_2 main_v9 ((fun x v => Host.reduceAdd x v reducesTo_S16x512_S16_d1 h_S_) : (⟨S16x512, .f32⟩ : BufTy).Contents (Elt F) → (⟨S_, .f32⟩ : BufTy).Contents (Elt F) → (⟨S16, .f32⟩ : BufTy).Contents (Elt F)),
   StableHlo.binary main_v9 main_v4 main_v10 (mulf : (⟨S16, .f32⟩ : BufTy).Contents (Elt F) → (⟨S16, .f32⟩ : BufTy).Contents (Elt F) → (⟨S16, .f32⟩ : BufTy).Contents (Elt F)),
   StableHlo.nullary main_cst_3 (constant S_ .f32 0x00000000#32),
   StableHlo.binary main_v10 main_cst_3 main_v11 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
   StableHlo.binary main_v8 main_v11 main_v12 (addf : (⟨S_, .f32⟩ : BufTy).Contents (Elt F) → (⟨S_, .f32⟩ : BufTy).Contents (Elt F) → (⟨S_, .f32⟩ : BufTy).Contents (Elt F))]

theorem opsA_sub : (opsA : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub ..,
    StableHlo.unary_bufs_sub .., StableHlo.binary_bufs_sub ..⟩
theorem opsA_fresh : (opsA : List (HloOp τ sig (Elt F))).Forall fun op => op.fresh = ∅ := ⟨rfl, rfl, rfl, rfl, rfl, rfl, rfl⟩
theorem opsB_sub : (opsB : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.binary_bufs_sub ..,
    StableHlo.nullary_bufs_sub .., StableHlo.binary_bufs_sub .., StableHlo.binary_bufs_sub ..⟩
theorem opsB_fresh : (opsB : List (HloOp τ sig (Elt F))).Forall fun op => op.fresh = ∅ := ⟨rfl, rfl, rfl, rfl, rfl, rfl, rfl, rfl⟩

/-- The program is those lines, the call and the pipeline between them. -/
theorem main_eq (d : Dev nD) : main (F := F) d
    = (seq opsA >>= fun _ => (K (F := F)).run d 0 >>= fun _ => seq [opM] >>= fun _ =>
        Prog.lift (.customCall (SparseCore.inner (Pipeline.entry 0)) ()) >>= fun _ => seq opsB) := by
  simp only [seq, bind_assoc, pure_bind]
  rfl

/-! ## What the buffers hold -/

/-- A device's buffers as the host's program names them. -/
abbrev restrict (d : Dev nD) (W : Valuation τ sig (Elt F)) : Store F d := fun b => W (Proc.devRef .tc b)

/-- Replacing one buffer's contents. -/
theorem restrict_update (d : Dev nD) (W : Valuation τ sig (Elt F)) (r : Ref sig .tc) (x : (Proc.devRef (τ := τ) .tc r).ty.Contents (Elt F)) :
    restrict d (Function.update W (Proc.devRef .tc r) x) = Function.update (restrict d W) r x := by
  funext b
  by_cases h : b = r
  · subst h; simp only [restrict, Function.update_self]
  · simp only [restrict, Function.update_of_ne h]
    rw [Function.update_of_ne (StableHlo.devRef_ne_of_ne h)]

section Values
variable (m : (ℓ : Loc nD τ sig) → Buf (Elt F) ℓ) (d : Dev nD)

/-- Before the call, -/
def VA : Valuation τ sig (Elt F) := after opsA (StableHlo.launchContents m d)
/-- the reciprocals the tiles read, -/
def recip : S16.Idx → Elt F .f32 := VA m d (Proc.devRef .tc main_v4)
/-- what the tiles leave, -/
def tileSums : S32x16.Idx → Elt F .f32 := tails (m (yLoc d)) (m (dLoc d)) (m (lLoc d)) (recip m d)
/-- after the call, -/
def VB : Valuation τ sig (Elt F) := Function.update (VA m d) (Proc.devRef .tc main_v5) (tileSums m d)
/-- before the pipeline, -/
def VC : Valuation τ sig (Elt F) := after [opM] (VB m d)
/-- what the pipeline leaves, -/
def blockSums : S16x512.Idx → Elt F .f32 := acc (restrict d (VC m d)) 8
/-- after the pipeline, -/
def VD : Valuation τ sig (Elt F) := Function.update (VC m d) (Proc.devRef .tc main_v7) (blockSums m d)
/-- and at the end. -/
def VE : Valuation τ sig (Elt F) := after opsB (VD m d)

theorem VA_arg0 : VA m d (Proc.devRef .tc main_arg0) = m (yLoc d) := by unfold VA; after_results_simp; try rfl
theorem VA_arg1 : VA m d (Proc.devRef .tc main_arg1) = m (dLoc d) := by unfold VA; after_results_simp; try rfl
theorem VA_arg2 : VA m d (Proc.devRef .tc main_arg2) = m (lLoc d) := by unfold VA; after_results_simp; try rfl
theorem VA_v5 : VA m d (Proc.devRef .tc main_v5) = m (oLoc d) := by unfold VA; after_results_simp; try rfl
theorem recip_eq : recip m d = Host.divf (broadcastInDim S16 ![] bcast_S_S16 (constant S_ .f32 0x3F800000#32))
    (mulf (sitofp .f32 (m (lLoc d) : S16.Idx → Elt F .i32)) (broadcastInDim S16 ![] bcast_S_S16 (constant S_ .f32 0x46000000#32))) := by
  unfold recip VA; after_results_simp; try rfl

theorem VB_v5 : VB m d (Proc.devRef .tc main_v5) = tileSums m d := Function.update_self ..
theorem VB_ne {r : Ref sig .tc} (h : r ≠ main_v5) : VB m d (Proc.devRef .tc r) = VA m d (Proc.devRef .tc r) :=
  Function.update_of_ne (StableHlo.devRef_ne_of_ne h) ..
theorem VC_v6 : VC m d (Proc.devRef .tc main_v6) = shapeCast S1x16 (m (lLoc d) : S16.Idx → Elt F .i32) shapeCasts_S16_S1x16 := by
  unfold VC; after_results_simp; rw [VB_ne m d (by decide), VA_arg2]; try rfl
theorem VC_ne {r : Ref sig .tc} (h : r ≠ main_v6) : VC m d (Proc.devRef .tc r) = VB m d (Proc.devRef .tc r) := by
  unfold VC; simp only [StableHlo.after_cons, StableHlo.after_nil]; exact StableHlo.reshape_result_ne (h := h) ..
theorem VD_v7 : VD m d (Proc.devRef .tc main_v7) = blockSums m d := Function.update_self ..
theorem VD_ne {r : Ref sig .tc} (h : r ≠ main_v7) : VD m d (Proc.devRef .tc r) = VC m d (Proc.devRef .tc r) :=
  Function.update_of_ne (StableHlo.devRef_ne_of_ne h) ..
theorem VE_arg0 : VE m d (Proc.devRef .tc main_arg0) = m (yLoc d) := by
  unfold VE; after_results_simp; rw [VD_ne m d (by decide), VC_ne m d (by decide), VB_ne m d (by decide), VA_arg0]
theorem VE_arg1 : VE m d (Proc.devRef .tc main_arg1) = m (dLoc d) := by
  unfold VE; after_results_simp; rw [VD_ne m d (by decide), VC_ne m d (by decide), VB_ne m d (by decide), VA_arg1]
theorem VE_arg2 : VE m d (Proc.devRef .tc main_arg2) = m (lLoc d) := by
  unfold VE; after_results_simp; rw [VD_ne m d (by decide), VC_ne m d (by decide), VB_ne m d (by decide), VA_arg2]
/-- The program's result. -/
def result : S_.Idx → Elt F .f32 :=
  addf (Host.reduceAdd (tileSums m d) (constant S_ .f32 0x00000000#32) reducesTo_S32x16_S_d0_1 h_S_)
    (Host.reduceAdd (mulf (Host.reduceAdd (blockSums m d) (constant S_ .f32 0x00000000#32) reducesTo_S16x512_S16_d1 h_S_) (recip m d))
      (constant S_ .f32 0x00000000#32) reducesTo_S16_S_d0 h_S_)
theorem VE_v12 : VE m d (Proc.devRef .tc main_v12) = result m d := by
  unfold VE; after_results_simp
  rw [VD_v7, VD_ne m d (show main_v5 ≠ main_v7 by decide), VC_ne m d (by decide), VB_v5,
    VD_ne m d (show main_v4 ≠ main_v7 by decide), VC_ne m d (by decide), VB_ne m d (by decide)]
  rfl

end Values

/-! ## The call's five buffers out of the rest -/

/-- The buffers the call does not touch. -/
def others (d : Dev nD) (W : Store F d) : sProp (MM F) :=
  bigSep ((Finset.univ.filter fun b : Ref sig .tc => ¬ b.isScoped) \ {main_arg0, main_arg1, main_arg2, main_v4, main_v5})
    fun b => (((T d : Thread nD τ).loc b) ↦{fullShare} W b)

theorem five {A B C D E R : sProp (MM F)} : iprop((A ∗ B ∗ C ∗ D ∗ E) ∗ R) ⊢ iprop(((A ∗ B ∗ C ∗ D) ∗ E) ∗ R) := by
  iintro ⟨⟨Hy, Hd, Hl, Hi, Ho⟩, Hr⟩
  iframe
theorem five' {A B C D E R : sProp (MM F)} : iprop(((A ∗ B ∗ C ∗ D) ∗ E) ∗ R) ⊢ iprop((A ∗ B ∗ C ∗ D ∗ E) ∗ R) := by
  iintro ⟨⟨⟨Hy, Hd, Hl, Hi⟩, Ho⟩, Hr⟩
  iframe

/-- The five buffers of the call, and the others. -/
theorem take_five (d : Dev nD) (W : Store F d) :
    (unscopedBufs d W : sProp (MM F)) = iprop(Whole d (W main_arg0) (W main_arg1) (W main_arg2) (W main_v4) (W main_v5) ∗ others d W) := by
  unfold unscopedBufs others Whole Shares
  rw [← Finset.union_sdiff_of_subset (show ({main_arg0, main_arg1, main_arg2, main_v4, main_v5} : Finset (Ref sig .tc)) ⊆ Finset.univ.filter fun b : Ref sig .tc => ¬ b.isScoped by decide),
    bigSep_union Finset.disjoint_sdiff]
  rw [SparseCore.bigSep_insert' (by decide), SparseCore.bigSep_insert' (by decide), SparseCore.bigSep_insert' (by decide), SparseCore.bigSep_insert' (by decide), bigSep_singleton]
  rw [Finset.union_sdiff_of_subset (show ({main_arg0, main_arg1, main_arg2, main_v4, main_v5} : Finset (Ref sig .tc)) ⊆ Finset.univ.filter fun b : Ref sig .tc => ¬ b.isScoped by decide)]
  exact BI.Entails.antisymm five five'

theorem others_congr (d : Dev nD) (W W' : Store F d) (h : ∀ b, b ≠ main_v5 → W b = W' b) : (others d W : sProp (MM F)) = others d W' := by
  unfold others
  refine bigSep_congr fun b hb => ?_
  rw [h b (fun e => (Finset.mem_sdiff.mp hb).2 (by rw [e]; decide))]

/-! ## The host's program -/

section Launch
variable (m : (ℓ : Loc nD τ sig) → Buf (Elt F) ℓ) (ρ : Dev nD → PrngReg)

/-- The pipeline's part of the launch's ghost state. -/
abbrev G (d : Dev nD) : sProp (MM F) :=
  iprop(Pipeline.cellsGhost (Pipeline.pin (pcfgs (F := F)) adm) EP 0 d ∗ Pipeline.toksInit (Pipeline.pin (pcfgs (F := F)) adm) EP 0 d)

/-- What the host's program ends with. -/
abbrev FIN (d : Dev nD) : sProp (MM F) := unscopedBufs d (restrict d (VE m d))

theorem held_eq (d : Dev nD) (W : Valuation τ sig (Elt F)) :
    (held (T d : Thread nD τ) (ucRefs τ sig) W : sProp (MM F)) = unscopedBufs d (restrict d W) :=
  (Pipeline.unscopedBufs_held (Ix := HIx 1) (Name := ℕ) (U := UU) (Lvl := ℕ) d W).symm

/-- A line of the host's operations, over every buffer the host holds. -/
theorem wp_line (d : Dev nD) (ops : List (HloOp τ sig (Elt F))) (hsub : ops.Forall fun op => op.bufs ⊆ StableHlo.tcRefs τ sig)
    (hfresh : ops.Forall fun op => op.fresh = ∅) (W W' : Valuation τ sig (Elt F)) (hW : after ops W = W') (k : PUnit → Prog (TpuEff nD τ sig (Elt F) (SparseCore.Sig (ΛP (F := F)) 1) .tc) PUnit)
    (Q : PUnit → sProp (MM F)) :
    iprop(boundary (T d) ∗ unscopedBufs d (restrict d W))
      ⊢ iprop((boundary (T d) ∗ unscopedBufs d (restrict d W') -∗ wp frame (wpE ((K (F := F)).defs D) 𝒱 (T d) none) Set.univ (k ⟨⟩) Q)
        -∗ wp frame (wpE ((K (F := F)).defs D) 𝒱 (T d) none) Set.univ (seq ops >>= k) Q) := by
  subst hW
  rw [← held_eq, ← held_eq]
  exact StableHlo.wp_seq (defs := (K (F := F)).defs D) 𝒱 none Set.univ d (ucRefs τ sig) k ops
    (fun op h => Pipeline.sub_ucRefs op ((List.forall_iff_forall_mem.mp hsub) op h)) (fun op h => (List.forall_iff_forall_mem.mp hfresh) op h) W

/-- The pipeline's run within the whole program. -/
theorem wp_region' [∀ e, Nonempty (Elt F e)] (d : Dev nD) (Q : PUnit → sProp (MM F)) :
    iprop((iprop(boundary (T d) ∗ unscopedBufs d (restrict d (VD m d)) ∗ settled d) -∗ Q ⟨⟩)
        ∗ boundary (T d) ∗ (unscopedBufs d (restrict d (VC m d)) ∗ settled d) ∗ levAts (K (F := F)).L (K (F := F)).lev ∗ G d)
      ⊢ wp frame (wpE ((K (F := F)).defs D) 𝒱 (T d) none) Set.univ (Prog.lift (.customCall (SparseCore.inner (Pipeline.entry 0)) ())) Q := by
  have e : (afterRegion (restrict d (VC m d)) : Store F d) = restrict d (VD m d) := (restrict_update d (VC m d) main_v7 (blockSums m d)).symm
  rw [← e]
  exact (wp_region (fun d => restrict d (VC m d)) d Q).trans ((K (F := F)).wp_liftProg D 𝒱 (T d) Set.univ none _ Q)

/-- The call takes five of the buffers, -/
theorem before_call (d : Dev nD) : (unscopedBufs d (restrict d (VA m d)) : sProp (MM F))
    ⊢ iprop((bigSep Finset.univ fun c : Fin ((K (F := F)).nCore 0) => (P m (recip m)).st 0 d c) ∗ others d (restrict d (VA m d))) := by
  rw [st_eq, take_five]
  simp only [restrict, VA_arg0, VA_arg1, VA_arg2, VA_v5]
  exact .rfl
/-- and gives them back. -/
theorem after_call (d : Dev nD) :
    iprop((bigSep Finset.univ fun c : Fin ((K (F := F)).nCore 0) => (P m (recip m)).dn 0 d c) ∗ others d (restrict d (VA m d)))
      ⊢ (unscopedBufs d (restrict d (VB m d)) : sProp (MM F)) := by
  rw [dn_eq, take_five, others_congr d (restrict d (VB m d)) (restrict d (VA m d)) (fun b h => VB_ne m d h)]
  simp only [restrict, VB_v5, VB_ne m d (show main_arg0 ≠ main_v5 by decide), VB_ne m d (show main_arg1 ≠ main_v5 by decide),
    VB_ne m d (show main_arg2 ≠ main_v5 by decide), VB_ne m d (show main_v4 ≠ main_v5 by decide), VA_arg0, VA_arg1, VA_arg2]
  exact .rfl

/-- What the core owes after the call is settled, and back. -/
theorem settle (d : Dev nD) : ((K (F := F)).tcSt EH d 1 : sProp (MM F)) ⊢ iprop(settled d ∗ (settled d -∗ (K (F := F)).tcSt EH d 1)) := by
  unfold SparseCore.Cfg.tcSt settled
  rw [(K (F := F)).Otc_end d le_rfl]
  iintro ⟨HO, Hr⟩
  isplitl [HO]; · iexact HO
  iintro HO
  isplitl [HO]; · iexact HO
  iexact Hr

/-- The host's program on one device. -/
theorem hmain [∀ e, Nonempty (Elt F e)] (κ : GSem nD τ sig → ℕ) (d : Dev nD) :
    iprop((K (F := F)).ctx EH (P m (recip m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hu, Hts, -⟩, Hg⟩
  ihave Hlev := (SparseCore.Cfg.ctx_levAts κ) $$ Hctx
  iapply (wp_line d opsA opsA_sub opsA_fresh (StableHlo.launchContents m d) (VA m d) rfl _ _) $$ [Hb Hu]
  · isplitl [Hb]; · iexact Hb
    iexact Hu
  iintro ⟨Hb, Hu⟩
  ihave H := (before_call m d) $$ Hu
  icases H with ⟨Hin, Hrest⟩
  simp only [wp_bind]
  iapply ((K (F := F)).wp_run (D (F := F)) 𝒱 (EH := EH) (P := P m (recip m)) κ d 0)
  isplitr; · iexact Hctx
  isplitl [Hst]; · iexact Hst
  isplitl [Hin]; · iexact Hin
  iintro ⟨Hst, Hdn⟩
  ihave Hu := (after_call m d) $$ [Hdn Hrest]
  · isplitl [Hdn]; · iexact Hdn
    iexact Hrest
  simp only [← wp_bind]
  iapply (wp_line d [opM] (StableHlo.reshape_bufs_sub ..) rfl (VB m d) (VC m d) rfl _ _) $$ [Hb Hu]
  · isplitl [Hb]; · iexact Hb
    iexact Hu
  iintro ⟨Hb, Hu⟩
  ihave H := (show ((K (F := F)).tcSt EH d ((0 : Fin 1).val + 1) : sProp (MM F)) ⊢ _ from settle d) $$ Hst
  icases H with ⟨Hset, Hback⟩
  rw [wp_bind]
  iapply (wp_region' m d)
  isplitl [Hts Hback]
  · iintro ⟨Hb, Hu, Hset⟩
    rw [← bind_pure (seq opsB)]
    iapply (wp_line d opsB opsB_sub opsB_fresh (VD m d) (VE m d) rfl _ _) $$ [Hb Hu]
    · isplitl [Hb]; · iexact Hb
      iexact Hu
    iintro ⟨Hb, Hu⟩
    rw [wp_pure]
    imodintro
    isplitl [Hset Hback]; · iapply Hback; iexact Hset
    isplitl [Hu]; · iexact Hu
    isplitl [Hb]; · iexact Hb
    iexact Hts
  isplitl [Hb]; · iexact Hb
  isplitl [Hu Hset]
  · isplitl [Hu]; · iexact Hu
    iexact Hset
  isplitl [Hlev]; · iexact Hlev
  iexact Hg

/-! ## The launch -/

/-- The ghost state at launch: the handshakes' rounds and the pipeline's. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem nothing {I : Type} (s : Finset I) : (bigSep s fun _ => iprop(emp)) = (iprop(emp) : sProp (MM F)) := bigSep_emp_const s

theorem to_EP (x : UP) : (BI.own (((Emb.inl : Emb UP (UP × Counters)).trans (embR : Emb (UP × Counters) (MM F))) x) : sProp (MM F)) ⊢ BI.own (EP x) := by
  unfold EP
  exact .rfl

theorem hu₀ (Iv : Dev nD → S16.Idx → Elt F .f32) : (ownU (u₀ (F := F)) : sProp (MM F))
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m Iv).x q thr) := by
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), 1) : UP × Counters)) $$ Hu
  icases H with ⟨HH, HP⟩
  ihave H := (own_pair_emb (embR : Emb (UP × Counters) (MM F))
    (initOf (Pipeline.cells (Pipeline.pin (pcfgs (F := F)) adm) cellOf_inj) (Pipeline.launchToks (Pipeline.pin (pcfgs (F := F)) adm) cellOf_inj)) (1 : Counters)) $$ HP
  icases H with ⟨HP, -⟩
  ihave HP := (to_EP _) $$ HP
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]
    · iapply (BI.BIBase.Entails.of_eq (bigSep_congr fun d _ => bigSep_univ_of_subsingleton (0 : Fin 1))) $$ Hg
    · iapply (BI.BIBase.Entails.of_eq (bigSep_congr fun d _ => bigSep_univ_of_subsingleton (0 : Fin 1))) $$ Ht
  rw [show (bigSep Finset.univ fun thr : Thread nD τ => bigSep Finset.univ fun q : Fin 1 => (P m Iv).x q thr) = (bigSep Finset.univ fun _ => iprop(emp) : sProp (MM F)) from
    bigSep_congr fun _ _ => bigSep_univ_of_subsingleton (0 : Fin 1), nothing]
  iempintro

/-- What the run ends with, on one device: the arguments as they were and the result. -/
def fq (d : Dev nD) (s' : Phys nD τ sig (Elt F)) : Prop :=
  s'.mem.mem ((SparseCore.T d).loc main_v12) = result m d ∧ s'.mem.mem (yLoc d) = m (yLoc d) ∧ s'.mem.mem (dLoc d) = m (dLoc d) ∧ s'.mem.mem (lLoc d) = m (lLoc d)

/-- A buffer the host holds reads as it holds it. -/
theorem reads (d : Dev nD) (W : Store F d) (b : Ref sig .tc) (hb : ¬ b.isScoped) (s' : Phys nD τ sig (Elt F)) :
    iprop(SI s' ∗ unscopedBufs d W) ⊢ (iprop(⌜s'.mem.mem ((T d : Thread nD τ).loc b) = W b⌝ ∗ SI s' ∗ unscopedBufs d W) : sProp (MM F)) := by
  have e : (unscopedBufs d W : sProp (MM F)) = iprop((((T d : Thread nD τ).loc b) ↦{fullShare} W b)
      ∗ bigSep ((Finset.univ.filter fun b : Ref sig .tc => ¬ b.isScoped).erase b) fun b => (((T d : Thread nD τ).loc b) ↦{fullShare} W b)) := by
    unfold unscopedBufs
    conv_lhs => rw [← Finset.insert_erase (Finset.mem_filter.mpr ⟨Finset.mem_univ b, hb⟩ : b ∈ Finset.univ.filter fun b : Ref sig .tc => ¬ b.isScoped)]
    rw [SparseCore.bigSep_insert' (Finset.notMem_erase b _)]
  rw [e]
  iintro ⟨HSI, Hb, Hr⟩
  ihave H := (persistent_entails_right (SI_pointsTo_agree (st := s') (ℓ := (T d : Thread nD τ).loc b) (I := Finset.univ) (q := fullShare) (f := W b))) $$ [HSI Hb]
  · isplitl [HSI] <;> iassumption
  icases H with ⟨%h1, HSI, Hb⟩
  isplitr; · ipureintro; exact funext fun i => h1 i (Finset.mem_univ i)
  isplitl [HSI]; · iexact HSI
  isplitl [Hb]; · iexact Hb
  iexact Hr

theorem hfin (d : Dev nD) (s' : Phys nD τ sig (Elt F)) : iprop(FIN m d ∗ SI s') ⊢ (⌜fq m d s'⌝ : sProp (MM F)) := by
  iintro ⟨Hu, HSI⟩
  ihave H := (reads d (restrict d (VE m d)) main_v12 (by decide) s') $$ [Hu HSI]
  · isplitl [HSI] <;> iassumption
  icases H with ⟨%h0, H⟩
  ihave H := (reads d (restrict d (VE m d)) main_arg0 (by decide) s') $$ H
  icases H with ⟨%h1, H⟩
  ihave H := (reads d (restrict d (VE m d)) main_arg1 (by decide) s') $$ H
  icases H with ⟨%h2, H⟩
  ihave H := (reads d (restrict d (VE m d)) main_arg2 (by decide) s') $$ H
  icases H with ⟨%h3, -⟩
  ipureintro
  exact ⟨h0.trans (VE_v12 m d), h1.trans (VE_arg0 m d), h2.trans (VE_arg1 m d), h3.trans (VE_arg2 m d)⟩

/-- The claim of the run: the result and the arguments on every device, every counter back at zero. -/
def QC : PUnit × MemSt nD τ sig (Elt F) → Prop := fun r =>
  (∀ d : Dev nD, r.2.mem ((SparseCore.T d).loc main_v12) = result m d ∧ r.2.mem (yLoc d) = m (yLoc d) ∧ r.2.mem (dLoc d) = m (dLoc d) ∧ r.2.mem (lLoc d) = m (lLoc d))
    ∧ r.2.sem = fun _ => 0

/-- The whole program runs, from any memory whose lengths are in range. -/
theorem run_main [∀ e, Nonempty (Elt F e)] (hL : ∀ d, InRange (lens (m (lLoc d)))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (recip m)) (A := ∅) facts v₀
    (fun q hq => match q with | 0 => nomatch hq)
    (fun q _ => match q with | 0 => tileObl m (recip m) hL)
    (fun q _ => match q with | 0 => SparseCore.Cfg.VecSplit.of_plain (vecSplit m (recip m)))
    m ρ main G (FIN m) (u₀ (F := F)) (sep_elim_left.trans (hu₀ m (recip m))) (hmain m ρ) (fq m) (hfin m) (QC m) (fun _ h hz => ⟨h, hz⟩)

end Launch

end Cert.Tail

end
-- ==== Proof.Frames.lean ====
/- The frames: each program runs, leaves its arguments and ends with every counter at zero. -/
module

public import proofs.«01_k».proof.Defs
public import proofs.«01_k».proof.Proof.Main
public import proofs.«01_k».proof.Proof.Gen.ReferenceIdeal.Run
public import proofs.«01_k».proof.Proof.Gen.Pre_lengths_in_range
public import Idealize.ShloMosaic.Lib.ReduceAll
public import Idealize.ShloMosaic.Lib.Quiescent

@[expose] public section

set_option maxRecDepth 20000

noncomputable section

namespace Cert.Tail

open Cert.KernelIdeal Cert.KernelIdeal.Gen
open Idealize.ShloMosaic Idealize.SL.Sem

/-- What the precondition says of the lengths: each lies between 1 and 2048. -/
theorem inRange_of_fn {F : FTy → Type} [FloatOps F] (Y D : Cert.Pre_lengths_in_range.S2048x16x512.Idx → Elt F .f32) (Lv : S16.Idx → BitVec 32)
    (h : Cert.Pre_lengths_in_range.fn (F := F) Y D Lv = fun _ => 1#1) : InRange (lens Lv) := by
  intro b hb
  have andi_ofBool (p q : Bool) : IntOp.andi (BitVec.ofBool p) (BitVec.ofBool q) = BitVec.ofBool (p && q) := by cases p <;> cases q <;> decide
  have ofBool_eq_one (p : Bool) : (BitVec.ofBool p = 1#1) ↔ p = true := by cases p <;> decide
  have key : ∀ v : BitVec 32, IntOp.andi (IntOp.cmpi .sge v 1#32) (IntOp.cmpi .sle v 2048#32) = 1#1 → 1 ≤ v.toNat ∧ v.toNat ≤ 2048 := by
    intro v e
    simp only [IntOp.cmpi, andi_ofBool, ofBool_eq_one, Bool.and_eq_true, BitVec.sle_eq_decide, decide_eq_true_eq,
      BitVec.toInt_eq_toNat_cond, BitVec.toNat_ofNat, Nat.reducePow, Nat.reduceMod] at e
    omega
  have e := Host.reduce_andi_all _ _ _ _ _ (congrFun h (Shape.Idx.first (by decide))) (ix16 b)
  simp only [andi, cmpi, broadcastInDim, constantI] at e
  exact key _ e

/-- The idealized program's run at any float values, its arguments and counters. -/
theorem run_args {F : FTy → Type} [FloatOps F] [∀ e, Nonempty (Elt F e)] (m : (ℓ : Loc nD τ sig) → Buf (Elt F) ℓ) (ρ : Dev nD → PrngReg)
    (hL : ∀ d, InRange (lens (m (lLoc d)))) :
    θ_run (Cert.KernelIdeal.defs (F := F)) (Cert.KernelIdeal.threads (F := F)) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run Cert.KernelIdeal.defs _ _).mono (fun _ h => ⟨fun c => (h.1 c).2, h.2⟩) (run_main m ρ hL)

theorem frame_kernelIdeal : Cert.quiescent_KernelIdeal := fun m ρ hpre =>
  run_args (F := Ideal) m ρ fun d => inRange_of_fn _ _ _ (hpre d)

theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_ReferenceIdeal := fun m ρ _ => run_reference m ρ

theorem frame_reference_pre : Cert.quiescent_ReferenceIdeal_pre_lengths_in_range := fun m ρ _ => run_reference m ρ

end Cert.Tail

end
-- ==== Proof.Sums.lean ====
/- Sums of extended reals: what is needed to compare a sum in shares with the whole sum. -/
module

public import proofs.«01_k».proof.Proof.Body
public import Idealize.ShloMosaic.PureOps.Ideal.Laws

@[expose] public section

noncomputable section

namespace Cert.Tail

open Cert.KernelIdeal Cert.KernelIdeal.Gen
open Idealize.ShloMosaic
open Finset (range)

/-- A sum of terms that are not negative, scaled, is the sum of the scaled terms. -/
theorem sum_scaled {ι : Type} (s : Finset ι) (f : ι → EReal) (hf : ∀ i, 0 ≤ f i) (x : EReal) :
    (∑ i ∈ s, f i) * x = ∑ i ∈ s, f i * x := by
  classical
  induction s using Finset.induction with
  | empty => simp
  | insert a s ha ih =>
    rw [Finset.sum_insert ha, Finset.sum_insert ha, EReal.right_distrib_of_nonneg (hf a) (Finset.sum_nonneg fun i _ => hf i), ih]

/-- A square is not negative. -/
theorem square_nonneg (x : EReal) : 0 ≤ x * x := by
  rcases le_total 0 x with h | h
  · exact EReal.mul_nonneg h h
  · have := EReal.mul_nonneg (EReal.neg_nonneg.2 h) (EReal.neg_nonneg.2 h)
    rwa [neg_mul_neg] at this

/-- A sum in groups of sixteen, lane by lane. -/
theorem sum_lanes (f : ℕ → EReal) (n : ℕ) :
    ∑ l : Fin 16, ∑ g ∈ range n, f (16 * g + l.val) = ∑ c ∈ range (16 * n), f c := by
  rw [Finset.sum_comm]
  induction n with
  | zero => simp
  | succ n ih =>
    rw [Finset.sum_range_succ, ih, Nat.mul_succ, Finset.sum_range_add,
      ← Fin.sum_univ_eq_sum_range (fun l => f (16 * n + l)) 16]

/-- A sum in blocks. -/
theorem sum_blocks (f : ℕ → EReal) (k n : ℕ) :
    ∑ g ∈ range n, ∑ r ∈ range k, f (g * k + r) = ∑ t ∈ range (n * k), f t := by
  induction n with
  | zero => simp
  | succ n ih => rw [Finset.sum_range_succ, ih, Nat.succ_mul, Finset.sum_range_add]

theorem wid_tileOf (w : Fin 32) : widN (tileOf w) = w.val := by
  show w.val / 2 * 2 + w.val % 2 = w.val
  omega

/-- The tiles' rows of a sequence are its rows past row 1024, each once. -/
theorem tiles_cover (L : ℕ → BitVec 32) {b : ℕ} (hb : b < 16) (f : ℕ → EReal) :
    ∑ w : Fin 32, ∑ k ∈ range (hiN (tileOf w) L b - loN (tileOf w) L b), f (loN (tileOf w) L b + k)
      = ∑ k ∈ range (tailN L b), f (1024 + k) := by
  let p : ℕ → ℕ := fun w => w * beforeN L 16 / 32
  let s : ℕ → ℕ := fun w => min (p w) (beforeN L (b + 1)) - beforeN L b
  have hp : ∀ w, p w ≤ p (w + 1) := fun w => Nat.div_le_div_right (Nat.mul_le_mul_right _ (Nat.le_succ w))
  have hB : beforeN L b ≤ beforeN L (b + 1) := beforeN_mono L (Nat.le_succ b)
  have key : ∀ n, ∑ w ∈ range n, ∑ k ∈ range (s (w + 1) - (p w - beforeN L b)), f (1024 + (p w - beforeN L b) + k)
      = ∑ k ∈ range (s n), f (1024 + k) := by
    intro n
    induction n with
    | zero =>
      have : s 0 = 0 := by simp [s, p]
      simp [this]
    | succ n ih =>
      rw [Finset.sum_range_succ, ih]
      have h1 := hp n
      by_cases h : p n ≤ beforeN L (b + 1)
      · have e1 : s n = p n - beforeN L b := by simp only [s]; omega
        have e2 : s (n + 1) = (p n - beforeN L b) + (s (n + 1) - (p n - beforeN L b)) := by simp only [s]; omega
        rw [e2, Finset.sum_range_add, e1]
        congr 1
        rw [← e2]
        exact Finset.sum_congr rfl fun k _ => by rw [Nat.add_assoc]
      · have e1 : s (n + 1) = s n := by simp only [s]; omega
        have e2 : s (n + 1) - (p n - beforeN L b) = 0 := by simp only [s]; omega
        rw [e2, e1]; simp
  have e : s 32 = tailN L b := by
    have h1 : p 32 = beforeN L 16 := by simp only [p]; omega
    have h2 : beforeN L (b + 1) ≤ beforeN L 16 := beforeN_mono L (by omega)
    have h3 : beforeN L (b + 1) = beforeN L b + tailN L b := rfl
    simp only [s, h1]; omega
  rw [← e, ← key 32, ← Fin.sum_univ_eq_sum_range
    (fun w => ∑ k ∈ range (s (w + 1) - (p w - beforeN L b)), f (1024 + (p w - beforeN L b) + k)) 32]
  refine Finset.sum_congr rfl fun w _ => ?_
  have e1 : loN (tileOf w) L b = 1024 + (p w.val - beforeN L b) := by unfold loN firstN; rw [wid_tileOf]
  have e2 : hiN (tileOf w) L b - loN (tileOf w) L b = s (w.val + 1) - (p w.val - beforeN L b) := by
    rw [e1]; unfold hiN lastN; rw [wid_tileOf]; simp only [s, p]; omega
  rw [e2, e1]

/-- The rows before row 1024 that lie before the end, and the rows past it, are the rows before the end. -/
theorem rows_split (n : ℕ) (hn : n ≤ 2048) (f : ℕ → EReal) :
    ∑ k ∈ range (n - 1024), f (1024 + k) + ∑ t ∈ range 1024, (if t < n then f t else 0) = ∑ t ∈ range n, f t := by
  rcases le_total n 1024 with h | h
  · rw [Nat.sub_eq_zero_of_le h]
    simp only [Finset.range_zero, Finset.sum_empty, zero_add]
    rw [← Finset.sum_filter]
    congr 1
    ext t; simp only [Finset.mem_filter, Finset.mem_range]; omega
  · have e : ∑ t ∈ range 1024, (if t < n then f t else 0) = ∑ t ∈ range 1024, f t :=
      Finset.sum_congr rfl fun t ht => if_pos (by have := Finset.mem_range.1 ht; omega)
    conv_rhs => rw [show n = 1024 + (n - 1024) by omega, Finset.sum_range_add]
    rw [e, add_comm]

end Cert.Tail

end
-- ==== Proof.TailSum.lean ====
/- What the tiles' sums come to over the extended reals. -/
module

public import proofs.«01_k».proof.Proof.Sums
public import Idealize.ShloMosaic.Lib.Pointwise

@[expose] public section

set_option maxRecDepth 20000

noncomputable section

namespace Cert.Tail

open Cert.KernelIdeal Cert.KernelIdeal.Gen
open Idealize.ShloMosaic
open Finset (range)

section
variable (Y D : S2048x16x512.Idx → EReal)

/-- The squared difference at row `t`, column `b`, place `c`. -/
def sq (t b c : ℕ) : EReal := (D (cell t b c) - Y (cell t b c)) * (D (cell t b c) - Y (cell t b c))

/-- The squared differences of row `t` of column `b`, added up. -/
def rowSq (t b : ℕ) : EReal := ∑ c ∈ range 512, sq Y D t b c

/-- The squared differences of the first `n` rows of column `b`, added up. -/
def prefixSq (b n : ℕ) : EReal := ∑ t ∈ range n, rowSq Y D t b

theorem sqDiff_nonneg (t b c : ℕ) : 0 ≤ sq Y D t b c := square_nonneg _

theorem rowSq_nonneg (t b : ℕ) : 0 ≤ rowSq Y D t b := Finset.sum_nonneg fun _ _ => square_nonneg _

theorem prefixSq_nonneg (b n : ℕ) : 0 ≤ prefixSq Y D b n := Finset.sum_nonneg fun _ _ => rowSq_nonneg Y D _ _

/-- A step adds the group's squared differences, lane by lane. -/
theorem step_grp (acc : FVec Ideal S16 .f32) (t b g : ℕ) (x : S16.Idx) :
    step acc (grp (F := Ideal) Y t b g) (grp (F := Ideal) D t b g) x = (acc x : EReal) + sq Y D t b (16 * g + (x 0).val) := by
  pointwise [step, grp, sq]

theorem groups_apply (t b n : ℕ) : ∀ (g : ℕ) (acc : FVec Ideal S16 .f32) (x : S16.Idx),
    groups (F := Ideal) Y D t b n g acc x = (acc x : EReal) + ∑ k ∈ range n, sq Y D t b (16 * (g + k) + (x 0).val) := by
  induction n with
  | zero => intro g acc x; simp [groups]
  | succ n ih =>
    intro g acc x
    rw [groups, ih, step_grp, Finset.sum_range_succ', add_assoc]
    congr 1
    rw [add_comm]
    congr 1
    exact Finset.sum_congr rfl fun k _ => by rw [show g + 1 + k = g + (k + 1) by omega]

theorem zeros_apply (x : S16.Idx) : (zeros (F := Ideal) x : EReal) = 0 := by pointwise [zeros]

theorem foldRows_apply (b t n : ℕ) (x : S16.Idx) :
    (foldRows (F := Ideal) Y D b t n zeros x : EReal) = ∑ k ∈ range n, ∑ g ∈ range 32, sq Y D (t + k) b (16 * g + (x 0).val) := by
  induction n with
  | zero => simp [foldRows, zeros_apply]
  | succ n ih =>
    rw [foldRows, groups_apply, ih, Finset.sum_range_succ _ n]
    simp only [Nat.zero_add]

/-- A tile's total, lane by lane. -/
theorem total_apply (inv : ℕ → EReal) (i : grid0.Coords) (L : ℕ → BitVec 32) (n : ℕ) (x : S16.Idx) :
    (total (F := Ideal) Y D inv i L n x : EReal) = ∑ b ∈ range n,
      (∑ k ∈ range (hiN i L b - loN i L b), ∑ g ∈ range 32, sq Y D (loN i L b + k) b (16 * g + (x 0).val)) * inv b := by
  induction n with
  | zero => simp [total, zeros_apply]
  | succ n ih =>
    rw [Finset.sum_range_succ, ← ih, ← foldRows_apply]
    pointwise [total, addScaled]

/-- All the tiles' lanes together: each sequence's rows past row 1024, scaled. -/
theorem tiles_total (inv : ℕ → EReal) (L : ℕ → BitVec 32) :
    ∑ w : Fin 32, ∑ l : Fin 16, (total (F := Ideal) Y D inv (tileOf w) L 16 (ix16 l.val) : EReal)
      = ∑ b ∈ range 16, (∑ k ∈ range (tailN L b), rowSq Y D (1024 + k) b) * inv b := by
  have lane : ∀ l : Fin 16, ((ix16 l.val) 0).val = l.val := fun l => Nat.mod_eq_of_lt l.isLt
  simp only [total_apply, lane]
  have e : ∀ w : Fin 32, ∑ l : Fin 16, ∑ b ∈ range 16, (∑ k ∈ range (hiN (tileOf w) L b - loN (tileOf w) L b),
        ∑ g ∈ range 32, sq Y D (loN (tileOf w) L b + k) b (16 * g + l.val)) * inv b
      = ∑ b ∈ range 16, (∑ k ∈ range (hiN (tileOf w) L b - loN (tileOf w) L b), rowSq Y D (loN (tileOf w) L b + k) b) * inv b := by
    intro w
    rw [Finset.sum_comm]
    refine Finset.sum_congr rfl fun b _ => ?_
    rw [← sum_scaled _ _ (fun l => Finset.sum_nonneg fun k _ => Finset.sum_nonneg fun g _ => sqDiff_nonneg Y D _ _ _), Finset.sum_comm]
    congr 1
    exact Finset.sum_congr rfl fun k _ => sum_lanes (sq Y D (loN (tileOf w) L b + k) b) 32
  rw [Finset.sum_congr rfl fun w _ => e w, Finset.sum_comm]
  refine Finset.sum_congr rfl fun b hb => ?_
  rw [← sum_scaled _ _ (fun w => Finset.sum_nonneg fun k _ => rowSq_nonneg Y D _ _),
    tiles_cover L (Finset.mem_range.1 hb) (fun t => rowSq Y D t b)]

end

end Cert.Tail

end
-- ==== Proof.HeadSum.lean ====
/- What the running block comes to over the extended reals. -/
module

public import proofs.«01_k».proof.Proof.TailSum
public import proofs.«01_k».proof.Proof.Region

@[expose] public section

set_option maxRecDepth 20000

noncomputable section

namespace Cert.Tail

open Cert.KernelIdeal Cert.KernelIdeal.Gen
open Idealize.ShloMosaic
open Idealize.ShloMosaic.Pipeline
open Finset (range)

theorem zeroBlock_apply (x : S16x512.Idx) : (zeroBlock (F := Ideal) x : EReal) = 0 := by pointwise [zeroBlock]

/-- A row of a point's block counts if it lies before the sequence's end. -/
theorem row_counts (t r : ℕ) (ht : t < 8) (hr : r < 128) (l : BitVec 32) (hl : l.toNat ≤ 2048) :
    IntOp.cmpi .slt (IntOp.addi (BitVec.ofNat 32 r) (IntOp.muli (BitVec.ofNat 32 t) 128#32)) l = 1#1 ↔ t * 128 + r < l.toNat := by
  have e : (BitVec.ofNat 32 r + BitVec.ofNat 32 t * 128#32).toNat = t * 128 + r := by
    simp only [BitVec.toNat_add, BitVec.toNat_mul, BitVec.toNat_ofNat]; omega
  simp only [IntOp.cmpi, IntOp.addi, IntOp.muli]
  have k : ∀ p : Bool, (BitVec.ofBool p = 1#1) ↔ p = true := by decide
  rw [k, BitVec.slt_eq_decide, decide_eq_true_eq, BitVec.toInt_eq_toNat_cond, BitVec.toInt_eq_toNat_cond, e]
  split <;> split <;> omega

/-- A point adds its block's counted squared differences. -/
theorem addBlock_apply (i : grid1.Coords) (y z : S128x16x512.Idx → EReal) (l : S1x16.Idx → BitVec 32) (x : S16x512.Idx → EReal)
    (b : Fin 16) (c : Fin 512) :
    (addBlock (F := Ideal) i y z l x (ix2 b c) : EReal) = x (ix2 b c) + ∑ r : Fin 128,
      if IntOp.cmpi .slt (IntOp.addi (BitVec.ofNat 32 r.val) (IntOp.muli (BitVec.ofNat 32 (i 0).val) 128#32)) (l (ix2 0 b)) = 1#1
      then (z (ix3 r b c) - y (ix3 r b c)) * (z (ix3 r b c) - y (ix3 r b c)) else 0 := by
  pointwise [addBlock, squares, maskBlock]
  rfl

/-- Where the windows' blocks lie. -/
theorem index_y : ∀ t : Fin grid1.N, win1_1.index t 0 = t.val ∧ win1_1.index t 1 = 0 ∧ win1_1.index t 2 = 0 := by decide +kernel
theorem index_d : ∀ t : Fin grid1.N, win1_2.index t 0 = t.val ∧ win1_2.index t 1 = 0 ∧ win1_2.index t 2 = 0 := by decide +kernel
theorem index_l : ∀ t : Fin grid1.N, win1_0.index t 0 = 0 ∧ win1_0.index t 1 = 0 := by decide +kernel

section
variable {d : Dev nD} (V : Store Ideal d)

theorem yBlk_apply (t : Fin cfg1.N) (r : Fin 128) (b : Fin 16) (c : Fin 512) :
    (yBlk V t (ix3 r b c) : EReal) = (V main_arg0 : S2048x16x512.Idx → EReal) (cell (t.val * 128 + r.val) b c) := by
  have ht : t.val < 8 := t.isLt
  have hr := r.isLt; have hb := b.isLt; have hc := c.isLt
  obtain ⟨e0, e1, e2⟩ := index_y t
  show (((cfg1.win 1).blk t).view.read (Elt Ideal) (V main_arg0)) (ix3 r b c) = _
  rw [View.read_apply]
  blk_simp
  refine congrArg (V main_arg0) ?_
  funext a; apply Fin.ext
  fin_cases a
  · show _ = (t.val * 128 + r.val) % 2048
    blk_simp [e0]
    show t.val * 128 + r.val = _
    omega
  · show _ = b.val % 16
    blk_simp [e1]
    show b.val = _
    omega
  · show _ = c.val % 512
    blk_simp [e2]
    show c.val = _
    omega

theorem dBlk_apply (t : Fin cfg1.N) (r : Fin 128) (b : Fin 16) (c : Fin 512) :
    (dBlk V t (ix3 r b c) : EReal) = (V main_arg1 : S2048x16x512.Idx → EReal) (cell (t.val * 128 + r.val) b c) := by
  have ht : t.val < 8 := t.isLt
  have hr := r.isLt; have hb := b.isLt; have hc := c.isLt
  obtain ⟨e0, e1, e2⟩ := index_d t
  show (((cfg1.win 2).blk t).view.read (Elt Ideal) (V main_arg1)) (ix3 r b c) = _
  rw [View.read_apply]
  blk_simp
  refine congrArg (V main_arg1) ?_
  funext a; apply Fin.ext
  fin_cases a
  · show _ = (t.val * 128 + r.val) % 2048
    blk_simp [e0]
    show t.val * 128 + r.val = _
    omega
  · show _ = b.val % 16
    blk_simp [e1]
    show b.val = _
    omega
  · show _ = c.val % 512
    blk_simp [e2]
    show c.val = _
    omega

theorem lBlk_apply (t : Fin cfg1.N) (b : Fin 16) : lBlk V t (ix2 0 b) = (V main_v6 : S1x16.Idx → BitVec 32) (ix2 0 b) := by
  have hb := b.isLt
  obtain ⟨e0, e1⟩ := index_l t
  show (((cfg1.win 0).blk t).view.read (Elt Ideal) (V main_v6)) (ix2 0 b) = _
  rw [View.read_apply]
  blk_simp
  refine congrArg (V main_v6) ?_
  funext a; apply Fin.ext
  fin_cases a
  · blk_simp [e0]
  · blk_simp [e1]

/-- The running block before point `n`: the counted squared differences of the rows before it. -/
theorem acc_apply (Y D : S2048x16x512.Idx → EReal) (L : ℕ → BitVec 32) (hY : V main_arg0 = Y) (hD : V main_arg1 = D)
    (hl : ∀ b : Fin 16, (V main_v6 : S1x16.Idx → BitVec 32) (ix2 0 b) = L b) (hL : InRange L) (b : Fin 16) (c : Fin 512) :
    ∀ n, n ≤ 8 → (acc V n (ix2 b c) : EReal) = ∑ t ∈ range (n * 128), if t < (L b).toNat then sq Y D t b c else 0 := by
  intro n
  induction n with
  | zero => intro _; rw [acc, zeroBlock_apply, Nat.zero_mul, Finset.range_zero, Finset.sum_empty]
  | succ n ih =>
    intro hn
    have h : n < cfg1.N := by show n < 8; omega
    rw [acc, dif_pos h, addBlock_apply, ih (by omega), Nat.succ_mul, Finset.sum_range_add,
      ← Fin.sum_univ_eq_sum_range (fun r => if n * 128 + r < (L b).toNat then sq Y D (n * 128 + r) b c else 0) 128]
    congr 1
    refine Finset.sum_congr rfl fun r _ => ?_
    rw [yBlk_apply, dBlk_apply, lBlk_apply, hY, hD, hl, coords_val]
    exact if_congr (row_counts n r.val (by omega) r.isLt (L b) (hL b.val b.isLt).2) rfl rfl

/-- The running block's rows after the last point, added up: each sequence's rows before row 1024. -/
theorem acc_row (Y D : S2048x16x512.Idx → EReal) (L : ℕ → BitVec 32) (hY : V main_arg0 = Y) (hD : V main_arg1 = D)
    (hl : ∀ b : Fin 16, (V main_v6 : S1x16.Idx → BitVec 32) (ix2 0 b) = L b) (hL : InRange L) (b : Fin 16) :
    ∑ c : Fin 512, (acc V 8 (ix2 b c) : EReal) = ∑ t ∈ range 1024, if t < (L b).toNat then rowSq Y D t b else 0 := by
  rw [Finset.sum_congr rfl fun c _ => acc_apply V Y D L hY hD hl hL b c 8 le_rfl, Finset.sum_comm]
  refine Finset.sum_congr rfl fun t _ => ?_
  split
  · exact Fin.sum_univ_eq_sum_range (sq Y D t b) 512
  · exact Finset.sum_const_zero

end

end Cert.Tail

end
-- ==== Proof.Equation.lean ====
/- The kernel's result and the reference's are one number over the extended reals. -/
module

public import proofs.«01_k».proof.Proof.HeadSum
public import proofs.«01_k».proof.Proof.Main
public import proofs.«01_k».proof.Proof.Gen.ReferenceIdeal.Run
public import Idealize.ShloMosaic.Lib.IdealHost

@[expose] public section

set_option maxRecDepth 20000

noncomputable section

namespace Cert.Tail

open Cert.KernelIdeal Cert.KernelIdeal.Gen
open Idealize.ShloMosaic
open Finset (range)

/-! ## The constants -/

theorem ofBits_16 : Ideal.ofBits .f32 0x41800000#32 = ((16 : ℝ) : EReal) := by
  simp [Ideal.ofBits, Ideal.ieee, -EReal.coe_mul]; norm_num
theorem ofBits_512 : Ideal.ofBits .f32 0x44000000#32 = ((512 : ℝ) : EReal) := by
  simp [Ideal.ofBits, Ideal.ieee, -EReal.coe_mul]; norm_num
theorem ofBits_8192 : Ideal.ofBits .f32 0x46000000#32 = ((8192 : ℝ) : EReal) := by
  simp [Ideal.ofBits, Ideal.ieee, -EReal.coe_mul]; norm_num

/-- Dividing by a positive real is scaling by its reciprocal. -/
theorem div_real (x : EReal) (r : ℝ) (hr : 0 < r) : Ideal.div x (r : EReal) = x * ((r⁻¹ : ℝ) : EReal) := by
  rw [Ideal.div, if_neg (by exact_mod_cast hr.ne'), EReal.coe_inv]

/-- A length as a real number. -/
theorem sitofp_length (l : BitVec 32) (h : l.toNat ≤ 2048) : ((l.toInt : ℝ) : EReal) = ((l.toNat : ℝ) : EReal) := by
  have e : l.toInt = (l.toNat : ℤ) := by rw [BitVec.toInt_eq_toNat_cond]; split <;> omega
  rw [e]; simp

/-- The sequences' scaled sums, over the first `n b` rows of each, as the kernel scales them and as the reference does. -/
theorem scaled_eq (S : ℕ → EReal) (hS : ∀ b, 0 ≤ S b) (n : ℕ → ℕ) (hn : ∀ b, b < 16 → 1 ≤ n b) :
    Ideal.div (∑ b : Fin 16, Ideal.div (S b) (((n b : ℝ) : EReal) * ((512 : ℝ) : EReal))) ((16 : ℝ) : EReal)
      = ∑ b ∈ range 16, S b * Ideal.div 1 (((n b : ℝ) : EReal) * ((8192 : ℝ) : EReal)) := by
  have pos : ∀ b : Fin 16, (0 : ℝ) < n b := fun b => by exact_mod_cast hn b.val b.isLt
  rw [div_real _ 16 (by norm_num), ← Fin.sum_univ_eq_sum_range
    (fun b => S b * Ideal.div 1 (((n b : ℝ) : EReal) * ((8192 : ℝ) : EReal))) 16]
  have e : ∀ b : Fin 16, Ideal.div (S b) (((n b : ℝ) : EReal) * ((512 : ℝ) : EReal)) = S b * ((((n b : ℝ) * 512)⁻¹ : ℝ) : EReal) := fun b => by
    rw [← EReal.coe_mul, div_real _ _ (mul_pos (pos b) (by norm_num))]
  rw [Finset.sum_congr rfl fun b _ => e b, sum_scaled _ (fun b : Fin 16 => S b * ((((n b : ℝ) * 512)⁻¹ : ℝ) : EReal)) fun b => EReal.mul_nonneg (hS b) (by
    have := pos b
    exact_mod_cast (by positivity : (0 : ℝ) ≤ ((n b : ℝ) * 512)⁻¹))]
  refine Finset.sum_congr rfl fun b _ => ?_
  rw [← EReal.coe_mul, div_real _ _ (mul_pos (pos b) (by norm_num)), mul_assoc, ← EReal.coe_mul, one_mul]
  congr 2
  have := (pos b).ne'
  field_simp
  norm_num

/-- An index of a vector of sixteen, named in two ways. -/
theorem ix1_eq (b : Fin 16) : (ix1 b : S16.Idx) = ix16 b := by
  funext a; apply Fin.ext
  fin_cases a
  exact (Nat.mod_eq_of_lt b.isLt).symm

/-! ## The kernel's result -/

section
variable (m : (ℓ : Loc nD τ sig) → Buf (Elt Ideal) ℓ) (d : Dev nD)

theorem recip_apply (hL : InRange (lens (m (lLoc d)))) (b : ℕ) (hb : b < 16) : (invs (F := Ideal) (recip m d) b : EReal)
    = Ideal.div 1 ((((lens (m (lLoc d)) b).toNat : ℝ) : EReal) * ((8192 : ℝ) : EReal)) := by
  rw [← sitofp_length _ (hL b hb).2, ← ofBits_8192]
  show (recip m d (ix16 b) : EReal) = _
  rw [recip_eq, ValueIdx.hostDivf_apply]
  pointwise
  rfl

theorem arg0_C : restrict d (VC m d) main_arg0 = m (yLoc d) := by
  show VC m d (Proc.devRef .tc main_arg0) = _
  rw [VC_ne m d (by decide), VB_ne m d (by decide), VA_arg0]

theorem arg1_C : restrict d (VC m d) main_arg1 = m (dLoc d) := by
  show VC m d (Proc.devRef .tc main_arg1) = _
  rw [VC_ne m d (by decide), VB_ne m d (by decide), VA_arg1]

theorem lengths_C (b : Fin 16) : (restrict d (VC m d) main_v6 : S1x16.Idx → BitVec 32) (ix2 0 b) = lens (m (lLoc d)) b := by
  have e : (restrict d (VC m d) main_v6 : S1x16.Idx → BitVec 32) = shapeCast S1x16 (m (lLoc d)) shapeCasts_S16_S1x16 := VC_v6 m d
  rw [e]
  pointwise
  rw [lens, ix1_eq]

theorem result_apply (hL : InRange (lens (m (lLoc d)))) (x : S_.Idx) : (result m d x : EReal)
    = ∑ b ∈ range 16, prefixSq (m (yLoc d)) (m (dLoc d)) b (lens (m (lLoc d)) b).toNat * invs (F := Ideal) (recip m d) b := by
  pointwise [result]
  have h1 : ∑ w : Fin 32, ∑ l : Fin 16, (tileSums m d (ix2 w l) : EReal)
      = ∑ b ∈ range 16, (∑ k ∈ range (tailN (lens (m (lLoc d))) b), rowSq (m (yLoc d)) (m (dLoc d)) (1024 + k) b) * invs (F := Ideal) (recip m d) b :=
    tiles_total (m (yLoc d)) (m (dLoc d)) (invs (F := Ideal) (recip m d)) (lens (m (lLoc d)))
  have h2 : ∀ b : Fin 16, ∑ c : Fin 512, (blockSums m d (ix2 b c) : EReal)
      = ∑ t ∈ range 1024, if t < (lens (m (lLoc d)) b).toNat then rowSq (m (yLoc d)) (m (dLoc d)) t b else 0 :=
    acc_row (restrict d (VC m d)) (m (yLoc d)) (m (dLoc d)) (lens (m (lLoc d))) (arg0_C m d) (arg1_C m d) (lengths_C m d) hL
  have h3 : ∀ b : Fin 16, (recip m d (ix1 b) : EReal) = invs (F := Ideal) (recip m d) b := fun b => by
    rw [invs, ix1_eq]
  rw [h1]
  simp only [h2, h3]
  rw [Fin.sum_univ_eq_sum_range (fun b => (∑ t ∈ range 1024, if t < (lens (m (lLoc d)) b).toNat then rowSq (m (yLoc d)) (m (dLoc d)) t b else 0)
    * invs (F := Ideal) (recip m d) b) 16, ← Finset.sum_add_distrib]
  refine Finset.sum_congr rfl fun b hb => ?_
  rw [← EReal.right_distrib_of_nonneg (Finset.sum_nonneg fun _ _ => rowSq_nonneg _ _ _ _)
    (Finset.sum_nonneg fun t _ => by split; exacts [rowSq_nonneg _ _ _ _, le_rfl])]
  congr 1
  exact rows_split _ (hL b (Finset.mem_range.1 hb)).2 fun t => rowSq (m (yLoc d)) (m (dLoc d)) t b

end

end Cert.Tail

namespace Cert.Tail.Reference

open Cert.ReferenceIdeal Cert.ReferenceIdeal.Gen
open Idealize.ShloMosaic
open Finset (range)

/-- What the reference's operations compute of its arguments. -/
def value (Y D : FVec Ideal S2048x16x512 .f32) (Lv : IVec S16 32) : FVec Ideal S_ .f32 :=
  Host.divf (Host.reduceAdd (Host.divf (Host.reduceAdd (mulf (mulf (subf D Y) (subf D Y)) (broadcastInDim S2048x16x512 ![0, 1, 2] bcast_S2048x16x1_S2048x16x512_0_1_2 (broadcastInDim S2048x16x1 ![0, 1] bcast_S2048x16_S2048x16x1_0_1 (uitofp .f32 (cmpi .slt (broadcastInDim S2048x16 ![0, 1] bcast_S2048x1_S2048x16_0_1 (broadcastInDim S2048x1 ![0] bcast_S2048_S2048x1_0 (iotaInDim S2048 32 0))) (broadcastInDim S2048x16 ![0, 1] bcast_S1x16_S2048x16_0_1 (broadcastInDim S1x16 ![1] bcast_S16_S1x16_1 Lv))))))) (constant S_ .f32 0x00000000#32) reducesTo_S2048x16x512_S16_d0_2 h_S_) (mulf (sitofp .f32 Lv) (broadcastInDim S16 ![] bcast_S_S16 (constant S_ .f32 0x44000000#32)))) (constant S_ .f32 0x00000000#32) reducesTo_S16_S_d0 h_S_) (constant S_ .f32 0x41800000#32)

/-- The sum over the first and the last axis of an array of rank three. -/
theorem sum_rows_places (v : S2048x16x512.Idx → EReal) (b : Fin 16) :
    Ideal.hostReduceAdd reducesTo_S2048x16x512_S16_d0_2 v 0 (ix1 b) = ∑ t : Fin 2048, ∑ c : Fin 512, v (ix3 t b c) := by
  rw [← Fintype.sum_prod_type' (f := fun (t : Fin 2048) (c : Fin 512) => v (ix3 t b c))]
  show 0 + _ = _
  rw [zero_add]
  refine Finset.sum_filter_eq_sum_of_fiber _ (fun k : Fin 2048 × Fin 512 => (ix3 k.1 b k.2 : S2048x16x512.Idx)) ?_ ?_ v
  · exact fun p q e => Prod.ext (congrFun e 0) (congrFun e 2)
  · intro i
    constructor
    · intro e
      refine ⟨(i 0, i 2), ?_⟩
      funext a
      fin_cases a
      · rfl
      · exact (congrFun e 0).symm
      · rfl
    · rintro ⟨k, rfl⟩
      funext a
      fin_cases a
      rfl

/-- The reference counts a row if it lies before the sequence's end. -/
theorem row_counts (t : ℕ) (ht : t < 2048) (l : BitVec 32) (hl : l.toNat ≤ 2048) :
    IntOp.cmpi .slt (BitVec.ofNat 32 t) l = BitVec.ofBool (decide (t < l.toNat)) := by
  have e : (BitVec.ofNat 32 t).toNat = t := by rw [BitVec.toNat_ofNat]; omega
  simp only [IntOp.cmpi]
  congr 1
  rw [BitVec.slt_eq_decide, BitVec.toInt_eq_toNat_cond, BitVec.toInt_eq_toNat_cond, e]
  apply decide_eq_decide.2
  split <;> split <;> omega

/-- A counted row's squared differences. -/
theorem counted_row (Y D : S2048x16x512.Idx → EReal) (Lv : S16.Idx → BitVec 32) (hL : InRange (lens Lv)) (t : Fin 2048) (b : Fin 16) :
    ∑ c : Fin 512, (D (ix3 t b c) - Y (ix3 t b c)) * (D (ix3 t b c) - Y (ix3 t b c))
        * (FloatOps.uitofp .f32 (IntOp.cmpi .slt (BitVec.ofNat 32 t.val) (Lv (ix1 b))) : Ideal .f32)
      = if t.val < (lens Lv b).toNat then rowSq Y D t b else 0 := by
  have hc : ∀ c : Fin 512, (ix3 t b c : S2048x16x512.Idx) = cell t b c := by
    intro c
    funext a; apply Fin.ext
    fin_cases a
    · exact (Nat.mod_eq_of_lt t.isLt).symm
    · exact (Nat.mod_eq_of_lt b.isLt).symm
    · exact (Nat.mod_eq_of_lt c.isLt).symm
  rw [ix1_eq, row_counts t.val t.isLt (Lv (ix16 b)) (hL b.val b.isLt).2]
  by_cases h : t.val < (lens Lv b).toNat
  · have e : (FloatOps.uitofp .f32 (BitVec.ofBool (decide (t.val < (Lv (ix16 b)).toNat))) : Ideal .f32) = (1 : EReal) := by
      rw [decide_eq_true (p := t.val < (Lv (ix16 b)).toNat) h]
      show (((BitVec.ofBool true).toNat : ℝ) : EReal) = 1
      simp
    rw [if_pos h, e, rowSq, ← Fin.sum_univ_eq_sum_range (sq Y D t b) 512]
    refine Finset.sum_congr rfl fun c _ => ?_
    rw [mul_one, hc]; rfl
  · have e : (FloatOps.uitofp .f32 (BitVec.ofBool (decide (t.val < (Lv (ix16 b)).toNat))) : Ideal .f32) = (0 : EReal) := by
      rw [decide_eq_false (p := t.val < (Lv (ix16 b)).toNat) h]
      show (((BitVec.ofBool false).toNat : ℝ) : EReal) = 0
      simp
    rw [if_neg h, e]
    simp only [mul_zero, Finset.sum_const_zero]

/-- The reference's result: the mean over the sequences of the mean squared error of each. -/
theorem value_apply (Y D : S2048x16x512.Idx → EReal) (Lv : S16.Idx → BitVec 32) (hL : InRange (lens Lv)) (x : S_.Idx) :
    (value Y D Lv x : EReal) = Ideal.div (∑ b : Fin 16, Ideal.div (prefixSq Y D b (lens Lv b).toNat)
      ((((lens Lv b).toNat : ℝ) : EReal) * ((512 : ℝ) : EReal))) ((16 : ℝ) : EReal) := by
  pointwise [value]
  simp only [sum_rows_places]
  pointwise
  rw [ofBits_512, ofBits_16]
  congr 1
  refine Finset.sum_congr rfl fun b _ => ?_
  have h : ((FloatOps.sitofp .f32 (Lv (ix1 b)) : Ideal .f32) : EReal) = (((lens Lv b).toNat : ℝ) : EReal) := by
    rw [ix1_eq]
    exact sitofp_length _ (hL b.val b.isLt).2
  rw [h]
  congr 1
  rw [Finset.sum_congr rfl fun t _ => counted_row Y D Lv hL t b,
    Fin.sum_univ_eq_sum_range (fun t => if t < (lens Lv b).toNat then rowSq Y D t b else 0) 2048, ← Finset.sum_filter, prefixSq]
  congr 1
  ext t
  have := (hL b.val b.isLt).2
  simp only [Finset.mem_filter, Finset.mem_range]; omega

end Cert.Tail.Reference

namespace Cert.Tail

open Idealize.ShloMosaic
open Cert.KernelIdeal

/-- The kernel's result is the reference's. -/
theorem result_eq (m : (ℓ : Loc nD τ sig) → Buf (Elt Ideal) ℓ) (d : Dev nD) (hL : InRange (lens (m (lLoc d)))) :
    result m d = Reference.value (m (yLoc d)) (m (dLoc d)) (m (lLoc d)) := by
  funext x
  refine (result_apply m d hL x).trans (Eq.trans ?_ (Reference.value_apply _ _ _ hL x).symm)
  rw [scaled_eq (fun b => prefixSq (m (yLoc d)) (m (dLoc d)) b (lens (m (lLoc d)) b).toNat) (fun b => prefixSq_nonneg _ _ _ _)
    (fun b => (lens (m (lLoc d)) b).toNat) fun b hb => (hL b hb).1]
  exact Finset.sum_congr rfl fun b hb => by rw [recip_apply m d hL b (Finset.mem_range.1 hb)]

end Cert.Tail

end
-- ==== Proof.Agree.lean ====
/- The two programs, run from equal arguments, end with equal results. -/
module

public import proofs.«01_k».proof.Proof.Frames
public import proofs.«01_k».proof.Proof.Equation

@[expose] public section

set_option maxRecDepth 20000

noncomputable section

namespace Cert.Tail

open Cert.KernelIdeal Cert.KernelIdeal.Gen
open Idealize.ShloMosaic Idealize.SL.Sem

/-- Over the extended reals the kernel's result and the reference's are the same. -/
theorem algebraic : Cert.algebraic_KernelIdeal_ReferenceIdeal := by
  intro m g m' g' hpre hargs
  have hL : ∀ d, InRange (lens (m (lLoc d))) := fun d => inRange_of_fn _ _ _ (hpre d)
  refine ⟨fun c => result m c, (θ_run Cert.KernelIdeal.defs _ _).mono (fun _ h c => h.1 c) (run_main m g hL),
    (θ_run Cert.ReferenceIdeal.defs _ _).mono (fun _ h c => ⟨(h c).1.trans ?_, (h c).2⟩)
      (Cert.ReferenceIdeal.Value.run (F := Ideal) m' g')⟩
  obtain ⟨h0, h1, h2⟩ := hargs c
  rw [h0, h1, h2]
  exact (result_eq m c (hL c)).symm

end Cert.Tail

end
-- ==== Proof.lean ====
/- The certificate's claims, each by the theorem that proves it. -/
module

public import proofs.«01_k».proof.Defs
public import proofs.«01_k».proof.Proof.Gen.KernelIdeal
public import proofs.«01_k».proof.Proof.Gen.KernelIdeal.Points
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_lengths_in_range
public import proofs.«01_k».proof.Proof.Agree

@[expose] public section

noncomputable section

namespace Cert.Proof

theorem claim : Cert.Claim :=
  ⟨Cert.KernelIdeal.Gen.facts, Cert.ReferenceIdeal.Gen.facts, Cert.Pre_lengths_in_range.Gen.facts,
    Cert.Tail.frame_kernelIdeal, Cert.Tail.frame_reference,
    Cert.Tail.frame_reference_pre, Cert.Tail.algebraic⟩

end Cert.Proof

end
